-- ==== Defs.lean ====
def Pre_AttnBwd (m : (ℓ : Loc Cert.AttnBwd.nD Cert.AttnBwd.τ Cert.AttnBwd.sig) → Buf (Elt Bits) ℓ) : Prop :=
  True

def Pre_AttnBwdIdeal (m : (ℓ : Loc Cert.AttnBwdIdeal.nD Cert.AttnBwdIdeal.τ Cert.AttnBwdIdeal.sig) → Buf (Elt Ideal) ℓ) : Prop :=
  True

def Pre_AttnBwdIdeal_attn_finite [hPre_attn_finite : Cert.Pre_attn_finite.Facts] (m : (ℓ : Loc Cert.AttnBwdIdeal.nD Cert.AttnBwdIdeal.τ Cert.AttnBwdIdeal.sig) → Buf (Elt Ideal) ℓ) : Prop :=
  ∀ c : Dev Cert.AttnBwdIdeal.nD,
    (Cert.Pre_attn_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2))).1 = (fun _ => 1#1)
    ∧ (Cert.Pre_attn_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2))).2 = (fun _ => 1#1)

def Pre_AttnBwdRefIdeal (m : (ℓ : Loc Cert.AttnBwdRefIdeal.nD Cert.AttnBwdRefIdeal.τ Cert.AttnBwdRefIdeal.sig) → Buf (Elt Ideal) ℓ) : Prop :=
  True

def Pre_AttnBwdRefIdeal_attn_finite [hPre_attn_finite : Cert.Pre_attn_finite.Facts] (m : (ℓ : Loc Cert.AttnBwdRefIdeal.nD Cert.AttnBwdRefIdeal.τ Cert.AttnBwdRefIdeal.sig) → Buf (Elt Ideal) ℓ) : Prop :=
  ∀ c : Dev Cert.AttnBwdRefIdeal.nD,
    (Cert.Pre_attn_finite.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2))).1 = (fun _ => 1#1)
    ∧ (Cert.Pre_attn_finite.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2))).2 = (fun _ => 1#1)

def Pre_BiasGrad (m : (ℓ : Loc Cert.BiasGrad.nD Cert.BiasGrad.τ Cert.BiasGrad.sig) → Buf (Elt Bits) ℓ) : Prop :=
  True

def Pre_BiasGradIdeal (m : (ℓ : Loc Cert.BiasGradIdeal.nD Cert.BiasGradIdeal.τ Cert.BiasGradIdeal.sig) → Buf (Elt Ideal) ℓ) : Prop :=
  True

def Pre_BiasGradRefIdeal (m : (ℓ : Loc Cert.BiasGradRefIdeal.nD Cert.BiasGradRefIdeal.τ Cert.BiasGradRefIdeal.sig) → Buf (Elt Ideal) ℓ) : Prop :=
  True

def Pre_GatedOutBwd (m : (ℓ : Loc Cert.GatedOutBwd.nD Cert.GatedOutBwd.τ Cert.GatedOutBwd.sig) → Buf (Elt Bits) ℓ) : Prop :=
  True

def Pre_GatedOutBwdIdeal (m : (ℓ : Loc Cert.GatedOutBwdIdeal.nD Cert.GatedOutBwdIdeal.τ Cert.GatedOutBwdIdeal.sig) → Buf (Elt Ideal) ℓ) : Prop :=
  True

def Pre_GatedOutBwdRefIdeal (m : (ℓ : Loc Cert.GatedOutBwdRefIdeal.nD Cert.GatedOutBwdRefIdeal.τ Cert.GatedOutBwdRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def Pre_OdInBwd (m : (ℓ : Loc Cert.OdInBwd.nD Cert.OdInBwd.τ Cert.OdInBwd.sig) → Buf (Elt Bits) ℓ) : Prop :=
  True

def Pre_OdInBwdIdeal (m : (ℓ : Loc Cert.OdInBwdIdeal.nD Cert.OdInBwdIdeal.τ Cert.OdInBwdIdeal.sig) → Buf (Elt Ideal) ℓ) : Prop :=
  True

def Pre_OdInBwdRefIdeal (m : (ℓ : Loc Cert.OdInBwdRefIdeal.nD Cert.OdInBwdRefIdeal.τ Cert.OdInBwdRefIdeal.sig) → Buf (Elt Ideal) ℓ) : Prop :=
  True

def Pre_EvInBwd (m : (ℓ : Loc Cert.EvInBwd.nD Cert.EvInBwd.τ Cert.EvInBwd.sig) → Buf (Elt Bits) ℓ) : Prop :=
  True

def Pre_EvInBwdIdeal (m : (ℓ : Loc Cert.EvInBwdIdeal.nD Cert.EvInBwdIdeal.τ Cert.EvInBwdIdeal.sig) → Buf (Elt Ideal) ℓ) : Prop :=
  True

def Pre_EvInBwdRefIdeal (m : (ℓ : Loc Cert.EvInBwdRefIdeal.nD Cert.EvInBwdRefIdeal.τ Cert.EvInBwdRefIdeal.sig) → Buf (Elt Ideal) ℓ) : Prop :=
  True

def Pre_KvBwd (m : (ℓ : Loc Cert.KvBwd.nD Cert.KvBwd.τ Cert.KvBwd.sig) → Buf (Elt Bits) ℓ) : Prop :=
  True

def Pre_KvBwdIdeal (m : (ℓ : Loc Cert.KvBwdIdeal.nD Cert.KvBwdIdeal.τ Cert.KvBwdIdeal.sig) → Buf (Elt Ideal) ℓ) : Prop :=
  True

def Pre_KvBwdRefIdeal (m : (ℓ : Loc Cert.KvBwdRefIdeal.nD Cert.KvBwdRefIdeal.τ Cert.KvBwdRefIdeal.sig) → Buf (Elt Ideal) ℓ) : Prop :=
  True

def Pre_ConvBwd (m : (ℓ : Loc Cert.ConvBwd.nD Cert.ConvBwd.τ Cert.ConvBwd.sig) → Buf (Elt Bits) ℓ) : Prop :=
  True

def Pre_ConvBwdIdeal (m : (ℓ : Loc Cert.ConvBwdIdeal.nD Cert.ConvBwdIdeal.τ Cert.ConvBwdIdeal.sig) → Buf (Elt Ideal) ℓ) : Prop :=
  True

def Pre_ConvBwdRefIdeal (m : (ℓ : Loc Cert.ConvBwdRefIdeal.nD Cert.ConvBwdRefIdeal.τ Cert.ConvBwdRefIdeal.sig) → Buf (Elt Ideal) ℓ) : Prop :=
  True

def Pre_S5DiscBwd (m : (ℓ : Loc Cert.S5DiscBwd.nD Cert.S5DiscBwd.τ Cert.S5DiscBwd.sig) → Buf (Elt Bits) ℓ) : Prop :=
  True

def Pre_S5DiscBwdIdeal (m : (ℓ : Loc Cert.S5DiscBwdIdeal.nD Cert.S5DiscBwdIdeal.τ Cert.S5DiscBwdIdeal.sig) → Buf (Elt Ideal) ℓ) : Prop :=
  True

def Pre_S5DiscBwdRefIdeal (m : (ℓ : Loc Cert.S5DiscBwdRefIdeal.nD Cert.S5DiscBwdRefIdeal.τ Cert.S5DiscBwdRefIdeal.sig) → Buf (Elt Ideal) ℓ) : Prop :=
  True

def Pre_EvOutBwd (m : (ℓ : Loc Cert.EvOutBwd.nD Cert.EvOutBwd.τ Cert.EvOutBwd.sig) → Buf (Elt Bits) ℓ) : Prop :=
  True

def Pre_EvOutBwdIdeal (m : (ℓ : Loc Cert.EvOutBwdIdeal.nD Cert.EvOutBwdIdeal.τ Cert.EvOutBwdIdeal.sig) → Buf (Elt Ideal) ℓ) : Prop :=
  True

def Pre_EvOutBwdRefIdeal (m : (ℓ : Loc Cert.EvOutBwdRefIdeal.nD Cert.EvOutBwdRefIdeal.τ Cert.EvOutBwdRefIdeal.sig) → Buf (Elt Ideal) ℓ) : Prop :=
  True

def Pre_XaBwd (m : (ℓ : Loc Cert.XaBwd.nD Cert.XaBwd.τ Cert.XaBwd.sig) → Buf (Elt Bits) ℓ) : Prop :=
  True

def Pre_XaBwdIdeal (m : (ℓ : Loc Cert.XaBwdIdeal.nD Cert.XaBwdIdeal.τ Cert.XaBwdIdeal.sig) → Buf (Elt Ideal) ℓ) : Prop :=
  True

def Pre_XaBwdRefIdeal (m : (ℓ : Loc Cert.XaBwdRefIdeal.nD Cert.XaBwdRefIdeal.τ Cert.XaBwdRefIdeal.sig) → Buf (Elt Ideal) ℓ) : Prop :=
  True

def Pre_GatedOutFwd (m : (ℓ : Loc Cert.GatedOutFwd.nD Cert.GatedOutFwd.τ Cert.GatedOutFwd.sig) → Buf (Elt Bits) ℓ) : Prop :=
  True

def Pre_GatedOutFwdIdeal (m : (ℓ : Loc Cert.GatedOutFwdIdeal.nD Cert.GatedOutFwdIdeal.τ Cert.GatedOutFwdIdeal.sig) → Buf (Elt Ideal) ℓ) : Prop :=
  True

def Pre_GatedOutFwdRefIdeal (m : (ℓ : Loc Cert.GatedOutFwdRefIdeal.nD Cert.GatedOutFwdRefIdeal.τ Cert.GatedOutFwdRefIdeal.sig) → Buf (Elt Ideal) ℓ) : Prop :=
  True

def Pre_OdInFwd (m : (ℓ : Loc Cert.OdInFwd.nD Cert.OdInFwd.τ Cert.OdInFwd.sig) → Buf (Elt Bits) ℓ) : Prop :=
  True

def Pre_OdInFwdIdeal (m : (ℓ : Loc Cert.OdInFwdIdeal.nD Cert.OdInFwdIdeal.τ Cert.OdInFwdIdeal.sig) → Buf (Elt Ideal) ℓ) : Prop :=
  True

def Pre_OdInFwdRefIdeal (m : (ℓ : Loc Cert.OdInFwdRefIdeal.nD Cert.OdInFwdRefIdeal.τ Cert.OdInFwdRefIdeal.sig) → Buf (Elt Ideal) ℓ) : Prop :=
  True

def Pre_EvInFwd (m : (ℓ : Loc Cert.EvInFwd.nD Cert.EvInFwd.τ Cert.EvInFwd.sig) → Buf (Elt Bits) ℓ) : Prop :=
  True

def Pre_EvInFwdIdeal (m : (ℓ : Loc Cert.EvInFwdIdeal.nD Cert.EvInFwdIdeal.τ Cert.EvInFwdIdeal.sig) → Buf (Elt Ideal) ℓ) : Prop :=
  True

def Pre_EvInFwdRefIdeal (m : (ℓ : Loc Cert.EvInFwdRefIdeal.nD Cert.EvInFwdRefIdeal.τ Cert.EvInFwdRefIdeal.sig) → Buf (Elt Ideal) ℓ) : Prop :=
  True

def Pre_XaFwd (m : (ℓ : Loc Cert.XaFwd.nD Cert.XaFwd.τ Cert.XaFwd.sig) → Buf (Elt Bits) ℓ) : Prop :=
  True

def Pre_XaFwdIdeal (m : (ℓ : Loc Cert.XaFwdIdeal.nD Cert.XaFwdIdeal.τ Cert.XaFwdIdeal.sig) → Buf (Elt Ideal) ℓ) : Prop :=
  True

def Pre_XaFwdRefIdeal (m : (ℓ : Loc Cert.XaFwdRefIdeal.nD Cert.XaFwdRefIdeal.τ Cert.XaFwdRefIdeal.sig) → Buf (Elt Ideal) ℓ) : Prop :=
  True

def Pre_EvOutFwd (m : (ℓ : Loc Cert.EvOutFwd.nD Cert.EvOutFwd.τ Cert.EvOutFwd.sig) → Buf (Elt Bits) ℓ) : Prop :=
  True

def Pre_EvOutFwdIdeal (m : (ℓ : Loc Cert.EvOutFwdIdeal.nD Cert.EvOutFwdIdeal.τ Cert.EvOutFwdIdeal.sig) → Buf (Elt Ideal) ℓ) : Prop :=
  True

def Pre_EvOutFwdRefIdeal (m : (ℓ : Loc Cert.EvOutFwdRefIdeal.nD Cert.EvOutFwdRefIdeal.τ Cert.EvOutFwdRefIdeal.sig) → Buf (Elt Ideal) ℓ) : Prop :=
  True

def Pre_S5DiscFwd (m : (ℓ : Loc Cert.S5DiscFwd.nD Cert.S5DiscFwd.τ Cert.S5DiscFwd.sig) → Buf (Elt Bits) ℓ) : Prop :=
  True

def Pre_S5DiscFwdIdeal (m : (ℓ : Loc Cert.S5DiscFwdIdeal.nD Cert.S5DiscFwdIdeal.τ Cert.S5DiscFwdIdeal.sig) → Buf (Elt Ideal) ℓ) : Prop :=
  True

def Pre_S5DiscFwdRefIdeal (m : (ℓ : Loc Cert.S5DiscFwdRefIdeal.nD Cert.S5DiscFwdRefIdeal.τ Cert.S5DiscFwdRefIdeal.sig) → Buf (Elt Ideal) ℓ) : Prop :=
  True

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_attn_fwd_finite [hPre_attn_fwd_finite : Cert.Pre_attn_fwd_finite.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_attn_fwd_finite.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1))).1 = (fun _ => 1#1)
    ∧ (Cert.Pre_attn_fwd_finite.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1))).2 = (fun _ => 1#1)

def Pre_AttnFwdRefIdeal (m : (ℓ : Loc Cert.AttnFwdRefIdeal.nD Cert.AttnFwdRefIdeal.τ Cert.AttnFwdRefIdeal.sig) → Buf (Elt Ideal) ℓ) : Prop :=
  True

def Pre_AttnFwdRefIdeal_attn_fwd_finite [hPre_attn_fwd_finite : Cert.Pre_attn_fwd_finite.Facts] (m : (ℓ : Loc Cert.AttnFwdRefIdeal.nD Cert.AttnFwdRefIdeal.τ Cert.AttnFwdRefIdeal.sig) → Buf (Elt Ideal) ℓ) : Prop :=
  ∀ c : Dev Cert.AttnFwdRefIdeal.nD,
    (Cert.Pre_attn_fwd_finite.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1))).1 = (fun _ => 1#1)
    ∧ (Cert.Pre_attn_fwd_finite.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1))).2 = (fun _ => 1#1)

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdRefIdeal (m : (ℓ : Loc Cert.ConvFwdRefIdeal.nD Cert.ConvFwdRefIdeal.τ Cert.ConvFwdRefIdeal.sig) → Buf (Elt Ideal) ℓ) : Prop :=
  True

def quiescent_AttnBwd [hAttnBwd : Cert.AttnBwd.Facts] : Prop :=
  ∀ (m : (ℓ : Loc Cert.AttnBwd.nD Cert.AttnBwd.τ Cert.AttnBwd.sig) → Buf (Elt Bits) ℓ) (g : Dev Cert.AttnBwd.nD → PrngReg), Pre_AttnBwd m →
    θ_run (Cert.AttnBwd.defs (F := Bits)) (onTc (τ := Cert.AttnBwd.τ) (Cert.AttnBwd.main (F := Bits))) ⟨m, fun _ => 0, g⟩ (fun r => (∀ c : Dev Cert.AttnBwd.nD,
      r.2.mem ((c.tc : Thread Cert.AttnBwd.nD Cert.AttnBwd.τ).loc Cert.AttnBwd.main_arg0) = m ((c.tc : Thread Cert.AttnBwd.nD Cert.AttnBwd.τ).loc Cert.AttnBwd.main_arg0)
      ∧ r.2.mem ((c.tc : Thread Cert.AttnBwd.nD Cert.AttnBwd.τ).loc Cert.AttnBwd.main_arg1) = m ((c.tc : Thread Cert.AttnBwd.nD Cert.AttnBwd.τ).loc Cert.AttnBwd.main_arg1)
      ∧ r.2.mem ((c.tc : Thread Cert.AttnBwd.nD Cert.AttnBwd.τ).loc Cert.AttnBwd.main_arg2) = m ((c.tc : Thread Cert.AttnBwd.nD Cert.AttnBwd.τ).loc Cert.AttnBwd.main_arg2))
      ∧ r.2.sem = fun _ => 0)

def quiescent_AttnBwdIdeal [hAttnBwdIdeal : Cert.AttnBwdIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2))
      ∧ r.2.sem = fun _ => 0)

def quiescent_AttnBwdIdeal_pre_attn_finite [hAttnBwdIdeal : Cert.AttnBwdIdeal.Facts] [hPre_attn_finite : Cert.Pre_attn_finite.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal_attn_finite m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2))
      ∧ r.2.sem = fun _ => 0)

def quiescent_AttnBwdRefIdeal [hAttnBwdRefIdeal : Cert.AttnBwdRefIdeal.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2))
      ∧ r.2.sem = fun _ => 0)

def quiescent_AttnBwdRefIdeal_pre_attn_finite [hAttnBwdRefIdeal : Cert.AttnBwdRefIdeal.Facts] [hPre_attn_finite : Cert.Pre_attn_finite.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal_attn_finite m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2))
      ∧ r.2.sem = fun _ => 0)

def quiescent_BiasGrad [hBiasGrad : Cert.BiasGrad.Facts] : Prop :=
  ∀ (m : (ℓ : Loc Cert.BiasGrad.nD Cert.BiasGrad.τ Cert.BiasGrad.sig) → Buf (Elt Bits) ℓ) (g : Dev Cert.BiasGrad.nD → PrngReg), Pre_BiasGrad m →
    θ_run (Cert.BiasGrad.defs (F := Bits)) (onTc (τ := Cert.BiasGrad.τ) (Cert.BiasGrad.main (F := Bits))) ⟨m, fun _ => 0, g⟩ (fun r => (∀ c : Dev Cert.BiasGrad.nD,
      r.2.mem ((c.tc : Thread Cert.BiasGrad.nD Cert.BiasGrad.τ).loc Cert.BiasGrad.main_arg0) = m ((c.tc : Thread Cert.BiasGrad.nD Cert.BiasGrad.τ).loc Cert.BiasGrad.main_arg0))
      ∧ r.2.sem = fun _ => 0)

def quiescent_BiasGradIdeal [hBiasGradIdeal : Cert.BiasGradIdeal.Facts] : Prop :=
  ∀ (m : (ℓ : Loc Cert.BiasGradIdeal.nD Cert.BiasGradIdeal.τ Cert.BiasGradIdeal.sig) → Buf (Elt Ideal) ℓ) (g : Dev Cert.BiasGradIdeal.nD → PrngReg), Pre_BiasGradIdeal m →
    θ_run (Cert.BiasGradIdeal.defs (F := Ideal)) (onTc (τ := Cert.BiasGradIdeal.τ) (Cert.BiasGradIdeal.main (F := Ideal))) ⟨m, fun _ => 0, g⟩ (fun r => (∀ c : Dev Cert.BiasGradIdeal.nD,
      r.2.mem ((c.tc : Thread Cert.BiasGradIdeal.nD Cert.BiasGradIdeal.τ).loc Cert.BiasGradIdeal.main_arg0) = m ((c.tc : Thread Cert.BiasGradIdeal.nD Cert.BiasGradIdeal.τ).loc Cert.BiasGradIdeal.main_arg0))
      ∧ r.2.sem = fun _ => 0)

def quiescent_BiasGradRefIdeal [hBiasGradRefIdeal : Cert.BiasGradRefIdeal.Facts] : Prop :=
  ∀ (m : (ℓ : Loc Cert.BiasGradRefIdeal.nD Cert.BiasGradRefIdeal.τ Cert.BiasGradRefIdeal.sig) → Buf (Elt Ideal) ℓ) (g : Dev Cert.BiasGradRefIdeal.nD → PrngReg), Pre_BiasGradRefIdeal m →
    θ_run (Cert.BiasGradRefIdeal.defs (F := Ideal)) (onTc (τ := Cert.BiasGradRefIdeal.τ) (Cert.BiasGradRefIdeal.main (F := Ideal))) ⟨m, fun _ => 0, g⟩ (fun r => (∀ c : Dev Cert.BiasGradRefIdeal.nD,
      r.2.mem ((c.tc : Thread Cert.BiasGradRefIdeal.nD Cert.BiasGradRefIdeal.τ).loc Cert.BiasGradRefIdeal.main_arg0) = m ((c.tc : Thread Cert.BiasGradRefIdeal.nD Cert.BiasGradRefIdeal.τ).loc Cert.BiasGradRefIdeal.main_arg0))
      ∧ r.2.sem = fun _ => 0)

def quiescent_GatedOutBwd [hGatedOutBwd : Cert.GatedOutBwd.Facts] : Prop :=
  ∀ (m : (ℓ : Loc Cert.GatedOutBwd.nD Cert.GatedOutBwd.τ Cert.GatedOutBwd.sig) → Buf (Elt Bits) ℓ) (g : Dev Cert.GatedOutBwd.nD → PrngReg), Pre_GatedOutBwd m →
    θ_run (Cert.GatedOutBwd.defs (F := Bits)) (onTc (τ := Cert.GatedOutBwd.τ) (Cert.GatedOutBwd.main (F := Bits))) ⟨m, fun _ => 0, g⟩ (fun r => (∀ c : Dev Cert.GatedOutBwd.nD,
      r.2.mem ((c.tc : Thread Cert.GatedOutBwd.nD Cert.GatedOutBwd.τ).loc Cert.GatedOutBwd.main_arg0) = m ((c.tc : Thread Cert.GatedOutBwd.nD Cert.GatedOutBwd.τ).loc Cert.GatedOutBwd.main_arg0)
      ∧ r.2.mem ((c.tc : Thread Cert.GatedOutBwd.nD Cert.GatedOutBwd.τ).loc Cert.GatedOutBwd.main_arg1) = m ((c.tc : Thread Cert.GatedOutBwd.nD Cert.GatedOutBwd.τ).loc Cert.GatedOutBwd.main_arg1)
      ∧ r.2.mem ((c.tc : Thread Cert.GatedOutBwd.nD Cert.GatedOutBwd.τ).loc Cert.GatedOutBwd.main_arg2) = m ((c.tc : Thread Cert.GatedOutBwd.nD Cert.GatedOutBwd.τ).loc Cert.GatedOutBwd.main_arg2)
      ∧ r.2.mem ((c.tc : Thread Cert.GatedOutBwd.nD Cert.GatedOutBwd.τ).loc Cert.GatedOutBwd.main_arg3) = m ((c.tc : Thread Cert.GatedOutBwd.nD Cert.GatedOutBwd.τ).loc Cert.GatedOutBwd.main_arg3))
      ∧ r.2.sem = fun _ => 0)

def quiescent_GatedOutBwdIdeal [hGatedOutBwdIdeal : Cert.GatedOutBwdIdeal.Facts] : Prop :=
  ∀ (m : (ℓ : Loc Cert.GatedOutBwdIdeal.nD Cert.GatedOutBwdIdeal.τ Cert.GatedOutBwdIdeal.sig) → Buf (Elt Ideal) ℓ) (g : Dev Cert.GatedOutBwdIdeal.nD → PrngReg), Pre_GatedOutBwdIdeal m →
    θ_run (Cert.GatedOutBwdIdeal.defs (F := Ideal)) (onTc (τ := Cert.GatedOutBwdIdeal.τ) (Cert.GatedOutBwdIdeal.main (F := Ideal))) ⟨m, fun _ => 0, g⟩ (fun r => (∀ c : Dev Cert.GatedOutBwdIdeal.nD,
      r.2.mem ((c.tc : Thread Cert.GatedOutBwdIdeal.nD Cert.GatedOutBwdIdeal.τ).loc Cert.GatedOutBwdIdeal.main_arg0) = m ((c.tc : Thread Cert.GatedOutBwdIdeal.nD Cert.GatedOutBwdIdeal.τ).loc Cert.GatedOutBwdIdeal.main_arg0)
      ∧ r.2.mem ((c.tc : Thread Cert.GatedOutBwdIdeal.nD Cert.GatedOutBwdIdeal.τ).loc Cert.GatedOutBwdIdeal.main_arg1) = m ((c.tc : Thread Cert.GatedOutBwdIdeal.nD Cert.GatedOutBwdIdeal.τ).loc Cert.GatedOutBwdIdeal.main_arg1)
      ∧ r.2.mem ((c.tc : Thread Cert.GatedOutBwdIdeal.nD Cert.GatedOutBwdIdeal.τ).loc Cert.GatedOutBwdIdeal.main_arg2) = m ((c.tc : Thread Cert.GatedOutBwdIdeal.nD Cert.GatedOutBwdIdeal.τ).loc Cert.GatedOutBwdIdeal.main_arg2)
      ∧ r.2.mem ((c.tc : Thread Cert.GatedOutBwdIdeal.nD Cert.GatedOutBwdIdeal.τ).loc Cert.GatedOutBwdIdeal.main_arg3) = m ((c.tc : Thread Cert.GatedOutBwdIdeal.nD Cert.GatedOutBwdIdeal.τ).loc Cert.GatedOutBwdIdeal.main_arg3))
      ∧ r.2.sem = fun _ => 0)

def quiescent_GatedOutBwdRefIdeal [hGatedOutBwdRefIdeal : Cert.GatedOutBwdRefIdeal.Facts] : Prop :=
  ∀ (m : (ℓ : Loc Cert.GatedOutBwdRefIdeal.nD Cert.GatedOutBwdRefIdeal.τ Cert.GatedOutBwdRefIdeal.sig) → Buf (Elt Ideal) ℓ) (g : Dev Cert.GatedOutBwdRefIdeal.nD → PrngReg), Pre_GatedOutBwdRefIdeal m →
    θ_run (Cert.GatedOutBwdRefIdeal.defs (F := Ideal)) (onTc (τ := Cert.GatedOutBwdRefIdeal.τ) (Cert.GatedOutBwdRefIdeal.main (F := Ideal))) ⟨m, fun _ => 0, g⟩ (fun r => (∀ c : Dev Cert.GatedOutBwdRefIdeal.nD,
      r.2.mem ((c.tc : Thread Cert.GatedOutBwdRefIdeal.nD Cert.GatedOutBwdRefIdeal.τ).loc Cert.GatedOutBwdRefIdeal.main_arg0) = m ((c.tc : Thread Cert.GatedOutBwdRefIdeal.nD Cert.GatedOutBwdRefIdeal.τ).loc Cert.GatedOutBwdRefIdeal.main_arg0)
      ∧ r.2.mem ((c.tc : Thread Cert.GatedOutBwdRefIdeal.nD Cert.GatedOutBwdRefIdeal.τ).loc Cert.GatedOutBwdRefIdeal.main_arg1) = m ((c.tc : Thread Cert.GatedOutBwdRefIdeal.nD Cert.GatedOutBwdRefIdeal.τ).loc Cert.GatedOutBwdRefIdeal.main_arg1)
      ∧ r.2.mem ((c.tc : Thread Cert.GatedOutBwdRefIdeal.nD Cert.GatedOutBwdRefIdeal.τ).loc Cert.GatedOutBwdRefIdeal.main_arg2) = m ((c.tc : Thread Cert.GatedOutBwdRefIdeal.nD Cert.GatedOutBwdRefIdeal.τ).loc Cert.GatedOutBwdRefIdeal.main_arg2)
      ∧ r.2.mem ((c.tc : Thread Cert.GatedOutBwdRefIdeal.nD Cert.GatedOutBwdRefIdeal.τ).loc Cert.GatedOutBwdRefIdeal.main_arg3) = m ((c.tc : Thread Cert.GatedOutBwdRefIdeal.nD Cert.GatedOutBwdRefIdeal.τ).loc Cert.GatedOutBwdRefIdeal.main_arg3))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def quiescent_OdInBwd [hOdInBwd : Cert.OdInBwd.Facts] : Prop :=
  ∀ (m : (ℓ : Loc Cert.OdInBwd.nD Cert.OdInBwd.τ Cert.OdInBwd.sig) → Buf (Elt Bits) ℓ) (g : Dev Cert.OdInBwd.nD → PrngReg), Pre_OdInBwd m →
    θ_run (Cert.OdInBwd.defs (F := Bits)) (onTc (τ := Cert.OdInBwd.τ) (Cert.OdInBwd.main (F := Bits))) ⟨m, fun _ => 0, g⟩ (fun r => (∀ c : Dev Cert.OdInBwd.nD,
      r.2.mem ((c.tc : Thread Cert.OdInBwd.nD Cert.OdInBwd.τ).loc Cert.OdInBwd.main_arg0) = m ((c.tc : Thread Cert.OdInBwd.nD Cert.OdInBwd.τ).loc Cert.OdInBwd.main_arg0)
      ∧ r.2.mem ((c.tc : Thread Cert.OdInBwd.nD Cert.OdInBwd.τ).loc Cert.OdInBwd.main_arg1) = m ((c.tc : Thread Cert.OdInBwd.nD Cert.OdInBwd.τ).loc Cert.OdInBwd.main_arg1)
      ∧ r.2.mem ((c.tc : Thread Cert.OdInBwd.nD Cert.OdInBwd.τ).loc Cert.OdInBwd.main_arg2) = m ((c.tc : Thread Cert.OdInBwd.nD Cert.OdInBwd.τ).loc Cert.OdInBwd.main_arg2)
      ∧ r.2.mem ((c.tc : Thread Cert.OdInBwd.nD Cert.OdInBwd.τ).loc Cert.OdInBwd.main_arg3) = m ((c.tc : Thread Cert.OdInBwd.nD Cert.OdInBwd.τ).loc Cert.OdInBwd.main_arg3)
      ∧ r.2.mem ((c.tc : Thread Cert.OdInBwd.nD Cert.OdInBwd.τ).loc Cert.OdInBwd.main_arg4) = m ((c.tc : Thread Cert.OdInBwd.nD Cert.OdInBwd.τ).loc Cert.OdInBwd.main_arg4)
      ∧ r.2.mem ((c.tc : Thread Cert.OdInBwd.nD Cert.OdInBwd.τ).loc Cert.OdInBwd.main_arg5) = m ((c.tc : Thread Cert.OdInBwd.nD Cert.OdInBwd.τ).loc Cert.OdInBwd.main_arg5)
      ∧ r.2.mem ((c.tc : Thread Cert.OdInBwd.nD Cert.OdInBwd.τ).loc Cert.OdInBwd.main_arg6) = m ((c.tc : Thread Cert.OdInBwd.nD Cert.OdInBwd.τ).loc Cert.OdInBwd.main_arg6)
      ∧ r.2.mem ((c.tc : Thread Cert.OdInBwd.nD Cert.OdInBwd.τ).loc Cert.OdInBwd.main_arg7) = m ((c.tc : Thread Cert.OdInBwd.nD Cert.OdInBwd.τ).loc Cert.OdInBwd.main_arg7))
      ∧ r.2.sem = fun _ => 0)

def quiescent_OdInBwdIdeal [hOdInBwdIdeal : Cert.OdInBwdIdeal.Facts] : Prop :=
  ∀ (m : (ℓ : Loc Cert.OdInBwdIdeal.nD Cert.OdInBwdIdeal.τ Cert.OdInBwdIdeal.sig) → Buf (Elt Ideal) ℓ) (g : Dev Cert.OdInBwdIdeal.nD → PrngReg), Pre_OdInBwdIdeal m →
    θ_run (Cert.OdInBwdIdeal.defs (F := Ideal)) (onTc (τ := Cert.OdInBwdIdeal.τ) (Cert.OdInBwdIdeal.main (F := Ideal))) ⟨m, fun _ => 0, g⟩ (fun r => (∀ c : Dev Cert.OdInBwdIdeal.nD,
      r.2.mem ((c.tc : Thread Cert.OdInBwdIdeal.nD Cert.OdInBwdIdeal.τ).loc Cert.OdInBwdIdeal.main_arg0) = m ((c.tc : Thread Cert.OdInBwdIdeal.nD Cert.OdInBwdIdeal.τ).loc Cert.OdInBwdIdeal.main_arg0)
      ∧ r.2.mem ((c.tc : Thread Cert.OdInBwdIdeal.nD Cert.OdInBwdIdeal.τ).loc Cert.OdInBwdIdeal.main_arg1) = m ((c.tc : Thread Cert.OdInBwdIdeal.nD Cert.OdInBwdIdeal.τ).loc Cert.OdInBwdIdeal.main_arg1)
      ∧ r.2.mem ((c.tc : Thread Cert.OdInBwdIdeal.nD Cert.OdInBwdIdeal.τ).loc Cert.OdInBwdIdeal.main_arg2) = m ((c.tc : Thread Cert.OdInBwdIdeal.nD Cert.OdInBwdIdeal.τ).loc Cert.OdInBwdIdeal.main_arg2)
      ∧ r.2.mem ((c.tc : Thread Cert.OdInBwdIdeal.nD Cert.OdInBwdIdeal.τ).loc Cert.OdInBwdIdeal.main_arg3) = m ((c.tc : Thread Cert.OdInBwdIdeal.nD Cert.OdInBwdIdeal.τ).loc Cert.OdInBwdIdeal.main_arg3)
      ∧ r.2.mem ((c.tc : Thread Cert.OdInBwdIdeal.nD Cert.OdInBwdIdeal.τ).loc Cert.OdInBwdIdeal.main_arg4) = m ((c.tc : Thread Cert.OdInBwdIdeal.nD Cert.OdInBwdIdeal.τ).loc Cert.OdInBwdIdeal.main_arg4)
      ∧ r.2.mem ((c.tc : Thread Cert.OdInBwdIdeal.nD Cert.OdInBwdIdeal.τ).loc Cert.OdInBwdIdeal.main_arg5) = m ((c.tc : Thread Cert.OdInBwdIdeal.nD Cert.OdInBwdIdeal.τ).loc Cert.OdInBwdIdeal.main_arg5)
      ∧ r.2.mem ((c.tc : Thread Cert.OdInBwdIdeal.nD Cert.OdInBwdIdeal.τ).loc Cert.OdInBwdIdeal.main_arg6) = m ((c.tc : Thread Cert.OdInBwdIdeal.nD Cert.OdInBwdIdeal.τ).loc Cert.OdInBwdIdeal.main_arg6)
      ∧ r.2.mem ((c.tc : Thread Cert.OdInBwdIdeal.nD Cert.OdInBwdIdeal.τ).loc Cert.OdInBwdIdeal.main_arg7) = m ((c.tc : Thread Cert.OdInBwdIdeal.nD Cert.OdInBwdIdeal.τ).loc Cert.OdInBwdIdeal.main_arg7))
      ∧ r.2.sem = fun _ => 0)

def quiescent_OdInBwdRefIdeal [hOdInBwdRefIdeal : Cert.OdInBwdRefIdeal.Facts] : Prop :=
  ∀ (m : (ℓ : Loc Cert.OdInBwdRefIdeal.nD Cert.OdInBwdRefIdeal.τ Cert.OdInBwdRefIdeal.sig) → Buf (Elt Ideal) ℓ) (g : Dev Cert.OdInBwdRefIdeal.nD → PrngReg), Pre_OdInBwdRefIdeal m →
    θ_run (Cert.OdInBwdRefIdeal.defs (F := Ideal)) (onTc (τ := Cert.OdInBwdRefIdeal.τ) (Cert.OdInBwdRefIdeal.main (F := Ideal))) ⟨m, fun _ => 0, g⟩ (fun r => (∀ c : Dev Cert.OdInBwdRefIdeal.nD,
      r.2.mem ((c.tc : Thread Cert.OdInBwdRefIdeal.nD Cert.OdInBwdRefIdeal.τ).loc Cert.OdInBwdRefIdeal.main_arg0) = m ((c.tc : Thread Cert.OdInBwdRefIdeal.nD Cert.OdInBwdRefIdeal.τ).loc Cert.OdInBwdRefIdeal.main_arg0)
      ∧ r.2.mem ((c.tc : Thread Cert.OdInBwdRefIdeal.nD Cert.OdInBwdRefIdeal.τ).loc Cert.OdInBwdRefIdeal.main_arg1) = m ((c.tc : Thread Cert.OdInBwdRefIdeal.nD Cert.OdInBwdRefIdeal.τ).loc Cert.OdInBwdRefIdeal.main_arg1)
      ∧ r.2.mem ((c.tc : Thread Cert.OdInBwdRefIdeal.nD Cert.OdInBwdRefIdeal.τ).loc Cert.OdInBwdRefIdeal.main_arg2) = m ((c.tc : Thread Cert.OdInBwdRefIdeal.nD Cert.OdInBwdRefIdeal.τ).loc Cert.OdInBwdRefIdeal.main_arg2)
      ∧ r.2.mem ((c.tc : Thread Cert.OdInBwdRefIdeal.nD Cert.OdInBwdRefIdeal.τ).loc Cert.OdInBwdRefIdeal.main_arg3) = m ((c.tc : Thread Cert.OdInBwdRefIdeal.nD Cert.OdInBwdRefIdeal.τ).loc Cert.OdInBwdRefIdeal.main_arg3)
      ∧ r.2.mem ((c.tc : Thread Cert.OdInBwdRefIdeal.nD Cert.OdInBwdRefIdeal.τ).loc Cert.OdInBwdRefIdeal.main_arg4) = m ((c.tc : Thread Cert.OdInBwdRefIdeal.nD Cert.OdInBwdRefIdeal.τ).loc Cert.OdInBwdRefIdeal.main_arg4)
      ∧ r.2.mem ((c.tc : Thread Cert.OdInBwdRefIdeal.nD Cert.OdInBwdRefIdeal.τ).loc Cert.OdInBwdRefIdeal.main_arg5) = m ((c.tc : Thread Cert.OdInBwdRefIdeal.nD Cert.OdInBwdRefIdeal.τ).loc Cert.OdInBwdRefIdeal.main_arg5)
      ∧ r.2.mem ((c.tc : Thread Cert.OdInBwdRefIdeal.nD Cert.OdInBwdRefIdeal.τ).loc Cert.OdInBwdRefIdeal.main_arg6) = m ((c.tc : Thread Cert.OdInBwdRefIdeal.nD Cert.OdInBwdRefIdeal.τ).loc Cert.OdInBwdRefIdeal.main_arg6)
      ∧ r.2.mem ((c.tc : Thread Cert.OdInBwdRefIdeal.nD Cert.OdInBwdRefIdeal.τ).loc Cert.OdInBwdRefIdeal.main_arg7) = m ((c.tc : Thread Cert.OdInBwdRefIdeal.nD Cert.OdInBwdRefIdeal.τ).loc Cert.OdInBwdRefIdeal.main_arg7))
      ∧ r.2.sem = fun _ => 0)

def quiescent_EvInBwd [hEvInBwd : Cert.EvInBwd.Facts] : Prop :=
  ∀ (m : (ℓ : Loc Cert.EvInBwd.nD Cert.EvInBwd.τ Cert.EvInBwd.sig) → Buf (Elt Bits) ℓ) (g : Dev Cert.EvInBwd.nD → PrngReg), Pre_EvInBwd m →
    θ_run (Cert.EvInBwd.defs (F := Bits)) (onTc (τ := Cert.EvInBwd.τ) (Cert.EvInBwd.main (F := Bits))) ⟨m, fun _ => 0, g⟩ (fun r => (∀ c : Dev Cert.EvInBwd.nD,
      r.2.mem ((c.tc : Thread Cert.EvInBwd.nD Cert.EvInBwd.τ).loc Cert.EvInBwd.main_arg0) = m ((c.tc : Thread Cert.EvInBwd.nD Cert.EvInBwd.τ).loc Cert.EvInBwd.main_arg0)
      ∧ r.2.mem ((c.tc : Thread Cert.EvInBwd.nD Cert.EvInBwd.τ).loc Cert.EvInBwd.main_arg1) = m ((c.tc : Thread Cert.EvInBwd.nD Cert.EvInBwd.τ).loc Cert.EvInBwd.main_arg1)
      ∧ r.2.mem ((c.tc : Thread Cert.EvInBwd.nD Cert.EvInBwd.τ).loc Cert.EvInBwd.main_arg2) = m ((c.tc : Thread Cert.EvInBwd.nD Cert.EvInBwd.τ).loc Cert.EvInBwd.main_arg2)
      ∧ r.2.mem ((c.tc : Thread Cert.EvInBwd.nD Cert.EvInBwd.τ).loc Cert.EvInBwd.main_arg3) = m ((c.tc : Thread Cert.EvInBwd.nD Cert.EvInBwd.τ).loc Cert.EvInBwd.main_arg3)
      ∧ r.2.mem ((c.tc : Thread Cert.EvInBwd.nD Cert.EvInBwd.τ).loc Cert.EvInBwd.main_arg4) = m ((c.tc : Thread Cert.EvInBwd.nD Cert.EvInBwd.τ).loc Cert.EvInBwd.main_arg4)
      ∧ r.2.mem ((c.tc : Thread Cert.EvInBwd.nD Cert.EvInBwd.τ).loc Cert.EvInBwd.main_arg5) = m ((c.tc : Thread Cert.EvInBwd.nD Cert.EvInBwd.τ).loc Cert.EvInBwd.main_arg5)
      ∧ r.2.mem ((c.tc : Thread Cert.EvInBwd.nD Cert.EvInBwd.τ).loc Cert.EvInBwd.main_arg6) = m ((c.tc : Thread Cert.EvInBwd.nD Cert.EvInBwd.τ).loc Cert.EvInBwd.main_arg6)
      ∧ r.2.mem ((c.tc : Thread Cert.EvInBwd.nD Cert.EvInBwd.τ).loc Cert.EvInBwd.main_arg7) = m ((c.tc : Thread Cert.EvInBwd.nD Cert.EvInBwd.τ).loc Cert.EvInBwd.main_arg7)
      ∧ r.2.mem ((c.tc : Thread Cert.EvInBwd.nD Cert.EvInBwd.τ).loc Cert.EvInBwd.main_arg8) = m ((c.tc : Thread Cert.EvInBwd.nD Cert.EvInBwd.τ).loc Cert.EvInBwd.main_arg8)
      ∧ r.2.mem ((c.tc : Thread Cert.EvInBwd.nD Cert.EvInBwd.τ).loc Cert.EvInBwd.main_arg9) = m ((c.tc : Thread Cert.EvInBwd.nD Cert.EvInBwd.τ).loc Cert.EvInBwd.main_arg9)
      ∧ r.2.mem ((c.tc : Thread Cert.EvInBwd.nD Cert.EvInBwd.τ).loc Cert.EvInBwd.main_arg10) = m ((c.tc : Thread Cert.EvInBwd.nD Cert.EvInBwd.τ).loc Cert.EvInBwd.main_arg10)
      ∧ r.2.mem ((c.tc : Thread Cert.EvInBwd.nD Cert.EvInBwd.τ).loc Cert.EvInBwd.main_arg11) = m ((c.tc : Thread Cert.EvInBwd.nD Cert.EvInBwd.τ).loc Cert.EvInBwd.main_arg11))
      ∧ r.2.sem = fun _ => 0)

def quiescent_EvInBwdIdeal [hEvInBwdIdeal : Cert.EvInBwdIdeal.Facts] : Prop :=
  ∀ (m : (ℓ : Loc Cert.EvInBwdIdeal.nD Cert.EvInBwdIdeal.τ Cert.EvInBwdIdeal.sig) → Buf (Elt Ideal) ℓ) (g : Dev Cert.EvInBwdIdeal.nD → PrngReg), Pre_EvInBwdIdeal m →
    θ_run (Cert.EvInBwdIdeal.defs (F := Ideal)) (onTc (τ := Cert.EvInBwdIdeal.τ) (Cert.EvInBwdIdeal.main (F := Ideal))) ⟨m, fun _ => 0, g⟩ (fun r => (∀ c : Dev Cert.EvInBwdIdeal.nD,
      r.2.mem ((c.tc : Thread Cert.EvInBwdIdeal.nD Cert.EvInBwdIdeal.τ).loc Cert.EvInBwdIdeal.main_arg0) = m ((c.tc : Thread Cert.EvInBwdIdeal.nD Cert.EvInBwdIdeal.τ).loc Cert.EvInBwdIdeal.main_arg0)
      ∧ r.2.mem ((c.tc : Thread Cert.EvInBwdIdeal.nD Cert.EvInBwdIdeal.τ).loc Cert.EvInBwdIdeal.main_arg1) = m ((c.tc : Thread Cert.EvInBwdIdeal.nD Cert.EvInBwdIdeal.τ).loc Cert.EvInBwdIdeal.main_arg1)
      ∧ r.2.mem ((c.tc : Thread Cert.EvInBwdIdeal.nD Cert.EvInBwdIdeal.τ).loc Cert.EvInBwdIdeal.main_arg2) = m ((c.tc : Thread Cert.EvInBwdIdeal.nD Cert.EvInBwdIdeal.τ).loc Cert.EvInBwdIdeal.main_arg2)
      ∧ r.2.mem ((c.tc : Thread Cert.EvInBwdIdeal.nD Cert.EvInBwdIdeal.τ).loc Cert.EvInBwdIdeal.main_arg3) = m ((c.tc : Thread Cert.EvInBwdIdeal.nD Cert.EvInBwdIdeal.τ).loc Cert.EvInBwdIdeal.main_arg3)
      ∧ r.2.mem ((c.tc : Thread Cert.EvInBwdIdeal.nD Cert.EvInBwdIdeal.τ).loc Cert.EvInBwdIdeal.main_arg4) = m ((c.tc : Thread Cert.EvInBwdIdeal.nD Cert.EvInBwdIdeal.τ).loc Cert.EvInBwdIdeal.main_arg4)
      ∧ r.2.mem ((c.tc : Thread Cert.EvInBwdIdeal.nD Cert.EvInBwdIdeal.τ).loc Cert.EvInBwdIdeal.main_arg5) = m ((c.tc : Thread Cert.EvInBwdIdeal.nD Cert.EvInBwdIdeal.τ).loc Cert.EvInBwdIdeal.main_arg5)
      ∧ r.2.mem ((c.tc : Thread Cert.EvInBwdIdeal.nD Cert.EvInBwdIdeal.τ).loc Cert.EvInBwdIdeal.main_arg6) = m ((c.tc : Thread Cert.EvInBwdIdeal.nD Cert.EvInBwdIdeal.τ).loc Cert.EvInBwdIdeal.main_arg6)
      ∧ r.2.mem ((c.tc : Thread Cert.EvInBwdIdeal.nD Cert.EvInBwdIdeal.τ).loc Cert.EvInBwdIdeal.main_arg7) = m ((c.tc : Thread Cert.EvInBwdIdeal.nD Cert.EvInBwdIdeal.τ).loc Cert.EvInBwdIdeal.main_arg7)
      ∧ r.2.mem ((c.tc : Thread Cert.EvInBwdIdeal.nD Cert.EvInBwdIdeal.τ).loc Cert.EvInBwdIdeal.main_arg8) = m ((c.tc : Thread Cert.EvInBwdIdeal.nD Cert.EvInBwdIdeal.τ).loc Cert.EvInBwdIdeal.main_arg8)
      ∧ r.2.mem ((c.tc : Thread Cert.EvInBwdIdeal.nD Cert.EvInBwdIdeal.τ).loc Cert.EvInBwdIdeal.main_arg9) = m ((c.tc : Thread Cert.EvInBwdIdeal.nD Cert.EvInBwdIdeal.τ).loc Cert.EvInBwdIdeal.main_arg9)
      ∧ r.2.mem ((c.tc : Thread Cert.EvInBwdIdeal.nD Cert.EvInBwdIdeal.τ).loc Cert.EvInBwdIdeal.main_arg10) = m ((c.tc : Thread Cert.EvInBwdIdeal.nD Cert.EvInBwdIdeal.τ).loc Cert.EvInBwdIdeal.main_arg10)
      ∧ r.2.mem ((c.tc : Thread Cert.EvInBwdIdeal.nD Cert.EvInBwdIdeal.τ).loc Cert.EvInBwdIdeal.main_arg11) = m ((c.tc : Thread Cert.EvInBwdIdeal.nD Cert.EvInBwdIdeal.τ).loc Cert.EvInBwdIdeal.main_arg11))
      ∧ r.2.sem = fun _ => 0)

def quiescent_EvInBwdRefIdeal [hEvInBwdRefIdeal : Cert.EvInBwdRefIdeal.Facts] : Prop :=
  ∀ (m : (ℓ : Loc Cert.EvInBwdRefIdeal.nD Cert.EvInBwdRefIdeal.τ Cert.EvInBwdRefIdeal.sig) → Buf (Elt Ideal) ℓ) (g : Dev Cert.EvInBwdRefIdeal.nD → PrngReg), Pre_EvInBwdRefIdeal m →
    θ_run (Cert.EvInBwdRefIdeal.defs (F := Ideal)) (onTc (τ := Cert.EvInBwdRefIdeal.τ) (Cert.EvInBwdRefIdeal.main (F := Ideal))) ⟨m, fun _ => 0, g⟩ (fun r => (∀ c : Dev Cert.EvInBwdRefIdeal.nD,
      r.2.mem ((c.tc : Thread Cert.EvInBwdRefIdeal.nD Cert.EvInBwdRefIdeal.τ).loc Cert.EvInBwdRefIdeal.main_arg0) = m ((c.tc : Thread Cert.EvInBwdRefIdeal.nD Cert.EvInBwdRefIdeal.τ).loc Cert.EvInBwdRefIdeal.main_arg0)
      ∧ r.2.mem ((c.tc : Thread Cert.EvInBwdRefIdeal.nD Cert.EvInBwdRefIdeal.τ).loc Cert.EvInBwdRefIdeal.main_arg1) = m ((c.tc : Thread Cert.EvInBwdRefIdeal.nD Cert.EvInBwdRefIdeal.τ).loc Cert.EvInBwdRefIdeal.main_arg1)
      ∧ r.2.mem ((c.tc : Thread Cert.EvInBwdRefIdeal.nD Cert.EvInBwdRefIdeal.τ).loc Cert.EvInBwdRefIdeal.main_arg2) = m ((c.tc : Thread Cert.EvInBwdRefIdeal.nD Cert.EvInBwdRefIdeal.τ).loc Cert.EvInBwdRefIdeal.main_arg2)
      ∧ r.2.mem ((c.tc : Thread Cert.EvInBwdRefIdeal.nD Cert.EvInBwdRefIdeal.τ).loc Cert.EvInBwdRefIdeal.main_arg3) = m ((c.tc : Thread Cert.EvInBwdRefIdeal.nD Cert.EvInBwdRefIdeal.τ).loc Cert.EvInBwdRefIdeal.main_arg3)
      ∧ r.2.mem ((c.tc : Thread Cert.EvInBwdRefIdeal.nD Cert.EvInBwdRefIdeal.τ).loc Cert.EvInBwdRefIdeal.main_arg4) = m ((c.tc : Thread Cert.EvInBwdRefIdeal.nD Cert.EvInBwdRefIdeal.τ).loc Cert.EvInBwdRefIdeal.main_arg4)
      ∧ r.2.mem ((c.tc : Thread Cert.EvInBwdRefIdeal.nD Cert.EvInBwdRefIdeal.τ).loc Cert.EvInBwdRefIdeal.main_arg5) = m ((c.tc : Thread Cert.EvInBwdRefIdeal.nD Cert.EvInBwdRefIdeal.τ).loc Cert.EvInBwdRefIdeal.main_arg5)
      ∧ r.2.mem ((c.tc : Thread Cert.EvInBwdRefIdeal.nD Cert.EvInBwdRefIdeal.τ).loc Cert.EvInBwdRefIdeal.main_arg6) = m ((c.tc : Thread Cert.EvInBwdRefIdeal.nD Cert.EvInBwdRefIdeal.τ).loc Cert.EvInBwdRefIdeal.main_arg6)
      ∧ r.2.mem ((c.tc : Thread Cert.EvInBwdRefIdeal.nD Cert.EvInBwdRefIdeal.τ).loc Cert.EvInBwdRefIdeal.main_arg7) = m ((c.tc : Thread Cert.EvInBwdRefIdeal.nD Cert.EvInBwdRefIdeal.τ).loc Cert.EvInBwdRefIdeal.main_arg7)
      ∧ r.2.mem ((c.tc : Thread Cert.EvInBwdRefIdeal.nD Cert.EvInBwdRefIdeal.τ).loc Cert.EvInBwdRefIdeal.main_arg8) = m ((c.tc : Thread Cert.EvInBwdRefIdeal.nD Cert.EvInBwdRefIdeal.τ).loc Cert.EvInBwdRefIdeal.main_arg8)
      ∧ r.2.mem ((c.tc : Thread Cert.EvInBwdRefIdeal.nD Cert.EvInBwdRefIdeal.τ).loc Cert.EvInBwdRefIdeal.main_arg9) = m ((c.tc : Thread Cert.EvInBwdRefIdeal.nD Cert.EvInBwdRefIdeal.τ).loc Cert.EvInBwdRefIdeal.main_arg9)
      ∧ r.2.mem ((c.tc : Thread Cert.EvInBwdRefIdeal.nD Cert.EvInBwdRefIdeal.τ).loc Cert.EvInBwdRefIdeal.main_arg10) = m ((c.tc : Thread Cert.EvInBwdRefIdeal.nD Cert.EvInBwdRefIdeal.τ).loc Cert.EvInBwdRefIdeal.main_arg10)
      ∧ r.2.mem ((c.tc : Thread Cert.EvInBwdRefIdeal.nD Cert.EvInBwdRefIdeal.τ).loc Cert.EvInBwdRefIdeal.main_arg11) = m ((c.tc : Thread Cert.EvInBwdRefIdeal.nD Cert.EvInBwdRefIdeal.τ).loc Cert.EvInBwdRefIdeal.main_arg11))
      ∧ r.2.sem = fun _ => 0)

def quiescent_KvBwd [hKvBwd : Cert.KvBwd.Facts] : Prop :=
  ∀ (m : (ℓ : Loc Cert.KvBwd.nD Cert.KvBwd.τ Cert.KvBwd.sig) → Buf (Elt Bits) ℓ) (g : Dev Cert.KvBwd.nD → PrngReg), Pre_KvBwd m →
    θ_run (Cert.KvBwd.defs (F := Bits)) (onTc (τ := Cert.KvBwd.τ) (Cert.KvBwd.main (F := Bits))) ⟨m, fun _ => 0, g⟩ (fun r => (∀ c : Dev Cert.KvBwd.nD,
      r.2.mem ((c.tc : Thread Cert.KvBwd.nD Cert.KvBwd.τ).loc Cert.KvBwd.main_arg0) = m ((c.tc : Thread Cert.KvBwd.nD Cert.KvBwd.τ).loc Cert.KvBwd.main_arg0)
      ∧ r.2.mem ((c.tc : Thread Cert.KvBwd.nD Cert.KvBwd.τ).loc Cert.KvBwd.main_arg1) = m ((c.tc : Thread Cert.KvBwd.nD Cert.KvBwd.τ).loc Cert.KvBwd.main_arg1)
      ∧ r.2.mem ((c.tc : Thread Cert.KvBwd.nD Cert.KvBwd.τ).loc Cert.KvBwd.main_arg2) = m ((c.tc : Thread Cert.KvBwd.nD Cert.KvBwd.τ).loc Cert.KvBwd.main_arg2)
      ∧ r.2.mem ((c.tc : Thread Cert.KvBwd.nD Cert.KvBwd.τ).loc Cert.KvBwd.main_arg3) = m ((c.tc : Thread Cert.KvBwd.nD Cert.KvBwd.τ).loc Cert.KvBwd.main_arg3)
      ∧ r.2.mem ((c.tc : Thread Cert.KvBwd.nD Cert.KvBwd.τ).loc Cert.KvBwd.main_arg4) = m ((c.tc : Thread Cert.KvBwd.nD Cert.KvBwd.τ).loc Cert.KvBwd.main_arg4)
      ∧ r.2.mem ((c.tc : Thread Cert.KvBwd.nD Cert.KvBwd.τ).loc Cert.KvBwd.main_arg5) = m ((c.tc : Thread Cert.KvBwd.nD Cert.KvBwd.τ).loc Cert.KvBwd.main_arg5))
      ∧ r.2.sem = fun _ => 0)

def quiescent_KvBwdIdeal [hKvBwdIdeal : Cert.KvBwdIdeal.Facts] : Prop :=
  ∀ (m : (ℓ : Loc Cert.KvBwdIdeal.nD Cert.KvBwdIdeal.τ Cert.KvBwdIdeal.sig) → Buf (Elt Ideal) ℓ) (g : Dev Cert.KvBwdIdeal.nD → PrngReg), Pre_KvBwdIdeal m →
    θ_run (Cert.KvBwdIdeal.defs (F := Ideal)) (onTc (τ := Cert.KvBwdIdeal.τ) (Cert.KvBwdIdeal.main (F := Ideal))) ⟨m, fun _ => 0, g⟩ (fun r => (∀ c : Dev Cert.KvBwdIdeal.nD,
      r.2.mem ((c.tc : Thread Cert.KvBwdIdeal.nD Cert.KvBwdIdeal.τ).loc Cert.KvBwdIdeal.main_arg0) = m ((c.tc : Thread Cert.KvBwdIdeal.nD Cert.KvBwdIdeal.τ).loc Cert.KvBwdIdeal.main_arg0)
      ∧ r.2.mem ((c.tc : Thread Cert.KvBwdIdeal.nD Cert.KvBwdIdeal.τ).loc Cert.KvBwdIdeal.main_arg1) = m ((c.tc : Thread Cert.KvBwdIdeal.nD Cert.KvBwdIdeal.τ).loc Cert.KvBwdIdeal.main_arg1)
      ∧ r.2.mem ((c.tc : Thread Cert.KvBwdIdeal.nD Cert.KvBwdIdeal.τ).loc Cert.KvBwdIdeal.main_arg2) = m ((c.tc : Thread Cert.KvBwdIdeal.nD Cert.KvBwdIdeal.τ).loc Cert.KvBwdIdeal.main_arg2)
      ∧ r.2.mem ((c.tc : Thread Cert.KvBwdIdeal.nD Cert.KvBwdIdeal.τ).loc Cert.KvBwdIdeal.main_arg3) = m ((c.tc : Thread Cert.KvBwdIdeal.nD Cert.KvBwdIdeal.τ).loc Cert.KvBwdIdeal.main_arg3)
      ∧ r.2.mem ((c.tc : Thread Cert.KvBwdIdeal.nD Cert.KvBwdIdeal.τ).loc Cert.KvBwdIdeal.main_arg4) = m ((c.tc : Thread Cert.KvBwdIdeal.nD Cert.KvBwdIdeal.τ).loc Cert.KvBwdIdeal.main_arg4)
      ∧ r.2.mem ((c.tc : Thread Cert.KvBwdIdeal.nD Cert.KvBwdIdeal.τ).loc Cert.KvBwdIdeal.main_arg5) = m ((c.tc : Thread Cert.KvBwdIdeal.nD Cert.KvBwdIdeal.τ).loc Cert.KvBwdIdeal.main_arg5))
      ∧ r.2.sem = fun _ => 0)

def quiescent_KvBwdRefIdeal [hKvBwdRefIdeal : Cert.KvBwdRefIdeal.Facts] : Prop :=
  ∀ (m : (ℓ : Loc Cert.KvBwdRefIdeal.nD Cert.KvBwdRefIdeal.τ Cert.KvBwdRefIdeal.sig) → Buf (Elt Ideal) ℓ) (g : Dev Cert.KvBwdRefIdeal.nD → PrngReg), Pre_KvBwdRefIdeal m →
    θ_run (Cert.KvBwdRefIdeal.defs (F := Ideal)) (onTc (τ := Cert.KvBwdRefIdeal.τ) (Cert.KvBwdRefIdeal.main (F := Ideal))) ⟨m, fun _ => 0, g⟩ (fun r => (∀ c : Dev Cert.KvBwdRefIdeal.nD,
      r.2.mem ((c.tc : Thread Cert.KvBwdRefIdeal.nD Cert.KvBwdRefIdeal.τ).loc Cert.KvBwdRefIdeal.main_arg0) = m ((c.tc : Thread Cert.KvBwdRefIdeal.nD Cert.KvBwdRefIdeal.τ).loc Cert.KvBwdRefIdeal.main_arg0)
      ∧ r.2.mem ((c.tc : Thread Cert.KvBwdRefIdeal.nD Cert.KvBwdRefIdeal.τ).loc Cert.KvBwdRefIdeal.main_arg1) = m ((c.tc : Thread Cert.KvBwdRefIdeal.nD Cert.KvBwdRefIdeal.τ).loc Cert.KvBwdRefIdeal.main_arg1)
      ∧ r.2.mem ((c.tc : Thread Cert.KvBwdRefIdeal.nD Cert.KvBwdRefIdeal.τ).loc Cert.KvBwdRefIdeal.main_arg2) = m ((c.tc : Thread Cert.KvBwdRefIdeal.nD Cert.KvBwdRefIdeal.τ).loc Cert.KvBwdRefIdeal.main_arg2)
      ∧ r.2.mem ((c.tc : Thread Cert.KvBwdRefIdeal.nD Cert.KvBwdRefIdeal.τ).loc Cert.KvBwdRefIdeal.main_arg3) = m ((c.tc : Thread Cert.KvBwdRefIdeal.nD Cert.KvBwdRefIdeal.τ).loc Cert.KvBwdRefIdeal.main_arg3)
      ∧ r.2.mem ((c.tc : Thread Cert.KvBwdRefIdeal.nD Cert.KvBwdRefIdeal.τ).loc Cert.KvBwdRefIdeal.main_arg4) = m ((c.tc : Thread Cert.KvBwdRefIdeal.nD Cert.KvBwdRefIdeal.τ).loc Cert.KvBwdRefIdeal.main_arg4)
      ∧ r.2.mem ((c.tc : Thread Cert.KvBwdRefIdeal.nD Cert.KvBwdRefIdeal.τ).loc Cert.KvBwdRefIdeal.main_arg5) = m ((c.tc : Thread Cert.KvBwdRefIdeal.nD Cert.KvBwdRefIdeal.τ).loc Cert.KvBwdRefIdeal.main_arg5))
      ∧ r.2.sem = fun _ => 0)

def quiescent_ConvBwd [hConvBwd : Cert.ConvBwd.Facts] : Prop :=
  ∀ (m : (ℓ : Loc Cert.ConvBwd.nD Cert.ConvBwd.τ Cert.ConvBwd.sig) → Buf (Elt Bits) ℓ) (g : Dev Cert.ConvBwd.nD → PrngReg), Pre_ConvBwd m →
    θ_run (Cert.ConvBwd.defs (F := Bits)) (onTc (τ := Cert.ConvBwd.τ) (Cert.ConvBwd.main (F := Bits))) ⟨m, fun _ => 0, g⟩ (fun r => (∀ c : Dev Cert.ConvBwd.nD,
      r.2.mem ((c.tc : Thread Cert.ConvBwd.nD Cert.ConvBwd.τ).loc Cert.ConvBwd.main_arg0) = m ((c.tc : Thread Cert.ConvBwd.nD Cert.ConvBwd.τ).loc Cert.ConvBwd.main_arg0)
      ∧ r.2.mem ((c.tc : Thread Cert.ConvBwd.nD Cert.ConvBwd.τ).loc Cert.ConvBwd.main_arg1) = m ((c.tc : Thread Cert.ConvBwd.nD Cert.ConvBwd.τ).loc Cert.ConvBwd.main_arg1)
      ∧ r.2.mem ((c.tc : Thread Cert.ConvBwd.nD Cert.ConvBwd.τ).loc Cert.ConvBwd.main_arg2) = m ((c.tc : Thread Cert.ConvBwd.nD Cert.ConvBwd.τ).loc Cert.ConvBwd.main_arg2))
      ∧ r.2.sem = fun _ => 0)

def quiescent_ConvBwdIdeal [hConvBwdIdeal : Cert.ConvBwdIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2))
      ∧ r.2.sem = fun _ => 0)

def quiescent_ConvBwdRefIdeal [hConvBwdRefIdeal : Cert.ConvBwdRefIdeal.Facts] : Prop :=
  ∀ (m : (ℓ : Loc Cert.ConvBwdRefIdeal.nD Cert.ConvBwdRefIdeal.τ Cert.ConvBwdRefIdeal.sig) → Buf (Elt Ideal) ℓ) (g : Dev Cert.ConvBwdRefIdeal.nD → PrngReg), Pre_ConvBwdRefIdeal m →
    θ_run (Cert.ConvBwdRefIdeal.defs (F := Ideal)) (onTc (τ := Cert.ConvBwdRefIdeal.τ) (Cert.ConvBwdRefIdeal.main (F := Ideal))) ⟨m, fun _ => 0, g⟩ (fun r => (∀ c : Dev Cert.ConvBwdRefIdeal.nD,
      r.2.mem ((c.tc : Thread Cert.ConvBwdRefIdeal.nD Cert.ConvBwdRefIdeal.τ).loc Cert.ConvBwdRefIdeal.main_arg0) = m ((c.tc : Thread Cert.ConvBwdRefIdeal.nD Cert.ConvBwdRefIdeal.τ).loc Cert.ConvBwdRefIdeal.main_arg0)
      ∧ r.2.mem ((c.tc : Thread Cert.ConvBwdRefIdeal.nD Cert.ConvBwdRefIdeal.τ).loc Cert.ConvBwdRefIdeal.main_arg1) = m ((c.tc : Thread Cert.ConvBwdRefIdeal.nD Cert.ConvBwdRefIdeal.τ).loc Cert.ConvBwdRefIdeal.main_arg1)
      ∧ r.2.mem ((c.tc : Thread Cert.ConvBwdRefIdeal.nD Cert.ConvBwdRefIdeal.τ).loc Cert.ConvBwdRefIdeal.main_arg2) = m ((c.tc : Thread Cert.ConvBwdRefIdeal.nD Cert.ConvBwdRefIdeal.τ).loc Cert.ConvBwdRefIdeal.main_arg2))
      ∧ r.2.sem = fun _ => 0)

def quiescent_S5DiscBwd [hS5DiscBwd : Cert.S5DiscBwd.Facts] : Prop :=
  ∀ (m : (ℓ : Loc Cert.S5DiscBwd.nD Cert.S5DiscBwd.τ Cert.S5DiscBwd.sig) → Buf (Elt Bits) ℓ) (g : Dev Cert.S5DiscBwd.nD → PrngReg), Pre_S5DiscBwd m →
    θ_run (Cert.S5DiscBwd.defs (F := Bits)) (onTc (τ := Cert.S5DiscBwd.τ) (Cert.S5DiscBwd.main (F := Bits))) ⟨m, fun _ => 0, g⟩ (fun r => (∀ c : Dev Cert.S5DiscBwd.nD,
      r.2.mem ((c.tc : Thread Cert.S5DiscBwd.nD Cert.S5DiscBwd.τ).loc Cert.S5DiscBwd.main_arg0) = m ((c.tc : Thread Cert.S5DiscBwd.nD Cert.S5DiscBwd.τ).loc Cert.S5DiscBwd.main_arg0)
      ∧ r.2.mem ((c.tc : Thread Cert.S5DiscBwd.nD Cert.S5DiscBwd.τ).loc Cert.S5DiscBwd.main_arg1) = m ((c.tc : Thread Cert.S5DiscBwd.nD Cert.S5DiscBwd.τ).loc Cert.S5DiscBwd.main_arg1)
      ∧ r.2.mem ((c.tc : Thread Cert.S5DiscBwd.nD Cert.S5DiscBwd.τ).loc Cert.S5DiscBwd.main_arg2) = m ((c.tc : Thread Cert.S5DiscBwd.nD Cert.S5DiscBwd.τ).loc Cert.S5DiscBwd.main_arg2)
      ∧ r.2.mem ((c.tc : Thread Cert.S5DiscBwd.nD Cert.S5DiscBwd.τ).loc Cert.S5DiscBwd.main_arg3) = m ((c.tc : Thread Cert.S5DiscBwd.nD Cert.S5DiscBwd.τ).loc Cert.S5DiscBwd.main_arg3)
      ∧ r.2.mem ((c.tc : Thread Cert.S5DiscBwd.nD Cert.S5DiscBwd.τ).loc Cert.S5DiscBwd.main_arg4) = m ((c.tc : Thread Cert.S5DiscBwd.nD Cert.S5DiscBwd.τ).loc Cert.S5DiscBwd.main_arg4)
      ∧ r.2.mem ((c.tc : Thread Cert.S5DiscBwd.nD Cert.S5DiscBwd.τ).loc Cert.S5DiscBwd.main_arg5) = m ((c.tc : Thread Cert.S5DiscBwd.nD Cert.S5DiscBwd.τ).loc Cert.S5DiscBwd.main_arg5)
      ∧ r.2.mem ((c.tc : Thread Cert.S5DiscBwd.nD Cert.S5DiscBwd.τ).loc Cert.S5DiscBwd.main_arg6) = m ((c.tc : Thread Cert.S5DiscBwd.nD Cert.S5DiscBwd.τ).loc Cert.S5DiscBwd.main_arg6)
      ∧ r.2.mem ((c.tc : Thread Cert.S5DiscBwd.nD Cert.S5DiscBwd.τ).loc Cert.S5DiscBwd.main_arg7) = m ((c.tc : Thread Cert.S5DiscBwd.nD Cert.S5DiscBwd.τ).loc Cert.S5DiscBwd.main_arg7)
      ∧ r.2.mem ((c.tc : Thread Cert.S5DiscBwd.nD Cert.S5DiscBwd.τ).loc Cert.S5DiscBwd.main_arg8) = m ((c.tc : Thread Cert.S5DiscBwd.nD Cert.S5DiscBwd.τ).loc Cert.S5DiscBwd.main_arg8))
      ∧ r.2.sem = fun _ => 0)

def quiescent_S5DiscBwdIdeal [hS5DiscBwdIdeal : Cert.S5DiscBwdIdeal.Facts] : Prop :=
  ∀ (m : (ℓ : Loc Cert.S5DiscBwdIdeal.nD Cert.S5DiscBwdIdeal.τ Cert.S5DiscBwdIdeal.sig) → Buf (Elt Ideal) ℓ) (g : Dev Cert.S5DiscBwdIdeal.nD → PrngReg), Pre_S5DiscBwdIdeal m →
    θ_run (Cert.S5DiscBwdIdeal.defs (F := Ideal)) (onTc (τ := Cert.S5DiscBwdIdeal.τ) (Cert.S5DiscBwdIdeal.main (F := Ideal))) ⟨m, fun _ => 0, g⟩ (fun r => (∀ c : Dev Cert.S5DiscBwdIdeal.nD,
      r.2.mem ((c.tc : Thread Cert.S5DiscBwdIdeal.nD Cert.S5DiscBwdIdeal.τ).loc Cert.S5DiscBwdIdeal.main_arg0) = m ((c.tc : Thread Cert.S5DiscBwdIdeal.nD Cert.S5DiscBwdIdeal.τ).loc Cert.S5DiscBwdIdeal.main_arg0)
      ∧ r.2.mem ((c.tc : Thread Cert.S5DiscBwdIdeal.nD Cert.S5DiscBwdIdeal.τ).loc Cert.S5DiscBwdIdeal.main_arg1) = m ((c.tc : Thread Cert.S5DiscBwdIdeal.nD Cert.S5DiscBwdIdeal.τ).loc Cert.S5DiscBwdIdeal.main_arg1)
      ∧ r.2.mem ((c.tc : Thread Cert.S5DiscBwdIdeal.nD Cert.S5DiscBwdIdeal.τ).loc Cert.S5DiscBwdIdeal.main_arg2) = m ((c.tc : Thread Cert.S5DiscBwdIdeal.nD Cert.S5DiscBwdIdeal.τ).loc Cert.S5DiscBwdIdeal.main_arg2)
      ∧ r.2.mem ((c.tc : Thread Cert.S5DiscBwdIdeal.nD Cert.S5DiscBwdIdeal.τ).loc Cert.S5DiscBwdIdeal.main_arg3) = m ((c.tc : Thread Cert.S5DiscBwdIdeal.nD Cert.S5DiscBwdIdeal.τ).loc Cert.S5DiscBwdIdeal.main_arg3)
      ∧ r.2.mem ((c.tc : Thread Cert.S5DiscBwdIdeal.nD Cert.S5DiscBwdIdeal.τ).loc Cert.S5DiscBwdIdeal.main_arg4) = m ((c.tc : Thread Cert.S5DiscBwdIdeal.nD Cert.S5DiscBwdIdeal.τ).loc Cert.S5DiscBwdIdeal.main_arg4)
      ∧ r.2.mem ((c.tc : Thread Cert.S5DiscBwdIdeal.nD Cert.S5DiscBwdIdeal.τ).loc Cert.S5DiscBwdIdeal.main_arg5) = m ((c.tc : Thread Cert.S5DiscBwdIdeal.nD Cert.S5DiscBwdIdeal.τ).loc Cert.S5DiscBwdIdeal.main_arg5)
      ∧ r.2.mem ((c.tc : Thread Cert.S5DiscBwdIdeal.nD Cert.S5DiscBwdIdeal.τ).loc Cert.S5DiscBwdIdeal.main_arg6) = m ((c.tc : Thread Cert.S5DiscBwdIdeal.nD Cert.S5DiscBwdIdeal.τ).loc Cert.S5DiscBwdIdeal.main_arg6)
      ∧ r.2.mem ((c.tc : Thread Cert.S5DiscBwdIdeal.nD Cert.S5DiscBwdIdeal.τ).loc Cert.S5DiscBwdIdeal.main_arg7) = m ((c.tc : Thread Cert.S5DiscBwdIdeal.nD Cert.S5DiscBwdIdeal.τ).loc Cert.S5DiscBwdIdeal.main_arg7)
      ∧ r.2.mem ((c.tc : Thread Cert.S5DiscBwdIdeal.nD Cert.S5DiscBwdIdeal.τ).loc Cert.S5DiscBwdIdeal.main_arg8) = m ((c.tc : Thread Cert.S5DiscBwdIdeal.nD Cert.S5DiscBwdIdeal.τ).loc Cert.S5DiscBwdIdeal.main_arg8))
      ∧ r.2.sem = fun _ => 0)

def quiescent_S5DiscBwdRefIdeal [hS5DiscBwdRefIdeal : Cert.S5DiscBwdRefIdeal.Facts] : Prop :=
  ∀ (m : (ℓ : Loc Cert.S5DiscBwdRefIdeal.nD Cert.S5DiscBwdRefIdeal.τ Cert.S5DiscBwdRefIdeal.sig) → Buf (Elt Ideal) ℓ) (g : Dev Cert.S5DiscBwdRefIdeal.nD → PrngReg), Pre_S5DiscBwdRefIdeal m →
    θ_run (Cert.S5DiscBwdRefIdeal.defs (F := Ideal)) (onTc (τ := Cert.S5DiscBwdRefIdeal.τ) (Cert.S5DiscBwdRefIdeal.main (F := Ideal))) ⟨m, fun _ => 0, g⟩ (fun r => (∀ c : Dev Cert.S5DiscBwdRefIdeal.nD,
      r.2.mem ((c.tc : Thread Cert.S5DiscBwdRefIdeal.nD Cert.S5DiscBwdRefIdeal.τ).loc Cert.S5DiscBwdRefIdeal.main_arg0) = m ((c.tc : Thread Cert.S5DiscBwdRefIdeal.nD Cert.S5DiscBwdRefIdeal.τ).loc Cert.S5DiscBwdRefIdeal.main_arg0)
      ∧ r.2.mem ((c.tc : Thread Cert.S5DiscBwdRefIdeal.nD Cert.S5DiscBwdRefIdeal.τ).loc Cert.S5DiscBwdRefIdeal.main_arg1) = m ((c.tc : Thread Cert.S5DiscBwdRefIdeal.nD Cert.S5DiscBwdRefIdeal.τ).loc Cert.S5DiscBwdRefIdeal.main_arg1)
      ∧ r.2.mem ((c.tc : Thread Cert.S5DiscBwdRefIdeal.nD Cert.S5DiscBwdRefIdeal.τ).loc Cert.S5DiscBwdRefIdeal.main_arg2) = m ((c.tc : Thread Cert.S5DiscBwdRefIdeal.nD Cert.S5DiscBwdRefIdeal.τ).loc Cert.S5DiscBwdRefIdeal.main_arg2)
      ∧ r.2.mem ((c.tc : Thread Cert.S5DiscBwdRefIdeal.nD Cert.S5DiscBwdRefIdeal.τ).loc Cert.S5DiscBwdRefIdeal.main_arg3) = m ((c.tc : Thread Cert.S5DiscBwdRefIdeal.nD Cert.S5DiscBwdRefIdeal.τ).loc Cert.S5DiscBwdRefIdeal.main_arg3)
      ∧ r.2.mem ((c.tc : Thread Cert.S5DiscBwdRefIdeal.nD Cert.S5DiscBwdRefIdeal.τ).loc Cert.S5DiscBwdRefIdeal.main_arg4) = m ((c.tc : Thread Cert.S5DiscBwdRefIdeal.nD Cert.S5DiscBwdRefIdeal.τ).loc Cert.S5DiscBwdRefIdeal.main_arg4)
      ∧ r.2.mem ((c.tc : Thread Cert.S5DiscBwdRefIdeal.nD Cert.S5DiscBwdRefIdeal.τ).loc Cert.S5DiscBwdRefIdeal.main_arg5) = m ((c.tc : Thread Cert.S5DiscBwdRefIdeal.nD Cert.S5DiscBwdRefIdeal.τ).loc Cert.S5DiscBwdRefIdeal.main_arg5)
      ∧ r.2.mem ((c.tc : Thread Cert.S5DiscBwdRefIdeal.nD Cert.S5DiscBwdRefIdeal.τ).loc Cert.S5DiscBwdRefIdeal.main_arg6) = m ((c.tc : Thread Cert.S5DiscBwdRefIdeal.nD Cert.S5DiscBwdRefIdeal.τ).loc Cert.S5DiscBwdRefIdeal.main_arg6)
      ∧ r.2.mem ((c.tc : Thread Cert.S5DiscBwdRefIdeal.nD Cert.S5DiscBwdRefIdeal.τ).loc Cert.S5DiscBwdRefIdeal.main_arg7) = m ((c.tc : Thread Cert.S5DiscBwdRefIdeal.nD Cert.S5DiscBwdRefIdeal.τ).loc Cert.S5DiscBwdRefIdeal.main_arg7)
      ∧ r.2.mem ((c.tc : Thread Cert.S5DiscBwdRefIdeal.nD Cert.S5DiscBwdRefIdeal.τ).loc Cert.S5DiscBwdRefIdeal.main_arg8) = m ((c.tc : Thread Cert.S5DiscBwdRefIdeal.nD Cert.S5DiscBwdRefIdeal.τ).loc Cert.S5DiscBwdRefIdeal.main_arg8))
      ∧ r.2.sem = fun _ => 0)

def quiescent_EvOutBwd [hEvOutBwd : Cert.EvOutBwd.Facts] : Prop :=
  ∀ (m : (ℓ : Loc Cert.EvOutBwd.nD Cert.EvOutBwd.τ Cert.EvOutBwd.sig) → Buf (Elt Bits) ℓ) (g : Dev Cert.EvOutBwd.nD → PrngReg), Pre_EvOutBwd m →
    θ_run (Cert.EvOutBwd.defs (F := Bits)) (onTc (τ := Cert.EvOutBwd.τ) (Cert.EvOutBwd.main (F := Bits))) ⟨m, fun _ => 0, g⟩ (fun r => (∀ c : Dev Cert.EvOutBwd.nD,
      r.2.mem ((c.tc : Thread Cert.EvOutBwd.nD Cert.EvOutBwd.τ).loc Cert.EvOutBwd.main_arg0) = m ((c.tc : Thread Cert.EvOutBwd.nD Cert.EvOutBwd.τ).loc Cert.EvOutBwd.main_arg0)
      ∧ r.2.mem ((c.tc : Thread Cert.EvOutBwd.nD Cert.EvOutBwd.τ).loc Cert.EvOutBwd.main_arg1) = m ((c.tc : Thread Cert.EvOutBwd.nD Cert.EvOutBwd.τ).loc Cert.EvOutBwd.main_arg1)
      ∧ r.2.mem ((c.tc : Thread Cert.EvOutBwd.nD Cert.EvOutBwd.τ).loc Cert.EvOutBwd.main_arg2) = m ((c.tc : Thread Cert.EvOutBwd.nD Cert.EvOutBwd.τ).loc Cert.EvOutBwd.main_arg2)
      ∧ r.2.mem ((c.tc : Thread Cert.EvOutBwd.nD Cert.EvOutBwd.τ).loc Cert.EvOutBwd.main_arg3) = m ((c.tc : Thread Cert.EvOutBwd.nD Cert.EvOutBwd.τ).loc Cert.EvOutBwd.main_arg3)
      ∧ r.2.mem ((c.tc : Thread Cert.EvOutBwd.nD Cert.EvOutBwd.τ).loc Cert.EvOutBwd.main_arg4) = m ((c.tc : Thread Cert.EvOutBwd.nD Cert.EvOutBwd.τ).loc Cert.EvOutBwd.main_arg4)
      ∧ r.2.mem ((c.tc : Thread Cert.EvOutBwd.nD Cert.EvOutBwd.τ).loc Cert.EvOutBwd.main_arg5) = m ((c.tc : Thread Cert.EvOutBwd.nD Cert.EvOutBwd.τ).loc Cert.EvOutBwd.main_arg5)
      ∧ r.2.mem ((c.tc : Thread Cert.EvOutBwd.nD Cert.EvOutBwd.τ).loc Cert.EvOutBwd.main_arg6) = m ((c.tc : Thread Cert.EvOutBwd.nD Cert.EvOutBwd.τ).loc Cert.EvOutBwd.main_arg6)
      ∧ r.2.mem ((c.tc : Thread Cert.EvOutBwd.nD Cert.EvOutBwd.τ).loc Cert.EvOutBwd.main_arg7) = m ((c.tc : Thread Cert.EvOutBwd.nD Cert.EvOutBwd.τ).loc Cert.EvOutBwd.main_arg7)
      ∧ r.2.mem ((c.tc : Thread Cert.EvOutBwd.nD Cert.EvOutBwd.τ).loc Cert.EvOutBwd.main_arg8) = m ((c.tc : Thread Cert.EvOutBwd.nD Cert.EvOutBwd.τ).loc Cert.EvOutBwd.main_arg8)
      ∧ r.2.mem ((c.tc : Thread Cert.EvOutBwd.nD Cert.EvOutBwd.τ).loc Cert.EvOutBwd.main_arg9) = m ((c.tc : Thread Cert.EvOutBwd.nD Cert.EvOutBwd.τ).loc Cert.EvOutBwd.main_arg9)
      ∧ r.2.mem ((c.tc : Thread Cert.EvOutBwd.nD Cert.EvOutBwd.τ).loc Cert.EvOutBwd.main_arg10) = m ((c.tc : Thread Cert.EvOutBwd.nD Cert.EvOutBwd.τ).loc Cert.EvOutBwd.main_arg10)
      ∧ r.2.mem ((c.tc : Thread Cert.EvOutBwd.nD Cert.EvOutBwd.τ).loc Cert.EvOutBwd.main_arg11) = m ((c.tc : Thread Cert.EvOutBwd.nD Cert.EvOutBwd.τ).loc Cert.EvOutBwd.main_arg11))
      ∧ r.2.sem = fun _ => 0)

def quiescent_EvOutBwdIdeal [hEvOutBwdIdeal : Cert.EvOutBwdIdeal.Facts] : Prop :=
  ∀ (m : (ℓ : Loc Cert.EvOutBwdIdeal.nD Cert.EvOutBwdIdeal.τ Cert.EvOutBwdIdeal.sig) → Buf (Elt Ideal) ℓ) (g : Dev Cert.EvOutBwdIdeal.nD → PrngReg), Pre_EvOutBwdIdeal m →
    θ_run (Cert.EvOutBwdIdeal.defs (F := Ideal)) (onTc (τ := Cert.EvOutBwdIdeal.τ) (Cert.EvOutBwdIdeal.main (F := Ideal))) ⟨m, fun _ => 0, g⟩ (fun r => (∀ c : Dev Cert.EvOutBwdIdeal.nD,
      r.2.mem ((c.tc : Thread Cert.EvOutBwdIdeal.nD Cert.EvOutBwdIdeal.τ).loc Cert.EvOutBwdIdeal.main_arg0) = m ((c.tc : Thread Cert.EvOutBwdIdeal.nD Cert.EvOutBwdIdeal.τ).loc Cert.EvOutBwdIdeal.main_arg0)
      ∧ r.2.mem ((c.tc : Thread Cert.EvOutBwdIdeal.nD Cert.EvOutBwdIdeal.τ).loc Cert.EvOutBwdIdeal.main_arg1) = m ((c.tc : Thread Cert.EvOutBwdIdeal.nD Cert.EvOutBwdIdeal.τ).loc Cert.EvOutBwdIdeal.main_arg1)
      ∧ r.2.mem ((c.tc : Thread Cert.EvOutBwdIdeal.nD Cert.EvOutBwdIdeal.τ).loc Cert.EvOutBwdIdeal.main_arg2) = m ((c.tc : Thread Cert.EvOutBwdIdeal.nD Cert.EvOutBwdIdeal.τ).loc Cert.EvOutBwdIdeal.main_arg2)
      ∧ r.2.mem ((c.tc : Thread Cert.EvOutBwdIdeal.nD Cert.EvOutBwdIdeal.τ).loc Cert.EvOutBwdIdeal.main_arg3) = m ((c.tc : Thread Cert.EvOutBwdIdeal.nD Cert.EvOutBwdIdeal.τ).loc Cert.EvOutBwdIdeal.main_arg3)
      ∧ r.2.mem ((c.tc : Thread Cert.EvOutBwdIdeal.nD Cert.EvOutBwdIdeal.τ).loc Cert.EvOutBwdIdeal.main_arg4) = m ((c.tc : Thread Cert.EvOutBwdIdeal.nD Cert.EvOutBwdIdeal.τ).loc Cert.EvOutBwdIdeal.main_arg4)
      ∧ r.2.mem ((c.tc : Thread Cert.EvOutBwdIdeal.nD Cert.EvOutBwdIdeal.τ).loc Cert.EvOutBwdIdeal.main_arg5) = m ((c.tc : Thread Cert.EvOutBwdIdeal.nD Cert.EvOutBwdIdeal.τ).loc Cert.EvOutBwdIdeal.main_arg5)
      ∧ r.2.mem ((c.tc : Thread Cert.EvOutBwdIdeal.nD Cert.EvOutBwdIdeal.τ).loc Cert.EvOutBwdIdeal.main_arg6) = m ((c.tc : Thread Cert.EvOutBwdIdeal.nD Cert.EvOutBwdIdeal.τ).loc Cert.EvOutBwdIdeal.main_arg6)
      ∧ r.2.mem ((c.tc : Thread Cert.EvOutBwdIdeal.nD Cert.EvOutBwdIdeal.τ).loc Cert.EvOutBwdIdeal.main_arg7) = m ((c.tc : Thread Cert.EvOutBwdIdeal.nD Cert.EvOutBwdIdeal.τ).loc Cert.EvOutBwdIdeal.main_arg7)
      ∧ r.2.mem ((c.tc : Thread Cert.EvOutBwdIdeal.nD Cert.EvOutBwdIdeal.τ).loc Cert.EvOutBwdIdeal.main_arg8) = m ((c.tc : Thread Cert.EvOutBwdIdeal.nD Cert.EvOutBwdIdeal.τ).loc Cert.EvOutBwdIdeal.main_arg8)
      ∧ r.2.mem ((c.tc : Thread Cert.EvOutBwdIdeal.nD Cert.EvOutBwdIdeal.τ).loc Cert.EvOutBwdIdeal.main_arg9) = m ((c.tc : Thread Cert.EvOutBwdIdeal.nD Cert.EvOutBwdIdeal.τ).loc Cert.EvOutBwdIdeal.main_arg9)
      ∧ r.2.mem ((c.tc : Thread Cert.EvOutBwdIdeal.nD Cert.EvOutBwdIdeal.τ).loc Cert.EvOutBwdIdeal.main_arg10) = m ((c.tc : Thread Cert.EvOutBwdIdeal.nD Cert.EvOutBwdIdeal.τ).loc Cert.EvOutBwdIdeal.main_arg10)
      ∧ r.2.mem ((c.tc : Thread Cert.EvOutBwdIdeal.nD Cert.EvOutBwdIdeal.τ).loc Cert.EvOutBwdIdeal.main_arg11) = m ((c.tc : Thread Cert.EvOutBwdIdeal.nD Cert.EvOutBwdIdeal.τ).loc Cert.EvOutBwdIdeal.main_arg11))
      ∧ r.2.sem = fun _ => 0)

def quiescent_EvOutBwdRefIdeal [hEvOutBwdRefIdeal : Cert.EvOutBwdRefIdeal.Facts] : Prop :=
  ∀ (m : (ℓ : Loc Cert.EvOutBwdRefIdeal.nD Cert.EvOutBwdRefIdeal.τ Cert.EvOutBwdRefIdeal.sig) → Buf (Elt Ideal) ℓ) (g : Dev Cert.EvOutBwdRefIdeal.nD → PrngReg), Pre_EvOutBwdRefIdeal m →
    θ_run (Cert.EvOutBwdRefIdeal.defs (F := Ideal)) (onTc (τ := Cert.EvOutBwdRefIdeal.τ) (Cert.EvOutBwdRefIdeal.main (F := Ideal))) ⟨m, fun _ => 0, g⟩ (fun r => (∀ c : Dev Cert.EvOutBwdRefIdeal.nD,
      r.2.mem ((c.tc : Thread Cert.EvOutBwdRefIdeal.nD Cert.EvOutBwdRefIdeal.τ).loc Cert.EvOutBwdRefIdeal.main_arg0) = m ((c.tc : Thread Cert.EvOutBwdRefIdeal.nD Cert.EvOutBwdRefIdeal.τ).loc Cert.EvOutBwdRefIdeal.main_arg0)
      ∧ r.2.mem ((c.tc : Thread Cert.EvOutBwdRefIdeal.nD Cert.EvOutBwdRefIdeal.τ).loc Cert.EvOutBwdRefIdeal.main_arg1) = m ((c.tc : Thread Cert.EvOutBwdRefIdeal.nD Cert.EvOutBwdRefIdeal.τ).loc Cert.EvOutBwdRefIdeal.main_arg1)
      ∧ r.2.mem ((c.tc : Thread Cert.EvOutBwdRefIdeal.nD Cert.EvOutBwdRefIdeal.τ).loc Cert.EvOutBwdRefIdeal.main_arg2) = m ((c.tc : Thread Cert.EvOutBwdRefIdeal.nD Cert.EvOutBwdRefIdeal.τ).loc Cert.EvOutBwdRefIdeal.main_arg2)
      ∧ r.2.mem ((c.tc : Thread Cert.EvOutBwdRefIdeal.nD Cert.EvOutBwdRefIdeal.τ).loc Cert.EvOutBwdRefIdeal.main_arg3) = m ((c.tc : Thread Cert.EvOutBwdRefIdeal.nD Cert.EvOutBwdRefIdeal.τ).loc Cert.EvOutBwdRefIdeal.main_arg3)
      ∧ r.2.mem ((c.tc : Thread Cert.EvOutBwdRefIdeal.nD Cert.EvOutBwdRefIdeal.τ).loc Cert.EvOutBwdRefIdeal.main_arg4) = m ((c.tc : Thread Cert.EvOutBwdRefIdeal.nD Cert.EvOutBwdRefIdeal.τ).loc Cert.EvOutBwdRefIdeal.main_arg4)
      ∧ r.2.mem ((c.tc : Thread Cert.EvOutBwdRefIdeal.nD Cert.EvOutBwdRefIdeal.τ).loc Cert.EvOutBwdRefIdeal.main_arg5) = m ((c.tc : Thread Cert.EvOutBwdRefIdeal.nD Cert.EvOutBwdRefIdeal.τ).loc Cert.EvOutBwdRefIdeal.main_arg5)
      ∧ r.2.mem ((c.tc : Thread Cert.EvOutBwdRefIdeal.nD Cert.EvOutBwdRefIdeal.τ).loc Cert.EvOutBwdRefIdeal.main_arg6) = m ((c.tc : Thread Cert.EvOutBwdRefIdeal.nD Cert.EvOutBwdRefIdeal.τ).loc Cert.EvOutBwdRefIdeal.main_arg6)
      ∧ r.2.mem ((c.tc : Thread Cert.EvOutBwdRefIdeal.nD Cert.EvOutBwdRefIdeal.τ).loc Cert.EvOutBwdRefIdeal.main_arg7) = m ((c.tc : Thread Cert.EvOutBwdRefIdeal.nD Cert.EvOutBwdRefIdeal.τ).loc Cert.EvOutBwdRefIdeal.main_arg7)
      ∧ r.2.mem ((c.tc : Thread Cert.EvOutBwdRefIdeal.nD Cert.EvOutBwdRefIdeal.τ).loc Cert.EvOutBwdRefIdeal.main_arg8) = m ((c.tc : Thread Cert.EvOutBwdRefIdeal.nD Cert.EvOutBwdRefIdeal.τ).loc Cert.EvOutBwdRefIdeal.main_arg8)
      ∧ r.2.mem ((c.tc : Thread Cert.EvOutBwdRefIdeal.nD Cert.EvOutBwdRefIdeal.τ).loc Cert.EvOutBwdRefIdeal.main_arg9) = m ((c.tc : Thread Cert.EvOutBwdRefIdeal.nD Cert.EvOutBwdRefIdeal.τ).loc Cert.EvOutBwdRefIdeal.main_arg9)
      ∧ r.2.mem ((c.tc : Thread Cert.EvOutBwdRefIdeal.nD Cert.EvOutBwdRefIdeal.τ).loc Cert.EvOutBwdRefIdeal.main_arg10) = m ((c.tc : Thread Cert.EvOutBwdRefIdeal.nD Cert.EvOutBwdRefIdeal.τ).loc Cert.EvOutBwdRefIdeal.main_arg10)
      ∧ r.2.mem ((c.tc : Thread Cert.EvOutBwdRefIdeal.nD Cert.EvOutBwdRefIdeal.τ).loc Cert.EvOutBwdRefIdeal.main_arg11) = m ((c.tc : Thread Cert.EvOutBwdRefIdeal.nD Cert.EvOutBwdRefIdeal.τ).loc Cert.EvOutBwdRefIdeal.main_arg11))
      ∧ r.2.sem = fun _ => 0)

def quiescent_XaBwd [hXaBwd : Cert.XaBwd.Facts] : Prop :=
  ∀ (m : (ℓ : Loc Cert.XaBwd.nD Cert.XaBwd.τ Cert.XaBwd.sig) → Buf (Elt Bits) ℓ) (g : Dev Cert.XaBwd.nD → PrngReg), Pre_XaBwd m →
    θ_run (Cert.XaBwd.defs (F := Bits)) (onTc (τ := Cert.XaBwd.τ) (Cert.XaBwd.main (F := Bits))) ⟨m, fun _ => 0, g⟩ (fun r => (∀ c : Dev Cert.XaBwd.nD,
      r.2.mem ((c.tc : Thread Cert.XaBwd.nD Cert.XaBwd.τ).loc Cert.XaBwd.main_arg0) = m ((c.tc : Thread Cert.XaBwd.nD Cert.XaBwd.τ).loc Cert.XaBwd.main_arg0)
      ∧ r.2.mem ((c.tc : Thread Cert.XaBwd.nD Cert.XaBwd.τ).loc Cert.XaBwd.main_arg1) = m ((c.tc : Thread Cert.XaBwd.nD Cert.XaBwd.τ).loc Cert.XaBwd.main_arg1)
      ∧ r.2.mem ((c.tc : Thread Cert.XaBwd.nD Cert.XaBwd.τ).loc Cert.XaBwd.main_arg2) = m ((c.tc : Thread Cert.XaBwd.nD Cert.XaBwd.τ).loc Cert.XaBwd.main_arg2)
      ∧ r.2.mem ((c.tc : Thread Cert.XaBwd.nD Cert.XaBwd.τ).loc Cert.XaBwd.main_arg3) = m ((c.tc : Thread Cert.XaBwd.nD Cert.XaBwd.τ).loc Cert.XaBwd.main_arg3)
      ∧ r.2.mem ((c.tc : Thread Cert.XaBwd.nD Cert.XaBwd.τ).loc Cert.XaBwd.main_arg4) = m ((c.tc : Thread Cert.XaBwd.nD Cert.XaBwd.τ).loc Cert.XaBwd.main_arg4)
      ∧ r.2.mem ((c.tc : Thread Cert.XaBwd.nD Cert.XaBwd.τ).loc Cert.XaBwd.main_arg5) = m ((c.tc : Thread Cert.XaBwd.nD Cert.XaBwd.τ).loc Cert.XaBwd.main_arg5))
      ∧ r.2.sem = fun _ => 0)

def quiescent_XaBwdIdeal [hXaBwdIdeal : Cert.XaBwdIdeal.Facts] : Prop :=
  ∀ (m : (ℓ : Loc Cert.XaBwdIdeal.nD Cert.XaBwdIdeal.τ Cert.XaBwdIdeal.sig) → Buf (Elt Ideal) ℓ) (g : Dev Cert.XaBwdIdeal.nD → PrngReg), Pre_XaBwdIdeal m →
    θ_run (Cert.XaBwdIdeal.defs (F := Ideal)) (onTc (τ := Cert.XaBwdIdeal.τ) (Cert.XaBwdIdeal.main (F := Ideal))) ⟨m, fun _ => 0, g⟩ (fun r => (∀ c : Dev Cert.XaBwdIdeal.nD,
      r.2.mem ((c.tc : Thread Cert.XaBwdIdeal.nD Cert.XaBwdIdeal.τ).loc Cert.XaBwdIdeal.main_arg0) = m ((c.tc : Thread Cert.XaBwdIdeal.nD Cert.XaBwdIdeal.τ).loc Cert.XaBwdIdeal.main_arg0)
      ∧ r.2.mem ((c.tc : Thread Cert.XaBwdIdeal.nD Cert.XaBwdIdeal.τ).loc Cert.XaBwdIdeal.main_arg1) = m ((c.tc : Thread Cert.XaBwdIdeal.nD Cert.XaBwdIdeal.τ).loc Cert.XaBwdIdeal.main_arg1)
      ∧ r.2.mem ((c.tc : Thread Cert.XaBwdIdeal.nD Cert.XaBwdIdeal.τ).loc Cert.XaBwdIdeal.main_arg2) = m ((c.tc : Thread Cert.XaBwdIdeal.nD Cert.XaBwdIdeal.τ).loc Cert.XaBwdIdeal.main_arg2)
      ∧ r.2.mem ((c.tc : Thread Cert.XaBwdIdeal.nD Cert.XaBwdIdeal.τ).loc Cert.XaBwdIdeal.main_arg3) = m ((c.tc : Thread Cert.XaBwdIdeal.nD Cert.XaBwdIdeal.τ).loc Cert.XaBwdIdeal.main_arg3)
      ∧ r.2.mem ((c.tc : Thread Cert.XaBwdIdeal.nD Cert.XaBwdIdeal.τ).loc Cert.XaBwdIdeal.main_arg4) = m ((c.tc : Thread Cert.XaBwdIdeal.nD Cert.XaBwdIdeal.τ).loc Cert.XaBwdIdeal.main_arg4)
      ∧ r.2.mem ((c.tc : Thread Cert.XaBwdIdeal.nD Cert.XaBwdIdeal.τ).loc Cert.XaBwdIdeal.main_arg5) = m ((c.tc : Thread Cert.XaBwdIdeal.nD Cert.XaBwdIdeal.τ).loc Cert.XaBwdIdeal.main_arg5))
      ∧ r.2.sem = fun _ => 0)

def quiescent_XaBwdRefIdeal [hXaBwdRefIdeal : Cert.XaBwdRefIdeal.Facts] : Prop :=
  ∀ (m : (ℓ : Loc Cert.XaBwdRefIdeal.nD Cert.XaBwdRefIdeal.τ Cert.XaBwdRefIdeal.sig) → Buf (Elt Ideal) ℓ) (g : Dev Cert.XaBwdRefIdeal.nD → PrngReg), Pre_XaBwdRefIdeal m →
    θ_run (Cert.XaBwdRefIdeal.defs (F := Ideal)) (onTc (τ := Cert.XaBwdRefIdeal.τ) (Cert.XaBwdRefIdeal.main (F := Ideal))) ⟨m, fun _ => 0, g⟩ (fun r => (∀ c : Dev Cert.XaBwdRefIdeal.nD,
      r.2.mem ((c.tc : Thread Cert.XaBwdRefIdeal.nD Cert.XaBwdRefIdeal.τ).loc Cert.XaBwdRefIdeal.main_arg0) = m ((c.tc : Thread Cert.XaBwdRefIdeal.nD Cert.XaBwdRefIdeal.τ).loc Cert.XaBwdRefIdeal.main_arg0)
      ∧ r.2.mem ((c.tc : Thread Cert.XaBwdRefIdeal.nD Cert.XaBwdRefIdeal.τ).loc Cert.XaBwdRefIdeal.main_arg1) = m ((c.tc : Thread Cert.XaBwdRefIdeal.nD Cert.XaBwdRefIdeal.τ).loc Cert.XaBwdRefIdeal.main_arg1)
      ∧ r.2.mem ((c.tc : Thread Cert.XaBwdRefIdeal.nD Cert.XaBwdRefIdeal.τ).loc Cert.XaBwdRefIdeal.main_arg2) = m ((c.tc : Thread Cert.XaBwdRefIdeal.nD Cert.XaBwdRefIdeal.τ).loc Cert.XaBwdRefIdeal.main_arg2)
      ∧ r.2.mem ((c.tc : Thread Cert.XaBwdRefIdeal.nD Cert.XaBwdRefIdeal.τ).loc Cert.XaBwdRefIdeal.main_arg3) = m ((c.tc : Thread Cert.XaBwdRefIdeal.nD Cert.XaBwdRefIdeal.τ).loc Cert.XaBwdRefIdeal.main_arg3)
      ∧ r.2.mem ((c.tc : Thread Cert.XaBwdRefIdeal.nD Cert.XaBwdRefIdeal.τ).loc Cert.XaBwdRefIdeal.main_arg4) = m ((c.tc : Thread Cert.XaBwdRefIdeal.nD Cert.XaBwdRefIdeal.τ).loc Cert.XaBwdRefIdeal.main_arg4)
      ∧ r.2.mem ((c.tc : Thread Cert.XaBwdRefIdeal.nD Cert.XaBwdRefIdeal.τ).loc Cert.XaBwdRefIdeal.main_arg5) = m ((c.tc : Thread Cert.XaBwdRefIdeal.nD Cert.XaBwdRefIdeal.τ).loc Cert.XaBwdRefIdeal.main_arg5))
      ∧ r.2.sem = fun _ => 0)

def quiescent_GatedOutFwd [hGatedOutFwd : Cert.GatedOutFwd.Facts] : Prop :=
  ∀ (m : (ℓ : Loc Cert.GatedOutFwd.nD Cert.GatedOutFwd.τ Cert.GatedOutFwd.sig) → Buf (Elt Bits) ℓ) (g : Dev Cert.GatedOutFwd.nD → PrngReg), Pre_GatedOutFwd m →
    θ_run (Cert.GatedOutFwd.defs (F := Bits)) (onTc (τ := Cert.GatedOutFwd.τ) (Cert.GatedOutFwd.main (F := Bits))) ⟨m, fun _ => 0, g⟩ (fun r => (∀ c : Dev Cert.GatedOutFwd.nD,
      r.2.mem ((c.tc : Thread Cert.GatedOutFwd.nD Cert.GatedOutFwd.τ).loc Cert.GatedOutFwd.main_arg0) = m ((c.tc : Thread Cert.GatedOutFwd.nD Cert.GatedOutFwd.τ).loc Cert.GatedOutFwd.main_arg0)
      ∧ r.2.mem ((c.tc : Thread Cert.GatedOutFwd.nD Cert.GatedOutFwd.τ).loc Cert.GatedOutFwd.main_arg1) = m ((c.tc : Thread Cert.GatedOutFwd.nD Cert.GatedOutFwd.τ).loc Cert.GatedOutFwd.main_arg1)
      ∧ r.2.mem ((c.tc : Thread Cert.GatedOutFwd.nD Cert.GatedOutFwd.τ).loc Cert.GatedOutFwd.main_arg2) = m ((c.tc : Thread Cert.GatedOutFwd.nD Cert.GatedOutFwd.τ).loc Cert.GatedOutFwd.main_arg2)
      ∧ r.2.mem ((c.tc : Thread Cert.GatedOutFwd.nD Cert.GatedOutFwd.τ).loc Cert.GatedOutFwd.main_arg3) = m ((c.tc : Thread Cert.GatedOutFwd.nD Cert.GatedOutFwd.τ).loc Cert.GatedOutFwd.main_arg3))
      ∧ r.2.sem = fun _ => 0)

def quiescent_GatedOutFwdIdeal [hGatedOutFwdIdeal : Cert.GatedOutFwdIdeal.Facts] : Prop :=
  ∀ (m : (ℓ : Loc Cert.GatedOutFwdIdeal.nD Cert.GatedOutFwdIdeal.τ Cert.GatedOutFwdIdeal.sig) → Buf (Elt Ideal) ℓ) (g : Dev Cert.GatedOutFwdIdeal.nD → PrngReg), Pre_GatedOutFwdIdeal m →
    θ_run (Cert.GatedOutFwdIdeal.defs (F := Ideal)) (onTc (τ := Cert.GatedOutFwdIdeal.τ) (Cert.GatedOutFwdIdeal.main (F := Ideal))) ⟨m, fun _ => 0, g⟩ (fun r => (∀ c : Dev Cert.GatedOutFwdIdeal.nD,
      r.2.mem ((c.tc : Thread Cert.GatedOutFwdIdeal.nD Cert.GatedOutFwdIdeal.τ).loc Cert.GatedOutFwdIdeal.main_arg0) = m ((c.tc : Thread Cert.GatedOutFwdIdeal.nD Cert.GatedOutFwdIdeal.τ).loc Cert.GatedOutFwdIdeal.main_arg0)
      ∧ r.2.mem ((c.tc : Thread Cert.GatedOutFwdIdeal.nD Cert.GatedOutFwdIdeal.τ).loc Cert.GatedOutFwdIdeal.main_arg1) = m ((c.tc : Thread Cert.GatedOutFwdIdeal.nD Cert.GatedOutFwdIdeal.τ).loc Cert.GatedOutFwdIdeal.main_arg1)
      ∧ r.2.mem ((c.tc : Thread Cert.GatedOutFwdIdeal.nD Cert.GatedOutFwdIdeal.τ).loc Cert.GatedOutFwdIdeal.main_arg2) = m ((c.tc : Thread Cert.GatedOutFwdIdeal.nD Cert.GatedOutFwdIdeal.τ).loc Cert.GatedOutFwdIdeal.main_arg2)
      ∧ r.2.mem ((c.tc : Thread Cert.GatedOutFwdIdeal.nD Cert.GatedOutFwdIdeal.τ).loc Cert.GatedOutFwdIdeal.main_arg3) = m ((c.tc : Thread Cert.GatedOutFwdIdeal.nD Cert.GatedOutFwdIdeal.τ).loc Cert.GatedOutFwdIdeal.main_arg3))
      ∧ r.2.sem = fun _ => 0)

def quiescent_GatedOutFwdRefIdeal [hGatedOutFwdRefIdeal : Cert.GatedOutFwdRefIdeal.Facts] : Prop :=
  ∀ (m : (ℓ : Loc Cert.GatedOutFwdRefIdeal.nD Cert.GatedOutFwdRefIdeal.τ Cert.GatedOutFwdRefIdeal.sig) → Buf (Elt Ideal) ℓ) (g : Dev Cert.GatedOutFwdRefIdeal.nD → PrngReg), Pre_GatedOutFwdRefIdeal m →
    θ_run (Cert.GatedOutFwdRefIdeal.defs (F := Ideal)) (onTc (τ := Cert.GatedOutFwdRefIdeal.τ) (Cert.GatedOutFwdRefIdeal.main (F := Ideal))) ⟨m, fun _ => 0, g⟩ (fun r => (∀ c : Dev Cert.GatedOutFwdRefIdeal.nD,
      r.2.mem ((c.tc : Thread Cert.GatedOutFwdRefIdeal.nD Cert.GatedOutFwdRefIdeal.τ).loc Cert.GatedOutFwdRefIdeal.main_arg0) = m ((c.tc : Thread Cert.GatedOutFwdRefIdeal.nD Cert.GatedOutFwdRefIdeal.τ).loc Cert.GatedOutFwdRefIdeal.main_arg0)
      ∧ r.2.mem ((c.tc : Thread Cert.GatedOutFwdRefIdeal.nD Cert.GatedOutFwdRefIdeal.τ).loc Cert.GatedOutFwdRefIdeal.main_arg1) = m ((c.tc : Thread Cert.GatedOutFwdRefIdeal.nD Cert.GatedOutFwdRefIdeal.τ).loc Cert.GatedOutFwdRefIdeal.main_arg1)
      ∧ r.2.mem ((c.tc : Thread Cert.GatedOutFwdRefIdeal.nD Cert.GatedOutFwdRefIdeal.τ).loc Cert.GatedOutFwdRefIdeal.main_arg2) = m ((c.tc : Thread Cert.GatedOutFwdRefIdeal.nD Cert.GatedOutFwdRefIdeal.τ).loc Cert.GatedOutFwdRefIdeal.main_arg2)
      ∧ r.2.mem ((c.tc : Thread Cert.GatedOutFwdRefIdeal.nD Cert.GatedOutFwdRefIdeal.τ).loc Cert.GatedOutFwdRefIdeal.main_arg3) = m ((c.tc : Thread Cert.GatedOutFwdRefIdeal.nD Cert.GatedOutFwdRefIdeal.τ).loc Cert.GatedOutFwdRefIdeal.main_arg3))
      ∧ r.2.sem = fun _ => 0)

def quiescent_OdInFwd [hOdInFwd : Cert.OdInFwd.Facts] : Prop :=
  ∀ (m : (ℓ : Loc Cert.OdInFwd.nD Cert.OdInFwd.τ Cert.OdInFwd.sig) → Buf (Elt Bits) ℓ) (g : Dev Cert.OdInFwd.nD → PrngReg), Pre_OdInFwd m →
    θ_run (Cert.OdInFwd.defs (F := Bits)) (onTc (τ := Cert.OdInFwd.τ) (Cert.OdInFwd.main (F := Bits))) ⟨m, fun _ => 0, g⟩ (fun r => (∀ c : Dev Cert.OdInFwd.nD,
      r.2.mem ((c.tc : Thread Cert.OdInFwd.nD Cert.OdInFwd.τ).loc Cert.OdInFwd.main_arg0) = m ((c.tc : Thread Cert.OdInFwd.nD Cert.OdInFwd.τ).loc Cert.OdInFwd.main_arg0)
      ∧ r.2.mem ((c.tc : Thread Cert.OdInFwd.nD Cert.OdInFwd.τ).loc Cert.OdInFwd.main_arg1) = m ((c.tc : Thread Cert.OdInFwd.nD Cert.OdInFwd.τ).loc Cert.OdInFwd.main_arg1)
      ∧ r.2.mem ((c.tc : Thread Cert.OdInFwd.nD Cert.OdInFwd.τ).loc Cert.OdInFwd.main_arg2) = m ((c.tc : Thread Cert.OdInFwd.nD Cert.OdInFwd.τ).loc Cert.OdInFwd.main_arg2))
      ∧ r.2.sem = fun _ => 0)

def quiescent_OdInFwdIdeal [hOdInFwdIdeal : Cert.OdInFwdIdeal.Facts] : Prop :=
  ∀ (m : (ℓ : Loc Cert.OdInFwdIdeal.nD Cert.OdInFwdIdeal.τ Cert.OdInFwdIdeal.sig) → Buf (Elt Ideal) ℓ) (g : Dev Cert.OdInFwdIdeal.nD → PrngReg), Pre_OdInFwdIdeal m →
    θ_run (Cert.OdInFwdIdeal.defs (F := Ideal)) (onTc (τ := Cert.OdInFwdIdeal.τ) (Cert.OdInFwdIdeal.main (F := Ideal))) ⟨m, fun _ => 0, g⟩ (fun r => (∀ c : Dev Cert.OdInFwdIdeal.nD,
      r.2.mem ((c.tc : Thread Cert.OdInFwdIdeal.nD Cert.OdInFwdIdeal.τ).loc Cert.OdInFwdIdeal.main_arg0) = m ((c.tc : Thread Cert.OdInFwdIdeal.nD Cert.OdInFwdIdeal.τ).loc Cert.OdInFwdIdeal.main_arg0)
      ∧ r.2.mem ((c.tc : Thread Cert.OdInFwdIdeal.nD Cert.OdInFwdIdeal.τ).loc Cert.OdInFwdIdeal.main_arg1) = m ((c.tc : Thread Cert.OdInFwdIdeal.nD Cert.OdInFwdIdeal.τ).loc Cert.OdInFwdIdeal.main_arg1)
      ∧ r.2.mem ((c.tc : Thread Cert.OdInFwdIdeal.nD Cert.OdInFwdIdeal.τ).loc Cert.OdInFwdIdeal.main_arg2) = m ((c.tc : Thread Cert.OdInFwdIdeal.nD Cert.OdInFwdIdeal.τ).loc Cert.OdInFwdIdeal.main_arg2))
      ∧ r.2.sem = fun _ => 0)

def quiescent_OdInFwdRefIdeal [hOdInFwdRefIdeal : Cert.OdInFwdRefIdeal.Facts] : Prop :=
  ∀ (m : (ℓ : Loc Cert.OdInFwdRefIdeal.nD Cert.OdInFwdRefIdeal.τ Cert.OdInFwdRefIdeal.sig) → Buf (Elt Ideal) ℓ) (g : Dev Cert.OdInFwdRefIdeal.nD → PrngReg), Pre_OdInFwdRefIdeal m →
    θ_run (Cert.OdInFwdRefIdeal.defs (F := Ideal)) (onTc (τ := Cert.OdInFwdRefIdeal.τ) (Cert.OdInFwdRefIdeal.main (F := Ideal))) ⟨m, fun _ => 0, g⟩ (fun r => (∀ c : Dev Cert.OdInFwdRefIdeal.nD,
      r.2.mem ((c.tc : Thread Cert.OdInFwdRefIdeal.nD Cert.OdInFwdRefIdeal.τ).loc Cert.OdInFwdRefIdeal.main_arg0) = m ((c.tc : Thread Cert.OdInFwdRefIdeal.nD Cert.OdInFwdRefIdeal.τ).loc Cert.OdInFwdRefIdeal.main_arg0)
      ∧ r.2.mem ((c.tc : Thread Cert.OdInFwdRefIdeal.nD Cert.OdInFwdRefIdeal.τ).loc Cert.OdInFwdRefIdeal.main_arg1) = m ((c.tc : Thread Cert.OdInFwdRefIdeal.nD Cert.OdInFwdRefIdeal.τ).loc Cert.OdInFwdRefIdeal.main_arg1)
      ∧ r.2.mem ((c.tc : Thread Cert.OdInFwdRefIdeal.nD Cert.OdInFwdRefIdeal.τ).loc Cert.OdInFwdRefIdeal.main_arg2) = m ((c.tc : Thread Cert.OdInFwdRefIdeal.nD Cert.OdInFwdRefIdeal.τ).loc Cert.OdInFwdRefIdeal.main_arg2))
      ∧ r.2.sem = fun _ => 0)

def quiescent_EvInFwd [hEvInFwd : Cert.EvInFwd.Facts] : Prop :=
  ∀ (m : (ℓ : Loc Cert.EvInFwd.nD Cert.EvInFwd.τ Cert.EvInFwd.sig) → Buf (Elt Bits) ℓ) (g : Dev Cert.EvInFwd.nD → PrngReg), Pre_EvInFwd m →
    θ_run (Cert.EvInFwd.defs (F := Bits)) (onTc (τ := Cert.EvInFwd.τ) (Cert.EvInFwd.main (F := Bits))) ⟨m, fun _ => 0, g⟩ (fun r => (∀ c : Dev Cert.EvInFwd.nD,
      r.2.mem ((c.tc : Thread Cert.EvInFwd.nD Cert.EvInFwd.τ).loc Cert.EvInFwd.main_arg0) = m ((c.tc : Thread Cert.EvInFwd.nD Cert.EvInFwd.τ).loc Cert.EvInFwd.main_arg0)
      ∧ r.2.mem ((c.tc : Thread Cert.EvInFwd.nD Cert.EvInFwd.τ).loc Cert.EvInFwd.main_arg1) = m ((c.tc : Thread Cert.EvInFwd.nD Cert.EvInFwd.τ).loc Cert.EvInFwd.main_arg1)
      ∧ r.2.mem ((c.tc : Thread Cert.EvInFwd.nD Cert.EvInFwd.τ).loc Cert.EvInFwd.main_arg2) = m ((c.tc : Thread Cert.EvInFwd.nD Cert.EvInFwd.τ).loc Cert.EvInFwd.main_arg2))
      ∧ r.2.sem = fun _ => 0)

def quiescent_EvInFwdIdeal [hEvInFwdIdeal : Cert.EvInFwdIdeal.Facts] : Prop :=
  ∀ (m : (ℓ : Loc Cert.EvInFwdIdeal.nD Cert.EvInFwdIdeal.τ Cert.EvInFwdIdeal.sig) → Buf (Elt Ideal) ℓ) (g : Dev Cert.EvInFwdIdeal.nD → PrngReg), Pre_EvInFwdIdeal m →
    θ_run (Cert.EvInFwdIdeal.defs (F := Ideal)) (onTc (τ := Cert.EvInFwdIdeal.τ) (Cert.EvInFwdIdeal.main (F := Ideal))) ⟨m, fun _ => 0, g⟩ (fun r => (∀ c : Dev Cert.EvInFwdIdeal.nD,
      r.2.mem ((c.tc : Thread Cert.EvInFwdIdeal.nD Cert.EvInFwdIdeal.τ).loc Cert.EvInFwdIdeal.main_arg0) = m ((c.tc : Thread Cert.EvInFwdIdeal.nD Cert.EvInFwdIdeal.τ).loc Cert.EvInFwdIdeal.main_arg0)
      ∧ r.2.mem ((c.tc : Thread Cert.EvInFwdIdeal.nD Cert.EvInFwdIdeal.τ).loc Cert.EvInFwdIdeal.main_arg1) = m ((c.tc : Thread Cert.EvInFwdIdeal.nD Cert.EvInFwdIdeal.τ).loc Cert.EvInFwdIdeal.main_arg1)
      ∧ r.2.mem ((c.tc : Thread Cert.EvInFwdIdeal.nD Cert.EvInFwdIdeal.τ).loc Cert.EvInFwdIdeal.main_arg2) = m ((c.tc : Thread Cert.EvInFwdIdeal.nD Cert.EvInFwdIdeal.τ).loc Cert.EvInFwdIdeal.main_arg2))
      ∧ r.2.sem = fun _ => 0)

def quiescent_EvInFwdRefIdeal [hEvInFwdRefIdeal : Cert.EvInFwdRefIdeal.Facts] : Prop :=
  ∀ (m : (ℓ : Loc Cert.EvInFwdRefIdeal.nD Cert.EvInFwdRefIdeal.τ Cert.EvInFwdRefIdeal.sig) → Buf (Elt Ideal) ℓ) (g : Dev Cert.EvInFwdRefIdeal.nD → PrngReg), Pre_EvInFwdRefIdeal m →
    θ_run (Cert.EvInFwdRefIdeal.defs (F := Ideal)) (onTc (τ := Cert.EvInFwdRefIdeal.τ) (Cert.EvInFwdRefIdeal.main (F := Ideal))) ⟨m, fun _ => 0, g⟩ (fun r => (∀ c : Dev Cert.EvInFwdRefIdeal.nD,
      r.2.mem ((c.tc : Thread Cert.EvInFwdRefIdeal.nD Cert.EvInFwdRefIdeal.τ).loc Cert.EvInFwdRefIdeal.main_arg0) = m ((c.tc : Thread Cert.EvInFwdRefIdeal.nD Cert.EvInFwdRefIdeal.τ).loc Cert.EvInFwdRefIdeal.main_arg0)
      ∧ r.2.mem ((c.tc : Thread Cert.EvInFwdRefIdeal.nD Cert.EvInFwdRefIdeal.τ).loc Cert.EvInFwdRefIdeal.main_arg1) = m ((c.tc : Thread Cert.EvInFwdRefIdeal.nD Cert.EvInFwdRefIdeal.τ).loc Cert.EvInFwdRefIdeal.main_arg1)
      ∧ r.2.mem ((c.tc : Thread Cert.EvInFwdRefIdeal.nD Cert.EvInFwdRefIdeal.τ).loc Cert.EvInFwdRefIdeal.main_arg2) = m ((c.tc : Thread Cert.EvInFwdRefIdeal.nD Cert.EvInFwdRefIdeal.τ).loc Cert.EvInFwdRefIdeal.main_arg2))
      ∧ r.2.sem = fun _ => 0)

def quiescent_XaFwd [hXaFwd : Cert.XaFwd.Facts] : Prop :=
  ∀ (m : (ℓ : Loc Cert.XaFwd.nD Cert.XaFwd.τ Cert.XaFwd.sig) → Buf (Elt Bits) ℓ) (g : Dev Cert.XaFwd.nD → PrngReg), Pre_XaFwd m →
    θ_run (Cert.XaFwd.defs (F := Bits)) (onTc (τ := Cert.XaFwd.τ) (Cert.XaFwd.main (F := Bits))) ⟨m, fun _ => 0, g⟩ (fun r => (∀ c : Dev Cert.XaFwd.nD,
      r.2.mem ((c.tc : Thread Cert.XaFwd.nD Cert.XaFwd.τ).loc Cert.XaFwd.main_arg0) = m ((c.tc : Thread Cert.XaFwd.nD Cert.XaFwd.τ).loc Cert.XaFwd.main_arg0)
      ∧ r.2.mem ((c.tc : Thread Cert.XaFwd.nD Cert.XaFwd.τ).loc Cert.XaFwd.main_arg1) = m ((c.tc : Thread Cert.XaFwd.nD Cert.XaFwd.τ).loc Cert.XaFwd.main_arg1)
      ∧ r.2.mem ((c.tc : Thread Cert.XaFwd.nD Cert.XaFwd.τ).loc Cert.XaFwd.main_arg2) = m ((c.tc : Thread Cert.XaFwd.nD Cert.XaFwd.τ).loc Cert.XaFwd.main_arg2)
      ∧ r.2.mem ((c.tc : Thread Cert.XaFwd.nD Cert.XaFwd.τ).loc Cert.XaFwd.main_arg3) = m ((c.tc : Thread Cert.XaFwd.nD Cert.XaFwd.τ).loc Cert.XaFwd.main_arg3)
      ∧ r.2.mem ((c.tc : Thread Cert.XaFwd.nD Cert.XaFwd.τ).loc Cert.XaFwd.main_arg4) = m ((c.tc : Thread Cert.XaFwd.nD Cert.XaFwd.τ).loc Cert.XaFwd.main_arg4))
      ∧ r.2.sem = fun _ => 0)

def quiescent_XaFwdIdeal [hXaFwdIdeal : Cert.XaFwdIdeal.Facts] : Prop :=
  ∀ (m : (ℓ : Loc Cert.XaFwdIdeal.nD Cert.XaFwdIdeal.τ Cert.XaFwdIdeal.sig) → Buf (Elt Ideal) ℓ) (g : Dev Cert.XaFwdIdeal.nD → PrngReg), Pre_XaFwdIdeal m →
    θ_run (Cert.XaFwdIdeal.defs (F := Ideal)) (onTc (τ := Cert.XaFwdIdeal.τ) (Cert.XaFwdIdeal.main (F := Ideal))) ⟨m, fun _ => 0, g⟩ (fun r => (∀ c : Dev Cert.XaFwdIdeal.nD,
      r.2.mem ((c.tc : Thread Cert.XaFwdIdeal.nD Cert.XaFwdIdeal.τ).loc Cert.XaFwdIdeal.main_arg0) = m ((c.tc : Thread Cert.XaFwdIdeal.nD Cert.XaFwdIdeal.τ).loc Cert.XaFwdIdeal.main_arg0)
      ∧ r.2.mem ((c.tc : Thread Cert.XaFwdIdeal.nD Cert.XaFwdIdeal.τ).loc Cert.XaFwdIdeal.main_arg1) = m ((c.tc : Thread Cert.XaFwdIdeal.nD Cert.XaFwdIdeal.τ).loc Cert.XaFwdIdeal.main_arg1)
      ∧ r.2.mem ((c.tc : Thread Cert.XaFwdIdeal.nD Cert.XaFwdIdeal.τ).loc Cert.XaFwdIdeal.main_arg2) = m ((c.tc : Thread Cert.XaFwdIdeal.nD Cert.XaFwdIdeal.τ).loc Cert.XaFwdIdeal.main_arg2)
      ∧ r.2.mem ((c.tc : Thread Cert.XaFwdIdeal.nD Cert.XaFwdIdeal.τ).loc Cert.XaFwdIdeal.main_arg3) = m ((c.tc : Thread Cert.XaFwdIdeal.nD Cert.XaFwdIdeal.τ).loc Cert.XaFwdIdeal.main_arg3)
      ∧ r.2.mem ((c.tc : Thread Cert.XaFwdIdeal.nD Cert.XaFwdIdeal.τ).loc Cert.XaFwdIdeal.main_arg4) = m ((c.tc : Thread Cert.XaFwdIdeal.nD Cert.XaFwdIdeal.τ).loc Cert.XaFwdIdeal.main_arg4))
      ∧ r.2.sem = fun _ => 0)

def quiescent_XaFwdRefIdeal [hXaFwdRefIdeal : Cert.XaFwdRefIdeal.Facts] : Prop :=
  ∀ (m : (ℓ : Loc Cert.XaFwdRefIdeal.nD Cert.XaFwdRefIdeal.τ Cert.XaFwdRefIdeal.sig) → Buf (Elt Ideal) ℓ) (g : Dev Cert.XaFwdRefIdeal.nD → PrngReg), Pre_XaFwdRefIdeal m →
    θ_run (Cert.XaFwdRefIdeal.defs (F := Ideal)) (onTc (τ := Cert.XaFwdRefIdeal.τ) (Cert.XaFwdRefIdeal.main (F := Ideal))) ⟨m, fun _ => 0, g⟩ (fun r => (∀ c : Dev Cert.XaFwdRefIdeal.nD,
      r.2.mem ((c.tc : Thread Cert.XaFwdRefIdeal.nD Cert.XaFwdRefIdeal.τ).loc Cert.XaFwdRefIdeal.main_arg0) = m ((c.tc : Thread Cert.XaFwdRefIdeal.nD Cert.XaFwdRefIdeal.τ).loc Cert.XaFwdRefIdeal.main_arg0)
      ∧ r.2.mem ((c.tc : Thread Cert.XaFwdRefIdeal.nD Cert.XaFwdRefIdeal.τ).loc Cert.XaFwdRefIdeal.main_arg1) = m ((c.tc : Thread Cert.XaFwdRefIdeal.nD Cert.XaFwdRefIdeal.τ).loc Cert.XaFwdRefIdeal.main_arg1)
      ∧ r.2.mem ((c.tc : Thread Cert.XaFwdRefIdeal.nD Cert.XaFwdRefIdeal.τ).loc Cert.XaFwdRefIdeal.main_arg2) = m ((c.tc : Thread Cert.XaFwdRefIdeal.nD Cert.XaFwdRefIdeal.τ).loc Cert.XaFwdRefIdeal.main_arg2)
      ∧ r.2.mem ((c.tc : Thread Cert.XaFwdRefIdeal.nD Cert.XaFwdRefIdeal.τ).loc Cert.XaFwdRefIdeal.main_arg3) = m ((c.tc : Thread Cert.XaFwdRefIdeal.nD Cert.XaFwdRefIdeal.τ).loc Cert.XaFwdRefIdeal.main_arg3)
      ∧ r.2.mem ((c.tc : Thread Cert.XaFwdRefIdeal.nD Cert.XaFwdRefIdeal.τ).loc Cert.XaFwdRefIdeal.main_arg4) = m ((c.tc : Thread Cert.XaFwdRefIdeal.nD Cert.XaFwdRefIdeal.τ).loc Cert.XaFwdRefIdeal.main_arg4))
      ∧ r.2.sem = fun _ => 0)

def quiescent_EvOutFwd [hEvOutFwd : Cert.EvOutFwd.Facts] : Prop :=
  ∀ (m : (ℓ : Loc Cert.EvOutFwd.nD Cert.EvOutFwd.τ Cert.EvOutFwd.sig) → Buf (Elt Bits) ℓ) (g : Dev Cert.EvOutFwd.nD → PrngReg), Pre_EvOutFwd m →
    θ_run (Cert.EvOutFwd.defs (F := Bits)) (onTc (τ := Cert.EvOutFwd.τ) (Cert.EvOutFwd.main (F := Bits))) ⟨m, fun _ => 0, g⟩ (fun r => (∀ c : Dev Cert.EvOutFwd.nD,
      r.2.mem ((c.tc : Thread Cert.EvOutFwd.nD Cert.EvOutFwd.τ).loc Cert.EvOutFwd.main_arg0) = m ((c.tc : Thread Cert.EvOutFwd.nD Cert.EvOutFwd.τ).loc Cert.EvOutFwd.main_arg0)
      ∧ r.2.mem ((c.tc : Thread Cert.EvOutFwd.nD Cert.EvOutFwd.τ).loc Cert.EvOutFwd.main_arg1) = m ((c.tc : Thread Cert.EvOutFwd.nD Cert.EvOutFwd.τ).loc Cert.EvOutFwd.main_arg1)
      ∧ r.2.mem ((c.tc : Thread Cert.EvOutFwd.nD Cert.EvOutFwd.τ).loc Cert.EvOutFwd.main_arg2) = m ((c.tc : Thread Cert.EvOutFwd.nD Cert.EvOutFwd.τ).loc Cert.EvOutFwd.main_arg2)
      ∧ r.2.mem ((c.tc : Thread Cert.EvOutFwd.nD Cert.EvOutFwd.τ).loc Cert.EvOutFwd.main_arg3) = m ((c.tc : Thread Cert.EvOutFwd.nD Cert.EvOutFwd.τ).loc Cert.EvOutFwd.main_arg3)
      ∧ r.2.mem ((c.tc : Thread Cert.EvOutFwd.nD Cert.EvOutFwd.τ).loc Cert.EvOutFwd.main_arg4) = m ((c.tc : Thread Cert.EvOutFwd.nD Cert.EvOutFwd.τ).loc Cert.EvOutFwd.main_arg4)
      ∧ r.2.mem ((c.tc : Thread Cert.EvOutFwd.nD Cert.EvOutFwd.τ).loc Cert.EvOutFwd.main_arg5) = m ((c.tc : Thread Cert.EvOutFwd.nD Cert.EvOutFwd.τ).loc Cert.EvOutFwd.main_arg5)
      ∧ r.2.mem ((c.tc : Thread Cert.EvOutFwd.nD Cert.EvOutFwd.τ).loc Cert.EvOutFwd.main_arg6) = m ((c.tc : Thread Cert.EvOutFwd.nD Cert.EvOutFwd.τ).loc Cert.EvOutFwd.main_arg6)
      ∧ r.2.mem ((c.tc : Thread Cert.EvOutFwd.nD Cert.EvOutFwd.τ).loc Cert.EvOutFwd.main_arg7) = m ((c.tc : Thread Cert.EvOutFwd.nD Cert.EvOutFwd.τ).loc Cert.EvOutFwd.main_arg7)
      ∧ r.2.mem ((c.tc : Thread Cert.EvOutFwd.nD Cert.EvOutFwd.τ).loc Cert.EvOutFwd.main_arg8) = m ((c.tc : Thread Cert.EvOutFwd.nD Cert.EvOutFwd.τ).loc Cert.EvOutFwd.main_arg8)
      ∧ r.2.mem ((c.tc : Thread Cert.EvOutFwd.nD Cert.EvOutFwd.τ).loc Cert.EvOutFwd.main_arg9) = m ((c.tc : Thread Cert.EvOutFwd.nD Cert.EvOutFwd.τ).loc Cert.EvOutFwd.main_arg9)
      ∧ r.2.mem ((c.tc : Thread Cert.EvOutFwd.nD Cert.EvOutFwd.τ).loc Cert.EvOutFwd.main_arg10) = m ((c.tc : Thread Cert.EvOutFwd.nD Cert.EvOutFwd.τ).loc Cert.EvOutFwd.main_arg10)
      ∧ r.2.mem ((c.tc : Thread Cert.EvOutFwd.nD Cert.EvOutFwd.τ).loc Cert.EvOutFwd.main_arg11) = m ((c.tc : Thread Cert.EvOutFwd.nD Cert.EvOutFwd.τ).loc Cert.EvOutFwd.main_arg11))
      ∧ r.2.sem = fun _ => 0)

def quiescent_EvOutFwdIdeal [hEvOutFwdIdeal : Cert.EvOutFwdIdeal.Facts] : Prop :=
  ∀ (m : (ℓ : Loc Cert.EvOutFwdIdeal.nD Cert.EvOutFwdIdeal.τ Cert.EvOutFwdIdeal.sig) → Buf (Elt Ideal) ℓ) (g : Dev Cert.EvOutFwdIdeal.nD → PrngReg), Pre_EvOutFwdIdeal m →
    θ_run (Cert.EvOutFwdIdeal.defs (F := Ideal)) (onTc (τ := Cert.EvOutFwdIdeal.τ) (Cert.EvOutFwdIdeal.main (F := Ideal))) ⟨m, fun _ => 0, g⟩ (fun r => (∀ c : Dev Cert.EvOutFwdIdeal.nD,
      r.2.mem ((c.tc : Thread Cert.EvOutFwdIdeal.nD Cert.EvOutFwdIdeal.τ).loc Cert.EvOutFwdIdeal.main_arg0) = m ((c.tc : Thread Cert.EvOutFwdIdeal.nD Cert.EvOutFwdIdeal.τ).loc Cert.EvOutFwdIdeal.main_arg0)
      ∧ r.2.mem ((c.tc : Thread Cert.EvOutFwdIdeal.nD Cert.EvOutFwdIdeal.τ).loc Cert.EvOutFwdIdeal.main_arg1) = m ((c.tc : Thread Cert.EvOutFwdIdeal.nD Cert.EvOutFwdIdeal.τ).loc Cert.EvOutFwdIdeal.main_arg1)
      ∧ r.2.mem ((c.tc : Thread Cert.EvOutFwdIdeal.nD Cert.EvOutFwdIdeal.τ).loc Cert.EvOutFwdIdeal.main_arg2) = m ((c.tc : Thread Cert.EvOutFwdIdeal.nD Cert.EvOutFwdIdeal.τ).loc Cert.EvOutFwdIdeal.main_arg2)
      ∧ r.2.mem ((c.tc : Thread Cert.EvOutFwdIdeal.nD Cert.EvOutFwdIdeal.τ).loc Cert.EvOutFwdIdeal.main_arg3) = m ((c.tc : Thread Cert.EvOutFwdIdeal.nD Cert.EvOutFwdIdeal.τ).loc Cert.EvOutFwdIdeal.main_arg3)
      ∧ r.2.mem ((c.tc : Thread Cert.EvOutFwdIdeal.nD Cert.EvOutFwdIdeal.τ).loc Cert.EvOutFwdIdeal.main_arg4) = m ((c.tc : Thread Cert.EvOutFwdIdeal.nD Cert.EvOutFwdIdeal.τ).loc Cert.EvOutFwdIdeal.main_arg4)
      ∧ r.2.mem ((c.tc : Thread Cert.EvOutFwdIdeal.nD Cert.EvOutFwdIdeal.τ).loc Cert.EvOutFwdIdeal.main_arg5) = m ((c.tc : Thread Cert.EvOutFwdIdeal.nD Cert.EvOutFwdIdeal.τ).loc Cert.EvOutFwdIdeal.main_arg5)
      ∧ r.2.mem ((c.tc : Thread Cert.EvOutFwdIdeal.nD Cert.EvOutFwdIdeal.τ).loc Cert.EvOutFwdIdeal.main_arg6) = m ((c.tc : Thread Cert.EvOutFwdIdeal.nD Cert.EvOutFwdIdeal.τ).loc Cert.EvOutFwdIdeal.main_arg6)
      ∧ r.2.mem ((c.tc : Thread Cert.EvOutFwdIdeal.nD Cert.EvOutFwdIdeal.τ).loc Cert.EvOutFwdIdeal.main_arg7) = m ((c.tc : Thread Cert.EvOutFwdIdeal.nD Cert.EvOutFwdIdeal.τ).loc Cert.EvOutFwdIdeal.main_arg7)
      ∧ r.2.mem ((c.tc : Thread Cert.EvOutFwdIdeal.nD Cert.EvOutFwdIdeal.τ).loc Cert.EvOutFwdIdeal.main_arg8) = m ((c.tc : Thread Cert.EvOutFwdIdeal.nD Cert.EvOutFwdIdeal.τ).loc Cert.EvOutFwdIdeal.main_arg8)
      ∧ r.2.mem ((c.tc : Thread Cert.EvOutFwdIdeal.nD Cert.EvOutFwdIdeal.τ).loc Cert.EvOutFwdIdeal.main_arg9) = m ((c.tc : Thread Cert.EvOutFwdIdeal.nD Cert.EvOutFwdIdeal.τ).loc Cert.EvOutFwdIdeal.main_arg9)
      ∧ r.2.mem ((c.tc : Thread Cert.EvOutFwdIdeal.nD Cert.EvOutFwdIdeal.τ).loc Cert.EvOutFwdIdeal.main_arg10) = m ((c.tc : Thread Cert.EvOutFwdIdeal.nD Cert.EvOutFwdIdeal.τ).loc Cert.EvOutFwdIdeal.main_arg10)
      ∧ r.2.mem ((c.tc : Thread Cert.EvOutFwdIdeal.nD Cert.EvOutFwdIdeal.τ).loc Cert.EvOutFwdIdeal.main_arg11) = m ((c.tc : Thread Cert.EvOutFwdIdeal.nD Cert.EvOutFwdIdeal.τ).loc Cert.EvOutFwdIdeal.main_arg11))
      ∧ r.2.sem = fun _ => 0)

def quiescent_EvOutFwdRefIdeal [hEvOutFwdRefIdeal : Cert.EvOutFwdRefIdeal.Facts] : Prop :=
  ∀ (m : (ℓ : Loc Cert.EvOutFwdRefIdeal.nD Cert.EvOutFwdRefIdeal.τ Cert.EvOutFwdRefIdeal.sig) → Buf (Elt Ideal) ℓ) (g : Dev Cert.EvOutFwdRefIdeal.nD → PrngReg), Pre_EvOutFwdRefIdeal m →
    θ_run (Cert.EvOutFwdRefIdeal.defs (F := Ideal)) (onTc (τ := Cert.EvOutFwdRefIdeal.τ) (Cert.EvOutFwdRefIdeal.main (F := Ideal))) ⟨m, fun _ => 0, g⟩ (fun r => (∀ c : Dev Cert.EvOutFwdRefIdeal.nD,
      r.2.mem ((c.tc : Thread Cert.EvOutFwdRefIdeal.nD Cert.EvOutFwdRefIdeal.τ).loc Cert.EvOutFwdRefIdeal.main_arg0) = m ((c.tc : Thread Cert.EvOutFwdRefIdeal.nD Cert.EvOutFwdRefIdeal.τ).loc Cert.EvOutFwdRefIdeal.main_arg0)
      ∧ r.2.mem ((c.tc : Thread Cert.EvOutFwdRefIdeal.nD Cert.EvOutFwdRefIdeal.τ).loc Cert.EvOutFwdRefIdeal.main_arg1) = m ((c.tc : Thread Cert.EvOutFwdRefIdeal.nD Cert.EvOutFwdRefIdeal.τ).loc Cert.EvOutFwdRefIdeal.main_arg1)
      ∧ r.2.mem ((c.tc : Thread Cert.EvOutFwdRefIdeal.nD Cert.EvOutFwdRefIdeal.τ).loc Cert.EvOutFwdRefIdeal.main_arg2) = m ((c.tc : Thread Cert.EvOutFwdRefIdeal.nD Cert.EvOutFwdRefIdeal.τ).loc Cert.EvOutFwdRefIdeal.main_arg2)
      ∧ r.2.mem ((c.tc : Thread Cert.EvOutFwdRefIdeal.nD Cert.EvOutFwdRefIdeal.τ).loc Cert.EvOutFwdRefIdeal.main_arg3) = m ((c.tc : Thread Cert.EvOutFwdRefIdeal.nD Cert.EvOutFwdRefIdeal.τ).loc Cert.EvOutFwdRefIdeal.main_arg3)
      ∧ r.2.mem ((c.tc : Thread Cert.EvOutFwdRefIdeal.nD Cert.EvOutFwdRefIdeal.τ).loc Cert.EvOutFwdRefIdeal.main_arg4) = m ((c.tc : Thread Cert.EvOutFwdRefIdeal.nD Cert.EvOutFwdRefIdeal.τ).loc Cert.EvOutFwdRefIdeal.main_arg4)
      ∧ r.2.mem ((c.tc : Thread Cert.EvOutFwdRefIdeal.nD Cert.EvOutFwdRefIdeal.τ).loc Cert.EvOutFwdRefIdeal.main_arg5) = m ((c.tc : Thread Cert.EvOutFwdRefIdeal.nD Cert.EvOutFwdRefIdeal.τ).loc Cert.EvOutFwdRefIdeal.main_arg5)
      ∧ r.2.mem ((c.tc : Thread Cert.EvOutFwdRefIdeal.nD Cert.EvOutFwdRefIdeal.τ).loc Cert.EvOutFwdRefIdeal.main_arg6) = m ((c.tc : Thread Cert.EvOutFwdRefIdeal.nD Cert.EvOutFwdRefIdeal.τ).loc Cert.EvOutFwdRefIdeal.main_arg6)
      ∧ r.2.mem ((c.tc : Thread Cert.EvOutFwdRefIdeal.nD Cert.EvOutFwdRefIdeal.τ).loc Cert.EvOutFwdRefIdeal.main_arg7) = m ((c.tc : Thread Cert.EvOutFwdRefIdeal.nD Cert.EvOutFwdRefIdeal.τ).loc Cert.EvOutFwdRefIdeal.main_arg7)
      ∧ r.2.mem ((c.tc : Thread Cert.EvOutFwdRefIdeal.nD Cert.EvOutFwdRefIdeal.τ).loc Cert.EvOutFwdRefIdeal.main_arg8) = m ((c.tc : Thread Cert.EvOutFwdRefIdeal.nD Cert.EvOutFwdRefIdeal.τ).loc Cert.EvOutFwdRefIdeal.main_arg8)
      ∧ r.2.mem ((c.tc : Thread Cert.EvOutFwdRefIdeal.nD Cert.EvOutFwdRefIdeal.τ).loc Cert.EvOutFwdRefIdeal.main_arg9) = m ((c.tc : Thread Cert.EvOutFwdRefIdeal.nD Cert.EvOutFwdRefIdeal.τ).loc Cert.EvOutFwdRefIdeal.main_arg9)
      ∧ r.2.mem ((c.tc : Thread Cert.EvOutFwdRefIdeal.nD Cert.EvOutFwdRefIdeal.τ).loc Cert.EvOutFwdRefIdeal.main_arg10) = m ((c.tc : Thread Cert.EvOutFwdRefIdeal.nD Cert.EvOutFwdRefIdeal.τ).loc Cert.EvOutFwdRefIdeal.main_arg10)
      ∧ r.2.mem ((c.tc : Thread Cert.EvOutFwdRefIdeal.nD Cert.EvOutFwdRefIdeal.τ).loc Cert.EvOutFwdRefIdeal.main_arg11) = m ((c.tc : Thread Cert.EvOutFwdRefIdeal.nD Cert.EvOutFwdRefIdeal.τ).loc Cert.EvOutFwdRefIdeal.main_arg11))
      ∧ r.2.sem = fun _ => 0)

def quiescent_S5DiscFwd [hS5DiscFwd : Cert.S5DiscFwd.Facts] : Prop :=
  ∀ (m : (ℓ : Loc Cert.S5DiscFwd.nD Cert.S5DiscFwd.τ Cert.S5DiscFwd.sig) → Buf (Elt Bits) ℓ) (g : Dev Cert.S5DiscFwd.nD → PrngReg), Pre_S5DiscFwd m →
    θ_run (Cert.S5DiscFwd.defs (F := Bits)) (onTc (τ := Cert.S5DiscFwd.τ) (Cert.S5DiscFwd.main (F := Bits))) ⟨m, fun _ => 0, g⟩ (fun r => (∀ c : Dev Cert.S5DiscFwd.nD,
      r.2.mem ((c.tc : Thread Cert.S5DiscFwd.nD Cert.S5DiscFwd.τ).loc Cert.S5DiscFwd.main_arg0) = m ((c.tc : Thread Cert.S5DiscFwd.nD Cert.S5DiscFwd.τ).loc Cert.S5DiscFwd.main_arg0)
      ∧ r.2.mem ((c.tc : Thread Cert.S5DiscFwd.nD Cert.S5DiscFwd.τ).loc Cert.S5DiscFwd.main_arg1) = m ((c.tc : Thread Cert.S5DiscFwd.nD Cert.S5DiscFwd.τ).loc Cert.S5DiscFwd.main_arg1)
      ∧ r.2.mem ((c.tc : Thread Cert.S5DiscFwd.nD Cert.S5DiscFwd.τ).loc Cert.S5DiscFwd.main_arg2) = m ((c.tc : Thread Cert.S5DiscFwd.nD Cert.S5DiscFwd.τ).loc Cert.S5DiscFwd.main_arg2)
      ∧ r.2.mem ((c.tc : Thread Cert.S5DiscFwd.nD Cert.S5DiscFwd.τ).loc Cert.S5DiscFwd.main_arg3) = m ((c.tc : Thread Cert.S5DiscFwd.nD Cert.S5DiscFwd.τ).loc Cert.S5DiscFwd.main_arg3)
      ∧ r.2.mem ((c.tc : Thread Cert.S5DiscFwd.nD Cert.S5DiscFwd.τ).loc Cert.S5DiscFwd.main_arg4) = m ((c.tc : Thread Cert.S5DiscFwd.nD Cert.S5DiscFwd.τ).loc Cert.S5DiscFwd.main_arg4))
      ∧ r.2.sem = fun _ => 0)

def quiescent_S5DiscFwdIdeal [hS5DiscFwdIdeal : Cert.S5DiscFwdIdeal.Facts] : Prop :=
  ∀ (m : (ℓ : Loc Cert.S5DiscFwdIdeal.nD Cert.S5DiscFwdIdeal.τ Cert.S5DiscFwdIdeal.sig) → Buf (Elt Ideal) ℓ) (g : Dev Cert.S5DiscFwdIdeal.nD → PrngReg), Pre_S5DiscFwdIdeal m →
    θ_run (Cert.S5DiscFwdIdeal.defs (F := Ideal)) (onTc (τ := Cert.S5DiscFwdIdeal.τ) (Cert.S5DiscFwdIdeal.main (F := Ideal))) ⟨m, fun _ => 0, g⟩ (fun r => (∀ c : Dev Cert.S5DiscFwdIdeal.nD,
      r.2.mem ((c.tc : Thread Cert.S5DiscFwdIdeal.nD Cert.S5DiscFwdIdeal.τ).loc Cert.S5DiscFwdIdeal.main_arg0) = m ((c.tc : Thread Cert.S5DiscFwdIdeal.nD Cert.S5DiscFwdIdeal.τ).loc Cert.S5DiscFwdIdeal.main_arg0)
      ∧ r.2.mem ((c.tc : Thread Cert.S5DiscFwdIdeal.nD Cert.S5DiscFwdIdeal.τ).loc Cert.S5DiscFwdIdeal.main_arg1) = m ((c.tc : Thread Cert.S5DiscFwdIdeal.nD Cert.S5DiscFwdIdeal.τ).loc Cert.S5DiscFwdIdeal.main_arg1)
      ∧ r.2.mem ((c.tc : Thread Cert.S5DiscFwdIdeal.nD Cert.S5DiscFwdIdeal.τ).loc Cert.S5DiscFwdIdeal.main_arg2) = m ((c.tc : Thread Cert.S5DiscFwdIdeal.nD Cert.S5DiscFwdIdeal.τ).loc Cert.S5DiscFwdIdeal.main_arg2)
      ∧ r.2.mem ((c.tc : Thread Cert.S5DiscFwdIdeal.nD Cert.S5DiscFwdIdeal.τ).loc Cert.S5DiscFwdIdeal.main_arg3) = m ((c.tc : Thread Cert.S5DiscFwdIdeal.nD Cert.S5DiscFwdIdeal.τ).loc Cert.S5DiscFwdIdeal.main_arg3)
      ∧ r.2.mem ((c.tc : Thread Cert.S5DiscFwdIdeal.nD Cert.S5DiscFwdIdeal.τ).loc Cert.S5DiscFwdIdeal.main_arg4) = m ((c.tc : Thread Cert.S5DiscFwdIdeal.nD Cert.S5DiscFwdIdeal.τ).loc Cert.S5DiscFwdIdeal.main_arg4))
      ∧ r.2.sem = fun _ => 0)

def quiescent_S5DiscFwdRefIdeal [hS5DiscFwdRefIdeal : Cert.S5DiscFwdRefIdeal.Facts] : Prop :=
  ∀ (m : (ℓ : Loc Cert.S5DiscFwdRefIdeal.nD Cert.S5DiscFwdRefIdeal.τ Cert.S5DiscFwdRefIdeal.sig) → Buf (Elt Ideal) ℓ) (g : Dev Cert.S5DiscFwdRefIdeal.nD → PrngReg), Pre_S5DiscFwdRefIdeal m →
    θ_run (Cert.S5DiscFwdRefIdeal.defs (F := Ideal)) (onTc (τ := Cert.S5DiscFwdRefIdeal.τ) (Cert.S5DiscFwdRefIdeal.main (F := Ideal))) ⟨m, fun _ => 0, g⟩ (fun r => (∀ c : Dev Cert.S5DiscFwdRefIdeal.nD,
      r.2.mem ((c.tc : Thread Cert.S5DiscFwdRefIdeal.nD Cert.S5DiscFwdRefIdeal.τ).loc Cert.S5DiscFwdRefIdeal.main_arg0) = m ((c.tc : Thread Cert.S5DiscFwdRefIdeal.nD Cert.S5DiscFwdRefIdeal.τ).loc Cert.S5DiscFwdRefIdeal.main_arg0)
      ∧ r.2.mem ((c.tc : Thread Cert.S5DiscFwdRefIdeal.nD Cert.S5DiscFwdRefIdeal.τ).loc Cert.S5DiscFwdRefIdeal.main_arg1) = m ((c.tc : Thread Cert.S5DiscFwdRefIdeal.nD Cert.S5DiscFwdRefIdeal.τ).loc Cert.S5DiscFwdRefIdeal.main_arg1)
      ∧ r.2.mem ((c.tc : Thread Cert.S5DiscFwdRefIdeal.nD Cert.S5DiscFwdRefIdeal.τ).loc Cert.S5DiscFwdRefIdeal.main_arg2) = m ((c.tc : Thread Cert.S5DiscFwdRefIdeal.nD Cert.S5DiscFwdRefIdeal.τ).loc Cert.S5DiscFwdRefIdeal.main_arg2)
      ∧ r.2.mem ((c.tc : Thread Cert.S5DiscFwdRefIdeal.nD Cert.S5DiscFwdRefIdeal.τ).loc Cert.S5DiscFwdRefIdeal.main_arg3) = m ((c.tc : Thread Cert.S5DiscFwdRefIdeal.nD Cert.S5DiscFwdRefIdeal.τ).loc Cert.S5DiscFwdRefIdeal.main_arg3)
      ∧ r.2.mem ((c.tc : Thread Cert.S5DiscFwdRefIdeal.nD Cert.S5DiscFwdRefIdeal.τ).loc Cert.S5DiscFwdRefIdeal.main_arg4) = m ((c.tc : Thread Cert.S5DiscFwdRefIdeal.nD Cert.S5DiscFwdRefIdeal.τ).loc Cert.S5DiscFwdRefIdeal.main_arg4))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1))
      ∧ r.2.sem = fun _ => 0)

def quiescent_AttnFwdIdeal_pre_attn_fwd_finite [hAttnFwdIdeal : Cert.AttnFwdIdeal.Facts] [hPre_attn_fwd_finite : Cert.Pre_attn_fwd_finite.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_attn_fwd_finite m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1))
      ∧ r.2.sem = fun _ => 0)

def quiescent_AttnFwdRefIdeal_pre_attn_fwd_finite [hAttnFwdRefIdeal : Cert.AttnFwdRefIdeal.Facts] [hPre_attn_fwd_finite : Cert.Pre_attn_fwd_finite.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal_attn_fwd_finite m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1)
      ∧ r.2.mem ((c.tc : Thread Cert.ConvFwd.nD Cert.ConvFwd.τ).loc Cert.ConvFwd.main_arg2) = m ((c.tc : Thread Cert.ConvFwd.nD Cert.ConvFwd.τ).loc Cert.ConvFwd.main_arg2))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
      ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2))
      ∧ r.2.sem = fun _ => 0)

def quiescent_ConvFwdRefIdeal [hConvFwdRefIdeal : Cert.ConvFwdRefIdeal.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1)
      ∧ r.2.mem ((c.tc : Thread Cert.ConvFwdRefIdeal.nD Cert.ConvFwdRefIdeal.τ).loc Cert.ConvFwdRefIdeal.main_arg2) = m ((c.tc : Thread Cert.ConvFwdRefIdeal.nD Cert.ConvFwdRefIdeal.τ).loc Cert.ConvFwdRefIdeal.main_arg2))
      ∧ r.2.sem = fun _ => 0)

def preserves_AttnBwd_AttnBwdIdeal : Prop :=
  IdealRules.named_const.Statement Cert.AttnBwdIdeal.κ "mask" .f32 0xF149F2CA#32 ⊥

def algebraic_AttnBwdIdeal_AttnBwdRefIdeal_pre_attn_finite [hAttnBwdIdeal : Cert.AttnBwdIdeal.Facts] [hAttnBwdRefIdeal : Cert.AttnBwdRefIdeal.Facts] [hPre_attn_finite : Cert.Pre_attn_finite.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg)
    (m' : (ℓ : Loc Cert.AttnBwdRefIdeal.nD Cert.AttnBwdRefIdeal.τ Cert.AttnBwdRefIdeal.sig) → Buf (Elt Ideal) ℓ) (g' : Dev Cert.AttnBwdRefIdeal.nD → PrngReg), Pre_AttnBwdIdeal_attn_finite m →
    (∀ c : Dev Cert.AttnBwdIdeal.nD,
      m' ((c.tc : Thread Cert.AttnBwdRefIdeal.nD Cert.AttnBwdRefIdeal.τ).loc Cert.AttnBwdRefIdeal.main_arg0) = m ((c.tc : Thread Cert.AttnBwdIdeal.nD Cert.AttnBwdIdeal.τ).loc Cert.AttnBwdIdeal.main_arg0)
      ∧ m' ((c.tc : Thread Cert.AttnBwdRefIdeal.nD Cert.AttnBwdRefIdeal.τ).loc Cert.AttnBwdRefIdeal.main_arg1) = m ((c.tc : Thread Cert.AttnBwdIdeal.nD Cert.AttnBwdIdeal.τ).loc Cert.AttnBwdIdeal.main_arg1)
      ∧ m' ((c.tc : Thread Cert.AttnBwdRefIdeal.nD Cert.AttnBwdRefIdeal.τ).loc Cert.AttnBwdRefIdeal.main_arg2) = m ((c.tc : Thread Cert.AttnBwdIdeal.nD Cert.AttnBwdIdeal.τ).loc Cert.AttnBwdIdeal.main_arg2)) →
    ∃ (v0 : (c : Dev Cert.AttnBwdIdeal.nD) → Buf (Elt Ideal) ((c.tc : Thread Cert.AttnBwdIdeal.nD Cert.AttnBwdIdeal.τ).loc Cert.AttnBwdIdeal.main_v30_0)) (v1 : (c : Dev Cert.AttnBwdIdeal.nD) → Buf (Elt Ideal) ((c.tc : Thread Cert.AttnBwdIdeal.nD Cert.AttnBwdIdeal.τ).loc Cert.AttnBwdIdeal.main_v30_1)) (v2 : (c : Dev Cert.AttnBwdIdeal.nD) → Buf (Elt Ideal) ((c.tc : Thread Cert.AttnBwdIdeal.nD Cert.AttnBwdIdeal.τ).loc Cert.AttnBwdIdeal.main_v30_2)) (v3 : (c : Dev Cert.AttnBwdIdeal.nD) → Buf (Elt Ideal) ((c.tc : Thread Cert.AttnBwdIdeal.nD Cert.AttnBwdIdeal.τ).loc Cert.AttnBwdIdeal.main_v30_3)),
      θ_run (Cert.AttnBwdIdeal.defs (F := Ideal)) (onTc (τ := Cert.AttnBwdIdeal.τ) (Cert.AttnBwdIdeal.main (F := Ideal))) ⟨m, fun _ => 0, g⟩ (fun r => ∀ c : Dev Cert.AttnBwdIdeal.nD,
          r.2.mem ((c.tc : Thread Cert.AttnBwdIdeal.nD Cert.AttnBwdIdeal.τ).loc Cert.AttnBwdIdeal.main_v30_0) = v0 c
          ∧ r.2.mem ((c.tc : Thread Cert.AttnBwdIdeal.nD Cert.AttnBwdIdeal.τ).loc Cert.AttnBwdIdeal.main_v30_1) = v1 c
          ∧ r.2.mem ((c.tc : Thread Cert.AttnBwdIdeal.nD Cert.AttnBwdIdeal.τ).loc Cert.AttnBwdIdeal.main_v30_2) = v2 c
          ∧ r.2.mem ((c.tc : Thread Cert.AttnBwdIdeal.nD Cert.AttnBwdIdeal.τ).loc Cert.AttnBwdIdeal.main_v30_3) = v3 c
          ∧ r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
          ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
          ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2))
      ∧ θ_run (Cert.AttnBwdRefIdeal.defs (F := Ideal)) (onTc (τ := Cert.AttnBwdRefIdeal.τ) (Cert.AttnBwdRefIdeal.main (F := Ideal))) ⟨m', fun _ => 0, g'⟩ (fun r => ∀ c : Dev Cert.AttnBwdRefIdeal.nD,
          r.2.mem ((c.tc : Thread Cert.AttnBwdRefIdeal.nD Cert.AttnBwdRefIdeal.τ).loc Cert.AttnBwdRefIdeal.main_v252) = v0 c
          ∧ r.2.mem ((c.tc : Thread Cert.AttnBwdRefIdeal.nD Cert.AttnBwdRefIdeal.τ).loc Cert.AttnBwdRefIdeal.main_v251) = v1 c
          ∧ r.2.mem ((c.tc : Thread Cert.AttnBwdRefIdeal.nD Cert.AttnBwdRefIdeal.τ).loc Cert.AttnBwdRefIdeal.main_v248) = v2 c
          ∧ r.2.mem ((c.tc : Thread Cert.AttnBwdRefIdeal.nD Cert.AttnBwdRefIdeal.τ).loc Cert.AttnBwdRefIdeal.main_v204) = v3 c
          ∧ r.2.mem ((c.tc : Thread Cert.AttnBwdRefIdeal.nD Cert.AttnBwdRefIdeal.τ).loc Cert.AttnBwdRefIdeal.main_arg0) = m' ((c.tc : Thread Cert.AttnBwdRefIdeal.nD Cert.AttnBwdRefIdeal.τ).loc Cert.AttnBwdRefIdeal.main_arg0)
          ∧ r.2.mem ((c.tc : Thread Cert.AttnBwdRefIdeal.nD Cert.AttnBwdRefIdeal.τ).loc Cert.AttnBwdRefIdeal.main_arg1) = m' ((c.tc : Thread Cert.AttnBwdRefIdeal.nD Cert.AttnBwdRefIdeal.τ).loc Cert.AttnBwdRefIdeal.main_arg1)
          ∧ r.2.mem ((c.tc : Thread Cert.AttnBwdRefIdeal.nD Cert.AttnBwdRefIdeal.τ).loc Cert.AttnBwdRefIdeal.main_arg2) = m' ((c.tc : Thread Cert.AttnBwdRefIdeal.nD Cert.AttnBwdRefIdeal.τ).loc Cert.AttnBwdRefIdeal.main_arg2))

def preserves_BiasGrad_BiasGradIdeal : Prop :=
  True

def algebraic_BiasGradIdeal_BiasGradRefIdeal [hBiasGradIdeal : Cert.BiasGradIdeal.Facts] [hBiasGradRefIdeal : Cert.BiasGradRefIdeal.Facts] : Prop :=
  ∀ (m : (ℓ : Loc Cert.BiasGradIdeal.nD Cert.BiasGradIdeal.τ Cert.BiasGradIdeal.sig) → Buf (Elt Ideal) ℓ) (g : Dev Cert.BiasGradIdeal.nD → PrngReg)
    (m' : (ℓ : Loc Cert.BiasGradRefIdeal.nD Cert.BiasGradRefIdeal.τ Cert.BiasGradRefIdeal.sig) → Buf (Elt Ideal) ℓ) (g' : Dev Cert.BiasGradRefIdeal.nD → PrngReg), Pre_BiasGradIdeal m →
    (∀ c : Dev Cert.BiasGradIdeal.nD,
      m' ((c.tc : Thread Cert.BiasGradRefIdeal.nD Cert.BiasGradRefIdeal.τ).loc Cert.BiasGradRefIdeal.main_arg0) = m ((c.tc : Thread Cert.BiasGradIdeal.nD Cert.BiasGradIdeal.τ).loc Cert.BiasGradIdeal.main_arg0)) →
    ∃ (v0 : (c : Dev Cert.BiasGradIdeal.nD) → Buf (Elt Ideal) ((c.tc : Thread Cert.BiasGradIdeal.nD Cert.BiasGradIdeal.τ).loc Cert.BiasGradIdeal.main_v19)),
      θ_run (Cert.BiasGradIdeal.defs (F := Ideal)) (onTc (τ := Cert.BiasGradIdeal.τ) (Cert.BiasGradIdeal.main (F := Ideal))) ⟨m, fun _ => 0, g⟩ (fun r => ∀ c : Dev Cert.BiasGradIdeal.nD,
          r.2.mem ((c.tc : Thread Cert.BiasGradIdeal.nD Cert.BiasGradIdeal.τ).loc Cert.BiasGradIdeal.main_v19) = v0 c
          ∧ r.2.mem ((c.tc : Thread Cert.BiasGradIdeal.nD Cert.BiasGradIdeal.τ).loc Cert.BiasGradIdeal.main_arg0) = m ((c.tc : Thread Cert.BiasGradIdeal.nD Cert.BiasGradIdeal.τ).loc Cert.BiasGradIdeal.main_arg0))
      ∧ θ_run (Cert.BiasGradRefIdeal.defs (F := Ideal)) (onTc (τ := Cert.BiasGradRefIdeal.τ) (Cert.BiasGradRefIdeal.main (F := Ideal))) ⟨m', fun _ => 0, g'⟩ (fun r => ∀ c : Dev Cert.BiasGradRefIdeal.nD,
          r.2.mem ((c.tc : Thread Cert.BiasGradRefIdeal.nD Cert.BiasGradRefIdeal.τ).loc Cert.BiasGradRefIdeal.main_v21) = v0 c
          ∧ r.2.mem ((c.tc : Thread Cert.BiasGradRefIdeal.nD Cert.BiasGradRefIdeal.τ).loc Cert.BiasGradRefIdeal.main_arg0) = m' ((c.tc : Thread Cert.BiasGradRefIdeal.nD Cert.BiasGradRefIdeal.τ).loc Cert.BiasGradRefIdeal.main_arg0))

def preserves_GatedOutBwd_GatedOutBwdIdeal : Prop :=
  True

def algebraic_GatedOutBwdIdeal_GatedOutBwdRefIdeal [hGatedOutBwdIdeal : Cert.GatedOutBwdIdeal.Facts] [hGatedOutBwdRefIdeal : Cert.GatedOutBwdRefIdeal.Facts] : Prop :=
  ∀ (m : (ℓ : Loc Cert.GatedOutBwdIdeal.nD Cert.GatedOutBwdIdeal.τ Cert.GatedOutBwdIdeal.sig) → Buf (Elt Ideal) ℓ) (g : Dev Cert.GatedOutBwdIdeal.nD → PrngReg)
    (m' : (ℓ : Loc Cert.GatedOutBwdRefIdeal.nD Cert.GatedOutBwdRefIdeal.τ Cert.GatedOutBwdRefIdeal.sig) → Buf (Elt Ideal) ℓ) (g' : Dev Cert.GatedOutBwdRefIdeal.nD → PrngReg), Pre_GatedOutBwdIdeal m →
    (∀ c : Dev Cert.GatedOutBwdIdeal.nD,
      m' ((c.tc : Thread Cert.GatedOutBwdRefIdeal.nD Cert.GatedOutBwdRefIdeal.τ).loc Cert.GatedOutBwdRefIdeal.main_arg0) = m ((c.tc : Thread Cert.GatedOutBwdIdeal.nD Cert.GatedOutBwdIdeal.τ).loc Cert.GatedOutBwdIdeal.main_arg0)
      ∧ m' ((c.tc : Thread Cert.GatedOutBwdRefIdeal.nD Cert.GatedOutBwdRefIdeal.τ).loc Cert.GatedOutBwdRefIdeal.main_arg1) = m ((c.tc : Thread Cert.GatedOutBwdIdeal.nD Cert.GatedOutBwdIdeal.τ).loc Cert.GatedOutBwdIdeal.main_arg1)
      ∧ m' ((c.tc : Thread Cert.GatedOutBwdRefIdeal.nD Cert.GatedOutBwdRefIdeal.τ).loc Cert.GatedOutBwdRefIdeal.main_arg2) = m ((c.tc : Thread Cert.GatedOutBwdIdeal.nD Cert.GatedOutBwdIdeal.τ).loc Cert.GatedOutBwdIdeal.main_arg2)
      ∧ m' ((c.tc : Thread Cert.GatedOutBwdRefIdeal.nD Cert.GatedOutBwdRefIdeal.τ).loc Cert.GatedOutBwdRefIdeal.main_arg3) = m ((c.tc : Thread Cert.GatedOutBwdIdeal.nD Cert.GatedOutBwdIdeal.τ).loc Cert.GatedOutBwdIdeal.main_arg3)) →
    ∃ (v0 : (c : Dev Cert.GatedOutBwdIdeal.nD) → Buf (Elt Ideal) ((c.tc : Thread Cert.GatedOutBwdIdeal.nD Cert.GatedOutBwdIdeal.τ).loc Cert.GatedOutBwdIdeal.main_v0_0)) (v1 : (c : Dev Cert.GatedOutBwdIdeal.nD) → Buf (Elt Ideal) ((c.tc : Thread Cert.GatedOutBwdIdeal.nD Cert.GatedOutBwdIdeal.τ).loc Cert.GatedOutBwdIdeal.main_v0_1)) (v2 : (c : Dev Cert.GatedOutBwdIdeal.nD) → Buf (Elt Ideal) ((c.tc : Thread Cert.GatedOutBwdIdeal.nD Cert.GatedOutBwdIdeal.τ).loc Cert.GatedOutBwdIdeal.main_v0_2)),
      θ_run (Cert.GatedOutBwdIdeal.defs (F := Ideal)) (onTc (τ := Cert.GatedOutBwdIdeal.τ) (Cert.GatedOutBwdIdeal.main (F := Ideal))) ⟨m, fun _ => 0, g⟩ (fun r => ∀ c : Dev Cert.GatedOutBwdIdeal.nD,
          r.2.mem ((c.tc : Thread Cert.GatedOutBwdIdeal.nD Cert.GatedOutBwdIdeal.τ).loc Cert.GatedOutBwdIdeal.main_v0_0) = v0 c
          ∧ r.2.mem ((c.tc : Thread Cert.GatedOutBwdIdeal.nD Cert.GatedOutBwdIdeal.τ).loc Cert.GatedOutBwdIdeal.main_v0_1) = v1 c
          ∧ r.2.mem ((c.tc : Thread Cert.GatedOutBwdIdeal.nD Cert.GatedOutBwdIdeal.τ).loc Cert.GatedOutBwdIdeal.main_v0_2) = v2 c
          ∧ r.2.mem ((c.tc : Thread Cert.GatedOutBwdIdeal.nD Cert.GatedOutBwdIdeal.τ).loc Cert.GatedOutBwdIdeal.main_arg0) = m ((c.tc : Thread Cert.GatedOutBwdIdeal.nD Cert.GatedOutBwdIdeal.τ).loc Cert.GatedOutBwdIdeal.main_arg0)
          ∧ r.2.mem ((c.tc : Thread Cert.GatedOutBwdIdeal.nD Cert.GatedOutBwdIdeal.τ).loc Cert.GatedOutBwdIdeal.main_arg1) = m ((c.tc : Thread Cert.GatedOutBwdIdeal.nD Cert.GatedOutBwdIdeal.τ).loc Cert.GatedOutBwdIdeal.main_arg1)
          ∧ r.2.mem ((c.tc : Thread Cert.GatedOutBwdIdeal.nD Cert.GatedOutBwdIdeal.τ).loc Cert.GatedOutBwdIdeal.main_arg2) = m ((c.tc : Thread Cert.GatedOutBwdIdeal.nD Cert.GatedOutBwdIdeal.τ).loc Cert.GatedOutBwdIdeal.main_arg2)
          ∧ r.2.mem ((c.tc : Thread Cert.GatedOutBwdIdeal.nD Cert.GatedOutBwdIdeal.τ).loc Cert.GatedOutBwdIdeal.main_arg3) = m ((c.tc : Thread Cert.GatedOutBwdIdeal.nD Cert.GatedOutBwdIdeal.τ).loc Cert.GatedOutBwdIdeal.main_arg3))
      ∧ θ_run (Cert.GatedOutBwdRefIdeal.defs (F := Ideal)) (onTc (τ := Cert.GatedOutBwdRefIdeal.τ) (Cert.GatedOutBwdRefIdeal.main (F := Ideal))) ⟨m', fun _ => 0, g'⟩ (fun r => ∀ c : Dev Cert.GatedOutBwdRefIdeal.nD,
          r.2.mem ((c.tc : Thread Cert.GatedOutBwdRefIdeal.nD Cert.GatedOutBwdRefIdeal.τ).loc Cert.GatedOutBwdRefIdeal.main_v9) = v0 c
          ∧ r.2.mem ((c.tc : Thread Cert.GatedOutBwdRefIdeal.nD Cert.GatedOutBwdRefIdeal.τ).loc Cert.GatedOutBwdRefIdeal.main_v10) = v1 c
          ∧ r.2.mem ((c.tc : Thread Cert.GatedOutBwdRefIdeal.nD Cert.GatedOutBwdRefIdeal.τ).loc Cert.GatedOutBwdRefIdeal.main_v6) = v2 c
          ∧ r.2.mem ((c.tc : Thread Cert.GatedOutBwdRefIdeal.nD Cert.GatedOutBwdRefIdeal.τ).loc Cert.GatedOutBwdRefIdeal.main_arg0) = m' ((c.tc : Thread Cert.GatedOutBwdRefIdeal.nD Cert.GatedOutBwdRefIdeal.τ).loc Cert.GatedOutBwdRefIdeal.main_arg0)
          ∧ r.2.mem ((c.tc : Thread Cert.GatedOutBwdRefIdeal.nD Cert.GatedOutBwdRefIdeal.τ).loc Cert.GatedOutBwdRefIdeal.main_arg1) = m' ((c.tc : Thread Cert.GatedOutBwdRefIdeal.nD Cert.GatedOutBwdRefIdeal.τ).loc Cert.GatedOutBwdRefIdeal.main_arg1)
          ∧ r.2.mem ((c.tc : Thread Cert.GatedOutBwdRefIdeal.nD Cert.GatedOutBwdRefIdeal.τ).loc Cert.GatedOutBwdRefIdeal.main_arg2) = m' ((c.tc : Thread Cert.GatedOutBwdRefIdeal.nD Cert.GatedOutBwdRefIdeal.τ).loc Cert.GatedOutBwdRefIdeal.main_arg2)
          ∧ r.2.mem ((c.tc : Thread Cert.GatedOutBwdRefIdeal.nD Cert.GatedOutBwdRefIdeal.τ).loc Cert.GatedOutBwdRefIdeal.main_arg3) = m' ((c.tc : Thread Cert.GatedOutBwdRefIdeal.nD Cert.GatedOutBwdRefIdeal.τ).loc Cert.GatedOutBwdRefIdeal.main_arg3))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v1_0)) (v1 : (c : Dev Cert.LossHeadIdeal.nD) → Buf (Elt Ideal) ((c.tc : Thread Cert.LossHeadIdeal.nD Cert.LossHeadIdeal.τ).loc Cert.LossHeadIdeal.main_v1_1)) (v2 : (c : Dev Cert.LossHeadIdeal.nD) → Buf (Elt Ideal) ((c.tc : Thread Cert.LossHeadIdeal.nD Cert.LossHeadIdeal.τ).loc Cert.LossHeadIdeal.main_v1_2)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v1_0) = v0 c
          ∧ r.2.mem ((c.tc : Thread Cert.LossHeadIdeal.nD Cert.LossHeadIdeal.τ).loc Cert.LossHeadIdeal.main_v1_1) = v1 c
          ∧ r.2.mem ((c.tc : Thread Cert.LossHeadIdeal.nD Cert.LossHeadIdeal.τ).loc Cert.LossHeadIdeal.main_v1_2) = v2 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v50) = v0 c
          ∧ r.2.mem ((c.tc : Thread Cert.LossHeadRefIdeal.nD Cert.LossHeadRefIdeal.τ).loc Cert.LossHeadRefIdeal.main_v51) = v1 c
          ∧ r.2.mem ((c.tc : Thread Cert.LossHeadRefIdeal.nD Cert.LossHeadRefIdeal.τ).loc Cert.LossHeadRefIdeal.main_v52) = v2 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2))

def preserves_OdInBwd_OdInBwdIdeal : Prop :=
  True

def algebraic_OdInBwdIdeal_OdInBwdRefIdeal [hOdInBwdIdeal : Cert.OdInBwdIdeal.Facts] [hOdInBwdRefIdeal : Cert.OdInBwdRefIdeal.Facts] : Prop :=
  ∀ (m : (ℓ : Loc Cert.OdInBwdIdeal.nD Cert.OdInBwdIdeal.τ Cert.OdInBwdIdeal.sig) → Buf (Elt Ideal) ℓ) (g : Dev Cert.OdInBwdIdeal.nD → PrngReg)
    (m' : (ℓ : Loc Cert.OdInBwdRefIdeal.nD Cert.OdInBwdRefIdeal.τ Cert.OdInBwdRefIdeal.sig) → Buf (Elt Ideal) ℓ) (g' : Dev Cert.OdInBwdRefIdeal.nD → PrngReg), Pre_OdInBwdIdeal m →
    (∀ c : Dev Cert.OdInBwdIdeal.nD,
      m' ((c.tc : Thread Cert.OdInBwdRefIdeal.nD Cert.OdInBwdRefIdeal.τ).loc Cert.OdInBwdRefIdeal.main_arg0) = m ((c.tc : Thread Cert.OdInBwdIdeal.nD Cert.OdInBwdIdeal.τ).loc Cert.OdInBwdIdeal.main_arg0)
      ∧ m' ((c.tc : Thread Cert.OdInBwdRefIdeal.nD Cert.OdInBwdRefIdeal.τ).loc Cert.OdInBwdRefIdeal.main_arg1) = m ((c.tc : Thread Cert.OdInBwdIdeal.nD Cert.OdInBwdIdeal.τ).loc Cert.OdInBwdIdeal.main_arg1)
      ∧ m' ((c.tc : Thread Cert.OdInBwdRefIdeal.nD Cert.OdInBwdRefIdeal.τ).loc Cert.OdInBwdRefIdeal.main_arg2) = m ((c.tc : Thread Cert.OdInBwdIdeal.nD Cert.OdInBwdIdeal.τ).loc Cert.OdInBwdIdeal.main_arg2)
      ∧ m' ((c.tc : Thread Cert.OdInBwdRefIdeal.nD Cert.OdInBwdRefIdeal.τ).loc Cert.OdInBwdRefIdeal.main_arg3) = m ((c.tc : Thread Cert.OdInBwdIdeal.nD Cert.OdInBwdIdeal.τ).loc Cert.OdInBwdIdeal.main_arg3)
      ∧ m' ((c.tc : Thread Cert.OdInBwdRefIdeal.nD Cert.OdInBwdRefIdeal.τ).loc Cert.OdInBwdRefIdeal.main_arg4) = m ((c.tc : Thread Cert.OdInBwdIdeal.nD Cert.OdInBwdIdeal.τ).loc Cert.OdInBwdIdeal.main_arg4)
      ∧ m' ((c.tc : Thread Cert.OdInBwdRefIdeal.nD Cert.OdInBwdRefIdeal.τ).loc Cert.OdInBwdRefIdeal.main_arg5) = m ((c.tc : Thread Cert.OdInBwdIdeal.nD Cert.OdInBwdIdeal.τ).loc Cert.OdInBwdIdeal.main_arg5)
      ∧ m' ((c.tc : Thread Cert.OdInBwdRefIdeal.nD Cert.OdInBwdRefIdeal.τ).loc Cert.OdInBwdRefIdeal.main_arg6) = m ((c.tc : Thread Cert.OdInBwdIdeal.nD Cert.OdInBwdIdeal.τ).loc Cert.OdInBwdIdeal.main_arg6)
      ∧ m' ((c.tc : Thread Cert.OdInBwdRefIdeal.nD Cert.OdInBwdRefIdeal.τ).loc Cert.OdInBwdRefIdeal.main_arg7) = m ((c.tc : Thread Cert.OdInBwdIdeal.nD Cert.OdInBwdIdeal.τ).loc Cert.OdInBwdIdeal.main_arg7)) →
    ∃ (v0 : (c : Dev Cert.OdInBwdIdeal.nD) → Buf (Elt Ideal) ((c.tc : Thread Cert.OdInBwdIdeal.nD Cert.OdInBwdIdeal.τ).loc Cert.OdInBwdIdeal.main_v1_0)) (v1 : (c : Dev Cert.OdInBwdIdeal.nD) → Buf (Elt Ideal) ((c.tc : Thread Cert.OdInBwdIdeal.nD Cert.OdInBwdIdeal.τ).loc Cert.OdInBwdIdeal.main_v1_1)) (v2 : (c : Dev Cert.OdInBwdIdeal.nD) → Buf (Elt Ideal) ((c.tc : Thread Cert.OdInBwdIdeal.nD Cert.OdInBwdIdeal.τ).loc Cert.OdInBwdIdeal.main_v1_2)),
      θ_run (Cert.OdInBwdIdeal.defs (F := Ideal)) (onTc (τ := Cert.OdInBwdIdeal.τ) (Cert.OdInBwdIdeal.main (F := Ideal))) ⟨m, fun _ => 0, g⟩ (fun r => ∀ c : Dev Cert.OdInBwdIdeal.nD,
          r.2.mem ((c.tc : Thread Cert.OdInBwdIdeal.nD Cert.OdInBwdIdeal.τ).loc Cert.OdInBwdIdeal.main_v1_0) = v0 c
          ∧ r.2.mem ((c.tc : Thread Cert.OdInBwdIdeal.nD Cert.OdInBwdIdeal.τ).loc Cert.OdInBwdIdeal.main_v1_1) = v1 c
          ∧ r.2.mem ((c.tc : Thread Cert.OdInBwdIdeal.nD Cert.OdInBwdIdeal.τ).loc Cert.OdInBwdIdeal.main_v1_2) = v2 c
          ∧ r.2.mem ((c.tc : Thread Cert.OdInBwdIdeal.nD Cert.OdInBwdIdeal.τ).loc Cert.OdInBwdIdeal.main_arg0) = m ((c.tc : Thread Cert.OdInBwdIdeal.nD Cert.OdInBwdIdeal.τ).loc Cert.OdInBwdIdeal.main_arg0)
          ∧ r.2.mem ((c.tc : Thread Cert.OdInBwdIdeal.nD Cert.OdInBwdIdeal.τ).loc Cert.OdInBwdIdeal.main_arg1) = m ((c.tc : Thread Cert.OdInBwdIdeal.nD Cert.OdInBwdIdeal.τ).loc Cert.OdInBwdIdeal.main_arg1)
          ∧ r.2.mem ((c.tc : Thread Cert.OdInBwdIdeal.nD Cert.OdInBwdIdeal.τ).loc Cert.OdInBwdIdeal.main_arg2) = m ((c.tc : Thread Cert.OdInBwdIdeal.nD Cert.OdInBwdIdeal.τ).loc Cert.OdInBwdIdeal.main_arg2)
          ∧ r.2.mem ((c.tc : Thread Cert.OdInBwdIdeal.nD Cert.OdInBwdIdeal.τ).loc Cert.OdInBwdIdeal.main_arg3) = m ((c.tc : Thread Cert.OdInBwdIdeal.nD Cert.OdInBwdIdeal.τ).loc Cert.OdInBwdIdeal.main_arg3)
          ∧ r.2.mem ((c.tc : Thread Cert.OdInBwdIdeal.nD Cert.OdInBwdIdeal.τ).loc Cert.OdInBwdIdeal.main_arg4) = m ((c.tc : Thread Cert.OdInBwdIdeal.nD Cert.OdInBwdIdeal.τ).loc Cert.OdInBwdIdeal.main_arg4)
          ∧ r.2.mem ((c.tc : Thread Cert.OdInBwdIdeal.nD Cert.OdInBwdIdeal.τ).loc Cert.OdInBwdIdeal.main_arg5) = m ((c.tc : Thread Cert.OdInBwdIdeal.nD Cert.OdInBwdIdeal.τ).loc Cert.OdInBwdIdeal.main_arg5)
          ∧ r.2.mem ((c.tc : Thread Cert.OdInBwdIdeal.nD Cert.OdInBwdIdeal.τ).loc Cert.OdInBwdIdeal.main_arg6) = m ((c.tc : Thread Cert.OdInBwdIdeal.nD Cert.OdInBwdIdeal.τ).loc Cert.OdInBwdIdeal.main_arg6)
          ∧ r.2.mem ((c.tc : Thread Cert.OdInBwdIdeal.nD Cert.OdInBwdIdeal.τ).loc Cert.OdInBwdIdeal.main_arg7) = m ((c.tc : Thread Cert.OdInBwdIdeal.nD Cert.OdInBwdIdeal.τ).loc Cert.OdInBwdIdeal.main_arg7))
      ∧ θ_run (Cert.OdInBwdRefIdeal.defs (F := Ideal)) (onTc (τ := Cert.OdInBwdRefIdeal.τ) (Cert.OdInBwdRefIdeal.main (F := Ideal))) ⟨m', fun _ => 0, g'⟩ (fun r => ∀ c : Dev Cert.OdInBwdRefIdeal.nD,
          r.2.mem ((c.tc : Thread Cert.OdInBwdRefIdeal.nD Cert.OdInBwdRefIdeal.τ).loc Cert.OdInBwdRefIdeal.main_v42) = v0 c
          ∧ r.2.mem ((c.tc : Thread Cert.OdInBwdRefIdeal.nD Cert.OdInBwdRefIdeal.τ).loc Cert.OdInBwdRefIdeal.main_v43) = v1 c
          ∧ r.2.mem ((c.tc : Thread Cert.OdInBwdRefIdeal.nD Cert.OdInBwdRefIdeal.τ).loc Cert.OdInBwdRefIdeal.main_v20) = v2 c
          ∧ r.2.mem ((c.tc : Thread Cert.OdInBwdRefIdeal.nD Cert.OdInBwdRefIdeal.τ).loc Cert.OdInBwdRefIdeal.main_arg0) = m' ((c.tc : Thread Cert.OdInBwdRefIdeal.nD Cert.OdInBwdRefIdeal.τ).loc Cert.OdInBwdRefIdeal.main_arg0)
          ∧ r.2.mem ((c.tc : Thread Cert.OdInBwdRefIdeal.nD Cert.OdInBwdRefIdeal.τ).loc Cert.OdInBwdRefIdeal.main_arg1) = m' ((c.tc : Thread Cert.OdInBwdRefIdeal.nD Cert.OdInBwdRefIdeal.τ).loc Cert.OdInBwdRefIdeal.main_arg1)
          ∧ r.2.mem ((c.tc : Thread Cert.OdInBwdRefIdeal.nD Cert.OdInBwdRefIdeal.τ).loc Cert.OdInBwdRefIdeal.main_arg2) = m' ((c.tc : Thread Cert.OdInBwdRefIdeal.nD Cert.OdInBwdRefIdeal.τ).loc Cert.OdInBwdRefIdeal.main_arg2)
          ∧ r.2.mem ((c.tc : Thread Cert.OdInBwdRefIdeal.nD Cert.OdInBwdRefIdeal.τ).loc Cert.OdInBwdRefIdeal.main_arg3) = m' ((c.tc : Thread Cert.OdInBwdRefIdeal.nD Cert.OdInBwdRefIdeal.τ).loc Cert.OdInBwdRefIdeal.main_arg3)
          ∧ r.2.mem ((c.tc : Thread Cert.OdInBwdRefIdeal.nD Cert.OdInBwdRefIdeal.τ).loc Cert.OdInBwdRefIdeal.main_arg4) = m' ((c.tc : Thread Cert.OdInBwdRefIdeal.nD Cert.OdInBwdRefIdeal.τ).loc Cert.OdInBwdRefIdeal.main_arg4)
          ∧ r.2.mem ((c.tc : Thread Cert.OdInBwdRefIdeal.nD Cert.OdInBwdRefIdeal.τ).loc Cert.OdInBwdRefIdeal.main_arg5) = m' ((c.tc : Thread Cert.OdInBwdRefIdeal.nD Cert.OdInBwdRefIdeal.τ).loc Cert.OdInBwdRefIdeal.main_arg5)
          ∧ r.2.mem ((c.tc : Thread Cert.OdInBwdRefIdeal.nD Cert.OdInBwdRefIdeal.τ).loc Cert.OdInBwdRefIdeal.main_arg6) = m' ((c.tc : Thread Cert.OdInBwdRefIdeal.nD Cert.OdInBwdRefIdeal.τ).loc Cert.OdInBwdRefIdeal.main_arg6)
          ∧ r.2.mem ((c.tc : Thread Cert.OdInBwdRefIdeal.nD Cert.OdInBwdRefIdeal.τ).loc Cert.OdInBwdRefIdeal.main_arg7) = m' ((c.tc : Thread Cert.OdInBwdRefIdeal.nD Cert.OdInBwdRefIdeal.τ).loc Cert.OdInBwdRefIdeal.main_arg7))

def preserves_EvInBwd_EvInBwdIdeal : Prop :=
  True

def algebraic_EvInBwdIdeal_EvInBwdRefIdeal [hEvInBwdIdeal : Cert.EvInBwdIdeal.Facts] [hEvInBwdRefIdeal : Cert.EvInBwdRefIdeal.Facts] : Prop :=
  ∀ (m : (ℓ : Loc Cert.EvInBwdIdeal.nD Cert.EvInBwdIdeal.τ Cert.EvInBwdIdeal.sig) → Buf (Elt Ideal) ℓ) (g : Dev Cert.EvInBwdIdeal.nD → PrngReg)
    (m' : (ℓ : Loc Cert.EvInBwdRefIdeal.nD Cert.EvInBwdRefIdeal.τ Cert.EvInBwdRefIdeal.sig) → Buf (Elt Ideal) ℓ) (g' : Dev Cert.EvInBwdRefIdeal.nD → PrngReg), Pre_EvInBwdIdeal m →
    (∀ c : Dev Cert.EvInBwdIdeal.nD,
      m' ((c.tc : Thread Cert.EvInBwdRefIdeal.nD Cert.EvInBwdRefIdeal.τ).loc Cert.EvInBwdRefIdeal.main_arg0) = m ((c.tc : Thread Cert.EvInBwdIdeal.nD Cert.EvInBwdIdeal.τ).loc Cert.EvInBwdIdeal.main_arg0)
      ∧ m' ((c.tc : Thread Cert.EvInBwdRefIdeal.nD Cert.EvInBwdRefIdeal.τ).loc Cert.EvInBwdRefIdeal.main_arg1) = m ((c.tc : Thread Cert.EvInBwdIdeal.nD Cert.EvInBwdIdeal.τ).loc Cert.EvInBwdIdeal.main_arg1)
      ∧ m' ((c.tc : Thread Cert.EvInBwdRefIdeal.nD Cert.EvInBwdRefIdeal.τ).loc Cert.EvInBwdRefIdeal.main_arg2) = m ((c.tc : Thread Cert.EvInBwdIdeal.nD Cert.EvInBwdIdeal.τ).loc Cert.EvInBwdIdeal.main_arg2)
      ∧ m' ((c.tc : Thread Cert.EvInBwdRefIdeal.nD Cert.EvInBwdRefIdeal.τ).loc Cert.EvInBwdRefIdeal.main_arg3) = m ((c.tc : Thread Cert.EvInBwdIdeal.nD Cert.EvInBwdIdeal.τ).loc Cert.EvInBwdIdeal.main_arg3)
      ∧ m' ((c.tc : Thread Cert.EvInBwdRefIdeal.nD Cert.EvInBwdRefIdeal.τ).loc Cert.EvInBwdRefIdeal.main_arg4) = m ((c.tc : Thread Cert.EvInBwdIdeal.nD Cert.EvInBwdIdeal.τ).loc Cert.EvInBwdIdeal.main_arg4)
      ∧ m' ((c.tc : Thread Cert.EvInBwdRefIdeal.nD Cert.EvInBwdRefIdeal.τ).loc Cert.EvInBwdRefIdeal.main_arg5) = m ((c.tc : Thread Cert.EvInBwdIdeal.nD Cert.EvInBwdIdeal.τ).loc Cert.EvInBwdIdeal.main_arg5)
      ∧ m' ((c.tc : Thread Cert.EvInBwdRefIdeal.nD Cert.EvInBwdRefIdeal.τ).loc Cert.EvInBwdRefIdeal.main_arg6) = m ((c.tc : Thread Cert.EvInBwdIdeal.nD Cert.EvInBwdIdeal.τ).loc Cert.EvInBwdIdeal.main_arg6)
      ∧ m' ((c.tc : Thread Cert.EvInBwdRefIdeal.nD Cert.EvInBwdRefIdeal.τ).loc Cert.EvInBwdRefIdeal.main_arg7) = m ((c.tc : Thread Cert.EvInBwdIdeal.nD Cert.EvInBwdIdeal.τ).loc Cert.EvInBwdIdeal.main_arg7)
      ∧ m' ((c.tc : Thread Cert.EvInBwdRefIdeal.nD Cert.EvInBwdRefIdeal.τ).loc Cert.EvInBwdRefIdeal.main_arg8) = m ((c.tc : Thread Cert.EvInBwdIdeal.nD Cert.EvInBwdIdeal.τ).loc Cert.EvInBwdIdeal.main_arg8)
      ∧ m' ((c.tc : Thread Cert.EvInBwdRefIdeal.nD Cert.EvInBwdRefIdeal.τ).loc Cert.EvInBwdRefIdeal.main_arg9) = m ((c.tc : Thread Cert.EvInBwdIdeal.nD Cert.EvInBwdIdeal.τ).loc Cert.EvInBwdIdeal.main_arg9)
      ∧ m' ((c.tc : Thread Cert.EvInBwdRefIdeal.nD Cert.EvInBwdRefIdeal.τ).loc Cert.EvInBwdRefIdeal.main_arg10) = m ((c.tc : Thread Cert.EvInBwdIdeal.nD Cert.EvInBwdIdeal.τ).loc Cert.EvInBwdIdeal.main_arg10)
      ∧ m' ((c.tc : Thread Cert.EvInBwdRefIdeal.nD Cert.EvInBwdRefIdeal.τ).loc Cert.EvInBwdRefIdeal.main_arg11) = m ((c.tc : Thread Cert.EvInBwdIdeal.nD Cert.EvInBwdIdeal.τ).loc Cert.EvInBwdIdeal.main_arg11)) →
    ∃ (v0 : (c : Dev Cert.EvInBwdIdeal.nD) → Buf (Elt Ideal) ((c.tc : Thread Cert.EvInBwdIdeal.nD Cert.EvInBwdIdeal.τ).loc Cert.EvInBwdIdeal.main_v1_0)) (v1 : (c : Dev Cert.EvInBwdIdeal.nD) → Buf (Elt Ideal) ((c.tc : Thread Cert.EvInBwdIdeal.nD Cert.EvInBwdIdeal.τ).loc Cert.EvInBwdIdeal.main_v1_1)) (v2 : (c : Dev Cert.EvInBwdIdeal.nD) → Buf (Elt Ideal) ((c.tc : Thread Cert.EvInBwdIdeal.nD Cert.EvInBwdIdeal.τ).loc Cert.EvInBwdIdeal.main_v1_2)),
      θ_run (Cert.EvInBwdIdeal.defs (F := Ideal)) (onTc (τ := Cert.EvInBwdIdeal.τ) (Cert.EvInBwdIdeal.main (F := Ideal))) ⟨m, fun _ => 0, g⟩ (fun r => ∀ c : Dev Cert.EvInBwdIdeal.nD,
          r.2.mem ((c.tc : Thread Cert.EvInBwdIdeal.nD Cert.EvInBwdIdeal.τ).loc Cert.EvInBwdIdeal.main_v1_0) = v0 c
          ∧ r.2.mem ((c.tc : Thread Cert.EvInBwdIdeal.nD Cert.EvInBwdIdeal.τ).loc Cert.EvInBwdIdeal.main_v1_1) = v1 c
          ∧ r.2.mem ((c.tc : Thread Cert.EvInBwdIdeal.nD Cert.EvInBwdIdeal.τ).loc Cert.EvInBwdIdeal.main_v1_2) = v2 c
          ∧ r.2.mem ((c.tc : Thread Cert.EvInBwdIdeal.nD Cert.EvInBwdIdeal.τ).loc Cert.EvInBwdIdeal.main_arg0) = m ((c.tc : Thread Cert.EvInBwdIdeal.nD Cert.EvInBwdIdeal.τ).loc Cert.EvInBwdIdeal.main_arg0)
          ∧ r.2.mem ((c.tc : Thread Cert.EvInBwdIdeal.nD Cert.EvInBwdIdeal.τ).loc Cert.EvInBwdIdeal.main_arg1) = m ((c.tc : Thread Cert.EvInBwdIdeal.nD Cert.EvInBwdIdeal.τ).loc Cert.EvInBwdIdeal.main_arg1)
          ∧ r.2.mem ((c.tc : Thread Cert.EvInBwdIdeal.nD Cert.EvInBwdIdeal.τ).loc Cert.EvInBwdIdeal.main_arg2) = m ((c.tc : Thread Cert.EvInBwdIdeal.nD Cert.EvInBwdIdeal.τ).loc Cert.EvInBwdIdeal.main_arg2)
          ∧ r.2.mem ((c.tc : Thread Cert.EvInBwdIdeal.nD Cert.EvInBwdIdeal.τ).loc Cert.EvInBwdIdeal.main_arg3) = m ((c.tc : Thread Cert.EvInBwdIdeal.nD Cert.EvInBwdIdeal.τ).loc Cert.EvInBwdIdeal.main_arg3)
          ∧ r.2.mem ((c.tc : Thread Cert.EvInBwdIdeal.nD Cert.EvInBwdIdeal.τ).loc Cert.EvInBwdIdeal.main_arg4) = m ((c.tc : Thread Cert.EvInBwdIdeal.nD Cert.EvInBwdIdeal.τ).loc Cert.EvInBwdIdeal.main_arg4)
          ∧ r.2.mem ((c.tc : Thread Cert.EvInBwdIdeal.nD Cert.EvInBwdIdeal.τ).loc Cert.EvInBwdIdeal.main_arg5) = m ((c.tc : Thread Cert.EvInBwdIdeal.nD Cert.EvInBwdIdeal.τ).loc Cert.EvInBwdIdeal.main_arg5)
          ∧ r.2.mem ((c.tc : Thread Cert.EvInBwdIdeal.nD Cert.EvInBwdIdeal.τ).loc Cert.EvInBwdIdeal.main_arg6) = m ((c.tc : Thread Cert.EvInBwdIdeal.nD Cert.EvInBwdIdeal.τ).loc Cert.EvInBwdIdeal.main_arg6)
          ∧ r.2.mem ((c.tc : Thread Cert.EvInBwdIdeal.nD Cert.EvInBwdIdeal.τ).loc Cert.EvInBwdIdeal.main_arg7) = m ((c.tc : Thread Cert.EvInBwdIdeal.nD Cert.EvInBwdIdeal.τ).loc Cert.EvInBwdIdeal.main_arg7)
          ∧ r.2.mem ((c.tc : Thread Cert.EvInBwdIdeal.nD Cert.EvInBwdIdeal.τ).loc Cert.EvInBwdIdeal.main_arg8) = m ((c.tc : Thread Cert.EvInBwdIdeal.nD Cert.EvInBwdIdeal.τ).loc Cert.EvInBwdIdeal.main_arg8)
          ∧ r.2.mem ((c.tc : Thread Cert.EvInBwdIdeal.nD Cert.EvInBwdIdeal.τ).loc Cert.EvInBwdIdeal.main_arg9) = m ((c.tc : Thread Cert.EvInBwdIdeal.nD Cert.EvInBwdIdeal.τ).loc Cert.EvInBwdIdeal.main_arg9)
          ∧ r.2.mem ((c.tc : Thread Cert.EvInBwdIdeal.nD Cert.EvInBwdIdeal.τ).loc Cert.EvInBwdIdeal.main_arg10) = m ((c.tc : Thread Cert.EvInBwdIdeal.nD Cert.EvInBwdIdeal.τ).loc Cert.EvInBwdIdeal.main_arg10)
          ∧ r.2.mem ((c.tc : Thread Cert.EvInBwdIdeal.nD Cert.EvInBwdIdeal.τ).loc Cert.EvInBwdIdeal.main_arg11) = m ((c.tc : Thread Cert.EvInBwdIdeal.nD Cert.EvInBwdIdeal.τ).loc Cert.EvInBwdIdeal.main_arg11))
      ∧ θ_run (Cert.EvInBwdRefIdeal.defs (F := Ideal)) (onTc (τ := Cert.EvInBwdRefIdeal.τ) (Cert.EvInBwdRefIdeal.main (F := Ideal))) ⟨m', fun _ => 0, g'⟩ (fun r => ∀ c : Dev Cert.EvInBwdRefIdeal.nD,
          r.2.mem ((c.tc : Thread Cert.EvInBwdRefIdeal.nD Cert.EvInBwdRefIdeal.τ).loc Cert.EvInBwdRefIdeal.main_v42) = v0 c
          ∧ r.2.mem ((c.tc : Thread Cert.EvInBwdRefIdeal.nD Cert.EvInBwdRefIdeal.τ).loc Cert.EvInBwdRefIdeal.main_v43) = v1 c
          ∧ r.2.mem ((c.tc : Thread Cert.EvInBwdRefIdeal.nD Cert.EvInBwdRefIdeal.τ).loc Cert.EvInBwdRefIdeal.main_v20) = v2 c
          ∧ r.2.mem ((c.tc : Thread Cert.EvInBwdRefIdeal.nD Cert.EvInBwdRefIdeal.τ).loc Cert.EvInBwdRefIdeal.main_arg0) = m' ((c.tc : Thread Cert.EvInBwdRefIdeal.nD Cert.EvInBwdRefIdeal.τ).loc Cert.EvInBwdRefIdeal.main_arg0)
          ∧ r.2.mem ((c.tc : Thread Cert.EvInBwdRefIdeal.nD Cert.EvInBwdRefIdeal.τ).loc Cert.EvInBwdRefIdeal.main_arg1) = m' ((c.tc : Thread Cert.EvInBwdRefIdeal.nD Cert.EvInBwdRefIdeal.τ).loc Cert.EvInBwdRefIdeal.main_arg1)
          ∧ r.2.mem ((c.tc : Thread Cert.EvInBwdRefIdeal.nD Cert.EvInBwdRefIdeal.τ).loc Cert.EvInBwdRefIdeal.main_arg2) = m' ((c.tc : Thread Cert.EvInBwdRefIdeal.nD Cert.EvInBwdRefIdeal.τ).loc Cert.EvInBwdRefIdeal.main_arg2)
          ∧ r.2.mem ((c.tc : Thread Cert.EvInBwdRefIdeal.nD Cert.EvInBwdRefIdeal.τ).loc Cert.EvInBwdRefIdeal.main_arg3) = m' ((c.tc : Thread Cert.EvInBwdRefIdeal.nD Cert.EvInBwdRefIdeal.τ).loc Cert.EvInBwdRefIdeal.main_arg3)
          ∧ r.2.mem ((c.tc : Thread Cert.EvInBwdRefIdeal.nD Cert.EvInBwdRefIdeal.τ).loc Cert.EvInBwdRefIdeal.main_arg4) = m' ((c.tc : Thread Cert.EvInBwdRefIdeal.nD Cert.EvInBwdRefIdeal.τ).loc Cert.EvInBwdRefIdeal.main_arg4)
          ∧ r.2.mem ((c.tc : Thread Cert.EvInBwdRefIdeal.nD Cert.EvInBwdRefIdeal.τ).loc Cert.EvInBwdRefIdeal.main_arg5) = m' ((c.tc : Thread Cert.EvInBwdRefIdeal.nD Cert.EvInBwdRefIdeal.τ).loc Cert.EvInBwdRefIdeal.main_arg5)
          ∧ r.2.mem ((c.tc : Thread Cert.EvInBwdRefIdeal.nD Cert.EvInBwdRefIdeal.τ).loc Cert.EvInBwdRefIdeal.main_arg6) = m' ((c.tc : Thread Cert.EvInBwdRefIdeal.nD Cert.EvInBwdRefIdeal.τ).loc Cert.EvInBwdRefIdeal.main_arg6)
          ∧ r.2.mem ((c.tc : Thread Cert.EvInBwdRefIdeal.nD Cert.EvInBwdRefIdeal.τ).loc Cert.EvInBwdRefIdeal.main_arg7) = m' ((c.tc : Thread Cert.EvInBwdRefIdeal.nD Cert.EvInBwdRefIdeal.τ).loc Cert.EvInBwdRefIdeal.main_arg7)
          ∧ r.2.mem ((c.tc : Thread Cert.EvInBwdRefIdeal.nD Cert.EvInBwdRefIdeal.τ).loc Cert.EvInBwdRefIdeal.main_arg8) = m' ((c.tc : Thread Cert.EvInBwdRefIdeal.nD Cert.EvInBwdRefIdeal.τ).loc Cert.EvInBwdRefIdeal.main_arg8)
          ∧ r.2.mem ((c.tc : Thread Cert.EvInBwdRefIdeal.nD Cert.EvInBwdRefIdeal.τ).loc Cert.EvInBwdRefIdeal.main_arg9) = m' ((c.tc : Thread Cert.EvInBwdRefIdeal.nD Cert.EvInBwdRefIdeal.τ).loc Cert.EvInBwdRefIdeal.main_arg9)
          ∧ r.2.mem ((c.tc : Thread Cert.EvInBwdRefIdeal.nD Cert.EvInBwdRefIdeal.τ).loc Cert.EvInBwdRefIdeal.main_arg10) = m' ((c.tc : Thread Cert.EvInBwdRefIdeal.nD Cert.EvInBwdRefIdeal.τ).loc Cert.EvInBwdRefIdeal.main_arg10)
          ∧ r.2.mem ((c.tc : Thread Cert.EvInBwdRefIdeal.nD Cert.EvInBwdRefIdeal.τ).loc Cert.EvInBwdRefIdeal.main_arg11) = m' ((c.tc : Thread Cert.EvInBwdRefIdeal.nD Cert.EvInBwdRefIdeal.τ).loc Cert.EvInBwdRefIdeal.main_arg11))

def preserves_KvBwd_KvBwdIdeal : Prop :=
  True

def algebraic_KvBwdIdeal_KvBwdRefIdeal [hKvBwdIdeal : Cert.KvBwdIdeal.Facts] [hKvBwdRefIdeal : Cert.KvBwdRefIdeal.Facts] : Prop :=
  ∀ (m : (ℓ : Loc Cert.KvBwdIdeal.nD Cert.KvBwdIdeal.τ Cert.KvBwdIdeal.sig) → Buf (Elt Ideal) ℓ) (g : Dev Cert.KvBwdIdeal.nD → PrngReg)
    (m' : (ℓ : Loc Cert.KvBwdRefIdeal.nD Cert.KvBwdRefIdeal.τ Cert.KvBwdRefIdeal.sig) → Buf (Elt Ideal) ℓ) (g' : Dev Cert.KvBwdRefIdeal.nD → PrngReg), Pre_KvBwdIdeal m →
    (∀ c : Dev Cert.KvBwdIdeal.nD,
      m' ((c.tc : Thread Cert.KvBwdRefIdeal.nD Cert.KvBwdRefIdeal.τ).loc Cert.KvBwdRefIdeal.main_arg0) = m ((c.tc : Thread Cert.KvBwdIdeal.nD Cert.KvBwdIdeal.τ).loc Cert.KvBwdIdeal.main_arg0)
      ∧ m' ((c.tc : Thread Cert.KvBwdRefIdeal.nD Cert.KvBwdRefIdeal.τ).loc Cert.KvBwdRefIdeal.main_arg1) = m ((c.tc : Thread Cert.KvBwdIdeal.nD Cert.KvBwdIdeal.τ).loc Cert.KvBwdIdeal.main_arg1)
      ∧ m' ((c.tc : Thread Cert.KvBwdRefIdeal.nD Cert.KvBwdRefIdeal.τ).loc Cert.KvBwdRefIdeal.main_arg2) = m ((c.tc : Thread Cert.KvBwdIdeal.nD Cert.KvBwdIdeal.τ).loc Cert.KvBwdIdeal.main_arg2)
      ∧ m' ((c.tc : Thread Cert.KvBwdRefIdeal.nD Cert.KvBwdRefIdeal.τ).loc Cert.KvBwdRefIdeal.main_arg3) = m ((c.tc : Thread Cert.KvBwdIdeal.nD Cert.KvBwdIdeal.τ).loc Cert.KvBwdIdeal.main_arg3)
      ∧ m' ((c.tc : Thread Cert.KvBwdRefIdeal.nD Cert.KvBwdRefIdeal.τ).loc Cert.KvBwdRefIdeal.main_arg4) = m ((c.tc : Thread Cert.KvBwdIdeal.nD Cert.KvBwdIdeal.τ).loc Cert.KvBwdIdeal.main_arg4)
      ∧ m' ((c.tc : Thread Cert.KvBwdRefIdeal.nD Cert.KvBwdRefIdeal.τ).loc Cert.KvBwdRefIdeal.main_arg5) = m ((c.tc : Thread Cert.KvBwdIdeal.nD Cert.KvBwdIdeal.τ).loc Cert.KvBwdIdeal.main_arg5)) →
    ∃ (v0 : (c : Dev Cert.KvBwdIdeal.nD) → Buf (Elt Ideal) ((c.tc : Thread Cert.KvBwdIdeal.nD Cert.KvBwdIdeal.τ).loc Cert.KvBwdIdeal.main_v1_0)) (v1 : (c : Dev Cert.KvBwdIdeal.nD) → Buf (Elt Ideal) ((c.tc : Thread Cert.KvBwdIdeal.nD Cert.KvBwdIdeal.τ).loc Cert.KvBwdIdeal.main_v1_1)) (v2 : (c : Dev Cert.KvBwdIdeal.nD) → Buf (Elt Ideal) ((c.tc : Thread Cert.KvBwdIdeal.nD Cert.KvBwdIdeal.τ).loc Cert.KvBwdIdeal.main_v1_2)),
      θ_run (Cert.KvBwdIdeal.defs (F := Ideal)) (onTc (τ := Cert.KvBwdIdeal.τ) (Cert.KvBwdIdeal.main (F := Ideal))) ⟨m, fun _ => 0, g⟩ (fun r => ∀ c : Dev Cert.KvBwdIdeal.nD,
          r.2.mem ((c.tc : Thread Cert.KvBwdIdeal.nD Cert.KvBwdIdeal.τ).loc Cert.KvBwdIdeal.main_v1_0) = v0 c
          ∧ r.2.mem ((c.tc : Thread Cert.KvBwdIdeal.nD Cert.KvBwdIdeal.τ).loc Cert.KvBwdIdeal.main_v1_1) = v1 c
          ∧ r.2.mem ((c.tc : Thread Cert.KvBwdIdeal.nD Cert.KvBwdIdeal.τ).loc Cert.KvBwdIdeal.main_v1_2) = v2 c
          ∧ r.2.mem ((c.tc : Thread Cert.KvBwdIdeal.nD Cert.KvBwdIdeal.τ).loc Cert.KvBwdIdeal.main_arg0) = m ((c.tc : Thread Cert.KvBwdIdeal.nD Cert.KvBwdIdeal.τ).loc Cert.KvBwdIdeal.main_arg0)
          ∧ r.2.mem ((c.tc : Thread Cert.KvBwdIdeal.nD Cert.KvBwdIdeal.τ).loc Cert.KvBwdIdeal.main_arg1) = m ((c.tc : Thread Cert.KvBwdIdeal.nD Cert.KvBwdIdeal.τ).loc Cert.KvBwdIdeal.main_arg1)
          ∧ r.2.mem ((c.tc : Thread Cert.KvBwdIdeal.nD Cert.KvBwdIdeal.τ).loc Cert.KvBwdIdeal.main_arg2) = m ((c.tc : Thread Cert.KvBwdIdeal.nD Cert.KvBwdIdeal.τ).loc Cert.KvBwdIdeal.main_arg2)
          ∧ r.2.mem ((c.tc : Thread Cert.KvBwdIdeal.nD Cert.KvBwdIdeal.τ).loc Cert.KvBwdIdeal.main_arg3) = m ((c.tc : Thread Cert.KvBwdIdeal.nD Cert.KvBwdIdeal.τ).loc Cert.KvBwdIdeal.main_arg3)
          ∧ r.2.mem ((c.tc : Thread Cert.KvBwdIdeal.nD Cert.KvBwdIdeal.τ).loc Cert.KvBwdIdeal.main_arg4) = m ((c.tc : Thread Cert.KvBwdIdeal.nD Cert.KvBwdIdeal.τ).loc Cert.KvBwdIdeal.main_arg4)
          ∧ r.2.mem ((c.tc : Thread Cert.KvBwdIdeal.nD Cert.KvBwdIdeal.τ).loc Cert.KvBwdIdeal.main_arg5) = m ((c.tc : Thread Cert.KvBwdIdeal.nD Cert.KvBwdIdeal.τ).loc Cert.KvBwdIdeal.main_arg5))
      ∧ θ_run (Cert.KvBwdRefIdeal.defs (F := Ideal)) (onTc (τ := Cert.KvBwdRefIdeal.τ) (Cert.KvBwdRefIdeal.main (F := Ideal))) ⟨m', fun _ => 0, g'⟩ (fun r => ∀ c : Dev Cert.KvBwdRefIdeal.nD,
          r.2.mem ((c.tc : Thread Cert.KvBwdRefIdeal.nD Cert.KvBwdRefIdeal.τ).loc Cert.KvBwdRefIdeal.main_v28) = v0 c
          ∧ r.2.mem ((c.tc : Thread Cert.KvBwdRefIdeal.nD Cert.KvBwdRefIdeal.τ).loc Cert.KvBwdRefIdeal.main_v21) = v1 c
          ∧ r.2.mem ((c.tc : Thread Cert.KvBwdRefIdeal.nD Cert.KvBwdRefIdeal.τ).loc Cert.KvBwdRefIdeal.main_v18) = v2 c
          ∧ r.2.mem ((c.tc : Thread Cert.KvBwdRefIdeal.nD Cert.KvBwdRefIdeal.τ).loc Cert.KvBwdRefIdeal.main_arg0) = m' ((c.tc : Thread Cert.KvBwdRefIdeal.nD Cert.KvBwdRefIdeal.τ).loc Cert.KvBwdRefIdeal.main_arg0)
          ∧ r.2.mem ((c.tc : Thread Cert.KvBwdRefIdeal.nD Cert.KvBwdRefIdeal.τ).loc Cert.KvBwdRefIdeal.main_arg1) = m' ((c.tc : Thread Cert.KvBwdRefIdeal.nD Cert.KvBwdRefIdeal.τ).loc Cert.KvBwdRefIdeal.main_arg1)
          ∧ r.2.mem ((c.tc : Thread Cert.KvBwdRefIdeal.nD Cert.KvBwdRefIdeal.τ).loc Cert.KvBwdRefIdeal.main_arg2) = m' ((c.tc : Thread Cert.KvBwdRefIdeal.nD Cert.KvBwdRefIdeal.τ).loc Cert.KvBwdRefIdeal.main_arg2)
          ∧ r.2.mem ((c.tc : Thread Cert.KvBwdRefIdeal.nD Cert.KvBwdRefIdeal.τ).loc Cert.KvBwdRefIdeal.main_arg3) = m' ((c.tc : Thread Cert.KvBwdRefIdeal.nD Cert.KvBwdRefIdeal.τ).loc Cert.KvBwdRefIdeal.main_arg3)
          ∧ r.2.mem ((c.tc : Thread Cert.KvBwdRefIdeal.nD Cert.KvBwdRefIdeal.τ).loc Cert.KvBwdRefIdeal.main_arg4) = m' ((c.tc : Thread Cert.KvBwdRefIdeal.nD Cert.KvBwdRefIdeal.τ).loc Cert.KvBwdRefIdeal.main_arg4)
          ∧ r.2.mem ((c.tc : Thread Cert.KvBwdRefIdeal.nD Cert.KvBwdRefIdeal.τ).loc Cert.KvBwdRefIdeal.main_arg5) = m' ((c.tc : Thread Cert.KvBwdRefIdeal.nD Cert.KvBwdRefIdeal.τ).loc Cert.KvBwdRefIdeal.main_arg5))

def preserves_ConvBwd_ConvBwdIdeal : Prop :=
  True

def algebraic_ConvBwdIdeal_ConvBwdRefIdeal [hConvBwdIdeal : Cert.ConvBwdIdeal.Facts] [hConvBwdRefIdeal : Cert.ConvBwdRefIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg)
    (m' : (ℓ : Loc Cert.ConvBwdRefIdeal.nD Cert.ConvBwdRefIdeal.τ Cert.ConvBwdRefIdeal.sig) → Buf (Elt Ideal) ℓ) (g' : Dev Cert.ConvBwdRefIdeal.nD → PrngReg), Pre_ConvBwdIdeal m →
    (∀ c : Dev Cert.ConvBwdIdeal.nD,
      m' ((c.tc : Thread Cert.ConvBwdRefIdeal.nD Cert.ConvBwdRefIdeal.τ).loc Cert.ConvBwdRefIdeal.main_arg0) = m ((c.tc : Thread Cert.ConvBwdIdeal.nD Cert.ConvBwdIdeal.τ).loc Cert.ConvBwdIdeal.main_arg0)
      ∧ m' ((c.tc : Thread Cert.ConvBwdRefIdeal.nD Cert.ConvBwdRefIdeal.τ).loc Cert.ConvBwdRefIdeal.main_arg1) = m ((c.tc : Thread Cert.ConvBwdIdeal.nD Cert.ConvBwdIdeal.τ).loc Cert.ConvBwdIdeal.main_arg1)
      ∧ m' ((c.tc : Thread Cert.ConvBwdRefIdeal.nD Cert.ConvBwdRefIdeal.τ).loc Cert.ConvBwdRefIdeal.main_arg2) = m ((c.tc : Thread Cert.ConvBwdIdeal.nD Cert.ConvBwdIdeal.τ).loc Cert.ConvBwdIdeal.main_arg2)) →
    ∃ (v0 : (c : Dev Cert.ConvBwdIdeal.nD) → Buf (Elt Ideal) ((c.tc : Thread Cert.ConvBwdIdeal.nD Cert.ConvBwdIdeal.τ).loc Cert.ConvBwdIdeal.main_v1_0)) (v1 : (c : Dev Cert.ConvBwdIdeal.nD) → Buf (Elt Ideal) ((c.tc : Thread Cert.ConvBwdIdeal.nD Cert.ConvBwdIdeal.τ).loc Cert.ConvBwdIdeal.main_v1_1)),
      θ_run (Cert.ConvBwdIdeal.defs (F := Ideal)) (onTc (τ := Cert.ConvBwdIdeal.τ) (Cert.ConvBwdIdeal.main (F := Ideal))) ⟨m, fun _ => 0, g⟩ (fun r => ∀ c : Dev Cert.ConvBwdIdeal.nD,
          r.2.mem ((c.tc : Thread Cert.ConvBwdIdeal.nD Cert.ConvBwdIdeal.τ).loc Cert.ConvBwdIdeal.main_v1_0) = v0 c
          ∧ r.2.mem ((c.tc : Thread Cert.ConvBwdIdeal.nD Cert.ConvBwdIdeal.τ).loc Cert.ConvBwdIdeal.main_v1_1) = v1 c
          ∧ r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
          ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
          ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2))
      ∧ θ_run (Cert.ConvBwdRefIdeal.defs (F := Ideal)) (onTc (τ := Cert.ConvBwdRefIdeal.τ) (Cert.ConvBwdRefIdeal.main (F := Ideal))) ⟨m', fun _ => 0, g'⟩ (fun r => ∀ c : Dev Cert.ConvBwdRefIdeal.nD,
          r.2.mem ((c.tc : Thread Cert.ConvBwdRefIdeal.nD Cert.ConvBwdRefIdeal.τ).loc Cert.ConvBwdRefIdeal.main_v361) = v0 c
          ∧ r.2.mem ((c.tc : Thread Cert.ConvBwdRefIdeal.nD Cert.ConvBwdRefIdeal.τ).loc Cert.ConvBwdRefIdeal.main_v362) = v1 c
          ∧ r.2.mem ((c.tc : Thread Cert.ConvBwdRefIdeal.nD Cert.ConvBwdRefIdeal.τ).loc Cert.ConvBwdRefIdeal.main_arg0) = m' ((c.tc : Thread Cert.ConvBwdRefIdeal.nD Cert.ConvBwdRefIdeal.τ).loc Cert.ConvBwdRefIdeal.main_arg0)
          ∧ r.2.mem ((c.tc : Thread Cert.ConvBwdRefIdeal.nD Cert.ConvBwdRefIdeal.τ).loc Cert.ConvBwdRefIdeal.main_arg1) = m' ((c.tc : Thread Cert.ConvBwdRefIdeal.nD Cert.ConvBwdRefIdeal.τ).loc Cert.ConvBwdRefIdeal.main_arg1)
          ∧ r.2.mem ((c.tc : Thread Cert.ConvBwdRefIdeal.nD Cert.ConvBwdRefIdeal.τ).loc Cert.ConvBwdRefIdeal.main_arg2) = m' ((c.tc : Thread Cert.ConvBwdRefIdeal.nD Cert.ConvBwdRefIdeal.τ).loc Cert.ConvBwdRefIdeal.main_arg2))

def preserves_S5DiscBwd_S5DiscBwdIdeal : Prop :=
  True

def algebraic_S5DiscBwdIdeal_S5DiscBwdRefIdeal [hS5DiscBwdIdeal : Cert.S5DiscBwdIdeal.Facts] [hS5DiscBwdRefIdeal : Cert.S5DiscBwdRefIdeal.Facts] : Prop :=
  ∀ (m : (ℓ : Loc Cert.S5DiscBwdIdeal.nD Cert.S5DiscBwdIdeal.τ Cert.S5DiscBwdIdeal.sig) → Buf (Elt Ideal) ℓ) (g : Dev Cert.S5DiscBwdIdeal.nD → PrngReg)
    (m' : (ℓ : Loc Cert.S5DiscBwdRefIdeal.nD Cert.S5DiscBwdRefIdeal.τ Cert.S5DiscBwdRefIdeal.sig) → Buf (Elt Ideal) ℓ) (g' : Dev Cert.S5DiscBwdRefIdeal.nD → PrngReg), Pre_S5DiscBwdIdeal m →
    (∀ c : Dev Cert.S5DiscBwdIdeal.nD,
      m' ((c.tc : Thread Cert.S5DiscBwdRefIdeal.nD Cert.S5DiscBwdRefIdeal.τ).loc Cert.S5DiscBwdRefIdeal.main_arg0) = m ((c.tc : Thread Cert.S5DiscBwdIdeal.nD Cert.S5DiscBwdIdeal.τ).loc Cert.S5DiscBwdIdeal.main_arg0)
      ∧ m' ((c.tc : Thread Cert.S5DiscBwdRefIdeal.nD Cert.S5DiscBwdRefIdeal.τ).loc Cert.S5DiscBwdRefIdeal.main_arg1) = m ((c.tc : Thread Cert.S5DiscBwdIdeal.nD Cert.S5DiscBwdIdeal.τ).loc Cert.S5DiscBwdIdeal.main_arg1)
      ∧ m' ((c.tc : Thread Cert.S5DiscBwdRefIdeal.nD Cert.S5DiscBwdRefIdeal.τ).loc Cert.S5DiscBwdRefIdeal.main_arg2) = m ((c.tc : Thread Cert.S5DiscBwdIdeal.nD Cert.S5DiscBwdIdeal.τ).loc Cert.S5DiscBwdIdeal.main_arg2)
      ∧ m' ((c.tc : Thread Cert.S5DiscBwdRefIdeal.nD Cert.S5DiscBwdRefIdeal.τ).loc Cert.S5DiscBwdRefIdeal.main_arg3) = m ((c.tc : Thread Cert.S5DiscBwdIdeal.nD Cert.S5DiscBwdIdeal.τ).loc Cert.S5DiscBwdIdeal.main_arg3)
      ∧ m' ((c.tc : Thread Cert.S5DiscBwdRefIdeal.nD Cert.S5DiscBwdRefIdeal.τ).loc Cert.S5DiscBwdRefIdeal.main_arg4) = m ((c.tc : Thread Cert.S5DiscBwdIdeal.nD Cert.S5DiscBwdIdeal.τ).loc Cert.S5DiscBwdIdeal.main_arg4)
      ∧ m' ((c.tc : Thread Cert.S5DiscBwdRefIdeal.nD Cert.S5DiscBwdRefIdeal.τ).loc Cert.S5DiscBwdRefIdeal.main_arg5) = m ((c.tc : Thread Cert.S5DiscBwdIdeal.nD Cert.S5DiscBwdIdeal.τ).loc Cert.S5DiscBwdIdeal.main_arg5)
      ∧ m' ((c.tc : Thread Cert.S5DiscBwdRefIdeal.nD Cert.S5DiscBwdRefIdeal.τ).loc Cert.S5DiscBwdRefIdeal.main_arg6) = m ((c.tc : Thread Cert.S5DiscBwdIdeal.nD Cert.S5DiscBwdIdeal.τ).loc Cert.S5DiscBwdIdeal.main_arg6)
      ∧ m' ((c.tc : Thread Cert.S5DiscBwdRefIdeal.nD Cert.S5DiscBwdRefIdeal.τ).loc Cert.S5DiscBwdRefIdeal.main_arg7) = m ((c.tc : Thread Cert.S5DiscBwdIdeal.nD Cert.S5DiscBwdIdeal.τ).loc Cert.S5DiscBwdIdeal.main_arg7)
      ∧ m' ((c.tc : Thread Cert.S5DiscBwdRefIdeal.nD Cert.S5DiscBwdRefIdeal.τ).loc Cert.S5DiscBwdRefIdeal.main_arg8) = m ((c.tc : Thread Cert.S5DiscBwdIdeal.nD Cert.S5DiscBwdIdeal.τ).loc Cert.S5DiscBwdIdeal.main_arg8)) →
    ∃ (v0 : (c : Dev Cert.S5DiscBwdIdeal.nD) → Buf (Elt Ideal) ((c.tc : Thread Cert.S5DiscBwdIdeal.nD Cert.S5DiscBwdIdeal.τ).loc Cert.S5DiscBwdIdeal.main_v9_0)) (v1 : (c : Dev Cert.S5DiscBwdIdeal.nD) → Buf (Elt Ideal) ((c.tc : Thread Cert.S5DiscBwdIdeal.nD Cert.S5DiscBwdIdeal.τ).loc Cert.S5DiscBwdIdeal.main_v9_1)) (v2 : (c : Dev Cert.S5DiscBwdIdeal.nD) → Buf (Elt Ideal) ((c.tc : Thread Cert.S5DiscBwdIdeal.nD Cert.S5DiscBwdIdeal.τ).loc Cert.S5DiscBwdIdeal.main_v9_2)) (v3 : (c : Dev Cert.S5DiscBwdIdeal.nD) → Buf (Elt Ideal) ((c.tc : Thread Cert.S5DiscBwdIdeal.nD Cert.S5DiscBwdIdeal.τ).loc Cert.S5DiscBwdIdeal.main_v9_3)) (v4 : (c : Dev Cert.S5DiscBwdIdeal.nD) → Buf (Elt Ideal) ((c.tc : Thread Cert.S5DiscBwdIdeal.nD Cert.S5DiscBwdIdeal.τ).loc Cert.S5DiscBwdIdeal.main_v9_4)),
      θ_run (Cert.S5DiscBwdIdeal.defs (F := Ideal)) (onTc (τ := Cert.S5DiscBwdIdeal.τ) (Cert.S5DiscBwdIdeal.main (F := Ideal))) ⟨m, fun _ => 0, g⟩ (fun r => ∀ c : Dev Cert.S5DiscBwdIdeal.nD,
          r.2.mem ((c.tc : Thread Cert.S5DiscBwdIdeal.nD Cert.S5DiscBwdIdeal.τ).loc Cert.S5DiscBwdIdeal.main_v9_0) = v0 c
          ∧ r.2.mem ((c.tc : Thread Cert.S5DiscBwdIdeal.nD Cert.S5DiscBwdIdeal.τ).loc Cert.S5DiscBwdIdeal.main_v9_1) = v1 c
          ∧ r.2.mem ((c.tc : Thread Cert.S5DiscBwdIdeal.nD Cert.S5DiscBwdIdeal.τ).loc Cert.S5DiscBwdIdeal.main_v9_2) = v2 c
          ∧ r.2.mem ((c.tc : Thread Cert.S5DiscBwdIdeal.nD Cert.S5DiscBwdIdeal.τ).loc Cert.S5DiscBwdIdeal.main_v9_3) = v3 c
          ∧ r.2.mem ((c.tc : Thread Cert.S5DiscBwdIdeal.nD Cert.S5DiscBwdIdeal.τ).loc Cert.S5DiscBwdIdeal.main_v9_4) = v4 c
          ∧ r.2.mem ((c.tc : Thread Cert.S5DiscBwdIdeal.nD Cert.S5DiscBwdIdeal.τ).loc Cert.S5DiscBwdIdeal.main_arg0) = m ((c.tc : Thread Cert.S5DiscBwdIdeal.nD Cert.S5DiscBwdIdeal.τ).loc Cert.S5DiscBwdIdeal.main_arg0)
          ∧ r.2.mem ((c.tc : Thread Cert.S5DiscBwdIdeal.nD Cert.S5DiscBwdIdeal.τ).loc Cert.S5DiscBwdIdeal.main_arg1) = m ((c.tc : Thread Cert.S5DiscBwdIdeal.nD Cert.S5DiscBwdIdeal.τ).loc Cert.S5DiscBwdIdeal.main_arg1)
          ∧ r.2.mem ((c.tc : Thread Cert.S5DiscBwdIdeal.nD Cert.S5DiscBwdIdeal.τ).loc Cert.S5DiscBwdIdeal.main_arg2) = m ((c.tc : Thread Cert.S5DiscBwdIdeal.nD Cert.S5DiscBwdIdeal.τ).loc Cert.S5DiscBwdIdeal.main_arg2)
          ∧ r.2.mem ((c.tc : Thread Cert.S5DiscBwdIdeal.nD Cert.S5DiscBwdIdeal.τ).loc Cert.S5DiscBwdIdeal.main_arg3) = m ((c.tc : Thread Cert.S5DiscBwdIdeal.nD Cert.S5DiscBwdIdeal.τ).loc Cert.S5DiscBwdIdeal.main_arg3)
          ∧ r.2.mem ((c.tc : Thread Cert.S5DiscBwdIdeal.nD Cert.S5DiscBwdIdeal.τ).loc Cert.S5DiscBwdIdeal.main_arg4) = m ((c.tc : Thread Cert.S5DiscBwdIdeal.nD Cert.S5DiscBwdIdeal.τ).loc Cert.S5DiscBwdIdeal.main_arg4)
          ∧ r.2.mem ((c.tc : Thread Cert.S5DiscBwdIdeal.nD Cert.S5DiscBwdIdeal.τ).loc Cert.S5DiscBwdIdeal.main_arg5) = m ((c.tc : Thread Cert.S5DiscBwdIdeal.nD Cert.S5DiscBwdIdeal.τ).loc Cert.S5DiscBwdIdeal.main_arg5)
          ∧ r.2.mem ((c.tc : Thread Cert.S5DiscBwdIdeal.nD Cert.S5DiscBwdIdeal.τ).loc Cert.S5DiscBwdIdeal.main_arg6) = m ((c.tc : Thread Cert.S5DiscBwdIdeal.nD Cert.S5DiscBwdIdeal.τ).loc Cert.S5DiscBwdIdeal.main_arg6)
          ∧ r.2.mem ((c.tc : Thread Cert.S5DiscBwdIdeal.nD Cert.S5DiscBwdIdeal.τ).loc Cert.S5DiscBwdIdeal.main_arg7) = m ((c.tc : Thread Cert.S5DiscBwdIdeal.nD Cert.S5DiscBwdIdeal.τ).loc Cert.S5DiscBwdIdeal.main_arg7)
          ∧ r.2.mem ((c.tc : Thread Cert.S5DiscBwdIdeal.nD Cert.S5DiscBwdIdeal.τ).loc Cert.S5DiscBwdIdeal.main_arg8) = m ((c.tc : Thread Cert.S5DiscBwdIdeal.nD Cert.S5DiscBwdIdeal.τ).loc Cert.S5DiscBwdIdeal.main_arg8))
      ∧ θ_run (Cert.S5DiscBwdRefIdeal.defs (F := Ideal)) (onTc (τ := Cert.S5DiscBwdRefIdeal.τ) (Cert.S5DiscBwdRefIdeal.main (F := Ideal))) ⟨m', fun _ => 0, g'⟩ (fun r => ∀ c : Dev Cert.S5DiscBwdRefIdeal.nD,
          r.2.mem ((c.tc : Thread Cert.S5DiscBwdRefIdeal.nD Cert.S5DiscBwdRefIdeal.τ).loc Cert.S5DiscBwdRefIdeal.main_v140) = v0 c
          ∧ r.2.mem ((c.tc : Thread Cert.S5DiscBwdRefIdeal.nD Cert.S5DiscBwdRefIdeal.τ).loc Cert.S5DiscBwdRefIdeal.main_v132) = v1 c
          ∧ r.2.mem ((c.tc : Thread Cert.S5DiscBwdRefIdeal.nD Cert.S5DiscBwdRefIdeal.τ).loc Cert.S5DiscBwdRefIdeal.main_v143) = v2 c
          ∧ r.2.mem ((c.tc : Thread Cert.S5DiscBwdRefIdeal.nD Cert.S5DiscBwdRefIdeal.τ).loc Cert.S5DiscBwdRefIdeal.main_v145) = v3 c
          ∧ r.2.mem ((c.tc : Thread Cert.S5DiscBwdRefIdeal.nD Cert.S5DiscBwdRefIdeal.τ).loc Cert.S5DiscBwdRefIdeal.main_v147) = v4 c
          ∧ r.2.mem ((c.tc : Thread Cert.S5DiscBwdRefIdeal.nD Cert.S5DiscBwdRefIdeal.τ).loc Cert.S5DiscBwdRefIdeal.main_arg0) = m' ((c.tc : Thread Cert.S5DiscBwdRefIdeal.nD Cert.S5DiscBwdRefIdeal.τ).loc Cert.S5DiscBwdRefIdeal.main_arg0)
          ∧ r.2.mem ((c.tc : Thread Cert.S5DiscBwdRefIdeal.nD Cert.S5DiscBwdRefIdeal.τ).loc Cert.S5DiscBwdRefIdeal.main_arg1) = m' ((c.tc : Thread Cert.S5DiscBwdRefIdeal.nD Cert.S5DiscBwdRefIdeal.τ).loc Cert.S5DiscBwdRefIdeal.main_arg1)
          ∧ r.2.mem ((c.tc : Thread Cert.S5DiscBwdRefIdeal.nD Cert.S5DiscBwdRefIdeal.τ).loc Cert.S5DiscBwdRefIdeal.main_arg2) = m' ((c.tc : Thread Cert.S5DiscBwdRefIdeal.nD Cert.S5DiscBwdRefIdeal.τ).loc Cert.S5DiscBwdRefIdeal.main_arg2)
          ∧ r.2.mem ((c.tc : Thread Cert.S5DiscBwdRefIdeal.nD Cert.S5DiscBwdRefIdeal.τ).loc Cert.S5DiscBwdRefIdeal.main_arg3) = m' ((c.tc : Thread Cert.S5DiscBwdRefIdeal.nD Cert.S5DiscBwdRefIdeal.τ).loc Cert.S5DiscBwdRefIdeal.main_arg3)
          ∧ r.2.mem ((c.tc : Thread Cert.S5DiscBwdRefIdeal.nD Cert.S5DiscBwdRefIdeal.τ).loc Cert.S5DiscBwdRefIdeal.main_arg4) = m' ((c.tc : Thread Cert.S5DiscBwdRefIdeal.nD Cert.S5DiscBwdRefIdeal.τ).loc Cert.S5DiscBwdRefIdeal.main_arg4)
          ∧ r.2.mem ((c.tc : Thread Cert.S5DiscBwdRefIdeal.nD Cert.S5DiscBwdRefIdeal.τ).loc Cert.S5DiscBwdRefIdeal.main_arg5) = m' ((c.tc : Thread Cert.S5DiscBwdRefIdeal.nD Cert.S5DiscBwdRefIdeal.τ).loc Cert.S5DiscBwdRefIdeal.main_arg5)
          ∧ r.2.mem ((c.tc : Thread Cert.S5DiscBwdRefIdeal.nD Cert.S5DiscBwdRefIdeal.τ).loc Cert.S5DiscBwdRefIdeal.main_arg6) = m' ((c.tc : Thread Cert.S5DiscBwdRefIdeal.nD Cert.S5DiscBwdRefIdeal.τ).loc Cert.S5DiscBwdRefIdeal.main_arg6)
          ∧ r.2.mem ((c.tc : Thread Cert.S5DiscBwdRefIdeal.nD Cert.S5DiscBwdRefIdeal.τ).loc Cert.S5DiscBwdRefIdeal.main_arg7) = m' ((c.tc : Thread Cert.S5DiscBwdRefIdeal.nD Cert.S5DiscBwdRefIdeal.τ).loc Cert.S5DiscBwdRefIdeal.main_arg7)
          ∧ r.2.mem ((c.tc : Thread Cert.S5DiscBwdRefIdeal.nD Cert.S5DiscBwdRefIdeal.τ).loc Cert.S5DiscBwdRefIdeal.main_arg8) = m' ((c.tc : Thread Cert.S5DiscBwdRefIdeal.nD Cert.S5DiscBwdRefIdeal.τ).loc Cert.S5DiscBwdRefIdeal.main_arg8))

def preserves_EvOutBwd_EvOutBwdIdeal : Prop :=
  True

def algebraic_EvOutBwdIdeal_EvOutBwdRefIdeal [hEvOutBwdIdeal : Cert.EvOutBwdIdeal.Facts] [hEvOutBwdRefIdeal : Cert.EvOutBwdRefIdeal.Facts] : Prop :=
  ∀ (m : (ℓ : Loc Cert.EvOutBwdIdeal.nD Cert.EvOutBwdIdeal.τ Cert.EvOutBwdIdeal.sig) → Buf (Elt Ideal) ℓ) (g : Dev Cert.EvOutBwdIdeal.nD → PrngReg)
    (m' : (ℓ : Loc Cert.EvOutBwdRefIdeal.nD Cert.EvOutBwdRefIdeal.τ Cert.EvOutBwdRefIdeal.sig) → Buf (Elt Ideal) ℓ) (g' : Dev Cert.EvOutBwdRefIdeal.nD → PrngReg), Pre_EvOutBwdIdeal m →
    (∀ c : Dev Cert.EvOutBwdIdeal.nD,
      m' ((c.tc : Thread Cert.EvOutBwdRefIdeal.nD Cert.EvOutBwdRefIdeal.τ).loc Cert.EvOutBwdRefIdeal.main_arg0) = m ((c.tc : Thread Cert.EvOutBwdIdeal.nD Cert.EvOutBwdIdeal.τ).loc Cert.EvOutBwdIdeal.main_arg0)
      ∧ m' ((c.tc : Thread Cert.EvOutBwdRefIdeal.nD Cert.EvOutBwdRefIdeal.τ).loc Cert.EvOutBwdRefIdeal.main_arg1) = m ((c.tc : Thread Cert.EvOutBwdIdeal.nD Cert.EvOutBwdIdeal.τ).loc Cert.EvOutBwdIdeal.main_arg1)
      ∧ m' ((c.tc : Thread Cert.EvOutBwdRefIdeal.nD Cert.EvOutBwdRefIdeal.τ).loc Cert.EvOutBwdRefIdeal.main_arg2) = m ((c.tc : Thread Cert.EvOutBwdIdeal.nD Cert.EvOutBwdIdeal.τ).loc Cert.EvOutBwdIdeal.main_arg2)
      ∧ m' ((c.tc : Thread Cert.EvOutBwdRefIdeal.nD Cert.EvOutBwdRefIdeal.τ).loc Cert.EvOutBwdRefIdeal.main_arg3) = m ((c.tc : Thread Cert.EvOutBwdIdeal.nD Cert.EvOutBwdIdeal.τ).loc Cert.EvOutBwdIdeal.main_arg3)
      ∧ m' ((c.tc : Thread Cert.EvOutBwdRefIdeal.nD Cert.EvOutBwdRefIdeal.τ).loc Cert.EvOutBwdRefIdeal.main_arg4) = m ((c.tc : Thread Cert.EvOutBwdIdeal.nD Cert.EvOutBwdIdeal.τ).loc Cert.EvOutBwdIdeal.main_arg4)
      ∧ m' ((c.tc : Thread Cert.EvOutBwdRefIdeal.nD Cert.EvOutBwdRefIdeal.τ).loc Cert.EvOutBwdRefIdeal.main_arg5) = m ((c.tc : Thread Cert.EvOutBwdIdeal.nD Cert.EvOutBwdIdeal.τ).loc Cert.EvOutBwdIdeal.main_arg5)
      ∧ m' ((c.tc : Thread Cert.EvOutBwdRefIdeal.nD Cert.EvOutBwdRefIdeal.τ).loc Cert.EvOutBwdRefIdeal.main_arg6) = m ((c.tc : Thread Cert.EvOutBwdIdeal.nD Cert.EvOutBwdIdeal.τ).loc Cert.EvOutBwdIdeal.main_arg6)
      ∧ m' ((c.tc : Thread Cert.EvOutBwdRefIdeal.nD Cert.EvOutBwdRefIdeal.τ).loc Cert.EvOutBwdRefIdeal.main_arg7) = m ((c.tc : Thread Cert.EvOutBwdIdeal.nD Cert.EvOutBwdIdeal.τ).loc Cert.EvOutBwdIdeal.main_arg7)
      ∧ m' ((c.tc : Thread Cert.EvOutBwdRefIdeal.nD Cert.EvOutBwdRefIdeal.τ).loc Cert.EvOutBwdRefIdeal.main_arg8) = m ((c.tc : Thread Cert.EvOutBwdIdeal.nD Cert.EvOutBwdIdeal.τ).loc Cert.EvOutBwdIdeal.main_arg8)
      ∧ m' ((c.tc : Thread Cert.EvOutBwdRefIdeal.nD Cert.EvOutBwdRefIdeal.τ).loc Cert.EvOutBwdRefIdeal.main_arg9) = m ((c.tc : Thread Cert.EvOutBwdIdeal.nD Cert.EvOutBwdIdeal.τ).loc Cert.EvOutBwdIdeal.main_arg9)
      ∧ m' ((c.tc : Thread Cert.EvOutBwdRefIdeal.nD Cert.EvOutBwdRefIdeal.τ).loc Cert.EvOutBwdRefIdeal.main_arg10) = m ((c.tc : Thread Cert.EvOutBwdIdeal.nD Cert.EvOutBwdIdeal.τ).loc Cert.EvOutBwdIdeal.main_arg10)
      ∧ m' ((c.tc : Thread Cert.EvOutBwdRefIdeal.nD Cert.EvOutBwdRefIdeal.τ).loc Cert.EvOutBwdRefIdeal.main_arg11) = m ((c.tc : Thread Cert.EvOutBwdIdeal.nD Cert.EvOutBwdIdeal.τ).loc Cert.EvOutBwdIdeal.main_arg11)) →
    ∃ (v0 : (c : Dev Cert.EvOutBwdIdeal.nD) → Buf (Elt Ideal) ((c.tc : Thread Cert.EvOutBwdIdeal.nD Cert.EvOutBwdIdeal.τ).loc Cert.EvOutBwdIdeal.main_v3_0)) (v1 : (c : Dev Cert.EvOutBwdIdeal.nD) → Buf (Elt Ideal) ((c.tc : Thread Cert.EvOutBwdIdeal.nD Cert.EvOutBwdIdeal.τ).loc Cert.EvOutBwdIdeal.main_v3_1)) (v2 : (c : Dev Cert.EvOutBwdIdeal.nD) → Buf (Elt Ideal) ((c.tc : Thread Cert.EvOutBwdIdeal.nD Cert.EvOutBwdIdeal.τ).loc Cert.EvOutBwdIdeal.main_v3_2)) (v3 : (c : Dev Cert.EvOutBwdIdeal.nD) → Buf (Elt Ideal) ((c.tc : Thread Cert.EvOutBwdIdeal.nD Cert.EvOutBwdIdeal.τ).loc Cert.EvOutBwdIdeal.main_v3_3)) (v4 : (c : Dev Cert.EvOutBwdIdeal.nD) → Buf (Elt Ideal) ((c.tc : Thread Cert.EvOutBwdIdeal.nD Cert.EvOutBwdIdeal.τ).loc Cert.EvOutBwdIdeal.main_v3_4)) (v5 : (c : Dev Cert.EvOutBwdIdeal.nD) → Buf (Elt Ideal) ((c.tc : Thread Cert.EvOutBwdIdeal.nD Cert.EvOutBwdIdeal.τ).loc Cert.EvOutBwdIdeal.main_v3_5)) (v6 : (c : Dev Cert.EvOutBwdIdeal.nD) → Buf (Elt Ideal) ((c.tc : Thread Cert.EvOutBwdIdeal.nD Cert.EvOutBwdIdeal.τ).loc Cert.EvOutBwdIdeal.main_v3_6)) (v7 : (c : Dev Cert.EvOutBwdIdeal.nD) → Buf (Elt Ideal) ((c.tc : Thread Cert.EvOutBwdIdeal.nD Cert.EvOutBwdIdeal.τ).loc Cert.EvOutBwdIdeal.main_v3_7)) (v8 : (c : Dev Cert.EvOutBwdIdeal.nD) → Buf (Elt Ideal) ((c.tc : Thread Cert.EvOutBwdIdeal.nD Cert.EvOutBwdIdeal.τ).loc Cert.EvOutBwdIdeal.main_v3_8)),
      θ_run (Cert.EvOutBwdIdeal.defs (F := Ideal)) (onTc (τ := Cert.EvOutBwdIdeal.τ) (Cert.EvOutBwdIdeal.main (F := Ideal))) ⟨m, fun _ => 0, g⟩ (fun r => ∀ c : Dev Cert.EvOutBwdIdeal.nD,
          r.2.mem ((c.tc : Thread Cert.EvOutBwdIdeal.nD Cert.EvOutBwdIdeal.τ).loc Cert.EvOutBwdIdeal.main_v3_0) = v0 c
          ∧ r.2.mem ((c.tc : Thread Cert.EvOutBwdIdeal.nD Cert.EvOutBwdIdeal.τ).loc Cert.EvOutBwdIdeal.main_v3_1) = v1 c
          ∧ r.2.mem ((c.tc : Thread Cert.EvOutBwdIdeal.nD Cert.EvOutBwdIdeal.τ).loc Cert.EvOutBwdIdeal.main_v3_2) = v2 c
          ∧ r.2.mem ((c.tc : Thread Cert.EvOutBwdIdeal.nD Cert.EvOutBwdIdeal.τ).loc Cert.EvOutBwdIdeal.main_v3_3) = v3 c
          ∧ r.2.mem ((c.tc : Thread Cert.EvOutBwdIdeal.nD Cert.EvOutBwdIdeal.τ).loc Cert.EvOutBwdIdeal.main_v3_4) = v4 c
          ∧ r.2.mem ((c.tc : Thread Cert.EvOutBwdIdeal.nD Cert.EvOutBwdIdeal.τ).loc Cert.EvOutBwdIdeal.main_v3_5) = v5 c
          ∧ r.2.mem ((c.tc : Thread Cert.EvOutBwdIdeal.nD Cert.EvOutBwdIdeal.τ).loc Cert.EvOutBwdIdeal.main_v3_6) = v6 c
          ∧ r.2.mem ((c.tc : Thread Cert.EvOutBwdIdeal.nD Cert.EvOutBwdIdeal.τ).loc Cert.EvOutBwdIdeal.main_v3_7) = v7 c
          ∧ r.2.mem ((c.tc : Thread Cert.EvOutBwdIdeal.nD Cert.EvOutBwdIdeal.τ).loc Cert.EvOutBwdIdeal.main_v3_8) = v8 c
          ∧ r.2.mem ((c.tc : Thread Cert.EvOutBwdIdeal.nD Cert.EvOutBwdIdeal.τ).loc Cert.EvOutBwdIdeal.main_arg0) = m ((c.tc : Thread Cert.EvOutBwdIdeal.nD Cert.EvOutBwdIdeal.τ).loc Cert.EvOutBwdIdeal.main_arg0)
          ∧ r.2.mem ((c.tc : Thread Cert.EvOutBwdIdeal.nD Cert.EvOutBwdIdeal.τ).loc Cert.EvOutBwdIdeal.main_arg1) = m ((c.tc : Thread Cert.EvOutBwdIdeal.nD Cert.EvOutBwdIdeal.τ).loc Cert.EvOutBwdIdeal.main_arg1)
          ∧ r.2.mem ((c.tc : Thread Cert.EvOutBwdIdeal.nD Cert.EvOutBwdIdeal.τ).loc Cert.EvOutBwdIdeal.main_arg2) = m ((c.tc : Thread Cert.EvOutBwdIdeal.nD Cert.EvOutBwdIdeal.τ).loc Cert.EvOutBwdIdeal.main_arg2)
          ∧ r.2.mem ((c.tc : Thread Cert.EvOutBwdIdeal.nD Cert.EvOutBwdIdeal.τ).loc Cert.EvOutBwdIdeal.main_arg3) = m ((c.tc : Thread Cert.EvOutBwdIdeal.nD Cert.EvOutBwdIdeal.τ).loc Cert.EvOutBwdIdeal.main_arg3)
          ∧ r.2.mem ((c.tc : Thread Cert.EvOutBwdIdeal.nD Cert.EvOutBwdIdeal.τ).loc Cert.EvOutBwdIdeal.main_arg4) = m ((c.tc : Thread Cert.EvOutBwdIdeal.nD Cert.EvOutBwdIdeal.τ).loc Cert.EvOutBwdIdeal.main_arg4)
          ∧ r.2.mem ((c.tc : Thread Cert.EvOutBwdIdeal.nD Cert.EvOutBwdIdeal.τ).loc Cert.EvOutBwdIdeal.main_arg5) = m ((c.tc : Thread Cert.EvOutBwdIdeal.nD Cert.EvOutBwdIdeal.τ).loc Cert.EvOutBwdIdeal.main_arg5)
          ∧ r.2.mem ((c.tc : Thread Cert.EvOutBwdIdeal.nD Cert.EvOutBwdIdeal.τ).loc Cert.EvOutBwdIdeal.main_arg6) = m ((c.tc : Thread Cert.EvOutBwdIdeal.nD Cert.EvOutBwdIdeal.τ).loc Cert.EvOutBwdIdeal.main_arg6)
          ∧ r.2.mem ((c.tc : Thread Cert.EvOutBwdIdeal.nD Cert.EvOutBwdIdeal.τ).loc Cert.EvOutBwdIdeal.main_arg7) = m ((c.tc : Thread Cert.EvOutBwdIdeal.nD Cert.EvOutBwdIdeal.τ).loc Cert.EvOutBwdIdeal.main_arg7)
          ∧ r.2.mem ((c.tc : Thread Cert.EvOutBwdIdeal.nD Cert.EvOutBwdIdeal.τ).loc Cert.EvOutBwdIdeal.main_arg8) = m ((c.tc : Thread Cert.EvOutBwdIdeal.nD Cert.EvOutBwdIdeal.τ).loc Cert.EvOutBwdIdeal.main_arg8)
          ∧ r.2.mem ((c.tc : Thread Cert.EvOutBwdIdeal.nD Cert.EvOutBwdIdeal.τ).loc Cert.EvOutBwdIdeal.main_arg9) = m ((c.tc : Thread Cert.EvOutBwdIdeal.nD Cert.EvOutBwdIdeal.τ).loc Cert.EvOutBwdIdeal.main_arg9)
          ∧ r.2.mem ((c.tc : Thread Cert.EvOutBwdIdeal.nD Cert.EvOutBwdIdeal.τ).loc Cert.EvOutBwdIdeal.main_arg10) = m ((c.tc : Thread Cert.EvOutBwdIdeal.nD Cert.EvOutBwdIdeal.τ).loc Cert.EvOutBwdIdeal.main_arg10)
          ∧ r.2.mem ((c.tc : Thread Cert.EvOutBwdIdeal.nD Cert.EvOutBwdIdeal.τ).loc Cert.EvOutBwdIdeal.main_arg11) = m ((c.tc : Thread Cert.EvOutBwdIdeal.nD Cert.EvOutBwdIdeal.τ).loc Cert.EvOutBwdIdeal.main_arg11))
      ∧ θ_run (Cert.EvOutBwdRefIdeal.defs (F := Ideal)) (onTc (τ := Cert.EvOutBwdRefIdeal.τ) (Cert.EvOutBwdRefIdeal.main (F := Ideal))) ⟨m', fun _ => 0, g'⟩ (fun r => ∀ c : Dev Cert.EvOutBwdRefIdeal.nD,
          r.2.mem ((c.tc : Thread Cert.EvOutBwdRefIdeal.nD Cert.EvOutBwdRefIdeal.τ).loc Cert.EvOutBwdRefIdeal.main_v142) = v0 c
          ∧ r.2.mem ((c.tc : Thread Cert.EvOutBwdRefIdeal.nD Cert.EvOutBwdRefIdeal.τ).loc Cert.EvOutBwdRefIdeal.main_v117) = v1 c
          ∧ r.2.mem ((c.tc : Thread Cert.EvOutBwdRefIdeal.nD Cert.EvOutBwdRefIdeal.τ).loc Cert.EvOutBwdRefIdeal.main_v120) = v2 c
          ∧ r.2.mem ((c.tc : Thread Cert.EvOutBwdRefIdeal.nD Cert.EvOutBwdRefIdeal.τ).loc Cert.EvOutBwdRefIdeal.main_v83) = v3 c
          ∧ r.2.mem ((c.tc : Thread Cert.EvOutBwdRefIdeal.nD Cert.EvOutBwdRefIdeal.τ).loc Cert.EvOutBwdRefIdeal.main_v143) = v4 c
          ∧ r.2.mem ((c.tc : Thread Cert.EvOutBwdRefIdeal.nD Cert.EvOutBwdRefIdeal.τ).loc Cert.EvOutBwdRefIdeal.main_v144) = v5 c
          ∧ r.2.mem ((c.tc : Thread Cert.EvOutBwdRefIdeal.nD Cert.EvOutBwdRefIdeal.τ).loc Cert.EvOutBwdRefIdeal.main_v145) = v6 c
          ∧ r.2.mem ((c.tc : Thread Cert.EvOutBwdRefIdeal.nD Cert.EvOutBwdRefIdeal.τ).loc Cert.EvOutBwdRefIdeal.main_v128) = v7 c
          ∧ r.2.mem ((c.tc : Thread Cert.EvOutBwdRefIdeal.nD Cert.EvOutBwdRefIdeal.τ).loc Cert.EvOutBwdRefIdeal.main_v77) = v8 c
          ∧ r.2.mem ((c.tc : Thread Cert.EvOutBwdRefIdeal.nD Cert.EvOutBwdRefIdeal.τ).loc Cert.EvOutBwdRefIdeal.main_arg0) = m' ((c.tc : Thread Cert.EvOutBwdRefIdeal.nD Cert.EvOutBwdRefIdeal.τ).loc Cert.EvOutBwdRefIdeal.main_arg0)
          ∧ r.2.mem ((c.tc : Thread Cert.EvOutBwdRefIdeal.nD Cert.EvOutBwdRefIdeal.τ).loc Cert.EvOutBwdRefIdeal.main_arg1) = m' ((c.tc : Thread Cert.EvOutBwdRefIdeal.nD Cert.EvOutBwdRefIdeal.τ).loc Cert.EvOutBwdRefIdeal.main_arg1)
          ∧ r.2.mem ((c.tc : Thread Cert.EvOutBwdRefIdeal.nD Cert.EvOutBwdRefIdeal.τ).loc Cert.EvOutBwdRefIdeal.main_arg2) = m' ((c.tc : Thread Cert.EvOutBwdRefIdeal.nD Cert.EvOutBwdRefIdeal.τ).loc Cert.EvOutBwdRefIdeal.main_arg2)
          ∧ r.2.mem ((c.tc : Thread Cert.EvOutBwdRefIdeal.nD Cert.EvOutBwdRefIdeal.τ).loc Cert.EvOutBwdRefIdeal.main_arg3) = m' ((c.tc : Thread Cert.EvOutBwdRefIdeal.nD Cert.EvOutBwdRefIdeal.τ).loc Cert.EvOutBwdRefIdeal.main_arg3)
          ∧ r.2.mem ((c.tc : Thread Cert.EvOutBwdRefIdeal.nD Cert.EvOutBwdRefIdeal.τ).loc Cert.EvOutBwdRefIdeal.main_arg4) = m' ((c.tc : Thread Cert.EvOutBwdRefIdeal.nD Cert.EvOutBwdRefIdeal.τ).loc Cert.EvOutBwdRefIdeal.main_arg4)
          ∧ r.2.mem ((c.tc : Thread Cert.EvOutBwdRefIdeal.nD Cert.EvOutBwdRefIdeal.τ).loc Cert.EvOutBwdRefIdeal.main_arg5) = m' ((c.tc : Thread Cert.EvOutBwdRefIdeal.nD Cert.EvOutBwdRefIdeal.τ).loc Cert.EvOutBwdRefIdeal.main_arg5)
          ∧ r.2.mem ((c.tc : Thread Cert.EvOutBwdRefIdeal.nD Cert.EvOutBwdRefIdeal.τ).loc Cert.EvOutBwdRefIdeal.main_arg6) = m' ((c.tc : Thread Cert.EvOutBwdRefIdeal.nD Cert.EvOutBwdRefIdeal.τ).loc Cert.EvOutBwdRefIdeal.main_arg6)
          ∧ r.2.mem ((c.tc : Thread Cert.EvOutBwdRefIdeal.nD Cert.EvOutBwdRefIdeal.τ).loc Cert.EvOutBwdRefIdeal.main_arg7) = m' ((c.tc : Thread Cert.EvOutBwdRefIdeal.nD Cert.EvOutBwdRefIdeal.τ).loc Cert.EvOutBwdRefIdeal.main_arg7)
          ∧ r.2.mem ((c.tc : Thread Cert.EvOutBwdRefIdeal.nD Cert.EvOutBwdRefIdeal.τ).loc Cert.EvOutBwdRefIdeal.main_arg8) = m' ((c.tc : Thread Cert.EvOutBwdRefIdeal.nD Cert.EvOutBwdRefIdeal.τ).loc Cert.EvOutBwdRefIdeal.main_arg8)
          ∧ r.2.mem ((c.tc : Thread Cert.EvOutBwdRefIdeal.nD Cert.EvOutBwdRefIdeal.τ).loc Cert.EvOutBwdRefIdeal.main_arg9) = m' ((c.tc : Thread Cert.EvOutBwdRefIdeal.nD Cert.EvOutBwdRefIdeal.τ).loc Cert.EvOutBwdRefIdeal.main_arg9)
          ∧ r.2.mem ((c.tc : Thread Cert.EvOutBwdRefIdeal.nD Cert.EvOutBwdRefIdeal.τ).loc Cert.EvOutBwdRefIdeal.main_arg10) = m' ((c.tc : Thread Cert.EvOutBwdRefIdeal.nD Cert.EvOutBwdRefIdeal.τ).loc Cert.EvOutBwdRefIdeal.main_arg10)
          ∧ r.2.mem ((c.tc : Thread Cert.EvOutBwdRefIdeal.nD Cert.EvOutBwdRefIdeal.τ).loc Cert.EvOutBwdRefIdeal.main_arg11) = m' ((c.tc : Thread Cert.EvOutBwdRefIdeal.nD Cert.EvOutBwdRefIdeal.τ).loc Cert.EvOutBwdRefIdeal.main_arg11))

def preserves_XaBwd_XaBwdIdeal : Prop :=
  True

def algebraic_XaBwdIdeal_XaBwdRefIdeal [hXaBwdIdeal : Cert.XaBwdIdeal.Facts] [hXaBwdRefIdeal : Cert.XaBwdRefIdeal.Facts] : Prop :=
  ∀ (m : (ℓ : Loc Cert.XaBwdIdeal.nD Cert.XaBwdIdeal.τ Cert.XaBwdIdeal.sig) → Buf (Elt Ideal) ℓ) (g : Dev Cert.XaBwdIdeal.nD → PrngReg)
    (m' : (ℓ : Loc Cert.XaBwdRefIdeal.nD Cert.XaBwdRefIdeal.τ Cert.XaBwdRefIdeal.sig) → Buf (Elt Ideal) ℓ) (g' : Dev Cert.XaBwdRefIdeal.nD → PrngReg), Pre_XaBwdIdeal m →
    (∀ c : Dev Cert.XaBwdIdeal.nD,
      m' ((c.tc : Thread Cert.XaBwdRefIdeal.nD Cert.XaBwdRefIdeal.τ).loc Cert.XaBwdRefIdeal.main_arg0) = m ((c.tc : Thread Cert.XaBwdIdeal.nD Cert.XaBwdIdeal.τ).loc Cert.XaBwdIdeal.main_arg0)
      ∧ m' ((c.tc : Thread Cert.XaBwdRefIdeal.nD Cert.XaBwdRefIdeal.τ).loc Cert.XaBwdRefIdeal.main_arg1) = m ((c.tc : Thread Cert.XaBwdIdeal.nD Cert.XaBwdIdeal.τ).loc Cert.XaBwdIdeal.main_arg1)
      ∧ m' ((c.tc : Thread Cert.XaBwdRefIdeal.nD Cert.XaBwdRefIdeal.τ).loc Cert.XaBwdRefIdeal.main_arg2) = m ((c.tc : Thread Cert.XaBwdIdeal.nD Cert.XaBwdIdeal.τ).loc Cert.XaBwdIdeal.main_arg2)
      ∧ m' ((c.tc : Thread Cert.XaBwdRefIdeal.nD Cert.XaBwdRefIdeal.τ).loc Cert.XaBwdRefIdeal.main_arg3) = m ((c.tc : Thread Cert.XaBwdIdeal.nD Cert.XaBwdIdeal.τ).loc Cert.XaBwdIdeal.main_arg3)
      ∧ m' ((c.tc : Thread Cert.XaBwdRefIdeal.nD Cert.XaBwdRefIdeal.τ).loc Cert.XaBwdRefIdeal.main_arg4) = m ((c.tc : Thread Cert.XaBwdIdeal.nD Cert.XaBwdIdeal.τ).loc Cert.XaBwdIdeal.main_arg4)
      ∧ m' ((c.tc : Thread Cert.XaBwdRefIdeal.nD Cert.XaBwdRefIdeal.τ).loc Cert.XaBwdRefIdeal.main_arg5) = m ((c.tc : Thread Cert.XaBwdIdeal.nD Cert.XaBwdIdeal.τ).loc Cert.XaBwdIdeal.main_arg5)) →
    ∃ (v0 : (c : Dev Cert.XaBwdIdeal.nD) → Buf (Elt Ideal) ((c.tc : Thread Cert.XaBwdIdeal.nD Cert.XaBwdIdeal.τ).loc Cert.XaBwdIdeal.main_v1_0)) (v1 : (c : Dev Cert.XaBwdIdeal.nD) → Buf (Elt Ideal) ((c.tc : Thread Cert.XaBwdIdeal.nD Cert.XaBwdIdeal.τ).loc Cert.XaBwdIdeal.main_v1_1)) (v2 : (c : Dev Cert.XaBwdIdeal.nD) → Buf (Elt Ideal) ((c.tc : Thread Cert.XaBwdIdeal.nD Cert.XaBwdIdeal.τ).loc Cert.XaBwdIdeal.main_v1_2)) (v3 : (c : Dev Cert.XaBwdIdeal.nD) → Buf (Elt Ideal) ((c.tc : Thread Cert.XaBwdIdeal.nD Cert.XaBwdIdeal.τ).loc Cert.XaBwdIdeal.main_v1_3)) (v4 : (c : Dev Cert.XaBwdIdeal.nD) → Buf (Elt Ideal) ((c.tc : Thread Cert.XaBwdIdeal.nD Cert.XaBwdIdeal.τ).loc Cert.XaBwdIdeal.main_v1_4)),
      θ_run (Cert.XaBwdIdeal.defs (F := Ideal)) (onTc (τ := Cert.XaBwdIdeal.τ) (Cert.XaBwdIdeal.main (F := Ideal))) ⟨m, fun _ => 0, g⟩ (fun r => ∀ c : Dev Cert.XaBwdIdeal.nD,
          r.2.mem ((c.tc : Thread Cert.XaBwdIdeal.nD Cert.XaBwdIdeal.τ).loc Cert.XaBwdIdeal.main_v1_0) = v0 c
          ∧ r.2.mem ((c.tc : Thread Cert.XaBwdIdeal.nD Cert.XaBwdIdeal.τ).loc Cert.XaBwdIdeal.main_v1_1) = v1 c
          ∧ r.2.mem ((c.tc : Thread Cert.XaBwdIdeal.nD Cert.XaBwdIdeal.τ).loc Cert.XaBwdIdeal.main_v1_2) = v2 c
          ∧ r.2.mem ((c.tc : Thread Cert.XaBwdIdeal.nD Cert.XaBwdIdeal.τ).loc Cert.XaBwdIdeal.main_v1_3) = v3 c
          ∧ r.2.mem ((c.tc : Thread Cert.XaBwdIdeal.nD Cert.XaBwdIdeal.τ).loc Cert.XaBwdIdeal.main_v1_4) = v4 c
          ∧ r.2.mem ((c.tc : Thread Cert.XaBwdIdeal.nD Cert.XaBwdIdeal.τ).loc Cert.XaBwdIdeal.main_arg0) = m ((c.tc : Thread Cert.XaBwdIdeal.nD Cert.XaBwdIdeal.τ).loc Cert.XaBwdIdeal.main_arg0)
          ∧ r.2.mem ((c.tc : Thread Cert.XaBwdIdeal.nD Cert.XaBwdIdeal.τ).loc Cert.XaBwdIdeal.main_arg1) = m ((c.tc : Thread Cert.XaBwdIdeal.nD Cert.XaBwdIdeal.τ).loc Cert.XaBwdIdeal.main_arg1)
          ∧ r.2.mem ((c.tc : Thread Cert.XaBwdIdeal.nD Cert.XaBwdIdeal.τ).loc Cert.XaBwdIdeal.main_arg2) = m ((c.tc : Thread Cert.XaBwdIdeal.nD Cert.XaBwdIdeal.τ).loc Cert.XaBwdIdeal.main_arg2)
          ∧ r.2.mem ((c.tc : Thread Cert.XaBwdIdeal.nD Cert.XaBwdIdeal.τ).loc Cert.XaBwdIdeal.main_arg3) = m ((c.tc : Thread Cert.XaBwdIdeal.nD Cert.XaBwdIdeal.τ).loc Cert.XaBwdIdeal.main_arg3)
          ∧ r.2.mem ((c.tc : Thread Cert.XaBwdIdeal.nD Cert.XaBwdIdeal.τ).loc Cert.XaBwdIdeal.main_arg4) = m ((c.tc : Thread Cert.XaBwdIdeal.nD Cert.XaBwdIdeal.τ).loc Cert.XaBwdIdeal.main_arg4)
          ∧ r.2.mem ((c.tc : Thread Cert.XaBwdIdeal.nD Cert.XaBwdIdeal.τ).loc Cert.XaBwdIdeal.main_arg5) = m ((c.tc : Thread Cert.XaBwdIdeal.nD Cert.XaBwdIdeal.τ).loc Cert.XaBwdIdeal.main_arg5))
      ∧ θ_run (Cert.XaBwdRefIdeal.defs (F := Ideal)) (onTc (τ := Cert.XaBwdRefIdeal.τ) (Cert.XaBwdRefIdeal.main (F := Ideal))) ⟨m', fun _ => 0, g'⟩ (fun r => ∀ c : Dev Cert.XaBwdRefIdeal.nD,
          r.2.mem ((c.tc : Thread Cert.XaBwdRefIdeal.nD Cert.XaBwdRefIdeal.τ).loc Cert.XaBwdRefIdeal.main_v123) = v0 c
          ∧ r.2.mem ((c.tc : Thread Cert.XaBwdRefIdeal.nD Cert.XaBwdRefIdeal.τ).loc Cert.XaBwdRefIdeal.main_v124) = v1 c
          ∧ r.2.mem ((c.tc : Thread Cert.XaBwdRefIdeal.nD Cert.XaBwdRefIdeal.τ).loc Cert.XaBwdRefIdeal.main_v96) = v2 c
          ∧ r.2.mem ((c.tc : Thread Cert.XaBwdRefIdeal.nD Cert.XaBwdRefIdeal.τ).loc Cert.XaBwdRefIdeal.main_v101) = v3 c
          ∧ r.2.mem ((c.tc : Thread Cert.XaBwdRefIdeal.nD Cert.XaBwdRefIdeal.τ).loc Cert.XaBwdRefIdeal.main_v55) = v4 c
          ∧ r.2.mem ((c.tc : Thread Cert.XaBwdRefIdeal.nD Cert.XaBwdRefIdeal.τ).loc Cert.XaBwdRefIdeal.main_arg0) = m' ((c.tc : Thread Cert.XaBwdRefIdeal.nD Cert.XaBwdRefIdeal.τ).loc Cert.XaBwdRefIdeal.main_arg0)
          ∧ r.2.mem ((c.tc : Thread Cert.XaBwdRefIdeal.nD Cert.XaBwdRefIdeal.τ).loc Cert.XaBwdRefIdeal.main_arg1) = m' ((c.tc : Thread Cert.XaBwdRefIdeal.nD Cert.XaBwdRefIdeal.τ).loc Cert.XaBwdRefIdeal.main_arg1)
          ∧ r.2.mem ((c.tc : Thread Cert.XaBwdRefIdeal.nD Cert.XaBwdRefIdeal.τ).loc Cert.XaBwdRefIdeal.main_arg2) = m' ((c.tc : Thread Cert.XaBwdRefIdeal.nD Cert.XaBwdRefIdeal.τ).loc Cert.XaBwdRefIdeal.main_arg2)
          ∧ r.2.mem ((c.tc : Thread Cert.XaBwdRefIdeal.nD Cert.XaBwdRefIdeal.τ).loc Cert.XaBwdRefIdeal.main_arg3) = m' ((c.tc : Thread Cert.XaBwdRefIdeal.nD Cert.XaBwdRefIdeal.τ).loc Cert.XaBwdRefIdeal.main_arg3)
          ∧ r.2.mem ((c.tc : Thread Cert.XaBwdRefIdeal.nD Cert.XaBwdRefIdeal.τ).loc Cert.XaBwdRefIdeal.main_arg4) = m' ((c.tc : Thread Cert.XaBwdRefIdeal.nD Cert.XaBwdRefIdeal.τ).loc Cert.XaBwdRefIdeal.main_arg4)
          ∧ r.2.mem ((c.tc : Thread Cert.XaBwdRefIdeal.nD Cert.XaBwdRefIdeal.τ).loc Cert.XaBwdRefIdeal.main_arg5) = m' ((c.tc : Thread Cert.XaBwdRefIdeal.nD Cert.XaBwdRefIdeal.τ).loc Cert.XaBwdRefIdeal.main_arg5))

def preserves_GatedOutFwd_GatedOutFwdIdeal : Prop :=
  True

def algebraic_GatedOutFwdIdeal_GatedOutFwdRefIdeal [hGatedOutFwdIdeal : Cert.GatedOutFwdIdeal.Facts] [hGatedOutFwdRefIdeal : Cert.GatedOutFwdRefIdeal.Facts] : Prop :=
  ∀ (m : (ℓ : Loc Cert.GatedOutFwdIdeal.nD Cert.GatedOutFwdIdeal.τ Cert.GatedOutFwdIdeal.sig) → Buf (Elt Ideal) ℓ) (g : Dev Cert.GatedOutFwdIdeal.nD → PrngReg)
    (m' : (ℓ : Loc Cert.GatedOutFwdRefIdeal.nD Cert.GatedOutFwdRefIdeal.τ Cert.GatedOutFwdRefIdeal.sig) → Buf (Elt Ideal) ℓ) (g' : Dev Cert.GatedOutFwdRefIdeal.nD → PrngReg), Pre_GatedOutFwdIdeal m →
    (∀ c : Dev Cert.GatedOutFwdIdeal.nD,
      m' ((c.tc : Thread Cert.GatedOutFwdRefIdeal.nD Cert.GatedOutFwdRefIdeal.τ).loc Cert.GatedOutFwdRefIdeal.main_arg0) = m ((c.tc : Thread Cert.GatedOutFwdIdeal.nD Cert.GatedOutFwdIdeal.τ).loc Cert.GatedOutFwdIdeal.main_arg0)
      ∧ m' ((c.tc : Thread Cert.GatedOutFwdRefIdeal.nD Cert.GatedOutFwdRefIdeal.τ).loc Cert.GatedOutFwdRefIdeal.main_arg1) = m ((c.tc : Thread Cert.GatedOutFwdIdeal.nD Cert.GatedOutFwdIdeal.τ).loc Cert.GatedOutFwdIdeal.main_arg1)
      ∧ m' ((c.tc : Thread Cert.GatedOutFwdRefIdeal.nD Cert.GatedOutFwdRefIdeal.τ).loc Cert.GatedOutFwdRefIdeal.main_arg2) = m ((c.tc : Thread Cert.GatedOutFwdIdeal.nD Cert.GatedOutFwdIdeal.τ).loc Cert.GatedOutFwdIdeal.main_arg2)
      ∧ m' ((c.tc : Thread Cert.GatedOutFwdRefIdeal.nD Cert.GatedOutFwdRefIdeal.τ).loc Cert.GatedOutFwdRefIdeal.main_arg3) = m ((c.tc : Thread Cert.GatedOutFwdIdeal.nD Cert.GatedOutFwdIdeal.τ).loc Cert.GatedOutFwdIdeal.main_arg3)) →
    ∃ (v0 : (c : Dev Cert.GatedOutFwdIdeal.nD) → Buf (Elt Ideal) ((c.tc : Thread Cert.GatedOutFwdIdeal.nD Cert.GatedOutFwdIdeal.τ).loc Cert.GatedOutFwdIdeal.main_v0)),
      θ_run (Cert.GatedOutFwdIdeal.defs (F := Ideal)) (onTc (τ := Cert.GatedOutFwdIdeal.τ) (Cert.GatedOutFwdIdeal.main (F := Ideal))) ⟨m, fun _ => 0, g⟩ (fun r => ∀ c : Dev Cert.GatedOutFwdIdeal.nD,
          r.2.mem ((c.tc : Thread Cert.GatedOutFwdIdeal.nD Cert.GatedOutFwdIdeal.τ).loc Cert.GatedOutFwdIdeal.main_v0) = v0 c
          ∧ r.2.mem ((c.tc : Thread Cert.GatedOutFwdIdeal.nD Cert.GatedOutFwdIdeal.τ).loc Cert.GatedOutFwdIdeal.main_arg0) = m ((c.tc : Thread Cert.GatedOutFwdIdeal.nD Cert.GatedOutFwdIdeal.τ).loc Cert.GatedOutFwdIdeal.main_arg0)
          ∧ r.2.mem ((c.tc : Thread Cert.GatedOutFwdIdeal.nD Cert.GatedOutFwdIdeal.τ).loc Cert.GatedOutFwdIdeal.main_arg1) = m ((c.tc : Thread Cert.GatedOutFwdIdeal.nD Cert.GatedOutFwdIdeal.τ).loc Cert.GatedOutFwdIdeal.main_arg1)
          ∧ r.2.mem ((c.tc : Thread Cert.GatedOutFwdIdeal.nD Cert.GatedOutFwdIdeal.τ).loc Cert.GatedOutFwdIdeal.main_arg2) = m ((c.tc : Thread Cert.GatedOutFwdIdeal.nD Cert.GatedOutFwdIdeal.τ).loc Cert.GatedOutFwdIdeal.main_arg2)
          ∧ r.2.mem ((c.tc : Thread Cert.GatedOutFwdIdeal.nD Cert.GatedOutFwdIdeal.τ).loc Cert.GatedOutFwdIdeal.main_arg3) = m ((c.tc : Thread Cert.GatedOutFwdIdeal.nD Cert.GatedOutFwdIdeal.τ).loc Cert.GatedOutFwdIdeal.main_arg3))
      ∧ θ_run (Cert.GatedOutFwdRefIdeal.defs (F := Ideal)) (onTc (τ := Cert.GatedOutFwdRefIdeal.τ) (Cert.GatedOutFwdRefIdeal.main (F := Ideal))) ⟨m', fun _ => 0, g'⟩ (fun r => ∀ c : Dev Cert.GatedOutFwdRefIdeal.nD,
          r.2.mem ((c.tc : Thread Cert.GatedOutFwdRefIdeal.nD Cert.GatedOutFwdRefIdeal.τ).loc Cert.GatedOutFwdRefIdeal.main_v5) = v0 c
          ∧ r.2.mem ((c.tc : Thread Cert.GatedOutFwdRefIdeal.nD Cert.GatedOutFwdRefIdeal.τ).loc Cert.GatedOutFwdRefIdeal.main_arg0) = m' ((c.tc : Thread Cert.GatedOutFwdRefIdeal.nD Cert.GatedOutFwdRefIdeal.τ).loc Cert.GatedOutFwdRefIdeal.main_arg0)
          ∧ r.2.mem ((c.tc : Thread Cert.GatedOutFwdRefIdeal.nD Cert.GatedOutFwdRefIdeal.τ).loc Cert.GatedOutFwdRefIdeal.main_arg1) = m' ((c.tc : Thread Cert.GatedOutFwdRefIdeal.nD Cert.GatedOutFwdRefIdeal.τ).loc Cert.GatedOutFwdRefIdeal.main_arg1)
          ∧ r.2.mem ((c.tc : Thread Cert.GatedOutFwdRefIdeal.nD Cert.GatedOutFwdRefIdeal.τ).loc Cert.GatedOutFwdRefIdeal.main_arg2) = m' ((c.tc : Thread Cert.GatedOutFwdRefIdeal.nD Cert.GatedOutFwdRefIdeal.τ).loc Cert.GatedOutFwdRefIdeal.main_arg2)
          ∧ r.2.mem ((c.tc : Thread Cert.GatedOutFwdRefIdeal.nD Cert.GatedOutFwdRefIdeal.τ).loc Cert.GatedOutFwdRefIdeal.main_arg3) = m' ((c.tc : Thread Cert.GatedOutFwdRefIdeal.nD Cert.GatedOutFwdRefIdeal.τ).loc Cert.GatedOutFwdRefIdeal.main_arg3))

def preserves_OdInFwd_OdInFwdIdeal : Prop :=
  True

def algebraic_OdInFwdIdeal_OdInFwdRefIdeal [hOdInFwdIdeal : Cert.OdInFwdIdeal.Facts] [hOdInFwdRefIdeal : Cert.OdInFwdRefIdeal.Facts] : Prop :=
  ∀ (m : (ℓ : Loc Cert.OdInFwdIdeal.nD Cert.OdInFwdIdeal.τ Cert.OdInFwdIdeal.sig) → Buf (Elt Ideal) ℓ) (g : Dev Cert.OdInFwdIdeal.nD → PrngReg)
    (m' : (ℓ : Loc Cert.OdInFwdRefIdeal.nD Cert.OdInFwdRefIdeal.τ Cert.OdInFwdRefIdeal.sig) → Buf (Elt Ideal) ℓ) (g' : Dev Cert.OdInFwdRefIdeal.nD → PrngReg), Pre_OdInFwdIdeal m →
    (∀ c : Dev Cert.OdInFwdIdeal.nD,
      m' ((c.tc : Thread Cert.OdInFwdRefIdeal.nD Cert.OdInFwdRefIdeal.τ).loc Cert.OdInFwdRefIdeal.main_arg0) = m ((c.tc : Thread Cert.OdInFwdIdeal.nD Cert.OdInFwdIdeal.τ).loc Cert.OdInFwdIdeal.main_arg0)
      ∧ m' ((c.tc : Thread Cert.OdInFwdRefIdeal.nD Cert.OdInFwdRefIdeal.τ).loc Cert.OdInFwdRefIdeal.main_arg1) = m ((c.tc : Thread Cert.OdInFwdIdeal.nD Cert.OdInFwdIdeal.τ).loc Cert.OdInFwdIdeal.main_arg1)
      ∧ m' ((c.tc : Thread Cert.OdInFwdRefIdeal.nD Cert.OdInFwdRefIdeal.τ).loc Cert.OdInFwdRefIdeal.main_arg2) = m ((c.tc : Thread Cert.OdInFwdIdeal.nD Cert.OdInFwdIdeal.τ).loc Cert.OdInFwdIdeal.main_arg2)) →
    ∃ (v0 : (c : Dev Cert.OdInFwdIdeal.nD) → Buf (Elt Ideal) ((c.tc : Thread Cert.OdInFwdIdeal.nD Cert.OdInFwdIdeal.τ).loc Cert.OdInFwdIdeal.main_v1)),
      θ_run (Cert.OdInFwdIdeal.defs (F := Ideal)) (onTc (τ := Cert.OdInFwdIdeal.τ) (Cert.OdInFwdIdeal.main (F := Ideal))) ⟨m, fun _ => 0, g⟩ (fun r => ∀ c : Dev Cert.OdInFwdIdeal.nD,
          r.2.mem ((c.tc : Thread Cert.OdInFwdIdeal.nD Cert.OdInFwdIdeal.τ).loc Cert.OdInFwdIdeal.main_v1) = v0 c
          ∧ r.2.mem ((c.tc : Thread Cert.OdInFwdIdeal.nD Cert.OdInFwdIdeal.τ).loc Cert.OdInFwdIdeal.main_arg0) = m ((c.tc : Thread Cert.OdInFwdIdeal.nD Cert.OdInFwdIdeal.τ).loc Cert.OdInFwdIdeal.main_arg0)
          ∧ r.2.mem ((c.tc : Thread Cert.OdInFwdIdeal.nD Cert.OdInFwdIdeal.τ).loc Cert.OdInFwdIdeal.main_arg1) = m ((c.tc : Thread Cert.OdInFwdIdeal.nD Cert.OdInFwdIdeal.τ).loc Cert.OdInFwdIdeal.main_arg1)
          ∧ r.2.mem ((c.tc : Thread Cert.OdInFwdIdeal.nD Cert.OdInFwdIdeal.τ).loc Cert.OdInFwdIdeal.main_arg2) = m ((c.tc : Thread Cert.OdInFwdIdeal.nD Cert.OdInFwdIdeal.τ).loc Cert.OdInFwdIdeal.main_arg2))
      ∧ θ_run (Cert.OdInFwdRefIdeal.defs (F := Ideal)) (onTc (τ := Cert.OdInFwdRefIdeal.τ) (Cert.OdInFwdRefIdeal.main (F := Ideal))) ⟨m', fun _ => 0, g'⟩ (fun r => ∀ c : Dev Cert.OdInFwdRefIdeal.nD,
          r.2.mem ((c.tc : Thread Cert.OdInFwdRefIdeal.nD Cert.OdInFwdRefIdeal.τ).loc Cert.OdInFwdRefIdeal.main_v14) = v0 c
          ∧ r.2.mem ((c.tc : Thread Cert.OdInFwdRefIdeal.nD Cert.OdInFwdRefIdeal.τ).loc Cert.OdInFwdRefIdeal.main_arg0) = m' ((c.tc : Thread Cert.OdInFwdRefIdeal.nD Cert.OdInFwdRefIdeal.τ).loc Cert.OdInFwdRefIdeal.main_arg0)
          ∧ r.2.mem ((c.tc : Thread Cert.OdInFwdRefIdeal.nD Cert.OdInFwdRefIdeal.τ).loc Cert.OdInFwdRefIdeal.main_arg1) = m' ((c.tc : Thread Cert.OdInFwdRefIdeal.nD Cert.OdInFwdRefIdeal.τ).loc Cert.OdInFwdRefIdeal.main_arg1)
          ∧ r.2.mem ((c.tc : Thread Cert.OdInFwdRefIdeal.nD Cert.OdInFwdRefIdeal.τ).loc Cert.OdInFwdRefIdeal.main_arg2) = m' ((c.tc : Thread Cert.OdInFwdRefIdeal.nD Cert.OdInFwdRefIdeal.τ).loc Cert.OdInFwdRefIdeal.main_arg2))

def preserves_EvInFwd_EvInFwdIdeal : Prop :=
  True

def algebraic_EvInFwdIdeal_EvInFwdRefIdeal [hEvInFwdIdeal : Cert.EvInFwdIdeal.Facts] [hEvInFwdRefIdeal : Cert.EvInFwdRefIdeal.Facts] : Prop :=
  ∀ (m : (ℓ : Loc Cert.EvInFwdIdeal.nD Cert.EvInFwdIdeal.τ Cert.EvInFwdIdeal.sig) → Buf (Elt Ideal) ℓ) (g : Dev Cert.EvInFwdIdeal.nD → PrngReg)
    (m' : (ℓ : Loc Cert.EvInFwdRefIdeal.nD Cert.EvInFwdRefIdeal.τ Cert.EvInFwdRefIdeal.sig) → Buf (Elt Ideal) ℓ) (g' : Dev Cert.EvInFwdRefIdeal.nD → PrngReg), Pre_EvInFwdIdeal m →
    (∀ c : Dev Cert.EvInFwdIdeal.nD,
      m' ((c.tc : Thread Cert.EvInFwdRefIdeal.nD Cert.EvInFwdRefIdeal.τ).loc Cert.EvInFwdRefIdeal.main_arg0) = m ((c.tc : Thread Cert.EvInFwdIdeal.nD Cert.EvInFwdIdeal.τ).loc Cert.EvInFwdIdeal.main_arg0)
      ∧ m' ((c.tc : Thread Cert.EvInFwdRefIdeal.nD Cert.EvInFwdRefIdeal.τ).loc Cert.EvInFwdRefIdeal.main_arg1) = m ((c.tc : Thread Cert.EvInFwdIdeal.nD Cert.EvInFwdIdeal.τ).loc Cert.EvInFwdIdeal.main_arg1)
      ∧ m' ((c.tc : Thread Cert.EvInFwdRefIdeal.nD Cert.EvInFwdRefIdeal.τ).loc Cert.EvInFwdRefIdeal.main_arg2) = m ((c.tc : Thread Cert.EvInFwdIdeal.nD Cert.EvInFwdIdeal.τ).loc Cert.EvInFwdIdeal.main_arg2)) →
    ∃ (v0 : (c : Dev Cert.EvInFwdIdeal.nD) → Buf (Elt Ideal) ((c.tc : Thread Cert.EvInFwdIdeal.nD Cert.EvInFwdIdeal.τ).loc Cert.EvInFwdIdeal.main_v1)),
      θ_run (Cert.EvInFwdIdeal.defs (F := Ideal)) (onTc (τ := Cert.EvInFwdIdeal.τ) (Cert.EvInFwdIdeal.main (F := Ideal))) ⟨m, fun _ => 0, g⟩ (fun r => ∀ c : Dev Cert.EvInFwdIdeal.nD,
          r.2.mem ((c.tc : Thread Cert.EvInFwdIdeal.nD Cert.EvInFwdIdeal.τ).loc Cert.EvInFwdIdeal.main_v1) = v0 c
          ∧ r.2.mem ((c.tc : Thread Cert.EvInFwdIdeal.nD Cert.EvInFwdIdeal.τ).loc Cert.EvInFwdIdeal.main_arg0) = m ((c.tc : Thread Cert.EvInFwdIdeal.nD Cert.EvInFwdIdeal.τ).loc Cert.EvInFwdIdeal.main_arg0)
          ∧ r.2.mem ((c.tc : Thread Cert.EvInFwdIdeal.nD Cert.EvInFwdIdeal.τ).loc Cert.EvInFwdIdeal.main_arg1) = m ((c.tc : Thread Cert.EvInFwdIdeal.nD Cert.EvInFwdIdeal.τ).loc Cert.EvInFwdIdeal.main_arg1)
          ∧ r.2.mem ((c.tc : Thread Cert.EvInFwdIdeal.nD Cert.EvInFwdIdeal.τ).loc Cert.EvInFwdIdeal.main_arg2) = m ((c.tc : Thread Cert.EvInFwdIdeal.nD Cert.EvInFwdIdeal.τ).loc Cert.EvInFwdIdeal.main_arg2))
      ∧ θ_run (Cert.EvInFwdRefIdeal.defs (F := Ideal)) (onTc (τ := Cert.EvInFwdRefIdeal.τ) (Cert.EvInFwdRefIdeal.main (F := Ideal))) ⟨m', fun _ => 0, g'⟩ (fun r => ∀ c : Dev Cert.EvInFwdRefIdeal.nD,
          r.2.mem ((c.tc : Thread Cert.EvInFwdRefIdeal.nD Cert.EvInFwdRefIdeal.τ).loc Cert.EvInFwdRefIdeal.main_v14) = v0 c
          ∧ r.2.mem ((c.tc : Thread Cert.EvInFwdRefIdeal.nD Cert.EvInFwdRefIdeal.τ).loc Cert.EvInFwdRefIdeal.main_arg0) = m' ((c.tc : Thread Cert.EvInFwdRefIdeal.nD Cert.EvInFwdRefIdeal.τ).loc Cert.EvInFwdRefIdeal.main_arg0)
          ∧ r.2.mem ((c.tc : Thread Cert.EvInFwdRefIdeal.nD Cert.EvInFwdRefIdeal.τ).loc Cert.EvInFwdRefIdeal.main_arg1) = m' ((c.tc : Thread Cert.EvInFwdRefIdeal.nD Cert.EvInFwdRefIdeal.τ).loc Cert.EvInFwdRefIdeal.main_arg1)
          ∧ r.2.mem ((c.tc : Thread Cert.EvInFwdRefIdeal.nD Cert.EvInFwdRefIdeal.τ).loc Cert.EvInFwdRefIdeal.main_arg2) = m' ((c.tc : Thread Cert.EvInFwdRefIdeal.nD Cert.EvInFwdRefIdeal.τ).loc Cert.EvInFwdRefIdeal.main_arg2))

def preserves_XaFwd_XaFwdIdeal : Prop :=
  True

def algebraic_XaFwdIdeal_XaFwdRefIdeal [hXaFwdIdeal : Cert.XaFwdIdeal.Facts] [hXaFwdRefIdeal : Cert.XaFwdRefIdeal.Facts] : Prop :=
  ∀ (m : (ℓ : Loc Cert.XaFwdIdeal.nD Cert.XaFwdIdeal.τ Cert.XaFwdIdeal.sig) → Buf (Elt Ideal) ℓ) (g : Dev Cert.XaFwdIdeal.nD → PrngReg)
    (m' : (ℓ : Loc Cert.XaFwdRefIdeal.nD Cert.XaFwdRefIdeal.τ Cert.XaFwdRefIdeal.sig) → Buf (Elt Ideal) ℓ) (g' : Dev Cert.XaFwdRefIdeal.nD → PrngReg), Pre_XaFwdIdeal m →
    (∀ c : Dev Cert.XaFwdIdeal.nD,
      m' ((c.tc : Thread Cert.XaFwdRefIdeal.nD Cert.XaFwdRefIdeal.τ).loc Cert.XaFwdRefIdeal.main_arg0) = m ((c.tc : Thread Cert.XaFwdIdeal.nD Cert.XaFwdIdeal.τ).loc Cert.XaFwdIdeal.main_arg0)
      ∧ m' ((c.tc : Thread Cert.XaFwdRefIdeal.nD Cert.XaFwdRefIdeal.τ).loc Cert.XaFwdRefIdeal.main_arg1) = m ((c.tc : Thread Cert.XaFwdIdeal.nD Cert.XaFwdIdeal.τ).loc Cert.XaFwdIdeal.main_arg1)
      ∧ m' ((c.tc : Thread Cert.XaFwdRefIdeal.nD Cert.XaFwdRefIdeal.τ).loc Cert.XaFwdRefIdeal.main_arg2) = m ((c.tc : Thread Cert.XaFwdIdeal.nD Cert.XaFwdIdeal.τ).loc Cert.XaFwdIdeal.main_arg2)
      ∧ m' ((c.tc : Thread Cert.XaFwdRefIdeal.nD Cert.XaFwdRefIdeal.τ).loc Cert.XaFwdRefIdeal.main_arg3) = m ((c.tc : Thread Cert.XaFwdIdeal.nD Cert.XaFwdIdeal.τ).loc Cert.XaFwdIdeal.main_arg3)
      ∧ m' ((c.tc : Thread Cert.XaFwdRefIdeal.nD Cert.XaFwdRefIdeal.τ).loc Cert.XaFwdRefIdeal.main_arg4) = m ((c.tc : Thread Cert.XaFwdIdeal.nD Cert.XaFwdIdeal.τ).loc Cert.XaFwdIdeal.main_arg4)) →
    ∃ (v0 : (c : Dev Cert.XaFwdIdeal.nD) → Buf (Elt Ideal) ((c.tc : Thread Cert.XaFwdIdeal.nD Cert.XaFwdIdeal.τ).loc Cert.XaFwdIdeal.main_v1)),
      θ_run (Cert.XaFwdIdeal.defs (F := Ideal)) (onTc (τ := Cert.XaFwdIdeal.τ) (Cert.XaFwdIdeal.main (F := Ideal))) ⟨m, fun _ => 0, g⟩ (fun r => ∀ c : Dev Cert.XaFwdIdeal.nD,
          r.2.mem ((c.tc : Thread Cert.XaFwdIdeal.nD Cert.XaFwdIdeal.τ).loc Cert.XaFwdIdeal.main_v1) = v0 c
          ∧ r.2.mem ((c.tc : Thread Cert.XaFwdIdeal.nD Cert.XaFwdIdeal.τ).loc Cert.XaFwdIdeal.main_arg0) = m ((c.tc : Thread Cert.XaFwdIdeal.nD Cert.XaFwdIdeal.τ).loc Cert.XaFwdIdeal.main_arg0)
          ∧ r.2.mem ((c.tc : Thread Cert.XaFwdIdeal.nD Cert.XaFwdIdeal.τ).loc Cert.XaFwdIdeal.main_arg1) = m ((c.tc : Thread Cert.XaFwdIdeal.nD Cert.XaFwdIdeal.τ).loc Cert.XaFwdIdeal.main_arg1)
          ∧ r.2.mem ((c.tc : Thread Cert.XaFwdIdeal.nD Cert.XaFwdIdeal.τ).loc Cert.XaFwdIdeal.main_arg2) = m ((c.tc : Thread Cert.XaFwdIdeal.nD Cert.XaFwdIdeal.τ).loc Cert.XaFwdIdeal.main_arg2)
          ∧ r.2.mem ((c.tc : Thread Cert.XaFwdIdeal.nD Cert.XaFwdIdeal.τ).loc Cert.XaFwdIdeal.main_arg3) = m ((c.tc : Thread Cert.XaFwdIdeal.nD Cert.XaFwdIdeal.τ).loc Cert.XaFwdIdeal.main_arg3)
          ∧ r.2.mem ((c.tc : Thread Cert.XaFwdIdeal.nD Cert.XaFwdIdeal.τ).loc Cert.XaFwdIdeal.main_arg4) = m ((c.tc : Thread Cert.XaFwdIdeal.nD Cert.XaFwdIdeal.τ).loc Cert.XaFwdIdeal.main_arg4))
      ∧ θ_run (Cert.XaFwdRefIdeal.defs (F := Ideal)) (onTc (τ := Cert.XaFwdRefIdeal.τ) (Cert.XaFwdRefIdeal.main (F := Ideal))) ⟨m', fun _ => 0, g'⟩ (fun r => ∀ c : Dev Cert.XaFwdRefIdeal.nD,
          r.2.mem ((c.tc : Thread Cert.XaFwdRefIdeal.nD Cert.XaFwdRefIdeal.τ).loc Cert.XaFwdRefIdeal.main_v41) = v0 c
          ∧ r.2.mem ((c.tc : Thread Cert.XaFwdRefIdeal.nD Cert.XaFwdRefIdeal.τ).loc Cert.XaFwdRefIdeal.main_arg0) = m' ((c.tc : Thread Cert.XaFwdRefIdeal.nD Cert.XaFwdRefIdeal.τ).loc Cert.XaFwdRefIdeal.main_arg0)
          ∧ r.2.mem ((c.tc : Thread Cert.XaFwdRefIdeal.nD Cert.XaFwdRefIdeal.τ).loc Cert.XaFwdRefIdeal.main_arg1) = m' ((c.tc : Thread Cert.XaFwdRefIdeal.nD Cert.XaFwdRefIdeal.τ).loc Cert.XaFwdRefIdeal.main_arg1)
          ∧ r.2.mem ((c.tc : Thread Cert.XaFwdRefIdeal.nD Cert.XaFwdRefIdeal.τ).loc Cert.XaFwdRefIdeal.main_arg2) = m' ((c.tc : Thread Cert.XaFwdRefIdeal.nD Cert.XaFwdRefIdeal.τ).loc Cert.XaFwdRefIdeal.main_arg2)
          ∧ r.2.mem ((c.tc : Thread Cert.XaFwdRefIdeal.nD Cert.XaFwdRefIdeal.τ).loc Cert.XaFwdRefIdeal.main_arg3) = m' ((c.tc : Thread Cert.XaFwdRefIdeal.nD Cert.XaFwdRefIdeal.τ).loc Cert.XaFwdRefIdeal.main_arg3)
          ∧ r.2.mem ((c.tc : Thread Cert.XaFwdRefIdeal.nD Cert.XaFwdRefIdeal.τ).loc Cert.XaFwdRefIdeal.main_arg4) = m' ((c.tc : Thread Cert.XaFwdRefIdeal.nD Cert.XaFwdRefIdeal.τ).loc Cert.XaFwdRefIdeal.main_arg4))

def preserves_EvOutFwd_EvOutFwdIdeal : Prop :=
  True

def algebraic_EvOutFwdIdeal_EvOutFwdRefIdeal [hEvOutFwdIdeal : Cert.EvOutFwdIdeal.Facts] [hEvOutFwdRefIdeal : Cert.EvOutFwdRefIdeal.Facts] : Prop :=
  ∀ (m : (ℓ : Loc Cert.EvOutFwdIdeal.nD Cert.EvOutFwdIdeal.τ Cert.EvOutFwdIdeal.sig) → Buf (Elt Ideal) ℓ) (g : Dev Cert.EvOutFwdIdeal.nD → PrngReg)
    (m' : (ℓ : Loc Cert.EvOutFwdRefIdeal.nD Cert.EvOutFwdRefIdeal.τ Cert.EvOutFwdRefIdeal.sig) → Buf (Elt Ideal) ℓ) (g' : Dev Cert.EvOutFwdRefIdeal.nD → PrngReg), Pre_EvOutFwdIdeal m →
    (∀ c : Dev Cert.EvOutFwdIdeal.nD,
      m' ((c.tc : Thread Cert.EvOutFwdRefIdeal.nD Cert.EvOutFwdRefIdeal.τ).loc Cert.EvOutFwdRefIdeal.main_arg0) = m ((c.tc : Thread Cert.EvOutFwdIdeal.nD Cert.EvOutFwdIdeal.τ).loc Cert.EvOutFwdIdeal.main_arg0)
      ∧ m' ((c.tc : Thread Cert.EvOutFwdRefIdeal.nD Cert.EvOutFwdRefIdeal.τ).loc Cert.EvOutFwdRefIdeal.main_arg1) = m ((c.tc : Thread Cert.EvOutFwdIdeal.nD Cert.EvOutFwdIdeal.τ).loc Cert.EvOutFwdIdeal.main_arg1)
      ∧ m' ((c.tc : Thread Cert.EvOutFwdRefIdeal.nD Cert.EvOutFwdRefIdeal.τ).loc Cert.EvOutFwdRefIdeal.main_arg2) = m ((c.tc : Thread Cert.EvOutFwdIdeal.nD Cert.EvOutFwdIdeal.τ).loc Cert.EvOutFwdIdeal.main_arg2)
      ∧ m' ((c.tc : Thread Cert.EvOutFwdRefIdeal.nD Cert.EvOutFwdRefIdeal.τ).loc Cert.EvOutFwdRefIdeal.main_arg3) = m ((c.tc : Thread Cert.EvOutFwdIdeal.nD Cert.EvOutFwdIdeal.τ).loc Cert.EvOutFwdIdeal.main_arg3)
      ∧ m' ((c.tc : Thread Cert.EvOutFwdRefIdeal.nD Cert.EvOutFwdRefIdeal.τ).loc Cert.EvOutFwdRefIdeal.main_arg4) = m ((c.tc : Thread Cert.EvOutFwdIdeal.nD Cert.EvOutFwdIdeal.τ).loc Cert.EvOutFwdIdeal.main_arg4)
      ∧ m' ((c.tc : Thread Cert.EvOutFwdRefIdeal.nD Cert.EvOutFwdRefIdeal.τ).loc Cert.EvOutFwdRefIdeal.main_arg5) = m ((c.tc : Thread Cert.EvOutFwdIdeal.nD Cert.EvOutFwdIdeal.τ).loc Cert.EvOutFwdIdeal.main_arg5)
      ∧ m' ((c.tc : Thread Cert.EvOutFwdRefIdeal.nD Cert.EvOutFwdRefIdeal.τ).loc Cert.EvOutFwdRefIdeal.main_arg6) = m ((c.tc : Thread Cert.EvOutFwdIdeal.nD Cert.EvOutFwdIdeal.τ).loc Cert.EvOutFwdIdeal.main_arg6)
      ∧ m' ((c.tc : Thread Cert.EvOutFwdRefIdeal.nD Cert.EvOutFwdRefIdeal.τ).loc Cert.EvOutFwdRefIdeal.main_arg7) = m ((c.tc : Thread Cert.EvOutFwdIdeal.nD Cert.EvOutFwdIdeal.τ).loc Cert.EvOutFwdIdeal.main_arg7)
      ∧ m' ((c.tc : Thread Cert.EvOutFwdRefIdeal.nD Cert.EvOutFwdRefIdeal.τ).loc Cert.EvOutFwdRefIdeal.main_arg8) = m ((c.tc : Thread Cert.EvOutFwdIdeal.nD Cert.EvOutFwdIdeal.τ).loc Cert.EvOutFwdIdeal.main_arg8)
      ∧ m' ((c.tc : Thread Cert.EvOutFwdRefIdeal.nD Cert.EvOutFwdRefIdeal.τ).loc Cert.EvOutFwdRefIdeal.main_arg9) = m ((c.tc : Thread Cert.EvOutFwdIdeal.nD Cert.EvOutFwdIdeal.τ).loc Cert.EvOutFwdIdeal.main_arg9)
      ∧ m' ((c.tc : Thread Cert.EvOutFwdRefIdeal.nD Cert.EvOutFwdRefIdeal.τ).loc Cert.EvOutFwdRefIdeal.main_arg10) = m ((c.tc : Thread Cert.EvOutFwdIdeal.nD Cert.EvOutFwdIdeal.τ).loc Cert.EvOutFwdIdeal.main_arg10)
      ∧ m' ((c.tc : Thread Cert.EvOutFwdRefIdeal.nD Cert.EvOutFwdRefIdeal.τ).loc Cert.EvOutFwdRefIdeal.main_arg11) = m ((c.tc : Thread Cert.EvOutFwdIdeal.nD Cert.EvOutFwdIdeal.τ).loc Cert.EvOutFwdIdeal.main_arg11)) →
    ∃ (v0 : (c : Dev Cert.EvOutFwdIdeal.nD) → Buf (Elt Ideal) ((c.tc : Thread Cert.EvOutFwdIdeal.nD Cert.EvOutFwdIdeal.τ).loc Cert.EvOutFwdIdeal.main_v3)),
      θ_run (Cert.EvOutFwdIdeal.defs (F := Ideal)) (onTc (τ := Cert.EvOutFwdIdeal.τ) (Cert.EvOutFwdIdeal.main (F := Ideal))) ⟨m, fun _ => 0, g⟩ (fun r => ∀ c : Dev Cert.EvOutFwdIdeal.nD,
          r.2.mem ((c.tc : Thread Cert.EvOutFwdIdeal.nD Cert.EvOutFwdIdeal.τ).loc Cert.EvOutFwdIdeal.main_v3) = v0 c
          ∧ r.2.mem ((c.tc : Thread Cert.EvOutFwdIdeal.nD Cert.EvOutFwdIdeal.τ).loc Cert.EvOutFwdIdeal.main_arg0) = m ((c.tc : Thread Cert.EvOutFwdIdeal.nD Cert.EvOutFwdIdeal.τ).loc Cert.EvOutFwdIdeal.main_arg0)
          ∧ r.2.mem ((c.tc : Thread Cert.EvOutFwdIdeal.nD Cert.EvOutFwdIdeal.τ).loc Cert.EvOutFwdIdeal.main_arg1) = m ((c.tc : Thread Cert.EvOutFwdIdeal.nD Cert.EvOutFwdIdeal.τ).loc Cert.EvOutFwdIdeal.main_arg1)
          ∧ r.2.mem ((c.tc : Thread Cert.EvOutFwdIdeal.nD Cert.EvOutFwdIdeal.τ).loc Cert.EvOutFwdIdeal.main_arg2) = m ((c.tc : Thread Cert.EvOutFwdIdeal.nD Cert.EvOutFwdIdeal.τ).loc Cert.EvOutFwdIdeal.main_arg2)
          ∧ r.2.mem ((c.tc : Thread Cert.EvOutFwdIdeal.nD Cert.EvOutFwdIdeal.τ).loc Cert.EvOutFwdIdeal.main_arg3) = m ((c.tc : Thread Cert.EvOutFwdIdeal.nD Cert.EvOutFwdIdeal.τ).loc Cert.EvOutFwdIdeal.main_arg3)
          ∧ r.2.mem ((c.tc : Thread Cert.EvOutFwdIdeal.nD Cert.EvOutFwdIdeal.τ).loc Cert.EvOutFwdIdeal.main_arg4) = m ((c.tc : Thread Cert.EvOutFwdIdeal.nD Cert.EvOutFwdIdeal.τ).loc Cert.EvOutFwdIdeal.main_arg4)
          ∧ r.2.mem ((c.tc : Thread Cert.EvOutFwdIdeal.nD Cert.EvOutFwdIdeal.τ).loc Cert.EvOutFwdIdeal.main_arg5) = m ((c.tc : Thread Cert.EvOutFwdIdeal.nD Cert.EvOutFwdIdeal.τ).loc Cert.EvOutFwdIdeal.main_arg5)
          ∧ r.2.mem ((c.tc : Thread Cert.EvOutFwdIdeal.nD Cert.EvOutFwdIdeal.τ).loc Cert.EvOutFwdIdeal.main_arg6) = m ((c.tc : Thread Cert.EvOutFwdIdeal.nD Cert.EvOutFwdIdeal.τ).loc Cert.EvOutFwdIdeal.main_arg6)
          ∧ r.2.mem ((c.tc : Thread Cert.EvOutFwdIdeal.nD Cert.EvOutFwdIdeal.τ).loc Cert.EvOutFwdIdeal.main_arg7) = m ((c.tc : Thread Cert.EvOutFwdIdeal.nD Cert.EvOutFwdIdeal.τ).loc Cert.EvOutFwdIdeal.main_arg7)
          ∧ r.2.mem ((c.tc : Thread Cert.EvOutFwdIdeal.nD Cert.EvOutFwdIdeal.τ).loc Cert.EvOutFwdIdeal.main_arg8) = m ((c.tc : Thread Cert.EvOutFwdIdeal.nD Cert.EvOutFwdIdeal.τ).loc Cert.EvOutFwdIdeal.main_arg8)
          ∧ r.2.mem ((c.tc : Thread Cert.EvOutFwdIdeal.nD Cert.EvOutFwdIdeal.τ).loc Cert.EvOutFwdIdeal.main_arg9) = m ((c.tc : Thread Cert.EvOutFwdIdeal.nD Cert.EvOutFwdIdeal.τ).loc Cert.EvOutFwdIdeal.main_arg9)
          ∧ r.2.mem ((c.tc : Thread Cert.EvOutFwdIdeal.nD Cert.EvOutFwdIdeal.τ).loc Cert.EvOutFwdIdeal.main_arg10) = m ((c.tc : Thread Cert.EvOutFwdIdeal.nD Cert.EvOutFwdIdeal.τ).loc Cert.EvOutFwdIdeal.main_arg10)
          ∧ r.2.mem ((c.tc : Thread Cert.EvOutFwdIdeal.nD Cert.EvOutFwdIdeal.τ).loc Cert.EvOutFwdIdeal.main_arg11) = m ((c.tc : Thread Cert.EvOutFwdIdeal.nD Cert.EvOutFwdIdeal.τ).loc Cert.EvOutFwdIdeal.main_arg11))
      ∧ θ_run (Cert.EvOutFwdRefIdeal.defs (F := Ideal)) (onTc (τ := Cert.EvOutFwdRefIdeal.τ) (Cert.EvOutFwdRefIdeal.main (F := Ideal))) ⟨m', fun _ => 0, g'⟩ (fun r => ∀ c : Dev Cert.EvOutFwdRefIdeal.nD,
          r.2.mem ((c.tc : Thread Cert.EvOutFwdRefIdeal.nD Cert.EvOutFwdRefIdeal.τ).loc Cert.EvOutFwdRefIdeal.main_v60) = v0 c
          ∧ r.2.mem ((c.tc : Thread Cert.EvOutFwdRefIdeal.nD Cert.EvOutFwdRefIdeal.τ).loc Cert.EvOutFwdRefIdeal.main_arg0) = m' ((c.tc : Thread Cert.EvOutFwdRefIdeal.nD Cert.EvOutFwdRefIdeal.τ).loc Cert.EvOutFwdRefIdeal.main_arg0)
          ∧ r.2.mem ((c.tc : Thread Cert.EvOutFwdRefIdeal.nD Cert.EvOutFwdRefIdeal.τ).loc Cert.EvOutFwdRefIdeal.main_arg1) = m' ((c.tc : Thread Cert.EvOutFwdRefIdeal.nD Cert.EvOutFwdRefIdeal.τ).loc Cert.EvOutFwdRefIdeal.main_arg1)
          ∧ r.2.mem ((c.tc : Thread Cert.EvOutFwdRefIdeal.nD Cert.EvOutFwdRefIdeal.τ).loc Cert.EvOutFwdRefIdeal.main_arg2) = m' ((c.tc : Thread Cert.EvOutFwdRefIdeal.nD Cert.EvOutFwdRefIdeal.τ).loc Cert.EvOutFwdRefIdeal.main_arg2)
          ∧ r.2.mem ((c.tc : Thread Cert.EvOutFwdRefIdeal.nD Cert.EvOutFwdRefIdeal.τ).loc Cert.EvOutFwdRefIdeal.main_arg3) = m' ((c.tc : Thread Cert.EvOutFwdRefIdeal.nD Cert.EvOutFwdRefIdeal.τ).loc Cert.EvOutFwdRefIdeal.main_arg3)
          ∧ r.2.mem ((c.tc : Thread Cert.EvOutFwdRefIdeal.nD Cert.EvOutFwdRefIdeal.τ).loc Cert.EvOutFwdRefIdeal.main_arg4) = m' ((c.tc : Thread Cert.EvOutFwdRefIdeal.nD Cert.EvOutFwdRefIdeal.τ).loc Cert.EvOutFwdRefIdeal.main_arg4)
          ∧ r.2.mem ((c.tc : Thread Cert.EvOutFwdRefIdeal.nD Cert.EvOutFwdRefIdeal.τ).loc Cert.EvOutFwdRefIdeal.main_arg5) = m' ((c.tc : Thread Cert.EvOutFwdRefIdeal.nD Cert.EvOutFwdRefIdeal.τ).loc Cert.EvOutFwdRefIdeal.main_arg5)
          ∧ r.2.mem ((c.tc : Thread Cert.EvOutFwdRefIdeal.nD Cert.EvOutFwdRefIdeal.τ).loc Cert.EvOutFwdRefIdeal.main_arg6) = m' ((c.tc : Thread Cert.EvOutFwdRefIdeal.nD Cert.EvOutFwdRefIdeal.τ).loc Cert.EvOutFwdRefIdeal.main_arg6)
          ∧ r.2.mem ((c.tc : Thread Cert.EvOutFwdRefIdeal.nD Cert.EvOutFwdRefIdeal.τ).loc Cert.EvOutFwdRefIdeal.main_arg7) = m' ((c.tc : Thread Cert.EvOutFwdRefIdeal.nD Cert.EvOutFwdRefIdeal.τ).loc Cert.EvOutFwdRefIdeal.main_arg7)
          ∧ r.2.mem ((c.tc : Thread Cert.EvOutFwdRefIdeal.nD Cert.EvOutFwdRefIdeal.τ).loc Cert.EvOutFwdRefIdeal.main_arg8) = m' ((c.tc : Thread Cert.EvOutFwdRefIdeal.nD Cert.EvOutFwdRefIdeal.τ).loc Cert.EvOutFwdRefIdeal.main_arg8)
          ∧ r.2.mem ((c.tc : Thread Cert.EvOutFwdRefIdeal.nD Cert.EvOutFwdRefIdeal.τ).loc Cert.EvOutFwdRefIdeal.main_arg9) = m' ((c.tc : Thread Cert.EvOutFwdRefIdeal.nD Cert.EvOutFwdRefIdeal.τ).loc Cert.EvOutFwdRefIdeal.main_arg9)
          ∧ r.2.mem ((c.tc : Thread Cert.EvOutFwdRefIdeal.nD Cert.EvOutFwdRefIdeal.τ).loc Cert.EvOutFwdRefIdeal.main_arg10) = m' ((c.tc : Thread Cert.EvOutFwdRefIdeal.nD Cert.EvOutFwdRefIdeal.τ).loc Cert.EvOutFwdRefIdeal.main_arg10)
          ∧ r.2.mem ((c.tc : Thread Cert.EvOutFwdRefIdeal.nD Cert.EvOutFwdRefIdeal.τ).loc Cert.EvOutFwdRefIdeal.main_arg11) = m' ((c.tc : Thread Cert.EvOutFwdRefIdeal.nD Cert.EvOutFwdRefIdeal.τ).loc Cert.EvOutFwdRefIdeal.main_arg11))

def preserves_S5DiscFwd_S5DiscFwdIdeal : Prop :=
  True

def algebraic_S5DiscFwdIdeal_S5DiscFwdRefIdeal [hS5DiscFwdIdeal : Cert.S5DiscFwdIdeal.Facts] [hS5DiscFwdRefIdeal : Cert.S5DiscFwdRefIdeal.Facts] : Prop :=
  ∀ (m : (ℓ : Loc Cert.S5DiscFwdIdeal.nD Cert.S5DiscFwdIdeal.τ Cert.S5DiscFwdIdeal.sig) → Buf (Elt Ideal) ℓ) (g : Dev Cert.S5DiscFwdIdeal.nD → PrngReg)
    (m' : (ℓ : Loc Cert.S5DiscFwdRefIdeal.nD Cert.S5DiscFwdRefIdeal.τ Cert.S5DiscFwdRefIdeal.sig) → Buf (Elt Ideal) ℓ) (g' : Dev Cert.S5DiscFwdRefIdeal.nD → PrngReg), Pre_S5DiscFwdIdeal m →
    (∀ c : Dev Cert.S5DiscFwdIdeal.nD,
      m' ((c.tc : Thread Cert.S5DiscFwdRefIdeal.nD Cert.S5DiscFwdRefIdeal.τ).loc Cert.S5DiscFwdRefIdeal.main_arg0) = m ((c.tc : Thread Cert.S5DiscFwdIdeal.nD Cert.S5DiscFwdIdeal.τ).loc Cert.S5DiscFwdIdeal.main_arg0)
      ∧ m' ((c.tc : Thread Cert.S5DiscFwdRefIdeal.nD Cert.S5DiscFwdRefIdeal.τ).loc Cert.S5DiscFwdRefIdeal.main_arg1) = m ((c.tc : Thread Cert.S5DiscFwdIdeal.nD Cert.S5DiscFwdIdeal.τ).loc Cert.S5DiscFwdIdeal.main_arg1)
      ∧ m' ((c.tc : Thread Cert.S5DiscFwdRefIdeal.nD Cert.S5DiscFwdRefIdeal.τ).loc Cert.S5DiscFwdRefIdeal.main_arg2) = m ((c.tc : Thread Cert.S5DiscFwdIdeal.nD Cert.S5DiscFwdIdeal.τ).loc Cert.S5DiscFwdIdeal.main_arg2)
      ∧ m' ((c.tc : Thread Cert.S5DiscFwdRefIdeal.nD Cert.S5DiscFwdRefIdeal.τ).loc Cert.S5DiscFwdRefIdeal.main_arg3) = m ((c.tc : Thread Cert.S5DiscFwdIdeal.nD Cert.S5DiscFwdIdeal.τ).loc Cert.S5DiscFwdIdeal.main_arg3)
      ∧ m' ((c.tc : Thread Cert.S5DiscFwdRefIdeal.nD Cert.S5DiscFwdRefIdeal.τ).loc Cert.S5DiscFwdRefIdeal.main_arg4) = m ((c.tc : Thread Cert.S5DiscFwdIdeal.nD Cert.S5DiscFwdIdeal.τ).loc Cert.S5DiscFwdIdeal.main_arg4)) →
    ∃ (v0 : (c : Dev Cert.S5DiscFwdIdeal.nD) → Buf (Elt Ideal) ((c.tc : Thread Cert.S5DiscFwdIdeal.nD Cert.S5DiscFwdIdeal.τ).loc Cert.S5DiscFwdIdeal.main_v5_0)) (v1 : (c : Dev Cert.S5DiscFwdIdeal.nD) → Buf (Elt Ideal) ((c.tc : Thread Cert.S5DiscFwdIdeal.nD Cert.S5DiscFwdIdeal.τ).loc Cert.S5DiscFwdIdeal.main_v5_1)) (v2 : (c : Dev Cert.S5DiscFwdIdeal.nD) → Buf (Elt Ideal) ((c.tc : Thread Cert.S5DiscFwdIdeal.nD Cert.S5DiscFwdIdeal.τ).loc Cert.S5DiscFwdIdeal.main_v5_2)) (v3 : (c : Dev Cert.S5DiscFwdIdeal.nD) → Buf (Elt Ideal) ((c.tc : Thread Cert.S5DiscFwdIdeal.nD Cert.S5DiscFwdIdeal.τ).loc Cert.S5DiscFwdIdeal.main_v5_3)),
      θ_run (Cert.S5DiscFwdIdeal.defs (F := Ideal)) (onTc (τ := Cert.S5DiscFwdIdeal.τ) (Cert.S5DiscFwdIdeal.main (F := Ideal))) ⟨m, fun _ => 0, g⟩ (fun r => ∀ c : Dev Cert.S5DiscFwdIdeal.nD,
          r.2.mem ((c.tc : Thread Cert.S5DiscFwdIdeal.nD Cert.S5DiscFwdIdeal.τ).loc Cert.S5DiscFwdIdeal.main_v5_0) = v0 c
          ∧ r.2.mem ((c.tc : Thread Cert.S5DiscFwdIdeal.nD Cert.S5DiscFwdIdeal.τ).loc Cert.S5DiscFwdIdeal.main_v5_1) = v1 c
          ∧ r.2.mem ((c.tc : Thread Cert.S5DiscFwdIdeal.nD Cert.S5DiscFwdIdeal.τ).loc Cert.S5DiscFwdIdeal.main_v5_2) = v2 c
          ∧ r.2.mem ((c.tc : Thread Cert.S5DiscFwdIdeal.nD Cert.S5DiscFwdIdeal.τ).loc Cert.S5DiscFwdIdeal.main_v5_3) = v3 c
          ∧ r.2.mem ((c.tc : Thread Cert.S5DiscFwdIdeal.nD Cert.S5DiscFwdIdeal.τ).loc Cert.S5DiscFwdIdeal.main_arg0) = m ((c.tc : Thread Cert.S5DiscFwdIdeal.nD Cert.S5DiscFwdIdeal.τ).loc Cert.S5DiscFwdIdeal.main_arg0)
          ∧ r.2.mem ((c.tc : Thread Cert.S5DiscFwdIdeal.nD Cert.S5DiscFwdIdeal.τ).loc Cert.S5DiscFwdIdeal.main_arg1) = m ((c.tc : Thread Cert.S5DiscFwdIdeal.nD Cert.S5DiscFwdIdeal.τ).loc Cert.S5DiscFwdIdeal.main_arg1)
          ∧ r.2.mem ((c.tc : Thread Cert.S5DiscFwdIdeal.nD Cert.S5DiscFwdIdeal.τ).loc Cert.S5DiscFwdIdeal.main_arg2) = m ((c.tc : Thread Cert.S5DiscFwdIdeal.nD Cert.S5DiscFwdIdeal.τ).loc Cert.S5DiscFwdIdeal.main_arg2)
          ∧ r.2.mem ((c.tc : Thread Cert.S5DiscFwdIdeal.nD Cert.S5DiscFwdIdeal.τ).loc Cert.S5DiscFwdIdeal.main_arg3) = m ((c.tc : Thread Cert.S5DiscFwdIdeal.nD Cert.S5DiscFwdIdeal.τ).loc Cert.S5DiscFwdIdeal.main_arg3)
          ∧ r.2.mem ((c.tc : Thread Cert.S5DiscFwdIdeal.nD Cert.S5DiscFwdIdeal.τ).loc Cert.S5DiscFwdIdeal.main_arg4) = m ((c.tc : Thread Cert.S5DiscFwdIdeal.nD Cert.S5DiscFwdIdeal.τ).loc Cert.S5DiscFwdIdeal.main_arg4))
      ∧ θ_run (Cert.S5DiscFwdRefIdeal.defs (F := Ideal)) (onTc (τ := Cert.S5DiscFwdRefIdeal.τ) (Cert.S5DiscFwdRefIdeal.main (F := Ideal))) ⟨m', fun _ => 0, g'⟩ (fun r => ∀ c : Dev Cert.S5DiscFwdRefIdeal.nD,
          r.2.mem ((c.tc : Thread Cert.S5DiscFwdRefIdeal.nD Cert.S5DiscFwdRefIdeal.τ).loc Cert.S5DiscFwdRefIdeal.main_v8) = v0 c
          ∧ r.2.mem ((c.tc : Thread Cert.S5DiscFwdRefIdeal.nD Cert.S5DiscFwdRefIdeal.τ).loc Cert.S5DiscFwdRefIdeal.main_v12) = v1 c
          ∧ r.2.mem ((c.tc : Thread Cert.S5DiscFwdRefIdeal.nD Cert.S5DiscFwdRefIdeal.τ).loc Cert.S5DiscFwdRefIdeal.main_v41) = v2 c
          ∧ r.2.mem ((c.tc : Thread Cert.S5DiscFwdRefIdeal.nD Cert.S5DiscFwdRefIdeal.τ).loc Cert.S5DiscFwdRefIdeal.main_v43) = v3 c
          ∧ r.2.mem ((c.tc : Thread Cert.S5DiscFwdRefIdeal.nD Cert.S5DiscFwdRefIdeal.τ).loc Cert.S5DiscFwdRefIdeal.main_arg0) = m' ((c.tc : Thread Cert.S5DiscFwdRefIdeal.nD Cert.S5DiscFwdRefIdeal.τ).loc Cert.S5DiscFwdRefIdeal.main_arg0)
          ∧ r.2.mem ((c.tc : Thread Cert.S5DiscFwdRefIdeal.nD Cert.S5DiscFwdRefIdeal.τ).loc Cert.S5DiscFwdRefIdeal.main_arg1) = m' ((c.tc : Thread Cert.S5DiscFwdRefIdeal.nD Cert.S5DiscFwdRefIdeal.τ).loc Cert.S5DiscFwdRefIdeal.main_arg1)
          ∧ r.2.mem ((c.tc : Thread Cert.S5DiscFwdRefIdeal.nD Cert.S5DiscFwdRefIdeal.τ).loc Cert.S5DiscFwdRefIdeal.main_arg2) = m' ((c.tc : Thread Cert.S5DiscFwdRefIdeal.nD Cert.S5DiscFwdRefIdeal.τ).loc Cert.S5DiscFwdRefIdeal.main_arg2)
          ∧ r.2.mem ((c.tc : Thread Cert.S5DiscFwdRefIdeal.nD Cert.S5DiscFwdRefIdeal.τ).loc Cert.S5DiscFwdRefIdeal.main_arg3) = m' ((c.tc : Thread Cert.S5DiscFwdRefIdeal.nD Cert.S5DiscFwdRefIdeal.τ).loc Cert.S5DiscFwdRefIdeal.main_arg3)
          ∧ r.2.mem ((c.tc : Thread Cert.S5DiscFwdRefIdeal.nD Cert.S5DiscFwdRefIdeal.τ).loc Cert.S5DiscFwdRefIdeal.main_arg4) = m' ((c.tc : Thread Cert.S5DiscFwdRefIdeal.nD Cert.S5DiscFwdRefIdeal.τ).loc Cert.S5DiscFwdRefIdeal.main_arg4))

def preserves_AttnFwd_AttnFwdIdeal : Prop :=
  IdealRules.named_const.Statement Cert.AttnFwdIdeal.κ "mask" .f32 0xF149F2CA#32 ⊥

def algebraic_AttnFwdIdeal_AttnFwdRefIdeal_pre_attn_fwd_finite [hAttnFwdIdeal : Cert.AttnFwdIdeal.Facts] [hAttnFwdRefIdeal : Cert.AttnFwdRefIdeal.Facts] [hPre_attn_fwd_finite : Cert.Pre_attn_fwd_finite.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal_attn_fwd_finite m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)) →
    ∃ (v0 : (c : Dev Cert.AttnFwdIdeal.nD) → Buf (Elt Ideal) ((c.tc : Thread Cert.AttnFwdIdeal.nD Cert.AttnFwdIdeal.τ).loc Cert.AttnFwdIdeal.main_v30)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v30) = v0 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v112) = v0 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1))

def preserves_ConvFwd_ConvFwdIdeal : Prop :=
  True

def algebraic_ConvFwdIdeal_ConvFwdRefIdeal [hConvFwdIdeal : Cert.ConvFwdIdeal.Facts] [hConvFwdRefIdeal : Cert.ConvFwdRefIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdRefIdeal.nD Cert.ConvFwdRefIdeal.τ Cert.ConvFwdRefIdeal.sig) → Buf (Elt Ideal) ℓ) (g' : Dev Cert.ConvFwdRefIdeal.nD → PrngReg), Pre_ConvFwdIdeal m →
    (∀ c : Dev Cert.ConvFwdIdeal.nD,
      m' ((c.tc : Thread Cert.ConvFwdRefIdeal.nD Cert.ConvFwdRefIdeal.τ).loc Cert.ConvFwdRefIdeal.main_arg0) = m ((c.tc : Thread Cert.ConvFwdIdeal.nD Cert.ConvFwdIdeal.τ).loc Cert.ConvFwdIdeal.main_arg0)
      ∧ m' ((c.tc : Thread Cert.ConvFwdRefIdeal.nD Cert.ConvFwdRefIdeal.τ).loc Cert.ConvFwdRefIdeal.main_arg1) = m ((c.tc : Thread Cert.ConvFwdIdeal.nD Cert.ConvFwdIdeal.τ).loc Cert.ConvFwdIdeal.main_arg1)
      ∧ m' ((c.tc : Thread Cert.ConvFwdRefIdeal.nD Cert.ConvFwdRefIdeal.τ).loc Cert.ConvFwdRefIdeal.main_arg2) = m ((c.tc : Thread Cert.ConvFwdIdeal.nD Cert.ConvFwdIdeal.τ).loc Cert.ConvFwdIdeal.main_arg2)) →
    ∃ (v0 : (c : Dev Cert.ConvFwdIdeal.nD) → Buf (Elt Ideal) ((c.tc : Thread Cert.ConvFwdIdeal.nD Cert.ConvFwdIdeal.τ).loc Cert.ConvFwdIdeal.main_v2)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v2) = v0 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
          ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2))
      ∧ θ_run (Cert.ConvFwdRefIdeal.defs (F := Ideal)) (onTc (τ := Cert.ConvFwdRefIdeal.τ) (Cert.ConvFwdRefIdeal.main (F := Ideal))) ⟨m', fun _ => 0, g'⟩ (fun r => ∀ c : Dev Cert.ConvFwdRefIdeal.nD,
          r.2.mem ((c.tc : Thread Cert.ConvFwdRefIdeal.nD Cert.ConvFwdRefIdeal.τ).loc Cert.ConvFwdRefIdeal.main_v231) = v0 c
          ∧ r.2.mem ((c.tc : Thread Cert.ConvFwdRefIdeal.nD Cert.ConvFwdRefIdeal.τ).loc Cert.ConvFwdRefIdeal.main_arg0) = m' ((c.tc : Thread Cert.ConvFwdRefIdeal.nD Cert.ConvFwdRefIdeal.τ).loc Cert.ConvFwdRefIdeal.main_arg0)
          ∧ r.2.mem ((c.tc : Thread Cert.ConvFwdRefIdeal.nD Cert.ConvFwdRefIdeal.τ).loc Cert.ConvFwdRefIdeal.main_arg1) = m' ((c.tc : Thread Cert.ConvFwdRefIdeal.nD Cert.ConvFwdRefIdeal.τ).loc Cert.ConvFwdRefIdeal.main_arg1)
          ∧ r.2.mem ((c.tc : Thread Cert.ConvFwdRefIdeal.nD Cert.ConvFwdRefIdeal.τ).loc Cert.ConvFwdRefIdeal.main_arg2) = m' ((c.tc : Thread Cert.ConvFwdRefIdeal.nD Cert.ConvFwdRefIdeal.τ).loc Cert.ConvFwdRefIdeal.main_arg2))

def Claim : Prop :=
  ∃ (hAttnBwd : Cert.AttnBwd.Facts) (hAttnBwdIdeal : Cert.AttnBwdIdeal.Facts) (hAttnBwdRefIdeal : Cert.AttnBwdRefIdeal.Facts) (hBiasGrad : Cert.BiasGrad.Facts) (hBiasGradIdeal : Cert.BiasGradIdeal.Facts) (hBiasGradRefIdeal : Cert.BiasGradRefIdeal.Facts) (hGatedOutBwd : Cert.GatedOutBwd.Facts) (hGatedOutBwdIdeal : Cert.GatedOutBwdIdeal.Facts) (hGatedOutBwdRefIdeal : Cert.GatedOutBwdRefIdeal.Facts) (hLossHead : Cert.LossHead.Facts) (hLossHeadIdeal : Cert.LossHeadIdeal.Facts) (hLossHeadRefIdeal : Cert.LossHeadRefIdeal.Facts) (hOdInBwd : Cert.OdInBwd.Facts) (hOdInBwdIdeal : Cert.OdInBwdIdeal.Facts) (hOdInBwdRefIdeal : Cert.OdInBwdRefIdeal.Facts) (hEvInBwd : Cert.EvInBwd.Facts) (hEvInBwdIdeal : Cert.EvInBwdIdeal.Facts) (hEvInBwdRefIdeal : Cert.EvInBwdRefIdeal.Facts) (hKvBwd : Cert.KvBwd.Facts) (hKvBwdIdeal : Cert.KvBwdIdeal.Facts) (hKvBwdRefIdeal : Cert.KvBwdRefIdeal.Facts) (hConvBwd : Cert.ConvBwd.Facts) (hConvBwdIdeal : Cert.ConvBwdIdeal.Facts) (hConvBwdRefIdeal : Cert.ConvBwdRefIdeal.Facts) (hS5DiscBwd : Cert.S5DiscBwd.Facts) (hS5DiscBwdIdeal : Cert.S5DiscBwdIdeal.Facts) (hS5DiscBwdRefIdeal : Cert.S5DiscBwdRefIdeal.Facts) (hEvOutBwd : Cert.EvOutBwd.Facts) (hEvOutBwdIdeal : Cert.EvOutBwdIdeal.Facts) (hEvOutBwdRefIdeal : Cert.EvOutBwdRefIdeal.Facts) (hXaBwd : Cert.XaBwd.Facts) (hXaBwdIdeal : Cert.XaBwdIdeal.Facts) (hXaBwdRefIdeal : Cert.XaBwdRefIdeal.Facts) (hGatedOutFwd : Cert.GatedOutFwd.Facts) (hGatedOutFwdIdeal : Cert.GatedOutFwdIdeal.Facts) (hGatedOutFwdRefIdeal : Cert.GatedOutFwdRefIdeal.Facts) (hOdInFwd : Cert.OdInFwd.Facts) (hOdInFwdIdeal : Cert.OdInFwdIdeal.Facts) (hOdInFwdRefIdeal : Cert.OdInFwdRefIdeal.Facts) (hEvInFwd : Cert.EvInFwd.Facts) (hEvInFwdIdeal : Cert.EvInFwdIdeal.Facts) (hEvInFwdRefIdeal : Cert.EvInFwdRefIdeal.Facts) (hXaFwd : Cert.XaFwd.Facts) (hXaFwdIdeal : Cert.XaFwdIdeal.Facts) (hXaFwdRefIdeal : Cert.XaFwdRefIdeal.Facts) (hEvOutFwd : Cert.EvOutFwd.Facts) (hEvOutFwdIdeal : Cert.EvOutFwdIdeal.Facts) (hEvOutFwdRefIdeal : Cert.EvOutFwdRefIdeal.Facts) (hS5DiscFwd : Cert.S5DiscFwd.Facts) (hS5DiscFwdIdeal : Cert.S5DiscFwdIdeal.Facts) (hS5DiscFwdRefIdeal : Cert.S5DiscFwdRefIdeal.Facts) (hAttnFwd : Cert.AttnFwd.Facts) (hAttnFwdIdeal : Cert.AttnFwdIdeal.Facts) (hAttnFwdRefIdeal : Cert.AttnFwdRefIdeal.Facts) (hConvFwd : Cert.ConvFwd.Facts) (hConvFwdIdeal : Cert.ConvFwdIdeal.Facts) (hConvFwdRefIdeal : Cert.ConvFwdRefIdeal.Facts) (hPre_attn_finite : Cert.Pre_attn_finite.Facts) (hPre_attn_fwd_finite : Cert.Pre_attn_fwd_finite.Facts),
    quiescent_AttnBwd (hAttnBwd := hAttnBwd)
    ∧ quiescent_AttnBwdIdeal (hAttnBwdIdeal := hAttnBwdIdeal)
    ∧ quiescent_AttnBwdIdeal_pre_attn_finite (hAttnBwdIdeal := hAttnBwdIdeal) (hPre_attn_finite := hPre_attn_finite)
    ∧ quiescent_AttnBwdRefIdeal (hAttnBwdRefIdeal := hAttnBwdRefIdeal)
    ∧ quiescent_AttnBwdRefIdeal_pre_attn_finite (hAttnBwdRefIdeal := hAttnBwdRefIdeal) (hPre_attn_finite := hPre_attn_finite)
    ∧ quiescent_BiasGrad (hBiasGrad := hBiasGrad)
    ∧ quiescent_BiasGradIdeal (hBiasGradIdeal := hBiasGradIdeal)
    ∧ quiescent_BiasGradRefIdeal (hBiasGradRefIdeal := hBiasGradRefIdeal)
    ∧ quiescent_GatedOutBwd (hGatedOutBwd := hGatedOutBwd)
    ∧ quiescent_GatedOutBwdIdeal (hGatedOutBwdIdeal := hGatedOutBwdIdeal)
    ∧ quiescent_GatedOutBwdRefIdeal (hGatedOutBwdRefIdeal := hGatedOutBwdRefIdeal)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ quiescent_OdInBwd (hOdInBwd := hOdInBwd)
    ∧ quiescent_OdInBwdIdeal (hOdInBwdIdeal := hOdInBwdIdeal)
    ∧ quiescent_OdInBwdRefIdeal (hOdInBwdRefIdeal := hOdInBwdRefIdeal)
    ∧ quiescent_EvInBwd (hEvInBwd := hEvInBwd)
    ∧ quiescent_EvInBwdIdeal (hEvInBwdIdeal := hEvInBwdIdeal)
    ∧ quiescent_EvInBwdRefIdeal (hEvInBwdRefIdeal := hEvInBwdRefIdeal)
    ∧ quiescent_KvBwd (hKvBwd := hKvBwd)
    ∧ quiescent_KvBwdIdeal (hKvBwdIdeal := hKvBwdIdeal)
    ∧ quiescent_KvBwdRefIdeal (hKvBwdRefIdeal := hKvBwdRefIdeal)
    ∧ quiescent_ConvBwd (hConvBwd := hConvBwd)
    ∧ quiescent_ConvBwdIdeal (hConvBwdIdeal := hConvBwdIdeal)
    ∧ quiescent_ConvBwdRefIdeal (hConvBwdRefIdeal := hConvBwdRefIdeal)
    ∧ quiescent_S5DiscBwd (hS5DiscBwd := hS5DiscBwd)
    ∧ quiescent_S5DiscBwdIdeal (hS5DiscBwdIdeal := hS5DiscBwdIdeal)
    ∧ quiescent_S5DiscBwdRefIdeal (hS5DiscBwdRefIdeal := hS5DiscBwdRefIdeal)
    ∧ quiescent_EvOutBwd (hEvOutBwd := hEvOutBwd)
    ∧ quiescent_EvOutBwdIdeal (hEvOutBwdIdeal := hEvOutBwdIdeal)
    ∧ quiescent_EvOutBwdRefIdeal (hEvOutBwdRefIdeal := hEvOutBwdRefIdeal)
    ∧ quiescent_XaBwd (hXaBwd := hXaBwd)
    ∧ quiescent_XaBwdIdeal (hXaBwdIdeal := hXaBwdIdeal)
    ∧ quiescent_XaBwdRefIdeal (hXaBwdRefIdeal := hXaBwdRefIdeal)
    ∧ quiescent_GatedOutFwd (hGatedOutFwd := hGatedOutFwd)
    ∧ quiescent_GatedOutFwdIdeal (hGatedOutFwdIdeal := hGatedOutFwdIdeal)
    ∧ quiescent_GatedOutFwdRefIdeal (hGatedOutFwdRefIdeal := hGatedOutFwdRefIdeal)
    ∧ quiescent_OdInFwd (hOdInFwd := hOdInFwd)
    ∧ quiescent_OdInFwdIdeal (hOdInFwdIdeal := hOdInFwdIdeal)
    ∧ quiescent_OdInFwdRefIdeal (hOdInFwdRefIdeal := hOdInFwdRefIdeal)
    ∧ quiescent_EvInFwd (hEvInFwd := hEvInFwd)
    ∧ quiescent_EvInFwdIdeal (hEvInFwdIdeal := hEvInFwdIdeal)
    ∧ quiescent_EvInFwdRefIdeal (hEvInFwdRefIdeal := hEvInFwdRefIdeal)
    ∧ quiescent_XaFwd (hXaFwd := hXaFwd)
    ∧ quiescent_XaFwdIdeal (hXaFwdIdeal := hXaFwdIdeal)
    ∧ quiescent_XaFwdRefIdeal (hXaFwdRefIdeal := hXaFwdRefIdeal)
    ∧ quiescent_EvOutFwd (hEvOutFwd := hEvOutFwd)
    ∧ quiescent_EvOutFwdIdeal (hEvOutFwdIdeal := hEvOutFwdIdeal)
    ∧ quiescent_EvOutFwdRefIdeal (hEvOutFwdRefIdeal := hEvOutFwdRefIdeal)
    ∧ quiescent_S5DiscFwd (hS5DiscFwd := hS5DiscFwd)
    ∧ quiescent_S5DiscFwdIdeal (hS5DiscFwdIdeal := hS5DiscFwdIdeal)
    ∧ quiescent_S5DiscFwdRefIdeal (hS5DiscFwdRefIdeal := hS5DiscFwdRefIdeal)
    ∧ quiescent_AttnFwd (hAttnFwd := hAttnFwd)
    ∧ quiescent_AttnFwdIdeal (hAttnFwdIdeal := hAttnFwdIdeal)
    ∧ quiescent_AttnFwdIdeal_pre_attn_fwd_finite (hAttnFwdIdeal := hAttnFwdIdeal) (hPre_attn_fwd_finite := hPre_attn_fwd_finite)
    ∧ quiescent_AttnFwdRefIdeal (hAttnFwdRefIdeal := hAttnFwdRefIdeal)
    ∧ quiescent_AttnFwdRefIdeal_pre_attn_fwd_finite (hAttnFwdRefIdeal := hAttnFwdRefIdeal) (hPre_attn_fwd_finite := hPre_attn_fwd_finite)
    ∧ quiescent_ConvFwd (hConvFwd := hConvFwd)
    ∧ quiescent_ConvFwdIdeal (hConvFwdIdeal := hConvFwdIdeal)
    ∧ quiescent_ConvFwdRefIdeal (hConvFwdRefIdeal := hConvFwdRefIdeal)
    ∧ preserves_AttnBwd_AttnBwdIdeal
    ∧ algebraic_AttnBwdIdeal_AttnBwdRefIdeal_pre_attn_finite (hAttnBwdIdeal := hAttnBwdIdeal) (hAttnBwdRefIdeal := hAttnBwdRefIdeal) (hPre_attn_finite := hPre_attn_finite)
    ∧ preserves_BiasGrad_BiasGradIdeal
    ∧ algebraic_BiasGradIdeal_BiasGradRefIdeal (hBiasGradIdeal := hBiasGradIdeal) (hBiasGradRefIdeal := hBiasGradRefIdeal)
    ∧ preserves_GatedOutBwd_GatedOutBwdIdeal
    ∧ algebraic_GatedOutBwdIdeal_GatedOutBwdRefIdeal (hGatedOutBwdIdeal := hGatedOutBwdIdeal) (hGatedOutBwdRefIdeal := hGatedOutBwdRefIdeal)
    ∧ preserves_LossHead_LossHeadIdeal
    ∧ algebraic_LossHeadIdeal_LossHeadRefIdeal (hLossHeadIdeal := hLossHeadIdeal) (hLossHeadRefIdeal := hLossHeadRefIdeal)
    ∧ preserves_OdInBwd_OdInBwdIdeal
    ∧ algebraic_OdInBwdIdeal_OdInBwdRefIdeal (hOdInBwdIdeal := hOdInBwdIdeal) (hOdInBwdRefIdeal := hOdInBwdRefIdeal)
    ∧ preserves_EvInBwd_EvInBwdIdeal
    ∧ algebraic_EvInBwdIdeal_EvInBwdRefIdeal (hEvInBwdIdeal := hEvInBwdIdeal) (hEvInBwdRefIdeal := hEvInBwdRefIdeal)
    ∧ preserves_KvBwd_KvBwdIdeal
    ∧ algebraic_KvBwdIdeal_KvBwdRefIdeal (hKvBwdIdeal := hKvBwdIdeal) (hKvBwdRefIdeal := hKvBwdRefIdeal)
    ∧ preserves_ConvBwd_ConvBwdIdeal
    ∧ algebraic_ConvBwdIdeal_ConvBwdRefIdeal (hConvBwdIdeal := hConvBwdIdeal) (hConvBwdRefIdeal := hConvBwdRefIdeal)
    ∧ preserves_S5DiscBwd_S5DiscBwdIdeal
    ∧ algebraic_S5DiscBwdIdeal_S5DiscBwdRefIdeal (hS5DiscBwdIdeal := hS5DiscBwdIdeal) (hS5DiscBwdRefIdeal := hS5DiscBwdRefIdeal)
    ∧ preserves_EvOutBwd_EvOutBwdIdeal
    ∧ algebraic_EvOutBwdIdeal_EvOutBwdRefIdeal (hEvOutBwdIdeal := hEvOutBwdIdeal) (hEvOutBwdRefIdeal := hEvOutBwdRefIdeal)
    ∧ preserves_XaBwd_XaBwdIdeal
    ∧ algebraic_XaBwdIdeal_XaBwdRefIdeal (hXaBwdIdeal := hXaBwdIdeal) (hXaBwdRefIdeal := hXaBwdRefIdeal)
    ∧ preserves_GatedOutFwd_GatedOutFwdIdeal
    ∧ algebraic_GatedOutFwdIdeal_GatedOutFwdRefIdeal (hGatedOutFwdIdeal := hGatedOutFwdIdeal) (hGatedOutFwdRefIdeal := hGatedOutFwdRefIdeal)
    ∧ preserves_OdInFwd_OdInFwdIdeal
    ∧ algebraic_OdInFwdIdeal_OdInFwdRefIdeal (hOdInFwdIdeal := hOdInFwdIdeal) (hOdInFwdRefIdeal := hOdInFwdRefIdeal)
    ∧ preserves_EvInFwd_EvInFwdIdeal
    ∧ algebraic_EvInFwdIdeal_EvInFwdRefIdeal (hEvInFwdIdeal := hEvInFwdIdeal) (hEvInFwdRefIdeal := hEvInFwdRefIdeal)
    ∧ preserves_XaFwd_XaFwdIdeal
    ∧ algebraic_XaFwdIdeal_XaFwdRefIdeal (hXaFwdIdeal := hXaFwdIdeal) (hXaFwdRefIdeal := hXaFwdRefIdeal)
    ∧ preserves_EvOutFwd_EvOutFwdIdeal
    ∧ algebraic_EvOutFwdIdeal_EvOutFwdRefIdeal (hEvOutFwdIdeal := hEvOutFwdIdeal) (hEvOutFwdRefIdeal := hEvOutFwdRefIdeal)
    ∧ preserves_S5DiscFwd_S5DiscFwdIdeal
    ∧ algebraic_S5DiscFwdIdeal_S5DiscFwdRefIdeal (hS5DiscFwdIdeal := hS5DiscFwdIdeal) (hS5DiscFwdRefIdeal := hS5DiscFwdRefIdeal)
    ∧ preserves_AttnFwd_AttnFwdIdeal
    ∧ algebraic_AttnFwdIdeal_AttnFwdRefIdeal_pre_attn_fwd_finite (hAttnFwdIdeal := hAttnFwdIdeal) (hAttnFwdRefIdeal := hAttnFwdRefIdeal) (hPre_attn_fwd_finite := hPre_attn_fwd_finite)
    ∧ preserves_ConvFwd_ConvFwdIdeal
    ∧ algebraic_ConvFwdIdeal_ConvFwdRefIdeal (hConvFwdIdeal := hConvFwdIdeal) (hConvFwdRefIdeal := hConvFwdRefIdeal)
-- ==== Pre_attn_finite.lean ====
abbrev S8192x4096 : Shape := ⟨2, ![8192, 4096]⟩
abbrev S8192x1024 : Shape := ⟨2, ![8192, 1024]⟩
abbrev S16x257 : Shape := ⟨2, ![16, 257]⟩
abbrev S8192x2048 : Shape := ⟨2, ![8192, 2048]⟩
abbrev S_ : Shape := ⟨0, ![]⟩

class Facts : Prop where
  slices_S8192x4096_S8192x2048_0_0 : S8192x4096.Slices ![0, 0] S8192x2048
  bcast_S_S8192x2048 : S_.BroadcastsInDim S8192x2048 (![] : Fin 0 → Fin S8192x2048.rank)
  bcast_S_S16x257 : S_.BroadcastsInDim S16x257 (![] : Fin 0 → Fin S16x257.rank)

variable [Facts]

def fn {F : FTy → Type} [FloatOps F] (main_arg0 : FVec F S8192x4096 .f32) (main_arg1 : FVec F S8192x1024 .f32) (main_arg2 : FVec F S16x257 .f32) : IVec S8192x2048 1 × IVec S16x257 1 :=
  let main_v0 : FVec F S8192x2048 .f32 := (extractStridedSlice S8192x2048 ![0, 0] · slices_S8192x4096_S8192x2048_0_0) main_arg0
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_v4 : FVec F S16x257 .f32 := Host.absf main_arg2
  let main_cst_0 : FVec F S_ .f32 := constant S_ .f32 0x7F800000#32
  let main_v5 : FVec F S16x257 .f32 := broadcastInDim S16x257 ![] bcast_S_S16x257 main_cst_0
  let main_v6 : IVec S16x257 1 := cmpf .olt main_v4 main_v5
  (main_v3, main_v6)
-- ==== Pre_attn_fwd_finite.lean ====
abbrev S8192x4096 : Shape := ⟨2, ![8192, 4096]⟩
abbrev S16x257 : Shape := ⟨2, ![16, 257]⟩
abbrev S8192x2048 : Shape := ⟨2, ![8192, 2048]⟩
abbrev S_ : Shape := ⟨0, ![]⟩

class Facts : Prop where
  slices_S8192x4096_S8192x2048_0_0 : S8192x4096.Slices ![0, 0] S8192x2048
  bcast_S_S8192x2048 : S_.BroadcastsInDim S8192x2048 (![] : Fin 0 → Fin S8192x2048.rank)
  bcast_S_S16x257 : S_.BroadcastsInDim S16x257 (![] : Fin 0 → Fin S16x257.rank)

variable [Facts]

def fn {F : FTy → Type} [FloatOps F] (main_arg0 : FVec F S8192x4096 .f32) (main_arg1 : FVec F S16x257 .f32) : IVec S8192x2048 1 × IVec S16x257 1 :=
  let main_v0 : FVec F S8192x2048 .f32 := (extractStridedSlice S8192x2048 ![0, 0] · slices_S8192x4096_S8192x2048_0_0) main_arg0
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_v4 : FVec F S16x257 .f32 := Host.absf main_arg1
  let main_cst_0 : FVec F S_ .f32 := constant S_ .f32 0x7F800000#32
  let main_v5 : FVec F S16x257 .f32 := broadcastInDim S16x257 ![] bcast_S_S16x257 main_cst_0
  let main_v6 : IVec S16x257 1 := cmpf .olt main_v4 main_v5
  (main_v3, main_v6)
-- ==== AttnBwd.lean ====
abbrev S8192x4096 : Shape := ⟨2, ![8192, 4096]⟩
abbrev S8192x1024 : Shape := ⟨2, ![8192, 1024]⟩
abbrev S16x257 : Shape := ⟨2, ![16, 257]⟩
abbrev S1023 : Shape := ⟨1, ![1023]⟩
abbrev S_ : Shape := ⟨0, ![]⟩
abbrev S1023x1 : Shape := ⟨2, ![1023, 1]⟩
abbrev S1 : Shape := ⟨1, ![1]⟩
abbrev S1x1 : Shape := ⟨2, ![1, 1]⟩
abbrev S16x1023 : Shape := ⟨2, ![16, 1023]⟩
abbrev S16x1024 : Shape := ⟨2, ![16, 1024]⟩
abbrev S1x16x1x1024 : Shape := ⟨4, ![1, 16, 1, 1024]⟩
abbrev S1x16x256x1024 : Shape := ⟨4, ![1, 16, 256, 1024]⟩
abbrev S16x262144 : Shape := ⟨2, ![16, 262144]⟩
abbrev S16x261888 : Shape := ⟨2, ![16, 261888]⟩
abbrev S16x256x1023 : Shape := ⟨3, ![16, 256, 1023]⟩
abbrev S16x256x768 : Shape := ⟨3, ![16, 256, 768]⟩
abbrev S256x1 : Shape := ⟨2, ![256, 1]⟩
abbrev S1x768 : Shape := ⟨2, ![1, 768]⟩
abbrev S256x768 : Shape := ⟨2, ![256, 768]⟩
abbrev S1x256x768 : Shape := ⟨3, ![1, 256, 768]⟩
abbrev S256x128 : Shape := ⟨2, ![256, 128]⟩
abbrev S8192x128 : Shape := ⟨2, ![8192, 128]⟩
abbrev S2x256x768 : Shape := ⟨3, ![2, 256, 768]⟩
abbrev S8704x128 : Shape := ⟨2, ![8704, 128]⟩
abbrev S512x128 : Shape := ⟨2, ![512, 128]⟩
abbrev S768x128 : Shape := ⟨2, ![768, 128]⟩
abbrev S256 : Shape := ⟨1, ![256]⟩

abbrev nBuf : Space → Nat
  | .hbm => 70
  | .vmem => 22
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S16x257, .f32⟩
  | .hbm, ⟨3, _⟩ => ⟨S1023, .i32⟩
  | .hbm, ⟨4, _⟩ => ⟨S_, .i32⟩
  | .hbm, ⟨5, _⟩ => ⟨S1023, .i32⟩
  | .hbm, ⟨6, _⟩ => ⟨S1023, .i1⟩
  | .hbm, ⟨7, _⟩ => ⟨S_, .i32⟩
  | .hbm, ⟨8, _⟩ => ⟨S1023, .i32⟩
  | .hbm, ⟨9, _⟩ => ⟨S1023, .i32⟩
  | .hbm, ⟨10, _⟩ => ⟨S1023, .i32⟩
  | .hbm, ⟨11, _⟩ => ⟨S1023x1, .i32⟩
  | .hbm, ⟨12, _⟩ => ⟨S1, .i32⟩
  | .hbm, ⟨13, _⟩ => ⟨S_, .i32⟩
  | .hbm, ⟨14, _⟩ => ⟨S1023x1, .i32⟩
  | .hbm, ⟨15, _⟩ => ⟨S1023x1, .i1⟩
  | .hbm, ⟨16, _⟩ => ⟨S1x1, .i32⟩
  | .hbm, ⟨17, _⟩ => ⟨S1023x1, .i32⟩
  | .hbm, ⟨18, _⟩ => ⟨S1023x1, .i1⟩
  | .hbm, ⟨19, _⟩ => ⟨S1023x1, .i1⟩
  | .hbm, ⟨20, _⟩ => ⟨S_, .i1⟩
  | .hbm, ⟨21, _⟩ => ⟨S1023, .i1⟩
  | .hbm, ⟨22, _⟩ => ⟨S16x1023, .f32⟩
  | .hbm, ⟨23, _⟩ => ⟨S16x1023, .i1⟩
  | .hbm, ⟨24, _⟩ => ⟨S_, .f32⟩
  | .hbm, ⟨25, _⟩ => ⟨S16x1023, .f32⟩
  | .hbm, ⟨26, _⟩ => ⟨S16x1023, .f32⟩
  | .hbm, ⟨27, _⟩ => ⟨S_, .i32⟩
  | .hbm, ⟨28, _⟩ => ⟨S_, .f32⟩
  | .hbm, ⟨29, _⟩ => ⟨S16x1024, .f32⟩
  | .hbm, ⟨30, _⟩ => ⟨S1x16x1x1024, .f32⟩
  | .hbm, ⟨31, _⟩ => ⟨S1x16x256x1024, .f32⟩
  | .hbm, ⟨32, _⟩ => ⟨S16x262144, .f32⟩
  | .hbm, ⟨33, _⟩ => ⟨S16x261888, .f32⟩
  | .hbm, ⟨34, _⟩ => ⟨S16x256x1023, .f32⟩
  | .hbm, ⟨35, _⟩ => ⟨S16x256x768, .f32⟩
  | .hbm, ⟨36, _⟩ => ⟨S256x1, .i32⟩
  | .hbm, ⟨37, _⟩ => ⟨S_, .i32⟩
  | .hbm, ⟨38, _⟩ => ⟨S256x1, .i32⟩
  | .hbm, ⟨39, _⟩ => ⟨S256x1, .i32⟩
  | .hbm, ⟨40, _⟩ => ⟨S_, .i32⟩
  | .hbm, ⟨41, _⟩ => ⟨S256x1, .i32⟩
  | .hbm, ⟨42, _⟩ => ⟨S256x1, .i32⟩
  | .hbm, ⟨43, _⟩ => ⟨S1x768, .i32⟩
  | .hbm, ⟨44, _⟩ => ⟨S_, .i32⟩
  | .hbm, ⟨45, _⟩ => ⟨S1x768, .i32⟩
  | .hbm, ⟨46, _⟩ => ⟨S1x768, .i32⟩
  | .hbm, ⟨47, _⟩ => ⟨S256x768, .i32⟩
  | .hbm, ⟨48, _⟩ => ⟨S256x768, .i32⟩
  | .hbm, ⟨49, _⟩ => ⟨S256x768, .i1⟩
  | .hbm, ⟨50, _⟩ => ⟨S_, .i32⟩
  | .hbm, ⟨51, _⟩ => ⟨S256x1, .i32⟩
  | .hbm, ⟨52, _⟩ => ⟨S256x1, .i32⟩
  | .hbm, ⟨53, _⟩ => ⟨S256x768, .i32⟩
  | .hbm, ⟨54, _⟩ => ⟨S256x768, .i32⟩
  | .hbm, ⟨55, _⟩ => ⟨S256x768, .i1⟩
  | .hbm, ⟨56, _⟩ => ⟨S256x768, .i1⟩
  | .hbm, ⟨57, _⟩ => ⟨S_, .f32⟩
  | .hbm, ⟨58, _⟩ => ⟨S_, .f32⟩
  | .hbm, ⟨59, _⟩ => ⟨S256x768, .f32⟩
  | .hbm, ⟨60, _⟩ => ⟨S256x768, .f32⟩
  | .hbm, ⟨61, _⟩ => ⟨S256x768, .f32⟩
  | .hbm, ⟨62, _⟩ => ⟨S256x768, .f32⟩
  | .hbm, ⟨63, _⟩ => ⟨S1x256x768, .f32⟩
  | .hbm, ⟨64, _⟩ => ⟨S16x256x768, .f32⟩
  | .hbm, ⟨65, _⟩ => ⟨S16x256x768, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S16x256x768, .f32⟩
  | .local _ .vmem, ⟨0, _⟩ => ⟨S256x128, .f32⟩
  | .local _ .vmem, ⟨1, _⟩ => ⟨S256x128, .f32⟩
  | .local _ .vmem, ⟨2, _⟩ => ⟨S8192x128, .f32⟩
  | .local _ .vmem, ⟨3, _⟩ => ⟨S8192x128, .f32⟩
  | .local _ .vmem, ⟨4, _⟩ => ⟨S8192x128, .f32⟩
  | .local _ .vmem, ⟨5, _⟩ => ⟨S8192x128, .f32⟩
  | .local _ .vmem, ⟨6, _⟩ => ⟨S2x256x768, .f32⟩
  | .local _ .vmem, ⟨7, _⟩ => ⟨S2x256x768, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S8192x128, .f32⟩
  | .local _ .vmem, ⟨13, _⟩ => ⟨S8192x128, .f32⟩
  | .local _ .vmem, ⟨14, _⟩ => ⟨S8192x128, .f32⟩
  | .local _ .vmem, ⟨15, _⟩ => ⟨S8192x128, .f32⟩
  | .local _ .vmem, ⟨16, _⟩ => ⟨S2x256x768, .f32⟩
  | .local _ .vmem, ⟨17, _⟩ => ⟨S2x256x768, .f32⟩
  | .local _ .vmem, ⟨18, _⟩ => ⟨S8704x128, .bf16⟩
  | .local _ .vmem, ⟨19, _⟩ => ⟨S8704x128, .bf16⟩
  | .local _ .vmem, ⟨20, _⟩ => ⟨S8704x128, .f32⟩
  | .local _ .vmem, ⟨21, _⟩ => ⟨S8704x128, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_c_0 : Ref sig .tc := ⟨.hbm, 27, rfl⟩
abbrev main_call1_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_c_1 : Ref sig .tc := ⟨.hbm, 37, rfl⟩
abbrev main_v9 : Ref sig .tc := ⟨.hbm, 38, rfl⟩
abbrev main_v10 : Ref sig .tc := ⟨.hbm, 39, rfl⟩
abbrev main_c_2 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_c_3 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_c_4 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_cst : Ref sig .tc := ⟨.hbm, 57, rfl⟩
abbrev main_cst_5 : Ref sig .tc := ⟨.hbm, 58, rfl⟩
abbrev main_call2_v0 : Ref sig .tc := ⟨.hbm, 59, rfl⟩
abbrev main_call2_v1 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30_0 : Ref sig .tc := ⟨.hbm, 66, rfl⟩
abbrev main_v30_1 : Ref sig .tc := ⟨.hbm, 67, rfl⟩
abbrev main_v30_2 : Ref sig .tc := ⟨.hbm, 68, rfl⟩
abbrev main_v30_3 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 32], ![false, false]⟩

def k0_mult1 (i : grid0.Coords) : BitVec 32 :=
  let arg1 : BitVec 32 := BitVec.ofNat 32 (i 1).val
  let c256_i32 : BitVec 32 := 256#32
  let v3 : BitVec 32 := Scalar.muli arg1 c256_i32
  v3
def k0_off1 (i : grid0.Coords) : Fin 2 → Nat :=
  let arg1 : BitVec 32 := BitVec.ofNat 32 (i 1).val
  let c256_i32 : BitVec 32 := 256#32
  let v3 : BitVec 32 := Scalar.muli arg1 c256_i32
  let v4 : BitVec 32 := v3
  let v9 : Index := Scalar.indexCast v4
  let c0_4 : Index := 0#32
  ![v9.toNat, 0]
def k0_cond2 (i : grid0.Coords) : BitVec 1 :=
  let arg1 : BitVec 32 := BitVec.ofNat 32 (i 1).val
  let c31_i32 : BitVec 32 := 31#32
  let v163 : BitVec 1 := Scalar.cmpi .eq arg1 c31_i32
  let v164 : BitVec 32 := Scalar.extui v163
  let c0_i32_67 : BitVec 32 := 0#32
  let v165 : BitVec 1 := Scalar.cmpi .ne v164 c0_i32_67
  v165

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8192x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8192x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2x256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== AttnBwdIdeal.lean ====
variable {F : FTy → Type} [FloatOps F] [Named F]
def κ : String → Option EReal := fun
  | "mask" => some ⊥
  | _ => none
-- ==== AttnBwdRefIdeal.lean ====
abbrev S8192x4096 : Shape := ⟨2, ![8192, 4096]⟩
abbrev S8192x1024 : Shape := ⟨2, ![8192, 1024]⟩
abbrev S16x257 : Shape := ⟨2, ![16, 257]⟩
abbrev S256 : Shape := ⟨1, ![256]⟩
abbrev S256x1 : Shape := ⟨2, ![256, 1]⟩
abbrev S768 : Shape := ⟨1, ![768]⟩
abbrev S1x768 : Shape := ⟨2, ![1, 768]⟩
abbrev S256x768 : Shape := ⟨2, ![256, 768]⟩
abbrev S_ : Shape := ⟨0, ![]⟩
abbrev S256x768x1 : Shape := ⟨3, ![256, 768, 1]⟩
abbrev S16x256x768 : Shape := ⟨3, ![16, 256, 768]⟩
abbrev S128x64x16x64 : Shape := ⟨4, ![128, 64, 16, 64]⟩
abbrev S512x16x64 : Shape := ⟨3, ![512, 16, 64]⟩
abbrev S8192x16x64 : Shape := ⟨3, ![8192, 16, 64]⟩
abbrev S8704x16x64 : Shape := ⟨3, ![8704, 16, 64]⟩
abbrev S128x576x16x64 : Shape := ⟨4, ![128, 576, 16, 64]⟩
abbrev S128x16x64x576 : Shape := ⟨4, ![128, 16, 64, 576]⟩
abbrev S16x64x576 : Shape := ⟨3, ![16, 64, 576]⟩
abbrev S1x16x64x576 : Shape := ⟨4, ![1, 16, 64, 576]⟩
abbrev S4x16x64x576 : Shape := ⟨4, ![4, 16, 64, 576]⟩
abbrev S32x4x16x64x576 : Shape := ⟨5, ![32, 4, 16, 64, 576]⟩
abbrev S1x4x16x64x576 : Shape := ⟨5, ![1, 4, 16, 64, 576]⟩
abbrev S128 : Shape := ⟨1, ![128]⟩
abbrev S128x1 : Shape := ⟨2, ![128, 1]⟩
abbrev S576 : Shape := ⟨1, ![576]⟩
abbrev S1x576 : Shape := ⟨2, ![1, 576]⟩
abbrev S128x576 : Shape := ⟨2, ![128, 576]⟩
abbrev S128x1x1x576 : Shape := ⟨4, ![128, 1, 1, 576]⟩
abbrev S128x16x64 : Shape := ⟨3, ![128, 16, 64]⟩
abbrev S128x16x64x1 : Shape := ⟨4, ![128, 16, 64, 1]⟩
abbrev S128x16x64x64 : Shape := ⟨4, ![128, 16, 64, 64]⟩
abbrev S128x16x576x64 : Shape := ⟨4, ![128, 16, 576, 64]⟩

abbrev nBuf : Space → Nat
  | .hbm => 320
  | .vmem => 0
  | .smem => 0
  | _ => 0

abbrev hbmTy0_0 (i : Nat) : BufTy := match i % 128 with
  | 0 => ⟨S8192x4096, .f32⟩
  | 1 => ⟨S8192x1024, .f32⟩
  | 2 => ⟨S16x257, .f32⟩
  | 3 => ⟨S8192x1024, .f32⟩
  | 4 => ⟨S8192x1024, .f32⟩
  | 5 => ⟨S8192x1024, .f32⟩
  | 6 => ⟨S256, .i32⟩
  | 7 => ⟨S256x1, .i32⟩
  | 8 => ⟨S768, .i32⟩
  | 9 => ⟨S1x768, .i32⟩
  | 10 => ⟨S256x768, .i32⟩
  | 11 => ⟨S256x768, .i32⟩
  | 12 => ⟨S256x768, .i32⟩
  | 13 => ⟨S_, .i32⟩
  | 14 => ⟨S256x768, .i32⟩
  | 15 => ⟨S256x768, .i32⟩
  | 16 => ⟨S_, .i32⟩
  | 17 => ⟨S_, .i32⟩
  | 18 => ⟨S_, .i32⟩
  | 19 => ⟨S256x768, .i32⟩
  | 20 => ⟨S256x768, .i32⟩
  | 21 => ⟨S_, .i32⟩
  | 22 => ⟨S256x768, .i32⟩
  | 23 => ⟨S256x768, .i32⟩
  | 24 => ⟨S_, .i32⟩
  | 25 => ⟨S256x768, .i32⟩
  | 26 => ⟨S256x768, .i32⟩
  | 27 => ⟨S_, .i32⟩
  | 28 => ⟨S256x768, .i32⟩
  | 29 => ⟨S256x768, .i1⟩
  | 30 => ⟨S_, .i32⟩
  | 31 => ⟨S256x768, .i32⟩
  | 32 => ⟨S256x768, .i32⟩
  | 33 => ⟨S256x768, .i32⟩
  | 34 => ⟨S256x768x1, .i32⟩
  | 35 => ⟨S16x256x768, .f32⟩
  | 36 => ⟨S128x64x16x64, .f32⟩
  | 37 => ⟨S_, .f32⟩
  | 38 => ⟨S512x16x64, .f32⟩
  | 39 => ⟨S8192x16x64, .f32⟩
  | 40 => ⟨S8704x16x64, .f32⟩
  | 41 => ⟨S_, .f32⟩
  | 42 => ⟨S512x16x64, .f32⟩
  | 43 => ⟨S_, .f32⟩
  | 44 => ⟨S512x16x64, .f32⟩
  | 45 => ⟨S8192x16x64, .f32⟩
  | 46 => ⟨S8704x16x64, .f32⟩
  | 47 => ⟨S_, .f32⟩
  | 48 => ⟨S512x16x64, .f32⟩
  | 49 => ⟨S8192x16x64, .f32⟩
  | 50 => ⟨S128x64x16x64, .f32⟩
  | 51 => ⟨S8192x16x64, .f32⟩
  | 52 => ⟨S128x64x16x64, .f32⟩
  | 53 => ⟨S8192x16x64, .f32⟩
  | 54 => ⟨S128x64x16x64, .f32⟩
  | 55 => ⟨S8192x16x64, .f32⟩
  | 56 => ⟨S128x64x16x64, .f32⟩
  | 57 => ⟨S8192x16x64, .f32⟩
  | 58 => ⟨S128x64x16x64, .f32⟩
  | 59 => ⟨S8192x16x64, .f32⟩
  | 60 => ⟨S128x64x16x64, .f32⟩
  | 61 => ⟨S8192x16x64, .f32⟩
  | 62 => ⟨S128x64x16x64, .f32⟩
  | 63 => ⟨S8192x16x64, .f32⟩
  | 64 => ⟨S128x64x16x64, .f32⟩
  | 65 => ⟨S8192x16x64, .f32⟩
  | 66 => ⟨S128x64x16x64, .f32⟩
  | 67 => ⟨S128x576x16x64, .f32⟩
  | 68 => ⟨S128x16x64x576, .f32⟩
  | 69 => ⟨S_, .f32⟩
  | 70 => ⟨S128x16x64x576, .f32⟩
  | 71 => ⟨S128x16x64x576, .f32⟩
  | 72 => ⟨S16x64x576, .f32⟩
  | 73 => ⟨S16x64x576, .f32⟩
  | 74 => ⟨S16x64x576, .f32⟩
  | 75 => ⟨S16x64x576, .f32⟩
  | 76 => ⟨S1x16x64x576, .f32⟩
  | 77 => ⟨S1x16x64x576, .f32⟩
  | 78 => ⟨S1x16x64x576, .f32⟩
  | 79 => ⟨S1x16x64x576, .f32⟩
  | 80 => ⟨S4x16x64x576, .f32⟩
  | 81 => ⟨S32x4x16x64x576, .f32⟩
  | 82 => ⟨S1x4x16x64x576, .f32⟩
  | 83 => ⟨S32x4x16x64x576, .f32⟩
  | 84 => ⟨S32x4x16x64x576, .f32⟩
  | 85 => ⟨S128x16x64x576, .f32⟩
  | 86 => ⟨S128, .i32⟩
  | 87 => ⟨S128x1, .i32⟩
  | 88 => ⟨S_, .i32⟩
  | 89 => ⟨S128x1, .i32⟩
  | 90 => ⟨S128x1, .i32⟩
  | 91 => ⟨S_, .i32⟩
  | 92 => ⟨S128x1, .i32⟩
  | 93 => ⟨S128x1, .i32⟩
  | 94 => ⟨S576, .i32⟩
  | 95 => ⟨S1x576, .i32⟩
  | 96 => ⟨S128x576, .i32⟩
  | 97 => ⟨S128x576, .i32⟩
  | 98 => ⟨S128x576, .i32⟩
  | 99 => ⟨S_, .i32⟩
  | 100 => ⟨S128x576, .i32⟩
  | 101 => ⟨S128x576, .i1⟩
  | 102 => ⟨S128x1x1x576, .i1⟩
  | 103 => ⟨S_, .f32⟩
  | 104 => ⟨S_, .f32⟩
  | 105 => ⟨S128x16x64x576, .i1⟩
  | 106 => ⟨S128x16x64x576, .f32⟩
  | 107 => ⟨S128x16x64x576, .f32⟩
  | 108 => ⟨S_, .f32⟩
  | 109 => ⟨S128x16x64x576, .f32⟩
  | 110 => ⟨S_, .f32⟩
  | 111 => ⟨S128x16x64, .f32⟩
  | 112 => ⟨S128x16x64x1, .f32⟩
  | 113 => ⟨S128x16x64x576, .f32⟩
  | 114 => ⟨S128x16x64x576, .i1⟩
  | 115 => ⟨S128x16x64x576, .f32⟩
  | 116 => ⟨S_, .f32⟩
  | 117 => ⟨S128x16x64, .f32⟩
  | 118 => ⟨S_, .f32⟩
  | 119 => ⟨S128x16x64, .f32⟩
  | 120 => ⟨S128x16x64, .f32⟩
  | 121 => ⟨S_, .f32⟩
  | 122 => ⟨S128x16x64, .f32⟩
  | 123 => ⟨S128x16x64, .i1⟩
  | 124 => ⟨S_, .f32⟩
  | 125 => ⟨S128x16x64, .f32⟩
  | 126 => ⟨S128x16x64, .i1⟩
  | 127 => ⟨S_, .f32⟩
  | _ => ⟨S8192x4096, .f32⟩

abbrev hbmTy0_1 (i : Nat) : BufTy := match i % 128 with
  | 0 => ⟨S128x16x64, .f32⟩
  | 1 => ⟨S_, .f32⟩
  | 2 => ⟨S128x16x64, .f32⟩
  | 3 => ⟨S_, .f32⟩
  | 4 => ⟨S128x16x64, .f32⟩
  | 5 => ⟨S128x16x64, .f32⟩
  | 6 => ⟨S128x16x64, .f32⟩
  | 7 => ⟨S128x16x64x1, .f32⟩
  | 8 => ⟨S128x16x64x576, .f32⟩
  | 9 => ⟨S128x16x64x576, .f32⟩
  | 10 => ⟨S128x16x64x576, .f32⟩
  | 11 => ⟨S_, .f32⟩
  | 12 => ⟨S128x16x64, .f32⟩
  | 13 => ⟨S128x16x64x1, .f32⟩
  | 14 => ⟨S128x16x64x576, .f32⟩
  | 15 => ⟨S128x16x64x576, .f32⟩
  | 16 => ⟨S128x16x64x1, .f32⟩
  | 17 => ⟨S_, .f32⟩
  | 18 => ⟨S128x16x64x1, .f32⟩
  | 19 => ⟨S128x16x64x1, .f32⟩
  | 20 => ⟨S8192x16x64, .f32⟩
  | 21 => ⟨S128x64x16x64, .f32⟩
  | 22 => ⟨S8192x16x64, .f32⟩
  | 23 => ⟨S128x64x16x64, .f32⟩
  | 24 => ⟨S8192x16x64, .f32⟩
  | 25 => ⟨S128x64x16x64, .f32⟩
  | 26 => ⟨S8192x16x64, .f32⟩
  | 27 => ⟨S128x64x16x64, .f32⟩
  | 28 => ⟨S8192x16x64, .f32⟩
  | 29 => ⟨S128x64x16x64, .f32⟩
  | 30 => ⟨S8192x16x64, .f32⟩
  | 31 => ⟨S128x64x16x64, .f32⟩
  | 32 => ⟨S8192x16x64, .f32⟩
  | 33 => ⟨S128x64x16x64, .f32⟩
  | 34 => ⟨S8192x16x64, .f32⟩
  | 35 => ⟨S128x64x16x64, .f32⟩
  | 36 => ⟨S8192x16x64, .f32⟩
  | 37 => ⟨S128x64x16x64, .f32⟩
  | 38 => ⟨S128x576x16x64, .f32⟩
  | 39 => ⟨S128x16x64x64, .f32⟩
  | 40 => ⟨S128x64x16x64, .f32⟩
  | 41 => ⟨S8192x1024, .f32⟩
  | 42 => ⟨S128x64x16x64, .f32⟩
  | 43 => ⟨S128x16x64x64, .f32⟩
  | 44 => ⟨S128x16x64x576, .f32⟩
  | 45 => ⟨S128x16x64x576, .f32⟩
  | 46 => ⟨S128x576x16x64, .f32⟩
  | 47 => ⟨S128x64x16x64, .f32⟩
  | 48 => ⟨S128x64x16x64, .f32⟩
  | 49 => ⟨S128x64x16x64, .f32⟩
  | 50 => ⟨S128x64x16x64, .f32⟩
  | 51 => ⟨S128x64x16x64, .f32⟩
  | 52 => ⟨S128x64x16x64, .f32⟩
  | 53 => ⟨S128x64x16x64, .f32⟩
  | 54 => ⟨S128x64x16x64, .f32⟩
  | 55 => ⟨S128x64x16x64, .f32⟩
  | 56 => ⟨S8192x16x64, .f32⟩
  | 57 => ⟨S_, .f32⟩
  | 58 => ⟨S8704x16x64, .f32⟩
  | 59 => ⟨S8192x16x64, .f32⟩
  | 60 => ⟨S_, .f32⟩
  | 61 => ⟨S8704x16x64, .f32⟩
  | 62 => ⟨S8704x16x64, .f32⟩
  | 63 => ⟨S8192x16x64, .f32⟩
  | 64 => ⟨S_, .f32⟩
  | 65 => ⟨S8704x16x64, .f32⟩
  | 66 => ⟨S8704x16x64, .f32⟩
  | 67 => ⟨S8192x16x64, .f32⟩
  | 68 => ⟨S_, .f32⟩
  | 69 => ⟨S8704x16x64, .f32⟩
  | 70 => ⟨S8704x16x64, .f32⟩
  | 71 => ⟨S8192x16x64, .f32⟩
  | 72 => ⟨S_, .f32⟩
  | 73 => ⟨S8704x16x64, .f32⟩
  | 74 => ⟨S8704x16x64, .f32⟩
  | 75 => ⟨S8192x16x64, .f32⟩
  | 76 => ⟨S_, .f32⟩
  | 77 => ⟨S8704x16x64, .f32⟩
  | 78 => ⟨S8704x16x64, .f32⟩
  | 79 => ⟨S8192x16x64, .f32⟩
  | 80 => ⟨S_, .f32⟩
  | 81 => ⟨S8704x16x64, .f32⟩
  | 82 => ⟨S8704x16x64, .f32⟩
  | 83 => ⟨S8192x16x64, .f32⟩
  | 84 => ⟨S_, .f32⟩
  | 85 => ⟨S8704x16x64, .f32⟩
  | 86 => ⟨S8704x16x64, .f32⟩
  | 87 => ⟨S8192x16x64, .f32⟩
  | 88 => ⟨S_, .f32⟩
  | 89 => ⟨S8704x16x64, .f32⟩
  | 90 => ⟨S8704x16x64, .f32⟩
  | 91 => ⟨S128x16x64x576, .f32⟩
  | 92 => ⟨S128x16x64x576, .f32⟩
  | 93 => ⟨S128x16x64x576, .f32⟩
  | 94 => ⟨S_, .f32⟩
  | 95 => ⟨S128x16x64, .f32⟩
  | 96 => ⟨S128x16x64x1, .f32⟩
  | 97 => ⟨S128x16x64x1, .f32⟩
  | 98 => ⟨S128x16x64x576, .f32⟩
  | 99 => ⟨S128x16x64x576, .f32⟩
  | 100 => ⟨S_, .f32⟩
  | 101 => ⟨S128x16x64, .f32⟩
  | 102 => ⟨S128x16x64x576, .f32⟩
  | 103 => ⟨S128x16x64x576, .f32⟩
  | 104 => ⟨S128x16x64x576, .f32⟩
  | 105 => ⟨S_, .f32⟩
  | 106 => ⟨S128x16x64x576, .f32⟩
  | 107 => ⟨S128x16x64x576, .f32⟩
  | 108 => ⟨S32x4x16x64x576, .f32⟩
  | 109 => ⟨S_, .f32⟩
  | 110 => ⟨S4x16x64x576, .f32⟩
  | 111 => ⟨S1x4x16x64x576, .f32⟩
  | 112 => ⟨S_, .f32⟩
  | 113 => ⟨S4x16x64x576, .f32⟩
  | 114 => ⟨S128x16x64x576, .f32⟩
  | 115 => ⟨S1x16x64x576, .f32⟩
  | 116 => ⟨S16x64x576, .f32⟩
  | 117 => ⟨S1x16x64x576, .f32⟩
  | 118 => ⟨S16x64x576, .f32⟩
  | 119 => ⟨S1x16x64x576, .f32⟩
  | 120 => ⟨S16x64x576, .f32⟩
  | 121 => ⟨S1x16x64x576, .f32⟩
  | 122 => ⟨S16x64x576, .f32⟩
  | 123 => ⟨S_, .f32⟩
  | 124 => ⟨S16x256x768, .f32⟩
  | 125 => ⟨S_, .f32⟩
  | 126 => ⟨S16x256x768, .f32⟩
  | 127 => ⟨S16x256x768, .f32⟩
  | _ => ⟨S8192x4096, .f32⟩

abbrev hbmTy0_2 (i : Nat) : BufTy := match i % 128 with
  | 0 => ⟨S_, .f32⟩
  | 1 => ⟨S16x256x768, .f32⟩
  | 2 => ⟨S16x256x768, .f32⟩
  | 3 => ⟨S_, .f32⟩
  | 4 => ⟨S16x256x768, .f32⟩
  | 5 => ⟨S16x256x768, .f32⟩
  | 6 => ⟨S_, .f32⟩
  | 7 => ⟨S128x16x64x576, .f32⟩
  | 8 => ⟨S128x16x64x576, .f32⟩
  | 9 => ⟨S128x16x576x64, .f32⟩
  | 10 => ⟨S128x576x16x64, .f32⟩
  | 11 => ⟨S128x16x64x64, .f32⟩
  | 12 => ⟨S128x64x16x64, .f32⟩
  | 13 => ⟨S128x64x16x64, .f32⟩
  | 14 => ⟨S128x64x16x64, .f32⟩
  | 15 => ⟨S128x64x16x64, .f32⟩
  | 16 => ⟨S128x64x16x64, .f32⟩
  | 17 => ⟨S128x64x16x64, .f32⟩
  | 18 => ⟨S128x64x16x64, .f32⟩
  | 19 => ⟨S128x64x16x64, .f32⟩
  | 20 => ⟨S128x64x16x64, .f32⟩
  | 21 => ⟨S128x64x16x64, .f32⟩
  | 22 => ⟨S8192x16x64, .f32⟩
  | 23 => ⟨S_, .f32⟩
  | 24 => ⟨S8704x16x64, .f32⟩
  | 25 => ⟨S8192x16x64, .f32⟩
  | 26 => ⟨S_, .f32⟩
  | 27 => ⟨S8704x16x64, .f32⟩
  | 28 => ⟨S8704x16x64, .f32⟩
  | 29 => ⟨S8192x16x64, .f32⟩
  | 30 => ⟨S_, .f32⟩
  | 31 => ⟨S8704x16x64, .f32⟩
  | 32 => ⟨S8704x16x64, .f32⟩
  | 33 => ⟨S8192x16x64, .f32⟩
  | 34 => ⟨S_, .f32⟩
  | 35 => ⟨S8704x16x64, .f32⟩
  | 36 => ⟨S8704x16x64, .f32⟩
  | 37 => ⟨S8192x16x64, .f32⟩
  | 38 => ⟨S_, .f32⟩
  | 39 => ⟨S8704x16x64, .f32⟩
  | 40 => ⟨S8704x16x64, .f32⟩
  | 41 => ⟨S8192x16x64, .f32⟩
  | 42 => ⟨S_, .f32⟩
  | 43 => ⟨S8704x16x64, .f32⟩
  | 44 => ⟨S8704x16x64, .f32⟩
  | 45 => ⟨S8192x16x64, .f32⟩
  | 46 => ⟨S_, .f32⟩
  | 47 => ⟨S8704x16x64, .f32⟩
  | 48 => ⟨S8704x16x64, .f32⟩
  | 49 => ⟨S8192x16x64, .f32⟩
  | 50 => ⟨S_, .f32⟩
  | 51 => ⟨S8704x16x64, .f32⟩
  | 52 => ⟨S8704x16x64, .f32⟩
  | 53 => ⟨S8192x16x64, .f32⟩
  | 54 => ⟨S_, .f32⟩
  | 55 => ⟨S8704x16x64, .f32⟩
  | 56 => ⟨S8704x16x64, .f32⟩
  | 57 => ⟨S512x16x64, .f32⟩
  | 58 => ⟨S8192x16x64, .f32⟩
  | 59 => ⟨S8192x1024, .f32⟩
  | 60 => ⟨S512x16x64, .f32⟩
  | 61 => ⟨S8192x16x64, .f32⟩
  | 62 => ⟨S8192x1024, .f32⟩
  | 63 => ⟨S8192x1024, .f32⟩
  | _ => ⟨S8192x4096, .f32⟩

abbrev hbmTy (i : Nat) : BufTy := match i / 128 with
  | 0 => hbmTy0_0 i
  | 1 => hbmTy0_1 i
  | 2 => hbmTy0_2 i
  | _ => ⟨S8192x4096, .f32⟩

abbrev bufTy : (tb : Table) → Fin (tcTables nBuf tb) → BufTy
  | .hbm, ⟨i, _⟩ => hbmTy i
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_v10 : Ref sig .tc := ⟨.hbm, 14, rfl⟩
abbrev main_v11 : Ref sig .tc := ⟨.hbm, 15, rfl⟩
abbrev main_c_0 : Ref sig .tc := ⟨.hbm, 16, rfl⟩
abbrev main_c_1 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_c_3 : Ref sig .tc := ⟨.hbm, 27, rfl⟩
abbrev main_v15 : Ref sig .tc := ⟨.hbm, 28, rfl⟩
abbrev main_v16 : Ref sig .tc := ⟨.hbm, 29, rfl⟩
abbrev main_c_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_cst_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_7 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_8 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_c_9 : Ref sig .tc := ⟨.hbm, 88, rfl⟩
abbrev main_v69 : Ref sig .tc := ⟨.hbm, 89, rfl⟩
abbrev main_v70 : Ref sig .tc := ⟨.hbm, 90, rfl⟩
abbrev main_c_10 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_c_11 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_cst_12 : Ref sig .tc := ⟨.hbm, 103, rfl⟩
abbrev main_call1_v0 : Ref sig .tc := ⟨.hbm, 104, rfl⟩
abbrev main_v81_1 : Ref sig .tc := ⟨.hbm, 105, rfl⟩
abbrev main_call1_v2 : Ref sig .tc := ⟨.hbm, 106, rfl⟩
abbrev main_v81_0 : Ref sig .tc := ⟨.hbm, 107, rfl⟩
abbrev main_call1_cst : Ref sig .tc := ⟨.hbm, 108, rfl⟩
abbrev main_v81_2 : Ref sig .tc := ⟨.hbm, 109, rfl⟩
abbrev main_cst_13 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_cst_14 : Ref sig .tc := ⟨.hbm, 116, rfl⟩
abbrev main_v87 : Ref sig .tc := ⟨.hbm, 117, rfl⟩
abbrev main_cst_15 : Ref sig .tc := ⟨.hbm, 118, rfl⟩
abbrev main_v88 : Ref sig .tc := ⟨.hbm, 119, rfl⟩
abbrev main_v89 : Ref sig .tc := ⟨.hbm, 120, rfl⟩
abbrev main_cst_16 : Ref sig .tc := ⟨.hbm, 121, rfl⟩
abbrev main_v90 : Ref sig .tc := ⟨.hbm, 122, rfl⟩
abbrev main_v91 : Ref sig .tc := ⟨.hbm, 123, rfl⟩
abbrev main_cst_17 : Ref sig .tc := ⟨.hbm, 124, rfl⟩
abbrev main_v92 : Ref sig .tc := ⟨.hbm, 125, rfl⟩
abbrev main_v93 : Ref sig .tc := ⟨.hbm, 126, rfl⟩
abbrev main_cst_18 : Ref sig .tc := ⟨.hbm, 127, rfl⟩
abbrev main_v94 : Ref sig .tc := ⟨.hbm, 128, rfl⟩
abbrev main_cst_19 : Ref sig .tc := ⟨.hbm, 129, rfl⟩
abbrev main_v95 : Ref sig .tc := ⟨.hbm, 130, rfl⟩
abbrev main_cst_20 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_cst_21 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_cst_22 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_cst_23 : Ref sig .tc := ⟨.hbm, 185, rfl⟩
abbrev main_v147 : Ref sig .tc := ⟨.hbm, 186, rfl⟩
abbrev main_v148 : Ref sig .tc := ⟨.hbm, 187, rfl⟩
abbrev main_cst_24 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_cst_25 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_cst_26 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_cst_27 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_cst_28 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_cst_29 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_cst_30 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_cst_31 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_cst_32 : Ref sig .tc := ⟨.hbm, 222, rfl⟩
abbrev main_v175 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_v179 : Ref sig .tc := ⟨.hbm, 227, rfl⟩
abbrev main_cst_33 : Ref sig .tc := ⟨.hbm, 228, rfl⟩
abbrev main_v180 : Ref sig .tc := ⟨.hbm, 229, rfl⟩
abbrev main_v181 : Ref sig .tc := ⟨.hbm, 230, rfl⟩
abbrev main_v182 : Ref sig .tc := ⟨.hbm, 231, rfl⟩
abbrev main_v183 : Ref sig .tc := ⟨.hbm, 232, rfl⟩
abbrev main_call2_cst : Ref sig .tc := ⟨.hbm, 233, rfl⟩
abbrev main_call2_v0 : Ref sig .tc := ⟨.hbm, 234, rfl⟩
abbrev main_v184 : Ref sig .tc := ⟨.hbm, 235, rfl⟩
abbrev main_v185 : Ref sig .tc := ⟨.hbm, 236, rfl⟩
abbrev main_cst_34 : Ref sig .tc := ⟨.hbm, 237, rfl⟩
abbrev main_v186 : Ref sig .tc := ⟨.hbm, 238, rfl⟩
abbrev main_v187 : Ref sig .tc := ⟨.hbm, 239, rfl⟩
abbrev main_cst_35 : Ref sig .tc := ⟨.hbm, 240, rfl⟩
abbrev main_v188 : Ref sig .tc := ⟨.hbm, 241, rfl⟩
abbrev main_v189 : Ref sig .tc := ⟨.hbm, 242, rfl⟩
abbrev main_v190 : Ref sig .tc := ⟨.hbm, 243, rfl⟩
abbrev main_v191 : Ref sig .tc := ⟨.hbm, 244, rfl⟩
abbrev main_v192 : Ref sig .tc := ⟨.hbm, 245, rfl⟩
abbrev main_v193 : Ref sig .tc := ⟨.hbm, 246, rfl⟩
abbrev main_v194 : Ref sig .tc := ⟨.hbm, 247, rfl⟩
abbrev main_v195 : Ref sig .tc := ⟨.hbm, 248, rfl⟩
abbrev main_v196 : Ref sig .tc := ⟨.hbm, 249, rfl⟩
abbrev main_v197 : Ref sig .tc := ⟨.hbm, 250, rfl⟩
abbrev main_cst_36 : Ref sig .tc := ⟨.hbm, 251, rfl⟩
abbrev main_v198 : Ref sig .tc := ⟨.hbm, 252, rfl⟩
abbrev main_cst_37 : Ref sig .tc := ⟨.hbm, 253, rfl⟩
abbrev main_v199 : Ref sig .tc := ⟨.hbm, 254, rfl⟩
abbrev main_v200 : Ref sig .tc := ⟨.hbm, 255, rfl⟩
abbrev main_cst_38 : Ref sig .tc := ⟨.hbm, 256, rfl⟩
abbrev main_v201 : Ref sig .tc := ⟨.hbm, 257, rfl⟩
abbrev main_v202 : Ref sig .tc := ⟨.hbm, 258, rfl⟩
abbrev main_cst_39 : Ref sig .tc := ⟨.hbm, 259, rfl⟩
abbrev main_v203 : Ref sig .tc := ⟨.hbm, 260, rfl⟩
abbrev main_v204 : Ref sig .tc := ⟨.hbm, 261, rfl⟩
abbrev main_cst_40 : Ref sig .tc := ⟨.hbm, 262, rfl⟩
abbrev main_v205 : Ref sig .tc := ⟨.hbm, 263, rfl⟩
abbrev main_v206 : Ref sig .tc := ⟨.hbm, 264, rfl⟩
abbrev main_v207 : Ref sig .tc := ⟨.hbm, 265, rfl⟩
abbrev main_v208 : Ref sig .tc := ⟨.hbm, 266, rfl⟩
abbrev main_v209 : Ref sig .tc := ⟨.hbm, 267, rfl⟩
abbrev main_v210 : Ref sig .tc := ⟨.hbm, 268, rfl⟩
abbrev main_v211 : Ref sig .tc := ⟨.hbm, 269, rfl⟩
abbrev main_v212 : Ref sig .tc := ⟨.hbm, 270, rfl⟩
abbrev main_v213 : Ref sig .tc := ⟨.hbm, 271, rfl⟩
abbrev main_v214 : Ref sig .tc := ⟨.hbm, 272, rfl⟩
abbrev main_v215 : Ref sig .tc := ⟨.hbm, 273, rfl⟩
abbrev main_v216 : Ref sig .tc := ⟨.hbm, 274, rfl⟩
abbrev main_v217 : Ref sig .tc := ⟨.hbm, 275, rfl⟩
abbrev main_v218 : Ref sig .tc := ⟨.hbm, 276, rfl⟩
abbrev main_v219 : Ref sig .tc := ⟨.hbm, 277, rfl⟩
abbrev main_v220 : Ref sig .tc := ⟨.hbm, 278, rfl⟩
abbrev main_cst_41 : Ref sig .tc := ⟨.hbm, 279, rfl⟩
abbrev main_v221 : Ref sig .tc := ⟨.hbm, 280, rfl⟩
abbrev main_v222 : Ref sig .tc := ⟨.hbm, 281, rfl⟩
abbrev main_cst_42 : Ref sig .tc := ⟨.hbm, 282, rfl⟩
abbrev main_v223 : Ref sig .tc := ⟨.hbm, 283, rfl⟩
abbrev main_v224 : Ref sig .tc := ⟨.hbm, 284, rfl⟩
abbrev main_v225 : Ref sig .tc := ⟨.hbm, 285, rfl⟩
abbrev main_cst_43 : Ref sig .tc := ⟨.hbm, 286, rfl⟩
abbrev main_v226 : Ref sig .tc := ⟨.hbm, 287, rfl⟩
abbrev main_v227 : Ref sig .tc := ⟨.hbm, 288, rfl⟩
abbrev main_v228 : Ref sig .tc := ⟨.hbm, 289, rfl⟩
abbrev main_cst_44 : Ref sig .tc := ⟨.hbm, 290, rfl⟩
abbrev main_v229 : Ref sig .tc := ⟨.hbm, 291, rfl⟩
abbrev main_v230 : Ref sig .tc := ⟨.hbm, 292, rfl⟩
abbrev main_v231 : Ref sig .tc := ⟨.hbm, 293, rfl⟩
abbrev main_cst_45 : Ref sig .tc := ⟨.hbm, 294, rfl⟩
abbrev main_v232 : Ref sig .tc := ⟨.hbm, 295, rfl⟩
abbrev main_v233 : Ref sig .tc := ⟨.hbm, 296, rfl⟩
abbrev main_v234 : Ref sig .tc := ⟨.hbm, 297, rfl⟩
abbrev main_cst_46 : Ref sig .tc := ⟨.hbm, 298, rfl⟩
abbrev main_v235 : Ref sig .tc := ⟨.hbm, 299, rfl⟩
abbrev main_v236 : Ref sig .tc := ⟨.hbm, 300, rfl⟩
abbrev main_v237 : Ref sig .tc := ⟨.hbm, 301, rfl⟩
abbrev main_cst_47 : Ref sig .tc := ⟨.hbm, 302, rfl⟩
abbrev main_v238 : Ref sig .tc := ⟨.hbm, 303, rfl⟩
abbrev main_v239 : Ref sig .tc := ⟨.hbm, 304, rfl⟩
abbrev main_v240 : Ref sig .tc := ⟨.hbm, 305, rfl⟩
abbrev main_cst_48 : Ref sig .tc := ⟨.hbm, 306, rfl⟩
abbrev main_v241 : Ref sig .tc := ⟨.hbm, 307, rfl⟩
abbrev main_v242 : Ref sig .tc := ⟨.hbm, 308, rfl⟩
abbrev main_v243 : Ref sig .tc := ⟨.hbm, 309, rfl⟩
abbrev main_cst_49 : Ref sig .tc := ⟨.hbm, 310, rfl⟩
abbrev main_v244 : Ref sig .tc := ⟨.hbm, 311, rfl⟩
abbrev main_v245 : Ref sig .tc := ⟨.hbm, 312, rfl⟩
abbrev main_v246 : Ref sig .tc := ⟨.hbm, 313, rfl⟩
abbrev main_v247 : Ref sig .tc := ⟨.hbm, 314, rfl⟩
abbrev main_v248 : Ref sig .tc := ⟨.hbm, 315, rfl⟩
abbrev main_v249 : Ref sig .tc := ⟨.hbm, 316, rfl⟩
abbrev main_v250 : Ref sig .tc := ⟨.hbm, 317, rfl⟩
abbrev main_v251 : Ref sig .tc := ⟨.hbm, 318, rfl⟩
abbrev main_v252 : Ref sig .tc := ⟨.hbm, 319, rfl⟩

abbrev nD : Nat := 1
abbrev τ : Topo := Topo.v7x

variable {F : FTy → Type} [FloatOps F]
-- ==== BiasGrad.lean ====
abbrev S16x256x768 : Shape := ⟨3, ![16, 256, 768]⟩
abbrev S1024x1 : Shape := ⟨2, ![1024, 1]⟩
abbrev S_ : Shape := ⟨0, ![]⟩
abbrev S1x257 : Shape := ⟨2, ![1, 257]⟩
abbrev S1024x257 : Shape := ⟨2, ![1024, 257]⟩
abbrev S16x256x1023 : Shape := ⟨3, ![16, 256, 1023]⟩
abbrev S16x261888 : Shape := ⟨2, ![16, 261888]⟩
abbrev S16x262144 : Shape := ⟨2, ![16, 262144]⟩
abbrev S16x256x1024 : Shape := ⟨3, ![16, 256, 1024]⟩
abbrev S16x257 : Shape := ⟨2, ![16, 257]⟩
abbrev S16x1024 : Shape := ⟨2, ![16, 1024]⟩

abbrev nBuf : Space → Nat
  | .hbm => 35
  | .vmem => 3
  | .smem => 0
  | _ => 0

abbrev bufTy : (tb : Table) → Fin (tcTables nBuf tb) → BufTy
  | .hbm, ⟨0, _⟩ => ⟨S16x256x768, .f32⟩
  | .hbm, ⟨1, _⟩ => ⟨S1024x1, .i32⟩
  | .hbm, ⟨2, _⟩ => ⟨S_, .i32⟩
  | .hbm, ⟨3, _⟩ => ⟨S1024x1, .i32⟩
  | .hbm, ⟨4, _⟩ => ⟨S1024x1, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S1024x1, .i32⟩
  | .hbm, ⟨9, _⟩ => ⟨S1024x1, .i32⟩
  | .hbm, ⟨10, _⟩ => ⟨S_, .i32⟩
  | .hbm, ⟨11, _⟩ => ⟨S1024x1, .i32⟩
  | .hbm, ⟨12, _⟩ => ⟨S1024x1, .i32⟩
  | .hbm, ⟨13, _⟩ => ⟨S_, .i32⟩
  | .hbm, ⟨14, _⟩ => ⟨S1024x1, .i32⟩
  | .hbm, ⟨15, _⟩ => ⟨S1024x1, .i32⟩
  | .hbm, ⟨16, _⟩ => ⟨S1x257, .i32⟩
  | .hbm, ⟨17, _⟩ => ⟨S1024x257, .i32⟩
  | .hbm, ⟨18, _⟩ => ⟨S1024x257, .i32⟩
  | .hbm, ⟨19, _⟩ => ⟨S1024x257, .i1⟩
  | .hbm, ⟨20, _⟩ => ⟨S_, .i32⟩
  | .hbm, ⟨21, _⟩ => ⟨S1024x1, .i32⟩
  | .hbm, ⟨22, _⟩ => ⟨S1024x1, .i1⟩
  | .hbm, ⟨23, _⟩ => ⟨S1024x257, .i1⟩
  | .hbm, ⟨24, _⟩ => ⟨S1024x257, .i1⟩
  | .hbm, ⟨25, _⟩ => ⟨S1024x257, .f32⟩
  | .hbm, ⟨26, _⟩ => ⟨S_, .i32⟩
  | .hbm, ⟨27, _⟩ => ⟨S_, .f32⟩
  | .hbm, ⟨28, _⟩ => ⟨S16x256x1023, .f32⟩
  | .hbm, ⟨29, _⟩ => ⟨S16x261888, .f32⟩
  | .hbm, ⟨30, _⟩ => ⟨S_, .i32⟩
  | .hbm, ⟨31, _⟩ => ⟨S_, .f32⟩
  | .hbm, ⟨32, _⟩ => ⟨S16x262144, .f32⟩
  | .hbm, ⟨33, _⟩ => ⟨S16x256x1024, .f32⟩
  | .hbm, ⟨34, _⟩ => ⟨S16x257, .f32⟩
  | .local _ .vmem, ⟨0, _⟩ => ⟨S16x256x1024, .f32⟩
  | .local _ .vmem, ⟨1, _⟩ => ⟨S1024x257, .f32⟩
  | .local _ .vmem, ⟨2, _⟩ => ⟨S16x257, .f32⟩
  | _, _ => ⟨S16x256x768, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_c_0 : Ref sig .tc := ⟨.hbm, 5, rfl⟩
abbrev main_c_1 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v3 : Ref sig .tc := ⟨.hbm, 12, rfl⟩
abbrev main_c_2 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_4 : Ref sig .tc := ⟨.hbm, 26, rfl⟩
abbrev main_call1_v0 : Ref sig .tc := ⟨.hbm, 27, rfl⟩
abbrev main_v15 : Ref sig .tc := ⟨.hbm, 28, rfl⟩
abbrev main_v16 : Ref sig .tc := ⟨.hbm, 29, rfl⟩
abbrev main_c_5 : Ref sig .tc := ⟨.hbm, 30, rfl⟩
abbrev main_call2_v0 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S16x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x257 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x257 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== BiasGradRefIdeal.lean ====
abbrev S16x256x768 : Shape := ⟨3, ![16, 256, 768]⟩
abbrev S256 : Shape := ⟨1, ![256]⟩
abbrev S256x1 : Shape := ⟨2, ![256, 1]⟩
abbrev S768 : Shape := ⟨1, ![768]⟩
abbrev S1x768 : Shape := ⟨2, ![1, 768]⟩
abbrev S256x768 : Shape := ⟨2, ![256, 768]⟩
abbrev S_ : Shape := ⟨0, ![]⟩
abbrev S16x257 : Shape := ⟨2, ![16, 257]⟩
abbrev S256x768x1 : Shape := ⟨3, ![256, 768, 1]⟩

abbrev nBuf : Space → Nat
  | .hbm => 36
  | .vmem => 0
  | .smem => 0
  | _ => 0

abbrev bufTy : (tb : Table) → Fin (tcTables nBuf tb) → BufTy
  | .hbm, ⟨0, _⟩ => ⟨S16x256x768, .f32⟩
  | .hbm, ⟨1, _⟩ => ⟨S256, .i32⟩
  | .hbm, ⟨2, _⟩ => ⟨S256x1, .i32⟩
  | .hbm, ⟨3, _⟩ => ⟨S768, .i32⟩
  | .hbm, ⟨4, _⟩ => ⟨S1x768, .i32⟩
  | .hbm, ⟨5, _⟩ => ⟨S256x768, .i32⟩
  | .hbm, ⟨6, _⟩ => ⟨S256x768, .i32⟩
  | .hbm, ⟨7, _⟩ => ⟨S256x768, .i32⟩
  | .hbm, ⟨8, _⟩ => ⟨S_, .i32⟩
  | .hbm, ⟨9, _⟩ => ⟨S256x768, .i32⟩
  | .hbm, ⟨10, _⟩ => ⟨S256x768, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S256x768, .i32⟩
  | .hbm, ⟨15, _⟩ => ⟨S256x768, .i32⟩
  | .hbm, ⟨16, _⟩ => ⟨S_, .i32⟩
  | .hbm, ⟨17, _⟩ => ⟨S256x768, .i32⟩
  | .hbm, ⟨18, _⟩ => ⟨S256x768, .i32⟩
  | .hbm, ⟨19, _⟩ => ⟨S_, .i32⟩
  | .hbm, ⟨20, _⟩ => ⟨S256x768, .i32⟩
  | .hbm, ⟨21, _⟩ => ⟨S256x768, .i32⟩
  | .hbm, ⟨22, _⟩ => ⟨S_, .f32⟩
  | .hbm, ⟨23, _⟩ => ⟨S16x257, .f32⟩
  | .hbm, ⟨24, _⟩ => ⟨S_, .i32⟩
  | .hbm, ⟨25, _⟩ => ⟨S256x768, .i32⟩
  | .hbm, ⟨26, _⟩ => ⟨S256x768, .i1⟩
  | .hbm, ⟨27, _⟩ => ⟨S_, .i32⟩
  | .hbm, ⟨28, _⟩ => ⟨S256x768, .i32⟩
  | .hbm, ⟨29, _⟩ => ⟨S256x768, .i32⟩
  | .hbm, ⟨30, _⟩ => ⟨S256x768, .i32⟩
  | .hbm, ⟨31, _⟩ => ⟨S256x768x1, .i32⟩
  | .hbm, ⟨32, _⟩ => ⟨S16x256x768, .f32⟩
  | .hbm, ⟨33, _⟩ => ⟨S_, .f32⟩
  | .hbm, ⟨34, _⟩ => ⟨S16x257, .f32⟩
  | .hbm, ⟨35, _⟩ => ⟨S16x257, .f32⟩
  | _, _ => ⟨S16x256x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_c : Ref sig .tc := ⟨.hbm, 8, rfl⟩
abbrev main_v7 : Ref sig .tc := ⟨.hbm, 9, rfl⟩
abbrev main_v8 : Ref sig .tc := ⟨.hbm, 10, rfl⟩
abbrev main_c_0 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_c_3 : Ref sig .tc := ⟨.hbm, 24, rfl⟩
abbrev main_v13 : Ref sig .tc := ⟨.hbm, 25, rfl⟩
abbrev main_v14 : Ref sig .tc := ⟨.hbm, 26, rfl⟩
abbrev main_c_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩

abbrev nD : Nat := 1
abbrev τ : Topo := Topo.v7x

variable {F : FTy → Type} [FloatOps F]
-- ==== GatedOutBwd.lean ====
abbrev S8192x1024 : Shape := ⟨2, ![8192, 1024]⟩
abbrev S8192x4096 : Shape := ⟨2, ![8192, 4096]⟩
abbrev S1024x1024 : Shape := ⟨2, ![1024, 1024]⟩
abbrev S512x1024 : Shape := ⟨2, ![512, 1024]⟩

abbrev nBuf : Space → Nat
  | .hbm => 7
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x4096, .f32⟩
  | .hbm, ⟨3, _⟩ => ⟨S1024x1024, .bf16⟩
  | .hbm, ⟨4, _⟩ => ⟨S8192x1024, .f32⟩
  | .hbm, ⟨5, _⟩ => ⟨S8192x1024, .f32⟩
  | .hbm, ⟨6, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== GatedOutBwdRefIdeal.lean ====
abbrev S8192x1024 : Shape := ⟨2, ![8192, 1024]⟩
abbrev S8192x4096 : Shape := ⟨2, ![8192, 4096]⟩
abbrev S1024x1024 : Shape := ⟨2, ![1024, 1024]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x4096, .f32⟩
  | .hbm, ⟨3, _⟩ => ⟨S1024x1024, .bf16⟩
  | .hbm, ⟨4, _⟩ => ⟨S8192x1024, .f32⟩
  | .hbm, ⟨5, _⟩ => ⟨S1024x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S1024x1024, .f32⟩
  | .hbm, ⟨22, _⟩ => ⟨S1024x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩

abbrev nD : Nat := 1
abbrev τ : Topo := Topo.v7x

variable {F : FTy → Type} [FloatOps F]
-- ==== LossHead.lean ====
abbrev S8192x1024 : Shape := ⟨2, ![8192, 1024]⟩
abbrev S1024 : Shape := ⟨1, ![1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1x1x1 : Shape := ⟨3, ![1, 1, 1]⟩

abbrev nBuf : Space → Nat
  | .hbm => 7
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1x128, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S1x128, .f32⟩
  | .local _ .vmem, ⟨8, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossHeadRefIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x128 : Shape := ⟨2, ![1, 128]⟩

abbrev nBuf : Space → Nat
  | .hbm => 72
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192, .f32⟩
  | .hbm, ⟨27, _⟩ => ⟨S_, .f32⟩
  | .hbm, ⟨28, _⟩ => ⟨S8192, .f32⟩
  | .hbm, ⟨29, _⟩ => ⟨S8192, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S8192, .f32⟩
  | .hbm, ⟨38, _⟩ => ⟨S_, .f32⟩
  | .hbm, ⟨39, _⟩ => ⟨S8192, .f32⟩
  | .hbm, ⟨40, _⟩ => ⟨S8192, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S1024, .f32⟩
  | .hbm, ⟨53, _⟩ => ⟨S8192x1024, .f32⟩
  | .hbm, ⟨54, _⟩ => ⟨S_, .f32⟩
  | .hbm, ⟨55, _⟩ => ⟨S8192, .f32⟩
  | .hbm, ⟨56, _⟩ => ⟨S8192x1, .f32⟩
  | .hbm, ⟨57, _⟩ => ⟨S8192x1024, .f32⟩
  | .hbm, ⟨58, _⟩ => ⟨S8192x1024, .f32⟩
  | .hbm, ⟨59, _⟩ => ⟨S8192x1, .f32⟩
  | .hbm, ⟨60, _⟩ => ⟨S_, .f32⟩
  | .hbm, ⟨61, _⟩ => ⟨S8192x1, .f32⟩
  | .hbm, ⟨62, _⟩ => ⟨S8192x1, .f32⟩
  | .hbm, ⟨63, _⟩ => ⟨S_, .f32⟩
  | .hbm, ⟨64, _⟩ => ⟨S8192, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S1x128, .f32⟩
  | .hbm, ⟨71, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_cst_8 : Ref sig .tc := ⟨.hbm, 35, rfl⟩
abbrev main_v23 : Ref sig .tc := ⟨.hbm, 36, rfl⟩
abbrev main_v24 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_10 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_11 : Ref sig .tc := ⟨.hbm, 51, rfl⟩
abbrev main_v36 : Ref sig .tc := ⟨.hbm, 52, rfl⟩
abbrev main_v37 : Ref sig .tc := ⟨.hbm, 53, rfl⟩
abbrev main_cst_12 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_13 : Ref sig .tc := ⟨.hbm, 60, rfl⟩
abbrev main_v43 : Ref sig .tc := ⟨.hbm, 61, rfl⟩
abbrev main_v44 : Ref sig .tc := ⟨.hbm, 62, rfl⟩
abbrev main_cst_14 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩

abbrev nD : Nat := 1
abbrev τ : Topo := Topo.v7x

variable {F : FTy → Type} [FloatOps F]
-- ==== OdInBwd.lean ====
abbrev S8192x1024 : Shape := ⟨2, ![8192, 1024]⟩
abbrev S1024 : Shape := ⟨1, ![1024]⟩
abbrev S1024x4096 : Shape := ⟨2, ![1024, 4096]⟩
abbrev S1x1024 : Shape := ⟨2, ![1, 1024]⟩
abbrev S256x1024 : Shape := ⟨2, ![256, 1024]⟩
abbrev S256x4096 : Shape := ⟨2, ![256, 4096]⟩
abbrev S256 : Shape := ⟨1, ![256]⟩
abbrev S256x1 : Shape := ⟨2, ![256, 1]⟩

abbrev nBuf : Space → Nat
  | .hbm => 12
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .bf16⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S1x1024, .f32⟩
  | .hbm, ⟨9, _⟩ => ⟨S8192x1024, .f32⟩
  | .hbm, ⟨10, _⟩ => ⟨S1x1024, .f32⟩
  | .hbm, ⟨11, _⟩ => ⟨S1024x4096, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S1x1024, .f32⟩
  | .local _ .vmem, ⟨13, _⟩ => ⟨S1024x4096, .bf16⟩
  | .local _ .vmem, ⟨14, _⟩ => ⟨S256x1024, .f32⟩
  | .local _ .vmem, ⟨15, _⟩ => ⟨S256x1024, .f32⟩
  | .local _ .vmem, ⟨16, _⟩ => ⟨S1x1024, .f32⟩
  | .local _ .vmem, ⟨17, _⟩ => ⟨S1024x4096, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x4096 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== OdInBwdRefIdeal.lean ====
abbrev S8192x1024 : Shape := ⟨2, ![8192, 1024]⟩
abbrev S1024 : Shape := ⟨1, ![1024]⟩
abbrev S1024x4096 : Shape := ⟨2, ![1024, 4096]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩
abbrev S4096x1024 : Shape := ⟨2, ![4096, 1024]⟩

abbrev nBuf : Space → Nat
  | .hbm => 61
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .bf16⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S1024x4096, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x4096, .f32⟩
  | .hbm, ⟨30, _⟩ => ⟨S8192x4096, .f32⟩
  | .hbm, ⟨31, _⟩ => ⟨S4096x1024, .f32⟩
  | .hbm, ⟨32, _⟩ => ⟨S1024x4096, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S1024, .f32⟩
  | .hbm, ⟨42, _⟩ => ⟨S8192x1024, .f32⟩
  | .hbm, ⟨43, _⟩ => ⟨S_, .f32⟩
  | .hbm, ⟨44, _⟩ => ⟨S8192, .f32⟩
  | .hbm, ⟨45, _⟩ => ⟨S8192x1, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1, .f32⟩
  | .hbm, ⟨50, _⟩ => ⟨S_, .f32⟩
  | .hbm, ⟨51, _⟩ => ⟨S8192x1, .f32⟩
  | .hbm, ⟨52, _⟩ => ⟨S8192x1, .f32⟩
  | .hbm, ⟨53, _⟩ => ⟨S_, .f32⟩
  | .hbm, ⟨54, _⟩ => ⟨S8192, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_6 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩

abbrev nD : Nat := 1
abbrev τ : Topo := Topo.v7x

variable {F : FTy → Type} [FloatOps F]
-- ==== EvInBwd.lean ====
abbrev S8192x1024 : Shape := ⟨2, ![8192, 1024]⟩
abbrev S1024 : Shape := ⟨1, ![1024]⟩
abbrev S1024x2560 : Shape := ⟨2, ![1024, 2560]⟩
abbrev S8192x128 : Shape := ⟨2, ![8192, 128]⟩
abbrev S8192x512 : Shape := ⟨2, ![8192, 512]⟩
abbrev S1x1024 : Shape := ⟨2, ![1, 1024]⟩
abbrev S256x1024 : Shape := ⟨2, ![256, 1024]⟩
abbrev S256x128 : Shape := ⟨2, ![256, 128]⟩
abbrev S256x512 : Shape := ⟨2, ![256, 512]⟩
abbrev S256x2560 : Shape := ⟨2, ![256, 2560]⟩
abbrev S256 : Shape := ⟨1, ![256]⟩
abbrev S256x1 : Shape := ⟨2, ![256, 1]⟩

abbrev nBuf : Space → Nat
  | .hbm => 16
  | .vmem => 26
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2560, .bf16⟩
  | .hbm, ⟨3, _⟩ => ⟨S8192x128, .f32⟩
  | .hbm, ⟨4, _⟩ => ⟨S8192x128, .f32⟩
  | .hbm, ⟨5, _⟩ => ⟨S8192x128, .f32⟩
  | .hbm, ⟨6, _⟩ => ⟨S8192x128, .f32⟩
  | .hbm, ⟨7, _⟩ => ⟨S8192x512, .f32⟩
  | .hbm, ⟨8, _⟩ => ⟨S8192x512, .f32⟩
  | .hbm, ⟨9, _⟩ => ⟨S8192x512, .f32⟩
  | .hbm, ⟨10, _⟩ => ⟨S8192x512, .f32⟩
  | .hbm, ⟨11, _⟩ => ⟨S8192x1024, .f32⟩
  | .hbm, ⟨12, _⟩ => ⟨S1x1024, .f32⟩
  | .hbm, ⟨13, _⟩ => ⟨S8192x1024, .f32⟩
  | .hbm, ⟨14, _⟩ => ⟨S1x1024, .f32⟩
  | .hbm, ⟨15, _⟩ => ⟨S1024x2560, .f32⟩
  | .local _ .vmem, ⟨0, _⟩ => ⟨S256x1024, .f32⟩
  | .local _ .vmem, ⟨1, _⟩ => ⟨S256x1024, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x1024, .f32⟩
  | .local _ .vmem, ⟨19, _⟩ => ⟨S256x1024, .f32⟩
  | .local _ .vmem, ⟨20, _⟩ => ⟨S1x1024, .f32⟩
  | .local _ .vmem, ⟨21, _⟩ => ⟨S1024x2560, .bf16⟩
  | .local _ .vmem, ⟨22, _⟩ => ⟨S256x1024, .f32⟩
  | .local _ .vmem, ⟨23, _⟩ => ⟨S256x1024, .f32⟩
  | .local _ .vmem, ⟨24, _⟩ => ⟨S1x1024, .f32⟩
  | .local _ .vmem, ⟨25, _⟩ => ⟨S1024x2560, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1_0 : Ref sig .tc := ⟨.hbm, 13, rfl⟩
abbrev main_v1_1 : Ref sig .tc := ⟨.hbm, 14, rfl⟩
abbrev main_v1_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg14_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem12_1 : DmaSem sig := 23
abbrev cc0_sem13_0 : DmaSem sig := 24
abbrev cc0_sem14_0 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x2560 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x2560 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== EvInBwdRefIdeal.lean ====
abbrev S8192x1024 : Shape := ⟨2, ![8192, 1024]⟩
abbrev S1024 : Shape := ⟨1, ![1024]⟩
abbrev S1024x2560 : Shape := ⟨2, ![1024, 2560]⟩
abbrev S8192x128 : Shape := ⟨2, ![8192, 128]⟩
abbrev S8192x512 : Shape := ⟨2, ![8192, 512]⟩
abbrev S8192x2560 : Shape := ⟨2, ![8192, 2560]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S2560x1024 : Shape := ⟨2, ![2560, 1024]⟩

abbrev nBuf : Space → Nat
  | .hbm => 65
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2560, .bf16⟩
  | .hbm, ⟨3, _⟩ => ⟨S8192x128, .f32⟩
  | .hbm, ⟨4, _⟩ => ⟨S8192x128, .f32⟩
  | .hbm, ⟨5, _⟩ => ⟨S8192x128, .f32⟩
  | .hbm, ⟨6, _⟩ => ⟨S8192x128, .f32⟩
  | .hbm, ⟨7, _⟩ => ⟨S8192x512, .f32⟩
  | .hbm, ⟨8, _⟩ => ⟨S8192x512, .f32⟩
  | .hbm, ⟨9, _⟩ => ⟨S8192x512, .f32⟩
  | .hbm, ⟨10, _⟩ => ⟨S8192x512, .f32⟩
  | .hbm, ⟨11, _⟩ => ⟨S8192x1024, .f32⟩
  | .hbm, ⟨12, _⟩ => ⟨S8192x2560, .f32⟩
  | .hbm, ⟨13, _⟩ => ⟨S1024x2560, .f32⟩
  | .hbm, ⟨14, _⟩ => ⟨S8192x1024, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1024, .f32⟩
  | .hbm, ⟨30, _⟩ => ⟨S8192x1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x2560, .f32⟩
  | .hbm, ⟨35, _⟩ => ⟨S2560x1024, .f32⟩
  | .hbm, ⟨36, _⟩ => ⟨S1024x2560, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S1024, .f32⟩
  | .hbm, ⟨46, _⟩ => ⟨S8192x1024, .f32⟩
  | .hbm, ⟨47, _⟩ => ⟨S_, .f32⟩
  | .hbm, ⟨48, _⟩ => ⟨S8192, .f32⟩
  | .hbm, ⟨49, _⟩ => ⟨S8192x1, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1, .f32⟩
  | .hbm, ⟨54, _⟩ => ⟨S_, .f32⟩
  | .hbm, ⟨55, _⟩ => ⟨S8192x1, .f32⟩
  | .hbm, ⟨56, _⟩ => ⟨S8192x1, .f32⟩
  | .hbm, ⟨57, _⟩ => ⟨S_, .f32⟩
  | .hbm, ⟨58, _⟩ => ⟨S8192, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_4 : Ref sig .tc := ⟨.hbm, 44, rfl⟩
abbrev main_v27 : Ref sig .tc := ⟨.hbm, 45, rfl⟩
abbrev main_v28 : Ref sig .tc := ⟨.hbm, 46, rfl⟩
abbrev main_cst_5 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_6 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩

abbrev nD : Nat := 1
abbrev τ : Topo := Topo.v7x

variable {F : FTy → Type} [FloatOps F]
-- ==== KvBwd.lean ====
abbrev S256x1024 : Shape := ⟨2, ![256, 1024]⟩
abbrev S1024 : Shape := ⟨1, ![1024]⟩
abbrev S1024x2048 : Shape := ⟨2, ![1024, 2048]⟩
abbrev S256x2048 : Shape := ⟨2, ![256, 2048]⟩
abbrev S1x1024 : Shape := ⟨2, ![1, 1024]⟩
abbrev S256 : Shape := ⟨1, ![256]⟩
abbrev S256x1 : Shape := ⟨2, ![256, 1]⟩

abbrev nBuf : Space → Nat
  | .hbm => 10
  | .vmem => 9
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x2048, .bf16⟩
  | .hbm, ⟨3, _⟩ => ⟨S1024x2048, .bf16⟩
  | .hbm, ⟨4, _⟩ => ⟨S256x2048, .f32⟩
  | .hbm, ⟨5, _⟩ => ⟨S256x2048, .f32⟩
  | .hbm, ⟨6, _⟩ => ⟨S1x1024, .f32⟩
  | .hbm, ⟨7, _⟩ => ⟨S1x1024, .f32⟩
  | .hbm, ⟨8, _⟩ => ⟨S1024x2048, .f32⟩
  | .hbm, ⟨9, _⟩ => ⟨S1024x2048, .f32⟩
  | .local _ .vmem, ⟨0, _⟩ => ⟨S256x1024, .f32⟩
  | .local _ .vmem, ⟨1, _⟩ => ⟨S256x2048, .f32⟩
  | .local _ .vmem, ⟨2, _⟩ => ⟨S256x2048, .f32⟩
  | .local _ .vmem, ⟨3, _⟩ => ⟨S1x1024, .f32⟩
  | .local _ .vmem, ⟨4, _⟩ => ⟨S1024x2048, .bf16⟩
  | .local _ .vmem, ⟨5, _⟩ => ⟨S1024x2048, .bf16⟩
  | .local _ .vmem, ⟨6, _⟩ => ⟨S1x1024, .f32⟩
  | .local _ .vmem, ⟨7, _⟩ => ⟨S1024x2048, .f32⟩
  | .local _ .vmem, ⟨8, _⟩ => ⟨S1024x2048, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== KvBwdRefIdeal.lean ====
abbrev S256x1024 : Shape := ⟨2, ![256, 1024]⟩
abbrev S1024 : Shape := ⟨1, ![1024]⟩
abbrev S1024x2048 : Shape := ⟨2, ![1024, 2048]⟩
abbrev S256x2048 : Shape := ⟨2, ![256, 2048]⟩
abbrev S_ : Shape := ⟨0, ![]⟩
abbrev S256 : Shape := ⟨1, ![256]⟩
abbrev S256x1 : Shape := ⟨2, ![256, 1]⟩
abbrev S1x1024 : Shape := ⟨2, ![1, 1024]⟩
abbrev S2048x1024 : Shape := ⟨2, ![2048, 1024]⟩

abbrev nBuf : Space → Nat
  | .hbm => 40
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x2048, .bf16⟩
  | .hbm, ⟨3, _⟩ => ⟨S1024x2048, .bf16⟩
  | .hbm, ⟨4, _⟩ => ⟨S256x2048, .f32⟩
  | .hbm, ⟨5, _⟩ => ⟨S256x2048, .f32⟩
  | .hbm, ⟨6, _⟩ => ⟨S1024x2048, .f32⟩
  | .hbm, ⟨7, _⟩ => ⟨S1024x2048, .f32⟩
  | .hbm, ⟨8, _⟩ => ⟨S256x1024, .f32⟩
  | .hbm, ⟨9, _⟩ => ⟨S_, .f32⟩
  | .hbm, ⟨10, _⟩ => ⟨S256, .f32⟩
  | .hbm, ⟨11, _⟩ => ⟨S256x1, .f32⟩
  | .hbm, ⟨12, _⟩ => ⟨S_, .f32⟩
  | .hbm, ⟨13, _⟩ => ⟨S256x1, .f32⟩
  | .hbm, ⟨14, _⟩ => ⟨S256x1, .f32⟩
  | .hbm, ⟨15, _⟩ => ⟨S_, .f32⟩
  | .hbm, ⟨16, _⟩ => ⟨S256x1, .f32⟩
  | .hbm, ⟨17, _⟩ => ⟨S256x1, .f32⟩
  | .hbm, ⟨18, _⟩ => ⟨S256x1, .f32⟩
  | .hbm, ⟨19, _⟩ => ⟨S256x1024, .f32⟩
  | .hbm, ⟨20, _⟩ => ⟨S256x1024, .f32⟩
  | .hbm, ⟨21, _⟩ => ⟨S1x1024, .f32⟩
  | .hbm, ⟨22, _⟩ => ⟨S256x1024, .f32⟩
  | .hbm, ⟨23, _⟩ => ⟨S256x1024, .f32⟩
  | .hbm, ⟨24, _⟩ => ⟨S256x2048, .f32⟩
  | .hbm, ⟨25, _⟩ => ⟨S256x2048, .f32⟩
  | .hbm, ⟨26, _⟩ => ⟨S2048x1024, .f32⟩
  | .hbm, ⟨27, _⟩ => ⟨S1024x2048, .f32⟩
  | .hbm, ⟨28, _⟩ => ⟨S256x1024, .f32⟩
  | .hbm, ⟨29, _⟩ => ⟨S2048x1024, .f32⟩
  | .hbm, ⟨30, _⟩ => ⟨S1024x2048, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S_, .f32⟩
  | .hbm, ⟨38, _⟩ => ⟨S1024, .f32⟩
  | .hbm, ⟨39, _⟩ => ⟨S1x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== ConvBwd.lean ====
abbrev S8192x2560 : Shape := ⟨2, ![8192, 2560]⟩
abbrev S8192x512 : Shape := ⟨2, ![8192, 512]⟩
abbrev S31x512 : Shape := ⟨2, ![31, 512]⟩
abbrev S_ : Shape := ⟨0, ![]⟩
abbrev S32x512 : Shape := ⟨2, ![32, 512]⟩
abbrev S1x512 : Shape := ⟨2, ![1, 512]⟩
abbrev S512x512 : Shape := ⟨2, ![512, 512]⟩
abbrev S552x512 : Shape := ⟨2, ![552, 512]⟩
abbrev S8x544x512 : Shape := ⟨3, ![8, 544, 512]⟩
abbrev S8x512 : Shape := ⟨2, ![8, 512]⟩
abbrev S544x512 : Shape := ⟨2, ![544, 512]⟩
abbrev S1x544x512 : Shape := ⟨3, ![1, 544, 512]⟩
abbrev S1x8x512 : Shape := ⟨3, ![1, 8, 512]⟩
abbrev S16x512 : Shape := ⟨2, ![16, 512]⟩
abbrev S512 : Shape := ⟨1, ![512]⟩

abbrev nBuf : Space → Nat
  | .hbm => 10
  | .vmem => 23
  | .smem => 0
  | _ => 0

abbrev bufTy : (tb : Table) → Fin (tcTables nBuf tb) → BufTy
  | .hbm, ⟨0, _⟩ => ⟨S8192x2560, .f32⟩
  | .hbm, ⟨1, _⟩ => ⟨S8192x512, .f32⟩
  | .hbm, ⟨2, _⟩ => ⟨S31x512, .f32⟩
  | .hbm, ⟨3, _⟩ => ⟨S_, .i32⟩
  | .hbm, ⟨4, _⟩ => ⟨S_, .f32⟩
  | .hbm, ⟨5, _⟩ => ⟨S32x512, .f32⟩
  | .hbm, ⟨6, _⟩ => ⟨S8192x512, .f32⟩
  | .hbm, ⟨7, _⟩ => ⟨S8192x512, .f32⟩
  | .hbm, ⟨8, _⟩ => ⟨S32x512, .f32⟩
  | .hbm, ⟨9, _⟩ => ⟨S1x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S32x512, .f32⟩
  | .local _ .vmem, ⟨5, _⟩ => ⟨S32x512, .f32⟩
  | .local _ .vmem, ⟨6, _⟩ => ⟨S32x512, .f32⟩
  | .local _ .vmem, ⟨7, _⟩ => ⟨S32x512, .f32⟩
  | .local _ .vmem, ⟨8, _⟩ => ⟨S512x512, .f32⟩
  | .local _ .vmem, ⟨9, _⟩ => ⟨S512x512, .f32⟩
  | .local _ .vmem, ⟨10, _⟩ => ⟨S32x512, .f32⟩
  | .local _ .vmem, ⟨11, _⟩ => ⟨S32x512, .f32⟩
  | .local _ .vmem, ⟨12, _⟩ => ⟨S32x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S32x512, .f32⟩
  | .local _ .vmem, ⟨18, _⟩ => ⟨S1x512, .f32⟩
  | .local _ .vmem, ⟨19, _⟩ => ⟨S552x512, .f32⟩
  | .local _ .vmem, ⟨20, _⟩ => ⟨S8x544x512, .f32⟩
  | .local _ .vmem, ⟨21, _⟩ => ⟨S552x512, .f32⟩
  | .local _ .vmem, ⟨22, _⟩ => ⟨S8x544x512, .f32⟩
  | _, _ => ⟨S8192x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_96 : BitVec 32 := 0#32
  let c32_i32 : BitVec 32 := 32#32
  let v107 : BitVec 32 := Scalar.addi c0_i32_96 c32_i32
  let c1_i32 : BitVec 32 := 1#32
  ⟨c0_i32_96, v107, c1_i32⟩
def k0_mult1 (k0_t1 : Fin k0_t1_loop.trips) : BitVec 32 :=
  let c0_i32_96 : BitVec 32 := 0#32
  let c1_i32 : BitVec 32 := 1#32
  let arg16 : BitVec 32 := Scf.iv c0_i32_96 c1_i32 k0_t1
  let c16_i32 : BitVec 32 := 16#32
  let v349 : BitVec 32 := Scalar.muli arg16 c16_i32
  v349
def k0_mult2 (k0_t1 : Fin k0_t1_loop.trips) : BitVec 32 :=
  let c0_i32_96 : BitVec 32 := 0#32
  let c1_i32 : BitVec 32 := 1#32
  let arg16 : BitVec 32 := Scf.iv c0_i32_96 c1_i32 k0_t1
  let c16_i32 : BitVec 32 := 16#32
  let v349 : BitVec 32 := Scalar.muli arg16 c16_i32
  let c24_i32 : BitVec 32 := 24#32
  let v354 : BitVec 32 := Scalar.addi v349 c24_i32
  v354
def k0_off1 (k0_t1 : Fin k0_t1_loop.trips) (c24_i32 : BitVec 32) : Fin 3 → Nat :=
  let c6_319 : Index := 6#32
  let c0_i32_96 : BitVec 32 := 0#32
  let c1_i32 : BitVec 32 := 1#32
  let arg16 : BitVec 32 := Scf.iv c0_i32_96 c1_i32 k0_t1
  let c16_i32 : BitVec 32 := 16#32
  let v349 : BitVec 32 := Scalar.muli arg16 c16_i32
  let v354 : BitVec 32 := Scalar.addi v349 c24_i32
  let v355 : BitVec 32 := v354
  let v356 : Index := Scalar.indexCast v355
  let c0_320 : Index := 0#32
  ![6, v356.toNat, 0]
def k0_mult3 (k0_t1 : Fin k0_t1_loop.trips) : BitVec 32 :=
  let c0_i32_96 : BitVec 32 := 0#32
  let c1_i32 : BitVec 32 := 1#32
  let arg16 : BitVec 32 := Scf.iv c0_i32_96 c1_i32 k0_t1
  let c16_i32 : BitVec 32 := 16#32
  let v349 : BitVec 32 := Scalar.muli arg16 c16_i32
  let c32_i32_321 : BitVec 32 := 32#32
  let v362 : BitVec 32 := Scalar.addi v349 c32_i32_321
  v362
def k0_mult4 (k0_t1 : Fin k0_t1_loop.trips) : BitVec 32 :=
  let c0_i32_96 : BitVec 32 := 0#32
  let c1_i32 : BitVec 32 := 1#32
  let arg16 : BitVec 32 := Scf.iv c0_i32_96 c1_i32 k0_t1
  let c16_i32 : BitVec 32 := 16#32
  let v349 : BitVec 32 := Scalar.muli arg16 c16_i32
  let c24_i32_326 : BitVec 32 := 24#32
  let v372 : BitVec 32 := Scalar.addi v349 c24_i32_326
  v372
def k0_off2 (k0_t1 : Fin k0_t1_loop.trips) (c24_i32_326 : BitVec 32) : Fin 3 → Nat :=
  let c5_327 : Index := 5#32
  let c0_i32_96 : BitVec 32 := 0#32
  let c1_i32 : BitVec 32 := 1#32
  let arg16 : BitVec 32 := Scf.iv c0_i32_96 c1_i32 k0_t1
  let c16_i32 : BitVec 32 := 16#32
  let v349 : BitVec 32 := Scalar.muli arg16 c16_i32
  let v372 : BitVec 32 := Scalar.addi v349 c24_i32_326
  let v373 : BitVec 32 := v372
  let v374 : Index := Scalar.indexCast v373
  let c0_328 : Index := 0#32
  ![5, v374.toNat, 0]
def k0_mult5 (k0_t1 : Fin k0_t1_loop.trips) : BitVec 32 :=
  let c0_i32_96 : BitVec 32 := 0#32
  let c1_i32 : BitVec 32 := 1#32
  let arg16 : BitVec 32 := Scf.iv c0_i32_96 c1_i32 k0_t1
  let c16_i32 : BitVec 32 := 16#32
  let v349 : BitVec 32 := Scalar.muli arg16 c16_i32
  let c32_i32_329 : BitVec 32 := 32#32
  let v380 : BitVec 32 := Scalar.addi v349 c32_i32_329
  v380
def k0_mult6 (k0_t1 : Fin k0_t1_loop.trips) : BitVec 32 :=
  let c0_i32_96 : BitVec 32 := 0#32
  let c1_i32 : BitVec 32 := 1#32
  let arg16 : BitVec 32 := Scf.iv c0_i32_96 c1_i32 k0_t1
  let c16_i32 : BitVec 32 := 16#32
  let v349 : BitVec 32 := Scalar.muli arg16 c16_i32
  let c24_i32_334 : BitVec 32 := 24#32
  let v390 : BitVec 32 := Scalar.addi v349 c24_i32_334
  v390
def k0_off3 (k0_t1 : Fin k0_t1_loop.trips) (c24_i32_334 : BitVec 32) : Fin 3 → Nat :=
  let c4_335 : Index := 4#32
  let c0_i32_96 : BitVec 32 := 0#32
  let c1_i32 : BitVec 32 := 1#32
  let arg16 : BitVec 32 := Scf.iv c0_i32_96 c1_i32 k0_t1
  let c16_i32 : BitVec 32 := 16#32
  let v349 : BitVec 32 := Scalar.muli arg16 c16_i32
  let v390 : BitVec 32 := Scalar.addi v349 c24_i32_334
  let v391 : BitVec 32 := v390
  let v392 : Index := Scalar.indexCast v391
  let c0_336 : Index := 0#32
  ![4, v392.toNat, 0]
def k0_mult7 (k0_t1 : Fin k0_t1_loop.trips) : BitVec 32 :=
  let c0_i32_96 : BitVec 32 := 0#32
  let c1_i32 : BitVec 32 := 1#32
  let arg16 : BitVec 32 := Scf.iv c0_i32_96 c1_i32 k0_t1
  let c16_i32 : BitVec 32 := 16#32
  let v349 : BitVec 32 := Scalar.muli arg16 c16_i32
  let c32_i32_337 : BitVec 32 := 32#32
  let v398 : BitVec 32 := Scalar.addi v349 c32_i32_337
  v398
def k0_mult8 (k0_t1 : Fin k0_t1_loop.trips) : BitVec 32 :=
  let c0_i32_96 : BitVec 32 := 0#32
  let c1_i32 : BitVec 32 := 1#32
  let arg16 : BitVec 32 := Scf.iv c0_i32_96 c1_i32 k0_t1
  let c16_i32 : BitVec 32 := 16#32
  let v349 : BitVec 32 := Scalar.muli arg16 c16_i32
  let c24_i32_342 : BitVec 32 := 24#32
  let v408 : BitVec 32 := Scalar.addi v349 c24_i32_342
  v408
def k0_off4 (k0_t1 : Fin k0_t1_loop.trips) (c24_i32_342 : BitVec 32) : Fin 3 → Nat :=
  let c3_343 : Index := 3#32
  let c0_i32_96 : BitVec 32 := 0#32
  let c1_i32 : BitVec 32 := 1#32
  let arg16 : BitVec 32 := Scf.iv c0_i32_96 c1_i32 k0_t1
  let c16_i32 : BitVec 32 := 16#32
  let v349 : BitVec 32 := Scalar.muli arg16 c16_i32
  let v408 : BitVec 32 := Scalar.addi v349 c24_i32_342
  let v409 : BitVec 32 := v408
  let v410 : Index := Scalar.indexCast v409
  let c0_344 : Index := 0#32
  ![3, v410.toNat, 0]
def k0_mult9 (k0_t1 : Fin k0_t1_loop.trips) : BitVec 32 :=
  let c0_i32_96 : BitVec 32 := 0#32
  let c1_i32 : BitVec 32 := 1#32
  let arg16 : BitVec 32 := Scf.iv c0_i32_96 c1_i32 k0_t1
  let c16_i32 : BitVec 32 := 16#32
  let v349 : BitVec 32 := Scalar.muli arg16 c16_i32
  let c32_i32_345 : BitVec 32 := 32#32
  let v416 : BitVec 32 := Scalar.addi v349 c32_i32_345
  v416
def k0_mult10 (k0_t1 : Fin k0_t1_loop.trips) : BitVec 32 :=
  let c0_i32_96 : BitVec 32 := 0#32
  let c1_i32 : BitVec 32 := 1#32
  let arg16 : BitVec 32 := Scf.iv c0_i32_96 c1_i32 k0_t1
  let c16_i32 : BitVec 32 := 16#32
  let v349 : BitVec 32 := Scalar.muli arg16 c16_i32
  let c24_i32_350 : BitVec 32 := 24#32
  let v426 : BitVec 32 := Scalar.addi v349 c24_i32_350
  v426
def k0_off5 (k0_t1 : Fin k0_t1_loop.trips) (c24_i32_350 : BitVec 32) : Fin 3 → Nat :=
  let c2_351 : Index := 2#32
  let c0_i32_96 : BitVec 32 := 0#32
  let c1_i32 : BitVec 32 := 1#32
  let arg16 : BitVec 32 := Scf.iv c0_i32_96 c1_i32 k0_t1
  let c16_i32 : BitVec 32 := 16#32
  let v349 : BitVec 32 := Scalar.muli arg16 c16_i32
  let v426 : BitVec 32 := Scalar.addi v349 c24_i32_350
  let v427 : BitVec 32 := v426
  let v428 : Index := Scalar.indexCast v427
  let c0_352 : Index := 0#32
  ![2, v428.toNat, 0]
def k0_mult11 (k0_t1 : Fin k0_t1_loop.trips) : BitVec 32 :=
  let c0_i32_96 : BitVec 32 := 0#32
  let c1_i32 : BitVec 32 := 1#32
  let arg16 : BitVec 32 := Scf.iv c0_i32_96 c1_i32 k0_t1
  let c16_i32 : BitVec 32 := 16#32
  let v349 : BitVec 32 := Scalar.muli arg16 c16_i32
  let c32_i32_353 : BitVec 32 := 32#32
  let v434 : BitVec 32 := Scalar.addi v349 c32_i32_353
  v434
def k0_mult12 (k0_t1 : Fin k0_t1_loop.trips) : BitVec 32 :=
  let c0_i32_96 : BitVec 32 := 0#32
  let c1_i32 : BitVec 32 := 1#32
  let arg16 : BitVec 32 := Scf.iv c0_i32_96 c1_i32 k0_t1
  let c16_i32 : BitVec 32 := 16#32
  let v349 : BitVec 32 := Scalar.muli arg16 c16_i32
  let c24_i32_358 : BitVec 32 := 24#32
  let v444 : BitVec 32 := Scalar.addi v349 c24_i32_358
  v444
def k0_off6 (k0_t1 : Fin k0_t1_loop.trips) (c24_i32_358 : BitVec 32) : Fin 3 → Nat :=
  let c1_359 : Index := 1#32
  let c0_i32_96 : BitVec 32 := 0#32
  let c1_i32 : BitVec 32 := 1#32
  let arg16 : BitVec 32 := Scf.iv c0_i32_96 c1_i32 k0_t1
  let c16_i32 : BitVec 32 := 16#32
  let v349 : BitVec 32 := Scalar.muli arg16 c16_i32
  let v444 : BitVec 32 := Scalar.addi v349 c24_i32_358
  let v445 : BitVec 32 := v444
  let v446 : Index := Scalar.indexCast v445
  let c0_360 : Index := 0#32
  ![1, v446.toNat, 0]
def k0_mult13 (k0_t1 : Fin k0_t1_loop.trips) : BitVec 32 :=
  let c0_i32_96 : BitVec 32 := 0#32
  let c1_i32 : BitVec 32 := 1#32
  let arg16 : BitVec 32 := Scf.iv c0_i32_96 c1_i32 k0_t1
  let c16_i32 : BitVec 32 := 16#32
  let v349 : BitVec 32 := Scalar.muli arg16 c16_i32
  let c32_i32_361 : BitVec 32 := 32#32
  let v452 : BitVec 32 := Scalar.addi v349 c32_i32_361
  v452
def k0_mult14 (k0_t1 : Fin k0_t1_loop.trips) : BitVec 32 :=
  let c0_i32_96 : BitVec 32 := 0#32
  let c1_i32 : BitVec 32 := 1#32
  let arg16 : BitVec 32 := Scf.iv c0_i32_96 c1_i32 k0_t1
  let c16_i32 : BitVec 32 := 16#32
  let v349 : BitVec 32 := Scalar.muli arg16 c16_i32
  let c24_i32_366 : BitVec 32 := 24#32
  let v462 : BitVec 32 := Scalar.addi v349 c24_i32_366
  v462
def k0_off7 (k0_t1 : Fin k0_t1_loop.trips) (c24_i32_366 : BitVec 32) : Fin 3 → Nat :=
  let c0_367 : Index := 0#32
  let c0_i32_96 : BitVec 32 := 0#32
  let c1_i32 : BitVec 32 := 1#32
  let arg16 : BitVec 32 := Scf.iv c0_i32_96 c1_i32 k0_t1
  let c16_i32 : BitVec 32 := 16#32
  let v349 : BitVec 32 := Scalar.muli arg16 c16_i32
  let v462 : BitVec 32 := Scalar.addi v349 c24_i32_366
  let v463 : BitVec 32 := v462
  let v464 : Index := Scalar.indexCast v463
  let c0_368 : Index := 0#32
  ![0, v464.toNat, 0]
def k0_mult15 (k0_t1 : Fin k0_t1_loop.trips) : BitVec 32 :=
  let c0_i32_96 : BitVec 32 := 0#32
  let c1_i32 : BitVec 32 := 1#32
  let arg16 : BitVec 32 := Scf.iv c0_i32_96 c1_i32 k0_t1
  let c16_i32 : BitVec 32 := 16#32
  let v349 : BitVec 32 := Scalar.muli arg16 c16_i32
  let c32_i32_369 : BitVec 32 := 32#32
  let v470 : BitVec 32 := Scalar.addi v349 c32_i32_369
  v470
def k0_mult16 (k0_t1 : Fin k0_t1_loop.trips) : BitVec 32 :=
  let c0_i32_96 : BitVec 32 := 0#32
  let c1_i32 : BitVec 32 := 1#32
  let arg16 : BitVec 32 := Scf.iv c0_i32_96 c1_i32 k0_t1
  let c16_i32 : BitVec 32 := 16#32
  let v349 : BitVec 32 := Scalar.muli arg16 c16_i32
  let c16_i32_374 : BitVec 32 := 16#32
  let v480 : BitVec 32 := Scalar.addi v349 c16_i32_374
  v480
def k0_off8 (k0_t1 : Fin k0_t1_loop.trips) (c16_i32_374 : BitVec 32) : Fin 3 → Nat :=
  let c7_375 : Index := 7#32
  let c0_i32_96 : BitVec 32 := 0#32
  let c1_i32 : BitVec 32 := 1#32
  let arg16 : BitVec 32 := Scf.iv c0_i32_96 c1_i32 k0_t1
  let c16_i32 : BitVec 32 := 16#32
  let v349 : BitVec 32 := Scalar.muli arg16 c16_i32
  let v480 : BitVec 32 := Scalar.addi v349 c16_i32_374
  let v481 : BitVec 32 := v480
  let v482 : Index := Scalar.indexCast v481
  let c0_376 : Index := 0#32
  ![7, v482.toNat, 0]
def k0_mult17 (k0_t1 : Fin k0_t1_loop.trips) : BitVec 32 :=
  let c0_i32_96 : BitVec 32 := 0#32
  let c1_i32 : BitVec 32 := 1#32
  let arg16 : BitVec 32 := Scf.iv c0_i32_96 c1_i32 k0_t1
  let c16_i32 : BitVec 32 := 16#32
  let v349 : BitVec 32 := Scalar.muli arg16 c16_i32
  let c24_i32_377 : BitVec 32 := 24#32
  let v488 : BitVec 32 := Scalar.addi v349 c24_i32_377
  v488
def k0_mult18 (k0_t1 : Fin k0_t1_loop.trips) : BitVec 32 :=
  let c0_i32_96 : BitVec 32 := 0#32
  let c1_i32 : BitVec 32 := 1#32
  let arg16 : BitVec 32 := Scf.iv c0_i32_96 c1_i32 k0_t1
  let c16_i32 : BitVec 32 := 16#32
  let v349 : BitVec 32 := Scalar.muli arg16 c16_i32
  let c16_i32_382 : BitVec 32 := 16#32
  let v498 : BitVec 32 := Scalar.addi v349 c16_i32_382
  v498
def k0_mult19 (k0_t1 : Fin k0_t1_loop.trips) : BitVec 32 :=
  let c0_i32_96 : BitVec 32 := 0#32
  let c1_i32 : BitVec 32 := 1#32
  let arg16 : BitVec 32 := Scf.iv c0_i32_96 c1_i32 k0_t1
  let c16_i32 : BitVec 32 := 16#32
  let v349 : BitVec 32 := Scalar.muli arg16 c16_i32
  let c24_i32_385 : BitVec 32 := 24#32
  let v506 : BitVec 32 := Scalar.addi v349 c24_i32_385
  v506
def k0_mult20 (k0_t1 : Fin k0_t1_loop.trips) : BitVec 32 :=
  let c0_i32_96 : BitVec 32 := 0#32
  let c1_i32 : BitVec 32 := 1#32
  let arg16 : BitVec 32 := Scf.iv c0_i32_96 c1_i32 k0_t1
  let c16_i32 : BitVec 32 := 16#32
  let v349 : BitVec 32 := Scalar.muli arg16 c16_i32
  let c16_i32_390 : BitVec 32 := 16#32
  let v516 : BitVec 32 := Scalar.addi v349 c16_i32_390
  v516
def k0_mult21 (k0_t1 : Fin k0_t1_loop.trips) : BitVec 32 :=
  let c0_i32_96 : BitVec 32 := 0#32
  let c1_i32 : BitVec 32 := 1#32
  let arg16 : BitVec 32 := Scf.iv c0_i32_96 c1_i32 k0_t1
  let c16_i32 : BitVec 32 := 16#32
  let v349 : BitVec 32 := Scalar.muli arg16 c16_i32
  let c24_i32_393 : BitVec 32 := 24#32
  let v524 : BitVec 32 := Scalar.addi v349 c24_i32_393
  v524
def k0_mult22 (k0_t1 : Fin k0_t1_loop.trips) : BitVec 32 :=
  let c0_i32_96 : BitVec 32 := 0#32
  let c1_i32 : BitVec 32 := 1#32
  let arg16 : BitVec 32 := Scf.iv c0_i32_96 c1_i32 k0_t1
  let c16_i32 : BitVec 32 := 16#32
  let v349 : BitVec 32 := Scalar.muli arg16 c16_i32
  let c16_i32_398 : BitVec 32 := 16#32
  let v534 : BitVec 32 := Scalar.addi v349 c16_i32_398
  v534
def k0_mult23 (k0_t1 : Fin k0_t1_loop.trips) : BitVec 32 :=
  let c0_i32_96 : BitVec 32 := 0#32
  let c1_i32 : BitVec 32 := 1#32
  let arg16 : BitVec 32 := Scf.iv c0_i32_96 c1_i32 k0_t1
  let c16_i32 : BitVec 32 := 16#32
  let v349 : BitVec 32 := Scalar.muli arg16 c16_i32
  let c24_i32_401 : BitVec 32 := 24#32
  let v542 : BitVec 32 := Scalar.addi v349 c24_i32_401
  v542
def k0_mult24 (k0_t1 : Fin k0_t1_loop.trips) : BitVec 32 :=
  let c0_i32_96 : BitVec 32 := 0#32
  let c1_i32 : BitVec 32 := 1#32
  let arg16 : BitVec 32 := Scf.iv c0_i32_96 c1_i32 k0_t1
  let c16_i32 : BitVec 32 := 16#32
  let v349 : BitVec 32 := Scalar.muli arg16 c16_i32
  let c16_i32_406 : BitVec 32 := 16#32
  let v552 : BitVec 32 := Scalar.addi v349 c16_i32_406
  v552
def k0_mult25 (k0_t1 : Fin k0_t1_loop.trips) : BitVec 32 :=
  let c0_i32_96 : BitVec 32 := 0#32
  let c1_i32 : BitVec 32 := 1#32
  let arg16 : BitVec 32 := Scf.iv c0_i32_96 c1_i32 k0_t1
  let c16_i32 : BitVec 32 := 16#32
  let v349 : BitVec 32 := Scalar.muli arg16 c16_i32
  let c24_i32_409 : BitVec 32 := 24#32
  let v560 : BitVec 32 := Scalar.addi v349 c24_i32_409
  v560
def k0_mult26 (k0_t1 : Fin k0_t1_loop.trips) : BitVec 32 :=
  let c0_i32_96 : BitVec 32 := 0#32
  let c1_i32 : BitVec 32 := 1#32
  let arg16 : BitVec 32 := Scf.iv c0_i32_96 c1_i32 k0_t1
  let c16_i32 : BitVec 32 := 16#32
  let v349 : BitVec 32 := Scalar.muli arg16 c16_i32
  let c16_i32_414 : BitVec 32 := 16#32
  let v570 : BitVec 32 := Scalar.addi v349 c16_i32_414
  v570
def k0_mult27 (k0_t1 : Fin k0_t1_loop.trips) : BitVec 32 :=
  let c0_i32_96 : BitVec 32 := 0#32
  let c1_i32 : BitVec 32 := 1#32
  let arg16 : BitVec 32 := Scf.iv c0_i32_96 c1_i32 k0_t1
  let c16_i32 : BitVec 32 := 16#32
  let v349 : BitVec 32 := Scalar.muli arg16 c16_i32
  let c24_i32_417 : BitVec 32 := 24#32
  let v578 : BitVec 32 := Scalar.addi v349 c24_i32_417
  v578
def k0_mult28 (k0_t1 : Fin k0_t1_loop.trips) : BitVec 32 :=
  let c0_i32_96 : BitVec 32 := 0#32
  let c1_i32 : BitVec 32 := 1#32
  let arg16 : BitVec 32 := Scf.iv c0_i32_96 c1_i32 k0_t1
  let c16_i32 : BitVec 32 := 16#32
  let v349 : BitVec 32 := Scalar.muli arg16 c16_i32
  let c16_i32_422 : BitVec 32 := 16#32
  let v588 : BitVec 32 := Scalar.addi v349 c16_i32_422
  v588
def k0_mult29 (k0_t1 : Fin k0_t1_loop.trips) : BitVec 32 :=
  let c0_i32_96 : BitVec 32 := 0#32
  let c1_i32 : BitVec 32 := 1#32
  let arg16 : BitVec 32 := Scf.iv c0_i32_96 c1_i32 k0_t1
  let c16_i32 : BitVec 32 := 16#32
  let v349 : BitVec 32 := Scalar.muli arg16 c16_i32
  let c24_i32_425 : BitVec 32 := 24#32
  let v596 : BitVec 32 := Scalar.addi v349 c24_i32_425
  v596
def k0_mult30 (k0_t1 : Fin k0_t1_loop.trips) : BitVec 32 :=
  let c0_i32_96 : BitVec 32 := 0#32
  let c1_i32 : BitVec 32 := 1#32
  let arg16 : BitVec 32 := Scf.iv c0_i32_96 c1_i32 k0_t1
  let c16_i32 : BitVec 32 := 16#32
  let v349 : BitVec 32 := Scalar.muli arg16 c16_i32
  let c16_i32_430 : BitVec 32 := 16#32
  let v606 : BitVec 32 := Scalar.addi v349 c16_i32_430
  v606
def k0_mult31 (k0_t1 : Fin k0_t1_loop.trips) : BitVec 32 :=
  let c0_i32_96 : BitVec 32 := 0#32
  let c1_i32 : BitVec 32 := 1#32
  let arg16 : BitVec 32 := Scf.iv c0_i32_96 c1_i32 k0_t1
  let c16_i32 : BitVec 32 := 16#32
  let v349 : BitVec 32 := Scalar.muli arg16 c16_i32
  let c24_i32_433 : BitVec 32 := 24#32
  let v614 : BitVec 32 := Scalar.addi v349 c24_i32_433
  v614
def k0_mult32 (k0_t1 : Fin k0_t1_loop.trips) : BitVec 32 :=
  let c0_i32_96 : BitVec 32 := 0#32
  let c1_i32 : BitVec 32 := 1#32
  let arg16 : BitVec 32 := Scf.iv c0_i32_96 c1_i32 k0_t1
  let c16_i32 : BitVec 32 := 16#32
  let v349 : BitVec 32 := Scalar.muli arg16 c16_i32
  let c8_i32_438 : BitVec 32 := 8#32
  let v624 : BitVec 32 := Scalar.addi v349 c8_i32_438
  v624
def k0_mult33 (k0_t1 : Fin k0_t1_loop.trips) : BitVec 32 :=
  let c0_i32_96 : BitVec 32 := 0#32
  let c1_i32 : BitVec 32 := 1#32
  let arg16 : BitVec 32 := Scf.iv c0_i32_96 c1_i32 k0_t1
  let c16_i32 : BitVec 32 := 16#32
  let v349 : BitVec 32 := Scalar.muli arg16 c16_i32
  let c16_i32_441 : BitVec 32 := 16#32
  let v632 : BitVec 32 := Scalar.addi v349 c16_i32_441
  v632
def k0_mult34 (k0_t1 : Fin k0_t1_loop.trips) : BitVec 32 :=
  let c0_i32_96 : BitVec 32 := 0#32
  let c1_i32 : BitVec 32 := 1#32
  let arg16 : BitVec 32 := Scf.iv c0_i32_96 c1_i32 k0_t1
  let c16_i32 : BitVec 32 := 16#32
  let v349 : BitVec 32 := Scalar.muli arg16 c16_i32
  let c8_i32_446 : BitVec 32 := 8#32
  let v642 : BitVec 32 := Scalar.addi v349 c8_i32_446
  v642
def k0_mult35 (k0_t1 : Fin k0_t1_loop.trips) : BitVec 32 :=
  let c0_i32_96 : BitVec 32 := 0#32
  let c1_i32 : BitVec 32 := 1#32
  let arg16 : BitVec 32 := Scf.iv c0_i32_96 c1_i32 k0_t1
  let c16_i32 : BitVec 32 := 16#32
  let v349 : BitVec 32 := Scalar.muli arg16 c16_i32
  let c16_i32_449 : BitVec 32 := 16#32
  let v650 : BitVec 32 := Scalar.addi v349 c16_i32_449
  v650
def k0_mult36 (k0_t1 : Fin k0_t1_loop.trips) : BitVec 32 :=
  let c0_i32_96 : BitVec 32 := 0#32
  let c1_i32 : BitVec 32 := 1#32
  let arg16 : BitVec 32 := Scf.iv c0_i32_96 c1_i32 k0_t1
  let c16_i32 : BitVec 32 := 16#32
  let v349 : BitVec 32 := Scalar.muli arg16 c16_i32
  let c8_i32_454 : BitVec 32 := 8#32
  let v660 : BitVec 32 := Scalar.addi v349 c8_i32_454
  v660
def k0_mult37 (k0_t1 : Fin k0_t1_loop.trips) : BitVec 32 :=
  let c0_i32_96 : BitVec 32 := 0#32
  let c1_i32 : BitVec 32 := 1#32
  let arg16 : BitVec 32 := Scf.iv c0_i32_96 c1_i32 k0_t1
  let c16_i32 : BitVec 32 := 16#32
  let v349 : BitVec 32 := Scalar.muli arg16 c16_i32
  let c16_i32_457 : BitVec 32 := 16#32
  let v668 : BitVec 32 := Scalar.addi v349 c16_i32_457
  v668
def k0_mult38 (k0_t1 : Fin k0_t1_loop.trips) : BitVec 32 :=
  let c0_i32_96 : BitVec 32 := 0#32
  let c1_i32 : BitVec 32 := 1#32
  let arg16 : BitVec 32 := Scf.iv c0_i32_96 c1_i32 k0_t1
  let c16_i32 : BitVec 32 := 16#32
  let v349 : BitVec 32 := Scalar.muli arg16 c16_i32
  let c8_i32_462 : BitVec 32 := 8#32
  let v678 : BitVec 32 := Scalar.addi v349 c8_i32_462
  v678
def k0_mult39 (k0_t1 : Fin k0_t1_loop.trips) : BitVec 32 :=
  let c0_i32_96 : BitVec 32 := 0#32
  let c1_i32 : BitVec 32 := 1#32
  let arg16 : BitVec 32 := Scf.iv c0_i32_96 c1_i32 k0_t1
  let c16_i32 : BitVec 32 := 16#32
  let v349 : BitVec 32 := Scalar.muli arg16 c16_i32
  let c16_i32_465 : BitVec 32 := 16#32
  let v686 : BitVec 32 := Scalar.addi v349 c16_i32_465
  v686
def k0_mult40 (k0_t1 : Fin k0_t1_loop.trips) : BitVec 32 :=
  let c0_i32_96 : BitVec 32 := 0#32
  let c1_i32 : BitVec 32 := 1#32
  let arg16 : BitVec 32 := Scf.iv c0_i32_96 c1_i32 k0_t1
  let c16_i32 : BitVec 32 := 16#32
  let v349 : BitVec 32 := Scalar.muli arg16 c16_i32
  let c8_i32_470 : BitVec 32 := 8#32
  let v696 : BitVec 32 := Scalar.addi v349 c8_i32_470
  v696
def k0_mult41 (k0_t1 : Fin k0_t1_loop.trips) : BitVec 32 :=
  let c0_i32_96 : BitVec 32 := 0#32
  let c1_i32 : BitVec 32 := 1#32
  let arg16 : BitVec 32 := Scf.iv c0_i32_96 c1_i32 k0_t1
  let c16_i32 : BitVec 32 := 16#32
  let v349 : BitVec 32 := Scalar.muli arg16 c16_i32
  let c16_i32_473 : BitVec 32 := 16#32
  let v704 : BitVec 32 := Scalar.addi v349 c16_i32_473
  v704
def k0_mult42 (k0_t1 : Fin k0_t1_loop.trips) : BitVec 32 :=
  let c0_i32_96 : BitVec 32 := 0#32
  let c1_i32 : BitVec 32 := 1#32
  let arg16 : BitVec 32 := Scf.iv c0_i32_96 c1_i32 k0_t1
  let c16_i32 : BitVec 32 := 16#32
  let v349 : BitVec 32 := Scalar.muli arg16 c16_i32
  let c8_i32_478 : BitVec 32 := 8#32
  let v714 : BitVec 32 := Scalar.addi v349 c8_i32_478
  v714
def k0_mult43 (k0_t1 : Fin k0_t1_loop.trips) : BitVec 32 :=
  let c0_i32_96 : BitVec 32 := 0#32
  let c1_i32 : BitVec 32 := 1#32
  let arg16 : BitVec 32 := Scf.iv c0_i32_96 c1_i32 k0_t1
  let c16_i32 : BitVec 32 := 16#32
  let v349 : BitVec 32 := Scalar.muli arg16 c16_i32
  let c16_i32_481 : BitVec 32 := 16#32
  let v722 : BitVec 32 := Scalar.addi v349 c16_i32_481
  v722
def k0_mult44 (k0_t1 : Fin k0_t1_loop.trips) : BitVec 32 :=
  let c0_i32_96 : BitVec 32 := 0#32
  let c1_i32 : BitVec 32 := 1#32
  let arg16 : BitVec 32 := Scf.iv c0_i32_96 c1_i32 k0_t1
  let c16_i32 : BitVec 32 := 16#32
  let v349 : BitVec 32 := Scalar.muli arg16 c16_i32
  let c8_i32_486 : BitVec 32 := 8#32
  let v732 : BitVec 32 := Scalar.addi v349 c8_i32_486
  v732
def k0_mult45 (k0_t1 : Fin k0_t1_loop.trips) : BitVec 32 :=
  let c0_i32_96 : BitVec 32 := 0#32
  let c1_i32 : BitVec 32 := 1#32
  let arg16 : BitVec 32 := Scf.iv c0_i32_96 c1_i32 k0_t1
  let c16_i32 : BitVec 32 := 16#32
  let v349 : BitVec 32 := Scalar.muli arg16 c16_i32
  let c16_i32_489 : BitVec 32 := 16#32
  let v740 : BitVec 32 := Scalar.addi v349 c16_i32_489
  v740
def k0_mult46 (k0_t1 : Fin k0_t1_loop.trips) : BitVec 32 :=
  let c0_i32_96 : BitVec 32 := 0#32
  let c1_i32 : BitVec 32 := 1#32
  let arg16 : BitVec 32 := Scf.iv c0_i32_96 c1_i32 k0_t1
  let c16_i32 : BitVec 32 := 16#32
  let v349 : BitVec 32 := Scalar.muli arg16 c16_i32
  let c8_i32_494 : BitVec 32 := 8#32
  let v750 : BitVec 32 := Scalar.addi v349 c8_i32_494
  v750
def k0_mult47 (k0_t1 : Fin k0_t1_loop.trips) : BitVec 32 :=
  let c0_i32_96 : BitVec 32 := 0#32
  let c1_i32 : BitVec 32 := 1#32
  let arg16 : BitVec 32 := Scf.iv c0_i32_96 c1_i32 k0_t1
  let c16_i32 : BitVec 32 := 16#32
  let v349 : BitVec 32 := Scalar.muli arg16 c16_i32
  let c16_i32_497 : BitVec 32 := 16#32
  let v758 : BitVec 32 := Scalar.addi v349 c16_i32_497
  v758
def k0_mult48 (k0_t1 : Fin k0_t1_loop.trips) : BitVec 32 :=
  let c0_i32_96 : BitVec 32 := 0#32
  let c1_i32 : BitVec 32 := 1#32
  let arg16 : BitVec 32 := Scf.iv c0_i32_96 c1_i32 k0_t1
  let c16_i32 : BitVec 32 := 16#32
  let v349 : BitVec 32 := Scalar.muli arg16 c16_i32
  let c0_i32_502 : BitVec 32 := 0#32
  let v768 : BitVec 32 := Scalar.addi v349 c0_i32_502
  v768
def k0_mult49 (k0_t1 : Fin k0_t1_loop.trips) : BitVec 32 :=
  let c0_i32_96 : BitVec 32 := 0#32
  let c1_i32 : BitVec 32 := 1#32
  let arg16 : BitVec 32 := Scf.iv c0_i32_96 c1_i32 k0_t1
  let c16_i32 : BitVec 32 := 16#32
  let v349 : BitVec 32 := Scalar.muli arg16 c16_i32
  let c8_i32_505 : BitVec 32 := 8#32
  let v776 : BitVec 32 := Scalar.addi v349 c8_i32_505
  v776
def k0_mult50 (k0_t1 : Fin k0_t1_loop.trips) : BitVec 32 :=
  let c0_i32_96 : BitVec 32 := 0#32
  let c1_i32 : BitVec 32 := 1#32
  let arg16 : BitVec 32 := Scf.iv c0_i32_96 c1_i32 k0_t1
  let c16_i32 : BitVec 32 := 16#32
  let v349 : BitVec 32 := Scalar.muli arg16 c16_i32
  let c0_i32_510 : BitVec 32 := 0#32
  let v786 : BitVec 32 := Scalar.addi v349 c0_i32_510
  v786
def k0_mult51 (k0_t1 : Fin k0_t1_loop.trips) : BitVec 32 :=
  let c0_i32_96 : BitVec 32 := 0#32
  let c1_i32 : BitVec 32 := 1#32
  let arg16 : BitVec 32 := Scf.iv c0_i32_96 c1_i32 k0_t1
  let c16_i32 : BitVec 32 := 16#32
  let v349 : BitVec 32 := Scalar.muli arg16 c16_i32
  let c8_i32_513 : BitVec 32 := 8#32
  let v794 : BitVec 32 := Scalar.addi v349 c8_i32_513
  v794
def k0_mult52 (k0_t1 : Fin k0_t1_loop.trips) : BitVec 32 :=
  let c0_i32_96 : BitVec 32 := 0#32
  let c1_i32 : BitVec 32 := 1#32
  let arg16 : BitVec 32 := Scf.iv c0_i32_96 c1_i32 k0_t1
  let c16_i32 : BitVec 32 := 16#32
  let v349 : BitVec 32 := Scalar.muli arg16 c16_i32
  let c0_i32_518 : BitVec 32 := 0#32
  let v804 : BitVec 32 := Scalar.addi v349 c0_i32_518
  v804
def k0_mult53 (k0_t1 : Fin k0_t1_loop.trips) : BitVec 32 :=
  let c0_i32_96 : BitVec 32 := 0#32
  let c1_i32 : BitVec 32 := 1#32
  let arg16 : BitVec 32 := Scf.iv c0_i32_96 c1_i32 k0_t1
  let c16_i32 : BitVec 32 := 16#32
  let v349 : BitVec 32 := Scalar.muli arg16 c16_i32
  let c8_i32_521 : BitVec 32 := 8#32
  let v812 : BitVec 32 := Scalar.addi v349 c8_i32_521
  v812
def k0_mult54 (k0_t1 : Fin k0_t1_loop.trips) : BitVec 32 :=
  let c0_i32_96 : BitVec 32 := 0#32
  let c1_i32 : BitVec 32 := 1#32
  let arg16 : BitVec 32 := Scf.iv c0_i32_96 c1_i32 k0_t1
  let c16_i32 : BitVec 32 := 16#32
  let v349 : BitVec 32 := Scalar.muli arg16 c16_i32
  let c0_i32_526 : BitVec 32 := 0#32
  let v822 : BitVec 32 := Scalar.addi v349 c0_i32_526
  v822
def k0_mult55 (k0_t1 : Fin k0_t1_loop.trips) : BitVec 32 :=
  let c0_i32_96 : BitVec 32 := 0#32
  let c1_i32 : BitVec 32 := 1#32
  let arg16 : BitVec 32 := Scf.iv c0_i32_96 c1_i32 k0_t1
  let c16_i32 : BitVec 32 := 16#32
  let v349 : BitVec 32 := Scalar.muli arg16 c16_i32
  let c8_i32_529 : BitVec 32 := 8#32
  let v830 : BitVec 32 := Scalar.addi v349 c8_i32_529
  v830
def k0_mult56 (k0_t1 : Fin k0_t1_loop.trips) : BitVec 32 :=
  let c0_i32_96 : BitVec 32 := 0#32
  let c1_i32 : BitVec 32 := 1#32
  let arg16 : BitVec 32 := Scf.iv c0_i32_96 c1_i32 k0_t1
  let c16_i32 : BitVec 32 := 16#32
  let v349 : BitVec 32 := Scalar.muli arg16 c16_i32
  let c0_i32_534 : BitVec 32 := 0#32
  let v840 : BitVec 32 := Scalar.addi v349 c0_i32_534
  v840
def k0_mult57 (k0_t1 : Fin k0_t1_loop.trips) : BitVec 32 :=
  let c0_i32_96 : BitVec 32 := 0#32
  let c1_i32 : BitVec 32 := 1#32
  let arg16 : BitVec 32 := Scf.iv c0_i32_96 c1_i32 k0_t1
  let c16_i32 : BitVec 32 := 16#32
  let v349 : BitVec 32 := Scalar.muli arg16 c16_i32
  let c8_i32_537 : BitVec 32 := 8#32
  let v848 : BitVec 32 := Scalar.addi v349 c8_i32_537
  v848
def k0_mult58 (k0_t1 : Fin k0_t1_loop.trips) : BitVec 32 :=
  let c0_i32_96 : BitVec 32 := 0#32
  let c1_i32 : BitVec 32 := 1#32
  let arg16 : BitVec 32 := Scf.iv c0_i32_96 c1_i32 k0_t1
  let c16_i32 : BitVec 32 := 16#32
  let v349 : BitVec 32 := Scalar.muli arg16 c16_i32
  let c0_i32_542 : BitVec 32 := 0#32
  let v858 : BitVec 32 := Scalar.addi v349 c0_i32_542
  v858
def k0_mult59 (k0_t1 : Fin k0_t1_loop.trips) : BitVec 32 :=
  let c0_i32_96 : BitVec 32 := 0#32
  let c1_i32 : BitVec 32 := 1#32
  let arg16 : BitVec 32 := Scf.iv c0_i32_96 c1_i32 k0_t1
  let c16_i32 : BitVec 32 := 16#32
  let v349 : BitVec 32 := Scalar.muli arg16 c16_i32
  let c8_i32_545 : BitVec 32 := 8#32
  let v866 : BitVec 32 := Scalar.addi v349 c8_i32_545
  v866
def k0_mult60 (k0_t1 : Fin k0_t1_loop.trips) : BitVec 32 :=
  let c0_i32_96 : BitVec 32 := 0#32
  let c1_i32 : BitVec 32 := 1#32
  let arg16 : BitVec 32 := Scf.iv c0_i32_96 c1_i32 k0_t1
  let c16_i32 : BitVec 32 := 16#32
  let v349 : BitVec 32 := Scalar.muli arg16 c16_i32
  let c0_i32_550 : BitVec 32 := 0#32
  let v876 : BitVec 32 := Scalar.addi v349 c0_i32_550
  v876
def k0_mult61 (k0_t1 : Fin k0_t1_loop.trips) : BitVec 32 :=
  let c0_i32_96 : BitVec 32 := 0#32
  let c1_i32 : BitVec 32 := 1#32
  let arg16 : BitVec 32 := Scf.iv c0_i32_96 c1_i32 k0_t1
  let c16_i32 : BitVec 32 := 16#32
  let v349 : BitVec 32 := Scalar.muli arg16 c16_i32
  let c8_i32_553 : BitVec 32 := 8#32
  let v884 : BitVec 32 := Scalar.addi v349 c8_i32_553
  v884
def k0_mult62 (k0_t1 : Fin k0_t1_loop.trips) : BitVec 32 :=
  let c0_i32_96 : BitVec 32 := 0#32
  let c1_i32 : BitVec 32 := 1#32
  let arg16 : BitVec 32 := Scf.iv c0_i32_96 c1_i32 k0_t1
  let c16_i32 : BitVec 32 := 16#32
  let v349 : BitVec 32 := Scalar.muli arg16 c16_i32
  let c0_i32_558 : BitVec 32 := 0#32
  let v894 : BitVec 32 := Scalar.addi v349 c0_i32_558
  v894
def k0_mult63 (k0_t1 : Fin k0_t1_loop.trips) : BitVec 32 :=
  let c0_i32_96 : BitVec 32 := 0#32
  let c1_i32 : BitVec 32 := 1#32
  let arg16 : BitVec 32 := Scf.iv c0_i32_96 c1_i32 k0_t1
  let c16_i32 : BitVec 32 := 16#32
  let v349 : BitVec 32 := Scalar.muli arg16 c16_i32
  let c8_i32_561 : BitVec 32 := 8#32
  let v902 : BitVec 32 := Scalar.addi v349 c8_i32_561
  v902
def k0_off9 (k0_t1 : Fin k0_t1_loop.trips) : Fin 2 → Nat :=
  let c0_i32_96 : BitVec 32 := 0#32
  let c1_i32 : BitVec 32 := 1#32
  let arg16 : BitVec 32 := Scf.iv c0_i32_96 c1_i32 k0_t1
  let c16_i32 : BitVec 32 := 16#32
  let v349 : BitVec 32 := Scalar.muli arg16 c16_i32
  let v350 : BitVec 32 := v349
  let v911 : Index := Scalar.indexCast v350
  let c0_564 : Index := 0#32
  ![v911.toNat, 0]
@[reducible] def k0_t2_loop : Scf.Loop 32 :=
  let c0_i32_99 : BitVec 32 := 0#32
  let c8_i32 : BitVec 32 := 8#32
  let v109 : BitVec 32 := Scalar.addi c0_i32_99 c8_i32
  let c1_i32_100 : BitVec 32 := 1#32
  ⟨c0_i32_99, v109, c1_i32_100⟩
def k0_mult64 (k0_t2 : Fin k0_t2_loop.trips) : BitVec 32 :=
  let c0_i32_99 : BitVec 32 := 0#32
  let c1_i32_100 : BitVec 32 := 1#32
  let arg16 : BitVec 32 := Scf.iv c0_i32_99 c1_i32_100 k0_t2
  let c64_i32 : BitVec 32 := 64#32
  let v349 : BitVec 32 := Scalar.muli arg16 c64_i32
  let c0_i32_316 : BitVec 32 := 0#32
  let v350 : BitVec 32 := Scalar.addi v349 c0_i32_316
  v350
def k0_off10 (k0_t2 : Fin k0_t2_loop.trips) (c0_i32_316 : BitVec 32) : Fin 2 → Nat :=
  let c0_i32_99 : BitVec 32 := 0#32
  let c1_i32_100 : BitVec 32 := 1#32
  let arg16 : BitVec 32 := Scf.iv c0_i32_99 c1_i32_100 k0_t2
  let c64_i32 : BitVec 32 := 64#32
  let v349 : BitVec 32 := Scalar.muli arg16 c64_i32
  let v350 : BitVec 32 := Scalar.addi v349 c0_i32_316
  let v351 : BitVec 32 := v350
  let v352 : Index := Scalar.indexCast v351
  let c0_317 : Index := 0#32
  ![v352.toNat, 0]
def k0_mult65 (k0_t2 : Fin k0_t2_loop.trips) : BitVec 32 :=
  let c0_i32_99 : BitVec 32 := 0#32
  let c1_i32_100 : BitVec 32 := 1#32
  let arg16 : BitVec 32 := Scf.iv c0_i32_99 c1_i32_100 k0_t2
  let c64_i32 : BitVec 32 := 64#32
  let v349 : BitVec 32 := Scalar.muli arg16 c64_i32
  let c0_i32_316 : BitVec 32 := 0#32
  let v350 : BitVec 32 := Scalar.addi v349 c0_i32_316
  let v351 : BitVec 32 := v350
  let c0_i32_318 : BitVec 32 := 0#32
  let v354 : BitVec 32 := Scalar.addi v351 c0_i32_318
  v354
def k0_off11 (k0_t2 : Fin k0_t2_loop.trips) (c0_i32_316 : BitVec 32) : Fin 3 → Nat :=
  let c2_319 : Index := 2#32
  let c0_i32_99 : BitVec 32 := 0#32
  let c1_i32_100 : BitVec 32 := 1#32
  let arg16 : BitVec 32 := Scf.iv c0_i32_99 c1_i32_100 k0_t2
  let c64_i32 : BitVec 32 := 64#32
  let v349 : BitVec 32 := Scalar.muli arg16 c64_i32
  let v350 : BitVec 32 := Scalar.addi v349 c0_i32_316
  let v351 : BitVec 32 := v350
  let c0_i32_318 : BitVec 32 := 0#32
  let v354 : BitVec 32 := Scalar.addi v351 c0_i32_318
  let v355 : BitVec 32 := v354
  let v356 : Index := Scalar.indexCast v355
  let c0_320 : Index := 0#32
  ![2, v356.toNat, 0]
def k0_mult66 (k0_t2 : Fin k0_t2_loop.trips) : BitVec 32 :=
  let c0_i32_99 : BitVec 32 := 0#32
  let c1_i32_100 : BitVec 32 := 1#32
  let arg16 : BitVec 32 := Scf.iv c0_i32_99 c1_i32_100 k0_t2
  let c64_i32 : BitVec 32 := 64#32
  let v349 : BitVec 32 := Scalar.muli arg16 c64_i32
  let c0_i32_316 : BitVec 32 := 0#32
  let v350 : BitVec 32 := Scalar.addi v349 c0_i32_316
  let v351 : BitVec 32 := v350
  let c0_i32_321 : BitVec 32 := 0#32
  let v361 : BitVec 32 := Scalar.addi v351 c0_i32_321
  v361
def k0_off12 (k0_t2 : Fin k0_t2_loop.trips) (c0_i32_316 : BitVec 32) : Fin 3 → Nat :=
  let c3_322 : Index := 3#32
  let c0_i32_99 : BitVec 32 := 0#32
  let c1_i32_100 : BitVec 32 := 1#32
  let arg16 : BitVec 32 := Scf.iv c0_i32_99 c1_i32_100 k0_t2
  let c64_i32 : BitVec 32 := 64#32
  let v349 : BitVec 32 := Scalar.muli arg16 c64_i32
  let v350 : BitVec 32 := Scalar.addi v349 c0_i32_316
  let v351 : BitVec 32 := v350
  let c0_i32_321 : BitVec 32 := 0#32
  let v361 : BitVec 32 := Scalar.addi v351 c0_i32_321
  let v362 : BitVec 32 := v361
  let v363 : Index := Scalar.indexCast v362
  let c0_323 : Index := 0#32
  ![3, v363.toNat, 0]
def k0_mult67 (k0_t2 : Fin k0_t2_loop.trips) : BitVec 32 :=
  let c0_i32_99 : BitVec 32 := 0#32
  let c1_i32_100 : BitVec 32 := 1#32
  let arg16 : BitVec 32 := Scf.iv c0_i32_99 c1_i32_100 k0_t2
  let c64_i32_324 : BitVec 32 := 64#32
  let v368 : BitVec 32 := Scalar.muli arg16 c64_i32_324
  let c8_i32_325 : BitVec 32 := 8#32
  let v369 : BitVec 32 := Scalar.addi v368 c8_i32_325
  v369
def k0_mult68 (k0_t2 : Fin k0_t2_loop.trips) : BitVec 32 :=
  let c0_i32_99 : BitVec 32 := 0#32
  let c1_i32_100 : BitVec 32 := 1#32
  let arg16 : BitVec 32 := Scf.iv c0_i32_99 c1_i32_100 k0_t2
  let c64_i32_324 : BitVec 32 := 64#32
  let v368 : BitVec 32 := Scalar.muli arg16 c64_i32_324
  let c8_i32_325 : BitVec 32 := 8#32
  let v369 : BitVec 32 := Scalar.addi v368 c8_i32_325
  let v370 : BitVec 32 := v369
  let c0_i32_327 : BitVec 32 := 0#32
  let v373 : BitVec 32 := Scalar.addi v370 c0_i32_327
  v373
def k0_mult69 (k0_t2 : Fin k0_t2_loop.trips) : BitVec 32 :=
  let c0_i32_99 : BitVec 32 := 0#32
  let c1_i32_100 : BitVec 32 := 1#32
  let arg16 : BitVec 32 := Scf.iv c0_i32_99 c1_i32_100 k0_t2
  let c64_i32_324 : BitVec 32 := 64#32
  let v368 : BitVec 32 := Scalar.muli arg16 c64_i32_324
  let c8_i32_325 : BitVec 32 := 8#32
  let v369 : BitVec 32 := Scalar.addi v368 c8_i32_325
  let v370 : BitVec 32 := v369
  let c0_i32_330 : BitVec 32 := 0#32
  let v380 : BitVec 32 := Scalar.addi v370 c0_i32_330
  v380
def k0_mult70 (k0_t2 : Fin k0_t2_loop.trips) : BitVec 32 :=
  let c0_i32_99 : BitVec 32 := 0#32
  let c1_i32_100 : BitVec 32 := 1#32
  let arg16 : BitVec 32 := Scf.iv c0_i32_99 c1_i32_100 k0_t2
  let c64_i32_333 : BitVec 32 := 64#32
  let v387 : BitVec 32 := Scalar.muli arg16 c64_i32_333
  let c16_i32 : BitVec 32 := 16#32
  let v388 : BitVec 32 := Scalar.addi v387 c16_i32
  v388
def k0_mult71 (k0_t2 : Fin k0_t2_loop.trips) : BitVec 32 :=
  let c0_i32_99 : BitVec 32 := 0#32
  let c1_i32_100 : BitVec 32 := 1#32
  let arg16 : BitVec 32 := Scf.iv c0_i32_99 c1_i32_100 k0_t2
  let c64_i32_333 : BitVec 32 := 64#32
  let v387 : BitVec 32 := Scalar.muli arg16 c64_i32_333
  let c16_i32 : BitVec 32 := 16#32
  let v388 : BitVec 32 := Scalar.addi v387 c16_i32
  let v389 : BitVec 32 := v388
  let c0_i32_335 : BitVec 32 := 0#32
  let v392 : BitVec 32 := Scalar.addi v389 c0_i32_335
  v392
def k0_mult72 (k0_t2 : Fin k0_t2_loop.trips) : BitVec 32 :=
  let c0_i32_99 : BitVec 32 := 0#32
  let c1_i32_100 : BitVec 32 := 1#32
  let arg16 : BitVec 32 := Scf.iv c0_i32_99 c1_i32_100 k0_t2
  let c64_i32_333 : BitVec 32 := 64#32
  let v387 : BitVec 32 := Scalar.muli arg16 c64_i32_333
  let c16_i32 : BitVec 32 := 16#32
  let v388 : BitVec 32 := Scalar.addi v387 c16_i32
  let v389 : BitVec 32 := v388
  let c0_i32_338 : BitVec 32 := 0#32
  let v399 : BitVec 32 := Scalar.addi v389 c0_i32_338
  v399
def k0_mult73 (k0_t2 : Fin k0_t2_loop.trips) : BitVec 32 :=
  let c0_i32_99 : BitVec 32 := 0#32
  let c1_i32_100 : BitVec 32 := 1#32
  let arg16 : BitVec 32 := Scf.iv c0_i32_99 c1_i32_100 k0_t2
  let c64_i32_341 : BitVec 32 := 64#32
  let v406 : BitVec 32 := Scalar.muli arg16 c64_i32_341
  let c24_i32 : BitVec 32 := 24#32
  let v407 : BitVec 32 := Scalar.addi v406 c24_i32
  v407
def k0_mult74 (k0_t2 : Fin k0_t2_loop.trips) : BitVec 32 :=
  let c0_i32_99 : BitVec 32 := 0#32
  let c1_i32_100 : BitVec 32 := 1#32
  let arg16 : BitVec 32 := Scf.iv c0_i32_99 c1_i32_100 k0_t2
  let c64_i32_341 : BitVec 32 := 64#32
  let v406 : BitVec 32 := Scalar.muli arg16 c64_i32_341
  let c24_i32 : BitVec 32 := 24#32
  let v407 : BitVec 32 := Scalar.addi v406 c24_i32
  let v408 : BitVec 32 := v407
  let c0_i32_343 : BitVec 32 := 0#32
  let v411 : BitVec 32 := Scalar.addi v408 c0_i32_343
  v411
def k0_mult75 (k0_t2 : Fin k0_t2_loop.trips) : BitVec 32 :=
  let c0_i32_99 : BitVec 32 := 0#32
  let c1_i32_100 : BitVec 32 := 1#32
  let arg16 : BitVec 32 := Scf.iv c0_i32_99 c1_i32_100 k0_t2
  let c64_i32_341 : BitVec 32 := 64#32
  let v406 : BitVec 32 := Scalar.muli arg16 c64_i32_341
  let c24_i32 : BitVec 32 := 24#32
  let v407 : BitVec 32 := Scalar.addi v406 c24_i32
  let v408 : BitVec 32 := v407
  let c0_i32_346 : BitVec 32 := 0#32
  let v418 : BitVec 32 := Scalar.addi v408 c0_i32_346
  v418
def k0_mult76 (k0_t2 : Fin k0_t2_loop.trips) : BitVec 32 :=
  let c0_i32_99 : BitVec 32 := 0#32
  let c1_i32_100 : BitVec 32 := 1#32
  let arg16 : BitVec 32 := Scf.iv c0_i32_99 c1_i32_100 k0_t2
  let c64_i32_349 : BitVec 32 := 64#32
  let v425 : BitVec 32 := Scalar.muli arg16 c64_i32_349
  let c32_i32_350 : BitVec 32 := 32#32
  let v426 : BitVec 32 := Scalar.addi v425 c32_i32_350
  v426
def k0_mult77 (k0_t2 : Fin k0_t2_loop.trips) : BitVec 32 :=
  let c0_i32_99 : BitVec 32 := 0#32
  let c1_i32_100 : BitVec 32 := 1#32
  let arg16 : BitVec 32 := Scf.iv c0_i32_99 c1_i32_100 k0_t2
  let c64_i32_349 : BitVec 32 := 64#32
  let v425 : BitVec 32 := Scalar.muli arg16 c64_i32_349
  let c32_i32_350 : BitVec 32 := 32#32
  let v426 : BitVec 32 := Scalar.addi v425 c32_i32_350
  let v427 : BitVec 32 := v426
  let c0_i32_352 : BitVec 32 := 0#32
  let v430 : BitVec 32 := Scalar.addi v427 c0_i32_352
  v430
def k0_mult78 (k0_t2 : Fin k0_t2_loop.trips) : BitVec 32 :=
  let c0_i32_99 : BitVec 32 := 0#32
  let c1_i32_100 : BitVec 32 := 1#32
  let arg16 : BitVec 32 := Scf.iv c0_i32_99 c1_i32_100 k0_t2
  let c64_i32_349 : BitVec 32 := 64#32
  let v425 : BitVec 32 := Scalar.muli arg16 c64_i32_349
  let c32_i32_350 : BitVec 32 := 32#32
  let v426 : BitVec 32 := Scalar.addi v425 c32_i32_350
  let v427 : BitVec 32 := v426
  let c0_i32_355 : BitVec 32 := 0#32
  let v437 : BitVec 32 := Scalar.addi v427 c0_i32_355
  v437
def k0_mult79 (k0_t2 : Fin k0_t2_loop.trips) : BitVec 32 :=
  let c0_i32_99 : BitVec 32 := 0#32
  let c1_i32_100 : BitVec 32 := 1#32
  let arg16 : BitVec 32 := Scf.iv c0_i32_99 c1_i32_100 k0_t2
  let c64_i32_358 : BitVec 32 := 64#32
  let v444 : BitVec 32 := Scalar.muli arg16 c64_i32_358
  let c40_i32 : BitVec 32 := 40#32
  let v445 : BitVec 32 := Scalar.addi v444 c40_i32
  v445
def k0_mult80 (k0_t2 : Fin k0_t2_loop.trips) : BitVec 32 :=
  let c0_i32_99 : BitVec 32 := 0#32
  let c1_i32_100 : BitVec 32 := 1#32
  let arg16 : BitVec 32 := Scf.iv c0_i32_99 c1_i32_100 k0_t2
  let c64_i32_358 : BitVec 32 := 64#32
  let v444 : BitVec 32 := Scalar.muli arg16 c64_i32_358
  let c40_i32 : BitVec 32 := 40#32
  let v445 : BitVec 32 := Scalar.addi v444 c40_i32
  let v446 : BitVec 32 := v445
  let c0_i32_360 : BitVec 32 := 0#32
  let v449 : BitVec 32 := Scalar.addi v446 c0_i32_360
  v449
def k0_mult81 (k0_t2 : Fin k0_t2_loop.trips) : BitVec 32 :=
  let c0_i32_99 : BitVec 32 := 0#32
  let c1_i32_100 : BitVec 32 := 1#32
  let arg16 : BitVec 32 := Scf.iv c0_i32_99 c1_i32_100 k0_t2
  let c64_i32_358 : BitVec 32 := 64#32
  let v444 : BitVec 32 := Scalar.muli arg16 c64_i32_358
  let c40_i32 : BitVec 32 := 40#32
  let v445 : BitVec 32 := Scalar.addi v444 c40_i32
  let v446 : BitVec 32 := v445
  let c0_i32_363 : BitVec 32 := 0#32
  let v456 : BitVec 32 := Scalar.addi v446 c0_i32_363
  v456
def k0_mult82 (k0_t2 : Fin k0_t2_loop.trips) : BitVec 32 :=
  let c0_i32_99 : BitVec 32 := 0#32
  let c1_i32_100 : BitVec 32 := 1#32
  let arg16 : BitVec 32 := Scf.iv c0_i32_99 c1_i32_100 k0_t2
  let c64_i32_366 : BitVec 32 := 64#32
  let v463 : BitVec 32 := Scalar.muli arg16 c64_i32_366
  let c48_i32 : BitVec 32 := 48#32
  let v464 : BitVec 32 := Scalar.addi v463 c48_i32
  v464
def k0_mult83 (k0_t2 : Fin k0_t2_loop.trips) : BitVec 32 :=
  let c0_i32_99 : BitVec 32 := 0#32
  let c1_i32_100 : BitVec 32 := 1#32
  let arg16 : BitVec 32 := Scf.iv c0_i32_99 c1_i32_100 k0_t2
  let c64_i32_366 : BitVec 32 := 64#32
  let v463 : BitVec 32 := Scalar.muli arg16 c64_i32_366
  let c48_i32 : BitVec 32 := 48#32
  let v464 : BitVec 32 := Scalar.addi v463 c48_i32
  let v465 : BitVec 32 := v464
  let c0_i32_368 : BitVec 32 := 0#32
  let v468 : BitVec 32 := Scalar.addi v465 c0_i32_368
  v468
def k0_mult84 (k0_t2 : Fin k0_t2_loop.trips) : BitVec 32 :=
  let c0_i32_99 : BitVec 32 := 0#32
  let c1_i32_100 : BitVec 32 := 1#32
  let arg16 : BitVec 32 := Scf.iv c0_i32_99 c1_i32_100 k0_t2
  let c64_i32_366 : BitVec 32 := 64#32
  let v463 : BitVec 32 := Scalar.muli arg16 c64_i32_366
  let c48_i32 : BitVec 32 := 48#32
  let v464 : BitVec 32 := Scalar.addi v463 c48_i32
  let v465 : BitVec 32 := v464
  let c0_i32_371 : BitVec 32 := 0#32
  let v475 : BitVec 32 := Scalar.addi v465 c0_i32_371
  v475
def k0_mult85 (k0_t2 : Fin k0_t2_loop.trips) : BitVec 32 :=
  let c0_i32_99 : BitVec 32 := 0#32
  let c1_i32_100 : BitVec 32 := 1#32
  let arg16 : BitVec 32 := Scf.iv c0_i32_99 c1_i32_100 k0_t2
  let c64_i32_374 : BitVec 32 := 64#32
  let v482 : BitVec 32 := Scalar.muli arg16 c64_i32_374
  let c56_i32 : BitVec 32 := 56#32
  let v483 : BitVec 32 := Scalar.addi v482 c56_i32
  v483
def k0_mult86 (k0_t2 : Fin k0_t2_loop.trips) : BitVec 32 :=
  let c0_i32_99 : BitVec 32 := 0#32
  let c1_i32_100 : BitVec 32 := 1#32
  let arg16 : BitVec 32 := Scf.iv c0_i32_99 c1_i32_100 k0_t2
  let c64_i32_374 : BitVec 32 := 64#32
  let v482 : BitVec 32 := Scalar.muli arg16 c64_i32_374
  let c56_i32 : BitVec 32 := 56#32
  let v483 : BitVec 32 := Scalar.addi v482 c56_i32
  let v484 : BitVec 32 := v483
  let c0_i32_376 : BitVec 32 := 0#32
  let v487 : BitVec 32 := Scalar.addi v484 c0_i32_376
  v487
def k0_mult87 (k0_t2 : Fin k0_t2_loop.trips) : BitVec 32 :=
  let c0_i32_99 : BitVec 32 := 0#32
  let c1_i32_100 : BitVec 32 := 1#32
  let arg16 : BitVec 32 := Scf.iv c0_i32_99 c1_i32_100 k0_t2
  let c64_i32_374 : BitVec 32 := 64#32
  let v482 : BitVec 32 := Scalar.muli arg16 c64_i32_374
  let c56_i32 : BitVec 32 := 56#32
  let v483 : BitVec 32 := Scalar.addi v482 c56_i32
  let v484 : BitVec 32 := v483
  let c0_i32_379 : BitVec 32 := 0#32
  let v494 : BitVec 32 := Scalar.addi v484 c0_i32_379
  v494
@[reducible] def k0_t3_loop : Scf.Loop 32 :=
  let c0_i32_113 : BitVec 32 := 0#32
  let c8_i32_114 : BitVec 32 := 8#32
  let v124 : BitVec 32 := Scalar.addi c0_i32_113 c8_i32_114
  let c1_i32_115 : BitVec 32 := 1#32
  ⟨c0_i32_113, v124, c1_i32_115⟩
def k0_mult88 (k0_t3 : Fin k0_t3_loop.trips) : BitVec 32 :=
  let c0_i32_113 : BitVec 32 := 0#32
  let c1_i32_115 : BitVec 32 := 1#32
  let arg16 : BitVec 32 := Scf.iv c0_i32_113 c1_i32_115 k0_t3
  let c64_i32 : BitVec 32 := 64#32
  let v349 : BitVec 32 := Scalar.muli arg16 c64_i32
  let c0_i32_316 : BitVec 32 := 0#32
  let v350 : BitVec 32 := Scalar.addi v349 c0_i32_316
  v350
def k0_off13 (k0_t3 : Fin k0_t3_loop.trips) (c0_i32_316 : BitVec 32) : Fin 2 → Nat :=
  let c0_i32_113 : BitVec 32 := 0#32
  let c1_i32_115 : BitVec 32 := 1#32
  let arg16 : BitVec 32 := Scf.iv c0_i32_113 c1_i32_115 k0_t3
  let c64_i32 : BitVec 32 := 64#32
  let v349 : BitVec 32 := Scalar.muli arg16 c64_i32
  let v350 : BitVec 32 := Scalar.addi v349 c0_i32_316
  let v351 : BitVec 32 := v350
  let v352 : Index := Scalar.indexCast v351
  let c0_317 : Index := 0#32
  ![v352.toNat, 0]
def k0_mult89 (k0_t3 : Fin k0_t3_loop.trips) : BitVec 32 :=
  let c0_i32_113 : BitVec 32 := 0#32
  let c1_i32_115 : BitVec 32 := 1#32
  let arg16 : BitVec 32 := Scf.iv c0_i32_113 c1_i32_115 k0_t3
  let c64_i32 : BitVec 32 := 64#32
  let v349 : BitVec 32 := Scalar.muli arg16 c64_i32
  let c0_i32_316 : BitVec 32 := 0#32
  let v350 : BitVec 32 := Scalar.addi v349 c0_i32_316
  let v351 : BitVec 32 := v350
  let c0_i32_318 : BitVec 32 := 0#32
  let v354 : BitVec 32 := Scalar.addi v351 c0_i32_318
  v354
def k0_off14 (k0_t3 : Fin k0_t3_loop.trips) (c0_i32_316 : BitVec 32) : Fin 3 → Nat :=
  let c4_319 : Index := 4#32
  let c0_i32_113 : BitVec 32 := 0#32
  let c1_i32_115 : BitVec 32 := 1#32
  let arg16 : BitVec 32 := Scf.iv c0_i32_113 c1_i32_115 k0_t3
  let c64_i32 : BitVec 32 := 64#32
  let v349 : BitVec 32 := Scalar.muli arg16 c64_i32
  let v350 : BitVec 32 := Scalar.addi v349 c0_i32_316
  let v351 : BitVec 32 := v350
  let c0_i32_318 : BitVec 32 := 0#32
  let v354 : BitVec 32 := Scalar.addi v351 c0_i32_318
  let v355 : BitVec 32 := v354
  let v356 : Index := Scalar.indexCast v355
  let c0_320 : Index := 0#32
  ![4, v356.toNat, 0]
def k0_mult90 (k0_t3 : Fin k0_t3_loop.trips) : BitVec 32 :=
  let c0_i32_113 : BitVec 32 := 0#32
  let c1_i32_115 : BitVec 32 := 1#32
  let arg16 : BitVec 32 := Scf.iv c0_i32_113 c1_i32_115 k0_t3
  let c64_i32 : BitVec 32 := 64#32
  let v349 : BitVec 32 := Scalar.muli arg16 c64_i32
  let c0_i32_316 : BitVec 32 := 0#32
  let v350 : BitVec 32 := Scalar.addi v349 c0_i32_316
  let v351 : BitVec 32 := v350
  let c0_i32_321 : BitVec 32 := 0#32
  let v361 : BitVec 32 := Scalar.addi v351 c0_i32_321
  v361
def k0_off15 (k0_t3 : Fin k0_t3_loop.trips) (c0_i32_316 : BitVec 32) : Fin 3 → Nat :=
  let c5_322 : Index := 5#32
  let c0_i32_113 : BitVec 32 := 0#32
  let c1_i32_115 : BitVec 32 := 1#32
  let arg16 : BitVec 32 := Scf.iv c0_i32_113 c1_i32_115 k0_t3
  let c64_i32 : BitVec 32 := 64#32
  let v349 : BitVec 32 := Scalar.muli arg16 c64_i32
  let v350 : BitVec 32 := Scalar.addi v349 c0_i32_316
  let v351 : BitVec 32 := v350
  let c0_i32_321 : BitVec 32 := 0#32
  let v361 : BitVec 32 := Scalar.addi v351 c0_i32_321
  let v362 : BitVec 32 := v361
  let v363 : Index := Scalar.indexCast v362
  let c0_323 : Index := 0#32
  ![5, v363.toNat, 0]
def k0_mult91 (k0_t3 : Fin k0_t3_loop.trips) : BitVec 32 :=
  let c0_i32_113 : BitVec 32 := 0#32
  let c1_i32_115 : BitVec 32 := 1#32
  let arg16 : BitVec 32 := Scf.iv c0_i32_113 c1_i32_115 k0_t3
  let c64_i32_324 : BitVec 32 := 64#32
  let v368 : BitVec 32 := Scalar.muli arg16 c64_i32_324
  let c8_i32_325 : BitVec 32 := 8#32
  let v369 : BitVec 32 := Scalar.addi v368 c8_i32_325
  v369
def k0_mult92 (k0_t3 : Fin k0_t3_loop.trips) : BitVec 32 :=
  let c0_i32_113 : BitVec 32 := 0#32
  let c1_i32_115 : BitVec 32 := 1#32
  let arg16 : BitVec 32 := Scf.iv c0_i32_113 c1_i32_115 k0_t3
  let c64_i32_324 : BitVec 32 := 64#32
  let v368 : BitVec 32 := Scalar.muli arg16 c64_i32_324
  let c8_i32_325 : BitVec 32 := 8#32
  let v369 : BitVec 32 := Scalar.addi v368 c8_i32_325
  let v370 : BitVec 32 := v369
  let c0_i32_327 : BitVec 32 := 0#32
  let v373 : BitVec 32 := Scalar.addi v370 c0_i32_327
  v373
def k0_mult93 (k0_t3 : Fin k0_t3_loop.trips) : BitVec 32 :=
  let c0_i32_113 : BitVec 32 := 0#32
  let c1_i32_115 : BitVec 32 := 1#32
  let arg16 : BitVec 32 := Scf.iv c0_i32_113 c1_i32_115 k0_t3
  let c64_i32_324 : BitVec 32 := 64#32
  let v368 : BitVec 32 := Scalar.muli arg16 c64_i32_324
  let c8_i32_325 : BitVec 32 := 8#32
  let v369 : BitVec 32 := Scalar.addi v368 c8_i32_325
  let v370 : BitVec 32 := v369
  let c0_i32_330 : BitVec 32 := 0#32
  let v380 : BitVec 32 := Scalar.addi v370 c0_i32_330
  v380
def k0_mult94 (k0_t3 : Fin k0_t3_loop.trips) : BitVec 32 :=
  let c0_i32_113 : BitVec 32 := 0#32
  let c1_i32_115 : BitVec 32 := 1#32
  let arg16 : BitVec 32 := Scf.iv c0_i32_113 c1_i32_115 k0_t3
  let c64_i32_333 : BitVec 32 := 64#32
  let v387 : BitVec 32 := Scalar.muli arg16 c64_i32_333
  let c16_i32 : BitVec 32 := 16#32
  let v388 : BitVec 32 := Scalar.addi v387 c16_i32
  v388
def k0_mult95 (k0_t3 : Fin k0_t3_loop.trips) : BitVec 32 :=
  let c0_i32_113 : BitVec 32 := 0#32
  let c1_i32_115 : BitVec 32 := 1#32
  let arg16 : BitVec 32 := Scf.iv c0_i32_113 c1_i32_115 k0_t3
  let c64_i32_333 : BitVec 32 := 64#32
  let v387 : BitVec 32 := Scalar.muli arg16 c64_i32_333
  let c16_i32 : BitVec 32 := 16#32
  let v388 : BitVec 32 := Scalar.addi v387 c16_i32
  let v389 : BitVec 32 := v388
  let c0_i32_335 : BitVec 32 := 0#32
  let v392 : BitVec 32 := Scalar.addi v389 c0_i32_335
  v392
def k0_mult96 (k0_t3 : Fin k0_t3_loop.trips) : BitVec 32 :=
  let c0_i32_113 : BitVec 32 := 0#32
  let c1_i32_115 : BitVec 32 := 1#32
  let arg16 : BitVec 32 := Scf.iv c0_i32_113 c1_i32_115 k0_t3
  let c64_i32_333 : BitVec 32 := 64#32
  let v387 : BitVec 32 := Scalar.muli arg16 c64_i32_333
  let c16_i32 : BitVec 32 := 16#32
  let v388 : BitVec 32 := Scalar.addi v387 c16_i32
  let v389 : BitVec 32 := v388
  let c0_i32_338 : BitVec 32 := 0#32
  let v399 : BitVec 32 := Scalar.addi v389 c0_i32_338
  v399
def k0_mult97 (k0_t3 : Fin k0_t3_loop.trips) : BitVec 32 :=
  let c0_i32_113 : BitVec 32 := 0#32
  let c1_i32_115 : BitVec 32 := 1#32
  let arg16 : BitVec 32 := Scf.iv c0_i32_113 c1_i32_115 k0_t3
  let c64_i32_341 : BitVec 32 := 64#32
  let v406 : BitVec 32 := Scalar.muli arg16 c64_i32_341
  let c24_i32 : BitVec 32 := 24#32
  let v407 : BitVec 32 := Scalar.addi v406 c24_i32
  v407
def k0_mult98 (k0_t3 : Fin k0_t3_loop.trips) : BitVec 32 :=
  let c0_i32_113 : BitVec 32 := 0#32
  let c1_i32_115 : BitVec 32 := 1#32
  let arg16 : BitVec 32 := Scf.iv c0_i32_113 c1_i32_115 k0_t3
  let c64_i32_341 : BitVec 32 := 64#32
  let v406 : BitVec 32 := Scalar.muli arg16 c64_i32_341
  let c24_i32 : BitVec 32 := 24#32
  let v407 : BitVec 32 := Scalar.addi v406 c24_i32
  let v408 : BitVec 32 := v407
  let c0_i32_343 : BitVec 32 := 0#32
  let v411 : BitVec 32 := Scalar.addi v408 c0_i32_343
  v411
def k0_mult99 (k0_t3 : Fin k0_t3_loop.trips) : BitVec 32 :=
  let c0_i32_113 : BitVec 32 := 0#32
  let c1_i32_115 : BitVec 32 := 1#32
  let arg16 : BitVec 32 := Scf.iv c0_i32_113 c1_i32_115 k0_t3
  let c64_i32_341 : BitVec 32 := 64#32
  let v406 : BitVec 32 := Scalar.muli arg16 c64_i32_341
  let c24_i32 : BitVec 32 := 24#32
  let v407 : BitVec 32 := Scalar.addi v406 c24_i32
  let v408 : BitVec 32 := v407
  let c0_i32_346 : BitVec 32 := 0#32
  let v418 : BitVec 32 := Scalar.addi v408 c0_i32_346
  v418
def k0_mult100 (k0_t3 : Fin k0_t3_loop.trips) : BitVec 32 :=
  let c0_i32_113 : BitVec 32 := 0#32
  let c1_i32_115 : BitVec 32 := 1#32
  let arg16 : BitVec 32 := Scf.iv c0_i32_113 c1_i32_115 k0_t3
  let c64_i32_349 : BitVec 32 := 64#32
  let v425 : BitVec 32 := Scalar.muli arg16 c64_i32_349
  let c32_i32_350 : BitVec 32 := 32#32
  let v426 : BitVec 32 := Scalar.addi v425 c32_i32_350
  v426
def k0_mult101 (k0_t3 : Fin k0_t3_loop.trips) : BitVec 32 :=
  let c0_i32_113 : BitVec 32 := 0#32
  let c1_i32_115 : BitVec 32 := 1#32
  let arg16 : BitVec 32 := Scf.iv c0_i32_113 c1_i32_115 k0_t3
  let c64_i32_349 : BitVec 32 := 64#32
  let v425 : BitVec 32 := Scalar.muli arg16 c64_i32_349
  let c32_i32_350 : BitVec 32 := 32#32
  let v426 : BitVec 32 := Scalar.addi v425 c32_i32_350
  let v427 : BitVec 32 := v426
  let c0_i32_352 : BitVec 32 := 0#32
  let v430 : BitVec 32 := Scalar.addi v427 c0_i32_352
  v430
def k0_mult102 (k0_t3 : Fin k0_t3_loop.trips) : BitVec 32 :=
  let c0_i32_113 : BitVec 32 := 0#32
  let c1_i32_115 : BitVec 32 := 1#32
  let arg16 : BitVec 32 := Scf.iv c0_i32_113 c1_i32_115 k0_t3
  let c64_i32_349 : BitVec 32 := 64#32
  let v425 : BitVec 32 := Scalar.muli arg16 c64_i32_349
  let c32_i32_350 : BitVec 32 := 32#32
  let v426 : BitVec 32 := Scalar.addi v425 c32_i32_350
  let v427 : BitVec 32 := v426
  let c0_i32_355 : BitVec 32 := 0#32
  let v437 : BitVec 32 := Scalar.addi v427 c0_i32_355
  v437
def k0_mult103 (k0_t3 : Fin k0_t3_loop.trips) : BitVec 32 :=
  let c0_i32_113 : BitVec 32 := 0#32
  let c1_i32_115 : BitVec 32 := 1#32
  let arg16 : BitVec 32 := Scf.iv c0_i32_113 c1_i32_115 k0_t3
  let c64_i32_358 : BitVec 32 := 64#32
  let v444 : BitVec 32 := Scalar.muli arg16 c64_i32_358
  let c40_i32 : BitVec 32 := 40#32
  let v445 : BitVec 32 := Scalar.addi v444 c40_i32
  v445
def k0_mult104 (k0_t3 : Fin k0_t3_loop.trips) : BitVec 32 :=
  let c0_i32_113 : BitVec 32 := 0#32
  let c1_i32_115 : BitVec 32 := 1#32
  let arg16 : BitVec 32 := Scf.iv c0_i32_113 c1_i32_115 k0_t3
  let c64_i32_358 : BitVec 32 := 64#32
  let v444 : BitVec 32 := Scalar.muli arg16 c64_i32_358
  let c40_i32 : BitVec 32 := 40#32
  let v445 : BitVec 32 := Scalar.addi v444 c40_i32
  let v446 : BitVec 32 := v445
  let c0_i32_360 : BitVec 32 := 0#32
  let v449 : BitVec 32 := Scalar.addi v446 c0_i32_360
  v449
def k0_mult105 (k0_t3 : Fin k0_t3_loop.trips) : BitVec 32 :=
  let c0_i32_113 : BitVec 32 := 0#32
  let c1_i32_115 : BitVec 32 := 1#32
  let arg16 : BitVec 32 := Scf.iv c0_i32_113 c1_i32_115 k0_t3
  let c64_i32_358 : BitVec 32 := 64#32
  let v444 : BitVec 32 := Scalar.muli arg16 c64_i32_358
  let c40_i32 : BitVec 32 := 40#32
  let v445 : BitVec 32 := Scalar.addi v444 c40_i32
  let v446 : BitVec 32 := v445
  let c0_i32_363 : BitVec 32 := 0#32
  let v456 : BitVec 32 := Scalar.addi v446 c0_i32_363
  v456
def k0_mult106 (k0_t3 : Fin k0_t3_loop.trips) : BitVec 32 :=
  let c0_i32_113 : BitVec 32 := 0#32
  let c1_i32_115 : BitVec 32 := 1#32
  let arg16 : BitVec 32 := Scf.iv c0_i32_113 c1_i32_115 k0_t3
  let c64_i32_366 : BitVec 32 := 64#32
  let v463 : BitVec 32 := Scalar.muli arg16 c64_i32_366
  let c48_i32 : BitVec 32 := 48#32
  let v464 : BitVec 32 := Scalar.addi v463 c48_i32
  v464
def k0_mult107 (k0_t3 : Fin k0_t3_loop.trips) : BitVec 32 :=
  let c0_i32_113 : BitVec 32 := 0#32
  let c1_i32_115 : BitVec 32 := 1#32
  let arg16 : BitVec 32 := Scf.iv c0_i32_113 c1_i32_115 k0_t3
  let c64_i32_366 : BitVec 32 := 64#32
  let v463 : BitVec 32 := Scalar.muli arg16 c64_i32_366
  let c48_i32 : BitVec 32 := 48#32
  let v464 : BitVec 32 := Scalar.addi v463 c48_i32
  let v465 : BitVec 32 := v464
  let c0_i32_368 : BitVec 32 := 0#32
  let v468 : BitVec 32 := Scalar.addi v465 c0_i32_368
  v468
def k0_mult108 (k0_t3 : Fin k0_t3_loop.trips) : BitVec 32 :=
  let c0_i32_113 : BitVec 32 := 0#32
  let c1_i32_115 : BitVec 32 := 1#32
  let arg16 : BitVec 32 := Scf.iv c0_i32_113 c1_i32_115 k0_t3
  let c64_i32_366 : BitVec 32 := 64#32
  let v463 : BitVec 32 := Scalar.muli arg16 c64_i32_366
  let c48_i32 : BitVec 32 := 48#32
  let v464 : BitVec 32 := Scalar.addi v463 c48_i32
  let v465 : BitVec 32 := v464
  let c0_i32_371 : BitVec 32 := 0#32
  let v475 : BitVec 32 := Scalar.addi v465 c0_i32_371
  v475
def k0_mult109 (k0_t3 : Fin k0_t3_loop.trips) : BitVec 32 :=
  let c0_i32_113 : BitVec 32 := 0#32
  let c1_i32_115 : BitVec 32 := 1#32
  let arg16 : BitVec 32 := Scf.iv c0_i32_113 c1_i32_115 k0_t3
  let c64_i32_374 : BitVec 32 := 64#32
  let v482 : BitVec 32 := Scalar.muli arg16 c64_i32_374
  let c56_i32 : BitVec 32 := 56#32
  let v483 : BitVec 32 := Scalar.addi v482 c56_i32
  v483
def k0_mult110 (k0_t3 : Fin k0_t3_loop.trips) : BitVec 32 :=
  let c0_i32_113 : BitVec 32 := 0#32
  let c1_i32_115 : BitVec 32 := 1#32
  let arg16 : BitVec 32 := Scf.iv c0_i32_113 c1_i32_115 k0_t3
  let c64_i32_374 : BitVec 32 := 64#32
  let v482 : BitVec 32 := Scalar.muli arg16 c64_i32_374
  let c56_i32 : BitVec 32 := 56#32
  let v483 : BitVec 32 := Scalar.addi v482 c56_i32
  let v484 : BitVec 32 := v483
  let c0_i32_376 : BitVec 32 := 0#32
  let v487 : BitVec 32 := Scalar.addi v484 c0_i32_376
  v487
def k0_mult111 (k0_t3 : Fin k0_t3_loop.trips) : BitVec 32 :=
  let c0_i32_113 : BitVec 32 := 0#32
  let c1_i32_115 : BitVec 32 := 1#32
  let arg16 : BitVec 32 := Scf.iv c0_i32_113 c1_i32_115 k0_t3
  let c64_i32_374 : BitVec 32 := 64#32
  let v482 : BitVec 32 := Scalar.muli arg16 c64_i32_374
  let c56_i32 : BitVec 32 := 56#32
  let v483 : BitVec 32 := Scalar.addi v482 c56_i32
  let v484 : BitVec 32 := v483
  let c0_i32_379 : BitVec 32 := 0#32
  let v494 : BitVec 32 := Scalar.addi v484 c0_i32_379
  v494
@[reducible] def k0_t4_loop : Scf.Loop 32 :=
  let c0_i32_128 : BitVec 32 := 0#32
  let c8_i32_129 : BitVec 32 := 8#32
  let v139 : BitVec 32 := Scalar.addi c0_i32_128 c8_i32_129
  let c1_i32_130 : BitVec 32 := 1#32
  ⟨c0_i32_128, v139, c1_i32_130⟩
def k0_mult112 (k0_t4 : Fin k0_t4_loop.trips) : BitVec 32 :=
  let c0_i32_128 : BitVec 32 := 0#32
  let c1_i32_130 : BitVec 32 := 1#32
  let arg16 : BitVec 32 := Scf.iv c0_i32_128 c1_i32_130 k0_t4
  let c64_i32 : BitVec 32 := 64#32
  let v349 : BitVec 32 := Scalar.muli arg16 c64_i32
  let c0_i32_316 : BitVec 32 := 0#32
  let v350 : BitVec 32 := Scalar.addi v349 c0_i32_316
  v350
def k0_off16 (k0_t4 : Fin k0_t4_loop.trips) (c0_i32_316 : BitVec 32) : Fin 2 → Nat :=
  let c0_i32_128 : BitVec 32 := 0#32
  let c1_i32_130 : BitVec 32 := 1#32
  let arg16 : BitVec 32 := Scf.iv c0_i32_128 c1_i32_130 k0_t4
  let c64_i32 : BitVec 32 := 64#32
  let v349 : BitVec 32 := Scalar.muli arg16 c64_i32
  let v350 : BitVec 32 := Scalar.addi v349 c0_i32_316
  let v351 : BitVec 32 := v350
  let v352 : Index := Scalar.indexCast v351
  let c0_317 : Index := 0#32
  ![v352.toNat, 0]
def k0_mult113 (k0_t4 : Fin k0_t4_loop.trips) : BitVec 32 :=
  let c0_i32_128 : BitVec 32 := 0#32
  let c1_i32_130 : BitVec 32 := 1#32
  let arg16 : BitVec 32 := Scf.iv c0_i32_128 c1_i32_130 k0_t4
  let c64_i32 : BitVec 32 := 64#32
  let v349 : BitVec 32 := Scalar.muli arg16 c64_i32
  let c0_i32_316 : BitVec 32 := 0#32
  let v350 : BitVec 32 := Scalar.addi v349 c0_i32_316
  let v351 : BitVec 32 := v350
  let c0_i32_318 : BitVec 32 := 0#32
  let v354 : BitVec 32 := Scalar.addi v351 c0_i32_318
  v354
def k0_off17 (k0_t4 : Fin k0_t4_loop.trips) (c0_i32_316 : BitVec 32) : Fin 3 → Nat :=
  let c6_319 : Index := 6#32
  let c0_i32_128 : BitVec 32 := 0#32
  let c1_i32_130 : BitVec 32 := 1#32
  let arg16 : BitVec 32 := Scf.iv c0_i32_128 c1_i32_130 k0_t4
  let c64_i32 : BitVec 32 := 64#32
  let v349 : BitVec 32 := Scalar.muli arg16 c64_i32
  let v350 : BitVec 32 := Scalar.addi v349 c0_i32_316
  let v351 : BitVec 32 := v350
  let c0_i32_318 : BitVec 32 := 0#32
  let v354 : BitVec 32 := Scalar.addi v351 c0_i32_318
  let v355 : BitVec 32 := v354
  let v356 : Index := Scalar.indexCast v355
  let c0_320 : Index := 0#32
  ![6, v356.toNat, 0]
def k0_mult114 (k0_t4 : Fin k0_t4_loop.trips) : BitVec 32 :=
  let c0_i32_128 : BitVec 32 := 0#32
  let c1_i32_130 : BitVec 32 := 1#32
  let arg16 : BitVec 32 := Scf.iv c0_i32_128 c1_i32_130 k0_t4
  let c64_i32 : BitVec 32 := 64#32
  let v349 : BitVec 32 := Scalar.muli arg16 c64_i32
  let c0_i32_316 : BitVec 32 := 0#32
  let v350 : BitVec 32 := Scalar.addi v349 c0_i32_316
  let v351 : BitVec 32 := v350
  let c0_i32_321 : BitVec 32 := 0#32
  let v361 : BitVec 32 := Scalar.addi v351 c0_i32_321
  v361
def k0_off18 (k0_t4 : Fin k0_t4_loop.trips) (c0_i32_316 : BitVec 32) : Fin 3 → Nat :=
  let c7_322 : Index := 7#32
  let c0_i32_128 : BitVec 32 := 0#32
  let c1_i32_130 : BitVec 32 := 1#32
  let arg16 : BitVec 32 := Scf.iv c0_i32_128 c1_i32_130 k0_t4
  let c64_i32 : BitVec 32 := 64#32
  let v349 : BitVec 32 := Scalar.muli arg16 c64_i32
  let v350 : BitVec 32 := Scalar.addi v349 c0_i32_316
  let v351 : BitVec 32 := v350
  let c0_i32_321 : BitVec 32 := 0#32
  let v361 : BitVec 32 := Scalar.addi v351 c0_i32_321
  let v362 : BitVec 32 := v361
  let v363 : Index := Scalar.indexCast v362
  let c0_323 : Index := 0#32
  ![7, v363.toNat, 0]
def k0_mult115 (k0_t4 : Fin k0_t4_loop.trips) : BitVec 32 :=
  let c0_i32_128 : BitVec 32 := 0#32
  let c1_i32_130 : BitVec 32 := 1#32
  let arg16 : BitVec 32 := Scf.iv c0_i32_128 c1_i32_130 k0_t4
  let c64_i32_324 : BitVec 32 := 64#32
  let v368 : BitVec 32 := Scalar.muli arg16 c64_i32_324
  let c8_i32_325 : BitVec 32 := 8#32
  let v369 : BitVec 32 := Scalar.addi v368 c8_i32_325
  v369
def k0_mult116 (k0_t4 : Fin k0_t4_loop.trips) : BitVec 32 :=
  let c0_i32_128 : BitVec 32 := 0#32
  let c1_i32_130 : BitVec 32 := 1#32
  let arg16 : BitVec 32 := Scf.iv c0_i32_128 c1_i32_130 k0_t4
  let c64_i32_324 : BitVec 32 := 64#32
  let v368 : BitVec 32 := Scalar.muli arg16 c64_i32_324
  let c8_i32_325 : BitVec 32 := 8#32
  let v369 : BitVec 32 := Scalar.addi v368 c8_i32_325
  let v370 : BitVec 32 := v369
  let c0_i32_327 : BitVec 32 := 0#32
  let v373 : BitVec 32 := Scalar.addi v370 c0_i32_327
  v373
def k0_mult117 (k0_t4 : Fin k0_t4_loop.trips) : BitVec 32 :=
  let c0_i32_128 : BitVec 32 := 0#32
  let c1_i32_130 : BitVec 32 := 1#32
  let arg16 : BitVec 32 := Scf.iv c0_i32_128 c1_i32_130 k0_t4
  let c64_i32_324 : BitVec 32 := 64#32
  let v368 : BitVec 32 := Scalar.muli arg16 c64_i32_324
  let c8_i32_325 : BitVec 32 := 8#32
  let v369 : BitVec 32 := Scalar.addi v368 c8_i32_325
  let v370 : BitVec 32 := v369
  let c0_i32_330 : BitVec 32 := 0#32
  let v380 : BitVec 32 := Scalar.addi v370 c0_i32_330
  v380
def k0_mult118 (k0_t4 : Fin k0_t4_loop.trips) : BitVec 32 :=
  let c0_i32_128 : BitVec 32 := 0#32
  let c1_i32_130 : BitVec 32 := 1#32
  let arg16 : BitVec 32 := Scf.iv c0_i32_128 c1_i32_130 k0_t4
  let c64_i32_333 : BitVec 32 := 64#32
  let v387 : BitVec 32 := Scalar.muli arg16 c64_i32_333
  let c16_i32 : BitVec 32 := 16#32
  let v388 : BitVec 32 := Scalar.addi v387 c16_i32
  v388
def k0_mult119 (k0_t4 : Fin k0_t4_loop.trips) : BitVec 32 :=
  let c0_i32_128 : BitVec 32 := 0#32
  let c1_i32_130 : BitVec 32 := 1#32
  let arg16 : BitVec 32 := Scf.iv c0_i32_128 c1_i32_130 k0_t4
  let c64_i32_333 : BitVec 32 := 64#32
  let v387 : BitVec 32 := Scalar.muli arg16 c64_i32_333
  let c16_i32 : BitVec 32 := 16#32
  let v388 : BitVec 32 := Scalar.addi v387 c16_i32
  let v389 : BitVec 32 := v388
  let c0_i32_335 : BitVec 32 := 0#32
  let v392 : BitVec 32 := Scalar.addi v389 c0_i32_335
  v392
def k0_mult120 (k0_t4 : Fin k0_t4_loop.trips) : BitVec 32 :=
  let c0_i32_128 : BitVec 32 := 0#32
  let c1_i32_130 : BitVec 32 := 1#32
  let arg16 : BitVec 32 := Scf.iv c0_i32_128 c1_i32_130 k0_t4
  let c64_i32_333 : BitVec 32 := 64#32
  let v387 : BitVec 32 := Scalar.muli arg16 c64_i32_333
  let c16_i32 : BitVec 32 := 16#32
  let v388 : BitVec 32 := Scalar.addi v387 c16_i32
  let v389 : BitVec 32 := v388
  let c0_i32_338 : BitVec 32 := 0#32
  let v399 : BitVec 32 := Scalar.addi v389 c0_i32_338
  v399
def k0_mult121 (k0_t4 : Fin k0_t4_loop.trips) : BitVec 32 :=
  let c0_i32_128 : BitVec 32 := 0#32
  let c1_i32_130 : BitVec 32 := 1#32
  let arg16 : BitVec 32 := Scf.iv c0_i32_128 c1_i32_130 k0_t4
  let c64_i32_341 : BitVec 32 := 64#32
  let v406 : BitVec 32 := Scalar.muli arg16 c64_i32_341
  let c24_i32 : BitVec 32 := 24#32
  let v407 : BitVec 32 := Scalar.addi v406 c24_i32
  v407
def k0_mult122 (k0_t4 : Fin k0_t4_loop.trips) : BitVec 32 :=
  let c0_i32_128 : BitVec 32 := 0#32
  let c1_i32_130 : BitVec 32 := 1#32
  let arg16 : BitVec 32 := Scf.iv c0_i32_128 c1_i32_130 k0_t4
  let c64_i32_341 : BitVec 32 := 64#32
  let v406 : BitVec 32 := Scalar.muli arg16 c64_i32_341
  let c24_i32 : BitVec 32 := 24#32
  let v407 : BitVec 32 := Scalar.addi v406 c24_i32
  let v408 : BitVec 32 := v407
  let c0_i32_343 : BitVec 32 := 0#32
  let v411 : BitVec 32 := Scalar.addi v408 c0_i32_343
  v411
def k0_mult123 (k0_t4 : Fin k0_t4_loop.trips) : BitVec 32 :=
  let c0_i32_128 : BitVec 32 := 0#32
  let c1_i32_130 : BitVec 32 := 1#32
  let arg16 : BitVec 32 := Scf.iv c0_i32_128 c1_i32_130 k0_t4
  let c64_i32_341 : BitVec 32 := 64#32
  let v406 : BitVec 32 := Scalar.muli arg16 c64_i32_341
  let c24_i32 : BitVec 32 := 24#32
  let v407 : BitVec 32 := Scalar.addi v406 c24_i32
  let v408 : BitVec 32 := v407
  let c0_i32_346 : BitVec 32 := 0#32
  let v418 : BitVec 32 := Scalar.addi v408 c0_i32_346
  v418
def k0_mult124 (k0_t4 : Fin k0_t4_loop.trips) : BitVec 32 :=
  let c0_i32_128 : BitVec 32 := 0#32
  let c1_i32_130 : BitVec 32 := 1#32
  let arg16 : BitVec 32 := Scf.iv c0_i32_128 c1_i32_130 k0_t4
  let c64_i32_349 : BitVec 32 := 64#32
  let v425 : BitVec 32 := Scalar.muli arg16 c64_i32_349
  let c32_i32_350 : BitVec 32 := 32#32
  let v426 : BitVec 32 := Scalar.addi v425 c32_i32_350
  v426
def k0_mult125 (k0_t4 : Fin k0_t4_loop.trips) : BitVec 32 :=
  let c0_i32_128 : BitVec 32 := 0#32
  let c1_i32_130 : BitVec 32 := 1#32
  let arg16 : BitVec 32 := Scf.iv c0_i32_128 c1_i32_130 k0_t4
  let c64_i32_349 : BitVec 32 := 64#32
  let v425 : BitVec 32 := Scalar.muli arg16 c64_i32_349
  let c32_i32_350 : BitVec 32 := 32#32
  let v426 : BitVec 32 := Scalar.addi v425 c32_i32_350
  let v427 : BitVec 32 := v426
  let c0_i32_352 : BitVec 32 := 0#32
  let v430 : BitVec 32 := Scalar.addi v427 c0_i32_352
  v430
def k0_mult126 (k0_t4 : Fin k0_t4_loop.trips) : BitVec 32 :=
  let c0_i32_128 : BitVec 32 := 0#32
  let c1_i32_130 : BitVec 32 := 1#32
  let arg16 : BitVec 32 := Scf.iv c0_i32_128 c1_i32_130 k0_t4
  let c64_i32_349 : BitVec 32 := 64#32
  let v425 : BitVec 32 := Scalar.muli arg16 c64_i32_349
  let c32_i32_350 : BitVec 32 := 32#32
  let v426 : BitVec 32 := Scalar.addi v425 c32_i32_350
  let v427 : BitVec 32 := v426
  let c0_i32_355 : BitVec 32 := 0#32
  let v437 : BitVec 32 := Scalar.addi v427 c0_i32_355
  v437
def k0_mult127 (k0_t4 : Fin k0_t4_loop.trips) : BitVec 32 :=
  let c0_i32_128 : BitVec 32 := 0#32
  let c1_i32_130 : BitVec 32 := 1#32
  let arg16 : BitVec 32 := Scf.iv c0_i32_128 c1_i32_130 k0_t4
  let c64_i32_358 : BitVec 32 := 64#32
  let v444 : BitVec 32 := Scalar.muli arg16 c64_i32_358
  let c40_i32 : BitVec 32 := 40#32
  let v445 : BitVec 32 := Scalar.addi v444 c40_i32
  v445
def k0_mult128 (k0_t4 : Fin k0_t4_loop.trips) : BitVec 32 :=
  let c0_i32_128 : BitVec 32 := 0#32
  let c1_i32_130 : BitVec 32 := 1#32
  let arg16 : BitVec 32 := Scf.iv c0_i32_128 c1_i32_130 k0_t4
  let c64_i32_358 : BitVec 32 := 64#32
  let v444 : BitVec 32 := Scalar.muli arg16 c64_i32_358
  let c40_i32 : BitVec 32 := 40#32
  let v445 : BitVec 32 := Scalar.addi v444 c40_i32
  let v446 : BitVec 32 := v445
  let c0_i32_360 : BitVec 32 := 0#32
  let v449 : BitVec 32 := Scalar.addi v446 c0_i32_360
  v449
def k0_mult129 (k0_t4 : Fin k0_t4_loop.trips) : BitVec 32 :=
  let c0_i32_128 : BitVec 32 := 0#32
  let c1_i32_130 : BitVec 32 := 1#32
  let arg16 : BitVec 32 := Scf.iv c0_i32_128 c1_i32_130 k0_t4
  let c64_i32_358 : BitVec 32 := 64#32
  let v444 : BitVec 32 := Scalar.muli arg16 c64_i32_358
  let c40_i32 : BitVec 32 := 40#32
  let v445 : BitVec 32 := Scalar.addi v444 c40_i32
  let v446 : BitVec 32 := v445
  let c0_i32_363 : BitVec 32 := 0#32
  let v456 : BitVec 32 := Scalar.addi v446 c0_i32_363
  v456
def k0_mult130 (k0_t4 : Fin k0_t4_loop.trips) : BitVec 32 :=
  let c0_i32_128 : BitVec 32 := 0#32
  let c1_i32_130 : BitVec 32 := 1#32
  let arg16 : BitVec 32 := Scf.iv c0_i32_128 c1_i32_130 k0_t4
  let c64_i32_366 : BitVec 32 := 64#32
  let v463 : BitVec 32 := Scalar.muli arg16 c64_i32_366
  let c48_i32 : BitVec 32 := 48#32
  let v464 : BitVec 32 := Scalar.addi v463 c48_i32
  v464
def k0_mult131 (k0_t4 : Fin k0_t4_loop.trips) : BitVec 32 :=
  let c0_i32_128 : BitVec 32 := 0#32
  let c1_i32_130 : BitVec 32 := 1#32
  let arg16 : BitVec 32 := Scf.iv c0_i32_128 c1_i32_130 k0_t4
  let c64_i32_366 : BitVec 32 := 64#32
  let v463 : BitVec 32 := Scalar.muli arg16 c64_i32_366
  let c48_i32 : BitVec 32 := 48#32
  let v464 : BitVec 32 := Scalar.addi v463 c48_i32
  let v465 : BitVec 32 := v464
  let c0_i32_368 : BitVec 32 := 0#32
  let v468 : BitVec 32 := Scalar.addi v465 c0_i32_368
  v468
def k0_mult132 (k0_t4 : Fin k0_t4_loop.trips) : BitVec 32 :=
  let c0_i32_128 : BitVec 32 := 0#32
  let c1_i32_130 : BitVec 32 := 1#32
  let arg16 : BitVec 32 := Scf.iv c0_i32_128 c1_i32_130 k0_t4
  let c64_i32_366 : BitVec 32 := 64#32
  let v463 : BitVec 32 := Scalar.muli arg16 c64_i32_366
  let c48_i32 : BitVec 32 := 48#32
  let v464 : BitVec 32 := Scalar.addi v463 c48_i32
  let v465 : BitVec 32 := v464
  let c0_i32_371 : BitVec 32 := 0#32
  let v475 : BitVec 32 := Scalar.addi v465 c0_i32_371
  v475
def k0_mult133 (k0_t4 : Fin k0_t4_loop.trips) : BitVec 32 :=
  let c0_i32_128 : BitVec 32 := 0#32
  let c1_i32_130 : BitVec 32 := 1#32
  let arg16 : BitVec 32 := Scf.iv c0_i32_128 c1_i32_130 k0_t4
  let c64_i32_374 : BitVec 32 := 64#32
  let v482 : BitVec 32 := Scalar.muli arg16 c64_i32_374
  let c56_i32 : BitVec 32 := 56#32
  let v483 : BitVec 32 := Scalar.addi v482 c56_i32
  v483
def k0_mult134 (k0_t4 : Fin k0_t4_loop.trips) : BitVec 32 :=
  let c0_i32_128 : BitVec 32 := 0#32
  let c1_i32_130 : BitVec 32 := 1#32
  let arg16 : BitVec 32 := Scf.iv c0_i32_128 c1_i32_130 k0_t4
  let c64_i32_374 : BitVec 32 := 64#32
  let v482 : BitVec 32 := Scalar.muli arg16 c64_i32_374
  let c56_i32 : BitVec 32 := 56#32
  let v483 : BitVec 32 := Scalar.addi v482 c56_i32
  let v484 : BitVec 32 := v483
  let c0_i32_376 : BitVec 32 := 0#32
  let v487 : BitVec 32 := Scalar.addi v484 c0_i32_376
  v487
def k0_mult135 (k0_t4 : Fin k0_t4_loop.trips) : BitVec 32 :=
  let c0_i32_128 : BitVec 32 := 0#32
  let c1_i32_130 : BitVec 32 := 1#32
  let arg16 : BitVec 32 := Scf.iv c0_i32_128 c1_i32_130 k0_t4
  let c64_i32_374 : BitVec 32 := 64#32
  let v482 : BitVec 32 := Scalar.muli arg16 c64_i32_374
  let c56_i32 : BitVec 32 := 56#32
  let v483 : BitVec 32 := Scalar.addi v482 c56_i32
  let v484 : BitVec 32 := v483
  let c0_i32_379 : BitVec 32 := 0#32
  let v494 : BitVec 32 := Scalar.addi v484 c0_i32_379
  v494
@[reducible] def k0_t5_loop : Scf.Loop 32 :=
  let c0_i32_143 : BitVec 32 := 0#32
  let c8_i32_144 : BitVec 32 := 8#32
  let v154 : BitVec 32 := Scalar.addi c0_i32_143 c8_i32_144
  let c1_i32_145 : BitVec 32 := 1#32
  ⟨c0_i32_143, v154, c1_i32_145⟩
def k0_mult136 (k0_t5 : Fin k0_t5_loop.trips) : BitVec 32 :=
  let c0_i32_143 : BitVec 32 := 0#32
  let c1_i32_145 : BitVec 32 := 1#32
  let arg16 : BitVec 32 := Scf.iv c0_i32_143 c1_i32_145 k0_t5
  let c64_i32 : BitVec 32 := 64#32
  let v349 : BitVec 32 := Scalar.muli arg16 c64_i32
  let c0_i32_316 : BitVec 32 := 0#32
  let v350 : BitVec 32 := Scalar.addi v349 c0_i32_316
  v350
def k0_off19 (k0_t5 : Fin k0_t5_loop.trips) (c0_i32_316 : BitVec 32) : Fin 2 → Nat :=
  let c0_i32_143 : BitVec 32 := 0#32
  let c1_i32_145 : BitVec 32 := 1#32
  let arg16 : BitVec 32 := Scf.iv c0_i32_143 c1_i32_145 k0_t5
  let c64_i32 : BitVec 32 := 64#32
  let v349 : BitVec 32 := Scalar.muli arg16 c64_i32
  let v350 : BitVec 32 := Scalar.addi v349 c0_i32_316
  let v351 : BitVec 32 := v350
  let v352 : Index := Scalar.indexCast v351
  let c0_317 : Index := 0#32
  ![v352.toNat, 0]
def k0_mult137 (k0_t5 : Fin k0_t5_loop.trips) : BitVec 32 :=
  let c0_i32_143 : BitVec 32 := 0#32
  let c1_i32_145 : BitVec 32 := 1#32
  let arg16 : BitVec 32 := Scf.iv c0_i32_143 c1_i32_145 k0_t5
  let c64_i32 : BitVec 32 := 64#32
  let v349 : BitVec 32 := Scalar.muli arg16 c64_i32
  let c0_i32_316 : BitVec 32 := 0#32
  let v350 : BitVec 32 := Scalar.addi v349 c0_i32_316
  let v351 : BitVec 32 := v350
  let c8_i32_318 : BitVec 32 := 8#32
  let v354 : BitVec 32 := Scalar.addi v351 c8_i32_318
  v354
def k0_off20 (k0_t5 : Fin k0_t5_loop.trips) (c0_i32_316 : BitVec 32) : Fin 3 → Nat :=
  let c0_319 : Index := 0#32
  let c0_i32_143 : BitVec 32 := 0#32
  let c1_i32_145 : BitVec 32 := 1#32
  let arg16 : BitVec 32 := Scf.iv c0_i32_143 c1_i32_145 k0_t5
  let c64_i32 : BitVec 32 := 64#32
  let v349 : BitVec 32 := Scalar.muli arg16 c64_i32
  let v350 : BitVec 32 := Scalar.addi v349 c0_i32_316
  let v351 : BitVec 32 := v350
  let c8_i32_318 : BitVec 32 := 8#32
  let v354 : BitVec 32 := Scalar.addi v351 c8_i32_318
  let v355 : BitVec 32 := v354
  let v356 : Index := Scalar.indexCast v355
  let c0_320 : Index := 0#32
  ![0, v356.toNat, 0]
def k0_mult138 (k0_t5 : Fin k0_t5_loop.trips) : BitVec 32 :=
  let c0_i32_143 : BitVec 32 := 0#32
  let c1_i32_145 : BitVec 32 := 1#32
  let arg16 : BitVec 32 := Scf.iv c0_i32_143 c1_i32_145 k0_t5
  let c64_i32 : BitVec 32 := 64#32
  let v349 : BitVec 32 := Scalar.muli arg16 c64_i32
  let c0_i32_316 : BitVec 32 := 0#32
  let v350 : BitVec 32 := Scalar.addi v349 c0_i32_316
  let v351 : BitVec 32 := v350
  let c8_i32_321 : BitVec 32 := 8#32
  let v361 : BitVec 32 := Scalar.addi v351 c8_i32_321
  v361
def k0_off21 (k0_t5 : Fin k0_t5_loop.trips) (c0_i32_316 : BitVec 32) : Fin 3 → Nat :=
  let c1_322 : Index := 1#32
  let c0_i32_143 : BitVec 32 := 0#32
  let c1_i32_145 : BitVec 32 := 1#32
  let arg16 : BitVec 32 := Scf.iv c0_i32_143 c1_i32_145 k0_t5
  let c64_i32 : BitVec 32 := 64#32
  let v349 : BitVec 32 := Scalar.muli arg16 c64_i32
  let v350 : BitVec 32 := Scalar.addi v349 c0_i32_316
  let v351 : BitVec 32 := v350
  let c8_i32_321 : BitVec 32 := 8#32
  let v361 : BitVec 32 := Scalar.addi v351 c8_i32_321
  let v362 : BitVec 32 := v361
  let v363 : Index := Scalar.indexCast v362
  let c0_323 : Index := 0#32
  ![1, v363.toNat, 0]
def k0_mult139 (k0_t5 : Fin k0_t5_loop.trips) : BitVec 32 :=
  let c0_i32_143 : BitVec 32 := 0#32
  let c1_i32_145 : BitVec 32 := 1#32
  let arg16 : BitVec 32 := Scf.iv c0_i32_143 c1_i32_145 k0_t5
  let c64_i32_324 : BitVec 32 := 64#32
  let v368 : BitVec 32 := Scalar.muli arg16 c64_i32_324
  let c8_i32_325 : BitVec 32 := 8#32
  let v369 : BitVec 32 := Scalar.addi v368 c8_i32_325
  v369
def k0_mult140 (k0_t5 : Fin k0_t5_loop.trips) : BitVec 32 :=
  let c0_i32_143 : BitVec 32 := 0#32
  let c1_i32_145 : BitVec 32 := 1#32
  let arg16 : BitVec 32 := Scf.iv c0_i32_143 c1_i32_145 k0_t5
  let c64_i32_324 : BitVec 32 := 64#32
  let v368 : BitVec 32 := Scalar.muli arg16 c64_i32_324
  let c8_i32_325 : BitVec 32 := 8#32
  let v369 : BitVec 32 := Scalar.addi v368 c8_i32_325
  let v370 : BitVec 32 := v369
  let c8_i32_327 : BitVec 32 := 8#32
  let v373 : BitVec 32 := Scalar.addi v370 c8_i32_327
  v373
def k0_mult141 (k0_t5 : Fin k0_t5_loop.trips) : BitVec 32 :=
  let c0_i32_143 : BitVec 32 := 0#32
  let c1_i32_145 : BitVec 32 := 1#32
  let arg16 : BitVec 32 := Scf.iv c0_i32_143 c1_i32_145 k0_t5
  let c64_i32_324 : BitVec 32 := 64#32
  let v368 : BitVec 32 := Scalar.muli arg16 c64_i32_324
  let c8_i32_325 : BitVec 32 := 8#32
  let v369 : BitVec 32 := Scalar.addi v368 c8_i32_325
  let v370 : BitVec 32 := v369
  let c8_i32_330 : BitVec 32 := 8#32
  let v380 : BitVec 32 := Scalar.addi v370 c8_i32_330
  v380
def k0_mult142 (k0_t5 : Fin k0_t5_loop.trips) : BitVec 32 :=
  let c0_i32_143 : BitVec 32 := 0#32
  let c1_i32_145 : BitVec 32 := 1#32
  let arg16 : BitVec 32 := Scf.iv c0_i32_143 c1_i32_145 k0_t5
  let c64_i32_333 : BitVec 32 := 64#32
  let v387 : BitVec 32 := Scalar.muli arg16 c64_i32_333
  let c16_i32 : BitVec 32 := 16#32
  let v388 : BitVec 32 := Scalar.addi v387 c16_i32
  v388
def k0_mult143 (k0_t5 : Fin k0_t5_loop.trips) : BitVec 32 :=
  let c0_i32_143 : BitVec 32 := 0#32
  let c1_i32_145 : BitVec 32 := 1#32
  let arg16 : BitVec 32 := Scf.iv c0_i32_143 c1_i32_145 k0_t5
  let c64_i32_333 : BitVec 32 := 64#32
  let v387 : BitVec 32 := Scalar.muli arg16 c64_i32_333
  let c16_i32 : BitVec 32 := 16#32
  let v388 : BitVec 32 := Scalar.addi v387 c16_i32
  let v389 : BitVec 32 := v388
  let c8_i32_335 : BitVec 32 := 8#32
  let v392 : BitVec 32 := Scalar.addi v389 c8_i32_335
  v392
def k0_mult144 (k0_t5 : Fin k0_t5_loop.trips) : BitVec 32 :=
  let c0_i32_143 : BitVec 32 := 0#32
  let c1_i32_145 : BitVec 32 := 1#32
  let arg16 : BitVec 32 := Scf.iv c0_i32_143 c1_i32_145 k0_t5
  let c64_i32_333 : BitVec 32 := 64#32
  let v387 : BitVec 32 := Scalar.muli arg16 c64_i32_333
  let c16_i32 : BitVec 32 := 16#32
  let v388 : BitVec 32 := Scalar.addi v387 c16_i32
  let v389 : BitVec 32 := v388
  let c8_i32_338 : BitVec 32 := 8#32
  let v399 : BitVec 32 := Scalar.addi v389 c8_i32_338
  v399
def k0_mult145 (k0_t5 : Fin k0_t5_loop.trips) : BitVec 32 :=
  let c0_i32_143 : BitVec 32 := 0#32
  let c1_i32_145 : BitVec 32 := 1#32
  let arg16 : BitVec 32 := Scf.iv c0_i32_143 c1_i32_145 k0_t5
  let c64_i32_341 : BitVec 32 := 64#32
  let v406 : BitVec 32 := Scalar.muli arg16 c64_i32_341
  let c24_i32 : BitVec 32 := 24#32
  let v407 : BitVec 32 := Scalar.addi v406 c24_i32
  v407
def k0_mult146 (k0_t5 : Fin k0_t5_loop.trips) : BitVec 32 :=
  let c0_i32_143 : BitVec 32 := 0#32
  let c1_i32_145 : BitVec 32 := 1#32
  let arg16 : BitVec 32 := Scf.iv c0_i32_143 c1_i32_145 k0_t5
  let c64_i32_341 : BitVec 32 := 64#32
  let v406 : BitVec 32 := Scalar.muli arg16 c64_i32_341
  let c24_i32 : BitVec 32 := 24#32
  let v407 : BitVec 32 := Scalar.addi v406 c24_i32
  let v408 : BitVec 32 := v407
  let c8_i32_343 : BitVec 32 := 8#32
  let v411 : BitVec 32 := Scalar.addi v408 c8_i32_343
  v411
def k0_mult147 (k0_t5 : Fin k0_t5_loop.trips) : BitVec 32 :=
  let c0_i32_143 : BitVec 32 := 0#32
  let c1_i32_145 : BitVec 32 := 1#32
  let arg16 : BitVec 32 := Scf.iv c0_i32_143 c1_i32_145 k0_t5
  let c64_i32_341 : BitVec 32 := 64#32
  let v406 : BitVec 32 := Scalar.muli arg16 c64_i32_341
  let c24_i32 : BitVec 32 := 24#32
  let v407 : BitVec 32 := Scalar.addi v406 c24_i32
  let v408 : BitVec 32 := v407
  let c8_i32_346 : BitVec 32 := 8#32
  let v418 : BitVec 32 := Scalar.addi v408 c8_i32_346
  v418
def k0_mult148 (k0_t5 : Fin k0_t5_loop.trips) : BitVec 32 :=
  let c0_i32_143 : BitVec 32 := 0#32
  let c1_i32_145 : BitVec 32 := 1#32
  let arg16 : BitVec 32 := Scf.iv c0_i32_143 c1_i32_145 k0_t5
  let c64_i32_349 : BitVec 32 := 64#32
  let v425 : BitVec 32 := Scalar.muli arg16 c64_i32_349
  let c32_i32_350 : BitVec 32 := 32#32
  let v426 : BitVec 32 := Scalar.addi v425 c32_i32_350
  v426
def k0_mult149 (k0_t5 : Fin k0_t5_loop.trips) : BitVec 32 :=
  let c0_i32_143 : BitVec 32 := 0#32
  let c1_i32_145 : BitVec 32 := 1#32
  let arg16 : BitVec 32 := Scf.iv c0_i32_143 c1_i32_145 k0_t5
  let c64_i32_349 : BitVec 32 := 64#32
  let v425 : BitVec 32 := Scalar.muli arg16 c64_i32_349
  let c32_i32_350 : BitVec 32 := 32#32
  let v426 : BitVec 32 := Scalar.addi v425 c32_i32_350
  let v427 : BitVec 32 := v426
  let c8_i32_352 : BitVec 32 := 8#32
  let v430 : BitVec 32 := Scalar.addi v427 c8_i32_352
  v430
def k0_mult150 (k0_t5 : Fin k0_t5_loop.trips) : BitVec 32 :=
  let c0_i32_143 : BitVec 32 := 0#32
  let c1_i32_145 : BitVec 32 := 1#32
  let arg16 : BitVec 32 := Scf.iv c0_i32_143 c1_i32_145 k0_t5
  let c64_i32_349 : BitVec 32 := 64#32
  let v425 : BitVec 32 := Scalar.muli arg16 c64_i32_349
  let c32_i32_350 : BitVec 32 := 32#32
  let v426 : BitVec 32 := Scalar.addi v425 c32_i32_350
  let v427 : BitVec 32 := v426
  let c8_i32_355 : BitVec 32 := 8#32
  let v437 : BitVec 32 := Scalar.addi v427 c8_i32_355
  v437
def k0_mult151 (k0_t5 : Fin k0_t5_loop.trips) : BitVec 32 :=
  let c0_i32_143 : BitVec 32 := 0#32
  let c1_i32_145 : BitVec 32 := 1#32
  let arg16 : BitVec 32 := Scf.iv c0_i32_143 c1_i32_145 k0_t5
  let c64_i32_358 : BitVec 32 := 64#32
  let v444 : BitVec 32 := Scalar.muli arg16 c64_i32_358
  let c40_i32 : BitVec 32 := 40#32
  let v445 : BitVec 32 := Scalar.addi v444 c40_i32
  v445
def k0_mult152 (k0_t5 : Fin k0_t5_loop.trips) : BitVec 32 :=
  let c0_i32_143 : BitVec 32 := 0#32
  let c1_i32_145 : BitVec 32 := 1#32
  let arg16 : BitVec 32 := Scf.iv c0_i32_143 c1_i32_145 k0_t5
  let c64_i32_358 : BitVec 32 := 64#32
  let v444 : BitVec 32 := Scalar.muli arg16 c64_i32_358
  let c40_i32 : BitVec 32 := 40#32
  let v445 : BitVec 32 := Scalar.addi v444 c40_i32
  let v446 : BitVec 32 := v445
  let c8_i32_360 : BitVec 32 := 8#32
  let v449 : BitVec 32 := Scalar.addi v446 c8_i32_360
  v449
def k0_mult153 (k0_t5 : Fin k0_t5_loop.trips) : BitVec 32 :=
  let c0_i32_143 : BitVec 32 := 0#32
  let c1_i32_145 : BitVec 32 := 1#32
  let arg16 : BitVec 32 := Scf.iv c0_i32_143 c1_i32_145 k0_t5
  let c64_i32_358 : BitVec 32 := 64#32
  let v444 : BitVec 32 := Scalar.muli arg16 c64_i32_358
  let c40_i32 : BitVec 32 := 40#32
  let v445 : BitVec 32 := Scalar.addi v444 c40_i32
  let v446 : BitVec 32 := v445
  let c8_i32_363 : BitVec 32 := 8#32
  let v456 : BitVec 32 := Scalar.addi v446 c8_i32_363
  v456
def k0_mult154 (k0_t5 : Fin k0_t5_loop.trips) : BitVec 32 :=
  let c0_i32_143 : BitVec 32 := 0#32
  let c1_i32_145 : BitVec 32 := 1#32
  let arg16 : BitVec 32 := Scf.iv c0_i32_143 c1_i32_145 k0_t5
  let c64_i32_366 : BitVec 32 := 64#32
  let v463 : BitVec 32 := Scalar.muli arg16 c64_i32_366
  let c48_i32 : BitVec 32 := 48#32
  let v464 : BitVec 32 := Scalar.addi v463 c48_i32
  v464
def k0_mult155 (k0_t5 : Fin k0_t5_loop.trips) : BitVec 32 :=
  let c0_i32_143 : BitVec 32 := 0#32
  let c1_i32_145 : BitVec 32 := 1#32
  let arg16 : BitVec 32 := Scf.iv c0_i32_143 c1_i32_145 k0_t5
  let c64_i32_366 : BitVec 32 := 64#32
  let v463 : BitVec 32 := Scalar.muli arg16 c64_i32_366
  let c48_i32 : BitVec 32 := 48#32
  let v464 : BitVec 32 := Scalar.addi v463 c48_i32
  let v465 : BitVec 32 := v464
  let c8_i32_368 : BitVec 32 := 8#32
  let v468 : BitVec 32 := Scalar.addi v465 c8_i32_368
  v468
def k0_mult156 (k0_t5 : Fin k0_t5_loop.trips) : BitVec 32 :=
  let c0_i32_143 : BitVec 32 := 0#32
  let c1_i32_145 : BitVec 32 := 1#32
  let arg16 : BitVec 32 := Scf.iv c0_i32_143 c1_i32_145 k0_t5
  let c64_i32_366 : BitVec 32 := 64#32
  let v463 : BitVec 32 := Scalar.muli arg16 c64_i32_366
  let c48_i32 : BitVec 32 := 48#32
  let v464 : BitVec 32 := Scalar.addi v463 c48_i32
  let v465 : BitVec 32 := v464
  let c8_i32_371 : BitVec 32 := 8#32
  let v475 : BitVec 32 := Scalar.addi v465 c8_i32_371
  v475
def k0_mult157 (k0_t5 : Fin k0_t5_loop.trips) : BitVec 32 :=
  let c0_i32_143 : BitVec 32 := 0#32
  let c1_i32_145 : BitVec 32 := 1#32
  let arg16 : BitVec 32 := Scf.iv c0_i32_143 c1_i32_145 k0_t5
  let c64_i32_374 : BitVec 32 := 64#32
  let v482 : BitVec 32 := Scalar.muli arg16 c64_i32_374
  let c56_i32 : BitVec 32 := 56#32
  let v483 : BitVec 32 := Scalar.addi v482 c56_i32
  v483
def k0_mult158 (k0_t5 : Fin k0_t5_loop.trips) : BitVec 32 :=
  let c0_i32_143 : BitVec 32 := 0#32
  let c1_i32_145 : BitVec 32 := 1#32
  let arg16 : BitVec 32 := Scf.iv c0_i32_143 c1_i32_145 k0_t5
  let c64_i32_374 : BitVec 32 := 64#32
  let v482 : BitVec 32 := Scalar.muli arg16 c64_i32_374
  let c56_i32 : BitVec 32 := 56#32
  let v483 : BitVec 32 := Scalar.addi v482 c56_i32
  let v484 : BitVec 32 := v483
  let c8_i32_376 : BitVec 32 := 8#32
  let v487 : BitVec 32 := Scalar.addi v484 c8_i32_376
  v487
def k0_mult159 (k0_t5 : Fin k0_t5_loop.trips) : BitVec 32 :=
  let c0_i32_143 : BitVec 32 := 0#32
  let c1_i32_145 : BitVec 32 := 1#32
  let arg16 : BitVec 32 := Scf.iv c0_i32_143 c1_i32_145 k0_t5
  let c64_i32_374 : BitVec 32 := 64#32
  let v482 : BitVec 32 := Scalar.muli arg16 c64_i32_374
  let c56_i32 : BitVec 32 := 56#32
  let v483 : BitVec 32 := Scalar.addi v482 c56_i32
  let v484 : BitVec 32 := v483
  let c8_i32_379 : BitVec 32 := 8#32
  let v494 : BitVec 32 := Scalar.addi v484 c8_i32_379
  v494
@[reducible] def k0_t6_loop : Scf.Loop 32 :=
  let c0_i32_158 : BitVec 32 := 0#32
  let c8_i32_159 : BitVec 32 := 8#32
  let v169 : BitVec 32 := Scalar.addi c0_i32_158 c8_i32_159
  let c1_i32_160 : BitVec 32 := 1#32
  ⟨c0_i32_158, v169, c1_i32_160⟩
def k0_mult160 (k0_t6 : Fin k0_t6_loop.trips) : BitVec 32 :=
  let c0_i32_158 : BitVec 32 := 0#32
  let c1_i32_160 : BitVec 32 := 1#32
  let arg16 : BitVec 32 := Scf.iv c0_i32_158 c1_i32_160 k0_t6
  let c64_i32 : BitVec 32 := 64#32
  let v349 : BitVec 32 := Scalar.muli arg16 c64_i32
  let c0_i32_316 : BitVec 32 := 0#32
  let v350 : BitVec 32 := Scalar.addi v349 c0_i32_316
  v350
def k0_off22 (k0_t6 : Fin k0_t6_loop.trips) (c0_i32_316 : BitVec 32) : Fin 2 → Nat :=
  let c0_i32_158 : BitVec 32 := 0#32
  let c1_i32_160 : BitVec 32 := 1#32
  let arg16 : BitVec 32 := Scf.iv c0_i32_158 c1_i32_160 k0_t6
  let c64_i32 : BitVec 32 := 64#32
  let v349 : BitVec 32 := Scalar.muli arg16 c64_i32
  let v350 : BitVec 32 := Scalar.addi v349 c0_i32_316
  let v351 : BitVec 32 := v350
  let v352 : Index := Scalar.indexCast v351
  let c0_317 : Index := 0#32
  ![v352.toNat, 0]
def k0_mult161 (k0_t6 : Fin k0_t6_loop.trips) : BitVec 32 :=
  let c0_i32_158 : BitVec 32 := 0#32
  let c1_i32_160 : BitVec 32 := 1#32
  let arg16 : BitVec 32 := Scf.iv c0_i32_158 c1_i32_160 k0_t6
  let c64_i32 : BitVec 32 := 64#32
  let v349 : BitVec 32 := Scalar.muli arg16 c64_i32
  let c0_i32_316 : BitVec 32 := 0#32
  let v350 : BitVec 32 := Scalar.addi v349 c0_i32_316
  let v351 : BitVec 32 := v350
  let c8_i32_318 : BitVec 32 := 8#32
  let v354 : BitVec 32 := Scalar.addi v351 c8_i32_318
  v354
def k0_off23 (k0_t6 : Fin k0_t6_loop.trips) (c0_i32_316 : BitVec 32) : Fin 3 → Nat :=
  let c2_319 : Index := 2#32
  let c0_i32_158 : BitVec 32 := 0#32
  let c1_i32_160 : BitVec 32 := 1#32
  let arg16 : BitVec 32 := Scf.iv c0_i32_158 c1_i32_160 k0_t6
  let c64_i32 : BitVec 32 := 64#32
  let v349 : BitVec 32 := Scalar.muli arg16 c64_i32
  let v350 : BitVec 32 := Scalar.addi v349 c0_i32_316
  let v351 : BitVec 32 := v350
  let c8_i32_318 : BitVec 32 := 8#32
  let v354 : BitVec 32 := Scalar.addi v351 c8_i32_318
  let v355 : BitVec 32 := v354
  let v356 : Index := Scalar.indexCast v355
  let c0_320 : Index := 0#32
  ![2, v356.toNat, 0]
def k0_mult162 (k0_t6 : Fin k0_t6_loop.trips) : BitVec 32 :=
  let c0_i32_158 : BitVec 32 := 0#32
  let c1_i32_160 : BitVec 32 := 1#32
  let arg16 : BitVec 32 := Scf.iv c0_i32_158 c1_i32_160 k0_t6
  let c64_i32 : BitVec 32 := 64#32
  let v349 : BitVec 32 := Scalar.muli arg16 c64_i32
  let c0_i32_316 : BitVec 32 := 0#32
  let v350 : BitVec 32 := Scalar.addi v349 c0_i32_316
  let v351 : BitVec 32 := v350
  let c8_i32_321 : BitVec 32 := 8#32
  let v361 : BitVec 32 := Scalar.addi v351 c8_i32_321
  v361
def k0_off24 (k0_t6 : Fin k0_t6_loop.trips) (c0_i32_316 : BitVec 32) : Fin 3 → Nat :=
  let c3_322 : Index := 3#32
  let c0_i32_158 : BitVec 32 := 0#32
  let c1_i32_160 : BitVec 32 := 1#32
  let arg16 : BitVec 32 := Scf.iv c0_i32_158 c1_i32_160 k0_t6
  let c64_i32 : BitVec 32 := 64#32
  let v349 : BitVec 32 := Scalar.muli arg16 c64_i32
  let v350 : BitVec 32 := Scalar.addi v349 c0_i32_316
  let v351 : BitVec 32 := v350
  let c8_i32_321 : BitVec 32 := 8#32
  let v361 : BitVec 32 := Scalar.addi v351 c8_i32_321
  let v362 : BitVec 32 := v361
  let v363 : Index := Scalar.indexCast v362
  let c0_323 : Index := 0#32
  ![3, v363.toNat, 0]
def k0_mult163 (k0_t6 : Fin k0_t6_loop.trips) : BitVec 32 :=
  let c0_i32_158 : BitVec 32 := 0#32
  let c1_i32_160 : BitVec 32 := 1#32
  let arg16 : BitVec 32 := Scf.iv c0_i32_158 c1_i32_160 k0_t6
  let c64_i32_324 : BitVec 32 := 64#32
  let v368 : BitVec 32 := Scalar.muli arg16 c64_i32_324
  let c8_i32_325 : BitVec 32 := 8#32
  let v369 : BitVec 32 := Scalar.addi v368 c8_i32_325
  v369
def k0_mult164 (k0_t6 : Fin k0_t6_loop.trips) : BitVec 32 :=
  let c0_i32_158 : BitVec 32 := 0#32
  let c1_i32_160 : BitVec 32 := 1#32
  let arg16 : BitVec 32 := Scf.iv c0_i32_158 c1_i32_160 k0_t6
  let c64_i32_324 : BitVec 32 := 64#32
  let v368 : BitVec 32 := Scalar.muli arg16 c64_i32_324
  let c8_i32_325 : BitVec 32 := 8#32
  let v369 : BitVec 32 := Scalar.addi v368 c8_i32_325
  let v370 : BitVec 32 := v369
  let c8_i32_327 : BitVec 32 := 8#32
  let v373 : BitVec 32 := Scalar.addi v370 c8_i32_327
  v373
def k0_mult165 (k0_t6 : Fin k0_t6_loop.trips) : BitVec 32 :=
  let c0_i32_158 : BitVec 32 := 0#32
  let c1_i32_160 : BitVec 32 := 1#32
  let arg16 : BitVec 32 := Scf.iv c0_i32_158 c1_i32_160 k0_t6
  let c64_i32_324 : BitVec 32 := 64#32
  let v368 : BitVec 32 := Scalar.muli arg16 c64_i32_324
  let c8_i32_325 : BitVec 32 := 8#32
  let v369 : BitVec 32 := Scalar.addi v368 c8_i32_325
  let v370 : BitVec 32 := v369
  let c8_i32_330 : BitVec 32 := 8#32
  let v380 : BitVec 32 := Scalar.addi v370 c8_i32_330
  v380
def k0_mult166 (k0_t6 : Fin k0_t6_loop.trips) : BitVec 32 :=
  let c0_i32_158 : BitVec 32 := 0#32
  let c1_i32_160 : BitVec 32 := 1#32
  let arg16 : BitVec 32 := Scf.iv c0_i32_158 c1_i32_160 k0_t6
  let c64_i32_333 : BitVec 32 := 64#32
  let v387 : BitVec 32 := Scalar.muli arg16 c64_i32_333
  let c16_i32 : BitVec 32 := 16#32
  let v388 : BitVec 32 := Scalar.addi v387 c16_i32
  v388
def k0_mult167 (k0_t6 : Fin k0_t6_loop.trips) : BitVec 32 :=
  let c0_i32_158 : BitVec 32 := 0#32
  let c1_i32_160 : BitVec 32 := 1#32
  let arg16 : BitVec 32 := Scf.iv c0_i32_158 c1_i32_160 k0_t6
  let c64_i32_333 : BitVec 32 := 64#32
  let v387 : BitVec 32 := Scalar.muli arg16 c64_i32_333
  let c16_i32 : BitVec 32 := 16#32
  let v388 : BitVec 32 := Scalar.addi v387 c16_i32
  let v389 : BitVec 32 := v388
  let c8_i32_335 : BitVec 32 := 8#32
  let v392 : BitVec 32 := Scalar.addi v389 c8_i32_335
  v392
def k0_mult168 (k0_t6 : Fin k0_t6_loop.trips) : BitVec 32 :=
  let c0_i32_158 : BitVec 32 := 0#32
  let c1_i32_160 : BitVec 32 := 1#32
  let arg16 : BitVec 32 := Scf.iv c0_i32_158 c1_i32_160 k0_t6
  let c64_i32_333 : BitVec 32 := 64#32
  let v387 : BitVec 32 := Scalar.muli arg16 c64_i32_333
  let c16_i32 : BitVec 32 := 16#32
  let v388 : BitVec 32 := Scalar.addi v387 c16_i32
  let v389 : BitVec 32 := v388
  let c8_i32_338 : BitVec 32 := 8#32
  let v399 : BitVec 32 := Scalar.addi v389 c8_i32_338
  v399
def k0_mult169 (k0_t6 : Fin k0_t6_loop.trips) : BitVec 32 :=
  let c0_i32_158 : BitVec 32 := 0#32
  let c1_i32_160 : BitVec 32 := 1#32
  let arg16 : BitVec 32 := Scf.iv c0_i32_158 c1_i32_160 k0_t6
  let c64_i32_341 : BitVec 32 := 64#32
  let v406 : BitVec 32 := Scalar.muli arg16 c64_i32_341
  let c24_i32 : BitVec 32 := 24#32
  let v407 : BitVec 32 := Scalar.addi v406 c24_i32
  v407
def k0_mult170 (k0_t6 : Fin k0_t6_loop.trips) : BitVec 32 :=
  let c0_i32_158 : BitVec 32 := 0#32
  let c1_i32_160 : BitVec 32 := 1#32
  let arg16 : BitVec 32 := Scf.iv c0_i32_158 c1_i32_160 k0_t6
  let c64_i32_341 : BitVec 32 := 64#32
  let v406 : BitVec 32 := Scalar.muli arg16 c64_i32_341
  let c24_i32 : BitVec 32 := 24#32
  let v407 : BitVec 32 := Scalar.addi v406 c24_i32
  let v408 : BitVec 32 := v407
  let c8_i32_343 : BitVec 32 := 8#32
  let v411 : BitVec 32 := Scalar.addi v408 c8_i32_343
  v411
def k0_mult171 (k0_t6 : Fin k0_t6_loop.trips) : BitVec 32 :=
  let c0_i32_158 : BitVec 32 := 0#32
  let c1_i32_160 : BitVec 32 := 1#32
  let arg16 : BitVec 32 := Scf.iv c0_i32_158 c1_i32_160 k0_t6
  let c64_i32_341 : BitVec 32 := 64#32
  let v406 : BitVec 32 := Scalar.muli arg16 c64_i32_341
  let c24_i32 : BitVec 32 := 24#32
  let v407 : BitVec 32 := Scalar.addi v406 c24_i32
  let v408 : BitVec 32 := v407
  let c8_i32_346 : BitVec 32 := 8#32
  let v418 : BitVec 32 := Scalar.addi v408 c8_i32_346
  v418
def k0_mult172 (k0_t6 : Fin k0_t6_loop.trips) : BitVec 32 :=
  let c0_i32_158 : BitVec 32 := 0#32
  let c1_i32_160 : BitVec 32 := 1#32
  let arg16 : BitVec 32 := Scf.iv c0_i32_158 c1_i32_160 k0_t6
  let c64_i32_349 : BitVec 32 := 64#32
  let v425 : BitVec 32 := Scalar.muli arg16 c64_i32_349
  let c32_i32_350 : BitVec 32 := 32#32
  let v426 : BitVec 32 := Scalar.addi v425 c32_i32_350
  v426
def k0_mult173 (k0_t6 : Fin k0_t6_loop.trips) : BitVec 32 :=
  let c0_i32_158 : BitVec 32 := 0#32
  let c1_i32_160 : BitVec 32 := 1#32
  let arg16 : BitVec 32 := Scf.iv c0_i32_158 c1_i32_160 k0_t6
  let c64_i32_349 : BitVec 32 := 64#32
  let v425 : BitVec 32 := Scalar.muli arg16 c64_i32_349
  let c32_i32_350 : BitVec 32 := 32#32
  let v426 : BitVec 32 := Scalar.addi v425 c32_i32_350
  let v427 : BitVec 32 := v426
  let c8_i32_352 : BitVec 32 := 8#32
  let v430 : BitVec 32 := Scalar.addi v427 c8_i32_352
  v430
def k0_mult174 (k0_t6 : Fin k0_t6_loop.trips) : BitVec 32 :=
  let c0_i32_158 : BitVec 32 := 0#32
  let c1_i32_160 : BitVec 32 := 1#32
  let arg16 : BitVec 32 := Scf.iv c0_i32_158 c1_i32_160 k0_t6
  let c64_i32_349 : BitVec 32 := 64#32
  let v425 : BitVec 32 := Scalar.muli arg16 c64_i32_349
  let c32_i32_350 : BitVec 32 := 32#32
  let v426 : BitVec 32 := Scalar.addi v425 c32_i32_350
  let v427 : BitVec 32 := v426
  let c8_i32_355 : BitVec 32 := 8#32
  let v437 : BitVec 32 := Scalar.addi v427 c8_i32_355
  v437
def k0_mult175 (k0_t6 : Fin k0_t6_loop.trips) : BitVec 32 :=
  let c0_i32_158 : BitVec 32 := 0#32
  let c1_i32_160 : BitVec 32 := 1#32
  let arg16 : BitVec 32 := Scf.iv c0_i32_158 c1_i32_160 k0_t6
  let c64_i32_358 : BitVec 32 := 64#32
  let v444 : BitVec 32 := Scalar.muli arg16 c64_i32_358
  let c40_i32 : BitVec 32 := 40#32
  let v445 : BitVec 32 := Scalar.addi v444 c40_i32
  v445
def k0_mult176 (k0_t6 : Fin k0_t6_loop.trips) : BitVec 32 :=
  let c0_i32_158 : BitVec 32 := 0#32
  let c1_i32_160 : BitVec 32 := 1#32
  let arg16 : BitVec 32 := Scf.iv c0_i32_158 c1_i32_160 k0_t6
  let c64_i32_358 : BitVec 32 := 64#32
  let v444 : BitVec 32 := Scalar.muli arg16 c64_i32_358
  let c40_i32 : BitVec 32 := 40#32
  let v445 : BitVec 32 := Scalar.addi v444 c40_i32
  let v446 : BitVec 32 := v445
  let c8_i32_360 : BitVec 32 := 8#32
  let v449 : BitVec 32 := Scalar.addi v446 c8_i32_360
  v449
def k0_mult177 (k0_t6 : Fin k0_t6_loop.trips) : BitVec 32 :=
  let c0_i32_158 : BitVec 32 := 0#32
  let c1_i32_160 : BitVec 32 := 1#32
  let arg16 : BitVec 32 := Scf.iv c0_i32_158 c1_i32_160 k0_t6
  let c64_i32_358 : BitVec 32 := 64#32
  let v444 : BitVec 32 := Scalar.muli arg16 c64_i32_358
  let c40_i32 : BitVec 32 := 40#32
  let v445 : BitVec 32 := Scalar.addi v444 c40_i32
  let v446 : BitVec 32 := v445
  let c8_i32_363 : BitVec 32 := 8#32
  let v456 : BitVec 32 := Scalar.addi v446 c8_i32_363
  v456
def k0_mult178 (k0_t6 : Fin k0_t6_loop.trips) : BitVec 32 :=
  let c0_i32_158 : BitVec 32 := 0#32
  let c1_i32_160 : BitVec 32 := 1#32
  let arg16 : BitVec 32 := Scf.iv c0_i32_158 c1_i32_160 k0_t6
  let c64_i32_366 : BitVec 32 := 64#32
  let v463 : BitVec 32 := Scalar.muli arg16 c64_i32_366
  let c48_i32 : BitVec 32 := 48#32
  let v464 : BitVec 32 := Scalar.addi v463 c48_i32
  v464
def k0_mult179 (k0_t6 : Fin k0_t6_loop.trips) : BitVec 32 :=
  let c0_i32_158 : BitVec 32 := 0#32
  let c1_i32_160 : BitVec 32 := 1#32
  let arg16 : BitVec 32 := Scf.iv c0_i32_158 c1_i32_160 k0_t6
  let c64_i32_366 : BitVec 32 := 64#32
  let v463 : BitVec 32 := Scalar.muli arg16 c64_i32_366
  let c48_i32 : BitVec 32 := 48#32
  let v464 : BitVec 32 := Scalar.addi v463 c48_i32
  let v465 : BitVec 32 := v464
  let c8_i32_368 : BitVec 32 := 8#32
  let v468 : BitVec 32 := Scalar.addi v465 c8_i32_368
  v468
def k0_mult180 (k0_t6 : Fin k0_t6_loop.trips) : BitVec 32 :=
  let c0_i32_158 : BitVec 32 := 0#32
  let c1_i32_160 : BitVec 32 := 1#32
  let arg16 : BitVec 32 := Scf.iv c0_i32_158 c1_i32_160 k0_t6
  let c64_i32_366 : BitVec 32 := 64#32
  let v463 : BitVec 32 := Scalar.muli arg16 c64_i32_366
  let c48_i32 : BitVec 32 := 48#32
  let v464 : BitVec 32 := Scalar.addi v463 c48_i32
  let v465 : BitVec 32 := v464
  let c8_i32_371 : BitVec 32 := 8#32
  let v475 : BitVec 32 := Scalar.addi v465 c8_i32_371
  v475
def k0_mult181 (k0_t6 : Fin k0_t6_loop.trips) : BitVec 32 :=
  let c0_i32_158 : BitVec 32 := 0#32
  let c1_i32_160 : BitVec 32 := 1#32
  let arg16 : BitVec 32 := Scf.iv c0_i32_158 c1_i32_160 k0_t6
  let c64_i32_374 : BitVec 32 := 64#32
  let v482 : BitVec 32 := Scalar.muli arg16 c64_i32_374
  let c56_i32 : BitVec 32 := 56#32
  let v483 : BitVec 32 := Scalar.addi v482 c56_i32
  v483
def k0_mult182 (k0_t6 : Fin k0_t6_loop.trips) : BitVec 32 :=
  let c0_i32_158 : BitVec 32 := 0#32
  let c1_i32_160 : BitVec 32 := 1#32
  let arg16 : BitVec 32 := Scf.iv c0_i32_158 c1_i32_160 k0_t6
  let c64_i32_374 : BitVec 32 := 64#32
  let v482 : BitVec 32 := Scalar.muli arg16 c64_i32_374
  let c56_i32 : BitVec 32 := 56#32
  let v483 : BitVec 32 := Scalar.addi v482 c56_i32
  let v484 : BitVec 32 := v483
  let c8_i32_376 : BitVec 32 := 8#32
  let v487 : BitVec 32 := Scalar.addi v484 c8_i32_376
  v487
def k0_mult183 (k0_t6 : Fin k0_t6_loop.trips) : BitVec 32 :=
  let c0_i32_158 : BitVec 32 := 0#32
  let c1_i32_160 : BitVec 32 := 1#32
  let arg16 : BitVec 32 := Scf.iv c0_i32_158 c1_i32_160 k0_t6
  let c64_i32_374 : BitVec 32 := 64#32
  let v482 : BitVec 32 := Scalar.muli arg16 c64_i32_374
  let c56_i32 : BitVec 32 := 56#32
  let v483 : BitVec 32 := Scalar.addi v482 c56_i32
  let v484 : BitVec 32 := v483
  let c8_i32_379 : BitVec 32 := 8#32
  let v494 : BitVec 32 := Scalar.addi v484 c8_i32_379
  v494
@[reducible] def k0_t7_loop : Scf.Loop 32 :=
  let c0_i32_171 : BitVec 32 := 0#32
  let c8_i32_172 : BitVec 32 := 8#32
  let v184 : BitVec 32 := Scalar.addi c0_i32_171 c8_i32_172
  let c1_i32_173 : BitVec 32 := 1#32
  ⟨c0_i32_171, v184, c1_i32_173⟩
def k0_mult184 (k0_t7 : Fin k0_t7_loop.trips) : BitVec 32 :=
  let c0_i32_171 : BitVec 32 := 0#32
  let c1_i32_173 : BitVec 32 := 1#32
  let arg16 : BitVec 32 := Scf.iv c0_i32_171 c1_i32_173 k0_t7
  let c64_i32 : BitVec 32 := 64#32
  let v349 : BitVec 32 := Scalar.muli arg16 c64_i32
  let c0_i32_316 : BitVec 32 := 0#32
  let v350 : BitVec 32 := Scalar.addi v349 c0_i32_316
  v350
def k0_off25 (k0_t7 : Fin k0_t7_loop.trips) (c0_i32_316 : BitVec 32) : Fin 2 → Nat :=
  let c0_i32_171 : BitVec 32 := 0#32
  let c1_i32_173 : BitVec 32 := 1#32
  let arg16 : BitVec 32 := Scf.iv c0_i32_171 c1_i32_173 k0_t7
  let c64_i32 : BitVec 32 := 64#32
  let v349 : BitVec 32 := Scalar.muli arg16 c64_i32
  let v350 : BitVec 32 := Scalar.addi v349 c0_i32_316
  let v351 : BitVec 32 := v350
  let v352 : Index := Scalar.indexCast v351
  let c0_317 : Index := 0#32
  ![v352.toNat, 0]
def k0_mult185 (k0_t7 : Fin k0_t7_loop.trips) : BitVec 32 :=
  let c0_i32_171 : BitVec 32 := 0#32
  let c1_i32_173 : BitVec 32 := 1#32
  let arg16 : BitVec 32 := Scf.iv c0_i32_171 c1_i32_173 k0_t7
  let c64_i32 : BitVec 32 := 64#32
  let v349 : BitVec 32 := Scalar.muli arg16 c64_i32
  let c0_i32_316 : BitVec 32 := 0#32
  let v350 : BitVec 32 := Scalar.addi v349 c0_i32_316
  let v351 : BitVec 32 := v350
  let c8_i32_318 : BitVec 32 := 8#32
  let v354 : BitVec 32 := Scalar.addi v351 c8_i32_318
  v354
def k0_off26 (k0_t7 : Fin k0_t7_loop.trips) (c0_i32_316 : BitVec 32) : Fin 3 → Nat :=
  let c4_319 : Index := 4#32
  let c0_i32_171 : BitVec 32 := 0#32
  let c1_i32_173 : BitVec 32 := 1#32
  let arg16 : BitVec 32 := Scf.iv c0_i32_171 c1_i32_173 k0_t7
  let c64_i32 : BitVec 32 := 64#32
  let v349 : BitVec 32 := Scalar.muli arg16 c64_i32
  let v350 : BitVec 32 := Scalar.addi v349 c0_i32_316
  let v351 : BitVec 32 := v350
  let c8_i32_318 : BitVec 32 := 8#32
  let v354 : BitVec 32 := Scalar.addi v351 c8_i32_318
  let v355 : BitVec 32 := v354
  let v356 : Index := Scalar.indexCast v355
  let c0_320 : Index := 0#32
  ![4, v356.toNat, 0]
def k0_mult186 (k0_t7 : Fin k0_t7_loop.trips) : BitVec 32 :=
  let c0_i32_171 : BitVec 32 := 0#32
  let c1_i32_173 : BitVec 32 := 1#32
  let arg16 : BitVec 32 := Scf.iv c0_i32_171 c1_i32_173 k0_t7
  let c64_i32 : BitVec 32 := 64#32
  let v349 : BitVec 32 := Scalar.muli arg16 c64_i32
  let c0_i32_316 : BitVec 32 := 0#32
  let v350 : BitVec 32 := Scalar.addi v349 c0_i32_316
  let v351 : BitVec 32 := v350
  let c8_i32_321 : BitVec 32 := 8#32
  let v361 : BitVec 32 := Scalar.addi v351 c8_i32_321
  v361
def k0_off27 (k0_t7 : Fin k0_t7_loop.trips) (c0_i32_316 : BitVec 32) : Fin 3 → Nat :=
  let c5_322 : Index := 5#32
  let c0_i32_171 : BitVec 32 := 0#32
  let c1_i32_173 : BitVec 32 := 1#32
  let arg16 : BitVec 32 := Scf.iv c0_i32_171 c1_i32_173 k0_t7
  let c64_i32 : BitVec 32 := 64#32
  let v349 : BitVec 32 := Scalar.muli arg16 c64_i32
  let v350 : BitVec 32 := Scalar.addi v349 c0_i32_316
  let v351 : BitVec 32 := v350
  let c8_i32_321 : BitVec 32 := 8#32
  let v361 : BitVec 32 := Scalar.addi v351 c8_i32_321
  let v362 : BitVec 32 := v361
  let v363 : Index := Scalar.indexCast v362
  let c0_323 : Index := 0#32
  ![5, v363.toNat, 0]
def k0_mult187 (k0_t7 : Fin k0_t7_loop.trips) : BitVec 32 :=
  let c0_i32_171 : BitVec 32 := 0#32
  let c1_i32_173 : BitVec 32 := 1#32
  let arg16 : BitVec 32 := Scf.iv c0_i32_171 c1_i32_173 k0_t7
  let c64_i32_324 : BitVec 32 := 64#32
  let v368 : BitVec 32 := Scalar.muli arg16 c64_i32_324
  let c8_i32_325 : BitVec 32 := 8#32
  let v369 : BitVec 32 := Scalar.addi v368 c8_i32_325
  v369
def k0_mult188 (k0_t7 : Fin k0_t7_loop.trips) : BitVec 32 :=
  let c0_i32_171 : BitVec 32 := 0#32
  let c1_i32_173 : BitVec 32 := 1#32
  let arg16 : BitVec 32 := Scf.iv c0_i32_171 c1_i32_173 k0_t7
  let c64_i32_324 : BitVec 32 := 64#32
  let v368 : BitVec 32 := Scalar.muli arg16 c64_i32_324
  let c8_i32_325 : BitVec 32 := 8#32
  let v369 : BitVec 32 := Scalar.addi v368 c8_i32_325
  let v370 : BitVec 32 := v369
  let c8_i32_327 : BitVec 32 := 8#32
  let v373 : BitVec 32 := Scalar.addi v370 c8_i32_327
  v373
def k0_mult189 (k0_t7 : Fin k0_t7_loop.trips) : BitVec 32 :=
  let c0_i32_171 : BitVec 32 := 0#32
  let c1_i32_173 : BitVec 32 := 1#32
  let arg16 : BitVec 32 := Scf.iv c0_i32_171 c1_i32_173 k0_t7
  let c64_i32_324 : BitVec 32 := 64#32
  let v368 : BitVec 32 := Scalar.muli arg16 c64_i32_324
  let c8_i32_325 : BitVec 32 := 8#32
  let v369 : BitVec 32 := Scalar.addi v368 c8_i32_325
  let v370 : BitVec 32 := v369
  let c8_i32_330 : BitVec 32 := 8#32
  let v380 : BitVec 32 := Scalar.addi v370 c8_i32_330
  v380
def k0_mult190 (k0_t7 : Fin k0_t7_loop.trips) : BitVec 32 :=
  let c0_i32_171 : BitVec 32 := 0#32
  let c1_i32_173 : BitVec 32 := 1#32
  let arg16 : BitVec 32 := Scf.iv c0_i32_171 c1_i32_173 k0_t7
  let c64_i32_333 : BitVec 32 := 64#32
  let v387 : BitVec 32 := Scalar.muli arg16 c64_i32_333
  let c16_i32 : BitVec 32 := 16#32
  let v388 : BitVec 32 := Scalar.addi v387 c16_i32
  v388
def k0_mult191 (k0_t7 : Fin k0_t7_loop.trips) : BitVec 32 :=
  let c0_i32_171 : BitVec 32 := 0#32
  let c1_i32_173 : BitVec 32 := 1#32
  let arg16 : BitVec 32 := Scf.iv c0_i32_171 c1_i32_173 k0_t7
  let c64_i32_333 : BitVec 32 := 64#32
  let v387 : BitVec 32 := Scalar.muli arg16 c64_i32_333
  let c16_i32 : BitVec 32 := 16#32
  let v388 : BitVec 32 := Scalar.addi v387 c16_i32
  let v389 : BitVec 32 := v388
  let c8_i32_335 : BitVec 32 := 8#32
  let v392 : BitVec 32 := Scalar.addi v389 c8_i32_335
  v392
def k0_mult192 (k0_t7 : Fin k0_t7_loop.trips) : BitVec 32 :=
  let c0_i32_171 : BitVec 32 := 0#32
  let c1_i32_173 : BitVec 32 := 1#32
  let arg16 : BitVec 32 := Scf.iv c0_i32_171 c1_i32_173 k0_t7
  let c64_i32_333 : BitVec 32 := 64#32
  let v387 : BitVec 32 := Scalar.muli arg16 c64_i32_333
  let c16_i32 : BitVec 32 := 16#32
  let v388 : BitVec 32 := Scalar.addi v387 c16_i32
  let v389 : BitVec 32 := v388
  let c8_i32_338 : BitVec 32 := 8#32
  let v399 : BitVec 32 := Scalar.addi v389 c8_i32_338
  v399
def k0_mult193 (k0_t7 : Fin k0_t7_loop.trips) : BitVec 32 :=
  let c0_i32_171 : BitVec 32 := 0#32
  let c1_i32_173 : BitVec 32 := 1#32
  let arg16 : BitVec 32 := Scf.iv c0_i32_171 c1_i32_173 k0_t7
  let c64_i32_341 : BitVec 32 := 64#32
  let v406 : BitVec 32 := Scalar.muli arg16 c64_i32_341
  let c24_i32 : BitVec 32 := 24#32
  let v407 : BitVec 32 := Scalar.addi v406 c24_i32
  v407
def k0_mult194 (k0_t7 : Fin k0_t7_loop.trips) : BitVec 32 :=
  let c0_i32_171 : BitVec 32 := 0#32
  let c1_i32_173 : BitVec 32 := 1#32
  let arg16 : BitVec 32 := Scf.iv c0_i32_171 c1_i32_173 k0_t7
  let c64_i32_341 : BitVec 32 := 64#32
  let v406 : BitVec 32 := Scalar.muli arg16 c64_i32_341
  let c24_i32 : BitVec 32 := 24#32
  let v407 : BitVec 32 := Scalar.addi v406 c24_i32
  let v408 : BitVec 32 := v407
  let c8_i32_343 : BitVec 32 := 8#32
  let v411 : BitVec 32 := Scalar.addi v408 c8_i32_343
  v411
def k0_mult195 (k0_t7 : Fin k0_t7_loop.trips) : BitVec 32 :=
  let c0_i32_171 : BitVec 32 := 0#32
  let c1_i32_173 : BitVec 32 := 1#32
  let arg16 : BitVec 32 := Scf.iv c0_i32_171 c1_i32_173 k0_t7
  let c64_i32_341 : BitVec 32 := 64#32
  let v406 : BitVec 32 := Scalar.muli arg16 c64_i32_341
  let c24_i32 : BitVec 32 := 24#32
  let v407 : BitVec 32 := Scalar.addi v406 c24_i32
  let v408 : BitVec 32 := v407
  let c8_i32_346 : BitVec 32 := 8#32
  let v418 : BitVec 32 := Scalar.addi v408 c8_i32_346
  v418
def k0_mult196 (k0_t7 : Fin k0_t7_loop.trips) : BitVec 32 :=
  let c0_i32_171 : BitVec 32 := 0#32
  let c1_i32_173 : BitVec 32 := 1#32
  let arg16 : BitVec 32 := Scf.iv c0_i32_171 c1_i32_173 k0_t7
  let c64_i32_349 : BitVec 32 := 64#32
  let v425 : BitVec 32 := Scalar.muli arg16 c64_i32_349
  let c32_i32_350 : BitVec 32 := 32#32
  let v426 : BitVec 32 := Scalar.addi v425 c32_i32_350
  v426
def k0_mult197 (k0_t7 : Fin k0_t7_loop.trips) : BitVec 32 :=
  let c0_i32_171 : BitVec 32 := 0#32
  let c1_i32_173 : BitVec 32 := 1#32
  let arg16 : BitVec 32 := Scf.iv c0_i32_171 c1_i32_173 k0_t7
  let c64_i32_349 : BitVec 32 := 64#32
  let v425 : BitVec 32 := Scalar.muli arg16 c64_i32_349
  let c32_i32_350 : BitVec 32 := 32#32
  let v426 : BitVec 32 := Scalar.addi v425 c32_i32_350
  let v427 : BitVec 32 := v426
  let c8_i32_352 : BitVec 32 := 8#32
  let v430 : BitVec 32 := Scalar.addi v427 c8_i32_352
  v430
def k0_mult198 (k0_t7 : Fin k0_t7_loop.trips) : BitVec 32 :=
  let c0_i32_171 : BitVec 32 := 0#32
  let c1_i32_173 : BitVec 32 := 1#32
  let arg16 : BitVec 32 := Scf.iv c0_i32_171 c1_i32_173 k0_t7
  let c64_i32_349 : BitVec 32 := 64#32
  let v425 : BitVec 32 := Scalar.muli arg16 c64_i32_349
  let c32_i32_350 : BitVec 32 := 32#32
  let v426 : BitVec 32 := Scalar.addi v425 c32_i32_350
  let v427 : BitVec 32 := v426
  let c8_i32_355 : BitVec 32 := 8#32
  let v437 : BitVec 32 := Scalar.addi v427 c8_i32_355
  v437
def k0_mult199 (k0_t7 : Fin k0_t7_loop.trips) : BitVec 32 :=
  let c0_i32_171 : BitVec 32 := 0#32
  let c1_i32_173 : BitVec 32 := 1#32
  let arg16 : BitVec 32 := Scf.iv c0_i32_171 c1_i32_173 k0_t7
  let c64_i32_358 : BitVec 32 := 64#32
  let v444 : BitVec 32 := Scalar.muli arg16 c64_i32_358
  let c40_i32 : BitVec 32 := 40#32
  let v445 : BitVec 32 := Scalar.addi v444 c40_i32
  v445
def k0_mult200 (k0_t7 : Fin k0_t7_loop.trips) : BitVec 32 :=
  let c0_i32_171 : BitVec 32 := 0#32
  let c1_i32_173 : BitVec 32 := 1#32
  let arg16 : BitVec 32 := Scf.iv c0_i32_171 c1_i32_173 k0_t7
  let c64_i32_358 : BitVec 32 := 64#32
  let v444 : BitVec 32 := Scalar.muli arg16 c64_i32_358
  let c40_i32 : BitVec 32 := 40#32
  let v445 : BitVec 32 := Scalar.addi v444 c40_i32
  let v446 : BitVec 32 := v445
  let c8_i32_360 : BitVec 32 := 8#32
  let v449 : BitVec 32 := Scalar.addi v446 c8_i32_360
  v449
def k0_mult201 (k0_t7 : Fin k0_t7_loop.trips) : BitVec 32 :=
  let c0_i32_171 : BitVec 32 := 0#32
  let c1_i32_173 : BitVec 32 := 1#32
  let arg16 : BitVec 32 := Scf.iv c0_i32_171 c1_i32_173 k0_t7
  let c64_i32_358 : BitVec 32 := 64#32
  let v444 : BitVec 32 := Scalar.muli arg16 c64_i32_358
  let c40_i32 : BitVec 32 := 40#32
  let v445 : BitVec 32 := Scalar.addi v444 c40_i32
  let v446 : BitVec 32 := v445
  let c8_i32_363 : BitVec 32 := 8#32
  let v456 : BitVec 32 := Scalar.addi v446 c8_i32_363
  v456
def k0_mult202 (k0_t7 : Fin k0_t7_loop.trips) : BitVec 32 :=
  let c0_i32_171 : BitVec 32 := 0#32
  let c1_i32_173 : BitVec 32 := 1#32
  let arg16 : BitVec 32 := Scf.iv c0_i32_171 c1_i32_173 k0_t7
  let c64_i32_366 : BitVec 32 := 64#32
  let v463 : BitVec 32 := Scalar.muli arg16 c64_i32_366
  let c48_i32 : BitVec 32 := 48#32
  let v464 : BitVec 32 := Scalar.addi v463 c48_i32
  v464
def k0_mult203 (k0_t7 : Fin k0_t7_loop.trips) : BitVec 32 :=
  let c0_i32_171 : BitVec 32 := 0#32
  let c1_i32_173 : BitVec 32 := 1#32
  let arg16 : BitVec 32 := Scf.iv c0_i32_171 c1_i32_173 k0_t7
  let c64_i32_366 : BitVec 32 := 64#32
  let v463 : BitVec 32 := Scalar.muli arg16 c64_i32_366
  let c48_i32 : BitVec 32 := 48#32
  let v464 : BitVec 32 := Scalar.addi v463 c48_i32
  let v465 : BitVec 32 := v464
  let c8_i32_368 : BitVec 32 := 8#32
  let v468 : BitVec 32 := Scalar.addi v465 c8_i32_368
  v468
def k0_mult204 (k0_t7 : Fin k0_t7_loop.trips) : BitVec 32 :=
  let c0_i32_171 : BitVec 32 := 0#32
  let c1_i32_173 : BitVec 32 := 1#32
  let arg16 : BitVec 32 := Scf.iv c0_i32_171 c1_i32_173 k0_t7
  let c64_i32_366 : BitVec 32 := 64#32
  let v463 : BitVec 32 := Scalar.muli arg16 c64_i32_366
  let c48_i32 : BitVec 32 := 48#32
  let v464 : BitVec 32 := Scalar.addi v463 c48_i32
  let v465 : BitVec 32 := v464
  let c8_i32_371 : BitVec 32 := 8#32
  let v475 : BitVec 32 := Scalar.addi v465 c8_i32_371
  v475
def k0_mult205 (k0_t7 : Fin k0_t7_loop.trips) : BitVec 32 :=
  let c0_i32_171 : BitVec 32 := 0#32
  let c1_i32_173 : BitVec 32 := 1#32
  let arg16 : BitVec 32 := Scf.iv c0_i32_171 c1_i32_173 k0_t7
  let c64_i32_374 : BitVec 32 := 64#32
  let v482 : BitVec 32 := Scalar.muli arg16 c64_i32_374
  let c56_i32 : BitVec 32 := 56#32
  let v483 : BitVec 32 := Scalar.addi v482 c56_i32
  v483
def k0_mult206 (k0_t7 : Fin k0_t7_loop.trips) : BitVec 32 :=
  let c0_i32_171 : BitVec 32 := 0#32
  let c1_i32_173 : BitVec 32 := 1#32
  let arg16 : BitVec 32 := Scf.iv c0_i32_171 c1_i32_173 k0_t7
  let c64_i32_374 : BitVec 32 := 64#32
  let v482 : BitVec 32 := Scalar.muli arg16 c64_i32_374
  let c56_i32 : BitVec 32 := 56#32
  let v483 : BitVec 32 := Scalar.addi v482 c56_i32
  let v484 : BitVec 32 := v483
  let c8_i32_376 : BitVec 32 := 8#32
  let v487 : BitVec 32 := Scalar.addi v484 c8_i32_376
  v487
def k0_mult207 (k0_t7 : Fin k0_t7_loop.trips) : BitVec 32 :=
  let c0_i32_171 : BitVec 32 := 0#32
  let c1_i32_173 : BitVec 32 := 1#32
  let arg16 : BitVec 32 := Scf.iv c0_i32_171 c1_i32_173 k0_t7
  let c64_i32_374 : BitVec 32 := 64#32
  let v482 : BitVec 32 := Scalar.muli arg16 c64_i32_374
  let c56_i32 : BitVec 32 := 56#32
  let v483 : BitVec 32 := Scalar.addi v482 c56_i32
  let v484 : BitVec 32 := v483
  let c8_i32_379 : BitVec 32 := 8#32
  let v494 : BitVec 32 := Scalar.addi v484 c8_i32_379
  v494
@[reducible] def k0_t8_loop : Scf.Loop 32 :=
  let c0_i32_184 : BitVec 32 := 0#32
  let c8_i32_185 : BitVec 32 := 8#32
  let v199 : BitVec 32 := Scalar.addi c0_i32_184 c8_i32_185
  let c1_i32_186 : BitVec 32 := 1#32
  ⟨c0_i32_184, v199, c1_i32_186⟩
def k0_mult208 (k0_t8 : Fin k0_t8_loop.trips) : BitVec 32 :=
  let c0_i32_184 : BitVec 32 := 0#32
  let c1_i32_186 : BitVec 32 := 1#32
  let arg16 : BitVec 32 := Scf.iv c0_i32_184 c1_i32_186 k0_t8
  let c64_i32 : BitVec 32 := 64#32
  let v349 : BitVec 32 := Scalar.muli arg16 c64_i32
  let c0_i32_316 : BitVec 32 := 0#32
  let v350 : BitVec 32 := Scalar.addi v349 c0_i32_316
  v350
def k0_off28 (k0_t8 : Fin k0_t8_loop.trips) (c0_i32_316 : BitVec 32) : Fin 2 → Nat :=
  let c0_i32_184 : BitVec 32 := 0#32
  let c1_i32_186 : BitVec 32 := 1#32
  let arg16 : BitVec 32 := Scf.iv c0_i32_184 c1_i32_186 k0_t8
  let c64_i32 : BitVec 32 := 64#32
  let v349 : BitVec 32 := Scalar.muli arg16 c64_i32
  let v350 : BitVec 32 := Scalar.addi v349 c0_i32_316
  let v351 : BitVec 32 := v350
  let v352 : Index := Scalar.indexCast v351
  let c0_317 : Index := 0#32
  ![v352.toNat, 0]
def k0_mult209 (k0_t8 : Fin k0_t8_loop.trips) : BitVec 32 :=
  let c0_i32_184 : BitVec 32 := 0#32
  let c1_i32_186 : BitVec 32 := 1#32
  let arg16 : BitVec 32 := Scf.iv c0_i32_184 c1_i32_186 k0_t8
  let c64_i32 : BitVec 32 := 64#32
  let v349 : BitVec 32 := Scalar.muli arg16 c64_i32
  let c0_i32_316 : BitVec 32 := 0#32
  let v350 : BitVec 32 := Scalar.addi v349 c0_i32_316
  let v351 : BitVec 32 := v350
  let c8_i32_318 : BitVec 32 := 8#32
  let v354 : BitVec 32 := Scalar.addi v351 c8_i32_318
  v354
def k0_off29 (k0_t8 : Fin k0_t8_loop.trips) (c0_i32_316 : BitVec 32) : Fin 3 → Nat :=
  let c6_319 : Index := 6#32
  let c0_i32_184 : BitVec 32 := 0#32
  let c1_i32_186 : BitVec 32 := 1#32
  let arg16 : BitVec 32 := Scf.iv c0_i32_184 c1_i32_186 k0_t8
  let c64_i32 : BitVec 32 := 64#32
  let v349 : BitVec 32 := Scalar.muli arg16 c64_i32
  let v350 : BitVec 32 := Scalar.addi v349 c0_i32_316
  let v351 : BitVec 32 := v350
  let c8_i32_318 : BitVec 32 := 8#32
  let v354 : BitVec 32 := Scalar.addi v351 c8_i32_318
  let v355 : BitVec 32 := v354
  let v356 : Index := Scalar.indexCast v355
  let c0_320 : Index := 0#32
  ![6, v356.toNat, 0]
def k0_mult210 (k0_t8 : Fin k0_t8_loop.trips) : BitVec 32 :=
  let c0_i32_184 : BitVec 32 := 0#32
  let c1_i32_186 : BitVec 32 := 1#32
  let arg16 : BitVec 32 := Scf.iv c0_i32_184 c1_i32_186 k0_t8
  let c64_i32 : BitVec 32 := 64#32
  let v349 : BitVec 32 := Scalar.muli arg16 c64_i32
  let c0_i32_316 : BitVec 32 := 0#32
  let v350 : BitVec 32 := Scalar.addi v349 c0_i32_316
  let v351 : BitVec 32 := v350
  let c8_i32_321 : BitVec 32 := 8#32
  let v361 : BitVec 32 := Scalar.addi v351 c8_i32_321
  v361
def k0_off30 (k0_t8 : Fin k0_t8_loop.trips) (c0_i32_316 : BitVec 32) : Fin 3 → Nat :=
  let c7_322 : Index := 7#32
  let c0_i32_184 : BitVec 32 := 0#32
  let c1_i32_186 : BitVec 32 := 1#32
  let arg16 : BitVec 32 := Scf.iv c0_i32_184 c1_i32_186 k0_t8
  let c64_i32 : BitVec 32 := 64#32
  let v349 : BitVec 32 := Scalar.muli arg16 c64_i32
  let v350 : BitVec 32 := Scalar.addi v349 c0_i32_316
  let v351 : BitVec 32 := v350
  let c8_i32_321 : BitVec 32 := 8#32
  let v361 : BitVec 32 := Scalar.addi v351 c8_i32_321
  let v362 : BitVec 32 := v361
  let v363 : Index := Scalar.indexCast v362
  let c0_323 : Index := 0#32
  ![7, v363.toNat, 0]
def k0_mult211 (k0_t8 : Fin k0_t8_loop.trips) : BitVec 32 :=
  let c0_i32_184 : BitVec 32 := 0#32
  let c1_i32_186 : BitVec 32 := 1#32
  let arg16 : BitVec 32 := Scf.iv c0_i32_184 c1_i32_186 k0_t8
  let c64_i32_324 : BitVec 32 := 64#32
  let v368 : BitVec 32 := Scalar.muli arg16 c64_i32_324
  let c8_i32_325 : BitVec 32 := 8#32
  let v369 : BitVec 32 := Scalar.addi v368 c8_i32_325
  v369
def k0_mult212 (k0_t8 : Fin k0_t8_loop.trips) : BitVec 32 :=
  let c0_i32_184 : BitVec 32 := 0#32
  let c1_i32_186 : BitVec 32 := 1#32
  let arg16 : BitVec 32 := Scf.iv c0_i32_184 c1_i32_186 k0_t8
  let c64_i32_324 : BitVec 32 := 64#32
  let v368 : BitVec 32 := Scalar.muli arg16 c64_i32_324
  let c8_i32_325 : BitVec 32 := 8#32
  let v369 : BitVec 32 := Scalar.addi v368 c8_i32_325
  let v370 : BitVec 32 := v369
  let c8_i32_327 : BitVec 32 := 8#32
  let v373 : BitVec 32 := Scalar.addi v370 c8_i32_327
  v373
def k0_mult213 (k0_t8 : Fin k0_t8_loop.trips) : BitVec 32 :=
  let c0_i32_184 : BitVec 32 := 0#32
  let c1_i32_186 : BitVec 32 := 1#32
  let arg16 : BitVec 32 := Scf.iv c0_i32_184 c1_i32_186 k0_t8
  let c64_i32_324 : BitVec 32 := 64#32
  let v368 : BitVec 32 := Scalar.muli arg16 c64_i32_324
  let c8_i32_325 : BitVec 32 := 8#32
  let v369 : BitVec 32 := Scalar.addi v368 c8_i32_325
  let v370 : BitVec 32 := v369
  let c8_i32_330 : BitVec 32 := 8#32
  let v380 : BitVec 32 := Scalar.addi v370 c8_i32_330
  v380
def k0_mult214 (k0_t8 : Fin k0_t8_loop.trips) : BitVec 32 :=
  let c0_i32_184 : BitVec 32 := 0#32
  let c1_i32_186 : BitVec 32 := 1#32
  let arg16 : BitVec 32 := Scf.iv c0_i32_184 c1_i32_186 k0_t8
  let c64_i32_333 : BitVec 32 := 64#32
  let v387 : BitVec 32 := Scalar.muli arg16 c64_i32_333
  let c16_i32 : BitVec 32 := 16#32
  let v388 : BitVec 32 := Scalar.addi v387 c16_i32
  v388
def k0_mult215 (k0_t8 : Fin k0_t8_loop.trips) : BitVec 32 :=
  let c0_i32_184 : BitVec 32 := 0#32
  let c1_i32_186 : BitVec 32 := 1#32
  let arg16 : BitVec 32 := Scf.iv c0_i32_184 c1_i32_186 k0_t8
  let c64_i32_333 : BitVec 32 := 64#32
  let v387 : BitVec 32 := Scalar.muli arg16 c64_i32_333
  let c16_i32 : BitVec 32 := 16#32
  let v388 : BitVec 32 := Scalar.addi v387 c16_i32
  let v389 : BitVec 32 := v388
  let c8_i32_335 : BitVec 32 := 8#32
  let v392 : BitVec 32 := Scalar.addi v389 c8_i32_335
  v392
def k0_mult216 (k0_t8 : Fin k0_t8_loop.trips) : BitVec 32 :=
  let c0_i32_184 : BitVec 32 := 0#32
  let c1_i32_186 : BitVec 32 := 1#32
  let arg16 : BitVec 32 := Scf.iv c0_i32_184 c1_i32_186 k0_t8
  let c64_i32_333 : BitVec 32 := 64#32
  let v387 : BitVec 32 := Scalar.muli arg16 c64_i32_333
  let c16_i32 : BitVec 32 := 16#32
  let v388 : BitVec 32 := Scalar.addi v387 c16_i32
  let v389 : BitVec 32 := v388
  let c8_i32_338 : BitVec 32 := 8#32
  let v399 : BitVec 32 := Scalar.addi v389 c8_i32_338
  v399
def k0_mult217 (k0_t8 : Fin k0_t8_loop.trips) : BitVec 32 :=
  let c0_i32_184 : BitVec 32 := 0#32
  let c1_i32_186 : BitVec 32 := 1#32
  let arg16 : BitVec 32 := Scf.iv c0_i32_184 c1_i32_186 k0_t8
  let c64_i32_341 : BitVec 32 := 64#32
  let v406 : BitVec 32 := Scalar.muli arg16 c64_i32_341
  let c24_i32 : BitVec 32 := 24#32
  let v407 : BitVec 32 := Scalar.addi v406 c24_i32
  v407
def k0_mult218 (k0_t8 : Fin k0_t8_loop.trips) : BitVec 32 :=
  let c0_i32_184 : BitVec 32 := 0#32
  let c1_i32_186 : BitVec 32 := 1#32
  let arg16 : BitVec 32 := Scf.iv c0_i32_184 c1_i32_186 k0_t8
  let c64_i32_341 : BitVec 32 := 64#32
  let v406 : BitVec 32 := Scalar.muli arg16 c64_i32_341
  let c24_i32 : BitVec 32 := 24#32
  let v407 : BitVec 32 := Scalar.addi v406 c24_i32
  let v408 : BitVec 32 := v407
  let c8_i32_343 : BitVec 32 := 8#32
  let v411 : BitVec 32 := Scalar.addi v408 c8_i32_343
  v411
def k0_mult219 (k0_t8 : Fin k0_t8_loop.trips) : BitVec 32 :=
  let c0_i32_184 : BitVec 32 := 0#32
  let c1_i32_186 : BitVec 32 := 1#32
  let arg16 : BitVec 32 := Scf.iv c0_i32_184 c1_i32_186 k0_t8
  let c64_i32_341 : BitVec 32 := 64#32
  let v406 : BitVec 32 := Scalar.muli arg16 c64_i32_341
  let c24_i32 : BitVec 32 := 24#32
  let v407 : BitVec 32 := Scalar.addi v406 c24_i32
  let v408 : BitVec 32 := v407
  let c8_i32_346 : BitVec 32 := 8#32
  let v418 : BitVec 32 := Scalar.addi v408 c8_i32_346
  v418
def k0_mult220 (k0_t8 : Fin k0_t8_loop.trips) : BitVec 32 :=
  let c0_i32_184 : BitVec 32 := 0#32
  let c1_i32_186 : BitVec 32 := 1#32
  let arg16 : BitVec 32 := Scf.iv c0_i32_184 c1_i32_186 k0_t8
  let c64_i32_349 : BitVec 32 := 64#32
  let v425 : BitVec 32 := Scalar.muli arg16 c64_i32_349
  let c32_i32_350 : BitVec 32 := 32#32
  let v426 : BitVec 32 := Scalar.addi v425 c32_i32_350
  v426
def k0_mult221 (k0_t8 : Fin k0_t8_loop.trips) : BitVec 32 :=
  let c0_i32_184 : BitVec 32 := 0#32
  let c1_i32_186 : BitVec 32 := 1#32
  let arg16 : BitVec 32 := Scf.iv c0_i32_184 c1_i32_186 k0_t8
  let c64_i32_349 : BitVec 32 := 64#32
  let v425 : BitVec 32 := Scalar.muli arg16 c64_i32_349
  let c32_i32_350 : BitVec 32 := 32#32
  let v426 : BitVec 32 := Scalar.addi v425 c32_i32_350
  let v427 : BitVec 32 := v426
  let c8_i32_352 : BitVec 32 := 8#32
  let v430 : BitVec 32 := Scalar.addi v427 c8_i32_352
  v430
def k0_mult222 (k0_t8 : Fin k0_t8_loop.trips) : BitVec 32 :=
  let c0_i32_184 : BitVec 32 := 0#32
  let c1_i32_186 : BitVec 32 := 1#32
  let arg16 : BitVec 32 := Scf.iv c0_i32_184 c1_i32_186 k0_t8
  let c64_i32_349 : BitVec 32 := 64#32
  let v425 : BitVec 32 := Scalar.muli arg16 c64_i32_349
  let c32_i32_350 : BitVec 32 := 32#32
  let v426 : BitVec 32 := Scalar.addi v425 c32_i32_350
  let v427 : BitVec 32 := v426
  let c8_i32_355 : BitVec 32 := 8#32
  let v437 : BitVec 32 := Scalar.addi v427 c8_i32_355
  v437
def k0_mult223 (k0_t8 : Fin k0_t8_loop.trips) : BitVec 32 :=
  let c0_i32_184 : BitVec 32 := 0#32
  let c1_i32_186 : BitVec 32 := 1#32
  let arg16 : BitVec 32 := Scf.iv c0_i32_184 c1_i32_186 k0_t8
  let c64_i32_358 : BitVec 32 := 64#32
  let v444 : BitVec 32 := Scalar.muli arg16 c64_i32_358
  let c40_i32 : BitVec 32 := 40#32
  let v445 : BitVec 32 := Scalar.addi v444 c40_i32
  v445
def k0_mult224 (k0_t8 : Fin k0_t8_loop.trips) : BitVec 32 :=
  let c0_i32_184 : BitVec 32 := 0#32
  let c1_i32_186 : BitVec 32 := 1#32
  let arg16 : BitVec 32 := Scf.iv c0_i32_184 c1_i32_186 k0_t8
  let c64_i32_358 : BitVec 32 := 64#32
  let v444 : BitVec 32 := Scalar.muli arg16 c64_i32_358
  let c40_i32 : BitVec 32 := 40#32
  let v445 : BitVec 32 := Scalar.addi v444 c40_i32
  let v446 : BitVec 32 := v445
  let c8_i32_360 : BitVec 32 := 8#32
  let v449 : BitVec 32 := Scalar.addi v446 c8_i32_360
  v449
def k0_mult225 (k0_t8 : Fin k0_t8_loop.trips) : BitVec 32 :=
  let c0_i32_184 : BitVec 32 := 0#32
  let c1_i32_186 : BitVec 32 := 1#32
  let arg16 : BitVec 32 := Scf.iv c0_i32_184 c1_i32_186 k0_t8
  let c64_i32_358 : BitVec 32 := 64#32
  let v444 : BitVec 32 := Scalar.muli arg16 c64_i32_358
  let c40_i32 : BitVec 32 := 40#32
  let v445 : BitVec 32 := Scalar.addi v444 c40_i32
  let v446 : BitVec 32 := v445
  let c8_i32_363 : BitVec 32 := 8#32
  let v456 : BitVec 32 := Scalar.addi v446 c8_i32_363
  v456
def k0_mult226 (k0_t8 : Fin k0_t8_loop.trips) : BitVec 32 :=
  let c0_i32_184 : BitVec 32 := 0#32
  let c1_i32_186 : BitVec 32 := 1#32
  let arg16 : BitVec 32 := Scf.iv c0_i32_184 c1_i32_186 k0_t8
  let c64_i32_366 : BitVec 32 := 64#32
  let v463 : BitVec 32 := Scalar.muli arg16 c64_i32_366
  let c48_i32 : BitVec 32 := 48#32
  let v464 : BitVec 32 := Scalar.addi v463 c48_i32
  v464
def k0_mult227 (k0_t8 : Fin k0_t8_loop.trips) : BitVec 32 :=
  let c0_i32_184 : BitVec 32 := 0#32
  let c1_i32_186 : BitVec 32 := 1#32
  let arg16 : BitVec 32 := Scf.iv c0_i32_184 c1_i32_186 k0_t8
  let c64_i32_366 : BitVec 32 := 64#32
  let v463 : BitVec 32 := Scalar.muli arg16 c64_i32_366
  let c48_i32 : BitVec 32 := 48#32
  let v464 : BitVec 32 := Scalar.addi v463 c48_i32
  let v465 : BitVec 32 := v464
  let c8_i32_368 : BitVec 32 := 8#32
  let v468 : BitVec 32 := Scalar.addi v465 c8_i32_368
  v468
def k0_mult228 (k0_t8 : Fin k0_t8_loop.trips) : BitVec 32 :=
  let c0_i32_184 : BitVec 32 := 0#32
  let c1_i32_186 : BitVec 32 := 1#32
  let arg16 : BitVec 32 := Scf.iv c0_i32_184 c1_i32_186 k0_t8
  let c64_i32_366 : BitVec 32 := 64#32
  let v463 : BitVec 32 := Scalar.muli arg16 c64_i32_366
  let c48_i32 : BitVec 32 := 48#32
  let v464 : BitVec 32 := Scalar.addi v463 c48_i32
  let v465 : BitVec 32 := v464
  let c8_i32_371 : BitVec 32 := 8#32
  let v475 : BitVec 32 := Scalar.addi v465 c8_i32_371
  v475
def k0_mult229 (k0_t8 : Fin k0_t8_loop.trips) : BitVec 32 :=
  let c0_i32_184 : BitVec 32 := 0#32
  let c1_i32_186 : BitVec 32 := 1#32
  let arg16 : BitVec 32 := Scf.iv c0_i32_184 c1_i32_186 k0_t8
  let c64_i32_374 : BitVec 32 := 64#32
  let v482 : BitVec 32 := Scalar.muli arg16 c64_i32_374
  let c56_i32 : BitVec 32 := 56#32
  let v483 : BitVec 32 := Scalar.addi v482 c56_i32
  v483
def k0_mult230 (k0_t8 : Fin k0_t8_loop.trips) : BitVec 32 :=
  let c0_i32_184 : BitVec 32 := 0#32
  let c1_i32_186 : BitVec 32 := 1#32
  let arg16 : BitVec 32 := Scf.iv c0_i32_184 c1_i32_186 k0_t8
  let c64_i32_374 : BitVec 32 := 64#32
  let v482 : BitVec 32 := Scalar.muli arg16 c64_i32_374
  let c56_i32 : BitVec 32 := 56#32
  let v483 : BitVec 32 := Scalar.addi v482 c56_i32
  let v484 : BitVec 32 := v483
  let c8_i32_376 : BitVec 32 := 8#32
  let v487 : BitVec 32 := Scalar.addi v484 c8_i32_376
  v487
def k0_mult231 (k0_t8 : Fin k0_t8_loop.trips) : BitVec 32 :=
  let c0_i32_184 : BitVec 32 := 0#32
  let c1_i32_186 : BitVec 32 := 1#32
  let arg16 : BitVec 32 := Scf.iv c0_i32_184 c1_i32_186 k0_t8
  let c64_i32_374 : BitVec 32 := 64#32
  let v482 : BitVec 32 := Scalar.muli arg16 c64_i32_374
  let c56_i32 : BitVec 32 := 56#32
  let v483 : BitVec 32 := Scalar.addi v482 c56_i32
  let v484 : BitVec 32 := v483
  let c8_i32_379 : BitVec 32 := 8#32
  let v494 : BitVec 32 := Scalar.addi v484 c8_i32_379
  v494
@[reducible] def k0_t9_loop : Scf.Loop 32 :=
  let c0_i32_197 : BitVec 32 := 0#32
  let c8_i32_198 : BitVec 32 := 8#32
  let v214 : BitVec 32 := Scalar.addi c0_i32_197 c8_i32_198
  let c1_i32_199 : BitVec 32 := 1#32
  ⟨c0_i32_197, v214, c1_i32_199⟩
def k0_mult232 (k0_t9 : Fin k0_t9_loop.trips) : BitVec 32 :=
  let c0_i32_197 : BitVec 32 := 0#32
  let c1_i32_199 : BitVec 32 := 1#32
  let arg16 : BitVec 32 := Scf.iv c0_i32_197 c1_i32_199 k0_t9
  let c64_i32 : BitVec 32 := 64#32
  let v349 : BitVec 32 := Scalar.muli arg16 c64_i32
  let c0_i32_316 : BitVec 32 := 0#32
  let v350 : BitVec 32 := Scalar.addi v349 c0_i32_316
  v350
def k0_off31 (k0_t9 : Fin k0_t9_loop.trips) (c0_i32_316 : BitVec 32) : Fin 2 → Nat :=
  let c0_i32_197 : BitVec 32 := 0#32
  let c1_i32_199 : BitVec 32 := 1#32
  let arg16 : BitVec 32 := Scf.iv c0_i32_197 c1_i32_199 k0_t9
  let c64_i32 : BitVec 32 := 64#32
  let v349 : BitVec 32 := Scalar.muli arg16 c64_i32
  let v350 : BitVec 32 := Scalar.addi v349 c0_i32_316
  let v351 : BitVec 32 := v350
  let v352 : Index := Scalar.indexCast v351
  let c0_317 : Index := 0#32
  ![v352.toNat, 0]
def k0_mult233 (k0_t9 : Fin k0_t9_loop.trips) : BitVec 32 :=
  let c0_i32_197 : BitVec 32 := 0#32
  let c1_i32_199 : BitVec 32 := 1#32
  let arg16 : BitVec 32 := Scf.iv c0_i32_197 c1_i32_199 k0_t9
  let c64_i32 : BitVec 32 := 64#32
  let v349 : BitVec 32 := Scalar.muli arg16 c64_i32
  let c0_i32_316 : BitVec 32 := 0#32
  let v350 : BitVec 32 := Scalar.addi v349 c0_i32_316
  let v351 : BitVec 32 := v350
  let c16_i32 : BitVec 32 := 16#32
  let v354 : BitVec 32 := Scalar.addi v351 c16_i32
  v354
def k0_off32 (k0_t9 : Fin k0_t9_loop.trips) (c0_i32_316 : BitVec 32) : Fin 3 → Nat :=
  let c0_318 : Index := 0#32
  let c0_i32_197 : BitVec 32 := 0#32
  let c1_i32_199 : BitVec 32 := 1#32
  let arg16 : BitVec 32 := Scf.iv c0_i32_197 c1_i32_199 k0_t9
  let c64_i32 : BitVec 32 := 64#32
  let v349 : BitVec 32 := Scalar.muli arg16 c64_i32
  let v350 : BitVec 32 := Scalar.addi v349 c0_i32_316
  let v351 : BitVec 32 := v350
  let c16_i32 : BitVec 32 := 16#32
  let v354 : BitVec 32 := Scalar.addi v351 c16_i32
  let v355 : BitVec 32 := v354
  let v356 : Index := Scalar.indexCast v355
  let c0_319 : Index := 0#32
  ![0, v356.toNat, 0]
def k0_mult234 (k0_t9 : Fin k0_t9_loop.trips) : BitVec 32 :=
  let c0_i32_197 : BitVec 32 := 0#32
  let c1_i32_199 : BitVec 32 := 1#32
  let arg16 : BitVec 32 := Scf.iv c0_i32_197 c1_i32_199 k0_t9
  let c64_i32 : BitVec 32 := 64#32
  let v349 : BitVec 32 := Scalar.muli arg16 c64_i32
  let c0_i32_316 : BitVec 32 := 0#32
  let v350 : BitVec 32 := Scalar.addi v349 c0_i32_316
  let v351 : BitVec 32 := v350
  let c16_i32_320 : BitVec 32 := 16#32
  let v361 : BitVec 32 := Scalar.addi v351 c16_i32_320
  v361
def k0_off33 (k0_t9 : Fin k0_t9_loop.trips) (c0_i32_316 : BitVec 32) : Fin 3 → Nat :=
  let c1_321 : Index := 1#32
  let c0_i32_197 : BitVec 32 := 0#32
  let c1_i32_199 : BitVec 32 := 1#32
  let arg16 : BitVec 32 := Scf.iv c0_i32_197 c1_i32_199 k0_t9
  let c64_i32 : BitVec 32 := 64#32
  let v349 : BitVec 32 := Scalar.muli arg16 c64_i32
  let v350 : BitVec 32 := Scalar.addi v349 c0_i32_316
  let v351 : BitVec 32 := v350
  let c16_i32_320 : BitVec 32 := 16#32
  let v361 : BitVec 32 := Scalar.addi v351 c16_i32_320
  let v362 : BitVec 32 := v361
  let v363 : Index := Scalar.indexCast v362
  let c0_322 : Index := 0#32
  ![1, v363.toNat, 0]
def k0_mult235 (k0_t9 : Fin k0_t9_loop.trips) : BitVec 32 :=
  let c0_i32_197 : BitVec 32 := 0#32
  let c1_i32_199 : BitVec 32 := 1#32
  let arg16 : BitVec 32 := Scf.iv c0_i32_197 c1_i32_199 k0_t9
  let c64_i32_323 : BitVec 32 := 64#32
  let v368 : BitVec 32 := Scalar.muli arg16 c64_i32_323
  let c8_i32_324 : BitVec 32 := 8#32
  let v369 : BitVec 32 := Scalar.addi v368 c8_i32_324
  v369
def k0_mult236 (k0_t9 : Fin k0_t9_loop.trips) : BitVec 32 :=
  let c0_i32_197 : BitVec 32 := 0#32
  let c1_i32_199 : BitVec 32 := 1#32
  let arg16 : BitVec 32 := Scf.iv c0_i32_197 c1_i32_199 k0_t9
  let c64_i32_323 : BitVec 32 := 64#32
  let v368 : BitVec 32 := Scalar.muli arg16 c64_i32_323
  let c8_i32_324 : BitVec 32 := 8#32
  let v369 : BitVec 32 := Scalar.addi v368 c8_i32_324
  let v370 : BitVec 32 := v369
  let c16_i32_326 : BitVec 32 := 16#32
  let v373 : BitVec 32 := Scalar.addi v370 c16_i32_326
  v373
def k0_mult237 (k0_t9 : Fin k0_t9_loop.trips) : BitVec 32 :=
  let c0_i32_197 : BitVec 32 := 0#32
  let c1_i32_199 : BitVec 32 := 1#32
  let arg16 : BitVec 32 := Scf.iv c0_i32_197 c1_i32_199 k0_t9
  let c64_i32_323 : BitVec 32 := 64#32
  let v368 : BitVec 32 := Scalar.muli arg16 c64_i32_323
  let c8_i32_324 : BitVec 32 := 8#32
  let v369 : BitVec 32 := Scalar.addi v368 c8_i32_324
  let v370 : BitVec 32 := v369
  let c16_i32_329 : BitVec 32 := 16#32
  let v380 : BitVec 32 := Scalar.addi v370 c16_i32_329
  v380
def k0_mult238 (k0_t9 : Fin k0_t9_loop.trips) : BitVec 32 :=
  let c0_i32_197 : BitVec 32 := 0#32
  let c1_i32_199 : BitVec 32 := 1#32
  let arg16 : BitVec 32 := Scf.iv c0_i32_197 c1_i32_199 k0_t9
  let c64_i32_332 : BitVec 32 := 64#32
  let v387 : BitVec 32 := Scalar.muli arg16 c64_i32_332
  let c16_i32_333 : BitVec 32 := 16#32
  let v388 : BitVec 32 := Scalar.addi v387 c16_i32_333
  v388
def k0_mult239 (k0_t9 : Fin k0_t9_loop.trips) : BitVec 32 :=
  let c0_i32_197 : BitVec 32 := 0#32
  let c1_i32_199 : BitVec 32 := 1#32
  let arg16 : BitVec 32 := Scf.iv c0_i32_197 c1_i32_199 k0_t9
  let c64_i32_332 : BitVec 32 := 64#32
  let v387 : BitVec 32 := Scalar.muli arg16 c64_i32_332
  let c16_i32_333 : BitVec 32 := 16#32
  let v388 : BitVec 32 := Scalar.addi v387 c16_i32_333
  let v389 : BitVec 32 := v388
  let c16_i32_335 : BitVec 32 := 16#32
  let v392 : BitVec 32 := Scalar.addi v389 c16_i32_335
  v392
def k0_mult240 (k0_t9 : Fin k0_t9_loop.trips) : BitVec 32 :=
  let c0_i32_197 : BitVec 32 := 0#32
  let c1_i32_199 : BitVec 32 := 1#32
  let arg16 : BitVec 32 := Scf.iv c0_i32_197 c1_i32_199 k0_t9
  let c64_i32_332 : BitVec 32 := 64#32
  let v387 : BitVec 32 := Scalar.muli arg16 c64_i32_332
  let c16_i32_333 : BitVec 32 := 16#32
  let v388 : BitVec 32 := Scalar.addi v387 c16_i32_333
  let v389 : BitVec 32 := v388
  let c16_i32_338 : BitVec 32 := 16#32
  let v399 : BitVec 32 := Scalar.addi v389 c16_i32_338
  v399
def k0_mult241 (k0_t9 : Fin k0_t9_loop.trips) : BitVec 32 :=
  let c0_i32_197 : BitVec 32 := 0#32
  let c1_i32_199 : BitVec 32 := 1#32
  let arg16 : BitVec 32 := Scf.iv c0_i32_197 c1_i32_199 k0_t9
  let c64_i32_341 : BitVec 32 := 64#32
  let v406 : BitVec 32 := Scalar.muli arg16 c64_i32_341
  let c24_i32 : BitVec 32 := 24#32
  let v407 : BitVec 32 := Scalar.addi v406 c24_i32
  v407
def k0_mult242 (k0_t9 : Fin k0_t9_loop.trips) : BitVec 32 :=
  let c0_i32_197 : BitVec 32 := 0#32
  let c1_i32_199 : BitVec 32 := 1#32
  let arg16 : BitVec 32 := Scf.iv c0_i32_197 c1_i32_199 k0_t9
  let c64_i32_341 : BitVec 32 := 64#32
  let v406 : BitVec 32 := Scalar.muli arg16 c64_i32_341
  let c24_i32 : BitVec 32 := 24#32
  let v407 : BitVec 32 := Scalar.addi v406 c24_i32
  let v408 : BitVec 32 := v407
  let c16_i32_343 : BitVec 32 := 16#32
  let v411 : BitVec 32 := Scalar.addi v408 c16_i32_343
  v411
def k0_mult243 (k0_t9 : Fin k0_t9_loop.trips) : BitVec 32 :=
  let c0_i32_197 : BitVec 32 := 0#32
  let c1_i32_199 : BitVec 32 := 1#32
  let arg16 : BitVec 32 := Scf.iv c0_i32_197 c1_i32_199 k0_t9
  let c64_i32_341 : BitVec 32 := 64#32
  let v406 : BitVec 32 := Scalar.muli arg16 c64_i32_341
  let c24_i32 : BitVec 32 := 24#32
  let v407 : BitVec 32 := Scalar.addi v406 c24_i32
  let v408 : BitVec 32 := v407
  let c16_i32_346 : BitVec 32 := 16#32
  let v418 : BitVec 32 := Scalar.addi v408 c16_i32_346
  v418
def k0_mult244 (k0_t9 : Fin k0_t9_loop.trips) : BitVec 32 :=
  let c0_i32_197 : BitVec 32 := 0#32
  let c1_i32_199 : BitVec 32 := 1#32
  let arg16 : BitVec 32 := Scf.iv c0_i32_197 c1_i32_199 k0_t9
  let c64_i32_349 : BitVec 32 := 64#32
  let v425 : BitVec 32 := Scalar.muli arg16 c64_i32_349
  let c32_i32_350 : BitVec 32 := 32#32
  let v426 : BitVec 32 := Scalar.addi v425 c32_i32_350
  v426
def k0_mult245 (k0_t9 : Fin k0_t9_loop.trips) : BitVec 32 :=
  let c0_i32_197 : BitVec 32 := 0#32
  let c1_i32_199 : BitVec 32 := 1#32
  let arg16 : BitVec 32 := Scf.iv c0_i32_197 c1_i32_199 k0_t9
  let c64_i32_349 : BitVec 32 := 64#32
  let v425 : BitVec 32 := Scalar.muli arg16 c64_i32_349
  let c32_i32_350 : BitVec 32 := 32#32
  let v426 : BitVec 32 := Scalar.addi v425 c32_i32_350
  let v427 : BitVec 32 := v426
  let c16_i32_352 : BitVec 32 := 16#32
  let v430 : BitVec 32 := Scalar.addi v427 c16_i32_352
  v430
def k0_mult246 (k0_t9 : Fin k0_t9_loop.trips) : BitVec 32 :=
  let c0_i32_197 : BitVec 32 := 0#32
  let c1_i32_199 : BitVec 32 := 1#32
  let arg16 : BitVec 32 := Scf.iv c0_i32_197 c1_i32_199 k0_t9
  let c64_i32_349 : BitVec 32 := 64#32
  let v425 : BitVec 32 := Scalar.muli arg16 c64_i32_349
  let c32_i32_350 : BitVec 32 := 32#32
  let v426 : BitVec 32 := Scalar.addi v425 c32_i32_350
  let v427 : BitVec 32 := v426
  let c16_i32_355 : BitVec 32 := 16#32
  let v437 : BitVec 32 := Scalar.addi v427 c16_i32_355
  v437
def k0_mult247 (k0_t9 : Fin k0_t9_loop.trips) : BitVec 32 :=
  let c0_i32_197 : BitVec 32 := 0#32
  let c1_i32_199 : BitVec 32 := 1#32
  let arg16 : BitVec 32 := Scf.iv c0_i32_197 c1_i32_199 k0_t9
  let c64_i32_358 : BitVec 32 := 64#32
  let v444 : BitVec 32 := Scalar.muli arg16 c64_i32_358
  let c40_i32 : BitVec 32 := 40#32
  let v445 : BitVec 32 := Scalar.addi v444 c40_i32
  v445
def k0_mult248 (k0_t9 : Fin k0_t9_loop.trips) : BitVec 32 :=
  let c0_i32_197 : BitVec 32 := 0#32
  let c1_i32_199 : BitVec 32 := 1#32
  let arg16 : BitVec 32 := Scf.iv c0_i32_197 c1_i32_199 k0_t9
  let c64_i32_358 : BitVec 32 := 64#32
  let v444 : BitVec 32 := Scalar.muli arg16 c64_i32_358
  let c40_i32 : BitVec 32 := 40#32
  let v445 : BitVec 32 := Scalar.addi v444 c40_i32
  let v446 : BitVec 32 := v445
  let c16_i32_360 : BitVec 32 := 16#32
  let v449 : BitVec 32 := Scalar.addi v446 c16_i32_360
  v449
def k0_mult249 (k0_t9 : Fin k0_t9_loop.trips) : BitVec 32 :=
  let c0_i32_197 : BitVec 32 := 0#32
  let c1_i32_199 : BitVec 32 := 1#32
  let arg16 : BitVec 32 := Scf.iv c0_i32_197 c1_i32_199 k0_t9
  let c64_i32_358 : BitVec 32 := 64#32
  let v444 : BitVec 32 := Scalar.muli arg16 c64_i32_358
  let c40_i32 : BitVec 32 := 40#32
  let v445 : BitVec 32 := Scalar.addi v444 c40_i32
  let v446 : BitVec 32 := v445
  let c16_i32_363 : BitVec 32 := 16#32
  let v456 : BitVec 32 := Scalar.addi v446 c16_i32_363
  v456
def k0_mult250 (k0_t9 : Fin k0_t9_loop.trips) : BitVec 32 :=
  let c0_i32_197 : BitVec 32 := 0#32
  let c1_i32_199 : BitVec 32 := 1#32
  let arg16 : BitVec 32 := Scf.iv c0_i32_197 c1_i32_199 k0_t9
  let c64_i32_366 : BitVec 32 := 64#32
  let v463 : BitVec 32 := Scalar.muli arg16 c64_i32_366
  let c48_i32 : BitVec 32 := 48#32
  let v464 : BitVec 32 := Scalar.addi v463 c48_i32
  v464
def k0_mult251 (k0_t9 : Fin k0_t9_loop.trips) : BitVec 32 :=
  let c0_i32_197 : BitVec 32 := 0#32
  let c1_i32_199 : BitVec 32 := 1#32
  let arg16 : BitVec 32 := Scf.iv c0_i32_197 c1_i32_199 k0_t9
  let c64_i32_366 : BitVec 32 := 64#32
  let v463 : BitVec 32 := Scalar.muli arg16 c64_i32_366
  let c48_i32 : BitVec 32 := 48#32
  let v464 : BitVec 32 := Scalar.addi v463 c48_i32
  let v465 : BitVec 32 := v464
  let c16_i32_368 : BitVec 32 := 16#32
  let v468 : BitVec 32 := Scalar.addi v465 c16_i32_368
  v468
def k0_mult252 (k0_t9 : Fin k0_t9_loop.trips) : BitVec 32 :=
  let c0_i32_197 : BitVec 32 := 0#32
  let c1_i32_199 : BitVec 32 := 1#32
  let arg16 : BitVec 32 := Scf.iv c0_i32_197 c1_i32_199 k0_t9
  let c64_i32_366 : BitVec 32 := 64#32
  let v463 : BitVec 32 := Scalar.muli arg16 c64_i32_366
  let c48_i32 : BitVec 32 := 48#32
  let v464 : BitVec 32 := Scalar.addi v463 c48_i32
  let v465 : BitVec 32 := v464
  let c16_i32_371 : BitVec 32 := 16#32
  let v475 : BitVec 32 := Scalar.addi v465 c16_i32_371
  v475
def k0_mult253 (k0_t9 : Fin k0_t9_loop.trips) : BitVec 32 :=
  let c0_i32_197 : BitVec 32 := 0#32
  let c1_i32_199 : BitVec 32 := 1#32
  let arg16 : BitVec 32 := Scf.iv c0_i32_197 c1_i32_199 k0_t9
  let c64_i32_374 : BitVec 32 := 64#32
  let v482 : BitVec 32 := Scalar.muli arg16 c64_i32_374
  let c56_i32 : BitVec 32 := 56#32
  let v483 : BitVec 32 := Scalar.addi v482 c56_i32
  v483
def k0_mult254 (k0_t9 : Fin k0_t9_loop.trips) : BitVec 32 :=
  let c0_i32_197 : BitVec 32 := 0#32
  let c1_i32_199 : BitVec 32 := 1#32
  let arg16 : BitVec 32 := Scf.iv c0_i32_197 c1_i32_199 k0_t9
  let c64_i32_374 : BitVec 32 := 64#32
  let v482 : BitVec 32 := Scalar.muli arg16 c64_i32_374
  let c56_i32 : BitVec 32 := 56#32
  let v483 : BitVec 32 := Scalar.addi v482 c56_i32
  let v484 : BitVec 32 := v483
  let c16_i32_376 : BitVec 32 := 16#32
  let v487 : BitVec 32 := Scalar.addi v484 c16_i32_376
  v487
def k0_mult255 (k0_t9 : Fin k0_t9_loop.trips) : BitVec 32 :=
  let c0_i32_197 : BitVec 32 := 0#32
  let c1_i32_199 : BitVec 32 := 1#32
  let arg16 : BitVec 32 := Scf.iv c0_i32_197 c1_i32_199 k0_t9
  let c64_i32_374 : BitVec 32 := 64#32
  let v482 : BitVec 32 := Scalar.muli arg16 c64_i32_374
  let c56_i32 : BitVec 32 := 56#32
  let v483 : BitVec 32 := Scalar.addi v482 c56_i32
  let v484 : BitVec 32 := v483
  let c16_i32_379 : BitVec 32 := 16#32
  let v494 : BitVec 32 := Scalar.addi v484 c16_i32_379
  v494
@[reducible] def k0_t10_loop : Scf.Loop 32 :=
  let c0_i32_210 : BitVec 32 := 0#32
  let c8_i32_211 : BitVec 32 := 8#32
  let v229 : BitVec 32 := Scalar.addi c0_i32_210 c8_i32_211
  let c1_i32_212 : BitVec 32 := 1#32
  ⟨c0_i32_210, v229, c1_i32_212⟩
def k0_mult256 (k0_t10 : Fin k0_t10_loop.trips) : BitVec 32 :=
  let c0_i32_210 : BitVec 32 := 0#32
  let c1_i32_212 : BitVec 32 := 1#32
  let arg16 : BitVec 32 := Scf.iv c0_i32_210 c1_i32_212 k0_t10
  let c64_i32 : BitVec 32 := 64#32
  let v349 : BitVec 32 := Scalar.muli arg16 c64_i32
  let c0_i32_316 : BitVec 32 := 0#32
  let v350 : BitVec 32 := Scalar.addi v349 c0_i32_316
  v350
def k0_off34 (k0_t10 : Fin k0_t10_loop.trips) (c0_i32_316 : BitVec 32) : Fin 2 → Nat :=
  let c0_i32_210 : BitVec 32 := 0#32
  let c1_i32_212 : BitVec 32 := 1#32
  let arg16 : BitVec 32 := Scf.iv c0_i32_210 c1_i32_212 k0_t10
  let c64_i32 : BitVec 32 := 64#32
  let v349 : BitVec 32 := Scalar.muli arg16 c64_i32
  let v350 : BitVec 32 := Scalar.addi v349 c0_i32_316
  let v351 : BitVec 32 := v350
  let v352 : Index := Scalar.indexCast v351
  let c0_317 : Index := 0#32
  ![v352.toNat, 0]
def k0_mult257 (k0_t10 : Fin k0_t10_loop.trips) : BitVec 32 :=
  let c0_i32_210 : BitVec 32 := 0#32
  let c1_i32_212 : BitVec 32 := 1#32
  let arg16 : BitVec 32 := Scf.iv c0_i32_210 c1_i32_212 k0_t10
  let c64_i32 : BitVec 32 := 64#32
  let v349 : BitVec 32 := Scalar.muli arg16 c64_i32
  let c0_i32_316 : BitVec 32 := 0#32
  let v350 : BitVec 32 := Scalar.addi v349 c0_i32_316
  let v351 : BitVec 32 := v350
  let c16_i32 : BitVec 32 := 16#32
  let v354 : BitVec 32 := Scalar.addi v351 c16_i32
  v354
def k0_off35 (k0_t10 : Fin k0_t10_loop.trips) (c0_i32_316 : BitVec 32) : Fin 3 → Nat :=
  let c2_318 : Index := 2#32
  let c0_i32_210 : BitVec 32 := 0#32
  let c1_i32_212 : BitVec 32 := 1#32
  let arg16 : BitVec 32 := Scf.iv c0_i32_210 c1_i32_212 k0_t10
  let c64_i32 : BitVec 32 := 64#32
  let v349 : BitVec 32 := Scalar.muli arg16 c64_i32
  let v350 : BitVec 32 := Scalar.addi v349 c0_i32_316
  let v351 : BitVec 32 := v350
  let c16_i32 : BitVec 32 := 16#32
  let v354 : BitVec 32 := Scalar.addi v351 c16_i32
  let v355 : BitVec 32 := v354
  let v356 : Index := Scalar.indexCast v355
  let c0_319 : Index := 0#32
  ![2, v356.toNat, 0]
def k0_mult258 (k0_t10 : Fin k0_t10_loop.trips) : BitVec 32 :=
  let c0_i32_210 : BitVec 32 := 0#32
  let c1_i32_212 : BitVec 32 := 1#32
  let arg16 : BitVec 32 := Scf.iv c0_i32_210 c1_i32_212 k0_t10
  let c64_i32 : BitVec 32 := 64#32
  let v349 : BitVec 32 := Scalar.muli arg16 c64_i32
  let c0_i32_316 : BitVec 32 := 0#32
  let v350 : BitVec 32 := Scalar.addi v349 c0_i32_316
  let v351 : BitVec 32 := v350
  let c16_i32_320 : BitVec 32 := 16#32
  let v361 : BitVec 32 := Scalar.addi v351 c16_i32_320
  v361
def k0_off36 (k0_t10 : Fin k0_t10_loop.trips) (c0_i32_316 : BitVec 32) : Fin 3 → Nat :=
  let c3_321 : Index := 3#32
  let c0_i32_210 : BitVec 32 := 0#32
  let c1_i32_212 : BitVec 32 := 1#32
  let arg16 : BitVec 32 := Scf.iv c0_i32_210 c1_i32_212 k0_t10
  let c64_i32 : BitVec 32 := 64#32
  let v349 : BitVec 32 := Scalar.muli arg16 c64_i32
  let v350 : BitVec 32 := Scalar.addi v349 c0_i32_316
  let v351 : BitVec 32 := v350
  let c16_i32_320 : BitVec 32 := 16#32
  let v361 : BitVec 32 := Scalar.addi v351 c16_i32_320
  let v362 : BitVec 32 := v361
  let v363 : Index := Scalar.indexCast v362
  let c0_322 : Index := 0#32
  ![3, v363.toNat, 0]
def k0_mult259 (k0_t10 : Fin k0_t10_loop.trips) : BitVec 32 :=
  let c0_i32_210 : BitVec 32 := 0#32
  let c1_i32_212 : BitVec 32 := 1#32
  let arg16 : BitVec 32 := Scf.iv c0_i32_210 c1_i32_212 k0_t10
  let c64_i32_323 : BitVec 32 := 64#32
  let v368 : BitVec 32 := Scalar.muli arg16 c64_i32_323
  let c8_i32_324 : BitVec 32 := 8#32
  let v369 : BitVec 32 := Scalar.addi v368 c8_i32_324
  v369
def k0_mult260 (k0_t10 : Fin k0_t10_loop.trips) : BitVec 32 :=
  let c0_i32_210 : BitVec 32 := 0#32
  let c1_i32_212 : BitVec 32 := 1#32
  let arg16 : BitVec 32 := Scf.iv c0_i32_210 c1_i32_212 k0_t10
  let c64_i32_323 : BitVec 32 := 64#32
  let v368 : BitVec 32 := Scalar.muli arg16 c64_i32_323
  let c8_i32_324 : BitVec 32 := 8#32
  let v369 : BitVec 32 := Scalar.addi v368 c8_i32_324
  let v370 : BitVec 32 := v369
  let c16_i32_326 : BitVec 32 := 16#32
  let v373 : BitVec 32 := Scalar.addi v370 c16_i32_326
  v373
def k0_mult261 (k0_t10 : Fin k0_t10_loop.trips) : BitVec 32 :=
  let c0_i32_210 : BitVec 32 := 0#32
  let c1_i32_212 : BitVec 32 := 1#32
  let arg16 : BitVec 32 := Scf.iv c0_i32_210 c1_i32_212 k0_t10
  let c64_i32_323 : BitVec 32 := 64#32
  let v368 : BitVec 32 := Scalar.muli arg16 c64_i32_323
  let c8_i32_324 : BitVec 32 := 8#32
  let v369 : BitVec 32 := Scalar.addi v368 c8_i32_324
  let v370 : BitVec 32 := v369
  let c16_i32_329 : BitVec 32 := 16#32
  let v380 : BitVec 32 := Scalar.addi v370 c16_i32_329
  v380
def k0_mult262 (k0_t10 : Fin k0_t10_loop.trips) : BitVec 32 :=
  let c0_i32_210 : BitVec 32 := 0#32
  let c1_i32_212 : BitVec 32 := 1#32
  let arg16 : BitVec 32 := Scf.iv c0_i32_210 c1_i32_212 k0_t10
  let c64_i32_332 : BitVec 32 := 64#32
  let v387 : BitVec 32 := Scalar.muli arg16 c64_i32_332
  let c16_i32_333 : BitVec 32 := 16#32
  let v388 : BitVec 32 := Scalar.addi v387 c16_i32_333
  v388
def k0_mult263 (k0_t10 : Fin k0_t10_loop.trips) : BitVec 32 :=
  let c0_i32_210 : BitVec 32 := 0#32
  let c1_i32_212 : BitVec 32 := 1#32
  let arg16 : BitVec 32 := Scf.iv c0_i32_210 c1_i32_212 k0_t10
  let c64_i32_332 : BitVec 32 := 64#32
  let v387 : BitVec 32 := Scalar.muli arg16 c64_i32_332
  let c16_i32_333 : BitVec 32 := 16#32
  let v388 : BitVec 32 := Scalar.addi v387 c16_i32_333
  let v389 : BitVec 32 := v388
  let c16_i32_335 : BitVec 32 := 16#32
  let v392 : BitVec 32 := Scalar.addi v389 c16_i32_335
  v392
def k0_mult264 (k0_t10 : Fin k0_t10_loop.trips) : BitVec 32 :=
  let c0_i32_210 : BitVec 32 := 0#32
  let c1_i32_212 : BitVec 32 := 1#32
  let arg16 : BitVec 32 := Scf.iv c0_i32_210 c1_i32_212 k0_t10
  let c64_i32_332 : BitVec 32 := 64#32
  let v387 : BitVec 32 := Scalar.muli arg16 c64_i32_332
  let c16_i32_333 : BitVec 32 := 16#32
  let v388 : BitVec 32 := Scalar.addi v387 c16_i32_333
  let v389 : BitVec 32 := v388
  let c16_i32_338 : BitVec 32 := 16#32
  let v399 : BitVec 32 := Scalar.addi v389 c16_i32_338
  v399
def k0_mult265 (k0_t10 : Fin k0_t10_loop.trips) : BitVec 32 :=
  let c0_i32_210 : BitVec 32 := 0#32
  let c1_i32_212 : BitVec 32 := 1#32
  let arg16 : BitVec 32 := Scf.iv c0_i32_210 c1_i32_212 k0_t10
  let c64_i32_341 : BitVec 32 := 64#32
  let v406 : BitVec 32 := Scalar.muli arg16 c64_i32_341
  let c24_i32 : BitVec 32 := 24#32
  let v407 : BitVec 32 := Scalar.addi v406 c24_i32
  v407
def k0_mult266 (k0_t10 : Fin k0_t10_loop.trips) : BitVec 32 :=
  let c0_i32_210 : BitVec 32 := 0#32
  let c1_i32_212 : BitVec 32 := 1#32
  let arg16 : BitVec 32 := Scf.iv c0_i32_210 c1_i32_212 k0_t10
  let c64_i32_341 : BitVec 32 := 64#32
  let v406 : BitVec 32 := Scalar.muli arg16 c64_i32_341
  let c24_i32 : BitVec 32 := 24#32
  let v407 : BitVec 32 := Scalar.addi v406 c24_i32
  let v408 : BitVec 32 := v407
  let c16_i32_343 : BitVec 32 := 16#32
  let v411 : BitVec 32 := Scalar.addi v408 c16_i32_343
  v411
def k0_mult267 (k0_t10 : Fin k0_t10_loop.trips) : BitVec 32 :=
  let c0_i32_210 : BitVec 32 := 0#32
  let c1_i32_212 : BitVec 32 := 1#32
  let arg16 : BitVec 32 := Scf.iv c0_i32_210 c1_i32_212 k0_t10
  let c64_i32_341 : BitVec 32 := 64#32
  let v406 : BitVec 32 := Scalar.muli arg16 c64_i32_341
  let c24_i32 : BitVec 32 := 24#32
  let v407 : BitVec 32 := Scalar.addi v406 c24_i32
  let v408 : BitVec 32 := v407
  let c16_i32_346 : BitVec 32 := 16#32
  let v418 : BitVec 32 := Scalar.addi v408 c16_i32_346
  v418
def k0_mult268 (k0_t10 : Fin k0_t10_loop.trips) : BitVec 32 :=
  let c0_i32_210 : BitVec 32 := 0#32
  let c1_i32_212 : BitVec 32 := 1#32
  let arg16 : BitVec 32 := Scf.iv c0_i32_210 c1_i32_212 k0_t10
  let c64_i32_349 : BitVec 32 := 64#32
  let v425 : BitVec 32 := Scalar.muli arg16 c64_i32_349
  let c32_i32_350 : BitVec 32 := 32#32
  let v426 : BitVec 32 := Scalar.addi v425 c32_i32_350
  v426
def k0_mult269 (k0_t10 : Fin k0_t10_loop.trips) : BitVec 32 :=
  let c0_i32_210 : BitVec 32 := 0#32
  let c1_i32_212 : BitVec 32 := 1#32
  let arg16 : BitVec 32 := Scf.iv c0_i32_210 c1_i32_212 k0_t10
  let c64_i32_349 : BitVec 32 := 64#32
  let v425 : BitVec 32 := Scalar.muli arg16 c64_i32_349
  let c32_i32_350 : BitVec 32 := 32#32
  let v426 : BitVec 32 := Scalar.addi v425 c32_i32_350
  let v427 : BitVec 32 := v426
  let c16_i32_352 : BitVec 32 := 16#32
  let v430 : BitVec 32 := Scalar.addi v427 c16_i32_352
  v430
def k0_mult270 (k0_t10 : Fin k0_t10_loop.trips) : BitVec 32 :=
  let c0_i32_210 : BitVec 32 := 0#32
  let c1_i32_212 : BitVec 32 := 1#32
  let arg16 : BitVec 32 := Scf.iv c0_i32_210 c1_i32_212 k0_t10
  let c64_i32_349 : BitVec 32 := 64#32
  let v425 : BitVec 32 := Scalar.muli arg16 c64_i32_349
  let c32_i32_350 : BitVec 32 := 32#32
  let v426 : BitVec 32 := Scalar.addi v425 c32_i32_350
  let v427 : BitVec 32 := v426
  let c16_i32_355 : BitVec 32 := 16#32
  let v437 : BitVec 32 := Scalar.addi v427 c16_i32_355
  v437
def k0_mult271 (k0_t10 : Fin k0_t10_loop.trips) : BitVec 32 :=
  let c0_i32_210 : BitVec 32 := 0#32
  let c1_i32_212 : BitVec 32 := 1#32
  let arg16 : BitVec 32 := Scf.iv c0_i32_210 c1_i32_212 k0_t10
  let c64_i32_358 : BitVec 32 := 64#32
  let v444 : BitVec 32 := Scalar.muli arg16 c64_i32_358
  let c40_i32 : BitVec 32 := 40#32
  let v445 : BitVec 32 := Scalar.addi v444 c40_i32
  v445
def k0_mult272 (k0_t10 : Fin k0_t10_loop.trips) : BitVec 32 :=
  let c0_i32_210 : BitVec 32 := 0#32
  let c1_i32_212 : BitVec 32 := 1#32
  let arg16 : BitVec 32 := Scf.iv c0_i32_210 c1_i32_212 k0_t10
  let c64_i32_358 : BitVec 32 := 64#32
  let v444 : BitVec 32 := Scalar.muli arg16 c64_i32_358
  let c40_i32 : BitVec 32 := 40#32
  let v445 : BitVec 32 := Scalar.addi v444 c40_i32
  let v446 : BitVec 32 := v445
  let c16_i32_360 : BitVec 32 := 16#32
  let v449 : BitVec 32 := Scalar.addi v446 c16_i32_360
  v449
def k0_mult273 (k0_t10 : Fin k0_t10_loop.trips) : BitVec 32 :=
  let c0_i32_210 : BitVec 32 := 0#32
  let c1_i32_212 : BitVec 32 := 1#32
  let arg16 : BitVec 32 := Scf.iv c0_i32_210 c1_i32_212 k0_t10
  let c64_i32_358 : BitVec 32 := 64#32
  let v444 : BitVec 32 := Scalar.muli arg16 c64_i32_358
  let c40_i32 : BitVec 32 := 40#32
  let v445 : BitVec 32 := Scalar.addi v444 c40_i32
  let v446 : BitVec 32 := v445
  let c16_i32_363 : BitVec 32 := 16#32
  let v456 : BitVec 32 := Scalar.addi v446 c16_i32_363
  v456
def k0_mult274 (k0_t10 : Fin k0_t10_loop.trips) : BitVec 32 :=
  let c0_i32_210 : BitVec 32 := 0#32
  let c1_i32_212 : BitVec 32 := 1#32
  let arg16 : BitVec 32 := Scf.iv c0_i32_210 c1_i32_212 k0_t10
  let c64_i32_366 : BitVec 32 := 64#32
  let v463 : BitVec 32 := Scalar.muli arg16 c64_i32_366
  let c48_i32 : BitVec 32 := 48#32
  let v464 : BitVec 32 := Scalar.addi v463 c48_i32
  v464
def k0_mult275 (k0_t10 : Fin k0_t10_loop.trips) : BitVec 32 :=
  let c0_i32_210 : BitVec 32 := 0#32
  let c1_i32_212 : BitVec 32 := 1#32
  let arg16 : BitVec 32 := Scf.iv c0_i32_210 c1_i32_212 k0_t10
  let c64_i32_366 : BitVec 32 := 64#32
  let v463 : BitVec 32 := Scalar.muli arg16 c64_i32_366
  let c48_i32 : BitVec 32 := 48#32
  let v464 : BitVec 32 := Scalar.addi v463 c48_i32
  let v465 : BitVec 32 := v464
  let c16_i32_368 : BitVec 32 := 16#32
  let v468 : BitVec 32 := Scalar.addi v465 c16_i32_368
  v468
def k0_mult276 (k0_t10 : Fin k0_t10_loop.trips) : BitVec 32 :=
  let c0_i32_210 : BitVec 32 := 0#32
  let c1_i32_212 : BitVec 32 := 1#32
  let arg16 : BitVec 32 := Scf.iv c0_i32_210 c1_i32_212 k0_t10
  let c64_i32_366 : BitVec 32 := 64#32
  let v463 : BitVec 32 := Scalar.muli arg16 c64_i32_366
  let c48_i32 : BitVec 32 := 48#32
  let v464 : BitVec 32 := Scalar.addi v463 c48_i32
  let v465 : BitVec 32 := v464
  let c16_i32_371 : BitVec 32 := 16#32
  let v475 : BitVec 32 := Scalar.addi v465 c16_i32_371
  v475
def k0_mult277 (k0_t10 : Fin k0_t10_loop.trips) : BitVec 32 :=
  let c0_i32_210 : BitVec 32 := 0#32
  let c1_i32_212 : BitVec 32 := 1#32
  let arg16 : BitVec 32 := Scf.iv c0_i32_210 c1_i32_212 k0_t10
  let c64_i32_374 : BitVec 32 := 64#32
  let v482 : BitVec 32 := Scalar.muli arg16 c64_i32_374
  let c56_i32 : BitVec 32 := 56#32
  let v483 : BitVec 32 := Scalar.addi v482 c56_i32
  v483
def k0_mult278 (k0_t10 : Fin k0_t10_loop.trips) : BitVec 32 :=
  let c0_i32_210 : BitVec 32 := 0#32
  let c1_i32_212 : BitVec 32 := 1#32
  let arg16 : BitVec 32 := Scf.iv c0_i32_210 c1_i32_212 k0_t10
  let c64_i32_374 : BitVec 32 := 64#32
  let v482 : BitVec 32 := Scalar.muli arg16 c64_i32_374
  let c56_i32 : BitVec 32 := 56#32
  let v483 : BitVec 32 := Scalar.addi v482 c56_i32
  let v484 : BitVec 32 := v483
  let c16_i32_376 : BitVec 32 := 16#32
  let v487 : BitVec 32 := Scalar.addi v484 c16_i32_376
  v487
def k0_mult279 (k0_t10 : Fin k0_t10_loop.trips) : BitVec 32 :=
  let c0_i32_210 : BitVec 32 := 0#32
  let c1_i32_212 : BitVec 32 := 1#32
  let arg16 : BitVec 32 := Scf.iv c0_i32_210 c1_i32_212 k0_t10
  let c64_i32_374 : BitVec 32 := 64#32
  let v482 : BitVec 32 := Scalar.muli arg16 c64_i32_374
  let c56_i32 : BitVec 32 := 56#32
  let v483 : BitVec 32 := Scalar.addi v482 c56_i32
  let v484 : BitVec 32 := v483
  let c16_i32_379 : BitVec 32 := 16#32
  let v494 : BitVec 32 := Scalar.addi v484 c16_i32_379
  v494
@[reducible] def k0_t11_loop : Scf.Loop 32 :=
  let c0_i32_223 : BitVec 32 := 0#32
  let c8_i32_224 : BitVec 32 := 8#32
  let v244 : BitVec 32 := Scalar.addi c0_i32_223 c8_i32_224
  let c1_i32_225 : BitVec 32 := 1#32
  ⟨c0_i32_223, v244, c1_i32_225⟩
def k0_mult280 (k0_t11 : Fin k0_t11_loop.trips) : BitVec 32 :=
  let c0_i32_223 : BitVec 32 := 0#32
  let c1_i32_225 : BitVec 32 := 1#32
  let arg16 : BitVec 32 := Scf.iv c0_i32_223 c1_i32_225 k0_t11
  let c64_i32 : BitVec 32 := 64#32
  let v349 : BitVec 32 := Scalar.muli arg16 c64_i32
  let c0_i32_316 : BitVec 32 := 0#32
  let v350 : BitVec 32 := Scalar.addi v349 c0_i32_316
  v350
def k0_off37 (k0_t11 : Fin k0_t11_loop.trips) (c0_i32_316 : BitVec 32) : Fin 2 → Nat :=
  let c0_i32_223 : BitVec 32 := 0#32
  let c1_i32_225 : BitVec 32 := 1#32
  let arg16 : BitVec 32 := Scf.iv c0_i32_223 c1_i32_225 k0_t11
  let c64_i32 : BitVec 32 := 64#32
  let v349 : BitVec 32 := Scalar.muli arg16 c64_i32
  let v350 : BitVec 32 := Scalar.addi v349 c0_i32_316
  let v351 : BitVec 32 := v350
  let v352 : Index := Scalar.indexCast v351
  let c0_317 : Index := 0#32
  ![v352.toNat, 0]
def k0_mult281 (k0_t11 : Fin k0_t11_loop.trips) : BitVec 32 :=
  let c0_i32_223 : BitVec 32 := 0#32
  let c1_i32_225 : BitVec 32 := 1#32
  let arg16 : BitVec 32 := Scf.iv c0_i32_223 c1_i32_225 k0_t11
  let c64_i32 : BitVec 32 := 64#32
  let v349 : BitVec 32 := Scalar.muli arg16 c64_i32
  let c0_i32_316 : BitVec 32 := 0#32
  let v350 : BitVec 32 := Scalar.addi v349 c0_i32_316
  let v351 : BitVec 32 := v350
  let c16_i32 : BitVec 32 := 16#32
  let v354 : BitVec 32 := Scalar.addi v351 c16_i32
  v354
def k0_off38 (k0_t11 : Fin k0_t11_loop.trips) (c0_i32_316 : BitVec 32) : Fin 3 → Nat :=
  let c4_318 : Index := 4#32
  let c0_i32_223 : BitVec 32 := 0#32
  let c1_i32_225 : BitVec 32 := 1#32
  let arg16 : BitVec 32 := Scf.iv c0_i32_223 c1_i32_225 k0_t11
  let c64_i32 : BitVec 32 := 64#32
  let v349 : BitVec 32 := Scalar.muli arg16 c64_i32
  let v350 : BitVec 32 := Scalar.addi v349 c0_i32_316
  let v351 : BitVec 32 := v350
  let c16_i32 : BitVec 32 := 16#32
  let v354 : BitVec 32 := Scalar.addi v351 c16_i32
  let v355 : BitVec 32 := v354
  let v356 : Index := Scalar.indexCast v355
  let c0_319 : Index := 0#32
  ![4, v356.toNat, 0]
def k0_mult282 (k0_t11 : Fin k0_t11_loop.trips) : BitVec 32 :=
  let c0_i32_223 : BitVec 32 := 0#32
  let c1_i32_225 : BitVec 32 := 1#32
  let arg16 : BitVec 32 := Scf.iv c0_i32_223 c1_i32_225 k0_t11
  let c64_i32 : BitVec 32 := 64#32
  let v349 : BitVec 32 := Scalar.muli arg16 c64_i32
  let c0_i32_316 : BitVec 32 := 0#32
  let v350 : BitVec 32 := Scalar.addi v349 c0_i32_316
  let v351 : BitVec 32 := v350
  let c16_i32_320 : BitVec 32 := 16#32
  let v361 : BitVec 32 := Scalar.addi v351 c16_i32_320
  v361
def k0_off39 (k0_t11 : Fin k0_t11_loop.trips) (c0_i32_316 : BitVec 32) : Fin 3 → Nat :=
  let c5_321 : Index := 5#32
  let c0_i32_223 : BitVec 32 := 0#32
  let c1_i32_225 : BitVec 32 := 1#32
  let arg16 : BitVec 32 := Scf.iv c0_i32_223 c1_i32_225 k0_t11
  let c64_i32 : BitVec 32 := 64#32
  let v349 : BitVec 32 := Scalar.muli arg16 c64_i32
  let v350 : BitVec 32 := Scalar.addi v349 c0_i32_316
  let v351 : BitVec 32 := v350
  let c16_i32_320 : BitVec 32 := 16#32
  let v361 : BitVec 32 := Scalar.addi v351 c16_i32_320
  let v362 : BitVec 32 := v361
  let v363 : Index := Scalar.indexCast v362
  let c0_322 : Index := 0#32
  ![5, v363.toNat, 0]
def k0_mult283 (k0_t11 : Fin k0_t11_loop.trips) : BitVec 32 :=
  let c0_i32_223 : BitVec 32 := 0#32
  let c1_i32_225 : BitVec 32 := 1#32
  let arg16 : BitVec 32 := Scf.iv c0_i32_223 c1_i32_225 k0_t11
  let c64_i32_323 : BitVec 32 := 64#32
  let v368 : BitVec 32 := Scalar.muli arg16 c64_i32_323
  let c8_i32_324 : BitVec 32 := 8#32
  let v369 : BitVec 32 := Scalar.addi v368 c8_i32_324
  v369
def k0_mult284 (k0_t11 : Fin k0_t11_loop.trips) : BitVec 32 :=
  let c0_i32_223 : BitVec 32 := 0#32
  let c1_i32_225 : BitVec 32 := 1#32
  let arg16 : BitVec 32 := Scf.iv c0_i32_223 c1_i32_225 k0_t11
  let c64_i32_323 : BitVec 32 := 64#32
  let v368 : BitVec 32 := Scalar.muli arg16 c64_i32_323
  let c8_i32_324 : BitVec 32 := 8#32
  let v369 : BitVec 32 := Scalar.addi v368 c8_i32_324
  let v370 : BitVec 32 := v369
  let c16_i32_326 : BitVec 32 := 16#32
  let v373 : BitVec 32 := Scalar.addi v370 c16_i32_326
  v373
def k0_mult285 (k0_t11 : Fin k0_t11_loop.trips) : BitVec 32 :=
  let c0_i32_223 : BitVec 32 := 0#32
  let c1_i32_225 : BitVec 32 := 1#32
  let arg16 : BitVec 32 := Scf.iv c0_i32_223 c1_i32_225 k0_t11
  let c64_i32_323 : BitVec 32 := 64#32
  let v368 : BitVec 32 := Scalar.muli arg16 c64_i32_323
  let c8_i32_324 : BitVec 32 := 8#32
  let v369 : BitVec 32 := Scalar.addi v368 c8_i32_324
  let v370 : BitVec 32 := v369
  let c16_i32_329 : BitVec 32 := 16#32
  let v380 : BitVec 32 := Scalar.addi v370 c16_i32_329
  v380
def k0_mult286 (k0_t11 : Fin k0_t11_loop.trips) : BitVec 32 :=
  let c0_i32_223 : BitVec 32 := 0#32
  let c1_i32_225 : BitVec 32 := 1#32
  let arg16 : BitVec 32 := Scf.iv c0_i32_223 c1_i32_225 k0_t11
  let c64_i32_332 : BitVec 32 := 64#32
  let v387 : BitVec 32 := Scalar.muli arg16 c64_i32_332
  let c16_i32_333 : BitVec 32 := 16#32
  let v388 : BitVec 32 := Scalar.addi v387 c16_i32_333
  v388
def k0_mult287 (k0_t11 : Fin k0_t11_loop.trips) : BitVec 32 :=
  let c0_i32_223 : BitVec 32 := 0#32
  let c1_i32_225 : BitVec 32 := 1#32
  let arg16 : BitVec 32 := Scf.iv c0_i32_223 c1_i32_225 k0_t11
  let c64_i32_332 : BitVec 32 := 64#32
  let v387 : BitVec 32 := Scalar.muli arg16 c64_i32_332
  let c16_i32_333 : BitVec 32 := 16#32
  let v388 : BitVec 32 := Scalar.addi v387 c16_i32_333
  let v389 : BitVec 32 := v388
  let c16_i32_335 : BitVec 32 := 16#32
  let v392 : BitVec 32 := Scalar.addi v389 c16_i32_335
  v392
def k0_mult288 (k0_t11 : Fin k0_t11_loop.trips) : BitVec 32 :=
  let c0_i32_223 : BitVec 32 := 0#32
  let c1_i32_225 : BitVec 32 := 1#32
  let arg16 : BitVec 32 := Scf.iv c0_i32_223 c1_i32_225 k0_t11
  let c64_i32_332 : BitVec 32 := 64#32
  let v387 : BitVec 32 := Scalar.muli arg16 c64_i32_332
  let c16_i32_333 : BitVec 32 := 16#32
  let v388 : BitVec 32 := Scalar.addi v387 c16_i32_333
  let v389 : BitVec 32 := v388
  let c16_i32_338 : BitVec 32 := 16#32
  let v399 : BitVec 32 := Scalar.addi v389 c16_i32_338
  v399
def k0_mult289 (k0_t11 : Fin k0_t11_loop.trips) : BitVec 32 :=
  let c0_i32_223 : BitVec 32 := 0#32
  let c1_i32_225 : BitVec 32 := 1#32
  let arg16 : BitVec 32 := Scf.iv c0_i32_223 c1_i32_225 k0_t11
  let c64_i32_341 : BitVec 32 := 64#32
  let v406 : BitVec 32 := Scalar.muli arg16 c64_i32_341
  let c24_i32 : BitVec 32 := 24#32
  let v407 : BitVec 32 := Scalar.addi v406 c24_i32
  v407
def k0_mult290 (k0_t11 : Fin k0_t11_loop.trips) : BitVec 32 :=
  let c0_i32_223 : BitVec 32 := 0#32
  let c1_i32_225 : BitVec 32 := 1#32
  let arg16 : BitVec 32 := Scf.iv c0_i32_223 c1_i32_225 k0_t11
  let c64_i32_341 : BitVec 32 := 64#32
  let v406 : BitVec 32 := Scalar.muli arg16 c64_i32_341
  let c24_i32 : BitVec 32 := 24#32
  let v407 : BitVec 32 := Scalar.addi v406 c24_i32
  let v408 : BitVec 32 := v407
  let c16_i32_343 : BitVec 32 := 16#32
  let v411 : BitVec 32 := Scalar.addi v408 c16_i32_343
  v411
def k0_mult291 (k0_t11 : Fin k0_t11_loop.trips) : BitVec 32 :=
  let c0_i32_223 : BitVec 32 := 0#32
  let c1_i32_225 : BitVec 32 := 1#32
  let arg16 : BitVec 32 := Scf.iv c0_i32_223 c1_i32_225 k0_t11
  let c64_i32_341 : BitVec 32 := 64#32
  let v406 : BitVec 32 := Scalar.muli arg16 c64_i32_341
  let c24_i32 : BitVec 32 := 24#32
  let v407 : BitVec 32 := Scalar.addi v406 c24_i32
  let v408 : BitVec 32 := v407
  let c16_i32_346 : BitVec 32 := 16#32
  let v418 : BitVec 32 := Scalar.addi v408 c16_i32_346
  v418
def k0_mult292 (k0_t11 : Fin k0_t11_loop.trips) : BitVec 32 :=
  let c0_i32_223 : BitVec 32 := 0#32
  let c1_i32_225 : BitVec 32 := 1#32
  let arg16 : BitVec 32 := Scf.iv c0_i32_223 c1_i32_225 k0_t11
  let c64_i32_349 : BitVec 32 := 64#32
  let v425 : BitVec 32 := Scalar.muli arg16 c64_i32_349
  let c32_i32_350 : BitVec 32 := 32#32
  let v426 : BitVec 32 := Scalar.addi v425 c32_i32_350
  v426
def k0_mult293 (k0_t11 : Fin k0_t11_loop.trips) : BitVec 32 :=
  let c0_i32_223 : BitVec 32 := 0#32
  let c1_i32_225 : BitVec 32 := 1#32
  let arg16 : BitVec 32 := Scf.iv c0_i32_223 c1_i32_225 k0_t11
  let c64_i32_349 : BitVec 32 := 64#32
  let v425 : BitVec 32 := Scalar.muli arg16 c64_i32_349
  let c32_i32_350 : BitVec 32 := 32#32
  let v426 : BitVec 32 := Scalar.addi v425 c32_i32_350
  let v427 : BitVec 32 := v426
  let c16_i32_352 : BitVec 32 := 16#32
  let v430 : BitVec 32 := Scalar.addi v427 c16_i32_352
  v430
def k0_mult294 (k0_t11 : Fin k0_t11_loop.trips) : BitVec 32 :=
  let c0_i32_223 : BitVec 32 := 0#32
  let c1_i32_225 : BitVec 32 := 1#32
  let arg16 : BitVec 32 := Scf.iv c0_i32_223 c1_i32_225 k0_t11
  let c64_i32_349 : BitVec 32 := 64#32
  let v425 : BitVec 32 := Scalar.muli arg16 c64_i32_349
  let c32_i32_350 : BitVec 32 := 32#32
  let v426 : BitVec 32 := Scalar.addi v425 c32_i32_350
  let v427 : BitVec 32 := v426
  let c16_i32_355 : BitVec 32 := 16#32
  let v437 : BitVec 32 := Scalar.addi v427 c16_i32_355
  v437
def k0_mult295 (k0_t11 : Fin k0_t11_loop.trips) : BitVec 32 :=
  let c0_i32_223 : BitVec 32 := 0#32
  let c1_i32_225 : BitVec 32 := 1#32
  let arg16 : BitVec 32 := Scf.iv c0_i32_223 c1_i32_225 k0_t11
  let c64_i32_358 : BitVec 32 := 64#32
  let v444 : BitVec 32 := Scalar.muli arg16 c64_i32_358
  let c40_i32 : BitVec 32 := 40#32
  let v445 : BitVec 32 := Scalar.addi v444 c40_i32
  v445
def k0_mult296 (k0_t11 : Fin k0_t11_loop.trips) : BitVec 32 :=
  let c0_i32_223 : BitVec 32 := 0#32
  let c1_i32_225 : BitVec 32 := 1#32
  let arg16 : BitVec 32 := Scf.iv c0_i32_223 c1_i32_225 k0_t11
  let c64_i32_358 : BitVec 32 := 64#32
  let v444 : BitVec 32 := Scalar.muli arg16 c64_i32_358
  let c40_i32 : BitVec 32 := 40#32
  let v445 : BitVec 32 := Scalar.addi v444 c40_i32
  let v446 : BitVec 32 := v445
  let c16_i32_360 : BitVec 32 := 16#32
  let v449 : BitVec 32 := Scalar.addi v446 c16_i32_360
  v449
def k0_mult297 (k0_t11 : Fin k0_t11_loop.trips) : BitVec 32 :=
  let c0_i32_223 : BitVec 32 := 0#32
  let c1_i32_225 : BitVec 32 := 1#32
  let arg16 : BitVec 32 := Scf.iv c0_i32_223 c1_i32_225 k0_t11
  let c64_i32_358 : BitVec 32 := 64#32
  let v444 : BitVec 32 := Scalar.muli arg16 c64_i32_358
  let c40_i32 : BitVec 32 := 40#32
  let v445 : BitVec 32 := Scalar.addi v444 c40_i32
  let v446 : BitVec 32 := v445
  let c16_i32_363 : BitVec 32 := 16#32
  let v456 : BitVec 32 := Scalar.addi v446 c16_i32_363
  v456
def k0_mult298 (k0_t11 : Fin k0_t11_loop.trips) : BitVec 32 :=
  let c0_i32_223 : BitVec 32 := 0#32
  let c1_i32_225 : BitVec 32 := 1#32
  let arg16 : BitVec 32 := Scf.iv c0_i32_223 c1_i32_225 k0_t11
  let c64_i32_366 : BitVec 32 := 64#32
  let v463 : BitVec 32 := Scalar.muli arg16 c64_i32_366
  let c48_i32 : BitVec 32 := 48#32
  let v464 : BitVec 32 := Scalar.addi v463 c48_i32
  v464
def k0_mult299 (k0_t11 : Fin k0_t11_loop.trips) : BitVec 32 :=
  let c0_i32_223 : BitVec 32 := 0#32
  let c1_i32_225 : BitVec 32 := 1#32
  let arg16 : BitVec 32 := Scf.iv c0_i32_223 c1_i32_225 k0_t11
  let c64_i32_366 : BitVec 32 := 64#32
  let v463 : BitVec 32 := Scalar.muli arg16 c64_i32_366
  let c48_i32 : BitVec 32 := 48#32
  let v464 : BitVec 32 := Scalar.addi v463 c48_i32
  let v465 : BitVec 32 := v464
  let c16_i32_368 : BitVec 32 := 16#32
  let v468 : BitVec 32 := Scalar.addi v465 c16_i32_368
  v468
def k0_mult300 (k0_t11 : Fin k0_t11_loop.trips) : BitVec 32 :=
  let c0_i32_223 : BitVec 32 := 0#32
  let c1_i32_225 : BitVec 32 := 1#32
  let arg16 : BitVec 32 := Scf.iv c0_i32_223 c1_i32_225 k0_t11
  let c64_i32_366 : BitVec 32 := 64#32
  let v463 : BitVec 32 := Scalar.muli arg16 c64_i32_366
  let c48_i32 : BitVec 32 := 48#32
  let v464 : BitVec 32 := Scalar.addi v463 c48_i32
  let v465 : BitVec 32 := v464
  let c16_i32_371 : BitVec 32 := 16#32
  let v475 : BitVec 32 := Scalar.addi v465 c16_i32_371
  v475
def k0_mult301 (k0_t11 : Fin k0_t11_loop.trips) : BitVec 32 :=
  let c0_i32_223 : BitVec 32 := 0#32
  let c1_i32_225 : BitVec 32 := 1#32
  let arg16 : BitVec 32 := Scf.iv c0_i32_223 c1_i32_225 k0_t11
  let c64_i32_374 : BitVec 32 := 64#32
  let v482 : BitVec 32 := Scalar.muli arg16 c64_i32_374
  let c56_i32 : BitVec 32 := 56#32
  let v483 : BitVec 32 := Scalar.addi v482 c56_i32
  v483
def k0_mult302 (k0_t11 : Fin k0_t11_loop.trips) : BitVec 32 :=
  let c0_i32_223 : BitVec 32 := 0#32
  let c1_i32_225 : BitVec 32 := 1#32
  let arg16 : BitVec 32 := Scf.iv c0_i32_223 c1_i32_225 k0_t11
  let c64_i32_374 : BitVec 32 := 64#32
  let v482 : BitVec 32 := Scalar.muli arg16 c64_i32_374
  let c56_i32 : BitVec 32 := 56#32
  let v483 : BitVec 32 := Scalar.addi v482 c56_i32
  let v484 : BitVec 32 := v483
  let c16_i32_376 : BitVec 32 := 16#32
  let v487 : BitVec 32 := Scalar.addi v484 c16_i32_376
  v487
def k0_mult303 (k0_t11 : Fin k0_t11_loop.trips) : BitVec 32 :=
  let c0_i32_223 : BitVec 32 := 0#32
  let c1_i32_225 : BitVec 32 := 1#32
  let arg16 : BitVec 32 := Scf.iv c0_i32_223 c1_i32_225 k0_t11
  let c64_i32_374 : BitVec 32 := 64#32
  let v482 : BitVec 32 := Scalar.muli arg16 c64_i32_374
  let c56_i32 : BitVec 32 := 56#32
  let v483 : BitVec 32 := Scalar.addi v482 c56_i32
  let v484 : BitVec 32 := v483
  let c16_i32_379 : BitVec 32 := 16#32
  let v494 : BitVec 32 := Scalar.addi v484 c16_i32_379
  v494
@[reducible] def k0_t12_loop : Scf.Loop 32 :=
  let c0_i32_236 : BitVec 32 := 0#32
  let c8_i32_237 : BitVec 32 := 8#32
  let v259 : BitVec 32 := Scalar.addi c0_i32_236 c8_i32_237
  let c1_i32_238 : BitVec 32 := 1#32
  ⟨c0_i32_236, v259, c1_i32_238⟩
def k0_mult304 (k0_t12 : Fin k0_t12_loop.trips) : BitVec 32 :=
  let c0_i32_236 : BitVec 32 := 0#32
  let c1_i32_238 : BitVec 32 := 1#32
  let arg16 : BitVec 32 := Scf.iv c0_i32_236 c1_i32_238 k0_t12
  let c64_i32 : BitVec 32 := 64#32
  let v349 : BitVec 32 := Scalar.muli arg16 c64_i32
  let c0_i32_316 : BitVec 32 := 0#32
  let v350 : BitVec 32 := Scalar.addi v349 c0_i32_316
  v350
def k0_off40 (k0_t12 : Fin k0_t12_loop.trips) (c0_i32_316 : BitVec 32) : Fin 2 → Nat :=
  let c0_i32_236 : BitVec 32 := 0#32
  let c1_i32_238 : BitVec 32 := 1#32
  let arg16 : BitVec 32 := Scf.iv c0_i32_236 c1_i32_238 k0_t12
  let c64_i32 : BitVec 32 := 64#32
  let v349 : BitVec 32 := Scalar.muli arg16 c64_i32
  let v350 : BitVec 32 := Scalar.addi v349 c0_i32_316
  let v351 : BitVec 32 := v350
  let v352 : Index := Scalar.indexCast v351
  let c0_317 : Index := 0#32
  ![v352.toNat, 0]
def k0_mult305 (k0_t12 : Fin k0_t12_loop.trips) : BitVec 32 :=
  let c0_i32_236 : BitVec 32 := 0#32
  let c1_i32_238 : BitVec 32 := 1#32
  let arg16 : BitVec 32 := Scf.iv c0_i32_236 c1_i32_238 k0_t12
  let c64_i32 : BitVec 32 := 64#32
  let v349 : BitVec 32 := Scalar.muli arg16 c64_i32
  let c0_i32_316 : BitVec 32 := 0#32
  let v350 : BitVec 32 := Scalar.addi v349 c0_i32_316
  let v351 : BitVec 32 := v350
  let c16_i32 : BitVec 32 := 16#32
  let v354 : BitVec 32 := Scalar.addi v351 c16_i32
  v354
def k0_off41 (k0_t12 : Fin k0_t12_loop.trips) (c0_i32_316 : BitVec 32) : Fin 3 → Nat :=
  let c6_318 : Index := 6#32
  let c0_i32_236 : BitVec 32 := 0#32
  let c1_i32_238 : BitVec 32 := 1#32
  let arg16 : BitVec 32 := Scf.iv c0_i32_236 c1_i32_238 k0_t12
  let c64_i32 : BitVec 32 := 64#32
  let v349 : BitVec 32 := Scalar.muli arg16 c64_i32
  let v350 : BitVec 32 := Scalar.addi v349 c0_i32_316
  let v351 : BitVec 32 := v350
  let c16_i32 : BitVec 32 := 16#32
  let v354 : BitVec 32 := Scalar.addi v351 c16_i32
  let v355 : BitVec 32 := v354
  let v356 : Index := Scalar.indexCast v355
  let c0_319 : Index := 0#32
  ![6, v356.toNat, 0]
def k0_mult306 (k0_t12 : Fin k0_t12_loop.trips) : BitVec 32 :=
  let c0_i32_236 : BitVec 32 := 0#32
  let c1_i32_238 : BitVec 32 := 1#32
  let arg16 : BitVec 32 := Scf.iv c0_i32_236 c1_i32_238 k0_t12
  let c64_i32 : BitVec 32 := 64#32
  let v349 : BitVec 32 := Scalar.muli arg16 c64_i32
  let c0_i32_316 : BitVec 32 := 0#32
  let v350 : BitVec 32 := Scalar.addi v349 c0_i32_316
  let v351 : BitVec 32 := v350
  let c16_i32_320 : BitVec 32 := 16#32
  let v361 : BitVec 32 := Scalar.addi v351 c16_i32_320
  v361
def k0_off42 (k0_t12 : Fin k0_t12_loop.trips) (c0_i32_316 : BitVec 32) : Fin 3 → Nat :=
  let c7_321 : Index := 7#32
  let c0_i32_236 : BitVec 32 := 0#32
  let c1_i32_238 : BitVec 32 := 1#32
  let arg16 : BitVec 32 := Scf.iv c0_i32_236 c1_i32_238 k0_t12
  let c64_i32 : BitVec 32 := 64#32
  let v349 : BitVec 32 := Scalar.muli arg16 c64_i32
  let v350 : BitVec 32 := Scalar.addi v349 c0_i32_316
  let v351 : BitVec 32 := v350
  let c16_i32_320 : BitVec 32 := 16#32
  let v361 : BitVec 32 := Scalar.addi v351 c16_i32_320
  let v362 : BitVec 32 := v361
  let v363 : Index := Scalar.indexCast v362
  let c0_322 : Index := 0#32
  ![7, v363.toNat, 0]
def k0_mult307 (k0_t12 : Fin k0_t12_loop.trips) : BitVec 32 :=
  let c0_i32_236 : BitVec 32 := 0#32
  let c1_i32_238 : BitVec 32 := 1#32
  let arg16 : BitVec 32 := Scf.iv c0_i32_236 c1_i32_238 k0_t12
  let c64_i32_323 : BitVec 32 := 64#32
  let v368 : BitVec 32 := Scalar.muli arg16 c64_i32_323
  let c8_i32_324 : BitVec 32 := 8#32
  let v369 : BitVec 32 := Scalar.addi v368 c8_i32_324
  v369
def k0_mult308 (k0_t12 : Fin k0_t12_loop.trips) : BitVec 32 :=
  let c0_i32_236 : BitVec 32 := 0#32
  let c1_i32_238 : BitVec 32 := 1#32
  let arg16 : BitVec 32 := Scf.iv c0_i32_236 c1_i32_238 k0_t12
  let c64_i32_323 : BitVec 32 := 64#32
  let v368 : BitVec 32 := Scalar.muli arg16 c64_i32_323
  let c8_i32_324 : BitVec 32 := 8#32
  let v369 : BitVec 32 := Scalar.addi v368 c8_i32_324
  let v370 : BitVec 32 := v369
  let c16_i32_326 : BitVec 32 := 16#32
  let v373 : BitVec 32 := Scalar.addi v370 c16_i32_326
  v373
def k0_mult309 (k0_t12 : Fin k0_t12_loop.trips) : BitVec 32 :=
  let c0_i32_236 : BitVec 32 := 0#32
  let c1_i32_238 : BitVec 32 := 1#32
  let arg16 : BitVec 32 := Scf.iv c0_i32_236 c1_i32_238 k0_t12
  let c64_i32_323 : BitVec 32 := 64#32
  let v368 : BitVec 32 := Scalar.muli arg16 c64_i32_323
  let c8_i32_324 : BitVec 32 := 8#32
  let v369 : BitVec 32 := Scalar.addi v368 c8_i32_324
  let v370 : BitVec 32 := v369
  let c16_i32_329 : BitVec 32 := 16#32
  let v380 : BitVec 32 := Scalar.addi v370 c16_i32_329
  v380
def k0_mult310 (k0_t12 : Fin k0_t12_loop.trips) : BitVec 32 :=
  let c0_i32_236 : BitVec 32 := 0#32
  let c1_i32_238 : BitVec 32 := 1#32
  let arg16 : BitVec 32 := Scf.iv c0_i32_236 c1_i32_238 k0_t12
  let c64_i32_332 : BitVec 32 := 64#32
  let v387 : BitVec 32 := Scalar.muli arg16 c64_i32_332
  let c16_i32_333 : BitVec 32 := 16#32
  let v388 : BitVec 32 := Scalar.addi v387 c16_i32_333
  v388
def k0_mult311 (k0_t12 : Fin k0_t12_loop.trips) : BitVec 32 :=
  let c0_i32_236 : BitVec 32 := 0#32
  let c1_i32_238 : BitVec 32 := 1#32
  let arg16 : BitVec 32 := Scf.iv c0_i32_236 c1_i32_238 k0_t12
  let c64_i32_332 : BitVec 32 := 64#32
  let v387 : BitVec 32 := Scalar.muli arg16 c64_i32_332
  let c16_i32_333 : BitVec 32 := 16#32
  let v388 : BitVec 32 := Scalar.addi v387 c16_i32_333
  let v389 : BitVec 32 := v388
  let c16_i32_335 : BitVec 32 := 16#32
  let v392 : BitVec 32 := Scalar.addi v389 c16_i32_335
  v392
def k0_mult312 (k0_t12 : Fin k0_t12_loop.trips) : BitVec 32 :=
  let c0_i32_236 : BitVec 32 := 0#32
  let c1_i32_238 : BitVec 32 := 1#32
  let arg16 : BitVec 32 := Scf.iv c0_i32_236 c1_i32_238 k0_t12
  let c64_i32_332 : BitVec 32 := 64#32
  let v387 : BitVec 32 := Scalar.muli arg16 c64_i32_332
  let c16_i32_333 : BitVec 32 := 16#32
  let v388 : BitVec 32 := Scalar.addi v387 c16_i32_333
  let v389 : BitVec 32 := v388
  let c16_i32_338 : BitVec 32 := 16#32
  let v399 : BitVec 32 := Scalar.addi v389 c16_i32_338
  v399
def k0_mult313 (k0_t12 : Fin k0_t12_loop.trips) : BitVec 32 :=
  let c0_i32_236 : BitVec 32 := 0#32
  let c1_i32_238 : BitVec 32 := 1#32
  let arg16 : BitVec 32 := Scf.iv c0_i32_236 c1_i32_238 k0_t12
  let c64_i32_341 : BitVec 32 := 64#32
  let v406 : BitVec 32 := Scalar.muli arg16 c64_i32_341
  let c24_i32 : BitVec 32 := 24#32
  let v407 : BitVec 32 := Scalar.addi v406 c24_i32
  v407
def k0_mult314 (k0_t12 : Fin k0_t12_loop.trips) : BitVec 32 :=
  let c0_i32_236 : BitVec 32 := 0#32
  let c1_i32_238 : BitVec 32 := 1#32
  let arg16 : BitVec 32 := Scf.iv c0_i32_236 c1_i32_238 k0_t12
  let c64_i32_341 : BitVec 32 := 64#32
  let v406 : BitVec 32 := Scalar.muli arg16 c64_i32_341
  let c24_i32 : BitVec 32 := 24#32
  let v407 : BitVec 32 := Scalar.addi v406 c24_i32
  let v408 : BitVec 32 := v407
  let c16_i32_343 : BitVec 32 := 16#32
  let v411 : BitVec 32 := Scalar.addi v408 c16_i32_343
  v411
def k0_mult315 (k0_t12 : Fin k0_t12_loop.trips) : BitVec 32 :=
  let c0_i32_236 : BitVec 32 := 0#32
  let c1_i32_238 : BitVec 32 := 1#32
  let arg16 : BitVec 32 := Scf.iv c0_i32_236 c1_i32_238 k0_t12
  let c64_i32_341 : BitVec 32 := 64#32
  let v406 : BitVec 32 := Scalar.muli arg16 c64_i32_341
  let c24_i32 : BitVec 32 := 24#32
  let v407 : BitVec 32 := Scalar.addi v406 c24_i32
  let v408 : BitVec 32 := v407
  let c16_i32_346 : BitVec 32 := 16#32
  let v418 : BitVec 32 := Scalar.addi v408 c16_i32_346
  v418
def k0_mult316 (k0_t12 : Fin k0_t12_loop.trips) : BitVec 32 :=
  let c0_i32_236 : BitVec 32 := 0#32
  let c1_i32_238 : BitVec 32 := 1#32
  let arg16 : BitVec 32 := Scf.iv c0_i32_236 c1_i32_238 k0_t12
  let c64_i32_349 : BitVec 32 := 64#32
  let v425 : BitVec 32 := Scalar.muli arg16 c64_i32_349
  let c32_i32_350 : BitVec 32 := 32#32
  let v426 : BitVec 32 := Scalar.addi v425 c32_i32_350
  v426
def k0_mult317 (k0_t12 : Fin k0_t12_loop.trips) : BitVec 32 :=
  let c0_i32_236 : BitVec 32 := 0#32
  let c1_i32_238 : BitVec 32 := 1#32
  let arg16 : BitVec 32 := Scf.iv c0_i32_236 c1_i32_238 k0_t12
  let c64_i32_349 : BitVec 32 := 64#32
  let v425 : BitVec 32 := Scalar.muli arg16 c64_i32_349
  let c32_i32_350 : BitVec 32 := 32#32
  let v426 : BitVec 32 := Scalar.addi v425 c32_i32_350
  let v427 : BitVec 32 := v426
  let c16_i32_352 : BitVec 32 := 16#32
  let v430 : BitVec 32 := Scalar.addi v427 c16_i32_352
  v430
def k0_mult318 (k0_t12 : Fin k0_t12_loop.trips) : BitVec 32 :=
  let c0_i32_236 : BitVec 32 := 0#32
  let c1_i32_238 : BitVec 32 := 1#32
  let arg16 : BitVec 32 := Scf.iv c0_i32_236 c1_i32_238 k0_t12
  let c64_i32_349 : BitVec 32 := 64#32
  let v425 : BitVec 32 := Scalar.muli arg16 c64_i32_349
  let c32_i32_350 : BitVec 32 := 32#32
  let v426 : BitVec 32 := Scalar.addi v425 c32_i32_350
  let v427 : BitVec 32 := v426
  let c16_i32_355 : BitVec 32 := 16#32
  let v437 : BitVec 32 := Scalar.addi v427 c16_i32_355
  v437
def k0_mult319 (k0_t12 : Fin k0_t12_loop.trips) : BitVec 32 :=
  let c0_i32_236 : BitVec 32 := 0#32
  let c1_i32_238 : BitVec 32 := 1#32
  let arg16 : BitVec 32 := Scf.iv c0_i32_236 c1_i32_238 k0_t12
  let c64_i32_358 : BitVec 32 := 64#32
  let v444 : BitVec 32 := Scalar.muli arg16 c64_i32_358
  let c40_i32 : BitVec 32 := 40#32
  let v445 : BitVec 32 := Scalar.addi v444 c40_i32
  v445
def k0_mult320 (k0_t12 : Fin k0_t12_loop.trips) : BitVec 32 :=
  let c0_i32_236 : BitVec 32 := 0#32
  let c1_i32_238 : BitVec 32 := 1#32
  let arg16 : BitVec 32 := Scf.iv c0_i32_236 c1_i32_238 k0_t12
  let c64_i32_358 : BitVec 32 := 64#32
  let v444 : BitVec 32 := Scalar.muli arg16 c64_i32_358
  let c40_i32 : BitVec 32 := 40#32
  let v445 : BitVec 32 := Scalar.addi v444 c40_i32
  let v446 : BitVec 32 := v445
  let c16_i32_360 : BitVec 32 := 16#32
  let v449 : BitVec 32 := Scalar.addi v446 c16_i32_360
  v449
def k0_mult321 (k0_t12 : Fin k0_t12_loop.trips) : BitVec 32 :=
  let c0_i32_236 : BitVec 32 := 0#32
  let c1_i32_238 : BitVec 32 := 1#32
  let arg16 : BitVec 32 := Scf.iv c0_i32_236 c1_i32_238 k0_t12
  let c64_i32_358 : BitVec 32 := 64#32
  let v444 : BitVec 32 := Scalar.muli arg16 c64_i32_358
  let c40_i32 : BitVec 32 := 40#32
  let v445 : BitVec 32 := Scalar.addi v444 c40_i32
  let v446 : BitVec 32 := v445
  let c16_i32_363 : BitVec 32 := 16#32
  let v456 : BitVec 32 := Scalar.addi v446 c16_i32_363
  v456
def k0_mult322 (k0_t12 : Fin k0_t12_loop.trips) : BitVec 32 :=
  let c0_i32_236 : BitVec 32 := 0#32
  let c1_i32_238 : BitVec 32 := 1#32
  let arg16 : BitVec 32 := Scf.iv c0_i32_236 c1_i32_238 k0_t12
  let c64_i32_366 : BitVec 32 := 64#32
  let v463 : BitVec 32 := Scalar.muli arg16 c64_i32_366
  let c48_i32 : BitVec 32 := 48#32
  let v464 : BitVec 32 := Scalar.addi v463 c48_i32
  v464
def k0_mult323 (k0_t12 : Fin k0_t12_loop.trips) : BitVec 32 :=
  let c0_i32_236 : BitVec 32 := 0#32
  let c1_i32_238 : BitVec 32 := 1#32
  let arg16 : BitVec 32 := Scf.iv c0_i32_236 c1_i32_238 k0_t12
  let c64_i32_366 : BitVec 32 := 64#32
  let v463 : BitVec 32 := Scalar.muli arg16 c64_i32_366
  let c48_i32 : BitVec 32 := 48#32
  let v464 : BitVec 32 := Scalar.addi v463 c48_i32
  let v465 : BitVec 32 := v464
  let c16_i32_368 : BitVec 32 := 16#32
  let v468 : BitVec 32 := Scalar.addi v465 c16_i32_368
  v468
def k0_mult324 (k0_t12 : Fin k0_t12_loop.trips) : BitVec 32 :=
  let c0_i32_236 : BitVec 32 := 0#32
  let c1_i32_238 : BitVec 32 := 1#32
  let arg16 : BitVec 32 := Scf.iv c0_i32_236 c1_i32_238 k0_t12
  let c64_i32_366 : BitVec 32 := 64#32
  let v463 : BitVec 32 := Scalar.muli arg16 c64_i32_366
  let c48_i32 : BitVec 32 := 48#32
  let v464 : BitVec 32 := Scalar.addi v463 c48_i32
  let v465 : BitVec 32 := v464
  let c16_i32_371 : BitVec 32 := 16#32
  let v475 : BitVec 32 := Scalar.addi v465 c16_i32_371
  v475
def k0_mult325 (k0_t12 : Fin k0_t12_loop.trips) : BitVec 32 :=
  let c0_i32_236 : BitVec 32 := 0#32
  let c1_i32_238 : BitVec 32 := 1#32
  let arg16 : BitVec 32 := Scf.iv c0_i32_236 c1_i32_238 k0_t12
  let c64_i32_374 : BitVec 32 := 64#32
  let v482 : BitVec 32 := Scalar.muli arg16 c64_i32_374
  let c56_i32 : BitVec 32 := 56#32
  let v483 : BitVec 32 := Scalar.addi v482 c56_i32
  v483
def k0_mult326 (k0_t12 : Fin k0_t12_loop.trips) : BitVec 32 :=
  let c0_i32_236 : BitVec 32 := 0#32
  let c1_i32_238 : BitVec 32 := 1#32
  let arg16 : BitVec 32 := Scf.iv c0_i32_236 c1_i32_238 k0_t12
  let c64_i32_374 : BitVec 32 := 64#32
  let v482 : BitVec 32 := Scalar.muli arg16 c64_i32_374
  let c56_i32 : BitVec 32 := 56#32
  let v483 : BitVec 32 := Scalar.addi v482 c56_i32
  let v484 : BitVec 32 := v483
  let c16_i32_376 : BitVec 32 := 16#32
  let v487 : BitVec 32 := Scalar.addi v484 c16_i32_376
  v487
def k0_mult327 (k0_t12 : Fin k0_t12_loop.trips) : BitVec 32 :=
  let c0_i32_236 : BitVec 32 := 0#32
  let c1_i32_238 : BitVec 32 := 1#32
  let arg16 : BitVec 32 := Scf.iv c0_i32_236 c1_i32_238 k0_t12
  let c64_i32_374 : BitVec 32 := 64#32
  let v482 : BitVec 32 := Scalar.muli arg16 c64_i32_374
  let c56_i32 : BitVec 32 := 56#32
  let v483 : BitVec 32 := Scalar.addi v482 c56_i32
  let v484 : BitVec 32 := v483
  let c16_i32_379 : BitVec 32 := 16#32
  let v494 : BitVec 32 := Scalar.addi v484 c16_i32_379
  v494
@[reducible] def k0_t13_loop : Scf.Loop 32 :=
  let c0_i32_249 : BitVec 32 := 0#32
  let c8_i32_250 : BitVec 32 := 8#32
  let v274 : BitVec 32 := Scalar.addi c0_i32_249 c8_i32_250
  let c1_i32_251 : BitVec 32 := 1#32
  ⟨c0_i32_249, v274, c1_i32_251⟩
def k0_mult328 (k0_t13 : Fin k0_t13_loop.trips) : BitVec 32 :=
  let c0_i32_249 : BitVec 32 := 0#32
  let c1_i32_251 : BitVec 32 := 1#32
  let arg16 : BitVec 32 := Scf.iv c0_i32_249 c1_i32_251 k0_t13
  let c64_i32 : BitVec 32 := 64#32
  let v349 : BitVec 32 := Scalar.muli arg16 c64_i32
  let c0_i32_316 : BitVec 32 := 0#32
  let v350 : BitVec 32 := Scalar.addi v349 c0_i32_316
  v350
def k0_off43 (k0_t13 : Fin k0_t13_loop.trips) (c0_i32_316 : BitVec 32) : Fin 2 → Nat :=
  let c0_i32_249 : BitVec 32 := 0#32
  let c1_i32_251 : BitVec 32 := 1#32
  let arg16 : BitVec 32 := Scf.iv c0_i32_249 c1_i32_251 k0_t13
  let c64_i32 : BitVec 32 := 64#32
  let v349 : BitVec 32 := Scalar.muli arg16 c64_i32
  let v350 : BitVec 32 := Scalar.addi v349 c0_i32_316
  let v351 : BitVec 32 := v350
  let v352 : Index := Scalar.indexCast v351
  let c0_317 : Index := 0#32
  ![v352.toNat, 0]
def k0_mult329 (k0_t13 : Fin k0_t13_loop.trips) : BitVec 32 :=
  let c0_i32_249 : BitVec 32 := 0#32
  let c1_i32_251 : BitVec 32 := 1#32
  let arg16 : BitVec 32 := Scf.iv c0_i32_249 c1_i32_251 k0_t13
  let c64_i32 : BitVec 32 := 64#32
  let v349 : BitVec 32 := Scalar.muli arg16 c64_i32
  let c0_i32_316 : BitVec 32 := 0#32
  let v350 : BitVec 32 := Scalar.addi v349 c0_i32_316
  let v351 : BitVec 32 := v350
  let c24_i32 : BitVec 32 := 24#32
  let v354 : BitVec 32 := Scalar.addi v351 c24_i32
  v354
def k0_off44 (k0_t13 : Fin k0_t13_loop.trips) (c0_i32_316 : BitVec 32) : Fin 3 → Nat :=
  let c0_318 : Index := 0#32
  let c0_i32_249 : BitVec 32 := 0#32
  let c1_i32_251 : BitVec 32 := 1#32
  let arg16 : BitVec 32 := Scf.iv c0_i32_249 c1_i32_251 k0_t13
  let c64_i32 : BitVec 32 := 64#32
  let v349 : BitVec 32 := Scalar.muli arg16 c64_i32
  let v350 : BitVec 32 := Scalar.addi v349 c0_i32_316
  let v351 : BitVec 32 := v350
  let c24_i32 : BitVec 32 := 24#32
  let v354 : BitVec 32 := Scalar.addi v351 c24_i32
  let v355 : BitVec 32 := v354
  let v356 : Index := Scalar.indexCast v355
  let c0_319 : Index := 0#32
  ![0, v356.toNat, 0]
def k0_mult330 (k0_t13 : Fin k0_t13_loop.trips) : BitVec 32 :=
  let c0_i32_249 : BitVec 32 := 0#32
  let c1_i32_251 : BitVec 32 := 1#32
  let arg16 : BitVec 32 := Scf.iv c0_i32_249 c1_i32_251 k0_t13
  let c64_i32 : BitVec 32 := 64#32
  let v349 : BitVec 32 := Scalar.muli arg16 c64_i32
  let c0_i32_316 : BitVec 32 := 0#32
  let v350 : BitVec 32 := Scalar.addi v349 c0_i32_316
  let v351 : BitVec 32 := v350
  let c24_i32_320 : BitVec 32 := 24#32
  let v361 : BitVec 32 := Scalar.addi v351 c24_i32_320
  v361
def k0_off45 (k0_t13 : Fin k0_t13_loop.trips) (c0_i32_316 : BitVec 32) : Fin 3 → Nat :=
  let c1_321 : Index := 1#32
  let c0_i32_249 : BitVec 32 := 0#32
  let c1_i32_251 : BitVec 32 := 1#32
  let arg16 : BitVec 32 := Scf.iv c0_i32_249 c1_i32_251 k0_t13
  let c64_i32 : BitVec 32 := 64#32
  let v349 : BitVec 32 := Scalar.muli arg16 c64_i32
  let v350 : BitVec 32 := Scalar.addi v349 c0_i32_316
  let v351 : BitVec 32 := v350
  let c24_i32_320 : BitVec 32 := 24#32
  let v361 : BitVec 32 := Scalar.addi v351 c24_i32_320
  let v362 : BitVec 32 := v361
  let v363 : Index := Scalar.indexCast v362
  let c0_322 : Index := 0#32
  ![1, v363.toNat, 0]
def k0_mult331 (k0_t13 : Fin k0_t13_loop.trips) : BitVec 32 :=
  let c0_i32_249 : BitVec 32 := 0#32
  let c1_i32_251 : BitVec 32 := 1#32
  let arg16 : BitVec 32 := Scf.iv c0_i32_249 c1_i32_251 k0_t13
  let c64_i32_323 : BitVec 32 := 64#32
  let v368 : BitVec 32 := Scalar.muli arg16 c64_i32_323
  let c8_i32_324 : BitVec 32 := 8#32
  let v369 : BitVec 32 := Scalar.addi v368 c8_i32_324
  v369
def k0_mult332 (k0_t13 : Fin k0_t13_loop.trips) : BitVec 32 :=
  let c0_i32_249 : BitVec 32 := 0#32
  let c1_i32_251 : BitVec 32 := 1#32
  let arg16 : BitVec 32 := Scf.iv c0_i32_249 c1_i32_251 k0_t13
  let c64_i32_323 : BitVec 32 := 64#32
  let v368 : BitVec 32 := Scalar.muli arg16 c64_i32_323
  let c8_i32_324 : BitVec 32 := 8#32
  let v369 : BitVec 32 := Scalar.addi v368 c8_i32_324
  let v370 : BitVec 32 := v369
  let c24_i32_326 : BitVec 32 := 24#32
  let v373 : BitVec 32 := Scalar.addi v370 c24_i32_326
  v373
def k0_mult333 (k0_t13 : Fin k0_t13_loop.trips) : BitVec 32 :=
  let c0_i32_249 : BitVec 32 := 0#32
  let c1_i32_251 : BitVec 32 := 1#32
  let arg16 : BitVec 32 := Scf.iv c0_i32_249 c1_i32_251 k0_t13
  let c64_i32_323 : BitVec 32 := 64#32
  let v368 : BitVec 32 := Scalar.muli arg16 c64_i32_323
  let c8_i32_324 : BitVec 32 := 8#32
  let v369 : BitVec 32 := Scalar.addi v368 c8_i32_324
  let v370 : BitVec 32 := v369
  let c24_i32_329 : BitVec 32 := 24#32
  let v380 : BitVec 32 := Scalar.addi v370 c24_i32_329
  v380
def k0_mult334 (k0_t13 : Fin k0_t13_loop.trips) : BitVec 32 :=
  let c0_i32_249 : BitVec 32 := 0#32
  let c1_i32_251 : BitVec 32 := 1#32
  let arg16 : BitVec 32 := Scf.iv c0_i32_249 c1_i32_251 k0_t13
  let c64_i32_332 : BitVec 32 := 64#32
  let v387 : BitVec 32 := Scalar.muli arg16 c64_i32_332
  let c16_i32 : BitVec 32 := 16#32
  let v388 : BitVec 32 := Scalar.addi v387 c16_i32
  v388
def k0_mult335 (k0_t13 : Fin k0_t13_loop.trips) : BitVec 32 :=
  let c0_i32_249 : BitVec 32 := 0#32
  let c1_i32_251 : BitVec 32 := 1#32
  let arg16 : BitVec 32 := Scf.iv c0_i32_249 c1_i32_251 k0_t13
  let c64_i32_332 : BitVec 32 := 64#32
  let v387 : BitVec 32 := Scalar.muli arg16 c64_i32_332
  let c16_i32 : BitVec 32 := 16#32
  let v388 : BitVec 32 := Scalar.addi v387 c16_i32
  let v389 : BitVec 32 := v388
  let c24_i32_334 : BitVec 32 := 24#32
  let v392 : BitVec 32 := Scalar.addi v389 c24_i32_334
  v392
def k0_mult336 (k0_t13 : Fin k0_t13_loop.trips) : BitVec 32 :=
  let c0_i32_249 : BitVec 32 := 0#32
  let c1_i32_251 : BitVec 32 := 1#32
  let arg16 : BitVec 32 := Scf.iv c0_i32_249 c1_i32_251 k0_t13
  let c64_i32_332 : BitVec 32 := 64#32
  let v387 : BitVec 32 := Scalar.muli arg16 c64_i32_332
  let c16_i32 : BitVec 32 := 16#32
  let v388 : BitVec 32 := Scalar.addi v387 c16_i32
  let v389 : BitVec 32 := v388
  let c24_i32_337 : BitVec 32 := 24#32
  let v399 : BitVec 32 := Scalar.addi v389 c24_i32_337
  v399
def k0_mult337 (k0_t13 : Fin k0_t13_loop.trips) : BitVec 32 :=
  let c0_i32_249 : BitVec 32 := 0#32
  let c1_i32_251 : BitVec 32 := 1#32
  let arg16 : BitVec 32 := Scf.iv c0_i32_249 c1_i32_251 k0_t13
  let c64_i32_340 : BitVec 32 := 64#32
  let v406 : BitVec 32 := Scalar.muli arg16 c64_i32_340
  let c24_i32_341 : BitVec 32 := 24#32
  let v407 : BitVec 32 := Scalar.addi v406 c24_i32_341
  v407
def k0_mult338 (k0_t13 : Fin k0_t13_loop.trips) : BitVec 32 :=
  let c0_i32_249 : BitVec 32 := 0#32
  let c1_i32_251 : BitVec 32 := 1#32
  let arg16 : BitVec 32 := Scf.iv c0_i32_249 c1_i32_251 k0_t13
  let c64_i32_340 : BitVec 32 := 64#32
  let v406 : BitVec 32 := Scalar.muli arg16 c64_i32_340
  let c24_i32_341 : BitVec 32 := 24#32
  let v407 : BitVec 32 := Scalar.addi v406 c24_i32_341
  let v408 : BitVec 32 := v407
  let c24_i32_343 : BitVec 32 := 24#32
  let v411 : BitVec 32 := Scalar.addi v408 c24_i32_343
  v411
def k0_mult339 (k0_t13 : Fin k0_t13_loop.trips) : BitVec 32 :=
  let c0_i32_249 : BitVec 32 := 0#32
  let c1_i32_251 : BitVec 32 := 1#32
  let arg16 : BitVec 32 := Scf.iv c0_i32_249 c1_i32_251 k0_t13
  let c64_i32_340 : BitVec 32 := 64#32
  let v406 : BitVec 32 := Scalar.muli arg16 c64_i32_340
  let c24_i32_341 : BitVec 32 := 24#32
  let v407 : BitVec 32 := Scalar.addi v406 c24_i32_341
  let v408 : BitVec 32 := v407
  let c24_i32_346 : BitVec 32 := 24#32
  let v418 : BitVec 32 := Scalar.addi v408 c24_i32_346
  v418
def k0_mult340 (k0_t13 : Fin k0_t13_loop.trips) : BitVec 32 :=
  let c0_i32_249 : BitVec 32 := 0#32
  let c1_i32_251 : BitVec 32 := 1#32
  let arg16 : BitVec 32 := Scf.iv c0_i32_249 c1_i32_251 k0_t13
  let c64_i32_349 : BitVec 32 := 64#32
  let v425 : BitVec 32 := Scalar.muli arg16 c64_i32_349
  let c32_i32_350 : BitVec 32 := 32#32
  let v426 : BitVec 32 := Scalar.addi v425 c32_i32_350
  v426
def k0_mult341 (k0_t13 : Fin k0_t13_loop.trips) : BitVec 32 :=
  let c0_i32_249 : BitVec 32 := 0#32
  let c1_i32_251 : BitVec 32 := 1#32
  let arg16 : BitVec 32 := Scf.iv c0_i32_249 c1_i32_251 k0_t13
  let c64_i32_349 : BitVec 32 := 64#32
  let v425 : BitVec 32 := Scalar.muli arg16 c64_i32_349
  let c32_i32_350 : BitVec 32 := 32#32
  let v426 : BitVec 32 := Scalar.addi v425 c32_i32_350
  let v427 : BitVec 32 := v426
  let c24_i32_352 : BitVec 32 := 24#32
  let v430 : BitVec 32 := Scalar.addi v427 c24_i32_352
  v430
def k0_mult342 (k0_t13 : Fin k0_t13_loop.trips) : BitVec 32 :=
  let c0_i32_249 : BitVec 32 := 0#32
  let c1_i32_251 : BitVec 32 := 1#32
  let arg16 : BitVec 32 := Scf.iv c0_i32_249 c1_i32_251 k0_t13
  let c64_i32_349 : BitVec 32 := 64#32
  let v425 : BitVec 32 := Scalar.muli arg16 c64_i32_349
  let c32_i32_350 : BitVec 32 := 32#32
  let v426 : BitVec 32 := Scalar.addi v425 c32_i32_350
  let v427 : BitVec 32 := v426
  let c24_i32_355 : BitVec 32 := 24#32
  let v437 : BitVec 32 := Scalar.addi v427 c24_i32_355
  v437
def k0_mult343 (k0_t13 : Fin k0_t13_loop.trips) : BitVec 32 :=
  let c0_i32_249 : BitVec 32 := 0#32
  let c1_i32_251 : BitVec 32 := 1#32
  let arg16 : BitVec 32 := Scf.iv c0_i32_249 c1_i32_251 k0_t13
  let c64_i32_358 : BitVec 32 := 64#32
  let v444 : BitVec 32 := Scalar.muli arg16 c64_i32_358
  let c40_i32 : BitVec 32 := 40#32
  let v445 : BitVec 32 := Scalar.addi v444 c40_i32
  v445
def k0_mult344 (k0_t13 : Fin k0_t13_loop.trips) : BitVec 32 :=
  let c0_i32_249 : BitVec 32 := 0#32
  let c1_i32_251 : BitVec 32 := 1#32
  let arg16 : BitVec 32 := Scf.iv c0_i32_249 c1_i32_251 k0_t13
  let c64_i32_358 : BitVec 32 := 64#32
  let v444 : BitVec 32 := Scalar.muli arg16 c64_i32_358
  let c40_i32 : BitVec 32 := 40#32
  let v445 : BitVec 32 := Scalar.addi v444 c40_i32
  let v446 : BitVec 32 := v445
  let c24_i32_360 : BitVec 32 := 24#32
  let v449 : BitVec 32 := Scalar.addi v446 c24_i32_360
  v449
def k0_mult345 (k0_t13 : Fin k0_t13_loop.trips) : BitVec 32 :=
  let c0_i32_249 : BitVec 32 := 0#32
  let c1_i32_251 : BitVec 32 := 1#32
  let arg16 : BitVec 32 := Scf.iv c0_i32_249 c1_i32_251 k0_t13
  let c64_i32_358 : BitVec 32 := 64#32
  let v444 : BitVec 32 := Scalar.muli arg16 c64_i32_358
  let c40_i32 : BitVec 32 := 40#32
  let v445 : BitVec 32 := Scalar.addi v444 c40_i32
  let v446 : BitVec 32 := v445
  let c24_i32_363 : BitVec 32 := 24#32
  let v456 : BitVec 32 := Scalar.addi v446 c24_i32_363
  v456
def k0_mult346 (k0_t13 : Fin k0_t13_loop.trips) : BitVec 32 :=
  let c0_i32_249 : BitVec 32 := 0#32
  let c1_i32_251 : BitVec 32 := 1#32
  let arg16 : BitVec 32 := Scf.iv c0_i32_249 c1_i32_251 k0_t13
  let c64_i32_366 : BitVec 32 := 64#32
  let v463 : BitVec 32 := Scalar.muli arg16 c64_i32_366
  let c48_i32 : BitVec 32 := 48#32
  let v464 : BitVec 32 := Scalar.addi v463 c48_i32
  v464
def k0_mult347 (k0_t13 : Fin k0_t13_loop.trips) : BitVec 32 :=
  let c0_i32_249 : BitVec 32 := 0#32
  let c1_i32_251 : BitVec 32 := 1#32
  let arg16 : BitVec 32 := Scf.iv c0_i32_249 c1_i32_251 k0_t13
  let c64_i32_366 : BitVec 32 := 64#32
  let v463 : BitVec 32 := Scalar.muli arg16 c64_i32_366
  let c48_i32 : BitVec 32 := 48#32
  let v464 : BitVec 32 := Scalar.addi v463 c48_i32
  let v465 : BitVec 32 := v464
  let c24_i32_368 : BitVec 32 := 24#32
  let v468 : BitVec 32 := Scalar.addi v465 c24_i32_368
  v468
def k0_mult348 (k0_t13 : Fin k0_t13_loop.trips) : BitVec 32 :=
  let c0_i32_249 : BitVec 32 := 0#32
  let c1_i32_251 : BitVec 32 := 1#32
  let arg16 : BitVec 32 := Scf.iv c0_i32_249 c1_i32_251 k0_t13
  let c64_i32_366 : BitVec 32 := 64#32
  let v463 : BitVec 32 := Scalar.muli arg16 c64_i32_366
  let c48_i32 : BitVec 32 := 48#32
  let v464 : BitVec 32 := Scalar.addi v463 c48_i32
  let v465 : BitVec 32 := v464
  let c24_i32_371 : BitVec 32 := 24#32
  let v475 : BitVec 32 := Scalar.addi v465 c24_i32_371
  v475
def k0_mult349 (k0_t13 : Fin k0_t13_loop.trips) : BitVec 32 :=
  let c0_i32_249 : BitVec 32 := 0#32
  let c1_i32_251 : BitVec 32 := 1#32
  let arg16 : BitVec 32 := Scf.iv c0_i32_249 c1_i32_251 k0_t13
  let c64_i32_374 : BitVec 32 := 64#32
  let v482 : BitVec 32 := Scalar.muli arg16 c64_i32_374
  let c56_i32 : BitVec 32 := 56#32
  let v483 : BitVec 32 := Scalar.addi v482 c56_i32
  v483
def k0_mult350 (k0_t13 : Fin k0_t13_loop.trips) : BitVec 32 :=
  let c0_i32_249 : BitVec 32 := 0#32
  let c1_i32_251 : BitVec 32 := 1#32
  let arg16 : BitVec 32 := Scf.iv c0_i32_249 c1_i32_251 k0_t13
  let c64_i32_374 : BitVec 32 := 64#32
  let v482 : BitVec 32 := Scalar.muli arg16 c64_i32_374
  let c56_i32 : BitVec 32 := 56#32
  let v483 : BitVec 32 := Scalar.addi v482 c56_i32
  let v484 : BitVec 32 := v483
  let c24_i32_376 : BitVec 32 := 24#32
  let v487 : BitVec 32 := Scalar.addi v484 c24_i32_376
  v487
def k0_mult351 (k0_t13 : Fin k0_t13_loop.trips) : BitVec 32 :=
  let c0_i32_249 : BitVec 32 := 0#32
  let c1_i32_251 : BitVec 32 := 1#32
  let arg16 : BitVec 32 := Scf.iv c0_i32_249 c1_i32_251 k0_t13
  let c64_i32_374 : BitVec 32 := 64#32
  let v482 : BitVec 32 := Scalar.muli arg16 c64_i32_374
  let c56_i32 : BitVec 32 := 56#32
  let v483 : BitVec 32 := Scalar.addi v482 c56_i32
  let v484 : BitVec 32 := v483
  let c24_i32_379 : BitVec 32 := 24#32
  let v494 : BitVec 32 := Scalar.addi v484 c24_i32_379
  v494
@[reducible] def k0_t14_loop : Scf.Loop 32 :=
  let c0_i32_262 : BitVec 32 := 0#32
  let c8_i32_263 : BitVec 32 := 8#32
  let v289 : BitVec 32 := Scalar.addi c0_i32_262 c8_i32_263
  let c1_i32_264 : BitVec 32 := 1#32
  ⟨c0_i32_262, v289, c1_i32_264⟩
def k0_mult352 (k0_t14 : Fin k0_t14_loop.trips) : BitVec 32 :=
  let c0_i32_262 : BitVec 32 := 0#32
  let c1_i32_264 : BitVec 32 := 1#32
  let arg16 : BitVec 32 := Scf.iv c0_i32_262 c1_i32_264 k0_t14
  let c64_i32 : BitVec 32 := 64#32
  let v349 : BitVec 32 := Scalar.muli arg16 c64_i32
  let c0_i32_316 : BitVec 32 := 0#32
  let v350 : BitVec 32 := Scalar.addi v349 c0_i32_316
  v350
def k0_off46 (k0_t14 : Fin k0_t14_loop.trips) (c0_i32_316 : BitVec 32) : Fin 2 → Nat :=
  let c0_i32_262 : BitVec 32 := 0#32
  let c1_i32_264 : BitVec 32 := 1#32
  let arg16 : BitVec 32 := Scf.iv c0_i32_262 c1_i32_264 k0_t14
  let c64_i32 : BitVec 32 := 64#32
  let v349 : BitVec 32 := Scalar.muli arg16 c64_i32
  let v350 : BitVec 32 := Scalar.addi v349 c0_i32_316
  let v351 : BitVec 32 := v350
  let v352 : Index := Scalar.indexCast v351
  let c0_317 : Index := 0#32
  ![v352.toNat, 0]
def k0_mult353 (k0_t14 : Fin k0_t14_loop.trips) : BitVec 32 :=
  let c0_i32_262 : BitVec 32 := 0#32
  let c1_i32_264 : BitVec 32 := 1#32
  let arg16 : BitVec 32 := Scf.iv c0_i32_262 c1_i32_264 k0_t14
  let c64_i32 : BitVec 32 := 64#32
  let v349 : BitVec 32 := Scalar.muli arg16 c64_i32
  let c0_i32_316 : BitVec 32 := 0#32
  let v350 : BitVec 32 := Scalar.addi v349 c0_i32_316
  let v351 : BitVec 32 := v350
  let c24_i32 : BitVec 32 := 24#32
  let v354 : BitVec 32 := Scalar.addi v351 c24_i32
  v354
def k0_off47 (k0_t14 : Fin k0_t14_loop.trips) (c0_i32_316 : BitVec 32) : Fin 3 → Nat :=
  let c2_318 : Index := 2#32
  let c0_i32_262 : BitVec 32 := 0#32
  let c1_i32_264 : BitVec 32 := 1#32
  let arg16 : BitVec 32 := Scf.iv c0_i32_262 c1_i32_264 k0_t14
  let c64_i32 : BitVec 32 := 64#32
  let v349 : BitVec 32 := Scalar.muli arg16 c64_i32
  let v350 : BitVec 32 := Scalar.addi v349 c0_i32_316
  let v351 : BitVec 32 := v350
  let c24_i32 : BitVec 32 := 24#32
  let v354 : BitVec 32 := Scalar.addi v351 c24_i32
  let v355 : BitVec 32 := v354
  let v356 : Index := Scalar.indexCast v355
  let c0_319 : Index := 0#32
  ![2, v356.toNat, 0]
def k0_mult354 (k0_t14 : Fin k0_t14_loop.trips) : BitVec 32 :=
  let c0_i32_262 : BitVec 32 := 0#32
  let c1_i32_264 : BitVec 32 := 1#32
  let arg16 : BitVec 32 := Scf.iv c0_i32_262 c1_i32_264 k0_t14
  let c64_i32 : BitVec 32 := 64#32
  let v349 : BitVec 32 := Scalar.muli arg16 c64_i32
  let c0_i32_316 : BitVec 32 := 0#32
  let v350 : BitVec 32 := Scalar.addi v349 c0_i32_316
  let v351 : BitVec 32 := v350
  let c24_i32_320 : BitVec 32 := 24#32
  let v361 : BitVec 32 := Scalar.addi v351 c24_i32_320
  v361
def k0_off48 (k0_t14 : Fin k0_t14_loop.trips) (c0_i32_316 : BitVec 32) : Fin 3 → Nat :=
  let c3_321 : Index := 3#32
  let c0_i32_262 : BitVec 32 := 0#32
  let c1_i32_264 : BitVec 32 := 1#32
  let arg16 : BitVec 32 := Scf.iv c0_i32_262 c1_i32_264 k0_t14
  let c64_i32 : BitVec 32 := 64#32
  let v349 : BitVec 32 := Scalar.muli arg16 c64_i32
  let v350 : BitVec 32 := Scalar.addi v349 c0_i32_316
  let v351 : BitVec 32 := v350
  let c24_i32_320 : BitVec 32 := 24#32
  let v361 : BitVec 32 := Scalar.addi v351 c24_i32_320
  let v362 : BitVec 32 := v361
  let v363 : Index := Scalar.indexCast v362
  let c0_322 : Index := 0#32
  ![3, v363.toNat, 0]
def k0_mult355 (k0_t14 : Fin k0_t14_loop.trips) : BitVec 32 :=
  let c0_i32_262 : BitVec 32 := 0#32
  let c1_i32_264 : BitVec 32 := 1#32
  let arg16 : BitVec 32 := Scf.iv c0_i32_262 c1_i32_264 k0_t14
  let c64_i32_323 : BitVec 32 := 64#32
  let v368 : BitVec 32 := Scalar.muli arg16 c64_i32_323
  let c8_i32_324 : BitVec 32 := 8#32
  let v369 : BitVec 32 := Scalar.addi v368 c8_i32_324
  v369
def k0_mult356 (k0_t14 : Fin k0_t14_loop.trips) : BitVec 32 :=
  let c0_i32_262 : BitVec 32 := 0#32
  let c1_i32_264 : BitVec 32 := 1#32
  let arg16 : BitVec 32 := Scf.iv c0_i32_262 c1_i32_264 k0_t14
  let c64_i32_323 : BitVec 32 := 64#32
  let v368 : BitVec 32 := Scalar.muli arg16 c64_i32_323
  let c8_i32_324 : BitVec 32 := 8#32
  let v369 : BitVec 32 := Scalar.addi v368 c8_i32_324
  let v370 : BitVec 32 := v369
  let c24_i32_326 : BitVec 32 := 24#32
  let v373 : BitVec 32 := Scalar.addi v370 c24_i32_326
  v373
def k0_mult357 (k0_t14 : Fin k0_t14_loop.trips) : BitVec 32 :=
  let c0_i32_262 : BitVec 32 := 0#32
  let c1_i32_264 : BitVec 32 := 1#32
  let arg16 : BitVec 32 := Scf.iv c0_i32_262 c1_i32_264 k0_t14
  let c64_i32_323 : BitVec 32 := 64#32
  let v368 : BitVec 32 := Scalar.muli arg16 c64_i32_323
  let c8_i32_324 : BitVec 32 := 8#32
  let v369 : BitVec 32 := Scalar.addi v368 c8_i32_324
  let v370 : BitVec 32 := v369
  let c24_i32_329 : BitVec 32 := 24#32
  let v380 : BitVec 32 := Scalar.addi v370 c24_i32_329
  v380
def k0_mult358 (k0_t14 : Fin k0_t14_loop.trips) : BitVec 32 :=
  let c0_i32_262 : BitVec 32 := 0#32
  let c1_i32_264 : BitVec 32 := 1#32
  let arg16 : BitVec 32 := Scf.iv c0_i32_262 c1_i32_264 k0_t14
  let c64_i32_332 : BitVec 32 := 64#32
  let v387 : BitVec 32 := Scalar.muli arg16 c64_i32_332
  let c16_i32 : BitVec 32 := 16#32
  let v388 : BitVec 32 := Scalar.addi v387 c16_i32
  v388
def k0_mult359 (k0_t14 : Fin k0_t14_loop.trips) : BitVec 32 :=
  let c0_i32_262 : BitVec 32 := 0#32
  let c1_i32_264 : BitVec 32 := 1#32
  let arg16 : BitVec 32 := Scf.iv c0_i32_262 c1_i32_264 k0_t14
  let c64_i32_332 : BitVec 32 := 64#32
  let v387 : BitVec 32 := Scalar.muli arg16 c64_i32_332
  let c16_i32 : BitVec 32 := 16#32
  let v388 : BitVec 32 := Scalar.addi v387 c16_i32
  let v389 : BitVec 32 := v388
  let c24_i32_334 : BitVec 32 := 24#32
  let v392 : BitVec 32 := Scalar.addi v389 c24_i32_334
  v392
def k0_mult360 (k0_t14 : Fin k0_t14_loop.trips) : BitVec 32 :=
  let c0_i32_262 : BitVec 32 := 0#32
  let c1_i32_264 : BitVec 32 := 1#32
  let arg16 : BitVec 32 := Scf.iv c0_i32_262 c1_i32_264 k0_t14
  let c64_i32_332 : BitVec 32 := 64#32
  let v387 : BitVec 32 := Scalar.muli arg16 c64_i32_332
  let c16_i32 : BitVec 32 := 16#32
  let v388 : BitVec 32 := Scalar.addi v387 c16_i32
  let v389 : BitVec 32 := v388
  let c24_i32_337 : BitVec 32 := 24#32
  let v399 : BitVec 32 := Scalar.addi v389 c24_i32_337
  v399
def k0_mult361 (k0_t14 : Fin k0_t14_loop.trips) : BitVec 32 :=
  let c0_i32_262 : BitVec 32 := 0#32
  let c1_i32_264 : BitVec 32 := 1#32
  let arg16 : BitVec 32 := Scf.iv c0_i32_262 c1_i32_264 k0_t14
  let c64_i32_340 : BitVec 32 := 64#32
  let v406 : BitVec 32 := Scalar.muli arg16 c64_i32_340
  let c24_i32_341 : BitVec 32 := 24#32
  let v407 : BitVec 32 := Scalar.addi v406 c24_i32_341
  v407
def k0_mult362 (k0_t14 : Fin k0_t14_loop.trips) : BitVec 32 :=
  let c0_i32_262 : BitVec 32 := 0#32
  let c1_i32_264 : BitVec 32 := 1#32
  let arg16 : BitVec 32 := Scf.iv c0_i32_262 c1_i32_264 k0_t14
  let c64_i32_340 : BitVec 32 := 64#32
  let v406 : BitVec 32 := Scalar.muli arg16 c64_i32_340
  let c24_i32_341 : BitVec 32 := 24#32
  let v407 : BitVec 32 := Scalar.addi v406 c24_i32_341
  let v408 : BitVec 32 := v407
  let c24_i32_343 : BitVec 32 := 24#32
  let v411 : BitVec 32 := Scalar.addi v408 c24_i32_343
  v411
def k0_mult363 (k0_t14 : Fin k0_t14_loop.trips) : BitVec 32 :=
  let c0_i32_262 : BitVec 32 := 0#32
  let c1_i32_264 : BitVec 32 := 1#32
  let arg16 : BitVec 32 := Scf.iv c0_i32_262 c1_i32_264 k0_t14
  let c64_i32_340 : BitVec 32 := 64#32
  let v406 : BitVec 32 := Scalar.muli arg16 c64_i32_340
  let c24_i32_341 : BitVec 32 := 24#32
  let v407 : BitVec 32 := Scalar.addi v406 c24_i32_341
  let v408 : BitVec 32 := v407
  let c24_i32_346 : BitVec 32 := 24#32
  let v418 : BitVec 32 := Scalar.addi v408 c24_i32_346
  v418
def k0_mult364 (k0_t14 : Fin k0_t14_loop.trips) : BitVec 32 :=
  let c0_i32_262 : BitVec 32 := 0#32
  let c1_i32_264 : BitVec 32 := 1#32
  let arg16 : BitVec 32 := Scf.iv c0_i32_262 c1_i32_264 k0_t14
  let c64_i32_349 : BitVec 32 := 64#32
  let v425 : BitVec 32 := Scalar.muli arg16 c64_i32_349
  let c32_i32_350 : BitVec 32 := 32#32
  let v426 : BitVec 32 := Scalar.addi v425 c32_i32_350
  v426
def k0_mult365 (k0_t14 : Fin k0_t14_loop.trips) : BitVec 32 :=
  let c0_i32_262 : BitVec 32 := 0#32
  let c1_i32_264 : BitVec 32 := 1#32
  let arg16 : BitVec 32 := Scf.iv c0_i32_262 c1_i32_264 k0_t14
  let c64_i32_349 : BitVec 32 := 64#32
  let v425 : BitVec 32 := Scalar.muli arg16 c64_i32_349
  let c32_i32_350 : BitVec 32 := 32#32
  let v426 : BitVec 32 := Scalar.addi v425 c32_i32_350
  let v427 : BitVec 32 := v426
  let c24_i32_352 : BitVec 32 := 24#32
  let v430 : BitVec 32 := Scalar.addi v427 c24_i32_352
  v430
def k0_mult366 (k0_t14 : Fin k0_t14_loop.trips) : BitVec 32 :=
  let c0_i32_262 : BitVec 32 := 0#32
  let c1_i32_264 : BitVec 32 := 1#32
  let arg16 : BitVec 32 := Scf.iv c0_i32_262 c1_i32_264 k0_t14
  let c64_i32_349 : BitVec 32 := 64#32
  let v425 : BitVec 32 := Scalar.muli arg16 c64_i32_349
  let c32_i32_350 : BitVec 32 := 32#32
  let v426 : BitVec 32 := Scalar.addi v425 c32_i32_350
  let v427 : BitVec 32 := v426
  let c24_i32_355 : BitVec 32 := 24#32
  let v437 : BitVec 32 := Scalar.addi v427 c24_i32_355
  v437
def k0_mult367 (k0_t14 : Fin k0_t14_loop.trips) : BitVec 32 :=
  let c0_i32_262 : BitVec 32 := 0#32
  let c1_i32_264 : BitVec 32 := 1#32
  let arg16 : BitVec 32 := Scf.iv c0_i32_262 c1_i32_264 k0_t14
  let c64_i32_358 : BitVec 32 := 64#32
  let v444 : BitVec 32 := Scalar.muli arg16 c64_i32_358
  let c40_i32 : BitVec 32 := 40#32
  let v445 : BitVec 32 := Scalar.addi v444 c40_i32
  v445
def k0_mult368 (k0_t14 : Fin k0_t14_loop.trips) : BitVec 32 :=
  let c0_i32_262 : BitVec 32 := 0#32
  let c1_i32_264 : BitVec 32 := 1#32
  let arg16 : BitVec 32 := Scf.iv c0_i32_262 c1_i32_264 k0_t14
  let c64_i32_358 : BitVec 32 := 64#32
  let v444 : BitVec 32 := Scalar.muli arg16 c64_i32_358
  let c40_i32 : BitVec 32 := 40#32
  let v445 : BitVec 32 := Scalar.addi v444 c40_i32
  let v446 : BitVec 32 := v445
  let c24_i32_360 : BitVec 32 := 24#32
  let v449 : BitVec 32 := Scalar.addi v446 c24_i32_360
  v449
def k0_mult369 (k0_t14 : Fin k0_t14_loop.trips) : BitVec 32 :=
  let c0_i32_262 : BitVec 32 := 0#32
  let c1_i32_264 : BitVec 32 := 1#32
  let arg16 : BitVec 32 := Scf.iv c0_i32_262 c1_i32_264 k0_t14
  let c64_i32_358 : BitVec 32 := 64#32
  let v444 : BitVec 32 := Scalar.muli arg16 c64_i32_358
  let c40_i32 : BitVec 32 := 40#32
  let v445 : BitVec 32 := Scalar.addi v444 c40_i32
  let v446 : BitVec 32 := v445
  let c24_i32_363 : BitVec 32 := 24#32
  let v456 : BitVec 32 := Scalar.addi v446 c24_i32_363
  v456
def k0_mult370 (k0_t14 : Fin k0_t14_loop.trips) : BitVec 32 :=
  let c0_i32_262 : BitVec 32 := 0#32
  let c1_i32_264 : BitVec 32 := 1#32
  let arg16 : BitVec 32 := Scf.iv c0_i32_262 c1_i32_264 k0_t14
  let c64_i32_366 : BitVec 32 := 64#32
  let v463 : BitVec 32 := Scalar.muli arg16 c64_i32_366
  let c48_i32 : BitVec 32 := 48#32
  let v464 : BitVec 32 := Scalar.addi v463 c48_i32
  v464
def k0_mult371 (k0_t14 : Fin k0_t14_loop.trips) : BitVec 32 :=
  let c0_i32_262 : BitVec 32 := 0#32
  let c1_i32_264 : BitVec 32 := 1#32
  let arg16 : BitVec 32 := Scf.iv c0_i32_262 c1_i32_264 k0_t14
  let c64_i32_366 : BitVec 32 := 64#32
  let v463 : BitVec 32 := Scalar.muli arg16 c64_i32_366
  let c48_i32 : BitVec 32 := 48#32
  let v464 : BitVec 32 := Scalar.addi v463 c48_i32
  let v465 : BitVec 32 := v464
  let c24_i32_368 : BitVec 32 := 24#32
  let v468 : BitVec 32 := Scalar.addi v465 c24_i32_368
  v468
def k0_mult372 (k0_t14 : Fin k0_t14_loop.trips) : BitVec 32 :=
  let c0_i32_262 : BitVec 32 := 0#32
  let c1_i32_264 : BitVec 32 := 1#32
  let arg16 : BitVec 32 := Scf.iv c0_i32_262 c1_i32_264 k0_t14
  let c64_i32_366 : BitVec 32 := 64#32
  let v463 : BitVec 32 := Scalar.muli arg16 c64_i32_366
  let c48_i32 : BitVec 32 := 48#32
  let v464 : BitVec 32 := Scalar.addi v463 c48_i32
  let v465 : BitVec 32 := v464
  let c24_i32_371 : BitVec 32 := 24#32
  let v475 : BitVec 32 := Scalar.addi v465 c24_i32_371
  v475
def k0_mult373 (k0_t14 : Fin k0_t14_loop.trips) : BitVec 32 :=
  let c0_i32_262 : BitVec 32 := 0#32
  let c1_i32_264 : BitVec 32 := 1#32
  let arg16 : BitVec 32 := Scf.iv c0_i32_262 c1_i32_264 k0_t14
  let c64_i32_374 : BitVec 32 := 64#32
  let v482 : BitVec 32 := Scalar.muli arg16 c64_i32_374
  let c56_i32 : BitVec 32 := 56#32
  let v483 : BitVec 32 := Scalar.addi v482 c56_i32
  v483
def k0_mult374 (k0_t14 : Fin k0_t14_loop.trips) : BitVec 32 :=
  let c0_i32_262 : BitVec 32 := 0#32
  let c1_i32_264 : BitVec 32 := 1#32
  let arg16 : BitVec 32 := Scf.iv c0_i32_262 c1_i32_264 k0_t14
  let c64_i32_374 : BitVec 32 := 64#32
  let v482 : BitVec 32 := Scalar.muli arg16 c64_i32_374
  let c56_i32 : BitVec 32 := 56#32
  let v483 : BitVec 32 := Scalar.addi v482 c56_i32
  let v484 : BitVec 32 := v483
  let c24_i32_376 : BitVec 32 := 24#32
  let v487 : BitVec 32 := Scalar.addi v484 c24_i32_376
  v487
def k0_mult375 (k0_t14 : Fin k0_t14_loop.trips) : BitVec 32 :=
  let c0_i32_262 : BitVec 32 := 0#32
  let c1_i32_264 : BitVec 32 := 1#32
  let arg16 : BitVec 32 := Scf.iv c0_i32_262 c1_i32_264 k0_t14
  let c64_i32_374 : BitVec 32 := 64#32
  let v482 : BitVec 32 := Scalar.muli arg16 c64_i32_374
  let c56_i32 : BitVec 32 := 56#32
  let v483 : BitVec 32 := Scalar.addi v482 c56_i32
  let v484 : BitVec 32 := v483
  let c24_i32_379 : BitVec 32 := 24#32
  let v494 : BitVec 32 := Scalar.addi v484 c24_i32_379
  v494
@[reducible] def k0_t15_loop : Scf.Loop 32 :=
  let c0_i32_275 : BitVec 32 := 0#32
  let c8_i32_276 : BitVec 32 := 8#32
  let v304 : BitVec 32 := Scalar.addi c0_i32_275 c8_i32_276
  let c1_i32_277 : BitVec 32 := 1#32
  ⟨c0_i32_275, v304, c1_i32_277⟩
def k0_mult376 (k0_t15 : Fin k0_t15_loop.trips) : BitVec 32 :=
  let c0_i32_275 : BitVec 32 := 0#32
  let c1_i32_277 : BitVec 32 := 1#32
  let arg16 : BitVec 32 := Scf.iv c0_i32_275 c1_i32_277 k0_t15
  let c64_i32 : BitVec 32 := 64#32
  let v349 : BitVec 32 := Scalar.muli arg16 c64_i32
  let c0_i32_316 : BitVec 32 := 0#32
  let v350 : BitVec 32 := Scalar.addi v349 c0_i32_316
  v350
def k0_off49 (k0_t15 : Fin k0_t15_loop.trips) (c0_i32_316 : BitVec 32) : Fin 2 → Nat :=
  let c0_i32_275 : BitVec 32 := 0#32
  let c1_i32_277 : BitVec 32 := 1#32
  let arg16 : BitVec 32 := Scf.iv c0_i32_275 c1_i32_277 k0_t15
  let c64_i32 : BitVec 32 := 64#32
  let v349 : BitVec 32 := Scalar.muli arg16 c64_i32
  let v350 : BitVec 32 := Scalar.addi v349 c0_i32_316
  let v351 : BitVec 32 := v350
  let v352 : Index := Scalar.indexCast v351
  let c0_317 : Index := 0#32
  ![v352.toNat, 0]
def k0_mult377 (k0_t15 : Fin k0_t15_loop.trips) : BitVec 32 :=
  let c0_i32_275 : BitVec 32 := 0#32
  let c1_i32_277 : BitVec 32 := 1#32
  let arg16 : BitVec 32 := Scf.iv c0_i32_275 c1_i32_277 k0_t15
  let c64_i32 : BitVec 32 := 64#32
  let v349 : BitVec 32 := Scalar.muli arg16 c64_i32
  let c0_i32_316 : BitVec 32 := 0#32
  let v350 : BitVec 32 := Scalar.addi v349 c0_i32_316
  let v351 : BitVec 32 := v350
  let c24_i32 : BitVec 32 := 24#32
  let v354 : BitVec 32 := Scalar.addi v351 c24_i32
  v354
def k0_off50 (k0_t15 : Fin k0_t15_loop.trips) (c0_i32_316 : BitVec 32) : Fin 3 → Nat :=
  let c4_318 : Index := 4#32
  let c0_i32_275 : BitVec 32 := 0#32
  let c1_i32_277 : BitVec 32 := 1#32
  let arg16 : BitVec 32 := Scf.iv c0_i32_275 c1_i32_277 k0_t15
  let c64_i32 : BitVec 32 := 64#32
  let v349 : BitVec 32 := Scalar.muli arg16 c64_i32
  let v350 : BitVec 32 := Scalar.addi v349 c0_i32_316
  let v351 : BitVec 32 := v350
  let c24_i32 : BitVec 32 := 24#32
  let v354 : BitVec 32 := Scalar.addi v351 c24_i32
  let v355 : BitVec 32 := v354
  let v356 : Index := Scalar.indexCast v355
  let c0_319 : Index := 0#32
  ![4, v356.toNat, 0]
def k0_mult378 (k0_t15 : Fin k0_t15_loop.trips) : BitVec 32 :=
  let c0_i32_275 : BitVec 32 := 0#32
  let c1_i32_277 : BitVec 32 := 1#32
  let arg16 : BitVec 32 := Scf.iv c0_i32_275 c1_i32_277 k0_t15
  let c64_i32 : BitVec 32 := 64#32
  let v349 : BitVec 32 := Scalar.muli arg16 c64_i32
  let c0_i32_316 : BitVec 32 := 0#32
  let v350 : BitVec 32 := Scalar.addi v349 c0_i32_316
  let v351 : BitVec 32 := v350
  let c24_i32_320 : BitVec 32 := 24#32
  let v361 : BitVec 32 := Scalar.addi v351 c24_i32_320
  v361
def k0_off51 (k0_t15 : Fin k0_t15_loop.trips) (c0_i32_316 : BitVec 32) : Fin 3 → Nat :=
  let c5_321 : Index := 5#32
  let c0_i32_275 : BitVec 32 := 0#32
  let c1_i32_277 : BitVec 32 := 1#32
  let arg16 : BitVec 32 := Scf.iv c0_i32_275 c1_i32_277 k0_t15
  let c64_i32 : BitVec 32 := 64#32
  let v349 : BitVec 32 := Scalar.muli arg16 c64_i32
  let v350 : BitVec 32 := Scalar.addi v349 c0_i32_316
  let v351 : BitVec 32 := v350
  let c24_i32_320 : BitVec 32 := 24#32
  let v361 : BitVec 32 := Scalar.addi v351 c24_i32_320
  let v362 : BitVec 32 := v361
  let v363 : Index := Scalar.indexCast v362
  let c0_322 : Index := 0#32
  ![5, v363.toNat, 0]
def k0_mult379 (k0_t15 : Fin k0_t15_loop.trips) : BitVec 32 :=
  let c0_i32_275 : BitVec 32 := 0#32
  let c1_i32_277 : BitVec 32 := 1#32
  let arg16 : BitVec 32 := Scf.iv c0_i32_275 c1_i32_277 k0_t15
  let c64_i32_323 : BitVec 32 := 64#32
  let v368 : BitVec 32 := Scalar.muli arg16 c64_i32_323
  let c8_i32_324 : BitVec 32 := 8#32
  let v369 : BitVec 32 := Scalar.addi v368 c8_i32_324
  v369
def k0_mult380 (k0_t15 : Fin k0_t15_loop.trips) : BitVec 32 :=
  let c0_i32_275 : BitVec 32 := 0#32
  let c1_i32_277 : BitVec 32 := 1#32
  let arg16 : BitVec 32 := Scf.iv c0_i32_275 c1_i32_277 k0_t15
  let c64_i32_323 : BitVec 32 := 64#32
  let v368 : BitVec 32 := Scalar.muli arg16 c64_i32_323
  let c8_i32_324 : BitVec 32 := 8#32
  let v369 : BitVec 32 := Scalar.addi v368 c8_i32_324
  let v370 : BitVec 32 := v369
  let c24_i32_326 : BitVec 32 := 24#32
  let v373 : BitVec 32 := Scalar.addi v370 c24_i32_326
  v373
def k0_mult381 (k0_t15 : Fin k0_t15_loop.trips) : BitVec 32 :=
  let c0_i32_275 : BitVec 32 := 0#32
  let c1_i32_277 : BitVec 32 := 1#32
  let arg16 : BitVec 32 := Scf.iv c0_i32_275 c1_i32_277 k0_t15
  let c64_i32_323 : BitVec 32 := 64#32
  let v368 : BitVec 32 := Scalar.muli arg16 c64_i32_323
  let c8_i32_324 : BitVec 32 := 8#32
  let v369 : BitVec 32 := Scalar.addi v368 c8_i32_324
  let v370 : BitVec 32 := v369
  let c24_i32_329 : BitVec 32 := 24#32
  let v380 : BitVec 32 := Scalar.addi v370 c24_i32_329
  v380
def k0_mult382 (k0_t15 : Fin k0_t15_loop.trips) : BitVec 32 :=
  let c0_i32_275 : BitVec 32 := 0#32
  let c1_i32_277 : BitVec 32 := 1#32
  let arg16 : BitVec 32 := Scf.iv c0_i32_275 c1_i32_277 k0_t15
  let c64_i32_332 : BitVec 32 := 64#32
  let v387 : BitVec 32 := Scalar.muli arg16 c64_i32_332
  let c16_i32 : BitVec 32 := 16#32
  let v388 : BitVec 32 := Scalar.addi v387 c16_i32
  v388
def k0_mult383 (k0_t15 : Fin k0_t15_loop.trips) : BitVec 32 :=
  let c0_i32_275 : BitVec 32 := 0#32
  let c1_i32_277 : BitVec 32 := 1#32
  let arg16 : BitVec 32 := Scf.iv c0_i32_275 c1_i32_277 k0_t15
  let c64_i32_332 : BitVec 32 := 64#32
  let v387 : BitVec 32 := Scalar.muli arg16 c64_i32_332
  let c16_i32 : BitVec 32 := 16#32
  let v388 : BitVec 32 := Scalar.addi v387 c16_i32
  let v389 : BitVec 32 := v388
  let c24_i32_334 : BitVec 32 := 24#32
  let v392 : BitVec 32 := Scalar.addi v389 c24_i32_334
  v392
def k0_mult384 (k0_t15 : Fin k0_t15_loop.trips) : BitVec 32 :=
  let c0_i32_275 : BitVec 32 := 0#32
  let c1_i32_277 : BitVec 32 := 1#32
  let arg16 : BitVec 32 := Scf.iv c0_i32_275 c1_i32_277 k0_t15
  let c64_i32_332 : BitVec 32 := 64#32
  let v387 : BitVec 32 := Scalar.muli arg16 c64_i32_332
  let c16_i32 : BitVec 32 := 16#32
  let v388 : BitVec 32 := Scalar.addi v387 c16_i32
  let v389 : BitVec 32 := v388
  let c24_i32_337 : BitVec 32 := 24#32
  let v399 : BitVec 32 := Scalar.addi v389 c24_i32_337
  v399
def k0_mult385 (k0_t15 : Fin k0_t15_loop.trips) : BitVec 32 :=
  let c0_i32_275 : BitVec 32 := 0#32
  let c1_i32_277 : BitVec 32 := 1#32
  let arg16 : BitVec 32 := Scf.iv c0_i32_275 c1_i32_277 k0_t15
  let c64_i32_340 : BitVec 32 := 64#32
  let v406 : BitVec 32 := Scalar.muli arg16 c64_i32_340
  let c24_i32_341 : BitVec 32 := 24#32
  let v407 : BitVec 32 := Scalar.addi v406 c24_i32_341
  v407
def k0_mult386 (k0_t15 : Fin k0_t15_loop.trips) : BitVec 32 :=
  let c0_i32_275 : BitVec 32 := 0#32
  let c1_i32_277 : BitVec 32 := 1#32
  let arg16 : BitVec 32 := Scf.iv c0_i32_275 c1_i32_277 k0_t15
  let c64_i32_340 : BitVec 32 := 64#32
  let v406 : BitVec 32 := Scalar.muli arg16 c64_i32_340
  let c24_i32_341 : BitVec 32 := 24#32
  let v407 : BitVec 32 := Scalar.addi v406 c24_i32_341
  let v408 : BitVec 32 := v407
  let c24_i32_343 : BitVec 32 := 24#32
  let v411 : BitVec 32 := Scalar.addi v408 c24_i32_343
  v411
def k0_mult387 (k0_t15 : Fin k0_t15_loop.trips) : BitVec 32 :=
  let c0_i32_275 : BitVec 32 := 0#32
  let c1_i32_277 : BitVec 32 := 1#32
  let arg16 : BitVec 32 := Scf.iv c0_i32_275 c1_i32_277 k0_t15
  let c64_i32_340 : BitVec 32 := 64#32
  let v406 : BitVec 32 := Scalar.muli arg16 c64_i32_340
  let c24_i32_341 : BitVec 32 := 24#32
  let v407 : BitVec 32 := Scalar.addi v406 c24_i32_341
  let v408 : BitVec 32 := v407
  let c24_i32_346 : BitVec 32 := 24#32
  let v418 : BitVec 32 := Scalar.addi v408 c24_i32_346
  v418
def k0_mult388 (k0_t15 : Fin k0_t15_loop.trips) : BitVec 32 :=
  let c0_i32_275 : BitVec 32 := 0#32
  let c1_i32_277 : BitVec 32 := 1#32
  let arg16 : BitVec 32 := Scf.iv c0_i32_275 c1_i32_277 k0_t15
  let c64_i32_349 : BitVec 32 := 64#32
  let v425 : BitVec 32 := Scalar.muli arg16 c64_i32_349
  let c32_i32_350 : BitVec 32 := 32#32
  let v426 : BitVec 32 := Scalar.addi v425 c32_i32_350
  v426
def k0_mult389 (k0_t15 : Fin k0_t15_loop.trips) : BitVec 32 :=
  let c0_i32_275 : BitVec 32 := 0#32
  let c1_i32_277 : BitVec 32 := 1#32
  let arg16 : BitVec 32 := Scf.iv c0_i32_275 c1_i32_277 k0_t15
  let c64_i32_349 : BitVec 32 := 64#32
  let v425 : BitVec 32 := Scalar.muli arg16 c64_i32_349
  let c32_i32_350 : BitVec 32 := 32#32
  let v426 : BitVec 32 := Scalar.addi v425 c32_i32_350
  let v427 : BitVec 32 := v426
  let c24_i32_352 : BitVec 32 := 24#32
  let v430 : BitVec 32 := Scalar.addi v427 c24_i32_352
  v430
def k0_mult390 (k0_t15 : Fin k0_t15_loop.trips) : BitVec 32 :=
  let c0_i32_275 : BitVec 32 := 0#32
  let c1_i32_277 : BitVec 32 := 1#32
  let arg16 : BitVec 32 := Scf.iv c0_i32_275 c1_i32_277 k0_t15
  let c64_i32_349 : BitVec 32 := 64#32
  let v425 : BitVec 32 := Scalar.muli arg16 c64_i32_349
  let c32_i32_350 : BitVec 32 := 32#32
  let v426 : BitVec 32 := Scalar.addi v425 c32_i32_350
  let v427 : BitVec 32 := v426
  let c24_i32_355 : BitVec 32 := 24#32
  let v437 : BitVec 32 := Scalar.addi v427 c24_i32_355
  v437
def k0_mult391 (k0_t15 : Fin k0_t15_loop.trips) : BitVec 32 :=
  let c0_i32_275 : BitVec 32 := 0#32
  let c1_i32_277 : BitVec 32 := 1#32
  let arg16 : BitVec 32 := Scf.iv c0_i32_275 c1_i32_277 k0_t15
  let c64_i32_358 : BitVec 32 := 64#32
  let v444 : BitVec 32 := Scalar.muli arg16 c64_i32_358
  let c40_i32 : BitVec 32 := 40#32
  let v445 : BitVec 32 := Scalar.addi v444 c40_i32
  v445
def k0_mult392 (k0_t15 : Fin k0_t15_loop.trips) : BitVec 32 :=
  let c0_i32_275 : BitVec 32 := 0#32
  let c1_i32_277 : BitVec 32 := 1#32
  let arg16 : BitVec 32 := Scf.iv c0_i32_275 c1_i32_277 k0_t15
  let c64_i32_358 : BitVec 32 := 64#32
  let v444 : BitVec 32 := Scalar.muli arg16 c64_i32_358
  let c40_i32 : BitVec 32 := 40#32
  let v445 : BitVec 32 := Scalar.addi v444 c40_i32
  let v446 : BitVec 32 := v445
  let c24_i32_360 : BitVec 32 := 24#32
  let v449 : BitVec 32 := Scalar.addi v446 c24_i32_360
  v449
def k0_mult393 (k0_t15 : Fin k0_t15_loop.trips) : BitVec 32 :=
  let c0_i32_275 : BitVec 32 := 0#32
  let c1_i32_277 : BitVec 32 := 1#32
  let arg16 : BitVec 32 := Scf.iv c0_i32_275 c1_i32_277 k0_t15
  let c64_i32_358 : BitVec 32 := 64#32
  let v444 : BitVec 32 := Scalar.muli arg16 c64_i32_358
  let c40_i32 : BitVec 32 := 40#32
  let v445 : BitVec 32 := Scalar.addi v444 c40_i32
  let v446 : BitVec 32 := v445
  let c24_i32_363 : BitVec 32 := 24#32
  let v456 : BitVec 32 := Scalar.addi v446 c24_i32_363
  v456
def k0_mult394 (k0_t15 : Fin k0_t15_loop.trips) : BitVec 32 :=
  let c0_i32_275 : BitVec 32 := 0#32
  let c1_i32_277 : BitVec 32 := 1#32
  let arg16 : BitVec 32 := Scf.iv c0_i32_275 c1_i32_277 k0_t15
  let c64_i32_366 : BitVec 32 := 64#32
  let v463 : BitVec 32 := Scalar.muli arg16 c64_i32_366
  let c48_i32 : BitVec 32 := 48#32
  let v464 : BitVec 32 := Scalar.addi v463 c48_i32
  v464
def k0_mult395 (k0_t15 : Fin k0_t15_loop.trips) : BitVec 32 :=
  let c0_i32_275 : BitVec 32 := 0#32
  let c1_i32_277 : BitVec 32 := 1#32
  let arg16 : BitVec 32 := Scf.iv c0_i32_275 c1_i32_277 k0_t15
  let c64_i32_366 : BitVec 32 := 64#32
  let v463 : BitVec 32 := Scalar.muli arg16 c64_i32_366
  let c48_i32 : BitVec 32 := 48#32
  let v464 : BitVec 32 := Scalar.addi v463 c48_i32
  let v465 : BitVec 32 := v464
  let c24_i32_368 : BitVec 32 := 24#32
  let v468 : BitVec 32 := Scalar.addi v465 c24_i32_368
  v468
def k0_mult396 (k0_t15 : Fin k0_t15_loop.trips) : BitVec 32 :=
  let c0_i32_275 : BitVec 32 := 0#32
  let c1_i32_277 : BitVec 32 := 1#32
  let arg16 : BitVec 32 := Scf.iv c0_i32_275 c1_i32_277 k0_t15
  let c64_i32_366 : BitVec 32 := 64#32
  let v463 : BitVec 32 := Scalar.muli arg16 c64_i32_366
  let c48_i32 : BitVec 32 := 48#32
  let v464 : BitVec 32 := Scalar.addi v463 c48_i32
  let v465 : BitVec 32 := v464
  let c24_i32_371 : BitVec 32 := 24#32
  let v475 : BitVec 32 := Scalar.addi v465 c24_i32_371
  v475
def k0_mult397 (k0_t15 : Fin k0_t15_loop.trips) : BitVec 32 :=
  let c0_i32_275 : BitVec 32 := 0#32
  let c1_i32_277 : BitVec 32 := 1#32
  let arg16 : BitVec 32 := Scf.iv c0_i32_275 c1_i32_277 k0_t15
  let c64_i32_374 : BitVec 32 := 64#32
  let v482 : BitVec 32 := Scalar.muli arg16 c64_i32_374
  let c56_i32 : BitVec 32 := 56#32
  let v483 : BitVec 32 := Scalar.addi v482 c56_i32
  v483
def k0_mult398 (k0_t15 : Fin k0_t15_loop.trips) : BitVec 32 :=
  let c0_i32_275 : BitVec 32 := 0#32
  let c1_i32_277 : BitVec 32 := 1#32
  let arg16 : BitVec 32 := Scf.iv c0_i32_275 c1_i32_277 k0_t15
  let c64_i32_374 : BitVec 32 := 64#32
  let v482 : BitVec 32 := Scalar.muli arg16 c64_i32_374
  let c56_i32 : BitVec 32 := 56#32
  let v483 : BitVec 32 := Scalar.addi v482 c56_i32
  let v484 : BitVec 32 := v483
  let c24_i32_376 : BitVec 32 := 24#32
  let v487 : BitVec 32 := Scalar.addi v484 c24_i32_376
  v487
def k0_mult399 (k0_t15 : Fin k0_t15_loop.trips) : BitVec 32 :=
  let c0_i32_275 : BitVec 32 := 0#32
  let c1_i32_277 : BitVec 32 := 1#32
  let arg16 : BitVec 32 := Scf.iv c0_i32_275 c1_i32_277 k0_t15
  let c64_i32_374 : BitVec 32 := 64#32
  let v482 : BitVec 32 := Scalar.muli arg16 c64_i32_374
  let c56_i32 : BitVec 32 := 56#32
  let v483 : BitVec 32 := Scalar.addi v482 c56_i32
  let v484 : BitVec 32 := v483
  let c24_i32_379 : BitVec 32 := 24#32
  let v494 : BitVec 32 := Scalar.addi v484 c24_i32_379
  v494
@[reducible] def k0_t16_loop : Scf.Loop 32 :=
  let c0_i32_288 : BitVec 32 := 0#32
  let c8_i32_289 : BitVec 32 := 8#32
  let v319 : BitVec 32 := Scalar.addi c0_i32_288 c8_i32_289
  let c1_i32_290 : BitVec 32 := 1#32
  ⟨c0_i32_288, v319, c1_i32_290⟩
def k0_mult400 (k0_t16 : Fin k0_t16_loop.trips) : BitVec 32 :=
  let c0_i32_288 : BitVec 32 := 0#32
  let c1_i32_290 : BitVec 32 := 1#32
  let arg16 : BitVec 32 := Scf.iv c0_i32_288 c1_i32_290 k0_t16
  let c64_i32 : BitVec 32 := 64#32
  let v349 : BitVec 32 := Scalar.muli arg16 c64_i32
  let c0_i32_316 : BitVec 32 := 0#32
  let v350 : BitVec 32 := Scalar.addi v349 c0_i32_316
  v350
def k0_off52 (k0_t16 : Fin k0_t16_loop.trips) (c0_i32_316 : BitVec 32) : Fin 2 → Nat :=
  let c0_i32_288 : BitVec 32 := 0#32
  let c1_i32_290 : BitVec 32 := 1#32
  let arg16 : BitVec 32 := Scf.iv c0_i32_288 c1_i32_290 k0_t16
  let c64_i32 : BitVec 32 := 64#32
  let v349 : BitVec 32 := Scalar.muli arg16 c64_i32
  let v350 : BitVec 32 := Scalar.addi v349 c0_i32_316
  let v351 : BitVec 32 := v350
  let v352 : Index := Scalar.indexCast v351
  let c0_317 : Index := 0#32
  ![v352.toNat, 0]
def k0_mult401 (k0_t16 : Fin k0_t16_loop.trips) : BitVec 32 :=
  let c0_i32_288 : BitVec 32 := 0#32
  let c1_i32_290 : BitVec 32 := 1#32
  let arg16 : BitVec 32 := Scf.iv c0_i32_288 c1_i32_290 k0_t16
  let c64_i32 : BitVec 32 := 64#32
  let v349 : BitVec 32 := Scalar.muli arg16 c64_i32
  let c0_i32_316 : BitVec 32 := 0#32
  let v350 : BitVec 32 := Scalar.addi v349 c0_i32_316
  let v351 : BitVec 32 := v350
  let c24_i32 : BitVec 32 := 24#32
  let v354 : BitVec 32 := Scalar.addi v351 c24_i32
  v354
def k0_off53 (k0_t16 : Fin k0_t16_loop.trips) (c0_i32_316 : BitVec 32) : Fin 3 → Nat :=
  let c6_318 : Index := 6#32
  let c0_i32_288 : BitVec 32 := 0#32
  let c1_i32_290 : BitVec 32 := 1#32
  let arg16 : BitVec 32 := Scf.iv c0_i32_288 c1_i32_290 k0_t16
  let c64_i32 : BitVec 32 := 64#32
  let v349 : BitVec 32 := Scalar.muli arg16 c64_i32
  let v350 : BitVec 32 := Scalar.addi v349 c0_i32_316
  let v351 : BitVec 32 := v350
  let c24_i32 : BitVec 32 := 24#32
  let v354 : BitVec 32 := Scalar.addi v351 c24_i32
  let v355 : BitVec 32 := v354
  let v356 : Index := Scalar.indexCast v355
  let c0_319 : Index := 0#32
  ![6, v356.toNat, 0]
def k0_mult402 (k0_t16 : Fin k0_t16_loop.trips) : BitVec 32 :=
  let c0_i32_288 : BitVec 32 := 0#32
  let c1_i32_290 : BitVec 32 := 1#32
  let arg16 : BitVec 32 := Scf.iv c0_i32_288 c1_i32_290 k0_t16
  let c64_i32 : BitVec 32 := 64#32
  let v349 : BitVec 32 := Scalar.muli arg16 c64_i32
  let c0_i32_316 : BitVec 32 := 0#32
  let v350 : BitVec 32 := Scalar.addi v349 c0_i32_316
  let v351 : BitVec 32 := v350
  let c24_i32_320 : BitVec 32 := 24#32
  let v361 : BitVec 32 := Scalar.addi v351 c24_i32_320
  v361
def k0_off54 (k0_t16 : Fin k0_t16_loop.trips) (c0_i32_316 : BitVec 32) : Fin 3 → Nat :=
  let c7_321 : Index := 7#32
  let c0_i32_288 : BitVec 32 := 0#32
  let c1_i32_290 : BitVec 32 := 1#32
  let arg16 : BitVec 32 := Scf.iv c0_i32_288 c1_i32_290 k0_t16
  let c64_i32 : BitVec 32 := 64#32
  let v349 : BitVec 32 := Scalar.muli arg16 c64_i32
  let v350 : BitVec 32 := Scalar.addi v349 c0_i32_316
  let v351 : BitVec 32 := v350
  let c24_i32_320 : BitVec 32 := 24#32
  let v361 : BitVec 32 := Scalar.addi v351 c24_i32_320
  let v362 : BitVec 32 := v361
  let v363 : Index := Scalar.indexCast v362
  let c0_322 : Index := 0#32
  ![7, v363.toNat, 0]
def k0_mult403 (k0_t16 : Fin k0_t16_loop.trips) : BitVec 32 :=
  let c0_i32_288 : BitVec 32 := 0#32
  let c1_i32_290 : BitVec 32 := 1#32
  let arg16 : BitVec 32 := Scf.iv c0_i32_288 c1_i32_290 k0_t16
  let c64_i32_323 : BitVec 32 := 64#32
  let v368 : BitVec 32 := Scalar.muli arg16 c64_i32_323
  let c8_i32_324 : BitVec 32 := 8#32
  let v369 : BitVec 32 := Scalar.addi v368 c8_i32_324
  v369
def k0_mult404 (k0_t16 : Fin k0_t16_loop.trips) : BitVec 32 :=
  let c0_i32_288 : BitVec 32 := 0#32
  let c1_i32_290 : BitVec 32 := 1#32
  let arg16 : BitVec 32 := Scf.iv c0_i32_288 c1_i32_290 k0_t16
  let c64_i32_323 : BitVec 32 := 64#32
  let v368 : BitVec 32 := Scalar.muli arg16 c64_i32_323
  let c8_i32_324 : BitVec 32 := 8#32
  let v369 : BitVec 32 := Scalar.addi v368 c8_i32_324
  let v370 : BitVec 32 := v369
  let c24_i32_326 : BitVec 32 := 24#32
  let v373 : BitVec 32 := Scalar.addi v370 c24_i32_326
  v373
def k0_mult405 (k0_t16 : Fin k0_t16_loop.trips) : BitVec 32 :=
  let c0_i32_288 : BitVec 32 := 0#32
  let c1_i32_290 : BitVec 32 := 1#32
  let arg16 : BitVec 32 := Scf.iv c0_i32_288 c1_i32_290 k0_t16
  let c64_i32_323 : BitVec 32 := 64#32
  let v368 : BitVec 32 := Scalar.muli arg16 c64_i32_323
  let c8_i32_324 : BitVec 32 := 8#32
  let v369 : BitVec 32 := Scalar.addi v368 c8_i32_324
  let v370 : BitVec 32 := v369
  let c24_i32_329 : BitVec 32 := 24#32
  let v380 : BitVec 32 := Scalar.addi v370 c24_i32_329
  v380
def k0_mult406 (k0_t16 : Fin k0_t16_loop.trips) : BitVec 32 :=
  let c0_i32_288 : BitVec 32 := 0#32
  let c1_i32_290 : BitVec 32 := 1#32
  let arg16 : BitVec 32 := Scf.iv c0_i32_288 c1_i32_290 k0_t16
  let c64_i32_332 : BitVec 32 := 64#32
  let v387 : BitVec 32 := Scalar.muli arg16 c64_i32_332
  let c16_i32 : BitVec 32 := 16#32
  let v388 : BitVec 32 := Scalar.addi v387 c16_i32
  v388
def k0_mult407 (k0_t16 : Fin k0_t16_loop.trips) : BitVec 32 :=
  let c0_i32_288 : BitVec 32 := 0#32
  let c1_i32_290 : BitVec 32 := 1#32
  let arg16 : BitVec 32 := Scf.iv c0_i32_288 c1_i32_290 k0_t16
  let c64_i32_332 : BitVec 32 := 64#32
  let v387 : BitVec 32 := Scalar.muli arg16 c64_i32_332
  let c16_i32 : BitVec 32 := 16#32
  let v388 : BitVec 32 := Scalar.addi v387 c16_i32
  let v389 : BitVec 32 := v388
  let c24_i32_334 : BitVec 32 := 24#32
  let v392 : BitVec 32 := Scalar.addi v389 c24_i32_334
  v392
def k0_mult408 (k0_t16 : Fin k0_t16_loop.trips) : BitVec 32 :=
  let c0_i32_288 : BitVec 32 := 0#32
  let c1_i32_290 : BitVec 32 := 1#32
  let arg16 : BitVec 32 := Scf.iv c0_i32_288 c1_i32_290 k0_t16
  let c64_i32_332 : BitVec 32 := 64#32
  let v387 : BitVec 32 := Scalar.muli arg16 c64_i32_332
  let c16_i32 : BitVec 32 := 16#32
  let v388 : BitVec 32 := Scalar.addi v387 c16_i32
  let v389 : BitVec 32 := v388
  let c24_i32_337 : BitVec 32 := 24#32
  let v399 : BitVec 32 := Scalar.addi v389 c24_i32_337
  v399
def k0_mult409 (k0_t16 : Fin k0_t16_loop.trips) : BitVec 32 :=
  let c0_i32_288 : BitVec 32 := 0#32
  let c1_i32_290 : BitVec 32 := 1#32
  let arg16 : BitVec 32 := Scf.iv c0_i32_288 c1_i32_290 k0_t16
  let c64_i32_340 : BitVec 32 := 64#32
  let v406 : BitVec 32 := Scalar.muli arg16 c64_i32_340
  let c24_i32_341 : BitVec 32 := 24#32
  let v407 : BitVec 32 := Scalar.addi v406 c24_i32_341
  v407
def k0_mult410 (k0_t16 : Fin k0_t16_loop.trips) : BitVec 32 :=
  let c0_i32_288 : BitVec 32 := 0#32
  let c1_i32_290 : BitVec 32 := 1#32
  let arg16 : BitVec 32 := Scf.iv c0_i32_288 c1_i32_290 k0_t16
  let c64_i32_340 : BitVec 32 := 64#32
  let v406 : BitVec 32 := Scalar.muli arg16 c64_i32_340
  let c24_i32_341 : BitVec 32 := 24#32
  let v407 : BitVec 32 := Scalar.addi v406 c24_i32_341
  let v408 : BitVec 32 := v407
  let c24_i32_343 : BitVec 32 := 24#32
  let v411 : BitVec 32 := Scalar.addi v408 c24_i32_343
  v411
def k0_mult411 (k0_t16 : Fin k0_t16_loop.trips) : BitVec 32 :=
  let c0_i32_288 : BitVec 32 := 0#32
  let c1_i32_290 : BitVec 32 := 1#32
  let arg16 : BitVec 32 := Scf.iv c0_i32_288 c1_i32_290 k0_t16
  let c64_i32_340 : BitVec 32 := 64#32
  let v406 : BitVec 32 := Scalar.muli arg16 c64_i32_340
  let c24_i32_341 : BitVec 32 := 24#32
  let v407 : BitVec 32 := Scalar.addi v406 c24_i32_341
  let v408 : BitVec 32 := v407
  let c24_i32_346 : BitVec 32 := 24#32
  let v418 : BitVec 32 := Scalar.addi v408 c24_i32_346
  v418
def k0_mult412 (k0_t16 : Fin k0_t16_loop.trips) : BitVec 32 :=
  let c0_i32_288 : BitVec 32 := 0#32
  let c1_i32_290 : BitVec 32 := 1#32
  let arg16 : BitVec 32 := Scf.iv c0_i32_288 c1_i32_290 k0_t16
  let c64_i32_349 : BitVec 32 := 64#32
  let v425 : BitVec 32 := Scalar.muli arg16 c64_i32_349
  let c32_i32_350 : BitVec 32 := 32#32
  let v426 : BitVec 32 := Scalar.addi v425 c32_i32_350
  v426
def k0_mult413 (k0_t16 : Fin k0_t16_loop.trips) : BitVec 32 :=
  let c0_i32_288 : BitVec 32 := 0#32
  let c1_i32_290 : BitVec 32 := 1#32
  let arg16 : BitVec 32 := Scf.iv c0_i32_288 c1_i32_290 k0_t16
  let c64_i32_349 : BitVec 32 := 64#32
  let v425 : BitVec 32 := Scalar.muli arg16 c64_i32_349
  let c32_i32_350 : BitVec 32 := 32#32
  let v426 : BitVec 32 := Scalar.addi v425 c32_i32_350
  let v427 : BitVec 32 := v426
  let c24_i32_352 : BitVec 32 := 24#32
  let v430 : BitVec 32 := Scalar.addi v427 c24_i32_352
  v430
def k0_mult414 (k0_t16 : Fin k0_t16_loop.trips) : BitVec 32 :=
  let c0_i32_288 : BitVec 32 := 0#32
  let c1_i32_290 : BitVec 32 := 1#32
  let arg16 : BitVec 32 := Scf.iv c0_i32_288 c1_i32_290 k0_t16
  let c64_i32_349 : BitVec 32 := 64#32
  let v425 : BitVec 32 := Scalar.muli arg16 c64_i32_349
  let c32_i32_350 : BitVec 32 := 32#32
  let v426 : BitVec 32 := Scalar.addi v425 c32_i32_350
  let v427 : BitVec 32 := v426
  let c24_i32_355 : BitVec 32 := 24#32
  let v437 : BitVec 32 := Scalar.addi v427 c24_i32_355
  v437
def k0_mult415 (k0_t16 : Fin k0_t16_loop.trips) : BitVec 32 :=
  let c0_i32_288 : BitVec 32 := 0#32
  let c1_i32_290 : BitVec 32 := 1#32
  let arg16 : BitVec 32 := Scf.iv c0_i32_288 c1_i32_290 k0_t16
  let c64_i32_358 : BitVec 32 := 64#32
  let v444 : BitVec 32 := Scalar.muli arg16 c64_i32_358
  let c40_i32 : BitVec 32 := 40#32
  let v445 : BitVec 32 := Scalar.addi v444 c40_i32
  v445
def k0_mult416 (k0_t16 : Fin k0_t16_loop.trips) : BitVec 32 :=
  let c0_i32_288 : BitVec 32 := 0#32
  let c1_i32_290 : BitVec 32 := 1#32
  let arg16 : BitVec 32 := Scf.iv c0_i32_288 c1_i32_290 k0_t16
  let c64_i32_358 : BitVec 32 := 64#32
  let v444 : BitVec 32 := Scalar.muli arg16 c64_i32_358
  let c40_i32 : BitVec 32 := 40#32
  let v445 : BitVec 32 := Scalar.addi v444 c40_i32
  let v446 : BitVec 32 := v445
  let c24_i32_360 : BitVec 32 := 24#32
  let v449 : BitVec 32 := Scalar.addi v446 c24_i32_360
  v449
def k0_mult417 (k0_t16 : Fin k0_t16_loop.trips) : BitVec 32 :=
  let c0_i32_288 : BitVec 32 := 0#32
  let c1_i32_290 : BitVec 32 := 1#32
  let arg16 : BitVec 32 := Scf.iv c0_i32_288 c1_i32_290 k0_t16
  let c64_i32_358 : BitVec 32 := 64#32
  let v444 : BitVec 32 := Scalar.muli arg16 c64_i32_358
  let c40_i32 : BitVec 32 := 40#32
  let v445 : BitVec 32 := Scalar.addi v444 c40_i32
  let v446 : BitVec 32 := v445
  let c24_i32_363 : BitVec 32 := 24#32
  let v456 : BitVec 32 := Scalar.addi v446 c24_i32_363
  v456
def k0_mult418 (k0_t16 : Fin k0_t16_loop.trips) : BitVec 32 :=
  let c0_i32_288 : BitVec 32 := 0#32
  let c1_i32_290 : BitVec 32 := 1#32
  let arg16 : BitVec 32 := Scf.iv c0_i32_288 c1_i32_290 k0_t16
  let c64_i32_366 : BitVec 32 := 64#32
  let v463 : BitVec 32 := Scalar.muli arg16 c64_i32_366
  let c48_i32 : BitVec 32 := 48#32
  let v464 : BitVec 32 := Scalar.addi v463 c48_i32
  v464
def k0_mult419 (k0_t16 : Fin k0_t16_loop.trips) : BitVec 32 :=
  let c0_i32_288 : BitVec 32 := 0#32
  let c1_i32_290 : BitVec 32 := 1#32
  let arg16 : BitVec 32 := Scf.iv c0_i32_288 c1_i32_290 k0_t16
  let c64_i32_366 : BitVec 32 := 64#32
  let v463 : BitVec 32 := Scalar.muli arg16 c64_i32_366
  let c48_i32 : BitVec 32 := 48#32
  let v464 : BitVec 32 := Scalar.addi v463 c48_i32
  let v465 : BitVec 32 := v464
  let c24_i32_368 : BitVec 32 := 24#32
  let v468 : BitVec 32 := Scalar.addi v465 c24_i32_368
  v468
def k0_mult420 (k0_t16 : Fin k0_t16_loop.trips) : BitVec 32 :=
  let c0_i32_288 : BitVec 32 := 0#32
  let c1_i32_290 : BitVec 32 := 1#32
  let arg16 : BitVec 32 := Scf.iv c0_i32_288 c1_i32_290 k0_t16
  let c64_i32_366 : BitVec 32 := 64#32
  let v463 : BitVec 32 := Scalar.muli arg16 c64_i32_366
  let c48_i32 : BitVec 32 := 48#32
  let v464 : BitVec 32 := Scalar.addi v463 c48_i32
  let v465 : BitVec 32 := v464
  let c24_i32_371 : BitVec 32 := 24#32
  let v475 : BitVec 32 := Scalar.addi v465 c24_i32_371
  v475
def k0_mult421 (k0_t16 : Fin k0_t16_loop.trips) : BitVec 32 :=
  let c0_i32_288 : BitVec 32 := 0#32
  let c1_i32_290 : BitVec 32 := 1#32
  let arg16 : BitVec 32 := Scf.iv c0_i32_288 c1_i32_290 k0_t16
  let c64_i32_374 : BitVec 32 := 64#32
  let v482 : BitVec 32 := Scalar.muli arg16 c64_i32_374
  let c56_i32 : BitVec 32 := 56#32
  let v483 : BitVec 32 := Scalar.addi v482 c56_i32
  v483
def k0_mult422 (k0_t16 : Fin k0_t16_loop.trips) : BitVec 32 :=
  let c0_i32_288 : BitVec 32 := 0#32
  let c1_i32_290 : BitVec 32 := 1#32
  let arg16 : BitVec 32 := Scf.iv c0_i32_288 c1_i32_290 k0_t16
  let c64_i32_374 : BitVec 32 := 64#32
  let v482 : BitVec 32 := Scalar.muli arg16 c64_i32_374
  let c56_i32 : BitVec 32 := 56#32
  let v483 : BitVec 32 := Scalar.addi v482 c56_i32
  let v484 : BitVec 32 := v483
  let c24_i32_376 : BitVec 32 := 24#32
  let v487 : BitVec 32 := Scalar.addi v484 c24_i32_376
  v487
def k0_mult423 (k0_t16 : Fin k0_t16_loop.trips) : BitVec 32 :=
  let c0_i32_288 : BitVec 32 := 0#32
  let c1_i32_290 : BitVec 32 := 1#32
  let arg16 : BitVec 32 := Scf.iv c0_i32_288 c1_i32_290 k0_t16
  let c64_i32_374 : BitVec 32 := 64#32
  let v482 : BitVec 32 := Scalar.muli arg16 c64_i32_374
  let c56_i32 : BitVec 32 := 56#32
  let v483 : BitVec 32 := Scalar.addi v482 c56_i32
  let v484 : BitVec 32 := v483
  let c24_i32_379 : BitVec 32 := 24#32
  let v494 : BitVec 32 := Scalar.addi v484 c24_i32_379
  v494
@[reducible] def k0_t17_loop : Scf.Loop 32 :=
  let c0_i32_301 : BitVec 32 := 0#32
  let c8_i32_302 : BitVec 32 := 8#32
  let v334 : BitVec 32 := Scalar.addi c0_i32_301 c8_i32_302
  let c1_i32_303 : BitVec 32 := 1#32
  ⟨c0_i32_301, v334, c1_i32_303⟩
def k0_mult424 (k0_t17 : Fin k0_t17_loop.trips) : BitVec 32 :=
  let c0_i32_301 : BitVec 32 := 0#32
  let c1_i32_303 : BitVec 32 := 1#32
  let arg16 : BitVec 32 := Scf.iv c0_i32_301 c1_i32_303 k0_t17
  let c64_i32 : BitVec 32 := 64#32
  let v349 : BitVec 32 := Scalar.muli arg16 c64_i32
  let c0_i32_316 : BitVec 32 := 0#32
  let v350 : BitVec 32 := Scalar.addi v349 c0_i32_316
  v350
def k0_off55 (k0_t17 : Fin k0_t17_loop.trips) (c0_i32_316 : BitVec 32) : Fin 2 → Nat :=
  let c0_i32_301 : BitVec 32 := 0#32
  let c1_i32_303 : BitVec 32 := 1#32
  let arg16 : BitVec 32 := Scf.iv c0_i32_301 c1_i32_303 k0_t17
  let c64_i32 : BitVec 32 := 64#32
  let v349 : BitVec 32 := Scalar.muli arg16 c64_i32
  let v350 : BitVec 32 := Scalar.addi v349 c0_i32_316
  let v351 : BitVec 32 := v350
  let v352 : Index := Scalar.indexCast v351
  let c0_317 : Index := 0#32
  ![v352.toNat, 0]
def k0_mult425 (k0_t17 : Fin k0_t17_loop.trips) : BitVec 32 :=
  let c0_i32_301 : BitVec 32 := 0#32
  let c1_i32_303 : BitVec 32 := 1#32
  let arg16 : BitVec 32 := Scf.iv c0_i32_301 c1_i32_303 k0_t17
  let c64_i32 : BitVec 32 := 64#32
  let v349 : BitVec 32 := Scalar.muli arg16 c64_i32
  let c0_i32_316 : BitVec 32 := 0#32
  let v350 : BitVec 32 := Scalar.addi v349 c0_i32_316
  let v351 : BitVec 32 := v350
  let c32_i32_318 : BitVec 32 := 32#32
  let v354 : BitVec 32 := Scalar.addi v351 c32_i32_318
  v354
def k0_off56 (k0_t17 : Fin k0_t17_loop.trips) (c0_i32_316 : BitVec 32) : Fin 3 → Nat :=
  let c0_319 : Index := 0#32
  let c0_i32_301 : BitVec 32 := 0#32
  let c1_i32_303 : BitVec 32 := 1#32
  let arg16 : BitVec 32 := Scf.iv c0_i32_301 c1_i32_303 k0_t17
  let c64_i32 : BitVec 32 := 64#32
  let v349 : BitVec 32 := Scalar.muli arg16 c64_i32
  let v350 : BitVec 32 := Scalar.addi v349 c0_i32_316
  let v351 : BitVec 32 := v350
  let c32_i32_318 : BitVec 32 := 32#32
  let v354 : BitVec 32 := Scalar.addi v351 c32_i32_318
  let v355 : BitVec 32 := v354
  let v356 : Index := Scalar.indexCast v355
  let c0_320 : Index := 0#32
  ![0, v356.toNat, 0]
def k0_mult426 (k0_t17 : Fin k0_t17_loop.trips) : BitVec 32 :=
  let c0_i32_301 : BitVec 32 := 0#32
  let c1_i32_303 : BitVec 32 := 1#32
  let arg16 : BitVec 32 := Scf.iv c0_i32_301 c1_i32_303 k0_t17
  let c64_i32_321 : BitVec 32 := 64#32
  let v361 : BitVec 32 := Scalar.muli arg16 c64_i32_321
  let c8_i32_322 : BitVec 32 := 8#32
  let v362 : BitVec 32 := Scalar.addi v361 c8_i32_322
  v362
def k0_mult427 (k0_t17 : Fin k0_t17_loop.trips) : BitVec 32 :=
  let c0_i32_301 : BitVec 32 := 0#32
  let c1_i32_303 : BitVec 32 := 1#32
  let arg16 : BitVec 32 := Scf.iv c0_i32_301 c1_i32_303 k0_t17
  let c64_i32_321 : BitVec 32 := 64#32
  let v361 : BitVec 32 := Scalar.muli arg16 c64_i32_321
  let c8_i32_322 : BitVec 32 := 8#32
  let v362 : BitVec 32 := Scalar.addi v361 c8_i32_322
  let v363 : BitVec 32 := v362
  let c32_i32_324 : BitVec 32 := 32#32
  let v366 : BitVec 32 := Scalar.addi v363 c32_i32_324
  v366
def k0_mult428 (k0_t17 : Fin k0_t17_loop.trips) : BitVec 32 :=
  let c0_i32_301 : BitVec 32 := 0#32
  let c1_i32_303 : BitVec 32 := 1#32
  let arg16 : BitVec 32 := Scf.iv c0_i32_301 c1_i32_303 k0_t17
  let c64_i32_327 : BitVec 32 := 64#32
  let v373 : BitVec 32 := Scalar.muli arg16 c64_i32_327
  let c16_i32 : BitVec 32 := 16#32
  let v374 : BitVec 32 := Scalar.addi v373 c16_i32
  v374
def k0_mult429 (k0_t17 : Fin k0_t17_loop.trips) : BitVec 32 :=
  let c0_i32_301 : BitVec 32 := 0#32
  let c1_i32_303 : BitVec 32 := 1#32
  let arg16 : BitVec 32 := Scf.iv c0_i32_301 c1_i32_303 k0_t17
  let c64_i32_327 : BitVec 32 := 64#32
  let v373 : BitVec 32 := Scalar.muli arg16 c64_i32_327
  let c16_i32 : BitVec 32 := 16#32
  let v374 : BitVec 32 := Scalar.addi v373 c16_i32
  let v375 : BitVec 32 := v374
  let c32_i32_329 : BitVec 32 := 32#32
  let v378 : BitVec 32 := Scalar.addi v375 c32_i32_329
  v378
def k0_mult430 (k0_t17 : Fin k0_t17_loop.trips) : BitVec 32 :=
  let c0_i32_301 : BitVec 32 := 0#32
  let c1_i32_303 : BitVec 32 := 1#32
  let arg16 : BitVec 32 := Scf.iv c0_i32_301 c1_i32_303 k0_t17
  let c64_i32_332 : BitVec 32 := 64#32
  let v385 : BitVec 32 := Scalar.muli arg16 c64_i32_332
  let c24_i32 : BitVec 32 := 24#32
  let v386 : BitVec 32 := Scalar.addi v385 c24_i32
  v386
def k0_mult431 (k0_t17 : Fin k0_t17_loop.trips) : BitVec 32 :=
  let c0_i32_301 : BitVec 32 := 0#32
  let c1_i32_303 : BitVec 32 := 1#32
  let arg16 : BitVec 32 := Scf.iv c0_i32_301 c1_i32_303 k0_t17
  let c64_i32_332 : BitVec 32 := 64#32
  let v385 : BitVec 32 := Scalar.muli arg16 c64_i32_332
  let c24_i32 : BitVec 32 := 24#32
  let v386 : BitVec 32 := Scalar.addi v385 c24_i32
  let v387 : BitVec 32 := v386
  let c32_i32_334 : BitVec 32 := 32#32
  let v390 : BitVec 32 := Scalar.addi v387 c32_i32_334
  v390
def k0_mult432 (k0_t17 : Fin k0_t17_loop.trips) : BitVec 32 :=
  let c0_i32_301 : BitVec 32 := 0#32
  let c1_i32_303 : BitVec 32 := 1#32
  let arg16 : BitVec 32 := Scf.iv c0_i32_301 c1_i32_303 k0_t17
  let c64_i32_337 : BitVec 32 := 64#32
  let v397 : BitVec 32 := Scalar.muli arg16 c64_i32_337
  let c32_i32_338 : BitVec 32 := 32#32
  let v398 : BitVec 32 := Scalar.addi v397 c32_i32_338
  v398
def k0_mult433 (k0_t17 : Fin k0_t17_loop.trips) : BitVec 32 :=
  let c0_i32_301 : BitVec 32 := 0#32
  let c1_i32_303 : BitVec 32 := 1#32
  let arg16 : BitVec 32 := Scf.iv c0_i32_301 c1_i32_303 k0_t17
  let c64_i32_337 : BitVec 32 := 64#32
  let v397 : BitVec 32 := Scalar.muli arg16 c64_i32_337
  let c32_i32_338 : BitVec 32 := 32#32
  let v398 : BitVec 32 := Scalar.addi v397 c32_i32_338
  let v399 : BitVec 32 := v398
  let c32_i32_340 : BitVec 32 := 32#32
  let v402 : BitVec 32 := Scalar.addi v399 c32_i32_340
  v402
def k0_mult434 (k0_t17 : Fin k0_t17_loop.trips) : BitVec 32 :=
  let c0_i32_301 : BitVec 32 := 0#32
  let c1_i32_303 : BitVec 32 := 1#32
  let arg16 : BitVec 32 := Scf.iv c0_i32_301 c1_i32_303 k0_t17
  let c64_i32_343 : BitVec 32 := 64#32
  let v409 : BitVec 32 := Scalar.muli arg16 c64_i32_343
  let c40_i32 : BitVec 32 := 40#32
  let v410 : BitVec 32 := Scalar.addi v409 c40_i32
  v410
def k0_mult435 (k0_t17 : Fin k0_t17_loop.trips) : BitVec 32 :=
  let c0_i32_301 : BitVec 32 := 0#32
  let c1_i32_303 : BitVec 32 := 1#32
  let arg16 : BitVec 32 := Scf.iv c0_i32_301 c1_i32_303 k0_t17
  let c64_i32_343 : BitVec 32 := 64#32
  let v409 : BitVec 32 := Scalar.muli arg16 c64_i32_343
  let c40_i32 : BitVec 32 := 40#32
  let v410 : BitVec 32 := Scalar.addi v409 c40_i32
  let v411 : BitVec 32 := v410
  let c32_i32_345 : BitVec 32 := 32#32
  let v414 : BitVec 32 := Scalar.addi v411 c32_i32_345
  v414
def k0_mult436 (k0_t17 : Fin k0_t17_loop.trips) : BitVec 32 :=
  let c0_i32_301 : BitVec 32 := 0#32
  let c1_i32_303 : BitVec 32 := 1#32
  let arg16 : BitVec 32 := Scf.iv c0_i32_301 c1_i32_303 k0_t17
  let c64_i32_348 : BitVec 32 := 64#32
  let v421 : BitVec 32 := Scalar.muli arg16 c64_i32_348
  let c48_i32 : BitVec 32 := 48#32
  let v422 : BitVec 32 := Scalar.addi v421 c48_i32
  v422
def k0_mult437 (k0_t17 : Fin k0_t17_loop.trips) : BitVec 32 :=
  let c0_i32_301 : BitVec 32 := 0#32
  let c1_i32_303 : BitVec 32 := 1#32
  let arg16 : BitVec 32 := Scf.iv c0_i32_301 c1_i32_303 k0_t17
  let c64_i32_348 : BitVec 32 := 64#32
  let v421 : BitVec 32 := Scalar.muli arg16 c64_i32_348
  let c48_i32 : BitVec 32 := 48#32
  let v422 : BitVec 32 := Scalar.addi v421 c48_i32
  let v423 : BitVec 32 := v422
  let c32_i32_350 : BitVec 32 := 32#32
  let v426 : BitVec 32 := Scalar.addi v423 c32_i32_350
  v426
def k0_mult438 (k0_t17 : Fin k0_t17_loop.trips) : BitVec 32 :=
  let c0_i32_301 : BitVec 32 := 0#32
  let c1_i32_303 : BitVec 32 := 1#32
  let arg16 : BitVec 32 := Scf.iv c0_i32_301 c1_i32_303 k0_t17
  let c64_i32_353 : BitVec 32 := 64#32
  let v433 : BitVec 32 := Scalar.muli arg16 c64_i32_353
  let c56_i32 : BitVec 32 := 56#32
  let v434 : BitVec 32 := Scalar.addi v433 c56_i32
  v434
def k0_mult439 (k0_t17 : Fin k0_t17_loop.trips) : BitVec 32 :=
  let c0_i32_301 : BitVec 32 := 0#32
  let c1_i32_303 : BitVec 32 := 1#32
  let arg16 : BitVec 32 := Scf.iv c0_i32_301 c1_i32_303 k0_t17
  let c64_i32_353 : BitVec 32 := 64#32
  let v433 : BitVec 32 := Scalar.muli arg16 c64_i32_353
  let c56_i32 : BitVec 32 := 56#32
  let v434 : BitVec 32 := Scalar.addi v433 c56_i32
  let v435 : BitVec 32 := v434
  let c32_i32_355 : BitVec 32 := 32#32
  let v438 : BitVec 32 := Scalar.addi v435 c32_i32_355
  v438
def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_3 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let c0_i32_0 : BitVec 32 := 0#32
  ![v2.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S32x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S32x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ConvBwdRefIdeal.lean ====
abbrev S8192x2560 : Shape := ⟨2, ![8192, 2560]⟩
abbrev S8192x512 : Shape := ⟨2, ![8192, 512]⟩
abbrev S31x512 : Shape := ⟨2, ![31, 512]⟩
abbrev S_ : Shape := ⟨0, ![]⟩
abbrev S30x512 : Shape := ⟨2, ![30, 512]⟩
abbrev S8222x512 : Shape := ⟨2, ![8222, 512]⟩
abbrev S1x512 : Shape := ⟨2, ![1, 512]⟩
abbrev S512 : Shape := ⟨1, ![512]⟩

abbrev nBuf : Space → Nat
  | .hbm => 403
  | .vmem => 0
  | .smem => 0
  | _ => 0

abbrev hbmTy0_0 (i : Nat) : BufTy := match i % 128 with
  | 0 => ⟨S8192x2560, .f32⟩
  | 1 => ⟨S8192x512, .f32⟩
  | 2 => ⟨S31x512, .f32⟩
  | 3 => ⟨S8192x512, .f32⟩
  | 4 => ⟨S8192x512, .f32⟩
  | 5 => ⟨S8192x512, .f32⟩
  | 6 => ⟨S8192x512, .f32⟩
  | 7 => ⟨S_, .f32⟩
  | 8 => ⟨S8192x512, .f32⟩
  | 9 => ⟨S8192x512, .f32⟩
  | 10 => ⟨S_, .f32⟩
  | 11 => ⟨S8192x512, .f32⟩
  | 12 => ⟨S8192x512, .f32⟩
  | 13 => ⟨S_, .f32⟩
  | 14 => ⟨S8192x512, .f32⟩
  | 15 => ⟨S8192x512, .f32⟩
  | 16 => ⟨S8192x512, .f32⟩
  | 17 => ⟨S8192x512, .f32⟩
  | 18 => ⟨S_, .f32⟩
  | 19 => ⟨S30x512, .f32⟩
  | 20 => ⟨S8222x512, .f32⟩
  | 21 => ⟨S_, .f32⟩
  | 22 => ⟨S30x512, .f32⟩
  | 23 => ⟨S8192x512, .f32⟩
  | 24 => ⟨S1x512, .f32⟩
  | 25 => ⟨S512, .f32⟩
  | 26 => ⟨S1x512, .f32⟩
  | 27 => ⟨S8192x512, .f32⟩
  | 28 => ⟨S8192x512, .f32⟩
  | 29 => ⟨S_, .f32⟩
  | 30 => ⟨S8192x512, .f32⟩
  | 31 => ⟨S8192x512, .f32⟩
  | 32 => ⟨S8192x512, .f32⟩
  | 33 => ⟨S1x512, .f32⟩
  | 34 => ⟨S512, .f32⟩
  | 35 => ⟨S1x512, .f32⟩
  | 36 => ⟨S8192x512, .f32⟩
  | 37 => ⟨S8192x512, .f32⟩
  | 38 => ⟨S8192x512, .f32⟩
  | 39 => ⟨S8192x512, .f32⟩
  | 40 => ⟨S1x512, .f32⟩
  | 41 => ⟨S512, .f32⟩
  | 42 => ⟨S1x512, .f32⟩
  | 43 => ⟨S8192x512, .f32⟩
  | 44 => ⟨S8192x512, .f32⟩
  | 45 => ⟨S8192x512, .f32⟩
  | 46 => ⟨S8192x512, .f32⟩
  | 47 => ⟨S1x512, .f32⟩
  | 48 => ⟨S512, .f32⟩
  | 49 => ⟨S1x512, .f32⟩
  | 50 => ⟨S8192x512, .f32⟩
  | 51 => ⟨S8192x512, .f32⟩
  | 52 => ⟨S8192x512, .f32⟩
  | 53 => ⟨S8192x512, .f32⟩
  | 54 => ⟨S1x512, .f32⟩
  | 55 => ⟨S512, .f32⟩
  | 56 => ⟨S1x512, .f32⟩
  | 57 => ⟨S8192x512, .f32⟩
  | 58 => ⟨S8192x512, .f32⟩
  | 59 => ⟨S8192x512, .f32⟩
  | 60 => ⟨S8192x512, .f32⟩
  | 61 => ⟨S1x512, .f32⟩
  | 62 => ⟨S512, .f32⟩
  | 63 => ⟨S1x512, .f32⟩
  | 64 => ⟨S8192x512, .f32⟩
  | 65 => ⟨S8192x512, .f32⟩
  | 66 => ⟨S8192x512, .f32⟩
  | 67 => ⟨S8192x512, .f32⟩
  | 68 => ⟨S1x512, .f32⟩
  | 69 => ⟨S512, .f32⟩
  | 70 => ⟨S1x512, .f32⟩
  | 71 => ⟨S8192x512, .f32⟩
  | 72 => ⟨S8192x512, .f32⟩
  | 73 => ⟨S8192x512, .f32⟩
  | 74 => ⟨S8192x512, .f32⟩
  | 75 => ⟨S1x512, .f32⟩
  | 76 => ⟨S512, .f32⟩
  | 77 => ⟨S1x512, .f32⟩
  | 78 => ⟨S8192x512, .f32⟩
  | 79 => ⟨S8192x512, .f32⟩
  | 80 => ⟨S8192x512, .f32⟩
  | 81 => ⟨S8192x512, .f32⟩
  | 82 => ⟨S1x512, .f32⟩
  | 83 => ⟨S512, .f32⟩
  | 84 => ⟨S1x512, .f32⟩
  | 85 => ⟨S8192x512, .f32⟩
  | 86 => ⟨S8192x512, .f32⟩
  | 87 => ⟨S8192x512, .f32⟩
  | 88 => ⟨S8192x512, .f32⟩
  | 89 => ⟨S1x512, .f32⟩
  | 90 => ⟨S512, .f32⟩
  | 91 => ⟨S1x512, .f32⟩
  | 92 => ⟨S8192x512, .f32⟩
  | 93 => ⟨S8192x512, .f32⟩
  | 94 => ⟨S8192x512, .f32⟩
  | 95 => ⟨S8192x512, .f32⟩
  | 96 => ⟨S1x512, .f32⟩
  | 97 => ⟨S512, .f32⟩
  | 98 => ⟨S1x512, .f32⟩
  | 99 => ⟨S8192x512, .f32⟩
  | 100 => ⟨S8192x512, .f32⟩
  | 101 => ⟨S8192x512, .f32⟩
  | 102 => ⟨S8192x512, .f32⟩
  | 103 => ⟨S1x512, .f32⟩
  | 104 => ⟨S512, .f32⟩
  | 105 => ⟨S1x512, .f32⟩
  | 106 => ⟨S8192x512, .f32⟩
  | 107 => ⟨S8192x512, .f32⟩
  | 108 => ⟨S8192x512, .f32⟩
  | 109 => ⟨S8192x512, .f32⟩
  | 110 => ⟨S1x512, .f32⟩
  | 111 => ⟨S512, .f32⟩
  | 112 => ⟨S1x512, .f32⟩
  | 113 => ⟨S8192x512, .f32⟩
  | 114 => ⟨S8192x512, .f32⟩
  | 115 => ⟨S8192x512, .f32⟩
  | 116 => ⟨S8192x512, .f32⟩
  | 117 => ⟨S1x512, .f32⟩
  | 118 => ⟨S512, .f32⟩
  | 119 => ⟨S1x512, .f32⟩
  | 120 => ⟨S8192x512, .f32⟩
  | 121 => ⟨S8192x512, .f32⟩
  | 122 => ⟨S8192x512, .f32⟩
  | 123 => ⟨S8192x512, .f32⟩
  | 124 => ⟨S1x512, .f32⟩
  | 125 => ⟨S512, .f32⟩
  | 126 => ⟨S1x512, .f32⟩
  | 127 => ⟨S8192x512, .f32⟩
  | _ => ⟨S8192x2560, .f32⟩

abbrev hbmTy0_1 (i : Nat) : BufTy := match i % 128 with
  | 0 => ⟨S8192x512, .f32⟩
  | 1 => ⟨S8192x512, .f32⟩
  | 2 => ⟨S8192x512, .f32⟩
  | 3 => ⟨S1x512, .f32⟩
  | 4 => ⟨S512, .f32⟩
  | 5 => ⟨S1x512, .f32⟩
  | 6 => ⟨S8192x512, .f32⟩
  | 7 => ⟨S8192x512, .f32⟩
  | 8 => ⟨S8192x512, .f32⟩
  | 9 => ⟨S8192x512, .f32⟩
  | 10 => ⟨S1x512, .f32⟩
  | 11 => ⟨S512, .f32⟩
  | 12 => ⟨S1x512, .f32⟩
  | 13 => ⟨S8192x512, .f32⟩
  | 14 => ⟨S8192x512, .f32⟩
  | 15 => ⟨S8192x512, .f32⟩
  | 16 => ⟨S8192x512, .f32⟩
  | 17 => ⟨S1x512, .f32⟩
  | 18 => ⟨S512, .f32⟩
  | 19 => ⟨S1x512, .f32⟩
  | 20 => ⟨S8192x512, .f32⟩
  | 21 => ⟨S8192x512, .f32⟩
  | 22 => ⟨S8192x512, .f32⟩
  | 23 => ⟨S8192x512, .f32⟩
  | 24 => ⟨S1x512, .f32⟩
  | 25 => ⟨S512, .f32⟩
  | 26 => ⟨S1x512, .f32⟩
  | 27 => ⟨S8192x512, .f32⟩
  | 28 => ⟨S8192x512, .f32⟩
  | 29 => ⟨S8192x512, .f32⟩
  | 30 => ⟨S8192x512, .f32⟩
  | 31 => ⟨S1x512, .f32⟩
  | 32 => ⟨S512, .f32⟩
  | 33 => ⟨S1x512, .f32⟩
  | 34 => ⟨S8192x512, .f32⟩
  | 35 => ⟨S8192x512, .f32⟩
  | 36 => ⟨S8192x512, .f32⟩
  | 37 => ⟨S8192x512, .f32⟩
  | 38 => ⟨S1x512, .f32⟩
  | 39 => ⟨S512, .f32⟩
  | 40 => ⟨S1x512, .f32⟩
  | 41 => ⟨S8192x512, .f32⟩
  | 42 => ⟨S8192x512, .f32⟩
  | 43 => ⟨S8192x512, .f32⟩
  | 44 => ⟨S8192x512, .f32⟩
  | 45 => ⟨S1x512, .f32⟩
  | 46 => ⟨S512, .f32⟩
  | 47 => ⟨S1x512, .f32⟩
  | 48 => ⟨S8192x512, .f32⟩
  | 49 => ⟨S8192x512, .f32⟩
  | 50 => ⟨S8192x512, .f32⟩
  | 51 => ⟨S8192x512, .f32⟩
  | 52 => ⟨S1x512, .f32⟩
  | 53 => ⟨S512, .f32⟩
  | 54 => ⟨S1x512, .f32⟩
  | 55 => ⟨S8192x512, .f32⟩
  | 56 => ⟨S8192x512, .f32⟩
  | 57 => ⟨S8192x512, .f32⟩
  | 58 => ⟨S8192x512, .f32⟩
  | 59 => ⟨S1x512, .f32⟩
  | 60 => ⟨S512, .f32⟩
  | 61 => ⟨S1x512, .f32⟩
  | 62 => ⟨S8192x512, .f32⟩
  | 63 => ⟨S8192x512, .f32⟩
  | 64 => ⟨S8192x512, .f32⟩
  | 65 => ⟨S8192x512, .f32⟩
  | 66 => ⟨S1x512, .f32⟩
  | 67 => ⟨S512, .f32⟩
  | 68 => ⟨S1x512, .f32⟩
  | 69 => ⟨S8192x512, .f32⟩
  | 70 => ⟨S8192x512, .f32⟩
  | 71 => ⟨S8192x512, .f32⟩
  | 72 => ⟨S8192x512, .f32⟩
  | 73 => ⟨S1x512, .f32⟩
  | 74 => ⟨S512, .f32⟩
  | 75 => ⟨S1x512, .f32⟩
  | 76 => ⟨S8192x512, .f32⟩
  | 77 => ⟨S8192x512, .f32⟩
  | 78 => ⟨S8192x512, .f32⟩
  | 79 => ⟨S8192x512, .f32⟩
  | 80 => ⟨S1x512, .f32⟩
  | 81 => ⟨S512, .f32⟩
  | 82 => ⟨S1x512, .f32⟩
  | 83 => ⟨S8192x512, .f32⟩
  | 84 => ⟨S8192x512, .f32⟩
  | 85 => ⟨S8192x512, .f32⟩
  | 86 => ⟨S8192x512, .f32⟩
  | 87 => ⟨S1x512, .f32⟩
  | 88 => ⟨S512, .f32⟩
  | 89 => ⟨S1x512, .f32⟩
  | 90 => ⟨S8192x512, .f32⟩
  | 91 => ⟨S8192x512, .f32⟩
  | 92 => ⟨S8192x512, .f32⟩
  | 93 => ⟨S8192x512, .f32⟩
  | 94 => ⟨S1x512, .f32⟩
  | 95 => ⟨S512, .f32⟩
  | 96 => ⟨S1x512, .f32⟩
  | 97 => ⟨S8192x512, .f32⟩
  | 98 => ⟨S8192x512, .f32⟩
  | 99 => ⟨S8192x512, .f32⟩
  | 100 => ⟨S8192x512, .f32⟩
  | 101 => ⟨S1x512, .f32⟩
  | 102 => ⟨S512, .f32⟩
  | 103 => ⟨S1x512, .f32⟩
  | 104 => ⟨S8192x512, .f32⟩
  | 105 => ⟨S8192x512, .f32⟩
  | 106 => ⟨S8192x512, .f32⟩
  | 107 => ⟨S8192x512, .f32⟩
  | 108 => ⟨S1x512, .f32⟩
  | 109 => ⟨S512, .f32⟩
  | 110 => ⟨S1x512, .f32⟩
  | 111 => ⟨S8192x512, .f32⟩
  | 112 => ⟨S8192x512, .f32⟩
  | 113 => ⟨S8192x512, .f32⟩
  | 114 => ⟨S8192x512, .f32⟩
  | 115 => ⟨S8192x512, .f32⟩
  | 116 => ⟨S8192x512, .f32⟩
  | 117 => ⟨S8192x512, .f32⟩
  | 118 => ⟨S_, .f32⟩
  | 119 => ⟨S8222x512, .f32⟩
  | 120 => ⟨S8192x512, .f32⟩
  | 121 => ⟨S8192x512, .f32⟩
  | 122 => ⟨S_, .f32⟩
  | 123 => ⟨S8222x512, .f32⟩
  | 124 => ⟨S8222x512, .f32⟩
  | 125 => ⟨S8192x512, .f32⟩
  | 126 => ⟨S8192x512, .f32⟩
  | 127 => ⟨S_, .f32⟩
  | _ => ⟨S8192x2560, .f32⟩

abbrev hbmTy0_2 (i : Nat) : BufTy := match i % 128 with
  | 0 => ⟨S8222x512, .f32⟩
  | 1 => ⟨S8222x512, .f32⟩
  | 2 => ⟨S8192x512, .f32⟩
  | 3 => ⟨S8192x512, .f32⟩
  | 4 => ⟨S_, .f32⟩
  | 5 => ⟨S8222x512, .f32⟩
  | 6 => ⟨S8222x512, .f32⟩
  | 7 => ⟨S8192x512, .f32⟩
  | 8 => ⟨S8192x512, .f32⟩
  | 9 => ⟨S_, .f32⟩
  | 10 => ⟨S8222x512, .f32⟩
  | 11 => ⟨S8222x512, .f32⟩
  | 12 => ⟨S8192x512, .f32⟩
  | 13 => ⟨S8192x512, .f32⟩
  | 14 => ⟨S_, .f32⟩
  | 15 => ⟨S8222x512, .f32⟩
  | 16 => ⟨S8222x512, .f32⟩
  | 17 => ⟨S8192x512, .f32⟩
  | 18 => ⟨S8192x512, .f32⟩
  | 19 => ⟨S_, .f32⟩
  | 20 => ⟨S8222x512, .f32⟩
  | 21 => ⟨S8222x512, .f32⟩
  | 22 => ⟨S8192x512, .f32⟩
  | 23 => ⟨S8192x512, .f32⟩
  | 24 => ⟨S_, .f32⟩
  | 25 => ⟨S8222x512, .f32⟩
  | 26 => ⟨S8222x512, .f32⟩
  | 27 => ⟨S8192x512, .f32⟩
  | 28 => ⟨S8192x512, .f32⟩
  | 29 => ⟨S_, .f32⟩
  | 30 => ⟨S8222x512, .f32⟩
  | 31 => ⟨S8222x512, .f32⟩
  | 32 => ⟨S8192x512, .f32⟩
  | 33 => ⟨S8192x512, .f32⟩
  | 34 => ⟨S_, .f32⟩
  | 35 => ⟨S8222x512, .f32⟩
  | 36 => ⟨S8222x512, .f32⟩
  | 37 => ⟨S8192x512, .f32⟩
  | 38 => ⟨S8192x512, .f32⟩
  | 39 => ⟨S_, .f32⟩
  | 40 => ⟨S8222x512, .f32⟩
  | 41 => ⟨S8222x512, .f32⟩
  | 42 => ⟨S8192x512, .f32⟩
  | 43 => ⟨S8192x512, .f32⟩
  | 44 => ⟨S_, .f32⟩
  | 45 => ⟨S8222x512, .f32⟩
  | 46 => ⟨S8222x512, .f32⟩
  | 47 => ⟨S8192x512, .f32⟩
  | 48 => ⟨S8192x512, .f32⟩
  | 49 => ⟨S_, .f32⟩
  | 50 => ⟨S8222x512, .f32⟩
  | 51 => ⟨S8222x512, .f32⟩
  | 52 => ⟨S8192x512, .f32⟩
  | 53 => ⟨S8192x512, .f32⟩
  | 54 => ⟨S_, .f32⟩
  | 55 => ⟨S8222x512, .f32⟩
  | 56 => ⟨S8222x512, .f32⟩
  | 57 => ⟨S8192x512, .f32⟩
  | 58 => ⟨S8192x512, .f32⟩
  | 59 => ⟨S_, .f32⟩
  | 60 => ⟨S8222x512, .f32⟩
  | 61 => ⟨S8222x512, .f32⟩
  | 62 => ⟨S8192x512, .f32⟩
  | 63 => ⟨S8192x512, .f32⟩
  | 64 => ⟨S_, .f32⟩
  | 65 => ⟨S8222x512, .f32⟩
  | 66 => ⟨S8222x512, .f32⟩
  | 67 => ⟨S8192x512, .f32⟩
  | 68 => ⟨S8192x512, .f32⟩
  | 69 => ⟨S_, .f32⟩
  | 70 => ⟨S8222x512, .f32⟩
  | 71 => ⟨S8222x512, .f32⟩
  | 72 => ⟨S8192x512, .f32⟩
  | 73 => ⟨S8192x512, .f32⟩
  | 74 => ⟨S_, .f32⟩
  | 75 => ⟨S8222x512, .f32⟩
  | 76 => ⟨S8222x512, .f32⟩
  | 77 => ⟨S8192x512, .f32⟩
  | 78 => ⟨S8192x512, .f32⟩
  | 79 => ⟨S_, .f32⟩
  | 80 => ⟨S8222x512, .f32⟩
  | 81 => ⟨S8222x512, .f32⟩
  | 82 => ⟨S8192x512, .f32⟩
  | 83 => ⟨S8192x512, .f32⟩
  | 84 => ⟨S_, .f32⟩
  | 85 => ⟨S8222x512, .f32⟩
  | 86 => ⟨S8222x512, .f32⟩
  | 87 => ⟨S8192x512, .f32⟩
  | 88 => ⟨S8192x512, .f32⟩
  | 89 => ⟨S_, .f32⟩
  | 90 => ⟨S8222x512, .f32⟩
  | 91 => ⟨S8222x512, .f32⟩
  | 92 => ⟨S8192x512, .f32⟩
  | 93 => ⟨S8192x512, .f32⟩
  | 94 => ⟨S_, .f32⟩
  | 95 => ⟨S8222x512, .f32⟩
  | 96 => ⟨S8222x512, .f32⟩
  | 97 => ⟨S8192x512, .f32⟩
  | 98 => ⟨S8192x512, .f32⟩
  | 99 => ⟨S_, .f32⟩
  | 100 => ⟨S8222x512, .f32⟩
  | 101 => ⟨S8222x512, .f32⟩
  | 102 => ⟨S8192x512, .f32⟩
  | 103 => ⟨S8192x512, .f32⟩
  | 104 => ⟨S_, .f32⟩
  | 105 => ⟨S8222x512, .f32⟩
  | 106 => ⟨S8222x512, .f32⟩
  | 107 => ⟨S8192x512, .f32⟩
  | 108 => ⟨S8192x512, .f32⟩
  | 109 => ⟨S_, .f32⟩
  | 110 => ⟨S8222x512, .f32⟩
  | 111 => ⟨S8222x512, .f32⟩
  | 112 => ⟨S8192x512, .f32⟩
  | 113 => ⟨S8192x512, .f32⟩
  | 114 => ⟨S_, .f32⟩
  | 115 => ⟨S8222x512, .f32⟩
  | 116 => ⟨S8222x512, .f32⟩
  | 117 => ⟨S8192x512, .f32⟩
  | 118 => ⟨S8192x512, .f32⟩
  | 119 => ⟨S_, .f32⟩
  | 120 => ⟨S8222x512, .f32⟩
  | 121 => ⟨S8222x512, .f32⟩
  | 122 => ⟨S8192x512, .f32⟩
  | 123 => ⟨S8192x512, .f32⟩
  | 124 => ⟨S_, .f32⟩
  | 125 => ⟨S8222x512, .f32⟩
  | 126 => ⟨S8222x512, .f32⟩
  | 127 => ⟨S8192x512, .f32⟩
  | _ => ⟨S8192x2560, .f32⟩

abbrev hbmTy0_3 (i : Nat) : BufTy := match i % 128 with
  | 0 => ⟨S8192x512, .f32⟩
  | 1 => ⟨S_, .f32⟩
  | 2 => ⟨S8222x512, .f32⟩
  | 3 => ⟨S8222x512, .f32⟩
  | 4 => ⟨S8192x512, .f32⟩
  | 5 => ⟨S8192x512, .f32⟩
  | 6 => ⟨S_, .f32⟩
  | 7 => ⟨S8222x512, .f32⟩
  | 8 => ⟨S8222x512, .f32⟩
  | 9 => ⟨S8192x512, .f32⟩
  | 10 => ⟨S8192x512, .f32⟩
  | 11 => ⟨S_, .f32⟩
  | 12 => ⟨S8222x512, .f32⟩
  | 13 => ⟨S8222x512, .f32⟩
  | 14 => ⟨S30x512, .f32⟩
  | 15 => ⟨S8192x512, .f32⟩
  | 16 => ⟨S8192x512, .f32⟩
  | 17 => ⟨S8192x512, .f32⟩
  | 18 => ⟨S8192x512, .f32⟩
  | _ => ⟨S8192x2560, .f32⟩

abbrev hbmTy (i : Nat) : BufTy := match i / 128 with
  | 0 => hbmTy0_0 i
  | 1 => hbmTy0_1 i
  | 2 => hbmTy0_2 i
  | 3 => hbmTy0_3 i
  | _ => ⟨S8192x2560, .f32⟩

abbrev bufTy : (tb : Table) → Fin (tcTables nBuf tb) → BufTy
  | .hbm, ⟨i, _⟩ => hbmTy i
  | _, _ => ⟨S8192x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_v157 : Ref sig .tc := ⟨.hbm, 166, rfl⟩
abbrev main_v158 : Ref sig .tc := ⟨.hbm, 167, rfl⟩
abbrev main_v159 : Ref sig .tc := ⟨.hbm, 168, rfl⟩
abbrev main_v160 : Ref sig .tc := ⟨.hbm, 169, rfl⟩
abbrev main_v161 : Ref sig .tc := ⟨.hbm, 170, rfl⟩
abbrev main_v162 : Ref sig .tc := ⟨.hbm, 171, rfl⟩
abbrev main_v163 : Ref sig .tc := ⟨.hbm, 172, rfl⟩
abbrev main_v164 : Ref sig .tc := ⟨.hbm, 173, rfl⟩
abbrev main_v165 : Ref sig .tc := ⟨.hbm, 174, rfl⟩
abbrev main_v166 : Ref sig .tc := ⟨.hbm, 175, rfl⟩
abbrev main_v167 : Ref sig .tc := ⟨.hbm, 176, rfl⟩
abbrev main_v168 : Ref sig .tc := ⟨.hbm, 177, rfl⟩
abbrev main_v169 : Ref sig .tc := ⟨.hbm, 178, rfl⟩
abbrev main_v170 : Ref sig .tc := ⟨.hbm, 179, rfl⟩
abbrev main_v171 : Ref sig .tc := ⟨.hbm, 180, rfl⟩
abbrev main_v172 : Ref sig .tc := ⟨.hbm, 181, rfl⟩
abbrev main_v173 : Ref sig .tc := ⟨.hbm, 182, rfl⟩
abbrev main_v174 : Ref sig .tc := ⟨.hbm, 183, rfl⟩
abbrev main_v175 : Ref sig .tc := ⟨.hbm, 184, rfl⟩
abbrev main_v176 : Ref sig .tc := ⟨.hbm, 185, rfl⟩
abbrev main_v177 : Ref sig .tc := ⟨.hbm, 186, rfl⟩
abbrev main_v178 : Ref sig .tc := ⟨.hbm, 187, rfl⟩
abbrev main_v179 : Ref sig .tc := ⟨.hbm, 188, rfl⟩
abbrev main_v180 : Ref sig .tc := ⟨.hbm, 189, rfl⟩
abbrev main_v181 : Ref sig .tc := ⟨.hbm, 190, rfl⟩
abbrev main_v182 : Ref sig .tc := ⟨.hbm, 191, rfl⟩
abbrev main_v183 : Ref sig .tc := ⟨.hbm, 192, rfl⟩
abbrev main_v184 : Ref sig .tc := ⟨.hbm, 193, rfl⟩
abbrev main_v185 : Ref sig .tc := ⟨.hbm, 194, rfl⟩
abbrev main_v186 : Ref sig .tc := ⟨.hbm, 195, rfl⟩
abbrev main_v187 : Ref sig .tc := ⟨.hbm, 196, rfl⟩
abbrev main_v188 : Ref sig .tc := ⟨.hbm, 197, rfl⟩
abbrev main_v189 : Ref sig .tc := ⟨.hbm, 198, rfl⟩
abbrev main_v190 : Ref sig .tc := ⟨.hbm, 199, rfl⟩
abbrev main_v191 : Ref sig .tc := ⟨.hbm, 200, rfl⟩
abbrev main_v192 : Ref sig .tc := ⟨.hbm, 201, rfl⟩
abbrev main_v193 : Ref sig .tc := ⟨.hbm, 202, rfl⟩
abbrev main_v194 : Ref sig .tc := ⟨.hbm, 203, rfl⟩
abbrev main_v195 : Ref sig .tc := ⟨.hbm, 204, rfl⟩
abbrev main_v196 : Ref sig .tc := ⟨.hbm, 205, rfl⟩
abbrev main_v197 : Ref sig .tc := ⟨.hbm, 206, rfl⟩
abbrev main_v198 : Ref sig .tc := ⟨.hbm, 207, rfl⟩
abbrev main_v199 : Ref sig .tc := ⟨.hbm, 208, rfl⟩
abbrev main_v200 : Ref sig .tc := ⟨.hbm, 209, rfl⟩
abbrev main_v201 : Ref sig .tc := ⟨.hbm, 210, rfl⟩
abbrev main_v202 : Ref sig .tc := ⟨.hbm, 211, rfl⟩
abbrev main_v203 : Ref sig .tc := ⟨.hbm, 212, rfl⟩
abbrev main_v204 : Ref sig .tc := ⟨.hbm, 213, rfl⟩
abbrev main_v205 : Ref sig .tc := ⟨.hbm, 214, rfl⟩
abbrev main_v206 : Ref sig .tc := ⟨.hbm, 215, rfl⟩
abbrev main_v207 : Ref sig .tc := ⟨.hbm, 216, rfl⟩
abbrev main_v208 : Ref sig .tc := ⟨.hbm, 217, rfl⟩
abbrev main_v209 : Ref sig .tc := ⟨.hbm, 218, rfl⟩
abbrev main_v210 : Ref sig .tc := ⟨.hbm, 219, rfl⟩
abbrev main_v211 : Ref sig .tc := ⟨.hbm, 220, rfl⟩
abbrev main_v212 : Ref sig .tc := ⟨.hbm, 221, rfl⟩
abbrev main_v213 : Ref sig .tc := ⟨.hbm, 222, rfl⟩
abbrev main_v214 : Ref sig .tc := ⟨.hbm, 223, rfl⟩
abbrev main_v215 : Ref sig .tc := ⟨.hbm, 224, rfl⟩
abbrev main_v216 : Ref sig .tc := ⟨.hbm, 225, rfl⟩
abbrev main_v217 : Ref sig .tc := ⟨.hbm, 226, rfl⟩
abbrev main_v218 : Ref sig .tc := ⟨.hbm, 227, rfl⟩
abbrev main_v219 : Ref sig .tc := ⟨.hbm, 228, rfl⟩
abbrev main_v220 : Ref sig .tc := ⟨.hbm, 229, rfl⟩
abbrev main_v221 : Ref sig .tc := ⟨.hbm, 230, rfl⟩
abbrev main_v222 : Ref sig .tc := ⟨.hbm, 231, rfl⟩
abbrev main_v223 : Ref sig .tc := ⟨.hbm, 232, rfl⟩
abbrev main_v224 : Ref sig .tc := ⟨.hbm, 233, rfl⟩
abbrev main_v225 : Ref sig .tc := ⟨.hbm, 234, rfl⟩
abbrev main_v226 : Ref sig .tc := ⟨.hbm, 235, rfl⟩
abbrev main_v227 : Ref sig .tc := ⟨.hbm, 236, rfl⟩
abbrev main_v228 : Ref sig .tc := ⟨.hbm, 237, rfl⟩
abbrev main_v229 : Ref sig .tc := ⟨.hbm, 238, rfl⟩
abbrev main_v230 : Ref sig .tc := ⟨.hbm, 239, rfl⟩
abbrev main_v231 : Ref sig .tc := ⟨.hbm, 240, rfl⟩
abbrev main_v232 : Ref sig .tc := ⟨.hbm, 241, rfl⟩
abbrev main_v233 : Ref sig .tc := ⟨.hbm, 242, rfl⟩
abbrev main_v234 : Ref sig .tc := ⟨.hbm, 243, rfl⟩
abbrev main_v235 : Ref sig .tc := ⟨.hbm, 244, rfl⟩
abbrev main_v236 : Ref sig .tc := ⟨.hbm, 245, rfl⟩
abbrev main_cst_5 : Ref sig .tc := ⟨.hbm, 246, rfl⟩
abbrev main_v237 : Ref sig .tc := ⟨.hbm, 247, rfl⟩
abbrev main_v238 : Ref sig .tc := ⟨.hbm, 248, rfl⟩
abbrev main_v239 : Ref sig .tc := ⟨.hbm, 249, rfl⟩
abbrev main_cst_6 : Ref sig .tc := ⟨.hbm, 250, rfl⟩
abbrev main_v240 : Ref sig .tc := ⟨.hbm, 251, rfl⟩
abbrev main_v241 : Ref sig .tc := ⟨.hbm, 252, rfl⟩
abbrev main_v242 : Ref sig .tc := ⟨.hbm, 253, rfl⟩
abbrev main_v243 : Ref sig .tc := ⟨.hbm, 254, rfl⟩
abbrev main_cst_7 : Ref sig .tc := ⟨.hbm, 255, rfl⟩
abbrev main_v244 : Ref sig .tc := ⟨.hbm, 256, rfl⟩
abbrev main_v245 : Ref sig .tc := ⟨.hbm, 257, rfl⟩
abbrev main_v246 : Ref sig .tc := ⟨.hbm, 258, rfl⟩
abbrev main_v247 : Ref sig .tc := ⟨.hbm, 259, rfl⟩
abbrev main_cst_8 : Ref sig .tc := ⟨.hbm, 260, rfl⟩
abbrev main_v248 : Ref sig .tc := ⟨.hbm, 261, rfl⟩
abbrev main_v249 : Ref sig .tc := ⟨.hbm, 262, rfl⟩
abbrev main_v250 : Ref sig .tc := ⟨.hbm, 263, rfl⟩
abbrev main_v251 : Ref sig .tc := ⟨.hbm, 264, rfl⟩
abbrev main_cst_9 : Ref sig .tc := ⟨.hbm, 265, rfl⟩
abbrev main_v252 : Ref sig .tc := ⟨.hbm, 266, rfl⟩
abbrev main_v253 : Ref sig .tc := ⟨.hbm, 267, rfl⟩
abbrev main_v254 : Ref sig .tc := ⟨.hbm, 268, rfl⟩
abbrev main_v255 : Ref sig .tc := ⟨.hbm, 269, rfl⟩
abbrev main_cst_10 : Ref sig .tc := ⟨.hbm, 270, rfl⟩
abbrev main_v256 : Ref sig .tc := ⟨.hbm, 271, rfl⟩
abbrev main_v257 : Ref sig .tc := ⟨.hbm, 272, rfl⟩
abbrev main_v258 : Ref sig .tc := ⟨.hbm, 273, rfl⟩
abbrev main_v259 : Ref sig .tc := ⟨.hbm, 274, rfl⟩
abbrev main_cst_11 : Ref sig .tc := ⟨.hbm, 275, rfl⟩
abbrev main_v260 : Ref sig .tc := ⟨.hbm, 276, rfl⟩
abbrev main_v261 : Ref sig .tc := ⟨.hbm, 277, rfl⟩
abbrev main_v262 : Ref sig .tc := ⟨.hbm, 278, rfl⟩
abbrev main_v263 : Ref sig .tc := ⟨.hbm, 279, rfl⟩
abbrev main_cst_12 : Ref sig .tc := ⟨.hbm, 280, rfl⟩
abbrev main_v264 : Ref sig .tc := ⟨.hbm, 281, rfl⟩
abbrev main_v265 : Ref sig .tc := ⟨.hbm, 282, rfl⟩
abbrev main_v266 : Ref sig .tc := ⟨.hbm, 283, rfl⟩
abbrev main_v267 : Ref sig .tc := ⟨.hbm, 284, rfl⟩
abbrev main_cst_13 : Ref sig .tc := ⟨.hbm, 285, rfl⟩
abbrev main_v268 : Ref sig .tc := ⟨.hbm, 286, rfl⟩
abbrev main_v269 : Ref sig .tc := ⟨.hbm, 287, rfl⟩
abbrev main_v270 : Ref sig .tc := ⟨.hbm, 288, rfl⟩
abbrev main_v271 : Ref sig .tc := ⟨.hbm, 289, rfl⟩
abbrev main_cst_14 : Ref sig .tc := ⟨.hbm, 290, rfl⟩
abbrev main_v272 : Ref sig .tc := ⟨.hbm, 291, rfl⟩
abbrev main_v273 : Ref sig .tc := ⟨.hbm, 292, rfl⟩
abbrev main_v274 : Ref sig .tc := ⟨.hbm, 293, rfl⟩
abbrev main_v275 : Ref sig .tc := ⟨.hbm, 294, rfl⟩
abbrev main_cst_15 : Ref sig .tc := ⟨.hbm, 295, rfl⟩
abbrev main_v276 : Ref sig .tc := ⟨.hbm, 296, rfl⟩
abbrev main_v277 : Ref sig .tc := ⟨.hbm, 297, rfl⟩
abbrev main_v278 : Ref sig .tc := ⟨.hbm, 298, rfl⟩
abbrev main_v279 : Ref sig .tc := ⟨.hbm, 299, rfl⟩
abbrev main_cst_16 : Ref sig .tc := ⟨.hbm, 300, rfl⟩
abbrev main_v280 : Ref sig .tc := ⟨.hbm, 301, rfl⟩
abbrev main_v281 : Ref sig .tc := ⟨.hbm, 302, rfl⟩
abbrev main_v282 : Ref sig .tc := ⟨.hbm, 303, rfl⟩
abbrev main_v283 : Ref sig .tc := ⟨.hbm, 304, rfl⟩
abbrev main_cst_17 : Ref sig .tc := ⟨.hbm, 305, rfl⟩
abbrev main_v284 : Ref sig .tc := ⟨.hbm, 306, rfl⟩
abbrev main_v285 : Ref sig .tc := ⟨.hbm, 307, rfl⟩
abbrev main_v286 : Ref sig .tc := ⟨.hbm, 308, rfl⟩
abbrev main_v287 : Ref sig .tc := ⟨.hbm, 309, rfl⟩
abbrev main_cst_18 : Ref sig .tc := ⟨.hbm, 310, rfl⟩
abbrev main_v288 : Ref sig .tc := ⟨.hbm, 311, rfl⟩
abbrev main_v289 : Ref sig .tc := ⟨.hbm, 312, rfl⟩
abbrev main_v290 : Ref sig .tc := ⟨.hbm, 313, rfl⟩
abbrev main_v291 : Ref sig .tc := ⟨.hbm, 314, rfl⟩
abbrev main_cst_19 : Ref sig .tc := ⟨.hbm, 315, rfl⟩
abbrev main_v292 : Ref sig .tc := ⟨.hbm, 316, rfl⟩
abbrev main_v293 : Ref sig .tc := ⟨.hbm, 317, rfl⟩
abbrev main_v294 : Ref sig .tc := ⟨.hbm, 318, rfl⟩
abbrev main_v295 : Ref sig .tc := ⟨.hbm, 319, rfl⟩
abbrev main_cst_20 : Ref sig .tc := ⟨.hbm, 320, rfl⟩
abbrev main_v296 : Ref sig .tc := ⟨.hbm, 321, rfl⟩
abbrev main_v297 : Ref sig .tc := ⟨.hbm, 322, rfl⟩
abbrev main_v298 : Ref sig .tc := ⟨.hbm, 323, rfl⟩
abbrev main_v299 : Ref sig .tc := ⟨.hbm, 324, rfl⟩
abbrev main_cst_21 : Ref sig .tc := ⟨.hbm, 325, rfl⟩
abbrev main_v300 : Ref sig .tc := ⟨.hbm, 326, rfl⟩
abbrev main_v301 : Ref sig .tc := ⟨.hbm, 327, rfl⟩
abbrev main_v302 : Ref sig .tc := ⟨.hbm, 328, rfl⟩
abbrev main_v303 : Ref sig .tc := ⟨.hbm, 329, rfl⟩
abbrev main_cst_22 : Ref sig .tc := ⟨.hbm, 330, rfl⟩
abbrev main_v304 : Ref sig .tc := ⟨.hbm, 331, rfl⟩
abbrev main_v305 : Ref sig .tc := ⟨.hbm, 332, rfl⟩
abbrev main_v306 : Ref sig .tc := ⟨.hbm, 333, rfl⟩
abbrev main_v307 : Ref sig .tc := ⟨.hbm, 334, rfl⟩
abbrev main_cst_23 : Ref sig .tc := ⟨.hbm, 335, rfl⟩
abbrev main_v308 : Ref sig .tc := ⟨.hbm, 336, rfl⟩
abbrev main_v309 : Ref sig .tc := ⟨.hbm, 337, rfl⟩
abbrev main_v310 : Ref sig .tc := ⟨.hbm, 338, rfl⟩
abbrev main_v311 : Ref sig .tc := ⟨.hbm, 339, rfl⟩
abbrev main_cst_24 : Ref sig .tc := ⟨.hbm, 340, rfl⟩
abbrev main_v312 : Ref sig .tc := ⟨.hbm, 341, rfl⟩
abbrev main_v313 : Ref sig .tc := ⟨.hbm, 342, rfl⟩
abbrev main_v314 : Ref sig .tc := ⟨.hbm, 343, rfl⟩
abbrev main_v315 : Ref sig .tc := ⟨.hbm, 344, rfl⟩
abbrev main_cst_25 : Ref sig .tc := ⟨.hbm, 345, rfl⟩
abbrev main_v316 : Ref sig .tc := ⟨.hbm, 346, rfl⟩
abbrev main_v317 : Ref sig .tc := ⟨.hbm, 347, rfl⟩
abbrev main_v318 : Ref sig .tc := ⟨.hbm, 348, rfl⟩
abbrev main_v319 : Ref sig .tc := ⟨.hbm, 349, rfl⟩
abbrev main_cst_26 : Ref sig .tc := ⟨.hbm, 350, rfl⟩
abbrev main_v320 : Ref sig .tc := ⟨.hbm, 351, rfl⟩
abbrev main_v321 : Ref sig .tc := ⟨.hbm, 352, rfl⟩
abbrev main_v322 : Ref sig .tc := ⟨.hbm, 353, rfl⟩
abbrev main_v323 : Ref sig .tc := ⟨.hbm, 354, rfl⟩
abbrev main_cst_27 : Ref sig .tc := ⟨.hbm, 355, rfl⟩
abbrev main_v324 : Ref sig .tc := ⟨.hbm, 356, rfl⟩
abbrev main_v325 : Ref sig .tc := ⟨.hbm, 357, rfl⟩
abbrev main_v326 : Ref sig .tc := ⟨.hbm, 358, rfl⟩
abbrev main_v327 : Ref sig .tc := ⟨.hbm, 359, rfl⟩
abbrev main_cst_28 : Ref sig .tc := ⟨.hbm, 360, rfl⟩
abbrev main_v328 : Ref sig .tc := ⟨.hbm, 361, rfl⟩
abbrev main_v329 : Ref sig .tc := ⟨.hbm, 362, rfl⟩
abbrev main_v330 : Ref sig .tc := ⟨.hbm, 363, rfl⟩
abbrev main_v331 : Ref sig .tc := ⟨.hbm, 364, rfl⟩
abbrev main_cst_29 : Ref sig .tc := ⟨.hbm, 365, rfl⟩
abbrev main_v332 : Ref sig .tc := ⟨.hbm, 366, rfl⟩
abbrev main_v333 : Ref sig .tc := ⟨.hbm, 367, rfl⟩
abbrev main_v334 : Ref sig .tc := ⟨.hbm, 368, rfl⟩
abbrev main_v335 : Ref sig .tc := ⟨.hbm, 369, rfl⟩
abbrev main_cst_30 : Ref sig .tc := ⟨.hbm, 370, rfl⟩
abbrev main_v336 : Ref sig .tc := ⟨.hbm, 371, rfl⟩
abbrev main_v337 : Ref sig .tc := ⟨.hbm, 372, rfl⟩
abbrev main_v338 : Ref sig .tc := ⟨.hbm, 373, rfl⟩
abbrev main_v339 : Ref sig .tc := ⟨.hbm, 374, rfl⟩
abbrev main_cst_31 : Ref sig .tc := ⟨.hbm, 375, rfl⟩
abbrev main_v340 : Ref sig .tc := ⟨.hbm, 376, rfl⟩
abbrev main_v341 : Ref sig .tc := ⟨.hbm, 377, rfl⟩
abbrev main_v342 : Ref sig .tc := ⟨.hbm, 378, rfl⟩
abbrev main_v343 : Ref sig .tc := ⟨.hbm, 379, rfl⟩
abbrev main_cst_32 : Ref sig .tc := ⟨.hbm, 380, rfl⟩
abbrev main_v344 : Ref sig .tc := ⟨.hbm, 381, rfl⟩
abbrev main_v345 : Ref sig .tc := ⟨.hbm, 382, rfl⟩
abbrev main_v346 : Ref sig .tc := ⟨.hbm, 383, rfl⟩
abbrev main_v347 : Ref sig .tc := ⟨.hbm, 384, rfl⟩
abbrev main_cst_33 : Ref sig .tc := ⟨.hbm, 385, rfl⟩
abbrev main_v348 : Ref sig .tc := ⟨.hbm, 386, rfl⟩
abbrev main_v349 : Ref sig .tc := ⟨.hbm, 387, rfl⟩
abbrev main_v350 : Ref sig .tc := ⟨.hbm, 388, rfl⟩
abbrev main_v351 : Ref sig .tc := ⟨.hbm, 389, rfl⟩
abbrev main_cst_34 : Ref sig .tc := ⟨.hbm, 390, rfl⟩
abbrev main_v352 : Ref sig .tc := ⟨.hbm, 391, rfl⟩
abbrev main_v353 : Ref sig .tc := ⟨.hbm, 392, rfl⟩
abbrev main_v354 : Ref sig .tc := ⟨.hbm, 393, rfl⟩
abbrev main_v355 : Ref sig .tc := ⟨.hbm, 394, rfl⟩
abbrev main_cst_35 : Ref sig .tc := ⟨.hbm, 395, rfl⟩
abbrev main_v356 : Ref sig .tc := ⟨.hbm, 396, rfl⟩
abbrev main_v357 : Ref sig .tc := ⟨.hbm, 397, rfl⟩
abbrev main_v358 : Ref sig .tc := ⟨.hbm, 398, rfl⟩
abbrev main_v359 : Ref sig .tc := ⟨.hbm, 399, rfl⟩
abbrev main_v360 : Ref sig .tc := ⟨.hbm, 400, rfl⟩
abbrev main_v361 : Ref sig .tc := ⟨.hbm, 401, rfl⟩
abbrev main_v362 : Ref sig .tc := ⟨.hbm, 402, rfl⟩

abbrev nD : Nat := 1
abbrev τ : Topo := Topo.v7x

variable {F : FTy → Type} [FloatOps F]
-- ==== S5DiscBwd.lean ====
abbrev S32x64 : Shape := ⟨2, ![32, 64]⟩
abbrev S32 : Shape := ⟨1, ![32]⟩
abbrev S32x64x16 : Shape := ⟨3, ![32, 64, 16]⟩
abbrev S32x1 : Shape := ⟨2, ![32, 1]⟩
abbrev S32x16x64 : Shape := ⟨3, ![32, 16, 64]⟩
abbrev S512x64 : Shape := ⟨2, ![512, 64]⟩
abbrev S32x1x64 : Shape := ⟨3, ![32, 1, 64]⟩

abbrev nBuf : Space → Nat
  | .hbm => 23
  | .vmem => 14
  | .smem => 0
  | _ => 0

abbrev bufTy : (tb : Table) → Fin (tcTables nBuf tb) → BufTy
  | .hbm, ⟨0, _⟩ => ⟨S32x64, .f32⟩
  | .hbm, ⟨1, _⟩ => ⟨S32x64, .f32⟩
  | .hbm, ⟨2, _⟩ => ⟨S32, .f32⟩
  | .hbm, ⟨3, _⟩ => ⟨S32x64x16, .f32⟩
  | .hbm, ⟨4, _⟩ => ⟨S32x64x16, .f32⟩
  | .hbm, ⟨5, _⟩ => ⟨S32x64, .f32⟩
  | .hbm, ⟨6, _⟩ => ⟨S32x64, .f32⟩
  | .hbm, ⟨7, _⟩ => ⟨S32x64x16, .f32⟩
  | .hbm, ⟨8, _⟩ => ⟨S32x64x16, .f32⟩
  | .hbm, ⟨9, _⟩ => ⟨S32x1, .f32⟩
  | .hbm, ⟨10, _⟩ => ⟨S32x16x64, .f32⟩
  | .hbm, ⟨11, _⟩ => ⟨S512x64, .f32⟩
  | .hbm, ⟨12, _⟩ => ⟨S32x16x64, .f32⟩
  | .hbm, ⟨13, _⟩ => ⟨S512x64, .f32⟩
  | .hbm, ⟨14, _⟩ => ⟨S32x16x64, .f32⟩
  | .hbm, ⟨15, _⟩ => ⟨S512x64, .f32⟩
  | .hbm, ⟨16, _⟩ => ⟨S32x16x64, .f32⟩
  | .hbm, ⟨17, _⟩ => ⟨S512x64, .f32⟩
  | .hbm, ⟨18, _⟩ => ⟨S32x64, .f32⟩
  | .hbm, ⟨19, _⟩ => ⟨S32x64, .f32⟩
  | .hbm, ⟨20, _⟩ => ⟨S32x1, .f32⟩
  | .hbm, ⟨21, _⟩ => ⟨S512x64, .f32⟩
  | .hbm, ⟨22, _⟩ => ⟨S512x64, .f32⟩
  | .local _ .vmem, ⟨0, _⟩ => ⟨S32x64, .f32⟩
  | .local _ .vmem, ⟨1, _⟩ => ⟨S32x64, .f32⟩
  | .local _ .vmem, ⟨2, _⟩ => ⟨S32x1, .f32⟩
  | .local _ .vmem, ⟨3, _⟩ => ⟨S512x64, .f32⟩
  | .local _ .vmem, ⟨4, _⟩ => ⟨S512x64, .f32⟩
  | .local _ .vmem, ⟨5, _⟩ => ⟨S32x64, .f32⟩
  | .local _ .vmem, ⟨6, _⟩ => ⟨S32x64, .f32⟩
  | .local _ .vmem, ⟨7, _⟩ => ⟨S512x64, .f32⟩
  | .local _ .vmem, ⟨8, _⟩ => ⟨S512x64, .f32⟩
  | .local _ .vmem, ⟨9, _⟩ => ⟨S32x64, .f32⟩
  | .local _ .vmem, ⟨10, _⟩ => ⟨S32x64, .f32⟩
  | .local _ .vmem, ⟨11, _⟩ => ⟨S32x1, .f32⟩
  | .local _ .vmem, ⟨12, _⟩ => ⟨S512x64, .f32⟩
  | .local _ .vmem, ⟨13, _⟩ => ⟨S512x64, .f32⟩
  | _, _ => ⟨S32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev main_v9_2 : Ref sig .tc := ⟨.hbm, 20, rfl⟩
abbrev main_v9_3 : Ref sig .tc := ⟨.hbm, 21, rfl⟩
abbrev main_v9_4 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S32x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S512x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S32x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S32x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S32x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S512x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S512x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== S5DiscBwdRefIdeal.lean ====
abbrev S32x64 : Shape := ⟨2, ![32, 64]⟩
abbrev S32 : Shape := ⟨1, ![32]⟩
abbrev S32x64x16 : Shape := ⟨3, ![32, 64, 16]⟩
abbrev S32x1 : Shape := ⟨2, ![32, 1]⟩
abbrev S_ : Shape := ⟨0, ![]⟩
abbrev S32x64x1 : Shape := ⟨3, ![32, 64, 1]⟩
abbrev S32x16x64 : Shape := ⟨3, ![32, 16, 64]⟩
abbrev S512x64 : Shape := ⟨2, ![512, 64]⟩

abbrev nBuf : Space → Nat
  | .hbm => 172
  | .vmem => 0
  | .smem => 0
  | _ => 0

abbrev hbmTy0_0 (i : Nat) : BufTy := match i % 128 with
  | 0 => ⟨S32x64, .f32⟩
  | 1 => ⟨S32x64, .f32⟩
  | 2 => ⟨S32, .f32⟩
  | 3 => ⟨S32x64x16, .f32⟩
  | 4 => ⟨S32x64x16, .f32⟩
  | 5 => ⟨S32x64, .f32⟩
  | 6 => ⟨S32x64, .f32⟩
  | 7 => ⟨S32x64x16, .f32⟩
  | 8 => ⟨S32x64x16, .f32⟩
  | 9 => ⟨S32, .f32⟩
  | 10 => ⟨S32x1, .f32⟩
  | 11 => ⟨S32x64, .f32⟩
  | 12 => ⟨S32x64, .f32⟩
  | 13 => ⟨S32x64, .f32⟩
  | 14 => ⟨S32x64, .f32⟩
  | 15 => ⟨S32x64, .f32⟩
  | 16 => ⟨S32x64, .f32⟩
  | 17 => ⟨S32x64, .f32⟩
  | 18 => ⟨S32x64, .f32⟩
  | 19 => ⟨S32x64, .f32⟩
  | 20 => ⟨S32x64, .f32⟩
  | 21 => ⟨S32x64, .f32⟩
  | 22 => ⟨S32x64, .f32⟩
  | 23 => ⟨S32x64, .f32⟩
  | 24 => ⟨S32x64, .f32⟩
  | 25 => ⟨S32x64, .f32⟩
  | 26 => ⟨S32x64, .f32⟩
  | 27 => ⟨S_, .f32⟩
  | 28 => ⟨S32x64, .f32⟩
  | 29 => ⟨S32x64, .f32⟩
  | 30 => ⟨S32x64, .f32⟩
  | 31 => ⟨S32x64, .f32⟩
  | 32 => ⟨S32x64, .f32⟩
  | 33 => ⟨S32x64, .f32⟩
  | 34 => ⟨S32x64, .f32⟩
  | 35 => ⟨S_, .f32⟩
  | 36 => ⟨S32x64, .f32⟩
  | 37 => ⟨S32x64, .f32⟩
  | 38 => ⟨S32x64, .f32⟩
  | 39 => ⟨S32x64, .f32⟩
  | 40 => ⟨S32x64, .f32⟩
  | 41 => ⟨S32x64, .f32⟩
  | 42 => ⟨S32x64, .f32⟩
  | 43 => ⟨S_, .f32⟩
  | 44 => ⟨S32x64, .f32⟩
  | 45 => ⟨S32x64, .f32⟩
  | 46 => ⟨S32x64x1, .f32⟩
  | 47 => ⟨S32x64x16, .f32⟩
  | 48 => ⟨S32x64x16, .f32⟩
  | 49 => ⟨S32x64x1, .f32⟩
  | 50 => ⟨S32x64x16, .f32⟩
  | 51 => ⟨S32x64x16, .f32⟩
  | 52 => ⟨S32x64x16, .f32⟩
  | 53 => ⟨S32x64x1, .f32⟩
  | 54 => ⟨S32x64x16, .f32⟩
  | 55 => ⟨S32x64x16, .f32⟩
  | 56 => ⟨S32x64x1, .f32⟩
  | 57 => ⟨S32x64x16, .f32⟩
  | 58 => ⟨S32x64x16, .f32⟩
  | 59 => ⟨S32x64x16, .f32⟩
  | 60 => ⟨S32x64x16, .f32⟩
  | 61 => ⟨S32x64x16, .f32⟩
  | 62 => ⟨S32x64x16, .f32⟩
  | 63 => ⟨S32x64x16, .f32⟩
  | 64 => ⟨S32x64x16, .f32⟩
  | 65 => ⟨S_, .f32⟩
  | 66 => ⟨S32x64, .f32⟩
  | 67 => ⟨S32x64x1, .f32⟩
  | 68 => ⟨S_, .f32⟩
  | 69 => ⟨S32x64, .f32⟩
  | 70 => ⟨S32x64x16, .f32⟩
  | 71 => ⟨S32x64x16, .f32⟩
  | 72 => ⟨S32x64x16, .f32⟩
  | 73 => ⟨S_, .f32⟩
  | 74 => ⟨S32x64, .f32⟩
  | 75 => ⟨S32x64x1, .f32⟩
  | 76 => ⟨S_, .f32⟩
  | 77 => ⟨S32x64, .f32⟩
  | 78 => ⟨S32x64x16, .f32⟩
  | 79 => ⟨S32x64x16, .f32⟩
  | 80 => ⟨S32x64x16, .f32⟩
  | 81 => ⟨S32x64x16, .f32⟩
  | 82 => ⟨S32x64x16, .f32⟩
  | 83 => ⟨S32x64x16, .f32⟩
  | 84 => ⟨S_, .f32⟩
  | 85 => ⟨S32x64, .f32⟩
  | 86 => ⟨S32x64x1, .f32⟩
  | 87 => ⟨S_, .f32⟩
  | 88 => ⟨S32x64, .f32⟩
  | 89 => ⟨S32x64, .f32⟩
  | 90 => ⟨S32x64x16, .f32⟩
  | 91 => ⟨S32x64x16, .f32⟩
  | 92 => ⟨S32x64x16, .f32⟩
  | 93 => ⟨S32x64x16, .f32⟩
  | 94 => ⟨S_, .f32⟩
  | 95 => ⟨S32x64, .f32⟩
  | 96 => ⟨S32x64x1, .f32⟩
  | 97 => ⟨S_, .f32⟩
  | 98 => ⟨S32x64, .f32⟩
  | 99 => ⟨S32x64, .f32⟩
  | 100 => ⟨S32x64, .f32⟩
  | 101 => ⟨S32x64, .f32⟩
  | 102 => ⟨S32x64, .f32⟩
  | 103 => ⟨S32x64, .f32⟩
  | 104 => ⟨S32x64, .f32⟩
  | 105 => ⟨S32x64, .f32⟩
  | 106 => ⟨S32x64, .f32⟩
  | 107 => ⟨S32x64, .f32⟩
  | 108 => ⟨S32x64, .f32⟩
  | 109 => ⟨S32x64, .f32⟩
  | 110 => ⟨S32x64, .f32⟩
  | 111 => ⟨S32x64, .f32⟩
  | 112 => ⟨S32x64, .f32⟩
  | 113 => ⟨S32x64, .f32⟩
  | 114 => ⟨S32x64, .f32⟩
  | 115 => ⟨S32x64, .f32⟩
  | 116 => ⟨S32x64, .f32⟩
  | 117 => ⟨S32x64, .f32⟩
  | 118 => ⟨S32x64, .f32⟩
  | 119 => ⟨S32x64, .f32⟩
  | 120 => ⟨S32x64, .f32⟩
  | 121 => ⟨S32x64, .f32⟩
  | 122 => ⟨S32x64, .f32⟩
  | 123 => ⟨S32x64, .f32⟩
  | 124 => ⟨S32x64, .f32⟩
  | 125 => ⟨S32x64, .f32⟩
  | 126 => ⟨S32x64, .f32⟩
  | 127 => ⟨S32x64, .f32⟩
  | _ => ⟨S32x64, .f32⟩

abbrev hbmTy0_1 (i : Nat) : BufTy := match i % 128 with
  | 0 => ⟨S32x64, .f32⟩
  | 1 => ⟨S32x64, .f32⟩
  | 2 => ⟨S32x64, .f32⟩
  | 3 => ⟨S32x64, .f32⟩
  | 4 => ⟨S32x64, .f32⟩
  | 5 => ⟨S32x64, .f32⟩
  | 6 => ⟨S32x64, .f32⟩
  | 7 => ⟨S32x64, .f32⟩
  | 8 => ⟨S_, .f32⟩
  | 9 => ⟨S32, .f32⟩
  | 10 => ⟨S32x1, .f32⟩
  | 11 => ⟨S32x64, .f32⟩
  | 12 => ⟨S32x64, .f32⟩
  | 13 => ⟨S32x64, .f32⟩
  | 14 => ⟨S32x64, .f32⟩
  | 15 => ⟨S32x64, .f32⟩
  | 16 => ⟨S32x64, .f32⟩
  | 17 => ⟨S32x64, .f32⟩
  | 18 => ⟨S32x64, .f32⟩
  | 19 => ⟨S32x64, .f32⟩
  | 20 => ⟨S_, .f32⟩
  | 21 => ⟨S32, .f32⟩
  | 22 => ⟨S32x1, .f32⟩
  | 23 => ⟨S32x1, .f32⟩
  | 24 => ⟨S32x64, .f32⟩
  | 25 => ⟨S32x64, .f32⟩
  | 26 => ⟨S32x64, .f32⟩
  | 27 => ⟨S32x64, .f32⟩
  | 28 => ⟨S32x64, .f32⟩
  | 29 => ⟨S_, .f32⟩
  | 30 => ⟨S32, .f32⟩
  | 31 => ⟨S32x1, .f32⟩
  | 32 => ⟨S32x1, .f32⟩
  | 33 => ⟨S32x64, .f32⟩
  | 34 => ⟨S32x64, .f32⟩
  | 35 => ⟨S32x64, .f32⟩
  | 36 => ⟨S_, .f32⟩
  | 37 => ⟨S32, .f32⟩
  | 38 => ⟨S32, .f32⟩
  | 39 => ⟨S32x1, .f32⟩
  | 40 => ⟨S32x16x64, .f32⟩
  | 41 => ⟨S512x64, .f32⟩
  | 42 => ⟨S32x16x64, .f32⟩
  | 43 => ⟨S512x64, .f32⟩
  | _ => ⟨S32x64, .f32⟩

abbrev hbmTy (i : Nat) : BufTy := match i / 128 with
  | 0 => hbmTy0_0 i
  | 1 => hbmTy0_1 i
  | _ => ⟨S32x64, .f32⟩

abbrev bufTy : (tb : Table) → Fin (tcTables nBuf tb) → BufTy
  | .hbm, ⟨i, _⟩ => hbmTy i
  | _, _ => ⟨S32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_0 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_1 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_cst_2 : Ref sig .tc := ⟨.hbm, 65, rfl⟩
abbrev main_v53 : Ref sig .tc := ⟨.hbm, 66, rfl⟩
abbrev main_v54 : Ref sig .tc := ⟨.hbm, 67, rfl⟩
abbrev main_cst_3 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_cst_4 : Ref sig .tc := ⟨.hbm, 73, rfl⟩
abbrev main_v59 : Ref sig .tc := ⟨.hbm, 74, rfl⟩
abbrev main_v60 : Ref sig .tc := ⟨.hbm, 75, rfl⟩
abbrev main_cst_5 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_cst_6 : Ref sig .tc := ⟨.hbm, 84, rfl⟩
abbrev main_v68 : Ref sig .tc := ⟨.hbm, 85, rfl⟩
abbrev main_v69 : Ref sig .tc := ⟨.hbm, 86, rfl⟩
abbrev main_cst_7 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_cst_8 : Ref sig .tc := ⟨.hbm, 94, rfl⟩
abbrev main_v76 : Ref sig .tc := ⟨.hbm, 95, rfl⟩
abbrev main_v77 : Ref sig .tc := ⟨.hbm, 96, rfl⟩
abbrev main_cst_9 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_cst_10 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_cst_11 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_cst_12 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_cst_13 : Ref sig .tc := ⟨.hbm, 164, rfl⟩
abbrev main_v141 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩

abbrev nD : Nat := 1
abbrev τ : Topo := Topo.v7x

variable {F : FTy → Type} [FloatOps F]
-- ==== EvOutBwd.lean ====
abbrev S8192x1024 : Shape := ⟨2, ![8192, 1024]⟩
abbrev S8192x128 : Shape := ⟨2, ![8192, 128]⟩
abbrev S8192x512 : Shape := ⟨2, ![8192, 512]⟩
abbrev S8192x2560 : Shape := ⟨2, ![8192, 2560]⟩
abbrev S512 : Shape := ⟨1, ![512]⟩
abbrev S512x512 : Shape := ⟨2, ![512, 512]⟩
abbrev S1024x1024 : Shape := ⟨2, ![1024, 1024]⟩
abbrev S1x512 : Shape := ⟨2, ![1, 512]⟩
abbrev S512x1024 : Shape := ⟨2, ![512, 1024]⟩
abbrev S512x128 : Shape := ⟨2, ![512, 128]⟩
abbrev S512x1 : Shape := ⟨2, ![512, 1]⟩

abbrev nBuf : Space → Nat
  | .hbm => 24
  | .vmem => 34
  | .smem => 0
  | _ => 0

abbrev bufTy : (tb : Table) → Fin (tcTables nBuf tb) → BufTy
  | .hbm, ⟨0, _⟩ => ⟨S8192x1024, .f32⟩
  | .hbm, ⟨1, _⟩ => ⟨S8192x128, .f32⟩
  | .hbm, ⟨2, _⟩ => ⟨S8192x128, .f32⟩
  | .hbm, ⟨3, _⟩ => ⟨S8192x128, .f32⟩
  | .hbm, ⟨4, _⟩ => ⟨S8192x128, .f32⟩
  | .hbm, ⟨5, _⟩ => ⟨S8192x512, .f32⟩
  | .hbm, ⟨6, _⟩ => ⟨S8192x2560, .f32⟩
  | .hbm, ⟨7, _⟩ => ⟨S512, .f32⟩
  | .hbm, ⟨8, _⟩ => ⟨S512, .f32⟩
  | .hbm, ⟨9, _⟩ => ⟨S512, .f32⟩
  | .hbm, ⟨10, _⟩ => ⟨S512x512, .bf16⟩
  | .hbm, ⟨11, _⟩ => ⟨S1024x1024, .bf16⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S8192x512, .f32⟩
  | .hbm, ⟨16, _⟩ => ⟨S8192x512, .f32⟩
  | .hbm, ⟨17, _⟩ => ⟨S8192x512, .f32⟩
  | .hbm, ⟨18, _⟩ => ⟨S8192x512, .f32⟩
  | .hbm, ⟨19, _⟩ => ⟨S1x512, .f32⟩
  | .hbm, ⟨20, _⟩ => ⟨S1x512, .f32⟩
  | .hbm, ⟨21, _⟩ => ⟨S1x512, .f32⟩
  | .hbm, ⟨22, _⟩ => ⟨S512x512, .f32⟩
  | .hbm, ⟨23, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S1x512, .f32⟩
  | .local _ .vmem, ⟨17, _⟩ => ⟨S1x512, .f32⟩
  | .local _ .vmem, ⟨18, _⟩ => ⟨S1x512, .f32⟩
  | .local _ .vmem, ⟨19, _⟩ => ⟨S512x512, .bf16⟩
  | .local _ .vmem, ⟨20, _⟩ => ⟨S1024x1024, .bf16⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S512x512, .f32⟩
  | .local _ .vmem, ⟨25, _⟩ => ⟨S512x512, .f32⟩
  | .local _ .vmem, ⟨26, _⟩ => ⟨S512x512, .f32⟩
  | .local _ .vmem, ⟨27, _⟩ => ⟨S512x512, .f32⟩
  | .local _ .vmem, ⟨28, _⟩ => ⟨S512x512, .f32⟩
  | .local _ .vmem, ⟨29, _⟩ => ⟨S1x512, .f32⟩
  | .local _ .vmem, ⟨30, _⟩ => ⟨S1x512, .f32⟩
  | .local _ .vmem, ⟨31, _⟩ => ⟨S1x512, .f32⟩
  | .local _ .vmem, ⟨32, _⟩ => ⟨S512x512, .f32⟩
  | .local _ .vmem, ⟨33, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3_0 : Ref sig .tc := ⟨.hbm, 15, rfl⟩
abbrev main_v3_1 : Ref sig .tc := ⟨.hbm, 16, rfl⟩
abbrev main_v3_2 : Ref sig .tc := ⟨.hbm, 17, rfl⟩
abbrev main_v3_3 : Ref sig .tc := ⟨.hbm, 18, rfl⟩
abbrev main_v3_4 : Ref sig .tc := ⟨.hbm, 19, rfl⟩
abbrev main_v3_5 : Ref sig .tc := ⟨.hbm, 20, rfl⟩
abbrev main_v3_6 : Ref sig .tc := ⟨.hbm, 21, rfl⟩
abbrev main_v3_7 : Ref sig .tc := ⟨.hbm, 22, rfl⟩
abbrev main_v3_8 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg18_0 : Ref sig .tc := ⟨.vmem, 30, rfl⟩
abbrev cc0_stg19_0 : Ref sig .tc := ⟨.vmem, 31, rfl⟩
abbrev cc0_stg20_0 : Ref sig .tc := ⟨.vmem, 32, rfl⟩
abbrev cc0_stg21_0 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem18_0 : DmaSem sig := 30
abbrev cc0_sem19_0 : DmaSem sig := 31
abbrev cc0_sem20_0 : DmaSem sig := 32
abbrev cc0_sem21_0 : DmaSem sig := 33

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S512x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1024x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]
-- ==== EvOutBwdRefIdeal.lean ====
abbrev S8192x1024 : Shape := ⟨2, ![8192, 1024]⟩
abbrev S8192x128 : Shape := ⟨2, ![8192, 128]⟩
abbrev S8192x512 : Shape := ⟨2, ![8192, 512]⟩
abbrev S8192x2560 : Shape := ⟨2, ![8192, 2560]⟩
abbrev S512 : Shape := ⟨1, ![512]⟩
abbrev S512x512 : Shape := ⟨2, ![512, 512]⟩
abbrev S1024x1024 : Shape := ⟨2, ![1024, 1024]⟩
abbrev S_ : Shape := ⟨0, ![]⟩
abbrev S1x512 : Shape := ⟨2, ![1, 512]⟩
abbrev S8192 : Shape := ⟨1, ![8192]⟩
abbrev S8192x1 : Shape := ⟨2, ![8192, 1]⟩

abbrev nBuf : Space → Nat
  | .hbm => 236
  | .vmem => 0
  | .smem => 0
  | _ => 0

abbrev hbmTy0_0 (i : Nat) : BufTy := match i % 128 with
  | 0 => ⟨S8192x1024, .f32⟩
  | 1 => ⟨S8192x128, .f32⟩
  | 2 => ⟨S8192x128, .f32⟩
  | 3 => ⟨S8192x128, .f32⟩
  | 4 => ⟨S8192x128, .f32⟩
  | 5 => ⟨S8192x512, .f32⟩
  | 6 => ⟨S8192x2560, .f32⟩
  | 7 => ⟨S512, .f32⟩
  | 8 => ⟨S512, .f32⟩
  | 9 => ⟨S512, .f32⟩
  | 10 => ⟨S512x512, .bf16⟩
  | 11 => ⟨S1024x1024, .bf16⟩
  | 12 => ⟨S8192x512, .f32⟩
  | 13 => ⟨S8192x512, .f32⟩
  | 14 => ⟨S8192x512, .f32⟩
  | 15 => ⟨S512x512, .f32⟩
  | 16 => ⟨S1024x1024, .f32⟩
  | 17 => ⟨S8192x512, .f32⟩
  | 18 => ⟨S8192x512, .f32⟩
  | 19 => ⟨S8192x512, .f32⟩
  | 20 => ⟨S_, .f32⟩
  | 21 => ⟨S8192x512, .f32⟩
  | 22 => ⟨S8192x512, .f32⟩
  | 23 => ⟨S_, .f32⟩
  | 24 => ⟨S8192x512, .f32⟩
  | 25 => ⟨S8192x512, .f32⟩
  | 26 => ⟨S8192x512, .f32⟩
  | 27 => ⟨S_, .f32⟩
  | 28 => ⟨S8192x512, .f32⟩
  | 29 => ⟨S8192x512, .f32⟩
  | 30 => ⟨S8192x512, .f32⟩
  | 31 => ⟨S_, .f32⟩
  | 32 => ⟨S8192x512, .f32⟩
  | 33 => ⟨S8192x512, .f32⟩
  | 34 => ⟨S_, .f32⟩
  | 35 => ⟨S8192x512, .f32⟩
  | 36 => ⟨S8192x512, .f32⟩
  | 37 => ⟨S8192x512, .f32⟩
  | 38 => ⟨S_, .f32⟩
  | 39 => ⟨S8192x512, .f32⟩
  | 40 => ⟨S8192x512, .f32⟩
  | 41 => ⟨S_, .f32⟩
  | 42 => ⟨S8192x512, .f32⟩
  | 43 => ⟨S8192x512, .f32⟩
  | 44 => ⟨S8192x512, .f32⟩
  | 45 => ⟨S8192x512, .f32⟩
  | 46 => ⟨S1x512, .f32⟩
  | 47 => ⟨S8192x512, .f32⟩
  | 48 => ⟨S8192x512, .f32⟩
  | 49 => ⟨S8192x512, .f32⟩
  | 50 => ⟨S8192x512, .f32⟩
  | 51 => ⟨S_, .f32⟩
  | 52 => ⟨S8192x512, .f32⟩
  | 53 => ⟨S8192x512, .f32⟩
  | 54 => ⟨S_, .f32⟩
  | 55 => ⟨S8192x512, .f32⟩
  | 56 => ⟨S8192x512, .f32⟩
  | 57 => ⟨S_, .f32⟩
  | 58 => ⟨S8192x512, .f32⟩
  | 59 => ⟨S8192x512, .f32⟩
  | 60 => ⟨S8192x512, .f32⟩
  | 61 => ⟨S8192x512, .f32⟩
  | 62 => ⟨S8192x512, .f32⟩
  | 63 => ⟨S8192x512, .f32⟩
  | 64 => ⟨S_, .f32⟩
  | 65 => ⟨S8192x512, .f32⟩
  | 66 => ⟨S8192x512, .f32⟩
  | 67 => ⟨S_, .f32⟩
  | 68 => ⟨S8192x512, .f32⟩
  | 69 => ⟨S8192x512, .f32⟩
  | 70 => ⟨S_, .f32⟩
  | 71 => ⟨S8192x512, .f32⟩
  | 72 => ⟨S8192x512, .f32⟩
  | 73 => ⟨S8192x512, .f32⟩
  | 74 => ⟨S8192x512, .f32⟩
  | 75 => ⟨S8192x512, .f32⟩
  | 76 => ⟨S_, .f32⟩
  | 77 => ⟨S8192, .f32⟩
  | 78 => ⟨S8192x1, .f32⟩
  | 79 => ⟨S_, .f32⟩
  | 80 => ⟨S8192x1, .f32⟩
  | 81 => ⟨S8192x1, .f32⟩
  | 82 => ⟨S8192x512, .f32⟩
  | 83 => ⟨S8192x512, .f32⟩
  | 84 => ⟨S8192x512, .f32⟩
  | 85 => ⟨S_, .f32⟩
  | 86 => ⟨S8192x512, .f32⟩
  | 87 => ⟨S8192x512, .f32⟩
  | 88 => ⟨S_, .f32⟩
  | 89 => ⟨S8192, .f32⟩
  | 90 => ⟨S8192x1, .f32⟩
  | 91 => ⟨S_, .f32⟩
  | 92 => ⟨S8192x1, .f32⟩
  | 93 => ⟨S8192x1, .f32⟩
  | 94 => ⟨S8192x512, .f32⟩
  | 95 => ⟨S8192x512, .f32⟩
  | 96 => ⟨S_, .f32⟩
  | 97 => ⟨S8192x1, .f32⟩
  | 98 => ⟨S8192x1, .f32⟩
  | 99 => ⟨S8192x1, .f32⟩
  | 100 => ⟨S8192x1, .f32⟩
  | 101 => ⟨S_, .f32⟩
  | 102 => ⟨S8192x1, .f32⟩
  | 103 => ⟨S8192x1, .f32⟩
  | 104 => ⟨S8192x512, .f32⟩
  | 105 => ⟨S8192x512, .f32⟩
  | 106 => ⟨S1x512, .f32⟩
  | 107 => ⟨S8192x512, .f32⟩
  | 108 => ⟨S8192x512, .f32⟩
  | 109 => ⟨S1x512, .f32⟩
  | 110 => ⟨S8192x512, .f32⟩
  | 111 => ⟨S8192x512, .f32⟩
  | 112 => ⟨S8192x512, .f32⟩
  | 113 => ⟨S8192x512, .f32⟩
  | 114 => ⟨S_, .f32⟩
  | 115 => ⟨S8192x512, .f32⟩
  | 116 => ⟨S8192x512, .f32⟩
  | 117 => ⟨S_, .f32⟩
  | 118 => ⟨S8192x512, .f32⟩
  | 119 => ⟨S8192x512, .f32⟩
  | 120 => ⟨S_, .f32⟩
  | 121 => ⟨S8192x512, .f32⟩
  | 122 => ⟨S8192x512, .f32⟩
  | 123 => ⟨S8192x512, .f32⟩
  | 124 => ⟨S8192x512, .f32⟩
  | 125 => ⟨S8192x512, .f32⟩
  | 126 => ⟨S8192x512, .f32⟩
  | 127 => ⟨S_, .f32⟩
  | _ => ⟨S8192x1024, .f32⟩

abbrev hbmTy0_1 (i : Nat) : BufTy := match i % 128 with
  | 0 => ⟨S8192x512, .f32⟩
  | 1 => ⟨S8192x512, .f32⟩
  | 2 => ⟨S_, .f32⟩
  | 3 => ⟨S8192x512, .f32⟩
  | 4 => ⟨S8192x512, .f32⟩
  | 5 => ⟨S_, .f32⟩
  | 6 => ⟨S8192x512, .f32⟩
  | 7 => ⟨S8192x512, .f32⟩
  | 8 => ⟨S8192x512, .f32⟩
  | 9 => ⟨S8192x512, .f32⟩
  | 10 => ⟨S8192x512, .f32⟩
  | 11 => ⟨S8192x1024, .f32⟩
  | 12 => ⟨S8192x1024, .f32⟩
  | 13 => ⟨S1024x1024, .f32⟩
  | 14 => ⟨S1024x1024, .f32⟩
  | 15 => ⟨S8192x1024, .f32⟩
  | 16 => ⟨S8192x512, .f32⟩
  | 17 => ⟨S8192x512, .f32⟩
  | 18 => ⟨S8192x512, .f32⟩
  | 19 => ⟨S8192x512, .f32⟩
  | 20 => ⟨S8192x512, .f32⟩
  | 21 => ⟨S8192x512, .f32⟩
  | 22 => ⟨S8192x512, .f32⟩
  | 23 => ⟨S8192x512, .f32⟩
  | 24 => ⟨S8192x512, .f32⟩
  | 25 => ⟨S8192x512, .f32⟩
  | 26 => ⟨S8192x512, .f32⟩
  | 27 => ⟨S8192x512, .f32⟩
  | 28 => ⟨S_, .f32⟩
  | 29 => ⟨S512, .f32⟩
  | 30 => ⟨S1x512, .f32⟩
  | 31 => ⟨S_, .f32⟩
  | 32 => ⟨S512, .f32⟩
  | 33 => ⟨S8192x512, .f32⟩
  | 34 => ⟨S_, .f32⟩
  | 35 => ⟨S512, .f32⟩
  | 36 => ⟨S1x512, .f32⟩
  | 37 => ⟨S8192x512, .f32⟩
  | 38 => ⟨S8192x512, .f32⟩
  | 39 => ⟨S_, .f32⟩
  | 40 => ⟨S512, .f32⟩
  | 41 => ⟨S8192x512, .f32⟩
  | 42 => ⟨S_, .f32⟩
  | 43 => ⟨S8192, .f32⟩
  | 44 => ⟨S8192x1, .f32⟩
  | 45 => ⟨S8192x512, .f32⟩
  | 46 => ⟨S8192x512, .f32⟩
  | 47 => ⟨S8192x1, .f32⟩
  | 48 => ⟨S8192x512, .f32⟩
  | 49 => ⟨S_, .f32⟩
  | 50 => ⟨S8192, .f32⟩
  | 51 => ⟨S8192x1, .f32⟩
  | 52 => ⟨S_, .f32⟩
  | 53 => ⟨S8192x1, .f32⟩
  | 54 => ⟨S8192x1, .f32⟩
  | 55 => ⟨S_, .f32⟩
  | 56 => ⟨S8192, .f32⟩
  | 57 => ⟨S8192x512, .f32⟩
  | 58 => ⟨S8192x512, .f32⟩
  | 59 => ⟨S8192x512, .f32⟩
  | 60 => ⟨S_, .f32⟩
  | 61 => ⟨S8192, .f32⟩
  | 62 => ⟨S8192x1, .f32⟩
  | 63 => ⟨S8192x512, .f32⟩
  | 64 => ⟨S8192x1, .f32⟩
  | 65 => ⟨S_, .f32⟩
  | 66 => ⟨S8192x1, .f32⟩
  | 67 => ⟨S8192x1, .f32⟩
  | 68 => ⟨S_, .f32⟩
  | 69 => ⟨S8192, .f32⟩
  | 70 => ⟨S8192x512, .f32⟩
  | 71 => ⟨S8192x512, .f32⟩
  | 72 => ⟨S8192x512, .f32⟩
  | 73 => ⟨S8192x512, .f32⟩
  | 74 => ⟨S8192x512, .f32⟩
  | 75 => ⟨S8192x512, .f32⟩
  | 76 => ⟨S8192x512, .f32⟩
  | 77 => ⟨S8192x512, .f32⟩
  | 78 => ⟨S8192x512, .f32⟩
  | 79 => ⟨S8192x512, .f32⟩
  | 80 => ⟨S8192x512, .f32⟩
  | 81 => ⟨S_, .f32⟩
  | 82 => ⟨S512, .f32⟩
  | 83 => ⟨S1x512, .f32⟩
  | 84 => ⟨S_, .f32⟩
  | 85 => ⟨S512, .f32⟩
  | 86 => ⟨S512x512, .f32⟩
  | 87 => ⟨S512x512, .f32⟩
  | 88 => ⟨S8192x512, .f32⟩
  | 89 => ⟨S8192x512, .f32⟩
  | 90 => ⟨S8192x512, .f32⟩
  | 91 => ⟨S8192x512, .f32⟩
  | 92 => ⟨S_, .f32⟩
  | 93 => ⟨S8192x512, .f32⟩
  | 94 => ⟨S8192x512, .f32⟩
  | 95 => ⟨S8192x512, .f32⟩
  | 96 => ⟨S_, .f32⟩
  | 97 => ⟨S8192x512, .f32⟩
  | 98 => ⟨S8192x512, .f32⟩
  | 99 => ⟨S8192x512, .f32⟩
  | 100 => ⟨S_, .f32⟩
  | 101 => ⟨S8192x512, .f32⟩
  | 102 => ⟨S8192x512, .f32⟩
  | 103 => ⟨S8192x512, .f32⟩
  | 104 => ⟨S8192x512, .f32⟩
  | 105 => ⟨S1x512, .f32⟩
  | 106 => ⟨S1x512, .f32⟩
  | 107 => ⟨S1x512, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_4 : Ref sig .tc := ⟨.hbm, 38, rfl⟩
abbrev main_v21 : Ref sig .tc := ⟨.hbm, 39, rfl⟩
abbrev main_v22 : Ref sig .tc := ⟨.hbm, 40, rfl⟩
abbrev main_cst_5 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_6 : Ref sig .tc := ⟨.hbm, 51, rfl⟩
abbrev main_v32 : Ref sig .tc := ⟨.hbm, 52, rfl⟩
abbrev main_v33 : Ref sig .tc := ⟨.hbm, 53, rfl⟩
abbrev main_cst_7 : Ref sig .tc := ⟨.hbm, 54, rfl⟩
abbrev main_v34 : Ref sig .tc := ⟨.hbm, 55, rfl⟩
abbrev main_v35 : Ref sig .tc := ⟨.hbm, 56, rfl⟩
abbrev main_cst_8 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_call0_v0 : Ref sig .tc := ⟨.hbm, 62, rfl⟩
abbrev main_call0_v1 : Ref sig .tc := ⟨.hbm, 63, rfl⟩
abbrev main_call0_cst : Ref sig .tc := ⟨.hbm, 64, rfl⟩
abbrev main_call0_v2 : Ref sig .tc := ⟨.hbm, 65, rfl⟩
abbrev main_call0_v3 : Ref sig .tc := ⟨.hbm, 66, rfl⟩
abbrev main_call0_cst_0 : Ref sig .tc := ⟨.hbm, 67, rfl⟩
abbrev main_call0_v4 : Ref sig .tc := ⟨.hbm, 68, rfl⟩
abbrev main_v40_2 : Ref sig .tc := ⟨.hbm, 69, rfl⟩
abbrev main_call0_cst_1 : Ref sig .tc := ⟨.hbm, 70, rfl⟩
abbrev main_call0_v6 : Ref sig .tc := ⟨.hbm, 71, rfl⟩
abbrev main_call0_v7 : Ref sig .tc := ⟨.hbm, 72, rfl⟩
abbrev main_v40_1 : Ref sig .tc := ⟨.hbm, 73, rfl⟩
abbrev main_v40_0 : Ref sig .tc := ⟨.hbm, 74, rfl⟩
abbrev main_v41 : Ref sig .tc := ⟨.hbm, 75, rfl⟩
abbrev main_cst_9 : Ref sig .tc := ⟨.hbm, 76, rfl⟩
abbrev main_v42 : Ref sig .tc := ⟨.hbm, 77, rfl⟩
abbrev main_v43 : Ref sig .tc := ⟨.hbm, 78, rfl⟩
abbrev main_cst_10 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_cst_11 : Ref sig .tc := ⟨.hbm, 85, rfl⟩
abbrev main_v49 : Ref sig .tc := ⟨.hbm, 86, rfl⟩
abbrev main_v50 : Ref sig .tc := ⟨.hbm, 87, rfl⟩
abbrev main_cst_12 : Ref sig .tc := ⟨.hbm, 88, rfl⟩
abbrev main_v51 : Ref sig .tc := ⟨.hbm, 89, rfl⟩
abbrev main_v52 : Ref sig .tc := ⟨.hbm, 90, rfl⟩
abbrev main_cst_13 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_cst_14 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_cst_15 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_call1_v0 : Ref sig .tc := ⟨.hbm, 112, rfl⟩
abbrev main_call1_v1 : Ref sig .tc := ⟨.hbm, 113, rfl⟩
abbrev main_call1_cst : Ref sig .tc := ⟨.hbm, 114, rfl⟩
abbrev main_call1_v2 : Ref sig .tc := ⟨.hbm, 115, rfl⟩
abbrev main_call1_v3 : Ref sig .tc := ⟨.hbm, 116, rfl⟩
abbrev main_call1_cst_0 : Ref sig .tc := ⟨.hbm, 117, rfl⟩
abbrev main_call1_v4 : Ref sig .tc := ⟨.hbm, 118, rfl⟩
abbrev main_v71_2 : Ref sig .tc := ⟨.hbm, 119, rfl⟩
abbrev main_call1_cst_1 : Ref sig .tc := ⟨.hbm, 120, rfl⟩
abbrev main_call1_v6 : Ref sig .tc := ⟨.hbm, 121, rfl⟩
abbrev main_call1_v7 : Ref sig .tc := ⟨.hbm, 122, rfl⟩
abbrev main_v71_1 : Ref sig .tc := ⟨.hbm, 123, rfl⟩
abbrev main_v71_0 : Ref sig .tc := ⟨.hbm, 124, rfl⟩
abbrev main_call2_v0 : Ref sig .tc := ⟨.hbm, 125, rfl⟩
abbrev main_call2_v1 : Ref sig .tc := ⟨.hbm, 126, rfl⟩
abbrev main_call2_cst : Ref sig .tc := ⟨.hbm, 127, rfl⟩
abbrev main_call2_v2 : Ref sig .tc := ⟨.hbm, 128, rfl⟩
abbrev main_call2_v3 : Ref sig .tc := ⟨.hbm, 129, rfl⟩
abbrev main_call2_cst_0 : Ref sig .tc := ⟨.hbm, 130, rfl⟩
abbrev main_call2_v4 : Ref sig .tc := ⟨.hbm, 131, rfl⟩
abbrev main_v72_2 : Ref sig .tc := ⟨.hbm, 132, rfl⟩
abbrev main_call2_cst_1 : Ref sig .tc := ⟨.hbm, 133, rfl⟩
abbrev main_call2_v6 : Ref sig .tc := ⟨.hbm, 134, rfl⟩
abbrev main_call2_v7 : Ref sig .tc := ⟨.hbm, 135, rfl⟩
abbrev main_v72_1 : Ref sig .tc := ⟨.hbm, 136, rfl⟩
abbrev main_v72_0 : Ref sig .tc := ⟨.hbm, 137, rfl⟩
abbrev main_v73 : Ref sig .tc := ⟨.hbm, 138, rfl⟩
abbrev main_v74 : Ref sig .tc := ⟨.hbm, 139, rfl⟩
abbrev main_v75 : Ref sig .tc := ⟨.hbm, 140, rfl⟩
abbrev main_v76 : Ref sig .tc := ⟨.hbm, 141, rfl⟩
abbrev main_v77 : Ref sig .tc := ⟨.hbm, 142, rfl⟩
abbrev main_v78 : Ref sig .tc := ⟨.hbm, 143, rfl⟩
abbrev main_v79 : Ref sig .tc := ⟨.hbm, 144, rfl⟩
abbrev main_v80 : Ref sig .tc := ⟨.hbm, 145, rfl⟩
abbrev main_v81 : Ref sig .tc := ⟨.hbm, 146, rfl⟩
abbrev main_v82 : Ref sig .tc := ⟨.hbm, 147, rfl⟩
abbrev main_call3_v0 : Ref sig .tc := ⟨.hbm, 148, rfl⟩
abbrev main_call3_v1 : Ref sig .tc := ⟨.hbm, 149, rfl⟩
abbrev main_call3_v2 : Ref sig .tc := ⟨.hbm, 150, rfl⟩
abbrev main_v83 : Ref sig .tc := ⟨.hbm, 151, rfl⟩
abbrev main_call4_v0 : Ref sig .tc := ⟨.hbm, 152, rfl⟩
abbrev main_call4_v1 : Ref sig .tc := ⟨.hbm, 153, rfl⟩
abbrev main_call4_v2 : Ref sig .tc := ⟨.hbm, 154, rfl⟩
abbrev main_v84 : Ref sig .tc := ⟨.hbm, 155, rfl⟩
abbrev main_cst_16 : Ref sig .tc := ⟨.hbm, 156, rfl⟩
abbrev main_v85 : Ref sig .tc := ⟨.hbm, 157, rfl⟩
abbrev main_v86 : Ref sig .tc := ⟨.hbm, 158, rfl⟩
abbrev main_cst_17 : Ref sig .tc := ⟨.hbm, 159, rfl⟩
abbrev main_v87 : Ref sig .tc := ⟨.hbm, 160, rfl⟩
abbrev main_v88 : Ref sig .tc := ⟨.hbm, 161, rfl⟩
abbrev main_cst_18 : Ref sig .tc := ⟨.hbm, 162, rfl⟩
abbrev main_v89 : Ref sig .tc := ⟨.hbm, 163, rfl⟩
abbrev main_v90 : Ref sig .tc := ⟨.hbm, 164, rfl⟩
abbrev main_v91 : Ref sig .tc := ⟨.hbm, 165, rfl⟩
abbrev main_v92 : Ref sig .tc := ⟨.hbm, 166, rfl⟩
abbrev main_cst_19 : Ref sig .tc := ⟨.hbm, 167, rfl⟩
abbrev main_v93 : Ref sig .tc := ⟨.hbm, 168, rfl⟩
abbrev main_v94 : Ref sig .tc := ⟨.hbm, 169, rfl⟩
abbrev main_cst_20 : Ref sig .tc := ⟨.hbm, 170, rfl⟩
abbrev main_v95 : Ref sig .tc := ⟨.hbm, 171, rfl⟩
abbrev main_v96 : Ref sig .tc := ⟨.hbm, 172, rfl⟩
abbrev main_v97 : Ref sig .tc := ⟨.hbm, 173, rfl⟩
abbrev main_v98 : Ref sig .tc := ⟨.hbm, 174, rfl⟩
abbrev main_v99 : Ref sig .tc := ⟨.hbm, 175, rfl⟩
abbrev main_v100 : Ref sig .tc := ⟨.hbm, 176, rfl⟩
abbrev main_cst_21 : Ref sig .tc := ⟨.hbm, 177, rfl⟩
abbrev main_v101 : Ref sig .tc := ⟨.hbm, 178, rfl⟩
abbrev main_v102 : Ref sig .tc := ⟨.hbm, 179, rfl⟩
abbrev main_cst_22 : Ref sig .tc := ⟨.hbm, 180, rfl⟩
abbrev main_v103 : Ref sig .tc := ⟨.hbm, 181, rfl⟩
abbrev main_v104 : Ref sig .tc := ⟨.hbm, 182, rfl⟩
abbrev main_cst_23 : Ref sig .tc := ⟨.hbm, 183, rfl⟩
abbrev main_v105 : Ref sig .tc := ⟨.hbm, 184, rfl⟩
abbrev main_v106 : Ref sig .tc := ⟨.hbm, 185, rfl⟩
abbrev main_v107 : Ref sig .tc := ⟨.hbm, 186, rfl⟩
abbrev main_v108 : Ref sig .tc := ⟨.hbm, 187, rfl⟩
abbrev main_cst_24 : Ref sig .tc := ⟨.hbm, 188, rfl⟩
abbrev main_v109 : Ref sig .tc := ⟨.hbm, 189, rfl⟩
abbrev main_v110 : Ref sig .tc := ⟨.hbm, 190, rfl⟩
abbrev main_v111 : Ref sig .tc := ⟨.hbm, 191, rfl⟩
abbrev main_v112 : Ref sig .tc := ⟨.hbm, 192, rfl⟩
abbrev main_cst_25 : Ref sig .tc := ⟨.hbm, 193, rfl⟩
abbrev main_v113 : Ref sig .tc := ⟨.hbm, 194, rfl⟩
abbrev main_v114 : Ref sig .tc := ⟨.hbm, 195, rfl⟩
abbrev main_cst_26 : Ref sig .tc := ⟨.hbm, 196, rfl⟩
abbrev main_v115 : Ref sig .tc := ⟨.hbm, 197, rfl⟩
abbrev main_v116 : Ref sig .tc := ⟨.hbm, 198, rfl⟩
abbrev main_v117 : Ref sig .tc := ⟨.hbm, 199, rfl⟩
abbrev main_v118 : Ref sig .tc := ⟨.hbm, 200, rfl⟩
abbrev main_v119 : Ref sig .tc := ⟨.hbm, 201, rfl⟩
abbrev main_call5_v0 : Ref sig .tc := ⟨.hbm, 202, rfl⟩
abbrev main_call5_v1 : Ref sig .tc := ⟨.hbm, 203, rfl⟩
abbrev main_call5_v2 : Ref sig .tc := ⟨.hbm, 204, rfl⟩
abbrev main_v120 : Ref sig .tc := ⟨.hbm, 205, rfl⟩
abbrev main_v121 : Ref sig .tc := ⟨.hbm, 206, rfl⟩
abbrev main_v122 : Ref sig .tc := ⟨.hbm, 207, rfl⟩
abbrev main_v123 : Ref sig .tc := ⟨.hbm, 208, rfl⟩
abbrev main_cst_27 : Ref sig .tc := ⟨.hbm, 209, rfl⟩
abbrev main_v124 : Ref sig .tc := ⟨.hbm, 210, rfl⟩
abbrev main_v125 : Ref sig .tc := ⟨.hbm, 211, rfl⟩
abbrev main_cst_28 : Ref sig .tc := ⟨.hbm, 212, rfl⟩
abbrev main_v126 : Ref sig .tc := ⟨.hbm, 213, rfl⟩
abbrev main_v127 : Ref sig .tc := ⟨.hbm, 214, rfl⟩
abbrev main_v128 : Ref sig .tc := ⟨.hbm, 215, rfl⟩
abbrev main_v129 : Ref sig .tc := ⟨.hbm, 216, rfl⟩
abbrev main_v130 : Ref sig .tc := ⟨.hbm, 217, rfl⟩
abbrev main_v131 : Ref sig .tc := ⟨.hbm, 218, rfl⟩
abbrev main_v132 : Ref sig .tc := ⟨.hbm, 219, rfl⟩
abbrev main_cst_29 : Ref sig .tc := ⟨.hbm, 220, rfl⟩
abbrev main_v133 : Ref sig .tc := ⟨.hbm, 221, rfl⟩
abbrev main_v134 : Ref sig .tc := ⟨.hbm, 222, rfl⟩
abbrev main_v135 : Ref sig .tc := ⟨.hbm, 223, rfl⟩
abbrev main_cst_30 : Ref sig .tc := ⟨.hbm, 224, rfl⟩
abbrev main_v136 : Ref sig .tc := ⟨.hbm, 225, rfl⟩
abbrev main_v137 : Ref sig .tc := ⟨.hbm, 226, rfl⟩
abbrev main_v138 : Ref sig .tc := ⟨.hbm, 227, rfl⟩
abbrev main_cst_31 : Ref sig .tc := ⟨.hbm, 228, rfl⟩
abbrev main_v139 : Ref sig .tc := ⟨.hbm, 229, rfl⟩
abbrev main_v140 : Ref sig .tc := ⟨.hbm, 230, rfl⟩
abbrev main_v141 : Ref sig .tc := ⟨.hbm, 231, rfl⟩
abbrev main_v142 : Ref sig .tc := ⟨.hbm, 232, rfl⟩
abbrev main_v143 : Ref sig .tc := ⟨.hbm, 233, rfl⟩
abbrev main_v144 : Ref sig .tc := ⟨.hbm, 234, rfl⟩
abbrev main_v145 : Ref sig .tc := ⟨.hbm, 235, rfl⟩

abbrev nD : Nat := 1
abbrev τ : Topo := Topo.v7x

variable {F : FTy → Type} [FloatOps F]
-- ==== XaBwd.lean ====
abbrev S8192x1024 : Shape := ⟨2, ![8192, 1024]⟩
abbrev S1024 : Shape := ⟨1, ![1024]⟩
abbrev S256x2048 : Shape := ⟨2, ![256, 2048]⟩
abbrev S1024x2048 : Shape := ⟨2, ![1024, 2048]⟩
abbrev S1024x1024 : Shape := ⟨2, ![1024, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S256x256 : Shape := ⟨2, ![256, 256]⟩
abbrev S256x1792 : Shape := ⟨2, ![256, 1792]⟩
abbrev S256x768 : Shape := ⟨2, ![256, 768]⟩
abbrev S256x1536 : Shape := ⟨2, ![256, 1536]⟩
abbrev S256x512 : Shape := ⟨2, ![256, 512]⟩
abbrev S256x1280 : Shape := ⟨2, ![256, 1280]⟩

abbrev nBuf : Space → Nat
  | .hbm => 12
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S256x2048, .f32⟩
  | .hbm, ⟨4, _⟩ => ⟨S1024x2048, .bf16⟩
  | .hbm, ⟨5, _⟩ => ⟨S1024x1024, .bf16⟩
  | .hbm, ⟨6, _⟩ => ⟨S1x1024, .f32⟩
  | .hbm, ⟨7, _⟩ => ⟨S8192x1024, .f32⟩
  | .hbm, ⟨8, _⟩ => ⟨S1x1024, .f32⟩
  | .hbm, ⟨9, _⟩ => ⟨S256x2048, .f32⟩
  | .hbm, ⟨10, _⟩ => ⟨S1024x2048, .f32⟩
  | .hbm, ⟨11, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x2048, .f32⟩
  | .local _ .vmem, ⟨6, _⟩ => ⟨S1024x2048, .bf16⟩
  | .local _ .vmem, ⟨7, _⟩ => ⟨S1024x1024, .bf16⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S256x2048, .f32⟩
  | .local _ .vmem, ⟨12, _⟩ => ⟨S1024x2048, .f32⟩
  | .local _ .vmem, ⟨13, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v1_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem10_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== XaBwdRefIdeal.lean ====
abbrev S8192x1024 : Shape := ⟨2, ![8192, 1024]⟩
abbrev S1024 : Shape := ⟨1, ![1024]⟩
abbrev S256x2048 : Shape := ⟨2, ![256, 2048]⟩
abbrev S1024x2048 : Shape := ⟨2, ![1024, 2048]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2048 : Shape := ⟨2, ![8192, 2048]⟩
abbrev S8192x4x256 : Shape := ⟨3, ![8192, 4, 256]⟩
abbrev S256x1024 : Shape := ⟨2, ![256, 1024]⟩
abbrev S256x4x256 : Shape := ⟨3, ![256, 4, 256]⟩
abbrev S4x8192x256 : Shape := ⟨3, ![4, 8192, 256]⟩
abbrev S4x8192 : Shape := ⟨2, ![4, 8192]⟩
abbrev S4x8192x1 : Shape := ⟨3, ![4, 8192, 1]⟩
abbrev S4x256x8192 : Shape := ⟨3, ![4, 256, 8192]⟩
abbrev S4x256x256 : Shape := ⟨3, ![4, 256, 256]⟩
abbrev S2048x1024 : Shape := ⟨2, ![2048, 1024]⟩

abbrev nBuf : Space → Nat
  | .hbm => 169
  | .vmem => 0
  | .smem => 0
  | _ => 0

abbrev hbmTy0_0 (i : Nat) : BufTy := match i % 128 with
  | 0 => ⟨S8192x1024, .f32⟩
  | 1 => ⟨S8192x1024, .f32⟩
  | 2 => ⟨S1024, .f32⟩
  | 3 => ⟨S256x2048, .f32⟩
  | 4 => ⟨S1024x2048, .bf16⟩
  | 5 => ⟨S1024x1024, .bf16⟩
  | 6 => ⟨S1024x2048, .f32⟩
  | 7 => ⟨S1024x1024, .f32⟩
  | 8 => ⟨S8192x1024, .f32⟩
  | 9 => ⟨S_, .f32⟩
  | 10 => ⟨S8192, .f32⟩
  | 11 => ⟨S8192x1, .f32⟩
  | 12 => ⟨S_, .f32⟩
  | 13 => ⟨S8192x1, .f32⟩
  | 14 => ⟨S8192x1, .f32⟩
  | 15 => ⟨S_, .f32⟩
  | 16 => ⟨S8192x1, .f32⟩
  | 17 => ⟨S8192x1, .f32⟩
  | 18 => ⟨S8192x1, .f32⟩
  | 19 => ⟨S8192x1, .f32⟩
  | 20 => ⟨S_, .f32⟩
  | 21 => ⟨S8192x1, .f32⟩
  | 22 => ⟨S8192x1, .f32⟩
  | 23 => ⟨S8192x1024, .f32⟩
  | 24 => ⟨S8192x1024, .f32⟩
  | 25 => ⟨S1x1024, .f32⟩
  | 26 => ⟨S8192x1024, .f32⟩
  | 27 => ⟨S8192x1024, .f32⟩
  | 28 => ⟨S8192x2048, .f32⟩
  | 29 => ⟨S8192x1024, .f32⟩
  | 30 => ⟨S8192x4x256, .f32⟩
  | 31 => ⟨S256x1024, .f32⟩
  | 32 => ⟨S256x4x256, .f32⟩
  | 33 => ⟨S256x1024, .f32⟩
  | 34 => ⟨S256x4x256, .f32⟩
  | 35 => ⟨S4x8192x256, .f32⟩
  | 36 => ⟨S_, .f32⟩
  | 37 => ⟨S4x8192x256, .f32⟩
  | 38 => ⟨S4x8192x256, .f32⟩
  | 39 => ⟨S_, .f32⟩
  | 40 => ⟨S4x8192, .f32⟩
  | 41 => ⟨S4x8192x1, .f32⟩
  | 42 => ⟨S4x8192x256, .f32⟩
  | 43 => ⟨S4x8192x256, .i1⟩
  | 44 => ⟨S4x8192x256, .f32⟩
  | 45 => ⟨S_, .f32⟩
  | 46 => ⟨S4x8192, .f32⟩
  | 47 => ⟨S4x8192x1, .f32⟩
  | 48 => ⟨S4x8192x256, .f32⟩
  | 49 => ⟨S4x8192x256, .f32⟩
  | 50 => ⟨S4x8192x256, .f32⟩
  | 51 => ⟨S_, .f32⟩
  | 52 => ⟨S4x8192, .f32⟩
  | 53 => ⟨S4x8192x1, .f32⟩
  | 54 => ⟨S4x8192x256, .f32⟩
  | 55 => ⟨S4x8192x256, .f32⟩
  | 56 => ⟨S4x8192x1, .f32⟩
  | 57 => ⟨S_, .f32⟩
  | 58 => ⟨S4x8192x1, .f32⟩
  | 59 => ⟨S4x8192x1, .f32⟩
  | 60 => ⟨S4x256x8192, .f32⟩
  | 61 => ⟨S8192x4x256, .f32⟩
  | 62 => ⟨S8192x1024, .f32⟩
  | 63 => ⟨S8192x1024, .f32⟩
  | 64 => ⟨S8192x1024, .f32⟩
  | 65 => ⟨S8192x1024, .f32⟩
  | 66 => ⟨S_, .f32⟩
  | 67 => ⟨S8192x1024, .f32⟩
  | 68 => ⟨S8192x1024, .f32⟩
  | 69 => ⟨S_, .f32⟩
  | 70 => ⟨S8192x1024, .f32⟩
  | 71 => ⟨S8192x1024, .f32⟩
  | 72 => ⟨S_, .f32⟩
  | 73 => ⟨S8192x1024, .f32⟩
  | 74 => ⟨S8192x1024, .f32⟩
  | 75 => ⟨S8192x1024, .f32⟩
  | 76 => ⟨S8192x1024, .f32⟩
  | 77 => ⟨S8192x1024, .f32⟩
  | 78 => ⟨S8192x1024, .f32⟩
  | 79 => ⟨S8192x1024, .f32⟩
  | 80 => ⟨S8192x1024, .f32⟩
  | 81 => ⟨S1024x1024, .f32⟩
  | 82 => ⟨S1024x1024, .f32⟩
  | 83 => ⟨S8192x1024, .f32⟩
  | 84 => ⟨S8192x1024, .f32⟩
  | 85 => ⟨S8192x1024, .f32⟩
  | 86 => ⟨S8192x1024, .f32⟩
  | 87 => ⟨S8192x1024, .f32⟩
  | 88 => ⟨S8192x1024, .f32⟩
  | 89 => ⟨S8192x1024, .f32⟩
  | 90 => ⟨S_, .f32⟩
  | 91 => ⟨S8192x2048, .f32⟩
  | 92 => ⟨S8192x4x256, .f32⟩
  | 93 => ⟨S4x256x8192, .f32⟩
  | 94 => ⟨S4x8192x256, .f32⟩
  | 95 => ⟨S4x256x256, .f32⟩
  | 96 => ⟨S256x4x256, .f32⟩
  | 97 => ⟨S4x8192x256, .f32⟩
  | 98 => ⟨S4x8192x256, .f32⟩
  | 99 => ⟨S4x8192x256, .f32⟩
  | 100 => ⟨S_, .f32⟩
  | 101 => ⟨S4x8192, .f32⟩
  | 102 => ⟨S4x8192x1, .f32⟩
  | 103 => ⟨S4x8192x1, .f32⟩
  | 104 => ⟨S4x8192x256, .f32⟩
  | 105 => ⟨S4x8192x256, .f32⟩
  | 106 => ⟨S_, .f32⟩
  | 107 => ⟨S4x8192, .f32⟩
  | 108 => ⟨S4x8192x256, .f32⟩
  | 109 => ⟨S4x8192x256, .f32⟩
  | 110 => ⟨S4x8192x256, .f32⟩
  | 111 => ⟨S4x8192x256, .f32⟩
  | 112 => ⟨S_, .f32⟩
  | 113 => ⟨S4x8192, .f32⟩
  | 114 => ⟨S4x8192x1, .f32⟩
  | 115 => ⟨S_, .f32⟩
  | 116 => ⟨S4x8192, .f32⟩
  | 117 => ⟨S4x8192, .f32⟩
  | 118 => ⟨S4x8192x256, .f32⟩
  | 119 => ⟨S4x8192x256, .f32⟩
  | 120 => ⟨S4x8192x256, .f32⟩
  | 121 => ⟨S_, .f32⟩
  | 122 => ⟨S4x8192x256, .f32⟩
  | 123 => ⟨S4x8192x256, .f32⟩
  | 124 => ⟨S4x256x256, .f32⟩
  | 125 => ⟨S256x4x256, .f32⟩
  | 126 => ⟨S4x8192x256, .f32⟩
  | 127 => ⟨S8192x4x256, .f32⟩
  | _ => ⟨S8192x1024, .f32⟩

abbrev hbmTy0_1 (i : Nat) : BufTy := match i % 128 with
  | 0 => ⟨S256x1024, .f32⟩
  | 1 => ⟨S_, .f32⟩
  | 2 => ⟨S256x2048, .f32⟩
  | 3 => ⟨S256x1024, .f32⟩
  | 4 => ⟨S_, .f32⟩
  | 5 => ⟨S256x2048, .f32⟩
  | 6 => ⟨S256x2048, .f32⟩
  | 7 => ⟨S8192x1024, .f32⟩
  | 8 => ⟨S_, .f32⟩
  | 9 => ⟨S8192x2048, .f32⟩
  | 10 => ⟨S8192x2048, .f32⟩
  | 11 => ⟨S2048x1024, .f32⟩
  | 12 => ⟨S1024x2048, .f32⟩
  | 13 => ⟨S8192x1024, .f32⟩
  | 14 => ⟨S8192x1024, .f32⟩
  | 15 => ⟨S_, .f32⟩
  | 16 => ⟨S1024, .f32⟩
  | 17 => ⟨S1x1024, .f32⟩
  | 18 => ⟨S8192x1024, .f32⟩
  | 19 => ⟨S8192x1024, .f32⟩
  | 20 => ⟨S_, .f32⟩
  | 21 => ⟨S1024, .f32⟩
  | 22 => ⟨S8192x1024, .f32⟩
  | 23 => ⟨S_, .f32⟩
  | 24 => ⟨S8192, .f32⟩
  | 25 => ⟨S8192x1, .f32⟩
  | 26 => ⟨S8192x1024, .f32⟩
  | 27 => ⟨S8192x1024, .f32⟩
  | 28 => ⟨S8192x1024, .f32⟩
  | 29 => ⟨S8192x1, .f32⟩
  | 30 => ⟨S_, .f32⟩
  | 31 => ⟨S8192x1, .f32⟩
  | 32 => ⟨S8192x1, .f32⟩
  | 33 => ⟨S_, .f32⟩
  | 34 => ⟨S8192, .f32⟩
  | 35 => ⟨S8192x1024, .f32⟩
  | 36 => ⟨S8192x1024, .f32⟩
  | 37 => ⟨S8192x1024, .f32⟩
  | 38 => ⟨S8192x1024, .f32⟩
  | 39 => ⟨S8192x1024, .f32⟩
  | 40 => ⟨S1x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_7 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_call0_v0 : Ref sig .tc := ⟨.hbm, 64, rfl⟩
abbrev main_call0_v1 : Ref sig .tc := ⟨.hbm, 65, rfl⟩
abbrev main_call0_cst : Ref sig .tc := ⟨.hbm, 66, rfl⟩
abbrev main_call0_v2 : Ref sig .tc := ⟨.hbm, 67, rfl⟩
abbrev main_call0_v3 : Ref sig .tc := ⟨.hbm, 68, rfl⟩
abbrev main_call0_cst_0 : Ref sig .tc := ⟨.hbm, 69, rfl⟩
abbrev main_call0_v4 : Ref sig .tc := ⟨.hbm, 70, rfl⟩
abbrev main_v49_2 : Ref sig .tc := ⟨.hbm, 71, rfl⟩
abbrev main_call0_cst_1 : Ref sig .tc := ⟨.hbm, 72, rfl⟩
abbrev main_call0_v6 : Ref sig .tc := ⟨.hbm, 73, rfl⟩
abbrev main_call0_v7 : Ref sig .tc := ⟨.hbm, 74, rfl⟩
abbrev main_v49_1 : Ref sig .tc := ⟨.hbm, 75, rfl⟩
abbrev main_v49_0 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_call1_v0 : Ref sig .tc := ⟨.hbm, 86, rfl⟩
abbrev main_call1_v1 : Ref sig .tc := ⟨.hbm, 87, rfl⟩
abbrev main_call1_v2 : Ref sig .tc := ⟨.hbm, 88, rfl⟩
abbrev main_v59 : Ref sig .tc := ⟨.hbm, 89, rfl⟩
abbrev main_cst_8 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_cst_9 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_10 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_cst_11 : Ref sig .tc := ⟨.hbm, 112, rfl⟩
abbrev main_v79 : Ref sig .tc := ⟨.hbm, 113, rfl⟩
abbrev main_v80 : Ref sig .tc := ⟨.hbm, 114, rfl⟩
abbrev main_cst_12 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_13 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_cst_14 : Ref sig .tc := ⟨.hbm, 129, rfl⟩
abbrev main_v93 : Ref sig .tc := ⟨.hbm, 130, rfl⟩
abbrev main_v94 : Ref sig .tc := ⟨.hbm, 131, rfl⟩
abbrev main_cst_15 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_cst_16 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_cst_17 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_cst_18 : Ref sig .tc := ⟨.hbm, 148, rfl⟩
abbrev main_v108 : Ref sig .tc := ⟨.hbm, 149, rfl⟩
abbrev main_v109 : Ref sig .tc := ⟨.hbm, 150, rfl⟩
abbrev main_cst_19 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_cst_20 : Ref sig .tc := ⟨.hbm, 158, rfl⟩
abbrev main_v116 : Ref sig .tc := ⟨.hbm, 159, rfl⟩
abbrev main_v117 : Ref sig .tc := ⟨.hbm, 160, rfl⟩
abbrev main_cst_21 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩

abbrev nD : Nat := 1
abbrev τ : Topo := Topo.v7x

variable {F : FTy → Type} [FloatOps F]
-- ==== GatedOutFwd.lean ====
abbrev S8192x1024 : Shape := ⟨2, ![8192, 1024]⟩
abbrev S8192x4096 : Shape := ⟨2, ![8192, 4096]⟩
abbrev S1024x1024 : Shape := ⟨2, ![1024, 1024]⟩
abbrev S512x1024 : Shape := ⟨2, ![512, 1024]⟩

abbrev nBuf : Space → Nat
  | .hbm => 5
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x4096, .f32⟩
  | .hbm, ⟨3, _⟩ => ⟨S1024x1024, .bf16⟩
  | .hbm, ⟨4, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GatedOutFwdRefIdeal.lean ====
abbrev S8192x1024 : Shape := ⟨2, ![8192, 1024]⟩
abbrev S8192x4096 : Shape := ⟨2, ![8192, 4096]⟩
abbrev S1024x1024 : Shape := ⟨2, ![1024, 1024]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x4096, .f32⟩
  | .hbm, ⟨3, _⟩ => ⟨S1024x1024, .bf16⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S1024x1024, .f32⟩
  | .hbm, ⟨16, _⟩ => ⟨S8192x1024, .f32⟩
  | .hbm, ⟨17, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩

abbrev nD : Nat := 1
abbrev τ : Topo := Topo.v7x

variable {F : FTy → Type} [FloatOps F]
-- ==== OdInFwd.lean ====
abbrev S8192x1024 : Shape := ⟨2, ![8192, 1024]⟩
abbrev S1024 : Shape := ⟨1, ![1024]⟩
abbrev S1024x4096 : Shape := ⟨2, ![1024, 4096]⟩
abbrev S1x1024 : Shape := ⟨2, ![1, 1024]⟩
abbrev S8192x4096 : Shape := ⟨2, ![8192, 4096]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .bf16⟩
  | .hbm, ⟨3, _⟩ => ⟨S1x1024, .f32⟩
  | .hbm, ⟨4, _⟩ => ⟨S8192x4096, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4096, .bf16⟩
  | .local _ .vmem, ⟨4, _⟩ => ⟨S512x4096, .f32⟩
  | .local _ .vmem, ⟨5, _⟩ => ⟨S512x4096, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OdInFwdRefIdeal.lean ====
abbrev S8192x1024 : Shape := ⟨2, ![8192, 1024]⟩
abbrev S1024 : Shape := ⟨1, ![1024]⟩
abbrev S1024x4096 : Shape := ⟨2, ![1024, 4096]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩

abbrev nBuf : Space → Nat
  | .hbm => 21
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .bf16⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S1024x4096, .f32⟩
  | .hbm, ⟨20, _⟩ => ⟨S8192x4096, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== EvInFwd.lean ====
abbrev S8192x1024 : Shape := ⟨2, ![8192, 1024]⟩
abbrev S1024 : Shape := ⟨1, ![1024]⟩
abbrev S1024x2560 : Shape := ⟨2, ![1024, 2560]⟩
abbrev S1x1024 : Shape := ⟨2, ![1, 1024]⟩
abbrev S8192x2560 : Shape := ⟨2, ![8192, 2560]⟩
abbrev S512x1024 : Shape := ⟨2, ![512, 1024]⟩
abbrev S512x2560 : Shape := ⟨2, ![512, 2560]⟩
abbrev S512 : Shape := ⟨1, ![512]⟩
abbrev S512x1 : Shape := ⟨2, ![512, 1]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2560, .bf16⟩
  | .hbm, ⟨3, _⟩ => ⟨S1x1024, .f32⟩
  | .hbm, ⟨4, _⟩ => ⟨S8192x2560, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2560, .bf16⟩
  | .local _ .vmem, ⟨4, _⟩ => ⟨S512x2560, .f32⟩
  | .local _ .vmem, ⟨5, _⟩ => ⟨S512x2560, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2560 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== EvInFwdRefIdeal.lean ====
abbrev S8192x1024 : Shape := ⟨2, ![8192, 1024]⟩
abbrev S1024 : Shape := ⟨1, ![1024]⟩
abbrev S1024x2560 : Shape := ⟨2, ![1024, 2560]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2560 : Shape := ⟨2, ![8192, 2560]⟩

abbrev nBuf : Space → Nat
  | .hbm => 21
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2560, .bf16⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S1024x2560, .f32⟩
  | .hbm, ⟨20, _⟩ => ⟨S8192x2560, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== XaFwd.lean ====
abbrev S8192x1024 : Shape := ⟨2, ![8192, 1024]⟩
abbrev S1024 : Shape := ⟨1, ![1024]⟩
abbrev S256x2048 : Shape := ⟨2, ![256, 2048]⟩
abbrev S1024x2048 : Shape := ⟨2, ![1024, 2048]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S512x2048 : Shape := ⟨2, ![512, 2048]⟩
abbrev S512x256 : Shape := ⟨2, ![512, 256]⟩
abbrev S256x256 : Shape := ⟨2, ![256, 256]⟩

abbrev nBuf : Space → Nat
  | .hbm => 7
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S256x2048, .f32⟩
  | .hbm, ⟨3, _⟩ => ⟨S1024x2048, .bf16⟩
  | .hbm, ⟨4, _⟩ => ⟨S1024x1024, .bf16⟩
  | .hbm, ⟨5, _⟩ => ⟨S1x1024, .f32⟩
  | .hbm, ⟨6, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S256x2048, .f32⟩
  | .local _ .vmem, ⟨4, _⟩ => ⟨S1024x2048, .bf16⟩
  | .local _ .vmem, ⟨5, _⟩ => ⟨S1024x1024, .bf16⟩
  | .local _ .vmem, ⟨6, _⟩ => ⟨S512x1024, .f32⟩
  | .local _ .vmem, ⟨7, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== XaFwdRefIdeal.lean ====
abbrev S8192x1024 : Shape := ⟨2, ![8192, 1024]⟩
abbrev S1024 : Shape := ⟨1, ![1024]⟩
abbrev S256x2048 : Shape := ⟨2, ![256, 2048]⟩
abbrev S1024x2048 : Shape := ⟨2, ![1024, 2048]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2048 : Shape := ⟨2, ![8192, 2048]⟩
abbrev S8192x4x256 : Shape := ⟨3, ![8192, 4, 256]⟩
abbrev S256x1024 : Shape := ⟨2, ![256, 1024]⟩
abbrev S256x4x256 : Shape := ⟨3, ![256, 4, 256]⟩
abbrev S4x8192x256 : Shape := ⟨3, ![4, 8192, 256]⟩
abbrev S4x8192 : Shape := ⟨2, ![4, 8192]⟩
abbrev S4x8192x1 : Shape := ⟨3, ![4, 8192, 1]⟩
abbrev S4x256x8192 : Shape := ⟨3, ![4, 256, 8192]⟩

abbrev nBuf : Space → Nat
  | .hbm => 61
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S256x2048, .f32⟩
  | .hbm, ⟨3, _⟩ => ⟨S1024x2048, .bf16⟩
  | .hbm, ⟨4, _⟩ => ⟨S1024x1024, .bf16⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S1024x2048, .f32⟩
  | .hbm, ⟨22, _⟩ => ⟨S8192x2048, .f32⟩
  | .hbm, ⟨23, _⟩ => ⟨S8192x1024, .f32⟩
  | .hbm, ⟨24, _⟩ => ⟨S8192x4x256, .f32⟩
  | .hbm, ⟨25, _⟩ => ⟨S256x1024, .f32⟩
  | .hbm, ⟨26, _⟩ => ⟨S256x4x256, .f32⟩
  | .hbm, ⟨27, _⟩ => ⟨S256x1024, .f32⟩
  | .hbm, ⟨28, _⟩ => ⟨S256x4x256, .f32⟩
  | .hbm, ⟨29, _⟩ => ⟨S4x8192x256, .f32⟩
  | .hbm, ⟨30, _⟩ => ⟨S_, .f32⟩
  | .hbm, ⟨31, _⟩ => ⟨S4x8192x256, .f32⟩
  | .hbm, ⟨32, _⟩ => ⟨S4x8192x256, .f32⟩
  | .hbm, ⟨33, _⟩ => ⟨S_, .f32⟩
  | .hbm, ⟨34, _⟩ => ⟨S4x8192, .f32⟩
  | .hbm, ⟨35, _⟩ => ⟨S4x8192x1, .f32⟩
  | .hbm, ⟨36, _⟩ => ⟨S4x8192x256, .f32⟩
  | .hbm, ⟨37, _⟩ => ⟨S4x8192x256, .f32⟩
  | .hbm, ⟨38, _⟩ => ⟨S4x8192x256, .f32⟩
  | .hbm, ⟨39, _⟩ => ⟨S_, .f32⟩
  | .hbm, ⟨40, _⟩ => ⟨S4x8192, .f32⟩
  | .hbm, ⟨41, _⟩ => ⟨S4x8192x1, .f32⟩
  | .hbm, ⟨42, _⟩ => ⟨S4x8192x256, .f32⟩
  | .hbm, ⟨43, _⟩ => ⟨S4x8192x256, .f32⟩
  | .hbm, ⟨44, _⟩ => ⟨S4x256x8192, .f32⟩
  | .hbm, ⟨45, _⟩ => ⟨S8192x4x256, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S1024x1024, .f32⟩
  | .hbm, ⟨59, _⟩ => ⟨S8192x1024, .f32⟩
  | .hbm, ⟨60, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_call0_v5 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩

abbrev nD : Nat := 1
abbrev τ : Topo := Topo.v7x

variable {F : FTy → Type} [FloatOps F]
-- ==== EvOutFwd.lean ====
abbrev S8192x1024 : Shape := ⟨2, ![8192, 1024]⟩
abbrev S8192x128 : Shape := ⟨2, ![8192, 128]⟩
abbrev S8192x512 : Shape := ⟨2, ![8192, 512]⟩
abbrev S8192x2560 : Shape := ⟨2, ![8192, 2560]⟩
abbrev S512 : Shape := ⟨1, ![512]⟩
abbrev S512x512 : Shape := ⟨2, ![512, 512]⟩
abbrev S1024x1024 : Shape := ⟨2, ![1024, 1024]⟩
abbrev S1x512 : Shape := ⟨2, ![1, 512]⟩
abbrev S512x1024 : Shape := ⟨2, ![512, 1024]⟩
abbrev S512x128 : Shape := ⟨2, ![512, 128]⟩
abbrev S512x1 : Shape := ⟨2, ![512, 1]⟩

abbrev nBuf : Space → Nat
  | .hbm => 16
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S8192x128, .f32⟩
  | .hbm, ⟨2, _⟩ => ⟨S8192x128, .f32⟩
  | .hbm, ⟨3, _⟩ => ⟨S8192x128, .f32⟩
  | .hbm, ⟨4, _⟩ => ⟨S8192x128, .f32⟩
  | .hbm, ⟨5, _⟩ => ⟨S8192x512, .f32⟩
  | .hbm, ⟨6, _⟩ => ⟨S8192x2560, .f32⟩
  | .hbm, ⟨7, _⟩ => ⟨S512, .f32⟩
  | .hbm, ⟨8, _⟩ => ⟨S512, .f32⟩
  | .hbm, ⟨9, _⟩ => ⟨S512, .f32⟩
  | .hbm, ⟨10, _⟩ => ⟨S512x512, .bf16⟩
  | .hbm, ⟨11, _⟩ => ⟨S1024x1024, .bf16⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S1x512, .f32⟩
  | .local _ .vmem, ⟨17, _⟩ => ⟨S1x512, .f32⟩
  | .local _ .vmem, ⟨18, _⟩ => ⟨S1x512, .f32⟩
  | .local _ .vmem, ⟨19, _⟩ => ⟨S512x512, .bf16⟩
  | .local _ .vmem, ⟨20, _⟩ => ⟨S1024x1024, .bf16⟩
  | .local _ .vmem, ⟨21, _⟩ => ⟨S512x1024, .f32⟩
  | .local _ .vmem, ⟨22, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== EvOutFwdRefIdeal.lean ====
abbrev S8192x1024 : Shape := ⟨2, ![8192, 1024]⟩
abbrev S8192x128 : Shape := ⟨2, ![8192, 128]⟩
abbrev S8192x512 : Shape := ⟨2, ![8192, 512]⟩
abbrev S8192x2560 : Shape := ⟨2, ![8192, 2560]⟩
abbrev S512 : Shape := ⟨1, ![512]⟩
abbrev S512x512 : Shape := ⟨2, ![512, 512]⟩
abbrev S1024x1024 : Shape := ⟨2, ![1024, 1024]⟩
abbrev S_ : Shape := ⟨0, ![]⟩
abbrev S1x512 : Shape := ⟨2, ![1, 512]⟩
abbrev S8192 : Shape := ⟨1, ![8192]⟩
abbrev S8192x1 : Shape := ⟨2, ![8192, 1]⟩

abbrev nBuf : Space → Nat
  | .hbm => 108
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x128, .f32⟩
  | .hbm, ⟨2, _⟩ => ⟨S8192x128, .f32⟩
  | .hbm, ⟨3, _⟩ => ⟨S8192x128, .f32⟩
  | .hbm, ⟨4, _⟩ => ⟨S8192x128, .f32⟩
  | .hbm, ⟨5, _⟩ => ⟨S8192x512, .f32⟩
  | .hbm, ⟨6, _⟩ => ⟨S8192x2560, .f32⟩
  | .hbm, ⟨7, _⟩ => ⟨S512, .f32⟩
  | .hbm, ⟨8, _⟩ => ⟨S512, .f32⟩
  | .hbm, ⟨9, _⟩ => ⟨S512, .f32⟩
  | .hbm, ⟨10, _⟩ => ⟨S512x512, .bf16⟩
  | .hbm, ⟨11, _⟩ => ⟨S1024x1024, .bf16⟩
  | .hbm, ⟨12, _⟩ => ⟨S8192x512, .f32⟩
  | .hbm, ⟨13, _⟩ => ⟨S8192x512, .f32⟩
  | .hbm, ⟨14, _⟩ => ⟨S8192x512, .f32⟩
  | .hbm, ⟨15, _⟩ => ⟨S8192x512, .f32⟩
  | .hbm, ⟨16, _⟩ => ⟨S8192x512, .f32⟩
  | .hbm, ⟨17, _⟩ => ⟨S_, .f32⟩
  | .hbm, ⟨18, _⟩ => ⟨S8192x512, .f32⟩
  | .hbm, ⟨19, _⟩ => ⟨S8192x512, .f32⟩
  | .hbm, ⟨20, _⟩ => ⟨S8192x512, .f32⟩
  | .hbm, ⟨21, _⟩ => ⟨S_, .f32⟩
  | .hbm, ⟨22, _⟩ => ⟨S8192x512, .f32⟩
  | .hbm, ⟨23, _⟩ => ⟨S8192x512, .f32⟩
  | .hbm, ⟨24, _⟩ => ⟨S8192x512, .f32⟩
  | .hbm, ⟨25, _⟩ => ⟨S_, .f32⟩
  | .hbm, ⟨26, _⟩ => ⟨S8192x512, .f32⟩
  | .hbm, ⟨27, _⟩ => ⟨S8192x512, .f32⟩
  | .hbm, ⟨28, _⟩ => ⟨S_, .f32⟩
  | .hbm, ⟨29, _⟩ => ⟨S8192x512, .f32⟩
  | .hbm, ⟨30, _⟩ => ⟨S8192x512, .f32⟩
  | .hbm, ⟨31, _⟩ => ⟨S8192x512, .f32⟩
  | .hbm, ⟨32, _⟩ => ⟨S512x512, .f32⟩
  | .hbm, ⟨33, _⟩ => ⟨S8192x512, .f32⟩
  | .hbm, ⟨34, _⟩ => ⟨S1x512, .f32⟩
  | .hbm, ⟨35, _⟩ => ⟨S8192x512, .f32⟩
  | .hbm, ⟨36, _⟩ => ⟨S8192x512, .f32⟩
  | .hbm, ⟨37, _⟩ => ⟨S8192x512, .f32⟩
  | .hbm, ⟨38, _⟩ => ⟨S8192x512, .f32⟩
  | .hbm, ⟨39, _⟩ => ⟨S_, .f32⟩
  | .hbm, ⟨40, _⟩ => ⟨S8192x512, .f32⟩
  | .hbm, ⟨41, _⟩ => ⟨S8192x512, .f32⟩
  | .hbm, ⟨42, _⟩ => ⟨S_, .f32⟩
  | .hbm, ⟨43, _⟩ => ⟨S8192x512, .f32⟩
  | .hbm, ⟨44, _⟩ => ⟨S8192x512, .f32⟩
  | .hbm, ⟨45, _⟩ => ⟨S8192x512, .f32⟩
  | .hbm, ⟨46, _⟩ => ⟨S8192x512, .f32⟩
  | .hbm, ⟨47, _⟩ => ⟨S8192x512, .f32⟩
  | .hbm, ⟨48, _⟩ => ⟨S_, .f32⟩
  | .hbm, ⟨49, _⟩ => ⟨S8192x512, .f32⟩
  | .hbm, ⟨50, _⟩ => ⟨S8192x512, .f32⟩
  | .hbm, ⟨51, _⟩ => ⟨S_, .f32⟩
  | .hbm, ⟨52, _⟩ => ⟨S8192x512, .f32⟩
  | .hbm, ⟨53, _⟩ => ⟨S8192x512, .f32⟩
  | .hbm, ⟨54, _⟩ => ⟨S8192x512, .f32⟩
  | .hbm, ⟨55, _⟩ => ⟨S8192x512, .f32⟩
  | .hbm, ⟨56, _⟩ => ⟨S_, .f32⟩
  | .hbm, ⟨57, _⟩ => ⟨S8192, .f32⟩
  | .hbm, ⟨58, _⟩ => ⟨S8192x1, .f32⟩
  | .hbm, ⟨59, _⟩ => ⟨S_, .f32⟩
  | .hbm, ⟨60, _⟩ => ⟨S8192x1, .f32⟩
  | .hbm, ⟨61, _⟩ => ⟨S8192x1, .f32⟩
  | .hbm, ⟨62, _⟩ => ⟨S8192x512, .f32⟩
  | .hbm, ⟨63, _⟩ => ⟨S8192x512, .f32⟩
  | .hbm, ⟨64, _⟩ => ⟨S8192x512, .f32⟩
  | .hbm, ⟨65, _⟩ => ⟨S_, .f32⟩
  | .hbm, ⟨66, _⟩ => ⟨S8192, .f32⟩
  | .hbm, ⟨67, _⟩ => ⟨S8192x1, .f32⟩
  | .hbm, ⟨68, _⟩ => ⟨S_, .f32⟩
  | .hbm, ⟨69, _⟩ => ⟨S8192x1, .f32⟩
  | .hbm, ⟨70, _⟩ => ⟨S8192x1, .f32⟩
  | .hbm, ⟨71, _⟩ => ⟨S8192x512, .f32⟩
  | .hbm, ⟨72, _⟩ => ⟨S8192x512, .f32⟩
  | .hbm, ⟨73, _⟩ => ⟨S_, .f32⟩
  | .hbm, ⟨74, _⟩ => ⟨S8192x1, .f32⟩
  | .hbm, ⟨75, _⟩ => ⟨S8192x1, .f32⟩
  | .hbm, ⟨76, _⟩ => ⟨S8192x1, .f32⟩
  | .hbm, ⟨77, _⟩ => ⟨S8192x512, .f32⟩
  | .hbm, ⟨78, _⟩ => ⟨S8192x512, .f32⟩
  | .hbm, ⟨79, _⟩ => ⟨S1x512, .f32⟩
  | .hbm, ⟨80, _⟩ => ⟨S8192x512, .f32⟩
  | .hbm, ⟨81, _⟩ => ⟨S8192x512, .f32⟩
  | .hbm, ⟨82, _⟩ => ⟨S1x512, .f32⟩
  | .hbm, ⟨83, _⟩ => ⟨S8192x512, .f32⟩
  | .hbm, ⟨84, _⟩ => ⟨S8192x512, .f32⟩
  | .hbm, ⟨85, _⟩ => ⟨S8192x512, .f32⟩
  | .hbm, ⟨86, _⟩ => ⟨S8192x512, .f32⟩
  | .hbm, ⟨87, _⟩ => ⟨S_, .f32⟩
  | .hbm, ⟨88, _⟩ => ⟨S8192x512, .f32⟩
  | .hbm, ⟨89, _⟩ => ⟨S8192x512, .f32⟩
  | .hbm, ⟨90, _⟩ => ⟨S_, .f32⟩
  | .hbm, ⟨91, _⟩ => ⟨S8192x512, .f32⟩
  | .hbm, ⟨92, _⟩ => ⟨S8192x512, .f32⟩
  | .hbm, ⟨93, _⟩ => ⟨S8192x512, .f32⟩
  | .hbm, ⟨94, _⟩ => ⟨S8192x512, .f32⟩
  | .hbm, ⟨95, _⟩ => ⟨S8192x512, .f32⟩
  | .hbm, ⟨96, _⟩ => ⟨S_, .f32⟩
  | .hbm, ⟨97, _⟩ => ⟨S8192x512, .f32⟩
  | .hbm, ⟨98, _⟩ => ⟨S8192x512, .f32⟩
  | .hbm, ⟨99, _⟩ => ⟨S_, .f32⟩
  | .hbm, ⟨100, _⟩ => ⟨S8192x512, .f32⟩
  | .hbm, ⟨101, _⟩ => ⟨S8192x512, .f32⟩
  | .hbm, ⟨102, _⟩ => ⟨S8192x512, .f32⟩
  | .hbm, ⟨103, _⟩ => ⟨S8192x512, .f32⟩
  | .hbm, ⟨104, _⟩ => ⟨S8192x1024, .f32⟩
  | .hbm, ⟨105, _⟩ => ⟨S1024x1024, .f32⟩
  | .hbm, ⟨106, _⟩ => ⟨S8192x1024, .f32⟩
  | .hbm, ⟨107, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_v24 : Ref sig .tc := ⟨.hbm, 41, rfl⟩
abbrev main_cst_4 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v28 : Ref sig .tc := ⟨.hbm, 54, rfl⟩
abbrev main_v29 : Ref sig .tc := ⟨.hbm, 55, rfl⟩
abbrev main_cst_5 : Ref sig .tc := ⟨.hbm, 56, rfl⟩
abbrev main_v30 : Ref sig .tc := ⟨.hbm, 57, rfl⟩
abbrev main_v31 : Ref sig .tc := ⟨.hbm, 58, rfl⟩
abbrev main_cst_6 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_cst_7 : Ref sig .tc := ⟨.hbm, 65, rfl⟩
abbrev main_v37 : Ref sig .tc := ⟨.hbm, 66, rfl⟩
abbrev main_v38 : Ref sig .tc := ⟨.hbm, 67, rfl⟩
abbrev main_cst_8 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_9 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_call1_v0 : Ref sig .tc := ⟨.hbm, 85, rfl⟩
abbrev main_call1_v1 : Ref sig .tc := ⟨.hbm, 86, rfl⟩
abbrev main_call1_cst : Ref sig .tc := ⟨.hbm, 87, rfl⟩
abbrev main_call1_v2 : Ref sig .tc := ⟨.hbm, 88, rfl⟩
abbrev main_call1_v3 : Ref sig .tc := ⟨.hbm, 89, rfl⟩
abbrev main_call1_cst_0 : Ref sig .tc := ⟨.hbm, 90, rfl⟩
abbrev main_call1_v4 : Ref sig .tc := ⟨.hbm, 91, rfl⟩
abbrev main_call1_v5 : Ref sig .tc := ⟨.hbm, 92, rfl⟩
abbrev main_v54 : Ref sig .tc := ⟨.hbm, 93, rfl⟩
abbrev main_call2_v0 : Ref sig .tc := ⟨.hbm, 94, rfl⟩
abbrev main_call2_v1 : Ref sig .tc := ⟨.hbm, 95, rfl⟩
abbrev main_call2_cst : Ref sig .tc := ⟨.hbm, 96, rfl⟩
abbrev main_call2_v2 : Ref sig .tc := ⟨.hbm, 97, rfl⟩
abbrev main_call2_v3 : Ref sig .tc := ⟨.hbm, 98, rfl⟩
abbrev main_call2_cst_0 : Ref sig .tc := ⟨.hbm, 99, rfl⟩
abbrev main_call2_v4 : Ref sig .tc := ⟨.hbm, 100, rfl⟩
abbrev main_call2_v5 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩

abbrev nD : Nat := 1
abbrev τ : Topo := Topo.v7x

variable {F : FTy → Type} [FloatOps F]
-- ==== S5DiscFwd.lean ====
abbrev S32x64 : Shape := ⟨2, ![32, 64]⟩
abbrev S32 : Shape := ⟨1, ![32]⟩
abbrev S32x64x16 : Shape := ⟨3, ![32, 64, 16]⟩
abbrev S32x1 : Shape := ⟨2, ![32, 1]⟩
abbrev S32x16x64 : Shape := ⟨3, ![32, 16, 64]⟩
abbrev S512x64 : Shape := ⟨2, ![512, 64]⟩
abbrev S32x1x64 : Shape := ⟨3, ![32, 1, 64]⟩

abbrev nBuf : Space → Nat
  | .hbm => 14
  | .vmem => 9
  | .smem => 0
  | _ => 0

abbrev bufTy : (tb : Table) → Fin (tcTables nBuf tb) → BufTy
  | .hbm, ⟨0, _⟩ => ⟨S32x64, .f32⟩
  | .hbm, ⟨1, _⟩ => ⟨S32x64, .f32⟩
  | .hbm, ⟨2, _⟩ => ⟨S32, .f32⟩
  | .hbm, ⟨3, _⟩ => ⟨S32x64x16, .f32⟩
  | .hbm, ⟨4, _⟩ => ⟨S32x64x16, .f32⟩
  | .hbm, ⟨5, _⟩ => ⟨S32x1, .f32⟩
  | .hbm, ⟨6, _⟩ => ⟨S32x16x64, .f32⟩
  | .hbm, ⟨7, _⟩ => ⟨S512x64, .f32⟩
  | .hbm, ⟨8, _⟩ => ⟨S32x16x64, .f32⟩
  | .hbm, ⟨9, _⟩ => ⟨S512x64, .f32⟩
  | .hbm, ⟨10, _⟩ => ⟨S32x64, .f32⟩
  | .hbm, ⟨11, _⟩ => ⟨S32x64, .f32⟩
  | .hbm, ⟨12, _⟩ => ⟨S512x64, .f32⟩
  | .hbm, ⟨13, _⟩ => ⟨S512x64, .f32⟩
  | .local _ .vmem, ⟨0, _⟩ => ⟨S32x64, .f32⟩
  | .local _ .vmem, ⟨1, _⟩ => ⟨S32x64, .f32⟩
  | .local _ .vmem, ⟨2, _⟩ => ⟨S32x1, .f32⟩
  | .local _ .vmem, ⟨3, _⟩ => ⟨S512x64, .f32⟩
  | .local _ .vmem, ⟨4, _⟩ => ⟨S512x64, .f32⟩
  | .local _ .vmem, ⟨5, _⟩ => ⟨S32x64, .f32⟩
  | .local _ .vmem, ⟨6, _⟩ => ⟨S32x64, .f32⟩
  | .local _ .vmem, ⟨7, _⟩ => ⟨S512x64, .f32⟩
  | .local _ .vmem, ⟨8, _⟩ => ⟨S512x64, .f32⟩
  | _, _ => ⟨S32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S32x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S512x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== S5DiscFwdRefIdeal.lean ====
abbrev S32x64 : Shape := ⟨2, ![32, 64]⟩
abbrev S32 : Shape := ⟨1, ![32]⟩
abbrev S32x64x16 : Shape := ⟨3, ![32, 64, 16]⟩
abbrev S32x1 : Shape := ⟨2, ![32, 1]⟩
abbrev S_ : Shape := ⟨0, ![]⟩
abbrev S32x64x1 : Shape := ⟨3, ![32, 64, 1]⟩
abbrev S32x16x64 : Shape := ⟨3, ![32, 16, 64]⟩
abbrev S512x64 : Shape := ⟨2, ![512, 64]⟩

abbrev nBuf : Space → Nat
  | .hbm => 50
  | .vmem => 0
  | .smem => 0
  | _ => 0

abbrev bufTy : (tb : Table) → Fin (tcTables nBuf tb) → BufTy
  | .hbm, ⟨0, _⟩ => ⟨S32x64, .f32⟩
  | .hbm, ⟨1, _⟩ => ⟨S32x64, .f32⟩
  | .hbm, ⟨2, _⟩ => ⟨S32, .f32⟩
  | .hbm, ⟨3, _⟩ => ⟨S32x64x16, .f32⟩
  | .hbm, ⟨4, _⟩ => ⟨S32x64x16, .f32⟩
  | .hbm, ⟨5, _⟩ => ⟨S32, .f32⟩
  | .hbm, ⟨6, _⟩ => ⟨S32x1, .f32⟩
  | .hbm, ⟨7, _⟩ => ⟨S32x64, .f32⟩
  | .hbm, ⟨8, _⟩ => ⟨S32x64, .f32⟩
  | .hbm, ⟨9, _⟩ => ⟨S32x64, .f32⟩
  | .hbm, ⟨10, _⟩ => ⟨S32x64, .f32⟩
  | .hbm, ⟨11, _⟩ => ⟨S32x64, .f32⟩
  | .hbm, ⟨12, _⟩ => ⟨S32x64, .f32⟩
  | .hbm, ⟨13, _⟩ => ⟨S32x64, .f32⟩
  | .hbm, ⟨14, _⟩ => ⟨S32x64, .f32⟩
  | .hbm, ⟨15, _⟩ => ⟨S32x64, .f32⟩
  | .hbm, ⟨16, _⟩ => ⟨S32x64, .f32⟩
  | .hbm, ⟨17, _⟩ => ⟨S32x64, .f32⟩
  | .hbm, ⟨18, _⟩ => ⟨S32x64, .f32⟩
  | .hbm, ⟨19, _⟩ => ⟨S32x64, .f32⟩
  | .hbm, ⟨20, _⟩ => ⟨S32x64, .f32⟩
  | .hbm, ⟨21, _⟩ => ⟨S_, .f32⟩
  | .hbm, ⟨22, _⟩ => ⟨S32x64, .f32⟩
  | .hbm, ⟨23, _⟩ => ⟨S32x64, .f32⟩
  | .hbm, ⟨24, _⟩ => ⟨S32x64, .f32⟩
  | .hbm, ⟨25, _⟩ => ⟨S32x64, .f32⟩
  | .hbm, ⟨26, _⟩ => ⟨S32x64, .f32⟩
  | .hbm, ⟨27, _⟩ => ⟨S32x64, .f32⟩
  | .hbm, ⟨28, _⟩ => ⟨S32x64, .f32⟩
  | .hbm, ⟨29, _⟩ => ⟨S32x64, .f32⟩
  | .hbm, ⟨30, _⟩ => ⟨S32x64, .f32⟩
  | .hbm, ⟨31, _⟩ => ⟨S32x64, .f32⟩
  | .hbm, ⟨32, _⟩ => ⟨S32x64x1, .f32⟩
  | .hbm, ⟨33, _⟩ => ⟨S32x64x16, .f32⟩
  | .hbm, ⟨34, _⟩ => ⟨S32x64x16, .f32⟩
  | .hbm, ⟨35, _⟩ => ⟨S32x64x1, .f32⟩
  | .hbm, ⟨36, _⟩ => ⟨S32x64x16, .f32⟩
  | .hbm, ⟨37, _⟩ => ⟨S32x64x16, .f32⟩
  | .hbm, ⟨38, _⟩ => ⟨S32x64x16, .f32⟩
  | .hbm, ⟨39, _⟩ => ⟨S32x64x1, .f32⟩
  | .hbm, ⟨40, _⟩ => ⟨S32x64x16, .f32⟩
  | .hbm, ⟨41, _⟩ => ⟨S32x64x16, .f32⟩
  | .hbm, ⟨42, _⟩ => ⟨S32x64x1, .f32⟩
  | .hbm, ⟨43, _⟩ => ⟨S32x64x16, .f32⟩
  | .hbm, ⟨44, _⟩ => ⟨S32x64x16, .f32⟩
  | .hbm, ⟨45, _⟩ => ⟨S32x64x16, .f32⟩
  | .hbm, ⟨46, _⟩ => ⟨S32x16x64, .f32⟩
  | .hbm, ⟨47, _⟩ => ⟨S512x64, .f32⟩
  | .hbm, ⟨48, _⟩ => ⟨S32x16x64, .f32⟩
  | .hbm, ⟨49, _⟩ => ⟨S512x64, .f32⟩
  | _, _ => ⟨S32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩

abbrev nD : Nat := 1
abbrev τ : Topo := Topo.v7x

variable {F : FTy → Type} [FloatOps F]
-- ==== AttnFwd.lean ====
abbrev S8192x4096 : Shape := ⟨2, ![8192, 4096]⟩
abbrev S16x257 : Shape := ⟨2, ![16, 257]⟩
abbrev S1023 : Shape := ⟨1, ![1023]⟩
abbrev S_ : Shape := ⟨0, ![]⟩
abbrev S1023x1 : Shape := ⟨2, ![1023, 1]⟩
abbrev S1 : Shape := ⟨1, ![1]⟩
abbrev S1x1 : Shape := ⟨2, ![1, 1]⟩
abbrev S16x1023 : Shape := ⟨2, ![16, 1023]⟩
abbrev S16x1024 : Shape := ⟨2, ![16, 1024]⟩
abbrev S1x16x1x1024 : Shape := ⟨4, ![1, 16, 1, 1024]⟩
abbrev S1x16x256x1024 : Shape := ⟨4, ![1, 16, 256, 1024]⟩
abbrev S16x262144 : Shape := ⟨2, ![16, 262144]⟩
abbrev S16x261888 : Shape := ⟨2, ![16, 261888]⟩
abbrev S16x256x1023 : Shape := ⟨3, ![16, 256, 1023]⟩
abbrev S16x256x768 : Shape := ⟨3, ![16, 256, 768]⟩
abbrev S256x1 : Shape := ⟨2, ![256, 1]⟩
abbrev S1x768 : Shape := ⟨2, ![1, 768]⟩
abbrev S256x768 : Shape := ⟨2, ![256, 768]⟩
abbrev S1x256x768 : Shape := ⟨3, ![1, 256, 768]⟩
abbrev S8192x1024 : Shape := ⟨2, ![8192, 1024]⟩
abbrev S256x128 : Shape := ⟨2, ![256, 128]⟩
abbrev S8192x128 : Shape := ⟨2, ![8192, 128]⟩
abbrev S2x256x768 : Shape := ⟨3, ![2, 256, 768]⟩
abbrev S8704x128 : Shape := ⟨2, ![8704, 128]⟩
abbrev S512x128 : Shape := ⟨2, ![512, 128]⟩
abbrev S768x128 : Shape := ⟨2, ![768, 128]⟩
abbrev S256 : Shape := ⟨1, ![256]⟩

abbrev nBuf : Space → Nat
  | .hbm => 66
  | .vmem => 12
  | .smem => 0
  | _ => 0

abbrev bufTy : (tb : Table) → Fin (tcTables nBuf tb) → BufTy
  | .hbm, ⟨0, _⟩ => ⟨S8192x4096, .f32⟩
  | .hbm, ⟨1, _⟩ => ⟨S16x257, .f32⟩
  | .hbm, ⟨2, _⟩ => ⟨S1023, .i32⟩
  | .hbm, ⟨3, _⟩ => ⟨S_, .i32⟩
  | .hbm, ⟨4, _⟩ => ⟨S1023, .i32⟩
  | .hbm, ⟨5, _⟩ => ⟨S1023, .i1⟩
  | .hbm, ⟨6, _⟩ => ⟨S_, .i32⟩
  | .hbm, ⟨7, _⟩ => ⟨S1023, .i32⟩
  | .hbm, ⟨8, _⟩ => ⟨S1023, .i32⟩
  | .hbm, ⟨9, _⟩ => ⟨S1023, .i32⟩
  | .hbm, ⟨10, _⟩ => ⟨S1023x1, .i32⟩
  | .hbm, ⟨11, _⟩ => ⟨S1, .i32⟩
  | .hbm, ⟨12, _⟩ => ⟨S_, .i32⟩
  | .hbm, ⟨13, _⟩ => ⟨S1023x1, .i32⟩
  | .hbm, ⟨14, _⟩ => ⟨S1023x1, .i1⟩
  | .hbm, ⟨15, _⟩ => ⟨S1x1, .i32⟩
  | .hbm, ⟨16, _⟩ => ⟨S1023x1, .i32⟩
  | .hbm, ⟨17, _⟩ => ⟨S1023x1, .i1⟩
  | .hbm, ⟨18, _⟩ => ⟨S1023x1, .i1⟩
  | .hbm, ⟨19, _⟩ => ⟨S_, .i1⟩
  | .hbm, ⟨20, _⟩ => ⟨S1023, .i1⟩
  | .hbm, ⟨21, _⟩ => ⟨S16x1023, .f32⟩
  | .hbm, ⟨22, _⟩ => ⟨S16x1023, .i1⟩
  | .hbm, ⟨23, _⟩ => ⟨S_, .f32⟩
  | .hbm, ⟨24, _⟩ => ⟨S16x1023, .f32⟩
  | .hbm, ⟨25, _⟩ => ⟨S16x1023, .f32⟩
  | .hbm, ⟨26, _⟩ => ⟨S_, .i32⟩
  | .hbm, ⟨27, _⟩ => ⟨S_, .f32⟩
  | .hbm, ⟨28, _⟩ => ⟨S16x1024, .f32⟩
  | .hbm, ⟨29, _⟩ => ⟨S1x16x1x1024, .f32⟩
  | .hbm, ⟨30, _⟩ => ⟨S1x16x256x1024, .f32⟩
  | .hbm, ⟨31, _⟩ => ⟨S16x262144, .f32⟩
  | .hbm, ⟨32, _⟩ => ⟨S16x261888, .f32⟩
  | .hbm, ⟨33, _⟩ => ⟨S16x256x1023, .f32⟩
  | .hbm, ⟨34, _⟩ => ⟨S16x256x768, .f32⟩
  | .hbm, ⟨35, _⟩ => ⟨S256x1, .i32⟩
  | .hbm, ⟨36, _⟩ => ⟨S_, .i32⟩
  | .hbm, ⟨37, _⟩ => ⟨S256x1, .i32⟩
  | .hbm, ⟨38, _⟩ => ⟨S256x1, .i32⟩
  | .hbm, ⟨39, _⟩ => ⟨S_, .i32⟩
  | .hbm, ⟨40, _⟩ => ⟨S256x1, .i32⟩
  | .hbm, ⟨41, _⟩ => ⟨S256x1, .i32⟩
  | .hbm, ⟨42, _⟩ => ⟨S1x768, .i32⟩
  | .hbm, ⟨43, _⟩ => ⟨S_, .i32⟩
  | .hbm, ⟨44, _⟩ => ⟨S1x768, .i32⟩
  | .hbm, ⟨45, _⟩ => ⟨S1x768, .i32⟩
  | .hbm, ⟨46, _⟩ => ⟨S256x768, .i32⟩
  | .hbm, ⟨47, _⟩ => ⟨S256x768, .i32⟩
  | .hbm, ⟨48, _⟩ => ⟨S256x768, .i1⟩
  | .hbm, ⟨49, _⟩ => ⟨S_, .i32⟩
  | .hbm, ⟨50, _⟩ => ⟨S256x1, .i32⟩
  | .hbm, ⟨51, _⟩ => ⟨S256x1, .i32⟩
  | .hbm, ⟨52, _⟩ => ⟨S256x768, .i32⟩
  | .hbm, ⟨53, _⟩ => ⟨S256x768, .i32⟩
  | .hbm, ⟨54, _⟩ => ⟨S256x768, .i1⟩
  | .hbm, ⟨55, _⟩ => ⟨S256x768, .i1⟩
  | .hbm, ⟨56, _⟩ => ⟨S_, .f32⟩
  | .hbm, ⟨57, _⟩ => ⟨S_, .f32⟩
  | .hbm, ⟨58, _⟩ => ⟨S256x768, .f32⟩
  | .hbm, ⟨59, _⟩ => ⟨S256x768, .f32⟩
  | .hbm, ⟨60, _⟩ => ⟨S256x768, .f32⟩
  | .hbm, ⟨61, _⟩ => ⟨S256x768, .f32⟩
  | .hbm, ⟨62, _⟩ => ⟨S1x256x768, .f32⟩
  | .hbm, ⟨63, _⟩ => ⟨S16x256x768, .f32⟩
  | .hbm, ⟨64, _⟩ => ⟨S16x256x768, .f32⟩
  | .hbm, ⟨65, _⟩ => ⟨S8192x1024, .f32⟩
  | .local _ .vmem, ⟨0, _⟩ => ⟨S256x128, .f32⟩
  | .local _ .vmem, ⟨1, _⟩ => ⟨S256x128, .f32⟩
  | .local _ .vmem, ⟨2, _⟩ => ⟨S8192x128, .f32⟩
  | .local _ .vmem, ⟨3, _⟩ => ⟨S8192x128, .f32⟩
  | .local _ .vmem, ⟨4, _⟩ => ⟨S8192x128, .f32⟩
  | .local _ .vmem, ⟨5, _⟩ => ⟨S8192x128, .f32⟩
  | .local _ .vmem, ⟨6, _⟩ => ⟨S2x256x768, .f32⟩
  | .local _ .vmem, ⟨7, _⟩ => ⟨S2x256x768, .f32⟩
  | .local _ .vmem, ⟨8, _⟩ => ⟨S256x128, .f32⟩
  | .local _ .vmem, ⟨9, _⟩ => ⟨S256x128, .f32⟩
  | .local _ .vmem, ⟨10, _⟩ => ⟨S8704x128, .bf16⟩
  | .local _ .vmem, ⟨11, _⟩ => ⟨S8704x128, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_c_0 : Ref sig .tc := ⟨.hbm, 26, rfl⟩
abbrev main_call1_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_c_1 : Ref sig .tc := ⟨.hbm, 36, rfl⟩
abbrev main_v9 : Ref sig .tc := ⟨.hbm, 37, rfl⟩
abbrev main_v10 : Ref sig .tc := ⟨.hbm, 38, rfl⟩
abbrev main_c_2 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_c_3 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_c_4 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_cst : Ref sig .tc := ⟨.hbm, 56, rfl⟩
abbrev main_cst_5 : Ref sig .tc := ⟨.hbm, 57, rfl⟩
abbrev main_call2_v0 : Ref sig .tc := ⟨.hbm, 58, rfl⟩
abbrev main_call2_v1 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 32], ![false, false]⟩

def k0_mult1 (i : grid0.Coords) : BitVec 32 :=
  let arg1 : BitVec 32 := BitVec.ofNat 32 (i 1).val
  let c256_i32 : BitVec 32 := 256#32
  let v3 : BitVec 32 := Scalar.muli arg1 c256_i32
  v3
def k0_off1 (i : grid0.Coords) : Fin 2 → Nat :=
  let arg1 : BitVec 32 := BitVec.ofNat 32 (i 1).val
  let c256_i32 : BitVec 32 := 256#32
  let v3 : BitVec 32 := Scalar.muli arg1 c256_i32
  let v4 : BitVec 32 := v3
  let v8 : Index := Scalar.indexCast v4
  let c0_2 : Index := 0#32
  ![v8.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AttnFwdIdeal.lean ====
variable {F : FTy → Type} [FloatOps F] [Named F]
def κ : String → Option EReal := fun
  | "mask" => some ⊥
  | _ => none
-- ==== AttnFwdRefIdeal.lean ====
abbrev S8192x4096 : Shape := ⟨2, ![8192, 4096]⟩
abbrev S16x257 : Shape := ⟨2, ![16, 257]⟩
abbrev S8192x1024 : Shape := ⟨2, ![8192, 1024]⟩
abbrev S256 : Shape := ⟨1, ![256]⟩
abbrev S256x1 : Shape := ⟨2, ![256, 1]⟩
abbrev S768 : Shape := ⟨1, ![768]⟩
abbrev S1x768 : Shape := ⟨2, ![1, 768]⟩
abbrev S256x768 : Shape := ⟨2, ![256, 768]⟩
abbrev S_ : Shape := ⟨0, ![]⟩
abbrev S256x768x1 : Shape := ⟨3, ![256, 768, 1]⟩
abbrev S16x256x768 : Shape := ⟨3, ![16, 256, 768]⟩
abbrev S128x64x16x64 : Shape := ⟨4, ![128, 64, 16, 64]⟩
abbrev S512x16x64 : Shape := ⟨3, ![512, 16, 64]⟩
abbrev S8192x16x64 : Shape := ⟨3, ![8192, 16, 64]⟩
abbrev S8704x16x64 : Shape := ⟨3, ![8704, 16, 64]⟩
abbrev S128x576x16x64 : Shape := ⟨4, ![128, 576, 16, 64]⟩
abbrev S128x16x64x576 : Shape := ⟨4, ![128, 16, 64, 576]⟩
abbrev S16x64x576 : Shape := ⟨3, ![16, 64, 576]⟩
abbrev S1x16x64x576 : Shape := ⟨4, ![1, 16, 64, 576]⟩
abbrev S4x16x64x576 : Shape := ⟨4, ![4, 16, 64, 576]⟩
abbrev S32x4x16x64x576 : Shape := ⟨5, ![32, 4, 16, 64, 576]⟩
abbrev S1x4x16x64x576 : Shape := ⟨5, ![1, 4, 16, 64, 576]⟩
abbrev S128 : Shape := ⟨1, ![128]⟩
abbrev S128x1 : Shape := ⟨2, ![128, 1]⟩
abbrev S576 : Shape := ⟨1, ![576]⟩
abbrev S1x576 : Shape := ⟨2, ![1, 576]⟩
abbrev S128x576 : Shape := ⟨2, ![128, 576]⟩
abbrev S128x1x1x576 : Shape := ⟨4, ![128, 1, 1, 576]⟩
abbrev S128x16x64 : Shape := ⟨3, ![128, 16, 64]⟩
abbrev S128x16x64x1 : Shape := ⟨4, ![128, 16, 64, 1]⟩
abbrev S128x16x64x64 : Shape := ⟨4, ![128, 16, 64, 64]⟩

abbrev nBuf : Space → Nat
  | .hbm => 139
  | .vmem => 0
  | .smem => 0
  | _ => 0

abbrev hbmTy0_0 (i : Nat) : BufTy := match i % 128 with
  | 0 => ⟨S8192x4096, .f32⟩
  | 1 => ⟨S16x257, .f32⟩
  | 2 => ⟨S8192x1024, .f32⟩
  | 3 => ⟨S8192x1024, .f32⟩
  | 4 => ⟨S8192x1024, .f32⟩
  | 5 => ⟨S256, .i32⟩
  | 6 => ⟨S256x1, .i32⟩
  | 7 => ⟨S768, .i32⟩
  | 8 => ⟨S1x768, .i32⟩
  | 9 => ⟨S256x768, .i32⟩
  | 10 => ⟨S256x768, .i32⟩
  | 11 => ⟨S256x768, .i32⟩
  | 12 => ⟨S_, .i32⟩
  | 13 => ⟨S256x768, .i32⟩
  | 14 => ⟨S256x768, .i32⟩
  | 15 => ⟨S_, .i32⟩
  | 16 => ⟨S_, .i32⟩
  | 17 => ⟨S_, .i32⟩
  | 18 => ⟨S256x768, .i32⟩
  | 19 => ⟨S256x768, .i32⟩
  | 20 => ⟨S_, .i32⟩
  | 21 => ⟨S256x768, .i32⟩
  | 22 => ⟨S256x768, .i32⟩
  | 23 => ⟨S_, .i32⟩
  | 24 => ⟨S256x768, .i32⟩
  | 25 => ⟨S256x768, .i32⟩
  | 26 => ⟨S_, .i32⟩
  | 27 => ⟨S256x768, .i32⟩
  | 28 => ⟨S256x768, .i1⟩
  | 29 => ⟨S_, .i32⟩
  | 30 => ⟨S256x768, .i32⟩
  | 31 => ⟨S256x768, .i32⟩
  | 32 => ⟨S256x768, .i32⟩
  | 33 => ⟨S256x768x1, .i32⟩
  | 34 => ⟨S16x256x768, .f32⟩
  | 35 => ⟨S128x64x16x64, .f32⟩
  | 36 => ⟨S_, .f32⟩
  | 37 => ⟨S512x16x64, .f32⟩
  | 38 => ⟨S8192x16x64, .f32⟩
  | 39 => ⟨S8704x16x64, .f32⟩
  | 40 => ⟨S_, .f32⟩
  | 41 => ⟨S512x16x64, .f32⟩
  | 42 => ⟨S8192x16x64, .f32⟩
  | 43 => ⟨S8704x16x64, .f32⟩
  | 44 => ⟨S8192x16x64, .f32⟩
  | 45 => ⟨S128x64x16x64, .f32⟩
  | 46 => ⟨S8192x16x64, .f32⟩
  | 47 => ⟨S128x64x16x64, .f32⟩
  | 48 => ⟨S8192x16x64, .f32⟩
  | 49 => ⟨S128x64x16x64, .f32⟩
  | 50 => ⟨S8192x16x64, .f32⟩
  | 51 => ⟨S128x64x16x64, .f32⟩
  | 52 => ⟨S8192x16x64, .f32⟩
  | 53 => ⟨S128x64x16x64, .f32⟩
  | 54 => ⟨S8192x16x64, .f32⟩
  | 55 => ⟨S128x64x16x64, .f32⟩
  | 56 => ⟨S8192x16x64, .f32⟩
  | 57 => ⟨S128x64x16x64, .f32⟩
  | 58 => ⟨S8192x16x64, .f32⟩
  | 59 => ⟨S128x64x16x64, .f32⟩
  | 60 => ⟨S8192x16x64, .f32⟩
  | 61 => ⟨S128x64x16x64, .f32⟩
  | 62 => ⟨S128x576x16x64, .f32⟩
  | 63 => ⟨S128x16x64x576, .f32⟩
  | 64 => ⟨S_, .f32⟩
  | 65 => ⟨S128x16x64x576, .f32⟩
  | 66 => ⟨S128x16x64x576, .f32⟩
  | 67 => ⟨S16x64x576, .f32⟩
  | 68 => ⟨S16x64x576, .f32⟩
  | 69 => ⟨S16x64x576, .f32⟩
  | 70 => ⟨S16x64x576, .f32⟩
  | 71 => ⟨S1x16x64x576, .f32⟩
  | 72 => ⟨S1x16x64x576, .f32⟩
  | 73 => ⟨S1x16x64x576, .f32⟩
  | 74 => ⟨S1x16x64x576, .f32⟩
  | 75 => ⟨S4x16x64x576, .f32⟩
  | 76 => ⟨S32x4x16x64x576, .f32⟩
  | 77 => ⟨S1x4x16x64x576, .f32⟩
  | 78 => ⟨S32x4x16x64x576, .f32⟩
  | 79 => ⟨S32x4x16x64x576, .f32⟩
  | 80 => ⟨S128x16x64x576, .f32⟩
  | 81 => ⟨S128, .i32⟩
  | 82 => ⟨S128x1, .i32⟩
  | 83 => ⟨S_, .i32⟩
  | 84 => ⟨S128x1, .i32⟩
  | 85 => ⟨S128x1, .i32⟩
  | 86 => ⟨S_, .i32⟩
  | 87 => ⟨S128x1, .i32⟩
  | 88 => ⟨S128x1, .i32⟩
  | 89 => ⟨S576, .i32⟩
  | 90 => ⟨S1x576, .i32⟩
  | 91 => ⟨S128x576, .i32⟩
  | 92 => ⟨S128x576, .i32⟩
  | 93 => ⟨S128x576, .i32⟩
  | 94 => ⟨S_, .i32⟩
  | 95 => ⟨S128x576, .i32⟩
  | 96 => ⟨S128x576, .i1⟩
  | 97 => ⟨S128x1x1x576, .i1⟩
  | 98 => ⟨S_, .f32⟩
  | 99 => ⟨S_, .f32⟩
  | 100 => ⟨S128x16x64x576, .i1⟩
  | 101 => ⟨S128x16x64x576, .f32⟩
  | 102 => ⟨S128x16x64x576, .f32⟩
  | 103 => ⟨S_, .f32⟩
  | 104 => ⟨S128x16x64, .f32⟩
  | 105 => ⟨S_, .f32⟩
  | 106 => ⟨S128x16x64, .f32⟩
  | 107 => ⟨S128x16x64, .f32⟩
  | 108 => ⟨S128x16x64x1, .f32⟩
  | 109 => ⟨S128x16x64x576, .f32⟩
  | 110 => ⟨S128x16x64x576, .f32⟩
  | 111 => ⟨S128x16x64x576, .f32⟩
  | 112 => ⟨S_, .f32⟩
  | 113 => ⟨S128x16x64, .f32⟩
  | 114 => ⟨S128x16x64x1, .f32⟩
  | 115 => ⟨S128x16x64x576, .f32⟩
  | 116 => ⟨S128x16x64x576, .f32⟩
  | 117 => ⟨S8192x16x64, .f32⟩
  | 118 => ⟨S128x64x16x64, .f32⟩
  | 119 => ⟨S8192x16x64, .f32⟩
  | 120 => ⟨S128x64x16x64, .f32⟩
  | 121 => ⟨S8192x16x64, .f32⟩
  | 122 => ⟨S128x64x16x64, .f32⟩
  | 123 => ⟨S8192x16x64, .f32⟩
  | 124 => ⟨S128x64x16x64, .f32⟩
  | 125 => ⟨S8192x16x64, .f32⟩
  | 126 => ⟨S128x64x16x64, .f32⟩
  | 127 => ⟨S8192x16x64, .f32⟩
  | _ => ⟨S8192x4096, .f32⟩

abbrev hbmTy0_1 (i : Nat) : BufTy := match i % 128 with
  | 0 => ⟨S128x64x16x64, .f32⟩
  | 1 => ⟨S8192x16x64, .f32⟩
  | 2 => ⟨S128x64x16x64, .f32⟩
  | 3 => ⟨S8192x16x64, .f32⟩
  | 4 => ⟨S128x64x16x64, .f32⟩
  | 5 => ⟨S8192x16x64, .f32⟩
  | 6 => ⟨S128x64x16x64, .f32⟩
  | 7 => ⟨S128x576x16x64, .f32⟩
  | 8 => ⟨S128x16x64x64, .f32⟩
  | 9 => ⟨S128x64x16x64, .f32⟩
  | 10 => ⟨S8192x1024, .f32⟩
  | _ => ⟨S8192x4096, .f32⟩

abbrev hbmTy (i : Nat) : BufTy := match i / 128 with
  | 0 => hbmTy0_0 i
  | 1 => hbmTy0_1 i
  | _ => ⟨S8192x4096, .f32⟩

abbrev bufTy : (tb : Table) → Fin (tcTables nBuf tb) → BufTy
  | .hbm, ⟨i, _⟩ => hbmTy i
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_c : Ref sig .tc := ⟨.hbm, 12, rfl⟩
abbrev main_v10 : Ref sig .tc := ⟨.hbm, 13, rfl⟩
abbrev main_v11 : Ref sig .tc := ⟨.hbm, 14, rfl⟩
abbrev main_c_0 : Ref sig .tc := ⟨.hbm, 15, rfl⟩
abbrev main_c_1 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_c_3 : Ref sig .tc := ⟨.hbm, 26, rfl⟩
abbrev main_v15 : Ref sig .tc := ⟨.hbm, 27, rfl⟩
abbrev main_v16 : Ref sig .tc := ⟨.hbm, 28, rfl⟩
abbrev main_c_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_6 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_c_7 : Ref sig .tc := ⟨.hbm, 83, rfl⟩
abbrev main_v67 : Ref sig .tc := ⟨.hbm, 84, rfl⟩
abbrev main_v68 : Ref sig .tc := ⟨.hbm, 85, rfl⟩
abbrev main_c_8 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_c_9 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_cst_10 : Ref sig .tc := ⟨.hbm, 98, rfl⟩
abbrev main_call1_v0 : Ref sig .tc := ⟨.hbm, 99, rfl⟩
abbrev main_call1_v1 : Ref sig .tc := ⟨.hbm, 100, rfl⟩
abbrev main_call1_v2 : Ref sig .tc := ⟨.hbm, 101, rfl⟩
abbrev main_v79 : Ref sig .tc := ⟨.hbm, 102, rfl⟩
abbrev main_cst_11 : Ref sig .tc := ⟨.hbm, 103, rfl⟩
abbrev main_v80 : Ref sig .tc := ⟨.hbm, 104, rfl⟩
abbrev main_cst_12 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_cst_13 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩

abbrev nD : Nat := 1
abbrev τ : Topo := Topo.v7x

variable {F : FTy → Type} [FloatOps F]
-- ==== ConvFwd.lean ====
abbrev S8192x2560 : Shape := ⟨2, ![8192, 2560]⟩
abbrev S31x512 : Shape := ⟨2, ![31, 512]⟩
abbrev S512 : Shape := ⟨1, ![512]⟩
abbrev S_ : Shape := ⟨0, ![]⟩
abbrev S32x512 : Shape := ⟨2, ![32, 512]⟩
abbrev S1x512 : Shape := ⟨2, ![1, 512]⟩
abbrev S8192x512 : Shape := ⟨2, ![8192, 512]⟩
abbrev S512x512 : Shape := ⟨2, ![512, 512]⟩
abbrev S552x512 : Shape := ⟨2, ![552, 512]⟩
abbrev S8x544x512 : Shape := ⟨3, ![8, 544, 512]⟩
abbrev S8x512 : Shape := ⟨2, ![8, 512]⟩
abbrev S544x512 : Shape := ⟨2, ![544, 512]⟩
abbrev S1x544x512 : Shape := ⟨3, ![1, 544, 512]⟩
abbrev S1x8x512 : Shape := ⟨3, ![1, 8, 512]⟩
abbrev S16x512 : Shape := ⟨2, ![16, 512]⟩

abbrev nBuf : Space → Nat
  | .hbm => 8
  | .vmem => 14
  | .smem => 0
  | _ => 0

abbrev bufTy : (tb : Table) → Fin (tcTables nBuf tb) → BufTy
  | .hbm, ⟨0, _⟩ => ⟨S8192x2560, .f32⟩
  | .hbm, ⟨1, _⟩ => ⟨S31x512, .f32⟩
  | .hbm, ⟨2, _⟩ => ⟨S512, .f32⟩
  | .hbm, ⟨3, _⟩ => ⟨S_, .i32⟩
  | .hbm, ⟨4, _⟩ => ⟨S_, .f32⟩
  | .hbm, ⟨5, _⟩ => ⟨S32x512, .f32⟩
  | .hbm, ⟨6, _⟩ => ⟨S1x512, .f32⟩
  | .hbm, ⟨7, _⟩ => ⟨S8192x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S32x512, .f32⟩
  | .local _ .vmem, ⟨5, _⟩ => ⟨S32x512, .f32⟩
  | .local _ .vmem, ⟨6, _⟩ => ⟨S32x512, .f32⟩
  | .local _ .vmem, ⟨7, _⟩ => ⟨S32x512, .f32⟩
  | .local _ .vmem, ⟨8, _⟩ => ⟨S32x512, .f32⟩
  | .local _ .vmem, ⟨9, _⟩ => ⟨S1x512, .f32⟩
  | .local _ .vmem, ⟨10, _⟩ => ⟨S512x512, .f32⟩
  | .local _ .vmem, ⟨11, _⟩ => ⟨S512x512, .f32⟩
  | .local _ .vmem, ⟨12, _⟩ => ⟨S552x512, .f32⟩
  | .local _ .vmem, ⟨13, _⟩ => ⟨S8x544x512, .f32⟩
  | _, _ => ⟨S8192x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_44 : BitVec 32 := 0#32
  let c32_i32 : BitVec 32 := 32#32
  let v55 : BitVec 32 := Scalar.addi c0_i32_44 c32_i32
  let c1_i32 : BitVec 32 := 1#32
  ⟨c0_i32_44, v55, c1_i32⟩
def k0_mult1 (k0_t1 : Fin k0_t1_loop.trips) : BitVec 32 :=
  let c0_i32_44 : BitVec 32 := 0#32
  let c1_i32 : BitVec 32 := 1#32
  let arg10 : BitVec 32 := Scf.iv c0_i32_44 c1_i32 k0_t1
  let c16_i32 : BitVec 32 := 16#32
  let v56 : BitVec 32 := Scalar.muli arg10 c16_i32
  let c0_i32_51 : BitVec 32 := 0#32
  let v64 : BitVec 32 := Scalar.addi v56 c0_i32_51
  v64
def k0_off1 (k0_t1 : Fin k0_t1_loop.trips) (c0_i32_51 : BitVec 32) : Fin 3 → Nat :=
  let c2_52 : Index := 2#32
  let c0_i32_44 : BitVec 32 := 0#32
  let c1_i32 : BitVec 32 := 1#32
  let arg10 : BitVec 32 := Scf.iv c0_i32_44 c1_i32 k0_t1
  let c16_i32 : BitVec 32 := 16#32
  let v56 : BitVec 32 := Scalar.muli arg10 c16_i32
  let v64 : BitVec 32 := Scalar.addi v56 c0_i32_51
  let v65 : BitVec 32 := v64
  let v66 : Index := Scalar.indexCast v65
  let c0_53 : Index := 0#32
  ![2, v66.toNat, 0]
def k0_mult2 (k0_t1 : Fin k0_t1_loop.trips) : BitVec 32 :=
  let c0_i32_44 : BitVec 32 := 0#32
  let c1_i32 : BitVec 32 := 1#32
  let arg10 : BitVec 32 := Scf.iv c0_i32_44 c1_i32 k0_t1
  let c16_i32 : BitVec 32 := 16#32
  let v56 : BitVec 32 := Scalar.muli arg10 c16_i32
  let c8_i32 : BitVec 32 := 8#32
  let v72 : BitVec 32 := Scalar.addi v56 c8_i32
  v72
def k0_mult3 (k0_t1 : Fin k0_t1_loop.trips) : BitVec 32 :=
  let c0_i32_44 : BitVec 32 := 0#32
  let c1_i32 : BitVec 32 := 1#32
  let arg10 : BitVec 32 := Scf.iv c0_i32_44 c1_i32 k0_t1
  let c16_i32 : BitVec 32 := 16#32
  let v56 : BitVec 32 := Scalar.muli arg10 c16_i32
  let c0_i32_58 : BitVec 32 := 0#32
  let v82 : BitVec 32 := Scalar.addi v56 c0_i32_58
  v82
def k0_off2 (k0_t1 : Fin k0_t1_loop.trips) (c0_i32_58 : BitVec 32) : Fin 3 → Nat :=
  let c3_59 : Index := 3#32
  let c0_i32_44 : BitVec 32 := 0#32
  let c1_i32 : BitVec 32 := 1#32
  let arg10 : BitVec 32 := Scf.iv c0_i32_44 c1_i32 k0_t1
  let c16_i32 : BitVec 32 := 16#32
  let v56 : BitVec 32 := Scalar.muli arg10 c16_i32
  let v82 : BitVec 32 := Scalar.addi v56 c0_i32_58
  let v83 : BitVec 32 := v82
  let v84 : Index := Scalar.indexCast v83
  let c0_60 : Index := 0#32
  ![3, v84.toNat, 0]
def k0_mult4 (k0_t1 : Fin k0_t1_loop.trips) : BitVec 32 :=
  let c0_i32_44 : BitVec 32 := 0#32
  let c1_i32 : BitVec 32 := 1#32
  let arg10 : BitVec 32 := Scf.iv c0_i32_44 c1_i32 k0_t1
  let c16_i32 : BitVec 32 := 16#32
  let v56 : BitVec 32 := Scalar.muli arg10 c16_i32
  let c8_i32_61 : BitVec 32 := 8#32
  let v90 : BitVec 32 := Scalar.addi v56 c8_i32_61
  v90
def k0_mult5 (k0_t1 : Fin k0_t1_loop.trips) : BitVec 32 :=
  let c0_i32_44 : BitVec 32 := 0#32
  let c1_i32 : BitVec 32 := 1#32
  let arg10 : BitVec 32 := Scf.iv c0_i32_44 c1_i32 k0_t1
  let c16_i32 : BitVec 32 := 16#32
  let v56 : BitVec 32 := Scalar.muli arg10 c16_i32
  let c0_i32_66 : BitVec 32 := 0#32
  let v100 : BitVec 32 := Scalar.addi v56 c0_i32_66
  v100
def k0_off3 (k0_t1 : Fin k0_t1_loop.trips) (c0_i32_66 : BitVec 32) : Fin 3 → Nat :=
  let c4_67 : Index := 4#32
  let c0_i32_44 : BitVec 32 := 0#32
  let c1_i32 : BitVec 32 := 1#32
  let arg10 : BitVec 32 := Scf.iv c0_i32_44 c1_i32 k0_t1
  let c16_i32 : BitVec 32 := 16#32
  let v56 : BitVec 32 := Scalar.muli arg10 c16_i32
  let v100 : BitVec 32 := Scalar.addi v56 c0_i32_66
  let v101 : BitVec 32 := v100
  let v102 : Index := Scalar.indexCast v101
  let c0_68 : Index := 0#32
  ![4, v102.toNat, 0]
def k0_mult6 (k0_t1 : Fin k0_t1_loop.trips) : BitVec 32 :=
  let c0_i32_44 : BitVec 32 := 0#32
  let c1_i32 : BitVec 32 := 1#32
  let arg10 : BitVec 32 := Scf.iv c0_i32_44 c1_i32 k0_t1
  let c16_i32 : BitVec 32 := 16#32
  let v56 : BitVec 32 := Scalar.muli arg10 c16_i32
  let c8_i32_69 : BitVec 32 := 8#32
  let v108 : BitVec 32 := Scalar.addi v56 c8_i32_69
  v108
def k0_mult7 (k0_t1 : Fin k0_t1_loop.trips) : BitVec 32 :=
  let c0_i32_44 : BitVec 32 := 0#32
  let c1_i32 : BitVec 32 := 1#32
  let arg10 : BitVec 32 := Scf.iv c0_i32_44 c1_i32 k0_t1
  let c16_i32 : BitVec 32 := 16#32
  let v56 : BitVec 32 := Scalar.muli arg10 c16_i32
  let c0_i32_74 : BitVec 32 := 0#32
  let v118 : BitVec 32 := Scalar.addi v56 c0_i32_74
  v118
def k0_off4 (k0_t1 : Fin k0_t1_loop.trips) (c0_i32_74 : BitVec 32) : Fin 3 → Nat :=
  let c5_75 : Index := 5#32
  let c0_i32_44 : BitVec 32 := 0#32
  let c1_i32 : BitVec 32 := 1#32
  let arg10 : BitVec 32 := Scf.iv c0_i32_44 c1_i32 k0_t1
  let c16_i32 : BitVec 32 := 16#32
  let v56 : BitVec 32 := Scalar.muli arg10 c16_i32
  let v118 : BitVec 32 := Scalar.addi v56 c0_i32_74
  let v119 : BitVec 32 := v118
  let v120 : Index := Scalar.indexCast v119
  let c0_76 : Index := 0#32
  ![5, v120.toNat, 0]
def k0_mult8 (k0_t1 : Fin k0_t1_loop.trips) : BitVec 32 :=
  let c0_i32_44 : BitVec 32 := 0#32
  let c1_i32 : BitVec 32 := 1#32
  let arg10 : BitVec 32 := Scf.iv c0_i32_44 c1_i32 k0_t1
  let c16_i32 : BitVec 32 := 16#32
  let v56 : BitVec 32 := Scalar.muli arg10 c16_i32
  let c8_i32_77 : BitVec 32 := 8#32
  let v126 : BitVec 32 := Scalar.addi v56 c8_i32_77
  v126
def k0_mult9 (k0_t1 : Fin k0_t1_loop.trips) : BitVec 32 :=
  let c0_i32_44 : BitVec 32 := 0#32
  let c1_i32 : BitVec 32 := 1#32
  let arg10 : BitVec 32 := Scf.iv c0_i32_44 c1_i32 k0_t1
  let c16_i32 : BitVec 32 := 16#32
  let v56 : BitVec 32 := Scalar.muli arg10 c16_i32
  let c0_i32_82 : BitVec 32 := 0#32
  let v136 : BitVec 32 := Scalar.addi v56 c0_i32_82
  v136
def k0_off5 (k0_t1 : Fin k0_t1_loop.trips) (c0_i32_82 : BitVec 32) : Fin 3 → Nat :=
  let c6_83 : Index := 6#32
  let c0_i32_44 : BitVec 32 := 0#32
  let c1_i32 : BitVec 32 := 1#32
  let arg10 : BitVec 32 := Scf.iv c0_i32_44 c1_i32 k0_t1
  let c16_i32 : BitVec 32 := 16#32
  let v56 : BitVec 32 := Scalar.muli arg10 c16_i32
  let v136 : BitVec 32 := Scalar.addi v56 c0_i32_82
  let v137 : BitVec 32 := v136
  let v138 : Index := Scalar.indexCast v137
  let c0_84 : Index := 0#32
  ![6, v138.toNat, 0]
def k0_mult10 (k0_t1 : Fin k0_t1_loop.trips) : BitVec 32 :=
  let c0_i32_44 : BitVec 32 := 0#32
  let c1_i32 : BitVec 32 := 1#32
  let arg10 : BitVec 32 := Scf.iv c0_i32_44 c1_i32 k0_t1
  let c16_i32 : BitVec 32 := 16#32
  let v56 : BitVec 32 := Scalar.muli arg10 c16_i32
  let c8_i32_85 : BitVec 32 := 8#32
  let v144 : BitVec 32 := Scalar.addi v56 c8_i32_85
  v144
def k0_mult11 (k0_t1 : Fin k0_t1_loop.trips) : BitVec 32 :=
  let c0_i32_44 : BitVec 32 := 0#32
  let c1_i32 : BitVec 32 := 1#32
  let arg10 : BitVec 32 := Scf.iv c0_i32_44 c1_i32 k0_t1
  let c16_i32 : BitVec 32 := 16#32
  let v56 : BitVec 32 := Scalar.muli arg10 c16_i32
  let c0_i32_90 : BitVec 32 := 0#32
  let v154 : BitVec 32 := Scalar.addi v56 c0_i32_90
  v154
def k0_off6 (k0_t1 : Fin k0_t1_loop.trips) (c0_i32_90 : BitVec 32) : Fin 3 → Nat :=
  let c7_91 : Index := 7#32
  let c0_i32_44 : BitVec 32 := 0#32
  let c1_i32 : BitVec 32 := 1#32
  let arg10 : BitVec 32 := Scf.iv c0_i32_44 c1_i32 k0_t1
  let c16_i32 : BitVec 32 := 16#32
  let v56 : BitVec 32 := Scalar.muli arg10 c16_i32
  let v154 : BitVec 32 := Scalar.addi v56 c0_i32_90
  let v155 : BitVec 32 := v154
  let v156 : Index := Scalar.indexCast v155
  let c0_92 : Index := 0#32
  ![7, v156.toNat, 0]
def k0_mult12 (k0_t1 : Fin k0_t1_loop.trips) : BitVec 32 :=
  let c0_i32_44 : BitVec 32 := 0#32
  let c1_i32 : BitVec 32 := 1#32
  let arg10 : BitVec 32 := Scf.iv c0_i32_44 c1_i32 k0_t1
  let c16_i32 : BitVec 32 := 16#32
  let v56 : BitVec 32 := Scalar.muli arg10 c16_i32
  let c8_i32_93 : BitVec 32 := 8#32
  let v162 : BitVec 32 := Scalar.addi v56 c8_i32_93
  v162
def k0_mult13 (k0_t1 : Fin k0_t1_loop.trips) : BitVec 32 :=
  let c0_i32_44 : BitVec 32 := 0#32
  let c1_i32 : BitVec 32 := 1#32
  let arg10 : BitVec 32 := Scf.iv c0_i32_44 c1_i32 k0_t1
  let c16_i32 : BitVec 32 := 16#32
  let v56 : BitVec 32 := Scalar.muli arg10 c16_i32
  let c8_i32_98 : BitVec 32 := 8#32
  let v172 : BitVec 32 := Scalar.addi v56 c8_i32_98
  v172
def k0_off7 (k0_t1 : Fin k0_t1_loop.trips) (c8_i32_98 : BitVec 32) : Fin 3 → Nat :=
  let c0_99 : Index := 0#32
  let c0_i32_44 : BitVec 32 := 0#32
  let c1_i32 : BitVec 32 := 1#32
  let arg10 : BitVec 32 := Scf.iv c0_i32_44 c1_i32 k0_t1
  let c16_i32 : BitVec 32 := 16#32
  let v56 : BitVec 32 := Scalar.muli arg10 c16_i32
  let v172 : BitVec 32 := Scalar.addi v56 c8_i32_98
  let v173 : BitVec 32 := v172
  let v174 : Index := Scalar.indexCast v173
  let c0_100 : Index := 0#32
  ![0, v174.toNat, 0]
def k0_mult14 (k0_t1 : Fin k0_t1_loop.trips) : BitVec 32 :=
  let c0_i32_44 : BitVec 32 := 0#32
  let c1_i32 : BitVec 32 := 1#32
  let arg10 : BitVec 32 := Scf.iv c0_i32_44 c1_i32 k0_t1
  let c16_i32 : BitVec 32 := 16#32
  let v56 : BitVec 32 := Scalar.muli arg10 c16_i32
  let c16_i32_101 : BitVec 32 := 16#32
  let v180 : BitVec 32 := Scalar.addi v56 c16_i32_101
  v180
def k0_mult15 (k0_t1 : Fin k0_t1_loop.trips) : BitVec 32 :=
  let c0_i32_44 : BitVec 32 := 0#32
  let c1_i32 : BitVec 32 := 1#32
  let arg10 : BitVec 32 := Scf.iv c0_i32_44 c1_i32 k0_t1
  let c16_i32 : BitVec 32 := 16#32
  let v56 : BitVec 32 := Scalar.muli arg10 c16_i32
  let c8_i32_106 : BitVec 32 := 8#32
  let v190 : BitVec 32 := Scalar.addi v56 c8_i32_106
  v190
def k0_off8 (k0_t1 : Fin k0_t1_loop.trips) (c8_i32_106 : BitVec 32) : Fin 3 → Nat :=
  let c1_107 : Index := 1#32
  let c0_i32_44 : BitVec 32 := 0#32
  let c1_i32 : BitVec 32 := 1#32
  let arg10 : BitVec 32 := Scf.iv c0_i32_44 c1_i32 k0_t1
  let c16_i32 : BitVec 32 := 16#32
  let v56 : BitVec 32 := Scalar.muli arg10 c16_i32
  let v190 : BitVec 32 := Scalar.addi v56 c8_i32_106
  let v191 : BitVec 32 := v190
  let v192 : Index := Scalar.indexCast v191
  let c0_108 : Index := 0#32
  ![1, v192.toNat, 0]
def k0_mult16 (k0_t1 : Fin k0_t1_loop.trips) : BitVec 32 :=
  let c0_i32_44 : BitVec 32 := 0#32
  let c1_i32 : BitVec 32 := 1#32
  let arg10 : BitVec 32 := Scf.iv c0_i32_44 c1_i32 k0_t1
  let c16_i32 : BitVec 32 := 16#32
  let v56 : BitVec 32 := Scalar.muli arg10 c16_i32
  let c16_i32_109 : BitVec 32 := 16#32
  let v198 : BitVec 32 := Scalar.addi v56 c16_i32_109
  v198
def k0_mult17 (k0_t1 : Fin k0_t1_loop.trips) : BitVec 32 :=
  let c0_i32_44 : BitVec 32 := 0#32
  let c1_i32 : BitVec 32 := 1#32
  let arg10 : BitVec 32 := Scf.iv c0_i32_44 c1_i32 k0_t1
  let c16_i32 : BitVec 32 := 16#32
  let v56 : BitVec 32 := Scalar.muli arg10 c16_i32
  let c8_i32_113 : BitVec 32 := 8#32
  let v208 : BitVec 32 := Scalar.addi v56 c8_i32_113
  v208
def k0_mult18 (k0_t1 : Fin k0_t1_loop.trips) : BitVec 32 :=
  let c0_i32_44 : BitVec 32 := 0#32
  let c1_i32 : BitVec 32 := 1#32
  let arg10 : BitVec 32 := Scf.iv c0_i32_44 c1_i32 k0_t1
  let c16_i32 : BitVec 32 := 16#32
  let v56 : BitVec 32 := Scalar.muli arg10 c16_i32
  let c16_i32_116 : BitVec 32 := 16#32
  let v216 : BitVec 32 := Scalar.addi v56 c16_i32_116
  v216
def k0_mult19 (k0_t1 : Fin k0_t1_loop.trips) : BitVec 32 :=
  let c0_i32_44 : BitVec 32 := 0#32
  let c1_i32 : BitVec 32 := 1#32
  let arg10 : BitVec 32 := Scf.iv c0_i32_44 c1_i32 k0_t1
  let c16_i32 : BitVec 32 := 16#32
  let v56 : BitVec 32 := Scalar.muli arg10 c16_i32
  let c8_i32_120 : BitVec 32 := 8#32
  let v226 : BitVec 32 := Scalar.addi v56 c8_i32_120
  v226
def k0_mult20 (k0_t1 : Fin k0_t1_loop.trips) : BitVec 32 :=
  let c0_i32_44 : BitVec 32 := 0#32
  let c1_i32 : BitVec 32 := 1#32
  let arg10 : BitVec 32 := Scf.iv c0_i32_44 c1_i32 k0_t1
  let c16_i32 : BitVec 32 := 16#32
  let v56 : BitVec 32 := Scalar.muli arg10 c16_i32
  let c16_i32_123 : BitVec 32 := 16#32
  let v234 : BitVec 32 := Scalar.addi v56 c16_i32_123
  v234
def k0_mult21 (k0_t1 : Fin k0_t1_loop.trips) : BitVec 32 :=
  let c0_i32_44 : BitVec 32 := 0#32
  let c1_i32 : BitVec 32 := 1#32
  let arg10 : BitVec 32 := Scf.iv c0_i32_44 c1_i32 k0_t1
  let c16_i32 : BitVec 32 := 16#32
  let v56 : BitVec 32 := Scalar.muli arg10 c16_i32
  let c8_i32_127 : BitVec 32 := 8#32
  let v244 : BitVec 32 := Scalar.addi v56 c8_i32_127
  v244
def k0_mult22 (k0_t1 : Fin k0_t1_loop.trips) : BitVec 32 :=
  let c0_i32_44 : BitVec 32 := 0#32
  let c1_i32 : BitVec 32 := 1#32
  let arg10 : BitVec 32 := Scf.iv c0_i32_44 c1_i32 k0_t1
  let c16_i32 : BitVec 32 := 16#32
  let v56 : BitVec 32 := Scalar.muli arg10 c16_i32
  let c16_i32_130 : BitVec 32 := 16#32
  let v252 : BitVec 32 := Scalar.addi v56 c16_i32_130
  v252
def k0_mult23 (k0_t1 : Fin k0_t1_loop.trips) : BitVec 32 :=
  let c0_i32_44 : BitVec 32 := 0#32
  let c1_i32 : BitVec 32 := 1#32
  let arg10 : BitVec 32 := Scf.iv c0_i32_44 c1_i32 k0_t1
  let c16_i32 : BitVec 32 := 16#32
  let v56 : BitVec 32 := Scalar.muli arg10 c16_i32
  let c8_i32_134 : BitVec 32 := 8#32
  let v262 : BitVec 32 := Scalar.addi v56 c8_i32_134
  v262
def k0_mult24 (k0_t1 : Fin k0_t1_loop.trips) : BitVec 32 :=
  let c0_i32_44 : BitVec 32 := 0#32
  let c1_i32 : BitVec 32 := 1#32
  let arg10 : BitVec 32 := Scf.iv c0_i32_44 c1_i32 k0_t1
  let c16_i32 : BitVec 32 := 16#32
  let v56 : BitVec 32 := Scalar.muli arg10 c16_i32
  let c16_i32_137 : BitVec 32 := 16#32
  let v270 : BitVec 32 := Scalar.addi v56 c16_i32_137
  v270
def k0_mult25 (k0_t1 : Fin k0_t1_loop.trips) : BitVec 32 :=
  let c0_i32_44 : BitVec 32 := 0#32
  let c1_i32 : BitVec 32 := 1#32
  let arg10 : BitVec 32 := Scf.iv c0_i32_44 c1_i32 k0_t1
  let c16_i32 : BitVec 32 := 16#32
  let v56 : BitVec 32 := Scalar.muli arg10 c16_i32
  let c8_i32_141 : BitVec 32 := 8#32
  let v280 : BitVec 32 := Scalar.addi v56 c8_i32_141
  v280
def k0_mult26 (k0_t1 : Fin k0_t1_loop.trips) : BitVec 32 :=
  let c0_i32_44 : BitVec 32 := 0#32
  let c1_i32 : BitVec 32 := 1#32
  let arg10 : BitVec 32 := Scf.iv c0_i32_44 c1_i32 k0_t1
  let c16_i32 : BitVec 32 := 16#32
  let v56 : BitVec 32 := Scalar.muli arg10 c16_i32
  let c16_i32_144 : BitVec 32 := 16#32
  let v288 : BitVec 32 := Scalar.addi v56 c16_i32_144
  v288
def k0_mult27 (k0_t1 : Fin k0_t1_loop.trips) : BitVec 32 :=
  let c0_i32_44 : BitVec 32 := 0#32
  let c1_i32 : BitVec 32 := 1#32
  let arg10 : BitVec 32 := Scf.iv c0_i32_44 c1_i32 k0_t1
  let c16_i32 : BitVec 32 := 16#32
  let v56 : BitVec 32 := Scalar.muli arg10 c16_i32
  let c8_i32_148 : BitVec 32 := 8#32
  let v298 : BitVec 32 := Scalar.addi v56 c8_i32_148
  v298
def k0_mult28 (k0_t1 : Fin k0_t1_loop.trips) : BitVec 32 :=
  let c0_i32_44 : BitVec 32 := 0#32
  let c1_i32 : BitVec 32 := 1#32
  let arg10 : BitVec 32 := Scf.iv c0_i32_44 c1_i32 k0_t1
  let c16_i32 : BitVec 32 := 16#32
  let v56 : BitVec 32 := Scalar.muli arg10 c16_i32
  let c16_i32_151 : BitVec 32 := 16#32
  let v306 : BitVec 32 := Scalar.addi v56 c16_i32_151
  v306
def k0_mult29 (k0_t1 : Fin k0_t1_loop.trips) : BitVec 32 :=
  let c0_i32_44 : BitVec 32 := 0#32
  let c1_i32 : BitVec 32 := 1#32
  let arg10 : BitVec 32 := Scf.iv c0_i32_44 c1_i32 k0_t1
  let c16_i32 : BitVec 32 := 16#32
  let v56 : BitVec 32 := Scalar.muli arg10 c16_i32
  let c16_i32_155 : BitVec 32 := 16#32
  let v316 : BitVec 32 := Scalar.addi v56 c16_i32_155
  v316
def k0_mult30 (k0_t1 : Fin k0_t1_loop.trips) : BitVec 32 :=
  let c0_i32_44 : BitVec 32 := 0#32
  let c1_i32 : BitVec 32 := 1#32
  let arg10 : BitVec 32 := Scf.iv c0_i32_44 c1_i32 k0_t1
  let c16_i32 : BitVec 32 := 16#32
  let v56 : BitVec 32 := Scalar.muli arg10 c16_i32
  let c24_i32 : BitVec 32 := 24#32
  let v324 : BitVec 32 := Scalar.addi v56 c24_i32
  v324
def k0_mult31 (k0_t1 : Fin k0_t1_loop.trips) : BitVec 32 :=
  let c0_i32_44 : BitVec 32 := 0#32
  let c1_i32 : BitVec 32 := 1#32
  let arg10 : BitVec 32 := Scf.iv c0_i32_44 c1_i32 k0_t1
  let c16_i32 : BitVec 32 := 16#32
  let v56 : BitVec 32 := Scalar.muli arg10 c16_i32
  let c16_i32_161 : BitVec 32 := 16#32
  let v334 : BitVec 32 := Scalar.addi v56 c16_i32_161
  v334
def k0_mult32 (k0_t1 : Fin k0_t1_loop.trips) : BitVec 32 :=
  let c0_i32_44 : BitVec 32 := 0#32
  let c1_i32 : BitVec 32 := 1#32
  let arg10 : BitVec 32 := Scf.iv c0_i32_44 c1_i32 k0_t1
  let c16_i32 : BitVec 32 := 16#32
  let v56 : BitVec 32 := Scalar.muli arg10 c16_i32
  let c24_i32_164 : BitVec 32 := 24#32
  let v342 : BitVec 32 := Scalar.addi v56 c24_i32_164
  v342
def k0_mult33 (k0_t1 : Fin k0_t1_loop.trips) : BitVec 32 :=
  let c0_i32_44 : BitVec 32 := 0#32
  let c1_i32 : BitVec 32 := 1#32
  let arg10 : BitVec 32 := Scf.iv c0_i32_44 c1_i32 k0_t1
  let c16_i32 : BitVec 32 := 16#32
  let v56 : BitVec 32 := Scalar.muli arg10 c16_i32
  let c16_i32_168 : BitVec 32 := 16#32
  let v352 : BitVec 32 := Scalar.addi v56 c16_i32_168
  v352
def k0_mult34 (k0_t1 : Fin k0_t1_loop.trips) : BitVec 32 :=
  let c0_i32_44 : BitVec 32 := 0#32
  let c1_i32 : BitVec 32 := 1#32
  let arg10 : BitVec 32 := Scf.iv c0_i32_44 c1_i32 k0_t1
  let c16_i32 : BitVec 32 := 16#32
  let v56 : BitVec 32 := Scalar.muli arg10 c16_i32
  let c24_i32_171 : BitVec 32 := 24#32
  let v360 : BitVec 32 := Scalar.addi v56 c24_i32_171
  v360
def k0_mult35 (k0_t1 : Fin k0_t1_loop.trips) : BitVec 32 :=
  let c0_i32_44 : BitVec 32 := 0#32
  let c1_i32 : BitVec 32 := 1#32
  let arg10 : BitVec 32 := Scf.iv c0_i32_44 c1_i32 k0_t1
  let c16_i32 : BitVec 32 := 16#32
  let v56 : BitVec 32 := Scalar.muli arg10 c16_i32
  let c16_i32_175 : BitVec 32 := 16#32
  let v370 : BitVec 32 := Scalar.addi v56 c16_i32_175
  v370
def k0_mult36 (k0_t1 : Fin k0_t1_loop.trips) : BitVec 32 :=
  let c0_i32_44 : BitVec 32 := 0#32
  let c1_i32 : BitVec 32 := 1#32
  let arg10 : BitVec 32 := Scf.iv c0_i32_44 c1_i32 k0_t1
  let c16_i32 : BitVec 32 := 16#32
  let v56 : BitVec 32 := Scalar.muli arg10 c16_i32
  let c24_i32_178 : BitVec 32 := 24#32
  let v378 : BitVec 32 := Scalar.addi v56 c24_i32_178
  v378
def k0_mult37 (k0_t1 : Fin k0_t1_loop.trips) : BitVec 32 :=
  let c0_i32_44 : BitVec 32 := 0#32
  let c1_i32 : BitVec 32 := 1#32
  let arg10 : BitVec 32 := Scf.iv c0_i32_44 c1_i32 k0_t1
  let c16_i32 : BitVec 32 := 16#32
  let v56 : BitVec 32 := Scalar.muli arg10 c16_i32
  let c16_i32_182 : BitVec 32 := 16#32
  let v388 : BitVec 32 := Scalar.addi v56 c16_i32_182
  v388
def k0_mult38 (k0_t1 : Fin k0_t1_loop.trips) : BitVec 32 :=
  let c0_i32_44 : BitVec 32 := 0#32
  let c1_i32 : BitVec 32 := 1#32
  let arg10 : BitVec 32 := Scf.iv c0_i32_44 c1_i32 k0_t1
  let c16_i32 : BitVec 32 := 16#32
  let v56 : BitVec 32 := Scalar.muli arg10 c16_i32
  let c24_i32_185 : BitVec 32 := 24#32
  let v396 : BitVec 32 := Scalar.addi v56 c24_i32_185
  v396
def k0_mult39 (k0_t1 : Fin k0_t1_loop.trips) : BitVec 32 :=
  let c0_i32_44 : BitVec 32 := 0#32
  let c1_i32 : BitVec 32 := 1#32
  let arg10 : BitVec 32 := Scf.iv c0_i32_44 c1_i32 k0_t1
  let c16_i32 : BitVec 32 := 16#32
  let v56 : BitVec 32 := Scalar.muli arg10 c16_i32
  let c16_i32_189 : BitVec 32 := 16#32
  let v406 : BitVec 32 := Scalar.addi v56 c16_i32_189
  v406
def k0_mult40 (k0_t1 : Fin k0_t1_loop.trips) : BitVec 32 :=
  let c0_i32_44 : BitVec 32 := 0#32
  let c1_i32 : BitVec 32 := 1#32
  let arg10 : BitVec 32 := Scf.iv c0_i32_44 c1_i32 k0_t1
  let c16_i32 : BitVec 32 := 16#32
  let v56 : BitVec 32 := Scalar.muli arg10 c16_i32
  let c24_i32_192 : BitVec 32 := 24#32
  let v414 : BitVec 32 := Scalar.addi v56 c24_i32_192
  v414
def k0_mult41 (k0_t1 : Fin k0_t1_loop.trips) : BitVec 32 :=
  let c0_i32_44 : BitVec 32 := 0#32
  let c1_i32 : BitVec 32 := 1#32
  let arg10 : BitVec 32 := Scf.iv c0_i32_44 c1_i32 k0_t1
  let c16_i32 : BitVec 32 := 16#32
  let v56 : BitVec 32 := Scalar.muli arg10 c16_i32
  let c16_i32_196 : BitVec 32 := 16#32
  let v424 : BitVec 32 := Scalar.addi v56 c16_i32_196
  v424
def k0_mult42 (k0_t1 : Fin k0_t1_loop.trips) : BitVec 32 :=
  let c0_i32_44 : BitVec 32 := 0#32
  let c1_i32 : BitVec 32 := 1#32
  let arg10 : BitVec 32 := Scf.iv c0_i32_44 c1_i32 k0_t1
  let c16_i32 : BitVec 32 := 16#32
  let v56 : BitVec 32 := Scalar.muli arg10 c16_i32
  let c24_i32_199 : BitVec 32 := 24#32
  let v432 : BitVec 32 := Scalar.addi v56 c24_i32_199
  v432
def k0_mult43 (k0_t1 : Fin k0_t1_loop.trips) : BitVec 32 :=
  let c0_i32_44 : BitVec 32 := 0#32
  let c1_i32 : BitVec 32 := 1#32
  let arg10 : BitVec 32 := Scf.iv c0_i32_44 c1_i32 k0_t1
  let c16_i32 : BitVec 32 := 16#32
  let v56 : BitVec 32 := Scalar.muli arg10 c16_i32
  let c16_i32_203 : BitVec 32 := 16#32
  let v442 : BitVec 32 := Scalar.addi v56 c16_i32_203
  v442
def k0_mult44 (k0_t1 : Fin k0_t1_loop.trips) : BitVec 32 :=
  let c0_i32_44 : BitVec 32 := 0#32
  let c1_i32 : BitVec 32 := 1#32
  let arg10 : BitVec 32 := Scf.iv c0_i32_44 c1_i32 k0_t1
  let c16_i32 : BitVec 32 := 16#32
  let v56 : BitVec 32 := Scalar.muli arg10 c16_i32
  let c24_i32_206 : BitVec 32 := 24#32
  let v450 : BitVec 32 := Scalar.addi v56 c24_i32_206
  v450
def k0_mult45 (k0_t1 : Fin k0_t1_loop.trips) : BitVec 32 :=
  let c0_i32_44 : BitVec 32 := 0#32
  let c1_i32 : BitVec 32 := 1#32
  let arg10 : BitVec 32 := Scf.iv c0_i32_44 c1_i32 k0_t1
  let c16_i32 : BitVec 32 := 16#32
  let v56 : BitVec 32 := Scalar.muli arg10 c16_i32
  let c24_i32_210 : BitVec 32 := 24#32
  let v460 : BitVec 32 := Scalar.addi v56 c24_i32_210
  v460
def k0_mult46 (k0_t1 : Fin k0_t1_loop.trips) : BitVec 32 :=
  let c0_i32_44 : BitVec 32 := 0#32
  let c1_i32 : BitVec 32 := 1#32
  let arg10 : BitVec 32 := Scf.iv c0_i32_44 c1_i32 k0_t1
  let c16_i32 : BitVec 32 := 16#32
  let v56 : BitVec 32 := Scalar.muli arg10 c16_i32
  let c32_i32_213 : BitVec 32 := 32#32
  let v468 : BitVec 32 := Scalar.addi v56 c32_i32_213
  v468
def k0_mult47 (k0_t1 : Fin k0_t1_loop.trips) : BitVec 32 :=
  let c0_i32_44 : BitVec 32 := 0#32
  let c1_i32 : BitVec 32 := 1#32
  let arg10 : BitVec 32 := Scf.iv c0_i32_44 c1_i32 k0_t1
  let c16_i32 : BitVec 32 := 16#32
  let v56 : BitVec 32 := Scalar.muli arg10 c16_i32
  let c24_i32_217 : BitVec 32 := 24#32
  let v478 : BitVec 32 := Scalar.addi v56 c24_i32_217
  v478
def k0_mult48 (k0_t1 : Fin k0_t1_loop.trips) : BitVec 32 :=
  let c0_i32_44 : BitVec 32 := 0#32
  let c1_i32 : BitVec 32 := 1#32
  let arg10 : BitVec 32 := Scf.iv c0_i32_44 c1_i32 k0_t1
  let c16_i32 : BitVec 32 := 16#32
  let v56 : BitVec 32 := Scalar.muli arg10 c16_i32
  let c32_i32_220 : BitVec 32 := 32#32
  let v486 : BitVec 32 := Scalar.addi v56 c32_i32_220
  v486
def k0_mult49 (k0_t1 : Fin k0_t1_loop.trips) : BitVec 32 :=
  let c0_i32_44 : BitVec 32 := 0#32
  let c1_i32 : BitVec 32 := 1#32
  let arg10 : BitVec 32 := Scf.iv c0_i32_44 c1_i32 k0_t1
  let c16_i32 : BitVec 32 := 16#32
  let v56 : BitVec 32 := Scalar.muli arg10 c16_i32
  let c24_i32_224 : BitVec 32 := 24#32
  let v496 : BitVec 32 := Scalar.addi v56 c24_i32_224
  v496
def k0_mult50 (k0_t1 : Fin k0_t1_loop.trips) : BitVec 32 :=
  let c0_i32_44 : BitVec 32 := 0#32
  let c1_i32 : BitVec 32 := 1#32
  let arg10 : BitVec 32 := Scf.iv c0_i32_44 c1_i32 k0_t1
  let c16_i32 : BitVec 32 := 16#32
  let v56 : BitVec 32 := Scalar.muli arg10 c16_i32
  let c32_i32_227 : BitVec 32 := 32#32
  let v504 : BitVec 32 := Scalar.addi v56 c32_i32_227
  v504
def k0_mult51 (k0_t1 : Fin k0_t1_loop.trips) : BitVec 32 :=
  let c0_i32_44 : BitVec 32 := 0#32
  let c1_i32 : BitVec 32 := 1#32
  let arg10 : BitVec 32 := Scf.iv c0_i32_44 c1_i32 k0_t1
  let c16_i32 : BitVec 32 := 16#32
  let v56 : BitVec 32 := Scalar.muli arg10 c16_i32
  let c24_i32_231 : BitVec 32 := 24#32
  let v514 : BitVec 32 := Scalar.addi v56 c24_i32_231
  v514
def k0_mult52 (k0_t1 : Fin k0_t1_loop.trips) : BitVec 32 :=
  let c0_i32_44 : BitVec 32 := 0#32
  let c1_i32 : BitVec 32 := 1#32
  let arg10 : BitVec 32 := Scf.iv c0_i32_44 c1_i32 k0_t1
  let c16_i32 : BitVec 32 := 16#32
  let v56 : BitVec 32 := Scalar.muli arg10 c16_i32
  let c32_i32_234 : BitVec 32 := 32#32
  let v522 : BitVec 32 := Scalar.addi v56 c32_i32_234
  v522
def k0_mult53 (k0_t1 : Fin k0_t1_loop.trips) : BitVec 32 :=
  let c0_i32_44 : BitVec 32 := 0#32
  let c1_i32 : BitVec 32 := 1#32
  let arg10 : BitVec 32 := Scf.iv c0_i32_44 c1_i32 k0_t1
  let c16_i32 : BitVec 32 := 16#32
  let v56 : BitVec 32 := Scalar.muli arg10 c16_i32
  let c24_i32_238 : BitVec 32 := 24#32
  let v532 : BitVec 32 := Scalar.addi v56 c24_i32_238
  v532
def k0_mult54 (k0_t1 : Fin k0_t1_loop.trips) : BitVec 32 :=
  let c0_i32_44 : BitVec 32 := 0#32
  let c1_i32 : BitVec 32 := 1#32
  let arg10 : BitVec 32 := Scf.iv c0_i32_44 c1_i32 k0_t1
  let c16_i32 : BitVec 32 := 16#32
  let v56 : BitVec 32 := Scalar.muli arg10 c16_i32
  let c32_i32_241 : BitVec 32 := 32#32
  let v540 : BitVec 32 := Scalar.addi v56 c32_i32_241
  v540
def k0_mult55 (k0_t1 : Fin k0_t1_loop.trips) : BitVec 32 :=
  let c0_i32_44 : BitVec 32 := 0#32
  let c1_i32 : BitVec 32 := 1#32
  let arg10 : BitVec 32 := Scf.iv c0_i32_44 c1_i32 k0_t1
  let c16_i32 : BitVec 32 := 16#32
  let v56 : BitVec 32 := Scalar.muli arg10 c16_i32
  let c24_i32_245 : BitVec 32 := 24#32
  let v550 : BitVec 32 := Scalar.addi v56 c24_i32_245
  v550
def k0_mult56 (k0_t1 : Fin k0_t1_loop.trips) : BitVec 32 :=
  let c0_i32_44 : BitVec 32 := 0#32
  let c1_i32 : BitVec 32 := 1#32
  let arg10 : BitVec 32 := Scf.iv c0_i32_44 c1_i32 k0_t1
  let c16_i32 : BitVec 32 := 16#32
  let v56 : BitVec 32 := Scalar.muli arg10 c16_i32
  let c32_i32_248 : BitVec 32 := 32#32
  let v558 : BitVec 32 := Scalar.addi v56 c32_i32_248
  v558
def k0_mult57 (k0_t1 : Fin k0_t1_loop.trips) : BitVec 32 :=
  let c0_i32_44 : BitVec 32 := 0#32
  let c1_i32 : BitVec 32 := 1#32
  let arg10 : BitVec 32 := Scf.iv c0_i32_44 c1_i32 k0_t1
  let c16_i32 : BitVec 32 := 16#32
  let v56 : BitVec 32 := Scalar.muli arg10 c16_i32
  let c24_i32_252 : BitVec 32 := 24#32
  let v568 : BitVec 32 := Scalar.addi v56 c24_i32_252
  v568
def k0_mult58 (k0_t1 : Fin k0_t1_loop.trips) : BitVec 32 :=
  let c0_i32_44 : BitVec 32 := 0#32
  let c1_i32 : BitVec 32 := 1#32
  let arg10 : BitVec 32 := Scf.iv c0_i32_44 c1_i32 k0_t1
  let c16_i32 : BitVec 32 := 16#32
  let v56 : BitVec 32 := Scalar.muli arg10 c16_i32
  let c32_i32_255 : BitVec 32 := 32#32
  let v576 : BitVec 32 := Scalar.addi v56 c32_i32_255
  v576
def k0_mult59 (k0_t1 : Fin k0_t1_loop.trips) : BitVec 32 :=
  let c0_i32_44 : BitVec 32 := 0#32
  let c1_i32 : BitVec 32 := 1#32
  let arg10 : BitVec 32 := Scf.iv c0_i32_44 c1_i32 k0_t1
  let c16_i32 : BitVec 32 := 16#32
  let v56 : BitVec 32 := Scalar.muli arg10 c16_i32
  let c24_i32_259 : BitVec 32 := 24#32
  let v586 : BitVec 32 := Scalar.addi v56 c24_i32_259
  v586
def k0_mult60 (k0_t1 : Fin k0_t1_loop.trips) : BitVec 32 :=
  let c0_i32_44 : BitVec 32 := 0#32
  let c1_i32 : BitVec 32 := 1#32
  let arg10 : BitVec 32 := Scf.iv c0_i32_44 c1_i32 k0_t1
  let c16_i32 : BitVec 32 := 16#32
  let v56 : BitVec 32 := Scalar.muli arg10 c16_i32
  let c32_i32_262 : BitVec 32 := 32#32
  let v594 : BitVec 32 := Scalar.addi v56 c32_i32_262
  v594
def k0_mult61 (k0_t1 : Fin k0_t1_loop.trips) : BitVec 32 :=
  let c0_i32_44 : BitVec 32 := 0#32
  let c1_i32 : BitVec 32 := 1#32
  let arg10 : BitVec 32 := Scf.iv c0_i32_44 c1_i32 k0_t1
  let c16_i32 : BitVec 32 := 16#32
  let v56 : BitVec 32 := Scalar.muli arg10 c16_i32
  let c32_i32_266 : BitVec 32 := 32#32
  let v604 : BitVec 32 := Scalar.addi v56 c32_i32_266
  v604
def k0_mult62 (k0_t1 : Fin k0_t1_loop.trips) : BitVec 32 :=
  let c0_i32_44 : BitVec 32 := 0#32
  let c1_i32 : BitVec 32 := 1#32
  let arg10 : BitVec 32 := Scf.iv c0_i32_44 c1_i32 k0_t1
  let c16_i32 : BitVec 32 := 16#32
  let v56 : BitVec 32 := Scalar.muli arg10 c16_i32
  let c40_i32 : BitVec 32 := 40#32
  let v612 : BitVec 32 := Scalar.addi v56 c40_i32
  v612
def k0_mult63 (k0_t1 : Fin k0_t1_loop.trips) : BitVec 32 :=
  let c0_i32_44 : BitVec 32 := 0#32
  let c1_i32 : BitVec 32 := 1#32
  let arg10 : BitVec 32 := Scf.iv c0_i32_44 c1_i32 k0_t1
  let c16_i32 : BitVec 32 := 16#32
  let v56 : BitVec 32 := Scalar.muli arg10 c16_i32
  v56
def k0_off9 (k0_t1 : Fin k0_t1_loop.trips) : Fin 2 → Nat :=
  let c0_i32_44 : BitVec 32 := 0#32
  let c1_i32 : BitVec 32 := 1#32
  let arg10 : BitVec 32 := Scf.iv c0_i32_44 c1_i32 k0_t1
  let c16_i32 : BitVec 32 := 16#32
  let v56 : BitVec 32 := Scalar.muli arg10 c16_i32
  let v621 : BitVec 32 := v56
  let v622 : Index := Scalar.indexCast v621
  let c0_271 : Index := 0#32
  ![v622.toNat, 0]
def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_3 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let c0_i32_0 : BitVec 32 := 0#32
  ![v2.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S32x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ConvFwdRefIdeal.lean ====
abbrev S8192x2560 : Shape := ⟨2, ![8192, 2560]⟩
abbrev S31x512 : Shape := ⟨2, ![31, 512]⟩
abbrev S512 : Shape := ⟨1, ![512]⟩
abbrev S8192x512 : Shape := ⟨2, ![8192, 512]⟩
abbrev S_ : Shape := ⟨0, ![]⟩
abbrev S30x512 : Shape := ⟨2, ![30, 512]⟩
abbrev S8222x512 : Shape := ⟨2, ![8222, 512]⟩
abbrev S1x512 : Shape := ⟨2, ![1, 512]⟩

abbrev nBuf : Space → Nat
  | .hbm => 239
  | .vmem => 0
  | .smem => 0
  | _ => 0

abbrev hbmTy0_0 (i : Nat) : BufTy := match i % 128 with
  | 0 => ⟨S8192x2560, .f32⟩
  | 1 => ⟨S31x512, .f32⟩
  | 2 => ⟨S512, .f32⟩
  | 3 => ⟨S8192x512, .f32⟩
  | 4 => ⟨S8192x512, .f32⟩
  | 5 => ⟨S8192x512, .f32⟩
  | 6 => ⟨S8192x512, .f32⟩
  | 7 => ⟨S_, .f32⟩
  | 8 => ⟨S8192x512, .f32⟩
  | 9 => ⟨S8192x512, .f32⟩
  | 10 => ⟨S_, .f32⟩
  | 11 => ⟨S8192x512, .f32⟩
  | 12 => ⟨S8192x512, .f32⟩
  | 13 => ⟨S8192x512, .f32⟩
  | 14 => ⟨S_, .f32⟩
  | 15 => ⟨S30x512, .f32⟩
  | 16 => ⟨S8222x512, .f32⟩
  | 17 => ⟨S8192x512, .f32⟩
  | 18 => ⟨S1x512, .f32⟩
  | 19 => ⟨S512, .f32⟩
  | 20 => ⟨S1x512, .f32⟩
  | 21 => ⟨S8192x512, .f32⟩
  | 22 => ⟨S8192x512, .f32⟩
  | 23 => ⟨S_, .f32⟩
  | 24 => ⟨S8192x512, .f32⟩
  | 25 => ⟨S8192x512, .f32⟩
  | 26 => ⟨S8192x512, .f32⟩
  | 27 => ⟨S1x512, .f32⟩
  | 28 => ⟨S512, .f32⟩
  | 29 => ⟨S1x512, .f32⟩
  | 30 => ⟨S8192x512, .f32⟩
  | 31 => ⟨S8192x512, .f32⟩
  | 32 => ⟨S8192x512, .f32⟩
  | 33 => ⟨S8192x512, .f32⟩
  | 34 => ⟨S1x512, .f32⟩
  | 35 => ⟨S512, .f32⟩
  | 36 => ⟨S1x512, .f32⟩
  | 37 => ⟨S8192x512, .f32⟩
  | 38 => ⟨S8192x512, .f32⟩
  | 39 => ⟨S8192x512, .f32⟩
  | 40 => ⟨S8192x512, .f32⟩
  | 41 => ⟨S1x512, .f32⟩
  | 42 => ⟨S512, .f32⟩
  | 43 => ⟨S1x512, .f32⟩
  | 44 => ⟨S8192x512, .f32⟩
  | 45 => ⟨S8192x512, .f32⟩
  | 46 => ⟨S8192x512, .f32⟩
  | 47 => ⟨S8192x512, .f32⟩
  | 48 => ⟨S1x512, .f32⟩
  | 49 => ⟨S512, .f32⟩
  | 50 => ⟨S1x512, .f32⟩
  | 51 => ⟨S8192x512, .f32⟩
  | 52 => ⟨S8192x512, .f32⟩
  | 53 => ⟨S8192x512, .f32⟩
  | 54 => ⟨S8192x512, .f32⟩
  | 55 => ⟨S1x512, .f32⟩
  | 56 => ⟨S512, .f32⟩
  | 57 => ⟨S1x512, .f32⟩
  | 58 => ⟨S8192x512, .f32⟩
  | 59 => ⟨S8192x512, .f32⟩
  | 60 => ⟨S8192x512, .f32⟩
  | 61 => ⟨S8192x512, .f32⟩
  | 62 => ⟨S1x512, .f32⟩
  | 63 => ⟨S512, .f32⟩
  | 64 => ⟨S1x512, .f32⟩
  | 65 => ⟨S8192x512, .f32⟩
  | 66 => ⟨S8192x512, .f32⟩
  | 67 => ⟨S8192x512, .f32⟩
  | 68 => ⟨S8192x512, .f32⟩
  | 69 => ⟨S1x512, .f32⟩
  | 70 => ⟨S512, .f32⟩
  | 71 => ⟨S1x512, .f32⟩
  | 72 => ⟨S8192x512, .f32⟩
  | 73 => ⟨S8192x512, .f32⟩
  | 74 => ⟨S8192x512, .f32⟩
  | 75 => ⟨S8192x512, .f32⟩
  | 76 => ⟨S1x512, .f32⟩
  | 77 => ⟨S512, .f32⟩
  | 78 => ⟨S1x512, .f32⟩
  | 79 => ⟨S8192x512, .f32⟩
  | 80 => ⟨S8192x512, .f32⟩
  | 81 => ⟨S8192x512, .f32⟩
  | 82 => ⟨S8192x512, .f32⟩
  | 83 => ⟨S1x512, .f32⟩
  | 84 => ⟨S512, .f32⟩
  | 85 => ⟨S1x512, .f32⟩
  | 86 => ⟨S8192x512, .f32⟩
  | 87 => ⟨S8192x512, .f32⟩
  | 88 => ⟨S8192x512, .f32⟩
  | 89 => ⟨S8192x512, .f32⟩
  | 90 => ⟨S1x512, .f32⟩
  | 91 => ⟨S512, .f32⟩
  | 92 => ⟨S1x512, .f32⟩
  | 93 => ⟨S8192x512, .f32⟩
  | 94 => ⟨S8192x512, .f32⟩
  | 95 => ⟨S8192x512, .f32⟩
  | 96 => ⟨S8192x512, .f32⟩
  | 97 => ⟨S1x512, .f32⟩
  | 98 => ⟨S512, .f32⟩
  | 99 => ⟨S1x512, .f32⟩
  | 100 => ⟨S8192x512, .f32⟩
  | 101 => ⟨S8192x512, .f32⟩
  | 102 => ⟨S8192x512, .f32⟩
  | 103 => ⟨S8192x512, .f32⟩
  | 104 => ⟨S1x512, .f32⟩
  | 105 => ⟨S512, .f32⟩
  | 106 => ⟨S1x512, .f32⟩
  | 107 => ⟨S8192x512, .f32⟩
  | 108 => ⟨S8192x512, .f32⟩
  | 109 => ⟨S8192x512, .f32⟩
  | 110 => ⟨S8192x512, .f32⟩
  | 111 => ⟨S1x512, .f32⟩
  | 112 => ⟨S512, .f32⟩
  | 113 => ⟨S1x512, .f32⟩
  | 114 => ⟨S8192x512, .f32⟩
  | 115 => ⟨S8192x512, .f32⟩
  | 116 => ⟨S8192x512, .f32⟩
  | 117 => ⟨S8192x512, .f32⟩
  | 118 => ⟨S1x512, .f32⟩
  | 119 => ⟨S512, .f32⟩
  | 120 => ⟨S1x512, .f32⟩
  | 121 => ⟨S8192x512, .f32⟩
  | 122 => ⟨S8192x512, .f32⟩
  | 123 => ⟨S8192x512, .f32⟩
  | 124 => ⟨S8192x512, .f32⟩
  | 125 => ⟨S1x512, .f32⟩
  | 126 => ⟨S512, .f32⟩
  | 127 => ⟨S1x512, .f32⟩
  | _ => ⟨S8192x2560, .f32⟩

abbrev hbmTy0_1 (i : Nat) : BufTy := match i % 128 with
  | 0 => ⟨S8192x512, .f32⟩
  | 1 => ⟨S8192x512, .f32⟩
  | 2 => ⟨S8192x512, .f32⟩
  | 3 => ⟨S8192x512, .f32⟩
  | 4 => ⟨S1x512, .f32⟩
  | 5 => ⟨S512, .f32⟩
  | 6 => ⟨S1x512, .f32⟩
  | 7 => ⟨S8192x512, .f32⟩
  | 8 => ⟨S8192x512, .f32⟩
  | 9 => ⟨S8192x512, .f32⟩
  | 10 => ⟨S8192x512, .f32⟩
  | 11 => ⟨S1x512, .f32⟩
  | 12 => ⟨S512, .f32⟩
  | 13 => ⟨S1x512, .f32⟩
  | 14 => ⟨S8192x512, .f32⟩
  | 15 => ⟨S8192x512, .f32⟩
  | 16 => ⟨S8192x512, .f32⟩
  | 17 => ⟨S8192x512, .f32⟩
  | 18 => ⟨S1x512, .f32⟩
  | 19 => ⟨S512, .f32⟩
  | 20 => ⟨S1x512, .f32⟩
  | 21 => ⟨S8192x512, .f32⟩
  | 22 => ⟨S8192x512, .f32⟩
  | 23 => ⟨S8192x512, .f32⟩
  | 24 => ⟨S8192x512, .f32⟩
  | 25 => ⟨S1x512, .f32⟩
  | 26 => ⟨S512, .f32⟩
  | 27 => ⟨S1x512, .f32⟩
  | 28 => ⟨S8192x512, .f32⟩
  | 29 => ⟨S8192x512, .f32⟩
  | 30 => ⟨S8192x512, .f32⟩
  | 31 => ⟨S8192x512, .f32⟩
  | 32 => ⟨S1x512, .f32⟩
  | 33 => ⟨S512, .f32⟩
  | 34 => ⟨S1x512, .f32⟩
  | 35 => ⟨S8192x512, .f32⟩
  | 36 => ⟨S8192x512, .f32⟩
  | 37 => ⟨S8192x512, .f32⟩
  | 38 => ⟨S8192x512, .f32⟩
  | 39 => ⟨S1x512, .f32⟩
  | 40 => ⟨S512, .f32⟩
  | 41 => ⟨S1x512, .f32⟩
  | 42 => ⟨S8192x512, .f32⟩
  | 43 => ⟨S8192x512, .f32⟩
  | 44 => ⟨S8192x512, .f32⟩
  | 45 => ⟨S8192x512, .f32⟩
  | 46 => ⟨S1x512, .f32⟩
  | 47 => ⟨S512, .f32⟩
  | 48 => ⟨S1x512, .f32⟩
  | 49 => ⟨S8192x512, .f32⟩
  | 50 => ⟨S8192x512, .f32⟩
  | 51 => ⟨S8192x512, .f32⟩
  | 52 => ⟨S8192x512, .f32⟩
  | 53 => ⟨S1x512, .f32⟩
  | 54 => ⟨S512, .f32⟩
  | 55 => ⟨S1x512, .f32⟩
  | 56 => ⟨S8192x512, .f32⟩
  | 57 => ⟨S8192x512, .f32⟩
  | 58 => ⟨S8192x512, .f32⟩
  | 59 => ⟨S8192x512, .f32⟩
  | 60 => ⟨S1x512, .f32⟩
  | 61 => ⟨S512, .f32⟩
  | 62 => ⟨S1x512, .f32⟩
  | 63 => ⟨S8192x512, .f32⟩
  | 64 => ⟨S8192x512, .f32⟩
  | 65 => ⟨S8192x512, .f32⟩
  | 66 => ⟨S8192x512, .f32⟩
  | 67 => ⟨S1x512, .f32⟩
  | 68 => ⟨S512, .f32⟩
  | 69 => ⟨S1x512, .f32⟩
  | 70 => ⟨S8192x512, .f32⟩
  | 71 => ⟨S8192x512, .f32⟩
  | 72 => ⟨S8192x512, .f32⟩
  | 73 => ⟨S8192x512, .f32⟩
  | 74 => ⟨S1x512, .f32⟩
  | 75 => ⟨S512, .f32⟩
  | 76 => ⟨S1x512, .f32⟩
  | 77 => ⟨S8192x512, .f32⟩
  | 78 => ⟨S8192x512, .f32⟩
  | 79 => ⟨S8192x512, .f32⟩
  | 80 => ⟨S8192x512, .f32⟩
  | 81 => ⟨S1x512, .f32⟩
  | 82 => ⟨S512, .f32⟩
  | 83 => ⟨S1x512, .f32⟩
  | 84 => ⟨S8192x512, .f32⟩
  | 85 => ⟨S8192x512, .f32⟩
  | 86 => ⟨S8192x512, .f32⟩
  | 87 => ⟨S8192x512, .f32⟩
  | 88 => ⟨S1x512, .f32⟩
  | 89 => ⟨S512, .f32⟩
  | 90 => ⟨S1x512, .f32⟩
  | 91 => ⟨S8192x512, .f32⟩
  | 92 => ⟨S8192x512, .f32⟩
  | 93 => ⟨S8192x512, .f32⟩
  | 94 => ⟨S8192x512, .f32⟩
  | 95 => ⟨S1x512, .f32⟩
  | 96 => ⟨S512, .f32⟩
  | 97 => ⟨S1x512, .f32⟩
  | 98 => ⟨S8192x512, .f32⟩
  | 99 => ⟨S8192x512, .f32⟩
  | 100 => ⟨S8192x512, .f32⟩
  | 101 => ⟨S8192x512, .f32⟩
  | 102 => ⟨S1x512, .f32⟩
  | 103 => ⟨S512, .f32⟩
  | 104 => ⟨S1x512, .f32⟩
  | 105 => ⟨S8192x512, .f32⟩
  | 106 => ⟨S8192x512, .f32⟩
  | 107 => ⟨S8192x512, .f32⟩
  | 108 => ⟨S1x512, .f32⟩
  | 109 => ⟨S8192x512, .f32⟩
  | 110 => ⟨S8192x512, .f32⟩
  | _ => ⟨S8192x2560, .f32⟩

abbrev hbmTy (i : Nat) : BufTy := match i / 128 with
  | 0 => hbmTy0_0 i
  | 1 => hbmTy0_1 i
  | _ => ⟨S8192x2560, .f32⟩

abbrev bufTy : (tb : Table) → Fin (tcTables nBuf tb) → BufTy
  | .hbm, ⟨i, _⟩ => hbmTy i
  | _, _ => ⟨S8192x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩
abbrev main_v96 : Ref sig .tc := ⟨.hbm, 103, rfl⟩
abbrev main_v97 : Ref sig .tc := ⟨.hbm, 104, rfl⟩
abbrev main_v98 : Ref sig .tc := ⟨.hbm, 105, rfl⟩
abbrev main_v99 : Ref sig .tc := ⟨.hbm, 106, rfl⟩
abbrev main_v100 : Ref sig .tc := ⟨.hbm, 107, rfl⟩
abbrev main_v101 : Ref sig .tc := ⟨.hbm, 108, rfl⟩
abbrev main_v102 : Ref sig .tc := ⟨.hbm, 109, rfl⟩
abbrev main_v103 : Ref sig .tc := ⟨.hbm, 110, rfl⟩
abbrev main_v104 : Ref sig .tc := ⟨.hbm, 111, rfl⟩
abbrev main_v105 : Ref sig .tc := ⟨.hbm, 112, rfl⟩
abbrev main_v106 : Ref sig .tc := ⟨.hbm, 113, rfl⟩
abbrev main_v107 : Ref sig .tc := ⟨.hbm, 114, rfl⟩
abbrev main_v108 : Ref sig .tc := ⟨.hbm, 115, rfl⟩
abbrev main_v109 : Ref sig .tc := ⟨.hbm, 116, rfl⟩
abbrev main_v110 : Ref sig .tc := ⟨.hbm, 117, rfl⟩
abbrev main_v111 : Ref sig .tc := ⟨.hbm, 118, rfl⟩
abbrev main_v112 : Ref sig .tc := ⟨.hbm, 119, rfl⟩
abbrev main_v113 : Ref sig .tc := ⟨.hbm, 120, rfl⟩
abbrev main_v114 : Ref sig .tc := ⟨.hbm, 121, rfl⟩
abbrev main_v115 : Ref sig .tc := ⟨.hbm, 122, rfl⟩
abbrev main_v116 : Ref sig .tc := ⟨.hbm, 123, rfl⟩
abbrev main_v117 : Ref sig .tc := ⟨.hbm, 124, rfl⟩
abbrev main_v118 : Ref sig .tc := ⟨.hbm, 125, rfl⟩
abbrev main_v119 : Ref sig .tc := ⟨.hbm, 126, rfl⟩
abbrev main_v120 : Ref sig .tc := ⟨.hbm, 127, rfl⟩
abbrev main_v121 : Ref sig .tc := ⟨.hbm, 128, rfl⟩
abbrev main_v122 : Ref sig .tc := ⟨.hbm, 129, rfl⟩
abbrev main_v123 : Ref sig .tc := ⟨.hbm, 130, rfl⟩
abbrev main_v124 : Ref sig .tc := ⟨.hbm, 131, rfl⟩
abbrev main_v125 : Ref sig .tc := ⟨.hbm, 132, rfl⟩
abbrev main_v126 : Ref sig .tc := ⟨.hbm, 133, rfl⟩
abbrev main_v127 : Ref sig .tc := ⟨.hbm, 134, rfl⟩
abbrev main_v128 : Ref sig .tc := ⟨.hbm, 135, rfl⟩
abbrev main_v129 : Ref sig .tc := ⟨.hbm, 136, rfl⟩
abbrev main_v130 : Ref sig .tc := ⟨.hbm, 137, rfl⟩
abbrev main_v131 : Ref sig .tc := ⟨.hbm, 138, rfl⟩
abbrev main_v132 : Ref sig .tc := ⟨.hbm, 139, rfl⟩
abbrev main_v133 : Ref sig .tc := ⟨.hbm, 140, rfl⟩
abbrev main_v134 : Ref sig .tc := ⟨.hbm, 141, rfl⟩
abbrev main_v135 : Ref sig .tc := ⟨.hbm, 142, rfl⟩
abbrev main_v136 : Ref sig .tc := ⟨.hbm, 143, rfl⟩
abbrev main_v137 : Ref sig .tc := ⟨.hbm, 144, rfl⟩
abbrev main_v138 : Ref sig .tc := ⟨.hbm, 145, rfl⟩
abbrev main_v139 : Ref sig .tc := ⟨.hbm, 146, rfl⟩
abbrev main_v140 : Ref sig .tc := ⟨.hbm, 147, rfl⟩
abbrev main_v141 : Ref sig .tc := ⟨.hbm, 148, rfl⟩
abbrev main_v142 : Ref sig .tc := ⟨.hbm, 149, rfl⟩
abbrev main_v143 : Ref sig .tc := ⟨.hbm, 150, rfl⟩
abbrev main_v144 : Ref sig .tc := ⟨.hbm, 151, rfl⟩
abbrev main_v145 : Ref sig .tc := ⟨.hbm, 152, rfl⟩
abbrev main_v146 : Ref sig .tc := ⟨.hbm, 153, rfl⟩
abbrev main_v147 : Ref sig .tc := ⟨.hbm, 154, rfl⟩
abbrev main_v148 : Ref sig .tc := ⟨.hbm, 155, rfl⟩
abbrev main_v149 : Ref sig .tc := ⟨.hbm, 156, rfl⟩
abbrev main_v150 : Ref sig .tc := ⟨.hbm, 157, rfl⟩
abbrev main_v151 : Ref sig .tc := ⟨.hbm, 158, rfl⟩
abbrev main_v152 : Ref sig .tc := ⟨.hbm, 159, rfl⟩
abbrev main_v153 : Ref sig .tc := ⟨.hbm, 160, rfl⟩
abbrev main_v154 : Ref sig .tc := ⟨.hbm, 161, rfl⟩
abbrev main_v155 : Ref sig .tc := ⟨.hbm, 162, rfl⟩
abbrev main_v156 : Ref sig .tc := ⟨.hbm, 163, rfl⟩
abbrev main_v157 : Ref sig .tc := ⟨.hbm, 164, rfl⟩
abbrev main_v158 : Ref sig .tc := ⟨.hbm, 165, rfl⟩
abbrev main_v159 : Ref sig .tc := ⟨.hbm, 166, rfl⟩
abbrev main_v160 : Ref sig .tc := ⟨.hbm, 167, rfl⟩
abbrev main_v161 : Ref sig .tc := ⟨.hbm, 168, rfl⟩
abbrev main_v162 : Ref sig .tc := ⟨.hbm, 169, rfl⟩
abbrev main_v163 : Ref sig .tc := ⟨.hbm, 170, rfl⟩
abbrev main_v164 : Ref sig .tc := ⟨.hbm, 171, rfl⟩
abbrev main_v165 : Ref sig .tc := ⟨.hbm, 172, rfl⟩
abbrev main_v166 : Ref sig .tc := ⟨.hbm, 173, rfl⟩
abbrev main_v167 : Ref sig .tc := ⟨.hbm, 174, rfl⟩
abbrev main_v168 : Ref sig .tc := ⟨.hbm, 175, rfl⟩
abbrev main_v169 : Ref sig .tc := ⟨.hbm, 176, rfl⟩
abbrev main_v170 : Ref sig .tc := ⟨.hbm, 177, rfl⟩
abbrev main_v171 : Ref sig .tc := ⟨.hbm, 178, rfl⟩
abbrev main_v172 : Ref sig .tc := ⟨.hbm, 179, rfl⟩
abbrev main_v173 : Ref sig .tc := ⟨.hbm, 180, rfl⟩
abbrev main_v174 : Ref sig .tc := ⟨.hbm, 181, rfl⟩
abbrev main_v175 : Ref sig .tc := ⟨.hbm, 182, rfl⟩
abbrev main_v176 : Ref sig .tc := ⟨.hbm, 183, rfl⟩
abbrev main_v177 : Ref sig .tc := ⟨.hbm, 184, rfl⟩
abbrev main_v178 : Ref sig .tc := ⟨.hbm, 185, rfl⟩
abbrev main_v179 : Ref sig .tc := ⟨.hbm, 186, rfl⟩
abbrev main_v180 : Ref sig .tc := ⟨.hbm, 187, rfl⟩
abbrev main_v181 : Ref sig .tc := ⟨.hbm, 188, rfl⟩
abbrev main_v182 : Ref sig .tc := ⟨.hbm, 189, rfl⟩
abbrev main_v183 : Ref sig .tc := ⟨.hbm, 190, rfl⟩
abbrev main_v184 : Ref sig .tc := ⟨.hbm, 191, rfl⟩
abbrev main_v185 : Ref sig .tc := ⟨.hbm, 192, rfl⟩
abbrev main_v186 : Ref sig .tc := ⟨.hbm, 193, rfl⟩
abbrev main_v187 : Ref sig .tc := ⟨.hbm, 194, rfl⟩
abbrev main_v188 : Ref sig .tc := ⟨.hbm, 195, rfl⟩
abbrev main_v189 : Ref sig .tc := ⟨.hbm, 196, rfl⟩
abbrev main_v190 : Ref sig .tc := ⟨.hbm, 197, rfl⟩
abbrev main_v191 : Ref sig .tc := ⟨.hbm, 198, rfl⟩
abbrev main_v192 : Ref sig .tc := ⟨.hbm, 199, rfl⟩
abbrev main_v193 : Ref sig .tc := ⟨.hbm, 200, rfl⟩
abbrev main_v194 : Ref sig .tc := ⟨.hbm, 201, rfl⟩
abbrev main_v195 : Ref sig .tc := ⟨.hbm, 202, rfl⟩
abbrev main_v196 : Ref sig .tc := ⟨.hbm, 203, rfl⟩
abbrev main_v197 : Ref sig .tc := ⟨.hbm, 204, rfl⟩
abbrev main_v198 : Ref sig .tc := ⟨.hbm, 205, rfl⟩
abbrev main_v199 : Ref sig .tc := ⟨.hbm, 206, rfl⟩
abbrev main_v200 : Ref sig .tc := ⟨.hbm, 207, rfl⟩
abbrev main_v201 : Ref sig .tc := ⟨.hbm, 208, rfl⟩
abbrev main_v202 : Ref sig .tc := ⟨.hbm, 209, rfl⟩
abbrev main_v203 : Ref sig .tc := ⟨.hbm, 210, rfl⟩
abbrev main_v204 : Ref sig .tc := ⟨.hbm, 211, rfl⟩
abbrev main_v205 : Ref sig .tc := ⟨.hbm, 212, rfl⟩
abbrev main_v206 : Ref sig .tc := ⟨.hbm, 213, rfl⟩
abbrev main_v207 : Ref sig .tc := ⟨.hbm, 214, rfl⟩
abbrev main_v208 : Ref sig .tc := ⟨.hbm, 215, rfl⟩
abbrev main_v209 : Ref sig .tc := ⟨.hbm, 216, rfl⟩
abbrev main_v210 : Ref sig .tc := ⟨.hbm, 217, rfl⟩
abbrev main_v211 : Ref sig .tc := ⟨.hbm, 218, rfl⟩
abbrev main_v212 : Ref sig .tc := ⟨.hbm, 219, rfl⟩
abbrev main_v213 : Ref sig .tc := ⟨.hbm, 220, rfl⟩
abbrev main_v214 : Ref sig .tc := ⟨.hbm, 221, rfl⟩
abbrev main_v215 : Ref sig .tc := ⟨.hbm, 222, rfl⟩
abbrev main_v216 : Ref sig .tc := ⟨.hbm, 223, rfl⟩
abbrev main_v217 : Ref sig .tc := ⟨.hbm, 224, rfl⟩
abbrev main_v218 : Ref sig .tc := ⟨.hbm, 225, rfl⟩
abbrev main_v219 : Ref sig .tc := ⟨.hbm, 226, rfl⟩
abbrev main_v220 : Ref sig .tc := ⟨.hbm, 227, rfl⟩
abbrev main_v221 : Ref sig .tc := ⟨.hbm, 228, rfl⟩
abbrev main_v222 : Ref sig .tc := ⟨.hbm, 229, rfl⟩
abbrev main_v223 : Ref sig .tc := ⟨.hbm, 230, rfl⟩
abbrev main_v224 : Ref sig .tc := ⟨.hbm, 231, rfl⟩
abbrev main_v225 : Ref sig .tc := ⟨.hbm, 232, rfl⟩
abbrev main_v226 : Ref sig .tc := ⟨.hbm, 233, rfl⟩
abbrev main_v227 : Ref sig .tc := ⟨.hbm, 234, rfl⟩
abbrev main_v228 : Ref sig .tc := ⟨.hbm, 235, rfl⟩
abbrev main_v229 : Ref sig .tc := ⟨.hbm, 236, rfl⟩
abbrev main_v230 : Ref sig .tc := ⟨.hbm, 237, rfl⟩
abbrev main_v231 : Ref sig .tc := ⟨.hbm, 238, rfl⟩

abbrev nD : Nat := 1
abbrev τ : Topo := Topo.v7x

variable {F : FTy → Type} [FloatOps F]
-- ==== Proof.AttnBody.lean ====
/-
  What one grid point of the attention gradient computes, as plain functions of the blocks it reads: the tile's
  probabilities and score gradients for the two heads of a point, and what each store then holds.
-/
module

public import proofs.«01_k».proof.Proof.Gen.AttnBwdIdeal.Value
public import Idealize.ShloMosaic.Lib.Pointwise
public import Idealize.ShloMosaic.Lib.VecWindow

@[expose] public section

set_option maxRecDepth 16384

noncomputable section

namespace Cert.AttnBwdIdeal.Value

open Idealize.ShloMosaic Idealize.SL.Sem Cert.AttnBwdIdeal Cert.AttnBwdIdeal.Gen

variable {F : FTy → Type} [FloatOps F] [Named F]

/-- A load at a unit rectangle is the window there. -/
theorem load_window {Val : EltTy → Type} {sig : RefSig} {κ : Kind} {sp : Space} {s : Shape} {e : EltTy} (v : View sig κ sp s e)
    (f : v.ty.Contents Val) {off size : Fin s.rank → ℕ} (inb : ∀ a, off a + size a ≤ s.size a) :
    v.readAt Val (Rect.unit off size inb).toLoadRect f = VecWindow.window (v.read Val f) off size inb :=
  View.readAt_unit v f inb rfl inb

/-- The newest store of a list is a `put` over the rest. -/
theorem store_put {Val : EltTy → Type} {sig : RefSig} {κ : Kind} {sp : Space} {s : Shape} {e : EltTy} (v : View sig κ sp s e)
    (f : v.ty.Contents Val) {off size : Fin s.rank → ℕ} (inb : ∀ a, off a + size a ≤ s.size a)
    (w : (Rect.unit off size inb).shape.Idx → Val e) (L : List (View.Piece Val s e)) :
    v.read Val (v.writes Val f (⟨Rect.unit off size inb, w⟩ :: L)) = VecWindow.put (v.read Val (v.writes Val f L)) off size w :=
  View.read_writes_cons_put v f inb w L rfl

/-- A load of a buffer known only by its stores reads those stores over arbitrary contents. -/
theorem cov_load {Val : EltTy → Type} [∀ e, Nonempty (Val e)] {sig : RefSig} {κ : Kind} {sp : Space} {s : Shape} {e : EltTy} (v : View sig κ sp s e)
    (L : List (View.Piece Val s e)) (r : LoadRect s) : v.readCov L r = v.readAt Val r (v.writes Val v.junk L) := rfl

/-- A window, or a `put`, of the whole shape. -/
theorem window_full {α : Type} {s : Shape} (x : s.Idx → α) (off : Fin s.rank → ℕ) (h : ∀ a, off a = 0) (inb) : VecWindow.window x off s.size inb = x := by
  funext y
  exact congrArg x (funext fun a => Fin.ext (by
    show off a + 1 * (y a).val = (y a).val
    rw [h a]; omega))
theorem put_full {α : Type} {s : Shape} (x : s.Idx → α) (off : Fin s.rank → ℕ) (h : ∀ a, off a = 0) (w : s.Idx → α) : VecWindow.put x off s.size w = w := by
  funext y
  unfold VecWindow.put
  rw [dif_pos fun a => ⟨by rw [h a]; omega, by rw [h a]; have := (y a).isLt; omega⟩]
  exact congrArg w (funext fun a => Fin.ext (by
    show (y a).val - off a = (y a).val
    rw [h a]; omega))
theorem window_256x128 {α : Type} (x : S256x128.Idx → α) (inb) : VecWindow.window (s := S256x128) x ![0, 0] ![256, 128] inb = x :=
  window_full x ![0, 0] (by decide) inb
theorem window_8192x128 {α : Type} (x : S8192x128.Idx → α) (inb) : VecWindow.window (s := S8192x128) x ![0, 0] ![8192, 128] inb = x :=
  window_full x ![0, 0] (by decide) inb
theorem put_256x128 {α : Type} (x w : S256x128.Idx → α) : VecWindow.put (s := S256x128) x ![0, 0] ![256, 128] w = w :=
  put_full x ![0, 0] (by decide) w
theorem put_8192x128 {α : Type} (x w : S8192x128.Idx → α) : VecWindow.put (s := S8192x128) x ![0, 0] ![8192, 128] w = w :=
  put_full x ![0, 0] (by decide) w
theorem put_8704x128 {α : Type} (x w : S8704x128.Idx → α) : VecWindow.put (s := S8704x128) x ![0, 0] ![8704, 128] w = w :=
  put_full x ![0, 0] (by decide) w
theorem put_2x256x768 {α : Type} (x w : S2x256x768.Idx → α) : VecWindow.put (s := S2x256x768) x ![0, 0, 0] ![2, 256, 768] w = w :=
  put_full x ![0, 0, 0] (by decide) w

/-- The bias rows of the point's first and second head. -/
def bias0 (b : Vec F S2x256x768 .f32) : Vec F S1x256x768 .f32 := VecWindow.window b ![0, 0, 0] S1x256x768.size inb_S2x256x768_S1x256x768_0_0_0
def bias1 (b : Vec F S2x256x768 .f32) : Vec F S1x256x768 .f32 := VecWindow.window b ![1, 0, 0] S1x256x768.size inb_S2x256x768_S1x256x768_1_0_0

/-- The column numbers of a tile. -/
abbrev cols : IVec S1x768 32 := iota .tc S1x768 32 [1] iota_S1x768_d1_w32

section
variable (v4 : BitVec 32) (q d : Vec F S256x128 .f32) (kw vw : Vec F S768x128 .bf16) (b : Vec F S2x256x768 .f32)

/-- First head: probabilities, score gradients. -/
def tP0 : FVec F S256x768 .f32 := k0_pay16 v4 (k0_pay9 q) kw k0_pay10 cols 512#32 (bias0 b)
def tDs0 : FVec F S256x768 .f32 := k0_pay17 v4 (k0_pay9 q) d kw vw k0_pay10 cols 512#32 (bias0 b)
/-- Second head: gradient of the probabilities, exponentials, their row sums. -/
def tDp1 : FVec F S256x768 .f32 := k0_pay25 d vw k0_pay10
def tE1 : FVec F S256x768 .f32 := k0_pay26 (k0_pay9 q) kw k0_pay10 (k0_pay11 v4 cols 512#32) (bias1 b)
def tS1 : FVec F S256x1 .f32 := k0_pay27 (k0_pay9 q) kw k0_pay10 (k0_pay11 v4 cols 512#32) (bias1 b)

/-- The query gradient's block. -/
def tDq : FVec F S256x128 .f32 := k0_pay32 kw k0_pay10 (k0_pay20 kw (tDs0 v4 q d kw vw b)) (tDp1 d vw) (tE1 v4 q kw b) (tS1 v4 q kw b)
/-- The key gradient's window, added to what it held. -/
def tDk (acc : Vec F S768x128 .f32) : FVec F S768x128 .f32 :=
  k0_pay33 (k0_pay21 k0_pay12 (k0_pay14 (k0_pay9 q) k0_pay10) (tDs0 v4 q d kw vw b)) (k0_pay23 (k0_pay9 q) k0_pay10) (tDp1 d vw) (tE1 v4 q kw b) (tS1 v4 q kw b) acc
/-- The value gradient's window, added to what it held. -/
def tDv (acc : Vec F S768x128 .f32) : FVec F S768x128 .f32 :=
  k0_pay1 (k0_pay34 (k0_pay22 k0_pay13 (k0_pay15 d k0_pay10) (tP0 v4 q kw b)) (k0_pay24 d k0_pay10) (tE1 v4 q kw b) (tS1 v4 q kw b) acc)
/-- The bias gradient's two heads, added to what they held. -/
def tDb0 (acc : Vec F S1x256x768 .f32) : FVec F S1x256x768 .f32 := k0_pay18 (tDs0 v4 q d kw vw b) acc
def tDb1 (acc : Vec F S1x256x768 .f32) : FVec F S1x256x768 .f32 := k0_pay30 (tDp1 d vw) (tE1 v4 q kw b) (tS1 v4 q kw b) acc
/-- The bias gradient's block after both stores, over contents `o` that the two of them cover. -/
def tDb (o acc : Vec F S2x256x768 .f32) : Vec F S2x256x768 .f32 :=
  VecWindow.put (VecWindow.put o ![0, 0, 0] S1x256x768.size (tDb0 v4 q d kw vw b (bias0 acc))) ![1, 0, 0] S1x256x768.size (tDb1 v4 q d kw vw b (bias1 acc))
end

section
/-! ## Each case's stores, read back -/
variable (c : Dev nD) (i : grid0.Coords)
  (a2 : Memref sig .tc .vmem S256x128 .f32) (h2 : a2.IsWhole) (a3 : Memref sig .tc .vmem S8192x128 .f32) (h3 : a3.IsWhole) (a4 : Memref sig .tc .vmem S8192x128 .f32) (h4 : a4.IsWhole) (a5 : Memref sig .tc .vmem S2x256x768 .f32) (h5 : a5.IsWhole) (a6 : Memref sig .tc .vmem S256x128 .f32) (h6 : a6.IsWhole) (a7 : Memref sig .tc .vmem S256x128 .f32) (h7 : a7.IsWhole) (a8 : Memref sig .tc .vmem S8192x128 .f32) (h8 : a8.IsWhole) (a9 : Memref sig .tc .vmem S8192x128 .f32) (h9 : a9.IsWhole) (a10 : Memref sig .tc .vmem S2x256x768 .f32) (h10 : a10.IsWhole) (a11 : Memref sig .tc .vmem S8704x128 .bf16) (h11 : a11.IsWhole) (a12 : Memref sig .tc .vmem S8704x128 .bf16) (h12 : a12.IsWhole) (a13 : Memref sig .tc .vmem S8704x128 .f32) (h13 : a13.IsWhole) (a14 : Memref sig .tc .vmem S8704x128 .f32) (h14 : a14.IsWhole)
  (x0 : Vec F S256x128 .f32) (x1 : Vec F S8192x128 .f32) (x2 : Vec F S8192x128 .f32) (x3 : Vec F S2x256x768 .f32) (x4 : Vec F S256x128 .f32)
  (xo8 : Vec F S2x256x768 .f32) (xs0 : Vec F S8704x128 .bf16) (xs1 : Vec F S8704x128 .bf16) (xs2 : Vec F S8704x128 .f32) (xs3 : Vec F S8704x128 .f32)

/-- The first row a point's windows start at, as the program computes it. -/
abbrev row0 : BitVec 32 := Scalar.muli (BitVec.ofNat 32 (i 1).val) 256#32

/-- The rows a point's windows cover. -/
def win {e : EltTy} (x : Vec F S8704x128 e) : Vec F S768x128 e :=
  VecWindow.window x (k0_off1 i) S768x128.size (k0_off1_inb i)
/-- and their replacement. -/
def putWin {e : EltTy} (x : Vec F S8704x128 e) (w : Vec F S768x128 e) : Vec F S8704x128 e :=
  VecWindow.put x (k0_off1 i) S768x128.size w

/-- The rows under the front padding. -/
def lastRows {e : EltTy} (x : Vec F S8704x128 e) : Vec F S8192x128 e :=
  VecWindow.window x ![512, 0] S8192x128.size inb_S8704x128_S8192x128_512_0
/-- The padded keys or values: `w` the first point's copy under 512 rows `z`. -/
def padded {e : EltTy} (o : Vec F S8704x128 e) (z : Vec F S512x128 e) (w : Vec F S8192x128 e) : Vec F S8704x128 e :=
  VecWindow.put (VecWindow.put o ![0, 0] S512x128.size z) ![512, 0] S8192x128.size w

theorem off_fold : ![BitVec.toNat (Scalar.indexCast (Scalar.muli (BitVec.ofNat 32 (i 1).val) 256#32)), 0] = k0_off1 i := rfl

section B
variable (hc0 : ¬cond0_0 i) (hc1 : ¬cond0_1 i)

theorem st_out0_B_5 : out0_B_5 c i a2 h2 a3 h3 a4 h4 a5 h5 a6 h6 a7 h7 a8 h8 a9 h9 a10 h10 a11 h11 a12 h12 a13 h13 a14 h14 hc0 hc1 x0 x1 x2 x3 x4 xo8 xs0 xs1 xs2 xs3 = tDq (row0 i) x0 x4 (win i xs0) (win i xs1) x3 := by
  unfold out0_B_5 kernelRun0_B
  dsimp only
  sl_unfold_words
  simp only [off_fold]
  simp only [cov_load, load_window, store_put, View.writes_nil, Memref.IsWhole.read_unread, window_256x128, window_8192x128, put_256x128, put_8192x128, put_8704x128, put_2x256x768]
  rfl

theorem st_out0_B_8 : out0_B_8 c i a2 h2 a3 h3 a4 h4 a5 h5 a6 h6 a7 h7 a8 h8 a9 h9 a10 h10 a11 h11 a12 h12 a13 h13 a14 h14 hc0 hc1 x0 x1 x2 x3 x4 xo8 xs0 xs1 xs2 xs3 = tDb (row0 i) x0 x4 (win i xs0) (win i xs1) x3 (VO0_8.read (Elt F) VO0_8.junk) xo8 := by
  unfold out0_B_8 kernelRun0_B
  dsimp only
  sl_unfold_words
  simp only [off_fold]
  simp only [cov_load, load_window, store_put, View.writes_nil, Memref.IsWhole.read_unread, window_256x128, window_8192x128, put_256x128, put_8192x128, put_8704x128, put_2x256x768]
  rfl

theorem st_sout0_B_2 : sout0_B_2 c i a2 h2 a3 h3 a4 h4 a5 h5 a6 h6 a7 h7 a8 h8 a9 h9 a10 h10 a11 h11 a12 h12 a13 h13 a14 h14 hc0 hc1 x0 x1 x2 x3 x4 xo8 xs0 xs1 xs2 xs3 = putWin i xs2 (tDk (row0 i) x0 x4 (win i xs0) (win i xs1) x3 (win i xs2)) := by
  unfold sout0_B_2 kernelRun0_B
  dsimp only
  sl_unfold_words
  simp only [off_fold]
  simp only [cov_load, load_window, store_put, View.writes_nil, Memref.IsWhole.read_unread, window_256x128, window_8192x128, put_256x128, put_8192x128, put_8704x128, put_2x256x768]
  rfl

theorem st_sout0_B_3 : sout0_B_3 c i a2 h2 a3 h3 a4 h4 a5 h5 a6 h6 a7 h7 a8 h8 a9 h9 a10 h10 a11 h11 a12 h12 a13 h13 a14 h14 hc0 hc1 x0 x1 x2 x3 x4 xo8 xs0 xs1 xs2 xs3 = putWin i xs3 (tDv (row0 i) x0 x4 (win i xs0) x3 (win i xs3)) := by
  unfold sout0_B_3 kernelRun0_B
  dsimp only
  sl_unfold_words
  simp only [off_fold]
  simp only [cov_load, load_window, store_put, View.writes_nil, Memref.IsWhole.read_unread, window_256x128, window_8192x128, put_256x128, put_8192x128, put_8704x128, put_2x256x768]
  rfl

end B
section C
variable (hc0 : ¬cond0_0 i) (hc1 : cond0_1 i)

theorem st_out0_C_5 : out0_C_5 c i a2 h2 a3 h3 a4 h4 a5 h5 a6 h6 a7 h7 a8 h8 a9 h9 a10 h10 a11 h11 a12 h12 a13 h13 a14 h14 hc0 hc1 x0 x1 x2 x3 x4 xo8 xs0 xs1 xs2 xs3 = tDq (row0 i) x0 x4 (win i xs0) (win i xs1) x3 := by
  unfold out0_C_5 kernelRun0_C
  dsimp only
  sl_unfold_words
  simp only [off_fold]
  simp only [cov_load, load_window, store_put, View.writes_nil, Memref.IsWhole.read_unread, window_256x128, window_8192x128, put_256x128, put_8192x128, put_8704x128, put_2x256x768]
  rfl

theorem st_out0_C_8 : out0_C_8 c i a2 h2 a3 h3 a4 h4 a5 h5 a6 h6 a7 h7 a8 h8 a9 h9 a10 h10 a11 h11 a12 h12 a13 h13 a14 h14 hc0 hc1 x0 x1 x2 x3 x4 xo8 xs0 xs1 xs2 xs3 = tDb (row0 i) x0 x4 (win i xs0) (win i xs1) x3 (VO0_8.read (Elt F) VO0_8.junk) xo8 := by
  unfold out0_C_8 kernelRun0_C
  dsimp only
  sl_unfold_words
  simp only [off_fold]
  simp only [cov_load, load_window, store_put, View.writes_nil, Memref.IsWhole.read_unread, window_256x128, window_8192x128, put_256x128, put_8192x128, put_8704x128, put_2x256x768]
  rfl

theorem st_sout0_C_2 : sout0_C_2 c i a2 h2 a3 h3 a4 h4 a5 h5 a6 h6 a7 h7 a8 h8 a9 h9 a10 h10 a11 h11 a12 h12 a13 h13 a14 h14 hc0 hc1 x0 x1 x2 x3 x4 xo8 xs0 xs1 xs2 xs3 = putWin i xs2 (tDk (row0 i) x0 x4 (win i xs0) (win i xs1) x3 (win i xs2)) := by
  unfold sout0_C_2 kernelRun0_C
  dsimp only
  sl_unfold_words
  simp only [off_fold]
  simp only [cov_load, load_window, store_put, View.writes_nil, Memref.IsWhole.read_unread, window_256x128, window_8192x128, put_256x128, put_8192x128, put_8704x128, put_2x256x768]
  rfl

theorem st_sout0_C_3 : sout0_C_3 c i a2 h2 a3 h3 a4 h4 a5 h5 a6 h6 a7 h7 a8 h8 a9 h9 a10 h10 a11 h11 a12 h12 a13 h13 a14 h14 hc0 hc1 x0 x1 x2 x3 x4 xo8 xs0 xs1 xs2 xs3 = putWin i xs3 (tDv (row0 i) x0 x4 (win i xs0) x3 (win i xs3)) := by
  unfold sout0_C_3 kernelRun0_C
  dsimp only
  sl_unfold_words
  simp only [off_fold]
  simp only [cov_load, load_window, store_put, View.writes_nil, Memref.IsWhole.read_unread, window_256x128, window_8192x128, put_256x128, put_8192x128, put_8704x128, put_2x256x768]
  rfl

theorem st_out0_C_6 : out0_C_6 c i a2 h2 a3 h3 a4 h4 a5 h5 a6 h6 a7 h7 a8 h8 a9 h9 a10 h10 a11 h11 a12 h12 a13 h13 a14 h14 hc0 hc1 x0 x1 x2 x3 x4 xo8 xs0 xs1 xs2 xs3 = lastRows (putWin i xs2 (tDk (row0 i) x0 x4 (win i xs0) (win i xs1) x3 (win i xs2))) := by
  unfold out0_C_6 kernelRun0_C
  dsimp only
  sl_unfold_words
  simp only [off_fold]
  simp only [cov_load, load_window, store_put, View.writes_nil, Memref.IsWhole.read_unread, window_256x128, window_8192x128, put_256x128, put_8192x128, put_8704x128, put_2x256x768]
  rfl

theorem st_out0_C_7 : out0_C_7 c i a2 h2 a3 h3 a4 h4 a5 h5 a6 h6 a7 h7 a8 h8 a9 h9 a10 h10 a11 h11 a12 h12 a13 h13 a14 h14 hc0 hc1 x0 x1 x2 x3 x4 xo8 xs0 xs1 xs2 xs3 = lastRows (putWin i xs3 (tDv (row0 i) x0 x4 (win i xs0) x3 (win i xs3))) := by
  unfold out0_C_7 kernelRun0_C
  dsimp only
  sl_unfold_words
  simp only [off_fold]
  simp only [cov_load, load_window, store_put, View.writes_nil, Memref.IsWhole.read_unread, window_256x128, window_8192x128, put_256x128, put_8192x128, put_8704x128, put_2x256x768]
  rfl

end C
section A
variable (hc0 : cond0_0 i) (hc1 : ¬cond0_1 i)

theorem st_sout0_A_0 : sout0_A_0 c i a2 h2 a3 h3 a4 h4 a5 h5 a6 h6 a7 h7 a8 h8 a9 h9 a10 h10 a11 h11 a12 h12 a13 h13 a14 h14 hc0 hc1 x0 x1 x2 x3 x4 = (padded (VS0_0.read (Elt F) VS0_0.junk) k0_pay2 (k0_pay4 x1)) := by
  unfold sout0_A_0 kernelRun0_A
  dsimp only
  sl_unfold_words
  simp only [off_fold]
  simp only [cov_load, load_window, store_put, View.writes_nil, Memref.IsWhole.read_unread, window_256x128, window_8192x128, put_256x128, put_8192x128, put_8704x128, put_2x256x768]
  rfl

theorem st_sout0_A_1 : sout0_A_1 c i a2 h2 a3 h3 a4 h4 a5 h5 a6 h6 a7 h7 a8 h8 a9 h9 a10 h10 a11 h11 a12 h12 a13 h13 a14 h14 hc0 hc1 x0 x1 x2 x3 x4 = (padded (VS0_1.read (Elt F) VS0_1.junk) k0_pay3 (k0_pay5 x2)) := by
  unfold sout0_A_1 kernelRun0_A
  dsimp only
  sl_unfold_words
  simp only [off_fold]
  simp only [cov_load, load_window, store_put, View.writes_nil, Memref.IsWhole.read_unread, window_256x128, window_8192x128, put_256x128, put_8192x128, put_8704x128, put_2x256x768]
  rfl

theorem st_out0_A_5 : out0_A_5 c i a2 h2 a3 h3 a4 h4 a5 h5 a6 h6 a7 h7 a8 h8 a9 h9 a10 h10 a11 h11 a12 h12 a13 h13 a14 h14 hc0 hc1 x0 x1 x2 x3 x4 = tDq (row0 i) x0 x4 (win i (padded (a11.view.read (Elt F) a11.view.junk) k0_pay2 (k0_pay4 x1))) (win i (padded (a12.view.read (Elt F) a12.view.junk) k0_pay3 (k0_pay5 x2))) x3 := by
  unfold out0_A_5 kernelRun0_A
  dsimp only
  sl_unfold_words
  simp only [off_fold]
  simp only [cov_load, load_window, store_put, View.writes_nil, Memref.IsWhole.read_unread, window_256x128, window_8192x128, put_256x128, put_8192x128, put_8704x128, put_2x256x768]
  rfl

theorem st_sout0_A_2 : sout0_A_2 c i a2 h2 a3 h3 a4 h4 a5 h5 a6 h6 a7 h7 a8 h8 a9 h9 a10 h10 a11 h11 a12 h12 a13 h13 a14 h14 hc0 hc1 x0 x1 x2 x3 x4 = putWin i k0_pay6 (tDk (row0 i) x0 x4 (win i (padded (a11.view.read (Elt F) a11.view.junk) k0_pay2 (k0_pay4 x1))) (win i (padded (a12.view.read (Elt F) a12.view.junk) k0_pay3 (k0_pay5 x2))) x3 (win i k0_pay6)) := by
  unfold sout0_A_2 kernelRun0_A
  dsimp only
  sl_unfold_words
  simp only [off_fold]
  simp only [cov_load, load_window, store_put, View.writes_nil, Memref.IsWhole.read_unread, window_256x128, window_8192x128, put_256x128, put_8192x128, put_8704x128, put_2x256x768]
  rfl

theorem st_sout0_A_3 : sout0_A_3 c i a2 h2 a3 h3 a4 h4 a5 h5 a6 h6 a7 h7 a8 h8 a9 h9 a10 h10 a11 h11 a12 h12 a13 h13 a14 h14 hc0 hc1 x0 x1 x2 x3 x4 = putWin i k0_pay7 (tDv (row0 i) x0 x4 (win i (padded (a11.view.read (Elt F) a11.view.junk) k0_pay2 (k0_pay4 x1))) x3 (win i k0_pay7)) := by
  unfold sout0_A_3 kernelRun0_A
  dsimp only
  sl_unfold_words
  simp only [off_fold]
  simp only [cov_load, load_window, store_put, View.writes_nil, Memref.IsWhole.read_unread, window_256x128, window_8192x128, put_256x128, put_8192x128, put_8704x128, put_2x256x768]
  rfl

theorem st_out0_A_8 : out0_A_8 c i a2 h2 a3 h3 a4 h4 a5 h5 a6 h6 a7 h7 a8 h8 a9 h9 a10 h10 a11 h11 a12 h12 a13 h13 a14 h14 hc0 hc1 x0 x1 x2 x3 x4 = tDb (row0 i) x0 x4 (win i (padded (a11.view.read (Elt F) a11.view.junk) k0_pay2 (k0_pay4 x1))) (win i (padded (a12.view.read (Elt F) a12.view.junk) k0_pay3 (k0_pay5 x2))) x3 k0_pay8 k0_pay8 := by
  unfold out0_A_8 kernelRun0_A
  dsimp only
  sl_unfold_words
  simp only [off_fold]
  simp only [cov_load, load_window, store_put, View.writes_nil, Memref.IsWhole.read_unread, window_256x128, window_8192x128, put_256x128, put_8192x128, put_8704x128, put_2x256x768]
  rw [tDb, show bias1 (F := F) k0_pay8 = bias1 (VecWindow.put k0_pay8 ![0, 0, 0] S1x256x768.size (tDb0 (row0 i) x0 x4 (win i (padded (a11.view.read (Elt F) a11.view.junk) k0_pay2 (k0_pay4 x1))) (win i (padded (a12.view.read (Elt F) a12.view.junk) k0_pay3 (k0_pay5 x2))) x3 (bias0 k0_pay8))) from
    (VecWindow.window_put_of_disjoint _ _ _ _ _ _ _ 0 (Or.inr (by decide))).symm]
  rfl

end A
end
end Cert.AttnBwdIdeal.Value
end
-- ==== Proof.AttnStep.lean ====
/-
One grid point of the attention gradient as a step of its carried state: every component of the state after point `t` is
a tile function (AttnBody) of what it held before, where a head pair's first point starts from the padded keys and values
and from zero.
-/
module

public import proofs.«01_k».proof.Proof.AttnBody

@[expose] public section

set_option maxRecDepth 16384

noncomputable section

namespace Cert.AttnBwdIdeal.Value

open Idealize.ShloMosaic Idealize.SL.Sem Cert.AttnBwdIdeal Cert.AttnBwdIdeal.Gen

variable {F : FTy → Type} [FloatOps F] [Named F]
variable (m : (ℓ : Loc nD τ sig) → Buf (Elt F) ℓ)

/-- What a point keeps for the next one: the bias gradient's block, the padded keys and values, and their gradients' sums. -/
abbrev Kept (F : FTy → Type) [FloatOps F] : Type :=
  Vec F S2x256x768 .f32 × Vec F S8704x128 .bf16 × Vec F S8704x128 .bf16 × Vec F S8704x128 .f32 × Vec F S8704x128 .f32

/-- The two stores of `padded` cover it: the contents below do not enter. -/
theorem padded_base {e : EltTy} (o o' : Vec F S8704x128 e) (z : Vec F S512x128 e) (w : Vec F S8192x128 e) : padded o z w = padded o' z w := by
  funext y
  unfold padded VecWindow.put
  have h0 := (y 0).isLt
  have h1 := (y 1).isLt
  split
  · rfl
  · rename_i h
    split
    · rfl
    · rename_i h'
      refine absurd (fun a => ?_) h'
      match a with
      | ⟨0, _⟩ =>
        by_contra hc
        refine h fun a => ?_
        match a with
        | ⟨0, _⟩ =>
          have hc' : ¬(0 ≤ (y 0).val ∧ (y 0).val < 0 + 512) := hc
          have h0' : (y 0).val < 8704 := h0
          exact ⟨show 512 ≤ (y 0).val by omega, show (y 0).val < 512 + 8192 by omega⟩
        | ⟨1, _⟩ => exact ⟨Nat.zero_le _, show (y 1).val < 0 + 128 by have : (y 1).val < 128 := h1; omega⟩
      | ⟨1, _⟩ => exact ⟨Nat.zero_le _, show (y 1).val < 0 + 128 by have : (y 1).val < 128 := h1; omega⟩

/-- The padded keys or values as a function of the padding rows and the copied block only. -/
def pad {e : EltTy} (z : Vec F S512x128 e) (w : Vec F S8192x128 e) : Vec F S8704x128 e :=
  padded (fun _ => z (ix2 (⟨0, by decide⟩ : Fin 512) (⟨0, by decide⟩ : Fin 128))) z w
theorem padded_eq {e : EltTy} (o : Vec F S8704x128 e) (z : Vec F S512x128 e) (w : Vec F S8192x128 e) : padded o z w = pad z w :=
  padded_base _ _ _ _

/-- The state a head pair starts from. -/
def fresh (c : Dev nD) (t : Fin cfg0.N) : Kept F :=
  (k0_pay8, pad k0_pay2 (k0_pay4 (iblk m c 1 t)), pad k0_pay3 (k0_pay5 (iblk m c 2 t)), k0_pay6, k0_pay7)

/-- What point `t` finds. -/
def found (c : Dev nD) (t : Fin cfg0.N) (acc : Kept F) : Kept F := if t.val % 32 = 0 then fresh m c t else acc

section
variable (c : Dev nD) (t : Fin cfg0.N) (acc : Vec F S256x128 .f32 × Vec F S8192x128 .f32 × Vec F S8192x128 .f32 × Kept F)

theorem found_A (a : Kept F) (h0 : t.val % 32 = 0) : found m c t a = fresh m c t := if_pos h0
theorem found_BC (a : Kept F) (h0 : ¬t.val % 32 = 0) : found m c t a = a := if_neg h0

theorem step_dq : (stAt0 m c t.val t.isLt acc).1 = tDq (row0 (grid0.coords t)) (iblk m c 0 t) (iblk m c 4 t) (win (grid0.coords t) (found m c t acc.2.2.2).2.1) (win (grid0.coords t) (found m c t acc.2.2.2).2.2.1) (iblk m c 3 t) := by
  by_cases h0 : t.val % 32 = 0
  · have h1 : ¬t.val % 32 = 31 := by omega
    rw [stAt0_A m c t acc h0 h1, found_A m c t _ h0]
    dsimp only
    refine (st_out0_A_5 ..).trans ?_
    simp only [padded_eq]
    rfl
  · rw [found_BC m c t _ h0]
    by_cases h1 : t.val % 32 = 31
    · rw [stAt0_C m c t acc h0 h1]
      dsimp only
      exact st_out0_C_5 ..
    · rw [stAt0_B m c t acc h0 h1]
      dsimp only
      exact st_out0_B_5 ..

theorem step_kp : (stAt0 m c t.val t.isLt acc).2.2.2.2.1 = (found m c t acc.2.2.2).2.1 := by
  by_cases h0 : t.val % 32 = 0
  · have h1 : ¬t.val % 32 = 31 := by omega
    rw [stAt0_A m c t acc h0 h1, found_A m c t _ h0]
    dsimp only
    refine (st_sout0_A_0 ..).trans ?_
    simp only [padded_eq]
    rfl
  · rw [found_BC m c t _ h0]
    by_cases h1 : t.val % 32 = 31
    · rw [stAt0_C m c t acc h0 h1]
      dsimp only
      rfl
    · rw [stAt0_B m c t acc h0 h1]
      dsimp only
      rfl

theorem step_vp : (stAt0 m c t.val t.isLt acc).2.2.2.2.2.1 = (found m c t acc.2.2.2).2.2.1 := by
  by_cases h0 : t.val % 32 = 0
  · have h1 : ¬t.val % 32 = 31 := by omega
    rw [stAt0_A m c t acc h0 h1, found_A m c t _ h0]
    dsimp only
    refine (st_sout0_A_1 ..).trans ?_
    simp only [padded_eq]
    rfl
  · rw [found_BC m c t _ h0]
    by_cases h1 : t.val % 32 = 31
    · rw [stAt0_C m c t acc h0 h1]
      dsimp only
      rfl
    · rw [stAt0_B m c t acc h0 h1]
      dsimp only
      rfl

theorem step_dk : (stAt0 m c t.val t.isLt acc).2.2.2.2.2.2.1 = putWin (grid0.coords t) (found m c t acc.2.2.2).2.2.2.1 (tDk (row0 (grid0.coords t)) (iblk m c 0 t) (iblk m c 4 t) (win (grid0.coords t) (found m c t acc.2.2.2).2.1) (win (grid0.coords t) (found m c t acc.2.2.2).2.2.1) (iblk m c 3 t) (win (grid0.coords t) (found m c t acc.2.2.2).2.2.2.1)) := by
  by_cases h0 : t.val % 32 = 0
  · have h1 : ¬t.val % 32 = 31 := by omega
    rw [stAt0_A m c t acc h0 h1, found_A m c t _ h0]
    dsimp only
    refine (st_sout0_A_2 ..).trans ?_
    simp only [padded_eq]
    rfl
  · rw [found_BC m c t _ h0]
    by_cases h1 : t.val % 32 = 31
    · rw [stAt0_C m c t acc h0 h1]
      dsimp only
      exact st_sout0_C_2 ..
    · rw [stAt0_B m c t acc h0 h1]
      dsimp only
      exact st_sout0_B_2 ..

theorem step_dv : (stAt0 m c t.val t.isLt acc).2.2.2.2.2.2.2 = putWin (grid0.coords t) (found m c t acc.2.2.2).2.2.2.2 (tDv (row0 (grid0.coords t)) (iblk m c 0 t) (iblk m c 4 t) (win (grid0.coords t) (found m c t acc.2.2.2).2.1) (iblk m c 3 t) (win (grid0.coords t) (found m c t acc.2.2.2).2.2.2.2)) := by
  by_cases h0 : t.val % 32 = 0
  · have h1 : ¬t.val % 32 = 31 := by omega
    rw [stAt0_A m c t acc h0 h1, found_A m c t _ h0]
    dsimp only
    refine (st_sout0_A_3 ..).trans ?_
    simp only [padded_eq]
    rfl
  · rw [found_BC m c t _ h0]
    by_cases h1 : t.val % 32 = 31
    · rw [stAt0_C m c t acc h0 h1]
      dsimp only
      exact st_sout0_C_3 ..
    · rw [stAt0_B m c t acc h0 h1]
      dsimp only
      exact st_sout0_B_3 ..

theorem step_db : ∃ o, (stAt0 m c t.val t.isLt acc).2.2.2.1 = tDb (row0 (grid0.coords t)) (iblk m c 0 t) (iblk m c 4 t) (win (grid0.coords t) (found m c t acc.2.2.2).2.1) (win (grid0.coords t) (found m c t acc.2.2.2).2.2.1) (iblk m c 3 t) o (found m c t acc.2.2.2).1 := by
  by_cases h0 : t.val % 32 = 0
  · have h1 : ¬t.val % 32 = 31 := by omega
    refine ⟨k0_pay8, ?_⟩
    rw [stAt0_A m c t acc h0 h1, found_A m c t _ h0]
    dsimp only
    refine (st_out0_A_8 ..).trans ?_
    simp only [padded_eq]
    rfl
  · rw [found_BC m c t _ h0]
    refine ⟨VO0_8.read (Elt F) VO0_8.junk, ?_⟩
    by_cases h1 : t.val % 32 = 31
    · rw [stAt0_C m c t acc h0 h1]
      dsimp only
      exact st_out0_C_8 ..
    · rw [stAt0_B m c t acc h0 h1]
      dsimp only
      exact st_out0_B_8 ..

theorem last_dk (h1 : t.val % 32 = 31) : (stAt0 m c t.val t.isLt acc).2.1 = lastRows (putWin (grid0.coords t) (found m c t acc.2.2.2).2.2.2.1 (tDk (row0 (grid0.coords t)) (iblk m c 0 t) (iblk m c 4 t) (win (grid0.coords t) (found m c t acc.2.2.2).2.1) (win (grid0.coords t) (found m c t acc.2.2.2).2.2.1) (iblk m c 3 t) (win (grid0.coords t) (found m c t acc.2.2.2).2.2.2.1))) := by
  have h0 : ¬t.val % 32 = 0 := by omega
  rw [found_BC m c t _ h0, stAt0_C m c t acc h0 h1]
  dsimp only
  exact st_out0_C_6 ..

theorem last_dv (h1 : t.val % 32 = 31) : (stAt0 m c t.val t.isLt acc).2.2.1 = lastRows (putWin (grid0.coords t) (found m c t acc.2.2.2).2.2.2.2 (tDv (row0 (grid0.coords t)) (iblk m c 0 t) (iblk m c 4 t) (win (grid0.coords t) (found m c t acc.2.2.2).2.1) (iblk m c 3 t) (win (grid0.coords t) (found m c t acc.2.2.2).2.2.2.2))) := by
  have h0 : ¬t.val % 32 = 0 := by omega
  rw [found_BC m c t _ h0, stAt0_C m c t acc h0 h1]
  dsimp only
  exact st_out0_C_7 ..

end
end Cert.AttnBwdIdeal.Value
end
-- ==== Proof.AttnRow.lean ====
/-
  One row of a softmax and of its gradient, over the extended reals: the row's maximum, its exponentials, probabilities,
  and the gradient of its scores. Entries that are `⊥` outside a band drop out.
-/
module

public import Idealize.ShloMosaic.Lib.Pointwise

@[expose] public section

noncomputable section

namespace AttnRow

open Idealize.ShloMosaic

variable {n : ℕ}

/-- The row's maximum. -/
def rowMax (x : Fin n → EReal) : EReal := Finset.fold max ⊥ x Finset.univ
/-- The exponentials, shifted by the maximum. -/
def rowExp (x : Fin n → EReal) (w : Fin n) : EReal := Ideal.exp (x w - rowMax x)
/-- Their sum. -/
def rowSum (x : Fin n → EReal) : EReal := ∑ w, rowExp x w
/-- The probabilities. -/
def rowP (x : Fin n → EReal) (w : Fin n) : EReal := rowExp x w * Ideal.div 1 (rowSum x)
/-- The gradient of the scores, where `g` is the gradient of the probabilities. -/
def rowDs (x g : Fin n → EReal) (w : Fin n) : EReal := rowP x w * (g w - ∑ u, rowP x u * g u)

/-- `x` is `y` on the `n` places from `a` and `⊥` elsewhere. -/
def Band {N : ℕ} (a : ℕ) (x : Fin N → EReal) (y : Fin n → EReal) : Prop :=
  a + n ≤ N ∧ (∀ w : Fin N, ∀ j : Fin n, w.val = a + j.val → x w = y j) ∧ ∀ w : Fin N, ¬(a ≤ w.val ∧ w.val < a + n) → x w = ⊥

/-- A sum over a row that is zero off the band is the band's. -/
theorem sum_band {N : ℕ} {a : ℕ} (f : Fin N → EReal) (g : Fin n → EReal) (ha : a + n ≤ N) (hin : ∀ w : Fin N, ∀ j : Fin n, w.val = a + j.val → f w = g j)
    (hout : ∀ w : Fin N, ¬(a ≤ w.val ∧ w.val < a + n) → f w = 0) : ∑ w, f w = ∑ j, g j := by
  symm
  refine Fintype.sum_of_injective (fun j : Fin n => (⟨a + j.val, by have := j.isLt; omega⟩ : Fin N)) (fun i j h => ?_) _ _ (fun w hw => ?_) (fun j => ?_)
  · have := congrArg Fin.val h
    exact Fin.ext (by simpa using this)
  · refine hout w fun hb => hw ⟨⟨w.val - a, by omega⟩, Fin.ext ?_⟩
    show a + (w.val - a) = w.val
    omega
  · exact (hin _ j rfl).symm

theorem rowMax_band {N : ℕ} {a : ℕ} {x : Fin N → EReal} {y : Fin n → EReal} (h : Band a x y) : rowMax x = rowMax y := by
  obtain ⟨ha, hin, hout⟩ := h
  apply le_antisymm
  · refine (Finset.fold_max_le _).mpr ⟨bot_le, fun w _ => ?_⟩
    by_cases hb : a ≤ w.val ∧ w.val < a + n
    · rw [hin w ⟨w.val - a, by omega⟩ (by show w.val = a + (w.val - a); omega)]
      exact (Finset.le_fold_max _).mpr (Or.inr ⟨_, Finset.mem_univ _, le_rfl⟩)
    · rw [hout w hb]; exact bot_le
  · refine (Finset.fold_max_le _).mpr ⟨bot_le, fun j _ => ?_⟩
    rw [← hin ⟨a + j.val, by have := j.isLt; omega⟩ j rfl]
    exact (Finset.le_fold_max _).mpr (Or.inr ⟨_, Finset.mem_univ _, le_rfl⟩)

theorem rowExp_band {N : ℕ} {a : ℕ} {x : Fin N → EReal} {y : Fin n → EReal} (h : Band a x y) (w : Fin N) (j : Fin n) (hw : w.val = a + j.val) :
    rowExp x w = rowExp y j := by
  unfold rowExp
  rw [rowMax_band h, h.2.1 w j hw]

theorem rowExp_off {N : ℕ} {a : ℕ} {x : Fin N → EReal} {y : Fin n → EReal} (h : Band a x y) (w : Fin N) (hw : ¬(a ≤ w.val ∧ w.val < a + n)) :
    rowExp x w = 0 := by
  unfold rowExp
  rw [h.2.2 w hw, EReal.bot_sub]
  rfl

theorem rowSum_band {N : ℕ} {a : ℕ} {x : Fin N → EReal} {y : Fin n → EReal} (h : Band a x y) : rowSum x = rowSum y :=
  sum_band _ _ h.1 (rowExp_band h) (rowExp_off h)

theorem rowP_band {N : ℕ} {a : ℕ} {x : Fin N → EReal} {y : Fin n → EReal} (h : Band a x y) (w : Fin N) (j : Fin n) (hw : w.val = a + j.val) :
    rowP x w = rowP y j := by
  unfold rowP
  rw [rowSum_band h, rowExp_band h w j hw]

theorem rowP_off {N : ℕ} {a : ℕ} {x : Fin N → EReal} {y : Fin n → EReal} (h : Band a x y) (w : Fin N) (hw : ¬(a ≤ w.val ∧ w.val < a + n)) :
    rowP x w = 0 := by
  unfold rowP
  rw [rowExp_off h w hw, zero_mul]

theorem rowDs_band {N : ℕ} {a : ℕ} {x g : Fin N → EReal} {y k : Fin n → EReal} (h : Band a x y)
    (hg : ∀ w : Fin N, ∀ j : Fin n, w.val = a + j.val → g w = k j) (w : Fin N) (j : Fin n) (hw : w.val = a + j.val) :
    rowDs x g w = rowDs y k j := by
  unfold rowDs
  rw [rowP_band h w j hw, hg w j hw]
  rw [sum_band (fun u => rowP x u * g u) (fun u => rowP y u * k u) h.1 (fun u l e => by rw [rowP_band h u l e, hg u l e])
    (fun u hu => by rw [rowP_off h u hu, zero_mul])]

theorem rowDs_off {N : ℕ} {a : ℕ} {x : Fin N → EReal} (g : Fin N → EReal) {y : Fin n → EReal} (h : Band a x y)
    (w : Fin N) (hw : ¬(a ≤ w.val ∧ w.val < a + n)) : rowDs x g w = 0 := by
  unfold rowDs
  rw [rowP_off h w hw, zero_mul]

end AttnRow
end
-- ==== Proof.AttnCanon.lean ====
/-
  The gradient of the windowed attention as sums over positions, of arrays read at natural numbers: `qkv` the columns of
  queries, keys and values, `dd` the gradient of the result, `rb` the relative bias. Position `t` of head `h` sees the 576
  places from `64 * (t / 64)` on, of keys and values behind 512 rows of zeros.
-/
module

public import proofs.«01_k».proof.Proof.AttnRow

@[expose] public section

noncomputable section

namespace AttnCanon

open Idealize.ShloMosaic AttnRow

variable (qkv dd rb : ℕ → ℕ → EReal)

/-- One eighth, as the programs write it. -/
abbrev eighth : EReal := Ideal.ofBits .f32 1040187392#32

/-- Keys and values behind their padding. -/
def kpad (m L : ℕ) : EReal := if m < 512 then 0 else qkv (m - 512) (1024 + L)
def vpad (m L : ℕ) : EReal := if m < 512 then 0 else qkv (m - 512) (2048 + L)

/-- The relative bias's column for place `j` seen from row `i` of a chunk. -/
def relIx (i j : ℕ) : ℕ := min (i + 640 - j) 256

/-- The scores of position `t`, and the gradient of its probabilities. -/
def X (t h : ℕ) (j : Fin 576) : EReal :=
  if 64 * (t / 64) + j.val < 512 then ⊥
  else ∑ e : Fin 64, qkv t (64 * h + e.val) * eighth * kpad qkv (64 * (t / 64) + j.val) (64 * h + e.val) + rb h (relIx (t % 64) j.val)
def G (t h : ℕ) (j : Fin 576) : EReal := ∑ e : Fin 64, dd t (64 * h + e.val) * vpad qkv (64 * (t / 64) + j.val) (64 * h + e.val)

/-- The probabilities and the gradient of the scores, at a padded place `m`: zero outside the window. -/
def PP (t h m : ℕ) : EReal := if H : 64 * (t / 64) ≤ m ∧ m < 64 * (t / 64) + 576 then rowP (X qkv rb t h) ⟨m - 64 * (t / 64), by omega⟩ else 0
def DD (t h m : ℕ) : EReal :=
  if H : 64 * (t / 64) ≤ m ∧ m < 64 * (t / 64) + 576 then rowDs (X qkv rb t h) (G qkv dd t h) ⟨m - 64 * (t / 64), by omega⟩ else 0

theorem PP_in (t h m : ℕ) (j : Fin 576) (e : m = 64 * (t / 64) + j.val) : PP qkv rb t h m = rowP (X qkv rb t h) j := by
  have hj := j.isLt
  unfold PP
  rw [dif_pos ⟨by omega, by omega⟩]
  exact congrArg _ (Fin.ext (by show m - 64 * (t / 64) = j.val; omega))
theorem DD_in (t h m : ℕ) (j : Fin 576) (e : m = 64 * (t / 64) + j.val) : DD qkv dd rb t h m = rowDs (X qkv rb t h) (G qkv dd t h) j := by
  have hj := j.isLt
  unfold DD
  rw [dif_pos ⟨by omega, by omega⟩]
  exact congrArg _ (Fin.ext (by show m - 64 * (t / 64) = j.val; omega))
theorem PP_off (t h m : ℕ) (e : ¬(64 * (t / 64) ≤ m ∧ m < 64 * (t / 64) + 576)) : PP qkv rb t h m = 0 := dif_neg e
theorem DD_off (t h m : ℕ) (e : ¬(64 * (t / 64) ≤ m ∧ m < 64 * (t / 64) + 576)) : DD qkv dd rb t h m = 0 := dif_neg e

/-- The results: gradients of queries, keys, values, and of the bias matrix, at column `L` of head `L / 64`. -/
def dQ (t L : ℕ) : EReal := (∑ j : Fin 576, DD qkv dd rb t (L / 64) (64 * (t / 64) + j.val) * kpad qkv (64 * (t / 64) + j.val) L) * eighth
def dK (m L : ℕ) : EReal := ∑ t ∈ Finset.range 8192, DD qkv dd rb t (L / 64) (m + 512) * (qkv t L * eighth)
def dV (m L : ℕ) : EReal := ∑ t ∈ Finset.range 8192, PP qkv rb t (L / 64) (m + 512) * dd t L
def dB (h r w : ℕ) : EReal := ∑ i ∈ Finset.range 32, DD qkv dd rb (256 * i + r) h (256 * i + w)

end AttnCanon
end
-- ==== Proof.AttnTile.lean ====
/-
  The attention gradient's tile functions (AttnBody) at an index, over the extended reals: a tile row is a softmax row
  (AttnRow) of the scores of one head, whose lanes are the 64 of a block's 128 with that head's number.
-/
module

public import proofs.«01_k».proof.Proof.AttnBody
public import proofs.«01_k».proof.Proof.AttnCanon

@[expose] public section

set_option maxRecDepth 16384

noncomputable section

namespace Cert.AttnBwdIdeal.Value

open Idealize.ShloMosaic Idealize.SL.Sem Cert.AttnBwdIdeal Cert.AttnBwdIdeal.Gen AttnRow AttnCanon

variable (v4 : BitVec 32) (q d : Vec Ideal S256x128 .f32) (kw vw : Vec Ideal S768x128 .bf16) (b : Vec Ideal S2x256x768 .f32)

/-- A product of two rows over the lanes of head `hd`. -/
def headSum (hd : Fin 2) (f : Fin 128 → EReal) : EReal := ∑ l : Fin 128, if l.val / 64 = hd.val then f l else 0

/-- The scores of a tile row: product, relative bias, and the mask of the places before the first position. -/
def tX (hd : Fin 2) (r : Fin 256) (w : Fin 768) : EReal :=
  headSum hd (fun l => q (ix2 r l) * eighth * kw (ix2 w l)) + b (ix3 hd r w) + (if IntOp.cmpi .sge (BitVec.ofNat 32 w.val) (Scalar.subi 512#32 v4) = 1#1 then 0 else ⊥)
/-- The gradient of the probabilities. -/
def tG (hd : Fin 2) (r : Fin 256) (w : Fin 768) : EReal := headSum hd (fun l => d (ix2 r l) * vw (ix2 w l))

theorem pay10_apply (r : Fin 256) (l : Fin 128) : k0_pay10 (ix2 r l) = BitVec.ofNat 32 (l.val / 64) := by
  pointwise [k0_pay10]
  revert l
  decide +kernel

/-- The selections by head are `if`s on the lane's head. -/
theorem select0 {α : Type} (r : Fin 256) (l : Fin 128) (x y : α) :
    Scalar.select (IntOp.cmpi .eq (k0_pay10 (ix2 r l)) 0#32) x y = if l.val / 64 = (0 : Fin 2).val then x else y := by
  rw [pay10_apply]
  have h : ∀ l : Fin 128, IntOp.cmpi .eq (BitVec.ofNat 32 (l.val / 64)) 0#32 = if l.val / 64 = (0 : Fin 2).val then 1#1 else 0#1 := by decide +kernel
  rw [h]
  split <;> rfl
theorem select1 {α : Type} (r : Fin 256) (l : Fin 128) (x y : α) :
    Scalar.select (IntOp.cmpi .eq (k0_pay10 (ix2 r l)) 1#32) x y = if l.val / 64 = (1 : Fin 2).val then x else y := by
  rw [pay10_apply]
  have h : ∀ l : Fin 128, IntOp.cmpi .eq (BitVec.ofNat 32 (l.val / 64)) 1#32 = if l.val / 64 = (1 : Fin 2).val then 1#1 else 0#1 := by decide +kernel
  rw [h]
  split <;> rfl

theorem bias0_apply (r : Fin 256) (w : Fin 768) : bias0 b (ix3 0 r w) = b (ix3 0 r w) :=
  congrArg b (funext fun a => Fin.ext (by match a with | ⟨0, _⟩ => rfl | ⟨1, _⟩ => exact (by show 0 + 1 * r.val = r.val; omega) | ⟨2, _⟩ => exact (by show 0 + 1 * w.val = w.val; omega)))
theorem bias1_apply (r : Fin 256) (w : Fin 768) : bias1 b (ix3 0 r w) = b (ix3 1 r w) :=
  congrArg b (funext fun a => Fin.ext (by match a with | ⟨0, _⟩ => rfl | ⟨1, _⟩ => exact (by show 0 + 1 * r.val = r.val; omega) | ⟨2, _⟩ => exact (by show 0 + 1 * w.val = w.val; omega)))

theorem mask_eq : (Named.named (F := Ideal) (φ := .f32) κ "mask" 4048155338#32 : EReal) = ⊥ := rfl
theorem negInf_eq : Ideal.ofBits .f32 4286578688#32 = ⊥ := by simp [Ideal.ofBits, Ideal.ieee]

/-- A `put` at an index inside it, and at one outside. -/
theorem put_hit {α : Type} {s : Shape} (x : s.Idx → α) (off size : Fin s.rank → ℕ) (w : ((a : Fin s.rank) → Fin (size a)) → α)
    (y : s.Idx) (z : (a : Fin s.rank) → Fin (size a)) (h : ∀ a, (y a).val = off a + (z a).val) : VecWindow.put x off size w y = w z := by
  unfold VecWindow.put
  rw [dif_pos fun a => ⟨by rw [h a]; omega, by rw [h a]; have := (z a).isLt; omega⟩]
  exact congrArg w (funext fun a => Fin.ext (by
    show (y a).val - off a = (z a).val
    rw [h a]; omega))
theorem put_miss {α : Type} {s : Shape} (x : s.Idx → α) (off size : Fin s.rank → ℕ) (w : ((a : Fin s.rank) → Fin (size a)) → α)
    (y : s.Idx) (a : Fin s.rank) (h : ¬(off a ≤ (y a).val ∧ (y a).val < off a + size a)) : VecWindow.put x off size w y = x y := by
  unfold VecWindow.put
  rw [dif_neg fun hall => h (hall a)]

theorem select_if {α : Type} (c : BitVec 1) (x y : α) : Scalar.select c x y = if c = 1#1 then x else y := rfl

theorem tP0_apply (r : Fin 256) (w : Fin 768) : tP0 v4 q kw b (ix2 r w) = rowP (tX v4 q kw b 0 r) w := by
  unfold tP0
  pointwise [k0_pay16, k0_pay15, k0_pay14, k0_pay11, k0_pay9]
  simp only [select0, bias0_apply, mask_eq, negInf_eq]
  rfl
theorem tDs0_apply (r : Fin 256) (w : Fin 768) : tDs0 v4 q d kw vw b (ix2 r w) = rowDs (tX v4 q kw b 0 r) (tG d vw 0 r) w := by
  have h := fun w => tP0_apply v4 q kw b r w
  unfold tP0 at h
  unfold tDs0
  pointwise [k0_pay17, k0_pay15]
  simp only [h, select0]
  rfl
theorem tDp1_apply (r : Fin 256) (w : Fin 768) : tDp1 d vw (ix2 r w) = tG d vw 1 r w := by
  unfold tDp1
  pointwise [k0_pay25, k0_pay24]
  simp only [select1]
  rfl
theorem tE1_apply (r : Fin 256) (w : Fin 768) : tE1 v4 q kw b (ix2 r w) = rowExp (tX v4 q kw b 1 r) w := by
  unfold tE1
  pointwise [k0_pay26, k0_pay23, k0_pay11, k0_pay9]
  simp only [select1, bias1_apply, mask_eq, negInf_eq]
  rfl
theorem tS1_apply (r : Fin 256) : tS1 v4 q kw b (ix2 r 0) = rowSum (tX v4 q kw b 1 r) := by
  have h := fun w => tE1_apply v4 q kw b r w
  unfold tE1 at h
  unfold tS1
  pointwise [k0_pay27]
  simp only [h]
  rfl

/-- The gradient of the scores, for the head of lane `l`. -/
def tDs (l : Fin 128) (r : Fin 256) (w : Fin 768) : EReal :=
  rowDs (tX v4 q kw b ⟨l.val / 64, by have := l.isLt; omega⟩ r) (tG d vw ⟨l.val / 64, by have := l.isLt; omega⟩ r) w
def tP (l : Fin 128) (r : Fin 256) (w : Fin 768) : EReal := rowP (tX v4 q kw b ⟨l.val / 64, by have := l.isLt; omega⟩ r) w

theorem tDs_0 (l : Fin 128) (h : l.val / 64 = (0 : Fin 2).val) (r : Fin 256) (w : Fin 768) :
    tDs v4 q d kw vw b l r w = rowDs (tX v4 q kw b 0 r) (tG d vw 0 r) w := by
  have e : (⟨l.val / 64, by have := l.isLt; omega⟩ : Fin 2) = 0 := Fin.ext h
  unfold tDs; rw [e]
theorem tDs_1 (l : Fin 128) (h : l.val / 64 = (1 : Fin 2).val) (r : Fin 256) (w : Fin 768) :
    tDs v4 q d kw vw b l r w = rowDs (tX v4 q kw b 1 r) (tG d vw 1 r) w := by
  have e : (⟨l.val / 64, by have := l.isLt; omega⟩ : Fin 2) = 1 := Fin.ext h
  unfold tDs; rw [e]
theorem tP_0 (l : Fin 128) (h : l.val / 64 = (0 : Fin 2).val) (r : Fin 256) (w : Fin 768) : tP v4 q kw b l r w = rowP (tX v4 q kw b 0 r) w := by
  have e : (⟨l.val / 64, by have := l.isLt; omega⟩ : Fin 2) = 0 := Fin.ext h
  unfold tP; rw [e]
theorem tP_1 (l : Fin 128) (h : l.val / 64 = (1 : Fin 2).val) (r : Fin 256) (w : Fin 768) : tP v4 q kw b l r w = rowP (tX v4 q kw b 1 r) w := by
  have e : (⟨l.val / 64, by have := l.isLt; omega⟩ : Fin 2) = 1 := Fin.ext h
  unfold tP; rw [e]

theorem lane_cases (l : Fin 128) : l.val / 64 = (0 : Fin 2).val ∧ ¬l.val / 64 = (1 : Fin 2).val ∨ l.val / 64 = (1 : Fin 2).val ∧ ¬l.val / 64 = (0 : Fin 2).val := by
  have := l.isLt
  simp only [Fin.val_zero, Fin.val_one]
  omega

theorem ds1_eq (r : Fin 256) (w : Fin 768) :
    tE1 v4 q kw b (ix2 r w) * Ideal.div 1 (tS1 v4 q kw b (ix2 r 0)) *
      (tDp1 d vw (ix2 r w) - ∑ x, tE1 v4 q kw b (ix2 r x) * Ideal.div 1 (tS1 v4 q kw b (ix2 r 0)) * tDp1 d vw (ix2 r x))
    = rowDs (tX v4 q kw b 1 r) (tG d vw 1 r) w := by
  simp only [tDp1_apply, tE1_apply, tS1_apply]
  rfl

theorem tDq_apply (r : Fin 256) (l : Fin 128) : tDq v4 q d kw vw b (ix2 r l) = (∑ w, tDs v4 q d kw vw b l r w * kw (ix2 w l)) * eighth := by
  unfold tDq
  pointwise [k0_pay32, k0_pay20, k0_pay19, k0_pay29, k0_pay28, k0_pay31]
  simp only [ds1_eq, select0, tDs0_apply]
  rcases lane_cases l with ⟨h, h'⟩ | ⟨h, h'⟩
  · simp only [if_pos h, tDs_0 _ _ _ _ _ _ l h]
  · simp only [if_neg h', tDs_1 _ _ _ _ _ _ l h]
theorem tDk_apply (acc : Vec Ideal S768x128 .f32) (w : Fin 768) (l : Fin 128) :
    tDk v4 q d kw vw b acc (ix2 w l) = acc (ix2 w l) + ∑ r, tDs v4 q d kw vw b l r w * (q (ix2 r l) * eighth) := by
  unfold tDk
  pointwise [k0_pay33, k0_pay21, k0_pay19, k0_pay29, k0_pay28, k0_pay31, k0_pay23, k0_pay14, k0_pay12, k0_pay9]
  simp only [ds1_eq, select0, select1, tDs0_apply]
  rcases lane_cases l with ⟨h, h'⟩ | ⟨h, h'⟩
  · simp only [if_pos h, if_neg h', tDs_0 _ _ _ _ _ _ l h, Finset.sum_const_zero, add_zero]
  · simp only [if_pos h, if_neg h', tDs_1 _ _ _ _ _ _ l h, Finset.sum_const_zero, zero_add]
theorem tDv_apply (acc : Vec Ideal S768x128 .f32) (w : Fin 768) (l : Fin 128) :
    tDv v4 q d kw b acc (ix2 w l) = acc (ix2 w l) + ∑ r, tP v4 q kw b l r w * d (ix2 r l) := by
  unfold tDv
  pointwise [k0_pay1, k0_pay34, k0_pay22, k0_pay28, k0_pay24, k0_pay15, k0_pay13]
  simp only [select0, select1, tP0_apply, tE1_apply, tS1_apply]
  rcases lane_cases l with ⟨h, h'⟩ | ⟨h, h'⟩
  · simp only [if_pos h, if_neg h', tP_0 _ _ _ _ l h, Finset.sum_const_zero, add_zero]
  · simp only [if_pos h, if_neg h', tP_1 _ _ _ _ l h, Finset.sum_const_zero, zero_add]
    rfl
theorem tDb0_apply (acc : Vec Ideal S1x256x768 .f32) (r : Fin 256) (w : Fin 768) :
    tDb0 v4 q d kw vw b acc (ix3 0 r w) = acc (ix3 0 r w) + rowDs (tX v4 q kw b 0 r) (tG d vw 0 r) w := by
  unfold tDb0
  pointwise [k0_pay18]
  simp only [tDs0_apply]
theorem tDb1_apply (acc : Vec Ideal S1x256x768 .f32) (r : Fin 256) (w : Fin 768) :
    tDb1 v4 q d kw vw b acc (ix3 0 r w) = acc (ix3 0 r w) + rowDs (tX v4 q kw b 1 r) (tG d vw 1 r) w := by
  unfold tDb1
  pointwise [k0_pay30, k0_pay29, k0_pay28]
  simp only [ds1_eq]
theorem tDb_apply (o acc : Vec Ideal S2x256x768 .f32) (hd : Fin 2) (r : Fin 256) (w : Fin 768) :
    tDb v4 q d kw vw b o acc (ix3 hd r w) = acc (ix3 hd r w) + rowDs (tX v4 q kw b hd r) (tG d vw hd r) w := by
  have h := hd.isLt
  unfold tDb
  obtain rfl | rfl : hd = 0 ∨ hd = 1 := by
    rcases (by omega : hd.val = 0 ∨ hd.val = 1) with e | e
    · exact Or.inl (Fin.ext e)
    · exact Or.inr (Fin.ext e)
  · refine (put_miss _ _ _ _ _ (0 : Fin 3) (by show ¬(1 ≤ 0 ∧ _); omega)).trans ?_
    refine (put_hit (s := S2x256x768) _ _ S1x256x768.size _ _ (show S1x256x768.Idx from ix3 (0 : Fin 1) r w) fun a => ?_).trans ?_
    · match a with
      | ⟨0, _⟩ => rfl
      | ⟨1, _⟩ => exact (Nat.zero_add _).symm
      | ⟨2, _⟩ => exact (Nat.zero_add _).symm
    · rw [tDb0_apply, bias0_apply]
  · refine (put_hit (s := S2x256x768) _ _ S1x256x768.size _ _ (show S1x256x768.Idx from ix3 (0 : Fin 1) r w) fun a => ?_).trans ?_
    · match a with
      | ⟨0, _⟩ => rfl
      | ⟨1, _⟩ => exact (Nat.zero_add _).symm
      | ⟨2, _⟩ => exact (Nat.zero_add _).symm
    · rw [tDb1_apply, bias1_apply]
end Cert.AttnBwdIdeal.Value
end
-- ==== Proof.AttnPoint.lean ====
/-
  A grid point's tile (AttnTile) at the arrays' entries: its rows are rows of the windowed attention's gradient (AttnCanon).
-/
module

public import proofs.«01_k».proof.Proof.AttnTile
public import proofs.«01_k».proof.Proof.AttnCanon

@[expose] public section

set_option maxRecDepth 16384

noncomputable section

namespace Cert.AttnBwdIdeal.Value

open Idealize.ShloMosaic Idealize.SL.Sem Cert.AttnBwdIdeal Cert.AttnBwdIdeal.Gen AttnRow AttnCanon

theorem headSum_eq (hd : Fin 2) (f : Fin 128 → EReal) (g : Fin 64 → EReal) (h : ∀ l : Fin 128, ∀ e : Fin 64, l.val = 64 * hd.val + e.val → f l = g e) :
    headSum hd f = ∑ e, g e := by
  have hh := hd.isLt
  refine sum_band (a := 64 * hd.val) _ _ (by omega) (fun l e el => ?_) (fun l hl => if_neg (by have := l.isLt; omega))
  have := e.isLt
  show (if l.val / 64 = hd.val then f l else 0) = g e
  rw [if_pos (by omega), h l e el]

theorem mask_iff : ∀ (i : Fin 32) (w : Fin 768),
    (IntOp.cmpi .sge (BitVec.ofNat 32 w.val) (Scalar.subi 512#32 (Scalar.muli (BitVec.ofNat 32 i.val) 256#32)) = 1#1) ↔ ¬256 * i.val + w.val < 512 := by
  decide +kernel

section
variable (qkv dd rb : ℕ → ℕ → EReal) (p : ℕ) (i : Fin 32)
variable (q d : Vec Ideal S256x128 .f32) (kw vw : Vec Ideal S768x128 .bf16) (b : Vec Ideal S2x256x768 .f32)

/-- The point's blocks are the arrays' entries. -/
structure Blocks : Prop where
  q : ∀ r l, q (ix2 r l) = qkv (256 * i.val + r.val) (128 * p + l.val)
  d : ∀ r l, d (ix2 r l) = dd (256 * i.val + r.val) (128 * p + l.val)
  kw : ∀ w l, kw (ix2 w l) = kpad qkv (256 * i.val + w.val) (128 * p + l.val)
  vw : ∀ w l, vw (ix2 w l) = vpad qkv (256 * i.val + w.val) (128 * p + l.val)
  b : ∀ (hd : Fin 2) (r : Fin 256) (w : Fin 768), b (ix3 hd r w) =
    if 64 * (r.val / 64) ≤ w.val ∧ w.val < 64 * (r.val / 64) + 576 then rb (2 * p + hd.val) (min (r.val + 640 - w.val) 256) else ⊥

variable (H : Blocks qkv dd rb p i q d kw vw b)
include H

theorem tX_band (hd : Fin 2) (r : Fin 256) :
    Band (64 * (r.val / 64)) (tX (Scalar.muli (BitVec.ofNat 32 i.val) 256#32) q kw b hd r) (X qkv rb (256 * i.val + r.val) (2 * p + hd.val)) := by
  have hr := r.isLt
  have hi := i.isLt
  refine ⟨by omega, fun w j hw => ?_, fun w hw => ?_⟩
  · have hj := j.isLt
    unfold tX X
    rw [headSum_eq hd _ (fun e : Fin 64 => qkv (256 * i.val + r.val) (64 * (2 * p + hd.val) + e.val) * eighth *
      kpad qkv (64 * ((256 * i.val + r.val) / 64) + j.val) (64 * (2 * p + hd.val) + e.val)) (fun l e el => by
        rw [H.q, H.kw, show 128 * p + l.val = 64 * (2 * p + hd.val) + e.val by omega,
          show 256 * i.val + w.val = 64 * ((256 * i.val + r.val) / 64) + j.val by omega])]
    rw [H.b, if_pos ⟨by omega, by omega⟩]
    by_cases hv : 256 * i.val + w.val < 512
    · rw [if_neg (fun h => (mask_iff i w).mp h hv), if_pos (by omega), EReal.add_bot]
    · rw [if_pos ((mask_iff i w).mpr hv), if_neg (by omega), add_zero]
      refine congrArg _ (congrArg _ ?_)
      unfold relIx
      omega
  · unfold tX
    rw [H.b, if_neg hw, EReal.add_bot, EReal.bot_add]

theorem tG_in (hd : Fin 2) (r : Fin 256) (w : Fin 768) (j : Fin 576) (hw : w.val = 64 * (r.val / 64) + j.val) :
    tG d vw hd r w = G qkv dd (256 * i.val + r.val) (2 * p + hd.val) j := by
  have hr := r.isLt
  have hi := i.isLt
  unfold tG G
  refine headSum_eq hd _ _ (fun l e el => ?_)
  rw [H.d, H.vw, show 128 * p + l.val = 64 * (2 * p + hd.val) + e.val by omega,
    show 256 * i.val + w.val = 64 * ((256 * i.val + r.val) / 64) + j.val by omega]

theorem rowDs_eq (hd : Fin 2) (r : Fin 256) (w : Fin 768) :
    rowDs (tX (Scalar.muli (BitVec.ofNat 32 i.val) 256#32) q kw b hd r) (tG d vw hd r) w
      = DD qkv dd rb (256 * i.val + r.val) (2 * p + hd.val) (256 * i.val + w.val) := by
  have hr := r.isLt
  by_cases hw : 64 * (r.val / 64) ≤ w.val ∧ w.val < 64 * (r.val / 64) + 576
  · have e : w.val = 64 * (r.val / 64) + (⟨w.val - 64 * (r.val / 64), by omega⟩ : Fin 576).val := by show w.val = 64 * (r.val / 64) + (w.val - 64 * (r.val / 64)); omega
    rw [rowDs_band (tX_band qkv dd rb p i q d kw vw b H hd r) (tG_in qkv dd rb p i q d kw vw b H hd r) w _ e]
    exact (DD_in _ _ _ _ _ _ _ (by show 256 * i.val + w.val = 64 * ((256 * i.val + r.val) / 64) + (w.val - 64 * (r.val / 64)); omega)).symm
  · rw [rowDs_off _ (tX_band qkv dd rb p i q d kw vw b H hd r) w hw, DD_off _ _ _ _ _ _ (by omega)]

theorem rowP_eq (hd : Fin 2) (r : Fin 256) (w : Fin 768) :
    rowP (tX (Scalar.muli (BitVec.ofNat 32 i.val) 256#32) q kw b hd r) w = PP qkv rb (256 * i.val + r.val) (2 * p + hd.val) (256 * i.val + w.val) := by
  have hr := r.isLt
  by_cases hw : 64 * (r.val / 64) ≤ w.val ∧ w.val < 64 * (r.val / 64) + 576
  · have e : w.val = 64 * (r.val / 64) + (⟨w.val - 64 * (r.val / 64), by omega⟩ : Fin 576).val := by show w.val = 64 * (r.val / 64) + (w.val - 64 * (r.val / 64)); omega
    rw [rowP_band (tX_band qkv dd rb p i q d kw vw b H hd r) w _ e]
    exact (PP_in _ _ _ _ _ _ (by show 256 * i.val + w.val = 64 * ((256 * i.val + r.val) / 64) + (w.val - 64 * (r.val / 64)); omega)).symm
  · rw [rowP_off (tX_band qkv dd rb p i q d kw vw b H hd r) w hw, PP_off _ _ _ _ _ (by omega)]

theorem tDs_eq (l : Fin 128) (r : Fin 256) (w : Fin 768) : tDs (Scalar.muli (BitVec.ofNat 32 i.val) 256#32) q d kw vw b l r w
    = DD qkv dd rb (256 * i.val + r.val) ((128 * p + l.val) / 64) (256 * i.val + w.val) := by
  unfold tDs
  rw [rowDs_eq qkv dd rb p i q d kw vw b H, show (128 * p + l.val) / 64 = 2 * p + l.val / 64 by omega]
theorem tP_eq (l : Fin 128) (r : Fin 256) (w : Fin 768) : tP (Scalar.muli (BitVec.ofNat 32 i.val) 256#32) q kw b l r w
    = PP qkv rb (256 * i.val + r.val) ((128 * p + l.val) / 64) (256 * i.val + w.val) := by
  unfold tP
  rw [rowP_eq qkv dd rb p i q d kw vw b H, show (128 * p + l.val) / 64 = 2 * p + l.val / 64 by omega]

/-- The point's query gradient. -/
theorem tDq_eq (r : Fin 256) (l : Fin 128) : tDq (Scalar.muli (BitVec.ofNat 32 i.val) 256#32) q d kw vw b (ix2 r l)
    = dQ qkv dd rb (256 * i.val + r.val) (128 * p + l.val) := by
  have hr := r.isLt
  rw [tDq_apply]
  unfold dQ
  refine congrArg (· * _) (sum_band (a := 64 * (r.val / 64)) _ _ (by omega) (fun w j hw => ?_) (fun w hw => ?_))
  · rw [tDs_eq qkv dd rb p i q d kw vw b H, H.kw, show 256 * i.val + w.val = 64 * ((256 * i.val + r.val) / 64) + j.val by omega]
  · rw [tDs_eq qkv dd rb p i q d kw vw b H, DD_off _ _ _ _ _ _ (by omega), zero_mul]

end
end Cert.AttnBwdIdeal.Value
end
-- ==== Proof.AttnFold.lean ====
/-
  The attention gradient's carried state after every grid point, by induction on the points of a head pair: the windows'
  sums are the sums over the positions done so far (AttnCanon), taken point by point (AttnStep, AttnPoint).
-/
module

public import proofs.«01_k».proof.Proof.AttnStep
public import proofs.«01_k».proof.Proof.AttnPoint

@[expose] public section

set_option maxRecDepth 16384

noncomputable section

namespace Cert.AttnBwdIdeal.Value

open Idealize.ShloMosaic Idealize.SL.Sem Cert.AttnBwdIdeal Cert.AttnBwdIdeal.Gen AttnRow AttnCanon

variable (m : (ℓ : Loc nD τ sig) → Buf (Elt Ideal) ℓ) (c : Dev nD)

/-- The arrays, read at natural numbers. -/
def qkvOf (i j : ℕ) : EReal := if h : i < 8192 ∧ j < 4096 then (V m c main_arg0 : Vec Ideal S8192x4096 .f32) (ix2 ⟨i, h.1⟩ ⟨j, h.2⟩) else 0
def ddOf (i j : ℕ) : EReal := if h : i < 8192 ∧ j < 1024 then (V m c main_arg1 : Vec Ideal S8192x1024 .f32) (ix2 ⟨i, h.1⟩ ⟨j, h.2⟩) else 0
def rbOf (i j : ℕ) : EReal := if h : i < 16 ∧ j < 257 then (V m c main_arg2 : Vec Ideal S16x257 .f32) (ix2 ⟨i, h.1⟩ ⟨j, h.2⟩) else 0

theorem coords_facts : ∀ t : Fin cfg0.N, ((grid0.coords t) 1).val = t.val % 32 ∧ k0_off1 (grid0.coords t) 0 = 256 * (t.val % 32) ∧ k0_off1 (grid0.coords t) 1 = 0 :=
  (by decide +kernel : ∀ t : Fin grid0.N, _)
theorem index_facts : ∀ t : Fin cfg0.N, (win0_0.index t 0 = t.val % 32 ∧ win0_0.index t 1 = t.val / 32) ∧ (win0_1.index t 0 = 0 ∧ win0_1.index t 1 = 8 + t.val / 32)
    ∧ (win0_2.index t 0 = 0 ∧ win0_2.index t 1 = 16 + t.val / 32) ∧ (win0_3.index t 0 = t.val / 32 ∧ win0_3.index t 1 = 0 ∧ win0_3.index t 2 = 0)
    ∧ (win0_4.index t 0 = t.val % 32 ∧ win0_4.index t 1 = t.val / 32) :=
  (by decide +kernel : ∀ t : Fin grid0.N, _)

theorem lt256 (t : Fin cfg0.N) : t.val < 256 := lt_of_lt_of_eq t.isLt N_0

theorem iblk0_apply (t : Fin cfg0.N) (r : Fin 256) (l : Fin 128) :
    (iblk m c 0 t : Vec Ideal S256x128 .f32) (ix2 r l) = qkvOf m c (256 * (t.val % 32) + r.val) (128 * (t.val / 32) + l.val) := by
  have hi := (index_facts t).1
  have ht := lt256 t
  unfold qkvOf
  rw [dif_pos (by omega)]
  unfold iblk
  rw [View.read_apply]
  show V m c main_arg0 _ = V m c main_arg0 _
  congr 1
  funext a
  apply Fin.ext
  match a with
  | ⟨0, _⟩ => show win0_0.index t 0 * 256 + 1 * r.val = _; rw [hi.1]; show _ = 256 * (t.val % 32) + r.val; omega
  | ⟨1, _⟩ => show win0_0.index t 1 * 128 + 1 * l.val = _; rw [hi.2]; show _ = 128 * (t.val / 32) + l.val; omega
theorem iblk1_apply (t : Fin cfg0.N) (r : Fin 8192) (l : Fin 128) :
    (iblk m c 1 t : Vec Ideal S8192x128 .f32) (ix2 r l) = qkvOf m c r.val (1024 + (128 * (t.val / 32) + l.val)) := by
  have hi := (index_facts t).2.1
  have ht := lt256 t
  unfold qkvOf
  rw [dif_pos (by omega)]
  unfold iblk
  rw [View.read_apply]
  show V m c main_arg0 _ = V m c main_arg0 _
  congr 1
  funext a
  apply Fin.ext
  match a with
  | ⟨0, _⟩ => show win0_1.index t 0 * 8192 + 1 * r.val = _; rw [hi.1]; show _ = r.val; omega
  | ⟨1, _⟩ => show win0_1.index t 1 * 128 + 1 * l.val = _; rw [hi.2]; show _ = 1024 + (128 * (t.val / 32) + l.val); omega
theorem iblk2_apply (t : Fin cfg0.N) (r : Fin 8192) (l : Fin 128) :
    (iblk m c 2 t : Vec Ideal S8192x128 .f32) (ix2 r l) = qkvOf m c r.val (2048 + (128 * (t.val / 32) + l.val)) := by
  have hi := (index_facts t).2.2.1
  have ht := lt256 t
  unfold qkvOf
  rw [dif_pos (by omega)]
  unfold iblk
  rw [View.read_apply]
  show V m c main_arg0 _ = V m c main_arg0 _
  congr 1
  funext a
  apply Fin.ext
  match a with
  | ⟨0, _⟩ => show win0_2.index t 0 * 8192 + 1 * r.val = _; rw [hi.1]; show _ = r.val; omega
  | ⟨1, _⟩ => show win0_2.index t 1 * 128 + 1 * l.val = _; rw [hi.2]; show _ = 2048 + (128 * (t.val / 32) + l.val); omega
theorem iblk4_apply (t : Fin cfg0.N) (r : Fin 256) (l : Fin 128) :
    (iblk m c 4 t : Vec Ideal S256x128 .f32) (ix2 r l) = ddOf m c (256 * (t.val % 32) + r.val) (128 * (t.val / 32) + l.val) := by
  have hi := (index_facts t).2.2.2.2
  have ht := lt256 t
  unfold ddOf
  rw [dif_pos (by omega)]
  unfold iblk
  rw [View.read_apply]
  show V m c main_arg1 _ = V m c main_arg1 _
  congr 1
  funext a
  apply Fin.ext
  match a with
  | ⟨0, _⟩ => show win0_4.index t 0 * 256 + 1 * r.val = _; rw [hi.1]; show _ = 256 * (t.val % 32) + r.val; omega
  | ⟨1, _⟩ => show win0_4.index t 1 * 128 + 1 * l.val = _; rw [hi.2]; show _ = 128 * (t.val / 32) + l.val; omega
theorem iblk3_apply (t : Fin cfg0.N) (hd : Fin 2) (r : Fin 256) (w : Fin 768) :
    (iblk m c 3 t : Vec Ideal S2x256x768 .f32) (ix3 hd r w)
      = (V m c main_v29 : Vec Ideal S16x256x768 .f32) (ix3 ⟨2 * (t.val / 32) + hd.val, by have := lt256 t; have := hd.isLt; omega⟩ r w) := by
  have hi := (index_facts t).2.2.2.1
  have ht := lt256 t
  unfold iblk
  rw [View.read_apply]
  show V m c main_v29 _ = V m c main_v29 _
  congr 1
  funext a
  apply Fin.ext
  match a with
  | ⟨0, _⟩ => show win0_3.index t 0 * 2 + 1 * hd.val = _; rw [hi.1]; show _ = 2 * (t.val / 32) + hd.val; omega
  | ⟨1, _⟩ => show win0_3.index t 1 * 256 + 1 * r.val = _; rw [hi.2.1]; show _ = r.val; omega
  | ⟨2, _⟩ => show win0_3.index t 2 * 768 + 1 * w.val = _; rw [hi.2.2]; show _ = w.val; omega

/-- A point's window of a padded array. -/
theorem win_apply {e : EltTy} (t : Fin cfg0.N) (x : Vec Ideal S8704x128 e) (w : Fin 768) (l : Fin 128) (M : Fin 8704) (hM : M.val = 256 * (t.val % 32) + w.val) :
    win (grid0.coords t) x (ix2 w l) = x (ix2 M l) := by
  have h := coords_facts t
  refine congrArg x (funext fun a => Fin.ext ?_)
  match a with
  | ⟨0, _⟩ => show k0_off1 (grid0.coords t) 0 + 1 * w.val = M.val; rw [h.2.1]; omega
  | ⟨1, _⟩ => show k0_off1 (grid0.coords t) 1 + 1 * l.val = l.val; rw [h.2.2]; omega
theorem putWin_in {e : EltTy} (t : Fin cfg0.N) (x : Vec Ideal S8704x128 e) (y : Vec Ideal S768x128 e) (w : Fin 768) (l : Fin 128) (M : Fin 8704) (hM : M.val = 256 * (t.val % 32) + w.val) :
    putWin (grid0.coords t) x y (ix2 M l) = y (ix2 w l) := by
  have h := coords_facts t
  refine put_hit (s := S8704x128) _ _ S768x128.size _ _ (show S768x128.Idx from ix2 w l) fun a => ?_
  match a with
  | ⟨0, _⟩ => show M.val = k0_off1 (grid0.coords t) 0 + w.val; rw [h.2.1]; omega
  | ⟨1, _⟩ => show l.val = k0_off1 (grid0.coords t) 1 + l.val; rw [h.2.2]; omega
theorem putWin_off {e : EltTy} (t : Fin cfg0.N) (x : Vec Ideal S8704x128 e) (y : Vec Ideal S768x128 e) (l : Fin 128) (M : Fin 8704)
    (hM : ¬(256 * (t.val % 32) ≤ M.val ∧ M.val < 256 * (t.val % 32) + 768)) : putWin (grid0.coords t) x y (ix2 M l) = x (ix2 M l) := by
  have h := coords_facts t
  refine put_miss (s := S8704x128) _ _ S768x128.size _ _ (0 : Fin 2) ?_
  show ¬(k0_off1 (grid0.coords t) 0 ≤ M.val ∧ M.val < k0_off1 (grid0.coords t) 0 + 768)
  rw [h.2.1]; exact hM

theorem pad_apply (z : Vec Ideal S512x128 .bf16) (w : Vec Ideal S8192x128 .bf16) (hz : ∀ i, z i = (0 : EReal)) (M : Fin 8704) (l : Fin 128) (f : ℕ → EReal)
    (hw : ∀ r : Fin 8192, w (ix2 r l) = f r.val) : pad z w (ix2 M l) = if M.val < 512 then (0 : EReal) else f (M.val - 512) := by
  have hM := M.isLt
  unfold pad padded
  by_cases h : M.val < 512
  · rw [if_pos h]
    refine (put_miss (s := S8704x128) _ _ S8192x128.size _ _ (0 : Fin 2) (by show ¬(512 ≤ M.val ∧ _); omega)).trans ?_
    refine (put_hit (s := S8704x128) _ _ S512x128.size _ _ (show S512x128.Idx from ix2 ⟨M.val, h⟩ l) fun a => ?_).trans (hz _)
    match a with
    | ⟨0, _⟩ => exact (Nat.zero_add _).symm
    | ⟨1, _⟩ => exact (Nat.zero_add _).symm
  · rw [if_neg h]
    refine (put_hit (s := S8704x128) _ _ S8192x128.size _ _ (show S8192x128.Idx from ix2 ⟨M.val - 512, by omega⟩ l) fun a => ?_).trans (hw _)
    match a with
    | ⟨0, _⟩ => show M.val = 512 + (M.val - 512); omega
    | ⟨1, _⟩ => exact (Nat.zero_add _).symm

/-- What the state holds when the first `k` points of head pair `p` are done. -/
structure KeptAt (p k : ℕ) (S : Kept Ideal) : Prop where
  db : ∀ (hd : Fin 2) (r : Fin 256) (w : Fin 768), S.1 (ix3 hd r w) =
    ∑ i ∈ Finset.range k, DD (qkvOf m c) (ddOf m c) (rbOf m c) (256 * i + r.val) (2 * p + hd.val) (256 * i + w.val)
  kp : ∀ (M : Fin 8704) (l : Fin 128), S.2.1 (ix2 M l) = kpad (qkvOf m c) M.val (128 * p + l.val)
  vp : ∀ (M : Fin 8704) (l : Fin 128), S.2.2.1 (ix2 M l) = vpad (qkvOf m c) M.val (128 * p + l.val)
  dk : ∀ (M : Fin 8704) (l : Fin 128), S.2.2.2.1 (ix2 M l) = ∑ t ∈ Finset.range (256 * k),
    DD (qkvOf m c) (ddOf m c) (rbOf m c) t ((128 * p + l.val) / 64) M.val * (qkvOf m c t (128 * p + l.val) * eighth)
  dv : ∀ (M : Fin 8704) (l : Fin 128), S.2.2.2.2 (ix2 M l) = ∑ t ∈ Finset.range (256 * k),
    PP (qkvOf m c) (rbOf m c) t ((128 * p + l.val) / 64) M.val * ddOf m c t (128 * p + l.val)

theorem fresh_at (t : Fin cfg0.N) : KeptAt m c (t.val / 32) 0 (fresh m c t) where
  db hd r w := by
    show k0_pay8 (F := Ideal) (ix3 hd r w) = _
    pointwise [k0_pay8]
    simp
  kp M l := by
    refine (pad_apply (k0_pay2 (F := Ideal)) (k0_pay4 (iblk m c 1 t)) (fun i => ?_) M l (fun r => qkvOf m c r (1024 + (128 * (t.val / 32) + l.val))) (fun r => ?_)).trans rfl
    · pointwise [k0_pay2]
    · rw [← iblk1_apply]
      generalize (iblk m c 1 t : Vec Ideal S8192x128 .f32) = x
      pointwise [k0_pay4]
  vp M l := by
    refine (pad_apply (k0_pay3 (F := Ideal)) (k0_pay5 (iblk m c 2 t)) (fun i => ?_) M l (fun r => qkvOf m c r (2048 + (128 * (t.val / 32) + l.val))) (fun r => ?_)).trans rfl
    · pointwise [k0_pay3]
    · rw [← iblk2_apply]
      generalize (iblk m c 2 t : Vec Ideal S8192x128 .f32) = x
      pointwise [k0_pay5]
  dk M l := by
    show k0_pay6 (F := Ideal) (ix2 M l) = _
    pointwise [k0_pay6]
    simp
  dv M l := by
    show k0_pay7 (F := Ideal) (ix2 M l) = _
    pointwise [k0_pay7]
    simp

/-- The 256 positions of one more point. -/
theorem range_succ256 (k : ℕ) (f : ℕ → EReal) : ∑ t ∈ Finset.range (256 * (k + 1)), f t = ∑ t ∈ Finset.range (256 * k), f t + ∑ r : Fin 256, f (256 * k + r.val) := by
  rw [Nat.mul_add, Nat.mul_one, Finset.sum_range_add, ← Fin.sum_univ_eq_sum_range (fun r => f (256 * k + r))]

/-- The bias matrix the kernel reads is the relative bias inside a chunk's window and `⊥` outside. -/
def BiasOk : Prop := ∀ (h : Fin 16) (r : Fin 256) (w : Fin 768), (V m c main_v29 : Vec Ideal S16x256x768 .f32) (ix3 h r w)
  = if 64 * (r.val / 64) ≤ w.val ∧ w.val < 64 * (r.val / 64) + 576 then rbOf m c h.val (min (r.val + 640 - w.val) 256) else ⊥

section
variable (hB : BiasOk m c) (t : Fin cfg0.N)
variable (acc : Vec Ideal S256x128 .f32 × Vec Ideal S8192x128 .f32 × Vec Ideal S8192x128 .f32 × Kept Ideal)
variable (hF : KeptAt m c (t.val / 32) (t.val % 32) (found m c t acc.2.2.2))
include hB hF

theorem blocks_at : Blocks (qkvOf m c) (ddOf m c) (rbOf m c) (t.val / 32) ⟨t.val % 32, Nat.mod_lt _ (by decide)⟩ (iblk m c 0 t) (iblk m c 4 t)
    (win (grid0.coords t) (found m c t acc.2.2.2).2.1) (win (grid0.coords t) (found m c t acc.2.2.2).2.2.1) (iblk m c 3 t) where
  q := iblk0_apply m c t
  d := iblk4_apply m c t
  kw w l := by
    have := lt256 t
    rw [win_apply t _ w l ⟨256 * (t.val % 32) + w.val, by omega⟩ rfl, hF.kp]
  vw w l := by
    have := lt256 t
    rw [win_apply t _ w l ⟨256 * (t.val % 32) + w.val, by omega⟩ rfl, hF.vp]
  b hd r w := by rw [iblk3_apply, hB]

theorem row0_eq : row0 (grid0.coords t) = Scalar.muli (BitVec.ofNat 32 (⟨t.val % 32, Nat.mod_lt _ (by decide)⟩ : Fin 32).val) 256#32 := by
  unfold row0
  rw [(coords_facts t).1]

theorem dq_at (r : Fin 256) (l : Fin 128) : (stAt0 m c t.val t.isLt acc).1 (ix2 r l)
    = dQ (qkvOf m c) (ddOf m c) (rbOf m c) (256 * (t.val % 32) + r.val) (128 * (t.val / 32) + l.val) := by
  rw [step_dq, row0_eq m c hB t acc hF]
  exact tDq_eq _ _ _ _ _ _ _ _ _ _ (blocks_at m c hB t acc hF) r l

theorem newDk_at (M : Fin 8704) (l : Fin 128) :
    putWin (grid0.coords t) (found m c t acc.2.2.2).2.2.2.1 (tDk (row0 (grid0.coords t)) (iblk m c 0 t) (iblk m c 4 t) (win (grid0.coords t) (found m c t acc.2.2.2).2.1) (win (grid0.coords t) (found m c t acc.2.2.2).2.2.1) (iblk m c 3 t) (win (grid0.coords t) (found m c t acc.2.2.2).2.2.2.1)) (ix2 M l)
    = ∑ u ∈ Finset.range (256 * (t.val % 32 + 1)), DD (qkvOf m c) (ddOf m c) (rbOf m c) u ((128 * (t.val / 32) + l.val) / 64) M.val * (qkvOf m c u (128 * (t.val / 32) + l.val) * eighth) := by
  rw [range_succ256]
  by_cases h : 256 * (t.val % 32) ≤ M.val ∧ M.val < 256 * (t.val % 32) + 768
  · have hw : M.val = 256 * (t.val % 32) + (⟨M.val - 256 * (t.val % 32), by omega⟩ : Fin 768).val := by
      show M.val = 256 * (t.val % 32) + (M.val - 256 * (t.val % 32)); omega
    rw [putWin_in t _ _ _ l M hw, tDk_apply, win_apply t _ _ l M hw, hF.dk, row0_eq m c hB t acc hF]
    refine congrArg _ (Finset.sum_congr rfl fun r _ => ?_)
    rw [tDs_eq _ _ _ _ _ _ _ _ _ _ (blocks_at m c hB t acc hF), iblk0_apply]
    show DD _ _ _ _ _ (256 * (t.val % 32) + (M.val - 256 * (t.val % 32))) * _ = _
    rw [show 256 * (t.val % 32) + (M.val - 256 * (t.val % 32)) = M.val by omega]
  · rw [putWin_off t _ _ l M h, hF.dk]
    refine (add_zero _).symm.trans (congrArg _ (Finset.sum_eq_zero fun r _ => ?_).symm)
    have := r.isLt
    rw [DD_off _ _ _ _ _ _ (by omega), zero_mul]
theorem newDv_at (M : Fin 8704) (l : Fin 128) :
    putWin (grid0.coords t) (found m c t acc.2.2.2).2.2.2.2 (tDv (row0 (grid0.coords t)) (iblk m c 0 t) (iblk m c 4 t) (win (grid0.coords t) (found m c t acc.2.2.2).2.1) (iblk m c 3 t) (win (grid0.coords t) (found m c t acc.2.2.2).2.2.2.2)) (ix2 M l)
    = ∑ u ∈ Finset.range (256 * (t.val % 32 + 1)), PP (qkvOf m c) (rbOf m c) u ((128 * (t.val / 32) + l.val) / 64) M.val * ddOf m c u (128 * (t.val / 32) + l.val) := by
  rw [range_succ256]
  by_cases h : 256 * (t.val % 32) ≤ M.val ∧ M.val < 256 * (t.val % 32) + 768
  · have hw : M.val = 256 * (t.val % 32) + (⟨M.val - 256 * (t.val % 32), by omega⟩ : Fin 768).val := by
      show M.val = 256 * (t.val % 32) + (M.val - 256 * (t.val % 32)); omega
    rw [putWin_in t _ _ _ l M hw, tDv_apply, win_apply t _ _ l M hw, hF.dv, row0_eq m c hB t acc hF]
    refine congrArg _ (Finset.sum_congr rfl fun r _ => ?_)
    rw [tP_eq _ _ _ _ _ _ _ _ _ _ (blocks_at m c hB t acc hF), iblk4_apply]
    show PP _ _ _ _ (256 * (t.val % 32) + (M.val - 256 * (t.val % 32))) * _ = _
    rw [show 256 * (t.val % 32) + (M.val - 256 * (t.val % 32)) = M.val by omega]
  · rw [putWin_off t _ _ l M h, hF.dv]
    refine (add_zero _).symm.trans (congrArg _ (Finset.sum_eq_zero fun r _ => ?_).symm)
    have := r.isLt
    rw [PP_off _ _ _ _ _ (by omega), zero_mul]

/-- One point more. -/
theorem kept_succ : KeptAt m c (t.val / 32) (t.val % 32 + 1) (stAt0 m c t.val t.isLt acc).2.2.2 where
  db hd r w := by
    obtain ⟨o, ho⟩ := step_db m c t acc
    rw [ho, tDb_apply, hF.db, Finset.sum_range_succ, row0_eq m c hB t acc hF]
    exact congrArg _ (rowDs_eq _ _ _ _ _ _ _ _ _ _ (blocks_at m c hB t acc hF) hd r w)
  kp M l := by rw [step_kp]; exact hF.kp M l
  vp M l := by rw [step_vp]; exact hF.vp M l
  dk M l := by rw [step_dk]; exact newDk_at m c hB t acc hF M l
  dv M l := by rw [step_dv]; exact newDv_at m c hB t acc hF M l
end

end Cert.AttnBwdIdeal.Value
end
-- ==== Proof.GatherCols.lean ====
/-
  A gather of columns of a matrix at an index: the operand's column at the start index, read signed and clamped, of the
  same row. Columns are named by a vector or by a matrix of start indices.
-/
module

public import Idealize.ShloMosaic.Lib.ValueIdxCore

@[expose] public section

noncomputable section

namespace GatherCols

open Idealize.ShloMosaic Idealize.ShloMosaic.ValueIdx

variable {α : Type} {N K w : ℕ}

/-- Columns named by a vector. -/
abbrev dims1 (n : ℕ) (wf : GatherDims.WF ⟨2, ![N, K]⟩ ⟨2, ![n, 1]⟩ ⟨2, ![N, n]⟩ [0] [1] [] [1] [] 1 ![N, 1]) : GatherDims ⟨2, ![N, K]⟩ ⟨2, ![n, 1]⟩ ⟨2, ![N, n]⟩ where
  offsetDims := [0]
  collapsedSliceDims := [1]
  operandBatchingDims := []
  startIndicesBatchingDims := []
  startIndexMap := [1]
  indexVectorDim := 1
  sliceSizes := ![N, 1]
  wf := wf
/-- Columns named by a matrix. -/
abbrev dims2 (n k : ℕ) (wf : GatherDims.WF ⟨2, ![N, K]⟩ ⟨3, ![n, k, 1]⟩ ⟨3, ![N, n, k]⟩ [0] [1] [] [1] [] 2 ![N, 1]) : GatherDims ⟨2, ![N, K]⟩ ⟨3, ![n, k, 1]⟩ ⟨3, ![N, n, k]⟩ where
  offsetDims := [0]
  collapsedSliceDims := [1]
  operandBatchingDims := []
  startIndicesBatchingDims := []
  startIndexMap := [1]
  indexVectorDim := 2
  sliceSizes := ![N, 1]
  wf := wf

theorem gather_cols1 {n : ℕ} (hK : 0 < K) (wf : GatherDims.WF ⟨2, ![N, K]⟩ ⟨2, ![n, 1]⟩ ⟨2, ![N, n]⟩ [0] [1] [] [1] [] 1 ![N, 1])
    (x : (⟨2, ![N, K]⟩ : Shape).Idx → α) (idx : IVec ⟨2, ![n, 1]⟩ w) (h : Fin N) (j : Fin n) :
    Host.gather (dims1 n wf) x idx (ix2 h j) = x (ix2 h ⟨min (idx (ix2 j (0 : Fin 1))).toInt.toNat (K - 1), by omega⟩) := by
  unfold Host.gather
  congr 1
  funext a
  refine Fin.ext ?_
  show (dims1 n wf).start (ix2 h j) idx a + (dims1 n wf).batchCoord (ix2 h j) a + (dims1 n wf).offCoord (ix2 h j) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · unfold GatherDims.start
    rw [dif_neg (show ¬(0 : Fin 2) ∈ (dims1 n wf).startIndexMap from fun h => absurd (congrArg Fin.val (List.mem_singleton.mp h)) Nat.zero_ne_one)]
    simp only [Nat.zero_add]
    rfl
  · rw [GatherDims.offCoord_eq_zero _ _ _ (fun h => ((GatherDims.mem_sKept _ _).mp h).1 (List.mem_singleton.mpr rfl))]
    simp only [Nat.add_zero]
    unfold GatherDims.start
    rw [dif_pos (show (1 : Fin 2) ∈ (dims1 n wf).startIndexMap from List.mem_singleton.mpr rfl)]
    have hsi : (dims1 n wf).siIdx (ix2 h j) ⟨List.idxOf (1 : Fin 2) (dims1 n wf).startIndexMap,
        List.idxOf_lt_length_iff.2 (List.mem_singleton.mpr rfl)⟩ = ix2 j (0 : Fin 1) := by
      funext b; refine Fin.ext ?_
      match b with
      | ⟨0, _⟩ => rfl
      | ⟨1, _⟩ => rfl
    rw [hsi]
    rfl

theorem gather_cols2 {n k : ℕ} (hK : 0 < K) (wf : GatherDims.WF ⟨2, ![N, K]⟩ ⟨3, ![n, k, 1]⟩ ⟨3, ![N, n, k]⟩ [0] [1] [] [1] [] 2 ![N, 1])
    (x : (⟨2, ![N, K]⟩ : Shape).Idx → α) (idx : IVec ⟨3, ![n, k, 1]⟩ w) (h : Fin N) (i : Fin n) (j : Fin k) :
    Host.gather (dims2 n k wf) x idx (ix3 h i j) = x (ix2 h ⟨min (idx (ix3 i j (0 : Fin 1))).toInt.toNat (K - 1), by omega⟩) := by
  unfold Host.gather
  congr 1
  funext a
  refine Fin.ext ?_
  show (dims2 n k wf).start (ix3 h i j) idx a + (dims2 n k wf).batchCoord (ix3 h i j) a + (dims2 n k wf).offCoord (ix3 h i j) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · unfold GatherDims.start
    rw [dif_neg (show ¬(0 : Fin 2) ∈ (dims2 n k wf).startIndexMap from fun h => absurd (congrArg Fin.val (List.mem_singleton.mp h)) Nat.zero_ne_one)]
    simp only [Nat.zero_add]
    rfl
  · rw [GatherDims.offCoord_eq_zero _ _ _ (fun h => ((GatherDims.mem_sKept _ _).mp h).1 (List.mem_singleton.mpr rfl))]
    simp only [Nat.add_zero]
    unfold GatherDims.start
    rw [dif_pos (show (1 : Fin 2) ∈ (dims2 n k wf).startIndexMap from List.mem_singleton.mpr rfl)]
    have hsi : (dims2 n k wf).siIdx (ix3 h i j) ⟨List.idxOf (1 : Fin 2) (dims2 n k wf).startIndexMap,
        List.idxOf_lt_length_iff.2 (List.mem_singleton.mpr rfl)⟩ = ix3 i j (0 : Fin 1) := by
      funext b; refine Fin.ext ?_
      match b with
      | ⟨0, _⟩ => rfl
      | ⟨1, _⟩ => rfl
      | ⟨2, _⟩ => rfl
    rw [hsi]
    rfl

end GatherCols
end
-- ==== Proof.AttnBias.lean ====
/-
  The bias matrix the attention gradient reads, from the relative bias: the host's gather, the skewed reshape that turns a
  vector of distances into a matrix, and the band mask, at an index.
-/
module

public import proofs.«01_k».proof.Proof.AttnFold
public import proofs.«01_k».proof.Proof.GatherCols
public import Idealize.ShloMosaic.Lib.StableHlo.ReadAt

@[expose] public section

set_option maxRecDepth 16384

noncomputable section

namespace Cert.AttnBwdIdeal.Value

open Idealize.ShloMosaic Idealize.SL.Sem Cert.AttnBwdIdeal Cert.AttnBwdIdeal.Gen AttnRow AttnCanon

variable (m : (ℓ : Loc nD τ sig) → Buf (Elt Ideal) ℓ) (c : Dev nD)

/-- The table of columns the gather reads: place `k` is distance `767 - k`, clipped to 128 either way. -/
theorem lit0_eq : ∀ k : Fin 1023, lit0 k = BitVec.ofNat 32 (min (895 - k.val) 256) := by
  decide +kernel
theorem div64_col : ∀ w : Fin 768, IntOp.divsi .host (BitVec.ofNat 32 w.val) 64#32 = BitVec.ofNat 32 (w.val / 64) := by decide +kernel
theorem div64_row : ∀ r : Fin 256, IntOp.divsi .host (BitVec.ofNat 32 r.val) 64#32 = BitVec.ofNat 32 (r.val / 64) := by decide +kernel
theorem band_small : ∀ (r : Fin 4) (w : Fin 12),
    (IntOp.andi (IntOp.cmpi .sle (BitVec.ofNat 32 w.val) (IntOp.addi (BitVec.ofNat 32 r.val) 8#32))
      (IntOp.cmpi .sge (BitVec.ofNat 32 w.val) (IntOp.subi (IntOp.addi (BitVec.ofNat 32 r.val) 8#32) 8#32)) = 1#1)
    ↔ (r.val ≤ w.val ∧ w.val ≤ r.val + 8) := by
  decide +kernel
theorem eq_zero_of_ne_one : ∀ b : BitVec 1, b ≠ 1#1 → b = 0#1 := by decide
/-- The band mask at an index. -/
theorem biasMask (h : Fin 16) (r : Fin 256) (w : Fin 768) : (V m c main_v28 : Vec Ideal S16x256x768 .f32) (ix3 h r w)
    = (if 64 * (r.val / 64) ≤ w.val ∧ w.val < 64 * (r.val / 64) + 576 then (0 : EReal) else ⊥ : EReal) := by
  have hr := r.isLt
  have hw := w.isLt
  unfold V
  after_reads_at
  rw [id_eq]
  pointwise
  rw [div64_col, div64_row]
  have h := band_small ⟨r.val / 64, by omega⟩ ⟨w.val / 64, by omega⟩
  dsimp only at h
  by_cases hb : 64 * (r.val / 64) ≤ w.val ∧ w.val < 64 * (r.val / 64) + 576
  · rw [if_pos hb, h.mpr (by omega), ValueIdx.select_one]
  · rw [if_neg hb, eq_zero_of_ne_one (IntOp.andi _ _) (fun e => hb (by have := h.mp e; omega)), ValueIdx.select_zero]
    simp [Ideal.ofBits, Ideal.ieee]

/-- The gather reads the table's column: no index is negative or out of range. -/
theorem take_ok : ∀ k : Fin 1023, ∀ T : BitVec 32, T = BitVec.ofNat 32 (min (895 - k.val) 256) →
    (Scalar.select (IntOp.cmpi .slt T 0#32) (IntOp.addi T 257#32) T).toInt.toNat = min (895 - k.val) 256
    ∧ IntOp.andi (IntOp.cmpi .sge (Scalar.select (IntOp.cmpi .slt T 0#32) (IntOp.addi T 257#32) T) 0#32)
        (IntOp.cmpi .sle (Scalar.select (IntOp.cmpi .slt T 0#32) (IntOp.addi T 257#32) T) 256#32) = 1#1 := by
  intro k T e
  subst e
  revert k
  decide +kernel

theorem rowMajor1023 (k : Fin 1023) : S1023.rowMajor (ix1 k) = k := by
  refine Fin.ext ?_
  show (Shape.rowMajorPi ![1023] (ix1 k)).val = _
  rw [Shape.rowMajorPi_succ_val]
  have h : (Shape.rowMajorPi (fun a : Fin 0 => (![1023] : Fin 1 → ℕ) a.succ) (fun a => (ix1 k : S1023.Idx) a.succ)).val = 0 := by
    have := (Shape.rowMajorPi (fun a : Fin 0 => (![1023] : Fin 1 → ℕ) a.succ) (fun a => (ix1 k : S1023.Idx) a.succ)).isLt
    simp only [Finset.univ_eq_empty, Finset.prod_empty] at this
    omega
  rw [h]
  simp [ix1]

set_option backward.isDefEq.respectTransparency false in
/-- The gather at an index, for a table of columns in range. -/
theorem take_at (T : Fin 1023 → BitVec 32) (hT : ∀ k : Fin 1023, T k = BitVec.ofNat 32 (min (895 - k.val) 256)) (x : Vec Ideal S16x257 .f32)
    (h : Fin 16) (k : Fin 1023) :
    Host.gather gather_S16x257_S1023x1_S16x1023_0_1_n_n_1_1_161 x
        (broadcastInDim S1023x1 ![0] bcast_S1023_S1023x1_0
          (select
            (cmpi CmpIPredicate.slt (fun i => T (S1023.rowMajor i))
              (broadcastInDim S1023 ![] bcast_S_S1023 (constantI S_ 32 0#32)))
            (addi (fun i => T (S1023.rowMajor i)) (broadcastInDim S1023 ![] bcast_S_S1023 (constantI S_ 32 257#32)))
            fun i => T (S1023.rowMajor i)))
        (ix2 h k) = x (ix2 h ⟨min (895 - k.val) 256, by omega⟩) := by
  refine (GatherCols.gather_cols1 (by decide) gather_S16x257_S1023x1_S16x1023_0_1_n_n_1_1_161_wf x _ h k).trans ?_
  refine congrArg x (congrArg (ix2 h) (Fin.ext ?_))
  have e := (take_ok k _ (hT k)).1
  pointwise
  rw [rowMajor1023, e]
  omega

set_option backward.isDefEq.respectTransparency false in
/-- The gather with its range test, at an index. -/
theorem biasTop_aux (T : Fin 1023 → BitVec 32) (hT : ∀ k : Fin 1023, T k = BitVec.ofNat 32 (min (895 - k.val) 256)) (x : Vec Ideal S16x257 .f32)
    (h : Fin 16) (k : Fin 1023) (z : EReal) : Scalar.select
      (Finset.fold IntOp.andi (1#1)
        (fun _ : S1.Idx =>
          IntOp.andi
            (IntOp.cmpi CmpIPredicate.sge
              (Scalar.select (IntOp.cmpi CmpIPredicate.slt (T (S1023.rowMajor (ix1 k))) 0#32)
                (IntOp.addi (T (S1023.rowMajor (ix1 k))) 257#32) (T (S1023.rowMajor (ix1 k))))
              0#32)
            (IntOp.cmpi CmpIPredicate.sle
              (Scalar.select (IntOp.cmpi CmpIPredicate.slt (T (S1023.rowMajor (ix1 k))) 0#32)
                (IntOp.addi (T (S1023.rowMajor (ix1 k))) 257#32) (T (S1023.rowMajor (ix1 k))))
              256#32))
        Finset.univ)
      (Host.gather gather_S16x257_S1023x1_S16x1023_0_1_n_n_1_1_161 x
        (broadcastInDim S1023x1 ![0] bcast_S1023_S1023x1_0
          (select
            (cmpi CmpIPredicate.slt (fun i => T (S1023.rowMajor i))
              (broadcastInDim S1023 ![] bcast_S_S1023 (constantI S_ 32 0#32)))
            (addi (fun i => T (S1023.rowMajor i)) (broadcastInDim S1023 ![] bcast_S_S1023 (constantI S_ 32 257#32)))
            fun i => T (S1023.rowMajor i)))
        (ix2 h k)) z = x (ix2 h ⟨min (895 - k.val) 256, by omega⟩) := by
  have hf : ∀ s : Finset S1.Idx, Finset.fold IntOp.andi (1#1) (fun _ => (1#1 : BitVec 1)) s = 1#1 := fun s => by
    induction s using Finset.induction_on with
    | empty => rfl
    | insert a s ha ih => rw [Finset.fold_insert ha, ih]; rfl
  rw [take_at T hT, rowMajor1023, (take_ok k _ (hT k)).2, hf]
  rfl

/-- The skewed bias at an index whose place in the padded row holds a distance. -/
theorem biasTop (h : Fin 16) (r : Fin 256) (w : Fin 768) (R : EReal) (hk : (255 + (r.val * 1023 + w.val)) % 1024 < 1023)
    (hR : ∀ k : Fin 1023, k.val = (255 + (r.val * 1023 + w.val)) % 1024 →
      (m (c, Proc.tc.devRef main_arg2) : Vec Ideal S16x257 .f32) (ix2 h ⟨min (895 - k.val) 256, by omega⟩) = R) :
    (V m c main_v7 : Vec Ideal S16x256x768 .f32) (ix3 h r w) = R := by
  unfold V
  after_reads_at
  rw [dif_pos hk]
  generalize hkk : (⟨_, hk⟩ : Fin 1023) = k
  have hR := hR k (congrArg Fin.val hkk.symm)
  revert hR
  generalize (m (c, Proc.tc.devRef main_arg2) : Vec Ideal S16x257 .f32) = x
  intro hR
  have hT := lit0_eq
  revert hT
  generalize lit0 = T
  intro hT
  rw [← hR]
  exact biasTop_aux T hT x h k _

/-- The bias matrix the kernel reads: the relative bias on the band, minus infinity off it. -/
theorem biasOk : BiasOk m c := by
  intro h r w
  have hr := r.isLt
  have hw := w.isLt
  have hh := h.isLt
  have hs : (V m c main_v29 : Vec Ideal S16x256x768 .f32) (ix3 h r w)
      = addf (F := Ideal) (s := S16x256x768) (φ := .f32) (V m c main_v7 : Vec Ideal S16x256x768 .f32) (V m c main_v28 : Vec Ideal S16x256x768 .f32) (ix3 h r w) := by
    unfold V
    after_reads_at
  rw [hs, ValueIdx.addf_apply, biasMask m c h r w]
  by_cases hb : 64 * (r.val / 64) ≤ w.val ∧ w.val < 64 * (r.val / 64) + 576
  · rw [if_pos hb, if_pos hb, add_zero]
    have hq : (255 + (r.val * 1023 + w.val)) % 1024 = 255 + w.val - r.val := by
      rw [show 255 + (r.val * 1023 + w.val) = 1024 * r.val + (255 + w.val - r.val) by omega, Nat.mul_add_mod, Nat.mod_eq_of_lt (by omega)]
    refine biasTop m c h r w _ (by omega) fun k hk => ?_
    unfold rbOf
    rw [dif_pos ⟨h.isLt, by omega⟩]
    rw [V_main_arg2]
    have e : k.val = 255 + w.val - r.val := hk.trans hq
    refine congrArg _ (congrArg (ix2 h) (Fin.ext ?_))
    show min (895 - k.val) 256 = min (r.val + 640 - w.val) 256
    omega
  · rw [if_neg hb, if_neg hb, EReal.add_bot]

end Cert.AttnBwdIdeal.Value
end
-- ==== Proof.AttnRefIn.lean ====
/-
  The reference of the attention gradient up to the scores: padded keys and values, their windows, the relative bias, and
  the masked scores and the gradient of the probabilities as `AttnCanon` states them.
-/
module

public import proofs.«01_k».proof.Proof.AttnCanon
public import proofs.«01_k».proof.Proof.GatherCols
public import proofs.«01_k».proof.Proof.Gen.AttnBwdRefIdeal.Read
public import Idealize.ShloMosaic.Lib.StableHlo.ReadAt

@[expose] public section

set_option maxRecDepth 16384

noncomputable section

namespace Cert.AttnBwdRefIdeal.Value

open Idealize.ShloMosaic Idealize.SL.Sem Cert.AttnBwdRefIdeal Cert.AttnBwdRefIdeal.Gen Cert.AttnBwdRefIdeal.Read AttnRow AttnCanon

variable (x0 : Vec Ideal S8192x4096 .f32) (x1 : Vec Ideal S8192x1024 .f32) (x2 : Vec Ideal S16x257 .f32)

def q0 (i j : ℕ) : EReal := if h : i < 8192 ∧ j < 4096 then x0 (ix2 ⟨i, h.1⟩ ⟨j, h.2⟩) else 0
def d0 (i j : ℕ) : EReal := if h : i < 8192 ∧ j < 1024 then x1 (ix2 ⟨i, h.1⟩ ⟨j, h.2⟩) else 0
def r0 (i j : ℕ) : EReal := if h : i < 16 ∧ j < 257 then x2 (ix2 ⟨i, h.1⟩ ⟨j, h.2⟩) else 0

theorem v25_at (p : Fin 8704) (h : Fin 16) (d : Fin 64) : (val_main_v25 (F := Ideal) x0 : Vec Ideal S8704x16x64 .f32) (ix3 p h d)
    = kpad (q0 x0) p.val (64 * h.val + d.val) := by
  have hp := p.isLt
  have hh := h.isLt
  have hd := d.isLt
  pointwise [val_main_v25, val_main_v23, val_main_cst, val_main_v24, val_main_v1]
  unfold kpad q0
  by_cases hc : p.val < 512
  · rw [dif_pos hc, if_pos hc]
  · rw [dif_neg hc, if_neg hc, dif_pos ⟨by omega, by omega⟩]
    congr 3
    omega
theorem v29_at (p : Fin 8704) (h : Fin 16) (d : Fin 64) : (val_main_v29 (F := Ideal) x0 : Vec Ideal S8704x16x64 .f32) (ix3 p h d)
    = vpad (q0 x0) p.val (64 * h.val + d.val) := by
  have hp := p.isLt
  have hh := h.isLt
  have hd := d.isLt
  pointwise [val_main_v29, val_main_v27, val_main_cst_6, val_main_v28, val_main_v2]
  unfold vpad q0
  by_cases hc : p.val < 512
  · rw [dif_pos hc, if_pos hc]
  · rw [dif_neg hc, if_neg hc, dif_pos ⟨by omega, by omega⟩]
    congr 3
    omega
theorem v49_at (p : Fin 128) (j : Fin 576) (h : Fin 16) (d : Fin 64) : (val_main_v49 (F := Ideal) x0 : Vec Ideal S128x576x16x64 .f32) (ix4 p j h d)
    = kpad (q0 x0) (64 * p.val + j.val) (64 * h.val + d.val) := by
  have hp := p.isLt
  have hj := j.isLt
  pointwise [val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31]
  simp only [v25_at]
  split_ifs <;> (congr 1; omega)
theorem v128_at (p : Fin 128) (j : Fin 576) (h : Fin 16) (d : Fin 64) : (val_main_v128 (F := Ideal) x0 : Vec Ideal S128x576x16x64 .f32) (ix4 p j h d)
    = vpad (q0 x0) (64 * p.val + j.val) (64 * h.val + d.val) := by
  have hp := p.isLt
  have hj := j.isLt
  pointwise [val_main_v128, val_main_v127, val_main_v126, val_main_v125, val_main_v124, val_main_v123, val_main_v122, val_main_v121, val_main_v120, val_main_v119, val_main_v118, val_main_v117, val_main_v116, val_main_v115, val_main_v114, val_main_v113, val_main_v112, val_main_v111, val_main_v110]
  simp only [v29_at]
  split_ifs <;> (congr 1; omega)
theorem v22_at (p : Fin 128) (j : Fin 64) (h : Fin 16) (d : Fin 64) : (val_main_v22 (F := Ideal) x0 : Vec Ideal S128x64x16x64 .f32) (ix4 p j h d)
    = q0 x0 (64 * p.val + j.val) (64 * h.val + d.val) := by
  have hp := p.isLt
  have hj := j.isLt
  have hh := h.isLt
  have hd := d.isLt
  pointwise [val_main_v22, val_main_v0]
  unfold q0
  rw [dif_pos ⟨by omega, by omega⟩]
  congr 3 <;> omega
theorem v133_at (p : Fin 128) (h : Fin 16) (d : Fin 64) (j : Fin 64) : (val_main_v133 (F := Ideal) x1 : Vec Ideal S128x16x64x64 .f32) (ix4 p h d j)
    = d0 x1 (64 * p.val + j.val) (64 * h.val + d.val) := by
  have hp := p.isLt
  have hj := j.isLt
  have hh := h.isLt
  have hd := d.isLt
  pointwise [val_main_v133, val_main_v132]
  unfold d0
  rw [dif_pos ⟨by omega, by omega⟩]
  congr 3 <;> omega
theorem shift_eq (i : Fin 256) (j : Fin 768) : IntOp.addi (IntOp.subi (BitVec.ofNat 32 i.val) (BitVec.ofNat 32 j.val)) 512#32
    = IntOp.subi (BitVec.ofNat 32 (i.val + 768 - j.val)) 256#32 := by
  have hi := i.isLt
  have hj := j.isLt
  unfold IntOp.addi IntOp.subi
  apply BitVec.eq_of_toNat_eq
  simp only [BitVec.toNat_add, BitVec.toNat_sub, BitVec.toNat_ofNat]
  omega
/-- The column of the relative bias at a distance, as the clipped and shifted index computes it. -/
theorem clip_eq : ∀ d : Fin 1024, (fun T : BitVec 32 => (Scalar.select (IntOp.cmpi .slt T 0#32) (IntOp.addi T 257#32) T).toInt.toNat)
    (IntOp.addi (IntOp.minsi 128#32 (IntOp.maxsi 4294967168#32 (IntOp.subi (BitVec.ofNat 32 d.val) 256#32))) 128#32) = min (d.val - 128) 256 := by
  decide +kernel
theorem v20_at (i : Fin 256) (j : Fin 768) : ((val_main_v20 (F := Ideal) : IVec S256x768x1 32) (ix3 i j (0 : Fin 1))).toInt.toNat = min (i.val + 640 - j.val) 256 := by
  have hi := i.isLt
  have hj := j.isLt
  have h := clip_eq ⟨i.val + 768 - j.val, by omega⟩
  pointwise [val_main_v20, val_main_v19, val_main_v18, val_main_v17, val_main_c_4, val_main_v14, val_main_v16, val_main_v15, val_main_c_3, val_main_v13, val_main_c_2, val_main_v12, val_main_call0_v4, val_main_call0_v2, val_main_call0_v3, val_main_call0_v1, val_main_call0_v0, val_main_c_0, val_main_c_1, val_main_v11, val_main_v10, val_main_c, val_main_v9, val_main_v8, val_main_v7, val_main_v6, val_main_v5, val_main_v4, val_main_v3]
  rw [shift_eq]
  dsimp only at h
  simp only [id_eq]
  pointwise
  refine h.trans ?_
  omega
theorem v21_at (h : Fin 16) (i : Fin 256) (j : Fin 768) : (val_main_v21 (F := Ideal) x2 : Vec Ideal S16x256x768 .f32) (ix3 h i j) = r0 x2 h.val (min (i.val + 640 - j.val) 256) := by
  unfold val_main_v21
  refine (GatherCols.gather_cols2 (by decide) gather_S16x257_S256x768x1_S16x256x768_0_1_n_n_1_2_161_wf x2 _ h i j).trans ?_
  unfold r0
  rw [dif_pos ⟨h.isLt, by omega⟩]
  refine congrArg x2 (congrArg (ix2 h) (Fin.ext ?_))
  refine (congrArg (min · (257 - 1)) (v20_at i j)).trans ?_
  dsimp only
  omega
theorem v61_at (q : Fin 4) (h : Fin 16) (i : Fin 64) (j : Fin 576) : (val_main_v61 (F := Ideal) x2 : Vec Ideal S4x16x64x576 .f32) (ix4 q h i j)
    = r0 x2 h.val (min (i.val + 640 - j.val) 256) := by
  have hq := q.isLt
  pointwise [val_main_v61, val_main_v60, val_main_v59, val_main_v58, val_main_v57, val_main_v56, val_main_v55, val_main_v54, val_main_v53]
  simp only [v21_at]
  split_ifs <;> (congr 2; try omega)
/-- The signed test that a place is past the padding. -/
theorem past_pad : ∀ t : Fin 8704, IntOp.cmpi .sge (IntOp.subi (BitVec.ofNat 32 t.val) 512#32) 0#32 = if 512 ≤ t.val then 1#1 else 0#1 := by
  decide +kernel
theorem place_eq (p : Fin 128) (j : Fin 576) : IntOp.addi (IntOp.subi (IntOp.muli (64#32) (BitVec.ofNat 32 p.val)) 512#32) (BitVec.ofNat 32 j.val)
    = IntOp.subi (BitVec.ofNat 32 (64 * p.val + j.val)) 512#32 := by
  have hp := p.isLt
  have hj := j.isLt
  unfold IntOp.addi IntOp.subi IntOp.muli
  apply BitVec.eq_of_toNat_eq
  simp only [BitVec.toNat_add, BitVec.toNat_sub, BitVec.toNat_mul, BitVec.toNat_ofNat]
  omega
theorem valid_at (p : Fin 128) (j : Fin 576) : (val_main_v79 (F := Ideal) : IVec S128x576 1) (ix2 p j) = if 512 ≤ 64 * p.val + j.val then 1#1 else 0#1 := by
  have hp := p.isLt
  have hj := j.isLt
  pointwise [val_main_v79, val_main_v78, val_main_c_11, val_main_v77, val_main_v76, val_main_v75, val_main_v74, val_main_v73, val_main_v72, val_main_v71, val_main_c_10, val_main_v70, val_main_v69, val_main_c_9, val_main_v68, val_main_v67]
  rw [place_eq]
  exact past_pad ⟨64 * p.val + j.val, by omega⟩
theorem eighth_coe : eighth = ((1 / 8 : ℝ) : EReal) := by
  simp [Ideal.ofBits, Ideal.ieee, -EReal.coe_mul]
  norm_num
/-- A product with one eighth distributes over a sum. -/
theorem eighth_add (a b : EReal) : (a + b) * eighth = a * eighth + b * eighth := by
  rw [eighth_coe]
  exact EReal.right_distrib_of_nonneg_of_ne_top (by exact_mod_cast (by norm_num : (0 : ℝ) ≤ 1 / 8)) (EReal.coe_ne_top _) a b
theorem eighth_sum {ι : Type} (s : Finset ι) (f : ι → EReal) : (∑ e ∈ s, f e) * eighth = ∑ e ∈ s, f e * eighth := by
  classical
  induction s using Finset.induction_on with
  | empty => simp
  | insert a s ha ih => rw [Finset.sum_insert ha, Finset.sum_insert ha, eighth_add, ih]
theorem eighth_pull (a b : Fin 64 → EReal) : (∑ e, a e * b e) * eighth = ∑ e, a e * eighth * b e := by
  rw [eighth_sum]
  exact Finset.sum_congr rfl fun e _ => by rw [mul_assoc, mul_comm (b e), ← mul_assoc]
theorem v50_at (p : Fin 128) (h : Fin 16) (i : Fin 64) (j : Fin 576) : (val_main_v50 (F := Ideal) x0 : Vec Ideal S128x16x64x576 .f32) (ix4 p h i j)
    = ∑ e : Fin 64, q0 x0 (64 * p.val + i.val) (64 * h.val + e.val) * kpad (q0 x0) (64 * p.val + j.val) (64 * h.val + e.val) := by
  rw [val_main_v50_apply]
  refine Finset.sum_congr rfl fun e _ => ?_
  rw [← v22_at x0 p i h e, ← v49_at x0 p j h e]
  refine congrArg₂ (· * ·) (congrArg _ ?_) (congrArg _ ?_)
  · funext a; match a with | ⟨0, _⟩ => rfl | ⟨1, _⟩ => rfl | ⟨2, _⟩ => rfl | ⟨3, _⟩ => rfl
  · funext a; match a with | ⟨0, _⟩ => rfl | ⟨1, _⟩ => rfl | ⟨2, _⟩ => rfl | ⟨3, _⟩ => rfl
theorem masked_at (p : Fin 128) (h : Fin 16) (i : Fin 64) (j : Fin 576) : (val_main_v81_0 (F := Ideal) x0 x2 : Vec Ideal S128x16x64x576 .f32) (ix4 p h i j)
    = X (q0 x0) (r0 x2) (64 * p.val + i.val) h.val j := by
  have hp := p.isLt
  have hi := i.isLt
  have hj := j.isLt
  pointwise [val_main_v81_0, val_main_v81_1, val_main_call1_v2, val_main_v80, val_main_call1_v0, val_main_cst_12, val_main_v66, val_main_v65, val_main_v64, val_main_v63, val_main_v62, val_main_v52, val_main_v51, val_main_cst_8]
  rw [valid_at, v61_at, v50_at, id_eq]
  pointwise
  unfold X relIx
  have h1 : (64 * p.val + i.val) / 64 = p.val := by omega
  have h2 : (64 * p.val + i.val) % 64 = i.val := by omega
  rw [h1, h2, ← eighth_pull]
  by_cases hc : 512 ≤ 64 * p.val + j.val
  · rw [if_pos hc, if_neg (by omega)]; rfl
  · rw [if_neg hc, if_pos (by omega), ValueIdx.select_zero]
    simp [Ideal.ofBits, Ideal.ieee]
theorem v134_at (p : Fin 128) (h : Fin 16) (i : Fin 64) (j : Fin 576) : (val_main_v134 (F := Ideal) x0 x1 : Vec Ideal S128x16x64x576 .f32) (ix4 p h i j)
    = G (q0 x0) (d0 x1) (64 * p.val + i.val) h.val j := by
  have hp := p.isLt
  have hi := i.isLt
  have hj := j.isLt
  unfold G
  have h1 : (64 * p.val + i.val) / 64 = p.val := by omega
  rw [val_main_v134_apply, h1]
  refine Finset.sum_congr rfl fun e _ => ?_
  rw [← v133_at x1 p h e i, ← v128_at x0 p j h e]
  refine congrArg₂ (· * ·) (congrArg _ ?_) (congrArg _ ?_)
  · funext a; match a with | ⟨0, _⟩ => rfl | ⟨1, _⟩ => rfl | ⟨2, _⟩ => rfl | ⟨3, _⟩ => rfl
  · funext a; match a with | ⟨0, _⟩ => rfl | ⟨1, _⟩ => rfl | ⟨2, _⟩ => rfl | ⟨3, _⟩ => rfl
end Cert.AttnBwdRefIdeal.Value
end
-- ==== Proof.AttnReal.lean ====
/-
  A softmax row whose entries are real or minus infinity, with at least one real entry: its sum of exponentials is a
  positive real number. The softmax gradient as automatic differentiation writes it is then the one of `rowDs`.
-/
module

public import proofs.«01_k».proof.Proof.AttnRow

@[expose] public section

noncomputable section

namespace AttnRow

open Idealize.ShloMosaic

variable {n : ℕ}

/-- Every entry is real or minus infinity, and one is real. -/
def Sane (x : Fin n → EReal) : Prop := (∀ j, x j = ⊥ ∨ ∃ r : ℝ, x j = r) ∧ ∃ j, ∃ r : ℝ, x j = r

theorem rowMax_real {x : Fin n → EReal} (h : Sane x) : ∃ M : ℝ, rowMax x = M := by
  obtain ⟨h1, j, r, hj⟩ := h
  have hb : ∀ s : Finset (Fin n), Finset.fold max ⊥ x s = ⊥ ∨ ∃ r : ℝ, Finset.fold max ⊥ x s = r := fun s => by
    classical
    induction s using Finset.induction_on with
    | empty => exact Or.inl rfl
    | insert a s ha ih =>
      rw [Finset.fold_insert ha]
      rcases max_choice (x a) (Finset.fold max ⊥ x s) with e | e
      · rw [e]; exact h1 a
      · rw [e]; exact ih
  rcases hb Finset.univ with e | e
  · exfalso
    have : x j ≤ Finset.fold max ⊥ x Finset.univ := (Finset.le_fold_max _).mpr (Or.inr ⟨j, Finset.mem_univ _, le_rfl⟩)
    rw [e, hj] at this
    exact absurd (le_bot_iff.mp this) (EReal.coe_ne_bot r)
  · exact e

theorem rowExp_real {x : Fin n → EReal} (h : Sane x) (j : Fin n) : ∃ e : ℝ, 0 ≤ e ∧ rowExp x j = e ∧ (∀ r : ℝ, x j = r → 0 < e) := by
  obtain ⟨M, hM⟩ := rowMax_real h
  unfold rowExp
  rw [hM]
  rcases h.1 j with e | ⟨r, e⟩
  · exact ⟨0, le_rfl, by rw [e, EReal.bot_sub]; rfl, fun r hr => absurd (e.symm.trans hr) (EReal.coe_ne_bot r).symm⟩
  · exact ⟨Real.exp (r - M), (Real.exp_pos _).le, by rw [e, ← EReal.coe_sub]; rfl, fun _ _ => Real.exp_pos _⟩

theorem rowSum_real {x : Fin n → EReal} (h : Sane x) : ∃ s : ℝ, 0 < s ∧ rowSum x = s := by
  choose e he0 he hpos using rowExp_real h
  obtain ⟨j, r, hj⟩ := h.2
  refine ⟨∑ w, e w, Finset.sum_pos' (fun i _ => he0 i) ⟨j, Finset.mem_univ _, hpos j r hj⟩, ?_⟩
  unfold rowSum
  rw [Finset.sum_congr rfl fun w _ => he w]
  induction (Finset.univ : Finset (Fin n)) using Finset.induction_on with
  | empty => simp
  | insert a s ha ih => rw [Finset.sum_insert ha, Finset.sum_insert ha, ih, EReal.coe_add]

/-- The probability as a quotient. -/
theorem rowP_div {x : Fin n → EReal} (h : Sane x) (j : Fin n) : Ideal.div (rowExp x j) (rowSum x) = rowP x j := by
  obtain ⟨s, hs, e⟩ := rowSum_real h
  have hne : (s : EReal) ≠ 0 := by exact_mod_cast hs.ne'
  unfold rowP Ideal.div
  rw [e, if_neg hne, if_neg hne, one_mul]

theorem real_mul_sum (c : ℝ) (hc : 0 ≤ c) {ι : Type} (s : Finset ι) (f : ι → EReal) : (c : EReal) * ∑ u ∈ s, f u = ∑ u ∈ s, c * f u := by
  classical
  induction s using Finset.induction_on with
  | empty => simp
  | insert a s ha ih =>
    rw [Finset.sum_insert ha, Finset.sum_insert ha, ← ih, EReal.left_distrib_of_nonneg_of_ne_top (by exact_mod_cast hc) (EReal.coe_ne_top _)]

/-- The gradient as automatic differentiation writes it. -/
theorem rowDs_ad {x : Fin n → EReal} (h : Sane x) (g : Fin n → EReal) (j : Fin n) :
    (Ideal.div (g j) (rowSum x) + -(∑ u, g u * Ideal.div 1 (rowSum x * rowSum x) * rowExp x u)) * rowExp x j = rowDs x g j := by
  obtain ⟨s, hs, e⟩ := rowSum_real h
  have hne : (s : EReal) ≠ 0 := by exact_mod_cast hs.ne'
  have hne2 : (s : EReal) * s ≠ 0 := by exact_mod_cast (mul_pos hs hs).ne'
  have hc : (0 : ℝ) ≤ s⁻¹ := (inv_pos.mpr hs).le
  have e1 : (s : EReal)⁻¹ = ((s⁻¹ : ℝ) : EReal) := (EReal.coe_inv s).symm
  have e2 : ((s : EReal) * s)⁻¹ = ((s⁻¹ : ℝ) : EReal) * ((s⁻¹ : ℝ) : EReal) := by
    rw [← EReal.coe_mul, ← EReal.coe_inv, ← EReal.coe_mul, mul_inv]
  unfold rowDs rowP Ideal.div
  rw [e, if_neg hne, if_neg hne, if_neg hne2, one_mul, one_mul, e1, e2]
  have hs : ∑ u, g u * (((s⁻¹ : ℝ) : EReal) * ((s⁻¹ : ℝ) : EReal)) * rowExp x u = ((s⁻¹ : ℝ) : EReal) * ∑ u, rowExp x u * ((s⁻¹ : ℝ) : EReal) * g u := by
    rw [real_mul_sum _ hc]
    refine Finset.sum_congr rfl fun u _ => ?_
    generalize ((s⁻¹ : ℝ) : EReal) = c
    rw [mul_comm (rowExp x u) c, mul_comm (g u), mul_assoc, mul_assoc, mul_assoc, mul_comm (g u)]
  rw [hs, sub_eq_add_neg, ← mul_neg, mul_comm (g j), ← EReal.left_distrib_of_nonneg_of_ne_top (by exact_mod_cast hc) (EReal.coe_ne_top _)]
  generalize ((s⁻¹ : ℝ) : EReal) = c
  rw [mul_comm _ (rowExp x j), ← mul_assoc]

/-- Where the entry is minus infinity the gradient is zero. -/
theorem rowDs_bot {x : Fin n → EReal} (g : Fin n → EReal) (j : Fin n) (hj : x j = ⊥) : rowDs x g j = 0 := by
  unfold rowDs rowP rowExp
  rw [hj, EReal.bot_sub, show Ideal.exp ⊥ = 0 from rfl, zero_mul, zero_mul]

end AttnRow
end
-- ==== Proof.AttnRefSoft.lean ====
/-
  The reference of the attention gradient's softmax and its gradient, row by row, as `AttnRow` states them.
-/
module

public import proofs.«01_k».proof.Proof.AttnRefIn
public import proofs.«01_k».proof.Proof.AttnReal
public import Idealize.ShloMosaic.Lib.KernelVsHost

@[expose] public section

set_option maxRecDepth 16384

noncomputable section

namespace Cert.AttnBwdRefIdeal.Value

open Idealize.ShloMosaic Idealize.SL.Sem Cert.AttnBwdRefIdeal Cert.AttnBwdRefIdeal.Gen Cert.AttnBwdRefIdeal.Read AttnRow AttnCanon

variable (x0 : Vec Ideal S8192x4096 .f32) (x1 : Vec Ideal S8192x1024 .f32) (x2 : Vec Ideal S16x257 .f32)

/-- The row of position `64 * p + i`, head `h`. -/
abbrev row (p : Fin 128) (h : Fin 16) (i : Fin 64) : Fin 576 → EReal := X (q0 x0) (r0 x2) (64 * p.val + i.val) h.val

/-- The host's maximum along the last axis, from minus infinity. -/
theorem fold_max4 {n0 n1 n2 n3 : ℕ} {u : Shape} (x : FVec Ideal ⟨4, ![n0, n1, n2, n3]⟩ .f32) (h : (⟨4, ![n0, n1, n2, n3]⟩ : Shape).ReducesTo [3] ⟨3, ![n0, n1, n2]⟩)
    (h' : (⟨4, ![n0, n1, n2, n3]⟩ : Shape).Reduces [3] ⟨3, ![n0, n1, n2]⟩) (hu : 0 < u.numel) (a : Fin n0) (b : Fin n1) (c : Fin n2) :
    (Host.reduce (FloatOps.maximumf (F := Ideal)) x (constant (F := Ideal) u .f32 4286578688#32) h hu (ix3 a b c) : Ideal .f32) = rowMax fun k => x (ix4 a b c k) := by
  rw [hostReduce_maximumf_eq_multiReduction x 4286578688#32 h hu h' (Or.inl rfl) rfl]
  show reduceFold h' FloatOps.maximumf (FloatOps.ofBits .f32 4286578688#32) x (ix3 a b c) = _
  rw [reduceFold_eq_fold, Shape.Reduces.fold_fiber_r4_a3]
  have e : (FloatOps.ofBits .f32 4286578688#32 : Ideal .f32) = (⊥ : EReal) := by
    show Ideal.ofBits .f32 4286578688#32 = ⊥
    simp [Ideal.ofBits, Ideal.ieee]
  rw [e]
  rfl
theorem hr : (⟨4, ![128, 16, 64, 576]⟩ : Shape).Reduces [3] ⟨3, ![128, 16, 64]⟩ := by decide
theorem v82_eq (y : Vec Ideal S128x16x64x576 .f32) (z : Fin 576 → EReal) (p : Fin 128) (h : Fin 16) (i : Fin 64) (hx : ∀ k, y (ix4 p h i k) = z k) :
    (Host.reduce (FloatOps.maximumf (F := Ideal)) y (constant (F := Ideal) S_ .f32 4286578688#32) reducesTo_S128x16x64x576_S128x16x64_d3 h_S_ (ix3 p h i) : Ideal .f32) = rowMax z := by
  have e := fold_max4 (n0 := 128) (n1 := 16) (n2 := 64) (n3 := 576) y reducesTo_S128x16x64x576_S128x16x64_d3 hr h_S_ p h i
  refine e.trans (congrArg rowMax (funext hx))
theorem v82_at (p : Fin 128) (h : Fin 16) (i : Fin 64) : (val_main_v82 (F := Ideal) x0 x2 : Vec Ideal S128x16x64 .f32) (ix3 p h i)
    = rowMax (row x0 x2 p h i) := by
  unfold val_main_v82 val_main_cst_13
  exact v82_eq _ _ p h i (masked_at x0 x2 p h i)
theorem v89_at (p : Fin 128) (h : Fin 16) (i : Fin 64) : (val_main_v89 (F := Ideal) x0 x2 : Vec Ideal S128x16x64 .f32) (ix3 p h i)
    = rowMax (row x0 x2 p h i) := by
  rw [val_main_v89_apply, v82_at, val_main_v88_apply]
  have e : (FloatOps.ofBits .f32 4286578688#32 : Ideal .f32) = (⊥ : EReal) := by
    show Ideal.ofBits .f32 4286578688#32 = ⊥
    simp [Ideal.ofBits, Ideal.ieee]
  show max (FloatOps.ofBits .f32 4286578688#32 : Ideal .f32) _ = _
  rw [e]
  exact max_bot_left _
theorem v102_at (p : Fin 128) (h : Fin 16) (i : Fin 64) (j : Fin 576) : (val_main_v102 (F := Ideal) x0 x2 : Vec Ideal S128x16x64x576 .f32) (ix4 p h i j)
    = rowExp (row x0 x2 p h i) j := by
  pointwise [val_main_v102, val_main_v101, val_main_v100, val_main_v99]
  rw [v89_at, masked_at]
  rfl
theorem zero_word : (FloatOps.ofBits .f32 0#32 : Ideal .f32) = (0 : EReal) := by
  show Ideal.ofBits .f32 0#32 = 0
  simp [Ideal.ofBits, Ideal.ieee]
theorem v103_at (p : Fin 128) (h : Fin 16) (i : Fin 64) : (val_main_v103 (F := Ideal) x0 x2 : Vec Ideal S128x16x64 .f32) (ix3 p h i)
    = rowSum (row x0 x2 p h i) := by
  rw [val_main_v103_apply, val_main_cst_21_apply, zero_word, zero_add]
  refine Finset.sum_congr rfl fun j _ => ?_
  rw [← v102_at x0 x2 p h i j]
  refine congrArg _ ?_
  funext a; match a with | ⟨0, _⟩ => rfl | ⟨1, _⟩ => rfl | ⟨2, _⟩ => rfl | ⟨3, _⟩ => rfl
theorem v106_at (p : Fin 128) (h : Fin 16) (i : Fin 64) (j : Fin 576) (hs : Sane (row x0 x2 p h i)) : (val_main_v106 (F := Ideal) x0 x2 : Vec Ideal S128x16x64x576 .f32) (ix4 p h i j)
    = rowP (row x0 x2 p h i) j := by
  pointwise [val_main_v106, val_main_v105, val_main_v104]
  rw [v103_at, v102_at]
  exact rowP_div hs j
theorem v174_at (p : Fin 128) (h : Fin 16) (i : Fin 64) (j : Fin 576) : (val_main_v174 (F := Ideal) x0 x1 x2 : Vec Ideal S128x16x64x576 .f32) (ix4 p h i j)
    = G (q0 x0) (d0 x1) (64 * p.val + i.val) h.val j * Ideal.div 1 (rowSum (row x0 x2 p h i) * rowSum (row x0 x2 p h i)) * rowExp (row x0 x2 p h i) j := by
  pointwise [val_main_v174, val_main_v173, val_main_v172, val_main_v109, val_main_v108, val_main_cst_22, val_main_v107, val_main_v104]
  rw [v103_at, v102_at, v134_at]
theorem v175_at (p : Fin 128) (h : Fin 16) (i : Fin 64) : (val_main_v175 (F := Ideal) x0 x1 x2 : Vec Ideal S128x16x64 .f32) (ix3 p h i)
    = ∑ u, G (q0 x0) (d0 x1) (64 * p.val + i.val) h.val u * Ideal.div 1 (rowSum (row x0 x2 p h i) * rowSum (row x0 x2 p h i)) * rowExp (row x0 x2 p h i) u := by
  rw [val_main_v175_apply, val_main_cst_32_apply, zero_word, zero_add]
  refine Finset.sum_congr rfl fun j _ => ?_
  rw [← v174_at x0 x1 x2 p h i j]
  refine congrArg _ ?_
  funext a; match a with | ⟨0, _⟩ => rfl | ⟨1, _⟩ => rfl | ⟨2, _⟩ => rfl | ⟨3, _⟩ => rfl
theorem v180_at (p : Fin 128) (h : Fin 16) (i : Fin 64) : (val_main_v180 (F := Ideal) x0 x1 x2 : Vec Ideal S128x16x64 .f32) (ix3 p h i)
    = -(val_main_v175 (F := Ideal) x0 x1 x2 : Vec Ideal S128x16x64 .f32) (ix3 p h i) := by
  rw [val_main_v180_apply, val_main_cst_33_apply, zero_word, zero_add, Fin.sum_univ_one]
  pointwise [val_main_v177, val_main_v176]
  rfl
/-- The gradient of the scores. -/
theorem v184_at (p : Fin 128) (h : Fin 16) (i : Fin 64) (j : Fin 576) (hs : Sane (row x0 x2 p h i)) : (val_main_v184 (F := Ideal) x0 x1 x2 : Vec Ideal S128x16x64x576 .f32) (ix4 p h i j)
    = rowDs (row x0 x2 p h i) (G (q0 x0) (d0 x1) (64 * p.val + i.val) h.val) j := by
  pointwise [val_main_v184, val_main_v183, val_main_v182, val_main_v181, val_main_v179, val_main_v178, val_main_v104]
  rw [v180_at, v175_at, v103_at, v102_at, v134_at, rowDs_ad hs]
  have hv : (val_main_v81_1 (F := Ideal) : IVec S128x16x64x576 1) (ix4 p h i j) = if 512 ≤ 64 * p.val + j.val then 1#1 else 0#1 := by
    pointwise [val_main_v81_1, val_main_v80]
    exact valid_at p j
  rw [hv]
  by_cases hc : 512 ≤ 64 * p.val + j.val
  · rw [if_pos hc, ValueIdx.select_one]
  · rw [if_neg hc, ValueIdx.select_zero, rowDs_bot]
    · pointwise [val_main_call2_v0, val_main_call2_cst]
    · have hi := i.isLt
      have h1 : (64 * p.val + i.val) / 64 = p.val := by omega
      unfold row X
      rw [h1, if_pos (by omega)]
end Cert.AttnBwdRefIdeal.Value
end
-- ==== Proof.AttnChunks.lean ====
/-
  A sum over all positions of a function that is zero outside the nine chunks that see a place: it is the sum, over those
  nine chunks, of the sums over the chunk's 64 positions.
-/
module

public import proofs.«01_k».proof.Proof.AttnCanon

@[expose] public section

noncomputable section

namespace AttnCanon

theorem sum_chunks (f : ℕ → EReal) (n : ℕ) : ∑ t ∈ Finset.range (64 * n), f t = ∑ c ∈ Finset.range n, ∑ i : Fin 64, f (64 * c + i.val) := by
  induction n with
  | zero => simp
  | succ n ih => rw [Nat.mul_succ, Finset.sum_range_add, ih, Finset.sum_range_succ (n := n), Finset.sum_range fun x => f (64 * n + x)]

/-- The chunk `b` before chunk `K`, when it is one of the 128. -/
def chunkAt (f : ℕ → EReal) (K b : ℕ) : EReal := if b ≤ K ∧ K - b < 128 then ∑ i : Fin 64, f (64 * (K - b) + i.val) else 0

theorem sum_near (f : ℕ → EReal) (K : ℕ) (h0 : ∀ t, ¬(t / 64 ≤ K ∧ K ≤ t / 64 + 8) → f t = 0) :
    ∑ t ∈ Finset.range 8192, f t = chunkAt f K 8 + chunkAt f K 7 + chunkAt f K 6 + chunkAt f K 5 + chunkAt f K 4 + chunkAt f K 3 + chunkAt f K 2 + chunkAt f K 1 + chunkAt f K 0 := by
  rw [show 8192 = 64 * 128 from rfl, sum_chunks]
  have e : ∑ c ∈ Finset.range 128, ∑ i : Fin 64, f (64 * c + i.val) = ∑ b ∈ Finset.range 9, chunkAt f K b := by
    unfold chunkAt
    rw [← Finset.sum_filter, ← Finset.sum_filter_of_ne (p := fun c => c ≤ K ∧ K ≤ c + 8)]
    · refine Finset.sum_nbij' (K - ·) (K - ·) ?_ ?_ ?_ ?_ ?_
      · intro c hc
        simp only [Finset.mem_filter, Finset.mem_range] at hc ⊢
        omega
      · intro c hc
        simp only [Finset.mem_filter, Finset.mem_range] at hc ⊢
        omega
      · intro c hc
        simp only [Finset.mem_filter, Finset.mem_range] at hc ⊢
        omega
      · intro c hc
        simp only [Finset.mem_filter, Finset.mem_range] at hc ⊢
        omega
      · intro c hc
        simp only [Finset.mem_filter, Finset.mem_range] at hc
        rw [show K - (K - c) = c by omega]
    · intro c hc hne
      by_contra hn
      refine hne (Finset.sum_eq_zero fun i _ => h0 _ ?_)
      have hi := i.isLt
      rw [show (64 * c + i.val) / 64 = c by omega]
      exact hn
  rw [e]
  simp only [Finset.sum_range_succ, Finset.sum_range_zero, zero_add]
  ac_rfl

/-- A guarded sum over a chunk's positions, read at a place and a column split into head and lane. -/
theorem chunkAt_of {P : Prop} [Decidable P] (T : P → EReal) (z : EReal) (g : ℕ → ℕ → ℕ → ℕ → EReal) (M L b c j : ℕ) (hz : z = 0) (hP : P ↔ b ≤ M / 64 ∧ M / 64 - b < 128)
    (hT : ∀ h, T h = ∑ i : Fin 64, g (64 * c + i.val) (L / 64) (64 * c + j) (64 * (L / 64) + L % 64)) (hc : P → c = M / 64 - b) (hj : P → 64 * c + j = M) :
    (if h : P then T h else z) = chunkAt (fun t => g t (L / 64) M L) (M / 64) b := by
  unfold chunkAt
  by_cases h : P
  · rw [dif_pos h, if_pos (hP.mp h), hT, hj h, hc h, Nat.div_add_mod]
  · rw [dif_neg h, if_neg (fun k => h (hP.mpr k)), hz]

end AttnCanon
end
-- ==== Proof.AttnRefOut.lean ====
/-
  The results of the reference of the attention gradient, as `AttnCanon` states them.
-/
module

public import proofs.«01_k».proof.Proof.AttnRefSoft
public import proofs.«01_k».proof.Proof.AttnChunks

@[expose] public section

set_option maxRecDepth 16384

noncomputable section

namespace Cert.AttnBwdRefIdeal.Value

open Idealize.ShloMosaic Idealize.SL.Sem Cert.AttnBwdRefIdeal Cert.AttnBwdRefIdeal.Gen Cert.AttnBwdRefIdeal.Read AttnRow AttnCanon

variable (x0 : Vec Ideal S8192x4096 .f32) (x1 : Vec Ideal S8192x1024 .f32) (x2 : Vec Ideal S16x257 .f32)

/-- Every row of scores is real or masked, with a real place. -/
def Rows : Prop := ∀ p h i, Sane (row x0 x2 p h i)

theorem v206_at (hR : Rows x0 x2) (p : Fin 128) (h : Fin 16) (i : Fin 64) (j : Fin 576) : (val_main_v206 (F := Ideal) x0 x1 x2 : Vec Ideal S128x16x64x576 .f32) (ix4 p h i j)
    = DD (q0 x0) (d0 x1) (r0 x2) (64 * p.val + i.val) h.val (64 * p.val + j.val) * eighth := by
  have hi := i.isLt
  rw [DD_in _ _ _ _ _ _ j (by rw [show (64 * p.val + i.val) / 64 = p.val by omega]), ← v184_at x0 x1 x2 p h i j (hR p h i)]
  pointwise [val_main_v206, val_main_v205, val_main_cst_40, val_main_v189, val_main_v185]
theorem v209_at (hR : Rows x0 x2) (p : Fin 128) (h : Fin 16) (i : Fin 64) (d : Fin 64) : (val_main_v209 (F := Ideal) x0 x1 x2 : Vec Ideal S128x16x64x64 .f32) (ix4 p h i d)
    = ∑ j : Fin 576, DD (q0 x0) (d0 x1) (r0 x2) (64 * p.val + i.val) h.val (64 * p.val + j.val) * eighth * kpad (q0 x0) (64 * p.val + j.val) (64 * h.val + d.val) := by
  rw [val_main_v209_apply]
  refine Finset.sum_congr rfl fun j _ => ?_
  rw [← v206_at x0 x1 x2 hR p h i j, ← v49_at x0 p j h d]
  refine congrArg₂ (· * ·) (congrArg _ ?_) (congrArg _ ?_)
  · funext a; match a with | ⟨0, _⟩ => rfl | ⟨1, _⟩ => rfl | ⟨2, _⟩ => rfl | ⟨3, _⟩ => rfl
  · funext a; match a with | ⟨0, _⟩ => rfl | ⟨1, _⟩ => rfl | ⟨2, _⟩ => rfl | ⟨3, _⟩ => rfl
theorem v252_at (hR : Rows x0 x2) (t : Fin 8192) (L : Fin 1024) : (val_main_v252 (F := Ideal) x0 x1 x2 : Vec Ideal S8192x1024 .f32) (ix2 t L)
    = dQ (q0 x0) (d0 x1) (r0 x2) t.val L.val := by
  pointwise [val_main_v252, val_main_v210]
  rw [v209_at x0 x1 x2 hR]
  unfold dQ
  rw [eighth_sum]
  refine Finset.sum_congr rfl fun j _ => ?_
  dsimp only
  rw [Nat.div_add_mod, Nat.div_add_mod, mul_assoc, mul_assoc, mul_comm eighth]
theorem v208_at (hR : Rows x0 x2) (p : Fin 128) (j : Fin 576) (h : Fin 16) (d : Fin 64) : (val_main_v208 (F := Ideal) x0 x1 x2 : Vec Ideal S128x576x16x64 .f32) (ix4 p j h d)
    = ∑ i : Fin 64, DD (q0 x0) (d0 x1) (r0 x2) (64 * p.val + i.val) h.val (64 * p.val + j.val) * (q0 x0 (64 * p.val + i.val) (64 * h.val + d.val) * eighth) := by
  pointwise [val_main_v208]
  rw [val_main_v207_apply]
  refine Finset.sum_congr rfl fun i _ => ?_
  rw [mul_comm (q0 _ _ _), ← mul_assoc, ← v206_at x0 x1 x2 hR p h i j, ← v22_at x0 p i h d]
  refine congrArg₂ (· * ·) (congrArg _ ?_) (congrArg _ ?_)
  · funext a; match a with | ⟨0, _⟩ => rfl | ⟨1, _⟩ => rfl | ⟨2, _⟩ => rfl | ⟨3, _⟩ => rfl
  · funext a; match a with | ⟨0, _⟩ => rfl | ⟨1, _⟩ => rfl | ⟨2, _⟩ => rfl | ⟨3, _⟩ => rfl
theorem v136_at (hR : Rows x0 x2) (p : Fin 128) (j : Fin 576) (h : Fin 16) (d : Fin 64) : (val_main_v136 (F := Ideal) x0 x1 x2 : Vec Ideal S128x576x16x64 .f32) (ix4 p j h d)
    = ∑ i : Fin 64, PP (q0 x0) (r0 x2) (64 * p.val + i.val) h.val (64 * p.val + j.val) * d0 x1 (64 * p.val + i.val) (64 * h.val + d.val) := by
  pointwise [val_main_v136]
  rw [val_main_v135_apply]
  refine Finset.sum_congr rfl fun i _ => ?_
  have hi := i.isLt
  rw [PP_in _ _ _ _ _ j (by rw [show (64 * p.val + i.val) / 64 = p.val by omega]), mul_comm (rowP _ _), ← v106_at x0 x2 p h i j (hR p h i), ← v133_at x1 p h d i]
  refine congrArg₂ (· * ·) (congrArg _ ?_) (congrArg _ ?_)
  · funext a; match a with | ⟨0, _⟩ => rfl | ⟨1, _⟩ => rfl | ⟨2, _⟩ => rfl | ⟨3, _⟩ => rfl
  · funext a; match a with | ⟨0, _⟩ => rfl | ⟨1, _⟩ => rfl | ⟨2, _⟩ => rfl | ⟨3, _⟩ => rfl
theorem v251_at (hR : Rows x0 x2) (m : Fin 8192) (L : Fin 1024) : (val_main_v251 (F := Ideal) x0 x1 x2 : Vec Ideal S8192x1024 .f32) (ix2 m L)
    = dK (q0 x0) (d0 x1) (r0 x2) m.val L.val := by
  have hm := m.isLt
  have hL := L.isLt
  unfold dK
  rw [sum_near _ ((m.val + 512) / 64)]
  · pointwise [val_main_v251, val_main_v250, val_main_v245, val_main_v244, val_main_v243, val_main_v242, val_main_v241, val_main_v240, val_main_v239, val_main_v238, val_main_v237, val_main_v236, val_main_v235, val_main_v234, val_main_v233, val_main_v232, val_main_v231, val_main_v230, val_main_v229, val_main_v228, val_main_v227, val_main_v226, val_main_v225, val_main_v224, val_main_v223, val_main_v222, val_main_v221, val_main_v220, val_main_v219, val_main_v218, val_main_v217, val_main_v216, val_main_v215, val_main_v214, val_main_v213, val_main_v212, val_main_v211]
    refine congrArg₂ (· + ·) (congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_) ?_
    · exact chunkAt_of _ _ (fun t h M l => DD (q0 x0) (d0 x1) (r0 x2) t h M * (q0 x0 t l * eighth)) (m.val + 512) L.val 8 (m.val / 64) (512 + m.val % 64) zero_word (by omega) (fun h => v208_at x0 x1 x2 hR _ _ _ _) (by omega) (by omega)
    · exact chunkAt_of _ _ (fun t h M l => DD (q0 x0) (d0 x1) (r0 x2) t h M * (q0 x0 t l * eighth)) (m.val + 512) L.val 7 ((512 + m.val - 448) / 64) (448 + (512 + m.val - 448) % 64) zero_word (by omega) (fun h => v208_at x0 x1 x2 hR _ _ _ _) (by omega) (by omega)
    · exact chunkAt_of _ _ (fun t h M l => DD (q0 x0) (d0 x1) (r0 x2) t h M * (q0 x0 t l * eighth)) (m.val + 512) L.val 6 ((512 + m.val - 384) / 64) (384 + (512 + m.val - 384) % 64) zero_word (by omega) (fun h => v208_at x0 x1 x2 hR _ _ _ _) (by omega) (by omega)
    · exact chunkAt_of _ _ (fun t h M l => DD (q0 x0) (d0 x1) (r0 x2) t h M * (q0 x0 t l * eighth)) (m.val + 512) L.val 5 ((512 + m.val - 320) / 64) (320 + (512 + m.val - 320) % 64) zero_word (by omega) (fun h => v208_at x0 x1 x2 hR _ _ _ _) (by omega) (by omega)
    · exact chunkAt_of _ _ (fun t h M l => DD (q0 x0) (d0 x1) (r0 x2) t h M * (q0 x0 t l * eighth)) (m.val + 512) L.val 4 ((512 + m.val - 256) / 64) (256 + (512 + m.val - 256) % 64) zero_word (by omega) (fun h => v208_at x0 x1 x2 hR _ _ _ _) (by omega) (by omega)
    · exact chunkAt_of _ _ (fun t h M l => DD (q0 x0) (d0 x1) (r0 x2) t h M * (q0 x0 t l * eighth)) (m.val + 512) L.val 3 ((512 + m.val - 192) / 64) (192 + (512 + m.val - 192) % 64) zero_word (by omega) (fun h => v208_at x0 x1 x2 hR _ _ _ _) (by omega) (by omega)
    · exact chunkAt_of _ _ (fun t h M l => DD (q0 x0) (d0 x1) (r0 x2) t h M * (q0 x0 t l * eighth)) (m.val + 512) L.val 2 ((512 + m.val - 128) / 64) (128 + (512 + m.val - 128) % 64) zero_word (by omega) (fun h => v208_at x0 x1 x2 hR _ _ _ _) (by omega) (by omega)
    · exact chunkAt_of _ _ (fun t h M l => DD (q0 x0) (d0 x1) (r0 x2) t h M * (q0 x0 t l * eighth)) (m.val + 512) L.val 1 ((512 + m.val - 64) / 64) (64 + (512 + m.val - 64) % 64) zero_word (by omega) (fun h => v208_at x0 x1 x2 hR _ _ _ _) (by omega) (by omega)
    · exact chunkAt_of _ _ (fun t h M l => DD (q0 x0) (d0 x1) (r0 x2) t h M * (q0 x0 t l * eighth)) (m.val + 512) L.val 0 ((512 + m.val) / 64) ((512 + m.val) % 64) zero_word (by omega) (fun h => v208_at x0 x1 x2 hR _ _ _ _) (by omega) (by omega)
  · intro t ht
    rw [DD_off _ _ _ _ _ _ (by omega), zero_mul]
theorem v248_at (hR : Rows x0 x2) (m : Fin 8192) (L : Fin 1024) : (val_main_v248 (F := Ideal) x0 x1 x2 : Vec Ideal S8192x1024 .f32) (ix2 m L)
    = dV (q0 x0) (d0 x1) (r0 x2) m.val L.val := by
  have hm := m.isLt
  have hL := L.isLt
  unfold dV
  rw [sum_near _ ((m.val + 512) / 64)]
  · pointwise [val_main_v248, val_main_v247, val_main_v171, val_main_v170, val_main_v169, val_main_v168, val_main_v167, val_main_v166, val_main_v165, val_main_v164, val_main_v163, val_main_v162, val_main_v161, val_main_v160, val_main_v159, val_main_v158, val_main_v157, val_main_v156, val_main_v155, val_main_v154, val_main_v153, val_main_v152, val_main_v151, val_main_v150, val_main_v149, val_main_v148, val_main_v147, val_main_v146, val_main_v145, val_main_v144, val_main_v143, val_main_v142, val_main_v141, val_main_v140, val_main_v139, val_main_v138, val_main_v137]
    refine congrArg₂ (· + ·) (congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_) ?_
    · exact chunkAt_of _ _ (fun t h M l => PP (q0 x0) (r0 x2) t h M * d0 x1 t l) (m.val + 512) L.val 8 (m.val / 64) (512 + m.val % 64) zero_word (by omega) (fun h => v136_at x0 x1 x2 hR _ _ _ _) (by omega) (by omega)
    · exact chunkAt_of _ _ (fun t h M l => PP (q0 x0) (r0 x2) t h M * d0 x1 t l) (m.val + 512) L.val 7 ((512 + m.val - 448) / 64) (448 + (512 + m.val - 448) % 64) zero_word (by omega) (fun h => v136_at x0 x1 x2 hR _ _ _ _) (by omega) (by omega)
    · exact chunkAt_of _ _ (fun t h M l => PP (q0 x0) (r0 x2) t h M * d0 x1 t l) (m.val + 512) L.val 6 ((512 + m.val - 384) / 64) (384 + (512 + m.val - 384) % 64) zero_word (by omega) (fun h => v136_at x0 x1 x2 hR _ _ _ _) (by omega) (by omega)
    · exact chunkAt_of _ _ (fun t h M l => PP (q0 x0) (r0 x2) t h M * d0 x1 t l) (m.val + 512) L.val 5 ((512 + m.val - 320) / 64) (320 + (512 + m.val - 320) % 64) zero_word (by omega) (fun h => v136_at x0 x1 x2 hR _ _ _ _) (by omega) (by omega)
    · exact chunkAt_of _ _ (fun t h M l => PP (q0 x0) (r0 x2) t h M * d0 x1 t l) (m.val + 512) L.val 4 ((512 + m.val - 256) / 64) (256 + (512 + m.val - 256) % 64) zero_word (by omega) (fun h => v136_at x0 x1 x2 hR _ _ _ _) (by omega) (by omega)
    · exact chunkAt_of _ _ (fun t h M l => PP (q0 x0) (r0 x2) t h M * d0 x1 t l) (m.val + 512) L.val 3 ((512 + m.val - 192) / 64) (192 + (512 + m.val - 192) % 64) zero_word (by omega) (fun h => v136_at x0 x1 x2 hR _ _ _ _) (by omega) (by omega)
    · exact chunkAt_of _ _ (fun t h M l => PP (q0 x0) (r0 x2) t h M * d0 x1 t l) (m.val + 512) L.val 2 ((512 + m.val - 128) / 64) (128 + (512 + m.val - 128) % 64) zero_word (by omega) (fun h => v136_at x0 x1 x2 hR _ _ _ _) (by omega) (by omega)
    · exact chunkAt_of _ _ (fun t h M l => PP (q0 x0) (r0 x2) t h M * d0 x1 t l) (m.val + 512) L.val 1 ((512 + m.val - 64) / 64) (64 + (512 + m.val - 64) % 64) zero_word (by omega) (fun h => v136_at x0 x1 x2 hR _ _ _ _) (by omega) (by omega)
    · exact chunkAt_of _ _ (fun t h M l => PP (q0 x0) (r0 x2) t h M * d0 x1 t l) (m.val + 512) L.val 0 ((512 + m.val) / 64) ((512 + m.val) % 64) zero_word (by omega) (fun h => v136_at x0 x1 x2 hR _ _ _ _) (by omega) (by omega)
  · intro t ht
    rw [PP_off _ _ _ _ _ (by omega), zero_mul]
theorem v188_at (hR : Rows x0 x2) (q : Fin 4) (h : Fin 16) (i : Fin 64) (j : Fin 576) : (val_main_v188 (F := Ideal) x0 x1 x2 : Vec Ideal S4x16x64x576 .f32) (ix4 q h i j)
    = dB (q0 x0) (d0 x1) (r0 x2) h.val (64 * q.val + i.val) (64 * q.val + j.val) := by
  have hq := q.isLt
  have hi := i.isLt
  pointwise [val_main_v188, val_main_v187, val_main_v186, val_main_v185]
  unfold dB
  rw [show val_main_cst_35 (F := Ideal) (Shape.Idx.first h_S_) = 0 from zero_word, show val_main_cst_34 (F := Ideal) (Shape.Idx.first h_S_) = 0 from zero_word, zero_add, Finset.sum_range]
  simp only [zero_add]
  rw [Finset.univ_unique, Finset.sum_singleton]
  refine Finset.sum_congr rfl fun k _ => ?_
  rw [v184_at x0 x1 x2 _ _ _ _ (hR _ _ _)]
  have e : 256 * k.val + (64 * q.val + i.val) = 64 * (k.val * 4 + q.val) + i.val := by omega
  rw [e, DD_in _ _ _ _ _ _ j (by omega)]
/-- Outside the band of its row a place of the bias matrix receives nothing. -/
theorem dB_off (h r w : ℕ) (e : ¬(64 * (r / 64) ≤ w ∧ w < 64 * (r / 64) + 576)) : dB (q0 x0) (d0 x1) (r0 x2) h r w = 0 := by
  unfold dB
  exact Finset.sum_eq_zero fun i _ => DD_off _ _ _ _ _ _ (by omega)
/-- One of the four steps of the bias gradient, at a place: it holds the rows of its own chunk and nothing else. -/
theorem step_at {P : Prop} [Decidable P] (T : P → EReal) (z : EReal) (h r w c i j : ℕ) (hz : z = 0) (hP : P ↔ c = r / 64 ∧ 64 * c ≤ w ∧ w < 64 * c + 576)
    (hT : ∀ g, T g = dB (q0 x0) (d0 x1) (r0 x2) h (64 * c + i) (64 * c + j)) (hi : P → 64 * c + i = r) (hj : P → 64 * c + j = w) :
    (if g : P then T g else z) = if c = r / 64 then dB (q0 x0) (d0 x1) (r0 x2) h r w else 0 := by
  by_cases g : P
  · rw [dif_pos g, if_pos (hP.mp g).1, hT, hi g, hj g]
  · rw [dif_neg g, hz]
    by_cases e : c = r / 64
    · rw [if_pos e, dB_off]
      exact fun k => g (hP.mpr ⟨e, e ▸ k⟩)
    · rw [if_neg e]
/-- Of the four steps the one of the row's own chunk counts. -/
theorem four_steps (B : EReal) (k : ℕ) (hk : k < 4) : (if 3 = k then B else 0) + (if 2 = k then B else 0) + (if 1 = k then B else 0) + (if 0 = k then B else 0) = B := by
  have h4 : k = 0 ∨ k = 1 ∨ k = 2 ∨ k = 3 := by omega
  rcases h4 with e | e | e | e <;> subst e <;> simp
theorem v204_at (hR : Rows x0 x2) (h : Fin 16) (r : Fin 256) (w : Fin 768) : (val_main_v204 (F := Ideal) x0 x1 x2 : Vec Ideal S16x256x768 .f32) (ix3 h r w)
    = dB (q0 x0) (d0 x1) (r0 x2) h.val r.val w.val := by
  pointwise [val_main_v204, val_main_v203, val_main_v202, val_main_v201, val_main_v200, val_main_v199, val_main_v198, val_main_v197, val_main_v196, val_main_v195, val_main_v194, val_main_v193, val_main_v192, val_main_v191, val_main_v190]
  have hr := r.isLt
  have hw := w.isLt
  rw [← four_steps (dB (q0 x0) (d0 x1) (r0 x2) h.val r.val w.val) (r.val / 64) (by omega)]
  refine congrArg₂ (· + ·) (congrArg₂ (· + ·) (congrArg₂ (· + ·) ?_ ?_) ?_) ?_
  · exact step_at x0 x1 x2 _ _ h.val r.val w.val 3 (r.val - 192) (w.val - 192) zero_word (by omega) (fun g => v188_at x0 x1 x2 hR 3 h _ _) (by omega) (by omega)
  · exact step_at x0 x1 x2 _ _ h.val r.val w.val 2 (r.val - 128) (w.val - 128) zero_word (by omega) (fun g => v188_at x0 x1 x2 hR 2 h _ _) (by omega) (by omega)
  · exact step_at x0 x1 x2 _ _ h.val r.val w.val 1 (r.val - 64) (w.val - 64) zero_word (by omega) (fun g => v188_at x0 x1 x2 hR 1 h _ _) (by omega) (by omega)
  · exact step_at x0 x1 x2 _ _ h.val r.val w.val 0 r.val w.val zero_word (by omega) (fun g => v188_at x0 x1 x2 hR 0 h _ _) (by omega) (by omega)
end Cert.AttnBwdRefIdeal.Value
end
-- ==== Proof.AttnFinite.lean ====
/-
  What the precondition says of the arrays: queries, keys and relative bias are real numbers; hence every row of scores is
  real or masked, with a real place.
-/
module

public import proofs.«01_k».proof.Proof.AttnRefOut
public import proofs.«01_k».proof.Pre_attn_finite

@[expose] public section

set_option maxRecDepth 16384

noncomputable section

namespace Cert.AttnBwdRefIdeal.Value

open Idealize.ShloMosaic Idealize.SL.Sem Cert.AttnBwdRefIdeal Cert.AttnBwdRefIdeal.Gen Cert.AttnBwdRefIdeal.Read AttnRow AttnCanon

/-- A value whose magnitude is below infinity is a real number. -/
theorem real_of_cmp (x : Ideal .f32) (h : FloatOps.cmpf .olt (FloatOps.hostAbsf x) (FloatOps.ofBits (F := Ideal) .f32 0x7F800000#32) = 1#1) : ∃ r : ℝ, (x : EReal) = r := by
  have h' : max (x : EReal) (-(x : EReal)) < Ideal.ofBits .f32 0x7F800000#32 := by
    by_contra hn
    have e : FloatOps.cmpf .olt (FloatOps.hostAbsf x) (FloatOps.ofBits (F := Ideal) .f32 0x7F800000#32) = BitVec.ofBool (decide (max (x : EReal) (-(x : EReal)) < Ideal.ofBits .f32 0x7F800000#32)) := rfl
    rw [e, decide_eq_false hn] at h
    exact absurd h (by decide)
  rw [show Ideal.ofBits .f32 0x7F800000#32 = (⊤ : EReal) by simp [Ideal.ofBits, Ideal.ieee]] at h'
  have h1 : (x : EReal) < ⊤ := lt_of_le_of_lt (le_max_left _ _) h'
  have h2 : -(x : EReal) < ⊤ := lt_of_le_of_lt (le_max_right _ _) h'
  have h3 : (x : EReal) ≠ ⊥ := fun e => by rw [e] at h2; exact absurd h2 (by simp)
  exact ⟨(x : EReal).toReal, (EReal.coe_toReal h1.ne h3).symm⟩

variable (x0 : Vec Ideal S8192x4096 .f32) (x1 : Vec Ideal S8192x1024 .f32) (x2 : Vec Ideal S16x257 .f32)

theorem real_mul {a b : EReal} (ha : ∃ r : ℝ, a = r) (hb : ∃ r : ℝ, b = r) : ∃ r : ℝ, a * b = r := by
  obtain ⟨r, rfl⟩ := ha
  obtain ⟨s, rfl⟩ := hb
  exact ⟨r * s, (EReal.coe_mul r s).symm⟩
theorem real_add {a b : EReal} (ha : ∃ r : ℝ, a = r) (hb : ∃ r : ℝ, b = r) : ∃ r : ℝ, a + b = r := by
  obtain ⟨r, rfl⟩ := ha
  obtain ⟨s, rfl⟩ := hb
  exact ⟨r + s, (EReal.coe_add r s).symm⟩
theorem real_sum {ι : Type} (s : Finset ι) (f : ι → EReal) (h : ∀ i, ∃ r : ℝ, f i = r) : ∃ r : ℝ, ∑ i ∈ s, f i = r := by
  classical
  induction s using Finset.induction_on with
  | empty => exact ⟨0, by simp⟩
  | insert a s ha ih => rw [Finset.sum_insert ha]; exact real_add (h a) ih

/-- Real queries, keys and biases give rows with real scores. -/
theorem rows_of_real (hq : ∀ i j, j < 2048 → ∃ r : ℝ, q0 x0 i j = r) (hr : ∀ i j, ∃ r : ℝ, r0 x2 i j = r) : Rows x0 x2 := by
  intro p h i
  have hh := h.isLt
  have key : ∀ j : Fin 576, ¬ 64 * ((64 * p.val + i.val) / 64) + j.val < 512 → ∃ r : ℝ, row x0 x2 p h i j = r := by
    intro j hj
    show ∃ r : ℝ, X (q0 x0) (r0 x2) (64 * p.val + i.val) h.val j = r
    unfold X
    rw [if_neg hj]
    refine real_add (real_sum _ _ fun e => real_mul (real_mul (hq _ _ ?_) ⟨1 / 8, ?_⟩) ?_) (hr _ _)
    · have he := e.isLt
      omega
    · exact eighth_coe
    · unfold kpad
      rw [if_neg hj]
      have he := e.isLt
      exact hq _ _ (by omega)
  refine ⟨fun j => ?_, ⟨512, by omega⟩, key _ (by dsimp only; omega)⟩
  by_cases hj : 64 * ((64 * p.val + i.val) / 64) + j.val < 512
  · left
    show X (q0 x0) (r0 x2) (64 * p.val + i.val) h.val j = ⊥
    unfold X
    rw [if_pos hj]
  · exact Or.inr (key j hj)

/-- The precondition's two arrays of ones make the rows so. -/
theorem rows_of_pre [Cert.Pre_attn_finite.Facts] (h : (Cert.Pre_attn_finite.fn (F := Ideal) x0 x1 x2).1 = (fun _ => 1#1) ∧ (Cert.Pre_attn_finite.fn (F := Ideal) x0 x1 x2).2 = (fun _ => 1#1)) :
    Rows x0 x2 := by
  refine rows_of_real x0 x2 (fun i j hj => ?_) (fun i j => ?_)
  · unfold q0
    by_cases hb : i < 8192 ∧ j < 4096
    · rw [dif_pos hb]
      have e := congrFun h.1 (ix2 ⟨i, hb.1⟩ ⟨j, hj⟩)
      refine real_of_cmp _ (Eq.trans ?_ e)
      refine congrArg (fun z : Ideal .f32 => FloatOps.cmpf .olt (FloatOps.hostAbsf z) (FloatOps.ofBits (F := Ideal) .f32 0x7F800000#32)) (congrArg x0 ?_)
      funext a
      match a with
      | ⟨0, _⟩ => exact Fin.ext (Nat.zero_add _).symm
      | ⟨1, _⟩ => exact Fin.ext (Nat.zero_add _).symm
    · rw [dif_neg hb]; exact ⟨0, rfl⟩
  · unfold r0
    by_cases hb : i < 16 ∧ j < 257
    · rw [dif_pos hb]
      exact real_of_cmp _ (congrFun h.2 (ix2 ⟨i, hb.1⟩ ⟨j, hb.2⟩))
    · rw [dif_neg hb]; exact ⟨0, rfl⟩

end Cert.AttnBwdRefIdeal.Value
end
-- ==== Proof.AttnOut.lean ====
/-
  The attention gradient's four result arrays, entry by entry (AttnCanon), from the state after the point that writes each
  block back (AttnFold).
-/
module

public import proofs.«01_k».proof.Proof.AttnFold

@[expose] public section

set_option maxRecDepth 16384

noncomputable section

namespace Cert.AttnBwdIdeal.Value

open Idealize.ShloMosaic Idealize.SL.Sem Cert.AttnBwdIdeal Cert.AttnBwdIdeal.Gen AttnRow AttnCanon

theorem lastRows_apply (x : Vec Ideal S8704x128 .f32) (r : Fin 8192) (l : Fin 128) : lastRows x (ix2 r l) = x (ix2 ⟨r.val + 512, by omega⟩ l) := by
  refine congrArg x (funext fun a => Fin.ext ?_)
  match a with
  | ⟨0, _⟩ => show 512 + 1 * r.val = r.val + 512; omega
  | ⟨1, _⟩ => show 0 + 1 * l.val = l.val; omega

variable (m : (ℓ : Loc nD τ sig) → Buf (Elt Ideal) ℓ) (c : Dev nD) (hB : BiasOk m c)
include hB

/-- Every point steps from a state that holds the sums over the points before it. -/
theorem outs_step : ∀ (n : ℕ) (hn : n < cfg0.N), ∃ acc, outsAt0 m c n hn = stAt0 m c n hn acc ∧ KeptAt m c (n / 32) (n % 32) (found m c ⟨n, hn⟩ acc.2.2.2)
  | 0, hn => ⟨junk0, outsAt0_zero m c hn, by
    rw [found_A m c ⟨0, hn⟩ _ (Nat.zero_mod _)]
    exact fresh_at m c ⟨0, hn⟩⟩
  | n + 1, hn => ⟨outsAt0 m c n (Nat.lt_of_succ_lt hn), outsAt0_succ m c n hn, by
    by_cases h : (n + 1) % 32 = 0
    · rw [found_A m c ⟨n + 1, hn⟩ _ h, h]
      exact fresh_at m c ⟨n + 1, hn⟩
    · rw [found_BC m c ⟨n + 1, hn⟩ _ h]
      obtain ⟨acc, e, hF⟩ := outs_step n (Nat.lt_of_succ_lt hn)
      rw [e, show (n + 1) / 32 = n / 32 by omega, show (n + 1) % 32 = n % 32 + 1 by omega]
      exact kept_succ m c hB ⟨n, Nat.lt_of_succ_lt hn⟩ acc hF⟩

theorem G5_apply (t : Fin 8192) (L : Fin 1024) : (G5 m c : Vec Ideal S8192x1024 .f32) (ix2 t L) = dQ (qkvOf m c) (ddOf m c) (rbOf m c) t.val L.val := by
  have ht := t.isLt
  have hL := L.isLt
  have hp : pt5Of (ix2 t L) = t.val / 256 + 32 * (L.val / 128) := by show 1 * (t.val / 256 - 0) + 32 * (L.val / 128 - 0) = _; omega
  have hn : pt5Of (ix2 t L) < cfg0.N := lt_of_lt_of_eq (by rw [hp]; omega) N_0.symm
  unfold G5
  rw [dif_pos hn, ← outsAt0_sweep m c _ hn]
  obtain ⟨acc, e, hF⟩ := outs_step m c hB _ hn
  rw [e]
  refine (congrArg _ (show loc5Of (ix2 t L) = ix2 (⟨t.val % 256, by omega⟩ : Fin 256) (⟨L.val % 128, by omega⟩ : Fin 128) from funext fun a => by
    match a with
    | ⟨0, _⟩ => rfl
    | ⟨1, _⟩ => rfl)).trans ?_
  refine (dq_at m c hB ⟨_, hn⟩ acc hF _ _).trans ?_
  show dQ _ _ _ (256 * (pt5Of (ix2 t L) % 32) + t.val % 256) (128 * (pt5Of (ix2 t L) / 32) + L.val % 128) = _
  rw [hp, show 256 * ((t.val / 256 + 32 * (L.val / 128)) % 32) + t.val % 256 = t.val by omega,
    show 128 * ((t.val / 256 + 32 * (L.val / 128)) / 32) + L.val % 128 = L.val by omega]

theorem G6_apply (t : Fin 8192) (L : Fin 1024) : (G6 m c : Vec Ideal S8192x1024 .f32) (ix2 t L) = dK (qkvOf m c) (ddOf m c) (rbOf m c) t.val L.val := by
  have ht := t.isLt
  have hL := L.isLt
  have hp : pt6Of (ix2 t L) = 32 * (L.val / 128) + 31 := by
    show 32 * (8 * (t.val / 8192 - 0) + 1 * (L.val / 128 - 0)) + 31 = _
    omega
  have hn : pt6Of (ix2 t L) < cfg0.N := lt_of_lt_of_eq (by rw [hp]; omega) N_0.symm
  unfold G6
  rw [dif_pos hn, ← outsAt0_sweep m c _ hn]
  obtain ⟨acc, e, hF⟩ := outs_step m c hB _ hn
  rw [e]
  refine (congrArg _ (show loc6Of (ix2 t L) = ix2 t (⟨L.val % 128, by omega⟩ : Fin 128) from funext fun a => Fin.ext (by
    match a with
    | ⟨0, _⟩ => show t.val % 8192 = t.val; omega
    | ⟨1, _⟩ => rfl))).trans ?_
  rw [last_dk m c ⟨_, hn⟩ acc (by show pt6Of (ix2 t L) % 32 = 31; rw [hp]; omega), lastRows_apply]
  refine (newDk_at m c hB ⟨_, hn⟩ acc hF _ _).trans ?_
  show ∑ u ∈ Finset.range (256 * (pt6Of (ix2 t L) % 32 + 1)), DD _ _ _ u ((128 * (pt6Of (ix2 t L) / 32) + L.val % 128) / 64) (t.val + 512) * (qkvOf m c u (128 * (pt6Of (ix2 t L) / 32) + L.val % 128) * eighth) = _
  rw [hp, show 256 * ((32 * (L.val / 128) + 31) % 32 + 1) = 8192 by omega, show 128 * ((32 * (L.val / 128) + 31) / 32) + L.val % 128 = L.val by omega]
  rfl

theorem G7_apply (t : Fin 8192) (L : Fin 1024) : (G7 m c : Vec Ideal S8192x1024 .f32) (ix2 t L) = dV (qkvOf m c) (ddOf m c) (rbOf m c) t.val L.val := by
  have ht := t.isLt
  have hL := L.isLt
  have hp : pt7Of (ix2 t L) = 32 * (L.val / 128) + 31 := by
    show 32 * (8 * (t.val / 8192 - 0) + 1 * (L.val / 128 - 0)) + 31 = _
    omega
  have hn : pt7Of (ix2 t L) < cfg0.N := lt_of_lt_of_eq (by rw [hp]; omega) N_0.symm
  unfold G7
  rw [dif_pos hn, ← outsAt0_sweep m c _ hn]
  obtain ⟨acc, e, hF⟩ := outs_step m c hB _ hn
  rw [e]
  refine (congrArg _ (show loc7Of (ix2 t L) = ix2 t (⟨L.val % 128, by omega⟩ : Fin 128) from funext fun a => Fin.ext (by
    match a with
    | ⟨0, _⟩ => show t.val % 8192 = t.val; omega
    | ⟨1, _⟩ => rfl))).trans ?_
  rw [last_dv m c ⟨_, hn⟩ acc (by show pt7Of (ix2 t L) % 32 = 31; rw [hp]; omega), lastRows_apply]
  refine (newDv_at m c hB ⟨_, hn⟩ acc hF _ _).trans ?_
  show ∑ u ∈ Finset.range (256 * (pt7Of (ix2 t L) % 32 + 1)), PP _ _ u ((128 * (pt7Of (ix2 t L) / 32) + L.val % 128) / 64) (t.val + 512) * ddOf m c u (128 * (pt7Of (ix2 t L) / 32) + L.val % 128) = _
  rw [hp, show 256 * ((32 * (L.val / 128) + 31) % 32 + 1) = 8192 by omega, show 128 * ((32 * (L.val / 128) + 31) / 32) + L.val % 128 = L.val by omega]
  rfl

theorem G8_apply (h : Fin 16) (r : Fin 256) (w : Fin 768) : (G8 m c : Vec Ideal S16x256x768 .f32) (ix3 h r w) = dB (qkvOf m c) (ddOf m c) (rbOf m c) h.val r.val w.val := by
  have hh := h.isLt
  have hr := r.isLt
  have hw := w.isLt
  have hp : pt8Of (ix3 h r w) = 32 * (h.val / 2) + 31 := by
    show 32 * (1 * (h.val / 2 - 0) + 1 * (r.val / 256 - 0) + 1 * (w.val / 768 - 0)) + 31 = _
    omega
  have hn : pt8Of (ix3 h r w) < cfg0.N := lt_of_lt_of_eq (by rw [hp]; omega) N_0.symm
  unfold G8
  rw [dif_pos hn, ← outsAt0_sweep m c _ hn]
  obtain ⟨acc, e, hF⟩ := outs_step m c hB _ hn
  rw [e]
  refine (congrArg _ (show loc8Of (ix3 h r w) = ix3 (⟨h.val % 2, by omega⟩ : Fin 2) r w from funext fun a => Fin.ext (by
    match a with
    | ⟨0, _⟩ => rfl
    | ⟨1, _⟩ => show r.val % 256 = r.val; omega
    | ⟨2, _⟩ => show w.val % 768 = w.val; omega))).trans ?_
  refine ((kept_succ m c hB ⟨_, hn⟩ acc hF).db _ _ _).trans ?_
  show ∑ u ∈ Finset.range (pt8Of (ix3 h r w) % 32 + 1), DD _ _ _ (256 * u + r.val) (2 * (pt8Of (ix3 h r w) / 32) + h.val % 2) (256 * u + w.val) = _
  rw [hp, show (32 * (h.val / 2) + 31) % 32 + 1 = 32 by omega, show 2 * ((32 * (h.val / 2) + 31) / 32) + h.val % 2 = h.val by omega]
  rfl

end Cert.AttnBwdIdeal.Value
end
-- ==== Proof.AttnTie.lean ====
/-
  The attention gradient's kernel and its reference end with the same four arrays.
-/
module

public import proofs.«01_k».proof.Defs
public import proofs.«01_k».proof.Proof.AttnBias
public import proofs.«01_k».proof.Proof.AttnFinite
public import proofs.«01_k».proof.Proof.AttnOut

@[expose] public section

set_option maxRecDepth 16384

noncomputable section

namespace AttnTie

open Idealize.ShloMosaic Idealize.SL.Sem AttnCanon

/-- The precondition's side conditions. -/
theorem pre_facts : Cert.Pre_attn_finite.Facts := ⟨by decide, by decide, by decide⟩

variable (m : (ℓ : Loc Cert.AttnBwdIdeal.nD Cert.AttnBwdIdeal.τ Cert.AttnBwdIdeal.sig) → Buf (Elt Ideal) ℓ) (c : Dev Cert.AttnBwdIdeal.nD)

/-- The kernel's three arguments. -/
abbrev a0 : Vec Ideal Cert.AttnBwdRefIdeal.S8192x4096 .f32 := m ((c.tc : Thread Cert.AttnBwdIdeal.nD Cert.AttnBwdIdeal.τ).loc Cert.AttnBwdIdeal.main_arg0)
abbrev a1 : Vec Ideal Cert.AttnBwdRefIdeal.S8192x1024 .f32 := m ((c.tc : Thread Cert.AttnBwdIdeal.nD Cert.AttnBwdIdeal.τ).loc Cert.AttnBwdIdeal.main_arg1)
abbrev a2 : Vec Ideal Cert.AttnBwdRefIdeal.S16x257 .f32 := m ((c.tc : Thread Cert.AttnBwdIdeal.nD Cert.AttnBwdIdeal.τ).loc Cert.AttnBwdIdeal.main_arg2)

theorem qkv_eq : Cert.AttnBwdIdeal.Value.qkvOf m c = Cert.AttnBwdRefIdeal.Value.q0 (a0 m c) := by
  funext i j
  unfold Cert.AttnBwdIdeal.Value.qkvOf Cert.AttnBwdRefIdeal.Value.q0
  rw [Cert.AttnBwdIdeal.Gen.V_main_arg0]
theorem dd_eq : Cert.AttnBwdIdeal.Value.ddOf m c = Cert.AttnBwdRefIdeal.Value.d0 (a1 m c) := by
  funext i j
  unfold Cert.AttnBwdIdeal.Value.ddOf Cert.AttnBwdRefIdeal.Value.d0
  rw [Cert.AttnBwdIdeal.Gen.V_main_arg1]
theorem rb_eq : Cert.AttnBwdIdeal.Value.rbOf m c = Cert.AttnBwdRefIdeal.Value.r0 (a2 m c) := by
  funext i j
  unfold Cert.AttnBwdIdeal.Value.rbOf Cert.AttnBwdRefIdeal.Value.r0
  rw [Cert.AttnBwdIdeal.Gen.V_main_arg2]

variable (hR : Cert.AttnBwdRefIdeal.Value.Rows (a0 m c) (a2 m c))
include hR

theorem dq_eq : (Cert.AttnBwdRefIdeal.Read.val_main_v252 (F := Ideal) (a0 m c) (a1 m c) (a2 m c) : Vec Ideal Cert.AttnBwdRefIdeal.S8192x1024 .f32) = Cert.AttnBwdIdeal.Value.G5 m c := by
  funext i
  rw [eq_ix2 i]
  refine (Cert.AttnBwdRefIdeal.Value.v252_at _ _ _ hR _ _).trans (Eq.trans ?_ (Cert.AttnBwdIdeal.Value.G5_apply m c (Cert.AttnBwdIdeal.Value.biasOk m c) _ _).symm)
  rw [qkv_eq, dd_eq, rb_eq]
theorem dk_eq : (Cert.AttnBwdRefIdeal.Read.val_main_v251 (F := Ideal) (a0 m c) (a1 m c) (a2 m c) : Vec Ideal Cert.AttnBwdRefIdeal.S8192x1024 .f32) = Cert.AttnBwdIdeal.Value.G6 m c := by
  funext i
  rw [eq_ix2 i]
  refine (Cert.AttnBwdRefIdeal.Value.v251_at _ _ _ hR _ _).trans (Eq.trans ?_ (Cert.AttnBwdIdeal.Value.G6_apply m c (Cert.AttnBwdIdeal.Value.biasOk m c) _ _).symm)
  rw [qkv_eq, dd_eq, rb_eq]
theorem dv_eq : (Cert.AttnBwdRefIdeal.Read.val_main_v248 (F := Ideal) (a0 m c) (a1 m c) (a2 m c) : Vec Ideal Cert.AttnBwdRefIdeal.S8192x1024 .f32) = Cert.AttnBwdIdeal.Value.G7 m c := by
  funext i
  rw [eq_ix2 i]
  refine (Cert.AttnBwdRefIdeal.Value.v248_at _ _ _ hR _ _).trans (Eq.trans ?_ (Cert.AttnBwdIdeal.Value.G7_apply m c (Cert.AttnBwdIdeal.Value.biasOk m c) _ _).symm)
  rw [qkv_eq, dd_eq, rb_eq]
theorem db_eq : (Cert.AttnBwdRefIdeal.Read.val_main_v204 (F := Ideal) (a0 m c) (a1 m c) (a2 m c) : Vec Ideal Cert.AttnBwdRefIdeal.S16x256x768 .f32) = Cert.AttnBwdIdeal.Value.G8 m c := by
  funext i
  rw [eq_ix3 i]
  refine (Cert.AttnBwdRefIdeal.Value.v204_at _ _ _ hR _ _ _).trans (Eq.trans ?_ (Cert.AttnBwdIdeal.Value.G8_apply m c (Cert.AttnBwdIdeal.Value.biasOk m c) _ _ _).symm)
  rw [qkv_eq, dd_eq, rb_eq]

omit hR in
theorem value : Cert.algebraic_AttnBwdIdeal_AttnBwdRefIdeal_pre_attn_finite (hAttnBwdIdeal := Cert.AttnBwdIdeal.Gen.facts) (hAttnBwdRefIdeal := Cert.AttnBwdRefIdeal.Gen.facts) (hPre_attn_finite := pre_facts) := by
  intro m g m' g' hp hm
  have hR : ∀ c, Cert.AttnBwdRefIdeal.Value.Rows (a0 m c) (a2 m c) := fun c => @Cert.AttnBwdRefIdeal.Value.rows_of_pre (a0 m c) (a1 m c) (a2 m c) pre_facts (hp c)
  refine ⟨Cert.AttnBwdIdeal.Value.G5 m, Cert.AttnBwdIdeal.Value.G6 m, Cert.AttnBwdIdeal.Value.G7 m, Cert.AttnBwdIdeal.Value.G8 m, Cert.AttnBwdIdeal.Value.run m g, ?_⟩
  refine (θ_run _ _ _).mono (fun r h c => ?_) (Cert.AttnBwdRefIdeal.Value.run m' g')
  obtain ⟨h1, h2, h3, h4, h5⟩ := h c
  obtain ⟨e0, e1, e2⟩ := hm c
  refine ⟨h1.trans ((Cert.AttnBwdRefIdeal.Read.val_main_v252_eq _).trans ?_), h2.trans ((Cert.AttnBwdRefIdeal.Read.val_main_v251_eq _).trans ?_),
    h3.trans ((Cert.AttnBwdRefIdeal.Read.val_main_v248_eq _).trans ?_), h4.trans ((Cert.AttnBwdRefIdeal.Read.val_main_v204_eq _).trans ?_), h5⟩
  · rw [StableHlo.launchContents_devRef, StableHlo.launchContents_devRef, StableHlo.launchContents_devRef, e0, e1, e2]
    exact dq_eq m c (hR c)
  · rw [StableHlo.launchContents_devRef, StableHlo.launchContents_devRef, StableHlo.launchContents_devRef, e0, e1, e2]
    exact dk_eq m c (hR c)
  · rw [StableHlo.launchContents_devRef, StableHlo.launchContents_devRef, StableHlo.launchContents_devRef, e0, e1, e2]
    exact dv_eq m c (hR c)
  · rw [StableHlo.launchContents_devRef, StableHlo.launchContents_devRef, StableHlo.launchContents_devRef, e0, e1, e2]
    exact db_eq m c (hR c)

end AttnTie
end
-- ==== Proof.BiasGradKernel.lean ====
/-
  The arrays the relative bias' gradient kernel reads, at an index: the bias gradient skewed so that one distance is one
  column, and the table that tells each distance its clipped column; and the kernel's product.
-/
module

public import proofs.«01_k».proof.Proof.Gen.BiasGradIdeal.Value
public import Idealize.ShloMosaic.Lib.Pointwise
public import Idealize.ShloMosaic.Lib.StableHlo.ReadAt

@[expose] public section

set_option maxRecDepth 16384

noncomputable section

namespace Cert.BiasGradIdeal.Value

open Idealize.ShloMosaic Idealize.SL.Sem Cert.BiasGradIdeal Cert.BiasGradIdeal.Gen

variable (m : (ℓ : Loc nD τ sig) → Buf (Elt Ideal) ℓ) (c : Dev nD)

/-- The bias gradient at a row and a skewed column: the column less 255, on the band's columns, zero elsewhere. -/
def skew (d : Vec Ideal S16x256x768 .f32) (h : Fin 16) (i : Fin 256) (x : ℕ) : EReal :=
  if hx : 255 ≤ i.val + x ∧ i.val + x - 255 < 768 then d (ix3 h i ⟨i.val + x - 255, hx.2⟩) else 0

theorem zero_word : (FloatOps.sitofp (F := Ideal) FTy.f32 0#32 : EReal) = 0 := by
  show (((0#32).toInt : ℝ) : EReal) = 0
  simp

theorem skew_place (i x : ℕ) (h : 255 ≤ i + x ∧ i + x - 255 < 768) :
    (i * 1024 + x - 255) / 1023 = i ∧ (i * 1024 + x - 255) % 1023 = i + x - 255 := by
  have e : i * 1024 + x - 255 = 1023 * i + (i + x - 255) := by omega
  rw [e]
  constructor <;> omega
/-- A skewed place lies in the padded array, on a column of the unpadded one, just when it is a column of the row. -/
theorem skew_cols (i x : ℕ) (hi : i < 256) (hx : x < 1024) :
    ((255 ≤ i * 1024 + x ∧ i * 1024 + x - 255 < 261888) ∧ ((i * 1024 + x - 255) / 1023 < 256 ∧ (i * 1024 + x - 255) % 1023 < 768))
      ↔ (255 ≤ i + x ∧ i + x - 255 < 768) := by
  constructor
  · rintro ⟨⟨a, b⟩, -, d⟩
    by_cases h1 : i + x < 255
    · exfalso
      have e : i * 1024 + x - 255 = 1023 * (i - 1) + (i + x + 768) := by omega
      rw [e] at d
      omega
    · refine ⟨by omega, ?_⟩
      by_contra h2
      by_cases h3 : i + x - 255 < 1023
      · have e : i * 1024 + x - 255 = 1023 * i + (i + x - 255) := by omega
        rw [e] at d
        omega
      · omega
  · intro h
    obtain ⟨e1, e2⟩ := skew_place i x h
    rw [e1, e2]
    omega
theorem skew_aux (d : Vec Ideal S16x256x768 .f32) (h : Fin 16) (i : Fin 256) (x : Fin 1024) (z : EReal) (hz : z = 0) :
    (if _ : 255 ≤ i.val * 1024 + x.val ∧ i.val * 1024 + x.val - 255 < 261888 then
      if h2 : (i.val * 1024 + x.val - 255) / 1023 < 256 ∧ (i.val * 1024 + x.val - 255) % 1023 < 768 then
        d (ix3 h ⟨(i.val * 1024 + x.val - 255) / 1023, h2.1⟩ ⟨(i.val * 1024 + x.val - 255) % 1023, h2.2⟩)
      else z
    else z) = skew d h i x.val := by
  subst hz
  have hi := i.isLt
  have hx := x.isLt
  unfold skew
  split
  · next h1 =>
    split
    · next h2 =>
      have h3 : 255 ≤ i.val + x.val ∧ i.val + x.val - 255 < 768 := (skew_cols i.val x.val hi hx).mp ⟨h1, h2⟩
      obtain ⟨q1, q2⟩ := skew_place i.val x.val h3
      rw [dif_pos h3]
      have e1 : (⟨(i.val * 1024 + x.val - 255) / 1023, h2.1⟩ : Fin 256) = i := Fin.ext q1
      have e2 : (⟨(i.val * 1024 + x.val - 255) % 1023, h2.2⟩ : Fin 768) = ⟨i.val + x.val - 255, h3.2⟩ := Fin.ext q2
      rw [e1, e2]
    · next h2 => rw [dif_neg fun h3 => h2 ((skew_cols i.val x.val hi hx).mpr h3).2]
  · next h1 => rw [dif_neg fun h3 => h1 ((skew_cols i.val x.val hi hx).mpr h3).1]
theorem skew_at (h : Fin 16) (i : Fin 256) (x : Fin 1024) : (V m c main_v18 : Vec Ideal S16x256x1024 .f32) (ix3 h i x)
    = skew (m (c, Proc.tc.devRef main_arg0) : Vec Ideal S16x256x768 .f32) h i x.val := by
  unfold V
  after_reads_at
  exact skew_aux (m (c, Proc.tc.devRef main_arg0) : Vec Ideal S16x256x768 .f32) h i x _ zero_word

/-- The clipped column of a distance, as the words compute it. -/
theorem hot_word : ∀ (k : Fin 1024), IntOp.addi (IntOp.minsi 128#32 (IntOp.maxsi 4294967168#32 (IntOp.subi 767#32 (BitVec.ofNat 32 k.val)))) 128#32
    = BitVec.ofNat 32 (min (895 - k.val) 256) := by decide +kernel
theorem hot_last : ∀ (k : Fin 1024), IntOp.cmpi CmpIPredicate.slt (BitVec.ofNat 32 k.val) 1023#32 = BitVec.ofBool (decide (k.val < 1023)) := by decide +kernel
theorem hot_eq (a b : ℕ) (ha : a < 257) (hb : b < 257) : IntOp.cmpi CmpIPredicate.eq (BitVec.ofNat 32 a) (BitVec.ofNat 32 b) = BitVec.ofBool (decide (a = b)) := by
  refine congrArg BitVec.ofBool ?_
  rw [Bool.eq_iff_iff, beq_iff_eq, decide_eq_true_iff]
  constructor
  · intro h
    have h := congrArg BitVec.toNat h
    simp only [BitVec.toNat_ofNat] at h
    omega
  · intro h
    rw [h]
theorem hot_at (k : Fin 1024) (r : Fin 257) : (V m c main_v14 : Vec Ideal S1024x257 .f32) (ix2 k r)
    = if min (895 - k.val) 256 = r.val ∧ k.val < 1023 then (1 : EReal) else (0 : EReal) := by
  have hr := r.isLt
  unfold V
  after_reads_at
  refine (congrArg (fun b => FloatOps.uitofp (F := Ideal) FTy.f32 (IntOp.andi (IntOp.cmpi CmpIPredicate.eq b (BitVec.ofNat 32 r.val))
    (IntOp.cmpi CmpIPredicate.slt (BitVec.ofNat 32 k.val) 1023#32))) (hot_word k)).trans ?_
  rw [hot_last, hot_eq _ _ (by omega) hr]
  by_cases h1 : min (895 - k.val) 256 = r.val <;> by_cases h2 : k.val < 1023
  · rw [if_pos ⟨h1, h2⟩, decide_eq_true h1, decide_eq_true h2]
    show (((1 : ℕ) : ℝ) : EReal) = 1
    simp
  · rw [if_neg (fun h => h2 h.2), decide_eq_true h1, decide_eq_false h2]
    show (((0 : ℕ) : ℝ) : EReal) = 0
    simp
  · rw [if_neg (fun h => h1 h.1), decide_eq_false h1, decide_eq_true h2]
    show (((0 : ℕ) : ℝ) : EReal) = 0
    simp
  · rw [if_neg (fun h => h1 h.1), decide_eq_false h1, decide_eq_false h2]
    show (((0 : ℕ) : ℝ) : EReal) = 0
    simp
theorem pay_at (z : Vec Ideal S16x256x1024 .f32) (o : Vec Ideal S1024x257 .f32) (h : Fin 16) (r : Fin 257) :
    (k0_pay1 (F := Ideal) z o : Vec Ideal S16x257 .f32) (ix2 h r) = ∑ x : Fin 1024, (∑ i : Fin 256, z (ix3 h i x)) * o (ix2 x r) := by
  unfold k0_pay1
  pointwise

/-- A distance's column once: the sums over skewed columns under the table are the sums over keys of that clipped distance. -/
theorem skew_sum (d : Vec Ideal S16x256x768 .f32) (h : Fin 16) (r : Fin 257) (i : Fin 256) :
    (∑ x : Fin 1024, if min (895 - x.val) 256 = r.val ∧ x.val < 1023 then skew d h i x.val else 0)
      = ∑ j : Fin 768, if min (i.val + 640 - j.val) 256 = r.val then d (ix3 h i j) else 0 := by
  have hi := i.isLt
  symm
  refine Fintype.sum_of_injective (fun j : Fin 768 => (⟨j.val + 255 - i.val, by omega⟩ : Fin 1024)) ?_ _ _ ?_ ?_
  · intro a b e
    have e := congrArg Fin.val e
    dsimp only at e
    exact Fin.ext (by omega)
  · intro x hx
    have hn : ¬(255 ≤ i.val + x.val ∧ i.val + x.val - 255 < 768) := fun hh =>
      hx ⟨⟨i.val + x.val - 255, hh.2⟩, Fin.ext (by dsimp only; omega)⟩
    unfold skew
    rw [dif_neg hn, ite_self]
  · intro j
    have hj := j.isLt
    refine if_congr ?_ ?_ rfl
    · dsimp only
      constructor
      · intro e; exact ⟨by omega, by omega⟩
      · intro e; omega
    · unfold skew
      dsimp only
      rw [dif_pos ⟨by omega, by omega⟩]
      exact congrArg d (congrArg (ix3 h i) (Fin.ext (by dsimp only; omega)))

theorem pay_eq (h : Fin 16) (r : Fin 257) :
    (k0_pay1 (F := Ideal) (V m c main_v18 : Vec Ideal S16x256x1024 .f32) (V m c main_v14 : Vec Ideal S1024x257 .f32) : Vec Ideal S16x257 .f32) (ix2 h r)
      = ∑ i : Fin 256, ∑ j : Fin 768, if min (i.val + 640 - j.val) 256 = r.val then
          (show EReal from (m (c, Proc.tc.devRef main_arg0) : Vec Ideal S16x256x768 .f32) (ix3 h i j)) else (0 : EReal) := by
  refine (pay_at _ _ h r).trans ?_
  refine Eq.trans ?_ (Finset.sum_congr rfl fun i _ => skew_sum _ h r i)
  rw [Finset.sum_comm]
  refine Finset.sum_congr rfl fun x _ => ?_
  rw [hot_at]
  split
  · rw [mul_one]
    exact Finset.sum_congr rfl fun i _ => skew_at m c h i x
  · rw [mul_zero, Finset.sum_const_zero]

end Cert.BiasGradIdeal.Value
end
-- ==== Proof.ScatterCols.lean ====
/-
  A scatter-add of columns into a matrix, at an index: the matrix's element plus the updates of its row whose index word,
  read signed, names its column. Columns are named by a matrix of index words.
-/
module

public import Idealize.ShloMosaic.Lib.Routing.OpsPair
public import Idealize.ShloMosaic.Lib.Pointwise

@[expose] public section

noncomputable section

namespace ScatterCols

open Idealize.ShloMosaic

variable {N K w : ℕ}

abbrev dims (n k : ℕ) (wf : ScatterDims.WF ⟨2, ![N, K]⟩ ⟨3, ![n, k, 1]⟩ ⟨3, ![N, n, k]⟩ [0] [1] [1] 2) :
    ScatterDims ⟨2, ![N, K]⟩ ⟨3, ![n, k, 1]⟩ ⟨3, ![N, n, k]⟩ where
  updateWindowDims := [0]
  insertedWindowDims := [1]
  scatterDimsToOperandDims := [1]
  indexVectorDim := 2
  wf := wf

theorem lands {n k : ℕ} (wf : ScatterDims.WF ⟨2, ![N, K]⟩ ⟨3, ![n, k, 1]⟩ ⟨3, ![N, n, k]⟩ [0] [1] [1] 2) (idx : IVec ⟨3, ![n, k, 1]⟩ w)
    (h' h : Fin N) (i : Fin n) (j : Fin k) (c : Fin K) :
    (dims n k wf).resultIdx? (ix3 h' i j) idx = some (ix2 h c) ↔ h' = h ∧ (idx (ix3 i j (0 : Fin 1))).toInt = (c.val : ℤ) := by
  refine (Routing.resultIdx?_ix2 (dims n k wf) (ix3 h' i j) idx h c).trans ?_
  have h0 : (dims n k wf).start (ix3 h' i j) idx 0 = 0 := by
    unfold ScatterDims.start
    exact dif_neg (fun h => absurd (congrArg Fin.val (List.mem_singleton.mp h)) Nat.zero_ne_one)
  have h1 : (dims n k wf).start (ix3 h' i j) idx 1 = (idx (ix3 i j (0 : Fin 1))).toInt := by
    unfold ScatterDims.start
    rw [dif_pos (show (1 : Fin 2) ∈ (dims n k wf).scatterDimsToOperandDims from List.mem_singleton.mpr rfl)]
    have hsi : (dims n k wf).siIdx (ix3 h' i j) ⟨List.idxOf (1 : Fin 2) (dims n k wf).scatterDimsToOperandDims,
        List.idxOf_lt_length_iff.2 (List.mem_singleton.mpr rfl)⟩ = ix3 i j (0 : Fin 1) := by
      funext b; refine Fin.ext ?_
      match b with
      | ⟨0, _⟩ => rfl
      | ⟨1, _⟩ => rfl
      | ⟨2, _⟩ => rfl
    exact congrArg (fun x => (idx x).toInt) hsi
  have w0 : (dims n k wf).window (ix3 h' i j) 0 = h'.val := rfl
  have w1 : (dims n k wf).window (ix3 h' i j) 1 = 0 := rfl
  rw [h0, h1, w0, w1]
  constructor
  · rintro ⟨a, b⟩
    exact ⟨Fin.ext (by omega), by omega⟩
  · rintro ⟨a, b⟩
    subst a
    exact ⟨by omega, by omega⟩

theorem scatter_cols {n k : ℕ} (wf : ScatterDims.WF ⟨2, ![N, K]⟩ ⟨3, ![n, k, 1]⟩ ⟨3, ![N, n, k]⟩ [0] [1] [1] 2)
    (x : Vec Ideal ⟨2, ![N, K]⟩ .f32) (idx : IVec ⟨3, ![n, k, 1]⟩ w) (upd : Vec Ideal ⟨3, ![N, n, k]⟩ .f32) (h : Fin N) (c : Fin K) :
    (Host.scatterAdd (F := Ideal) (φ := .f32) (dims n k wf) x idx upd : Vec Ideal ⟨2, ![N, K]⟩ .f32) (ix2 h c)
      = x (ix2 h c) + ∑ i : Fin n, ∑ j : Fin k, if (idx (ix3 i j (0 : Fin 1))).toInt = (c.val : ℤ) then upd (ix3 h i j) else 0 := by
  show x (ix2 h c) + ∑ j ∈ Finset.univ.filter (fun j => (dims n k wf).resultIdx? j idx = some (ix2 h c)), upd j = _
  refine congrArg (x (ix2 h c) + ·) ?_
  rw [Finset.sum_filter, sum_idx3]
  rw [Finset.sum_eq_single h]
  · refine Finset.sum_congr rfl fun i _ => Finset.sum_congr rfl fun j _ => ?_
    exact if_congr ((lands wf idx h h i j c).trans (and_iff_right rfl)) rfl rfl
  · intro h' _ hne
    refine Finset.sum_eq_zero fun i _ => Finset.sum_eq_zero fun j _ => if_neg ?_
    exact fun e => hne ((lands wf idx h' h i j c).mp e).1
  · exact fun e => absurd (Finset.mem_univ h) e

end ScatterCols
end
-- ==== Proof.BiasGradRef.lean ====
/-
  The reference of the relative bias' gradient at an index: the sum of the bias gradients whose clipped distance is its column.
-/
module

public import proofs.«01_k».proof.Proof.Gen.BiasGradRefIdeal.Read
public import proofs.«01_k».proof.Proof.ScatterCols
public import Idealize.ShloMosaic.Lib.Pointwise

@[expose] public section

set_option maxRecDepth 16384

noncomputable section

namespace Cert.BiasGradRefIdeal.Value

open Idealize.ShloMosaic Idealize.SL.Sem Cert.BiasGradRefIdeal Cert.BiasGradRefIdeal.Gen Cert.BiasGradRefIdeal.Read

variable (x0 : Vec Ideal S16x256x768 .f32)

theorem shift_eq (i : Fin 256) (j : Fin 768) : IntOp.addi (IntOp.subi (BitVec.ofNat 32 i.val) (BitVec.ofNat 32 j.val)) 512#32
    = IntOp.subi (BitVec.ofNat 32 (i.val + 768 - j.val)) 256#32 := by
  have hi := i.isLt
  have hj := j.isLt
  unfold IntOp.addi IntOp.subi
  apply BitVec.eq_of_toNat_eq
  simp only [BitVec.toNat_add, BitVec.toNat_sub, BitVec.toNat_ofNat]
  omega
/-- The column of the relative bias at a distance, as the clipped and shifted index computes it. -/
theorem clip_eq : ∀ d : Fin 1024, (fun T : BitVec 32 => (Scalar.select (IntOp.cmpi .slt T 0#32) (IntOp.addi T 257#32) T).toInt)
    (IntOp.addi (IntOp.minsi 128#32 (IntOp.maxsi 4294967168#32 (IntOp.subi (BitVec.ofNat 32 d.val) 256#32))) 128#32) = ((min (d.val - 128) 256 : ℕ) : ℤ) := by
  decide +kernel
theorem v18_at (i : Fin 256) (j : Fin 768) : ((val_main_v18 (F := Ideal) : IVec S256x768x1 32) (ix3 i j (0 : Fin 1))).toInt = ((min (i.val + 640 - j.val) 256 : ℕ) : ℤ) := by
  have hi := i.isLt
  have hj := j.isLt
  have h := clip_eq ⟨i.val + 768 - j.val, by omega⟩
  pointwise [val_main_v18, val_main_v17, val_main_v16, val_main_v15, val_main_c_4, val_main_v14, val_main_v13, val_main_c_3, val_main_v11, val_main_v10, val_main_c_2, val_main_v9, val_main_call0_v4, val_main_call0_v3, val_main_call0_v2, val_main_call0_v1, val_main_call0_v0, val_main_c_0, val_main_c_1, val_main_v8, val_main_v7, val_main_c, val_main_v6, val_main_v5, val_main_v4, val_main_v3, val_main_v2, val_main_v1, val_main_v0]
  rw [shift_eq]
  dsimp only at h
  simp only [id_eq]
  pointwise
  refine h.trans ?_
  have e : i.val + 768 - j.val - 128 = i.val + 640 - j.val := by omega
  rw [e]
theorem v21_at (h : Fin 16) (c : Fin 257) : (val_main_v21 (F := Ideal) x0 : Vec Ideal S16x257 .f32) (ix2 h c)
    = ∑ i : Fin 256, ∑ j : Fin 768, if min (i.val + 640 - j.val) 256 = c.val then x0 (ix3 h i j) else 0 := by
  unfold val_main_v21
  refine (ScatterCols.scatter_cols scatter_S16x257_S256x768x1_S16x256x768_0_1_1_2_wf _ _ x0 h c).trans ?_
  have hz : (val_main_v20 (F := Ideal) : Vec Ideal S16x257 .f32) (ix2 h c) = 0 := by
    pointwise [val_main_v20, val_main_cst_5]
  rw [hz, zero_add]
  refine Finset.sum_congr rfl fun i _ => Finset.sum_congr rfl fun j _ => if_congr ?_ rfl rfl
  rw [v18_at]
  exact Int.ofNat_inj

end Cert.BiasGradRefIdeal.Value
end
-- ==== Proof.BiasGradTie.lean ====
/-
  The relative bias' gradient against its reference.
-/
module

public import proofs.«01_k».proof.Defs
public import proofs.«01_k».proof.Proof.BiasGradKernel
public import proofs.«01_k».proof.Proof.BiasGradRef
public import proofs.«01_k».proof.Proof.Gen.BiasGradRefIdeal.Run
public import Idealize.ShloMosaic.Lib.Pipeline.ValueKit

@[expose] public section

set_option maxRecDepth 16384

noncomputable section

namespace Cert.BiasGradIdeal.Value

open Idealize.ShloMosaic Idealize.ShloMosaic.TcCoe Idealize.SL.Sem Cert.BiasGradIdeal Cert.BiasGradIdeal.Gen

variable (m : (ℓ : Loc nD τ sig) → Buf (Elt Ideal) ℓ) (c : Dev nD)

/-- The kernel's result, of the bias gradient it is given. -/
def G2 : Vec Ideal S16x257 .f32 := k0_pay1 (F := Ideal) (V m c main_v18 : Vec Ideal S16x256x1024 .f32) (V m c main_v14 : Vec Ideal S1024x257 .f32)

theorem out_eq (x0 : Vec Ideal S16x256x1024 .f32) (x1 : Vec Ideal S1024x257 .f32) : out0_2 (F := Ideal) x0 x1 = k0_pay1 (F := Ideal) x0 x1 := by
  unfold out0_2
  rw [show View.ld x0 r0_0 = x0 from View.ld_unit_zero (by funext a; fin_cases a <;> rfl) _ x0,
    show View.ld x1 r0_1 = x1 from View.ld_unit_zero (by funext a; fin_cases a <;> rfl) _ x1]
  exact View.canon_cons_unit_zero (by funext a; fin_cases a <;> rfl) _ _ _
theorem index_facts : ∀ t : Fin cfg0.N, (win0_0.index t 0 = 0 ∧ win0_0.index t 1 = 0 ∧ win0_0.index t 2 = 0) ∧ (win0_1.index t 0 = 0 ∧ win0_1.index t 1 = 0) :=
  (by decide +kernel : ∀ t : Fin grid0.N, _)
theorem iblk0_eq (t : Fin cfg0.N) : (iblk m c 0 t : Vec Ideal S16x256x1024 .f32) = (V m c main_v18 : Vec Ideal S16x256x1024 .f32) := by
  funext i
  have hi := (index_facts t).1
  unfold iblk
  rw [View.read_apply]
  show V m c main_v18 _ = V m c main_v18 _
  congr 1
  funext a
  apply Fin.ext
  match a with
  | ⟨0, _⟩ => show win0_0.index t 0 * 16 + 1 * (i 0).val = (i 0).val; rw [hi.1]; omega
  | ⟨1, _⟩ => show win0_0.index t 1 * 256 + 1 * (i 1).val = (i 1).val; rw [hi.2.1]; omega
  | ⟨2, _⟩ => show win0_0.index t 2 * 1024 + 1 * (i 2).val = (i 2).val; rw [hi.2.2]; omega
theorem iblk1_eq (t : Fin cfg0.N) : (iblk m c 1 t : Vec Ideal S1024x257 .f32) = (V m c main_v14 : Vec Ideal S1024x257 .f32) := by
  funext i
  have hi := (index_facts t).2
  unfold iblk
  rw [View.read_apply]
  show V m c main_v14 _ = V m c main_v14 _
  congr 1
  funext a
  apply Fin.ext
  match a with
  | ⟨0, _⟩ => show win0_1.index t 0 * 1024 + 1 * (i 0).val = (i 0).val; rw [hi.1]; omega
  | ⟨1, _⟩ => show win0_1.index t 1 * 257 + 1 * (i 1).val = (i 1).val; rw [hi.2]; omega
theorem final2 : (dats m 0 c).arrAt 2 cfg0.N = G2 m c := by
  refine (dats m 0 c).arrAt_eq_of_after_last 2 t0_0 (by decide +kernel) _ fun j => ?_
  rw [after0_2, iblk0_eq, iblk1_eq, out_eq]
  rfl

/-- The kernel's run leaves that result, and its argument. -/
theorem run (ρ : Dev nD → PrngReg) : θ_run defs (onTc (τ := τ) (main (F := Ideal))) ⟨m, fun _ => 0, ρ⟩ fun r => ∀ c : Dev nD,
      r.2.mem ((c : Thread nD τ).loc main_v19) = G2 m c ∧ r.2.mem ((c : Thread nD τ).loc main_arg0) = m ((c : Thread nD τ).loc main_arg0) :=
  (θ_run defs _ _).mono (fun r h c => ⟨(h c).1.trans (final2 m c), (h c).2⟩) (run_blocks m ρ)

end Cert.BiasGradIdeal.Value

namespace BiasGradTie

open Idealize.ShloMosaic Idealize.SL.Sem

variable (m : (ℓ : Loc Cert.BiasGradIdeal.nD Cert.BiasGradIdeal.τ Cert.BiasGradIdeal.sig) → Buf (Elt Ideal) ℓ) (c : Dev Cert.BiasGradIdeal.nD)

abbrev a0 : Vec Ideal Cert.BiasGradRefIdeal.S16x256x768 .f32 := m ((c.tc : Thread Cert.BiasGradIdeal.nD Cert.BiasGradIdeal.τ).loc Cert.BiasGradIdeal.main_arg0)

theorem out_eq : (Cert.BiasGradRefIdeal.Read.val_main_v21 (F := Ideal) (a0 m c) : Vec Ideal Cert.BiasGradRefIdeal.S16x257 .f32) = Cert.BiasGradIdeal.Value.G2 m c := by
  funext i
  rw [eq_ix2 i]
  exact (Cert.BiasGradRefIdeal.Value.v21_at _ _ _).trans (Cert.BiasGradIdeal.Value.pay_eq m c _ _).symm

theorem value : Cert.algebraic_BiasGradIdeal_BiasGradRefIdeal (hBiasGradIdeal := Cert.BiasGradIdeal.Gen.facts) (hBiasGradRefIdeal := Cert.BiasGradRefIdeal.Gen.facts) := by
  intro m g m' g' _ hm
  refine ⟨Cert.BiasGradIdeal.Value.G2 m, Cert.BiasGradIdeal.Value.run m g, ?_⟩
  refine (θ_run _ _ _).mono (fun r h c => ?_) (Cert.BiasGradRefIdeal.Value.run m' g')
  obtain ⟨h1, h2⟩ := h c
  have e0 := hm c
  refine ⟨h1.trans ((Cert.BiasGradRefIdeal.Read.val_main_v21_eq _).trans ?_), h2⟩
  rw [e0]
  exact out_eq m c

end BiasGradTie
end
-- ==== Proof.GatedOutBwdKernel.lean ====
/-
  The gradient of a gated output product against its reference: each point of the kernel's grid leaves its rows of the two
  row gradients, and adds its rows' part of the weight's gradient into the one block the grid shares.
-/
module

public import proofs.«01_k».proof.Proof.Gen.GatedOutBwdIdeal.Value
public import proofs.«01_k».proof.Proof.Gen.GatedOutBwdRefIdeal.Read
public import Idealize.ShloMosaic.Lib.Pipeline.ValueKit
public import Idealize.ShloMosaic.Lib.Pointwise

@[expose] public section

set_option maxRecDepth 16384

noncomputable section

namespace Cert.GatedOutBwdIdeal.Value

open Idealize.ShloMosaic Idealize.ShloMosaic.TcCoe Idealize.SL.Sem Cert.GatedOutBwdIdeal Cert.GatedOutBwdIdeal.Gen

variable (m : (ℓ : Loc nD τ sig) → Buf (Elt Ideal) ℓ) (c : Dev nD)

abbrev a0 : Vec Ideal S8192x1024 .f32 := m ((c : Thread nD τ).loc main_arg0)
abbrev a1 : Vec Ideal S8192x1024 .f32 := m ((c : Thread nD τ).loc main_arg1)
abbrev a2 : Vec Ideal S8192x4096 .f32 := m ((c : Thread nD τ).loc main_arg2)
abbrev a3 : Vec Ideal S1024x1024 .bf16 := m ((c : Thread nD τ).loc main_arg3)

theorem idx : ∀ t : Fin cfg0.N, (win0_0.index t 0 = t.val ∧ win0_0.index t 1 = 0) ∧ (win0_1.index t 0 = t.val ∧ win0_1.index t 1 = 0)
    ∧ (win0_2.index t 0 = t.val ∧ win0_2.index t 1 = 3) ∧ (win0_3.index t 0 = 0 ∧ win0_3.index t 1 = 0)
    ∧ (win0_4.index t 0 = t.val ∧ win0_4.index t 1 = 0) ∧ (win0_5.index t 0 = t.val ∧ win0_5.index t 1 = 0) ∧ (win0_6.index t 0 = 0 ∧ win0_6.index t 1 = 0) :=
  (by decide +kernel : ∀ t : Fin grid0.N, _)

theorem after4 (t : Fin cfg0.N) : (dats m 0 c).after 4 t = k0_pay4 (F := Ideal) (iblk m c 0 t) (iblk m c 2 t) (iblk m c 3 t) := by
  rw [after0_4]
  by_cases h : t.val % 16 = 0
  · rw [outsAt0_A m c t h]; frame_out
  · rw [outsAt0_B m c t h]; frame_out

theorem after5 (t : Fin cfg0.N) : (dats m 0 c).after 5 t = k0_pay5 (F := Ideal) (iblk m c 0 t) (iblk m c 1 t) (iblk m c 2 t) (iblk m c 3 t) := by
  rw [after0_5]
  by_cases h : t.val % 16 = 0
  · rw [outsAt0_A m c t h]; frame_out
  · rw [outsAt0_B m c t h]; frame_out

open Cert.GatedOutBwdRefIdeal.Read in
/-- A row of the gradient of the first factor. -/
theorem point4 (t : Fin cfg0.N) (j : S512x1024.Idx) (i : S8192x1024.Idx) (h0 : (i 0).val = 512 * t.val + (j 0).val) (h1 : (i 1).val = (j 1).val) :
    (k0_pay4 (F := Ideal) (iblk m c 0 t) (iblk m c 2 t) (iblk m c 3 t) : Vec Ideal S512x1024 .f32) j
      = (val_main_v9 (F := Ideal) (a0 m c) (a2 m c) (a3 m c) : Vec Ideal S8192x1024 .f32) i := by
  rw [eq_ix2 j, eq_ix2 i]
  pointwise [k0_pay4, k0_pay3, k0_pay2, k0_pay1, val_main_v9, val_main_v7, val_main_v2_0, val_main_v1, val_main_v2_2, val_main_call0_v3,
    val_main_call0_v1, val_main_call0_v0, val_main_v0, val_main_call0_v2, val_main_call0_v4, val_main_call0_cst, val_main_call0_cst_0, Ideal.logistic]
  blk_point [iblk, V, idx t]

open Cert.GatedOutBwdRefIdeal.Read in
/-- A row of the gradient of the gate. -/
theorem point5 (t : Fin cfg0.N) (j : S512x1024.Idx) (i : S8192x1024.Idx) (h0 : (i 0).val = 512 * t.val + (j 0).val) (h1 : (i 1).val = (j 1).val) :
    (k0_pay5 (F := Ideal) (iblk m c 0 t) (iblk m c 1 t) (iblk m c 2 t) (iblk m c 3 t) : Vec Ideal S512x1024 .f32) j
      = (val_main_v10 (F := Ideal) (a0 m c) (a1 m c) (a2 m c) (a3 m c) : Vec Ideal S8192x1024 .f32) i := by
  rw [eq_ix2 j, eq_ix2 i]
  pointwise [k0_pay5, k0_pay3, k0_pay2, k0_pay1, val_main_v10, val_main_call1_v1, val_main_call1_v2, val_main_call1_v0, val_main_v8, val_main_v7,
    val_main_v2_0, val_main_v1, val_main_call0_v7, val_main_v2_1, val_main_v2_2, val_main_call0_v3, val_main_call0_v1, val_main_call0_v0, val_main_v0,
    val_main_call0_v2, val_main_call0_v4, val_main_call0_cst, val_main_call0_cst_0, val_main_call0_cst_1, val_main_call0_v6, Ideal.logistic]
  blk_point [iblk, V, idx t]

theorem final4 : (dats m 0 c).arrAt 4 cfg0.N = Cert.GatedOutBwdRefIdeal.Read.val_main_v9 (F := Ideal) (a0 m c) (a2 m c) (a3 m c) := by
  refine (dats m 0 c).arrAt_eq_of_covers 4 _ (by decide +kernel) fun t hf y => ?_
  rw [after4]
  exact point4 m c t _ _ (by show win0_4.index t 0 * 512 + 1 * (y 0).val = 512 * t.val + (y 0).val; rw [(idx t).2.2.2.2.1.1]; omega)
    (by show win0_4.index t 1 * 1024 + 1 * (y 1).val = (y 1).val; rw [(idx t).2.2.2.2.1.2]; omega)
theorem final5 : (dats m 0 c).arrAt 5 cfg0.N = Cert.GatedOutBwdRefIdeal.Read.val_main_v10 (F := Ideal) (a0 m c) (a1 m c) (a2 m c) (a3 m c) := by
  refine (dats m 0 c).arrAt_eq_of_covers 5 _ (by decide +kernel) fun t hf y => ?_
  rw [after5]
  exact point5 m c t _ _ (by show win0_5.index t 0 * 512 + 1 * (y 0).val = 512 * t.val + (y 0).val; rw [(idx t).2.2.2.2.2.1.1]; omega)
    (by show win0_5.index t 1 * 1024 + 1 * (y 1).val = (y 1).val; rw [(idx t).2.2.2.2.2.1.2]; omega)

/-- The part of the weight's gradient that a block of rows gives. -/
def partOf (x0 x1 x2 : Vec Ideal S512x1024 .f32) (i : S1024x1024.Idx) : EReal :=
  ∑ x : Fin 512, x1 (ix2 x (i 0)) * (x2 (ix2 x (i 0)) * Ideal.logistic (x2 (ix2 x (i 0)))) * x0 (ix2 x (i 1))
def part (t : Fin cfg0.N) (i : S1024x1024.Idx) : EReal := partOf (iblk m c 0 t) (iblk m c 1 t) (iblk m c 2 t) i
theorem pay7_at (x0 x1 x2 : Vec Ideal S512x1024 .f32) (x6 : Vec Ideal S1024x1024 .f32) (i : S1024x1024.Idx) :
    (k0_pay7 (F := Ideal) x0 x1 x2 x6 : Vec Ideal S1024x1024 .f32) i = x6 i + partOf x0 x1 x2 i := by
  unfold partOf
  rw [eq_ix2 i]
  pointwise [k0_pay7, k0_pay2, k0_pay1]
theorem pay6_at (i : S1024x1024.Idx) : (k0_pay6 (F := Ideal) : Vec Ideal S1024x1024 .f32) i = (0 : EReal) := by
  rw [eq_ix2 i]
  pointwise [k0_pay6]

/-- The block that the grid shares ends with the sum of the parts. -/
theorem after6 (i : S1024x1024.Idx) : (outsAt0 m c t0_15.val t0_15.isLt).2.2 i = (0 : EReal) + ∑ t : Fin cfg0.N, part m c t i :=
  Pipeline.eq_sum_fin_of_reset_step_apply_last (fun n h => (outsAt0 m c n h).2.2) 16 (fun _ => (0 : EReal)) (part m c)
    (fun t h i => by rw [outsAt0_A m c t h]; frame_out; rw [pay7_at, pay6_at]; rfl)
    (fun t h i => by rw [outsAt0_B m c t h]; frame_out; rw [pay7_at]; rfl) (le_of_eq N_0) t0_15 rfl i

open Cert.GatedOutBwdRefIdeal.Read in
theorem sum6 (i : S1024x1024.Idx) : (0 : EReal) + ∑ t : Fin cfg0.N, part m c t i = (val_main_v6 (F := Ideal) (a0 m c) (a1 m c) (a2 m c) : Vec Ideal S1024x1024 .f32) i := by
  rw [zero_add, eq_ix2 i]
  pointwise [val_main_v6, val_main_v5, val_main_v3, val_main_v2_0, val_main_v2_2, val_main_call0_v3, val_main_call0_v1, val_main_call0_v0, val_main_v0,
    val_main_call0_v2, val_main_call0_v4, val_main_call0_cst, val_main_call0_cst_0]
  unfold part partOf
  refine Fin.sum_mul_add_congr (fun t x hl => ?_) (congrArg (· * 512) N_0).symm
  rw [mul_comm]
  unfold Ideal.logistic
  blk_point [iblk, V, idx t]

theorem final6 : (dats m 0 c).arrAt 6 cfg0.N = Cert.GatedOutBwdRefIdeal.Read.val_main_v6 (F := Ideal) (a0 m c) (a1 m c) (a2 m c) := by
  refine (dats m 0 c).arrAt_eq_of_after_last 6 t0_15 (by decide +kernel) _ fun j => ?_
  rw [after0_6]
  exact (after6 m c j).trans (sum6 m c j)

end Cert.GatedOutBwdIdeal.Value

end
-- ==== Proof.GatedOutBwdTie.lean ====
/-
  The gradient through the odd layer's gated output against its reference: every result of the kernel is the
  reference's, and no condition is put on the arguments.
-/
module

public import proofs.«01_k».proof.Defs
public import proofs.«01_k».proof.Proof.GatedOutBwdKernel
public import proofs.«01_k».proof.Proof.Gen.GatedOutBwdRefIdeal.Run

@[expose] public section

set_option maxRecDepth 16384

noncomputable section

namespace GatedOutBwdTie

open Idealize.ShloMosaic Idealize.SL.Sem Cert.GatedOutBwdIdeal.Value Cert.GatedOutBwdRefIdeal.Read

theorem value : Cert.algebraic_GatedOutBwdIdeal_GatedOutBwdRefIdeal (hGatedOutBwdIdeal := Cert.GatedOutBwdIdeal.Gen.facts) (hGatedOutBwdRefIdeal := Cert.GatedOutBwdRefIdeal.Gen.facts) := by
  intro m g m' g' _ hm
  refine ⟨fun c => val_main_v9 (F := Ideal) (a0 m c) (a2 m c) (a3 m c),
    fun c => val_main_v10 (F := Ideal) (a0 m c) (a1 m c) (a2 m c) (a3 m c),
    fun c => val_main_v6 (F := Ideal) (a0 m c) (a1 m c) (a2 m c),
    (θ_run _ _ _).mono (fun r h c => ?_) (run_blocks m g),
    (θ_run _ _ _).mono (fun r h c => ?_) (Cert.GatedOutBwdRefIdeal.Value.run m' g')⟩
  · obtain ⟨r0, r1, r2, kept⟩ := h c
    exact ⟨r0.trans (final4 m c), r1.trans (final5 m c), r2.trans (final6 m c), kept⟩
  · obtain ⟨r0, r1, r2, kept⟩ := h c
    obtain ⟨e0, e1, e2, e3⟩ := hm c
    refine ⟨r0.trans ((val_main_v9_eq ..).trans ?_),
      r1.trans ((val_main_v10_eq ..).trans ?_),
      r2.trans ((val_main_v6_eq ..).trans ?_), kept⟩
    · rw [e0, e2, e3]
    · rw [e0, e1, e2, e3]
    · rw [e0, e1, e2]

end GatedOutBwdTie
end
-- ==== Proof.LossHeadKernel.lean ====
/-
  The loss and its gradient against the reference. Each point of the kernel's grid holds 512 rows: it leaves their rows
  of the input's gradient, and adds their parts of the loss and of the last norm's gradient into the blocks the grid
  shares. The kernel doubles the error where the reference adds it to itself, and halves each block's loss where the
  reference halves the sum.
-/
module

public import proofs.«01_k».proof.Proof.Gen.LossHeadIdeal.Value
public import proofs.«01_k».proof.Proof.Gen.LossHeadRefIdeal.Read
public import Idealize.ShloMosaic.Lib.Pipeline.ValueKit
public import Idealize.ShloMosaic.Lib.Pointwise
public import Idealize.ShloMosaic.Lib.StableHlo.ReadAt

@[expose] public section

set_option maxRecDepth 16384

noncomputable section

namespace Cert.LossHeadIdeal.Value

open Idealize.ShloMosaic Idealize.ShloMosaic.TcCoe Idealize.SL.Sem Cert.LossHeadIdeal Cert.LossHeadIdeal.Gen
open Cert.LossHeadRefIdeal.Read

/-- The halving of a loss. -/
abbrev half : EReal := Ideal.ofBits .f32 1056964608#32
theorem half_eq : half = ((1 / 2 : ℝ) : EReal) := by
  simp [half, Ideal.ofBits, Ideal.ieee, -EReal.coe_mul]
  norm_num
theorem two_eq : Ideal.ofBits .f32 1073741824#32 = ((2 : ℝ) : EReal) := by
  simp [Ideal.ofBits, Ideal.ieee, -EReal.coe_mul]
  norm_num
theorem two_mul_ereal (y : EReal) : ((2 : ℝ) : EReal) * y = y + y := by
  induction y with
  | bot => rw [EReal.coe_mul_bot_of_pos (by norm_num)]; rfl
  | top => rw [EReal.coe_mul_top_of_pos (by norm_num)]; rfl
  | coe r => rw [← EReal.coe_mul, ← EReal.coe_add, two_mul]
/-- Halving as a map of sums. -/
def halve : EReal →+ EReal where
  toFun y := half * y
  map_zero' := mul_zero _
  map_add' a b := by
    rw [half_eq]
    exact EReal.left_distrib_of_nonneg_of_ne_top (by exact_mod_cast (by norm_num : (0 : ℝ) ≤ 1 / 2)) (EReal.coe_ne_top _) a b

section rows
/-! A block of rows beside the rows `R` of the whole arrays. -/
variable {x y : Vec Ideal S512x1024 .f32} {g : Vec Ideal S1x1024 .f32} {X Y : Vec Ideal S8192x1024 .f32} {G : Vec Ideal S1024 .f32} {R : Fin 512 → Fin 8192}
  (hx : ∀ r l, x (ix2 r l) = X (ix2 (R r) l)) (hy : ∀ r l, y (ix2 r l) = Y (ix2 (R r) l)) (hg : ∀ l, g (ix2 0 l) = G (ix1 l))

include hx in
theorem inv_at (r : Fin 512) : (k0_pay3 (F := Ideal) x : Vec Ideal S512x1 .f32) (ix2 r 0) = (val_main_v7 (F := Ideal) X : Vec Ideal Cert.LossHeadRefIdeal.S8192x1 .f32) (ix2 (R r) 0) := by
  pointwise [k0_pay3, k0_pay2, val_main_v7, val_main_v6, val_main_v5, val_main_v4, val_main_v3, val_main_v2, val_main_v1, val_main_v0, val_main_cst,
    val_main_cst_0, val_main_cst_1]
  simp only [hx]

include hx in
theorem dinv_at (r : Fin 512) : (k0_pay4 (F := Ideal) x : Vec Ideal S512x1 .f32) (ix2 r 0) = (val_main_v10 (F := Ideal) X : Vec Ideal Cert.LossHeadRefIdeal.S8192x1 .f32) (ix2 (R r) 0) := by
  pointwise [k0_pay4, k0_pay3, k0_pay2, val_main_v10, val_main_v9, val_main_v8, val_main_v7, val_main_v6, val_main_v5, val_main_v4,
    val_main_v3, val_main_v2, val_main_v1, val_main_v0, val_main_cst, val_main_cst_0, val_main_cst_1, val_main_cst_2]
  simp only [hx]

include hx hy hg in
/-- The error. -/
theorem err_at (r : Fin 512) (l : Fin 1024) : (k0_pay6 (F := Ideal) x y g : Vec Ideal S512x1024 .f32) (ix2 r l)
    = (val_main_v16 (F := Ideal) X G Y : Vec Ideal S8192x1024 .f32) (ix2 (R r) l) := by
  have hi := inv_at hx
  pointwise [k0_pay6, k0_pay5, k0_pay1, val_main_v16, val_main_v15, val_main_v14, val_main_v13, val_main_v12, val_main_v11]
  simp only [hx, hy, hg, hi]

include hx hy hg in
/-- The gradient of the normalised rows. -/
theorem dn_at (r : Fin 512) (l : Fin 1024) : (k0_pay10 (F := Ideal) (k0_pay7 x y g) k0_pay9 : Vec Ideal S512x1024 .f32) (ix2 r l)
    = (val_main_v30 (F := Ideal) X G Y : Vec Ideal S8192x1024 .f32) (ix2 (R r) l) := by
  have he := err_at hx hy hg
  pointwise [k0_pay10, k0_pay9, k0_pay7, val_main_v30, val_main_v29, val_main_v28, val_main_v27, val_main_v26, val_main_v25, val_main_v24, val_main_v23,
    val_main_cst_7, val_main_cst_8, val_main_cst_9]
  simp only [Fintype.sum_unique, he]
  rw [two_eq, mul_left_comm, two_mul_ereal, mul_comm (val_main_v16 X G Y (ix2 (R r) l))]

include hx hy hg in
theorem dx_at (r : Fin 512) (l : Fin 1024) :
    (k0_pay11 (F := Ideal) x (k0_pay1 g) (k0_pay3 x) (k0_pay4 x) (k0_pay7 x y g) k0_pay9 : Vec Ideal S512x1024 .f32) (ix2 r l)
      = (val_main_v50 (F := Ideal) X G Y : Vec Ideal S8192x1024 .f32) (ix2 (R r) l) := by
  have hi := inv_at hx
  have hd := dinv_at hx
  have hn := dn_at hx hy hg
  pointwise [k0_pay11, k0_pay1, val_main_v50, val_main_v49, val_main_v48, val_main_v47, val_main_v46, val_main_v45, val_main_v44, val_main_v43, val_main_v42,
    val_main_v41, val_main_v40, val_main_v39, val_main_v38, val_main_v37, val_main_v35, val_main_v34, val_main_v13, val_main_cst_14, val_main_cst_13, val_main_cst_12]
  simp only [Fintype.sum_unique, Fin.default_eq_zero, hx, hn, hg, hi, hd]

/-- A block's loss. -/
def lossPart (x y : Vec Ideal S512x1024 .f32) (g : Vec Ideal S1x1024 .f32) : EReal :=
  ∑ r : Fin 512, Ideal.div (∑ l : Fin 1024, (k0_pay6 (F := Ideal) x y g : Vec Ideal S512x1024 .f32) (ix2 r l) * (k0_pay6 (F := Ideal) x y g : Vec Ideal S512x1024 .f32) (ix2 r l))
    (Ideal.ofBits .f32 1149239296#32)
theorem loss_at (a : Vec Ideal S1x128 .f32) (i : S1x128.Idx) : (k0_pay14 (F := Ideal) (k0_pay8 x y g) a : Vec Ideal S1x128 .f32) i = a i + half * lossPart x y g := by
  unfold lossPart
  rw [eq_ix2 i]
  pointwise [k0_pay14, k0_pay8]
theorem loss0_at (i : S1x128.Idx) : (k0_pay12 (F := Ideal) : Vec Ideal S1x128 .f32) i = (0 : EReal) := by
  rw [eq_ix2 i]
  pointwise [k0_pay12]
/-- A block's part of the norm's gradient. -/
def normPart (x y : Vec Ideal S512x1024 .f32) (g : Vec Ideal S1x1024 .f32) (l : Fin 1024) : EReal :=
  ∑ r : Fin 512, x (ix2 r l) * (k0_pay3 (F := Ideal) x : Vec Ideal S512x1 .f32) (ix2 r 0) * (k0_pay10 (F := Ideal) (k0_pay7 x y g) k0_pay9 : Vec Ideal S512x1024 .f32) (ix2 r l)
theorem norm_at (a : Vec Ideal S1x1024 .f32) (i : S1x1024.Idx) :
    (k0_pay15 (F := Ideal) (k0_pay5 x) (k0_pay7 x y g) k0_pay9 a : Vec Ideal S1x1024 .f32) i = a i + normPart x y g (i 1) := by
  unfold normPart
  rw [eq_ix2 i]
  pointwise [k0_pay15, k0_pay5]
theorem norm0_at (i : S1x1024.Idx) : (k0_pay13 (F := Ideal) : Vec Ideal S1x1024 .f32) i = (0 : EReal) := by
  rw [eq_ix2 i]
  pointwise [k0_pay13]
end rows

variable (m : (ℓ : Loc nD τ sig) → Buf (Elt Ideal) ℓ) (c : Dev nD)

abbrev a0 : Vec Ideal S8192x1024 .f32 := m ((c : Thread nD τ).loc main_arg0)
abbrev a1 : Vec Ideal S1024 .f32 := m ((c : Thread nD τ).loc main_arg1)
abbrev a2 : Vec Ideal S8192x1024 .f32 := m ((c : Thread nD τ).loc main_arg2)

theorem idx : ∀ t : Fin cfg0.N, (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = t.val ∧ win0_3.index t 1 = 0) :=
  (by decide +kernel : ∀ t : Fin grid0.N, _)

/-- The rows of point `t`. -/
def row (t : Fin cfg0.N) (r : Fin 512) : Fin 8192 := ⟨t.val * 512 + r.val, by have := t.isLt; have : t.val < 16 := N_0 ▸ t.isLt; omega⟩

theorem blk0 (t : Fin cfg0.N) (r : Fin 512) (l : Fin 1024) : (iblk m c 0 t : Vec Ideal S512x1024 .f32) (ix2 r l) = a0 m c (ix2 (row t r) l) := by
  unfold row
  blk_point [iblk, V, idx t]
theorem blk1 (t : Fin cfg0.N) (r : Fin 512) (l : Fin 1024) : (iblk m c 1 t : Vec Ideal S512x1024 .f32) (ix2 r l) = a2 m c (ix2 (row t r) l) := by
  unfold row
  blk_point [iblk, V, idx t]
theorem gain (l : Fin 1024) : (V m c main_v0 : Vec Ideal S1x1024 .f32) (ix2 0 l) = a1 m c (ix1 l) := by
  unfold V
  after_reads_at
theorem blk2 (t : Fin cfg0.N) (l : Fin 1024) : (iblk m c 2 t : Vec Ideal S1x1024 .f32) (ix2 0 l) = a1 m c (ix1 l) := by
  rw [← gain]
  blk_point [iblk, idx t]

theorem after3 (t : Fin cfg0.N) : (dats m 0 c).after 3 t = k0_pay11 (F := Ideal) (iblk m c 0 t) (k0_pay1 (iblk m c 2 t)) (k0_pay3 (iblk m c 0 t)) (k0_pay4 (iblk m c 0 t))
    (k0_pay7 (iblk m c 0 t) (iblk m c 1 t) (iblk m c 2 t)) k0_pay9 := by
  rw [after0_3]
  by_cases h : t.val % 16 = 0
  · rw [outsAt0_A m c t h]; frame_out
  · rw [outsAt0_B m c t h]; frame_out

theorem point3 (t : Fin cfg0.N) (r : Fin 512) (l : Fin 1024) : ((dats m 0 c).after 3 t : Vec Ideal S512x1024 .f32) (ix2 r l)
    = (val_main_v50 (F := Ideal) (a0 m c) (a1 m c) (a2 m c) : Vec Ideal S8192x1024 .f32) (ix2 (row t r) l) := by
  rw [after3]
  exact dx_at (R := row t) (blk0 m c t) (blk1 m c t) (blk2 m c t) r l

theorem final3 : (dats m 0 c).arrAt 3 cfg0.N = val_main_v50 (F := Ideal) (a0 m c) (a1 m c) (a2 m c) := by
  refine (dats m 0 c).arrAt_eq_of_covers 3 _ (by decide +kernel) fun t hf y => ?_
  refine (congrArg _ (eq_ix2 y)).trans ((point3 m c t (y 0) (y 1)).trans (congrArg _ ?_))
  funext a
  match a with
  | 0 => exact Fin.ext (by show t.val * 512 + (y 0).val = win0_3.index t 0 * 512 + 1 * (y 0).val; rw [(idx t).2.2.2.1]; omega)
  | 1 => exact Fin.ext (by show (y 1).val = win0_3.index t 1 * 1024 + 1 * (y 1).val; rw [(idx t).2.2.2.2]; omega)

/-- The grid's last point. -/
def last : Fin cfg0.N := ⟨15, by rw [show cfg0.N = 16 from N_0]; omega⟩

/-- What point `t` adds to the loss. -/
def lossAt (t : Fin cfg0.N) : EReal := lossPart (iblk m c 0 t) (iblk m c 1 t) (iblk m c 2 t)
theorem after4 (i : S1x128.Idx) : (outsAt0 m c last.val last.isLt).2.1 i = (0 : EReal) + ∑ t : Fin cfg0.N, half * lossAt m c t :=
  Pipeline.eq_sum_fin_of_reset_step_apply_last (fun n h => (outsAt0 m c n h).2.1) 16 (fun _ => (0 : EReal)) (fun t _ => half * lossAt m c t)
    (fun t h i => by rw [outsAt0_A m c t h]; frame_out; rw [loss_at, loss0_at]; rfl)
    (fun t h i => by rw [outsAt0_B m c t h]; frame_out; rw [loss_at]; rfl) (le_of_eq N_0) last rfl i
theorem sum4 (i : S1x128.Idx) : (0 : EReal) + ∑ t : Fin cfg0.N, half * lossAt m c t
    = (val_main_v51 (F := Ideal) (a0 m c) (a1 m c) (a2 m c) : Vec Ideal S1x128 .f32) i := by
  rw [zero_add, eq_ix2 i]
  pointwise [val_main_v51, val_main_v22, val_main_v21, val_main_v20, val_main_v19, val_main_v18, val_main_v17, val_main_cst_6, val_main_cst_5, val_main_cst_4,
    val_main_cst_3]
  refine (map_sum halve _ _).symm.trans (congrArg (half * ·) ?_)
  unfold lossAt lossPart
  refine Fin.sum_mul_add_congr (fun t x hl => ?_) (congrArg (· * 512) N_0).symm
  have e := fun l => err_at (R := row t) (blk0 m c t) (blk1 m c t) (blk2 m c t) x l
  exact congrArg (Ideal.div · _) (Finset.sum_congr rfl fun l _ => congrArg₂ (· * ·) (e l) (e l))
theorem final4 : (dats m 0 c).arrAt 4 cfg0.N = val_main_v51 (F := Ideal) (a0 m c) (a1 m c) (a2 m c) := by
  refine (dats m 0 c).arrAt_eq_of_after_last 4 last (by decide +kernel) _ fun j => ?_
  rw [after0_4]
  exact (after4 m c j).trans (sum4 m c j)

/-- What point `t` adds to the norm's gradient. -/
def normAt (t : Fin cfg0.N) (i : S1x1024.Idx) : EReal := normPart (iblk m c 0 t) (iblk m c 1 t) (iblk m c 2 t) (i 1)
theorem after5 (i : S1x1024.Idx) : (outsAt0 m c last.val last.isLt).2.2 i = (0 : EReal) + ∑ t : Fin cfg0.N, normAt m c t i :=
  Pipeline.eq_sum_fin_of_reset_step_apply_last (fun n h => (outsAt0 m c n h).2.2) 16 (fun _ => (0 : EReal)) (normAt m c)
    (fun t h i => by rw [outsAt0_A m c t h]; frame_out; rw [norm_at, norm0_at]; rfl)
    (fun t h i => by rw [outsAt0_B m c t h]; frame_out; rw [norm_at]; rfl) (le_of_eq N_0) last rfl i
theorem sum5 (i : S1x1024.Idx) : (0 : EReal) + ∑ t : Fin cfg0.N, normAt m c t i
    = (val_main_v52 (F := Ideal) (a0 m c) (a1 m c) (a2 m c) : Vec Ideal S1x1024 .f32) i := by
  rw [zero_add, eq_ix2 i]
  pointwise [val_main_v52, val_main_v36, val_main_v33, val_main_v32, val_main_v31, val_main_v12, val_main_v11, val_main_cst_11, val_main_cst_10]
  refine Eq.trans ?_ (Fintype.sum_unique (ι := Fin 1) _).symm
  unfold normAt normPart
  refine Fin.sum_mul_add_congr (fun t x hl => ?_) (congrArg (· * 512) N_0).symm
  exact congrArg₂ (· * ·) (congrArg₂ (· * ·) (blk0 m c t x (i 1)) (inv_at (R := row t) (blk0 m c t) x))
    (dn_at (R := row t) (blk0 m c t) (blk1 m c t) (blk2 m c t) x (i 1))
theorem final5 : (dats m 0 c).arrAt 5 cfg0.N = val_main_v52 (F := Ideal) (a0 m c) (a1 m c) (a2 m c) := by
  refine (dats m 0 c).arrAt_eq_of_after_last 5 last (by decide +kernel) _ fun j => ?_
  rw [after0_5]
  exact (after5 m c j).trans (sum5 m c j)

end Cert.LossHeadIdeal.Value

end
-- ==== Proof.LossHeadTie.lean ====
/-
  The loss and the gradient through it and the last norm against its reference: every result of the kernel is the
  reference's, and no condition is put on the arguments.
-/
module

public import proofs.«01_k».proof.Defs
public import proofs.«01_k».proof.Proof.LossHeadKernel
public import proofs.«01_k».proof.Proof.Gen.LossHeadRefIdeal.Run

@[expose] public section

set_option maxRecDepth 16384

noncomputable section

namespace LossHeadTie

open Idealize.ShloMosaic Idealize.SL.Sem Cert.LossHeadIdeal.Value Cert.LossHeadRefIdeal.Read

theorem value : Cert.algebraic_LossHeadIdeal_LossHeadRefIdeal (hLossHeadIdeal := Cert.LossHeadIdeal.Gen.facts) (hLossHeadRefIdeal := Cert.LossHeadRefIdeal.Gen.facts) := by
  intro m g m' g' _ hm
  refine ⟨fun c => val_main_v50 (F := Ideal) (a0 m c) (a1 m c) (a2 m c),
    fun c => val_main_v51 (F := Ideal) (a0 m c) (a1 m c) (a2 m c),
    fun c => val_main_v52 (F := Ideal) (a0 m c) (a1 m c) (a2 m c),
    (θ_run _ _ _).mono (fun r h c => ?_) (run_blocks m g),
    (θ_run _ _ _).mono (fun r h c => ?_) (Cert.LossHeadRefIdeal.Value.run m' g')⟩
  · obtain ⟨r0, r1, r2, kept⟩ := h c
    exact ⟨r0.trans (final3 m c), r1.trans (final4 m c), r2.trans (final5 m c), kept⟩
  · obtain ⟨r0, r1, r2, kept⟩ := h c
    obtain ⟨e0, e1, e2⟩ := hm c
    refine ⟨r0.trans ((val_main_v50_eq m' c).trans ?_),
      r1.trans ((val_main_v51_eq ..).trans ?_),
      r2.trans ((val_main_v52_eq ..).trans ?_), kept⟩
    · rw [e0, e1, e2]
    · rw [e0, e1, e2]
    · rw [e0, e1, e2]

end LossHeadTie
end
-- ==== Proof.OdInBwdKernel.lean ====
/-
  The gradient of a normalised product against its reference. Each point of the kernel's grid holds 256 rows: it leaves
  their rows of the input's gradient, and adds their parts of the norm's gradient and of the weight's gradient into the
  blocks the grid shares.
-/
module

public import proofs.«01_k».proof.Proof.Gen.OdInBwdIdeal.Value
public import proofs.«01_k».proof.Proof.Gen.OdInBwdRefIdeal.Read
public import Idealize.ShloMosaic.Lib.Pipeline.ValueKit
public import Idealize.ShloMosaic.Lib.Pointwise
public import Idealize.ShloMosaic.Lib.StableHlo.ReadAt

@[expose] public section

set_option maxRecDepth 16384

noncomputable section

namespace Cert.OdInBwdIdeal.Value

open Idealize.ShloMosaic Idealize.ShloMosaic.TcCoe Idealize.SL.Sem Cert.OdInBwdIdeal Cert.OdInBwdIdeal.Gen
open Cert.OdInBwdRefIdeal.Read

section rows
/-! A block of rows beside the rows `R` of the whole arrays. -/
variable {x x1 x2 x3 x4 y : Vec Ideal S256x1024 .f32} {X X1 X2 X3 X4 Y : Vec Ideal S8192x1024 .f32} {g : Vec Ideal S1x1024 .f32} {G : Vec Ideal S1024 .f32}
  {w : Vec Ideal S1024x4096 .bf16} {R : Fin 256 → Fin 8192}
  (hx : ∀ r l, x (ix2 r l) = X (ix2 (R r) l)) (h1 : ∀ r l, x1 (ix2 r l) = X1 (ix2 (R r) l)) (h2 : ∀ r l, x2 (ix2 r l) = X2 (ix2 (R r) l))
  (h3 : ∀ r l, x3 (ix2 r l) = X3 (ix2 (R r) l)) (h4 : ∀ r l, x4 (ix2 r l) = X4 (ix2 (R r) l)) (hy : ∀ r l, y (ix2 r l) = Y (ix2 (R r) l))
  (hg : ∀ l, g (ix2 0 l) = G (ix1 l))

include hx in
theorem inv_at (r : Fin 256) : (k0_pay9 (F := Ideal) x : Vec Ideal S256x1 .f32) (ix2 r 0) = (val_main_v8 (F := Ideal) X : Vec Ideal Cert.OdInBwdRefIdeal.S8192x1 .f32) (ix2 (R r) 0) := by
  pointwise [k0_pay9, k0_pay8, val_main_v8, val_main_v7, val_main_v6, val_main_v5, val_main_v4, val_main_v3, val_main_v2, val_main_v1, val_main_cst,
    val_main_cst_0, val_main_cst_1]
  simp only [hx]

include hx in
theorem dinv_at (r : Fin 256) : (k0_pay10 (F := Ideal) x : Vec Ideal S256x1 .f32) (ix2 r 0) = (val_main_v11 (F := Ideal) X : Vec Ideal Cert.OdInBwdRefIdeal.S8192x1 .f32) (ix2 (R r) 0) := by
  pointwise [k0_pay10, k0_pay9, k0_pay8, val_main_v11, val_main_v10, val_main_v9, val_main_v8, val_main_v7, val_main_v6, val_main_v5, val_main_v4,
    val_main_v3, val_main_v2, val_main_v1, val_main_cst, val_main_cst_0, val_main_cst_1, val_main_cst_2]
  simp only [hx]

include h1 h2 h3 h4 in
theorem dz_at (r : Fin 256) (l : Fin 4096) : (k0_pay6 (F := Ideal) x1 x2 x3 x4 : Vec Ideal S256x4096 .f32) (ix2 r l)
    = (val_main_v18 (F := Ideal) X1 X2 X3 X4 : Vec Ideal Cert.OdInBwdRefIdeal.S8192x4096 .f32) (ix2 (R r) l) := by
  pointwise [k0_pay6, val_main_v18]
  simp only [h1, h2, h3, h4]

include h1 h2 h3 h4 in
theorem dh_at (r : Fin 256) (l : Fin 1024) : (k0_pay13 (F := Ideal) x1 x2 x3 x4 w : Vec Ideal S256x1024 .f32) (ix2 r l)
    = (val_main_v21 (F := Ideal) w X1 X2 X3 X4 : Vec Ideal S8192x1024 .f32) (ix2 (R r) l) := by
  have hz := dz_at h1 h2 h3 h4
  pointwise [k0_pay13, val_main_v21, val_main_v0]
  simp only [hz]

include hx h1 h2 h3 h4 hy hg in
/-- The input's gradient: the direct part, the part through the norm, and what the residual carried. -/
theorem dx_at (r : Fin 256) (l : Fin 1024) :
    (k0_pay1 (F := Ideal) x y (k0_pay10 x) (k0_pay15 x1 x2 x3 x4 w g) (k0_pay16 x x1 x2 x3 x4 w g) (k0_pay17 x) : Vec Ideal S256x1024 .f32) (ix2 r l)
      = (val_main_v42 (F := Ideal) X G w X1 X2 X3 X4 Y : Vec Ideal S8192x1024 .f32) (ix2 (R r) l) := by
  have hi := inv_at hx
  have hd := dinv_at hx
  have hh := dh_at (w := w) h1 h2 h3 h4
  pointwise [k0_pay1, k0_pay16, k0_pay15, k0_pay17, k0_pay7, val_main_v42, val_main_v41, val_main_v40, val_main_v39, val_main_v38, val_main_v37, val_main_v36,
    val_main_v35, val_main_v34, val_main_v33, val_main_v32, val_main_v31, val_main_v30, val_main_v29, val_main_v28, val_main_v26, val_main_v25, val_main_v14,
    val_main_cst_7, val_main_cst_6, val_main_cst_5]
  simp only [Fintype.sum_unique, Fin.default_eq_zero, hx, hh, hg, hi, hd, hy]
  rw [add_comm]
  simp only [add_assoc]

/-- A block's part of the norm's gradient. -/
def normPart (x x1 x2 x3 x4 : Vec Ideal S256x1024 .f32) (w : Vec Ideal S1024x4096 .bf16) (l : Fin 1024) : EReal :=
  ∑ r : Fin 256, x (ix2 r l) * (k0_pay9 (F := Ideal) x : Vec Ideal S256x1 .f32) (ix2 r 0) * (k0_pay13 (F := Ideal) x1 x2 x3 x4 w : Vec Ideal S256x1024 .f32) (ix2 r l)
theorem norm_at (a : Vec Ideal S1x1024 .f32) (i : S1x1024.Idx) :
    (k0_pay4 (F := Ideal) (k0_pay14 x x1 x2 x3 x4 w) a : Vec Ideal S1x1024 .f32) i = a i + normPart x x1 x2 x3 x4 w (i 1) := by
  unfold normPart
  rw [eq_ix2 i]
  pointwise [k0_pay4, k0_pay14, k0_pay11]
theorem norm0_at (i : S1x1024.Idx) : (k0_pay2 (F := Ideal) : Vec Ideal S1x1024 .f32) i = (0 : EReal) := by
  rw [eq_ix2 i]
  pointwise [k0_pay2]
/-- A block's part of the weight's gradient. -/
def weightPart (x x1 x2 x3 x4 : Vec Ideal S256x1024 .f32) (g : Vec Ideal S1x1024 .f32) (i : S1024x4096.Idx) : EReal :=
  ∑ r : Fin 256, x (ix2 r (i 0)) * (k0_pay9 (F := Ideal) x : Vec Ideal S256x1 .f32) (ix2 r 0) * g (ix2 0 (i 0)) * (k0_pay6 (F := Ideal) x1 x2 x3 x4 : Vec Ideal S256x4096 .f32) (ix2 r (i 1))
theorem weight_at (a : Vec Ideal S1024x4096 .f32) (i : S1024x4096.Idx) :
    (k0_pay5 (F := Ideal) (k0_pay6 x1 x2 x3 x4) (k0_pay12 x g) a : Vec Ideal S1024x4096 .f32) i = a i + weightPart x x1 x2 x3 x4 g i := by
  unfold weightPart
  rw [eq_ix2 i]
  pointwise [k0_pay5, k0_pay12, k0_pay11, k0_pay7]
theorem weight0_at (i : S1024x4096.Idx) : (k0_pay3 (F := Ideal) : Vec Ideal S1024x4096 .f32) i = (0 : EReal) := by
  rw [eq_ix2 i]
  pointwise [k0_pay3]
end rows

variable (m : (ℓ : Loc nD τ sig) → Buf (Elt Ideal) ℓ) (c : Dev nD)

abbrev a0 : Vec Ideal S8192x1024 .f32 := m ((c : Thread nD τ).loc main_arg0)
abbrev a1 : Vec Ideal S1024 .f32 := m ((c : Thread nD τ).loc main_arg1)
abbrev a2 : Vec Ideal S1024x4096 .bf16 := m ((c : Thread nD τ).loc main_arg2)
abbrev a3 : Vec Ideal S8192x1024 .f32 := m ((c : Thread nD τ).loc main_arg3)
abbrev a4 : Vec Ideal S8192x1024 .f32 := m ((c : Thread nD τ).loc main_arg4)
abbrev a5 : Vec Ideal S8192x1024 .f32 := m ((c : Thread nD τ).loc main_arg5)
abbrev a6 : Vec Ideal S8192x1024 .f32 := m ((c : Thread nD τ).loc main_arg6)
abbrev a7 : Vec Ideal S8192x1024 .f32 := m ((c : Thread nD τ).loc main_arg7)

theorem idx : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 0) ∧ (win0_5.index t 0 = t.val ∧ win0_5.index t 1 = 0)
    ∧ (win0_6.index t 0 = 0 ∧ win0_6.index t 1 = 0) ∧ (win0_7.index t 0 = 0 ∧ win0_7.index t 1 = 0)
    ∧ (win0_8.index t 0 = t.val ∧ win0_8.index t 1 = 0) :=
  (by decide +kernel : ∀ t : Fin grid0.N, _)

/-- The rows of point `t`. -/
def row (t : Fin cfg0.N) (r : Fin 256) : Fin 8192 := ⟨t.val * 256 + r.val, by have := t.isLt; have : t.val < 32 := N_0 ▸ t.isLt; omega⟩

theorem blk0 (t : Fin cfg0.N) (r : Fin 256) (l : Fin 1024) : (iblk m c 0 t : Vec Ideal S256x1024 .f32) (ix2 r l) = a0 m c (ix2 (row t r) l) := by
  unfold row
  blk_point [iblk, V, idx t]
theorem blk1 (t : Fin cfg0.N) (r : Fin 256) (l : Fin 1024) : (iblk m c 1 t : Vec Ideal S256x1024 .f32) (ix2 r l) = a3 m c (ix2 (row t r) l) := by
  unfold row
  blk_point [iblk, V, idx t]
theorem gain (l : Fin 1024) : (V m c main_v0 : Vec Ideal S1x1024 .f32) (ix2 0 l) = a1 m c (ix1 l) := by
  unfold V
  after_reads_at
theorem blk6 (t : Fin cfg0.N) (l : Fin 1024) : (iblk m c 6 t : Vec Ideal S1x1024 .f32) (ix2 0 l) = a1 m c (ix1 l) := by
  rw [← gain]
  blk_point [iblk, idx t]
theorem blk2 (t : Fin cfg0.N) (r : Fin 256) (l : Fin 1024) : (iblk m c 2 t : Vec Ideal S256x1024 .f32) (ix2 r l) = a4 m c (ix2 (row t r) l) := by
  unfold row
  blk_point [iblk, V, idx t]
theorem blk3 (t : Fin cfg0.N) (r : Fin 256) (l : Fin 1024) : (iblk m c 3 t : Vec Ideal S256x1024 .f32) (ix2 r l) = a5 m c (ix2 (row t r) l) := by
  unfold row
  blk_point [iblk, V, idx t]
theorem blk4 (t : Fin cfg0.N) (r : Fin 256) (l : Fin 1024) : (iblk m c 4 t : Vec Ideal S256x1024 .f32) (ix2 r l) = a6 m c (ix2 (row t r) l) := by
  unfold row
  blk_point [iblk, V, idx t]
theorem blk5 (t : Fin cfg0.N) (r : Fin 256) (l : Fin 1024) : (iblk m c 5 t : Vec Ideal S256x1024 .f32) (ix2 r l) = a7 m c (ix2 (row t r) l) := by
  unfold row
  blk_point [iblk, V, idx t]
theorem blk7 (t : Fin cfg0.N) : (iblk m c 7 t : Vec Ideal S1024x4096 .bf16) = a2 m c := by
  funext i
  rw [eq_ix2 i]
  blk_point [iblk, V, idx t]

theorem after8 (t : Fin cfg0.N) : (dats m 0 c).after 8 t = k0_pay1 (F := Ideal) (iblk m c 0 t) (iblk m c 5 t) (k0_pay10 (iblk m c 0 t))
    (k0_pay15 (iblk m c 1 t) (iblk m c 2 t) (iblk m c 3 t) (iblk m c 4 t) (iblk m c 7 t) (iblk m c 6 t))
    (k0_pay16 (iblk m c 0 t) (iblk m c 1 t) (iblk m c 2 t) (iblk m c 3 t) (iblk m c 4 t) (iblk m c 7 t) (iblk m c 6 t)) (k0_pay17 (iblk m c 0 t)) := by
  rw [after0_8]
  by_cases h : t.val % 32 = 0
  · rw [outsAt0_A m c t h]; frame_out
  · rw [outsAt0_B m c t h]; frame_out

theorem point8 (t : Fin cfg0.N) (r : Fin 256) (l : Fin 1024) : ((dats m 0 c).after 8 t : Vec Ideal S256x1024 .f32) (ix2 r l)
    = (val_main_v42 (F := Ideal) (a0 m c) (a1 m c) (a2 m c) (a3 m c) (a4 m c) (a5 m c) (a6 m c) (a7 m c) : Vec Ideal S8192x1024 .f32) (ix2 (row t r) l) := by
  rw [after8, blk7]
  exact dx_at (R := row t) (blk0 m c t) (blk1 m c t) (blk2 m c t) (blk3 m c t) (blk4 m c t) (blk5 m c t) (blk6 m c t) r l

theorem final8 : (dats m 0 c).arrAt 8 cfg0.N
    = val_main_v42 (F := Ideal) (a0 m c) (a1 m c) (a2 m c) (a3 m c) (a4 m c) (a5 m c) (a6 m c) (a7 m c) := by
  refine (dats m 0 c).arrAt_eq_of_covers 8 _ (by decide +kernel) fun t hf y => ?_
  refine (congrArg _ (eq_ix2 y)).trans ((point8 m c t (y 0) (y 1)).trans (congrArg _ ?_))
  funext a
  match a with
  | 0 => exact Fin.ext (by show t.val * 256 + (y 0).val = win0_8.index t 0 * 256 + 1 * (y 0).val; rw [(idx t).2.2.2.2.2.2.2.2.1]; omega)
  | 1 => exact Fin.ext (by show (y 1).val = win0_8.index t 1 * 1024 + 1 * (y 1).val; rw [(idx t).2.2.2.2.2.2.2.2.2]; omega)

/-- The grid's last point. -/
def last : Fin cfg0.N := ⟨31, by rw [show cfg0.N = 32 from N_0]; omega⟩

/-- What point `t` adds to the norm's gradient. -/
def normAt (t : Fin cfg0.N) (i : S1x1024.Idx) : EReal :=
  normPart (iblk m c 0 t) (iblk m c 1 t) (iblk m c 2 t) (iblk m c 3 t) (iblk m c 4 t) (iblk m c 7 t) (i 1)
theorem after9 (i : S1x1024.Idx) : (outsAt0 m c last.val last.isLt).2.1 i = (0 : EReal) + ∑ t : Fin cfg0.N, normAt m c t i :=
  Pipeline.eq_sum_fin_of_reset_step_apply_last (fun n h => (outsAt0 m c n h).2.1) 32 (fun _ => (0 : EReal)) (normAt m c)
    (fun t h i => by rw [outsAt0_A m c t h]; frame_out; rw [norm_at, norm0_at]; rfl)
    (fun t h i => by rw [outsAt0_B m c t h]; frame_out; rw [norm_at]; rfl) (le_of_eq N_0) last rfl i
theorem sum9 (i : S1x1024.Idx) : (0 : EReal) + ∑ t : Fin cfg0.N, normAt m c t i
    = (val_main_v43 (F := Ideal) (a0 m c) (a2 m c) (a3 m c) (a4 m c) (a5 m c) (a6 m c) : Vec Ideal S1x1024 .f32) i := by
  rw [zero_add, eq_ix2 i]
  pointwise [val_main_v43, val_main_v27, val_main_v24, val_main_v23, val_main_v22, val_main_v13, val_main_v12, val_main_cst_4, val_main_cst_3]
  refine Eq.trans ?_ (Fintype.sum_unique (ι := Fin 1) _).symm
  unfold normAt normPart
  refine Fin.sum_mul_add_congr (fun t x hl => ?_) (congrArg (· * 256) N_0).symm
  rw [blk7]
  exact congrArg₂ (· * ·) (congrArg₂ (· * ·) (blk0 m c t x (i 1)) (inv_at (R := row t) (blk0 m c t) x))
    (dh_at (R := row t) (blk1 m c t) (blk2 m c t) (blk3 m c t) (blk4 m c t) x (i 1))
theorem final9 : (dats m 0 c).arrAt 9 cfg0.N = val_main_v43 (F := Ideal) (a0 m c) (a2 m c) (a3 m c) (a4 m c) (a5 m c) (a6 m c) := by
  refine (dats m 0 c).arrAt_eq_of_after_last 9 last (by decide +kernel) _ fun j => ?_
  rw [after0_9]
  exact (after9 m c j).trans (sum9 m c j)

/-- What point `t` adds to the weight's gradient. -/
def weightAt (t : Fin cfg0.N) (i : S1024x4096.Idx) : EReal :=
  weightPart (iblk m c 0 t) (iblk m c 1 t) (iblk m c 2 t) (iblk m c 3 t) (iblk m c 4 t) (iblk m c 6 t) i
theorem after10 (i : S1024x4096.Idx) : (outsAt0 m c last.val last.isLt).2.2 i = (0 : EReal) + ∑ t : Fin cfg0.N, weightAt m c t i :=
  Pipeline.eq_sum_fin_of_reset_step_apply_last (fun n h => (outsAt0 m c n h).2.2) 32 (fun _ => (0 : EReal)) (weightAt m c)
    (fun t h i => by rw [outsAt0_A m c t h]; frame_out; rw [weight_at, weight0_at]; rfl)
    (fun t h i => by rw [outsAt0_B m c t h]; frame_out; rw [weight_at]; rfl) (le_of_eq N_0) last rfl i
theorem sum10 (i : S1024x4096.Idx) : (0 : EReal) + ∑ t : Fin cfg0.N, weightAt m c t i
    = (val_main_v20 (F := Ideal) (a0 m c) (a1 m c) (a3 m c) (a4 m c) (a5 m c) (a6 m c) : Vec Ideal S1024x4096 .f32) i := by
  rw [zero_add, eq_ix2 i]
  pointwise [val_main_v20, val_main_v19, val_main_v16, val_main_v15, val_main_v14, val_main_v13, val_main_v12]
  unfold weightAt weightPart
  refine Fin.sum_mul_add_congr (fun t x hl => ?_) (congrArg (· * 256) N_0).symm
  rw [mul_comm]
  exact congrArg₂ (· * ·) (dz_at (R := row t) (blk1 m c t) (blk2 m c t) (blk3 m c t) (blk4 m c t) x (i 1))
    (congrArg₂ (· * ·) (congrArg₂ (· * ·) (blk0 m c t x (i 0)) (inv_at (R := row t) (blk0 m c t) x)) (blk6 m c t (i 0)))
theorem final10 : (dats m 0 c).arrAt 10 cfg0.N = val_main_v20 (F := Ideal) (a0 m c) (a1 m c) (a3 m c) (a4 m c) (a5 m c) (a6 m c) := by
  refine (dats m 0 c).arrAt_eq_of_after_last 10 last (by decide +kernel) _ fun j => ?_
  rw [after0_10]
  exact (after10 m c j).trans (sum10 m c j)

end Cert.OdInBwdIdeal.Value
end
-- ==== Proof.OdInBwdTie.lean ====
/-
  The gradient through the odd layer's input norm and product against its reference: every result of the kernel is the
  reference's, and no condition is put on the arguments.
-/
module

public import proofs.«01_k».proof.Defs
public import proofs.«01_k».proof.Proof.OdInBwdKernel
public import proofs.«01_k».proof.Proof.Gen.OdInBwdRefIdeal.Run

@[expose] public section

set_option maxRecDepth 16384

noncomputable section

namespace OdInBwdTie

open Idealize.ShloMosaic Idealize.SL.Sem Cert.OdInBwdIdeal.Value Cert.OdInBwdRefIdeal.Read

theorem value : Cert.algebraic_OdInBwdIdeal_OdInBwdRefIdeal (hOdInBwdIdeal := Cert.OdInBwdIdeal.Gen.facts) (hOdInBwdRefIdeal := Cert.OdInBwdRefIdeal.Gen.facts) := by
  intro m g m' g' _ hm
  refine ⟨fun c => val_main_v42 (F := Ideal) (a0 m c) (a1 m c) (a2 m c) (a3 m c) (a4 m c) (a5 m c) (a6 m c) (a7 m c),
    fun c => val_main_v43 (F := Ideal) (a0 m c) (a2 m c) (a3 m c) (a4 m c) (a5 m c) (a6 m c),
    fun c => val_main_v20 (F := Ideal) (a0 m c) (a1 m c) (a3 m c) (a4 m c) (a5 m c) (a6 m c),
    (θ_run _ _ _).mono (fun r h c => ?_) (run_blocks m g),
    (θ_run _ _ _).mono (fun r h c => ?_) (Cert.OdInBwdRefIdeal.Value.run m' g')⟩
  · obtain ⟨r0, r1, r2, kept⟩ := h c
    exact ⟨r0.trans (final8 m c), r1.trans (final9 m c), r2.trans (final10 m c), kept⟩
  · obtain ⟨r0, r1, r2, kept⟩ := h c
    obtain ⟨e0, e1, e2, e3, e4, e5, e6, e7⟩ := hm c
    refine ⟨r0.trans ((val_main_v42_eq m' c).trans ?_),
      r1.trans ((val_main_v43_eq ..).trans ?_),
      r2.trans ((val_main_v20_eq ..).trans ?_), kept⟩
    · rw [e0, e1, e2, e3, e4, e5, e6, e7]
    · rw [e0, e2, e3, e4, e5, e6]
    · rw [e0, e1, e3, e4, e5, e6]

end OdInBwdTie
end
-- ==== Proof.EvInBwdKernel.lean ====
/-
  The gradient of the even layers' normalised input product against its reference. Each point of the kernel's grid holds
  256 rows of the eight cotangents that stand side by side: it leaves their rows of the input's gradient, and adds their
  parts of the norm's gradient and of the weight's gradient into the blocks the grid shares.
-/
module

public import proofs.«01_k».proof.Proof.Gen.EvInBwdIdeal.Value
public import proofs.«01_k».proof.Proof.Gen.EvInBwdRefIdeal.Read
public import Idealize.ShloMosaic.Lib.Pipeline.ValueKit
public import Idealize.ShloMosaic.Lib.Pointwise
public import Idealize.ShloMosaic.Lib.StableHlo.ReadAt

@[expose] public section

set_option maxRecDepth 16384

noncomputable section

namespace Cert.EvInBwdIdeal.Value

open Idealize.ShloMosaic Idealize.ShloMosaic.TcCoe Idealize.SL.Sem Cert.EvInBwdIdeal Cert.EvInBwdIdeal.Gen
open Cert.EvInBwdRefIdeal.Read

section rows
/-! A block of rows beside the rows `R` of the whole arrays. -/
variable {x y : Vec Ideal S256x1024 .f32} {x1 x2 x3 x4 : Vec Ideal S256x128 .f32} {x5 x6 x7 x8 : Vec Ideal S256x512 .f32}
  {X Y : Vec Ideal S8192x1024 .f32} {X1 X2 X3 X4 : Vec Ideal S8192x128 .f32} {X5 X6 X7 X8 : Vec Ideal S8192x512 .f32}
  {g : Vec Ideal S1x1024 .f32} {G : Vec Ideal S1024 .f32} {w : Vec Ideal S1024x2560 .bf16} {R : Fin 256 → Fin 8192}
  (hx : ∀ r l, x (ix2 r l) = X (ix2 (R r) l)) (hy : ∀ r l, y (ix2 r l) = Y (ix2 (R r) l)) (hg : ∀ l, g (ix2 0 l) = G (ix1 l))
  (h1 : ∀ r l, x1 (ix2 r l) = X1 (ix2 (R r) l))
  (h2 : ∀ r l, x2 (ix2 r l) = X2 (ix2 (R r) l))
  (h3 : ∀ r l, x3 (ix2 r l) = X3 (ix2 (R r) l))
  (h4 : ∀ r l, x4 (ix2 r l) = X4 (ix2 (R r) l))
  (h5 : ∀ r l, x5 (ix2 r l) = X5 (ix2 (R r) l))
  (h6 : ∀ r l, x6 (ix2 r l) = X6 (ix2 (R r) l))
  (h7 : ∀ r l, x7 (ix2 r l) = X7 (ix2 (R r) l))
  (h8 : ∀ r l, x8 (ix2 r l) = X8 (ix2 (R r) l))

include hx in
theorem inv_at (r : Fin 256) : (k0_pay10 (F := Ideal) x : Vec Ideal S256x1 .f32) (ix2 r 0) = (val_main_v9 (F := Ideal) X : Vec Ideal Cert.EvInBwdRefIdeal.S8192x1 .f32) (ix2 (R r) 0) := by
  pointwise [k0_pay10, k0_pay9, val_main_v9, val_main_v8, val_main_v7, val_main_v6, val_main_v5, val_main_v4, val_main_v3, val_main_v2, val_main_cst,
    val_main_cst_0, val_main_cst_1]
  simp only [hx]

include hx in
theorem dinv_at (r : Fin 256) : (k0_pay11 (F := Ideal) x : Vec Ideal S256x1 .f32) (ix2 r 0) = (val_main_v12 (F := Ideal) X : Vec Ideal Cert.EvInBwdRefIdeal.S8192x1 .f32) (ix2 (R r) 0) := by
  pointwise [k0_pay11, k0_pay10, k0_pay9, val_main_v12, val_main_v11, val_main_v10, val_main_v9, val_main_v8, val_main_v7, val_main_v6, val_main_v5, val_main_v4,
    val_main_v3, val_main_v2, val_main_cst, val_main_cst_0, val_main_cst_1, val_main_cst_2]
  simp only [hx]

include h1 h2 h3 h4 h5 h6 h7 h8 in
theorem dz_at (r : Fin 256) (l : Fin 2560) : (k0_pay7 (F := Ideal) x1 x2 x3 x4 x5 x6 x7 x8 : Vec Ideal S256x2560 .f32) (ix2 r l)
    = (val_main_v0 (F := Ideal) X1 X2 X3 X4 X5 X6 X7 X8 : Vec Ideal Cert.EvInBwdRefIdeal.S8192x2560 .f32) (ix2 (R r) l) := by
  pointwise [k0_pay7, val_main_v0]
  simp only [h1, h2, h3, h4, h5, h6, h7, h8]

include h1 h2 h3 h4 h5 h6 h7 h8 in
theorem dh_at (r : Fin 256) (l : Fin 1024) : (k0_pay1 (F := Ideal) w (k0_pay14 x1 x2 x3 x4 x5 x6 x7 x8) (constant S256x1024 .f32 0#32) : Vec Ideal S256x1024 .f32) (ix2 r l)
    = (val_main_v21 (F := Ideal) w X1 X2 X3 X4 X5 X6 X7 X8 : Vec Ideal S8192x1024 .f32) (ix2 (R r) l) := by
  have hz := dz_at h1 h2 h3 h4 h5 h6 h7 h8
  pointwise [k0_pay1, k0_pay14, val_main_v21, val_main_v1]
  simp only [hz]

include hx hy hg h1 h2 h3 h4 h5 h6 h7 h8 in
/-- The input's gradient: the direct part, the part through the norm, and what the residual carried. -/
theorem dx_at (r : Fin 256) (l : Fin 1024) :
    (k0_pay2 (F := Ideal) x y w (k0_pay8 g) (k0_pay10 x) (k0_pay11 x) (k0_pay14 x1 x2 x3 x4 x5 x6 x7 x8) (constant S256x1024 .f32 0#32) : Vec Ideal S256x1024 .f32) (ix2 r l)
      = (val_main_v42 (F := Ideal) X G w X1 X2 X3 X4 X5 X6 X7 X8 Y : Vec Ideal S8192x1024 .f32) (ix2 (R r) l) := by
  have hi := inv_at hx
  have hd := dinv_at hx
  have hh := dh_at (w := w) h1 h2 h3 h4 h5 h6 h7 h8
  pointwise [k0_pay2, k0_pay8, val_main_v42, val_main_v41, val_main_v40, val_main_v39, val_main_v38, val_main_v37, val_main_v36,
    val_main_v35, val_main_v34, val_main_v33, val_main_v32, val_main_v31, val_main_v30, val_main_v29, val_main_v28, val_main_v26, val_main_v25, val_main_v15,
    val_main_cst_7, val_main_cst_6, val_main_cst_5]
  simp only [Fintype.sum_unique, Fin.default_eq_zero, hx, hh, hg, hi, hd, hy]
  rw [add_comm]
  simp only [add_assoc]

/-- A block's part of the norm's gradient: the column sums of the normalised rows times `z`. -/
def normPart (x z : Vec Ideal S256x1024 .f32) (l : Fin 1024) : EReal :=
  ∑ r : Fin 256, x (ix2 r l) * (k0_pay10 (F := Ideal) x : Vec Ideal S256x1 .f32) (ix2 r 0) * z (ix2 r l)
theorem norm_at (z : Vec Ideal S256x2560 .bf16) (a : Vec Ideal S1x1024 .f32) (i : S1x1024.Idx) :
    (k0_pay5 (F := Ideal) w (k0_pay12 x) z (constant S256x1024 .f32 0#32) a : Vec Ideal S1x1024 .f32) i
      = a i + normPart x (k0_pay1 (F := Ideal) w z (constant S256x1024 .f32 0#32)) (i 1) := by
  unfold normPart
  rw [eq_ix2 i]
  pointwise [k0_pay5, k0_pay12]
theorem norm0_at (i : S1x1024.Idx) : (k0_pay3 (F := Ideal) : Vec Ideal S1x1024 .f32) i = (0 : EReal) := by
  rw [eq_ix2 i]
  pointwise [k0_pay3]
/-- A block's part of the weight's gradient. -/
def weightPart (x : Vec Ideal S256x1024 .f32) (z : Vec Ideal S256x2560 .f32) (g : Vec Ideal S1x1024 .f32) (i : S1024x2560.Idx) : EReal :=
  ∑ r : Fin 256, x (ix2 r (i 0)) * (k0_pay10 (F := Ideal) x : Vec Ideal S256x1 .f32) (ix2 r 0) * g (ix2 0 (i 0)) * z (ix2 r (i 1))
theorem weight_at (z : Vec Ideal S256x2560 .f32) (a : Vec Ideal S1024x2560 .f32) (i : S1024x2560.Idx) :
    (k0_pay6 (F := Ideal) z (k0_pay13 x g) a : Vec Ideal S1024x2560 .f32) i = a i + weightPart x z g i := by
  unfold weightPart
  rw [eq_ix2 i]
  pointwise [k0_pay6, k0_pay13, k0_pay12, k0_pay8]
theorem weight0_at (i : S1024x2560.Idx) : (k0_pay4 (F := Ideal) : Vec Ideal S1024x2560 .f32) i = (0 : EReal) := by
  rw [eq_ix2 i]
  pointwise [k0_pay4]
end rows

variable (m : (ℓ : Loc nD τ sig) → Buf (Elt Ideal) ℓ) (c : Dev nD)

abbrev a0 : Vec Ideal S8192x1024 .f32 := m ((c : Thread nD τ).loc main_arg0)
abbrev a1 : Vec Ideal S1024 .f32 := m ((c : Thread nD τ).loc main_arg1)
abbrev a2 : Vec Ideal S1024x2560 .bf16 := m ((c : Thread nD τ).loc main_arg2)
abbrev a3 : Vec Ideal S8192x128 .f32 := m ((c : Thread nD τ).loc main_arg3)
abbrev a4 : Vec Ideal S8192x128 .f32 := m ((c : Thread nD τ).loc main_arg4)
abbrev a5 : Vec Ideal S8192x128 .f32 := m ((c : Thread nD τ).loc main_arg5)
abbrev a6 : Vec Ideal S8192x128 .f32 := m ((c : Thread nD τ).loc main_arg6)
abbrev a7 : Vec Ideal S8192x512 .f32 := m ((c : Thread nD τ).loc main_arg7)
abbrev a8 : Vec Ideal S8192x512 .f32 := m ((c : Thread nD τ).loc main_arg8)
abbrev a9 : Vec Ideal S8192x512 .f32 := m ((c : Thread nD τ).loc main_arg9)
abbrev a10 : Vec Ideal S8192x512 .f32 := m ((c : Thread nD τ).loc main_arg10)
abbrev a11 : Vec Ideal S8192x1024 .f32 := m ((c : Thread nD τ).loc main_arg11)

theorem idx : ∀ t : Fin cfg0.N, (win0_0.index t 0 = t.val ∧ win0_0.index t 1 = 0)
    ∧ (win0_1.index t 0 = t.val ∧ win0_1.index t 1 = 0)
    ∧ (win0_2.index t 0 = t.val ∧ win0_2.index t 1 = 0)
    ∧ (win0_3.index t 0 = t.val ∧ win0_3.index t 1 = 0)
    ∧ (win0_4.index t 0 = t.val ∧ win0_4.index t 1 = 0)
    ∧ (win0_5.index t 0 = t.val ∧ win0_5.index t 1 = 0)
    ∧ (win0_6.index t 0 = t.val ∧ win0_6.index t 1 = 0)
    ∧ (win0_7.index t 0 = t.val ∧ win0_7.index t 1 = 0)
    ∧ (win0_8.index t 0 = t.val ∧ win0_8.index t 1 = 0)
    ∧ (win0_9.index t 0 = t.val ∧ win0_9.index t 1 = 0)
    ∧ (win0_10.index t 0 = 0 ∧ win0_10.index t 1 = 0)
    ∧ (win0_11.index t 0 = 0 ∧ win0_11.index t 1 = 0)
    ∧ (win0_12.index t 0 = t.val ∧ win0_12.index t 1 = 0) :=
  (by decide +kernel : ∀ t : Fin grid0.N, _)

/-- The rows of point `t`. -/
def row (t : Fin cfg0.N) (r : Fin 256) : Fin 8192 := ⟨t.val * 256 + r.val, by have := t.isLt; have : t.val < 32 := N_0 ▸ t.isLt; omega⟩

theorem blk0 (t : Fin cfg0.N) (r : Fin 256) (l : Fin 1024) : (iblk m c 0 t : Vec Ideal S256x1024 .f32) (ix2 r l) = a0 m c (ix2 (row t r) l) := by
  unfold row
  blk_point [iblk, V, idx t]
theorem blk1 (t : Fin cfg0.N) (r : Fin 256) (l : Fin 128) : (iblk m c 1 t : Vec Ideal S256x128 .f32) (ix2 r l) = a3 m c (ix2 (row t r) l) := by
  unfold row
  blk_point [iblk, V, idx t]
theorem blk2 (t : Fin cfg0.N) (r : Fin 256) (l : Fin 128) : (iblk m c 2 t : Vec Ideal S256x128 .f32) (ix2 r l) = a4 m c (ix2 (row t r) l) := by
  unfold row
  blk_point [iblk, V, idx t]
theorem blk3 (t : Fin cfg0.N) (r : Fin 256) (l : Fin 128) : (iblk m c 3 t : Vec Ideal S256x128 .f32) (ix2 r l) = a5 m c (ix2 (row t r) l) := by
  unfold row
  blk_point [iblk, V, idx t]
theorem blk4 (t : Fin cfg0.N) (r : Fin 256) (l : Fin 128) : (iblk m c 4 t : Vec Ideal S256x128 .f32) (ix2 r l) = a6 m c (ix2 (row t r) l) := by
  unfold row
  blk_point [iblk, V, idx t]
theorem blk5 (t : Fin cfg0.N) (r : Fin 256) (l : Fin 512) : (iblk m c 5 t : Vec Ideal S256x512 .f32) (ix2 r l) = a7 m c (ix2 (row t r) l) := by
  unfold row
  blk_point [iblk, V, idx t]
theorem blk6 (t : Fin cfg0.N) (r : Fin 256) (l : Fin 512) : (iblk m c 6 t : Vec Ideal S256x512 .f32) (ix2 r l) = a8 m c (ix2 (row t r) l) := by
  unfold row
  blk_point [iblk, V, idx t]
theorem blk7 (t : Fin cfg0.N) (r : Fin 256) (l : Fin 512) : (iblk m c 7 t : Vec Ideal S256x512 .f32) (ix2 r l) = a9 m c (ix2 (row t r) l) := by
  unfold row
  blk_point [iblk, V, idx t]
theorem blk8 (t : Fin cfg0.N) (r : Fin 256) (l : Fin 512) : (iblk m c 8 t : Vec Ideal S256x512 .f32) (ix2 r l) = a10 m c (ix2 (row t r) l) := by
  unfold row
  blk_point [iblk, V, idx t]
theorem blk9 (t : Fin cfg0.N) (r : Fin 256) (l : Fin 1024) : (iblk m c 9 t : Vec Ideal S256x1024 .f32) (ix2 r l) = a11 m c (ix2 (row t r) l) := by
  unfold row
  blk_point [iblk, V, idx t]
theorem gain (l : Fin 1024) : (V m c main_v0 : Vec Ideal S1x1024 .f32) (ix2 0 l) = a1 m c (ix1 l) := by
  unfold V
  after_reads_at
theorem blk10 (t : Fin cfg0.N) (l : Fin 1024) : (iblk m c 10 t : Vec Ideal S1x1024 .f32) (ix2 0 l) = a1 m c (ix1 l) := by
  rw [← gain]
  blk_point [iblk, idx t]
theorem blk11 (t : Fin cfg0.N) : (iblk m c 11 t : Vec Ideal S1024x2560 .bf16) = a2 m c := by
  funext i
  rw [eq_ix2 i]
  blk_point [iblk, V, idx t]

theorem after12 (t : Fin cfg0.N) : (dats m 0 c).after 12 t = k0_pay2 (F := Ideal) (iblk m c 0 t) (iblk m c 9 t) (iblk m c 11 t) (k0_pay8 (iblk m c 10 t))
    (k0_pay10 (iblk m c 0 t)) (k0_pay11 (iblk m c 0 t)) (k0_pay14 (iblk m c 1 t) (iblk m c 2 t) (iblk m c 3 t) (iblk m c 4 t) (iblk m c 5 t) (iblk m c 6 t) (iblk m c 7 t) (iblk m c 8 t))
    (constant S256x1024 .f32 0#32) := by
  rw [after0_12]
  by_cases h : t.val % 32 = 0
  · rw [outsAt0_A m c t h]; frame_out
  · rw [outsAt0_B m c t h]; frame_out

theorem point12 (t : Fin cfg0.N) (r : Fin 256) (l : Fin 1024) : ((dats m 0 c).after 12 t : Vec Ideal S256x1024 .f32) (ix2 r l)
    = (val_main_v42 (F := Ideal) (a0 m c) (a1 m c) (a2 m c) (a3 m c) (a4 m c) (a5 m c) (a6 m c) (a7 m c) (a8 m c) (a9 m c) (a10 m c) (a11 m c) : Vec Ideal S8192x1024 .f32)
      (ix2 (row t r) l) := by
  rw [after12, blk11]
  exact dx_at (R := row t) (blk0 m c t) (blk9 m c t) (blk10 m c t) (blk1 m c t) (blk2 m c t) (blk3 m c t) (blk4 m c t) (blk5 m c t) (blk6 m c t) (blk7 m c t) (blk8 m c t) r l

theorem final12 : (dats m 0 c).arrAt 12 cfg0.N
    = val_main_v42 (F := Ideal) (a0 m c) (a1 m c) (a2 m c) (a3 m c) (a4 m c) (a5 m c) (a6 m c) (a7 m c) (a8 m c) (a9 m c) (a10 m c) (a11 m c) := by
  refine (dats m 0 c).arrAt_eq_of_covers 12 _ (by decide +kernel) fun t hf y => ?_
  refine (congrArg _ (eq_ix2 y)).trans ((point12 m c t (y 0) (y 1)).trans (congrArg _ ?_))
  funext a
  match a with
  | 0 => exact Fin.ext (by show t.val * 256 + (y 0).val = win0_12.index t 0 * 256 + 1 * (y 0).val; rw [(idx t).2.2.2.2.2.2.2.2.2.2.2.2.1]; omega)
  | 1 => exact Fin.ext (by show (y 1).val = win0_12.index t 1 * 1024 + 1 * (y 1).val; rw [(idx t).2.2.2.2.2.2.2.2.2.2.2.2.2]; omega)

/-- The grid's last point. -/
def last : Fin cfg0.N := ⟨31, by rw [show cfg0.N = 32 from N_0]; omega⟩

/-- What point `t` adds to the norm's gradient. -/
def normAt (t : Fin cfg0.N) (i : S1x1024.Idx) : EReal :=
  normPart (iblk m c 0 t) (k0_pay1 (F := Ideal) (iblk m c 11 t) (k0_pay14 (iblk m c 1 t) (iblk m c 2 t) (iblk m c 3 t) (iblk m c 4 t) (iblk m c 5 t) (iblk m c 6 t) (iblk m c 7 t) (iblk m c 8 t))
    (constant S256x1024 .f32 0#32)) (i 1)
theorem after13 (i : S1x1024.Idx) : (outsAt0 m c last.val last.isLt).2.1 i = (0 : EReal) + ∑ t : Fin cfg0.N, normAt m c t i :=
  Pipeline.eq_sum_fin_of_reset_step_apply_last (fun n h => (outsAt0 m c n h).2.1) 32 (fun _ => (0 : EReal)) (normAt m c)
    (fun t h i => by rw [outsAt0_A m c t h]; frame_out; rw [norm_at, norm0_at]; rfl)
    (fun t h i => by rw [outsAt0_B m c t h]; frame_out; rw [norm_at]; rfl) (le_of_eq N_0) last rfl i
theorem sum13 (i : S1x1024.Idx) : (0 : EReal) + ∑ t : Fin cfg0.N, normAt m c t i
    = (val_main_v43 (F := Ideal) (a0 m c) (a2 m c) (a3 m c) (a4 m c) (a5 m c) (a6 m c) (a7 m c) (a8 m c) (a9 m c) (a10 m c) : Vec Ideal S1x1024 .f32) i := by
  rw [zero_add, eq_ix2 i]
  pointwise [val_main_v43, val_main_v27, val_main_v24, val_main_v23, val_main_v22, val_main_v14, val_main_v13, val_main_cst_4, val_main_cst_3]
  refine Eq.trans ?_ (Fintype.sum_unique (ι := Fin 1) _).symm
  unfold normAt normPart
  refine Fin.sum_mul_add_congr (fun t x hl => ?_) (congrArg (· * 256) N_0).symm
  rw [blk11]
  exact congrArg₂ (· * ·) (congrArg₂ (· * ·) (blk0 m c t x (i 1)) (inv_at (R := row t) (blk0 m c t) x))
    (dh_at (R := row t) (blk1 m c t) (blk2 m c t) (blk3 m c t) (blk4 m c t) (blk5 m c t) (blk6 m c t) (blk7 m c t) (blk8 m c t) x (i 1))
theorem final13 : (dats m 0 c).arrAt 13 cfg0.N = val_main_v43 (F := Ideal) (a0 m c) (a2 m c) (a3 m c) (a4 m c) (a5 m c) (a6 m c) (a7 m c) (a8 m c) (a9 m c) (a10 m c) := by
  refine (dats m 0 c).arrAt_eq_of_after_last 13 last (by decide +kernel) _ fun j => ?_
  rw [after0_13]
  exact (after13 m c j).trans (sum13 m c j)

/-- What point `t` adds to the weight's gradient. -/
def weightAt (t : Fin cfg0.N) (i : S1024x2560.Idx) : EReal :=
  weightPart (iblk m c 0 t) (k0_pay7 (F := Ideal) (iblk m c 1 t) (iblk m c 2 t) (iblk m c 3 t) (iblk m c 4 t) (iblk m c 5 t) (iblk m c 6 t) (iblk m c 7 t) (iblk m c 8 t)) (iblk m c 10 t) i
theorem after14 (i : S1024x2560.Idx) : (outsAt0 m c last.val last.isLt).2.2 i = (0 : EReal) + ∑ t : Fin cfg0.N, weightAt m c t i :=
  Pipeline.eq_sum_fin_of_reset_step_apply_last (fun n h => (outsAt0 m c n h).2.2) 32 (fun _ => (0 : EReal)) (weightAt m c)
    (fun t h i => by rw [outsAt0_A m c t h]; frame_out; rw [weight_at, weight0_at]; rfl)
    (fun t h i => by rw [outsAt0_B m c t h]; frame_out; rw [weight_at]; rfl) (le_of_eq N_0) last rfl i
theorem sum14 (i : S1024x2560.Idx) : (0 : EReal) + ∑ t : Fin cfg0.N, weightAt m c t i
    = (val_main_v20 (F := Ideal) (a0 m c) (a1 m c) (a3 m c) (a4 m c) (a5 m c) (a6 m c) (a7 m c) (a8 m c) (a9 m c) (a10 m c) : Vec Ideal S1024x2560 .f32) i := by
  rw [zero_add, eq_ix2 i]
  pointwise [val_main_v20, val_main_v19, val_main_v17, val_main_v16, val_main_v15, val_main_v14, val_main_v13]
  unfold weightAt weightPart
  refine Fin.sum_mul_add_congr (fun t x hl => ?_) (congrArg (· * 256) N_0).symm
  rw [mul_comm]
  exact congrArg₂ (· * ·) (dz_at (R := row t) (blk1 m c t) (blk2 m c t) (blk3 m c t) (blk4 m c t) (blk5 m c t) (blk6 m c t) (blk7 m c t) (blk8 m c t) x (i 1))
    (congrArg₂ (· * ·) (congrArg₂ (· * ·) (blk0 m c t x (i 0)) (inv_at (R := row t) (blk0 m c t) x)) (blk10 m c t (i 0)))
theorem final14 : (dats m 0 c).arrAt 14 cfg0.N = val_main_v20 (F := Ideal) (a0 m c) (a1 m c) (a3 m c) (a4 m c) (a5 m c) (a6 m c) (a7 m c) (a8 m c) (a9 m c) (a10 m c) := by
  refine (dats m 0 c).arrAt_eq_of_after_last 14 last (by decide +kernel) _ fun j => ?_
  rw [after0_14]
  exact (after14 m c j).trans (sum14 m c j)

end Cert.EvInBwdIdeal.Value

end
-- ==== Proof.EvInBwdTie.lean ====
/-
  The gradient through the even layer's input norm and product against its reference: every result of the kernel is the
  reference's, and no condition is put on the arguments.
-/
module

public import proofs.«01_k».proof.Defs
public import proofs.«01_k».proof.Proof.EvInBwdKernel
public import proofs.«01_k».proof.Proof.Gen.EvInBwdRefIdeal.Run

@[expose] public section

set_option maxRecDepth 16384

noncomputable section

namespace EvInBwdTie

open Idealize.ShloMosaic Idealize.SL.Sem Cert.EvInBwdIdeal.Value Cert.EvInBwdRefIdeal.Read

theorem value : Cert.algebraic_EvInBwdIdeal_EvInBwdRefIdeal (hEvInBwdIdeal := Cert.EvInBwdIdeal.Gen.facts) (hEvInBwdRefIdeal := Cert.EvInBwdRefIdeal.Gen.facts) := by
  intro m g m' g' _ hm
  refine ⟨fun c => val_main_v42 (F := Ideal) (a0 m c) (a1 m c) (a2 m c) (a3 m c) (a4 m c) (a5 m c) (a6 m c) (a7 m c) (a8 m c) (a9 m c) (a10 m c) (a11 m c),
    fun c => val_main_v43 (F := Ideal) (a0 m c) (a2 m c) (a3 m c) (a4 m c) (a5 m c) (a6 m c) (a7 m c) (a8 m c) (a9 m c) (a10 m c),
    fun c => val_main_v20 (F := Ideal) (a0 m c) (a1 m c) (a3 m c) (a4 m c) (a5 m c) (a6 m c) (a7 m c) (a8 m c) (a9 m c) (a10 m c),
    (θ_run _ _ _).mono (fun r h c => ?_) (run_blocks m g),
    (θ_run _ _ _).mono (fun r h c => ?_) (Cert.EvInBwdRefIdeal.Value.run m' g')⟩
  · obtain ⟨r0, r1, r2, kept⟩ := h c
    exact ⟨r0.trans (final12 m c), r1.trans (final13 m c), r2.trans (final14 m c), kept⟩
  · obtain ⟨r0, r1, r2, kept⟩ := h c
    obtain ⟨e0, e1, e2, e3, e4, e5, e6, e7, e8, e9, e10, e11⟩ := hm c
    refine ⟨r0.trans ((val_main_v42_eq m' c).trans ?_),
      r1.trans ((val_main_v43_eq ..).trans ?_),
      r2.trans ((val_main_v20_eq ..).trans ?_), kept⟩
    · rw [e0, e1, e2, e3, e4, e5, e6, e7, e8, e9, e10, e11]
    · rw [e0, e2, e3, e4, e5, e6, e7, e8, e9, e10]
    · rw [e0, e1, e3, e4, e5, e6, e7, e8, e9, e10]

end EvInBwdTie
end
-- ==== Proof.KvBwdKernel.lean ====
/-
  The gradient of the two key and value products of the normalised memory, against its reference. The grid has one point,
  which holds every array whole.
-/
module

public import proofs.«01_k».proof.Proof.Gen.KvBwdIdeal.Value
public import proofs.«01_k».proof.Proof.Gen.KvBwdRefIdeal.Read
public import Idealize.ShloMosaic.Lib.Pipeline.ValueKit
public import Idealize.ShloMosaic.Lib.Pointwise
public import Idealize.ShloMosaic.Lib.StableHlo.ReadAt

@[expose] public section

set_option maxRecDepth 16384

noncomputable section

namespace Cert.KvBwdIdeal.Value

open Idealize.ShloMosaic Idealize.ShloMosaic.TcCoe Idealize.SL.Sem Cert.KvBwdIdeal Cert.KvBwdIdeal.Gen
open Cert.KvBwdRefIdeal.Read

section body
variable {x : Vec Ideal S256x1024 .f32} {d0 d1 : Vec Ideal S256x2048 .f32} {w0 w1 : Vec Ideal S1024x2048 .bf16}
  {g : Vec Ideal S1x1024 .f32} {G : Vec Ideal S1024 .f32} (hg : ∀ l, g (ix2 0 l) = G (ix1 l))

/-- The memory over its root mean square. -/
theorem unit_at (r : Fin 256) (l : Fin 1024) : (k0_pay7 (F := Ideal) x : Vec Ideal S256x1024 .f32) (ix2 r l)
    = (val_main_v11 (F := Ideal) x : Vec Ideal S256x1024 .f32) (ix2 r l) := by
  pointwise [k0_pay7, val_main_v11, val_main_v10, val_main_v9, val_main_v8, val_main_v7, val_main_v6, val_main_v5, val_main_v4, val_main_v3, val_main_v2,
    val_main_cst, val_main_cst_0, val_main_cst_1]

include hg in
theorem norm_at (r : Fin 256) (l : Fin 1024) : (k0_pay8 (F := Ideal) x g : Vec Ideal S256x1024 .f32) (ix2 r l)
    = (val_main_v14 (F := Ideal) x G : Vec Ideal S256x1024 .f32) (ix2 r l) := by
  have hu := unit_at (x := x)
  pointwise [k0_pay8, val_main_v14, val_main_v13, val_main_v12]
  simp only [hu, hg]

theorem dg_at (i : S1x1024.Idx) : (k0_pay4 (F := Ideal) (k0_pay9 x d0 d1 w0 w1) (k0_pay1 (F := Ideal)) : Vec Ideal S1x1024 .f32) i
    = (val_main_v28 (F := Ideal) x w0 w1 d0 d1 : Vec Ideal S1x1024 .f32) i := by
  have hu := unit_at (x := x)
  rw [eq_ix2 i]
  pointwise [k0_pay4, k0_pay9, k0_pay1, val_main_v28, val_main_v27, val_main_v26, val_main_v25, val_main_v24, val_main_v23, val_main_v22, val_main_v19,
    val_main_v1, val_main_v0, val_main_cst_2, val_main_cst_3]
  refine Eq.trans ?_ (Fintype.sum_unique (ι := Fin 1) _).symm
  exact Finset.sum_congr rfl fun r _ => congrArg (· * _) (hu r (i 1))

include hg in
theorem dw0_at (i : S1024x2048.Idx) : (k0_pay5 (F := Ideal) (k0_pay10 x d0 g) (k0_pay2 (F := Ideal)) : Vec Ideal S1024x2048 .f32) i
    = (val_main_v21 (F := Ideal) x G d0 : Vec Ideal S1024x2048 .f32) i := by
  have hn := norm_at (x := x) hg
  rw [eq_ix2 i]
  pointwise [k0_pay5, k0_pay10, k0_pay2, val_main_v21, val_main_v20]
  simp only [zero_add, mul_comm]
  exact Finset.sum_congr rfl fun r _ => congrArg (_ * ·) (hn r (i 0))

include hg in
theorem dw1_at (i : S1024x2048.Idx) : (k0_pay6 (F := Ideal) (k0_pay11 x d1 g) (k0_pay3 (F := Ideal)) : Vec Ideal S1024x2048 .f32) i
    = (val_main_v18 (F := Ideal) x G d1 : Vec Ideal S1024x2048 .f32) i := by
  have hn := norm_at (x := x) hg
  rw [eq_ix2 i]
  pointwise [k0_pay6, k0_pay11, k0_pay3, val_main_v18, val_main_v17]
  simp only [zero_add, mul_comm]
  exact Finset.sum_congr rfl fun r _ => congrArg (_ * ·) (hn r (i 0))
end body

variable (m : (ℓ : Loc nD τ sig) → Buf (Elt Ideal) ℓ) (c : Dev nD)

abbrev a0 : Vec Ideal S256x1024 .f32 := m ((c : Thread nD τ).loc main_arg0)
abbrev a1 : Vec Ideal S1024 .f32 := m ((c : Thread nD τ).loc main_arg1)
abbrev a2 : Vec Ideal S1024x2048 .bf16 := m ((c : Thread nD τ).loc main_arg2)
abbrev a3 : Vec Ideal S1024x2048 .bf16 := m ((c : Thread nD τ).loc main_arg3)
abbrev a4 : Vec Ideal S256x2048 .f32 := m ((c : Thread nD τ).loc main_arg4)
abbrev a5 : Vec Ideal S256x2048 .f32 := m ((c : Thread nD τ).loc main_arg5)

theorem idx : ∀ t : Fin cfg0.N, (win0_0.index t 0 = 0 ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0) :=
  (by decide +kernel : ∀ t : Fin grid0.N, _)

theorem blk0 (t : Fin cfg0.N) : (iblk m c 0 t : Vec Ideal S256x1024 .f32) = a0 m c := by
  funext i
  rw [eq_ix2 i]
  blk_point [iblk, V, idx t]
theorem blk1 (t : Fin cfg0.N) : (iblk m c 1 t : Vec Ideal S256x2048 .f32) = a4 m c := by
  funext i
  rw [eq_ix2 i]
  blk_point [iblk, V, idx t]
theorem blk2 (t : Fin cfg0.N) : (iblk m c 2 t : Vec Ideal S256x2048 .f32) = a5 m c := by
  funext i
  rw [eq_ix2 i]
  blk_point [iblk, V, idx t]
theorem gain (l : Fin 1024) : (V m c main_v0 : Vec Ideal S1x1024 .f32) (ix2 0 l) = a1 m c (ix1 l) := by
  unfold V
  after_reads_at
theorem blk3 (t : Fin cfg0.N) (l : Fin 1024) : (iblk m c 3 t : Vec Ideal S1x1024 .f32) (ix2 0 l) = a1 m c (ix1 l) := by
  rw [← gain]
  blk_point [iblk, idx t]
theorem blk4 (t : Fin cfg0.N) : (iblk m c 4 t : Vec Ideal S1024x2048 .bf16) = a2 m c := by
  funext i
  rw [eq_ix2 i]
  blk_point [iblk, V, idx t]
theorem blk5 (t : Fin cfg0.N) : (iblk m c 5 t : Vec Ideal S1024x2048 .bf16) = a3 m c := by
  funext i
  rw [eq_ix2 i]
  blk_point [iblk, V, idx t]

theorem after6 (t : Fin cfg0.N) : (dats m 0 c).after 6 t
    = k0_pay4 (F := Ideal) (k0_pay9 (iblk m c 0 t) (iblk m c 1 t) (iblk m c 2 t) (iblk m c 4 t) (iblk m c 5 t)) (k0_pay1 (F := Ideal)) := by
  rw [after0_6]; unfold outsAt0; frame_out
theorem after7 (t : Fin cfg0.N) : (dats m 0 c).after 7 t = k0_pay5 (F := Ideal) (k0_pay10 (iblk m c 0 t) (iblk m c 1 t) (iblk m c 3 t)) (k0_pay2 (F := Ideal)) := by
  rw [after0_7]; unfold outsAt0; frame_out
theorem after8 (t : Fin cfg0.N) : (dats m 0 c).after 8 t = k0_pay6 (F := Ideal) (k0_pay11 (iblk m c 0 t) (iblk m c 2 t) (iblk m c 3 t)) (k0_pay3 (F := Ideal)) := by
  rw [after0_8]; unfold outsAt0; frame_out

theorem final6 : (dats m 0 c).arrAt 6 cfg0.N = val_main_v28 (F := Ideal) (a0 m c) (a2 m c) (a3 m c) (a4 m c) (a5 m c) := by
  refine (dats m 0 c).arrAt_eq_of_after_last 6 t0_0 (by decide +kernel) _ fun j => ?_
  rw [after6, blk0, blk1, blk2, blk4, blk5]
  exact dg_at j
theorem final7 : (dats m 0 c).arrAt 7 cfg0.N = val_main_v21 (F := Ideal) (a0 m c) (a1 m c) (a4 m c) := by
  refine (dats m 0 c).arrAt_eq_of_after_last 7 t0_0 (by decide +kernel) _ fun j => ?_
  rw [after7, blk0, blk1]
  exact dw0_at (blk3 m c _) j
theorem final8 : (dats m 0 c).arrAt 8 cfg0.N = val_main_v18 (F := Ideal) (a0 m c) (a1 m c) (a5 m c) := by
  refine (dats m 0 c).arrAt_eq_of_after_last 8 t0_0 (by decide +kernel) _ fun j => ?_
  rw [after8, blk0, blk2]
  exact dw1_at (blk3 m c _) j

end Cert.KvBwdIdeal.Value
end
-- ==== Proof.KvBwdTie.lean ====
/-
  The gradient through the memory's norm and its key and value products against its reference: every result of the kernel is the
  reference's, and no condition is put on the arguments.
-/
module

public import proofs.«01_k».proof.Defs
public import proofs.«01_k».proof.Proof.KvBwdKernel
public import proofs.«01_k».proof.Proof.Gen.KvBwdRefIdeal.Run

@[expose] public section

set_option maxRecDepth 16384

noncomputable section

namespace KvBwdTie

open Idealize.ShloMosaic Idealize.SL.Sem Cert.KvBwdIdeal.Value Cert.KvBwdRefIdeal.Read

theorem value : Cert.algebraic_KvBwdIdeal_KvBwdRefIdeal (hKvBwdIdeal := Cert.KvBwdIdeal.Gen.facts) (hKvBwdRefIdeal := Cert.KvBwdRefIdeal.Gen.facts) := by
  intro m g m' g' _ hm
  refine ⟨fun c => val_main_v28 (F := Ideal) (a0 m c) (a2 m c) (a3 m c) (a4 m c) (a5 m c),
    fun c => val_main_v21 (F := Ideal) (a0 m c) (a1 m c) (a4 m c),
    fun c => val_main_v18 (F := Ideal) (a0 m c) (a1 m c) (a5 m c),
    (θ_run _ _ _).mono (fun r h c => ?_) (run_blocks m g),
    (θ_run _ _ _).mono (fun r h c => ?_) (Cert.KvBwdRefIdeal.Value.run m' g')⟩
  · obtain ⟨r0, r1, r2, kept⟩ := h c
    exact ⟨r0.trans (final6 m c), r1.trans (final7 m c), r2.trans (final8 m c), kept⟩
  · obtain ⟨r0, r1, r2, kept⟩ := h c
    obtain ⟨e0, e1, e2, e3, e4, e5⟩ := hm c
    refine ⟨r0.trans ((val_main_v28_eq ..).trans ?_),
      r1.trans ((val_main_v21_eq ..).trans ?_),
      r2.trans ((val_main_v18_eq ..).trans ?_), kept⟩
    · rw [e0, e2, e3, e4, e5]
    · rw [e0, e1, e4]
    · rw [e0, e1, e5]

end KvBwdTie
end
-- ==== Proof.CofStrip.lean ====
/-
  One strip of the convolution: 16 rows of the output, each the bias and 31 products, whose second factors lie in consecutive rows of
  the window of inputs. The window's eight shifted copies hold row `p + s` of the window at row `p` of copy `s`.
-/
module

public import proofs.«01_k».proof.Proof.Gen.ConvFwdIdeal.Value
public import Idealize.ShloMosaic.Lib.Pipeline.ValueKit
public import Idealize.ShloMosaic.Lib.Pointwise
public import Idealize.ShloMosaic.Lib.VecWindow

@[expose] public section

set_option maxRecDepth 16384

noncomputable section

namespace Cert.ConvFwdIdeal.Value

open Cert.ConvFwdIdeal Cert.ConvFwdIdeal.Gen Idealize.ShloMosaic Idealize.ShloMosaic.TcCoe Idealize.SL.Sem

/-- `b` and the first `n` of the terms `f`, added one after another. -/
def taps (f : ℕ → EReal) (b : EReal) : ℕ → EReal
  | 0 => b
  | n + 1 => taps f b n + f n

/-- The first row of strip `k`, `c` rows further down, as the kernel computes it. -/
abbrev rowAt (k : Fin k0_t1_loop.trips) (c : BitVec 32) : ℕ :=
  BitVec.toNat (Scalar.indexCast (Scalar.addi (Scalar.muli (Scf.iv 0#32 1#32 k) 16#32) c))

theorem trips_eq : k0_t1_loop.trips = 32 := by decide

theorem rowAt_eq (c : BitVec 32) (hc : c.toNat < 64) (k : Fin k0_t1_loop.trips) : rowAt k c = 16 * k.val + c.toNat := by
  have hk : k.val < 32 := Nat.lt_of_lt_of_le k.isLt (le_of_eq trips_eq)
  simp [rowAt, Scalar.indexCast, Scalar.addi, Scalar.muli, Scf.iv, IntOp.addi, IntOp.muli, BitVec.toNat_add, BitVec.toNat_mul]
  omega

variable {arg5 : Memref sig .tc .vmem S32x512 .f32} {arg6 : Memref sig .tc .vmem S1x512 .f32} {arg9 : Memref sig .tc .vmem S8x544x512 .f32}
  {X5 : BufTy.Contents (Elt Ideal) arg5.view.ty} {X6 : BufTy.Contents (Elt Ideal) arg6.view.ty} {X9 : BufTy.Contents (Elt Ideal) arg9.view.ty}
  {W : ℕ → ℕ → EReal} {B : ℕ → EReal} {win : ℕ → ℕ → EReal}

theorem load5 (hW : ∀ y : S32x512.Idx, (arg5.view.read (Elt Ideal) X5 y : EReal) = W (y 0).val (y 1).val) (n : ℕ) (inb) (u : Fin 1) (l : Fin 512) :
    (View.readAt (Elt Ideal) arg5.view (Rect.unit (s := S32x512) ![n, 0] ![1, 512] inb).toLoadRect X5 (ix2 u l) : EReal) = W n l.val := by
  refine (hW _).trans ?_
  show W (n + 1 * u.val) (0 + 1 * l.val) = _
  congr 1 <;> omega

theorem load6 (hB : ∀ y : S1x512.Idx, (arg6.view.read (Elt Ideal) X6 y : EReal) = B (y 1).val) (inb) (u : Fin 1) (l : Fin 512) :
    (View.readAt (Elt Ideal) arg6.view (Rect.unit (s := S1x512) ![0, 0] ![1, 512] inb).toLoadRect X6 (ix2 u l) : EReal) = B l.val := by
  refine (hB _).trans ?_
  show B (0 + 1 * l.val) = _
  congr 1; omega

theorem load9 (hX : ∀ y : S8x544x512.Idx, (arg9.view.read (Elt Ideal) X9 y : EReal) = win ((y 0).val + (y 1).val) (y 2).val) (off : Fin 3 → ℕ) (inb) (u : Fin 1) (r : Fin 8) (l : Fin 512) :
    (View.readAt (Elt Ideal) arg9.view (Rect.unit (s := S8x544x512) off ![1, 8, 512] inb).toLoadRect X9 (ix3 u r l) : EReal) = win (off 0 + (off 1 + r.val)) (off 2 + l.val) := by
  refine (hX _).trans ?_
  show win (off 0 + 1 * u.val + (off 1 + 1 * r.val)) (off 2 + 1 * l.val) = _
  congr 1 <;> omega

theorem off1_0 (k : Fin k0_t1_loop.trips) (c : BitVec 32) : k0_off1 k c 0 = 2 := rfl
theorem off1_1 (k : Fin k0_t1_loop.trips) (c : BitVec 32) : k0_off1 k c 1 = rowAt k c := rfl
theorem off1_2 (k : Fin k0_t1_loop.trips) (c : BitVec 32) : k0_off1 k c 2 = 0 := rfl
theorem off2_0 (k : Fin k0_t1_loop.trips) (c : BitVec 32) : k0_off2 k c 0 = 3 := rfl
theorem off2_1 (k : Fin k0_t1_loop.trips) (c : BitVec 32) : k0_off2 k c 1 = rowAt k c := rfl
theorem off2_2 (k : Fin k0_t1_loop.trips) (c : BitVec 32) : k0_off2 k c 2 = 0 := rfl
theorem off3_0 (k : Fin k0_t1_loop.trips) (c : BitVec 32) : k0_off3 k c 0 = 4 := rfl
theorem off3_1 (k : Fin k0_t1_loop.trips) (c : BitVec 32) : k0_off3 k c 1 = rowAt k c := rfl
theorem off3_2 (k : Fin k0_t1_loop.trips) (c : BitVec 32) : k0_off3 k c 2 = 0 := rfl
theorem off4_0 (k : Fin k0_t1_loop.trips) (c : BitVec 32) : k0_off4 k c 0 = 5 := rfl
theorem off4_1 (k : Fin k0_t1_loop.trips) (c : BitVec 32) : k0_off4 k c 1 = rowAt k c := rfl
theorem off4_2 (k : Fin k0_t1_loop.trips) (c : BitVec 32) : k0_off4 k c 2 = 0 := rfl
theorem off5_0 (k : Fin k0_t1_loop.trips) (c : BitVec 32) : k0_off5 k c 0 = 6 := rfl
theorem off5_1 (k : Fin k0_t1_loop.trips) (c : BitVec 32) : k0_off5 k c 1 = rowAt k c := rfl
theorem off5_2 (k : Fin k0_t1_loop.trips) (c : BitVec 32) : k0_off5 k c 2 = 0 := rfl
theorem off6_0 (k : Fin k0_t1_loop.trips) (c : BitVec 32) : k0_off6 k c 0 = 7 := rfl
theorem off6_1 (k : Fin k0_t1_loop.trips) (c : BitVec 32) : k0_off6 k c 1 = rowAt k c := rfl
theorem off6_2 (k : Fin k0_t1_loop.trips) (c : BitVec 32) : k0_off6 k c 2 = 0 := rfl
theorem off7_0 (k : Fin k0_t1_loop.trips) (c : BitVec 32) : k0_off7 k c 0 = 0 := rfl
theorem off7_1 (k : Fin k0_t1_loop.trips) (c : BitVec 32) : k0_off7 k c 1 = rowAt k c := rfl
theorem off7_2 (k : Fin k0_t1_loop.trips) (c : BitVec 32) : k0_off7 k c 2 = 0 := rfl
theorem off8_0 (k : Fin k0_t1_loop.trips) (c : BitVec 32) : k0_off8 k c 0 = 1 := rfl
theorem off8_1 (k : Fin k0_t1_loop.trips) (c : BitVec 32) : k0_off8 k c 1 = rowAt k c := rfl
theorem off8_2 (k : Fin k0_t1_loop.trips) (c : BitVec 32) : k0_off8 k c 2 = 0 := rfl

/-- What a strip stores, row by row. -/
theorem strip_at (hW : ∀ y : S32x512.Idx, (arg5.view.read (Elt Ideal) X5 y : EReal) = W (y 0).val (y 1).val) (hB : ∀ y : S1x512.Idx, (arg6.view.read (Elt Ideal) X6 y : EReal) = B (y 1).val)
    (hX : ∀ y : S8x544x512.Idx, (arg9.view.read (Elt Ideal) X9 y : EReal) = win ((y 0).val + (y 1).val) (y 2).val) (k : Fin k0_t1_loop.trips)
    (i0 : ∀ a, (k0_off6 k 32#32) a + S1x8x512.size a ≤ S8x544x512.size a) (i1 : ∀ a, (k0_off7 k 32#32) a + S1x8x512.size a ≤ S8x544x512.size a) (i2 : ∀ a, (k0_off7 k 40#32) a + S1x8x512.size a ≤ S8x544x512.size a) (r : Fin 16) (l : Fin 512) :
    (k0_pay2 (F := Ideal) (trip_k0_t1.sl.r_39 arg5 arg6 arg9 X5 X6 X9 k) (trip_k0_t1.sl.r_40 arg5 X5) (trip_k0_t1.sl.r_41 arg5 arg6 arg9 X5 X6 X9 k)
          (View.readAt (Elt Ideal) arg9.view (Rect.unit (s := S8x544x512) (k0_off6 k 32#32) S1x8x512.size i0).toLoadRect X9)
          (View.readAt (Elt Ideal) arg5.view (Rect.unit (s := S32x512) ![30, 0] S1x512.size inb_S32x512_S1x512_30_0).toLoadRect X5)
          (View.readAt (Elt Ideal) arg9.view (Rect.unit (s := S8x544x512) (k0_off7 k 32#32) S1x8x512.size i1).toLoadRect X9)
          (View.readAt (Elt Ideal) arg9.view (Rect.unit (s := S8x544x512) (k0_off7 k 40#32) S1x8x512.size i2).toLoadRect X9) (ix2 r l) : EReal)
      = taps (fun n => W n l.val * win (16 * k.val + r.val + (n + 2)) l.val) (B l.val) 31 := by
  have h0 : rowAt k 0#32 = 16 * k.val + 0 := rowAt_eq 0#32 (by decide) k
  have h1 : rowAt k 8#32 = 16 * k.val + 8 := rowAt_eq 8#32 (by decide) k
  have h2 : rowAt k 16#32 = 16 * k.val + 16 := rowAt_eq 16#32 (by decide) k
  have h3 : rowAt k 24#32 = 16 * k.val + 24 := rowAt_eq 24#32 (by decide) k
  have h4 : rowAt k 32#32 = 16 * k.val + 32 := rowAt_eq 32#32 (by decide) k
  have h5 : rowAt k 40#32 = 16 * k.val + 40 := rowAt_eq 40#32 (by decide) k
  pointwise [trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, trip_k0_t1.sl.r_23, trip_k0_t1.sl.r_24, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_32, trip_k0_t1.sl.r_33, trip_k0_t1.sl.r_34, trip_k0_t1.sl.r_35, trip_k0_t1.sl.r_36, trip_k0_t1.sl.r_37, trip_k0_t1.sl.r_38, trip_k0_t1.sl.r_39, trip_k0_t1.sl.r_40, trip_k0_t1.sl.r_41, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63]
  split
  all_goals
    simp only [load5 hW, load6 hB, load9 hX, off1_0, off1_1, off1_2, off2_0, off2_1, off2_2, off3_0, off3_1, off3_2, off4_0, off4_1, off4_2, off5_0, off5_1, off5_2, off6_0, off6_1, off6_2, off7_0, off7_1, off7_2, off8_0, off8_1, off8_2, h0, h1, h2, h3, h4, h5, taps]
    iterate 31 refine congrArg₂ HAdd.hAdd ?_ (congrArg₂ HMul.hMul rfl (congrArg₂ win (by omega) (Nat.zero_add _)))
    rfl

end Cert.ConvFwdIdeal.Value
-- ==== Proof.CobStrip.lean ====
/-
  One strip of the convolution's gradient: 16 rows, each 31 products of weights with rows of the window of incoming gradients, and what
  the two stores make of them.
-/
module

public import proofs.«01_k».proof.Proof.CofStrip
public import proofs.«01_k».proof.Proof.Gen.ConvBwdIdeal.Value

@[expose] public section

set_option maxRecDepth 16384

noncomputable section

namespace Cert.ConvBwdIdeal.Value

open Cert.ConvBwdIdeal Cert.ConvBwdIdeal.Gen Idealize.ShloMosaic Idealize.ShloMosaic.TcCoe Idealize.SL.Sem
open Cert.ConvFwdIdeal.Value (taps)

/-- The first row of strip `k`, `c` rows further down, as the kernel computes it. -/
abbrev rowAt (k : Fin k0_t1_loop.trips) (c : BitVec 32) : ℕ :=
  BitVec.toNat (Scalar.indexCast (Scalar.addi (Scalar.muli (Scf.iv 0#32 1#32 k) 16#32) c))

theorem trips_eq : k0_t1_loop.trips = 32 := by decide

theorem rowAt_eq (c : BitVec 32) (hc : c.toNat < 64) (k : Fin k0_t1_loop.trips) : rowAt k c = 16 * k.val + c.toNat := by
  have hk : k.val < 32 := Nat.lt_of_lt_of_le k.isLt (le_of_eq trips_eq)
  simp [rowAt, Scalar.indexCast, Scalar.addi, Scalar.muli, Scf.iv, IntOp.addi, IntOp.muli, BitVec.toNat_add, BitVec.toNat_mul]
  omega

variable {arg1 arg2 : Memref sig .tc .vmem S512x512 .f32} {arg7 : Memref sig .tc .vmem S32x512 .f32} {arg15 : Memref sig .tc .vmem S8x544x512 .f32}
  {X1 : BufTy.Contents (Elt Ideal) arg1.view.ty} {X2 : BufTy.Contents (Elt Ideal) arg2.view.ty} {X7 : BufTy.Contents (Elt Ideal) arg7.view.ty} {X15 : BufTy.Contents (Elt Ideal) arg15.view.ty}
  {U G W win : ℕ → ℕ → EReal}

theorem load1 (hU : ∀ y : S512x512.Idx, (arg1.view.read (Elt Ideal) X1 y : EReal) = U (y 0).val (y 1).val) (off : Fin 2 → ℕ) (inb) (r : Fin 16) (l : Fin 512) :
    (View.readAt (Elt Ideal) arg1.view (Rect.unit (s := S512x512) off ![16, 512] inb).toLoadRect X1 (ix2 r l) : EReal) = U (off 0 + r.val) (off 1 + l.val) := by
  refine (hU _).trans ?_
  show U (off 0 + 1 * r.val) (off 1 + 1 * l.val) = _
  congr 1 <;> omega

theorem load7 (hW : ∀ y : S32x512.Idx, (arg7.view.read (Elt Ideal) X7 y : EReal) = W (y 0).val (y 1).val) (n : ℕ) (inb) (u : Fin 1) (l : Fin 512) :
    (View.readAt (Elt Ideal) arg7.view (Rect.unit (s := S32x512) ![n, 0] ![1, 512] inb).toLoadRect X7 (ix2 u l) : EReal) = W n l.val := by
  refine (hW _).trans ?_
  show W (n + 1 * u.val) (0 + 1 * l.val) = _
  congr 1 <;> omega

theorem load15 (hX : ∀ y : S8x544x512.Idx, (arg15.view.read (Elt Ideal) X15 y : EReal) = win ((y 0).val + (y 1).val) (y 2).val) (off : Fin 3 → ℕ) (inb) (u : Fin 1) (r : Fin 8) (l : Fin 512) :
    (View.readAt (Elt Ideal) arg15.view (Rect.unit (s := S8x544x512) off ![1, 8, 512] inb).toLoadRect X15 (ix3 u r l) : EReal) = win (off 0 + (off 1 + r.val)) (off 2 + l.val) := by
  refine (hX _).trans ?_
  show win (off 0 + 1 * u.val + (off 1 + 1 * r.val)) (off 2 + 1 * l.val) = _
  congr 1 <;> omega

theorem off1_0 (k : Fin k0_t1_loop.trips) (c : BitVec 32) : k0_off1 k c 0 = 6 := rfl
theorem off1_1 (k : Fin k0_t1_loop.trips) (c : BitVec 32) : k0_off1 k c 1 = rowAt k c := rfl
theorem off1_2 (k : Fin k0_t1_loop.trips) (c : BitVec 32) : k0_off1 k c 2 = 0 := rfl
theorem off2_0 (k : Fin k0_t1_loop.trips) (c : BitVec 32) : k0_off2 k c 0 = 5 := rfl
theorem off2_1 (k : Fin k0_t1_loop.trips) (c : BitVec 32) : k0_off2 k c 1 = rowAt k c := rfl
theorem off2_2 (k : Fin k0_t1_loop.trips) (c : BitVec 32) : k0_off2 k c 2 = 0 := rfl
theorem off3_0 (k : Fin k0_t1_loop.trips) (c : BitVec 32) : k0_off3 k c 0 = 4 := rfl
theorem off3_1 (k : Fin k0_t1_loop.trips) (c : BitVec 32) : k0_off3 k c 1 = rowAt k c := rfl
theorem off3_2 (k : Fin k0_t1_loop.trips) (c : BitVec 32) : k0_off3 k c 2 = 0 := rfl
theorem off4_0 (k : Fin k0_t1_loop.trips) (c : BitVec 32) : k0_off4 k c 0 = 3 := rfl
theorem off4_1 (k : Fin k0_t1_loop.trips) (c : BitVec 32) : k0_off4 k c 1 = rowAt k c := rfl
theorem off4_2 (k : Fin k0_t1_loop.trips) (c : BitVec 32) : k0_off4 k c 2 = 0 := rfl
theorem off5_0 (k : Fin k0_t1_loop.trips) (c : BitVec 32) : k0_off5 k c 0 = 2 := rfl
theorem off5_1 (k : Fin k0_t1_loop.trips) (c : BitVec 32) : k0_off5 k c 1 = rowAt k c := rfl
theorem off5_2 (k : Fin k0_t1_loop.trips) (c : BitVec 32) : k0_off5 k c 2 = 0 := rfl
theorem off6_0 (k : Fin k0_t1_loop.trips) (c : BitVec 32) : k0_off6 k c 0 = 1 := rfl
theorem off6_1 (k : Fin k0_t1_loop.trips) (c : BitVec 32) : k0_off6 k c 1 = rowAt k c := rfl
theorem off6_2 (k : Fin k0_t1_loop.trips) (c : BitVec 32) : k0_off6 k c 2 = 0 := rfl
theorem off7_0 (k : Fin k0_t1_loop.trips) (c : BitVec 32) : k0_off7 k c 0 = 0 := rfl
theorem off7_1 (k : Fin k0_t1_loop.trips) (c : BitVec 32) : k0_off7 k c 1 = rowAt k c := rfl
theorem off7_2 (k : Fin k0_t1_loop.trips) (c : BitVec 32) : k0_off7 k c 2 = 0 := rfl
theorem off8_0 (k : Fin k0_t1_loop.trips) (c : BitVec 32) : k0_off8 k c 0 = 7 := rfl
theorem off8_1 (k : Fin k0_t1_loop.trips) (c : BitVec 32) : k0_off8 k c 1 = rowAt k c := rfl
theorem off8_2 (k : Fin k0_t1_loop.trips) (c : BitVec 32) : k0_off8 k c 2 = 0 := rfl

theorem off9_at : ∀ k : Fin k0_t1_loop.trips, k0_off9 k 0 = 16 * k.val ∧ k0_off9 k 1 = 0 := by decide +kernel

/-- The gradient of one row of the gated input: 31 products. -/
abbrev back (W win : ℕ → ℕ → EReal) (p l : ℕ) : EReal := taps (fun n => W n l * win (p + (30 - n)) l) 0 31

/-- The 31 products, row by row. -/
theorem back_at (hW : ∀ y : S32x512.Idx, (arg7.view.read (Elt Ideal) X7 y : EReal) = W (y 0).val (y 1).val)
    (hX : ∀ y : S8x544x512.Idx, (arg15.view.read (Elt Ideal) X15 y : EReal) = win ((y 0).val + (y 1).val) (y 2).val) (k : Fin k0_t1_loop.trips)
    (i0 : ∀ a, (k0_off6 k 8#32) a + S1x8x512.size a ≤ S8x544x512.size a) (i1 : ∀ a, (k0_off7 k 0#32) a + S1x8x512.size a ≤ S8x544x512.size a) (i2 : ∀ a, (k0_off7 k 8#32) a + S1x8x512.size a ≤ S8x544x512.size a) (r : Fin 16) (l : Fin 512) :
    (k0_pay67 (F := Ideal) (trip_k0_t1.sl.r_38 arg7 arg15 X7 X15 k) (trip_k0_t1.sl.r_39 arg7 X7) (trip_k0_t1.sl.r_40 arg7 arg15 X7 X15 k)
          (View.readAt (Elt Ideal) arg15.view (Rect.unit (s := S8x544x512) (k0_off6 k 8#32) S1x8x512.size i0).toLoadRect X15)
          (View.readAt (Elt Ideal) arg7.view (Rect.unit (s := S32x512) ![30, 0] S1x512.size inb_S32x512_S1x512_30_0).toLoadRect X7)
          (View.readAt (Elt Ideal) arg15.view (Rect.unit (s := S8x544x512) (k0_off7 k 0#32) S1x8x512.size i1).toLoadRect X15)
          (View.readAt (Elt Ideal) arg15.view (Rect.unit (s := S8x544x512) (k0_off7 k 8#32) S1x8x512.size i2).toLoadRect X15) (ix2 r l) : EReal) = back W win (16 * k.val + r.val) l.val := by
  have h0 : rowAt k 0#32 = 16 * k.val + 0 := rowAt_eq 0#32 (by decide) k
  have h1 : rowAt k 8#32 = 16 * k.val + 8 := rowAt_eq 8#32 (by decide) k
  have h2 : rowAt k 16#32 = 16 * k.val + 16 := rowAt_eq 16#32 (by decide) k
  have h3 : rowAt k 24#32 = 16 * k.val + 24 := rowAt_eq 24#32 (by decide) k
  have h4 : rowAt k 32#32 = 16 * k.val + 32 := rowAt_eq 32#32 (by decide) k
  pointwise [trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, trip_k0_t1.sl.r_23, trip_k0_t1.sl.r_24, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_32, trip_k0_t1.sl.r_33, trip_k0_t1.sl.r_34, trip_k0_t1.sl.r_35, trip_k0_t1.sl.r_36, trip_k0_t1.sl.r_37, trip_k0_t1.sl.r_38, trip_k0_t1.sl.r_39, trip_k0_t1.sl.r_40, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67]
  split
  all_goals
    simp only [load7 hW, load15 hX, off1_0, off1_1, off1_2, off2_0, off2_1, off2_2, off3_0, off3_1, off3_2, off4_0, off4_1, off4_2, off5_0, off5_1, off5_2, off6_0, off6_1, off6_2, off7_0, off7_1, off7_2, off8_0, off8_1, off8_2, h0, h1, h2, h3, h4, back, taps, zero_add]

    iterate 30 refine congrArg₂ HAdd.hAdd ?_ (congrArg₂ HMul.hMul rfl (congrArg₂ win (by omega) rfl))
    exact congrArg₂ HMul.hMul rfl (congrArg₂ win (by omega) rfl)

/-- What a strip stores as the gradient of the values, row by row. -/
theorem strip_at (hG : ∀ y : S512x512.Idx, (arg2.view.read (Elt Ideal) X2 y : EReal) = G (y 0).val (y 1).val) (hW : ∀ y : S32x512.Idx, (arg7.view.read (Elt Ideal) X7 y : EReal) = W (y 0).val (y 1).val)
    (hX : ∀ y : S8x544x512.Idx, (arg15.view.read (Elt Ideal) X15 y : EReal) = win ((y 0).val + (y 1).val) (y 2).val) (k : Fin k0_t1_loop.trips)
    (i0 : ∀ a, (k0_off6 k 8#32) a + S1x8x512.size a ≤ S8x544x512.size a) (i1 : ∀ a, (k0_off7 k 0#32) a + S1x8x512.size a ≤ S8x544x512.size a) (i2 : ∀ a, (k0_off7 k 8#32) a + S1x8x512.size a ≤ S8x544x512.size a)
    (i3 : ∀ a, (k0_off9 k) a + S16x512.size a ≤ S512x512.size a) (r : Fin 16) (l : Fin 512) :
    (k0_pay69 (F := Ideal) (trip_k0_t1.sl.r_38 arg7 arg15 X7 X15 k) (trip_k0_t1.sl.r_39 arg7 X7) (trip_k0_t1.sl.r_40 arg7 arg15 X7 X15 k)
          (View.readAt (Elt Ideal) arg15.view (Rect.unit (s := S8x544x512) (k0_off6 k 8#32) S1x8x512.size i0).toLoadRect X15)
          (View.readAt (Elt Ideal) arg7.view (Rect.unit (s := S32x512) ![30, 0] S1x512.size inb_S32x512_S1x512_30_0).toLoadRect X7)
          (View.readAt (Elt Ideal) arg15.view (Rect.unit (s := S8x544x512) (k0_off7 k 0#32) S1x8x512.size i1).toLoadRect X15)
          (View.readAt (Elt Ideal) arg15.view (Rect.unit (s := S8x544x512) (k0_off7 k 8#32) S1x8x512.size i2).toLoadRect X15)
          (View.readAt (Elt Ideal) arg2.view (Rect.unit (s := S512x512) (k0_off9 k) S16x512.size i3).toLoadRect X2) (ix2 r l) : EReal)
      = back W win (16 * k.val + r.val) l.val * Ideal.logistic (G (16 * k.val + r.val) l.val) := by
  have e := back_at hW hX k i0 i1 i2 r l
  have g := load1 hG (k0_off9 k) i3 r l
  rw [(off9_at k).1, (off9_at k).2, Nat.zero_add] at g
  rw [← e, ← g]
  pointwise [k0_pay69, k0_pay68]

/-- What a strip stores as the gradient of the gates. -/
theorem strip'_at (hU : ∀ y : S512x512.Idx, (arg1.view.read (Elt Ideal) X1 y : EReal) = U (y 0).val (y 1).val) (hG : ∀ y : S512x512.Idx, (arg2.view.read (Elt Ideal) X2 y : EReal) = G (y 0).val (y 1).val) (hW : ∀ y : S32x512.Idx, (arg7.view.read (Elt Ideal) X7 y : EReal) = W (y 0).val (y 1).val)
    (hX : ∀ y : S8x544x512.Idx, (arg15.view.read (Elt Ideal) X15 y : EReal) = win ((y 0).val + (y 1).val) (y 2).val) (k : Fin k0_t1_loop.trips)
    (i0 : ∀ a, (k0_off6 k 8#32) a + S1x8x512.size a ≤ S8x544x512.size a) (i1 : ∀ a, (k0_off7 k 0#32) a + S1x8x512.size a ≤ S8x544x512.size a) (i2 : ∀ a, (k0_off7 k 8#32) a + S1x8x512.size a ≤ S8x544x512.size a)
    (i3 : ∀ a, (k0_off9 k) a + S16x512.size a ≤ S512x512.size a) (r : Fin 16) (l : Fin 512) :
    (k0_pay187 (F := Ideal) (trip_k0_t1.sl.r_41 arg2 X2 k) (trip_k0_t1.sl.r_42 arg1 arg2 arg7 arg15 X1 X2 X7 X15 k) (ix2 r l) : EReal)
      = back W win (16 * k.val + r.val) l.val * U (16 * k.val + r.val) l.val * Ideal.logistic (G (16 * k.val + r.val) l.val) * (1 - Ideal.logistic (G (16 * k.val + r.val) l.val)) := by
  have e := back_at hW hX k i0 i1 i2 r l
  have g := load1 hG (k0_off9 k) i3 r l
  have u := load1 hU (k0_off9 k) i3 r l
  rw [(off9_at k).1, (off9_at k).2, Nat.zero_add] at g u
  rw [← e, ← g, ← u]
  pointwise [k0_pay187, k0_pay70, k0_pay68, trip_k0_t1.sl.r_41, trip_k0_t1.sl.r_42]

end Cert.ConvBwdIdeal.Value
-- ==== Proof.CobWindow.lean ====
/-
  The window of incoming gradients one point of the grid works on, and its eight shifted copies.
-/
module

public import proofs.«01_k».proof.Proof.CobStrip

@[expose] public section

set_option maxRecDepth 16384

noncomputable section

namespace Cert.ConvBwdIdeal.Value

open Cert.ConvBwdIdeal Cert.ConvBwdIdeal.Gen Idealize.ShloMosaic Idealize.ShloMosaic.TcCoe Idealize.SL.Sem

variable {win : ℕ → ℕ → EReal}

/-- The window's three pieces: the tile's 512 rows, the 32 rows after them, eight rows of zeros. -/
abbrev winPieces (C : Vec Ideal S512x512 .f32) (A : Vec Ideal S32x512 .f32) : List (View.Piece (Elt Ideal) S552x512 .f32) :=
  [⟨Rect.unit ![544, 0] S8x512.size inb_S552x512_S8x512_544_0, k0_pay178 (F := Ideal)⟩,
    ⟨Rect.unit ![512, 0] S32x512.size inb_S552x512_S32x512_512_0, A⟩,
    ⟨Rect.unit ![0, 0] S512x512.size inb_S552x512_S512x512_0_0, C⟩]

theorem win_at {A : Vec Ideal S32x512 .f32} {C : Vec Ideal S512x512 .f32} (hA : ∀ (r : Fin 32) (l : Fin 512), (A (ix2 r l) : EReal) = win (512 + r.val) l.val)
    (hC : ∀ (r : Fin 512) (l : Fin 512), (C (ix2 r l) : EReal) = win r.val l.val) (h0 : ∀ p l, 544 ≤ p → win p l = 0)
    (v : Memref sig .tc .vmem S552x512 .f32) (y : S552x512.Idx) :
    (v.view.read (Elt Ideal) (v.view.writes (Elt Ideal) v.view.junk (winPieces C A)) y : EReal) = win (y 0).val (y 1).val := by
  refine View.read_writes_apply_of_pieces (Val := Elt Ideal) (f := v.view.junk) (v := v.view) (fun y => (win (y 0).val (y 1).val : EReal)) _ ?_ y ?_
  · intro p hp
    simp only [winPieces, List.mem_cons, List.not_mem_nil, or_false] at hp
    rcases hp with rfl | rfl | rfl <;> intro x
    · show (k0_pay178 (F := Ideal) x : EReal) = win (544 + 1 * (x 0).val) (0 + 1 * (x 1).val)
      rw [h0 _ _ (by omega)]
      pointwise [k0_pay178]
    · show (A x : EReal) = win (512 + 1 * (x 0).val) (0 + 1 * (x 1).val)
      rw [eq_ix2 x, hA (x 0) (x 1), Nat.one_mul, Nat.one_mul, Nat.zero_add]
      rfl
    · show (C x : EReal) = win (0 + 1 * (x 0).val) (0 + 1 * (x 1).val)
      rw [eq_ix2 x, hC (x 0) (x 1), Nat.one_mul, Nat.one_mul, Nat.zero_add, Nat.zero_add]
      rfl
  · have hy0 : (y 0).val < 552 := (y 0).isLt
    have hy1 : (y 1).val < 512 := (y 1).isLt
    by_cases h1 : (y 0).val < 512
    · refine ⟨_, List.mem_cons_of_mem _ (List.mem_cons_of_mem _ List.mem_cons_self), ?_⟩
      refine (Rect.mem_set_unit (inb := inb_S552x512_S512x512_0_0)).mpr fun a => ?_
      match a with
      | ⟨0, _⟩ => exact ⟨Nat.zero_le _, by show (y 0).val < 0 + 512; omega⟩
      | ⟨1, _⟩ => exact ⟨Nat.zero_le _, by show (y 1).val < 0 + 512; omega⟩
    · by_cases h2 : (y 0).val < 544
      · refine ⟨_, List.mem_cons_of_mem _ List.mem_cons_self, ?_⟩
        refine (Rect.mem_set_unit (inb := inb_S552x512_S32x512_512_0)).mpr fun a => ?_
        match a with
        | ⟨0, _⟩ => exact ⟨by show 512 ≤ (y 0).val; omega, by show (y 0).val < 512 + 32; omega⟩
        | ⟨1, _⟩ => exact ⟨Nat.zero_le _, by show (y 1).val < 0 + 512; omega⟩
      · refine ⟨_, List.mem_cons_self, ?_⟩
        refine (Rect.mem_set_unit (inb := inb_S552x512_S8x512_544_0)).mpr fun a => ?_
        match a with
        | ⟨0, _⟩ => exact ⟨by show 544 ≤ (y 0).val; omega, by show (y 0).val < 544 + 8; omega⟩
        | ⟨1, _⟩ => exact ⟨Nat.zero_le _, by show (y 1).val < 0 + 512; omega⟩

theorem cast_at (x : Vec Ideal S544x512 .f32) (u : Fin 1) (r : Fin 544) (l : Fin 512) :
    (shapeCast S1x544x512 x shapeCasts_S544x512_S1x544x512 (ix3 u r l) : EReal) = x (ix2 r l) := by
  pointwise

/-- A copy's rows are the window's, `s` further down. -/
theorem shift_at {v : Memref sig .tc .vmem S552x512 .f32} {L : List (View.Piece (Elt Ideal) S552x512 .f32)} (h : ∀ y : S552x512.Idx, (v.view.read (Elt Ideal) (v.view.writes (Elt Ideal) v.view.junk L) y : EReal) = win (y 0).val (y 1).val)
    (s : ℕ) (inb : ∀ a, (![s, 0] : Fin 2 → ℕ) a + S544x512.size a ≤ S552x512.size a) (x : S1x544x512.Idx) :
    (shapeCast S1x544x512 (v.view.readCov L (Rect.unit (s := S552x512) ![s, 0] S544x512.size inb).toLoadRect : FVec Ideal S544x512 .f32) shapeCasts_S544x512_S1x544x512 x : EReal)
      = win (s + 1 * (x 0).val + (0 + 1 * (x 1).val)) (0 + 1 * (x 2).val) := by
  rw [eq_ix3 x]
  refine (cast_at _ (x 0) (x 1) (x 2)).trans ((h _).trans ?_)
  have : (x 0).val < 1 := (x 0).isLt
  show win (s + 1 * (x 1).val) (0 + 1 * (x 2).val) = win (s + 1 * (x 0).val + (0 + 1 * (x 1).val)) (0 + 1 * (x 2).val)
  congr 1
  omega

/-- The eight copies of the window. -/
abbrev copies (v : Memref sig .tc .vmem S552x512 .f32) (L : List (View.Piece (Elt Ideal) S552x512 .f32)) : List (View.Piece (Elt Ideal) S8x544x512 .f32) :=
  [⟨Rect.unit ![7, 0, 0] S1x544x512.size inb_S8x544x512_S1x544x512_7_0_0, shapeCast S1x544x512 (v.view.readCov L (Rect.unit (s := S552x512) ![7, 0] S544x512.size inb_S552x512_S544x512_7_0).toLoadRect : FVec Ideal S544x512 .f32) shapeCasts_S544x512_S1x544x512⟩,
    ⟨Rect.unit ![6, 0, 0] S1x544x512.size inb_S8x544x512_S1x544x512_6_0_0, shapeCast S1x544x512 (v.view.readCov L (Rect.unit (s := S552x512) ![6, 0] S544x512.size inb_S552x512_S544x512_6_0).toLoadRect : FVec Ideal S544x512 .f32) shapeCasts_S544x512_S1x544x512⟩,
    ⟨Rect.unit ![5, 0, 0] S1x544x512.size inb_S8x544x512_S1x544x512_5_0_0, shapeCast S1x544x512 (v.view.readCov L (Rect.unit (s := S552x512) ![5, 0] S544x512.size inb_S552x512_S544x512_5_0).toLoadRect : FVec Ideal S544x512 .f32) shapeCasts_S544x512_S1x544x512⟩,
    ⟨Rect.unit ![4, 0, 0] S1x544x512.size inb_S8x544x512_S1x544x512_4_0_0, shapeCast S1x544x512 (v.view.readCov L (Rect.unit (s := S552x512) ![4, 0] S544x512.size inb_S552x512_S544x512_4_0).toLoadRect : FVec Ideal S544x512 .f32) shapeCasts_S544x512_S1x544x512⟩,
    ⟨Rect.unit ![3, 0, 0] S1x544x512.size inb_S8x544x512_S1x544x512_3_0_0, shapeCast S1x544x512 (v.view.readCov L (Rect.unit (s := S552x512) ![3, 0] S544x512.size inb_S552x512_S544x512_3_0).toLoadRect : FVec Ideal S544x512 .f32) shapeCasts_S544x512_S1x544x512⟩,
    ⟨Rect.unit ![2, 0, 0] S1x544x512.size inb_S8x544x512_S1x544x512_2_0_0, shapeCast S1x544x512 (v.view.readCov L (Rect.unit (s := S552x512) ![2, 0] S544x512.size inb_S552x512_S544x512_2_0).toLoadRect : FVec Ideal S544x512 .f32) shapeCasts_S544x512_S1x544x512⟩,
    ⟨Rect.unit ![1, 0, 0] S1x544x512.size inb_S8x544x512_S1x544x512_1_0_0, shapeCast S1x544x512 (v.view.readCov L (Rect.unit (s := S552x512) ![1, 0] S544x512.size inb_S552x512_S544x512_1_0).toLoadRect : FVec Ideal S544x512 .f32) shapeCasts_S544x512_S1x544x512⟩,
    ⟨Rect.unit ![0, 0, 0] S1x544x512.size inb_S8x544x512_S1x544x512_0_0_0, shapeCast S1x544x512 (v.view.readCov L (Rect.unit (s := S552x512) ![0, 0] S544x512.size inb_S552x512_S544x512_0_0).toLoadRect : FVec Ideal S544x512 .f32) shapeCasts_S544x512_S1x544x512⟩]

theorem copies_read {v : Memref sig .tc .vmem S552x512 .f32} {L : List (View.Piece (Elt Ideal) S552x512 .f32)} (h : ∀ y : S552x512.Idx, (v.view.read (Elt Ideal) (v.view.writes (Elt Ideal) v.view.junk L) y : EReal) = win (y 0).val (y 1).val)
    (w : Memref sig .tc .vmem S8x544x512 .f32) (y : S8x544x512.Idx) :
    (w.view.read (Elt Ideal) (w.view.writes (Elt Ideal) w.view.junk (copies v L)) y : EReal) = win ((y 0).val + (y 1).val) (y 2).val := by
  refine View.read_writes_apply_of_pieces (Val := Elt Ideal) (f := w.view.junk) (v := w.view) (fun y => (win ((y 0).val + (y 1).val) (y 2).val : EReal)) _ ?_ y
    (View.cover_of_tiledL (copies v L) S1x544x512.size (by sl_kernel_rfl) y)
  unfold copies
  iterate 8 refine List.forall_mem_cons.mpr ⟨fun x => shift_at h _ _ x, ?_⟩
  exact fun p hp => absurd hp List.not_mem_nil

variable (c : Dev nD) (i : grid0.Coords) (arg5 : Memref sig .tc .vmem S512x512 .f32) (harg5 : arg5.IsWhole) (arg6 : Memref sig .tc .vmem S32x512 .f32) (harg6 : arg6.IsWhole) (arg14 : Memref sig .tc .vmem S552x512 .f32)
    (x4 : Vec Ideal S512x512 .f32) (x5 : Vec Ideal S32x512 .f32)

set_option maxHeartbeats 2000000 in
/-- What the kernel leaves in the copies' buffer. -/
theorem stored_eqA : kernelRun0_A.sl.HS3_8 c i arg5 harg5 arg6 harg6 arg14 x4 x5 = copies arg14 (winPieces (k0_pay176 (F := Ideal) x4) (k0_pay177 (F := Ideal) (BitVec.ofNat 32 (i 0).val) x5)) := by
  have e5 : View.readAt (Elt Ideal) arg5.view (Rect.unit (s := S512x512) ![0, 0] ![512, 512] inb_S512x512_S512x512_0_0).toLoadRect (harg5.unread x4) = x4 :=
    (View.readAt_full _ _ inb_S512x512_S512x512_0_0).trans (harg5.read_unread _)
  have e6 : View.readAt (Elt Ideal) arg6.view (Rect.unit (s := S32x512) ![0, 0] ![32, 512] inb_S32x512_S32x512_0_0).toLoadRect (harg6.unread x5) = x5 :=
    (View.readAt_full _ _ inb_S32x512_S32x512_0_0).trans (harg6.read_unread _)
  sl_unfold_words
  simp only [e5, e6, k0_pay179, k0_pay180, k0_pay181, k0_pay182, k0_pay183, k0_pay184, k0_pay185, k0_pay186]

set_option maxHeartbeats 2000000 in
/-- What the kernel leaves in the copies' buffer. -/
theorem stored_eqB : kernelRun0_B.sl.HS3_8 c i arg5 harg5 arg6 harg6 arg14 x4 x5 = copies arg14 (winPieces (k0_pay176 (F := Ideal) x4) (k0_pay177 (F := Ideal) (BitVec.ofNat 32 (i 0).val) x5)) := by
  have e5 : View.readAt (Elt Ideal) arg5.view (Rect.unit (s := S512x512) ![0, 0] ![512, 512] inb_S512x512_S512x512_0_0).toLoadRect (harg5.unread x4) = x4 :=
    (View.readAt_full _ _ inb_S512x512_S512x512_0_0).trans (harg5.read_unread _)
  have e6 : View.readAt (Elt Ideal) arg6.view (Rect.unit (s := S32x512) ![0, 0] ![32, 512] inb_S32x512_S32x512_0_0).toLoadRect (harg6.unread x5) = x5 :=
    (View.readAt_full _ _ inb_S32x512_S32x512_0_0).trans (harg6.read_unread _)
  sl_unfold_words
  simp only [e5, e6, k0_pay179, k0_pay180, k0_pay181, k0_pay182, k0_pay183, k0_pay184, k0_pay185, k0_pay186]

end Cert.ConvBwdIdeal.Value
-- ==== Proof.CobOut.lean ====
/-
  What one point of the grid leaves of the gradients of the values and of the gates: its 512 rows, strip by strip.
-/
module

public import proofs.«01_k».proof.Proof.CobWindow

@[expose] public section

set_option maxRecDepth 16384

noncomputable section

namespace Cert.ConvBwdIdeal.Value

open Cert.ConvBwdIdeal Cert.ConvBwdIdeal.Gen Idealize.ShloMosaic Idealize.ShloMosaic.TcCoe Idealize.SL.Sem

/-- The gradient of a value, and of its gate. -/
abbrev dv (W win G : ℕ → ℕ → EReal) (p l : ℕ) : EReal := back W win p l * Ideal.logistic (G p l)
abbrev dg (W win U G : ℕ → ℕ → EReal) (p l : ℕ) : EReal := back W win p l * U p l * Ideal.logistic (G p l) * (1 - Ideal.logistic (G p l))

variable {win W U G : ℕ → ℕ → EReal}
variable (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S32x512 .f32) (harg3 : arg3.IsWhole) (arg4 : Memref sig .tc .vmem S32x512 .f32) (harg4 : arg4.IsWhole) (arg5 : Memref sig .tc .vmem S512x512 .f32) (harg5 : arg5.IsWhole) (arg6 : Memref sig .tc .vmem S32x512 .f32) (harg6 : arg6.IsWhole) (arg7 : Memref sig .tc .vmem S32x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S32x512 .f32) (harg10 : arg10.IsWhole) (arg11 : Memref sig .tc .vmem S1x512 .f32) (harg11 : arg11.IsWhole) (arg12 : Memref sig .tc .vmem S552x512 .f32) (harg12 : arg12.IsWhole) (arg13 : Memref sig .tc .vmem S8x544x512 .f32) (harg13 : arg13.IsWhole) (arg14 : Memref sig .tc .vmem S552x512 .f32) (harg14 : arg14.IsWhole) (arg15 : Memref sig .tc .vmem S8x544x512 .f32) (harg15 : arg15.IsWhole)

theorem emb1 (k : Fin k0_t1_loop.trips) (x : S16x512.Idx) : ((Rect.unit (s := S512x512) (k0_off9 k) S16x512.size (k0_off9_inb k)).emb x 1).val = (x 1).val := by
  show k0_off9 k 1 + 1 * (x 1).val = _
  rw [(off9_at k).2, Nat.zero_add, Nat.one_mul]
theorem emb0 (k : Fin k0_t1_loop.trips) (x : S16x512.Idx) : ((Rect.unit (s := S512x512) (k0_off9 k) S16x512.size (k0_off9_inb k)).emb x 0).val = 16 * k.val + (x 0).val := by
  show k0_off9 k 0 + 1 * (x 0).val = _
  rw [(off9_at k).1, Nat.one_mul]

/-- The pieces of the first `n` strips agree with the gradients. -/
theorem strips {v : FVec Ideal S1x544x512 .f32} {X1 : BufTy.Contents (Elt Ideal) arg1.view.ty} {X2 : BufTy.Contents (Elt Ideal) arg2.view.ty} {X7 : BufTy.Contents (Elt Ideal) arg7.view.ty} {X15 : BufTy.Contents (Elt Ideal) arg15.view.ty}
    (hU : ∀ y : S512x512.Idx, (arg1.view.read (Elt Ideal) X1 y : EReal) = U (y 0).val (y 1).val) (hG : ∀ y : S512x512.Idx, (arg2.view.read (Elt Ideal) X2 y : EReal) = G (y 0).val (y 1).val)
    (hW : ∀ y : S32x512.Idx, (arg7.view.read (Elt Ideal) X7 y : EReal) = W (y 0).val (y 1).val)
    (hX : ∀ y : S8x544x512.Idx, (arg15.view.read (Elt Ideal) X15 y : EReal) = win ((y 0).val + (y 1).val) (y 2).val) :
    ∀ n : ℕ, n ≤ k0_t1_loop.trips →
      (∀ p ∈ (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 v X1 X2 X7 X15 n).1, ∀ x : p.1.shape.Idx, (p.2 x : EReal) = dv W win G (p.1.emb x 0).val (p.1.emb x 1).val)
      ∧ ∀ p ∈ (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 v X1 X2 X7 X15 n).2, ∀ x : p.1.shape.Idx, (p.2 x : EReal) = dg W win U G (p.1.emb x 0).val (p.1.emb x 1).val
  | 0, _ => by
    rw [pb_k0_t1.eq_1]
    exact ⟨fun p hp => absurd hp List.not_mem_nil, fun p hp => absurd hp List.not_mem_nil⟩
  | n + 1, hn => by
    have ih := strips hU hG hW hX n (Nat.le_of_succ_le hn) (v := v)
    rw [pb_k0_t1_succ (k := ⟨n, hn⟩)]
    refine ⟨fun p hp x => ?_, fun p hp x => ?_⟩
    · rcases List.mem_append.mp hp with hp | hp
      · unfold tripL_k0_t1 trip_k0_t1 at hp
        obtain rfl := List.mem_singleton.mp hp
        have h := strip_at hG hW hX ⟨n, hn⟩ (k0_off6_inb ⟨n, hn⟩ 1) (k0_off7_inb ⟨n, hn⟩ 0) (k0_off7_inb ⟨n, hn⟩ 1) (k0_off9_inb ⟨n, hn⟩) (x 0) (x 1)
        rw [← eq_ix2 x] at h
        refine h.trans ?_
        rw [← emb1 ⟨n, hn⟩ x, ← emb0 ⟨n, hn⟩ x]
      · exact ih.1 p hp x
    · rcases List.mem_append.mp hp with hp | hp
      · unfold tripL_k0_t1 trip_k0_t1 at hp
        obtain rfl := List.mem_singleton.mp hp
        have h := strip'_at hU hG hW hX ⟨n, hn⟩ (k0_off6_inb ⟨n, hn⟩ 1) (k0_off7_inb ⟨n, hn⟩ 0) (k0_off7_inb ⟨n, hn⟩ 1) (k0_off9_inb ⟨n, hn⟩) (x 0) (x 1)
        rw [← eq_ix2 x] at h
        refine h.trans ?_
        rw [← emb1 ⟨n, hn⟩ x, ← emb0 ⟨n, hn⟩ x]
      · exact ih.2 p hp x

variable {x0 x1 x4 : Vec Ideal S512x512 .f32} {x2 x3 x5 x6 : Vec Ideal S32x512 .f32}
    (hA : ∀ (r : Fin 32) (l : Fin 512), (k0_pay177 (F := Ideal) (BitVec.ofNat 32 (i 0).val) x5 (ix2 r l) : EReal) = win (512 + r.val) l.val)
    (hC : ∀ (r : Fin 512) (l : Fin 512), (k0_pay176 (F := Ideal) x4 (ix2 r l) : EReal) = win r.val l.val) (h0 : ∀ p l, 544 ≤ p → win p l = 0)
    (hU : ∀ y : S512x512.Idx, (x0 y : EReal) = U (y 0).val (y 1).val) (hG : ∀ y : S512x512.Idx, (x1 y : EReal) = G (y 0).val (y 1).val)
    (hW : ∀ y : S32x512.Idx, (x6 y : EReal) = W (y 0).val (y 1).val)

include hA hC h0 hU hG hW

/-- One entry of what the first point leaves. -/
theorem outA_at (hc0 : cond0_0 i) (y : S512x512.Idx) :
    (out0_A_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 y : EReal) = dv W win G (y 0).val (y 1).val
      ∧ (out0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 y : EReal) = dg W win U G (y 0).val (y 1).val := by
  have hX : ∀ y : S8x544x512.Idx, (arg15.view.read (Elt Ideal) (arg15.view.writes (Elt Ideal) arg15.view.junk
      (kernelRun0_A.sl.HS3_8 c i arg5 harg5 arg6 harg6 arg14 x4 x5)) y : EReal) = win ((y 0).val + (y 1).val) (y 2).val := by
    rw [stored_eqA]
    exact copies_read (win_at hA hC h0 arg14) arg15
  have h := strips c i arg1 harg1 arg2 harg2 arg3 harg3 arg4 harg4 arg5 harg5 arg6 harg6 arg7 harg7 arg8 harg8 arg9 harg9 arg10 harg10 arg11 harg11 arg12 harg12 arg13 harg13 arg14 harg14 arg15 harg15 (X1 := harg1.unread x0) (X2 := harg2.unread x1) (X7 := harg7.unread x6) (v := kernelRun0_A.sl.r_1 c i arg5 harg5 arg6 harg6 arg14 x4 x5)
    (by rw [harg1.read_unread]; exact hU) (by rw [harg2.read_unread]; exact hG) (by rw [harg7.read_unread]; exact hW) hX k0_t1_loop.trips le_rfl
  refine ⟨?_, ?_⟩
  · unfold out0_A_7
    refine View.read_writes_apply_of_pieces (Val := Elt Ideal) (f := VO0_7.junk) (v := VO0_7) (fun y => (dv W win G (y 0).val (y 1).val : EReal)) _ ?_ y
      (cover0_A_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 y)
    unfold kernelRun0_A
    exact h.1
  · unfold out0_A_8
    refine View.read_writes_apply_of_pieces (Val := Elt Ideal) (f := VO0_8.junk) (v := VO0_8) (fun y => (dg W win U G (y 0).val (y 1).val : EReal)) _ ?_ y
      (cover0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 y)
    unfold kernelRun0_A
    exact h.2

/-- One entry of what a later point leaves. -/
theorem outB_at (hc0 : ¬cond0_0 i) (xo9 : Vec Ideal S32x512 .f32) (xo10 : Vec Ideal S1x512 .f32) (y : S512x512.Idx) :
    (out0_B_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 xo9 xo10 y : EReal) = dv W win G (y 0).val (y 1).val
      ∧ (out0_B_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 xo9 xo10 y : EReal) = dg W win U G (y 0).val (y 1).val := by
  have hX : ∀ y : S8x544x512.Idx, (arg15.view.read (Elt Ideal) (arg15.view.writes (Elt Ideal) arg15.view.junk
      (kernelRun0_B.sl.HS3_8 c i arg5 harg5 arg6 harg6 arg14 x4 x5)) y : EReal) = win ((y 0).val + (y 1).val) (y 2).val := by
    rw [stored_eqB]
    exact copies_read (win_at hA hC h0 arg14) arg15
  have h := strips c i arg1 harg1 arg2 harg2 arg3 harg3 arg4 harg4 arg5 harg5 arg6 harg6 arg7 harg7 arg8 harg8 arg9 harg9 arg10 harg10 arg11 harg11 arg12 harg12 arg13 harg13 arg14 harg14 arg15 harg15 (X1 := harg1.unread x0) (X2 := harg2.unread x1) (X7 := harg7.unread x6) (v := kernelRun0_B.sl.r_1 c i arg5 harg5 arg6 harg6 arg14 x4 x5)
    (by rw [harg1.read_unread]; exact hU) (by rw [harg2.read_unread]; exact hG) (by rw [harg7.read_unread]; exact hW) hX k0_t1_loop.trips le_rfl
  refine ⟨?_, ?_⟩
  · unfold out0_B_7
    refine View.read_writes_apply_of_pieces (Val := Elt Ideal) (f := VO0_7.junk) (v := VO0_7) (fun y => (dv W win G (y 0).val (y 1).val : EReal)) _ ?_ y
      (cover0_B_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 xo9 xo10 y)
    unfold kernelRun0_B
    exact h.1
  · unfold out0_B_8
    refine View.read_writes_apply_of_pieces (Val := Elt Ideal) (f := VO0_8.junk) (v := VO0_8) (fun y => (dg W win U G (y 0).val (y 1).val : EReal)) _ ?_ y
      (cover0_B_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 xo9 xo10 y)
    unfold kernelRun0_B
    exact h.2

end Cert.ConvBwdIdeal.Value
-- ==== Proof.CobRef.lean ====
/-
  The gradient of the convolution, entry by entry: 31 products with the rows of the incoming gradient that follow, added one after another.
-/
module

public import proofs.«01_k».proof.Proof.CofStrip
public import proofs.«01_k».proof.Proof.Gen.ConvBwdRefIdeal.Read
public import Idealize.ShloMosaic.Lib.StableHlo.ReadAt
public import Idealize.ShloMosaic.Lib.KernelVsHost

@[expose] public section

set_option maxRecDepth 16384

noncomputable section

namespace Cert.ConvBwdRefIdeal.Value

open Cert.ConvBwdRefIdeal Cert.ConvBwdRefIdeal.Gen Idealize.ShloMosaic Idealize.ShloMosaic.TcCoe Idealize.SL.Sem
open Cert.ConvBwdRefIdeal.Read
open Cert.ConvFwdIdeal.Value (taps)

variable (d : Vec Ideal S8192x512 .f32) (w : Vec Ideal S31x512 .f32)

/-- The incoming gradient, followed by rows of zeros. -/
def row (p l : ℕ) : EReal := if h : p < 8192 ∧ l < 512 then d (ix2 ⟨p, h.1⟩ ⟨l, h.2⟩) else 0
/-- The weights, by tap and column. -/
def wt (n l : ℕ) : EReal := if h : n < 31 ∧ l < 512 then w (ix2 ⟨n, h.1⟩ ⟨l, h.2⟩) else 0

/-- One tap's products, at the row they are read from. -/
theorem prod_at (k : ℕ) (hk : k < 31) (sc : S8192x512.numel = S8192x512.numel) (b2 : S1x512.BroadcastsInDim S8192x512 ![0, 1]) (b1 : S512.BroadcastsInDim S1x512 ![1]) (hs : S31x512.Slices ![k, 0] S1x512) (sw : S1x512.numel = S512.numel) (q : Fin 8192) (l : Fin 512) :
    (mulf (shapeCast S8192x512 d sc : FVec Ideal S8192x512 .f32) (broadcastInDim S8192x512 ![0, 1] b2 (broadcastInDim S1x512 ![1] b1 (shapeCast S512 (extractStridedSlice S1x512 ![k, 0] w hs) sw))) (ix2 q l) : EReal)
      = d (ix2 q l) * wt w k l.val := by
  have e : wt w k l.val = w (ix2 ⟨k, hk⟩ l) := by
    unfold wt
    rw [dif_pos (⟨hk, l.isLt⟩ : k < 31 ∧ l.val < 512)]
  rw [e]
  pointwise

/-- One tap's products behind its rows of padding. -/
theorem tap_at (k j : ℕ) (hk : k < 31) (sc : S8192x512.numel = S8192x512.numel) (b2 : S1x512.BroadcastsInDim S8192x512 ![0, 1]) (b1 : S512.BroadcastsInDim S1x512 ![1]) (hs : S31x512.Slices ![k, 0] S1x512) (sw : S1x512.numel = S512.numel)
    (hp : S8192x512.Pads ![k, 0] ![j, 0] ![0, 0] S8222x512) (q : Fin 8192) (l : Fin 512) :
    (pad S8222x512 ![k, 0] ![j, 0] ![0, 0] (mulf (shapeCast S8192x512 d sc : FVec Ideal S8192x512 .f32) (broadcastInDim S8192x512 ![0, 1] b2 (broadcastInDim S1x512 ![1] b1 (shapeCast S512 (extractStridedSlice S1x512 ![k, 0] w hs) sw))))
        (constant (F := Ideal) S_ .f32 0x00000000#32) hp h_S_ (idx_main_v359 (ix2 q l)) : EReal)
      = row d (q.val + (30 - k)) l.val * wt w k l.val := by
  unfold row
  by_cases h : q.val + (30 - k) < 8192
  · rw [dif_pos (⟨h, l.isLt⟩ : q.val + (30 - k) < 8192 ∧ l.val < 512)]
    refine Eq.trans ?_ (prod_at d w k hk sc b2 b1 hs sw ⟨q.val + (30 - k), h⟩ l)
    refine pad_apply_of_inside _ _ _ _ _ hp h_S_ _ (ix2 ⟨q.val + (30 - k), h⟩ l) fun a => ?_
    match a with
    | ⟨0, _⟩ => show 30 + q.val = k + (q.val + (30 - k)) * (0 + 1); omega
    | ⟨1, _⟩ => show l.val = 0 + l.val * (0 + 1); omega
  · rw [dif_neg fun g => h g.1, zero_mul]
    refine (pad_apply_of_not_inside _ _ _ _ _ hp h_S_ _ (0 : Fin 2) ?_).trans ?_
    · show ¬(k ≤ 30 + q.val ∧ (30 + q.val - k) % 1 = 0 ∧ (30 + q.val - k) / 1 < 8192)
      omega
    · pointwise

/-- One entry of the gradient of the gated input. -/
theorem back_at (q : Fin 8192) (l : Fin 512) : ((val_main_v359 (F := Ideal) d w : Vec Ideal S8192x512 .f32) (ix2 q l) : EReal)
    = taps (fun n => row d (q.val + n) l.val * wt w (30 - n) l.val) 0 31 := by
  refine (val_main_v359_apply ..).trans ?_
  simp only [val_main_v357_apply, val_main_v353_apply, val_main_v349_apply, val_main_v345_apply, val_main_v341_apply, val_main_v337_apply, val_main_v333_apply, val_main_v329_apply, val_main_v325_apply, val_main_v321_apply, val_main_v317_apply, val_main_v313_apply, val_main_v309_apply, val_main_v305_apply, val_main_v301_apply, val_main_v297_apply, val_main_v293_apply, val_main_v289_apply, val_main_v285_apply, val_main_v281_apply, val_main_v277_apply, val_main_v273_apply, val_main_v269_apply, val_main_v265_apply, val_main_v261_apply, val_main_v257_apply, val_main_v253_apply, val_main_v249_apply, val_main_v245_apply, val_main_v241_apply]
  simp only [taps, zero_add]
  iterate 30 refine congrArg₂ HAdd.hAdd ?_ (tap_at d w _ _ (by decide) _ _ _ _ _ _ q l)
  exact tap_at d w _ _ (by decide) _ _ _ _ _ _ q l

end Cert.ConvBwdRefIdeal.Value
-- ==== Proof.CobKernel.lean ====
/-
  The backward convolution against its reference: every point of the kernel's grid leaves its 512 rows of the gradients of the values and of the gates.
-/
module

public import proofs.«01_k».proof.Proof.CobOut
public import proofs.«01_k».proof.Proof.CobRef
public import proofs.«01_k».proof.Proof.Gen.ConvBwdIdeal.Value
public import Idealize.ShloMosaic.Lib.Pipeline.ValueKit
public import Idealize.ShloMosaic.Lib.Pointwise

@[expose] public section

set_option maxRecDepth 16384

noncomputable section

namespace Cert.ConvBwdIdeal.Value

open Idealize.ShloMosaic Idealize.ShloMosaic.TcCoe Idealize.SL.Sem Cert.ConvBwdIdeal Cert.ConvBwdIdeal.Gen
open Cert.ConvBwdRefIdeal.Read
open Cert.ConvBwdRefIdeal.Value (row wt)
open Cert.ConvFwdIdeal.Value (taps)

variable (m : (ℓ : Loc nD τ sig) → Buf (Elt Ideal) ℓ) (c : Dev nD)

abbrev a0 : Vec Ideal S8192x2560 .f32 := m ((c : Thread nD τ).loc main_arg0)
abbrev a1 : Vec Ideal S8192x512 .f32 := m ((c : Thread nD τ).loc main_arg1)
abbrev a2 : Vec Ideal S31x512 .f32 := m ((c : Thread nD τ).loc main_arg2)

theorem idx : ∀ t : Fin cfg0.N, (win0_0.index t 0 = t.val ∧ win0_0.index t 1 = 2) ∧ (win0_1.index t 0 = t.val ∧ win0_1.index t 1 = 3)
    ∧ (win0_4.index t 0 = t.val ∧ win0_4.index t 1 = 0) ∧ (win0_5.index t 0 = min ((t.val + 1) * 16) 255 ∧ win0_5.index t 1 = 0)
    ∧ (win0_6.index t 0 = 0 ∧ win0_6.index t 1 = 0) ∧ (win0_7.index t 0 = t.val ∧ win0_7.index t 1 = 0) ∧ (win0_8.index t 0 = t.val ∧ win0_8.index t 1 = 0) :=
  (by decide +kernel : ∀ t : Fin grid0.N, _)

theorem lt16 (t : Fin cfg0.N) : t.val < 16 := N_0 ▸ t.isLt

/-- The rows of point `t`, and the 32 rows after them. -/
def own (t : Fin cfg0.N) (r : Fin 512) : Fin 8192 := ⟨t.val * 512 + r.val, by have := lt16 t; omega⟩
def after (t : Fin cfg0.N) (r : Fin 32) : Fin 8192 := ⟨min ((t.val + 1) * 16) 255 * 32 + r.val, by have := lt16 t; omega⟩
/-- The columns of the values and of their gates. -/
def colV (l : Fin 512) : Fin 2560 := ⟨1024 + l.val, by omega⟩
def colG (l : Fin 512) : Fin 2560 := ⟨1536 + l.val, by omega⟩

theorem blk0 (t : Fin cfg0.N) (r l : Fin 512) : (iblk m c 0 t : Vec Ideal S512x512 .f32) (ix2 r l) = a0 m c (ix2 (own t r) (colV l)) := by
  unfold own colV
  blk_point [iblk, V, idx t]
theorem blk1 (t : Fin cfg0.N) (r l : Fin 512) : (iblk m c 1 t : Vec Ideal S512x512 .f32) (ix2 r l) = a0 m c (ix2 (own t r) (colG l)) := by
  unfold own colG
  blk_point [iblk, V, idx t]
theorem blk4 (t : Fin cfg0.N) (r l : Fin 512) : (iblk m c 4 t : Vec Ideal S512x512 .f32) (ix2 r l) = a1 m c (ix2 (own t r) l) := by
  unfold own
  blk_point [iblk, V, idx t]
theorem blk5 (t : Fin cfg0.N) (r : Fin 32) (l : Fin 512) : (iblk m c 5 t : Vec Ideal S32x512 .f32) (ix2 r l) = a1 m c (ix2 (after t r) l) := by
  unfold after
  blk_point [iblk, V, idx t]
theorem blk6 (t : Fin cfg0.N) : (iblk m c 6 t : Vec Ideal S32x512 .f32) = V m c main_v0 := by
  funext i
  rw [eq_ix2 i]
  blk_point [iblk, idx t]

theorem w_at (y : S32x512.Idx) : ((V m c main_v0 : Vec Ideal S32x512 .f32) y : EReal) = wt (a2 m c) (y 0).val (y 1).val := by
  have z : (FloatOps.sitofp FTy.f32 (0#32 : BitVec 32) : Ideal .f32) = (0 : EReal) := by
    show (((0#32 : BitVec 32).toInt : ℝ) : EReal) = 0
    simp
  rw [eq_ix2 y]
  unfold V
  after_reads_at
  show _ = wt (a2 m c) (y 0).val (y 1).val
  unfold wt
  by_cases h : (y 0).val < 31
  · rw [dif_pos h, dif_pos ⟨h, (y 1).isLt⟩]
    rfl
  · rw [dif_neg h, dif_neg fun k => h k.1]
    exact z

/-- The reference's two results from the gradient of the gated input. -/
theorem ref_v (z : Vec Ideal S8192x2560 .f32) (d : Vec Ideal S8192x512 .f32) (w : Vec Ideal S31x512 .f32) (p : Fin 8192) (l : Fin 512) :
    ((val_main_v361 (F := Ideal) z d w : Vec Ideal S8192x512 .f32) (ix2 p l) : EReal)
      = (val_main_v359 (F := Ideal) d w : Vec Ideal S8192x512 .f32) (ix2 p l) * Ideal.logistic (z (ix2 p (colG l))) := by
  unfold colG
  pointwise [val_main_v361, val_main_v7, val_main_v6, val_main_v5, val_main_v4, val_main_v3, val_main_v2, val_main_v1, val_main_cst, val_main_cst_0]
  rfl
theorem ref_g (z : Vec Ideal S8192x2560 .f32) (d : Vec Ideal S8192x512 .f32) (w : Vec Ideal S31x512 .f32) (p : Fin 8192) (l : Fin 512) :
    ((val_main_v362 (F := Ideal) z d w : Vec Ideal S8192x512 .f32) (ix2 p l) : EReal)
      = z (ix2 p (colV l)) * (val_main_v359 (F := Ideal) d w : Vec Ideal S8192x512 .f32) (ix2 p l) * (Ideal.logistic (z (ix2 p (colG l))) * (1 - Ideal.logistic (z (ix2 p (colG l))))) := by
  unfold colG colV
  pointwise [val_main_v362, val_main_v360, val_main_v10, val_main_v9, val_main_v8, val_main_v7, val_main_v6, val_main_v5, val_main_v4, val_main_v3, val_main_v2, val_main_v1, val_main_v0, val_main_cst, val_main_cst_0, val_main_cst_1]
  rfl

/-- The factor that clears the rows after the last point. -/
theorem flag : ∀ k : Fin 16, (Scalar.extui (Scalar.cmpi CmpIPredicate.slt (BitVec.ofNat 32 k.val) 15#32) : BitVec 32).toInt = if k.val = 15 then 0 else 1 := by
  decide +kernel
theorem coord : ∀ t : Fin cfg0.N, ((grid0.coords t) 0).val = t.val := (by decide +kernel : ∀ t : Fin grid0.N, _)

theorem pay177_at (t : Fin cfg0.N) (x : Vec Ideal S32x512 .f32) (r : Fin 32) (l : Fin 512) : (k0_pay177 (F := Ideal) (BitVec.ofNat 32 ((grid0.coords t) 0).val) x (ix2 r l) : EReal)
    = if t.val = 15 then 0 else x (ix2 r l) := by
  pointwise [k0_pay177]
  rw [coord, flag ⟨t.val, lt16 t⟩]
  show _ * (((if t.val = 15 then (0 : ℤ) else 1 : ℤ) : ℝ) : EReal) = _
  split
  · simp
  · simp
theorem pay176_at (x : Vec Ideal S512x512 .f32) (r l : Fin 512) : (k0_pay176 (F := Ideal) x (ix2 r l) : EReal) = x (ix2 r l) := by
  pointwise [k0_pay176]

theorem row_at (d : Vec Ideal S8192x512 .f32) (p : Fin 8192) (l : Fin 512) : (d (ix2 p l) : EReal) = row d p.val l.val := by
  unfold row
  rw [dif_pos (⟨p.isLt, l.isLt⟩ : p.val < 8192 ∧ l.val < 512)]
theorem row_end (d : Vec Ideal S8192x512 .f32) (p l : ℕ) (h : 8192 ≤ p) : row d p l = 0 := by
  unfold row
  exact dif_neg fun k => absurd k.1 (by omega)

/-- The rows a point's window holds, by row and column. -/
def win (t p l : ℕ) : EReal := if p < 544 then row (a1 m c) (512 * t + p) l else 0

theorem win_end (t p l : ℕ) (h : 544 ≤ p) : win m c t p l = 0 := if_neg (by omega)

theorem after_win (t : Fin cfg0.N) (r : Fin 32) (l : Fin 512) :
    (k0_pay177 (F := Ideal) (BitVec.ofNat 32 ((grid0.coords t) 0).val) (iblk m c 5 t) (ix2 r l) : EReal) = win m c t.val (512 + r.val) l.val := by
  have ht := lt16 t
  rw [pay177_at, blk5]
  unfold win
  rw [if_pos (show 512 + r.val < 544 by omega)]
  by_cases h : t.val = 15
  · rw [if_pos h, row_end _ _ _ (by omega)]
  · rw [if_neg h, row_at (a1 m c)]
    refine congrArg (row (a1 m c) · l.val) ?_
    show min ((t.val + 1) * 16) 255 * 32 + r.val = _
    omega

theorem own_win (t : Fin cfg0.N) (r l : Fin 512) : (k0_pay176 (F := Ideal) (iblk m c 4 t) (ix2 r l) : EReal) = win m c t.val r.val l.val := by
  rw [pay176_at, blk4, row_at (a1 m c)]
  unfold win
  rw [if_pos (show r.val < 544 by omega)]
  refine congrArg (row (a1 m c) · l.val) ?_
  show t.val * 512 + r.val = _
  omega

/-- A tile by row and column. -/
def tile (x : Vec Ideal S512x512 .f32) (p l : ℕ) : EReal := if h : p < 512 ∧ l < 512 then x (ix2 ⟨p, h.1⟩ ⟨l, h.2⟩) else 0
theorem tile_ix (x : Vec Ideal S512x512 .f32) (r l : Fin 512) : (x (ix2 r l) : EReal) = tile x r.val l.val := by
  unfold tile
  rw [dif_pos (⟨r.isLt, l.isLt⟩ : r.val < 512 ∧ l.val < 512)]
theorem tile_at (x : Vec Ideal S512x512 .f32) (y : S512x512.Idx) : (x y : EReal) = tile x (y 0).val (y 1).val := by
  have h := tile_ix x (y 0) (y 1)
  rw [← eq_ix2 y] at h
  exact h

/-- A sum of taps taken from the other end. -/
theorem taps_sum (f : ℕ → EReal) : ∀ n, taps f 0 n = ∑ k ∈ Finset.range n, f k
  | 0 => rfl
  | n + 1 => by
    rw [Finset.sum_range_succ, ← taps_sum f n]
    rfl
theorem taps_rev (f g : ℕ → EReal) (h : ∀ n < 31, f n = g (30 - n)) : taps f 0 31 = taps g 0 31 := by
  rw [taps_sum, taps_sum, ← Finset.sum_range_reflect]
  refine Finset.sum_congr rfl fun k hk => ?_
  have hk := Finset.mem_range.mp hk
  rw [h _ (by omega)]
  exact congrArg g (by omega)

theorem back_eq (t : Fin cfg0.N) (r l : Fin 512) : back (wt (a2 m c)) (win m c t.val) r.val l.val = (val_main_v359 (F := Ideal) (a1 m c) (a2 m c) : Vec Ideal S8192x512 .f32) (ix2 (own t r) l) := by
  refine Eq.trans ?_ (Cert.ConvBwdRefIdeal.Value.back_at (a1 m c) (a2 m c) (own t r) l).symm
  refine taps_rev _ _ fun n hn => ?_
  show wt (a2 m c) n l.val * win m c t.val (r.val + (30 - n)) l.val = row (a1 m c) (t.val * 512 + r.val + (30 - n)) l.val * wt (a2 m c) (30 - (30 - n)) l.val
  rw [mul_comm, show 30 - (30 - n) = n by omega]
  refine congrArg (· * _) ?_
  unfold win
  rw [if_pos (by omega)]
  refine congrArg (row (a1 m c) · l.val) ?_
  omega

theorem outs (t : Fin cfg0.N) (y : S512x512.Idx) :
    ((outsAt0 (F := Ideal) m c t.val t.isLt).1 y : EReal) = dv (wt (a2 m c)) (win m c t.val) (tile (iblk m c 1 t)) (y 0).val (y 1).val
      ∧ ((outsAt0 (F := Ideal) m c t.val t.isLt).2.1 y : EReal) = dg (wt (a2 m c)) (win m c t.val) (tile (iblk m c 0 t)) (tile (iblk m c 1 t)) (y 0).val (y 1).val := by
  by_cases h : t.val % 16 = 0
  · rw [outsAt0_A m c t h]
    exact outA_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _)
      (after_win m c t) (own_win m c t) (win_end m c t.val) (tile_at _) (tile_at _) (fun y => by rw [blk6]; exact w_at m c y) _ y
  · rw [outsAt0_B m c t h]
    exact outB_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _)
      (after_win m c t) (own_win m c t) (win_end m c t.val) (tile_at _) (tile_at _) (fun y => by rw [blk6]; exact w_at m c y) _ _ _ y

theorem entry_v (t : Fin cfg0.N) (r l : Fin 512) :
    ((outsAt0 (F := Ideal) m c t.val t.isLt).1 (ix2 r l) : EReal) = (val_main_v361 (F := Ideal) (a0 m c) (a1 m c) (a2 m c) : Vec Ideal S8192x512 .f32) (ix2 (own t r) l) := by
  refine (outs m c t (ix2 r l)).1.trans ?_
  show back (wt (a2 m c)) (win m c t.val) r.val l.val * Ideal.logistic (tile (iblk m c 1 t) r.val l.val) = _
  rw [back_eq, ← tile_ix, blk1, ref_v]
theorem entry_g (t : Fin cfg0.N) (r l : Fin 512) :
    ((outsAt0 (F := Ideal) m c t.val t.isLt).2.1 (ix2 r l) : EReal) = (val_main_v362 (F := Ideal) (a0 m c) (a1 m c) (a2 m c) : Vec Ideal S8192x512 .f32) (ix2 (own t r) l) := by
  refine (outs m c t (ix2 r l)).2.trans ?_
  show back (wt (a2 m c)) (win m c t.val) r.val l.val * tile (iblk m c 0 t) r.val l.val * Ideal.logistic (tile (iblk m c 1 t) r.val l.val) * (1 - Ideal.logistic (tile (iblk m c 1 t) r.val l.val)) = _
  rw [back_eq, ← tile_ix, ← tile_ix, blk0, blk1, ref_g, mul_comm (_ : EReal) (a0 m c (ix2 (own t r) (colV l)) : EReal), mul_assoc (_ * _ : EReal)]

theorem after_v (t : Fin cfg0.N) (j : S512x512.Idx) (i : S8192x512.Idx) (h0 : (i 0).val = t.val * 512 + (j 0).val) (h1 : (i 1).val = (j 1).val) :
    (outsAt0 (F := Ideal) m c t.val t.isLt).1 j = (val_main_v361 (F := Ideal) (a0 m c) (a1 m c) (a2 m c) : Vec Ideal S8192x512 .f32) i := by
  rw [eq_ix2 j, eq_ix2 i, ← show own t (j 0) = i 0 from Fin.ext h0.symm, show i 1 = j 1 from Fin.ext h1]
  exact entry_v m c t (j 0) (j 1)

theorem final7 : (dats m 0 c).arrAt 7 cfg0.N = val_main_v361 (F := Ideal) (a0 m c) (a1 m c) (a2 m c) := by
  refine (dats m 0 c).arrAt_eq_of_covers 7 _ (by decide +kernel) fun t hf y => ?_
  rw [after0_7]
  exact after_v m c t _ _ (by show win0_7.index t 0 * 512 + 1 * (y 0).val = t.val * 512 + (y 0).val; rw [(idx t).2.2.2.2.2.1.1]; omega)
    (by show win0_7.index t 1 * 512 + 1 * (y 1).val = (y 1).val; rw [(idx t).2.2.2.2.2.1.2]; omega)

theorem after_g (t : Fin cfg0.N) (j : S512x512.Idx) (i : S8192x512.Idx) (h0 : (i 0).val = t.val * 512 + (j 0).val) (h1 : (i 1).val = (j 1).val) :
    (outsAt0 (F := Ideal) m c t.val t.isLt).2.1 j = (val_main_v362 (F := Ideal) (a0 m c) (a1 m c) (a2 m c) : Vec Ideal S8192x512 .f32) i := by
  rw [eq_ix2 j, eq_ix2 i, ← show own t (j 0) = i 0 from Fin.ext h0.symm, show i 1 = j 1 from Fin.ext h1]
  exact entry_g m c t (j 0) (j 1)

theorem final8 : (dats m 0 c).arrAt 8 cfg0.N = val_main_v362 (F := Ideal) (a0 m c) (a1 m c) (a2 m c) := by
  refine (dats m 0 c).arrAt_eq_of_covers 8 _ (by decide +kernel) fun t hf y => ?_
  rw [after0_8]
  exact after_g m c t _ _ (by show win0_8.index t 0 * 512 + 1 * (y 0).val = t.val * 512 + (y 0).val; rw [(idx t).2.2.2.2.2.2.1]; omega)
    (by show win0_8.index t 1 * 512 + 1 * (y 1).val = (y 1).val; rw [(idx t).2.2.2.2.2.2.2]; omega)

end Cert.ConvBwdIdeal.Value
-- ==== Proof.ConvBwdTie.lean ====
/-
  The backward convolution against its reference: the gradients of the values and of the gates are the
  reference's, and no condition is put on the arguments.
-/
module

public import proofs.«01_k».proof.Defs
public import proofs.«01_k».proof.Proof.CobKernel
public import proofs.«01_k».proof.Proof.Gen.ConvBwdRefIdeal.Run

@[expose] public section

set_option maxRecDepth 16384

noncomputable section

namespace ConvBwdTie

open Idealize.ShloMosaic Idealize.SL.Sem Cert.ConvBwdIdeal.Value Cert.ConvBwdRefIdeal.Read

theorem value : Cert.algebraic_ConvBwdIdeal_ConvBwdRefIdeal (hConvBwdIdeal := Cert.ConvBwdIdeal.Gen.facts) (hConvBwdRefIdeal := Cert.ConvBwdRefIdeal.Gen.facts) := by
  intro m g m' g' _ hm
  refine ⟨fun c => val_main_v361 (F := Ideal) (a0 m c) (a1 m c) (a2 m c), fun c => val_main_v362 (F := Ideal) (a0 m c) (a1 m c) (a2 m c),
    (θ_run _ _ _).mono (fun r h c => ?_) (run_blocks m g),
    (θ_run _ _ _).mono (fun r h c => ?_) (Cert.ConvBwdRefIdeal.Value.run m' g')⟩
  · obtain ⟨r0, r1, r2, r3, kept⟩ := h c
    exact ⟨r0.trans (final7 m c), r1.trans (final8 m c), kept⟩
  · obtain ⟨r0, r1, kept⟩ := h c
    obtain ⟨e0, e1, e2⟩ := hm c
    refine ⟨r0.trans ((val_main_v361_eq ..).trans ?_), r1.trans ((val_main_v362_eq ..).trans ?_), kept⟩
    · show val_main_v361 (F := Ideal) (m' (c.tc.loc Cert.ConvBwdRefIdeal.main_arg0)) (m' (c.tc.loc Cert.ConvBwdRefIdeal.main_arg1)) (m' (c.tc.loc Cert.ConvBwdRefIdeal.main_arg2)) = _
      rw [e0, e1, e2]
    · show val_main_v362 (F := Ideal) (m' (c.tc.loc Cert.ConvBwdRefIdeal.main_arg0)) (m' (c.tc.loc Cert.ConvBwdRefIdeal.main_arg1)) (m' (c.tc.loc Cert.ConvBwdRefIdeal.main_arg2)) = _
      rw [e0, e1, e2]

end ConvBwdTie
end
-- ==== Proof.DiscRows.lean ====
/-
  The gradient of the recurrence's discretisation, line by line: each of the kernel's lines is the line of the reference that
  computes the same quantity.
-/
module

public import proofs.«01_k».proof.Proof.Gen.S5DiscBwdIdeal.Frame
public import proofs.«01_k».proof.Proof.Gen.S5DiscBwdRefIdeal.Read
public import Idealize.ShloMosaic.Lib.Pipeline.ValueKit
public import Idealize.ShloMosaic.Lib.Pointwise
public import Idealize.ShloMosaic.Lib.StableHlo.ReadAt

@[expose] public section

set_option maxRecDepth 16384

noncomputable section

namespace Cert.S5DiscBwdIdeal.Value

open Idealize.ShloMosaic Idealize.ShloMosaic.TcCoe Idealize.SL.Sem Cert.S5DiscBwdIdeal Cert.S5DiscBwdIdeal.Gen
open Cert.S5DiscBwdRefIdeal.Read

/-- A column of the step sizes' logarithms, as the host hands it over. -/
def col (E : Vec Ideal S32 .f32) : Vec Ideal S32x1 .f32 := shapeCast S32x1 E shapeCasts_S32_S32x1
/-- The matrices of the 32 groups under one another, as the host hands them over. -/
def stack (B : Vec Ideal S32x64x16 .f32) : Vec Ideal S512x64 .f32 :=
  shapeCast S512x64 (transpose S32x16x64 [0, 2, 1] B transposes_S32x64x16_S32x16x64_0_2_1) shapeCasts_S32x16x64_S512x64

variable {x0 x1 x5 x6 : Vec Ideal S32x64 .f32} {E : Vec Ideal S32 .f32} {B3 B4 B7 B8 : Vec Ideal S32x64x16 .f32}

/-- The decay exp(re λ dt). -/
theorem mag_eq : (k0_pay4 (F := Ideal) x0 (col E) : Vec Ideal S32x64 .f32) = val_main_v4 (F := Ideal) x0 E := by
  funext i
  rw [eq_ix2 i]
  pointwise [k0_pay4, k0_pay3, val_main_v4, val_main_v3, val_main_v2, val_main_v1, val_main_v0, col]

theorem cos_eq : (k0_pay6 (F := Ideal) x1 (col E) : Vec Ideal S32x64 .f32) = val_main_v7 (F := Ideal) x1 E := by
  funext i
  rw [eq_ix2 i]
  pointwise [k0_pay6, k0_pay5, k0_pay3, val_main_v7, val_main_v6, val_main_v5, val_main_v1, val_main_v0, col]

theorem sin_eq : (k0_pay7 (F := Ideal) x1 (col E) : Vec Ideal S32x64 .f32) = val_main_v8 (F := Ideal) x1 E := by
  funext i
  rw [eq_ix2 i]
  pointwise [k0_pay7, k0_pay5, k0_pay3, val_main_v8, val_main_v6, val_main_v5, val_main_v1, val_main_v0, col]

theorem sin_eq' : (k0_pay9 (F := Ideal) x1 (col E) : Vec Ideal S32x64 .f32) = val_main_v12 (F := Ideal) x1 E := by
  funext i
  rw [eq_ix2 i]
  pointwise [k0_pay9, k0_pay8, k0_pay3, val_main_v12, val_main_v11, val_main_v10, val_main_v1, val_main_v0, col]

theorem cos_eq' : (k0_pay10 (F := Ideal) x1 (col E) : Vec Ideal S32x64 .f32) = val_main_v13 (F := Ideal) x1 E := by
  funext i
  rw [eq_ix2 i]
  pointwise [k0_pay10, k0_pay8, k0_pay3, val_main_v13, val_main_v11, val_main_v10, val_main_v1, val_main_v0, col]

theorem abIm_eq : (k0_pay11 (F := Ideal) x0 x1 (col E) : Vec Ideal S32x64 .f32) = val_main_v14 (F := Ideal) x0 x1 E := by
  funext i
  rw [eq_ix2 i]
  pointwise [k0_pay11, val_main_v14]
  simp only [mag_eq, sin_eq']

/-- The squared modulus of λ. -/
theorem den_eq : (k0_pay12 (F := Ideal) x0 x1 : Vec Ideal S32x64 .f32) = val_main_v17 (F := Ideal) x0 x1 := by
  funext i
  rw [eq_ix2 i]
  pointwise [k0_pay12, val_main_v17, val_main_v16, val_main_v15]

theorem nr_eq : (k0_pay13 (F := Ideal) x0 x1 (col E) : Vec Ideal S32x64 .f32) = val_main_v19 (F := Ideal) x0 x1 E := by
  funext i
  rw [eq_ix2 i]
  pointwise [k0_pay13, val_main_v19, val_main_v18, val_main_v9, val_main_cst]
  simp only [mag_eq, cos_eq]

theorem numRe_eq : (k0_pay14 (F := Ideal) x0 x1 (col E) : Vec Ideal S32x64 .f32) = val_main_v22 (F := Ideal) x0 x1 E := by
  funext i
  rw [eq_ix2 i]
  pointwise [k0_pay14, val_main_v22, val_main_v21, val_main_v20]
  simp only [nr_eq, abIm_eq]

theorem invSq_eq : (k0_pay15 (F := Ideal) x0 x1 : Vec Ideal S32x64 .f32) = val_main_v26 (F := Ideal) x0 x1 := by
  funext i
  rw [eq_ix2 i]
  pointwise [k0_pay15, val_main_v26, val_main_v25, val_main_v24, val_main_cst_0]
  simp only [den_eq]

theorem numIm_eq : (k0_pay16 (F := Ideal) x0 x1 (col E) : Vec Ideal S32x64 .f32) = val_main_v29 (F := Ideal) x0 x1 E := by
  funext i
  rw [eq_ix2 i]
  pointwise [k0_pay16, val_main_v29, val_main_v28, val_main_v27]
  simp only [nr_eq, abIm_eq]

theorem invSq_eq' : (k0_pay17 (F := Ideal) x0 x1 : Vec Ideal S32x64 .f32) = val_main_v33 (F := Ideal) x0 x1 := by
  funext i
  rw [eq_ix2 i]
  pointwise [k0_pay17, val_main_v33, val_main_v32, val_main_v31, val_main_cst_1]
  simp only [den_eq]

/-- The gradient of the real part of the coefficient: a sum over the 16 inputs of each group. -/
theorem dcr_eq : (k0_pay26 (F := Ideal) (k0_pay1 (stack B3)) (k0_pay2 (stack B4)) (stack B7) (stack B8) : Vec Ideal S32x64 .f32) = val_main_v71 (F := Ideal) B3 B4 B7 B8 := by
  funext i
  rw [eq_ix2 i]
  pointwise [k0_pay26, k0_pay1, k0_pay2, k0_pay21, k0_pay22, k0_pay23, val_main_v71, val_main_v55, val_main_v54, val_main_v53, val_main_v52, val_main_v49, val_main_v70, val_main_v69, val_main_v68, val_main_v67, val_main_v63, val_main_cst_2, val_main_cst_3, val_main_cst_6, val_main_cst_7, stack]
  simp only [Fintype.sum_unique, zero_sub, Finset.sum_add_distrib]

theorem dci_eq : (k0_pay27 (F := Ideal) (k0_pay1 (stack B3)) (k0_pay2 (stack B4)) (stack B7) (stack B8) : Vec Ideal S32x64 .f32) = val_main_v79 (F := Ideal) B3 B4 B7 B8 := by
  funext i
  rw [eq_ix2 i]
  pointwise [k0_pay27, k0_pay1, k0_pay2, k0_pay21, k0_pay22, k0_pay23, val_main_v79, val_main_v61, val_main_v60, val_main_v59, val_main_v58, val_main_v48, val_main_v78, val_main_v77, val_main_v76, val_main_v75, val_main_v62, val_main_cst_4, val_main_cst_5, val_main_cst_8, val_main_cst_9, stack]
  simp only [Fintype.sum_unique, zero_sub, Finset.sum_add_distrib]

theorem q80 : (k0_pay28 (F := Ideal) (k0_pay1 (stack B3)) (k0_pay2 (stack B4)) (k0_pay16 x0 x1 (col E)) (k0_pay17 x0 x1) (stack B7) (stack B8) : Vec Ideal S32x64 .f32) = val_main_v82 (F := Ideal) x0 x1 E B3 B4 B7 B8 := by
  funext i
  rw [eq_ix2 i]
  pointwise [k0_pay28, val_main_v82, val_main_v81, val_main_v80]
  simp only [dcr_eq, numIm_eq, invSq_eq', zero_sub]

theorem q81 : (k0_pay29 (F := Ideal) (k0_pay1 (stack B3)) (k0_pay2 (stack B4)) (k0_pay12 x0 x1) (stack B7) (stack B8) : Vec Ideal S32x64 .f32) = val_main_v83 (F := Ideal) x0 x1 B3 B4 B7 B8 := by
  funext i
  rw [eq_ix2 i]
  pointwise [k0_pay29, val_main_v83]
  simp only [dcr_eq, den_eq]

theorem q83 : (k0_pay30 (F := Ideal) (k0_pay1 (stack B3)) (k0_pay2 (stack B4)) (k0_pay12 x0 x1) (stack B7) (stack B8) : Vec Ideal S32x64 .f32) = val_main_v84 (F := Ideal) x0 x1 B3 B4 B7 B8 := by
  funext i
  rw [eq_ix2 i]
  pointwise [k0_pay30, val_main_v84]
  simp only [q81, zero_sub]

theorem q84 : (k0_pay31 (F := Ideal) (k0_pay1 (stack B3)) (k0_pay2 (stack B4)) (k0_pay12 x0 x1) (k0_pay13 x0 x1 (col E)) (stack B7) (stack B8) : Vec Ideal S32x64 .f32) = val_main_v85 (F := Ideal) x0 x1 E B3 B4 B7 B8 := by
  funext i
  rw [eq_ix2 i]
  pointwise [k0_pay31, val_main_v85]
  simp only [q83, nr_eq]

theorem q86 : (k0_pay32 (F := Ideal) x1 (k0_pay1 (stack B3)) (k0_pay2 (stack B4)) (k0_pay12 x0 x1) x5 (stack B7) (stack B8) : Vec Ideal S32x64 .f32) = val_main_v87 (F := Ideal) x0 x1 B3 B4 x5 B7 B8 := by
  funext i
  rw [eq_ix2 i]
  pointwise [k0_pay32, val_main_v87, val_main_v86]
  simp only [q83]

theorem q87 : (k0_pay33 (F := Ideal) (k0_pay1 (stack B3)) (k0_pay2 (stack B4)) (k0_pay11 x0 x1 (col E)) (k0_pay12 x0 x1) (stack B7) (stack B8) : Vec Ideal S32x64 .f32) = val_main_v88 (F := Ideal) x0 x1 E B3 B4 B7 B8 := by
  funext i
  rw [eq_ix2 i]
  pointwise [k0_pay33, val_main_v88]
  simp only [q81, abIm_eq]

theorem q89 : (k0_pay34 (F := Ideal) x0 (k0_pay1 (stack B3)) (k0_pay2 (stack B4)) (k0_pay12 x0 x1) x6 (stack B7) (stack B8) : Vec Ideal S32x64 .f32) = val_main_v90 (F := Ideal) x0 x1 B3 B4 x6 B7 B8 := by
  funext i
  rw [eq_ix2 i]
  pointwise [k0_pay34, val_main_v90, val_main_v89]
  simp only [q81]

theorem q91 : (k0_pay35 (F := Ideal) (k0_pay1 (stack B3)) (k0_pay2 (stack B4)) (k0_pay14 x0 x1 (col E)) (k0_pay15 x0 x1) (stack B7) (stack B8) : Vec Ideal S32x64 .f32) = val_main_v92 (F := Ideal) x0 x1 E B3 B4 B7 B8 := by
  funext i
  rw [eq_ix2 i]
  pointwise [k0_pay35, val_main_v92, val_main_v91]
  simp only [dci_eq, numRe_eq, invSq_eq]

theorem q94 : (k0_pay36 (F := Ideal) (val_main_v82 (F := Ideal) x0 x1 E B3 B4 B7 B8) (val_main_v92 (F := Ideal) x0 x1 E B3 B4 B7 B8) : Vec Ideal S32x64 .f32) = val_main_v94 (F := Ideal) x0 x1 E B3 B4 B7 B8 := by
  funext i
  rw [eq_ix2 i]
  pointwise [k0_pay36, val_main_v94, val_main_v93]
  simp only [zero_sub]

theorem q95 : (k0_pay37 (F := Ideal) (val_main_v17 (F := Ideal) x0 x1) (val_main_v79 (F := Ideal) B3 B4 B7 B8) : Vec Ideal S32x64 .f32) = val_main_v95 (F := Ideal) x0 x1 B3 B4 B7 B8 := by
  funext i
  rw [eq_ix2 i]
  pointwise [k0_pay37, val_main_v95]

theorem q99 : (k0_pay38 (F := Ideal) x1 (val_main_v17 (F := Ideal) x0 x1) (val_main_v79 (F := Ideal) B3 B4 B7 B8) (val_main_v90 (F := Ideal) x0 x1 B3 B4 x6 B7 B8) : Vec Ideal S32x64 .f32) = val_main_v99 (F := Ideal) x0 x1 B3 B4 x6 B7 B8 := by
  funext i
  rw [eq_ix2 i]
  pointwise [k0_pay38, val_main_v99, val_main_v98]
  simp only [q95]

theorem q103 : (k0_pay39 (F := Ideal) x0 (val_main_v17 (F := Ideal) x0 x1) (val_main_v79 (F := Ideal) B3 B4 B7 B8) (val_main_v87 (F := Ideal) x0 x1 B3 B4 x5 B7 B8) : Vec Ideal S32x64 .f32) = val_main_v103 (F := Ideal) x0 x1 B3 B4 x5 B7 B8 := by
  funext i
  rw [eq_ix2 i]
  pointwise [k0_pay39, val_main_v103, val_main_v102]
  simp only [q95]

theorem q114 : (k0_pay40 (F := Ideal) x1 (val_main_v4 (F := Ideal) x0 E) (val_main_v13 (F := Ideal) x1 E) (val_main_v17 (F := Ideal) x0 x1) (val_main_v79 (F := Ideal) B3 B4 B7 B8) (val_main_v90 (F := Ideal) x0 x1 B3 B4 x6 B7 B8) : Vec Ideal S32x64 .f32) = val_main_v114 (F := Ideal) x0 x1 E B3 B4 x6 B7 B8 := by
  funext i
  rw [eq_ix2 i]
  pointwise [k0_pay40, val_main_v114, val_main_v112]
  simp only [q99]

theorem q126 : (k0_pay41 (F := Ideal) x0 (val_main_v4 (F := Ideal) x0 E) (val_main_v8 (F := Ideal) x1 E) (val_main_v17 (F := Ideal) x0 x1) (val_main_v79 (F := Ideal) B3 B4 B7 B8) (val_main_v87 (F := Ideal) x0 x1 B3 B4 x5 B7 B8) : Vec Ideal S32x64 .f32) = val_main_v125 (F := Ideal) x0 x1 E B3 B4 x5 B7 B8 := by
  funext i
  rw [eq_ix2 i]
  pointwise [k0_pay41, val_main_v125, val_main_v124, val_main_v121]
  simp only [q103, zero_sub]

/-- The gradient of the imaginary parts of λ. -/
theorem dli_eq : (k0_pay42 (F := Ideal) x0 x1 (k0_pay3 (col E)) (val_main_v4 (F := Ideal) x0 E) (val_main_v8 (F := Ideal) x1 E) (val_main_v13 (F := Ideal) x1 E) (val_main_v14 (F := Ideal) x0 x1 E) (val_main_v17 (F := Ideal) x0 x1) (val_main_v79 (F := Ideal) B3 B4 B7 B8) (val_main_v82 (F := Ideal) x0 x1 E B3 B4 B7 B8) (val_main_v85 (F := Ideal) x0 x1 E B3 B4 B7 B8) (val_main_v87 (F := Ideal) x0 x1 B3 B4 x5 B7 B8) (val_main_v90 (F := Ideal) x0 x1 B3 B4 x6 B7 B8) (val_main_v92 (F := Ideal) x0 x1 E B3 B4 B7 B8) : Vec Ideal S32x64 .f32) = val_main_v132 (F := Ideal) x0 x1 E B3 B4 x5 x6 B7 B8 := by
  funext i
  rw [eq_ix2 i]
  pointwise [k0_pay42, k0_pay3, val_main_v132, val_main_v131, val_main_v130, val_main_v120, val_main_v119, val_main_v118, val_main_v107, val_main_v106, val_main_v105, val_main_v104, val_main_v97, val_main_v96, val_main_v1, val_main_v0, col]
  simp only [q94, q95, q114, q126]

theorem q134 : (k0_pay43 (F := Ideal) x0 x1 (val_main_v4 (F := Ideal) x0 E) (val_main_v7 (F := Ideal) x1 E) (val_main_v12 (F := Ideal) x1 E) (val_main_v17 (F := Ideal) x0 x1) (val_main_v79 (F := Ideal) B3 B4 B7 B8) (val_main_v87 (F := Ideal) x0 x1 B3 B4 x5 B7 B8) (val_main_v90 (F := Ideal) x0 x1 B3 B4 x6 B7 B8) : Vec Ideal S32x64 .f32) = val_main_v133 (F := Ideal) x0 x1 E B3 B4 x5 x6 B7 B8 := by
  funext i
  rw [eq_ix2 i]
  pointwise [k0_pay43, val_main_v133, val_main_v123, val_main_v122, val_main_v113]
  simp only [q99, q103]

/-- The gradient of the real parts of λ. -/
theorem dlr_eq : (k0_pay44 (F := Ideal) x0 x1 (k0_pay3 (col E)) (val_main_v4 (F := Ideal) x0 E) (val_main_v7 (F := Ideal) x1 E) (val_main_v12 (F := Ideal) x1 E) (val_main_v17 (F := Ideal) x0 x1) (val_main_v19 (F := Ideal) x0 x1 E) (val_main_v79 (F := Ideal) B3 B4 B7 B8) (val_main_v82 (F := Ideal) x0 x1 E B3 B4 B7 B8) (val_main_v87 (F := Ideal) x0 x1 B3 B4 x5 B7 B8) (val_main_v88 (F := Ideal) x0 x1 E B3 B4 B7 B8) (val_main_v90 (F := Ideal) x0 x1 B3 B4 x6 B7 B8) (val_main_v92 (F := Ideal) x0 x1 E B3 B4 B7 B8) : Vec Ideal S32x64 .f32) = val_main_v140 (F := Ideal) x0 x1 E B3 B4 x5 x6 B7 B8 := by
  funext i
  rw [eq_ix2 i]
  pointwise [k0_pay44, k0_pay3, val_main_v140, val_main_v139, val_main_v138, val_main_v111, val_main_v110, val_main_v109, val_main_v108, val_main_v101, val_main_v100, val_main_v1, val_main_v0, col]
  simp only [q94, q95, q134]

/-- The gradient of the logarithms of the step sizes. -/
theorem ddt_eq : (k0_pay45 (F := Ideal) x0 x1 (k0_pay3 (col E)) (val_main_v4 (F := Ideal) x0 E) (val_main_v7 (F := Ideal) x1 E) (val_main_v8 (F := Ideal) x1 E) (val_main_v12 (F := Ideal) x1 E) (val_main_v13 (F := Ideal) x1 E) (val_main_v17 (F := Ideal) x0 x1) (val_main_v79 (F := Ideal) B3 B4 B7 B8) (val_main_v87 (F := Ideal) x0 x1 B3 B4 x5 B7 B8) (val_main_v90 (F := Ideal) x0 x1 B3 B4 x6 B7 B8) : Vec Ideal S32x1 .f32) = val_main_v143 (F := Ideal) x0 x1 E B3 B4 x5 x6 B7 B8 := by
  funext i
  rw [eq_ix2 i]
  pointwise [k0_pay45, k0_pay3, val_main_v143, val_main_v142, val_main_v141, val_main_v137, val_main_v136, val_main_v135, val_main_v134, val_main_v129, val_main_v128, val_main_v127, val_main_v126, val_main_v117, val_main_v116, val_main_v115, val_main_v0, val_main_cst_10, val_main_cst_11, val_main_cst_12, val_main_cst_13, col]
  simp only [q114, q126, q134, Fintype.sum_unique]

theorem dbr_eq : (k0_pay25 (F := Ideal) (k0_pay18 x0 x1 (col E)) (k0_pay19 x0 x1 (col E)) (stack B7) (stack B8) : Vec Ideal S512x64 .f32) = val_main_v145 (F := Ideal) x0 x1 E B7 B8 := by
  funext i
  rw [eq_ix2 i]
  pointwise [k0_pay25, k0_pay18, k0_pay19, k0_pay20, k0_pay21, k0_pay22, val_main_v145, val_main_v144, val_main_v74, val_main_v73, val_main_v72, val_main_v62, val_main_v51, val_main_v50, val_main_v49, val_main_v44, val_main_v37, val_main_v34, val_main_v30, val_main_v23, stack]
  simp only [numRe_eq, numIm_eq, den_eq]

theorem dbi_eq : (k0_pay24 (F := Ideal) (k0_pay18 x0 x1 (col E)) (k0_pay19 x0 x1 (col E)) (stack B7) (stack B8) : Vec Ideal S512x64 .f32) = val_main_v147 (F := Ideal) x0 x1 E B7 B8 := by
  funext i
  rw [eq_ix2 i]
  pointwise [k0_pay24, k0_pay18, k0_pay19, k0_pay20, k0_pay21, k0_pay22, k0_pay23, val_main_v147, val_main_v146, val_main_v66, val_main_v65, val_main_v64, val_main_v63, val_main_v57, val_main_v56, val_main_v48, val_main_v41, val_main_v37, val_main_v34, val_main_v30, val_main_v23, stack]
  simp only [numRe_eq, numIm_eq, den_eq, zero_sub]

end Cert.S5DiscBwdIdeal.Value
end
-- ==== Proof.S5DiscBwdKernel.lean ====
/-
  The gradient of the recurrence's discretisation: the five arrays the kernel leaves. The grid has one point, which holds every
  array whole.
-/
module

public import proofs.«01_k».proof.Proof.DiscRows

@[expose] public section

set_option maxRecDepth 16384

noncomputable section

namespace Cert.S5DiscBwdIdeal.Value

open Idealize.ShloMosaic Idealize.ShloMosaic.TcCoe Idealize.SL.Sem Cert.S5DiscBwdIdeal Cert.S5DiscBwdIdeal.Gen
open Cert.S5DiscBwdRefIdeal.Read

section body
variable (x0 x1 x5 x6 : Vec Ideal S32x64 .f32) (E : Vec Ideal S32 .f32) (B3 B4 B7 B8 : Vec Ideal S32x64x16 .f32)

theorem out9 : out0_9 x0 x1 (col E) (stack B3) (stack B4) x5 x6 (stack B7) (stack B8) = val_main_v140 (F := Ideal) x0 x1 E B3 B4 x5 x6 B7 B8 := by
  refine Eq.trans ?_ dlr_eq
  rw [← mag_eq, ← cos_eq, ← sin_eq', ← den_eq, ← nr_eq, ← dci_eq, ← q80, ← q86, ← q87, ← q89, ← q91]
  unfold_out out0_9
  frame_out
theorem out10 : out0_10 x0 x1 (col E) (stack B3) (stack B4) x5 x6 (stack B7) (stack B8) = val_main_v132 (F := Ideal) x0 x1 E B3 B4 x5 x6 B7 B8 := by
  refine Eq.trans ?_ dli_eq
  rw [← mag_eq, ← sin_eq, ← cos_eq', ← abIm_eq, ← den_eq, ← dci_eq, ← q80, ← q84, ← q86, ← q89, ← q91]
  unfold_out out0_10
  frame_out
theorem out11 : out0_11 x0 x1 (col E) (stack B3) (stack B4) x5 x6 (stack B7) (stack B8) = val_main_v143 (F := Ideal) x0 x1 E B3 B4 x5 x6 B7 B8 := by
  refine Eq.trans ?_ ddt_eq
  rw [← mag_eq, ← cos_eq, ← sin_eq, ← sin_eq', ← cos_eq', ← den_eq, ← dci_eq, ← q86, ← q89]
  unfold_out out0_11
  frame_out
theorem out12 : out0_12 x0 x1 (col E) (stack B3) (stack B4) x5 x6 (stack B7) (stack B8) = val_main_v145 (F := Ideal) x0 x1 E B7 B8 := by
  refine Eq.trans ?_ dbr_eq
  unfold_out out0_12
  frame_out
theorem out13 : out0_13 x0 x1 (col E) (stack B3) (stack B4) x5 x6 (stack B7) (stack B8) = val_main_v147 (F := Ideal) x0 x1 E B7 B8 := by
  refine Eq.trans ?_ dbi_eq
  unfold_out out0_13
  frame_out

theorem stack_at (B : Vec Ideal S32x64x16 .f32) (i : S512x64.Idx) : stack B i
    = B (ix3 ⟨(i 0).val / 16, by have h : (i 0).val < 512 := (i 0).isLt; omega⟩ (i 1) ⟨(i 0).val % 16, by omega⟩) := by
  rw [eq_ix2 i]
  pointwise [stack]
theorem col_at (i : S32x1.Idx) : col E i = E (ix1 (i 0)) := by
  rw [eq_ix2 i]
  pointwise [col]
end body

variable (m : (ℓ : Loc nD τ sig) → Buf (Elt Ideal) ℓ) (c : Dev nD)

abbrev a0 : Vec Ideal S32x64 .f32 := m ((c : Thread nD τ).loc main_arg0)
abbrev a1 : Vec Ideal S32x64 .f32 := m ((c : Thread nD τ).loc main_arg1)
abbrev a2 : Vec Ideal S32 .f32 := m ((c : Thread nD τ).loc main_arg2)
abbrev a3 : Vec Ideal S32x64x16 .f32 := m ((c : Thread nD τ).loc main_arg3)
abbrev a4 : Vec Ideal S32x64x16 .f32 := m ((c : Thread nD τ).loc main_arg4)
abbrev a5 : Vec Ideal S32x64 .f32 := m ((c : Thread nD τ).loc main_arg5)
abbrev a6 : Vec Ideal S32x64 .f32 := m ((c : Thread nD τ).loc main_arg6)
abbrev a7 : Vec Ideal S32x64x16 .f32 := m ((c : Thread nD τ).loc main_arg7)
abbrev a8 : Vec Ideal S32x64x16 .f32 := m ((c : Thread nD τ).loc main_arg8)

theorem idx : ∀ t : Fin cfg0.N, (win0_0.index t 0 = 0 ∧ win0_0.index t 1 = 0) ∧ (win0_1.index t 0 = 0 ∧ win0_1.index t 1 = 0) ∧ (win0_2.index t 0 = 0 ∧ win0_2.index t 1 = 0) ∧ (win0_3.index t 0 = 0 ∧ win0_3.index t 1 = 0) ∧ (win0_4.index t 0 = 0 ∧ win0_4.index t 1 = 0) ∧ (win0_5.index t 0 = 0 ∧ win0_5.index t 1 = 0) ∧ (win0_6.index t 0 = 0 ∧ win0_6.index t 1 = 0) ∧ (win0_7.index t 0 = 0 ∧ win0_7.index t 1 = 0) ∧ (win0_8.index t 0 = 0 ∧ win0_8.index t 1 = 0) :=
  (by decide +kernel : ∀ t : Fin grid0.N, _)

theorem V2 : (V m c main_v2 : Vec Ideal S512x64 .f32) = stack (a3 m c) := by
  funext i
  refine Eq.trans ?_ (stack_at _ i).symm
  unfold V
  after_reads_at
theorem V4 : (V m c main_v4 : Vec Ideal S512x64 .f32) = stack (a4 m c) := by
  funext i
  refine Eq.trans ?_ (stack_at _ i).symm
  unfold V
  after_reads_at
theorem V6 : (V m c main_v6 : Vec Ideal S512x64 .f32) = stack (a7 m c) := by
  funext i
  refine Eq.trans ?_ (stack_at _ i).symm
  unfold V
  after_reads_at
theorem V8 : (V m c main_v8 : Vec Ideal S512x64 .f32) = stack (a8 m c) := by
  funext i
  refine Eq.trans ?_ (stack_at _ i).symm
  unfold V
  after_reads_at
theorem V0 : (V m c main_v0 : Vec Ideal S32x1 .f32) = col (a2 m c) := by
  funext i
  refine Eq.trans ?_ (col_at _ i).symm
  unfold V
  after_reads_at

theorem blk0 (t : Fin cfg0.N) : (iblk m c 0 t : Vec Ideal S32x64 .f32) = a0 m c := by
  funext i
  rw [eq_ix2 i]
  blk_point [iblk, V, idx t]
theorem blk1 (t : Fin cfg0.N) : (iblk m c 1 t : Vec Ideal S32x64 .f32) = a1 m c := by
  funext i
  rw [eq_ix2 i]
  blk_point [iblk, V, idx t]
theorem blk2 (t : Fin cfg0.N) : (iblk m c 2 t : Vec Ideal S32x1 .f32) = col (a2 m c) := by
  rw [← V0]
  funext i
  rw [eq_ix2 i]
  blk_point [iblk, idx t]
theorem blk3 (t : Fin cfg0.N) : (iblk m c 3 t : Vec Ideal S512x64 .f32) = stack (a3 m c) := by
  rw [← V2]
  funext i
  rw [eq_ix2 i]
  blk_point [iblk, idx t]
theorem blk4 (t : Fin cfg0.N) : (iblk m c 4 t : Vec Ideal S512x64 .f32) = stack (a4 m c) := by
  rw [← V4]
  funext i
  rw [eq_ix2 i]
  blk_point [iblk, idx t]
theorem blk5 (t : Fin cfg0.N) : (iblk m c 5 t : Vec Ideal S32x64 .f32) = a5 m c := by
  funext i
  rw [eq_ix2 i]
  blk_point [iblk, V, idx t]
theorem blk6 (t : Fin cfg0.N) : (iblk m c 6 t : Vec Ideal S32x64 .f32) = a6 m c := by
  funext i
  rw [eq_ix2 i]
  blk_point [iblk, V, idx t]
theorem blk7 (t : Fin cfg0.N) : (iblk m c 7 t : Vec Ideal S512x64 .f32) = stack (a7 m c) := by
  rw [← V6]
  funext i
  rw [eq_ix2 i]
  blk_point [iblk, idx t]
theorem blk8 (t : Fin cfg0.N) : (iblk m c 8 t : Vec Ideal S512x64 .f32) = stack (a8 m c) := by
  rw [← V8]
  funext i
  rw [eq_ix2 i]
  blk_point [iblk, idx t]

theorem final9 : (dats m 0 c).arrAt 9 cfg0.N = val_main_v140 (F := Ideal) (a0 m c) (a1 m c) (a2 m c) (a3 m c) (a4 m c) (a5 m c) (a6 m c) (a7 m c) (a8 m c) := by
  refine (dats m 0 c).arrAt_eq_of_after_last 9 t0_0 (by decide +kernel) _ fun j => ?_
  rw [after0_9, blk0, blk1, blk2, blk3, blk4, blk5, blk6, blk7, blk8]
  exact congrFun (out9 ..) j
theorem final10 : (dats m 0 c).arrAt 10 cfg0.N = val_main_v132 (F := Ideal) (a0 m c) (a1 m c) (a2 m c) (a3 m c) (a4 m c) (a5 m c) (a6 m c) (a7 m c) (a8 m c) := by
  refine (dats m 0 c).arrAt_eq_of_after_last 10 t0_0 (by decide +kernel) _ fun j => ?_
  rw [after0_10, blk0, blk1, blk2, blk3, blk4, blk5, blk6, blk7, blk8]
  exact congrFun (out10 ..) j
theorem final11 : (dats m 0 c).arrAt 11 cfg0.N = val_main_v143 (F := Ideal) (a0 m c) (a1 m c) (a2 m c) (a3 m c) (a4 m c) (a5 m c) (a6 m c) (a7 m c) (a8 m c) := by
  refine (dats m 0 c).arrAt_eq_of_after_last 11 t0_0 (by decide +kernel) _ fun j => ?_
  rw [after0_11, blk0, blk1, blk2, blk3, blk4, blk5, blk6, blk7, blk8]
  exact congrFun (out11 ..) j
theorem final12 : (dats m 0 c).arrAt 12 cfg0.N = val_main_v145 (F := Ideal) (a0 m c) (a1 m c) (a2 m c) (a7 m c) (a8 m c) := by
  refine (dats m 0 c).arrAt_eq_of_after_last 12 t0_0 (by decide +kernel) _ fun j => ?_
  rw [after0_12, blk0, blk1, blk2, blk3, blk4, blk5, blk6, blk7, blk8]
  exact congrFun (out12 ..) j
theorem final13 : (dats m 0 c).arrAt 13 cfg0.N = val_main_v147 (F := Ideal) (a0 m c) (a1 m c) (a2 m c) (a7 m c) (a8 m c) := by
  refine (dats m 0 c).arrAt_eq_of_after_last 13 t0_0 (by decide +kernel) _ fun j => ?_
  rw [after0_13, blk0, blk1, blk2, blk3, blk4, blk5, blk6, blk7, blk8]
  exact congrFun (out13 ..) j

variable (ρ : Dev nD → PrngReg)

/-- The kernel's run, with each result named and the arguments as they were. -/
theorem run_blocks : θ_run defs (onTc (τ := τ) (main (F := Ideal))) ⟨m, fun _ => 0, ρ⟩ fun r => ∀ c : Dev nD,
    r.2.mem ((c : Thread nD τ).loc main_v9_0) = (dats m 0 c).arrAt 9 cfg0.N
    ∧ r.2.mem ((c : Thread nD τ).loc main_v9_1) = (dats m 0 c).arrAt 10 cfg0.N
    ∧ r.2.mem ((c : Thread nD τ).loc main_v9_2) = (dats m 0 c).arrAt 11 cfg0.N
    ∧ r.2.mem ((c : Thread nD τ).loc main_v9_3) = (dats m 0 c).arrAt 12 cfg0.N
    ∧ r.2.mem ((c : Thread nD τ).loc main_v9_4) = (dats m 0 c).arrAt 13 cfg0.N
    ∧ r.2.mem ((c : Thread nD τ).loc main_arg0) = a0 m c
    ∧ r.2.mem ((c : Thread nD τ).loc main_arg1) = a1 m c
    ∧ r.2.mem ((c : Thread nD τ).loc main_arg2) = a2 m c
    ∧ r.2.mem ((c : Thread nD τ).loc main_arg3) = a3 m c
    ∧ r.2.mem ((c : Thread nD τ).loc main_arg4) = a4 m c
    ∧ r.2.mem ((c : Thread nD τ).loc main_arg5) = a5 m c
    ∧ r.2.mem ((c : Thread nD τ).loc main_arg6) = a6 m c
    ∧ r.2.mem ((c : Thread nD τ).loc main_arg7) = a7 m c
    ∧ r.2.mem ((c : Thread nD τ).loc main_arg8) = a8 m c :=
  (θ_run defs _ _).mono (fun r h c => ⟨(h.1 c).1 9, (h.1 c).1 10, (h.1 c).1 11, (h.1 c).1 12, (h.1 c).1 13, h.2 c⟩)
    (θ_run_and (run_main m ρ) (unchanged m ρ))

end Cert.S5DiscBwdIdeal.Value
end
-- ==== Proof.S5DiscBwdTie.lean ====
/-
  The gradient of the recurrence's discretisation against its reference: every result of the kernel is the
  reference's, and no condition is put on the arguments.
-/
module

public import proofs.«01_k».proof.Defs
public import proofs.«01_k».proof.Proof.S5DiscBwdKernel
public import proofs.«01_k».proof.Proof.Gen.S5DiscBwdRefIdeal.Run

@[expose] public section

set_option maxRecDepth 16384

noncomputable section

namespace S5DiscBwdTie

open Idealize.ShloMosaic Idealize.SL.Sem Cert.S5DiscBwdIdeal.Value Cert.S5DiscBwdRefIdeal.Read

theorem value : Cert.algebraic_S5DiscBwdIdeal_S5DiscBwdRefIdeal (hS5DiscBwdIdeal := Cert.S5DiscBwdIdeal.Gen.facts) (hS5DiscBwdRefIdeal := Cert.S5DiscBwdRefIdeal.Gen.facts) := by
  intro m g m' g' _ hm
  refine ⟨fun c => val_main_v140 (F := Ideal) (a0 m c) (a1 m c) (a2 m c) (a3 m c) (a4 m c) (a5 m c) (a6 m c) (a7 m c) (a8 m c),
    fun c => val_main_v132 (F := Ideal) (a0 m c) (a1 m c) (a2 m c) (a3 m c) (a4 m c) (a5 m c) (a6 m c) (a7 m c) (a8 m c),
    fun c => val_main_v143 (F := Ideal) (a0 m c) (a1 m c) (a2 m c) (a3 m c) (a4 m c) (a5 m c) (a6 m c) (a7 m c) (a8 m c),
    fun c => val_main_v145 (F := Ideal) (a0 m c) (a1 m c) (a2 m c) (a7 m c) (a8 m c),
    fun c => val_main_v147 (F := Ideal) (a0 m c) (a1 m c) (a2 m c) (a7 m c) (a8 m c),
    (θ_run _ _ _).mono (fun r h c => ?_) (run_blocks m g),
    (θ_run _ _ _).mono (fun r h c => ?_) (Cert.S5DiscBwdRefIdeal.Value.run m' g')⟩
  · obtain ⟨r0, r1, r2, r3, r4, kept⟩ := h c
    exact ⟨r0.trans (final9 m c), r1.trans (final10 m c), r2.trans (final11 m c), r3.trans (final12 m c), r4.trans (final13 m c), kept⟩
  · obtain ⟨r0, r1, r2, r3, r4, kept⟩ := h c
    obtain ⟨e0, e1, e2, e3, e4, e5, e6, e7, e8⟩ := hm c
    refine ⟨r0.trans ((val_main_v140_eq m' c).trans ?_),
      r1.trans ((val_main_v132_eq m' c).trans ?_),
      r2.trans ((val_main_v143_eq m' c).trans ?_),
      r3.trans ((val_main_v145_eq ..).trans ?_),
      r4.trans ((val_main_v147_eq ..).trans ?_), kept⟩
    · rw [e0, e1, e2, e3, e4, e5, e6, e7, e8]
    · rw [e0, e1, e2, e3, e4, e5, e6, e7, e8]
    · rw [e0, e1, e2, e3, e4, e5, e6, e7, e8]
    · rw [e0, e1, e2, e7, e8]
    · rw [e0, e1, e2, e7, e8]

end S5DiscBwdTie
end
-- ==== Proof.EvOutRows.lean ====
/-
  The rows of a block of the even layers' gated mix beside the reference's rows: the forward lines again, then the gradients.
-/
module

public import proofs.«01_k».proof.Proof.Gen.EvOutBwdIdeal.Value
public import proofs.«01_k».proof.Proof.Gen.EvOutBwdRefIdeal.Read
public import Idealize.ShloMosaic.Lib.Pointwise

@[expose] public section

set_option maxRecDepth 16384

noncomputable section

namespace Cert.EvOutBwdIdeal.Value

open Idealize.ShloMosaic Idealize.ShloMosaic.TcCoe Idealize.SL.Sem Cert.EvOutBwdIdeal Cert.EvOutBwdIdeal.Gen
open Cert.EvOutBwdRefIdeal.Read

variable {D : Vec Ideal S8192x1024 .f32} {Y0 Y1 Y2 Y3 : Vec Ideal S8192x128 .f32} {C : Vec Ideal S8192x512 .f32} {Z : Vec Ideal S8192x2560 .f32} {b g e : Vec Ideal S512 .f32}
  {A : Vec Ideal S512x512 .bf16} {O : Vec Ideal S1024x1024 .bf16} {R : Fin 512 → Fin 8192}
  {d : Vec Ideal S512x1024 .f32} {y0 y1 y2 y3 : Vec Ideal S512x128 .f32} {c z w : Vec Ideal S512x512 .f32} {b' g' e' : Vec Ideal S1x512 .f32}
  (hd : ∀ r l, d (ix2 r l) = D (ix2 (R r) l)) (h0 : ∀ r l, y0 (ix2 r l) = Y0 (ix2 (R r) l)) (h1 : ∀ r l, y1 (ix2 r l) = Y1 (ix2 (R r) l))
  (h2 : ∀ r l, y2 (ix2 r l) = Y2 (ix2 (R r) l)) (h3 : ∀ r l, y3 (ix2 r l) = Y3 (ix2 (R r) l)) (hc : ∀ r l, c (ix2 r l) = C (ix2 (R r) l))
  (hz : ∀ r (l : Fin 512), z (ix2 r l) = (val_main_v1 (F := Ideal) Z : Vec Ideal S8192x512 .f32) (ix2 (R r) l)) (hw : ∀ r (l : Fin 512), w (ix2 r l) = (val_main_v2 (F := Ideal) Z : Vec Ideal S8192x512 .f32) (ix2 (R r) l))
  (hb : ∀ l, b' (ix2 0 l) = b (ix1 l)) (hg : ∀ l, g' (ix2 0 l) = g (ix1 l)) (he : ∀ l, e' (ix2 0 l) = e (ix1 l))
include h0 h1 h2 h3 in
theorem cat_at (r : Fin 512) (l : Fin 512) : (k0_pay2 (F := Ideal) y0 y1 y2 y3 : Vec Ideal S512x512 .f32) (ix2 r l) = (val_main_v0 (F := Ideal) Y0 Y1 Y2 Y3 : Vec Ideal Cert.EvOutBwdRefIdeal.S8192x512 .f32) (ix2 (R r) l) := by
  pointwise [k0_pay2, val_main_v0]
  simp only [h0, h1, h2, h3]

include h0 h1 h2 h3 in
theorem tanh_at (r : Fin 512) (l : Fin 512) : (k0_pay8 (F := Ideal) y0 y1 y2 y3 : Vec Ideal S512x512 .f32) (ix2 r l) = (val_main_v15 (F := Ideal) Y0 Y1 Y2 Y3 : Vec Ideal Cert.EvOutBwdRefIdeal.S8192x512 .f32) (ix2 (R r) l) := by
  have hq := cat_at h0 h1 h2 h3
  pointwise [k0_pay8, val_main_v15, val_main_v14, val_main_v13, val_main_v12, val_main_v11, val_main_v10, val_main_v6, val_main_v5, val_main_cst_0, val_main_cst_1]
  simp only [hq, mul_assoc]

include h0 h1 h2 h3 in
theorem cube_at (r : Fin 512) (l : Fin 512) : (k0_pay7 (F := Ideal) y0 y1 y2 y3 : Vec Ideal S512x512 .f32) (ix2 r l) = (val_main_v9 (F := Ideal) Y0 Y1 Y2 Y3 : Vec Ideal Cert.EvOutBwdRefIdeal.S8192x512 .f32) (ix2 (R r) l) := by
  have hq := cat_at h0 h1 h2 h3
  pointwise [k0_pay7, val_main_v9, val_main_v8, val_main_v7, val_main_cst]
  simp only [hq]

include h0 h1 h2 h3 in
theorem slope_at (r : Fin 512) (l : Fin 512) : (k0_pay9 (F := Ideal) (k0_pay8 y0 y1 y2 y3) : Vec Ideal S512x512 .f32) (ix2 r l) = (val_main_v20 (F := Ideal) Y0 Y1 Y2 Y3 : Vec Ideal Cert.EvOutBwdRefIdeal.S8192x512 .f32) (ix2 (R r) l) := by
  have ht := tanh_at h0 h1 h2 h3
  pointwise [k0_pay9, val_main_v20, val_main_v19, val_main_v18, val_main_v17, val_main_v16, val_main_cst_2, val_main_cst_3]
  simp only [ht]

include h0 h1 h2 h3 in
theorem half_at (r : Fin 512) (l : Fin 512) : (k0_pay10 (F := Ideal) (k0_pay8 y0 y1 y2 y3) : Vec Ideal S512x512 .f32) (ix2 r l) = (val_main_v24 (F := Ideal) Y0 Y1 Y2 Y3 : Vec Ideal Cert.EvOutBwdRefIdeal.S8192x512 .f32) (ix2 (R r) l) := by
  have ht := tanh_at h0 h1 h2 h3
  pointwise [k0_pay10, val_main_v24, val_main_v23, val_main_v22, val_main_v21, val_main_cst_4, val_main_cst_5]
  simp only [ht]

include h0 h1 h2 h3 in
theorem act_at (r : Fin 512) (l : Fin 512) : (k0_pay11 (F := Ideal) (k0_pay2 y0 y1 y2 y3) (k0_pay8 y0 y1 y2 y3) : Vec Ideal S512x512 .f32) (ix2 r l) = (val_main_v25 (F := Ideal) Y0 Y1 Y2 Y3 : Vec Ideal Cert.EvOutBwdRefIdeal.S8192x512 .f32) (ix2 (R r) l) := by
  have hq := cat_at h0 h1 h2 h3
  have hh := half_at h0 h1 h2 h3
  pointwise [k0_pay11, val_main_v25]
  simp only [hq, hh]

include h0 h1 h2 h3 hb in
theorem sig_at (r : Fin 512) (l : Fin 512) : (k0_pay12 (F := Ideal) (k0_pay2 y0 y1 y2 y3) A k0_pay3 (k0_pay4 b') (k0_pay8 y0 y1 y2 y3) : Vec Ideal S512x512 .f32) (ix2 r l) = (val_main_v35 (F := Ideal) Y0 Y1 Y2 Y3 b A : Vec Ideal Cert.EvOutBwdRefIdeal.S8192x512 .f32) (ix2 (R r) l) := by
  have hq := act_at h0 h1 h2 h3
  pointwise [k0_pay12, k0_pay3, k0_pay4, val_main_v35, val_main_v34, val_main_v33, val_main_v32, val_main_v31, val_main_v30, val_main_v29, val_main_v28, val_main_v27, val_main_v26, val_main_v3, val_main_cst_6, val_main_cst_7]
  simp only [hq, hb, add_zero]
  rfl

include h0 h1 h2 h3 hb in
theorem dsig_at (r : Fin 512) (l : Fin 512) : (k0_pay13 (F := Ideal) (k0_pay2 y0 y1 y2 y3) A k0_pay3 (k0_pay4 b') (k0_pay8 y0 y1 y2 y3) : Vec Ideal S512x512 .f32) (ix2 r l) = (val_main_v38 (F := Ideal) Y0 Y1 Y2 Y3 b A : Vec Ideal Cert.EvOutBwdRefIdeal.S8192x512 .f32) (ix2 (R r) l) := by
  have hs := sig_at (A := A) h0 h1 h2 h3 hb
  pointwise [k0_pay13, val_main_v38, val_main_v37, val_main_v36, val_main_cst_8]
  simp only [hs]

include h0 h1 h2 h3 hb in
theorem glu_at (r : Fin 512) (l : Fin 512) : (k0_pay14 (F := Ideal) (k0_pay2 y0 y1 y2 y3) A k0_pay3 (k0_pay4 b') (k0_pay8 y0 y1 y2 y3) : Vec Ideal S512x512 .f32) (ix2 r l) = (val_main_v39 (F := Ideal) Y0 Y1 Y2 Y3 b A : Vec Ideal Cert.EvOutBwdRefIdeal.S8192x512 .f32) (ix2 (R r) l) := by
  have hs := sig_at (A := A) h0 h1 h2 h3 hb
  have hq := act_at h0 h1 h2 h3
  pointwise [k0_pay14, val_main_v39]
  simp only [hs, hq]

include hz in
theorem ga_at (r : Fin 512) (l : Fin 512) : (k0_pay15 (F := Ideal) z : Vec Ideal S512x512 .f32) (ix2 r l) = (val_main_v40_2 (F := Ideal) Z : Vec Ideal Cert.EvOutBwdRefIdeal.S8192x512 .f32) (ix2 (R r) l) := by
  pointwise [k0_pay15, val_main_v40_2, val_main_call0_v4, val_main_call0_cst_0, val_main_call0_v3, val_main_call0_v2, val_main_call0_cst, val_main_call0_v1, val_main_call0_v0]
  simp only [hz]
  rfl

include hz in
theorem dga_at (r : Fin 512) (l : Fin 512) : (k0_pay16 (F := Ideal) z : Vec Ideal S512x512 .f32) (ix2 r l) = (val_main_v40_1 (F := Ideal) Z : Vec Ideal Cert.EvOutBwdRefIdeal.S8192x512 .f32) (ix2 (R r) l) := by
  have hs := ga_at hz
  pointwise [k0_pay16, val_main_v40_1, val_main_call0_v7, val_main_call0_v6, val_main_call0_cst_1]
  simp only [hs]

include hz in
theorem sga_at (r : Fin 512) (l : Fin 512) : (k0_pay17 (F := Ideal) z : Vec Ideal S512x512 .f32) (ix2 r l) = (val_main_v40_0 (F := Ideal) Z : Vec Ideal Cert.EvOutBwdRefIdeal.S8192x512 .f32) (ix2 (R r) l) := by
  have hs := ga_at hz
  pointwise [k0_pay17, val_main_v40_0]
  simp only [hs, hz]

include hw in
theorem gb_at (r : Fin 512) (l : Fin 512) : (k0_pay31 (F := Ideal) w : Vec Ideal S512x512 .f32) (ix2 r l) = (val_main_v72_2 (F := Ideal) Z : Vec Ideal Cert.EvOutBwdRefIdeal.S8192x512 .f32) (ix2 (R r) l) := by
  pointwise [k0_pay31, val_main_v72_2, val_main_call2_v4, val_main_call2_cst_0, val_main_call2_v3, val_main_call2_v2, val_main_call2_cst, val_main_call2_v1, val_main_call2_v0]
  simp only [hw]
  rfl

include hw in
theorem sgb_at (r : Fin 512) (l : Fin 512) : (k0_pay32 (F := Ideal) w : Vec Ideal S512x512 .f32) (ix2 r l) = (val_main_v72_0 (F := Ideal) Z : Vec Ideal Cert.EvOutBwdRefIdeal.S8192x512 .f32) (ix2 (R r) l) := by
  have hs := gb_at hw
  pointwise [k0_pay32, val_main_v72_0]
  simp only [hs, hw]

include h0 h1 h2 h3 hz hb in
theorem left_at (r : Fin 512) (l : Fin 512) : (k0_pay18 (F := Ideal) z (k0_pay2 y0 y1 y2 y3) A k0_pay3 (k0_pay4 b') (k0_pay8 y0 y1 y2 y3) : Vec Ideal S512x512 .f32) (ix2 r l) = (val_main_v41 (F := Ideal) Y0 Y1 Y2 Y3 Z b A : Vec Ideal Cert.EvOutBwdRefIdeal.S8192x512 .f32) (ix2 (R r) l) := by
  have hs := glu_at (A := A) h0 h1 h2 h3 hb
  have hq := sga_at hz
  pointwise [k0_pay18, val_main_v41]
  simp only [hs, hq]

include hc in
theorem mean_at (r : Fin 512) : (k0_pay19 (F := Ideal) c : Vec Ideal S512x1 .f32) (ix2 r 0) = (val_main_v45 (F := Ideal) C : Vec Ideal Cert.EvOutBwdRefIdeal.S8192x1 .f32) (ix2 (R r) 0) := by
  pointwise [k0_pay19, val_main_v45, val_main_v44, val_main_v43, val_main_v42, val_main_cst_9, val_main_cst_10]
  simp only [hc]

include hc in
theorem dev_at (r : Fin 512) (l : Fin 512) : (k0_pay22 (F := Ideal) c : Vec Ideal S512x512 .f32) (ix2 r l) = (val_main_v56 (F := Ideal) C : Vec Ideal Cert.EvOutBwdRefIdeal.S8192x512 .f32) (ix2 (R r) l) := by
  have hm := mean_at hc
  pointwise [k0_pay22, val_main_v56, val_main_v55]
  simp only [hc, hm]

include hc in
theorem dev2_at (r : Fin 512) (l : Fin 512) : (k0_pay20 (F := Ideal) c : Vec Ideal S512x512 .f32) (ix2 r l) = (val_main_v47 (F := Ideal) C : Vec Ideal Cert.EvOutBwdRefIdeal.S8192x512 .f32) (ix2 (R r) l) := by
  have hm := mean_at hc
  pointwise [k0_pay20, val_main_v47, val_main_v46]
  simp only [hc, hm]

include hc in
theorem twice_at (r : Fin 512) (l : Fin 512) : (k0_pay21 (F := Ideal) c : Vec Ideal S512x512 .f32) (ix2 r l) = (val_main_v50 (F := Ideal) C : Vec Ideal Cert.EvOutBwdRefIdeal.S8192x512 .f32) (ix2 (R r) l) := by
  have hm := dev2_at hc
  pointwise [k0_pay21, val_main_v50, val_main_v49, val_main_cst_11]
  simp only [hm]

include hc in
theorem var_at (r : Fin 512) : (k0_pay23 (F := Ideal) c : Vec Ideal S512x1 .f32) (ix2 r 0) = (val_main_v58 (F := Ideal) C : Vec Ideal Cert.EvOutBwdRefIdeal.S8192x1 .f32) (ix2 (R r) 0) := by
  have hm := dev2_at hc
  pointwise [k0_pay23, val_main_v58, val_main_v57, val_main_v54, val_main_v53, val_main_v52, val_main_v51, val_main_v48, val_main_cst_12, val_main_cst_13, val_main_cst_14]
  simp only [hm]

include hc in
theorem inv_at (r : Fin 512) : (k0_pay24 (F := Ideal) c : Vec Ideal S512x1 .f32) (ix2 r 0) = (val_main_v59 (F := Ideal) C : Vec Ideal Cert.EvOutBwdRefIdeal.S8192x1 .f32) (ix2 (R r) 0) := by
  have hm := var_at hc
  pointwise [k0_pay24, val_main_v59]
  simp only [hm]

include hc in
theorem dinv_at (r : Fin 512) : (k0_pay25 (F := Ideal) c : Vec Ideal S512x1 .f32) (ix2 r 0) = (val_main_v60 (F := Ideal) C : Vec Ideal Cert.EvOutBwdRefIdeal.S8192x1 .f32) (ix2 (R r) 0) := by
  have hm := var_at hc
  have hi := inv_at hc
  pointwise [k0_pay25, val_main_v60]
  simp only [hm, hi]

include hc in
theorem unit_at (r : Fin 512) (l : Fin 512) : (k0_pay27 (F := Ideal) (k0_pay22 c) (k0_pay24 c) : Vec Ideal S512x512 .f32) (ix2 r l) = (val_main_v64 (F := Ideal) C : Vec Ideal Cert.EvOutBwdRefIdeal.S8192x512 .f32) (ix2 (R r) l) := by
  have hm := dev_at hc
  have hi := inv_at hc
  pointwise [k0_pay27, val_main_v64, val_main_v63]
  simp only [hm, hi]

include hc hg he in
theorem norm_at (r : Fin 512) (l : Fin 512) : (k0_pay28 (F := Ideal) (k0_pay5 g') (k0_pay6 e') (k0_pay22 c) (k0_pay24 c) : Vec Ideal S512x512 .f32) (ix2 r l) = (val_main_v70 (F := Ideal) C g e : Vec Ideal Cert.EvOutBwdRefIdeal.S8192x512 .f32) (ix2 (R r) l) := by
  have hu := unit_at hc
  pointwise [k0_pay28, k0_pay5, k0_pay6, val_main_v70, val_main_v69, val_main_v68, val_main_v67, val_main_v66, val_main_v65]
  simp only [hu, hg, he]

include hc hg he in
theorem nsig_at (r : Fin 512) (l : Fin 512) : (k0_pay29 (F := Ideal) (k0_pay5 g') (k0_pay6 e') (k0_pay22 c) (k0_pay24 c) : Vec Ideal S512x512 .f32) (ix2 r l) = (val_main_v71_2 (F := Ideal) C g e : Vec Ideal Cert.EvOutBwdRefIdeal.S8192x512 .f32) (ix2 (R r) l) := by
  have hu := norm_at hc hg he
  pointwise [k0_pay29, val_main_v71_2, val_main_call1_v4, val_main_call1_cst_0, val_main_call1_v3, val_main_call1_v2, val_main_call1_cst, val_main_call1_v1, val_main_call1_v0]
  simp only [hu]
  rfl

include hc hg he in
theorem nsilu_at (r : Fin 512) (l : Fin 512) : (k0_pay30 (F := Ideal) (k0_pay5 g') (k0_pay6 e') (k0_pay22 c) (k0_pay24 c) : Vec Ideal S512x512 .f32) (ix2 r l) = (val_main_v71_0 (F := Ideal) C g e : Vec Ideal Cert.EvOutBwdRefIdeal.S8192x512 .f32) (ix2 (R r) l) := by
  have hu := norm_at hc hg he
  have hs := nsig_at hc hg he
  pointwise [k0_pay30, val_main_v71_0]
  simp only [hu, hs]

include h0 h1 h2 h3 hc hz hw hb hg he in
theorem mix_at (r : Fin 512) (l : Fin 1024) : (k0_pay33 (F := Ideal) w (k0_pay5 g') (k0_pay6 e') (k0_pay18 z (k0_pay2 y0 y1 y2 y3) A k0_pay3 (k0_pay4 b') (k0_pay8 y0 y1 y2 y3)) (k0_pay22 c) (k0_pay24 c) : Vec Ideal S512x1024 .f32) (ix2 r l) = (val_main_v74 (F := Ideal) Y0 Y1 Y2 Y3 C Z b g e A : Vec Ideal Cert.EvOutBwdRefIdeal.S8192x1024 .f32) (ix2 (R r) l) := by
  have hl := left_at (A := A) h0 h1 h2 h3 hz hb
  have hn := nsilu_at hc hg he
  have hs := sgb_at hw
  pointwise [k0_pay33, val_main_v74, val_main_v73]
  simp only [hl, hn, hs]

include hd in
theorem dt_at (r : Fin 512) (l : Fin 1024) : (k0_pay34 (F := Ideal) d O : Vec Ideal S512x1024 .f32) (ix2 r l) = (val_main_v78 (F := Ideal) D O : Vec Ideal Cert.EvOutBwdRefIdeal.S8192x1024 .f32) (ix2 (R r) l) := by
  pointwise [k0_pay34, val_main_v78, val_main_v4]
  simp only [hd]

include hd in
theorem dl_at (r : Fin 512) (l : Fin 512) : (k0_pay35 (F := Ideal) d O : Vec Ideal S512x512 .f32) (ix2 r l) = (val_main_v79 (F := Ideal) D O : Vec Ideal Cert.EvOutBwdRefIdeal.S8192x512 .f32) (ix2 (R r) l) := by
  have ht := dt_at (O := O) hd
  pointwise [k0_pay35, val_main_v79]
  simp only [ht]

include hd in
theorem dr_at (r : Fin 512) (l : Fin 512) : (k0_pay36 (F := Ideal) d O : Vec Ideal S512x512 .f32) (ix2 r l) = (val_main_v80 (F := Ideal) D O : Vec Ideal Cert.EvOutBwdRefIdeal.S8192x512 .f32) (ix2 (R r) l) := by
  have ht := dt_at (O := O) hd
  pointwise [k0_pay36, val_main_v80]
  simp only [ht]

include hd hc hw hg he in
theorem dgb_at (r : Fin 512) (l : Fin 512) : (k0_pay37 (F := Ideal) d w O (k0_pay5 g') (k0_pay6 e') (k0_pay22 c) (k0_pay24 c) : Vec Ideal S512x512 .f32) (ix2 r l) = (val_main_v83 (F := Ideal) D C Z g e O : Vec Ideal Cert.EvOutBwdRefIdeal.S8192x512 .f32) (ix2 (R r) l) := by
  have hr := dr_at (O := O) hd
  have hs := gb_at hw
  have hn := nsilu_at hc hg he
  pointwise [k0_pay37, val_main_v83, val_main_call3_v2, val_main_call3_v1, val_main_call3_v0, val_main_v72_1, val_main_call2_v7, val_main_call2_v6, val_main_call2_cst_1, val_main_v81]
  simp only [hr, hs, hn, hw]

include hd hc hw hg he in
theorem dcn_at (r : Fin 512) (l : Fin 512) : (k0_pay38 (F := Ideal) d w O (k0_pay5 g') (k0_pay6 e') (k0_pay22 c) (k0_pay24 c) : Vec Ideal S512x512 .f32) (ix2 r l) = (val_main_v84 (F := Ideal) D C Z g e O : Vec Ideal Cert.EvOutBwdRefIdeal.S8192x512 .f32) (ix2 (R r) l) := by
  have hr := dr_at (O := O) hd
  have hs := sgb_at hw
  have hn := nsig_at hc hg he
  have hu := norm_at hc hg he
  pointwise [k0_pay38, val_main_v84, val_main_call4_v2, val_main_call4_v1, val_main_call4_v0, val_main_v71_1, val_main_call1_v7, val_main_call1_v6, val_main_call1_cst_1, val_main_v82]
  simp only [hr, hs, hn, hu]

include hg in
theorem gain5 (l : Fin 512) : (k0_pay5 (F := Ideal) g' : Vec Ideal S1x512 .f32) (ix2 0 l) = g (ix1 l) := by
  pointwise [k0_pay5]
  exact hg l

include hd hc hw hg he in
theorem dun_at (r : Fin 512) (l : Fin 512) : (k0_pay41 (F := Ideal) d w O (k0_pay5 g') (k0_pay6 e') (k0_pay22 c) (k0_pay24 c) : Vec Ideal S512x512 .f32) (ix2 r l) = (val_main_v92 (F := Ideal) D C Z g e O : Vec Ideal Cert.EvOutBwdRefIdeal.S8192x512 .f32) (ix2 (R r) l) := by
  have hu := dcn_at (O := O) hd hc hw hg he
  have hg5 := gain5 hg
  pointwise [k0_pay41, val_main_v92, val_main_v91, val_main_v65]
  simp only [hu, hg5]

include hd hc hw hg he in
theorem dm_at (r : Fin 512) (l : Fin 512) : (k0_pay42 (F := Ideal) d w O (k0_pay5 g') (k0_pay6 e') (k0_pay22 c) (k0_pay24 c) : Vec Ideal S512x512 .f32) (ix2 r l) = (val_main_v98 (F := Ideal) D C Z g e O : Vec Ideal Cert.EvOutBwdRefIdeal.S8192x512 .f32) (ix2 (R r) l) := by
  have hu := dun_at (O := O) hd hc hw hg he
  have hi := inv_at hc
  pointwise [k0_pay42, val_main_v98, val_main_v97]
  simp only [hu, hi]

include hd hc hw hg he in
theorem dv_at (r : Fin 512) : (k0_pay43 (F := Ideal) d w O (k0_pay5 g') (k0_pay6 e') (k0_pay22 c) (k0_pay24 c) (k0_pay25 c) k0_pay26 : Vec Ideal S512x1 .f32) (ix2 r 0) = (val_main_v99 (F := Ideal) D C Z g e O : Vec Ideal Cert.EvOutBwdRefIdeal.S8192x1 .f32) (ix2 (R r) 0) := by
  have hu := dun_at (O := O) hd hc hw hg he
  have hi := dinv_at hc
  have hm := dev_at hc
  pointwise [k0_pay43, k0_pay26, val_main_v99, val_main_v96, val_main_v95, val_main_v94, val_main_v62, val_main_v61, val_main_cst_15, val_main_cst_20]
  simp only [hu, hi, hm]

include hd hc hw hg he in
theorem neg_at (r : Fin 512) : (k0_pay44 (F := Ideal) d w O (k0_pay5 g') (k0_pay6 e') (k0_pay22 c) (k0_pay24 c) : Vec Ideal S512x1 .f32) (ix2 r 0) = (val_main_v102 (F := Ideal) D C Z g e O : Vec Ideal Cert.EvOutBwdRefIdeal.S8192x1 .f32) (ix2 (R r) 0) := by
  have hu := dm_at (O := O) hd hc hw hg he
  pointwise [k0_pay44, val_main_v102, val_main_v101, val_main_v100, val_main_cst_21]
  simp only [hu, zero_sub]

include hd hc hw hg he in
theorem dc_at (r : Fin 512) (l : Fin 512) : (k0_pay46 (F := Ideal) (k0_pay21 c) (k0_pay42 d w O (k0_pay5 g') (k0_pay6 e') (k0_pay22 c) (k0_pay24 c)) (k0_pay43 d w O (k0_pay5 g') (k0_pay6 e') (k0_pay22 c) (k0_pay24 c) (k0_pay25 c) k0_pay26) (k0_pay44 d w O (k0_pay5 g') (k0_pay6 e') (k0_pay22 c) (k0_pay24 c)) k0_pay45 : Vec Ideal S512x512 .f32) (ix2 r l) = (val_main_v117 (F := Ideal) D C Z g e O : Vec Ideal Cert.EvOutBwdRefIdeal.S8192x512 .f32) (ix2 (R r) l) := by
  have hu := dm_at (O := O) hd hc hw hg he
  have hv := dv_at (O := O) hd hc hw hg he
  have hn := neg_at (O := O) hd hc hw hg he
  have h2 := twice_at hc
  pointwise [k0_pay46, k0_pay45, val_main_v117, val_main_v116, val_main_v115, val_main_v114, val_main_v113, val_main_v112, val_main_v111, val_main_v110, val_main_v109, val_main_v108, val_main_v107, val_main_v106, val_main_v105, val_main_v104, val_main_v103, val_main_cst_22, val_main_cst_23, val_main_cst_24, val_main_cst_25, val_main_cst_26]
  simp only [Fintype.sum_unique, Fin.default_eq_zero, hu, hv, hn, h2, zero_sub]

include hd h0 h1 h2 h3 hz hb in
theorem dzl_at (r : Fin 512) (l : Fin 512) : (k0_pay48 (F := Ideal) z (k0_pay14 (k0_pay2 y0 y1 y2 y3) A k0_pay3 (k0_pay4 b') (k0_pay8 y0 y1 y2 y3)) (k0_pay15 z) (k0_pay16 z) (k0_pay35 d O) : Vec Ideal S512x512 .f32) (ix2 r l) = (val_main_v120 (F := Ideal) D Y0 Y1 Y2 Y3 Z b A O : Vec Ideal Cert.EvOutBwdRefIdeal.S8192x512 .f32) (ix2 (R r) l) := by
  have hl := dl_at (O := O) hd
  have hs := ga_at hz
  have ht := dga_at hz
  have hq := glu_at (A := A) h0 h1 h2 h3 hb
  pointwise [k0_pay48, val_main_v120, val_main_call5_v2, val_main_call5_v1, val_main_call5_v0, val_main_v118]
  simp only [hl, hs, ht, hq, hz]

include hd hz in
theorem back_at (r : Fin 512) (l : Fin 512) : (k0_pay47 (F := Ideal) (k0_pay17 z) (k0_pay35 d O) : Vec Ideal S512x512 .f32) (ix2 r l) = (val_main_v119 (F := Ideal) D Z O : Vec Ideal Cert.EvOutBwdRefIdeal.S8192x512 .f32) (ix2 (R r) l) := by
  have hl := dl_at (O := O) hd
  have hs := sga_at hz
  pointwise [k0_pay47, val_main_v119]
  simp only [hl, hs]

include hd h0 h1 h2 h3 hz hb in
theorem dpre_at (r : Fin 512) (l : Fin 512) : (k0_pay49 (F := Ideal) (k0_pay11 (k0_pay2 y0 y1 y2 y3) (k0_pay8 y0 y1 y2 y3)) (k0_pay13 (k0_pay2 y0 y1 y2 y3) A k0_pay3 (k0_pay4 b') (k0_pay8 y0 y1 y2 y3)) (k0_pay17 z) (k0_pay35 d O) : Vec Ideal S512x512 .f32) (ix2 r l) = (val_main_v123 (F := Ideal) D Y0 Y1 Y2 Y3 Z b A O : Vec Ideal Cert.EvOutBwdRefIdeal.S8192x512 .f32) (ix2 (R r) l) := by
  have hl := back_at (O := O) hd hz
  have hs := act_at h0 h1 h2 h3
  have ht := dsig_at (A := A) h0 h1 h2 h3 hb
  pointwise [k0_pay49, val_main_v123, val_main_v121]
  simp only [hl, hs, ht]

include hd h0 h1 h2 h3 hz hb in
theorem dy_at (r : Fin 512) (l : Fin 512) : (k0_pay51 (F := Ideal) (k0_pay2 y0 y1 y2 y3) A (k0_pay7 y0 y1 y2 y3) (k0_pay9 (k0_pay8 y0 y1 y2 y3)) (k0_pay10 (k0_pay8 y0 y1 y2 y3)) (k0_pay11 (k0_pay2 y0 y1 y2 y3) (k0_pay8 y0 y1 y2 y3)) (k0_pay12 (k0_pay2 y0 y1 y2 y3) A k0_pay3 (k0_pay4 b') (k0_pay8 y0 y1 y2 y3)) (k0_pay13 (k0_pay2 y0 y1 y2 y3) A k0_pay3 (k0_pay4 b') (k0_pay8 y0 y1 y2 y3)) (k0_pay17 z) (k0_pay35 d O) : Vec Ideal S512x512 .f32) (ix2 r l) = (val_main_v142 (F := Ideal) D Y0 Y1 Y2 Y3 Z b A O : Vec Ideal Cert.EvOutBwdRefIdeal.S8192x512 .f32) (ix2 (R r) l) := by
  have hl := back_at (O := O) hd hz
  have hp := dpre_at (A := A) (O := O) hd h0 h1 h2 h3 hz hb
  have hs := sig_at (A := A) h0 h1 h2 h3 hb
  have hq := cat_at h0 h1 h2 h3
  have hh := half_at h0 h1 h2 h3
  have ht := slope_at h0 h1 h2 h3
  have hk := cube_at h0 h1 h2 h3
  pointwise [k0_pay51, val_main_v142, val_main_v141, val_main_v140, val_main_v139, val_main_v138, val_main_v137, val_main_v136, val_main_v135, val_main_v134, val_main_v133, val_main_v132, val_main_v131, val_main_v130, val_main_v129, val_main_v122, val_main_v3, val_main_cst_29, val_main_cst_30, val_main_cst_31]
  simp only [hl, hp, hs, hq, hh, ht, hk]

/-! What a block adds to the shared results. -/
theorem bias_add (p q s t : Vec Ideal S512x512 .f32) (a : Vec Ideal S1x512 .f32) (i : S1x512.Idx) : (k0_pay61 (F := Ideal) (k0_pay50 p q s t) a : Vec Ideal S1x512 .f32) i = a i + ∑ r, (k0_pay49 (F := Ideal) p q s t : Vec Ideal S512x512 .f32) (ix2 r (i 1)) := by
  rw [eq_ix2 i]
  pointwise [k0_pay61, k0_pay50]
theorem bias_zero (i : S1x512.Idx) : (k0_pay56 (F := Ideal) : Vec Ideal S1x512 .f32) i = (0 : EReal) := by
  rw [eq_ix2 i]
  pointwise [k0_pay56]
theorem gain_add (x : Vec Ideal S512x1024 .f32) (v : Vec Ideal S512x512 .f32) (o : Vec Ideal S1024x1024 .bf16) (g1 g2 : Vec Ideal S1x512 .f32) (p : Vec Ideal S512x512 .f32) (q : Vec Ideal S512x1 .f32) (a : Vec Ideal S1x512 .f32) (i : S1x512.Idx) : (k0_pay62 (F := Ideal) (k0_pay40 x v o g1 g2 p q) a : Vec Ideal S1x512 .f32) i = a i + ∑ r, (k0_pay27 (F := Ideal) p q : Vec Ideal S512x512 .f32) (ix2 r (i 1)) * (k0_pay38 (F := Ideal) x v o g1 g2 p q : Vec Ideal S512x512 .f32) (ix2 r (i 1)) := by
  rw [eq_ix2 i]
  pointwise [k0_pay62, k0_pay40]
theorem gain_zero (i : S1x512.Idx) : (k0_pay57 (F := Ideal) : Vec Ideal S1x512 .f32) i = (0 : EReal) := by
  rw [eq_ix2 i]
  pointwise [k0_pay57]
theorem shift_add (x : Vec Ideal S512x1024 .f32) (v : Vec Ideal S512x512 .f32) (o : Vec Ideal S1024x1024 .bf16) (g1 g2 : Vec Ideal S1x512 .f32) (p : Vec Ideal S512x512 .f32) (q : Vec Ideal S512x1 .f32) (a : Vec Ideal S1x512 .f32) (i : S1x512.Idx) : (k0_pay63 (F := Ideal) (k0_pay39 x v o g1 g2 p q) a : Vec Ideal S1x512 .f32) i = a i + ∑ r, (k0_pay38 (F := Ideal) x v o g1 g2 p q : Vec Ideal S512x512 .f32) (ix2 r (i 1)) := by
  rw [eq_ix2 i]
  pointwise [k0_pay63, k0_pay39]
theorem shift_zero (i : S1x512.Idx) : (k0_pay58 (F := Ideal) : Vec Ideal S1x512 .f32) i = (0 : EReal) := by
  rw [eq_ix2 i]
  pointwise [k0_pay58]
theorem gate_add (p q s t : Vec Ideal S512x512 .f32) (a : Vec Ideal S512x512 .f32) (i : S512x512.Idx) : (k0_pay64 (F := Ideal) (k0_pay52 p q s t) a : Vec Ideal S512x512 .f32) i = a i + ∑ r, p (ix2 r (i 0)) * (k0_pay49 (F := Ideal) p q s t : Vec Ideal S512x512 .f32) (ix2 r (i 1)) := by
  rw [eq_ix2 i]
  pointwise [k0_pay64, k0_pay52]
theorem gate_zero (i : S512x512.Idx) : (k0_pay59 (F := Ideal) : Vec Ideal S512x512 .f32) i = (0 : EReal) := by
  rw [eq_ix2 i]
  pointwise [k0_pay59]
theorem weight_add (p q : Vec Ideal S512x1024 .f32) (a : Vec Ideal S1024x1024 .f32) (i : S1024x1024.Idx) : (k0_pay1 (F := Ideal) (k0_pay55 (k0_pay53 p) (k0_pay54 q) (constant S1024x1024 FTy.f32 0#32)) a : Vec Ideal S1024x1024 .f32) i = a i + ∑ r, p (ix2 r (i 0)) * q (ix2 r (i 1)) := by
  rw [eq_ix2 i]
  pointwise [k0_pay1, k0_pay55, k0_pay53, k0_pay54]
theorem weight_zero (i : S1024x1024.Idx) : (k0_pay60 (F := Ideal) : Vec Ideal S1024x1024 .f32) i = (0 : EReal) := by
  rw [eq_ix2 i]
  pointwise [k0_pay60]

end Cert.EvOutBwdIdeal.Value
end
-- ==== Proof.EvOutBwdKernel.lean ====
/-
  The gated mix of the even layers backwards, against its reference. Each point of the kernel's grid holds 512 rows: it leaves their rows of
  four gradients, and adds their parts of the other five into the blocks the grid shares.
-/
module

public import proofs.«01_k».proof.Proof.EvOutRows
public import Idealize.ShloMosaic.Lib.Pipeline.ValueKit
public import Idealize.ShloMosaic.Lib.StableHlo.ReadAt

@[expose] public section

set_option maxRecDepth 16384

noncomputable section

namespace Cert.EvOutBwdIdeal.Value

open Idealize.ShloMosaic Idealize.ShloMosaic.TcCoe Idealize.SL.Sem Cert.EvOutBwdIdeal Cert.EvOutBwdIdeal.Gen
open Cert.EvOutBwdRefIdeal.Read

variable (m : (ℓ : Loc nD τ sig) → Buf (Elt Ideal) ℓ) (c : Dev nD)

abbrev a0 : Vec Ideal S8192x1024 .f32 := m ((c : Thread nD τ).loc main_arg0)
abbrev a1 : Vec Ideal S8192x128 .f32 := m ((c : Thread nD τ).loc main_arg1)
abbrev a2 : Vec Ideal S8192x128 .f32 := m ((c : Thread nD τ).loc main_arg2)
abbrev a3 : Vec Ideal S8192x128 .f32 := m ((c : Thread nD τ).loc main_arg3)
abbrev a4 : Vec Ideal S8192x128 .f32 := m ((c : Thread nD τ).loc main_arg4)
abbrev a5 : Vec Ideal S8192x512 .f32 := m ((c : Thread nD τ).loc main_arg5)
abbrev a6 : Vec Ideal S8192x2560 .f32 := m ((c : Thread nD τ).loc main_arg6)
abbrev a7 : Vec Ideal S512 .f32 := m ((c : Thread nD τ).loc main_arg7)
abbrev a8 : Vec Ideal S512 .f32 := m ((c : Thread nD τ).loc main_arg8)
abbrev a9 : Vec Ideal S512 .f32 := m ((c : Thread nD τ).loc main_arg9)
abbrev a10 : Vec Ideal S512x512 .bf16 := m ((c : Thread nD τ).loc main_arg10)
abbrev a11 : Vec Ideal S1024x1024 .bf16 := m ((c : Thread nD τ).loc main_arg11)

theorem idx : ∀ t : Fin cfg0.N, (win0_0.index t 0 = t.val ∧ win0_0.index t 1 = 0)
    ∧ (win0_1.index t 0 = t.val ∧ win0_1.index t 1 = 0)
    ∧ (win0_2.index t 0 = t.val ∧ win0_2.index t 1 = 1)
    ∧ (win0_3.index t 0 = t.val ∧ win0_3.index t 1 = 4)
    ∧ (win0_4.index t 0 = t.val ∧ win0_4.index t 1 = 0)
    ∧ (win0_5.index t 0 = t.val ∧ win0_5.index t 1 = 0)
    ∧ (win0_6.index t 0 = t.val ∧ win0_6.index t 1 = 0)
    ∧ (win0_7.index t 0 = t.val ∧ win0_7.index t 1 = 0)
    ∧ (win0_8.index t 0 = 0 ∧ win0_8.index t 1 = 0)
    ∧ (win0_9.index t 0 = 0 ∧ win0_9.index t 1 = 0)
    ∧ (win0_10.index t 0 = 0 ∧ win0_10.index t 1 = 0)
    ∧ (win0_11.index t 0 = 0 ∧ win0_11.index t 1 = 0)
    ∧ (win0_12.index t 0 = 0 ∧ win0_12.index t 1 = 0)
    ∧ (win0_13.index t 0 = t.val ∧ win0_13.index t 1 = 0)
    ∧ (win0_14.index t 0 = t.val ∧ win0_14.index t 1 = 0)
    ∧ (win0_15.index t 0 = t.val ∧ win0_15.index t 1 = 0)
    ∧ (win0_16.index t 0 = t.val ∧ win0_16.index t 1 = 0) :=
  (by decide +kernel : ∀ t : Fin grid0.N, _)

/-- The rows of point `t`. -/
def row (t : Fin cfg0.N) (r : Fin 512) : Fin 8192 := ⟨t.val * 512 + r.val, by have := t.isLt; have : t.val < 16 := N_0 ▸ t.isLt; omega⟩

theorem blk0 (t : Fin cfg0.N) (r : Fin 512) (l : Fin 1024) : (iblk m c 0 t : Vec Ideal S512x1024 .f32) (ix2 r l) = a0 m c (ix2 (row t r) l) := by
  unfold row
  blk_point [iblk, V, idx t]
theorem blk1 (t : Fin cfg0.N) (r : Fin 512) (l : Fin 512) : (iblk m c 1 t : Vec Ideal S512x512 .f32) (ix2 r l) = a5 m c (ix2 (row t r) l) := by
  unfold row
  blk_point [iblk, V, idx t]
theorem blk4 (t : Fin cfg0.N) (r : Fin 512) (l : Fin 128) : (iblk m c 4 t : Vec Ideal S512x128 .f32) (ix2 r l) = a1 m c (ix2 (row t r) l) := by
  unfold row
  blk_point [iblk, V, idx t]
theorem blk5 (t : Fin cfg0.N) (r : Fin 512) (l : Fin 128) : (iblk m c 5 t : Vec Ideal S512x128 .f32) (ix2 r l) = a2 m c (ix2 (row t r) l) := by
  unfold row
  blk_point [iblk, V, idx t]
theorem blk6 (t : Fin cfg0.N) (r : Fin 512) (l : Fin 128) : (iblk m c 6 t : Vec Ideal S512x128 .f32) (ix2 r l) = a3 m c (ix2 (row t r) l) := by
  unfold row
  blk_point [iblk, V, idx t]
theorem blk7 (t : Fin cfg0.N) (r : Fin 512) (l : Fin 128) : (iblk m c 7 t : Vec Ideal S512x128 .f32) (ix2 r l) = a4 m c (ix2 (row t r) l) := by
  unfold row
  blk_point [iblk, V, idx t]
theorem blk2 (t : Fin cfg0.N) (r : Fin 512) (l : Fin 512) : (iblk m c 2 t : Vec Ideal S512x512 .f32) (ix2 r l) = (val_main_v1 (F := Ideal) (a6 m c) : Vec Ideal S8192x512 .f32) (ix2 (row t r) l) := by
  pointwise [val_main_v1]
  unfold row
  blk_point [iblk, V, idx t]
theorem blk3 (t : Fin cfg0.N) (r : Fin 512) (l : Fin 512) : (iblk m c 3 t : Vec Ideal S512x512 .f32) (ix2 r l) = (val_main_v2 (F := Ideal) (a6 m c) : Vec Ideal S8192x512 .f32) (ix2 (row t r) l) := by
  pointwise [val_main_v2]
  unfold row
  blk_point [iblk, V, idx t]
theorem vec8 (l : Fin 512) : (V m c main_v0 : Vec Ideal S1x512 .f32) (ix2 0 l) = a7 m c (ix1 l) := by
  unfold V
  after_reads_at
theorem blk8 (t : Fin cfg0.N) (l : Fin 512) : (iblk m c 8 t : Vec Ideal S1x512 .f32) (ix2 0 l) = a7 m c (ix1 l) := by
  rw [← vec8]
  blk_point [iblk, idx t]
theorem vec9 (l : Fin 512) : (V m c main_v1 : Vec Ideal S1x512 .f32) (ix2 0 l) = a8 m c (ix1 l) := by
  unfold V
  after_reads_at
theorem blk9 (t : Fin cfg0.N) (l : Fin 512) : (iblk m c 9 t : Vec Ideal S1x512 .f32) (ix2 0 l) = a8 m c (ix1 l) := by
  rw [← vec9]
  blk_point [iblk, idx t]
theorem vec10 (l : Fin 512) : (V m c main_v2 : Vec Ideal S1x512 .f32) (ix2 0 l) = a9 m c (ix1 l) := by
  unfold V
  after_reads_at
theorem blk10 (t : Fin cfg0.N) (l : Fin 512) : (iblk m c 10 t : Vec Ideal S1x512 .f32) (ix2 0 l) = a9 m c (ix1 l) := by
  rw [← vec10]
  blk_point [iblk, idx t]
theorem blk11 (t : Fin cfg0.N) : (iblk m c 11 t : Vec Ideal S512x512 .bf16) = a10 m c := by
  funext i
  rw [eq_ix2 i]
  blk_point [iblk, V, idx t]
theorem blk12 (t : Fin cfg0.N) : (iblk m c 12 t : Vec Ideal S1024x1024 .bf16) = a11 m c := by
  funext i
  rw [eq_ix2 i]
  blk_point [iblk, V, idx t]

/-! The rows of the gradient of the mixed sequence. -/
theorem after13 (t : Fin cfg0.N) : (dats m 0 c).after 13 t = k0_pay51 (F := Ideal) (k0_pay2 (iblk m c 4 t) (iblk m c 5 t) (iblk m c 6 t) (iblk m c 7 t)) (iblk m c 11 t) (k0_pay7 (iblk m c 4 t) (iblk m c 5 t) (iblk m c 6 t) (iblk m c 7 t)) (k0_pay9 (k0_pay8 (iblk m c 4 t) (iblk m c 5 t) (iblk m c 6 t) (iblk m c 7 t))) (k0_pay10 (k0_pay8 (iblk m c 4 t) (iblk m c 5 t) (iblk m c 6 t) (iblk m c 7 t)))
    (k0_pay11 (k0_pay2 (iblk m c 4 t) (iblk m c 5 t) (iblk m c 6 t) (iblk m c 7 t)) (k0_pay8 (iblk m c 4 t) (iblk m c 5 t) (iblk m c 6 t) (iblk m c 7 t))) (k0_pay12 (k0_pay2 (iblk m c 4 t) (iblk m c 5 t) (iblk m c 6 t) (iblk m c 7 t)) (iblk m c 11 t) k0_pay3 (k0_pay4 (iblk m c 8 t)) (k0_pay8 (iblk m c 4 t) (iblk m c 5 t) (iblk m c 6 t) (iblk m c 7 t)))
    (k0_pay13 (k0_pay2 (iblk m c 4 t) (iblk m c 5 t) (iblk m c 6 t) (iblk m c 7 t)) (iblk m c 11 t) k0_pay3 (k0_pay4 (iblk m c 8 t)) (k0_pay8 (iblk m c 4 t) (iblk m c 5 t) (iblk m c 6 t) (iblk m c 7 t))) (k0_pay17 (iblk m c 2 t)) (k0_pay35 (iblk m c 0 t) (iblk m c 12 t)) := by
  rw [after0_13]
  by_cases h : t.val % 16 = 0
  · rw [outsAt0_A m c t h]; frame_out
  · rw [outsAt0_B m c t h]; frame_out
theorem point13 (t : Fin cfg0.N) (r l : Fin 512) : ((dats m 0 c).after 13 t : Vec Ideal S512x512 .f32) (ix2 r l)
    = (val_main_v142 (F := Ideal) (a0 m c) (a1 m c) (a2 m c) (a3 m c) (a4 m c) (a6 m c) (a7 m c) (a10 m c) (a11 m c) : Vec Ideal S8192x512 .f32) (ix2 (row t r) l) := by
  rw [after13, blk11, blk12]
  exact dy_at (R := row t) (blk0 m c t) (blk4 m c t) (blk5 m c t) (blk6 m c t) (blk7 m c t) (blk2 m c t) (blk8 m c t) r l
theorem final13 : (dats m 0 c).arrAt 13 cfg0.N = val_main_v142 (F := Ideal) (a0 m c) (a1 m c) (a2 m c) (a3 m c) (a4 m c) (a6 m c) (a7 m c) (a10 m c) (a11 m c) := by
  refine (dats m 0 c).arrAt_eq_of_covers 13 _ (by decide +kernel) fun t hf y => ?_
  refine (congrArg _ (eq_ix2 y)).trans ((point13 m c t (y 0) (y 1)).trans (congrArg _ ?_))
  funext a
  match a with
  | 0 => exact Fin.ext (by show t.val * 512 + (y 0).val = win0_13.index t 0 * 512 + 1 * (y 0).val; rw [(idx t).2.2.2.2.2.2.2.2.2.2.2.2.2.1.1]; omega)
  | 1 => exact Fin.ext (by show (y 1).val = win0_13.index t 1 * 512 + 1 * (y 1).val; rw [(idx t).2.2.2.2.2.2.2.2.2.2.2.2.2.1.2]; omega)

/-! The rows of the gradient of the convolution. -/
theorem after14 (t : Fin cfg0.N) : (dats m 0 c).after 14 t = k0_pay46 (F := Ideal) (k0_pay21 (iblk m c 1 t))
    (k0_pay42 (iblk m c 0 t) (iblk m c 3 t) (iblk m c 12 t) (k0_pay5 (iblk m c 9 t)) (k0_pay6 (iblk m c 10 t)) (k0_pay22 (iblk m c 1 t)) (k0_pay24 (iblk m c 1 t)))
    (k0_pay43 (iblk m c 0 t) (iblk m c 3 t) (iblk m c 12 t) (k0_pay5 (iblk m c 9 t)) (k0_pay6 (iblk m c 10 t)) (k0_pay22 (iblk m c 1 t)) (k0_pay24 (iblk m c 1 t)) (k0_pay25 (iblk m c 1 t)) k0_pay26)
    (k0_pay44 (iblk m c 0 t) (iblk m c 3 t) (iblk m c 12 t) (k0_pay5 (iblk m c 9 t)) (k0_pay6 (iblk m c 10 t)) (k0_pay22 (iblk m c 1 t)) (k0_pay24 (iblk m c 1 t))) k0_pay45 := by
  rw [after0_14]
  by_cases h : t.val % 16 = 0
  · rw [outsAt0_A m c t h]; frame_out
  · rw [outsAt0_B m c t h]; frame_out
theorem point14 (t : Fin cfg0.N) (r l : Fin 512) : ((dats m 0 c).after 14 t : Vec Ideal S512x512 .f32) (ix2 r l)
    = (val_main_v117 (F := Ideal) (a0 m c) (a5 m c) (a6 m c) (a8 m c) (a9 m c) (a11 m c) : Vec Ideal S8192x512 .f32) (ix2 (row t r) l) := by
  rw [after14, blk12]
  exact dc_at (R := row t) (blk0 m c t) (blk1 m c t) (blk3 m c t) (blk9 m c t) (blk10 m c t) r l
theorem final14 : (dats m 0 c).arrAt 14 cfg0.N = val_main_v117 (F := Ideal) (a0 m c) (a5 m c) (a6 m c) (a8 m c) (a9 m c) (a11 m c) := by
  refine (dats m 0 c).arrAt_eq_of_covers 14 _ (by decide +kernel) fun t hf y => ?_
  refine (congrArg _ (eq_ix2 y)).trans ((point14 m c t (y 0) (y 1)).trans (congrArg _ ?_))
  funext a
  match a with
  | 0 => exact Fin.ext (by show t.val * 512 + (y 0).val = win0_14.index t 0 * 512 + 1 * (y 0).val; rw [(idx t).2.2.2.2.2.2.2.2.2.2.2.2.2.2.1.1]; omega)
  | 1 => exact Fin.ext (by show (y 1).val = win0_14.index t 1 * 512 + 1 * (y 1).val; rw [(idx t).2.2.2.2.2.2.2.2.2.2.2.2.2.2.1.2]; omega)

/-! The rows of the gradient of the first gate. -/
theorem after15 (t : Fin cfg0.N) : (dats m 0 c).after 15 t = k0_pay48 (F := Ideal) (iblk m c 2 t) (k0_pay14 (k0_pay2 (iblk m c 4 t) (iblk m c 5 t) (iblk m c 6 t) (iblk m c 7 t)) (iblk m c 11 t) k0_pay3 (k0_pay4 (iblk m c 8 t)) (k0_pay8 (iblk m c 4 t) (iblk m c 5 t) (iblk m c 6 t) (iblk m c 7 t))) (k0_pay15 (iblk m c 2 t)) (k0_pay16 (iblk m c 2 t)) (k0_pay35 (iblk m c 0 t) (iblk m c 12 t)) := by
  rw [after0_15]
  by_cases h : t.val % 16 = 0
  · rw [outsAt0_A m c t h]; frame_out
  · rw [outsAt0_B m c t h]; frame_out
theorem point15 (t : Fin cfg0.N) (r l : Fin 512) : ((dats m 0 c).after 15 t : Vec Ideal S512x512 .f32) (ix2 r l)
    = (val_main_v120 (F := Ideal) (a0 m c) (a1 m c) (a2 m c) (a3 m c) (a4 m c) (a6 m c) (a7 m c) (a10 m c) (a11 m c) : Vec Ideal S8192x512 .f32) (ix2 (row t r) l) := by
  rw [after15, blk11, blk12]
  exact dzl_at (R := row t) (blk0 m c t) (blk4 m c t) (blk5 m c t) (blk6 m c t) (blk7 m c t) (blk2 m c t) (blk8 m c t) r l
theorem final15 : (dats m 0 c).arrAt 15 cfg0.N = val_main_v120 (F := Ideal) (a0 m c) (a1 m c) (a2 m c) (a3 m c) (a4 m c) (a6 m c) (a7 m c) (a10 m c) (a11 m c) := by
  refine (dats m 0 c).arrAt_eq_of_covers 15 _ (by decide +kernel) fun t hf y => ?_
  refine (congrArg _ (eq_ix2 y)).trans ((point15 m c t (y 0) (y 1)).trans (congrArg _ ?_))
  funext a
  match a with
  | 0 => exact Fin.ext (by show t.val * 512 + (y 0).val = win0_15.index t 0 * 512 + 1 * (y 0).val; rw [(idx t).2.2.2.2.2.2.2.2.2.2.2.2.2.2.2.1.1]; omega)
  | 1 => exact Fin.ext (by show (y 1).val = win0_15.index t 1 * 512 + 1 * (y 1).val; rw [(idx t).2.2.2.2.2.2.2.2.2.2.2.2.2.2.2.1.2]; omega)

/-! The rows of the gradient of the second gate. -/
theorem after16 (t : Fin cfg0.N) : (dats m 0 c).after 16 t = k0_pay37 (F := Ideal) (iblk m c 0 t) (iblk m c 3 t) (iblk m c 12 t) (k0_pay5 (iblk m c 9 t)) (k0_pay6 (iblk m c 10 t)) (k0_pay22 (iblk m c 1 t)) (k0_pay24 (iblk m c 1 t)) := by
  rw [after0_16]
  by_cases h : t.val % 16 = 0
  · rw [outsAt0_A m c t h]; frame_out
  · rw [outsAt0_B m c t h]; frame_out
theorem point16 (t : Fin cfg0.N) (r l : Fin 512) : ((dats m 0 c).after 16 t : Vec Ideal S512x512 .f32) (ix2 r l)
    = (val_main_v83 (F := Ideal) (a0 m c) (a5 m c) (a6 m c) (a8 m c) (a9 m c) (a11 m c) : Vec Ideal S8192x512 .f32) (ix2 (row t r) l) := by
  rw [after16, blk12]
  exact dgb_at (R := row t) (blk0 m c t) (blk1 m c t) (blk3 m c t) (blk9 m c t) (blk10 m c t) r l
theorem final16 : (dats m 0 c).arrAt 16 cfg0.N = val_main_v83 (F := Ideal) (a0 m c) (a5 m c) (a6 m c) (a8 m c) (a9 m c) (a11 m c) := by
  refine (dats m 0 c).arrAt_eq_of_covers 16 _ (by decide +kernel) fun t hf y => ?_
  refine (congrArg _ (eq_ix2 y)).trans ((point16 m c t (y 0) (y 1)).trans (congrArg _ ?_))
  funext a
  match a with
  | 0 => exact Fin.ext (by show t.val * 512 + (y 0).val = win0_16.index t 0 * 512 + 1 * (y 0).val; rw [(idx t).2.2.2.2.2.2.2.2.2.2.2.2.2.2.2.2.1]; omega)
  | 1 => exact Fin.ext (by show (y 1).val = win0_16.index t 1 * 512 + 1 * (y 1).val; rw [(idx t).2.2.2.2.2.2.2.2.2.2.2.2.2.2.2.2.2]; omega)

/-- The grid's last point. -/
def last : Fin cfg0.N := ⟨15, by rw [show cfg0.N = 16 from N_0]; omega⟩

/-- What point `t` adds to the gradient of the gate bias. -/
def biasAt (t : Fin cfg0.N) (i : S1x512.Idx) : EReal :=
  ∑ r, (k0_pay49 (F := Ideal) (k0_pay11 (k0_pay2 (iblk m c 4 t) (iblk m c 5 t) (iblk m c 6 t) (iblk m c 7 t)) (k0_pay8 (iblk m c 4 t) (iblk m c 5 t) (iblk m c 6 t) (iblk m c 7 t))) (k0_pay13 (k0_pay2 (iblk m c 4 t) (iblk m c 5 t) (iblk m c 6 t) (iblk m c 7 t)) (iblk m c 11 t) k0_pay3 (k0_pay4 (iblk m c 8 t)) (k0_pay8 (iblk m c 4 t) (iblk m c 5 t) (iblk m c 6 t) (iblk m c 7 t))) (k0_pay17 (iblk m c 2 t)) (k0_pay35 (iblk m c 0 t) (iblk m c 12 t)) : Vec Ideal S512x512 .f32) (ix2 r (i 1))
theorem after17 (i : S1x512.Idx) : (outsAt0 m c last.val last.isLt).2.2.2.2.1 i = (0 : EReal) + ∑ t : Fin cfg0.N, biasAt m c t i :=
  Pipeline.eq_sum_fin_of_reset_step_apply_last (fun n h => (outsAt0 m c n h).2.2.2.2.1) 16 (fun _ => (0 : EReal)) (biasAt m c)
    (fun t h i => by rw [outsAt0_A m c t h]; frame_out; rw [bias_add, bias_zero]; rfl)
    (fun t h i => by rw [outsAt0_B m c t h]; frame_out; rw [bias_add]; rfl) (le_of_eq N_0) last rfl i
theorem sum17 (i : S1x512.Idx) : (0 : EReal) + ∑ t : Fin cfg0.N, biasAt m c t i = (val_main_v143 (F := Ideal) (a0 m c) (a1 m c) (a2 m c) (a3 m c) (a4 m c) (a6 m c) (a7 m c) (a10 m c) (a11 m c) : Vec Ideal S1x512 .f32) i := by
  rw [zero_add, eq_ix2 i]
  pointwise [val_main_v143, val_main_v126, val_main_v125, val_main_v124, val_main_cst_27, val_main_cst_28]
  refine Eq.trans ?_ (Fintype.sum_unique (ι := Fin 1) _).symm
  unfold biasAt
  refine Fin.sum_mul_add_congr (fun t x hl => ?_) (congrArg (· * 512) N_0).symm
  rw [blk11, blk12]
  exact dpre_at (R := row t) (blk0 m c t) (blk4 m c t) (blk5 m c t) (blk6 m c t) (blk7 m c t) (blk2 m c t) (blk8 m c t) x (i 1)
theorem final17 : (dats m 0 c).arrAt 17 cfg0.N = val_main_v143 (F := Ideal) (a0 m c) (a1 m c) (a2 m c) (a3 m c) (a4 m c) (a6 m c) (a7 m c) (a10 m c) (a11 m c) := by
  refine (dats m 0 c).arrAt_eq_of_after_last 17 last (by decide +kernel) _ fun j => ?_
  rw [after0_17]
  exact (after17 m c j).trans (sum17 m c j)

/-- What point `t` adds to the gradient of the norm's gain. -/
def gainAt (t : Fin cfg0.N) (i : S1x512.Idx) : EReal :=
  ∑ r, (k0_pay27 (F := Ideal) (k0_pay22 (iblk m c 1 t)) (k0_pay24 (iblk m c 1 t)) : Vec Ideal S512x512 .f32) (ix2 r (i 1)) * (k0_pay38 (F := Ideal) (iblk m c 0 t) (iblk m c 3 t) (iblk m c 12 t) (k0_pay5 (iblk m c 9 t)) (k0_pay6 (iblk m c 10 t)) (k0_pay22 (iblk m c 1 t)) (k0_pay24 (iblk m c 1 t)) : Vec Ideal S512x512 .f32) (ix2 r (i 1))
theorem after18 (i : S1x512.Idx) : (outsAt0 m c last.val last.isLt).2.2.2.2.2.1 i = (0 : EReal) + ∑ t : Fin cfg0.N, gainAt m c t i :=
  Pipeline.eq_sum_fin_of_reset_step_apply_last (fun n h => (outsAt0 m c n h).2.2.2.2.2.1) 16 (fun _ => (0 : EReal)) (gainAt m c)
    (fun t h i => by rw [outsAt0_A m c t h]; frame_out; rw [gain_add, gain_zero]; rfl)
    (fun t h i => by rw [outsAt0_B m c t h]; frame_out; rw [gain_add]; rfl) (le_of_eq N_0) last rfl i
theorem sum18 (i : S1x512.Idx) : (0 : EReal) + ∑ t : Fin cfg0.N, gainAt m c t i = (val_main_v144 (F := Ideal) (a0 m c) (a5 m c) (a6 m c) (a8 m c) (a9 m c) (a11 m c) : Vec Ideal S1x512 .f32) i := by
  rw [zero_add, eq_ix2 i]
  pointwise [val_main_v144, val_main_v93, val_main_v90, val_main_v89, val_main_v88, val_main_cst_18, val_main_cst_19]
  refine Eq.trans ?_ (Fintype.sum_unique (ι := Fin 1) _).symm
  unfold gainAt
  refine Fin.sum_mul_add_congr (fun t x hl => ?_) (congrArg (· * 512) N_0).symm
  rw [blk12]
  exact congrArg₂ (· * ·) (unit_at (R := row t) (blk1 m c t) x (i 1)) (dcn_at (R := row t) (blk0 m c t) (blk1 m c t) (blk3 m c t) (blk9 m c t) (blk10 m c t) x (i 1))
theorem final18 : (dats m 0 c).arrAt 18 cfg0.N = val_main_v144 (F := Ideal) (a0 m c) (a5 m c) (a6 m c) (a8 m c) (a9 m c) (a11 m c) := by
  refine (dats m 0 c).arrAt_eq_of_after_last 18 last (by decide +kernel) _ fun j => ?_
  rw [after0_18]
  exact (after18 m c j).trans (sum18 m c j)

/-- What point `t` adds to the gradient of the norm's shift. -/
def shiftAt (t : Fin cfg0.N) (i : S1x512.Idx) : EReal :=
  ∑ r, (k0_pay38 (F := Ideal) (iblk m c 0 t) (iblk m c 3 t) (iblk m c 12 t) (k0_pay5 (iblk m c 9 t)) (k0_pay6 (iblk m c 10 t)) (k0_pay22 (iblk m c 1 t)) (k0_pay24 (iblk m c 1 t)) : Vec Ideal S512x512 .f32) (ix2 r (i 1))
theorem after19 (i : S1x512.Idx) : (outsAt0 m c last.val last.isLt).2.2.2.2.2.2.1 i = (0 : EReal) + ∑ t : Fin cfg0.N, shiftAt m c t i :=
  Pipeline.eq_sum_fin_of_reset_step_apply_last (fun n h => (outsAt0 m c n h).2.2.2.2.2.2.1) 16 (fun _ => (0 : EReal)) (shiftAt m c)
    (fun t h i => by rw [outsAt0_A m c t h]; frame_out; rw [shift_add, shift_zero]; rfl)
    (fun t h i => by rw [outsAt0_B m c t h]; frame_out; rw [shift_add]; rfl) (le_of_eq N_0) last rfl i
theorem sum19 (i : S1x512.Idx) : (0 : EReal) + ∑ t : Fin cfg0.N, shiftAt m c t i = (val_main_v145 (F := Ideal) (a0 m c) (a5 m c) (a6 m c) (a8 m c) (a9 m c) (a11 m c) : Vec Ideal S1x512 .f32) i := by
  rw [zero_add, eq_ix2 i]
  pointwise [val_main_v145, val_main_v87, val_main_v86, val_main_v85, val_main_cst_16, val_main_cst_17]
  refine Eq.trans ?_ (Fintype.sum_unique (ι := Fin 1) _).symm
  unfold shiftAt
  refine Fin.sum_mul_add_congr (fun t x hl => ?_) (congrArg (· * 512) N_0).symm
  rw [blk12]
  exact dcn_at (R := row t) (blk0 m c t) (blk1 m c t) (blk3 m c t) (blk9 m c t) (blk10 m c t) x (i 1)
theorem final19 : (dats m 0 c).arrAt 19 cfg0.N = val_main_v145 (F := Ideal) (a0 m c) (a5 m c) (a6 m c) (a8 m c) (a9 m c) (a11 m c) := by
  refine (dats m 0 c).arrAt_eq_of_after_last 19 last (by decide +kernel) _ fun j => ?_
  rw [after0_19]
  exact (after19 m c j).trans (sum19 m c j)

/-- What point `t` adds to the gradient of the gate's weight. -/
def gateAt (t : Fin cfg0.N) (i : S512x512.Idx) : EReal :=
  ∑ r, (k0_pay11 (F := Ideal) (k0_pay2 (iblk m c 4 t) (iblk m c 5 t) (iblk m c 6 t) (iblk m c 7 t)) (k0_pay8 (iblk m c 4 t) (iblk m c 5 t) (iblk m c 6 t) (iblk m c 7 t)) : Vec Ideal S512x512 .f32) (ix2 r (i 0)) * (k0_pay49 (F := Ideal) (k0_pay11 (k0_pay2 (iblk m c 4 t) (iblk m c 5 t) (iblk m c 6 t) (iblk m c 7 t)) (k0_pay8 (iblk m c 4 t) (iblk m c 5 t) (iblk m c 6 t) (iblk m c 7 t))) (k0_pay13 (k0_pay2 (iblk m c 4 t) (iblk m c 5 t) (iblk m c 6 t) (iblk m c 7 t)) (iblk m c 11 t) k0_pay3 (k0_pay4 (iblk m c 8 t)) (k0_pay8 (iblk m c 4 t) (iblk m c 5 t) (iblk m c 6 t) (iblk m c 7 t))) (k0_pay17 (iblk m c 2 t)) (k0_pay35 (iblk m c 0 t) (iblk m c 12 t)) : Vec Ideal S512x512 .f32) (ix2 r (i 1))
theorem after20 (i : S512x512.Idx) : (outsAt0 m c last.val last.isLt).2.2.2.2.2.2.2.1 i = (0 : EReal) + ∑ t : Fin cfg0.N, gateAt m c t i :=
  Pipeline.eq_sum_fin_of_reset_step_apply_last (fun n h => (outsAt0 m c n h).2.2.2.2.2.2.2.1) 16 (fun _ => (0 : EReal)) (gateAt m c)
    (fun t h i => by rw [outsAt0_A m c t h]; frame_out; rw [gate_add, gate_zero]; rfl)
    (fun t h i => by rw [outsAt0_B m c t h]; frame_out; rw [gate_add]; rfl) (le_of_eq N_0) last rfl i
theorem sum20 (i : S512x512.Idx) : (0 : EReal) + ∑ t : Fin cfg0.N, gateAt m c t i = (val_main_v128 (F := Ideal) (a0 m c) (a1 m c) (a2 m c) (a3 m c) (a4 m c) (a6 m c) (a7 m c) (a10 m c) (a11 m c) : Vec Ideal S512x512 .f32) i := by
  rw [zero_add, eq_ix2 i]
  pointwise [val_main_v128, val_main_v127]
  unfold gateAt
  refine Fin.sum_mul_add_congr (fun t x hl => ?_) (congrArg (· * 512) N_0).symm
  rw [mul_comm, blk11, blk12]
  exact congrArg₂ (· * ·) (dpre_at (R := row t) (blk0 m c t) (blk4 m c t) (blk5 m c t) (blk6 m c t) (blk7 m c t) (blk2 m c t) (blk8 m c t) x (i 1)) (act_at (R := row t) (blk4 m c t) (blk5 m c t) (blk6 m c t) (blk7 m c t) x (i 0))
theorem final20 : (dats m 0 c).arrAt 20 cfg0.N = val_main_v128 (F := Ideal) (a0 m c) (a1 m c) (a2 m c) (a3 m c) (a4 m c) (a6 m c) (a7 m c) (a10 m c) (a11 m c) := by
  refine (dats m 0 c).arrAt_eq_of_after_last 20 last (by decide +kernel) _ fun j => ?_
  rw [after0_20]
  exact (after20 m c j).trans (sum20 m c j)

/-- What point `t` adds to the gradient of the output weight. -/
def weightAt (t : Fin cfg0.N) (i : S1024x1024.Idx) : EReal :=
  ∑ r, (k0_pay33 (F := Ideal) (iblk m c 3 t) (k0_pay5 (iblk m c 9 t)) (k0_pay6 (iblk m c 10 t)) (k0_pay18 (iblk m c 2 t) (k0_pay2 (iblk m c 4 t) (iblk m c 5 t) (iblk m c 6 t) (iblk m c 7 t)) (iblk m c 11 t) k0_pay3 (k0_pay4 (iblk m c 8 t)) (k0_pay8 (iblk m c 4 t) (iblk m c 5 t) (iblk m c 6 t) (iblk m c 7 t))) (k0_pay22 (iblk m c 1 t)) (k0_pay24 (iblk m c 1 t)) : Vec Ideal S512x1024 .f32) (ix2 r (i 0)) * (iblk m c 0 t : Vec Ideal S512x1024 .f32) (ix2 r (i 1))
theorem after21 (i : S1024x1024.Idx) : (outsAt0 m c last.val last.isLt).2.2.2.2.2.2.2.2 i = (0 : EReal) + ∑ t : Fin cfg0.N, weightAt m c t i :=
  Pipeline.eq_sum_fin_of_reset_step_apply_last (fun n h => (outsAt0 m c n h).2.2.2.2.2.2.2.2) 16 (fun _ => (0 : EReal)) (weightAt m c)
    (fun t h i => by rw [outsAt0_A m c t h]; frame_out; rw [weight_add, weight_zero]; rfl)
    (fun t h i => by rw [outsAt0_B m c t h]; frame_out; rw [weight_add]; rfl) (le_of_eq N_0) last rfl i
theorem sum21 (i : S1024x1024.Idx) : (0 : EReal) + ∑ t : Fin cfg0.N, weightAt m c t i = (val_main_v77 (F := Ideal) (a0 m c) (a1 m c) (a2 m c) (a3 m c) (a4 m c) (a5 m c) (a6 m c) (a7 m c) (a8 m c) (a9 m c) (a10 m c) : Vec Ideal S1024x1024 .f32) i := by
  rw [zero_add, eq_ix2 i]
  pointwise [val_main_v77, val_main_v76]
  unfold weightAt
  refine Fin.sum_mul_add_congr (fun t x hl => ?_) (congrArg (· * 512) N_0).symm
  rw [mul_comm, blk11]
  exact congrArg₂ (· * ·) (blk0 m c t x (i 1)) (mix_at (R := row t) (blk4 m c t) (blk5 m c t) (blk6 m c t) (blk7 m c t) (blk1 m c t) (blk2 m c t) (blk3 m c t) (blk8 m c t) (blk9 m c t) (blk10 m c t) x (i 0))
theorem final21 : (dats m 0 c).arrAt 21 cfg0.N = val_main_v77 (F := Ideal) (a0 m c) (a1 m c) (a2 m c) (a3 m c) (a4 m c) (a5 m c) (a6 m c) (a7 m c) (a8 m c) (a9 m c) (a10 m c) := by
  refine (dats m 0 c).arrAt_eq_of_after_last 21 last (by decide +kernel) _ fun j => ?_
  rw [after0_21]
  exact (after21 m c j).trans (sum21 m c j)

end Cert.EvOutBwdIdeal.Value
end
-- ==== Proof.EvOutBwdTie.lean ====
/-
  The gated mix of the even layers backwards against its reference: every result of the kernel is the
  reference's, and no condition is put on the arguments.
-/
module

public import proofs.«01_k».proof.Defs
public import proofs.«01_k».proof.Proof.EvOutBwdKernel
public import proofs.«01_k».proof.Proof.Gen.EvOutBwdRefIdeal.Run

@[expose] public section

set_option maxRecDepth 16384

noncomputable section

namespace EvOutBwdTie

open Idealize.ShloMosaic Idealize.SL.Sem Cert.EvOutBwdIdeal.Value Cert.EvOutBwdRefIdeal.Read

theorem value : Cert.algebraic_EvOutBwdIdeal_EvOutBwdRefIdeal (hEvOutBwdIdeal := Cert.EvOutBwdIdeal.Gen.facts) (hEvOutBwdRefIdeal := Cert.EvOutBwdRefIdeal.Gen.facts) := by
  intro m g m' g' _ hm
  refine ⟨fun c => val_main_v142 (F := Ideal) (a0 m c) (a1 m c) (a2 m c) (a3 m c) (a4 m c) (a6 m c) (a7 m c) (a10 m c) (a11 m c),
    fun c => val_main_v117 (F := Ideal) (a0 m c) (a5 m c) (a6 m c) (a8 m c) (a9 m c) (a11 m c),
    fun c => val_main_v120 (F := Ideal) (a0 m c) (a1 m c) (a2 m c) (a3 m c) (a4 m c) (a6 m c) (a7 m c) (a10 m c) (a11 m c),
    fun c => val_main_v83 (F := Ideal) (a0 m c) (a5 m c) (a6 m c) (a8 m c) (a9 m c) (a11 m c),
    fun c => val_main_v143 (F := Ideal) (a0 m c) (a1 m c) (a2 m c) (a3 m c) (a4 m c) (a6 m c) (a7 m c) (a10 m c) (a11 m c),
    fun c => val_main_v144 (F := Ideal) (a0 m c) (a5 m c) (a6 m c) (a8 m c) (a9 m c) (a11 m c),
    fun c => val_main_v145 (F := Ideal) (a0 m c) (a5 m c) (a6 m c) (a8 m c) (a9 m c) (a11 m c),
    fun c => val_main_v128 (F := Ideal) (a0 m c) (a1 m c) (a2 m c) (a3 m c) (a4 m c) (a6 m c) (a7 m c) (a10 m c) (a11 m c),
    fun c => val_main_v77 (F := Ideal) (a0 m c) (a1 m c) (a2 m c) (a3 m c) (a4 m c) (a5 m c) (a6 m c) (a7 m c) (a8 m c) (a9 m c) (a10 m c),
    (θ_run _ _ _).mono (fun r h c => ?_) (run_blocks m g),
    (θ_run _ _ _).mono (fun r h c => ?_) (Cert.EvOutBwdRefIdeal.Value.run m' g')⟩
  · obtain ⟨r0, r1, r2, r3, r4, r5, r6, r7, r8, kept⟩ := h c
    exact ⟨r0.trans (final13 m c), r1.trans (final14 m c), r2.trans (final15 m c), r3.trans (final16 m c), r4.trans (final17 m c), r5.trans (final18 m c), r6.trans (final19 m c), r7.trans (final20 m c), r8.trans (final21 m c), kept⟩
  · obtain ⟨r0, r1, r2, r3, r4, r5, r6, r7, r8, kept⟩ := h c
    obtain ⟨e0, e1, e2, e3, e4, e5, e6, e7, e8, e9, e10, e11⟩ := hm c
    refine ⟨r0.trans ((val_main_v142_eq ..).trans ?_),
      r1.trans ((val_main_v117_eq ..).trans ?_),
      r2.trans ((val_main_v120_eq ..).trans ?_),
      r3.trans ((val_main_v83_eq ..).trans ?_),
      r4.trans ((val_main_v143_eq ..).trans ?_),
      r5.trans ((val_main_v144_eq ..).trans ?_),
      r6.trans ((val_main_v145_eq ..).trans ?_),
      r7.trans ((val_main_v128_eq ..).trans ?_),
      r8.trans ((val_main_v77_eq ..).trans ?_), kept⟩
    · show val_main_v142 (F := Ideal) (m' ((c.tc : Thread Cert.EvOutBwdRefIdeal.nD Cert.EvOutBwdRefIdeal.τ).loc Cert.EvOutBwdRefIdeal.main_arg0)) (m' ((c.tc : Thread Cert.EvOutBwdRefIdeal.nD Cert.EvOutBwdRefIdeal.τ).loc Cert.EvOutBwdRefIdeal.main_arg1)) (m' ((c.tc : Thread Cert.EvOutBwdRefIdeal.nD Cert.EvOutBwdRefIdeal.τ).loc Cert.EvOutBwdRefIdeal.main_arg2)) (m' ((c.tc : Thread Cert.EvOutBwdRefIdeal.nD Cert.EvOutBwdRefIdeal.τ).loc Cert.EvOutBwdRefIdeal.main_arg3)) (m' ((c.tc : Thread Cert.EvOutBwdRefIdeal.nD Cert.EvOutBwdRefIdeal.τ).loc Cert.EvOutBwdRefIdeal.main_arg4)) (m' ((c.tc : Thread Cert.EvOutBwdRefIdeal.nD Cert.EvOutBwdRefIdeal.τ).loc Cert.EvOutBwdRefIdeal.main_arg6)) (m' ((c.tc : Thread Cert.EvOutBwdRefIdeal.nD Cert.EvOutBwdRefIdeal.τ).loc Cert.EvOutBwdRefIdeal.main_arg7)) (m' ((c.tc : Thread Cert.EvOutBwdRefIdeal.nD Cert.EvOutBwdRefIdeal.τ).loc Cert.EvOutBwdRefIdeal.main_arg10)) (m' ((c.tc : Thread Cert.EvOutBwdRefIdeal.nD Cert.EvOutBwdRefIdeal.τ).loc Cert.EvOutBwdRefIdeal.main_arg11)) = _
      rw [e0, e1, e2, e3, e4, e6, e7, e10, e11]
    · show val_main_v117 (F := Ideal) (m' ((c.tc : Thread Cert.EvOutBwdRefIdeal.nD Cert.EvOutBwdRefIdeal.τ).loc Cert.EvOutBwdRefIdeal.main_arg0)) (m' ((c.tc : Thread Cert.EvOutBwdRefIdeal.nD Cert.EvOutBwdRefIdeal.τ).loc Cert.EvOutBwdRefIdeal.main_arg5)) (m' ((c.tc : Thread Cert.EvOutBwdRefIdeal.nD Cert.EvOutBwdRefIdeal.τ).loc Cert.EvOutBwdRefIdeal.main_arg6)) (m' ((c.tc : Thread Cert.EvOutBwdRefIdeal.nD Cert.EvOutBwdRefIdeal.τ).loc Cert.EvOutBwdRefIdeal.main_arg8)) (m' ((c.tc : Thread Cert.EvOutBwdRefIdeal.nD Cert.EvOutBwdRefIdeal.τ).loc Cert.EvOutBwdRefIdeal.main_arg9)) (m' ((c.tc : Thread Cert.EvOutBwdRefIdeal.nD Cert.EvOutBwdRefIdeal.τ).loc Cert.EvOutBwdRefIdeal.main_arg11)) = _
      rw [e0, e5, e6, e8, e9, e11]
    · show val_main_v120 (F := Ideal) (m' ((c.tc : Thread Cert.EvOutBwdRefIdeal.nD Cert.EvOutBwdRefIdeal.τ).loc Cert.EvOutBwdRefIdeal.main_arg0)) (m' ((c.tc : Thread Cert.EvOutBwdRefIdeal.nD Cert.EvOutBwdRefIdeal.τ).loc Cert.EvOutBwdRefIdeal.main_arg1)) (m' ((c.tc : Thread Cert.EvOutBwdRefIdeal.nD Cert.EvOutBwdRefIdeal.τ).loc Cert.EvOutBwdRefIdeal.main_arg2)) (m' ((c.tc : Thread Cert.EvOutBwdRefIdeal.nD Cert.EvOutBwdRefIdeal.τ).loc Cert.EvOutBwdRefIdeal.main_arg3)) (m' ((c.tc : Thread Cert.EvOutBwdRefIdeal.nD Cert.EvOutBwdRefIdeal.τ).loc Cert.EvOutBwdRefIdeal.main_arg4)) (m' ((c.tc : Thread Cert.EvOutBwdRefIdeal.nD Cert.EvOutBwdRefIdeal.τ).loc Cert.EvOutBwdRefIdeal.main_arg6)) (m' ((c.tc : Thread Cert.EvOutBwdRefIdeal.nD Cert.EvOutBwdRefIdeal.τ).loc Cert.EvOutBwdRefIdeal.main_arg7)) (m' ((c.tc : Thread Cert.EvOutBwdRefIdeal.nD Cert.EvOutBwdRefIdeal.τ).loc Cert.EvOutBwdRefIdeal.main_arg10)) (m' ((c.tc : Thread Cert.EvOutBwdRefIdeal.nD Cert.EvOutBwdRefIdeal.τ).loc Cert.EvOutBwdRefIdeal.main_arg11)) = _
      rw [e0, e1, e2, e3, e4, e6, e7, e10, e11]
    · show val_main_v83 (F := Ideal) (m' ((c.tc : Thread Cert.EvOutBwdRefIdeal.nD Cert.EvOutBwdRefIdeal.τ).loc Cert.EvOutBwdRefIdeal.main_arg0)) (m' ((c.tc : Thread Cert.EvOutBwdRefIdeal.nD Cert.EvOutBwdRefIdeal.τ).loc Cert.EvOutBwdRefIdeal.main_arg5)) (m' ((c.tc : Thread Cert.EvOutBwdRefIdeal.nD Cert.EvOutBwdRefIdeal.τ).loc Cert.EvOutBwdRefIdeal.main_arg6)) (m' ((c.tc : Thread Cert.EvOutBwdRefIdeal.nD Cert.EvOutBwdRefIdeal.τ).loc Cert.EvOutBwdRefIdeal.main_arg8)) (m' ((c.tc : Thread Cert.EvOutBwdRefIdeal.nD Cert.EvOutBwdRefIdeal.τ).loc Cert.EvOutBwdRefIdeal.main_arg9)) (m' ((c.tc : Thread Cert.EvOutBwdRefIdeal.nD Cert.EvOutBwdRefIdeal.τ).loc Cert.EvOutBwdRefIdeal.main_arg11)) = _
      rw [e0, e5, e6, e8, e9, e11]
    · show val_main_v143 (F := Ideal) (m' ((c.tc : Thread Cert.EvOutBwdRefIdeal.nD Cert.EvOutBwdRefIdeal.τ).loc Cert.EvOutBwdRefIdeal.main_arg0)) (m' ((c.tc : Thread Cert.EvOutBwdRefIdeal.nD Cert.EvOutBwdRefIdeal.τ).loc Cert.EvOutBwdRefIdeal.main_arg1)) (m' ((c.tc : Thread Cert.EvOutBwdRefIdeal.nD Cert.EvOutBwdRefIdeal.τ).loc Cert.EvOutBwdRefIdeal.main_arg2)) (m' ((c.tc : Thread Cert.EvOutBwdRefIdeal.nD Cert.EvOutBwdRefIdeal.τ).loc Cert.EvOutBwdRefIdeal.main_arg3)) (m' ((c.tc : Thread Cert.EvOutBwdRefIdeal.nD Cert.EvOutBwdRefIdeal.τ).loc Cert.EvOutBwdRefIdeal.main_arg4)) (m' ((c.tc : Thread Cert.EvOutBwdRefIdeal.nD Cert.EvOutBwdRefIdeal.τ).loc Cert.EvOutBwdRefIdeal.main_arg6)) (m' ((c.tc : Thread Cert.EvOutBwdRefIdeal.nD Cert.EvOutBwdRefIdeal.τ).loc Cert.EvOutBwdRefIdeal.main_arg7)) (m' ((c.tc : Thread Cert.EvOutBwdRefIdeal.nD Cert.EvOutBwdRefIdeal.τ).loc Cert.EvOutBwdRefIdeal.main_arg10)) (m' ((c.tc : Thread Cert.EvOutBwdRefIdeal.nD Cert.EvOutBwdRefIdeal.τ).loc Cert.EvOutBwdRefIdeal.main_arg11)) = _
      rw [e0, e1, e2, e3, e4, e6, e7, e10, e11]
    · show val_main_v144 (F := Ideal) (m' ((c.tc : Thread Cert.EvOutBwdRefIdeal.nD Cert.EvOutBwdRefIdeal.τ).loc Cert.EvOutBwdRefIdeal.main_arg0)) (m' ((c.tc : Thread Cert.EvOutBwdRefIdeal.nD Cert.EvOutBwdRefIdeal.τ).loc Cert.EvOutBwdRefIdeal.main_arg5)) (m' ((c.tc : Thread Cert.EvOutBwdRefIdeal.nD Cert.EvOutBwdRefIdeal.τ).loc Cert.EvOutBwdRefIdeal.main_arg6)) (m' ((c.tc : Thread Cert.EvOutBwdRefIdeal.nD Cert.EvOutBwdRefIdeal.τ).loc Cert.EvOutBwdRefIdeal.main_arg8)) (m' ((c.tc : Thread Cert.EvOutBwdRefIdeal.nD Cert.EvOutBwdRefIdeal.τ).loc Cert.EvOutBwdRefIdeal.main_arg9)) (m' ((c.tc : Thread Cert.EvOutBwdRefIdeal.nD Cert.EvOutBwdRefIdeal.τ).loc Cert.EvOutBwdRefIdeal.main_arg11)) = _
      rw [e0, e5, e6, e8, e9, e11]
    · show val_main_v145 (F := Ideal) (m' ((c.tc : Thread Cert.EvOutBwdRefIdeal.nD Cert.EvOutBwdRefIdeal.τ).loc Cert.EvOutBwdRefIdeal.main_arg0)) (m' ((c.tc : Thread Cert.EvOutBwdRefIdeal.nD Cert.EvOutBwdRefIdeal.τ).loc Cert.EvOutBwdRefIdeal.main_arg5)) (m' ((c.tc : Thread Cert.EvOutBwdRefIdeal.nD Cert.EvOutBwdRefIdeal.τ).loc Cert.EvOutBwdRefIdeal.main_arg6)) (m' ((c.tc : Thread Cert.EvOutBwdRefIdeal.nD Cert.EvOutBwdRefIdeal.τ).loc Cert.EvOutBwdRefIdeal.main_arg8)) (m' ((c.tc : Thread Cert.EvOutBwdRefIdeal.nD Cert.EvOutBwdRefIdeal.τ).loc Cert.EvOutBwdRefIdeal.main_arg9)) (m' ((c.tc : Thread Cert.EvOutBwdRefIdeal.nD Cert.EvOutBwdRefIdeal.τ).loc Cert.EvOutBwdRefIdeal.main_arg11)) = _
      rw [e0, e5, e6, e8, e9, e11]
    · show val_main_v128 (F := Ideal) (m' ((c.tc : Thread Cert.EvOutBwdRefIdeal.nD Cert.EvOutBwdRefIdeal.τ).loc Cert.EvOutBwdRefIdeal.main_arg0)) (m' ((c.tc : Thread Cert.EvOutBwdRefIdeal.nD Cert.EvOutBwdRefIdeal.τ).loc Cert.EvOutBwdRefIdeal.main_arg1)) (m' ((c.tc : Thread Cert.EvOutBwdRefIdeal.nD Cert.EvOutBwdRefIdeal.τ).loc Cert.EvOutBwdRefIdeal.main_arg2)) (m' ((c.tc : Thread Cert.EvOutBwdRefIdeal.nD Cert.EvOutBwdRefIdeal.τ).loc Cert.EvOutBwdRefIdeal.main_arg3)) (m' ((c.tc : Thread Cert.EvOutBwdRefIdeal.nD Cert.EvOutBwdRefIdeal.τ).loc Cert.EvOutBwdRefIdeal.main_arg4)) (m' ((c.tc : Thread Cert.EvOutBwdRefIdeal.nD Cert.EvOutBwdRefIdeal.τ).loc Cert.EvOutBwdRefIdeal.main_arg6)) (m' ((c.tc : Thread Cert.EvOutBwdRefIdeal.nD Cert.EvOutBwdRefIdeal.τ).loc Cert.EvOutBwdRefIdeal.main_arg7)) (m' ((c.tc : Thread Cert.EvOutBwdRefIdeal.nD Cert.EvOutBwdRefIdeal.τ).loc Cert.EvOutBwdRefIdeal.main_arg10)) (m' ((c.tc : Thread Cert.EvOutBwdRefIdeal.nD Cert.EvOutBwdRefIdeal.τ).loc Cert.EvOutBwdRefIdeal.main_arg11)) = _
      rw [e0, e1, e2, e3, e4, e6, e7, e10, e11]
    · show val_main_v77 (F := Ideal) (m' ((c.tc : Thread Cert.EvOutBwdRefIdeal.nD Cert.EvOutBwdRefIdeal.τ).loc Cert.EvOutBwdRefIdeal.main_arg0)) (m' ((c.tc : Thread Cert.EvOutBwdRefIdeal.nD Cert.EvOutBwdRefIdeal.τ).loc Cert.EvOutBwdRefIdeal.main_arg1)) (m' ((c.tc : Thread Cert.EvOutBwdRefIdeal.nD Cert.EvOutBwdRefIdeal.τ).loc Cert.EvOutBwdRefIdeal.main_arg2)) (m' ((c.tc : Thread Cert.EvOutBwdRefIdeal.nD Cert.EvOutBwdRefIdeal.τ).loc Cert.EvOutBwdRefIdeal.main_arg3)) (m' ((c.tc : Thread Cert.EvOutBwdRefIdeal.nD Cert.EvOutBwdRefIdeal.τ).loc Cert.EvOutBwdRefIdeal.main_arg4)) (m' ((c.tc : Thread Cert.EvOutBwdRefIdeal.nD Cert.EvOutBwdRefIdeal.τ).loc Cert.EvOutBwdRefIdeal.main_arg5)) (m' ((c.tc : Thread Cert.EvOutBwdRefIdeal.nD Cert.EvOutBwdRefIdeal.τ).loc Cert.EvOutBwdRefIdeal.main_arg6)) (m' ((c.tc : Thread Cert.EvOutBwdRefIdeal.nD Cert.EvOutBwdRefIdeal.τ).loc Cert.EvOutBwdRefIdeal.main_arg7)) (m' ((c.tc : Thread Cert.EvOutBwdRefIdeal.nD Cert.EvOutBwdRefIdeal.τ).loc Cert.EvOutBwdRefIdeal.main_arg8)) (m' ((c.tc : Thread Cert.EvOutBwdRefIdeal.nD Cert.EvOutBwdRefIdeal.τ).loc Cert.EvOutBwdRefIdeal.main_arg9)) (m' ((c.tc : Thread Cert.EvOutBwdRefIdeal.nD Cert.EvOutBwdRefIdeal.τ).loc Cert.EvOutBwdRefIdeal.main_arg10)) = _
      rw [e0, e1, e2, e3, e4, e5, e6, e7, e8, e9, e10]

end EvOutBwdTie
end
-- ==== Proof.XaRef.lean ====
/-
  The reference of the cross attention's gradient, one query row of one head at a time: the scores, the softmax, and the
  gradient of the scores, as functions of the row.
-/
module

public import proofs.«01_k».proof.Proof.Gen.XaBwdRefIdeal.Read
public import proofs.«01_k».proof.Proof.AttnRow
public import Idealize.ShloMosaic.Lib.Pointwise
public import Idealize.ShloMosaic.Lib.KernelVsHost

@[expose] public section

set_option maxRecDepth 16384

noncomputable section

namespace XaRow

open Idealize.ShloMosaic AttnRow

variable (s dp : Fin 256 → EReal)

/-- One where the row's maximum is taken, zero elsewhere. -/
def hit (k : Fin 256) : EReal := (FloatOps.uitofp FTy.f32 (BitVec.ofBool (decide (s k = rowMax s))) : Ideal .f32)
/-- The probabilities. -/
def prob (k : Fin 256) : EReal := Ideal.div (rowExp s k) (rowSum s)
/-- The gradient of the shifted scores, where `dp` is the gradient of the probabilities. -/
def inner (k : Fin 256) : EReal :=
  (Ideal.div (dp k) (rowSum s) + -∑ x, dp x * Ideal.div 1 (rowSum s * rowSum s) * rowExp s x) * rowExp s k
/-- The gradient of the scores before their scaling: what the maximum takes back is shared among the places that take it. -/
def outer (k : Fin 256) : EReal := inner s dp k + Ideal.div (∑ x, -inner s dp x) (∑ x, hit s x) * hit s k

end XaRow

namespace Cert.XaBwdRefIdeal.Read

open Idealize.ShloMosaic Idealize.ShloMosaic.TcCoe Idealize.SL.Sem Cert.XaBwdRefIdeal Cert.XaBwdRefIdeal.Gen AttnRow XaRow

variable (X Y : Vec Ideal S8192x1024 .f32) (G : Vec Ideal S1024 .f32) (K : Vec Ideal S256x2048 .f32) (W : Vec Ideal S1024x2048 .bf16) (U : Vec Ideal S1024x1024 .bf16)

/-- Column `d` of head `h`. -/
abbrev col (h : Fin 4) (d : Fin 256) : Fin 1024 := ⟨h.val * 256 + d.val, by omega⟩
/-- The same column among queries or keys. -/
abbrev colK (h : Fin 4) (d : Fin 256) : Fin 2048 := ⟨h.val * 256 + d.val, by omega⟩
/-- The same column among values. -/
abbrev colV (h : Fin 4) (d : Fin 256) : Fin 2048 := ⟨1024 + (h.val * 256 + d.val), by omega⟩

/-- The scores of row `r`, head `h`. -/
def score (h : Fin 4) (r : Fin 8192) (k : Fin 256) : EReal :=
  (∑ d, (val_main_v18 (F := Ideal) X G W : Vec Ideal S8192x2048 .f32) (ix2 r (colK h d)) * K (ix2 k (colK h d))) * Ideal.ofBits FTy.f32 1031798784#32
/-- The gradient of the probabilities of row `r`, head `h`. -/
def dprob (h : Fin 4) (r : Fin 8192) (k : Fin 256) : EReal :=
  ∑ d, (val_main_v58 (F := Ideal) X Y G W U : Vec Ideal S8192x1024 .f32) (ix2 r (col h d)) * K (ix2 k (colV h d))

theorem v27_at (h : Fin 4) (r : Fin 8192) (k : Fin 256) : (val_main_v27 (F := Ideal) X G K W : Vec Ideal S4x8192x256 .f32) (ix3 h r k) = score X G K W h r k := by
  unfold score
  pointwise [val_main_v27, val_main_v26, val_main_v25, val_main_v24, val_main_v23, val_main_v22, val_main_v21, val_main_v20, val_main_v19, val_main_cst_3]
theorem v63_at (h : Fin 4) (r : Fin 8192) (k : Fin 256) : (val_main_v63 (F := Ideal) X Y G K W U : Vec Ideal S4x8192x256 .f32) (ix3 h r k) = dprob X Y G K W U h r k := by
  unfold dprob
  pointwise [val_main_v63, val_main_v62, val_main_v61, val_main_v24, val_main_v23]

/-- The host's maximum along the last axis, from minus infinity. -/
theorem fold_max3 {n0 n1 n2 : ℕ} {u : Shape} (x : FVec Ideal ⟨3, ![n0, n1, n2]⟩ .f32) (h : (⟨3, ![n0, n1, n2]⟩ : Shape).ReducesTo [2] ⟨2, ![n0, n1]⟩)
    (h' : (⟨3, ![n0, n1, n2]⟩ : Shape).Reduces [2] ⟨2, ![n0, n1]⟩) (hu : 0 < u.numel) (a : Fin n0) (b : Fin n1) :
    (Host.reduce (FloatOps.maximumf (F := Ideal)) x (constant (F := Ideal) u .f32 4286578688#32) h hu (ix2 a b) : Ideal .f32) = rowMax fun k => x (ix3 a b k) := by
  rw [hostReduce_maximumf_eq_multiReduction x 4286578688#32 h hu h' (Or.inl rfl) rfl]
  show reduceFold h' FloatOps.maximumf (FloatOps.ofBits .f32 4286578688#32) x (ix2 a b) = _
  rw [reduceFold_eq_fold, Shape.Reduces.fold_fiber_r3_a2]
  have e : (FloatOps.ofBits .f32 4286578688#32 : Ideal .f32) = (⊥ : EReal) := by
    show Ideal.ofBits .f32 4286578688#32 = ⊥
    simp [Ideal.ofBits, Ideal.ieee]
  rw [e]
  rfl
theorem hr : (⟨3, ![4, 8192, 256]⟩ : Shape).Reduces [2] ⟨2, ![4, 8192]⟩ := by decide
theorem v28_at (h : Fin 4) (r : Fin 8192) : (val_main_v28 (F := Ideal) X G K W : Vec Ideal S4x8192 .f32) (ix2 h r) = rowMax (score X G K W h r) := by
  unfold val_main_v28 val_main_cst_4
  exact (fold_max3 (n0 := 4) (n1 := 8192) (n2 := 256) (val_main_v27 (F := Ideal) X G K W) reducesTo_S4x8192x256_S4x8192_d2 hr h_S_ h r).trans (congrArg rowMax (funext (v27_at X G K W h r)))
theorem v37_at (h : Fin 4) (r : Fin 8192) (k : Fin 256) : (val_main_v37 (F := Ideal) X G K W : Vec Ideal S4x8192x256 .f32) (ix3 h r k) = rowExp (score X G K W h r) k := by
  pointwise [val_main_v37, val_main_v36, val_main_v35, val_main_v34]
  rw [v27_at, v28_at]
  rfl
theorem v38_at (h : Fin 4) (r : Fin 8192) : (val_main_v38 (F := Ideal) X G K W : Vec Ideal S4x8192 .f32) (ix2 h r) = rowSum (score X G K W h r) := by
  have e := v37_at X G K W h r
  pointwise [val_main_v38, val_main_cst_6]
  simp only [e]
  rfl
theorem v41_at (h : Fin 4) (r : Fin 8192) (k : Fin 256) : (val_main_v41 (F := Ideal) X G K W : Vec Ideal S4x8192x256 .f32) (ix3 h r k) = prob (score X G K W h r) k := by
  pointwise [val_main_v41, val_main_v40, val_main_v39]
  rw [v37_at, v38_at]
  rfl
theorem v32_at (h : Fin 4) (r : Fin 8192) (k : Fin 256) : (val_main_v32 (F := Ideal) X G K W : Vec Ideal S4x8192x256 .f32) (ix3 h r k) = hit (score X G K W h r) k := by
  pointwise [val_main_v32, val_main_v31, val_main_v30, val_main_v29]
  rw [v27_at, v28_at]
  rfl
theorem v77_at (h : Fin 4) (r : Fin 8192) (k : Fin 256) : (val_main_v77 (F := Ideal) X Y G K W U : Vec Ideal S4x8192x256 .f32) (ix3 h r k)
    = inner (score X G K W h r) (dprob X Y G K W U h r) k := by
  have e := v37_at X G K W h r
  have e' := v63_at X Y G K W U h r
  pointwise [val_main_v77, val_main_v76, val_main_v75, val_main_v74, val_main_v73, val_main_v72, val_main_v71, val_main_v70, val_main_v69, val_main_v68, val_main_v67, val_main_v66,
    val_main_v44, val_main_v43, val_main_v42, val_main_v39, val_main_cst_7, val_main_cst_9, val_main_cst_10]
  simp only [Fintype.sum_unique, e, e', v38_at]
  rfl
theorem v87_at (h : Fin 4) (r : Fin 8192) (k : Fin 256) : (val_main_v87 (F := Ideal) X Y G K W U : Vec Ideal S4x8192x256 .f32) (ix3 h r k)
    = outer (score X G K W h r) (dprob X Y G K W U h r) k * Ideal.ofBits FTy.f32 1031798784#32 := by
  have e := v32_at X G K W h r
  have e' := v77_at X Y G K W U h r
  pointwise [val_main_v87, val_main_v86, val_main_v85, val_main_v84, val_main_v83, val_main_v82, val_main_v81, val_main_v80, val_main_v79, val_main_v78,
    val_main_v33, val_main_cst_5, val_main_cst_11, val_main_cst_12, val_main_cst_13]
  simp only [Fintype.sum_unique, e, e']
  rfl

end Cert.XaBwdRefIdeal.Read
end
-- ==== Proof.XaHead.lean ====
/-
  One head of the cross attention's gradient as the kernel computes it on a block of rows. The kernel cuts its four heads at
  different places of the text; all of them are the third head's lines at their own columns.
-/
module

public import proofs.«01_k».proof.Proof.Gen.XaBwdIdeal.Value
public import proofs.«01_k».proof.Proof.XaRef

@[expose] public section

set_option maxRecDepth 16384

noncomputable section

namespace Cert.XaBwdIdeal.Value

open Idealize.ShloMosaic Idealize.ShloMosaic.TcCoe Idealize.SL.Sem Cert.XaBwdIdeal Cert.XaBwdIdeal.Gen
open Cert.XaBwdRefIdeal.Read AttnRow XaRow

abbrev Blk := Vec Ideal S256x256 .f32

/-- The gradient of a head's scores, where `u` is the gradient of the head's result. -/
def ds (q k v u : Blk) : Blk :=
  k0_pay79 (F := Ideal) (k0_pay40 q k) (k0_pay41 q k) (k0_pay42 q k) (k0_pay77 v (k0_pay43 q k) u) (k0_pay78 v (k0_pay42 q k) (k0_pay45 q k) u)

theorem ds0 (x : Vec Ideal S256x1024 .f32) (w : Vec Ideal S1024x2048 .bf16) (g : Vec Ideal S1x1024 .f32) (kv : Vec Ideal S256x2048 .f32) (u : Blk) :
    k0_pay90 (F := Ideal) (k0_pay16 (k0_pay15 x w g kv)) (k0_pay17 (k0_pay15 x w g kv)) (k0_pay18 (k0_pay13 x w g kv) (k0_pay14 x w g kv))
      (k0_pay19 (k0_pay13 x w g kv) (k0_pay14 x w g kv)) (k0_pay21 (k0_pay13 x w g kv) (k0_pay14 x w g kv)) (k0_pay88 (k0_pay12 kv) u)
      = ds (k0_pay10 x w g) (k0_pay11 kv) (k0_pay12 kv) u := rfl
theorem ds1 (kv qg : Vec Ideal S256x2048 .f32) (u : Blk) :
    k0_pay85 (F := Ideal) (k0_pay28 kv qg) (k0_pay29 kv qg) (k0_pay30 kv qg) (k0_pay31 kv qg) (k0_pay82 (k0_pay25 kv) u)
      (k0_pay84 (k0_pay25 kv) (k0_pay30 kv qg) (k0_pay33 kv qg) u) (FloatOps.ofBits FTy.f32 0#32)
      = ds (k0_pay23 (F := Ideal) qg) (k0_pay24 kv) (k0_pay25 kv) u := rfl
theorem ds3 (kv qg : Vec Ideal S256x2048 .f32) (dx : Vec Ideal S256x1024 .f32) (wo : Vec Ideal S1024x1024 .bf16) :
    k0_pay72 (F := Ideal) (k0_pay52 kv qg) (k0_pay53 kv qg) (k0_pay71 dx wo qg (k0_pay49 kv) (k0_pay54 kv qg) (k0_pay55 kv qg)) (FloatOps.ofBits FTy.f32 0#32)
      = ds (k0_pay47 (F := Ideal) qg) (k0_pay48 kv) (k0_pay49 kv) (k0_pay69 dx wo qg) := rfl
theorem p0 (x : Vec Ideal S256x1024 .f32) (w : Vec Ideal S1024x2048 .bf16) (g : Vec Ideal S1x1024 .f32) (kv : Vec Ideal S256x2048 .f32) :
    k0_pay20 (F := Ideal) (k0_pay13 x w g kv) (k0_pay14 x w g kv) = k0_pay44 (k0_pay10 x w g) (k0_pay11 kv) := rfl
theorem p1 (kv qg : Vec Ideal S256x2048 .f32) : k0_pay32 (F := Ideal) kv qg = k0_pay44 (k0_pay23 qg) (k0_pay24 kv) := rfl
theorem p3 (kv qg : Vec Ideal S256x2048 .f32) : k0_pay57 (F := Ideal) (k0_pay54 kv qg) (k0_pay56 kv qg) = k0_pay44 (k0_pay47 qg) (k0_pay48 kv) := rfl

section head
/-! A block of rows of one head beside the rows `R` of the whole arrays. -/
variable {q k v u : Blk} {X Y : Vec Ideal S8192x1024 .f32} {G : Vec Ideal S1024 .f32} {K : Vec Ideal S256x2048 .f32} {W : Vec Ideal S1024x2048 .bf16}
  {U : Vec Ideal S1024x1024 .bf16} {R : Fin 256 → Fin 8192} {h : Fin 4}
  (hq : ∀ r d, q (ix2 r d) = (val_main_v18 (F := Ideal) X G W : Vec Ideal Cert.XaBwdRefIdeal.S8192x2048 .f32) (ix2 (R r) (colK h d)))
  (hk : ∀ r d, k (ix2 r d) = K (ix2 r (colK h d))) (hv : ∀ r d, v (ix2 r d) = K (ix2 r (colV h d)))
  (hu : ∀ r d, u (ix2 r d) = (val_main_v58 (F := Ideal) X Y G W U : Vec Ideal S8192x1024 .f32) (ix2 (R r) (col h d)))

include hq hk in
theorem s_at (r κ : Fin 256) : (k0_pay38 (F := Ideal) q k : Blk) (ix2 r κ) = score X G K W h (R r) κ := by
  unfold score
  pointwise [k0_pay38]
  simp only [hq, hk]

theorem fold_max2 {n0 n1 : ℕ} (x : FVec Ideal ⟨2, ![n0, n1]⟩ .f32) (h' : (⟨2, ![n0, n1]⟩ : Shape).Reduces [1] ⟨1, ![n0]⟩) (r : Fin n0) :
    (multiReduction (F := Ideal) .maximumf [1] ⟨1, ![n0]⟩ x 4286578688#32 h' (.inl rfl) rfl (ix1 r) : Ideal .f32) = rowMax fun κ => x (ix2 r κ) := by
  show reduceFold h' FloatOps.maximumf (FloatOps.ofBits .f32 4286578688#32) x (ix1 r) = _
  rw [reduceFold_eq_fold, Shape.Reduces.fold_fiber_r2_a1]
  have e : (FloatOps.ofBits .f32 4286578688#32 : Ideal .f32) = (⊥ : EReal) := by
    show Ideal.ofBits .f32 4286578688#32 = ⊥
    simp [Ideal.ofBits, Ideal.ieee]
  rw [e]
  rfl
include hq hk in
theorem mx_at (r : Fin 256) : (k0_pay39 (F := Ideal) q k : Vec Ideal S256 .f32) (ix1 r) = rowMax (score X G K W h (R r)) := by
  unfold k0_pay39
  exact (fold_max2 (n0 := 256) (n1 := 256) (k0_pay38 q k) reduces_S256x256_S256 r).trans (congrArg rowMax (funext (s_at hq hk r)))
include hq hk in
theorem e_at (r κ : Fin 256) : (k0_pay42 (F := Ideal) q k : Blk) (ix2 r κ) = rowExp (score X G K W h (R r)) κ := by
  have hs := s_at hq hk
  have hm := mx_at hq hk
  pointwise [k0_pay42]
  rw [hs, hm]
  rfl
include hq hk in
theorem z_at (r : Fin 256) : (k0_pay43 (F := Ideal) q k : Vec Ideal S256x1 .f32) (ix2 r 0) = rowSum (score X G K W h (R r)) := by
  have he := e_at hq hk
  pointwise [k0_pay43]
  simp only [he]
  rfl
include hq hk in
theorem p_at (r κ : Fin 256) : (k0_pay44 (F := Ideal) q k : Blk) (ix2 r κ) = prob (score X G K W h (R r)) κ := by
  have he := e_at hq hk
  have hz := z_at hq hk
  pointwise [k0_pay44]
  rw [he, hz]
  rfl
theorem bit_count (b : Bool) : (FloatOps.sitofp FTy.f32 (BitVec.setWidth 32 (BitVec.ofBool b)) : Ideal .f32) = FloatOps.uitofp FTy.f32 (BitVec.ofBool b) := by
  cases b <;> simp [FloatOps.sitofp, FloatOps.uitofp]
include hq hk in
theorem hit_at (r κ : Fin 256) : (k0_pay40 (F := Ideal) q k : Blk) (ix2 r κ) = hit (score X G K W h (R r)) κ := by
  have hs := s_at hq hk
  have hm := mx_at hq hk
  pointwise [k0_pay40]
  rw [hs, hm]
  exact bit_count _
include hq hk in
theorem cnt_at (r : Fin 256) : (k0_pay41 (F := Ideal) q k : Vec Ideal S256 .f32) (ix1 r) = ∑ κ, hit (score X G K W h (R r)) κ := by
  have hh := hit_at hq hk
  pointwise [k0_pay41]
  simp only [hh]
include hq hk hv in
theorem o_at (r d : Fin 256) : (k0_pay46 (F := Ideal) q k v : Blk) (ix2 r d) = ∑ κ, prob (score X G K W h (R r)) κ * K (ix2 κ (colV h d)) := by
  have hp := p_at hq hk
  pointwise [k0_pay46]
  simp only [hp, hv]
include hv hu in
theorem dp_at (r κ : Fin 256) : (k0_pay75 (F := Ideal) v u : Blk) (ix2 r κ) = dprob X Y G K W U h (R r) κ := by
  unfold dprob
  pointwise [k0_pay75]
  simp only [hv, hu]
include hq hk hv hu in
theorem ds_at (r κ : Fin 256) : ds q k v u (ix2 r κ) = outer (score X G K W h (R r)) (dprob X Y G K W U h (R r)) κ * Ideal.ofBits FTy.f32 1031798784#32 := by
  have he := e_at hq hk
  have hz := z_at hq hk
  have hc := cnt_at hq hk
  have hh := hit_at hq hk
  have hd := dp_at hv hu
  unfold ds
  pointwise [k0_pay79, k0_pay78, k0_pay77, k0_pay45]
  simp only [Fintype.sum_unique, Fin.default_eq_zero, he, hz, hc, hh, hd, zero_sub]
  rfl
end head
end Cert.XaBwdIdeal.Value
end
-- ==== Proof.XaRows.lean ====
/-
  The rows of a block of the cross attention's gradient beside the reference's: the norm, the projected queries and gate, the
  gradient of the heads' results, and the four heads put side by side.
-/
module

public import proofs.«01_k».proof.Proof.XaHead

@[expose] public section

set_option maxRecDepth 16384

noncomputable section

namespace Cert.XaBwdIdeal.Value

open Idealize.ShloMosaic Idealize.ShloMosaic.TcCoe Idealize.SL.Sem Cert.XaBwdIdeal Cert.XaBwdIdeal.Gen
open Cert.XaBwdRefIdeal.Read AttnRow XaRow

variable {x dx : Vec Ideal S256x1024 .f32} {X Y : Vec Ideal S8192x1024 .f32} {g : Vec Ideal S1x1024 .f32} {G : Vec Ideal S1024 .f32}
  {K : Vec Ideal S256x2048 .f32} {W : Vec Ideal S1024x2048 .bf16} {U : Vec Ideal S1024x1024 .bf16} {R : Fin 256 → Fin 8192}
  (hx : ∀ r l, x (ix2 r l) = X (ix2 (R r) l)) (hd : ∀ r l, dx (ix2 r l) = Y (ix2 (R r) l)) (hg : ∀ l, g (ix2 0 l) = G (ix1 l))
include hx in
theorem inv_at (r : Fin 256) : (k0_pay5 (F := Ideal) x : Vec Ideal S256x1 .f32) (ix2 r 0) = (val_main_v9 (F := Ideal) X : Vec Ideal Cert.XaBwdRefIdeal.S8192x1 .f32) (ix2 (R r) 0) := by
  pointwise [k0_pay5, k0_pay4, val_main_v9, val_main_v8, val_main_v7, val_main_v6, val_main_v5, val_main_v4, val_main_v3, val_main_v2, val_main_cst, val_main_cst_0, val_main_cst_1]
  simp only [hx]
include hx in
theorem dinv_at (r : Fin 256) : (k0_pay6 (F := Ideal) x : Vec Ideal S256x1 .f32) (ix2 r 0) = (val_main_v12 (F := Ideal) X : Vec Ideal Cert.XaBwdRefIdeal.S8192x1 .f32) (ix2 (R r) 0) := by
  pointwise [k0_pay6, k0_pay5, k0_pay4, val_main_v12, val_main_v11, val_main_v10, val_main_v9, val_main_v8, val_main_v7, val_main_v6, val_main_v5, val_main_v4, val_main_v3, val_main_v2, val_main_cst, val_main_cst_0, val_main_cst_1, val_main_cst_2]
  simp only [hx]
include hx hg in
theorem h_at (r : Fin 256) (l : Fin 1024) : (k0_pay8 (F := Ideal) x g : Vec Ideal S256x1024 .f32) (ix2 r l) = (val_main_v17 (F := Ideal) X G : Vec Ideal S8192x1024 .f32) (ix2 (R r) l) := by
  have hi := inv_at hx
  pointwise [k0_pay8, k0_pay7, k0_pay3, val_main_v17, val_main_v16, val_main_v15, val_main_v14, val_main_v13]
  simp only [hx, hg, hi]
include hx hg in
theorem qg_at (r : Fin 256) (l : Fin 2048) : (k0_pay9 (F := Ideal) x W g : Vec Ideal S256x2048 .f32) (ix2 r l) = (val_main_v18 (F := Ideal) X G W : Vec Ideal Cert.XaBwdRefIdeal.S8192x2048 .f32) (ix2 (R r) l) := by
  have hh := h_at hx hg
  pointwise [k0_pay9, val_main_v18, val_main_v0]
  simp only [hh]
include hx hg in
theorem q0_at (r d : Fin 256) : (k0_pay10 (F := Ideal) x W g : Blk) (ix2 r d) = (val_main_v18 (F := Ideal) X G W : Vec Ideal Cert.XaBwdRefIdeal.S8192x2048 .f32) (ix2 (R r) (colK 0 d)) := by
  pointwise [k0_pay10]
  exact (qg_at hx hg r _).trans (congrArg (fun j => (val_main_v18 (F := Ideal) X G W : Vec Ideal Cert.XaBwdRefIdeal.S8192x2048 .f32) (ix2 (R r) j)) (Fin.ext (by simp)))
theorem k0_at (r d : Fin 256) : (k0_pay11 (F := Ideal) K : Blk) (ix2 r d) = K (ix2 r (colK 0 d)) := by
  pointwise [k0_pay11]
  exact congrArg (fun j => K (ix2 r j)) (Fin.ext (by simp))
theorem v0_at (r d : Fin 256) : (k0_pay12 (F := Ideal) K : Blk) (ix2 r d) = K (ix2 r (colV 0 d)) := by
  pointwise [k0_pay12]
  exact congrArg (fun j => K (ix2 r j)) (Fin.ext (by simp <;> omega))
include hx hg in
theorem q1_at (r d : Fin 256) : (k0_pay23 (F := Ideal) (k0_pay9 x W g) : Blk) (ix2 r d) = (val_main_v18 (F := Ideal) X G W : Vec Ideal Cert.XaBwdRefIdeal.S8192x2048 .f32) (ix2 (R r) (colK 1 d)) := by
  pointwise [k0_pay23]
  exact (qg_at hx hg r _).trans (congrArg (fun j => (val_main_v18 (F := Ideal) X G W : Vec Ideal Cert.XaBwdRefIdeal.S8192x2048 .f32) (ix2 (R r) j)) (Fin.ext (by simp)))
theorem k1_at (r d : Fin 256) : (k0_pay24 (F := Ideal) K : Blk) (ix2 r d) = K (ix2 r (colK 1 d)) := by
  pointwise [k0_pay24]
  exact congrArg (fun j => K (ix2 r j)) (Fin.ext (by simp))
theorem v1_at (r d : Fin 256) : (k0_pay25 (F := Ideal) K : Blk) (ix2 r d) = K (ix2 r (colV 1 d)) := by
  pointwise [k0_pay25]
  exact congrArg (fun j => K (ix2 r j)) (Fin.ext (by simp <;> omega))
include hx hg in
theorem q2_at (r d : Fin 256) : (k0_pay35 (F := Ideal) (k0_pay9 x W g) : Blk) (ix2 r d) = (val_main_v18 (F := Ideal) X G W : Vec Ideal Cert.XaBwdRefIdeal.S8192x2048 .f32) (ix2 (R r) (colK 2 d)) := by
  pointwise [k0_pay35]
  exact (qg_at hx hg r _).trans (congrArg (fun j => (val_main_v18 (F := Ideal) X G W : Vec Ideal Cert.XaBwdRefIdeal.S8192x2048 .f32) (ix2 (R r) j)) (Fin.ext (by simp)))
theorem k2_at (r d : Fin 256) : (k0_pay36 (F := Ideal) K : Blk) (ix2 r d) = K (ix2 r (colK 2 d)) := by
  pointwise [k0_pay36]
  exact congrArg (fun j => K (ix2 r j)) (Fin.ext (by simp))
theorem v2_at (r d : Fin 256) : (k0_pay37 (F := Ideal) K : Blk) (ix2 r d) = K (ix2 r (colV 2 d)) := by
  pointwise [k0_pay37]
  exact congrArg (fun j => K (ix2 r j)) (Fin.ext (by simp <;> omega))
include hx hg in
theorem q3_at (r d : Fin 256) : (k0_pay47 (F := Ideal) (k0_pay9 x W g) : Blk) (ix2 r d) = (val_main_v18 (F := Ideal) X G W : Vec Ideal Cert.XaBwdRefIdeal.S8192x2048 .f32) (ix2 (R r) (colK 3 d)) := by
  pointwise [k0_pay47]
  exact (qg_at hx hg r _).trans (congrArg (fun j => (val_main_v18 (F := Ideal) X G W : Vec Ideal Cert.XaBwdRefIdeal.S8192x2048 .f32) (ix2 (R r) j)) (Fin.ext (by simp)))
theorem k3_at (r d : Fin 256) : (k0_pay48 (F := Ideal) K : Blk) (ix2 r d) = K (ix2 r (colK 3 d)) := by
  pointwise [k0_pay48]
  exact congrArg (fun j => K (ix2 r j)) (Fin.ext (by simp))
theorem v3_at (r d : Fin 256) : (k0_pay49 (F := Ideal) K : Blk) (ix2 r d) = K (ix2 r (colV 3 d)) := by
  pointwise [k0_pay49]
  exact congrArg (fun j => K (ix2 r j)) (Fin.ext (by simp <;> omega))

include hx hg in
theorem gate_at (r : Fin 256) (l : Fin 1024) : (k0_pay60 (F := Ideal) (k0_pay9 x W g) : Vec Ideal S256x1024 .f32) (ix2 r l) = (val_main_v49_2 (F := Ideal) X G W : Vec Ideal S8192x1024 .f32) (ix2 (R r) l) := by
  have hq := qg_at (W := W) hx hg
  pointwise [k0_pay60, k0_pay59, val_main_v49_2, val_main_call0_v4, val_main_call0_cst_0, val_main_call0_v3, val_main_call0_v2, val_main_call0_cst, val_main_call0_v1, val_main_call0_v0, val_main_v48]
  simp only [hq]
  rfl
include hx hg in
theorem silu_at (r : Fin 256) (l : Fin 1024) : (k0_pay61 (F := Ideal) (k0_pay9 x W g) : Vec Ideal S256x1024 .f32) (ix2 r l) = (val_main_v49_0 (F := Ideal) X G W : Vec Ideal S8192x1024 .f32) (ix2 (R r) l) := by
  have hq := qg_at (W := W) hx hg
  have hs := gate_at (W := W) hx hg
  pointwise [k0_pay61, k0_pay59, val_main_v49_0, val_main_v48]
  simp only [hq, hs]
include hd in
theorem dr_at (r : Fin 256) (l : Fin 1024) : (k0_pay63 (F := Ideal) dx U : Vec Ideal S256x1024 .f32) (ix2 r l) = (val_main_v56 (F := Ideal) Y U : Vec Ideal S8192x1024 .f32) (ix2 (R r) l) := by
  pointwise [k0_pay63, val_main_v56, val_main_v53, val_main_v1]
  simp only [hd]
include hx hd hg in
theorem do_at (r : Fin 256) (l : Fin 1024) : (k0_pay64 (F := Ideal) dx U (k0_pay9 x W g) : Vec Ideal S256x1024 .f32) (ix2 r l) = (val_main_v58 (F := Ideal) X Y G W U : Vec Ideal S8192x1024 .f32) (ix2 (R r) l) := by
  have hs := silu_at (W := W) hx hg
  have hr := dr_at (U := U) hd
  pointwise [k0_pay64, val_main_v58]
  simp only [hs, hr]
include hx hd hg in
theorem u0_at (r d : Fin 256) : (k0_pay66 (F := Ideal) dx U (k0_pay9 x W g) : Blk) (ix2 r d) = (val_main_v58 (F := Ideal) X Y G W U : Vec Ideal S8192x1024 .f32) (ix2 (R r) (col 0 d)) := by
  pointwise [k0_pay66]
  exact (do_at hx hd hg r _).trans (congrArg (fun j => (val_main_v58 (F := Ideal) X Y G W U : Vec Ideal S8192x1024 .f32) (ix2 (R r) j)) (Fin.ext (by simp)))
include hx hd hg in
theorem u1_at (r d : Fin 256) : (k0_pay67 (F := Ideal) dx U (k0_pay9 x W g) : Blk) (ix2 r d) = (val_main_v58 (F := Ideal) X Y G W U : Vec Ideal S8192x1024 .f32) (ix2 (R r) (col 1 d)) := by
  pointwise [k0_pay67]
  exact (do_at hx hd hg r _).trans (congrArg (fun j => (val_main_v58 (F := Ideal) X Y G W U : Vec Ideal S8192x1024 .f32) (ix2 (R r) j)) (Fin.ext (by simp)))
include hx hd hg in
theorem u2_at (r d : Fin 256) : (k0_pay68 (F := Ideal) dx U (k0_pay9 x W g) : Blk) (ix2 r d) = (val_main_v58 (F := Ideal) X Y G W U : Vec Ideal S8192x1024 .f32) (ix2 (R r) (col 2 d)) := by
  pointwise [k0_pay68]
  exact (do_at hx hd hg r _).trans (congrArg (fun j => (val_main_v58 (F := Ideal) X Y G W U : Vec Ideal S8192x1024 .f32) (ix2 (R r) j)) (Fin.ext (by simp)))
include hx hd hg in
theorem u3_at (r d : Fin 256) : (k0_pay69 (F := Ideal) dx U (k0_pay9 x W g) : Blk) (ix2 r d) = (val_main_v58 (F := Ideal) X Y G W U : Vec Ideal S8192x1024 .f32) (ix2 (R r) (col 3 d)) := by
  pointwise [k0_pay69]
  exact (do_at hx hd hg r _).trans (congrArg (fun j => (val_main_v58 (F := Ideal) X Y G W U : Vec Ideal S8192x1024 .f32) (ix2 (R r) j)) (Fin.ext (by simp)))
include hx hg in
theorem prob0_at (r κ : Fin 256) : (k0_pay44 (F := Ideal) (k0_pay10 x W g) (k0_pay11 K) : Blk) (ix2 r κ) = (val_main_v41 (F := Ideal) X G K W : Vec Ideal Cert.XaBwdRefIdeal.S4x8192x256 .f32) (ix3 0 (R r) κ) :=
  (p_at (q0_at hx hg) (k0_at) r κ).trans (v41_at X G K W 0 (R r) κ).symm
include hx hd hg in
theorem ds0_at (r κ : Fin 256) : ds (k0_pay10 (F := Ideal) x W g) (k0_pay11 K) (k0_pay12 K) (k0_pay66 dx U (k0_pay9 x W g)) (ix2 r κ) = (val_main_v87 (F := Ideal) X Y G K W U : Vec Ideal Cert.XaBwdRefIdeal.S4x8192x256 .f32) (ix3 0 (R r) κ) :=
  (ds_at (q0_at hx hg) k0_at v0_at (u0_at hx hd hg) r κ).trans (v87_at X Y G K W U 0 (R r) κ).symm
include hx hg in
theorem res0_at (r d : Fin 256) : (k0_pay46 (F := Ideal) (k0_pay10 x W g) (k0_pay11 K) (k0_pay12 K) : Blk) (ix2 r d) = (val_main_v47 (F := Ideal) X G K W : Vec Ideal S8192x1024 .f32) (ix2 (R r) (col 0 d)) := by
  refine (o_at (q0_at hx hg) k0_at v0_at r d).trans ?_
  pointwise [val_main_v47, val_main_v46, val_main_v45, val_main_v24, val_main_v23]
  refine Finset.sum_congr rfl fun κ _ => ?_
  rw [mul_comm, ← v41_at]
  exact congrArg₂ (· * ·) (congrArg (fun j => K (ix2 κ j)) (Fin.ext (by simp <;> omega))) (congrArg (fun j => (val_main_v41 (F := Ideal) X G K W : Vec Ideal Cert.XaBwdRefIdeal.S4x8192x256 .f32) (ix3 j (R r) κ)) (Fin.ext (by simp <;> omega)))
include hx hg in
theorem prob1_at (r κ : Fin 256) : (k0_pay44 (F := Ideal) (k0_pay23 (k0_pay9 x W g)) (k0_pay24 K) : Blk) (ix2 r κ) = (val_main_v41 (F := Ideal) X G K W : Vec Ideal Cert.XaBwdRefIdeal.S4x8192x256 .f32) (ix3 1 (R r) κ) :=
  (p_at (q1_at hx hg) (k1_at) r κ).trans (v41_at X G K W 1 (R r) κ).symm
include hx hd hg in
theorem ds1_at (r κ : Fin 256) : ds (k0_pay23 (F := Ideal) (k0_pay9 x W g)) (k0_pay24 K) (k0_pay25 K) (k0_pay67 dx U (k0_pay9 x W g)) (ix2 r κ) = (val_main_v87 (F := Ideal) X Y G K W U : Vec Ideal Cert.XaBwdRefIdeal.S4x8192x256 .f32) (ix3 1 (R r) κ) :=
  (ds_at (q1_at hx hg) k1_at v1_at (u1_at hx hd hg) r κ).trans (v87_at X Y G K W U 1 (R r) κ).symm
include hx hg in
theorem res1_at (r d : Fin 256) : (k0_pay46 (F := Ideal) (k0_pay23 (k0_pay9 x W g)) (k0_pay24 K) (k0_pay25 K) : Blk) (ix2 r d) = (val_main_v47 (F := Ideal) X G K W : Vec Ideal S8192x1024 .f32) (ix2 (R r) (col 1 d)) := by
  refine (o_at (q1_at hx hg) k1_at v1_at r d).trans ?_
  pointwise [val_main_v47, val_main_v46, val_main_v45, val_main_v24, val_main_v23]
  refine Finset.sum_congr rfl fun κ _ => ?_
  rw [mul_comm, ← v41_at]
  exact congrArg₂ (· * ·) (congrArg (fun j => K (ix2 κ j)) (Fin.ext (by simp <;> omega))) (congrArg (fun j => (val_main_v41 (F := Ideal) X G K W : Vec Ideal Cert.XaBwdRefIdeal.S4x8192x256 .f32) (ix3 j (R r) κ)) (Fin.ext (by simp <;> omega)))
include hx hg in
theorem prob2_at (r κ : Fin 256) : (k0_pay44 (F := Ideal) (k0_pay35 (k0_pay9 x W g)) (k0_pay36 K) : Blk) (ix2 r κ) = (val_main_v41 (F := Ideal) X G K W : Vec Ideal Cert.XaBwdRefIdeal.S4x8192x256 .f32) (ix3 2 (R r) κ) :=
  (p_at (q2_at hx hg) (k2_at) r κ).trans (v41_at X G K W 2 (R r) κ).symm
include hx hd hg in
theorem ds2_at (r κ : Fin 256) : ds (k0_pay35 (F := Ideal) (k0_pay9 x W g)) (k0_pay36 K) (k0_pay37 K) (k0_pay68 dx U (k0_pay9 x W g)) (ix2 r κ) = (val_main_v87 (F := Ideal) X Y G K W U : Vec Ideal Cert.XaBwdRefIdeal.S4x8192x256 .f32) (ix3 2 (R r) κ) :=
  (ds_at (q2_at hx hg) k2_at v2_at (u2_at hx hd hg) r κ).trans (v87_at X Y G K W U 2 (R r) κ).symm
include hx hg in
theorem res2_at (r d : Fin 256) : (k0_pay46 (F := Ideal) (k0_pay35 (k0_pay9 x W g)) (k0_pay36 K) (k0_pay37 K) : Blk) (ix2 r d) = (val_main_v47 (F := Ideal) X G K W : Vec Ideal S8192x1024 .f32) (ix2 (R r) (col 2 d)) := by
  refine (o_at (q2_at hx hg) k2_at v2_at r d).trans ?_
  pointwise [val_main_v47, val_main_v46, val_main_v45, val_main_v24, val_main_v23]
  refine Finset.sum_congr rfl fun κ _ => ?_
  rw [mul_comm, ← v41_at]
  exact congrArg₂ (· * ·) (congrArg (fun j => K (ix2 κ j)) (Fin.ext (by simp <;> omega))) (congrArg (fun j => (val_main_v41 (F := Ideal) X G K W : Vec Ideal Cert.XaBwdRefIdeal.S4x8192x256 .f32) (ix3 j (R r) κ)) (Fin.ext (by simp <;> omega)))
include hx hg in
theorem prob3_at (r κ : Fin 256) : (k0_pay44 (F := Ideal) (k0_pay47 (k0_pay9 x W g)) (k0_pay48 K) : Blk) (ix2 r κ) = (val_main_v41 (F := Ideal) X G K W : Vec Ideal Cert.XaBwdRefIdeal.S4x8192x256 .f32) (ix3 3 (R r) κ) :=
  (p_at (q3_at hx hg) (k3_at) r κ).trans (v41_at X G K W 3 (R r) κ).symm
include hx hd hg in
theorem ds3_at (r κ : Fin 256) : ds (k0_pay47 (F := Ideal) (k0_pay9 x W g)) (k0_pay48 K) (k0_pay49 K) (k0_pay69 dx U (k0_pay9 x W g)) (ix2 r κ) = (val_main_v87 (F := Ideal) X Y G K W U : Vec Ideal Cert.XaBwdRefIdeal.S4x8192x256 .f32) (ix3 3 (R r) κ) :=
  (ds_at (q3_at hx hg) k3_at v3_at (u3_at hx hd hg) r κ).trans (v87_at X Y G K W U 3 (R r) κ).symm
include hx hg in
theorem res3_at (r d : Fin 256) : (k0_pay46 (F := Ideal) (k0_pay47 (k0_pay9 x W g)) (k0_pay48 K) (k0_pay49 K) : Blk) (ix2 r d) = (val_main_v47 (F := Ideal) X G K W : Vec Ideal S8192x1024 .f32) (ix2 (R r) (col 3 d)) := by
  refine (o_at (q3_at hx hg) k3_at v3_at r d).trans ?_
  pointwise [val_main_v47, val_main_v46, val_main_v45, val_main_v24, val_main_v23]
  refine Finset.sum_congr rfl fun κ _ => ?_
  rw [mul_comm, ← v41_at]
  exact congrArg₂ (· * ·) (congrArg (fun j => K (ix2 κ j)) (Fin.ext (by simp <;> omega))) (congrArg (fun j => (val_main_v41 (F := Ideal) X G K W : Vec Ideal Cert.XaBwdRefIdeal.S4x8192x256 .f32) (ix3 j (R r) κ)) (Fin.ext (by simp <;> omega)))

end Cert.XaBwdIdeal.Value
end
-- ==== Proof.XaCols.lean ====
/-
  The heads of a block put side by side: the results, the gradient of the projected columns, and the block's part of the
  gradient of the keys and values. The blocks of each head are variables here.
-/
module

public import proofs.«01_k».proof.Proof.XaRows

@[expose] public section

set_option maxRecDepth 16384

noncomputable section

namespace Cert.XaBwdIdeal.Value

open Idealize.ShloMosaic Idealize.ShloMosaic.TcCoe Idealize.SL.Sem Cert.XaBwdIdeal Cert.XaBwdIdeal.Gen
open Cert.XaBwdRefIdeal.Read AttnRow XaRow

variable {x dx : Vec Ideal S256x1024 .f32} {X Y : Vec Ideal S8192x1024 .f32} {g : Vec Ideal S1x1024 .f32} {G : Vec Ideal S1024 .f32}
  {K : Vec Ideal S256x2048 .f32} {W : Vec Ideal S1024x2048 .bf16} {U : Vec Ideal S1024x1024 .bf16} {R : Fin 256 → Fin 8192}
  (hx : ∀ r l, x (ix2 r l) = X (ix2 (R r) l)) (hd : ∀ r l, dx (ix2 r l) = Y (ix2 (R r) l)) (hg : ∀ l, g (ix2 0 l) = G (ix1 l))

section results
variable {o0 o1 o2 v p z : Blk}
  (h0 : ∀ r d, o0 (ix2 r d) = (val_main_v47 (F := Ideal) X G K W : Vec Ideal S8192x1024 .f32) (ix2 (R r) (col 0 d)))
  (h1 : ∀ r d, o1 (ix2 r d) = (val_main_v47 (F := Ideal) X G K W : Vec Ideal S8192x1024 .f32) (ix2 (R r) (col 1 d)))
  (h2 : ∀ r d, o2 (ix2 r d) = (val_main_v47 (F := Ideal) X G K W : Vec Ideal S8192x1024 .f32) (ix2 (R r) (col 2 d)))
  (h3 : ∀ r d, (∑ κ, (k0_pay57 (F := Ideal) p z : Blk) (ix2 r κ) * v (ix2 κ d)) = (val_main_v47 (F := Ideal) X G K W : Vec Ideal S8192x1024 .f32) (ix2 (R r) (col 3 d)))

include h0 h1 h2 h3 in
/-- The four heads' results side by side. -/
theorem heads_at (r : Fin 256) (l : Fin 1024) : (k0_pay58 (F := Ideal) o0 o1 o2 v p z : Vec Ideal S256x1024 .f32) (ix2 r l) = (val_main_v47 (F := Ideal) X G K W : Vec Ideal S8192x1024 .f32) (ix2 (R r) l) := by
  pointwise [k0_pay58]
  simp only [h0, h1, h2, h3]
  rcases (by omega : l.val < 256 ∨ (256 ≤ l.val ∧ l.val < 512) ∨ (512 ≤ l.val ∧ l.val < 768) ∨ 768 ≤ l.val) with h | h | h | h
  all_goals
    simp (disch := omega) only [dif_pos, dif_neg]
    exact congrArg (fun j => (val_main_v47 (F := Ideal) X G K W : Vec Ideal S8192x1024 .f32) (ix2 (R r) j)) (Fin.ext (by simp <;> omega))

include hx hg h0 h1 h2 h3 in
theorem gated_at (r : Fin 256) (l : Fin 1024) : (k0_pay62 (F := Ideal) (k0_pay9 x W g) o0 o1 o2 v p z : Vec Ideal S256x1024 .f32) (ix2 r l) = (val_main_v50 (F := Ideal) X G K W : Vec Ideal S8192x1024 .f32) (ix2 (R r) l) := by
  have hh := heads_at h0 h1 h2 h3
  have hs := silu_at (W := W) hx hg
  pointwise [k0_pay62, val_main_v50]
  simp only [hh, hs]

include hx hd hg h0 h1 h2 h3 in
/-- The gradient of the gate, beside zeros in the queries' columns. -/
theorem tap_at (r : Fin 256) (l : Fin 2048) : (k0_pay65 (F := Ideal) dx U (k0_pay9 x W g) o0 o1 o2 v p z : Vec Ideal S256x2048 .f32) (ix2 r l) = (val_main_v60 (F := Ideal) X Y G K W U : Vec Ideal Cert.XaBwdRefIdeal.S8192x2048 .f32) (ix2 (R r) l) := by
  have hh := heads_at h0 h1 h2 h3
  have hs := gate_at (W := W) hx hg
  have hq := qg_at (W := W) hx hg
  have hr := dr_at (U := U) hd
  pointwise [k0_pay65, k0_pay59, val_main_v60, val_main_v59, val_main_call1_v2, val_main_call1_v1, val_main_call1_v0, val_main_v57, val_main_v49_1, val_main_v48, val_main_call0_v7, val_main_call0_v6, val_main_call0_cst_1, val_main_cst_8]
  simp only [hh, hs, hq, hr]
  by_cases h : l.val < 1024
  all_goals simp (disch := omega) only [dif_pos, dif_neg]
end results

section columns
variable {D0 D1 D2 D3 k0 k1 k2 k3 a1 a3 b1 b3 b4 c1 c3 c5 e1 e3 e6 : Blk} {T : Vec Ideal S256x2048 .f32} {a2 b2 c2 e2 : Vec Ideal S256 .f32}
  {b5 c4 c6 e4 e5 : Vec Ideal S256x1 .f32} {w w' : Ideal .f32}
  (s3 : k0_pay72 (F := Ideal) a1 a2 a3 w = D3) (s2 : k0_pay79 (F := Ideal) b1 b2 b3 b4 b5 = D2) (s1 : k0_pay85 (F := Ideal) c1 c2 c3 c4 c5 c6 w' = D1)
  (s0 : k0_pay90 (F := Ideal) e1 e2 e3 e4 e5 e6 = D0)
  (hT : ∀ r l, T (ix2 r l) = (val_main_v60 (F := Ideal) X Y G K W U : Vec Ideal Cert.XaBwdRefIdeal.S8192x2048 .f32) (ix2 (R r) l))
  (d0 : ∀ r κ, D0 (ix2 r κ) = (val_main_v87 (F := Ideal) X Y G K W U : Vec Ideal Cert.XaBwdRefIdeal.S4x8192x256 .f32) (ix3 0 (R r) κ))
  (d1 : ∀ r κ, D1 (ix2 r κ) = (val_main_v87 (F := Ideal) X Y G K W U : Vec Ideal Cert.XaBwdRefIdeal.S4x8192x256 .f32) (ix3 1 (R r) κ))
  (d2 : ∀ r κ, D2 (ix2 r κ) = (val_main_v87 (F := Ideal) X Y G K W U : Vec Ideal Cert.XaBwdRefIdeal.S4x8192x256 .f32) (ix3 2 (R r) κ))
  (d3 : ∀ r κ, D3 (ix2 r κ) = (val_main_v87 (F := Ideal) X Y G K W U : Vec Ideal Cert.XaBwdRefIdeal.S4x8192x256 .f32) (ix3 3 (R r) κ))
  (g0 : ∀ κ d, k0 (ix2 κ d) = K (ix2 κ (colK 0 d)))
  (g1 : ∀ κ d, k1 (ix2 κ d) = K (ix2 κ (colK 1 d)))
  (g2 : ∀ κ d, k2 (ix2 κ d) = K (ix2 κ (colK 2 d)))
  (g3 : ∀ κ d, k3 (ix2 κ d) = K (ix2 κ (colK 3 d)))

include s0 s1 s2 s3 hT d0 d1 d2 d3 g0 g1 g2 g3 in
/-- The gradient of the projected columns. -/
theorem cols_at (r : Fin 256) (l : Fin 2048) : (k0_pay92 (F := Ideal) k0 e1 e2 e3 e4 e5 (k0_pay87 k1 c1 c2 c3 c4 (k0_pay81 k2 b1 b2 b3 (k0_pay74 k3 a1 a2 T a3 w) b4 b5) c5 c6 w') e6 : Vec Ideal S256x2048 .f32) (ix2 r l)
    = (val_main_v99 (F := Ideal) X Y G K W U : Vec Ideal Cert.XaBwdRefIdeal.S8192x2048 .f32) (ix2 (R r) l) := by
  pointwise [k0_pay92, k0_pay87, k0_pay81, k0_pay74, val_main_v99, val_main_v98, val_main_v97, val_main_v91, val_main_v90, val_main_v22, val_main_v21, val_main_cst_16]
  simp only [s0, s1, s2, s3, hT, d0, d1, d2, d3, g0, g1, g2, g3]
  rcases (by omega : l.val < 256 ∨ (256 ≤ l.val ∧ l.val < 512) ∨ (512 ≤ l.val ∧ l.val < 768) ∨ (768 ≤ l.val ∧ l.val < 1024) ∨ 1024 ≤ l.val) with h | h | h | h | h
  all_goals
    simp (disch := omega) only [dif_pos, dif_neg, add_zero]
  all_goals
    refine congrArg (_ + ·) (Finset.sum_congr rfl fun κ _ => ?_)
    exact congrArg₂ (· * ·) (congrArg (fun j => (val_main_v87 (F := Ideal) X Y G K W U : Vec Ideal Cert.XaBwdRefIdeal.S4x8192x256 .f32) (ix3 j (R r) κ)) (Fin.ext (by simp <;> omega))) (congrArg (fun j => K (ix2 κ j)) (Fin.ext (by simp <;> omega)))

variable {q0 q1 q2 q3 y0 y1 y2 y3 : Blk}
  (m0 : ∀ r d, q0 (ix2 r d) = (val_main_v18 (F := Ideal) X G W : Vec Ideal Cert.XaBwdRefIdeal.S8192x2048 .f32) (ix2 (R r) (colK 0 d)))
  (m1 : ∀ r d, q1 (ix2 r d) = (val_main_v18 (F := Ideal) X G W : Vec Ideal Cert.XaBwdRefIdeal.S8192x2048 .f32) (ix2 (R r) (colK 1 d)))
  (m2 : ∀ r d, q2 (ix2 r d) = (val_main_v18 (F := Ideal) X G W : Vec Ideal Cert.XaBwdRefIdeal.S8192x2048 .f32) (ix2 (R r) (colK 2 d)))
  (m3 : ∀ r d, q3 (ix2 r d) = (val_main_v18 (F := Ideal) X G W : Vec Ideal Cert.XaBwdRefIdeal.S8192x2048 .f32) (ix2 (R r) (colK 3 d)))
  (n0 : ∀ κ d, y0 (ix2 κ d) = ∑ r, (val_main_v41 (F := Ideal) X G K W : Vec Ideal Cert.XaBwdRefIdeal.S4x8192x256 .f32) (ix3 0 (R r) κ) * (val_main_v58 (F := Ideal) X Y G W U : Vec Ideal S8192x1024 .f32) (ix2 (R r) (col 0 d)))
  (n1 : ∀ κ d, y1 (ix2 κ d) = ∑ r, (val_main_v41 (F := Ideal) X G K W : Vec Ideal Cert.XaBwdRefIdeal.S4x8192x256 .f32) (ix3 1 (R r) κ) * (val_main_v58 (F := Ideal) X Y G W U : Vec Ideal S8192x1024 .f32) (ix2 (R r) (col 1 d)))
  (n2 : ∀ κ d, y2 (ix2 κ d) = ∑ r, (val_main_v41 (F := Ideal) X G K W : Vec Ideal Cert.XaBwdRefIdeal.S4x8192x256 .f32) (ix3 2 (R r) κ) * (val_main_v58 (F := Ideal) X Y G W U : Vec Ideal S8192x1024 .f32) (ix2 (R r) (col 2 d)))
  (n3 : ∀ κ d, y3 (ix2 κ d) = ∑ r, (val_main_v41 (F := Ideal) X G K W : Vec Ideal Cert.XaBwdRefIdeal.S4x8192x256 .f32) (ix3 3 (R r) κ) * (val_main_v58 (F := Ideal) X Y G W U : Vec Ideal S8192x1024 .f32) (ix2 (R r) (col 3 d)))

/-- What the rows `R` add to the gradient of the keys (first 1024 columns) and values. -/
def keyPart (X Y : Vec Ideal S8192x1024 .f32) (G : Vec Ideal S1024 .f32) (K : Vec Ideal S256x2048 .f32) (W : Vec Ideal S1024x2048 .bf16) (U : Vec Ideal S1024x1024 .bf16)
    (R : Fin 256 → Fin 8192) (κ : Fin 256) (l : Fin 2048) : EReal :=
  if h : l.val < 1024 then ∑ r, (val_main_v87 (F := Ideal) X Y G K W U : Vec Ideal Cert.XaBwdRefIdeal.S4x8192x256 .f32) (ix3 ⟨l.val / 256, by omega⟩ (R r) κ) * (val_main_v18 (F := Ideal) X G W : Vec Ideal Cert.XaBwdRefIdeal.S8192x2048 .f32) (ix2 (R r) l)
  else ∑ r, (val_main_v41 (F := Ideal) X G K W : Vec Ideal Cert.XaBwdRefIdeal.S4x8192x256 .f32) (ix3 ⟨(l.val - 1024) / 256, by omega⟩ (R r) κ) * (val_main_v58 (F := Ideal) X Y G W U : Vec Ideal S8192x1024 .f32) (ix2 (R r) ⟨l.val - 1024, by omega⟩)

include s0 s1 s2 s3 d0 d1 d2 d3 m0 m1 m2 m3 n0 n1 n2 n3 in
theorem keys_at (κ : Fin 256) (l : Fin 2048) : (k0_pay91 (F := Ideal) q0 e1 e2 e3 e4 e5 (k0_pay86 q1 c1 c2 c3 c4 (k0_pay80 q2 b1 b2 b3 (k0_pay73 q3 a1 a2 y3 a3 w) y2 b4 b5) c5 y1 c6 w') e6 y0 : Vec Ideal S256x2048 .f32) (ix2 κ l)
    = keyPart X Y G K W U R κ l := by
  pointwise [k0_pay91, k0_pay86, k0_pay80, k0_pay73]
  simp only [s0, s1, s2, s3, d0, d1, d2, d3, m0, m1, m2, m3, n0, n1, n2, n3]
  unfold keyPart
  rcases (by omega : l.val < 256 ∨ (256 ≤ l.val ∧ l.val < 512) ∨ (512 ≤ l.val ∧ l.val < 768) ∨ (768 ≤ l.val ∧ l.val < 1024)
    ∨ (1024 ≤ l.val ∧ l.val < 1280) ∨ (1280 ≤ l.val ∧ l.val < 1536) ∨ (1536 ≤ l.val ∧ l.val < 1792) ∨ 1792 ≤ l.val) with h | h | h | h | h | h | h | h
  all_goals
    simp (disch := omega) only [dif_pos, dif_neg, add_zero, zero_add]
    refine Finset.sum_congr rfl fun r _ => ?_
  iterate 4
    exact congrArg₂ (· * ·) (congrArg (fun j => (val_main_v87 (F := Ideal) X Y G K W U : Vec Ideal Cert.XaBwdRefIdeal.S4x8192x256 .f32) (ix3 j (R r) κ)) (Fin.ext (by simp <;> omega))) (congrArg (fun j => (val_main_v18 (F := Ideal) X G W : Vec Ideal Cert.XaBwdRefIdeal.S8192x2048 .f32) (ix2 (R r) j)) (Fin.ext (by simp <;> omega)))
  iterate 4
    exact congrArg₂ (· * ·) (congrArg (fun j => (val_main_v41 (F := Ideal) X G K W : Vec Ideal Cert.XaBwdRefIdeal.S4x8192x256 .f32) (ix3 j (R r) κ)) (Fin.ext (by simp <;> omega))) (congrArg (fun j => (val_main_v58 (F := Ideal) X Y G W U : Vec Ideal S8192x1024 .f32) (ix2 (R r) j)) (Fin.ext (by simp <;> omega)))
end columns

section values
variable {p u : Blk} {h : Fin 4} (hp : ∀ r κ, p (ix2 r κ) = (val_main_v41 (F := Ideal) X G K W : Vec Ideal Cert.XaBwdRefIdeal.S4x8192x256 .f32) (ix3 h (R r) κ)) (hu : ∀ r d, u (ix2 r d) = (val_main_v58 (F := Ideal) X Y G W U : Vec Ideal S8192x1024 .f32) (ix2 (R r) (col h d)))
include hp hu in
theorem dv_at (κ d : Fin 256) : (k0_pay89 (F := Ideal) p u : Blk) (ix2 κ d) = ∑ r, (val_main_v41 (F := Ideal) X G K W : Vec Ideal Cert.XaBwdRefIdeal.S4x8192x256 .f32) (ix3 h (R r) κ) * (val_main_v58 (F := Ideal) X Y G W U : Vec Ideal S8192x1024 .f32) (ix2 (R r) (col h d)) := by
  pointwise [k0_pay89]
  simp only [hp, hu]
theorem dv1 : k0_pay83 (F := Ideal) p u = k0_pay89 p u := rfl
theorem dv2 : k0_pay76 (F := Ideal) p u = k0_pay89 p u := rfl
theorem dv3 (b z : Blk) (qg : Vec Ideal S256x2048 .f32) : k0_pay70 (F := Ideal) dx U qg b z = k0_pay89 (k0_pay57 b z) (k0_pay69 dx U qg) := rfl
end values
end Cert.XaBwdIdeal.Value
end
-- ==== Proof.XaBlock.lean ====
/-
  A block's own terms of the cross attention's gradient as one function of its operands each, beside the reference's rows.
-/
module

public import proofs.«01_k».proof.Proof.XaCols

@[expose] public section

set_option maxRecDepth 16384

noncomputable section

namespace Cert.XaBwdIdeal.Value

open Idealize.ShloMosaic Idealize.ShloMosaic.TcCoe Idealize.SL.Sem Cert.XaBwdIdeal Cert.XaBwdIdeal.Gen
open Cert.XaBwdRefIdeal.Read AttnRow XaRow

section terms
variable (x dx : Vec Ideal S256x1024 .f32) (g : Vec Ideal S1x1024 .f32) (K : Vec Ideal S256x2048 .f32) (W : Vec Ideal S1024x2048 .bf16) (U : Vec Ideal S1024x1024 .bf16)
/-- The gated results of the heads. -/
def gated : Vec Ideal S256x1024 .f32 := k0_pay62 (F := Ideal) (k0_pay9 x W g) (k0_pay22 (k0_pay12 K) (k0_pay13 x W g K) (k0_pay14 x W g K)) (k0_pay34 K (k0_pay9 x W g)) (k0_pay46 (k0_pay35 (k0_pay9 x W g)) (k0_pay36 K) (k0_pay37 K)) (k0_pay49 K) (k0_pay54 K (k0_pay9 x W g)) (k0_pay56 K (k0_pay9 x W g))
/-- The gate's columns of the gradient of the projected columns. -/
def tap : Vec Ideal S256x2048 .f32 := k0_pay65 (F := Ideal) dx U (k0_pay9 x W g) (k0_pay22 (k0_pay12 K) (k0_pay13 x W g K) (k0_pay14 x W g K)) (k0_pay34 K (k0_pay9 x W g)) (k0_pay46 (k0_pay35 (k0_pay9 x W g)) (k0_pay36 K) (k0_pay37 K)) (k0_pay49 K) (k0_pay54 K (k0_pay9 x W g)) (k0_pay56 K (k0_pay9 x W g))
/-- The gate's and the last three heads' columns. -/
def later : Vec Ideal S256x2048 .f32 := k0_pay87 (F := Ideal) (k0_pay24 K) (k0_pay28 K (k0_pay9 x W g)) (k0_pay29 K (k0_pay9 x W g)) (k0_pay30 K (k0_pay9 x W g)) (k0_pay31 K (k0_pay9 x W g))
    (k0_pay81 (k0_pay36 K) (k0_pay40 (k0_pay35 (k0_pay9 x W g)) (k0_pay36 K)) (k0_pay41 (k0_pay35 (k0_pay9 x W g)) (k0_pay36 K)) (k0_pay42 (k0_pay35 (k0_pay9 x W g)) (k0_pay36 K))
      (k0_pay74 (k0_pay48 K) (k0_pay52 K (k0_pay9 x W g)) (k0_pay53 K (k0_pay9 x W g)) (tap x dx g K W U)
      (k0_pay71 dx U (k0_pay9 x W g) (k0_pay49 K) (k0_pay54 K (k0_pay9 x W g)) (k0_pay55 K (k0_pay9 x W g))) (FloatOps.ofBits FTy.f32 0#32))
      (k0_pay77 (k0_pay37 K) (k0_pay43 (k0_pay35 (k0_pay9 x W g)) (k0_pay36 K)) (k0_pay68 dx U (k0_pay9 x W g))) (k0_pay78 (k0_pay37 K) (k0_pay42 (k0_pay35 (k0_pay9 x W g)) (k0_pay36 K)) (k0_pay45 (k0_pay35 (k0_pay9 x W g)) (k0_pay36 K)) (k0_pay68 dx U (k0_pay9 x W g))))
    (k0_pay82 (k0_pay25 K) (k0_pay67 dx U (k0_pay9 x W g))) (k0_pay84 (k0_pay25 K) (k0_pay30 K (k0_pay9 x W g)) (k0_pay33 K (k0_pay9 x W g)) (k0_pay67 dx U (k0_pay9 x W g))) (FloatOps.ofBits FTy.f32 0#32)
/-- The gradient of the projected columns. -/
def cols : Vec Ideal S256x2048 .f32 := k0_pay92 (F := Ideal) (k0_pay11 K) (k0_pay16 (k0_pay15 x W g K)) (k0_pay17 (k0_pay15 x W g K)) (k0_pay18 (k0_pay13 x W g K) (k0_pay14 x W g K))
    (k0_pay19 (k0_pay13 x W g K) (k0_pay14 x W g K)) (k0_pay21 (k0_pay13 x W g K) (k0_pay14 x W g K))
    (later x dx g K W U) (k0_pay88 (k0_pay12 K) (k0_pay66 dx U (k0_pay9 x W g)))
/-- The gradient of the normalised rows. -/
def back : Vec Ideal S256x1024 .f32 := k0_pay93 (F := Ideal) W (k0_pay11 K) (k0_pay16 (k0_pay15 x W g K)) (k0_pay17 (k0_pay15 x W g K)) (k0_pay18 (k0_pay13 x W g K) (k0_pay14 x W g K))
    (k0_pay19 (k0_pay13 x W g K) (k0_pay14 x W g K)) (k0_pay21 (k0_pay13 x W g K) (k0_pay14 x W g K))
    (later x dx g K W U) (k0_pay88 (k0_pay12 K) (k0_pay66 dx U (k0_pay9 x W g)))
/-- Its products with the rows before the gain. -/
def gains : Vec Ideal S256x1024 .f32 := k0_pay94 (F := Ideal) W (k0_pay7 x) (k0_pay11 K) (k0_pay16 (k0_pay15 x W g K)) (k0_pay17 (k0_pay15 x W g K)) (k0_pay18 (k0_pay13 x W g K) (k0_pay14 x W g K))
    (k0_pay19 (k0_pay13 x W g K) (k0_pay14 x W g K)) (k0_pay21 (k0_pay13 x W g K) (k0_pay14 x W g K))
    (later x dx g K W U) (k0_pay88 (k0_pay12 K) (k0_pay66 dx U (k0_pay9 x W g)))
/-- The block's part of the gradient of the keys and values. -/
def keys : Vec Ideal S256x2048 .f32 := k0_pay91 (F := Ideal) (k0_pay10 x W g) (k0_pay16 (k0_pay15 x W g K)) (k0_pay17 (k0_pay15 x W g K)) (k0_pay18 (k0_pay13 x W g K) (k0_pay14 x W g K))
    (k0_pay19 (k0_pay13 x W g K) (k0_pay14 x W g K)) (k0_pay21 (k0_pay13 x W g K) (k0_pay14 x W g K))
    (k0_pay86 (k0_pay23 (k0_pay9 x W g)) (k0_pay28 K (k0_pay9 x W g)) (k0_pay29 K (k0_pay9 x W g)) (k0_pay30 K (k0_pay9 x W g)) (k0_pay31 K (k0_pay9 x W g))
    (k0_pay80 (k0_pay35 (k0_pay9 x W g)) (k0_pay40 (k0_pay35 (k0_pay9 x W g)) (k0_pay36 K)) (k0_pay41 (k0_pay35 (k0_pay9 x W g)) (k0_pay36 K)) (k0_pay42 (k0_pay35 (k0_pay9 x W g)) (k0_pay36 K))
      (k0_pay73 (k0_pay47 (k0_pay9 x W g)) (k0_pay52 K (k0_pay9 x W g)) (k0_pay53 K (k0_pay9 x W g)) (k0_pay70 dx U (k0_pay9 x W g) (k0_pay54 K (k0_pay9 x W g)) (k0_pay56 K (k0_pay9 x W g)))
      (k0_pay71 dx U (k0_pay9 x W g) (k0_pay49 K) (k0_pay54 K (k0_pay9 x W g)) (k0_pay55 K (k0_pay9 x W g))) (FloatOps.ofBits FTy.f32 0#32))
      (k0_pay76 (k0_pay44 (k0_pay35 (k0_pay9 x W g)) (k0_pay36 K)) (k0_pay68 dx U (k0_pay9 x W g))) (k0_pay77 (k0_pay37 K) (k0_pay43 (k0_pay35 (k0_pay9 x W g)) (k0_pay36 K)) (k0_pay68 dx U (k0_pay9 x W g)))
      (k0_pay78 (k0_pay37 K) (k0_pay42 (k0_pay35 (k0_pay9 x W g)) (k0_pay36 K)) (k0_pay45 (k0_pay35 (k0_pay9 x W g)) (k0_pay36 K)) (k0_pay68 dx U (k0_pay9 x W g))))
    (k0_pay82 (k0_pay25 K) (k0_pay67 dx U (k0_pay9 x W g))) (k0_pay83 (k0_pay32 K (k0_pay9 x W g)) (k0_pay67 dx U (k0_pay9 x W g)))
    (k0_pay84 (k0_pay25 K) (k0_pay30 K (k0_pay9 x W g)) (k0_pay33 K (k0_pay9 x W g)) (k0_pay67 dx U (k0_pay9 x W g))) (FloatOps.ofBits FTy.f32 0#32))
    (k0_pay88 (k0_pay12 K) (k0_pay66 dx U (k0_pay9 x W g))) (k0_pay89 (k0_pay20 (k0_pay13 x W g K) (k0_pay14 x W g K)) (k0_pay66 dx U (k0_pay9 x W g)))
end terms

variable {x dx : Vec Ideal S256x1024 .f32} {X Y : Vec Ideal S8192x1024 .f32} {g : Vec Ideal S1x1024 .f32} {G : Vec Ideal S1024 .f32}
  {K : Vec Ideal S256x2048 .f32} {W : Vec Ideal S1024x2048 .bf16} {U : Vec Ideal S1024x1024 .bf16} {R : Fin 256 → Fin 8192}
  (hx : ∀ r l, x (ix2 r l) = X (ix2 (R r) l)) (hd : ∀ r l, dx (ix2 r l) = Y (ix2 (R r) l)) (hg : ∀ l, g (ix2 0 l) = G (ix1 l))

theorem mix (q k v : Blk) (r d : Fin 256) : (k0_pay46 (F := Ideal) q k v : Blk) (ix2 r d) = ∑ κ, (k0_pay44 (F := Ideal) q k : Blk) (ix2 r κ) * v (ix2 κ d) := by
  pointwise [k0_pay46]
include hx hg in
theorem res3' (r d : Fin 256) : (∑ κ, (k0_pay57 (F := Ideal) (k0_pay54 K (k0_pay9 x W g)) (k0_pay56 K (k0_pay9 x W g)) : Blk) (ix2 r κ) * (k0_pay49 (F := Ideal) K : Blk) (ix2 κ d))
    = (val_main_v47 (F := Ideal) X G K W : Vec Ideal S8192x1024 .f32) (ix2 (R r) (col 3 d)) := by
  rw [p3]
  exact (mix _ _ _ r d).symm.trans (res3_at hx hg r d)
include hx hg in
theorem gatedR (r : Fin 256) (l : Fin 1024) : gated x g K W (ix2 r l) = (val_main_v50 (F := Ideal) X G K W : Vec Ideal S8192x1024 .f32) (ix2 (R r) l) :=
  gated_at hx hg (res0_at hx hg) (res1_at hx hg) (res2_at hx hg) (res3' hx hg) r l
include hx hd hg in
theorem tapR (r : Fin 256) (l : Fin 2048) : tap x dx g K W U (ix2 r l) = (val_main_v60 (F := Ideal) X Y G K W U : Vec Ideal Cert.XaBwdRefIdeal.S8192x2048 .f32) (ix2 (R r) l) :=
  tap_at hx hd hg (res0_at hx hg) (res1_at hx hg) (res2_at hx hg) (res3' hx hg) r l
include hx hd hg in
theorem colsR (r : Fin 256) (l : Fin 2048) : cols x dx g K W U (ix2 r l) = (val_main_v99 (F := Ideal) X Y G K W U : Vec Ideal Cert.XaBwdRefIdeal.S8192x2048 .f32) (ix2 (R r) l) :=
  cols_at (ds3 K (k0_pay9 x W g) dx U) rfl (ds1 K (k0_pay9 x W g) _) (ds0 x W g K _) (tapR hx hd hg) (ds0_at hx hd hg) (ds1_at hx hd hg) (ds2_at hx hd hg) (ds3_at hx hd hg)
    k0_at k1_at k2_at k3_at r l
include hx hd hg in
theorem keysR (κ : Fin 256) (l : Fin 2048) : keys x dx g K W U (ix2 κ l) = keyPart X Y G K W U R κ l :=
  keys_at (ds3 K (k0_pay9 x W g) dx U) rfl (ds1 K (k0_pay9 x W g) _) (ds0 x W g K _) (ds0_at hx hd hg) (ds1_at hx hd hg) (ds2_at hx hd hg) (ds3_at hx hd hg)
    (q0_at hx hg) (q1_at hx hg) (q2_at hx hg) (q3_at hx hg) (dv_at (prob0_at hx hg) (u0_at hx hd hg)) (dv_at (prob1_at hx hg) (u1_at hx hd hg))
    (dv_at (prob2_at hx hg) (u2_at hx hd hg)) (dv_at (prob3_at hx hg) (u3_at hx hd hg)) κ l

section norm
variable {k d e : Blk} {b : Vec Ideal S256 .f32} {f f' : Vec Ideal S256x1 .f32} {T : Vec Ideal S256x2048 .f32} {e' : Blk}
  (hc : ∀ r l, (k0_pay92 (F := Ideal) k d b e f f' T e' : Vec Ideal S256x2048 .f32) (ix2 r l) = (val_main_v99 (F := Ideal) X Y G K W U : Vec Ideal Cert.XaBwdRefIdeal.S8192x2048 .f32) (ix2 (R r) l))
include hc in
theorem back_at (r : Fin 256) (l : Fin 1024) : (k0_pay93 (F := Ideal) W k d b e f f' T e' : Vec Ideal S256x1024 .f32) (ix2 r l)
    = (val_main_v102 (F := Ideal) X Y G K W U : Vec Ideal S8192x1024 .f32) (ix2 (R r) l) := by
  pointwise [k0_pay93, val_main_v102, val_main_v0]
  simp only [hc]
include hx hc in
theorem gains_at (r : Fin 256) (l : Fin 1024) : (k0_pay94 (F := Ideal) W (k0_pay7 x) k d b e f f' T e' : Vec Ideal S256x1024 .f32) (ix2 r l)
    = (val_main_v103 (F := Ideal) X Y G K W U : Vec Ideal S8192x1024 .f32) (ix2 (R r) l) := by
  have hb := back_at hc
  have hi := inv_at hx
  pointwise [k0_pay94, k0_pay7, val_main_v103, val_main_v14, val_main_v13]
  simp only [hb, hx, hi]
end norm
include hx hd hg in
theorem backR (r : Fin 256) (l : Fin 1024) : back x dx g K W U (ix2 r l) = (val_main_v102 (F := Ideal) X Y G K W U : Vec Ideal S8192x1024 .f32) (ix2 (R r) l) :=
  back_at (colsR hx hd hg) r l
include hx hd hg in
theorem gainsR (r : Fin 256) (l : Fin 1024) : gains x dx g K W U (ix2 r l) = (val_main_v103 (F := Ideal) X Y G K W U : Vec Ideal S8192x1024 .f32) (ix2 (R r) l) :=
  gains_at hx (colsR hx hd hg) r l

section input
variable {D : Vec Ideal S256x1024 .f32} (hD : ∀ r l, D (ix2 r l) = (val_main_v102 (F := Ideal) X Y G K W U : Vec Ideal S8192x1024 .f32) (ix2 (R r) l))
include hx hd hg hD in
/-- The input's gradient: the part through the norm and what the residual carried. -/
theorem dx_at (r : Fin 256) (l : Fin 1024) : (k0_pay95 (F := Ideal) x dx (k0_pay3 g) (k0_pay5 x) (k0_pay6 x) D : Vec Ideal S256x1024 .f32) (ix2 r l)
    = (val_main_v123 (F := Ideal) X Y G K W U : Vec Ideal S8192x1024 .f32) (ix2 (R r) l) := by
  have hi := inv_at hx
  have hv := dinv_at hx
  pointwise [k0_pay95, k0_pay3, val_main_v123, val_main_v122, val_main_v121, val_main_v120, val_main_v119, val_main_v118, val_main_v117, val_main_v116, val_main_v115,
    val_main_v114, val_main_v113, val_main_v112, val_main_v111, val_main_v110, val_main_v109, val_main_v107, val_main_v106, val_main_v15, val_main_cst_19, val_main_cst_20, val_main_cst_21]
  simp only [Fintype.sum_unique, Fin.default_eq_zero, hx, hD, hg, hi, hv, hd]
  rw [add_comm]
  simp only [add_assoc]
end input

theorem norm_at (D : Vec Ideal S256x1024 .f32) (a : Vec Ideal S1x1024 .f32) (i : S1x1024.Idx) :
    (k0_pay102 (F := Ideal) D a : Vec Ideal S1x1024 .f32) i = a i + ∑ r, D (ix2 r (i 1)) := by
  rw [eq_ix2 i]
  pointwise [k0_pay102]
theorem norm0_at (i : S1x1024.Idx) : (k0_pay98 (F := Ideal) : Vec Ideal S1x1024 .f32) i = (0 : EReal) := by
  rw [eq_ix2 i]
  pointwise [k0_pay98]
theorem add_at (D a : Vec Ideal S256x2048 .f32) (i : S256x2048.Idx) : (k0_pay103 (F := Ideal) D a : Vec Ideal S256x2048 .f32) i = a i + D i := by
  rw [eq_ix2 i]
  pointwise [k0_pay103]
theorem add0_at (i : S256x2048.Idx) : (k0_pay99 (F := Ideal) : Vec Ideal S256x2048 .f32) i = (0 : EReal) := by
  rw [eq_ix2 i]
  pointwise [k0_pay99]
theorem wqg_at (H : Vec Ideal S256x1024 .f32) (D : Vec Ideal S256x2048 .f32) (a : Vec Ideal S1024x2048 .f32) (i : S1024x2048.Idx) :
    (k0_pay1 (F := Ideal) (k0_pay96 H D) a : Vec Ideal S1024x2048 .f32) i = a i + ∑ r, H (ix2 r (i 0)) * D (ix2 r (i 1)) := by
  rw [eq_ix2 i]
  pointwise [k0_pay1, k0_pay96]
theorem wqg0_at (i : S1024x2048.Idx) : (k0_pay100 (F := Ideal) : Vec Ideal S1024x2048 .f32) i = (0 : EReal) := by
  rw [eq_ix2 i]
  pointwise [k0_pay100]
theorem wo_at (D H : Vec Ideal S256x1024 .f32) (a : Vec Ideal S1024x1024 .f32) (i : S1024x1024.Idx) :
    (k0_pay2 (F := Ideal) (k0_pay97 D H) a : Vec Ideal S1024x1024 .f32) i = a i + ∑ r, H (ix2 r (i 0)) * D (ix2 r (i 1)) := by
  rw [eq_ix2 i]
  pointwise [k0_pay2, k0_pay97]
theorem wo0_at (i : S1024x1024.Idx) : (k0_pay101 (F := Ideal) : Vec Ideal S1024x1024 .f32) i = (0 : EReal) := by
  rw [eq_ix2 i]
  pointwise [k0_pay101]
end Cert.XaBwdIdeal.Value
end
-- ==== Proof.XaBwdKernel.lean ====
/-
  The cross attention's gradient against its reference. Each point of the kernel's grid holds 256 rows: it leaves their rows of
  the input's gradient, and adds their parts of the gradients of the norm, of the keys and values, and of the two weights.
-/
module

public import proofs.«01_k».proof.Proof.XaBlock
public import Idealize.ShloMosaic.Lib.Pipeline.ValueKit
public import Idealize.ShloMosaic.Lib.StableHlo.ReadAt

@[expose] public section

set_option maxRecDepth 16384

noncomputable section

namespace Cert.XaBwdIdeal.Value

open Idealize.ShloMosaic Idealize.ShloMosaic.TcCoe Idealize.SL.Sem Cert.XaBwdIdeal Cert.XaBwdIdeal.Gen
open Cert.XaBwdRefIdeal.Read

variable (m : (ℓ : Loc nD τ sig) → Buf (Elt Ideal) ℓ) (c : Dev nD)

abbrev a0 : Vec Ideal S8192x1024 .f32 := m ((c : Thread nD τ).loc main_arg0)
abbrev a1 : Vec Ideal S8192x1024 .f32 := m ((c : Thread nD τ).loc main_arg1)
abbrev a2 : Vec Ideal S1024 .f32 := m ((c : Thread nD τ).loc main_arg2)
abbrev a3 : Vec Ideal S256x2048 .f32 := m ((c : Thread nD τ).loc main_arg3)
abbrev a4 : Vec Ideal S1024x2048 .bf16 := m ((c : Thread nD τ).loc main_arg4)
abbrev a5 : Vec Ideal S1024x1024 .bf16 := m ((c : Thread nD τ).loc main_arg5)

theorem idx : ∀ t : Fin cfg0.N, (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0)
    ∧ (win0_6.index t 0 = t.val ∧ win0_6.index t 1 = 0) :=
  (by decide +kernel : ∀ t : Fin grid0.N, _)

/-- The rows of point `t`. -/
def row (t : Fin cfg0.N) (r : Fin 256) : Fin 8192 := ⟨t.val * 256 + r.val, by have := t.isLt; have : t.val < 32 := N_0 ▸ t.isLt; omega⟩

theorem blk0 (t : Fin cfg0.N) (r : Fin 256) (l : Fin 1024) : (iblk m c 0 t : Vec Ideal S256x1024 .f32) (ix2 r l) = a0 m c (ix2 (row t r) l) := by
  unfold row
  blk_point [iblk, V, idx t]
theorem blk1 (t : Fin cfg0.N) (r : Fin 256) (l : Fin 1024) : (iblk m c 1 t : Vec Ideal S256x1024 .f32) (ix2 r l) = a1 m c (ix2 (row t r) l) := by
  unfold row
  blk_point [iblk, V, idx t]
theorem gain (l : Fin 1024) : (V m c main_v0 : Vec Ideal S1x1024 .f32) (ix2 0 l) = a2 m c (ix1 l) := by
  unfold V
  after_reads_at
theorem blk2 (t : Fin cfg0.N) (l : Fin 1024) : (iblk m c 2 t : Vec Ideal S1x1024 .f32) (ix2 0 l) = a2 m c (ix1 l) := by
  rw [← gain]
  blk_point [iblk, idx t]
theorem blk3 (t : Fin cfg0.N) : (iblk m c 3 t : Vec Ideal S256x2048 .f32) = a3 m c := by
  funext i
  rw [eq_ix2 i]
  blk_point [iblk, V, idx t]
theorem blk4 (t : Fin cfg0.N) : (iblk m c 4 t : Vec Ideal S1024x2048 .bf16) = a4 m c := by
  funext i
  rw [eq_ix2 i]
  blk_point [iblk, V, idx t]
theorem blk5 (t : Fin cfg0.N) : (iblk m c 5 t : Vec Ideal S1024x1024 .bf16) = a5 m c := by
  funext i
  rw [eq_ix2 i]
  blk_point [iblk, V, idx t]

theorem after6 (t : Fin cfg0.N) : (dats m 0 c).after 6 t = k0_pay95 (F := Ideal) (iblk m c 0 t) (iblk m c 1 t) (k0_pay3 (iblk m c 2 t)) (k0_pay5 (iblk m c 0 t)) (k0_pay6 (iblk m c 0 t))
    (back (iblk m c 0 t) (iblk m c 1 t) (iblk m c 2 t) (iblk m c 3 t) (iblk m c 4 t) (iblk m c 5 t)) := by
  rw [after0_6]
  by_cases h : t.val % 32 = 0
  · rw [outsAt0_A m c t h]; frame_out; rfl
  · rw [outsAt0_B m c t h]; frame_out; rfl
theorem point6 (t : Fin cfg0.N) (r : Fin 256) (l : Fin 1024) : ((dats m 0 c).after 6 t : Vec Ideal S256x1024 .f32) (ix2 r l)
    = (val_main_v123 (F := Ideal) (a0 m c) (a1 m c) (a2 m c) (a3 m c) (a4 m c) (a5 m c) : Vec Ideal S8192x1024 .f32) (ix2 (row t r) l) := by
  rw [after6, blk3, blk4, blk5]
  exact dx_at (R := row t) (blk0 m c t) (blk1 m c t) (blk2 m c t) (backR (R := row t) (blk0 m c t) (blk1 m c t) (blk2 m c t)) r l
theorem final6 : (dats m 0 c).arrAt 6 cfg0.N = val_main_v123 (F := Ideal) (a0 m c) (a1 m c) (a2 m c) (a3 m c) (a4 m c) (a5 m c) := by
  refine (dats m 0 c).arrAt_eq_of_covers 6 _ (by decide +kernel) fun t hf y => ?_
  refine (congrArg _ (eq_ix2 y)).trans ((point6 m c t (y 0) (y 1)).trans (congrArg _ ?_))
  funext a
  match a with
  | 0 => exact Fin.ext (by show t.val * 256 + (y 0).val = win0_6.index t 0 * 256 + 1 * (y 0).val; rw [(idx t).2.2.2.2.2.2.1]; omega)
  | 1 => exact Fin.ext (by show (y 1).val = win0_6.index t 1 * 1024 + 1 * (y 1).val; rw [(idx t).2.2.2.2.2.2.2]; omega)

/-- The grid's last point. -/
def last : Fin cfg0.N := ⟨31, by rw [show cfg0.N = 32 from N_0]; omega⟩

/-- What point `t` adds to the norm's gradient. -/
def normAt (t : Fin cfg0.N) (i : S1x1024.Idx) : EReal := ∑ r, (gains (iblk m c 0 t) (iblk m c 1 t) (iblk m c 2 t) (iblk m c 3 t) (iblk m c 4 t) (iblk m c 5 t) : Vec Ideal S256x1024 .f32) (ix2 r (i 1))
theorem after7 (i : S1x1024.Idx) : (outsAt0 m c last.val last.isLt).2.1 i = (0 : EReal) + ∑ t : Fin cfg0.N, normAt m c t i :=
  Pipeline.eq_sum_fin_of_reset_step_apply_last (fun n h => (outsAt0 m c n h).2.1) 32 (fun _ => (0 : EReal)) (normAt m c)
    (fun t h i => by rw [outsAt0_A m c t h]; frame_out; rw [norm_at, norm0_at]; rfl)
    (fun t h i => by rw [outsAt0_B m c t h]; frame_out; rw [norm_at]; rfl) (le_of_eq N_0) last rfl i
theorem sum7 (i : S1x1024.Idx) : (0 : EReal) + ∑ t : Fin cfg0.N, normAt m c t i = (val_main_v124 (F := Ideal) (a0 m c) (a1 m c) (a2 m c) (a3 m c) (a4 m c) (a5 m c) : Vec Ideal S1x1024 .f32) i := by
  rw [zero_add, eq_ix2 i]
  unfold normAt
  pointwise [val_main_v124, val_main_v108, val_main_v105, val_main_v104, val_main_cst_17, val_main_cst_18]
  refine Eq.trans ?_ (Fintype.sum_unique (ι := Fin 1) _).symm
  refine Fin.sum_mul_add_congr (fun t x hl => ?_) (congrArg (· * 256) N_0).symm
  rw [blk3, blk4, blk5]
  exact gainsR (R := row t) (blk0 m c t) (blk1 m c t) (blk2 m c t) x (i 1)
theorem final7 : (dats m 0 c).arrAt 7 cfg0.N = val_main_v124 (F := Ideal) (a0 m c) (a1 m c) (a2 m c) (a3 m c) (a4 m c) (a5 m c) := by
  refine (dats m 0 c).arrAt_eq_of_after_last 7 last (by decide +kernel) _ fun j => ?_
  rw [after0_7]
  exact (after7 m c j).trans (sum7 m c j)

/-- What point `t` adds to the gradient of the keys and values. -/
def keysAt (t : Fin cfg0.N) (i : S256x2048.Idx) : EReal := (keys (iblk m c 0 t) (iblk m c 1 t) (iblk m c 2 t) (iblk m c 3 t) (iblk m c 4 t) (iblk m c 5 t) : Vec Ideal S256x2048 .f32) i
theorem after8 (i : S256x2048.Idx) : (outsAt0 m c last.val last.isLt).2.2.1 i = (0 : EReal) + ∑ t : Fin cfg0.N, keysAt m c t i :=
  Pipeline.eq_sum_fin_of_reset_step_apply_last (fun n h => (outsAt0 m c n h).2.2.1) 32 (fun _ => (0 : EReal)) (keysAt m c)
    (fun t h i => by rw [outsAt0_A m c t h]; frame_out; rw [add_at, add0_at]; rfl)
    (fun t h i => by rw [outsAt0_B m c t h]; frame_out; rw [add_at]; rfl) (le_of_eq N_0) last rfl i
theorem sum8 (i : S256x2048.Idx) : (0 : EReal) + ∑ t : Fin cfg0.N, keysAt m c t i = (val_main_v96 (F := Ideal) (a0 m c) (a1 m c) (a2 m c) (a3 m c) (a4 m c) (a5 m c) : Vec Ideal S256x2048 .f32) i := by
  rw [zero_add, eq_ix2 i]
  unfold keysAt
  have hk : ∀ (t : Fin cfg0.N) (κ : Fin 256) (l : Fin 2048), (keys (iblk m c 0 t) (iblk m c 1 t) (iblk m c 2 t) (iblk m c 3 t) (iblk m c 4 t) (iblk m c 5 t) : Vec Ideal S256x2048 .f32) (ix2 κ l) = keyPart (a0 m c) (a1 m c) (a2 m c) (a3 m c) (a4 m c) (a5 m c) (row t) κ l := fun t κ l => by
    rw [blk3, blk4, blk5]
    exact keysR (R := row t) (blk0 m c t) (blk1 m c t) (blk2 m c t) κ l
  refine (Finset.sum_congr rfl fun t _ => hk t (i 0) (i 1)).trans ?_
  generalize (i 0 : Fin 256) = κ
  generalize (i 1 : Fin 2048) = l
  unfold keyPart
  pointwise [val_main_v96, val_main_v95, val_main_v94, val_main_v93, val_main_v92, val_main_v89, val_main_v88, val_main_v65, val_main_v64, val_main_v61, val_main_v19, val_main_v20, val_main_v62, val_main_cst_14, val_main_cst_15]
  by_cases h : l.val < 1024
  · simp (disch := omega) only [dif_pos, dif_neg, zero_add]
    refine Fin.sum_mul_add_congr (fun t x hl => ?_) (congrArg (· * 256) N_0).symm
    refine congrArg₂ (· * ·) rfl (congrArg (fun j => (val_main_v18 (F := Ideal) (a0 m c) (a2 m c) (a4 m c) : Vec Ideal Cert.XaBwdRefIdeal.S8192x2048 .f32) (ix2 (row t x) j)) (Fin.ext (by simp <;> omega)))
  · have hl : l.val < 2048 := l.isLt
    have h' : 1024 ≤ l.val ∧ l.val - 1024 < 1024 := by omega
    simp only [dif_pos h', dif_neg h, add_zero]
    refine Fin.sum_mul_add_congr (fun t x hl => ?_) (congrArg (· * 256) N_0).symm
    rw [mul_comm]
    refine congrArg₂ (· * ·) (congrArg (fun j => (val_main_v58 (F := Ideal) (a0 m c) (a1 m c) (a2 m c) (a4 m c) (a5 m c) : Vec Ideal S8192x1024 .f32) (ix2 (row t x) j)) (Fin.ext (by simp <;> omega))) rfl
theorem final8 : (dats m 0 c).arrAt 8 cfg0.N = val_main_v96 (F := Ideal) (a0 m c) (a1 m c) (a2 m c) (a3 m c) (a4 m c) (a5 m c) := by
  refine (dats m 0 c).arrAt_eq_of_after_last 8 last (by decide +kernel) _ fun j => ?_
  rw [after0_8]
  exact (after8 m c j).trans (sum8 m c j)

/-- What point `t` adds to the gradient of the columns' weight. -/
def colsAt (t : Fin cfg0.N) (i : S1024x2048.Idx) : EReal := ∑ r, (k0_pay8 (F := Ideal) (iblk m c 0 t) (iblk m c 2 t) : Vec Ideal S256x1024 .f32) (ix2 r (i 0)) * (cols (iblk m c 0 t) (iblk m c 1 t) (iblk m c 2 t) (iblk m c 3 t) (iblk m c 4 t) (iblk m c 5 t) : Vec Ideal S256x2048 .f32) (ix2 r (i 1))
theorem after9 (i : S1024x2048.Idx) : (outsAt0 m c last.val last.isLt).2.2.2.1 i = (0 : EReal) + ∑ t : Fin cfg0.N, colsAt m c t i :=
  Pipeline.eq_sum_fin_of_reset_step_apply_last (fun n h => (outsAt0 m c n h).2.2.2.1) 32 (fun _ => (0 : EReal)) (colsAt m c)
    (fun t h i => by rw [outsAt0_A m c t h]; frame_out; rw [wqg_at, wqg0_at]; rfl)
    (fun t h i => by rw [outsAt0_B m c t h]; frame_out; rw [wqg_at]; rfl) (le_of_eq N_0) last rfl i
theorem sum9 (i : S1024x2048.Idx) : (0 : EReal) + ∑ t : Fin cfg0.N, colsAt m c t i = (val_main_v101 (F := Ideal) (a0 m c) (a1 m c) (a2 m c) (a3 m c) (a4 m c) (a5 m c) : Vec Ideal S1024x2048 .f32) i := by
  rw [zero_add, eq_ix2 i]
  unfold colsAt
  pointwise [val_main_v101, val_main_v100]
  refine Fin.sum_mul_add_congr (fun t x hl => ?_) (congrArg (· * 256) N_0).symm
  rw [mul_comm, blk3, blk4, blk5]
  exact congrArg₂ (· * ·) (colsR (R := row t) (blk0 m c t) (blk1 m c t) (blk2 m c t) x (i 1)) (h_at (R := row t) (blk0 m c t) (blk2 m c t) x (i 0))
theorem final9 : (dats m 0 c).arrAt 9 cfg0.N = val_main_v101 (F := Ideal) (a0 m c) (a1 m c) (a2 m c) (a3 m c) (a4 m c) (a5 m c) := by
  refine (dats m 0 c).arrAt_eq_of_after_last 9 last (by decide +kernel) _ fun j => ?_
  rw [after0_9]
  exact (after9 m c j).trans (sum9 m c j)

/-- What point `t` adds to the gradient of the results' weight. -/
def mixAt (t : Fin cfg0.N) (i : S1024x1024.Idx) : EReal := ∑ r, (gated (iblk m c 0 t) (iblk m c 2 t) (iblk m c 3 t) (iblk m c 4 t) : Vec Ideal S256x1024 .f32) (ix2 r (i 0)) * (iblk m c 1 t : Vec Ideal S256x1024 .f32) (ix2 r (i 1))
theorem after10 (i : S1024x1024.Idx) : (outsAt0 m c last.val last.isLt).2.2.2.2 i = (0 : EReal) + ∑ t : Fin cfg0.N, mixAt m c t i :=
  Pipeline.eq_sum_fin_of_reset_step_apply_last (fun n h => (outsAt0 m c n h).2.2.2.2) 32 (fun _ => (0 : EReal)) (mixAt m c)
    (fun t h i => by rw [outsAt0_A m c t h]; frame_out; rw [wo_at, wo0_at]; rfl)
    (fun t h i => by rw [outsAt0_B m c t h]; frame_out; rw [wo_at]; rfl) (le_of_eq N_0) last rfl i
theorem sum10 (i : S1024x1024.Idx) : (0 : EReal) + ∑ t : Fin cfg0.N, mixAt m c t i = (val_main_v55 (F := Ideal) (a0 m c) (a1 m c) (a2 m c) (a3 m c) (a4 m c) : Vec Ideal S1024x1024 .f32) i := by
  rw [zero_add, eq_ix2 i]
  unfold mixAt
  pointwise [val_main_v55, val_main_v54, val_main_v53]
  refine Fin.sum_mul_add_congr (fun t x hl => ?_) (congrArg (· * 256) N_0).symm
  rw [mul_comm, blk3, blk4]
  exact congrArg₂ (· * ·) (blk1 m c t x (i 1)) (gatedR (R := row t) (blk0 m c t) (blk2 m c t) x (i 0))
theorem final10 : (dats m 0 c).arrAt 10 cfg0.N = val_main_v55 (F := Ideal) (a0 m c) (a1 m c) (a2 m c) (a3 m c) (a4 m c) := by
  refine (dats m 0 c).arrAt_eq_of_after_last 10 last (by decide +kernel) _ fun j => ?_
  rw [after0_10]
  exact (after10 m c j).trans (sum10 m c j)

end Cert.XaBwdIdeal.Value
end
-- ==== Proof.XaBwdTie.lean ====
/-
  The cross attention's gradient against its reference: every result of the kernel is the
  reference's, and no condition is put on the arguments.
-/
module

public import proofs.«01_k».proof.Defs
public import proofs.«01_k».proof.Proof.XaBwdKernel
public import proofs.«01_k».proof.Proof.Gen.XaBwdRefIdeal.Run

@[expose] public section

set_option maxRecDepth 16384

noncomputable section

namespace XaBwdTie

open Idealize.ShloMosaic Idealize.SL.Sem Cert.XaBwdIdeal.Value Cert.XaBwdRefIdeal.Read

theorem value : Cert.algebraic_XaBwdIdeal_XaBwdRefIdeal (hXaBwdIdeal := Cert.XaBwdIdeal.Gen.facts) (hXaBwdRefIdeal := Cert.XaBwdRefIdeal.Gen.facts) := by
  intro m g m' g' _ hm
  refine ⟨fun c => val_main_v123 (F := Ideal) (a0 m c) (a1 m c) (a2 m c) (a3 m c) (a4 m c) (a5 m c),
    fun c => val_main_v124 (F := Ideal) (a0 m c) (a1 m c) (a2 m c) (a3 m c) (a4 m c) (a5 m c),
    fun c => val_main_v96 (F := Ideal) (a0 m c) (a1 m c) (a2 m c) (a3 m c) (a4 m c) (a5 m c),
    fun c => val_main_v101 (F := Ideal) (a0 m c) (a1 m c) (a2 m c) (a3 m c) (a4 m c) (a5 m c),
    fun c => val_main_v55 (F := Ideal) (a0 m c) (a1 m c) (a2 m c) (a3 m c) (a4 m c),
    (θ_run _ _ _).mono (fun r h c => ?_) (run_blocks m g),
    (θ_run _ _ _).mono (fun r h c => ?_) (Cert.XaBwdRefIdeal.Value.run m' g')⟩
  · obtain ⟨r0, r1, r2, r3, r4, kept⟩ := h c
    exact ⟨r0.trans (final6 m c), r1.trans (final7 m c), r2.trans (final8 m c), r3.trans (final9 m c), r4.trans (final10 m c), kept⟩
  · obtain ⟨r0, r1, r2, r3, r4, kept⟩ := h c
    obtain ⟨e0, e1, e2, e3, e4, e5⟩ := hm c
    refine ⟨r0.trans ((val_main_v123_eq ..).trans ?_),
      r1.trans ((val_main_v124_eq ..).trans ?_),
      r2.trans ((val_main_v96_eq ..).trans ?_),
      r3.trans ((val_main_v101_eq ..).trans ?_),
      r4.trans ((val_main_v55_eq ..).trans ?_), kept⟩
    · show val_main_v123 (F := Ideal) (m' ((c.tc : Thread Cert.XaBwdRefIdeal.nD Cert.XaBwdRefIdeal.τ).loc Cert.XaBwdRefIdeal.main_arg0)) (m' ((c.tc : Thread Cert.XaBwdRefIdeal.nD Cert.XaBwdRefIdeal.τ).loc Cert.XaBwdRefIdeal.main_arg1)) (m' ((c.tc : Thread Cert.XaBwdRefIdeal.nD Cert.XaBwdRefIdeal.τ).loc Cert.XaBwdRefIdeal.main_arg2)) (m' ((c.tc : Thread Cert.XaBwdRefIdeal.nD Cert.XaBwdRefIdeal.τ).loc Cert.XaBwdRefIdeal.main_arg3)) (m' ((c.tc : Thread Cert.XaBwdRefIdeal.nD Cert.XaBwdRefIdeal.τ).loc Cert.XaBwdRefIdeal.main_arg4)) (m' ((c.tc : Thread Cert.XaBwdRefIdeal.nD Cert.XaBwdRefIdeal.τ).loc Cert.XaBwdRefIdeal.main_arg5)) = _
      rw [e0, e1, e2, e3, e4, e5]
    · show val_main_v124 (F := Ideal) (m' ((c.tc : Thread Cert.XaBwdRefIdeal.nD Cert.XaBwdRefIdeal.τ).loc Cert.XaBwdRefIdeal.main_arg0)) (m' ((c.tc : Thread Cert.XaBwdRefIdeal.nD Cert.XaBwdRefIdeal.τ).loc Cert.XaBwdRefIdeal.main_arg1)) (m' ((c.tc : Thread Cert.XaBwdRefIdeal.nD Cert.XaBwdRefIdeal.τ).loc Cert.XaBwdRefIdeal.main_arg2)) (m' ((c.tc : Thread Cert.XaBwdRefIdeal.nD Cert.XaBwdRefIdeal.τ).loc Cert.XaBwdRefIdeal.main_arg3)) (m' ((c.tc : Thread Cert.XaBwdRefIdeal.nD Cert.XaBwdRefIdeal.τ).loc Cert.XaBwdRefIdeal.main_arg4)) (m' ((c.tc : Thread Cert.XaBwdRefIdeal.nD Cert.XaBwdRefIdeal.τ).loc Cert.XaBwdRefIdeal.main_arg5)) = _
      rw [e0, e1, e2, e3, e4, e5]
    · show val_main_v96 (F := Ideal) (m' ((c.tc : Thread Cert.XaBwdRefIdeal.nD Cert.XaBwdRefIdeal.τ).loc Cert.XaBwdRefIdeal.main_arg0)) (m' ((c.tc : Thread Cert.XaBwdRefIdeal.nD Cert.XaBwdRefIdeal.τ).loc Cert.XaBwdRefIdeal.main_arg1)) (m' ((c.tc : Thread Cert.XaBwdRefIdeal.nD Cert.XaBwdRefIdeal.τ).loc Cert.XaBwdRefIdeal.main_arg2)) (m' ((c.tc : Thread Cert.XaBwdRefIdeal.nD Cert.XaBwdRefIdeal.τ).loc Cert.XaBwdRefIdeal.main_arg3)) (m' ((c.tc : Thread Cert.XaBwdRefIdeal.nD Cert.XaBwdRefIdeal.τ).loc Cert.XaBwdRefIdeal.main_arg4)) (m' ((c.tc : Thread Cert.XaBwdRefIdeal.nD Cert.XaBwdRefIdeal.τ).loc Cert.XaBwdRefIdeal.main_arg5)) = _
      rw [e0, e1, e2, e3, e4, e5]
    · show val_main_v101 (F := Ideal) (m' ((c.tc : Thread Cert.XaBwdRefIdeal.nD Cert.XaBwdRefIdeal.τ).loc Cert.XaBwdRefIdeal.main_arg0)) (m' ((c.tc : Thread Cert.XaBwdRefIdeal.nD Cert.XaBwdRefIdeal.τ).loc Cert.XaBwdRefIdeal.main_arg1)) (m' ((c.tc : Thread Cert.XaBwdRefIdeal.nD Cert.XaBwdRefIdeal.τ).loc Cert.XaBwdRefIdeal.main_arg2)) (m' ((c.tc : Thread Cert.XaBwdRefIdeal.nD Cert.XaBwdRefIdeal.τ).loc Cert.XaBwdRefIdeal.main_arg3)) (m' ((c.tc : Thread Cert.XaBwdRefIdeal.nD Cert.XaBwdRefIdeal.τ).loc Cert.XaBwdRefIdeal.main_arg4)) (m' ((c.tc : Thread Cert.XaBwdRefIdeal.nD Cert.XaBwdRefIdeal.τ).loc Cert.XaBwdRefIdeal.main_arg5)) = _
      rw [e0, e1, e2, e3, e4, e5]
    · show val_main_v55 (F := Ideal) (m' ((c.tc : Thread Cert.XaBwdRefIdeal.nD Cert.XaBwdRefIdeal.τ).loc Cert.XaBwdRefIdeal.main_arg0)) (m' ((c.tc : Thread Cert.XaBwdRefIdeal.nD Cert.XaBwdRefIdeal.τ).loc Cert.XaBwdRefIdeal.main_arg1)) (m' ((c.tc : Thread Cert.XaBwdRefIdeal.nD Cert.XaBwdRefIdeal.τ).loc Cert.XaBwdRefIdeal.main_arg2)) (m' ((c.tc : Thread Cert.XaBwdRefIdeal.nD Cert.XaBwdRefIdeal.τ).loc Cert.XaBwdRefIdeal.main_arg3)) (m' ((c.tc : Thread Cert.XaBwdRefIdeal.nD Cert.XaBwdRefIdeal.τ).loc Cert.XaBwdRefIdeal.main_arg4)) = _
      rw [e0, e1, e2, e3, e4]

end XaBwdTie
end
-- ==== Proof.GatedOutFwdKernel.lean ====
/-
  The gated output product of the attention layer against its reference: each point of the kernel's grid leaves its rows of
  the sum of the residual and the product.
-/
module

public import proofs.«01_k».proof.Proof.Gen.GatedOutFwdIdeal.Value
public import proofs.«01_k».proof.Proof.Gen.GatedOutFwdRefIdeal.Read
public import Idealize.ShloMosaic.Lib.Pipeline.ValueKit
public import Idealize.ShloMosaic.Lib.Pointwise

@[expose] public section

set_option maxRecDepth 16384

noncomputable section

namespace Cert.GatedOutFwdIdeal.Value

open Idealize.ShloMosaic Idealize.ShloMosaic.TcCoe Idealize.SL.Sem Cert.GatedOutFwdIdeal Cert.GatedOutFwdIdeal.Gen
open Cert.GatedOutFwdRefIdeal.Read

variable (m : (ℓ : Loc nD τ sig) → Buf (Elt Ideal) ℓ) (c : Dev nD)

abbrev a0 : Vec Ideal S8192x1024 .f32 := m ((c : Thread nD τ).loc main_arg0)
abbrev a1 : Vec Ideal S8192x1024 .f32 := m ((c : Thread nD τ).loc main_arg1)
abbrev a2 : Vec Ideal S8192x4096 .f32 := m ((c : Thread nD τ).loc main_arg2)
abbrev a3 : Vec Ideal S1024x1024 .bf16 := m ((c : Thread nD τ).loc main_arg3)

theorem idx : ∀ t : Fin cfg0.N, (win0_0.index t 0 = t.val ∧ win0_0.index t 1 = 0) ∧ (win0_1.index t 0 = t.val ∧ win0_1.index t 1 = 0)
    ∧ (win0_2.index t 0 = t.val ∧ win0_2.index t 1 = 3) ∧ (win0_3.index t 0 = 0 ∧ win0_3.index t 1 = 0)
    ∧ (win0_4.index t 0 = t.val ∧ win0_4.index t 1 = 0) :=
  (by decide +kernel : ∀ t : Fin grid0.N, _)

theorem afterRows (t : Fin cfg0.N) : (dats m 0 c).after 4 t = k0_pay1 (F := Ideal) (iblk m c 0 t) (iblk m c 1 t) (iblk m c 2 t) (iblk m c 3 t) := by
  rw [after0_4]; frame_out

/-- A row of the result. -/
theorem rowAt (t : Fin cfg0.N) (j : S512x1024.Idx) (i : S8192x1024.Idx) (h0 : (i 0).val = 512 * t.val + (j 0).val) (h1 : (i 1).val = (j 1).val) :
    (k0_pay1 (F := Ideal) (iblk m c 0 t) (iblk m c 1 t) (iblk m c 2 t) (iblk m c 3 t) : Vec Ideal S512x1024 .f32) j
      = (val_main_v5 (F := Ideal) (a0 m c) (a1 m c) (a2 m c) (a3 m c) : Vec Ideal S8192x1024 .f32) i := by
  rw [eq_ix2 j, eq_ix2 i]
  pointwise [k0_pay1, val_main_v5, val_main_v4, val_main_v3, val_main_v2, val_main_v1, val_main_call0_v5, val_main_call0_v4, val_main_call0_cst_0,
    val_main_call0_v3, val_main_call0_v2, val_main_call0_cst, val_main_call0_v1, val_main_call0_v0, val_main_v0, Ideal.logistic]
  blk_point [iblk, V, idx t]

theorem rowsEnd : (dats m 0 c).arrAt 4 cfg0.N = val_main_v5 (F := Ideal) (a0 m c) (a1 m c) (a2 m c) (a3 m c) := by
  refine (dats m 0 c).arrAt_eq_of_covers 4 _ (by decide +kernel) fun t hf y => ?_
  rw [afterRows]
  exact rowAt m c t _ _ (by show win0_4.index t 0 * 512 + 1 * (y 0).val = 512 * t.val + (y 0).val; rw [(idx t).2.2.2.2.1]; omega)
    (by show win0_4.index t 1 * 1024 + 1 * (y 1).val = (y 1).val; rw [(idx t).2.2.2.2.2]; omega)

end Cert.GatedOutFwdIdeal.Value

end
-- ==== Proof.GatedOutFwdTie.lean ====
/-
  The gated output product of the attention layer against its reference: the kernel's result is the
  reference's, and no condition is put on the arguments.
-/
module

public import proofs.«01_k».proof.Defs
public import proofs.«01_k».proof.Proof.GatedOutFwdKernel
public import proofs.«01_k».proof.Proof.Gen.GatedOutFwdRefIdeal.Run

@[expose] public section

set_option maxRecDepth 16384

noncomputable section

namespace GatedOutFwdTie

open Idealize.ShloMosaic Idealize.SL.Sem Cert.GatedOutFwdIdeal.Value Cert.GatedOutFwdRefIdeal.Read

theorem value : Cert.algebraic_GatedOutFwdIdeal_GatedOutFwdRefIdeal (hGatedOutFwdIdeal := Cert.GatedOutFwdIdeal.Gen.facts) (hGatedOutFwdRefIdeal := Cert.GatedOutFwdRefIdeal.Gen.facts) := by
  intro m g m' g' _ hm
  refine ⟨fun c => val_main_v5 (F := Ideal) (a0 m c) (a1 m c) (a2 m c) (a3 m c),
    (θ_run _ _ _).mono (fun r h c => ?_) (run_blocks m g),
    (θ_run _ _ _).mono (fun r h c => ?_) (Cert.GatedOutFwdRefIdeal.Value.run m' g')⟩
  · obtain ⟨r0, kept⟩ := h c
    exact ⟨r0.trans (rowsEnd m c), kept⟩
  · obtain ⟨r0, kept⟩ := h c
    obtain ⟨e0, e1, e2, e3⟩ := hm c
    refine ⟨r0.trans ((val_main_v5_eq ..).trans ?_), kept⟩
    · rw [e0, e1, e2, e3]

end GatedOutFwdTie
end
-- ==== Proof.OdInFwdKernel.lean ====
/-
  The norm and input product of the attention layer against its reference: each point of the kernel's grid leaves its rows of the product
  of the normed rows with the weights.
-/
module

public import proofs.«01_k».proof.Proof.Gen.OdInFwdIdeal.Value
public import proofs.«01_k».proof.Proof.Gen.OdInFwdRefIdeal.Read
public import Idealize.ShloMosaic.Lib.Pipeline.ValueKit
public import Idealize.ShloMosaic.Lib.Pointwise
public import Idealize.ShloMosaic.Lib.StableHlo.ReadAt

@[expose] public section

set_option maxRecDepth 16384

noncomputable section

namespace Cert.OdInFwdIdeal.Value

open Idealize.ShloMosaic Idealize.ShloMosaic.TcCoe Idealize.SL.Sem Cert.OdInFwdIdeal Cert.OdInFwdIdeal.Gen
open Cert.OdInFwdRefIdeal.Read

/-- A row of the product, from a block of rows beside the rows `R` of the whole array. -/
theorem mm_at {x : Vec Ideal S512x1024 .f32} {X : Vec Ideal S8192x1024 .f32} {g : Vec Ideal S1x1024 .f32} {G : Vec Ideal S1024 .f32}
    {w : Vec Ideal S1024x4096 .bf16} {R : Fin 512 → Fin 8192} (hx : ∀ r l, x (ix2 r l) = X (ix2 (R r) l)) (hg : ∀ l, g (ix2 0 l) = G (ix1 l))
    (r : Fin 512) (l : Fin 4096) : (k0_pay1 (F := Ideal) x g w : Vec Ideal S512x4096 .f32) (ix2 r l)
      = (val_main_v14 (F := Ideal) X G w : Vec Ideal S8192x4096 .f32) (ix2 (R r) l) := by
  pointwise [k0_pay1, val_main_v14, val_main_v13, val_main_v12, val_main_v11, val_main_v10, val_main_v9, val_main_v8, val_main_v7, val_main_v6, val_main_v5,
    val_main_v4, val_main_v3, val_main_v2, val_main_v1, val_main_v0, val_main_cst, val_main_cst_0, val_main_cst_1]
  simp only [hx, hg]

variable (m : (ℓ : Loc nD τ sig) → Buf (Elt Ideal) ℓ) (c : Dev nD)

abbrev a0 : Vec Ideal S8192x1024 .f32 := m ((c : Thread nD τ).loc main_arg0)
abbrev a1 : Vec Ideal S1024 .f32 := m ((c : Thread nD τ).loc main_arg1)
abbrev a2 : Vec Ideal S1024x4096 .bf16 := m ((c : Thread nD τ).loc main_arg2)

theorem idx : ∀ t : Fin cfg0.N, (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = t.val ∧ win0_3.index t 1 = 0) :=
  (by decide +kernel : ∀ t : Fin grid0.N, _)

/-- The rows of point `t`. -/
def row (t : Fin cfg0.N) (r : Fin 512) : Fin 8192 := ⟨t.val * 512 + r.val, by have : t.val < 16 := N_0 ▸ t.isLt; omega⟩

theorem blk0 (t : Fin cfg0.N) (r : Fin 512) (l : Fin 1024) : (iblk m c 0 t : Vec Ideal S512x1024 .f32) (ix2 r l) = a0 m c (ix2 (row t r) l) := by
  unfold row
  blk_point [iblk, V, idx t]
theorem gain (l : Fin 1024) : (V m c main_v0 : Vec Ideal S1x1024 .f32) (ix2 0 l) = a1 m c (ix1 l) := by
  unfold V
  after_reads_at
theorem blk1 (t : Fin cfg0.N) (l : Fin 1024) : (iblk m c 1 t : Vec Ideal S1x1024 .f32) (ix2 0 l) = a1 m c (ix1 l) := by
  rw [← gain]
  blk_point [iblk, idx t]
theorem blk2 (t : Fin cfg0.N) : (iblk m c 2 t : Vec Ideal S1024x4096 .bf16) = a2 m c := by
  funext i
  rw [eq_ix2 i]
  blk_point [iblk, V, idx t]

theorem afterRows (t : Fin cfg0.N) : (dats m 0 c).after 3 t = k0_pay1 (F := Ideal) (iblk m c 0 t) (iblk m c 1 t) (iblk m c 2 t) := by
  rw [after0_3]
  frame_out

theorem rowAt (t : Fin cfg0.N) (j : S512x4096.Idx) (i : S8192x4096.Idx) (h0 : (i 0).val = t.val * 512 + (j 0).val) (h1 : (i 1).val = (j 1).val) :
    (k0_pay1 (F := Ideal) (iblk m c 0 t) (iblk m c 1 t) (iblk m c 2 t) : Vec Ideal S512x4096 .f32) j
      = (val_main_v14 (F := Ideal) (a0 m c) (a1 m c) (a2 m c) : Vec Ideal S8192x4096 .f32) i := by
  rw [blk2, eq_ix2 j, eq_ix2 i, mm_at (R := row t) (blk0 m c t) (blk1 m c t) (j 0) (j 1), ← show row t (j 0) = i 0 from Fin.ext h0.symm,
    show i 1 = j 1 from Fin.ext h1]

theorem rowsEnd : (dats m 0 c).arrAt 3 cfg0.N = val_main_v14 (F := Ideal) (a0 m c) (a1 m c) (a2 m c) := by
  refine (dats m 0 c).arrAt_eq_of_covers 3 _ (by decide +kernel) fun t hf y => ?_
  rw [afterRows]
  exact rowAt m c t _ _ (by show win0_3.index t 0 * 512 + 1 * (y 0).val = t.val * 512 + (y 0).val; rw [(idx t).2.2.2.1]; omega)
    (by show win0_3.index t 1 * 4096 + 1 * (y 1).val = (y 1).val; rw [(idx t).2.2.2.2]; omega)

end Cert.OdInFwdIdeal.Value

end
-- ==== Proof.OdInFwdTie.lean ====
/-
  The norm and input product of the attention layer against its reference: the kernel's result is the
  reference's, and no condition is put on the arguments.
-/
module

public import proofs.«01_k».proof.Defs
public import proofs.«01_k».proof.Proof.OdInFwdKernel
public import proofs.«01_k».proof.Proof.Gen.OdInFwdRefIdeal.Run

@[expose] public section

set_option maxRecDepth 16384

noncomputable section

namespace OdInFwdTie

open Idealize.ShloMosaic Idealize.SL.Sem Cert.OdInFwdIdeal.Value Cert.OdInFwdRefIdeal.Read

theorem value : Cert.algebraic_OdInFwdIdeal_OdInFwdRefIdeal (hOdInFwdIdeal := Cert.OdInFwdIdeal.Gen.facts) (hOdInFwdRefIdeal := Cert.OdInFwdRefIdeal.Gen.facts) := by
  intro m g m' g' _ hm
  refine ⟨fun c => val_main_v14 (F := Ideal) (a0 m c) (a1 m c) (a2 m c),
    (θ_run _ _ _).mono (fun r h c => ?_) (run_blocks m g),
    (θ_run _ _ _).mono (fun r h c => ?_) (Cert.OdInFwdRefIdeal.Value.run m' g')⟩
  · obtain ⟨r0, kept⟩ := h c
    exact ⟨r0.trans (rowsEnd m c), kept⟩
  · obtain ⟨r0, kept⟩ := h c
    obtain ⟨e0, e1, e2⟩ := hm c
    refine ⟨r0.trans ((val_main_v14_eq ..).trans ?_), kept⟩
    · rw [e0, e1, e2]

end OdInFwdTie
end
-- ==== Proof.EvInFwdKernel.lean ====
/-
  The norm and input product of the recurrence's layer against its reference: each point of the kernel's grid leaves its rows of the product
  of the normed rows with the weights.
-/
module

public import proofs.«01_k».proof.Proof.Gen.EvInFwdIdeal.Value
public import proofs.«01_k».proof.Proof.Gen.EvInFwdRefIdeal.Read
public import Idealize.ShloMosaic.Lib.Pipeline.ValueKit
public import Idealize.ShloMosaic.Lib.Pointwise
public import Idealize.ShloMosaic.Lib.StableHlo.ReadAt

@[expose] public section

set_option maxRecDepth 16384

noncomputable section

namespace Cert.EvInFwdIdeal.Value

open Idealize.ShloMosaic Idealize.ShloMosaic.TcCoe Idealize.SL.Sem Cert.EvInFwdIdeal Cert.EvInFwdIdeal.Gen
open Cert.EvInFwdRefIdeal.Read

/-- A row of the product, from a block of rows beside the rows `R` of the whole array. -/
theorem mm_at {x : Vec Ideal S512x1024 .f32} {X : Vec Ideal S8192x1024 .f32} {g : Vec Ideal S1x1024 .f32} {G : Vec Ideal S1024 .f32}
    {w : Vec Ideal S1024x2560 .bf16} {R : Fin 512 → Fin 8192} (hx : ∀ r l, x (ix2 r l) = X (ix2 (R r) l)) (hg : ∀ l, g (ix2 0 l) = G (ix1 l))
    (r : Fin 512) (l : Fin 2560) : (k0_pay1 (F := Ideal) x g w : Vec Ideal S512x2560 .f32) (ix2 r l)
      = (val_main_v14 (F := Ideal) X G w : Vec Ideal S8192x2560 .f32) (ix2 (R r) l) := by
  pointwise [k0_pay1, val_main_v14, val_main_v13, val_main_v12, val_main_v11, val_main_v10, val_main_v9, val_main_v8, val_main_v7, val_main_v6, val_main_v5,
    val_main_v4, val_main_v3, val_main_v2, val_main_v1, val_main_v0, val_main_cst, val_main_cst_0, val_main_cst_1]
  simp only [hx, hg]

variable (m : (ℓ : Loc nD τ sig) → Buf (Elt Ideal) ℓ) (c : Dev nD)

abbrev a0 : Vec Ideal S8192x1024 .f32 := m ((c : Thread nD τ).loc main_arg0)
abbrev a1 : Vec Ideal S1024 .f32 := m ((c : Thread nD τ).loc main_arg1)
abbrev a2 : Vec Ideal S1024x2560 .bf16 := m ((c : Thread nD τ).loc main_arg2)

theorem idx : ∀ t : Fin cfg0.N, (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = t.val ∧ win0_3.index t 1 = 0) :=
  (by decide +kernel : ∀ t : Fin grid0.N, _)

/-- The rows of point `t`. -/
def row (t : Fin cfg0.N) (r : Fin 512) : Fin 8192 := ⟨t.val * 512 + r.val, by have : t.val < 16 := N_0 ▸ t.isLt; omega⟩

theorem blk0 (t : Fin cfg0.N) (r : Fin 512) (l : Fin 1024) : (iblk m c 0 t : Vec Ideal S512x1024 .f32) (ix2 r l) = a0 m c (ix2 (row t r) l) := by
  unfold row
  blk_point [iblk, V, idx t]
theorem gain (l : Fin 1024) : (V m c main_v0 : Vec Ideal S1x1024 .f32) (ix2 0 l) = a1 m c (ix1 l) := by
  unfold V
  after_reads_at
theorem blk1 (t : Fin cfg0.N) (l : Fin 1024) : (iblk m c 1 t : Vec Ideal S1x1024 .f32) (ix2 0 l) = a1 m c (ix1 l) := by
  rw [← gain]
  blk_point [iblk, idx t]
theorem blk2 (t : Fin cfg0.N) : (iblk m c 2 t : Vec Ideal S1024x2560 .bf16) = a2 m c := by
  funext i
  rw [eq_ix2 i]
  blk_point [iblk, V, idx t]

theorem afterRows (t : Fin cfg0.N) : (dats m 0 c).after 3 t = k0_pay1 (F := Ideal) (iblk m c 0 t) (iblk m c 1 t) (iblk m c 2 t) := by
  rw [after0_3]
  frame_out

theorem rowAt (t : Fin cfg0.N) (j : S512x2560.Idx) (i : S8192x2560.Idx) (h0 : (i 0).val = t.val * 512 + (j 0).val) (h1 : (i 1).val = (j 1).val) :
    (k0_pay1 (F := Ideal) (iblk m c 0 t) (iblk m c 1 t) (iblk m c 2 t) : Vec Ideal S512x2560 .f32) j
      = (val_main_v14 (F := Ideal) (a0 m c) (a1 m c) (a2 m c) : Vec Ideal S8192x2560 .f32) i := by
  rw [blk2, eq_ix2 j, eq_ix2 i, mm_at (R := row t) (blk0 m c t) (blk1 m c t) (j 0) (j 1), ← show row t (j 0) = i 0 from Fin.ext h0.symm,
    show i 1 = j 1 from Fin.ext h1]

theorem rowsEnd : (dats m 0 c).arrAt 3 cfg0.N = val_main_v14 (F := Ideal) (a0 m c) (a1 m c) (a2 m c) := by
  refine (dats m 0 c).arrAt_eq_of_covers 3 _ (by decide +kernel) fun t hf y => ?_
  rw [afterRows]
  exact rowAt m c t _ _ (by show win0_3.index t 0 * 512 + 1 * (y 0).val = t.val * 512 + (y 0).val; rw [(idx t).2.2.2.1]; omega)
    (by show win0_3.index t 1 * 2560 + 1 * (y 1).val = (y 1).val; rw [(idx t).2.2.2.2]; omega)

end Cert.EvInFwdIdeal.Value

end
-- ==== Proof.EvInFwdTie.lean ====
/-
  The norm and input product of the recurrent layer against its reference: the kernel's result is the
  reference's, and no condition is put on the arguments.
-/
module

public import proofs.«01_k».proof.Defs
public import proofs.«01_k».proof.Proof.EvInFwdKernel
public import proofs.«01_k».proof.Proof.Gen.EvInFwdRefIdeal.Run

@[expose] public section

set_option maxRecDepth 16384

noncomputable section

namespace EvInFwdTie

open Idealize.ShloMosaic Idealize.SL.Sem Cert.EvInFwdIdeal.Value Cert.EvInFwdRefIdeal.Read

theorem value : Cert.algebraic_EvInFwdIdeal_EvInFwdRefIdeal (hEvInFwdIdeal := Cert.EvInFwdIdeal.Gen.facts) (hEvInFwdRefIdeal := Cert.EvInFwdRefIdeal.Gen.facts) := by
  intro m g m' g' _ hm
  refine ⟨fun c => val_main_v14 (F := Ideal) (a0 m c) (a1 m c) (a2 m c),
    (θ_run _ _ _).mono (fun r h c => ?_) (run_blocks m g),
    (θ_run _ _ _).mono (fun r h c => ?_) (Cert.EvInFwdRefIdeal.Value.run m' g')⟩
  · obtain ⟨r0, kept⟩ := h c
    exact ⟨r0.trans (rowsEnd m c), kept⟩
  · obtain ⟨r0, kept⟩ := h c
    obtain ⟨e0, e1, e2⟩ := hm c
    refine ⟨r0.trans ((val_main_v14_eq ..).trans ?_), kept⟩
    · rw [e0, e1, e2]

end EvInFwdTie
end
-- ==== Proof.XaFwdRows.lean ====
/-
  The rows of a block of the cross attention beside the reference's: the norm, the projected queries and gate, and one head as
  one function of its queries, keys and values.
-/
module

public import proofs.«01_k».proof.Proof.Gen.XaFwdIdeal.Value
public import proofs.«01_k».proof.Proof.Gen.XaFwdRefIdeal.Read
public import proofs.«01_k».proof.Proof.XaHead

@[expose] public section

set_option maxRecDepth 16384

noncomputable section

namespace Cert.XaFwdIdeal.Value

open Idealize.ShloMosaic Idealize.ShloMosaic.TcCoe Idealize.SL.Sem Cert.XaFwdIdeal Cert.XaFwdIdeal.Gen
open Cert.XaFwdRefIdeal.Read AttnRow XaRow

abbrev Que := FVec Ideal S512x256 .f32
abbrev Key := FVec Ideal S256x256 .f32

/-! ## One head of a block -/
section head
/-- The products of queries and keys. -/
def raw (q : Que) (k : Key) : Que :=
  matmul dot_S512x256_S256x256_S512x256_1_1_0_0_n_n none (truncf .bf16 q bitsLt_bf16_f32) (truncf .bf16 k bitsLt_bf16_f32) (constant S512x256 .f32 0x00000000#32)
def scaled (p : Que) : Que := mulf p (broadcast S512x256 (Scalar.ofBits (F := Ideal) .f32 0x3D800000#32))
def peak (p : Que) : FVec Ideal S512 .f32 := multiReduction (F := Ideal) .maximumf [1] S512 (scaled p) 0xFF800000#32 reduces_S512x256_S512 (.inl rfl) rfl
def expo (p : Que) : Que := exp (F := Ideal) (subf (scaled p) (broadcastTo S512x256 (shapeCast S512x1 (peak p) shapeCasts_S512_S512x1) broadcasts_S512x1_S512x256))
def norm (p : Que) : FVec Ideal S512 .f32 := multiReduction (F := Ideal) .add [1] S512 (expo p) 0x00000000#32 reduces_S512x256_S512 (.inl rfl) rfl
/-- The probabilities. -/
def chance (p : Que) : Que := divf (F := Ideal) (expo p) (broadcastTo S512x256 (shapeCast S512x1 (norm p) shapeCasts_S512_S512x1) broadcasts_S512x1_S512x256)
/-- The head's result. -/
def result (p : Que) (v : Key) : Que :=
  matmul dot_S512x256_S256x256_S512x256_1_0_0_1_n_n none (truncf .bf16 (chance p) bitsLt_bf16_f32) (truncf .bf16 v bitsLt_bf16_f32) (constant S512x256 .f32 0x00000000#32)
/-- The heads side by side, gated, through the output product, and the residual. -/
def out (x : FVec Ideal S512x1024 .f32) (u : FVec Ideal S1024x1024 .bf16) (qg : FVec Ideal S512x2048 .f32) (o0 o1 o2 o3 : Que) : FVec Ideal S512x1024 .f32 :=
  have v103 : FVec Ideal S512x1024 .f32 := extractStridedSlice S512x1024 ![0, 1024] qg slices_S512x2048_o0_1024_S512x1024
  addf x (matmul dot_S512x1024_S1024x1024_S512x1024_1_0_0_1_n_n none (truncf .bf16 (mulf (concatenate S512x1024 1 [⟨S512x256, o0⟩, ⟨S512x256, o1⟩, ⟨S512x256, o2⟩, ⟨S512x256, o3⟩]
    concatenates_S512x256_S512x256_S512x256_S512x256_S512x1024_d1) (mulf v103 (logistic v103))) bitsLt_bf16_f32) u (constant S512x1024 .f32 0x00000000#32))

/-- Columns of the queries. -/
def que (n : ℕ) (qg : Vec Ideal S512x2048 .f32) (h : S512x2048.Slices ![0, n] S512x256) : Que := extractStridedSlice S512x256 ![0, n] qg h
/-- Columns of the keys or values. -/
def key (n : ℕ) (kv : Vec Ideal S256x2048 .f32) (h : S256x2048.Slices ![0, n] S256x256) : Key := extractStridedSlice S256x256 ![0, n] kv h

variable (x : Vec Ideal S512x1024 .f32) (g : Vec Ideal S1x1024 .f32) (kv : Vec Ideal S256x2048 .f32) (w : Vec Ideal S1024x2048 .bf16) (u : Vec Ideal S1024x1024 .bf16)
  (qg : Vec Ideal S512x2048 .f32)
theorem head0 : k0_pay5 (F := Ideal) (k0_pay3 kv) (k0_pay4 x g kv w)
    = result (raw (que 0 (k0_pay2 x g w) slices_S512x2048_o0_0_S512x256) (key 0 kv slices_S256x2048_o0_0_S256x256)) (key 1024 kv slices_S256x2048_o0_1024_S256x256) := rfl
theorem head1 : k0_pay6 (F := Ideal) kv qg
    = result (raw (que 256 qg slices_S512x2048_o0_256_S512x256) (key 256 kv slices_S256x2048_o0_256_S256x256)) (key 1280 kv slices_S256x2048_o0_1280_S256x256) := rfl
theorem head2 : k0_pay7 (F := Ideal) kv qg
    = result (raw (que 512 qg slices_S512x2048_o0_512_S512x256) (key 512 kv slices_S256x2048_o0_512_S256x256)) (key 1536 kv slices_S256x2048_o0_1536_S256x256) := rfl
theorem head3 (o0 o1 o2 : Que) : k0_pay1 (F := Ideal) x u qg o0 o1 o2 (k0_pay8 kv) (k0_pay9 kv qg)
    = out x u qg o0 o1 o2 (result (raw (que 768 qg slices_S512x2048_o0_768_S512x256) (key 768 kv slices_S256x2048_o0_768_S256x256)) (key 1792 kv slices_S256x2048_o0_1792_S256x256)) := rfl
end head

section rows
/-! A block of rows of one head beside rows of scores. -/
variable {q : Que} {k v : Key} {Q : Fin 512 → Fin 256 → EReal} {C V : Fin 256 → Fin 256 → EReal}
  (hq : ∀ r d, q (ix2 r d) = Q r d) (hk : ∀ r d, k (ix2 r d) = C r d) (hv : ∀ r d, v (ix2 r d) = V r d)

/-- The scores of a row of queries. -/
def scoreOf (Q : Fin 256 → EReal) (C : Fin 256 → Fin 256 → EReal) (κ : Fin 256) : EReal := (∑ d, Q d * C κ d) * Ideal.ofBits FTy.f32 1031798784#32

include hq hk in
theorem scaled_at (r : Fin 512) (κ : Fin 256) : scaled (raw q k) (ix2 r κ) = scoreOf (Q r) C κ := by
  unfold scoreOf
  pointwise [scaled, raw]
  simp only [hq, hk]
include hq hk in
theorem peak_at (r : Fin 512) : peak (raw q k) (ix1 r) = rowMax (scoreOf (Q r) C) := by
  unfold peak
  exact (Cert.XaBwdIdeal.Value.fold_max2 (n0 := 512) (n1 := 256) (scaled (raw q k)) reduces_S512x256_S512 r).trans (congrArg rowMax (funext (scaled_at hq hk r)))
include hq hk in
theorem expo_at (r : Fin 512) (κ : Fin 256) : expo (raw q k) (ix2 r κ) = rowExp (scoreOf (Q r) C) κ := by
  have hs := scaled_at hq hk
  have hm := peak_at hq hk
  pointwise [expo]
  rw [hs, hm]
  rfl
include hq hk in
theorem norm_at (r : Fin 512) : norm (raw q k) (ix1 r) = rowSum (scoreOf (Q r) C) := by
  have he := expo_at hq hk
  pointwise [norm]
  simp only [he]
  rfl
include hq hk in
theorem chance_at (r : Fin 512) (κ : Fin 256) : chance (raw q k) (ix2 r κ) = prob (scoreOf (Q r) C) κ := by
  have he := expo_at hq hk
  have hz := norm_at hq hk
  pointwise [chance]
  rw [he, hz]
  rfl
include hq hk hv in
theorem result_at (r : Fin 512) (d : Fin 256) : result (raw q k) v (ix2 r d) = ∑ κ, prob (scoreOf (Q r) C) κ * V κ d := by
  have hp := chance_at hq hk
  pointwise [result]
  simp only [hp, hv]
end rows

end Cert.XaFwdIdeal.Value

end
-- ==== Proof.XaFwdKernel.lean ====
/-
  Cross attention against its reference: each point of the kernel's grid leaves its rows of the result.
-/
module

public import proofs.«01_k».proof.Proof.XaFwdRows
public import Idealize.ShloMosaic.Lib.Pipeline.ValueKit
public import Idealize.ShloMosaic.Lib.StableHlo.ReadAt

@[expose] public section

set_option maxRecDepth 16384

noncomputable section

namespace Cert.XaFwdIdeal.Value

open Idealize.ShloMosaic Idealize.ShloMosaic.TcCoe Idealize.SL.Sem Cert.XaFwdIdeal Cert.XaFwdIdeal.Gen
open Cert.XaFwdRefIdeal.Read AttnRow XaRow

/-! ## The reference, row by row -/
section reference
variable (X : Vec Ideal S8192x1024 .f32) (G : Vec Ideal S1024 .f32) (K : Vec Ideal S256x2048 .f32) (W : Vec Ideal S1024x2048 .bf16)

/-- Column `d` of head `h`, among queries or keys; -/
abbrev colK (h : Fin 4) (d : Fin 256) : Fin 2048 := ⟨h.val * 256 + d.val, by omega⟩
/-- and among values. -/
abbrev colV (h : Fin 4) (d : Fin 256) : Fin 2048 := ⟨1024 + (h.val * 256 + d.val), by omega⟩
/-- The queries of row `r`, head `h`. -/
def refQ (h : Fin 4) (r : Fin 8192) (d : Fin 256) : EReal := (val_main_v14 (F := Ideal) X G W : Vec Ideal Cert.XaFwdRefIdeal.S8192x2048 .f32) (ix2 r (colK h d))
/-- The scores of row `r`, head `h`. -/
def refS (h : Fin 4) (r : Fin 8192) : Fin 256 → EReal := scoreOf (refQ X G W h r) fun κ d => K (ix2 κ (colK h d))

theorem v23_at (h : Fin 4) (r : Fin 8192) (κ : Fin 256) : (val_main_v23 (F := Ideal) X G K W : Vec Ideal Cert.XaFwdRefIdeal.S4x8192x256 .f32) (ix3 h r κ) = refS X G K W h r κ := by
  unfold refS scoreOf refQ
  pointwise [val_main_v23, val_main_v22, val_main_v21, val_main_v18, val_main_v17, val_main_v16, val_main_v15, val_main_cst_2]
theorem v24_at (h : Fin 4) (r : Fin 8192) : (val_main_v24 (F := Ideal) X G K W : Vec Ideal Cert.XaFwdRefIdeal.S4x8192 .f32) (ix2 h r) = rowMax (refS X G K W h r) := by
  unfold val_main_v24 val_main_cst_3
  exact (Cert.XaBwdRefIdeal.Read.fold_max3 (n0 := 4) (n1 := 8192) (n2 := 256) (val_main_v23 (F := Ideal) X G K W) Cert.XaFwdRefIdeal.Gen.reducesTo_S4x8192x256_S4x8192_d2
    Cert.XaBwdRefIdeal.Read.hr Cert.XaFwdRefIdeal.Gen.h_S_ h r).trans (congrArg rowMax (funext (v23_at X G K W h r)))
theorem v28_at (h : Fin 4) (r : Fin 8192) (κ : Fin 256) : (val_main_v28 (F := Ideal) X G K W : Vec Ideal Cert.XaFwdRefIdeal.S4x8192x256 .f32) (ix3 h r κ) = rowExp (refS X G K W h r) κ := by
  pointwise [val_main_v28, val_main_v27, val_main_v26, val_main_v25]
  rw [v23_at, v24_at]
  rfl
theorem v29_at (h : Fin 4) (r : Fin 8192) : (val_main_v29 (F := Ideal) X G K W : Vec Ideal Cert.XaFwdRefIdeal.S4x8192 .f32) (ix2 h r) = rowSum (refS X G K W h r) := by
  have e := v28_at X G K W h r
  pointwise [val_main_v29, val_main_cst_4]
  simp only [e]
  rfl
theorem v32_at (h : Fin 4) (r : Fin 8192) (κ : Fin 256) : (val_main_v32 (F := Ideal) X G K W : Vec Ideal Cert.XaFwdRefIdeal.S4x8192x256 .f32) (ix3 h r κ) = prob (refS X G K W h r) κ := by
  pointwise [val_main_v32, val_main_v31, val_main_v30]
  rw [v28_at, v29_at]
  rfl
/-- The heads' results side by side. -/
theorem v35_at (h : Fin 4) (r : Fin 8192) (d : Fin 256) : (val_main_v35 (F := Ideal) X G K W : Vec Ideal S8192x1024 .f32) (ix2 r ⟨h.val * 256 + d.val, by omega⟩)
    = ∑ κ, prob (refS X G K W h r) κ * K (ix2 κ (colV h d)) := by
  pointwise [val_main_v35, val_main_v34, val_main_v33, val_main_v20, val_main_v19]
  refine Finset.sum_congr rfl fun κ _ => ?_
  rw [mul_comm, ← v32_at]
end reference

/-! ## A block of rows beside the rows `R` of the whole arrays -/
section rows
variable {x : Vec Ideal S512x1024 .f32} {X : Vec Ideal S8192x1024 .f32} {g : Vec Ideal S1x1024 .f32} {G : Vec Ideal S1024 .f32}
  {K : Vec Ideal S256x2048 .f32} {W : Vec Ideal S1024x2048 .bf16} {U : Vec Ideal S1024x1024 .bf16} {R : Fin 512 → Fin 8192}
  (hx : ∀ r l, x (ix2 r l) = X (ix2 (R r) l)) (hg : ∀ l, g (ix2 0 l) = G (ix1 l))

include hx hg in
theorem qg_at (r : Fin 512) (l : Fin 2048) : (k0_pay2 (F := Ideal) x g W : Vec Ideal S512x2048 .f32) (ix2 r l)
    = (val_main_v14 (F := Ideal) X G W : Vec Ideal Cert.XaFwdRefIdeal.S8192x2048 .f32) (ix2 (R r) l) := by
  pointwise [k0_pay2, val_main_v14, val_main_v13, val_main_v12, val_main_v11, val_main_v10, val_main_v9, val_main_v8, val_main_v7, val_main_v6, val_main_v5,
    val_main_v4, val_main_v3, val_main_v2, val_main_v1, val_main_v0, val_main_cst, val_main_cst_0, val_main_cst_1]
  simp only [hx, hg]

/-- Head `h` of a block, from any cut of its columns. -/
theorem head_at {qg : Vec Ideal S512x2048 .f32} (hqg : ∀ r l, qg (ix2 r l) = (val_main_v14 (F := Ideal) X G W : Vec Ideal Cert.XaFwdRefIdeal.S8192x2048 .f32) (ix2 (R r) l))
    (h : Fin 4) (n n' : ℕ) (hn : n = h.val * 256) (hn' : n' = 1024 + n) (s1 : S512x2048.Slices ![0, n] S512x256) (s2 : S256x2048.Slices ![0, n] S256x256)
    (s3 : S256x2048.Slices ![0, n'] S256x256) (r : Fin 512) (d : Fin 256) :
    result (raw (que n qg s1) (key n K s2)) (key n' K s3) (ix2 r d) = (val_main_v35 (F := Ideal) X G K W : Vec Ideal S8192x1024 .f32) (ix2 (R r) ⟨h.val * 256 + d.val, by omega⟩) := by
  rw [v35_at]
  refine result_at (Q := fun r d => refQ X G W h (R r) d) (C := fun κ d => K (ix2 κ (colK h d))) (V := fun κ d => K (ix2 κ (colV h d))) ?_ ?_ ?_ r d
  · intro r d
    exact (extractStridedSlice_apply ![0, n] qg s1 (ix2 r d) (ix2 r (colK h d)) (by intro a; fin_cases a <;> simp [ix2, colK, hn])).trans (hqg r (colK h d))
  · intro r d
    exact extractStridedSlice_apply ![0, n] K s2 (ix2 r d) (ix2 r (colK h d)) (by intro a; fin_cases a <;> simp [ix2, colK, hn])
  · intro r d
    exact extractStridedSlice_apply ![0, n'] K s3 (ix2 r d) (ix2 r (colV h d)) (by intro a; fin_cases a <;> simp [ix2, colV, hn', hn] <;> omega)

include hx in
/-- A row of the result. -/
theorem out_at {qg : Vec Ideal S512x2048 .f32} (hqg : ∀ r l, qg (ix2 r l) = (val_main_v14 (F := Ideal) X G W : Vec Ideal Cert.XaFwdRefIdeal.S8192x2048 .f32) (ix2 (R r) l))
    {o : Fin 4 → Que} (ho : ∀ h r d, o h (ix2 r d) = (val_main_v35 (F := Ideal) X G K W : Vec Ideal S8192x1024 .f32) (ix2 (R r) ⟨h.val * 256 + d.val, by omega⟩))
    (r : Fin 512) (l : Fin 1024) : (out x U qg (o 0) (o 1) (o 2) (o 3)) (ix2 r l)
      = (val_main_v41 (F := Ideal) X G K W U : Vec Ideal S8192x1024 .f32) (ix2 (R r) l) := by
  have h0 := ho 0
  have h1 := ho 1
  have h2 := ho 2
  have h3 := ho 3
  pointwise [out, val_main_v41, val_main_v40, val_main_v39, val_main_v38, val_main_v37, val_main_v36, val_main_call0_v5, val_main_call0_v4, val_main_call0_v3, val_main_call0_v2,
    val_main_call0_v1, val_main_call0_v0, val_main_call0_cst, val_main_call0_cst_0]
  simp only [hx, hqg]
  refine congrArg _ (Finset.sum_congr rfl fun j _ => congrArg (· * _) (congrArg₂ (· * ·) ?_ rfl))
  have hj := j.isLt
  rcases (by omega : j.val < 256 ∨ (¬ j.val < 256 ∧ j.val - 256 < 256) ∨ (¬ j.val < 256 ∧ ¬ j.val - 256 < 256 ∧ j.val - 256 - 256 < 256)
    ∨ (¬ j.val < 256 ∧ ¬ j.val - 256 < 256 ∧ ¬ j.val - 256 - 256 < 256)) with h | ⟨h, h'⟩ | ⟨h, h', h''⟩ | ⟨h, h', h''⟩
  · rw [dif_pos h, h0]
    exact congrArg (fun l => (val_main_v35 (F := Ideal) X G K W : Vec Ideal S8192x1024 .f32) (ix2 (R r) l)) (Fin.ext (by simp <;> omega))
  · rw [dif_neg h, dif_pos h', h1]
    exact congrArg (fun l => (val_main_v35 (F := Ideal) X G K W : Vec Ideal S8192x1024 .f32) (ix2 (R r) l)) (Fin.ext (by simp <;> omega))
  · rw [dif_neg h, dif_neg h', dif_pos h'', h2]
    exact congrArg (fun l => (val_main_v35 (F := Ideal) X G K W : Vec Ideal S8192x1024 .f32) (ix2 (R r) l)) (Fin.ext (by simp <;> omega))
  · rw [dif_neg h, dif_neg h', dif_neg h'', h3]
    exact congrArg (fun l => (val_main_v35 (F := Ideal) X G K W : Vec Ideal S8192x1024 .f32) (ix2 (R r) l)) (Fin.ext (by simp <;> omega))

/-- The block's result in the payloads' own words. -/
def block (x : Vec Ideal S512x1024 .f32) (g : Vec Ideal S1x1024 .f32) (K : Vec Ideal S256x2048 .f32) (W : Vec Ideal S1024x2048 .bf16) (U : Vec Ideal S1024x1024 .bf16) : FVec Ideal S512x1024 .f32 :=
  k0_pay1 x U (k0_pay2 x g W) (k0_pay5 (k0_pay3 K) (k0_pay4 x g K W)) (k0_pay6 K (k0_pay2 x g W)) (k0_pay7 K (k0_pay2 x g W)) (k0_pay8 K) (k0_pay9 K (k0_pay2 x g W))

include hx hg in
theorem block_at (r : Fin 512) (l : Fin 1024) : (block x g K W U) (ix2 r l) = (val_main_v41 (F := Ideal) X G K W U : Vec Ideal S8192x1024 .f32) (ix2 (R r) l) := by
  have hq := qg_at (W := W) hx hg
  unfold block
  rw [head3, head0, head1, head2]
  refine out_at (R := R) hx hq (o := ![_, _, _, _]) ?_ r l
  intro h r d
  fin_cases h
  · exact head_at hq 0 0 1024 rfl rfl _ _ _ r d
  · exact head_at hq 1 256 1280 rfl rfl _ _ _ r d
  · exact head_at hq 2 512 1536 rfl rfl _ _ _ r d
  · exact head_at hq 3 768 1792 rfl rfl _ _ _ r d
end rows

/-! ## The run -/
variable (m : (ℓ : Loc nD τ sig) → Buf (Elt Ideal) ℓ) (c : Dev nD)

abbrev a0 : Vec Ideal S8192x1024 .f32 := m ((c : Thread nD τ).loc main_arg0)
abbrev a1 : Vec Ideal S1024 .f32 := m ((c : Thread nD τ).loc main_arg1)
abbrev a2 : Vec Ideal S256x2048 .f32 := m ((c : Thread nD τ).loc main_arg2)
abbrev a3 : Vec Ideal S1024x2048 .bf16 := m ((c : Thread nD τ).loc main_arg3)
abbrev a4 : Vec Ideal S1024x1024 .bf16 := m ((c : Thread nD τ).loc main_arg4)

theorem idx : ∀ t : Fin cfg0.N, (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0) ∧ (win0_4.index t 0 = 0 ∧ win0_4.index t 1 = 0)
    ∧ (win0_5.index t 0 = t.val ∧ win0_5.index t 1 = 0) :=
  (by decide +kernel : ∀ t : Fin grid0.N, _)

/-- The rows of point `t`. -/
def row (t : Fin cfg0.N) (r : Fin 512) : Fin 8192 := ⟨t.val * 512 + r.val, by have : t.val < 16 := N_0 ▸ t.isLt; omega⟩

theorem blk0 (t : Fin cfg0.N) (r : Fin 512) (l : Fin 1024) : (iblk m c 0 t : Vec Ideal S512x1024 .f32) (ix2 r l) = a0 m c (ix2 (row t r) l) := by
  unfold row
  blk_point [iblk, V, idx t]
theorem gain (l : Fin 1024) : (V m c main_v0 : Vec Ideal S1x1024 .f32) (ix2 0 l) = a1 m c (ix1 l) := by
  unfold V
  after_reads_at
theorem blk1 (t : Fin cfg0.N) (l : Fin 1024) : (iblk m c 1 t : Vec Ideal S1x1024 .f32) (ix2 0 l) = a1 m c (ix1 l) := by
  rw [← gain]
  blk_point [iblk, idx t]
theorem blk2 (t : Fin cfg0.N) : (iblk m c 2 t : Vec Ideal S256x2048 .f32) = a2 m c := by
  funext i
  rw [eq_ix2 i]
  blk_point [iblk, V, idx t]
theorem blk3 (t : Fin cfg0.N) : (iblk m c 3 t : Vec Ideal S1024x2048 .bf16) = a3 m c := by
  funext i
  rw [eq_ix2 i]
  blk_point [iblk, V, idx t]
theorem blk4 (t : Fin cfg0.N) : (iblk m c 4 t : Vec Ideal S1024x1024 .bf16) = a4 m c := by
  funext i
  rw [eq_ix2 i]
  blk_point [iblk, V, idx t]

theorem afterRows (t : Fin cfg0.N) : (dats m 0 c).after 5 t = block (iblk m c 0 t) (iblk m c 1 t) (iblk m c 2 t) (iblk m c 3 t) (iblk m c 4 t) := by
  rw [after0_5]
  unfold block
  unfold_out out0_5
  frame_out

theorem rowAt (t : Fin cfg0.N) (j : S512x1024.Idx) (i : S8192x1024.Idx) (h0 : (i 0).val = t.val * 512 + (j 0).val) (h1 : (i 1).val = (j 1).val) :
    (block (iblk m c 0 t) (iblk m c 1 t) (iblk m c 2 t) (iblk m c 3 t) (iblk m c 4 t)) j
      = (val_main_v41 (F := Ideal) (a0 m c) (a1 m c) (a2 m c) (a3 m c) (a4 m c) : Vec Ideal S8192x1024 .f32) i := by
  rw [blk2, blk3, blk4, eq_ix2 j, eq_ix2 i, block_at (R := row t) (blk0 m c t) (blk1 m c t) (j 0) (j 1), ← show row t (j 0) = i 0 from Fin.ext h0.symm,
    show i 1 = j 1 from Fin.ext h1]

theorem rowsEnd : (dats m 0 c).arrAt 5 cfg0.N = val_main_v41 (F := Ideal) (a0 m c) (a1 m c) (a2 m c) (a3 m c) (a4 m c) := by
  refine (dats m 0 c).arrAt_eq_of_covers 5 _ (by decide +kernel) fun t hf y => ?_
  rw [afterRows]
  exact rowAt m c t _ _ (by show win0_5.index t 0 * 512 + 1 * (y 0).val = t.val * 512 + (y 0).val; rw [(idx t).2.2.2.2.2.1]; omega)
    (by show win0_5.index t 1 * 1024 + 1 * (y 1).val = (y 1).val; rw [(idx t).2.2.2.2.2.2]; omega)

end Cert.XaFwdIdeal.Value

end
-- ==== Proof.XaFwdTie.lean ====
/-
  The cross attention against its reference: the kernel's result is the
  reference's, and no condition is put on the arguments.
-/
module

public import proofs.«01_k».proof.Defs
public import proofs.«01_k».proof.Proof.XaFwdKernel
public import proofs.«01_k».proof.Proof.Gen.XaFwdRefIdeal.Run

@[expose] public section

set_option maxRecDepth 16384

noncomputable section

namespace XaFwdTie

open Idealize.ShloMosaic Idealize.SL.Sem Cert.XaFwdIdeal.Value Cert.XaFwdRefIdeal.Read

theorem value : Cert.algebraic_XaFwdIdeal_XaFwdRefIdeal (hXaFwdIdeal := Cert.XaFwdIdeal.Gen.facts) (hXaFwdRefIdeal := Cert.XaFwdRefIdeal.Gen.facts) := by
  intro m g m' g' _ hm
  refine ⟨fun c => val_main_v41 (F := Ideal) (a0 m c) (a1 m c) (a2 m c) (a3 m c) (a4 m c),
    (θ_run _ _ _).mono (fun r h c => ?_) (run_blocks m g),
    (θ_run _ _ _).mono (fun r h c => ?_) (Cert.XaFwdRefIdeal.Value.run m' g')⟩
  · obtain ⟨r0, kept⟩ := h c
    exact ⟨r0.trans (rowsEnd m c), kept⟩
  · obtain ⟨r0, kept⟩ := h c
    obtain ⟨e0, e1, e2, e3, e4⟩ := hm c
    refine ⟨r0.trans ((val_main_v41_eq m' c).trans ?_), kept⟩
    · rw [e0, e1, e2, e3, e4]

end XaFwdTie
end
-- ==== Proof.EvOutFwdKernel.lean ====
/-
  The even layers' gated mix against its reference: gelu and gate of the recurrence, norm and gates of the convolution, their
  product with the output weights and the residual. Each point of the kernel's grid leaves its rows of the result.
-/
module

public import proofs.«01_k».proof.Proof.Gen.EvOutFwdIdeal.Value
public import proofs.«01_k».proof.Proof.Gen.EvOutFwdRefIdeal.Read
public import Idealize.ShloMosaic.Lib.Pipeline.ValueKit
public import Idealize.ShloMosaic.Lib.Pointwise
public import Idealize.ShloMosaic.Lib.StableHlo.ReadAt

@[expose] public section

set_option maxRecDepth 16384

noncomputable section

namespace Cert.EvOutFwdIdeal.Value

open Idealize.ShloMosaic Idealize.ShloMosaic.TcCoe Idealize.SL.Sem Cert.EvOutFwdIdeal Cert.EvOutFwdIdeal.Gen
open Cert.EvOutFwdRefIdeal.Read

/-! ## The two halves of the mix, as functions of a block -/
section halves
/-- The recurrence's half: gelu, its own gate and the branch's gate. -/
def left (z q h : FVec Ideal S512x512 .f32) (b : FVec Ideal S1x512 .f32) (A : FVec Ideal S512x512 .bf16) : FVec Ideal S512x512 .f32 :=
  have n : FVec Ideal S512x512 .f32 := mulf q h
  mulf (mulf n (logistic (addf (addf (matmul dot_S512x512_S512x512_S512x512_1_0_0_1_n_n none (truncf .bf16 n bitsLt_bf16_f32) A (constant S512x512 .f32 0x00000000#32))
    (broadcastTo S512x512 b broadcasts_S1x512_S512x512)) (broadcast S512x512 (Scalar.ofBits (F := Ideal) .f32 0x00000000#32))))) (mulf z (logistic z))
/-- A column of 512's. -/
def many : FVec Ideal S512x1 .f32 := broadcast S512x1 (Scalar.ofBits (F := Ideal) .f32 0x44000000#32)
/-- The convolution less its mean. -/
def dev (c : FVec Ideal S512x512 .f32) : FVec Ideal S512x512 .f32 :=
  subf c (broadcastTo S512x512 (divf (F := Ideal) (shapeCast S512x1 (multiReduction (F := Ideal) .add [1] S512 c 0x00000000#32 reduces_S512x512_S512 (.inl rfl) rfl) shapeCasts_S512_S512x1) many) broadcasts_S512x1_S512x512)
/-- The convolution's norm. -/
def normed (c : FVec Ideal S512x512 .f32) (g e : FVec Ideal S1x512 .f32) : FVec Ideal S512x512 .f32 :=
  addf (mulf (mulf (dev c) (broadcastTo S512x512 (rsqrt (F := Ideal) (addf (divf (F := Ideal) (shapeCast S512x1 (multiReduction (F := Ideal) .add [1] S512 (mulf (dev c) (dev c)) 0x00000000#32 reduces_S512x512_S512 (.inl rfl) rfl)
    shapeCasts_S512_S512x1) many) (broadcast S512x1 (Scalar.ofBits (F := Ideal) .f32 0x358637BD#32)))) broadcasts_S512x1_S512x512))
    (broadcastTo S512x512 g broadcasts_S1x512_S512x512)) (broadcastTo S512x512 e broadcasts_S1x512_S512x512)
/-- The convolution's half: the norm and both gates. -/
def right (c w : FVec Ideal S512x512 .f32) (g e : FVec Ideal S1x512 .f32) : FVec Ideal S512x512 .f32 :=
  mulf (mulf (normed c g e) (logistic (normed c g e))) (mulf w (logistic w))
/-- The halves through the output product, and the residual. -/
def out (x : FVec Ideal S512x1024 .f32) (p q : FVec Ideal S512x512 .f32) (O : FVec Ideal S1024x1024 .bf16) : FVec Ideal S512x1024 .f32 :=
  addf x (matmul dot_S512x1024_S1024x1024_S512x1024_1_0_0_1_n_n none (truncf .bf16 (concatenate S512x1024 1 [⟨S512x512, p⟩, ⟨S512x512, q⟩] concatenates_S512x512_S512x512_S512x1024_d1) bitsLt_bf16_f32)
    O (constant S512x1024 .f32 0x00000000#32))
theorem pay1_eq (x : Vec Ideal S512x1024 .f32) (c z w : Vec Ideal S512x512 .f32) (q : FVec Ideal S512x512 .f32) (b g e : FVec Ideal S1x512 .f32) (A : Vec Ideal S512x512 .bf16) (O : Vec Ideal S1024x1024 .bf16)
    (h : FVec Ideal S512x512 .f32) : k0_pay1 (F := Ideal) x c z w q b g e A O h = out x (left z q h b A) (right c w g e) O := rfl
end halves

/-! ## A block of rows beside the rows `R` of the whole arrays -/
section rows
variable {X : Vec Ideal S8192x1024 .f32} {Y0 Y1 Y2 Y3 : Vec Ideal S8192x128 .f32} {C : Vec Ideal S8192x512 .f32} {Z : Vec Ideal S8192x2560 .f32} {b g e : Vec Ideal S512 .f32}
  {A : Vec Ideal S512x512 .bf16} {O : Vec Ideal S1024x1024 .bf16} {R : Fin 512 → Fin 8192}
  {x : Vec Ideal S512x1024 .f32} {y0 y1 y2 y3 : Vec Ideal S512x128 .f32} {c z w : Vec Ideal S512x512 .f32} {b' g' e' : Vec Ideal S1x512 .f32}
  (hx : ∀ r l, x (ix2 r l) = X (ix2 (R r) l)) (h0 : ∀ r l, y0 (ix2 r l) = Y0 (ix2 (R r) l)) (h1 : ∀ r l, y1 (ix2 r l) = Y1 (ix2 (R r) l))
  (h2 : ∀ r l, y2 (ix2 r l) = Y2 (ix2 (R r) l)) (h3 : ∀ r l, y3 (ix2 r l) = Y3 (ix2 (R r) l)) (hc : ∀ r l, c (ix2 r l) = C (ix2 (R r) l))
  (hz : ∀ r (l : Fin 512), z (ix2 r l) = (val_main_v0 (F := Ideal) Z : Vec Ideal S8192x512 .f32) (ix2 (R r) l)) (hw : ∀ r (l : Fin 512), w (ix2 r l) = (val_main_v1 (F := Ideal) Z : Vec Ideal S8192x512 .f32) (ix2 (R r) l))
  (hb : ∀ l, b' (ix2 0 l) = b (ix1 l)) (hg : ∀ l, g' (ix2 0 l) = g (ix1 l)) (he : ∀ l, e' (ix2 0 l) = e (ix1 l))
include h0 h1 h2 h3 in
theorem cat_at (r l : Fin 512) : (k0_pay2 (F := Ideal) y0 y1 y2 y3 : Vec Ideal S512x512 .f32) (ix2 r l) = (val_main_v2 (F := Ideal) Y0 Y1 Y2 Y3 : Vec Ideal Cert.EvOutFwdRefIdeal.S8192x512 .f32) (ix2 (R r) l) := by
  pointwise [k0_pay2, val_main_v2]
  simp only [h0, h1, h2, h3]

include h0 h1 h2 h3 in
theorem half_at (r l : Fin 512) : (k0_pay6 (F := Ideal) y0 y1 y2 y3 : Vec Ideal S512x512 .f32) (ix2 r l) = (val_main_v14 (F := Ideal) Y0 Y1 Y2 Y3 : Vec Ideal Cert.EvOutFwdRefIdeal.S8192x512 .f32) (ix2 (R r) l) := by
  have hq := cat_at h0 h1 h2 h3
  pointwise [k0_pay6, val_main_v14, val_main_v13, val_main_v12, val_main_v11, val_main_v10, val_main_v9, val_main_v8, val_main_v7, val_main_v6, val_main_v5, val_main_v4, val_main_v3,
    val_main_cst, val_main_cst_0, val_main_cst_1, val_main_cst_2]
  simp only [hq, mul_assoc]

include hz hb in
theorem left_at {q h : Vec Ideal S512x512 .f32} (hq : ∀ r (l : Fin 512), q (ix2 r l) = (val_main_v2 (F := Ideal) Y0 Y1 Y2 Y3 : Vec Ideal Cert.EvOutFwdRefIdeal.S8192x512 .f32) (ix2 (R r) l))
    (hh : ∀ r (l : Fin 512), h (ix2 r l) = (val_main_v14 (F := Ideal) Y0 Y1 Y2 Y3 : Vec Ideal Cert.EvOutFwdRefIdeal.S8192x512 .f32) (ix2 (R r) l)) (r l : Fin 512) :
    (left z q h (k0_pay3 b') A) (ix2 r l) = (val_main_v29 (F := Ideal) Y0 Y1 Y2 Y3 Z b A : Vec Ideal Cert.EvOutFwdRefIdeal.S8192x512 .f32) (ix2 (R r) l) := by
  pointwise [left, k0_pay3, val_main_v29, val_main_v28, val_main_call0_v5, val_main_call0_v4, val_main_call0_v3, val_main_call0_v2, val_main_call0_v1, val_main_call0_v0,
    val_main_call0_cst, val_main_call0_cst_0, val_main_v27, val_main_v26, val_main_v25, val_main_v24, val_main_v23, val_main_v22, val_main_v21, val_main_v20, val_main_v19, val_main_v18,
    val_main_v17, val_main_v16, val_main_v15, val_main_cst_3, val_main_cst_4]
  simp only [hq, hh, hz, hb, add_zero]
  rfl

include hc in
theorem dev_at (r l : Fin 512) : (dev c) (ix2 r l) = (val_main_v35 (F := Ideal) C : Vec Ideal Cert.EvOutFwdRefIdeal.S8192x512 .f32) (ix2 (R r) l) := by
  pointwise [dev, many, val_main_v35, val_main_v34, val_main_v33, val_main_v32, val_main_v31, val_main_v30, val_main_cst_5, val_main_cst_6]
  simp only [hc]

theorem v42_eq : val_main_v42 (F := Ideal) C = val_main_v35 (F := Ideal) C := rfl

include hc hg he in
theorem normed_at (r l : Fin 512) : (normed c (k0_pay4 g') (k0_pay5 e')) (ix2 r l) = (val_main_v53 (F := Ideal) C g e : Vec Ideal Cert.EvOutFwdRefIdeal.S8192x512 .f32) (ix2 (R r) l) := by
  have hd := dev_at hc
  pointwise [normed, many, k0_pay4, k0_pay5, val_main_v53, val_main_v52, val_main_v51, val_main_v50, val_main_v49, val_main_v48, val_main_v47, val_main_v46, val_main_v45, val_main_v44,
    val_main_v43, v42_eq, val_main_v40, val_main_v39, val_main_v38, val_main_v37, val_main_v36, val_main_cst_7, val_main_cst_8, val_main_cst_9]
  simp only [hd, hg, he]

include hc hw hg he in
theorem right_at (r l : Fin 512) : (right c w (k0_pay4 g') (k0_pay5 e')) (ix2 r l) = (val_main_v56 (F := Ideal) C Z g e : Vec Ideal Cert.EvOutFwdRefIdeal.S8192x512 .f32) (ix2 (R r) l) := by
  have hn := normed_at hc hg he
  pointwise [right, val_main_v56, val_main_v55, val_main_v54, val_main_call1_v5, val_main_call1_v4, val_main_call1_v3, val_main_call1_v2, val_main_call1_v1, val_main_call1_v0,
    val_main_call1_cst, val_main_call1_cst_0, val_main_call2_v5, val_main_call2_v4, val_main_call2_v3, val_main_call2_v2, val_main_call2_v1, val_main_call2_v0, val_main_call2_cst, val_main_call2_cst_0]
  simp only [hn, hw]
  rfl

include hx in
theorem out_at {p q : Vec Ideal S512x512 .f32} (hp : ∀ r (l : Fin 512), p (ix2 r l) = (val_main_v29 (F := Ideal) Y0 Y1 Y2 Y3 Z b A : Vec Ideal Cert.EvOutFwdRefIdeal.S8192x512 .f32) (ix2 (R r) l))
    (hq : ∀ r (l : Fin 512), q (ix2 r l) = (val_main_v56 (F := Ideal) C Z g e : Vec Ideal Cert.EvOutFwdRefIdeal.S8192x512 .f32) (ix2 (R r) l)) (r : Fin 512) (l : Fin 1024) :
    (out x p q O) (ix2 r l) = (val_main_v60 (F := Ideal) X Y0 Y1 Y2 Y3 C Z b g e A O : Vec Ideal S8192x1024 .f32) (ix2 (R r) l) := by
  pointwise [out, val_main_v60, val_main_v59, val_main_v58, val_main_v57]
  simp only [hx, hp, hq]

/-- The block's result in the payloads' own words. -/
def block (x : Vec Ideal S512x1024 .f32) (c z w : Vec Ideal S512x512 .f32) (y0 y1 y2 y3 : Vec Ideal S512x128 .f32) (b' g' e' : Vec Ideal S1x512 .f32) (A : Vec Ideal S512x512 .bf16)
    (O : Vec Ideal S1024x1024 .bf16) : FVec Ideal S512x1024 .f32 :=
  k0_pay1 x c z w (k0_pay2 y0 y1 y2 y3) (k0_pay3 b') (k0_pay4 g') (k0_pay5 e') A O (k0_pay6 y0 y1 y2 y3)

include hx h0 h1 h2 h3 hc hz hw hb hg he in
theorem block_at (r : Fin 512) (l : Fin 1024) : (block x c z w y0 y1 y2 y3 b' g' e' A O) (ix2 r l)
    = (val_main_v60 (F := Ideal) X Y0 Y1 Y2 Y3 C Z b g e A O : Vec Ideal S8192x1024 .f32) (ix2 (R r) l) := by
  unfold block
  rw [pay1_eq]
  exact out_at hx (left_at hz hb (cat_at h0 h1 h2 h3) (half_at h0 h1 h2 h3)) (right_at hc hw hg he) r l
end rows

/-! ## The run -/
variable (m : (ℓ : Loc nD τ sig) → Buf (Elt Ideal) ℓ) (c : Dev nD)

abbrev a0 : Vec Ideal S8192x1024 .f32 := m ((c : Thread nD τ).loc main_arg0)
abbrev a1 : Vec Ideal S8192x128 .f32 := m ((c : Thread nD τ).loc main_arg1)
abbrev a2 : Vec Ideal S8192x128 .f32 := m ((c : Thread nD τ).loc main_arg2)
abbrev a3 : Vec Ideal S8192x128 .f32 := m ((c : Thread nD τ).loc main_arg3)
abbrev a4 : Vec Ideal S8192x128 .f32 := m ((c : Thread nD τ).loc main_arg4)
abbrev a5 : Vec Ideal S8192x512 .f32 := m ((c : Thread nD τ).loc main_arg5)
abbrev a6 : Vec Ideal S8192x2560 .f32 := m ((c : Thread nD τ).loc main_arg6)
abbrev a7 : Vec Ideal S512 .f32 := m ((c : Thread nD τ).loc main_arg7)
abbrev a8 : Vec Ideal S512 .f32 := m ((c : Thread nD τ).loc main_arg8)
abbrev a9 : Vec Ideal S512 .f32 := m ((c : Thread nD τ).loc main_arg9)
abbrev a10 : Vec Ideal S512x512 .bf16 := m ((c : Thread nD τ).loc main_arg10)
abbrev a11 : Vec Ideal S1024x1024 .bf16 := m ((c : Thread nD τ).loc main_arg11)

theorem idx : ∀ t : Fin cfg0.N, (win0_0.index t 0 = t.val ∧ win0_0.index t 1 = 0)
    ∧ (win0_1.index t 0 = t.val ∧ win0_1.index t 1 = 0)
    ∧ (win0_2.index t 0 = t.val ∧ win0_2.index t 1 = 1)
    ∧ (win0_3.index t 0 = t.val ∧ win0_3.index t 1 = 4)
    ∧ (win0_4.index t 0 = t.val ∧ win0_4.index t 1 = 0)
    ∧ (win0_5.index t 0 = t.val ∧ win0_5.index t 1 = 0)
    ∧ (win0_6.index t 0 = t.val ∧ win0_6.index t 1 = 0)
    ∧ (win0_7.index t 0 = t.val ∧ win0_7.index t 1 = 0)
    ∧ (win0_8.index t 0 = 0 ∧ win0_8.index t 1 = 0)
    ∧ (win0_9.index t 0 = 0 ∧ win0_9.index t 1 = 0)
    ∧ (win0_10.index t 0 = 0 ∧ win0_10.index t 1 = 0)
    ∧ (win0_11.index t 0 = 0 ∧ win0_11.index t 1 = 0)
    ∧ (win0_12.index t 0 = 0 ∧ win0_12.index t 1 = 0)
    ∧ (win0_13.index t 0 = t.val ∧ win0_13.index t 1 = 0) :=
  (by decide +kernel : ∀ t : Fin grid0.N, _)

/-- The rows of point `t`. -/
def row (t : Fin cfg0.N) (r : Fin 512) : Fin 8192 := ⟨t.val * 512 + r.val, by have := t.isLt; have : t.val < 16 := N_0 ▸ t.isLt; omega⟩

theorem blk0 (t : Fin cfg0.N) (r : Fin 512) (l : Fin 1024) : (iblk m c 0 t : Vec Ideal S512x1024 .f32) (ix2 r l) = a0 m c (ix2 (row t r) l) := by
  unfold row
  blk_point [iblk, V, idx t]
theorem blk1 (t : Fin cfg0.N) (r : Fin 512) (l : Fin 512) : (iblk m c 1 t : Vec Ideal S512x512 .f32) (ix2 r l) = a5 m c (ix2 (row t r) l) := by
  unfold row
  blk_point [iblk, V, idx t]
theorem blk4 (t : Fin cfg0.N) (r : Fin 512) (l : Fin 128) : (iblk m c 4 t : Vec Ideal S512x128 .f32) (ix2 r l) = a1 m c (ix2 (row t r) l) := by
  unfold row
  blk_point [iblk, V, idx t]
theorem blk5 (t : Fin cfg0.N) (r : Fin 512) (l : Fin 128) : (iblk m c 5 t : Vec Ideal S512x128 .f32) (ix2 r l) = a2 m c (ix2 (row t r) l) := by
  unfold row
  blk_point [iblk, V, idx t]
theorem blk6 (t : Fin cfg0.N) (r : Fin 512) (l : Fin 128) : (iblk m c 6 t : Vec Ideal S512x128 .f32) (ix2 r l) = a3 m c (ix2 (row t r) l) := by
  unfold row
  blk_point [iblk, V, idx t]
theorem blk7 (t : Fin cfg0.N) (r : Fin 512) (l : Fin 128) : (iblk m c 7 t : Vec Ideal S512x128 .f32) (ix2 r l) = a4 m c (ix2 (row t r) l) := by
  unfold row
  blk_point [iblk, V, idx t]
theorem blk2 (t : Fin cfg0.N) (r : Fin 512) (l : Fin 512) : (iblk m c 2 t : Vec Ideal S512x512 .f32) (ix2 r l) = (val_main_v0 (F := Ideal) (a6 m c) : Vec Ideal S8192x512 .f32) (ix2 (row t r) l) := by
  pointwise [val_main_v0]
  unfold row
  blk_point [iblk, V, idx t]
theorem blk3 (t : Fin cfg0.N) (r : Fin 512) (l : Fin 512) : (iblk m c 3 t : Vec Ideal S512x512 .f32) (ix2 r l) = (val_main_v1 (F := Ideal) (a6 m c) : Vec Ideal S8192x512 .f32) (ix2 (row t r) l) := by
  pointwise [val_main_v1]
  unfold row
  blk_point [iblk, V, idx t]
theorem vec8 (l : Fin 512) : (V m c main_v0 : Vec Ideal S1x512 .f32) (ix2 0 l) = a7 m c (ix1 l) := by
  unfold V
  after_reads_at
theorem blk8 (t : Fin cfg0.N) (l : Fin 512) : (iblk m c 8 t : Vec Ideal S1x512 .f32) (ix2 0 l) = a7 m c (ix1 l) := by
  rw [← vec8]
  blk_point [iblk, idx t]
theorem vec9 (l : Fin 512) : (V m c main_v1 : Vec Ideal S1x512 .f32) (ix2 0 l) = a8 m c (ix1 l) := by
  unfold V
  after_reads_at
theorem blk9 (t : Fin cfg0.N) (l : Fin 512) : (iblk m c 9 t : Vec Ideal S1x512 .f32) (ix2 0 l) = a8 m c (ix1 l) := by
  rw [← vec9]
  blk_point [iblk, idx t]
theorem vec10 (l : Fin 512) : (V m c main_v2 : Vec Ideal S1x512 .f32) (ix2 0 l) = a9 m c (ix1 l) := by
  unfold V
  after_reads_at
theorem blk10 (t : Fin cfg0.N) (l : Fin 512) : (iblk m c 10 t : Vec Ideal S1x512 .f32) (ix2 0 l) = a9 m c (ix1 l) := by
  rw [← vec10]
  blk_point [iblk, idx t]
theorem blk11 (t : Fin cfg0.N) : (iblk m c 11 t : Vec Ideal S512x512 .bf16) = a10 m c := by
  funext i
  rw [eq_ix2 i]
  blk_point [iblk, V, idx t]
theorem blk12 (t : Fin cfg0.N) : (iblk m c 12 t : Vec Ideal S1024x1024 .bf16) = a11 m c := by
  funext i
  rw [eq_ix2 i]
  blk_point [iblk, V, idx t]

theorem afterRows (t : Fin cfg0.N) : (dats m 0 c).after 13 t = block (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by
  rw [after0_13]
  unfold block
  frame_out

theorem rowAt (t : Fin cfg0.N) (j : S512x1024.Idx) (i : S8192x1024.Idx) (h0 : (i 0).val = t.val * 512 + (j 0).val) (h1 : (i 1).val = (j 1).val) :
    (block (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) j
      = (val_main_v60 (F := Ideal) (a0 m c) (a1 m c) (a2 m c) (a3 m c) (a4 m c) (a5 m c) (a6 m c) (a7 m c) (a8 m c) (a9 m c) (a10 m c) (a11 m c) : Vec Ideal S8192x1024 .f32) i := by
  rw [blk11, blk12, eq_ix2 j, eq_ix2 i, block_at (R := row t) (blk0 m c t) (blk4 m c t) (blk5 m c t) (blk6 m c t) (blk7 m c t) (blk1 m c t) (blk2 m c t) (blk3 m c t)
    (blk8 m c t) (blk9 m c t) (blk10 m c t) (j 0) (j 1), ← show row t (j 0) = i 0 from Fin.ext h0.symm, show i 1 = j 1 from Fin.ext h1]

theorem rowsEnd : (dats m 0 c).arrAt 13 cfg0.N = val_main_v60 (F := Ideal) (a0 m c) (a1 m c) (a2 m c) (a3 m c) (a4 m c) (a5 m c) (a6 m c) (a7 m c) (a8 m c) (a9 m c) (a10 m c) (a11 m c) := by
  refine (dats m 0 c).arrAt_eq_of_covers 13 _ (by decide +kernel) fun t hf y => ?_
  rw [afterRows]
  exact rowAt m c t _ _ (by show win0_13.index t 0 * 512 + 1 * (y 0).val = t.val * 512 + (y 0).val; rw [(idx t).2.2.2.2.2.2.2.2.2.2.2.2.2.1]; omega)
    (by show win0_13.index t 1 * 1024 + 1 * (y 1).val = (y 1).val; rw [(idx t).2.2.2.2.2.2.2.2.2.2.2.2.2.2]; omega)

end Cert.EvOutFwdIdeal.Value

end
-- ==== Proof.EvOutFwdTie.lean ====
/-
  The even layers' gated mix against its reference: the kernel's result is the
  reference's, and no condition is put on the arguments.
-/
module

public import proofs.«01_k».proof.Defs
public import proofs.«01_k».proof.Proof.EvOutFwdKernel
public import proofs.«01_k».proof.Proof.Gen.EvOutFwdRefIdeal.Run

@[expose] public section

set_option maxRecDepth 16384

noncomputable section

namespace EvOutFwdTie

open Idealize.ShloMosaic Idealize.SL.Sem Cert.EvOutFwdIdeal.Value Cert.EvOutFwdRefIdeal.Read

theorem value : Cert.algebraic_EvOutFwdIdeal_EvOutFwdRefIdeal (hEvOutFwdIdeal := Cert.EvOutFwdIdeal.Gen.facts) (hEvOutFwdRefIdeal := Cert.EvOutFwdRefIdeal.Gen.facts) := by
  intro m g m' g' _ hm
  refine ⟨fun c => val_main_v60 (F := Ideal) (a0 m c) (a1 m c) (a2 m c) (a3 m c) (a4 m c) (a5 m c) (a6 m c) (a7 m c) (a8 m c) (a9 m c) (a10 m c) (a11 m c),
    (θ_run _ _ _).mono (fun r h c => ?_) (run_blocks m g),
    (θ_run _ _ _).mono (fun r h c => ?_) (Cert.EvOutFwdRefIdeal.Value.run m' g')⟩
  · obtain ⟨r0, kept⟩ := h c
    exact ⟨r0.trans (rowsEnd m c), kept⟩
  · obtain ⟨r0, kept⟩ := h c
    obtain ⟨e0, e1, e2, e3, e4, e5, e6, e7, e8, e9, e10, e11⟩ := hm c
    refine ⟨r0.trans ((val_main_v60_eq m' c).trans ?_), kept⟩
    · rw [e0, e1, e2, e3, e4, e5, e6, e7, e8, e9, e10, e11]

end EvOutFwdTie
end
-- ==== Proof.S5DiscFwdKernel.lean ====
/-
  The recurrence's discretisation: each of the kernel's lines is the reference's line of the same quantity, and so are the four
  arrays the kernel leaves. The grid has one point, which holds every array whole.
-/
module

public import proofs.«01_k».proof.Proof.Gen.S5DiscFwdIdeal.Value
public import proofs.«01_k».proof.Proof.Gen.S5DiscFwdRefIdeal.Read
public import Idealize.ShloMosaic.Lib.Pipeline.ValueKit
public import Idealize.ShloMosaic.Lib.Pointwise
public import Idealize.ShloMosaic.Lib.StableHlo.ReadAt

@[expose] public section

set_option maxRecDepth 16384

noncomputable section

namespace Cert.S5DiscFwdIdeal.Value

open Idealize.ShloMosaic Idealize.ShloMosaic.TcCoe Idealize.SL.Sem Cert.S5DiscFwdIdeal Cert.S5DiscFwdIdeal.Gen
open Cert.S5DiscFwdRefIdeal.Read

/-- A column of the step sizes' logarithms, as the host hands it over. -/
def col (E : Vec Ideal S32 .f32) : Vec Ideal S32x1 .f32 := shapeCast S32x1 E shapeCasts_S32_S32x1
/-- The matrices of the 32 groups under one another, as the host hands them over. -/
def stack (B : Vec Ideal S32x64x16 .f32) : Vec Ideal S512x64 .f32 :=
  shapeCast S512x64 (transpose S32x16x64 [0, 2, 1] B transposes_S32x64x16_S32x16x64_0_2_1) shapeCasts_S32x16x64_S512x64

variable {x0 x1 : Vec Ideal S32x64 .f32} {E : Vec Ideal S32 .f32} {B3 B4 : Vec Ideal S32x64x16 .f32}

/-- The real parts of the transition. -/
theorem abRe_eq : (k0_pay5 (F := Ideal) x0 x1 (col E) : Vec Ideal S32x64 .f32) = val_main_v8 (F := Ideal) x0 x1 E := by
  funext i
  rw [eq_ix2 i]
  pointwise [k0_pay5, k0_pay4, k0_pay3, val_main_v8, val_main_v4, val_main_v3, val_main_v2, val_main_v7, val_main_v6, val_main_v5, val_main_v1, val_main_v0, col]

/-- The imaginary parts of the transition. -/
theorem abIm_eq : (k0_pay6 (F := Ideal) x0 x1 (col E) : Vec Ideal S32x64 .f32) = val_main_v12 (F := Ideal) x0 x1 E := by
  funext i
  rw [eq_ix2 i]
  pointwise [k0_pay6, k0_pay4, k0_pay3, val_main_v12, val_main_v4, val_main_v3, val_main_v2, val_main_v11, val_main_v10, val_main_v9, val_main_v1, val_main_v0, col]

/-- The squared modulus of λ. -/
theorem den_eq : (k0_pay7 (F := Ideal) x0 x1 : Vec Ideal S32x64 .f32) = val_main_v15 (F := Ideal) x0 x1 := by
  funext i
  rw [eq_ix2 i]
  pointwise [k0_pay7, val_main_v15, val_main_v14, val_main_v13]

theorem nr_eq : (k0_pay8 (F := Ideal) x0 x1 (col E) : Vec Ideal S32x64 .f32) = val_main_v17 (F := Ideal) x0 x1 E := by
  funext i
  rw [eq_ix2 i]
  pointwise [k0_pay8, val_main_v17, val_main_v16, val_main_cst]
  simp only [abRe_eq]

/-- The real parts of the driven matrices. -/
theorem bbRe_eq : (k0_pay11 (F := Ideal) x0 x1 (col E) (stack B3) (stack B4) : Vec Ideal S512x64 .f32) = val_main_v41 (F := Ideal) x0 x1 E B3 B4 := by
  funext i
  rw [eq_ix2 i]
  pointwise [k0_pay11, k0_pay1, k0_pay2, k0_pay9, k0_pay10, val_main_v41, val_main_v40, val_main_v32, val_main_v31, val_main_v30, val_main_v29, val_main_v28, val_main_v27, val_main_v26, val_main_v25, val_main_v24, val_main_v23, val_main_v22, val_main_v21, val_main_v20, val_main_v19, val_main_v18, stack]
  simp only [nr_eq, abIm_eq, den_eq]

/-- The imaginary parts of the driven matrices. -/
theorem bbIm_eq : (k0_pay12 (F := Ideal) x0 x1 (col E) (stack B3) (stack B4) : Vec Ideal S512x64 .f32) = val_main_v43 (F := Ideal) x0 x1 E B3 B4 := by
  funext i
  rw [eq_ix2 i]
  pointwise [k0_pay12, k0_pay1, k0_pay2, k0_pay9, k0_pay10, val_main_v43, val_main_v42, val_main_v39, val_main_v38, val_main_v37, val_main_v36, val_main_v35, val_main_v34, val_main_v33, val_main_v25, val_main_v24, val_main_v23, val_main_v22, val_main_v21, val_main_v20, val_main_v19, val_main_v18, stack]
  simp only [nr_eq, abIm_eq, den_eq]

theorem out5 : out0_5 x0 x1 (col E) (stack B3) (stack B4) = val_main_v8 (F := Ideal) x0 x1 E := by
  refine Eq.trans ?_ abRe_eq
  unfold out0_5
  frame_out
theorem out6 : out0_6 x0 x1 (col E) (stack B3) (stack B4) = val_main_v12 (F := Ideal) x0 x1 E := by
  refine Eq.trans ?_ abIm_eq
  unfold out0_6
  frame_out
theorem out7 : out0_7 x0 x1 (col E) (stack B3) (stack B4) = val_main_v41 (F := Ideal) x0 x1 E B3 B4 := by
  refine Eq.trans ?_ bbRe_eq
  unfold out0_7
  frame_out
theorem out8 : out0_8 x0 x1 (col E) (stack B3) (stack B4) = val_main_v43 (F := Ideal) x0 x1 E B3 B4 := by
  refine Eq.trans ?_ bbIm_eq
  unfold out0_8
  frame_out

theorem stack_at (B : Vec Ideal S32x64x16 .f32) (i : S512x64.Idx) : stack B i
    = B (ix3 ⟨(i 0).val / 16, by have h : (i 0).val < 512 := (i 0).isLt; omega⟩ (i 1) ⟨(i 0).val % 16, by omega⟩) := by
  rw [eq_ix2 i]
  pointwise [stack]
theorem col_at (i : S32x1.Idx) : col E i = E (ix1 (i 0)) := by
  rw [eq_ix2 i]
  pointwise [col]

variable (m : (ℓ : Loc nD τ sig) → Buf (Elt Ideal) ℓ) (c : Dev nD)

abbrev a0 : Vec Ideal S32x64 .f32 := m ((c : Thread nD τ).loc main_arg0)
abbrev a1 : Vec Ideal S32x64 .f32 := m ((c : Thread nD τ).loc main_arg1)
abbrev a2 : Vec Ideal S32 .f32 := m ((c : Thread nD τ).loc main_arg2)
abbrev a3 : Vec Ideal S32x64x16 .f32 := m ((c : Thread nD τ).loc main_arg3)
abbrev a4 : Vec Ideal S32x64x16 .f32 := m ((c : Thread nD τ).loc main_arg4)

theorem idx : ∀ t : Fin cfg0.N, (win0_0.index t 0 = 0 ∧ win0_0.index t 1 = 0) ∧ (win0_1.index t 0 = 0 ∧ win0_1.index t 1 = 0) ∧ (win0_2.index t 0 = 0 ∧ win0_2.index t 1 = 0) ∧ (win0_3.index t 0 = 0 ∧ win0_3.index t 1 = 0) ∧ (win0_4.index t 0 = 0 ∧ win0_4.index t 1 = 0) :=
  (by decide +kernel : ∀ t : Fin grid0.N, _)

theorem V2 : (V m c main_v2 : Vec Ideal S512x64 .f32) = stack (a3 m c) := by
  funext i
  refine Eq.trans ?_ (stack_at _ i).symm
  unfold V
  after_reads_at
theorem V4 : (V m c main_v4 : Vec Ideal S512x64 .f32) = stack (a4 m c) := by
  funext i
  refine Eq.trans ?_ (stack_at _ i).symm
  unfold V
  after_reads_at
theorem V0 : (V m c main_v0 : Vec Ideal S32x1 .f32) = col (a2 m c) := by
  funext i
  refine Eq.trans ?_ (col_at i).symm
  unfold V
  after_reads_at

theorem blk0 (t : Fin cfg0.N) : (iblk m c 0 t : Vec Ideal S32x64 .f32) = a0 m c := by
  funext i
  rw [eq_ix2 i]
  blk_point [iblk, V, idx t]
theorem blk1 (t : Fin cfg0.N) : (iblk m c 1 t : Vec Ideal S32x64 .f32) = a1 m c := by
  funext i
  rw [eq_ix2 i]
  blk_point [iblk, V, idx t]
theorem blk2 (t : Fin cfg0.N) : (iblk m c 2 t : Vec Ideal S32x1 .f32) = col (a2 m c) := by
  rw [← V0]
  funext i
  rw [eq_ix2 i]
  blk_point [iblk, idx t]
theorem blk3 (t : Fin cfg0.N) : (iblk m c 3 t : Vec Ideal S512x64 .f32) = stack (a3 m c) := by
  rw [← V2]
  funext i
  rw [eq_ix2 i]
  blk_point [iblk, idx t]
theorem blk4 (t : Fin cfg0.N) : (iblk m c 4 t : Vec Ideal S512x64 .f32) = stack (a4 m c) := by
  rw [← V4]
  funext i
  rw [eq_ix2 i]
  blk_point [iblk, idx t]

theorem final5 : (dats m 0 c).arrAt 5 cfg0.N = val_main_v8 (F := Ideal) (a0 m c) (a1 m c) (a2 m c) := by
  refine (dats m 0 c).arrAt_eq_of_after_last 5 t0_0 (by decide +kernel) _ fun j => ?_
  rw [after0_5, blk0, blk1, blk2, blk3, blk4]
  exact congrFun (out5 (B3 := a3 m c) (B4 := a4 m c)) j
theorem final6 : (dats m 0 c).arrAt 6 cfg0.N = val_main_v12 (F := Ideal) (a0 m c) (a1 m c) (a2 m c) := by
  refine (dats m 0 c).arrAt_eq_of_after_last 6 t0_0 (by decide +kernel) _ fun j => ?_
  rw [after0_6, blk0, blk1, blk2, blk3, blk4]
  exact congrFun (out6 (B3 := a3 m c) (B4 := a4 m c)) j
theorem final7 : (dats m 0 c).arrAt 7 cfg0.N = val_main_v41 (F := Ideal) (a0 m c) (a1 m c) (a2 m c) (a3 m c) (a4 m c) := by
  refine (dats m 0 c).arrAt_eq_of_after_last 7 t0_0 (by decide +kernel) _ fun j => ?_
  rw [after0_7, blk0, blk1, blk2, blk3, blk4]
  exact congrFun out7 j
theorem final8 : (dats m 0 c).arrAt 8 cfg0.N = val_main_v43 (F := Ideal) (a0 m c) (a1 m c) (a2 m c) (a3 m c) (a4 m c) := by
  refine (dats m 0 c).arrAt_eq_of_after_last 8 t0_0 (by decide +kernel) _ fun j => ?_
  rw [after0_8, blk0, blk1, blk2, blk3, blk4]
  exact congrFun out8 j

end Cert.S5DiscFwdIdeal.Value
end
-- ==== Proof.S5DiscFwdTie.lean ====
/-
  The recurrence's discretisation against its reference: every result of the kernel is the reference's, and no condition is
  put on the arguments.
-/
module

public import proofs.«01_k».proof.Defs
public import proofs.«01_k».proof.Proof.S5DiscFwdKernel
public import proofs.«01_k».proof.Proof.Gen.S5DiscFwdRefIdeal.Run

@[expose] public section

set_option maxRecDepth 16384

noncomputable section

namespace S5DiscFwdTie

open Idealize.ShloMosaic Idealize.SL.Sem Cert.S5DiscFwdIdeal.Value Cert.S5DiscFwdRefIdeal.Read

theorem value : Cert.algebraic_S5DiscFwdIdeal_S5DiscFwdRefIdeal (hS5DiscFwdIdeal := Cert.S5DiscFwdIdeal.Gen.facts) (hS5DiscFwdRefIdeal := Cert.S5DiscFwdRefIdeal.Gen.facts) := by
  intro m g m' g' _ hm
  refine ⟨fun c => val_main_v8 (F := Ideal) (a0 m c) (a1 m c) (a2 m c),
    fun c => val_main_v12 (F := Ideal) (a0 m c) (a1 m c) (a2 m c),
    fun c => val_main_v41 (F := Ideal) (a0 m c) (a1 m c) (a2 m c) (a3 m c) (a4 m c),
    fun c => val_main_v43 (F := Ideal) (a0 m c) (a1 m c) (a2 m c) (a3 m c) (a4 m c),
    (θ_run _ _ _).mono (fun r h c => ?_) (run_blocks m g),
    (θ_run _ _ _).mono (fun r h c => ?_) (Cert.S5DiscFwdRefIdeal.Value.run m' g')⟩
  · obtain ⟨r0, r1, r2, r3, kept⟩ := h c
    exact ⟨r0.trans (final5 m c), r1.trans (final6 m c), r2.trans (final7 m c), r3.trans (final8 m c), kept⟩
  · obtain ⟨r0, r1, r2, r3, kept⟩ := h c
    obtain ⟨e0, e1, e2, e3, e4⟩ := hm c
    refine ⟨r0.trans ((val_main_v8_eq ..).trans ?_),
      r1.trans ((val_main_v12_eq ..).trans ?_),
      r2.trans ((val_main_v41_eq ..).trans ?_),
      r3.trans ((val_main_v43_eq ..).trans ?_), kept⟩
    · rw [e0, e1, e2]
    · rw [e0, e1, e2]
    · rw [e0, e1, e2, e3, e4]
    · rw [e0, e1, e2, e3, e4]

end S5DiscFwdTie
end
-- ==== Proof.AttnFwdBody.lean ====
/-
  What one grid point of the windowed attention computes, as a plain function of the blocks it reads, and the point as a
  step of its carried state: the padded keys and values, which a head pair's first point makes.
-/
module

public import proofs.«01_k».proof.Proof.Gen.AttnFwdIdeal.Value
public import proofs.«01_k».proof.Proof.AttnStep

@[expose] public section

set_option maxRecDepth 16384

noncomputable section

namespace Cert.AttnFwdIdeal.Value

open Idealize.ShloMosaic Idealize.SL.Sem Cert.AttnFwdIdeal Cert.AttnFwdIdeal.Gen
open Cert.AttnBwdIdeal.Value (load_window store_put cov_load window_256x128 window_8192x128 put_256x128 put_8704x128 bias0 bias1 padded pad padded_eq)

variable {F : FTy → Type} [FloatOps F] [Named F]

/-- The attention output of a tile. -/
def fO (i : grid0.Coords) (q : Vec F S256x128 .f32) (kw vw : Vec F S768x128 .bf16) (b : Vec F S2x256x768 .f32) : FVec F S256x128 .f32 :=
  k0_pay1 vw k0_pay7 (k0_pay10 (k0_pay6 q) kw vw k0_pay7 (k0_pay8 i) (bias0 b)) (k0_pay11 (k0_pay6 q) kw k0_pay7 (k0_pay8 i) (bias1 b))
    (k0_pay12 (k0_pay6 q) kw k0_pay7 (k0_pay8 i) (bias1 b))

/-- The rows a point's windows cover. -/
def win {e : EltTy} (i : grid0.Coords) (x : Vec F S8704x128 e) : Vec F S768x128 e :=
  VecWindow.window x (k0_off1 i) S768x128.size (k0_off1_inb i)

section
variable (c : Dev nD) (i : grid0.Coords)
  (a2 : Memref sig .tc .vmem S256x128 .f32) (h2 : a2.IsWhole) (a3 : Memref sig .tc .vmem S8192x128 .f32) (h3 : a3.IsWhole) (a4 : Memref sig .tc .vmem S8192x128 .f32) (h4 : a4.IsWhole) (a5 : Memref sig .tc .vmem S2x256x768 .f32) (h5 : a5.IsWhole) (a6 : Memref sig .tc .vmem S256x128 .f32) (h6 : a6.IsWhole) (a7 : Memref sig .tc .vmem S8704x128 .bf16) (h7 : a7.IsWhole) (a8 : Memref sig .tc .vmem S8704x128 .bf16) (h8 : a8.IsWhole)
  (x0 : Vec F S256x128 .f32) (x1 : Vec F S8192x128 .f32) (x2 : Vec F S8192x128 .f32) (x3 : Vec F S2x256x768 .f32) (xs0 : Vec F S8704x128 .bf16) (xs1 : Vec F S8704x128 .bf16)

theorem off_fold : ![BitVec.toNat (Scalar.indexCast (Scalar.muli (BitVec.ofNat 32 (i 1).val) 256#32)), 0] = k0_off1 i := rfl

theorem st_out0_B_4 (hc0 : ¬cond0_0 i) : out0_B_4 c i a2 h2 a3 h3 a4 h4 a5 h5 a6 h6 a7 h7 a8 h8 hc0 x0 x1 x2 x3 xs0 xs1 = fO i x0 (win i xs0) (win i xs1) x3 := by
  unfold out0_B_4 kernelRun0_B
  dsimp only
  sl_unfold_words
  simp only [off_fold]
  simp only [cov_load, load_window, store_put, View.writes_nil, Memref.IsWhole.read_unread, window_256x128, put_256x128]
  rfl

theorem st_out0_A_4 (hc0 : cond0_0 i) : out0_A_4 c i a2 h2 a3 h3 a4 h4 a5 h5 a6 h6 a7 h7 a8 h8 hc0 x0 x1 x2 x3
    = fO i x0 (win i (padded (a7.view.read (Elt F) a7.view.junk) k0_pay2 (k0_pay4 x1))) (win i (padded (a8.view.read (Elt F) a8.view.junk) k0_pay3 (k0_pay5 x2))) x3 := by
  unfold out0_A_4 kernelRun0_A
  dsimp only
  sl_unfold_words
  simp only [off_fold]
  simp only [cov_load, load_window, store_put, View.writes_nil, Memref.IsWhole.read_unread, window_256x128, window_8192x128, put_256x128]
  rfl

theorem st_sout0_A_0 (hc0 : cond0_0 i) : sout0_A_0 c i a2 h2 a3 h3 a4 h4 a5 h5 a6 h6 a7 h7 a8 h8 hc0 x0 x1 x2 x3 = padded (VS0_0.read (Elt F) VS0_0.junk) k0_pay2 (k0_pay4 x1) := by
  unfold sout0_A_0 kernelRun0_A
  dsimp only
  sl_unfold_words
  simp only [off_fold]
  simp only [cov_load, load_window, store_put, View.writes_nil, Memref.IsWhole.read_unread, window_256x128, window_8192x128]
  rfl

theorem st_sout0_A_1 (hc0 : cond0_0 i) : sout0_A_1 c i a2 h2 a3 h3 a4 h4 a5 h5 a6 h6 a7 h7 a8 h8 hc0 x0 x1 x2 x3 = padded (VS0_1.read (Elt F) VS0_1.junk) k0_pay3 (k0_pay5 x2) := by
  unfold sout0_A_1 kernelRun0_A
  dsimp only
  sl_unfold_words
  simp only [off_fold]
  simp only [cov_load, load_window, store_put, View.writes_nil, Memref.IsWhole.read_unread, window_256x128, window_8192x128]
  rfl
end

section
variable (m : (ℓ : Loc nD τ sig) → Buf (Elt F) ℓ) (c : Dev nD) (t : Fin cfg0.N)

/-- The padded keys and values point `t` works with. -/
def found (acc : Vec F S8704x128 .bf16 × Vec F S8704x128 .bf16) : Vec F S8704x128 .bf16 × Vec F S8704x128 .bf16 :=
  if t.val % 32 = 0 then (pad k0_pay2 (k0_pay4 (iblk m c 1 t)), pad k0_pay3 (k0_pay5 (iblk m c 2 t))) else acc

variable (acc : Vec F S256x128 .f32 × Vec F S8704x128 .bf16 × Vec F S8704x128 .bf16)

theorem step_o : (stAt0 m c t.val t.isLt acc).1
    = fO (grid0.coords t) (iblk m c 0 t) (win (grid0.coords t) (found m c t acc.2).1) (win (grid0.coords t) (found m c t acc.2).2) (iblk m c 3 t) := by
  by_cases h0 : t.val % 32 = 0
  · rw [stAt0_A m c t acc h0, found, if_pos h0]
    dsimp only
    refine (st_out0_A_4 ..).trans ?_
    simp only [padded_eq]
  · rw [stAt0_B m c t acc h0, found, if_neg h0]
    dsimp only
    exact st_out0_B_4 ..

theorem step_kept : (stAt0 m c t.val t.isLt acc).2 = found m c t acc.2 := by
  by_cases h0 : t.val % 32 = 0
  · rw [stAt0_A m c t acc h0, found, if_pos h0]
    dsimp only
    refine congrArg₂ Prod.mk ((st_sout0_A_0 ..).trans ?_) ((st_sout0_A_1 ..).trans ?_)
    · simp only [padded_eq]
    · simp only [padded_eq]
  · rw [stAt0_B m c t acc h0, found, if_neg h0]
    rfl
end
end Cert.AttnFwdIdeal.Value
end
-- ==== Proof.AttnFwdTile.lean ====
/-
  The attention's tile function (AttnFwdBody) at an index, over the extended reals: a softmax row (AttnRow) of the head's
  scores times the values, divided at the end.
-/
module

public import proofs.«01_k».proof.Proof.AttnFwdBody
public import proofs.«01_k».proof.Proof.AttnPoint

@[expose] public section

set_option maxRecDepth 16384

noncomputable section

namespace Cert.AttnFwdIdeal.Value

open Idealize.ShloMosaic Idealize.SL.Sem Cert.AttnFwdIdeal Cert.AttnFwdIdeal.Gen AttnRow AttnCanon
open Cert.AttnBwdIdeal.Value (bias0 bias1 bias0_apply bias1_apply tX headSum negInf_eq lane_cases)

variable (i : grid0.Coords) (q : Vec Ideal S256x128 .f32) (kw vw : Vec Ideal S768x128 .bf16) (b : Vec Ideal S2x256x768 .f32)

/-- The first row of a point's window, as the program computes it. -/
abbrev row0 : BitVec 32 := Scalar.muli (BitVec.ofNat 32 (i 1).val) 256#32

theorem lanes_eq : k0_pay7 = Cert.AttnBwdIdeal.Gen.k0_pay10 := rfl
theorem select0 {α : Type} (r : Fin 256) (l : Fin 128) (x y : α) :
    Scalar.select (IntOp.cmpi .eq (k0_pay7 (ix2 r l)) 0#32) x y = if l.val / 64 = (0 : Fin 2).val then x else y := by
  rw [lanes_eq]; exact Cert.AttnBwdIdeal.Value.select0 r l x y
theorem select1 {α : Type} (r : Fin 256) (l : Fin 128) (x y : α) :
    Scalar.select (IntOp.cmpi .eq (k0_pay7 (ix2 r l)) 1#32) x y = if l.val / 64 = (1 : Fin 2).val then x else y := by
  rw [lanes_eq]; exact Cert.AttnBwdIdeal.Value.select1 r l x y

theorem mask_eq : (Named.named (F := Ideal) (φ := .f32) κ "mask" 4048155338#32 : EReal) = ⊥ := rfl

theorem x1_apply (r : Fin 256) (w : Fin 768) : k0_pay11 (k0_pay6 q) kw k0_pay7 (k0_pay8 i) (bias1 b) (ix2 r w) = tX (row0 i) q kw b 1 r w := by
  pointwise [k0_pay11, k0_pay9, k0_pay8, k0_pay6]
  simp only [select1, bias1_apply, mask_eq, negInf_eq]
  rfl
theorem m1_apply (r : Fin 256) (w : Fin 768) : k0_pay12 (k0_pay6 q) kw k0_pay7 (k0_pay8 i) (bias1 b) (ix2 r w) = rowMax (tX (row0 i) q kw b 1 r) := by
  have h := fun w => x1_apply i q kw b r w
  pointwise [k0_pay12]
  simp only [h, negInf_eq]
  rfl

/-- A tile row's attention: the exponentials' sum of values, times the inverse of their sum. -/
def rowO (hd : Fin 2) (r : Fin 256) (l : Fin 128) : EReal :=
  (∑ w, rowExp (tX (row0 i) q kw b hd r) w * vw (ix2 w l)) * Ideal.div 1 (rowSum (tX (row0 i) q kw b hd r))

theorem o0_apply (r : Fin 256) (l : Fin 128) : k0_pay10 (k0_pay6 q) kw vw k0_pay7 (k0_pay8 i) (bias0 b) (ix2 r l) = rowO i q kw vw b 0 r l := by
  pointwise [k0_pay10, k0_pay9, k0_pay8, k0_pay6]
  simp only [select0, bias0_apply, mask_eq, negInf_eq]
  rfl

theorem fO_apply (r : Fin 256) (l : Fin 128) : fO i q kw vw b (ix2 r l) = rowO i q kw vw b ⟨l.val / 64, by omega⟩ r l := by
  have h0 := o0_apply i q kw vw b r l
  have h1 := fun w => x1_apply i q kw b r w
  have h2 := fun w => m1_apply i q kw b r w
  unfold fO
  pointwise [k0_pay1]
  simp only [h0, h1, h2, select0]
  rcases lane_cases l with ⟨h, h'⟩ | ⟨h, h'⟩
  · rw [if_pos h, show (⟨l.val / 64, by omega⟩ : Fin 2) = 0 from Fin.ext h]
  · rw [if_neg h', show (⟨l.val / 64, by omega⟩ : Fin 2) = 1 from Fin.ext h]
    rfl

end Cert.AttnFwdIdeal.Value
end
-- ==== Proof.AttnFwdOut.lean ====
/-
  The attention's result array, entry by entry: at every point the padded keys and values are those of the head pair, and
  the block written back is the windowed softmax's (AttnFwdTile) of the arrays' entries.
-/
module

public import proofs.«01_k».proof.Proof.AttnFwdTile
public import proofs.«01_k».proof.Proof.AttnFold

@[expose] public section

set_option maxRecDepth 16384

noncomputable section

namespace AttnCanon
open Idealize.ShloMosaic AttnRow
/-- The attention of position `t` at column `L` of head `L / 64`. -/
def oO (qkv rb : ℕ → ℕ → EReal) (t L : ℕ) : EReal :=
  (∑ j : Fin 576, rowExp (X qkv rb t (L / 64)) j * vpad qkv (64 * (t / 64) + j.val) L) * Ideal.div 1 (rowSum (X qkv rb t (L / 64)))
end AttnCanon

namespace Cert.AttnFwdIdeal.Value

open Idealize.ShloMosaic Idealize.SL.Sem Cert.AttnFwdIdeal Cert.AttnFwdIdeal.Gen AttnRow AttnCanon
open Cert.AttnBwdIdeal.Value (Blocks tX_band pad pad_apply)

theorem coords_facts : ∀ t : Fin cfg0.N, ((grid0.coords t) 1).val = t.val % 32 ∧ k0_off1 (grid0.coords t) 0 = 256 * (t.val % 32) ∧ k0_off1 (grid0.coords t) 1 = 0 :=
  (by decide +kernel : ∀ t : Fin grid0.N, _)
theorem index_facts : ∀ t : Fin cfg0.N, (win0_0.index t 0 = t.val % 32 ∧ win0_0.index t 1 = t.val / 32) ∧ (win0_1.index t 0 = 0 ∧ win0_1.index t 1 = 8 + t.val / 32)
    ∧ (win0_2.index t 0 = 0 ∧ win0_2.index t 1 = 16 + t.val / 32) ∧ (win0_3.index t 0 = t.val / 32 ∧ win0_3.index t 1 = 0 ∧ win0_3.index t 2 = 0) :=
  (by decide +kernel : ∀ t : Fin grid0.N, _)

/-- A tile row at the arrays' entries. -/
theorem rowO_eq (qkv rb : ℕ → ℕ → EReal) (p : ℕ) (k : Fin 32) (i : grid0.Coords) (hi : (i 1).val = k.val)
    (q d : Vec Ideal S256x128 .f32) (kw vw : Vec Ideal S768x128 .bf16) (b : Vec Ideal S2x256x768 .f32)
    (H : Blocks qkv (fun _ _ => 0) rb p k q d kw vw b) (r : Fin 256) (l : Fin 128) :
    fO i q kw vw b (ix2 r l) = oO qkv rb (256 * k.val + r.val) (128 * p + l.val) := by
  have hr := r.isLt
  have hl := l.isLt
  have h := tX_band qkv (fun _ _ => 0) rb p k q d kw vw b H ⟨l.val / 64, by omega⟩ r
  rw [fO_apply, rowO, row0, hi, rowSum_band h]
  unfold oO
  rw [show (128 * p + l.val) / 64 = 2 * p + l.val / 64 by omega]
  refine congrArg (· * _) (sum_band _ _ h.1 (fun w j e => ?_) (fun w hw => by rw [rowExp_off h w hw, zero_mul]))
  rw [rowExp_band h w j e, H.vw, show 64 * ((256 * k.val + r.val) / 64) + j.val = 256 * k.val + w.val by omega]

variable (m : (ℓ : Loc nD τ sig) → Buf (Elt Ideal) ℓ) (c : Dev nD)

/-- The arrays, read at natural numbers. -/
def qkvOf (i j : ℕ) : EReal := if h : i < 8192 ∧ j < 4096 then (V m c main_arg0 : Vec Ideal S8192x4096 .f32) (ix2 ⟨i, h.1⟩ ⟨j, h.2⟩) else 0
def rbOf (i j : ℕ) : EReal := if h : i < 16 ∧ j < 257 then (V m c main_arg1 : Vec Ideal S16x257 .f32) (ix2 ⟨i, h.1⟩ ⟨j, h.2⟩) else 0

theorem lt256 (t : Fin cfg0.N) : t.val < 256 := lt_of_lt_of_eq t.isLt N_0

theorem iblk0_apply (t : Fin cfg0.N) (r : Fin 256) (l : Fin 128) :
    (iblk m c 0 t : Vec Ideal S256x128 .f32) (ix2 r l) = qkvOf m c (256 * (t.val % 32) + r.val) (128 * (t.val / 32) + l.val) := by
  have hi := (index_facts t).1
  have ht := lt256 t
  unfold qkvOf
  rw [dif_pos (by omega)]
  unfold iblk
  rw [View.read_apply]
  show V m c main_arg0 _ = V m c main_arg0 _
  congr 1
  funext a
  apply Fin.ext
  match a with
  | ⟨0, _⟩ => show win0_0.index t 0 * 256 + 1 * r.val = _; rw [hi.1]; show _ = 256 * (t.val % 32) + r.val; omega
  | ⟨1, _⟩ => show win0_0.index t 1 * 128 + 1 * l.val = _; rw [hi.2]; show _ = 128 * (t.val / 32) + l.val; omega
theorem iblk1_apply (t : Fin cfg0.N) (r : Fin 8192) (l : Fin 128) :
    (iblk m c 1 t : Vec Ideal S8192x128 .f32) (ix2 r l) = qkvOf m c r.val (1024 + (128 * (t.val / 32) + l.val)) := by
  have hi := (index_facts t).2.1
  have ht := lt256 t
  unfold qkvOf
  rw [dif_pos (by omega)]
  unfold iblk
  rw [View.read_apply]
  show V m c main_arg0 _ = V m c main_arg0 _
  congr 1
  funext a
  apply Fin.ext
  match a with
  | ⟨0, _⟩ => show win0_1.index t 0 * 8192 + 1 * r.val = _; rw [hi.1]; show _ = r.val; omega
  | ⟨1, _⟩ => show win0_1.index t 1 * 128 + 1 * l.val = _; rw [hi.2]; show _ = 1024 + (128 * (t.val / 32) + l.val); omega
theorem iblk2_apply (t : Fin cfg0.N) (r : Fin 8192) (l : Fin 128) :
    (iblk m c 2 t : Vec Ideal S8192x128 .f32) (ix2 r l) = qkvOf m c r.val (2048 + (128 * (t.val / 32) + l.val)) := by
  have hi := (index_facts t).2.2.1
  have ht := lt256 t
  unfold qkvOf
  rw [dif_pos (by omega)]
  unfold iblk
  rw [View.read_apply]
  show V m c main_arg0 _ = V m c main_arg0 _
  congr 1
  funext a
  apply Fin.ext
  match a with
  | ⟨0, _⟩ => show win0_2.index t 0 * 8192 + 1 * r.val = _; rw [hi.1]; show _ = r.val; omega
  | ⟨1, _⟩ => show win0_2.index t 1 * 128 + 1 * l.val = _; rw [hi.2]; show _ = 2048 + (128 * (t.val / 32) + l.val); omega
theorem iblk3_apply (t : Fin cfg0.N) (hd : Fin 2) (r : Fin 256) (w : Fin 768) :
    (iblk m c 3 t : Vec Ideal S2x256x768 .f32) (ix3 hd r w)
      = (V m c main_v29 : Vec Ideal S16x256x768 .f32) (ix3 ⟨2 * (t.val / 32) + hd.val, by have := lt256 t; have := hd.isLt; omega⟩ r w) := by
  have hi := (index_facts t).2.2.2
  have ht := lt256 t
  unfold iblk
  rw [View.read_apply]
  show V m c main_v29 _ = V m c main_v29 _
  congr 1
  funext a
  apply Fin.ext
  match a with
  | ⟨0, _⟩ => show win0_3.index t 0 * 2 + 1 * hd.val = _; rw [hi.1]; show _ = 2 * (t.val / 32) + hd.val; omega
  | ⟨1, _⟩ => show win0_3.index t 1 * 256 + 1 * r.val = _; rw [hi.2.1]; show _ = r.val; omega
  | ⟨2, _⟩ => show win0_3.index t 2 * 768 + 1 * w.val = _; rw [hi.2.2]; show _ = w.val; omega

/-- A point's window of a padded array. -/
theorem win_apply {e : EltTy} (t : Fin cfg0.N) (x : Vec Ideal S8704x128 e) (w : Fin 768) (l : Fin 128) (M : Fin 8704) (hM : M.val = 256 * (t.val % 32) + w.val) :
    win (grid0.coords t) x (ix2 w l) = x (ix2 M l) := by
  have h := coords_facts t
  refine congrArg x (funext fun a => Fin.ext ?_)
  match a with
  | ⟨0, _⟩ => show k0_off1 (grid0.coords t) 0 + 1 * w.val = M.val; rw [h.2.1]; omega
  | ⟨1, _⟩ => show k0_off1 (grid0.coords t) 1 + 1 * l.val = l.val; rw [h.2.2]; omega

/-- The padded keys and values of head pair `p`. -/
structure KeptAt (p : ℕ) (S : Vec Ideal S8704x128 .bf16 × Vec Ideal S8704x128 .bf16) : Prop where
  kp : ∀ (M : Fin 8704) (l : Fin 128), S.1 (ix2 M l) = kpad (qkvOf m c) M.val (128 * p + l.val)
  vp : ∀ (M : Fin 8704) (l : Fin 128), S.2 (ix2 M l) = vpad (qkvOf m c) M.val (128 * p + l.val)

theorem fresh_at (t : Fin cfg0.N) : KeptAt m c (t.val / 32) (pad (k0_pay2 (F := Ideal)) (k0_pay4 (iblk m c 1 t)), pad (k0_pay3 (F := Ideal)) (k0_pay5 (iblk m c 2 t))) where
  kp M l := by
    refine (pad_apply (k0_pay2 (F := Ideal)) (k0_pay4 (iblk m c 1 t)) (fun i => ?_) M l (fun r => qkvOf m c r (1024 + (128 * (t.val / 32) + l.val))) (fun r => ?_)).trans rfl
    · pointwise [k0_pay2]
    · rw [← iblk1_apply]
      generalize (iblk m c 1 t : Vec Ideal S8192x128 .f32) = x
      pointwise [k0_pay4]
  vp M l := by
    refine (pad_apply (k0_pay3 (F := Ideal)) (k0_pay5 (iblk m c 2 t)) (fun i => ?_) M l (fun r => qkvOf m c r (2048 + (128 * (t.val / 32) + l.val))) (fun r => ?_)).trans rfl
    · pointwise [k0_pay3]
    · rw [← iblk2_apply]
      generalize (iblk m c 2 t : Vec Ideal S8192x128 .f32) = x
      pointwise [k0_pay5]

/-- Every point steps from a state that leaves it the padded keys and values of its head pair. -/
theorem outs_step : ∀ (n : ℕ) (hn : n < cfg0.N), ∃ acc, outsAt0 m c n hn = stAt0 m c n hn acc ∧ KeptAt m c (n / 32) (found m c ⟨n, hn⟩ acc.2)
  | 0, hn => ⟨junk0, outsAt0_zero m c hn, by
    rw [found, if_pos (Nat.zero_mod _)]
    exact fresh_at m c ⟨0, hn⟩⟩
  | n + 1, hn => ⟨outsAt0 m c n (Nat.lt_of_succ_lt hn), outsAt0_succ m c n hn, by
    unfold found
    by_cases h : (n + 1) % 32 = 0
    · rw [if_pos h]
      exact fresh_at m c ⟨n + 1, hn⟩
    · rw [if_neg h]
      obtain ⟨acc, e, hF⟩ := outs_step n (Nat.lt_of_succ_lt hn)
      rw [e, show (n + 1) / 32 = n / 32 by omega, step_kept m c ⟨n, Nat.lt_of_succ_lt hn⟩ acc]
      exact hF⟩

/-- The bias matrix the kernel reads is the relative bias inside a chunk's window and `⊥` outside. -/
def BiasOk : Prop := ∀ (h : Fin 16) (r : Fin 256) (w : Fin 768), (V m c main_v29 : Vec Ideal S16x256x768 .f32) (ix3 h r w)
  = if 64 * (r.val / 64) ≤ w.val ∧ w.val < 64 * (r.val / 64) + 576 then rbOf m c h.val (min (r.val + 640 - w.val) 256) else ⊥

variable (hB : BiasOk m c)
include hB

theorem o_at (t : Fin cfg0.N) (acc : Vec Ideal S256x128 .f32 × Vec Ideal S8704x128 .bf16 × Vec Ideal S8704x128 .bf16)
    (hF : KeptAt m c (t.val / 32) (found m c t acc.2)) (r : Fin 256) (l : Fin 128) :
    (stAt0 m c t.val t.isLt acc).1 (ix2 r l) = oO (qkvOf m c) (rbOf m c) (256 * (t.val % 32) + r.val) (128 * (t.val / 32) + l.val) := by
  have ht := lt256 t
  rw [step_o]
  refine rowO_eq (qkvOf m c) (rbOf m c) (t.val / 32) ⟨t.val % 32, Nat.mod_lt _ (by decide)⟩ _ (coords_facts t).1 _ (fun _ => (0 : EReal)) _ _ _ ?_ r l
  exact {
    q := iblk0_apply m c t
    d := fun _ _ => rfl
    kw := fun w l => by rw [win_apply t _ w l ⟨256 * (t.val % 32) + w.val, by omega⟩ rfl, hF.kp]
    vw := fun w l => by rw [win_apply t _ w l ⟨256 * (t.val % 32) + w.val, by omega⟩ rfl, hF.vp]
    b := fun hd r w => by rw [iblk3_apply, hB] }

theorem G4_apply (t : Fin 8192) (L : Fin 1024) : (G4 m c : Vec Ideal S8192x1024 .f32) (ix2 t L) = oO (qkvOf m c) (rbOf m c) t.val L.val := by
  have ht := t.isLt
  have hL := L.isLt
  have hp : pt4Of (ix2 t L) = t.val / 256 + 32 * (L.val / 128) := by show 1 * (t.val / 256 - 0) + 32 * (L.val / 128 - 0) = _; omega
  have hn : pt4Of (ix2 t L) < cfg0.N := lt_of_lt_of_eq (by rw [hp]; omega) N_0.symm
  unfold G4
  rw [dif_pos hn, ← outsAt0_sweep m c _ hn]
  obtain ⟨acc, e, hF⟩ := outs_step m c _ hn
  rw [e]
  refine (congrArg _ (show loc4Of (ix2 t L) = ix2 (⟨t.val % 256, by omega⟩ : Fin 256) (⟨L.val % 128, by omega⟩ : Fin 128) from funext fun a => by
    match a with
    | ⟨0, _⟩ => rfl
    | ⟨1, _⟩ => rfl)).trans ?_
  refine (o_at m c hB ⟨_, hn⟩ acc hF _ _).trans ?_
  show oO _ _ (256 * (pt4Of (ix2 t L) % 32) + t.val % 256) (128 * (pt4Of (ix2 t L) / 32) + L.val % 128) = _
  rw [hp, show 256 * ((t.val / 256 + 32 * (L.val / 128)) % 32) + t.val % 256 = t.val by omega,
    show 128 * ((t.val / 256 + 32 * (L.val / 128)) / 32) + L.val % 128 = L.val by omega]

end Cert.AttnFwdIdeal.Value
end
-- ==== Proof.AttnFwdBias.lean ====
/-
  The bias matrix the attention reads, from the relative bias: the same host lines as before the gradient, at an index.
-/
module

public import proofs.«01_k».proof.Proof.AttnFwdOut
public import proofs.«01_k».proof.Proof.AttnBias

@[expose] public section

set_option maxRecDepth 16384

noncomputable section

namespace Cert.AttnFwdIdeal.Value

open Idealize.ShloMosaic Idealize.SL.Sem Cert.AttnFwdIdeal Cert.AttnFwdIdeal.Gen AttnRow AttnCanon
open Cert.AttnBwdIdeal.Value (div64_col div64_row band_small eq_zero_of_ne_one biasTop_aux)

variable (m : (ℓ : Loc nD τ sig) → Buf (Elt Ideal) ℓ) (c : Dev nD)

/-- The table of columns the gather reads: place `k` is distance `767 - k`, clipped to 128 either way. -/
theorem lit0_eq : ∀ k : Fin 1023, lit0 k = BitVec.ofNat 32 (min (895 - k.val) 256) := by
  decide +kernel
/-- The band mask at an index. -/
theorem biasMask (h : Fin 16) (r : Fin 256) (w : Fin 768) : (V m c main_v28 : Vec Ideal S16x256x768 .f32) (ix3 h r w)
    = (if 64 * (r.val / 64) ≤ w.val ∧ w.val < 64 * (r.val / 64) + 576 then (0 : EReal) else ⊥ : EReal) := by
  have hr := r.isLt
  have hw := w.isLt
  unfold V
  after_reads_at
  rw [id_eq]
  pointwise
  rw [div64_col, div64_row]
  have h := band_small ⟨r.val / 64, by omega⟩ ⟨w.val / 64, by omega⟩
  dsimp only at h
  by_cases hb : 64 * (r.val / 64) ≤ w.val ∧ w.val < 64 * (r.val / 64) + 576
  · rw [if_pos hb, h.mpr (by omega), ValueIdx.select_one]
  · rw [if_neg hb, eq_zero_of_ne_one (IntOp.andi _ _) (fun e => hb (by have := h.mp e; omega)), ValueIdx.select_zero]
    simp [Ideal.ofBits, Ideal.ieee]

/-- The skewed bias at an index whose place in the padded row holds a distance. -/
theorem biasTop (h : Fin 16) (r : Fin 256) (w : Fin 768) (R : EReal) (hk : (255 + (r.val * 1023 + w.val)) % 1024 < 1023)
    (hR : ∀ k : Fin 1023, k.val = (255 + (r.val * 1023 + w.val)) % 1024 →
      (m (c, Proc.tc.devRef main_arg1) : Vec Ideal S16x257 .f32) (ix2 h ⟨min (895 - k.val) 256, by omega⟩) = R) :
    (V m c main_v7 : Vec Ideal S16x256x768 .f32) (ix3 h r w) = R := by
  unfold V
  after_reads_at
  rw [dif_pos hk]
  generalize hkk : (⟨_, hk⟩ : Fin 1023) = k
  have hR := hR k (congrArg Fin.val hkk.symm)
  revert hR
  generalize (m (c, Proc.tc.devRef main_arg1) : Vec Ideal S16x257 .f32) = x
  intro hR
  have hT := lit0_eq
  revert hT
  generalize lit0 = T
  intro hT
  rw [← hR]
  exact biasTop_aux T hT x h k _

/-- The bias matrix the kernel reads: the relative bias on the band, minus infinity off it. -/
theorem biasOk : BiasOk m c := by
  intro h r w
  have hr := r.isLt
  have hw := w.isLt
  have hh := h.isLt
  have hs : (V m c main_v29 : Vec Ideal S16x256x768 .f32) (ix3 h r w)
      = addf (F := Ideal) (s := S16x256x768) (φ := .f32) (V m c main_v7 : Vec Ideal S16x256x768 .f32) (V m c main_v28 : Vec Ideal S16x256x768 .f32) (ix3 h r w) := by
    unfold V
    after_reads_at
  rw [hs, ValueIdx.addf_apply, biasMask m c h r w]
  by_cases hb : 64 * (r.val / 64) ≤ w.val ∧ w.val < 64 * (r.val / 64) + 576
  · rw [if_pos hb, if_pos hb, add_zero]
    have hq : (255 + (r.val * 1023 + w.val)) % 1024 = 255 + w.val - r.val := by
      rw [show 255 + (r.val * 1023 + w.val) = 1024 * r.val + (255 + w.val - r.val) by omega, Nat.mul_add_mod, Nat.mod_eq_of_lt (by omega)]
    refine biasTop m c h r w _ (by omega) fun k hk => ?_
    unfold rbOf
    rw [dif_pos ⟨h.isLt, by omega⟩]
    rw [V_main_arg1]
    have e : k.val = 255 + w.val - r.val := hk.trans hq
    refine congrArg _ (congrArg (ix2 h) (Fin.ext ?_))
    show min (895 - k.val) 256 = min (r.val + 640 - w.val) 256
    omega
  · rw [if_neg hb, if_neg hb, EReal.add_bot]

end Cert.AttnFwdIdeal.Value
end
-- ==== Proof.AttnFwdRef.lean ====
/-
  The reference of the attention: its scores, exponentials and values are those the reference of the gradient computes
  first, and its result is the weighted sum of values as `AttnCanon` states it.
-/
module

public import proofs.«01_k».proof.Proof.Gen.AttnFwdRefIdeal.Read
public import proofs.«01_k».proof.Proof.AttnFinite
public import proofs.«01_k».proof.Proof.AttnFwdOut

@[expose] public section

set_option maxRecDepth 16384

noncomputable section

namespace Cert.AttnFwdRefIdeal.Value

open Idealize.ShloMosaic Idealize.SL.Sem Cert.AttnFwdRefIdeal Cert.AttnFwdRefIdeal.Gen Cert.AttnFwdRefIdeal.Read AttnRow AttnCanon
open Cert.AttnBwdRefIdeal.Value (q0 r0 row Rows v102_at v103_at v128_at)

variable (x0 : Vec Ideal S8192x4096 .f32) (x1 : Vec Ideal S16x257 .f32)

theorem keys_eq : val_main_v47 (F := Ideal) x0 = Cert.AttnBwdRefIdeal.Read.val_main_v49 (F := Ideal) x0 := rfl
theorem vals_eq : val_main_v109 (F := Ideal) x0 = Cert.AttnBwdRefIdeal.Read.val_main_v128 (F := Ideal) x0 := rfl
theorem prod_eq : val_main_v48 (F := Ideal) x0 = Cert.AttnBwdRefIdeal.Read.val_main_v50 (F := Ideal) x0 := by
  unfold val_main_v48 Cert.AttnBwdRefIdeal.Read.val_main_v50
  rw [keys_eq]
  rfl
theorem bias_eq : val_main_v59 (F := Ideal) x1 = Cert.AttnBwdRefIdeal.Read.val_main_v61 (F := Ideal) x1 := rfl
theorem scores_eq : val_main_v79 (F := Ideal) x0 x1 = Cert.AttnBwdRefIdeal.Read.val_main_v81_0 (F := Ideal) x0 x1 := rfl
theorem exp_eq : val_main_v86 (F := Ideal) x0 x1 = Cert.AttnBwdRefIdeal.Read.val_main_v102 (F := Ideal) x0 x1 := rfl
theorem sum_eq : val_main_v87 (F := Ideal) x0 x1 = Cert.AttnBwdRefIdeal.Read.val_main_v103 (F := Ideal) x0 x1 := rfl

/-- The probabilities. -/
theorem v90_at (p : Fin 128) (h : Fin 16) (i : Fin 64) (j : Fin 576) (hs : Sane (row x0 x1 p h i)) : (val_main_v90 (F := Ideal) x0 x1 : Vec Ideal S128x16x64x576 .f32) (ix4 p h i j)
    = rowP (row x0 x1 p h i) j := by
  have e : (val_main_v90 (F := Ideal) x0 x1 : Vec Ideal S128x16x64x576 .f32) (ix4 p h i j)
      = Ideal.div ((val_main_v86 (F := Ideal) x0 x1 : Vec Ideal S128x16x64x576 .f32) (ix4 p h i j)) ((val_main_v87 (F := Ideal) x0 x1 : Vec Ideal S128x16x64 .f32) (ix3 p h i)) := by
    pointwise [val_main_v90, val_main_v89, val_main_v88]
  rw [e, exp_eq, sum_eq, v102_at, v103_at]
  exact rowP_div hs j

theorem v110_at (p : Fin 128) (h : Fin 16) (d i : Fin 64) (hs : Sane (row x0 x1 p h i)) : (val_main_v110 (F := Ideal) x0 x1 : Vec Ideal S128x16x64x64 .f32) (ix4 p h d i)
    = ∑ j : Fin 576, vpad (q0 x0) (64 * p.val + j.val) (64 * h.val + d.val) * rowP (row x0 x1 p h i) j := by
  rw [val_main_v110_apply]
  refine Finset.sum_congr rfl fun j _ => ?_
  rw [← v90_at x0 x1 p h i j hs, ← v128_at x0 p j h d, ← vals_eq]
  refine congrArg₂ (· * ·) (congrArg _ ?_) (congrArg _ ?_)
  · funext a; match a with | ⟨0, _⟩ => rfl | ⟨1, _⟩ => rfl | ⟨2, _⟩ => rfl | ⟨3, _⟩ => rfl
  · funext a; match a with | ⟨0, _⟩ => rfl | ⟨1, _⟩ => rfl | ⟨2, _⟩ => rfl | ⟨3, _⟩ => rfl

/-- The weights' common factor taken out of the sum of values. -/
theorem sum_rowP {n : ℕ} {x : Fin n → EReal} (hs : Sane x) (v : Fin n → EReal) :
    ∑ j, v j * rowP x j = (∑ j, rowExp x j * v j) * Ideal.div 1 (rowSum x) := by
  obtain ⟨s, hp, e⟩ := rowSum_real hs
  have hne : (s : EReal) ≠ 0 := by exact_mod_cast hp.ne'
  have hd : Ideal.div 1 (rowSum x) = ((s⁻¹ : ℝ) : EReal) := by
    unfold Ideal.div
    rw [e, if_neg hne, one_mul, EReal.coe_inv]
  rw [hd, mul_comm, real_mul_sum _ (inv_pos.mpr hp).le]
  refine Finset.sum_congr rfl fun j _ => ?_
  unfold rowP
  rw [hd, mul_comm (v j), mul_assoc, mul_comm (rowExp x j), mul_assoc, mul_comm (v j)]

theorem v112_at (hR : Rows x0 x1) (t : Fin 8192) (L : Fin 1024) : (val_main_v112 (F := Ideal) x0 x1 : Vec Ideal S8192x1024 .f32) (ix2 t L)
    = oO (q0 x0) (r0 x1) t.val L.val := by
  pointwise [val_main_v112, val_main_v111]
  rw [v110_at x0 x1 _ _ _ _ (hR _ _ _), sum_rowP (hR _ _ _)]
  unfold oO row
  dsimp only
  rw [Nat.div_add_mod, Nat.div_add_mod]

end Cert.AttnFwdRefIdeal.Value
end
-- ==== Proof.AttnFwdTie.lean ====
/-
  The attention's kernel and its reference end with the same array.
-/
module

public import proofs.«01_k».proof.Defs
public import proofs.«01_k».proof.Proof.AttnFwdBias
public import proofs.«01_k».proof.Proof.AttnFwdRef

@[expose] public section

set_option maxRecDepth 16384

noncomputable section

namespace AttnFwdTie

open Idealize.ShloMosaic Idealize.SL.Sem AttnCanon

/-- The precondition's side conditions. -/
theorem pre_facts : Cert.Pre_attn_fwd_finite.Facts := ⟨by decide, by decide, by decide⟩

variable (m : (ℓ : Loc Cert.AttnFwdIdeal.nD Cert.AttnFwdIdeal.τ Cert.AttnFwdIdeal.sig) → Buf (Elt Ideal) ℓ) (c : Dev Cert.AttnFwdIdeal.nD)

/-- The kernel's two arguments. -/
abbrev a0 : Vec Ideal Cert.AttnFwdRefIdeal.S8192x4096 .f32 := m ((c.tc : Thread Cert.AttnFwdIdeal.nD Cert.AttnFwdIdeal.τ).loc Cert.AttnFwdIdeal.main_arg0)
abbrev a1 : Vec Ideal Cert.AttnFwdRefIdeal.S16x257 .f32 := m ((c.tc : Thread Cert.AttnFwdIdeal.nD Cert.AttnFwdIdeal.τ).loc Cert.AttnFwdIdeal.main_arg1)

theorem qkv_eq : Cert.AttnFwdIdeal.Value.qkvOf m c = Cert.AttnBwdRefIdeal.Value.q0 (a0 m c) := by
  funext i j
  unfold Cert.AttnFwdIdeal.Value.qkvOf Cert.AttnBwdRefIdeal.Value.q0
  rw [Cert.AttnFwdIdeal.Gen.V_main_arg0]
theorem rb_eq : Cert.AttnFwdIdeal.Value.rbOf m c = Cert.AttnBwdRefIdeal.Value.r0 (a1 m c) := by
  funext i j
  unfold Cert.AttnFwdIdeal.Value.rbOf Cert.AttnBwdRefIdeal.Value.r0
  rw [Cert.AttnFwdIdeal.Gen.V_main_arg1]

theorem o_eq (hR : Cert.AttnBwdRefIdeal.Value.Rows (a0 m c) (a1 m c)) :
    (Cert.AttnFwdRefIdeal.Read.val_main_v112 (F := Ideal) (a0 m c) (a1 m c) : Vec Ideal Cert.AttnFwdRefIdeal.S8192x1024 .f32) = Cert.AttnFwdIdeal.Value.G4 m c := by
  funext i
  rw [eq_ix2 i]
  refine (Cert.AttnFwdRefIdeal.Value.v112_at _ _ hR _ _).trans (Eq.trans ?_ (Cert.AttnFwdIdeal.Value.G4_apply m c (Cert.AttnFwdIdeal.Value.biasOk m c) _ _).symm)
  rw [qkv_eq, rb_eq]

/-- The precondition says the same of the two arrays as the gradient's. -/
theorem rows_of_pre (x0 : Vec Ideal Cert.AttnFwdRefIdeal.S8192x4096 .f32) (x1 : Vec Ideal Cert.AttnFwdRefIdeal.S16x257 .f32) [i : Cert.Pre_attn_fwd_finite.Facts]
    (h : (Cert.Pre_attn_fwd_finite.fn (F := Ideal) x0 x1).1 = (fun _ => 1#1) ∧ (Cert.Pre_attn_fwd_finite.fn (F := Ideal) x0 x1).2 = (fun _ => 1#1)) :
    Cert.AttnBwdRefIdeal.Value.Rows x0 x1 := by
  haveI : Cert.Pre_attn_finite.Facts := ⟨by decide, by decide, by decide⟩
  exact Cert.AttnBwdRefIdeal.Value.rows_of_pre x0 (fun _ => (0 : EReal)) x1 h

theorem value : Cert.algebraic_AttnFwdIdeal_AttnFwdRefIdeal_pre_attn_fwd_finite (hAttnFwdIdeal := Cert.AttnFwdIdeal.Gen.facts) (hAttnFwdRefIdeal := Cert.AttnFwdRefIdeal.Gen.facts) (hPre_attn_fwd_finite := pre_facts) := by
  intro m g m' g' hp hm
  have hR : ∀ c, Cert.AttnBwdRefIdeal.Value.Rows (a0 m c) (a1 m c) := fun c => @rows_of_pre (a0 m c) (a1 m c) pre_facts (hp c)
  refine ⟨Cert.AttnFwdIdeal.Value.G4 m, Cert.AttnFwdIdeal.Value.run m g, ?_⟩
  refine (θ_run _ _ _).mono (fun r h c => ?_) (Cert.AttnFwdRefIdeal.Value.run m' g')
  obtain ⟨h1, h5⟩ := h c
  obtain ⟨e0, e1⟩ := hm c
  refine ⟨h1.trans ((Cert.AttnFwdRefIdeal.Read.val_main_v112_eq _ _).trans ?_), h5⟩
  rw [e0, e1]
  exact o_eq m c (hR c)

end AttnFwdTie
end
-- ==== Proof.CofWindow.lean ====
/-
  The window of inputs one point of the convolution's grid works on, and its eight shifted copies.
-/
module

public import proofs.«01_k».proof.Proof.CofStrip

@[expose] public section

set_option maxRecDepth 16384

noncomputable section

namespace Cert.ConvFwdIdeal.Value

open Cert.ConvFwdIdeal Cert.ConvFwdIdeal.Gen Idealize.ShloMosaic Idealize.ShloMosaic.TcCoe Idealize.SL.Sem

variable {win : ℕ → ℕ → EReal}

/-- The window's three pieces: the last 32 rows before the tile, the tile's 512 rows, eight rows of zeros. -/
abbrev winPieces (A : Vec Ideal S32x512 .f32) (C : Vec Ideal S512x512 .f32) : List (View.Piece (Elt Ideal) S552x512 .f32) :=
  [⟨Rect.unit ![544, 0] S8x512.size inb_S552x512_S8x512_544_0, k0_pay66 (F := Ideal)⟩,
    ⟨Rect.unit ![32, 0] S512x512.size inb_S552x512_S512x512_32_0, C⟩,
    ⟨Rect.unit ![0, 0] S32x512.size inb_S552x512_S32x512_0_0, A⟩]

theorem win_at {A : Vec Ideal S32x512 .f32} {C : Vec Ideal S512x512 .f32} (hA : ∀ (r : Fin 32) (l : Fin 512), (A (ix2 r l) : EReal) = win r.val l.val)
    (hC : ∀ (r : Fin 512) (l : Fin 512), (C (ix2 r l) : EReal) = win (32 + r.val) l.val) (h0 : ∀ p l, 544 ≤ p → win p l = 0)
    (v : Memref sig .tc .vmem S552x512 .f32) (y : S552x512.Idx) :
    (v.view.read (Elt Ideal) (v.view.writes (Elt Ideal) v.view.junk (winPieces A C)) y : EReal) = win (y 0).val (y 1).val := by
  refine View.read_writes_apply_of_pieces (Val := Elt Ideal) (f := v.view.junk) (v := v.view) (fun y => (win (y 0).val (y 1).val : EReal)) _ ?_ y ?_
  · intro p hp
    simp only [winPieces, List.mem_cons, List.not_mem_nil, or_false] at hp
    rcases hp with rfl | rfl | rfl <;> intro x
    · show (k0_pay66 (F := Ideal) x : EReal) = win (544 + 1 * (x 0).val) (0 + 1 * (x 1).val)
      rw [h0 _ _ (by omega)]
      pointwise [k0_pay66]
    · show (C x : EReal) = win (32 + 1 * (x 0).val) (0 + 1 * (x 1).val)
      rw [eq_ix2 x, hC (x 0) (x 1), Nat.one_mul, Nat.one_mul, Nat.zero_add]
      rfl
    · show (A x : EReal) = win (0 + 1 * (x 0).val) (0 + 1 * (x 1).val)
      rw [eq_ix2 x, hA (x 0) (x 1), Nat.one_mul, Nat.one_mul, Nat.zero_add, Nat.zero_add]
      rfl
  · have hy0 : (y 0).val < 552 := (y 0).isLt
    have hy1 : (y 1).val < 512 := (y 1).isLt
    by_cases h1 : (y 0).val < 32
    · refine ⟨_, List.mem_cons_of_mem _ (List.mem_cons_of_mem _ List.mem_cons_self), ?_⟩
      refine (Rect.mem_set_unit (inb := inb_S552x512_S32x512_0_0)).mpr fun a => ?_
      match a with
      | ⟨0, _⟩ => exact ⟨Nat.zero_le _, by show (y 0).val < 0 + 32; omega⟩
      | ⟨1, _⟩ => exact ⟨Nat.zero_le _, by show (y 1).val < 0 + 512; omega⟩
    · by_cases h2 : (y 0).val < 544
      · refine ⟨_, List.mem_cons_of_mem _ List.mem_cons_self, ?_⟩
        refine (Rect.mem_set_unit (inb := inb_S552x512_S512x512_32_0)).mpr fun a => ?_
        match a with
        | ⟨0, _⟩ => exact ⟨by show 32 ≤ (y 0).val; omega, by show (y 0).val < 32 + 512; omega⟩
        | ⟨1, _⟩ => exact ⟨Nat.zero_le _, by show (y 1).val < 0 + 512; omega⟩
      · refine ⟨_, List.mem_cons_self, ?_⟩
        refine (Rect.mem_set_unit (inb := inb_S552x512_S8x512_544_0)).mpr fun a => ?_
        match a with
        | ⟨0, _⟩ => exact ⟨by show 544 ≤ (y 0).val; omega, by show (y 0).val < 544 + 8; omega⟩
        | ⟨1, _⟩ => exact ⟨Nat.zero_le _, by show (y 1).val < 0 + 512; omega⟩

theorem cast_at (x : Vec Ideal S544x512 .f32) (u : Fin 1) (r : Fin 544) (l : Fin 512) :
    (shapeCast S1x544x512 x shapeCasts_S544x512_S1x544x512 (ix3 u r l) : EReal) = x (ix2 r l) := by
  pointwise

/-- A copy's rows are the window's, `s` further down. -/
theorem shift_at {v : Memref sig .tc .vmem S552x512 .f32} {L : List (View.Piece (Elt Ideal) S552x512 .f32)} (h : ∀ y : S552x512.Idx, (v.view.read (Elt Ideal) (v.view.writes (Elt Ideal) v.view.junk L) y : EReal) = win (y 0).val (y 1).val)
    (s : ℕ) (inb : ∀ a, (![s, 0] : Fin 2 → ℕ) a + S544x512.size a ≤ S552x512.size a) (x : S1x544x512.Idx) :
    (shapeCast S1x544x512 (v.view.readCov L (Rect.unit (s := S552x512) ![s, 0] S544x512.size inb).toLoadRect : FVec Ideal S544x512 .f32) shapeCasts_S544x512_S1x544x512 x : EReal)
      = win (s + 1 * (x 0).val + (0 + 1 * (x 1).val)) (0 + 1 * (x 2).val) := by
  rw [eq_ix3 x]
  refine (cast_at _ (x 0) (x 1) (x 2)).trans ((h _).trans ?_)
  have : (x 0).val < 1 := (x 0).isLt
  show win (s + 1 * (x 1).val) (0 + 1 * (x 2).val) = win (s + 1 * (x 0).val + (0 + 1 * (x 1).val)) (0 + 1 * (x 2).val)
  congr 1
  omega

/-- The eight copies of the window. -/
abbrev copies (v : Memref sig .tc .vmem S552x512 .f32) (L : List (View.Piece (Elt Ideal) S552x512 .f32)) : List (View.Piece (Elt Ideal) S8x544x512 .f32) :=
  [⟨Rect.unit ![7, 0, 0] S1x544x512.size inb_S8x544x512_S1x544x512_7_0_0, shapeCast S1x544x512 (v.view.readCov L (Rect.unit (s := S552x512) ![7, 0] S544x512.size inb_S552x512_S544x512_7_0).toLoadRect : FVec Ideal S544x512 .f32) shapeCasts_S544x512_S1x544x512⟩,
    ⟨Rect.unit ![6, 0, 0] S1x544x512.size inb_S8x544x512_S1x544x512_6_0_0, shapeCast S1x544x512 (v.view.readCov L (Rect.unit (s := S552x512) ![6, 0] S544x512.size inb_S552x512_S544x512_6_0).toLoadRect : FVec Ideal S544x512 .f32) shapeCasts_S544x512_S1x544x512⟩,
    ⟨Rect.unit ![5, 0, 0] S1x544x512.size inb_S8x544x512_S1x544x512_5_0_0, shapeCast S1x544x512 (v.view.readCov L (Rect.unit (s := S552x512) ![5, 0] S544x512.size inb_S552x512_S544x512_5_0).toLoadRect : FVec Ideal S544x512 .f32) shapeCasts_S544x512_S1x544x512⟩,
    ⟨Rect.unit ![4, 0, 0] S1x544x512.size inb_S8x544x512_S1x544x512_4_0_0, shapeCast S1x544x512 (v.view.readCov L (Rect.unit (s := S552x512) ![4, 0] S544x512.size inb_S552x512_S544x512_4_0).toLoadRect : FVec Ideal S544x512 .f32) shapeCasts_S544x512_S1x544x512⟩,
    ⟨Rect.unit ![3, 0, 0] S1x544x512.size inb_S8x544x512_S1x544x512_3_0_0, shapeCast S1x544x512 (v.view.readCov L (Rect.unit (s := S552x512) ![3, 0] S544x512.size inb_S552x512_S544x512_3_0).toLoadRect : FVec Ideal S544x512 .f32) shapeCasts_S544x512_S1x544x512⟩,
    ⟨Rect.unit ![2, 0, 0] S1x544x512.size inb_S8x544x512_S1x544x512_2_0_0, shapeCast S1x544x512 (v.view.readCov L (Rect.unit (s := S552x512) ![2, 0] S544x512.size inb_S552x512_S544x512_2_0).toLoadRect : FVec Ideal S544x512 .f32) shapeCasts_S544x512_S1x544x512⟩,
    ⟨Rect.unit ![1, 0, 0] S1x544x512.size inb_S8x544x512_S1x544x512_1_0_0, shapeCast S1x544x512 (v.view.readCov L (Rect.unit (s := S552x512) ![1, 0] S544x512.size inb_S552x512_S544x512_1_0).toLoadRect : FVec Ideal S544x512 .f32) shapeCasts_S544x512_S1x544x512⟩,
    ⟨Rect.unit ![0, 0, 0] S1x544x512.size inb_S8x544x512_S1x544x512_0_0_0, shapeCast S1x544x512 (v.view.readCov L (Rect.unit (s := S552x512) ![0, 0] S544x512.size inb_S552x512_S544x512_0_0).toLoadRect : FVec Ideal S544x512 .f32) shapeCasts_S544x512_S1x544x512⟩]

theorem copies_read {v : Memref sig .tc .vmem S552x512 .f32} {L : List (View.Piece (Elt Ideal) S552x512 .f32)} (h : ∀ y : S552x512.Idx, (v.view.read (Elt Ideal) (v.view.writes (Elt Ideal) v.view.junk L) y : EReal) = win (y 0).val (y 1).val)
    (w : Memref sig .tc .vmem S8x544x512 .f32) (y : S8x544x512.Idx) :
    (w.view.read (Elt Ideal) (w.view.writes (Elt Ideal) w.view.junk (copies v L)) y : EReal) = win ((y 0).val + (y 1).val) (y 2).val := by
  refine View.read_writes_apply_of_pieces (Val := Elt Ideal) (f := w.view.junk) (v := w.view) (fun y => (win ((y 0).val + (y 1).val) (y 2).val : EReal)) _ ?_ y
    (View.cover_of_tiledL (copies v L) S1x544x512.size (by sl_kernel_rfl) y)
  unfold copies
  iterate 8 refine List.forall_mem_cons.mpr ⟨fun x => shift_at h _ _ x, ?_⟩
  exact fun p hp => absurd hp List.not_mem_nil

variable (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S32x512 .f32) (harg3 : arg3.IsWhole) (arg4 : Memref sig .tc .vmem S32x512 .f32) (harg4 : arg4.IsWhole) (arg8 : Memref sig .tc .vmem S552x512 .f32)
    (x0 x1 : Vec Ideal S512x512 .f32) (x2 x3 : Vec Ideal S32x512 .f32)

set_option maxHeartbeats 2000000 in
/-- What the kernel leaves in the copies' buffer. -/
theorem stored_eq : kernelRun0_A.sl.HS1_8 c i arg1 harg1 arg2 harg2 arg3 harg3 arg4 harg4 arg8 x0 x1 x2 x3
    = copies arg8 (winPieces (k0_pay64 (F := Ideal) i x2 x3) (k0_pay65 (F := Ideal) x0 x1)) := by
  have e1 : View.readAt (Elt Ideal) arg1.view (Rect.unit (s := S512x512) ![0, 0] ![512, 512] inb_S512x512_S512x512_0_0).toLoadRect (harg1.unread x0) = x0 :=
    (View.readAt_full _ _ inb_S512x512_S512x512_0_0).trans (harg1.read_unread _)
  have e2 : View.readAt (Elt Ideal) arg2.view (Rect.unit (s := S512x512) ![0, 0] ![512, 512] inb_S512x512_S512x512_0_0).toLoadRect (harg2.unread x1) = x1 :=
    (View.readAt_full _ _ inb_S512x512_S512x512_0_0).trans (harg2.read_unread _)
  have e3 : View.readAt (Elt Ideal) arg3.view (Rect.unit (s := S32x512) ![0, 0] ![32, 512] inb_S32x512_S32x512_0_0).toLoadRect (harg3.unread x2) = x2 :=
    (View.readAt_full _ _ inb_S32x512_S32x512_0_0).trans (harg3.read_unread _)
  have e4 : View.readAt (Elt Ideal) arg4.view (Rect.unit (s := S32x512) ![0, 0] ![32, 512] inb_S32x512_S32x512_0_0).toLoadRect (harg4.unread x3) = x3 :=
    (View.readAt_full _ _ inb_S32x512_S32x512_0_0).trans (harg4.read_unread _)
  sl_unfold_words
  simp only [e1, e2, e3, e4, k0_pay67, k0_pay68, k0_pay69, k0_pay70, k0_pay71, k0_pay72, k0_pay73, k0_pay1]

end Cert.ConvFwdIdeal.Value
-- ==== Proof.CofOut.lean ====
/-
  What one point of the convolution's grid leaves: its 512 rows, strip by strip.
-/
module

public import proofs.«01_k».proof.Proof.CofWindow

@[expose] public section

set_option maxRecDepth 16384

noncomputable section

namespace Cert.ConvFwdIdeal.Value

open Cert.ConvFwdIdeal Cert.ConvFwdIdeal.Gen Idealize.ShloMosaic Idealize.ShloMosaic.TcCoe Idealize.SL.Sem

theorem off9_at : ∀ k : Fin k0_t1_loop.trips, k0_off9 k 0 = 16 * k.val ∧ k0_off9 k 1 = 0 := by decide +kernel

variable {win : ℕ → ℕ → EReal} {W : ℕ → ℕ → EReal} {B : ℕ → EReal}
variable (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S32x512 .f32) (harg3 : arg3.IsWhole) (arg4 : Memref sig .tc .vmem S32x512 .f32) (harg4 : arg4.IsWhole) (arg5 : Memref sig .tc .vmem S32x512 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S552x512 .f32) (harg8 : arg8.IsWhole) (arg9 : Memref sig .tc .vmem S8x544x512 .f32) (harg9 : arg9.IsWhole)

/-- The pieces of the first `n` strips agree with the convolution. -/
theorem strips {X5 : BufTy.Contents (Elt Ideal) arg5.view.ty} {X6 : BufTy.Contents (Elt Ideal) arg6.view.ty} {X9 : BufTy.Contents (Elt Ideal) arg9.view.ty}
    (hW : ∀ y : S32x512.Idx, (arg5.view.read (Elt Ideal) X5 y : EReal) = W (y 0).val (y 1).val) (hB : ∀ y : S1x512.Idx, (arg6.view.read (Elt Ideal) X6 y : EReal) = B (y 1).val)
    (hX : ∀ y : S8x544x512.Idx, (arg9.view.read (Elt Ideal) X9 y : EReal) = win ((y 0).val + (y 1).val) (y 2).val) :
    ∀ n : ℕ, n ≤ k0_t1_loop.trips → ∀ p ∈ pb_k0_t1 (F := Ideal) Variants.none c none i arg1 harg1 arg2 harg2 arg3 harg3 arg4 harg4 arg5 harg5 arg6 harg6 arg7 harg7 arg8 harg8 arg9 harg9 X5 X6 X9 n,
      ∀ x : p.1.shape.Idx, (p.2 x : EReal) = taps (fun j => W j (p.1.emb x 1).val * win ((p.1.emb x 0).val + (j + 2)) (p.1.emb x 1).val) (B (p.1.emb x 1).val) 31
  | 0, _ => fun p hp => absurd hp (by rw [pb_k0_t1.eq_1]; exact List.not_mem_nil)
  | n + 1, hn => by
    intro p hp x
    rw [pb_k0_t1_succ (k := ⟨n, hn⟩)] at hp
    rcases List.mem_append.mp hp with hp | hp
    · unfold tripL_k0_t1 trip_k0_t1 at hp
      obtain rfl := List.mem_singleton.mp hp
      have o := off9_at ⟨n, hn⟩
      have e1 : ((Rect.unit (s := S512x512) (k0_off9 ⟨n, hn⟩) S16x512.size (k0_off9_inb ⟨n, hn⟩)).emb x 1).val = (x 1).val := by
        show k0_off9 ⟨n, hn⟩ 1 + 1 * (x 1).val = _
        rw [o.2, Nat.zero_add, Nat.one_mul]
      have e0 : ((Rect.unit (s := S512x512) (k0_off9 ⟨n, hn⟩) S16x512.size (k0_off9_inb ⟨n, hn⟩)).emb x 0).val = 16 * n + (x 0).val := by
        show k0_off9 ⟨n, hn⟩ 0 + 1 * (x 0).val = _
        rw [o.1]
        show 16 * n + 1 * (x 0).val = _
        rw [Nat.one_mul]
      have h := strip_at hW hB hX ⟨n, hn⟩ (k0_off6_inb ⟨n, hn⟩ 4) (k0_off7_inb ⟨n, hn⟩ 3) (k0_off7_inb ⟨n, hn⟩ 4) (x 0) (x 1)
      rw [← eq_ix2 x] at h
      refine h.trans ?_
      rw [← e1, ← e0]
    · exact strips hW hB hX n (Nat.le_of_succ_le hn) p hp x

/-- One entry of what a point leaves. -/
theorem out_at {x0 x1 : Vec Ideal S512x512 .f32} {x2 x3 x4 : Vec Ideal S32x512 .f32} {x5 : Vec Ideal S1x512 .f32}
    (hA : ∀ (r : Fin 32) (l : Fin 512), (k0_pay64 (F := Ideal) i x2 x3 (ix2 r l) : EReal) = win r.val l.val)
    (hC : ∀ (r : Fin 512) (l : Fin 512), (k0_pay65 (F := Ideal) x0 x1 (ix2 r l) : EReal) = win (32 + r.val) l.val) (h0 : ∀ p l, 544 ≤ p → win p l = 0)
    (hW : ∀ y : S32x512.Idx, (x4 y : EReal) = W (y 0).val (y 1).val) (hB : ∀ y : S1x512.Idx, (x5 y : EReal) = B (y 1).val) (y : S512x512.Idx) :
    (out0_A_6 (F := Ideal) c i arg1 harg1 arg2 harg2 arg3 harg3 arg4 harg4 arg5 harg5 arg6 harg6 arg7 harg7 arg8 harg8 arg9 harg9 x0 x1 x2 x3 x4 x5 y : EReal) = taps (fun j => W j (y 1).val * win ((y 0).val + (j + 2)) (y 1).val) (B (y 1).val) 31 := by
  unfold out0_A_6
  refine View.read_writes_apply_of_pieces (Val := Elt Ideal) (f := VO0_6.junk) (v := VO0_6)
    (fun y => (taps (fun j => W j (y 1).val * win ((y 0).val + (j + 2)) (y 1).val) (B (y 1).val) 31 : EReal)) _ ?_ y
    (cover0_A_6 (F := Ideal) c i arg1 harg1 arg2 harg2 arg3 harg3 arg4 harg4 arg5 harg5 arg6 harg6 arg7 harg7 arg8 harg8 arg9 harg9 x0 x1 x2 x3 x4 x5 y)
  have hX : ∀ y : S8x544x512.Idx, (arg9.view.read (Elt Ideal) (arg9.view.writes (Elt Ideal) arg9.view.junk
      (kernelRun0_A.sl.HS1_8 c i arg1 harg1 arg2 harg2 arg3 harg3 arg4 harg4 arg8 x0 x1 x2 x3)) y : EReal) = win ((y 0).val + (y 1).val) (y 2).val := by
    rw [stored_eq]
    exact copies_read (win_at hA hC h0 arg8) arg9
  have h := strips c i arg1 harg1 arg2 harg2 arg3 harg3 arg4 harg4 arg5 harg5 arg6 harg6 arg7 harg7 arg8 harg8 arg9 harg9 (X5 := harg5.unread x4) (X6 := harg6.unread x5) (W := W) (B := B)
    (by rw [harg5.read_unread]; exact hW) (by rw [harg6.read_unread]; exact hB) hX k0_t1_loop.trips le_rfl
  unfold kernelRun0_A
  exact h

end Cert.ConvFwdIdeal.Value
-- ==== Proof.CofRef.lean ====
/-
  The convolution's reference, entry by entry: 31 products with the rows of the padded input, added one after another, and the bias.
-/
module

public import proofs.«01_k».proof.Proof.CofStrip
public import proofs.«01_k».proof.Proof.Gen.ConvFwdRefIdeal.Read
public import Idealize.ShloMosaic.Lib.StableHlo.ReadAt

@[expose] public section

set_option maxRecDepth 16384

noncomputable section

namespace Cert.ConvFwdRefIdeal.Value

open Cert.ConvFwdRefIdeal Cert.ConvFwdRefIdeal.Gen Idealize.ShloMosaic Idealize.ShloMosaic.TcCoe Idealize.SL.Sem
open Cert.ConvFwdRefIdeal.Read
open Cert.ConvFwdIdeal.Value (taps)

variable (z : Vec Ideal S8192x2560 .f32) (w : Vec Ideal S31x512 .f32) (b : Vec Ideal S512 .f32)

/-- The gated input behind 30 rows of zeros, by its row and column. -/
def pad (p l : ℕ) : EReal := if h : p < 8222 ∧ l < 512 then (val_main_v10 (F := Ideal) z : Vec Ideal S8222x512 .f32) (ix2 ⟨p, h.1⟩ ⟨l, h.2⟩) else 0
/-- The weights, by tap and column. -/
def wt (n l : ℕ) : EReal := if h : n < 31 ∧ l < 512 then w (ix2 ⟨n, h.1⟩ ⟨l, h.2⟩) else 0

theorem pad_at (p : Fin 8222) (l : Fin 512) : ((val_main_v10 (F := Ideal) z : Vec Ideal S8222x512 .f32) (ix2 p l) : EReal) = pad z p.val l.val := by
  unfold pad
  rw [dif_pos (⟨p.isLt, l.isLt⟩ : p.val < 8222 ∧ l.val < 512)]
theorem wt_at (n : Fin 31) (l : Fin 512) : (w (ix2 n l) : EReal) = wt w n.val l.val := by
  unfold wt
  rw [dif_pos (⟨n.isLt, l.isLt⟩ : n.val < 31 ∧ l.val < 512)]

/-- The first 30 rows are zero. -/
theorem pad_zero (p l : ℕ) (h : p < 30) : pad z p l = 0 := by
  unfold pad
  split
  · next h' =>
    pointwise [val_main_v10, val_main_v9, val_main_cst_1]
    exact dif_pos h
  · rfl

/-- The others are the gated input's. -/
theorem pad_row (p : Fin 8192) (l : Fin 512) : pad z (p.val + 30) l.val = (val_main_v8 (F := Ideal) z : Vec Ideal S8192x512 .f32) (ix2 p l) := by
  refine (pad_at z ⟨p.val + 30, by omega⟩ l).symm.trans ?_
  pointwise [val_main_v10]
  rw [dif_neg (by omega)]
  exact congrArg (fun q : Fin 8192 => (val_main_v8 (F := Ideal) z : Vec Ideal S8192x512 .f32) (ix2 q l)) (Fin.ext (by show p.val + 30 - 30 = p.val; omega))

/-- One entry of the reference. -/
theorem out_at (p : Fin 8192) (l : Fin 512) : ((val_main_v231 (F := Ideal) z w b : Vec Ideal S8192x512 .f32) (ix2 p l) : EReal)
    = taps (fun n => pad z (p.val + n) l.val * wt w n l.val) 0 31 + b (ix1 l) := by
  pointwise [val_main_v231, val_main_v230, val_main_v229, val_main_v228, val_main_v227, val_main_v226, val_main_v225, val_main_v224, val_main_v223, val_main_v222, val_main_v221, val_main_v220, val_main_v219, val_main_v218, val_main_v217, val_main_v216, val_main_v215, val_main_v214, val_main_v213, val_main_v212, val_main_v211, val_main_v210, val_main_v209, val_main_v208, val_main_v207, val_main_v206, val_main_v205, val_main_v204, val_main_v203, val_main_v202, val_main_v201, val_main_v200, val_main_v199, val_main_v198, val_main_v197, val_main_v196, val_main_v195, val_main_v194, val_main_v193, val_main_v192, val_main_v191, val_main_v190, val_main_v189, val_main_v188, val_main_v187, val_main_v186, val_main_v185, val_main_v184, val_main_v183, val_main_v182, val_main_v181, val_main_v180, val_main_v179, val_main_v178, val_main_v177, val_main_v176, val_main_v175, val_main_v174, val_main_v173, val_main_v172, val_main_v171, val_main_v170, val_main_v169, val_main_v168, val_main_v167, val_main_v166, val_main_v165, val_main_v164, val_main_v163, val_main_v162, val_main_v161, val_main_v160, val_main_v159, val_main_v158, val_main_v157, val_main_v156, val_main_v155, val_main_v154, val_main_v153, val_main_v152, val_main_v151, val_main_v150, val_main_v149, val_main_v148, val_main_v147, val_main_v146, val_main_v145, val_main_v144, val_main_v143, val_main_v142, val_main_v141, val_main_v140, val_main_v139, val_main_v138, val_main_v137, val_main_v136, val_main_v135, val_main_v134, val_main_v133, val_main_v132, val_main_v131, val_main_v130, val_main_v129, val_main_v128, val_main_v127, val_main_v126, val_main_v125, val_main_v124, val_main_v123, val_main_v122, val_main_v121, val_main_v120, val_main_v119, val_main_v118, val_main_v117, val_main_v116, val_main_v115, val_main_v114, val_main_v113, val_main_v112, val_main_v111, val_main_v110, val_main_v109, val_main_v108, val_main_v107, val_main_v106, val_main_v105, val_main_v104, val_main_v103, val_main_v102, val_main_v101, val_main_v100, val_main_v99, val_main_v98, val_main_v97, val_main_v96, val_main_v95, val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_cst_2]
  simp only [pad_at, wt_at, taps, zero_add]
  refine congrArg (· + b (ix1 l)) ?_
  iterate 30 refine congrArg₂ HAdd.hAdd ?_ (congrArg (· * _) (congrArg (pad z · l.val) (Nat.add_comm _ _)))
  rfl

end Cert.ConvFwdRefIdeal.Value
-- ==== Proof.CofKernel.lean ====
/-
  The gated convolution against its reference: every point of the kernel's grid leaves its 512 rows of the reference's result.
-/
module

public import proofs.«01_k».proof.Proof.CofOut
public import proofs.«01_k».proof.Proof.CofRef
public import proofs.«01_k».proof.Proof.Gen.ConvFwdIdeal.Value
public import Idealize.ShloMosaic.Lib.Pipeline.ValueKit
public import Idealize.ShloMosaic.Lib.Pointwise

@[expose] public section

set_option maxRecDepth 16384

noncomputable section

namespace Cert.ConvFwdIdeal.Value

open Idealize.ShloMosaic Idealize.ShloMosaic.TcCoe Idealize.SL.Sem Cert.ConvFwdIdeal Cert.ConvFwdIdeal.Gen
open Cert.ConvFwdRefIdeal.Read Cert.ConvFwdRefIdeal.Value

variable (m : (ℓ : Loc nD τ sig) → Buf (Elt Ideal) ℓ) (c : Dev nD)

abbrev a0 : Vec Ideal S8192x2560 .f32 := m ((c : Thread nD τ).loc main_arg0)
abbrev a1 : Vec Ideal S31x512 .f32 := m ((c : Thread nD τ).loc main_arg1)
abbrev a2 : Vec Ideal S512 .f32 := m ((c : Thread nD τ).loc main_arg2)

theorem idx : ∀ t : Fin cfg0.N, (win0_0.index t 0 = t.val ∧ win0_0.index t 1 = 2) ∧ (win0_1.index t 0 = t.val ∧ win0_1.index t 1 = 3)
    ∧ (win0_2.index t 0 = 16 * t.val - 1 ∧ win0_2.index t 1 = 2) ∧ (win0_3.index t 0 = 16 * t.val - 1 ∧ win0_3.index t 1 = 3)
    ∧ (win0_4.index t 0 = 0 ∧ win0_4.index t 1 = 0) ∧ (win0_5.index t 0 = 0 ∧ win0_5.index t 1 = 0) ∧ (win0_6.index t 0 = t.val ∧ win0_6.index t 1 = 0) :=
  (by decide +kernel : ∀ t : Fin grid0.N, _)

theorem lt16 (t : Fin cfg0.N) : t.val < 16 := N_0 ▸ t.isLt

/-- The rows of point `t`, and the 32 rows before them. -/
def row (t : Fin cfg0.N) (r : Fin 512) : Fin 8192 := ⟨t.val * 512 + r.val, by have := lt16 t; omega⟩
def rowBefore (t : Fin cfg0.N) (r : Fin 32) : Fin 8192 := ⟨(16 * t.val - 1) * 32 + r.val, by have := lt16 t; omega⟩
/-- The columns of the values and of their gates. -/
def colV (l : Fin 512) : Fin 2560 := ⟨1024 + l.val, by omega⟩
def colG (l : Fin 512) : Fin 2560 := ⟨1536 + l.val, by omega⟩

theorem blk0 (t : Fin cfg0.N) (r l : Fin 512) : (iblk m c 0 t : Vec Ideal S512x512 .f32) (ix2 r l) = a0 m c (ix2 (row t r) (colV l)) := by
  unfold row colV
  blk_point [iblk, V, idx t]
theorem blk1 (t : Fin cfg0.N) (r l : Fin 512) : (iblk m c 1 t : Vec Ideal S512x512 .f32) (ix2 r l) = a0 m c (ix2 (row t r) (colG l)) := by
  unfold row colG
  blk_point [iblk, V, idx t]
theorem blk2 (t : Fin cfg0.N) (r : Fin 32) (l : Fin 512) : (iblk m c 2 t : Vec Ideal S32x512 .f32) (ix2 r l) = a0 m c (ix2 (rowBefore t r) (colV l)) := by
  unfold rowBefore colV
  blk_point [iblk, V, idx t]
theorem blk3 (t : Fin cfg0.N) (r : Fin 32) (l : Fin 512) : (iblk m c 3 t : Vec Ideal S32x512 .f32) (ix2 r l) = a0 m c (ix2 (rowBefore t r) (colG l)) := by
  unfold rowBefore colG
  blk_point [iblk, V, idx t]

theorem gated_at (z : Vec Ideal S8192x2560 .f32) (p : Fin 8192) (l : Fin 512) : ((val_main_v8 (F := Ideal) z : Vec Ideal S8192x512 .f32) (ix2 p l) : EReal)
    = z (ix2 p (colV l)) * Ideal.logistic (z (ix2 p (colG l))) := by
  unfold colV colG
  pointwise [val_main_v8, val_main_v7, val_main_v6, val_main_v5, val_main_v4, val_main_v3, val_main_v2, val_main_v1, val_main_v0, val_main_cst, val_main_cst_0]
  rfl

theorem pay65_at (x0 x1 : Vec Ideal S512x512 .f32) (r l : Fin 512) : (k0_pay65 (F := Ideal) x0 x1 (ix2 r l) : EReal) = x0 (ix2 r l) * Ideal.logistic (x1 (ix2 r l)) := by
  pointwise [k0_pay65]

/-- The factor that clears the rows before the first point. -/
theorem flag : ∀ k : Fin 16, (Scalar.extui (Scalar.cmpi CmpIPredicate.sgt (BitVec.ofNat 32 k.val) 0#32) : BitVec 32).toInt = if k.val = 0 then 0 else 1 := by
  decide +kernel
theorem coord : ∀ t : Fin cfg0.N, ((grid0.coords t) 0).val = t.val := (by decide +kernel : ∀ t : Fin grid0.N, _)

theorem pay64_at (t : Fin cfg0.N) (x0 x1 : Vec Ideal S32x512 .f32) (r : Fin 32) (l : Fin 512) : (k0_pay64 (F := Ideal) (grid0.coords t) x0 x1 (ix2 r l) : EReal)
    = if t.val = 0 then 0 else x0 (ix2 r l) * Ideal.logistic (x1 (ix2 r l)) := by
  pointwise [k0_pay64]
  rw [coord, flag ⟨t.val, lt16 t⟩]
  show _ * (((if t.val = 0 then (0 : ℤ) else 1 : ℤ) : ℝ) : EReal) = _
  split
  · simp
  · simp

theorem w_at (y : S32x512.Idx) : ((V m c main_v0 : Vec Ideal S32x512 .f32) y : EReal) = wt (a1 m c) (y 0).val (y 1).val := by
  have z : (FloatOps.sitofp FTy.f32 (0#32 : BitVec 32) : Ideal .f32) = (0 : EReal) := by
    show (((0#32 : BitVec 32).toInt : ℝ) : EReal) = 0
    simp
  rw [eq_ix2 y]
  unfold V
  after_reads_at
  show _ = wt (a1 m c) (y 0).val (y 1).val
  unfold wt
  by_cases h : (y 0).val < 31
  · rw [dif_pos h, dif_pos ⟨h, (y 1).isLt⟩]
    rfl
  · rw [dif_neg h, dif_neg fun k => h k.1]
    exact z
theorem b_at (l : Fin 512) : (V m c main_v1 : Vec Ideal S1x512 .f32) (ix2 0 l) = a2 m c (ix1 l) := by
  unfold V
  after_reads_at
theorem blk4 (t : Fin cfg0.N) : (iblk m c 4 t : Vec Ideal S32x512 .f32) = V m c main_v0 := by
  funext i
  rw [eq_ix2 i]
  blk_point [iblk, idx t]
theorem blk5 (t : Fin cfg0.N) (l : Fin 512) : (iblk m c 5 t : Vec Ideal S1x512 .f32) (ix2 0 l) = a2 m c (ix1 l) := by
  rw [← b_at]
  blk_point [iblk, idx t]

/-- The rows a point's window holds, by row and column. -/
def win (t p l : ℕ) : EReal := if p < 544 then (if 512 * t + p < 2 then 0 else pad (a0 m c) (512 * t + p - 2) l) else 0

theorem win_end (t p l : ℕ) (h : 544 ≤ p) : win m c t p l = 0 := if_neg (by omega)

theorem before_at (t : Fin cfg0.N) (r : Fin 32) (l : Fin 512) :
    (k0_pay64 (F := Ideal) (grid0.coords t) (iblk m c 2 t) (iblk m c 3 t) (ix2 r l) : EReal) = win m c t.val r.val l.val := by
  have hr : r.val < 544 := by omega
  rw [pay64_at, blk2, blk3]
  unfold win
  rw [if_pos hr]
  by_cases h : t.val = 0
  · rw [if_pos h, h]
    split
    · rfl
    · exact (pad_zero _ _ _ (by omega)).symm
  · rw [if_neg h, if_neg (by omega), ← gated_at]
    refine (pad_row (a0 m c) (rowBefore t r) l).symm.trans (congrArg (pad (a0 m c) · l.val) ?_)
    show (16 * t.val - 1) * 32 + r.val + 30 = _
    omega

theorem own_at (t : Fin cfg0.N) (r l : Fin 512) :
    (k0_pay65 (F := Ideal) (iblk m c 0 t) (iblk m c 1 t) (ix2 r l) : EReal) = win m c t.val (32 + r.val) l.val := by
  rw [pay65_at, blk0, blk1, ← gated_at]
  unfold win
  rw [if_pos (by omega), if_neg (by omega)]
  refine (pad_row (a0 m c) (row t r) l).symm.trans (congrArg (pad (a0 m c) · l.val) ?_)
  show t.val * 512 + r.val + 30 = _
  omega

/-- A sum started from the bias is the sum from zero, and the bias. -/
theorem taps_from {f g : ℕ → EReal} (b : EReal) : ∀ n, (∀ k < n, f k = g k) → taps f b n = taps g 0 n + b
  | 0, _ => (zero_add b).symm
  | n + 1, h => by
    show taps f b n + f n = taps g 0 n + g n + b
    rw [taps_from b n fun k hk => h k (by omega), h n (by omega), add_right_comm]

theorem bias_at (t : Fin cfg0.N) (r : Fin 1) (l : Fin 512) : ((iblk m c 5 t : Vec Ideal S1x512 .f32) (ix2 r l) : EReal)
    = if h : l.val < 512 then a2 m c (ix1 ⟨l.val, h⟩) else 0 := by
  rw [Subsingleton.elim r 0, dif_pos l.isLt]
  exact blk5 m c t l
theorem bias (t : Fin cfg0.N) (y : S1x512.Idx) : ((iblk m c 5 t : Vec Ideal S1x512 .f32) y : EReal) = if h : (y 1).val < 512 then a2 m c (ix1 ⟨(y 1).val, h⟩) else 0 := by
  have h := bias_at m c t (y 0) (y 1)
  rw [← eq_ix2 y] at h
  exact h

theorem entry (t : Fin cfg0.N) (r l : Fin 512) :
    ((outsAt0 (F := Ideal) m c t : Vec Ideal S512x512 .f32) (ix2 r l) : EReal) = (val_main_v231 (F := Ideal) (a0 m c) (a1 m c) (a2 m c) : Vec Ideal S8192x512 .f32) (ix2 (row t r) l) := by
  unfold outsAt0
  refine (out_at (win := win m c t.val) (W := wt (a1 m c)) (B := fun l => if h : l < 512 then a2 m c (ix1 ⟨l, h⟩) else 0)
    c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) _ _ _ _
    (before_at m c t) (own_at m c t) (win_end m c t.val) (fun y => by rw [blk4]; exact w_at m c y) (bias m c t) (ix2 r l)).trans ?_
  refine Eq.trans ?_ (Cert.ConvFwdRefIdeal.Value.out_at (a0 m c) (a1 m c) (a2 m c) (row t r) l).symm
  show taps (fun j => wt (a1 m c) j l.val * win m c t.val (r.val + (j + 2)) l.val) (if h : l.val < 512 then a2 m c (ix1 ⟨l.val, h⟩) else 0) 31 = _
  rw [dif_pos l.isLt]
  refine taps_from _ 31 fun n hn => ?_
  rw [mul_comm]
  refine congrArg (· * _) ?_
  unfold win
  rw [if_pos (by omega), if_neg (by omega)]
  refine congrArg (pad (a0 m c) · l.val) ?_
  show _ = t.val * 512 + r.val + n
  omega

theorem after_at (t : Fin cfg0.N) (j : S512x512.Idx) (i : S8192x512.Idx) (h0 : (i 0).val = t.val * 512 + (j 0).val) (h1 : (i 1).val = (j 1).val) :
    (outsAt0 (F := Ideal) m c t : Vec Ideal S512x512 .f32) j = (val_main_v231 (F := Ideal) (a0 m c) (a1 m c) (a2 m c) : Vec Ideal S8192x512 .f32) i := by
  rw [eq_ix2 j, eq_ix2 i, ← show row t (j 0) = i 0 from Fin.ext h0.symm, show i 1 = j 1 from Fin.ext h1]
  exact entry m c t (j 0) (j 1)

theorem final6 : (dats m 0 c).arrAt 6 cfg0.N = val_main_v231 (F := Ideal) (a0 m c) (a1 m c) (a2 m c) := by
  refine (dats m 0 c).arrAt_eq_of_covers 6 _ (by decide +kernel) fun t hf y => ?_
  rw [after0_6]
  exact after_at m c t _ _ (by show win0_6.index t 0 * 512 + 1 * (y 0).val = t.val * 512 + (y 0).val; rw [(idx t).2.2.2.2.2.2.1]; omega)
    (by show win0_6.index t 1 * 512 + 1 * (y 1).val = (y 1).val; rw [(idx t).2.2.2.2.2.2.2]; omega)

end Cert.ConvFwdIdeal.Value
-- ==== Proof.ConvFwdTie.lean ====
/-
  The gated convolution against its reference: the kernel's result is the
  reference's, and no condition is put on the arguments.
-/
module

public import proofs.«01_k».proof.Defs
public import proofs.«01_k».proof.Proof.CofKernel
public import proofs.«01_k».proof.Proof.Gen.ConvFwdRefIdeal.Run

@[expose] public section

set_option maxRecDepth 16384

noncomputable section

namespace ConvFwdTie

open Idealize.ShloMosaic Idealize.SL.Sem Cert.ConvFwdIdeal.Value Cert.ConvFwdRefIdeal.Read

theorem value : Cert.algebraic_ConvFwdIdeal_ConvFwdRefIdeal (hConvFwdIdeal := Cert.ConvFwdIdeal.Gen.facts) (hConvFwdRefIdeal := Cert.ConvFwdRefIdeal.Gen.facts) := by
  intro m g m' g' _ hm
  refine ⟨fun c => val_main_v231 (F := Ideal) (a0 m c) (a1 m c) (a2 m c),
    (θ_run _ _ _).mono (fun r h c => ?_) (run_blocks m g),
    (θ_run _ _ _).mono (fun r h c => ?_) (Cert.ConvFwdRefIdeal.Value.run m' g')⟩
  · obtain ⟨r0, kept⟩ := h c
    exact ⟨r0.trans (final6 m c), kept⟩
  · obtain ⟨r0, kept⟩ := h c
    obtain ⟨e0, e1, e2⟩ := hm c
    refine ⟨r0.trans ((val_main_v231_eq ..).trans ?_), kept⟩
    · show val_main_v231 (F := Ideal) (m' (c.tc.loc Cert.ConvFwdRefIdeal.main_arg0)) (m' (c.tc.loc Cert.ConvFwdRefIdeal.main_arg1)) (m' (c.tc.loc Cert.ConvFwdRefIdeal.main_arg2)) = _
      rw [e0, e1, e2]

end ConvFwdTie
end
-- ==== Proof.lean ====
module

public import proofs.«01_k».proof.Defs
public import proofs.«01_k».proof.Proof.AttnTie
public import proofs.«01_k».proof.Proof.BiasGradTie
public import proofs.«01_k».proof.Proof.GatedOutBwdTie
public import proofs.«01_k».proof.Proof.LossHeadTie
public import proofs.«01_k».proof.Proof.OdInBwdTie
public import proofs.«01_k».proof.Proof.EvInBwdTie
public import proofs.«01_k».proof.Proof.KvBwdTie
public import proofs.«01_k».proof.Proof.ConvBwdTie
public import proofs.«01_k».proof.Proof.S5DiscBwdTie
public import proofs.«01_k».proof.Proof.EvOutBwdTie
public import proofs.«01_k».proof.Proof.XaBwdTie
public import proofs.«01_k».proof.Proof.GatedOutFwdTie
public import proofs.«01_k».proof.Proof.OdInFwdTie
public import proofs.«01_k».proof.Proof.EvInFwdTie
public import proofs.«01_k».proof.Proof.XaFwdTie
public import proofs.«01_k».proof.Proof.EvOutFwdTie
public import proofs.«01_k».proof.Proof.S5DiscFwdTie
public import proofs.«01_k».proof.Proof.AttnFwdTie
public import proofs.«01_k».proof.Proof.ConvFwdTie
public import proofs.«01_k».proof.Proof.Gen.AttnBwdIdeal.Value
public import proofs.«01_k».proof.Proof.Gen.AttnBwdRefIdeal.Run
public import proofs.«01_k».proof.Proof.Gen.AttnBwdRefIdeal.Read
public import proofs.«01_k».proof.Proof.Gen.BiasGradIdeal.Value
public import proofs.«01_k».proof.Proof.Gen.BiasGradRefIdeal.Run
public import proofs.«01_k».proof.Proof.Gen.BiasGradRefIdeal.Read
public import proofs.«01_k».proof.Proof.Gen.GatedOutBwdIdeal.Value
public import proofs.«01_k».proof.Proof.Gen.GatedOutBwdRefIdeal.Run
public import proofs.«01_k».proof.Proof.Gen.GatedOutBwdRefIdeal.Read
public import proofs.«01_k».proof.Proof.Gen.LossHeadIdeal.Value
public import proofs.«01_k».proof.Proof.Gen.LossHeadRefIdeal.Run
public import proofs.«01_k».proof.Proof.Gen.LossHeadRefIdeal.Read
public import proofs.«01_k».proof.Proof.Gen.OdInBwdIdeal.Value
public import proofs.«01_k».proof.Proof.Gen.OdInBwdRefIdeal.Run
public import proofs.«01_k».proof.Proof.Gen.OdInBwdRefIdeal.Read
public import proofs.«01_k».proof.Proof.Gen.EvInBwdIdeal.Value
public import proofs.«01_k».proof.Proof.Gen.EvInBwdRefIdeal.Run
public import proofs.«01_k».proof.Proof.Gen.EvInBwdRefIdeal.Read
public import proofs.«01_k».proof.Proof.Gen.KvBwdIdeal.Value
public import proofs.«01_k».proof.Proof.Gen.KvBwdRefIdeal.Run
public import proofs.«01_k».proof.Proof.Gen.KvBwdRefIdeal.Read
public import proofs.«01_k».proof.Proof.Gen.ConvBwdIdeal.Value
public import proofs.«01_k».proof.Proof.Gen.ConvBwdRefIdeal.Run
public import proofs.«01_k».proof.Proof.Gen.ConvBwdRefIdeal.Read
public import proofs.«01_k».proof.Proof.Gen.S5DiscBwdRefIdeal.Run
public import proofs.«01_k».proof.Proof.Gen.S5DiscBwdRefIdeal.Read
public import proofs.«01_k».proof.Proof.Gen.EvOutBwdIdeal.Value
public import proofs.«01_k».proof.Proof.Gen.EvOutBwdRefIdeal.Run
public import proofs.«01_k».proof.Proof.Gen.EvOutBwdRefIdeal.Read
public import proofs.«01_k».proof.Proof.Gen.XaBwdIdeal.Value
public import proofs.«01_k».proof.Proof.Gen.XaBwdRefIdeal.Run
public import proofs.«01_k».proof.Proof.Gen.XaBwdRefIdeal.Read
public import proofs.«01_k».proof.Proof.Gen.GatedOutFwdIdeal.Value
public import proofs.«01_k».proof.Proof.Gen.GatedOutFwdRefIdeal.Run
public import proofs.«01_k».proof.Proof.Gen.GatedOutFwdRefIdeal.Read
public import proofs.«01_k».proof.Proof.Gen.OdInFwdIdeal.Value
public import proofs.«01_k».proof.Proof.Gen.OdInFwdRefIdeal.Run
public import proofs.«01_k».proof.Proof.Gen.OdInFwdRefIdeal.Read
public import proofs.«01_k».proof.Proof.Gen.EvInFwdIdeal.Value
public import proofs.«01_k».proof.Proof.Gen.EvInFwdRefIdeal.Run
public import proofs.«01_k».proof.Proof.Gen.EvInFwdRefIdeal.Read
public import proofs.«01_k».proof.Proof.Gen.XaFwdIdeal.Value
public import proofs.«01_k».proof.Proof.Gen.XaFwdRefIdeal.Run
public import proofs.«01_k».proof.Proof.Gen.XaFwdRefIdeal.Read
public import proofs.«01_k».proof.Proof.Gen.EvOutFwdIdeal.Value
public import proofs.«01_k».proof.Proof.Gen.EvOutFwdRefIdeal.Run
public import proofs.«01_k».proof.Proof.Gen.EvOutFwdRefIdeal.Read
public import proofs.«01_k».proof.Proof.Gen.S5DiscFwdIdeal.Value
public import proofs.«01_k».proof.Proof.Gen.S5DiscFwdRefIdeal.Run
public import proofs.«01_k».proof.Proof.Gen.S5DiscFwdRefIdeal.Read
public import proofs.«01_k».proof.Proof.Gen.AttnFwdIdeal.Value
public import proofs.«01_k».proof.Proof.Gen.AttnFwdRefIdeal.Run
public import proofs.«01_k».proof.Proof.Gen.AttnFwdRefIdeal.Read
public import proofs.«01_k».proof.Proof.Gen.ConvFwdIdeal.Value
public import proofs.«01_k».proof.Proof.Gen.ConvFwdRefIdeal.Run
public import proofs.«01_k».proof.Proof.Gen.ConvFwdRefIdeal.Read
public import proofs.«01_k».proof.Proof.Gen.AttnBwd
public import proofs.«01_k».proof.Proof.Gen.AttnBwd.Frame
public import proofs.«01_k».proof.Proof.Gen.AttnBwdIdeal
public import proofs.«01_k».proof.Proof.Gen.AttnBwdIdeal.Frame
public import proofs.«01_k».proof.Proof.Gen.AttnBwdRefIdeal
public import proofs.«01_k».proof.Proof.Gen.BiasGrad
public import proofs.«01_k».proof.Proof.Gen.BiasGrad.Frame
public import proofs.«01_k».proof.Proof.Gen.BiasGradIdeal
public import proofs.«01_k».proof.Proof.Gen.BiasGradIdeal.Frame
public import proofs.«01_k».proof.Proof.Gen.BiasGradRefIdeal
public import proofs.«01_k».proof.Proof.Gen.GatedOutBwd
public import proofs.«01_k».proof.Proof.Gen.GatedOutBwd.Frame
public import proofs.«01_k».proof.Proof.Gen.GatedOutBwdIdeal
public import proofs.«01_k».proof.Proof.Gen.GatedOutBwdIdeal.Frame
public import proofs.«01_k».proof.Proof.Gen.GatedOutBwdRefIdeal
public import proofs.«01_k».proof.Proof.Gen.LossHead
public import proofs.«01_k».proof.Proof.Gen.LossHead.Frame
public import proofs.«01_k».proof.Proof.Gen.LossHeadIdeal
public import proofs.«01_k».proof.Proof.Gen.LossHeadIdeal.Frame
public import proofs.«01_k».proof.Proof.Gen.LossHeadRefIdeal
public import proofs.«01_k».proof.Proof.Gen.OdInBwd
public import proofs.«01_k».proof.Proof.Gen.OdInBwd.Frame
public import proofs.«01_k».proof.Proof.Gen.OdInBwdIdeal
public import proofs.«01_k».proof.Proof.Gen.OdInBwdIdeal.Frame
public import proofs.«01_k».proof.Proof.Gen.OdInBwdRefIdeal
public import proofs.«01_k».proof.Proof.Gen.EvInBwd
public import proofs.«01_k».proof.Proof.Gen.EvInBwd.Frame
public import proofs.«01_k».proof.Proof.Gen.EvInBwdIdeal
public import proofs.«01_k».proof.Proof.Gen.EvInBwdIdeal.Frame
public import proofs.«01_k».proof.Proof.Gen.EvInBwdRefIdeal
public import proofs.«01_k».proof.Proof.Gen.KvBwd
public import proofs.«01_k».proof.Proof.Gen.KvBwd.Frame
public import proofs.«01_k».proof.Proof.Gen.KvBwdIdeal
public import proofs.«01_k».proof.Proof.Gen.KvBwdIdeal.Frame
public import proofs.«01_k».proof.Proof.Gen.KvBwdRefIdeal
public import proofs.«01_k».proof.Proof.Gen.ConvBwd
public import proofs.«01_k».proof.Proof.Gen.ConvBwd.Frame
public import proofs.«01_k».proof.Proof.Gen.ConvBwdIdeal
public import proofs.«01_k».proof.Proof.Gen.ConvBwdIdeal.Frame
public import proofs.«01_k».proof.Proof.Gen.ConvBwdRefIdeal
public import proofs.«01_k».proof.Proof.Gen.S5DiscBwd
public import proofs.«01_k».proof.Proof.Gen.S5DiscBwd.Frame
public import proofs.«01_k».proof.Proof.Gen.S5DiscBwdIdeal
public import proofs.«01_k».proof.Proof.Gen.S5DiscBwdIdeal.Frame
public import proofs.«01_k».proof.Proof.Gen.S5DiscBwdRefIdeal
public import proofs.«01_k».proof.Proof.Gen.EvOutBwd
public import proofs.«01_k».proof.Proof.Gen.EvOutBwd.Frame
public import proofs.«01_k».proof.Proof.Gen.EvOutBwdIdeal
public import proofs.«01_k».proof.Proof.Gen.EvOutBwdIdeal.Frame
public import proofs.«01_k».proof.Proof.Gen.EvOutBwdRefIdeal
public import proofs.«01_k».proof.Proof.Gen.XaBwd
public import proofs.«01_k».proof.Proof.Gen.XaBwd.Frame
public import proofs.«01_k».proof.Proof.Gen.XaBwdIdeal
public import proofs.«01_k».proof.Proof.Gen.XaBwdIdeal.Frame
public import proofs.«01_k».proof.Proof.Gen.XaBwdRefIdeal
public import proofs.«01_k».proof.Proof.Gen.GatedOutFwd
public import proofs.«01_k».proof.Proof.Gen.GatedOutFwd.Frame
public import proofs.«01_k».proof.Proof.Gen.GatedOutFwdIdeal
public import proofs.«01_k».proof.Proof.Gen.GatedOutFwdIdeal.Frame
public import proofs.«01_k».proof.Proof.Gen.GatedOutFwdRefIdeal
public import proofs.«01_k».proof.Proof.Gen.OdInFwd
public import proofs.«01_k».proof.Proof.Gen.OdInFwd.Frame
public import proofs.«01_k».proof.Proof.Gen.OdInFwdIdeal
public import proofs.«01_k».proof.Proof.Gen.OdInFwdIdeal.Frame
public import proofs.«01_k».proof.Proof.Gen.OdInFwdRefIdeal
public import proofs.«01_k».proof.Proof.Gen.EvInFwd
public import proofs.«01_k».proof.Proof.Gen.EvInFwd.Frame
public import proofs.«01_k».proof.Proof.Gen.EvInFwdIdeal
public import proofs.«01_k».proof.Proof.Gen.EvInFwdIdeal.Frame
public import proofs.«01_k».proof.Proof.Gen.EvInFwdRefIdeal
public import proofs.«01_k».proof.Proof.Gen.XaFwd
public import proofs.«01_k».proof.Proof.Gen.XaFwd.Frame
public import proofs.«01_k».proof.Proof.Gen.XaFwdIdeal
public import proofs.«01_k».proof.Proof.Gen.XaFwdIdeal.Frame
public import proofs.«01_k».proof.Proof.Gen.XaFwdRefIdeal
public import proofs.«01_k».proof.Proof.Gen.EvOutFwd
public import proofs.«01_k».proof.Proof.Gen.EvOutFwd.Frame
public import proofs.«01_k».proof.Proof.Gen.EvOutFwdIdeal
public import proofs.«01_k».proof.Proof.Gen.EvOutFwdIdeal.Frame
public import proofs.«01_k».proof.Proof.Gen.EvOutFwdRefIdeal
public import proofs.«01_k».proof.Proof.Gen.S5DiscFwd
public import proofs.«01_k».proof.Proof.Gen.S5DiscFwd.Frame
public import proofs.«01_k».proof.Proof.Gen.S5DiscFwdIdeal
public import proofs.«01_k».proof.Proof.Gen.S5DiscFwdIdeal.Frame
public import proofs.«01_k».proof.Proof.Gen.S5DiscFwdRefIdeal
public import proofs.«01_k».proof.Proof.Gen.AttnFwd
public import proofs.«01_k».proof.Proof.Gen.AttnFwd.Frame
public import proofs.«01_k».proof.Proof.Gen.AttnFwdIdeal
public import proofs.«01_k».proof.Proof.Gen.AttnFwdIdeal.Frame
public import proofs.«01_k».proof.Proof.Gen.AttnFwdRefIdeal
public import proofs.«01_k».proof.Proof.Gen.ConvFwd
public import proofs.«01_k».proof.Proof.Gen.ConvFwd.Frame
public import proofs.«01_k».proof.Proof.Gen.ConvFwdIdeal
public import proofs.«01_k».proof.Proof.Gen.ConvFwdIdeal.Frame
public import proofs.«01_k».proof.Proof.Gen.ConvFwdRefIdeal
public import Idealize.ShloMosaic.Adequacy
public import Idealize.ShloMosaic.Init

@[expose] public section

noncomputable section

namespace Cert.Proof

open Idealize.ShloMosaic Idealize.SL.Sem Cert.AttnBwd

/-- The reference's frame: its run read at the arguments; it declares no semaphore. -/
theorem frame_attn_ref : Cert.quiescent_AttnBwdRefIdeal := fun m ρ _ =>
  (θ_run _ _ _).mono (fun r h => ⟨fun c => (h c).2.2.2.2, sem_eq_zero_of_no_sems rfl _⟩)
    (Cert.AttnBwdRefIdeal.Value.run m ρ)

theorem frame_bias_ref : Cert.quiescent_BiasGradRefIdeal := fun m ρ _ =>
  (θ_run _ _ _).mono (fun r h => ⟨fun c => (h c).2, sem_eq_zero_of_no_sems rfl _⟩)
    (Cert.BiasGradRefIdeal.Value.run m ρ)

theorem frame_gated_ref : Cert.quiescent_GatedOutBwdRefIdeal := fun m ρ _ =>
  (θ_run _ _ _).mono (fun _ h => ⟨fun c => (h c).2.2.2, sem_eq_zero_of_no_sems rfl _⟩) (Cert.GatedOutBwdRefIdeal.Value.run m ρ)

theorem frame_loss_ref : Cert.quiescent_LossHeadRefIdeal := fun m ρ _ =>
  (θ_run _ _ _).mono (fun _ h => ⟨fun c => (h c).2.2.2, sem_eq_zero_of_no_sems rfl _⟩) (Cert.LossHeadRefIdeal.Value.run m ρ)

theorem frame_odin_ref : Cert.quiescent_OdInBwdRefIdeal := fun m ρ _ =>
  (θ_run _ _ _).mono (fun _ h => ⟨fun c => (h c).2.2.2, sem_eq_zero_of_no_sems rfl _⟩) (Cert.OdInBwdRefIdeal.Value.run m ρ)

theorem frame_evin_ref : Cert.quiescent_EvInBwdRefIdeal := fun m ρ _ =>
  (θ_run _ _ _).mono (fun _ h => ⟨fun c => (h c).2.2.2, sem_eq_zero_of_no_sems rfl _⟩) (Cert.EvInBwdRefIdeal.Value.run m ρ)

theorem frame_kv_ref : Cert.quiescent_KvBwdRefIdeal := fun m ρ _ =>
  (θ_run _ _ _).mono (fun _ h => ⟨fun c => (h c).2.2.2, sem_eq_zero_of_no_sems rfl _⟩) (Cert.KvBwdRefIdeal.Value.run m ρ)

theorem frame_conv_ref : Cert.quiescent_ConvBwdRefIdeal := fun m ρ _ =>
  (θ_run _ _ _).mono (fun _ h => ⟨fun c => (h c).2.2, sem_eq_zero_of_no_sems rfl _⟩) (Cert.ConvBwdRefIdeal.Value.run m ρ)

theorem frame_disc_ref : Cert.quiescent_S5DiscBwdRefIdeal := fun m ρ _ =>
  (θ_run _ _ _).mono (fun _ h => ⟨fun c => (h c).2.2.2.2.2, sem_eq_zero_of_no_sems rfl _⟩) (Cert.S5DiscBwdRefIdeal.Value.run m ρ)

theorem frame_evout_ref : Cert.quiescent_EvOutBwdRefIdeal := fun m ρ _ =>
  (θ_run _ _ _).mono (fun _ h => ⟨fun c => (h c).2.2.2.2.2.2.2.2.2, sem_eq_zero_of_no_sems rfl _⟩) (Cert.EvOutBwdRefIdeal.Value.run m ρ)

theorem frame_xa_ref : Cert.quiescent_XaBwdRefIdeal := fun m ρ _ =>
  (θ_run _ _ _).mono (fun _ h => ⟨fun c => (h c).2.2.2.2.2, sem_eq_zero_of_no_sems rfl _⟩) (Cert.XaBwdRefIdeal.Value.run m ρ)

theorem frame_gof_ref : Cert.quiescent_GatedOutFwdRefIdeal := fun m ρ _ =>
  (θ_run _ _ _).mono (fun _ h => ⟨fun c => (h c).2, sem_eq_zero_of_no_sems rfl _⟩) (Cert.GatedOutFwdRefIdeal.Value.run m ρ)

theorem frame_odf_ref : Cert.quiescent_OdInFwdRefIdeal := fun m ρ _ =>
  (θ_run _ _ _).mono (fun _ h => ⟨fun c => (h c).2, sem_eq_zero_of_no_sems rfl _⟩) (Cert.OdInFwdRefIdeal.Value.run m ρ)

theorem frame_evf_ref : Cert.quiescent_EvInFwdRefIdeal := fun m ρ _ =>
  (θ_run _ _ _).mono (fun _ h => ⟨fun c => (h c).2, sem_eq_zero_of_no_sems rfl _⟩) (Cert.EvInFwdRefIdeal.Value.run m ρ)

theorem frame_xaf_ref : Cert.quiescent_XaFwdRefIdeal := fun m ρ _ =>
  (θ_run _ _ _).mono (fun _ h => ⟨fun c => (h c).2, sem_eq_zero_of_no_sems rfl _⟩) (Cert.XaFwdRefIdeal.Value.run m ρ)

theorem frame_eof_ref : Cert.quiescent_EvOutFwdRefIdeal := fun m ρ _ =>
  (θ_run _ _ _).mono (fun _ h => ⟨fun c => (h c).2, sem_eq_zero_of_no_sems rfl _⟩) (Cert.EvOutFwdRefIdeal.Value.run m ρ)

theorem frame_dif_ref : Cert.quiescent_S5DiscFwdRefIdeal := fun m ρ _ =>
  (θ_run _ _ _).mono (fun _ h => ⟨fun c => (h c).2.2.2.2, sem_eq_zero_of_no_sems rfl _⟩) (Cert.S5DiscFwdRefIdeal.Value.run m ρ)

theorem frame_atf_ref : Cert.quiescent_AttnFwdRefIdeal := fun m ρ _ =>
  (θ_run _ _ _).mono (fun _ h => ⟨fun c => (h c).2, sem_eq_zero_of_no_sems rfl _⟩) (Cert.AttnFwdRefIdeal.Value.run m ρ)

theorem frame_cof_ref : Cert.quiescent_ConvFwdRefIdeal := fun m ρ _ =>
  (θ_run _ _ _).mono (fun _ h => ⟨fun c => (h c).2, sem_eq_zero_of_no_sems rfl _⟩) (Cert.ConvFwdRefIdeal.Value.run m ρ)

theorem claim : Cert.Claim := ⟨Cert.AttnBwd.Gen.facts, Cert.AttnBwdIdeal.Gen.facts, Cert.AttnBwdRefIdeal.Gen.facts,
  Cert.BiasGrad.Gen.facts, Cert.BiasGradIdeal.Gen.facts, Cert.BiasGradRefIdeal.Gen.facts,
  Cert.GatedOutBwd.Gen.facts, Cert.GatedOutBwdIdeal.Gen.facts, Cert.GatedOutBwdRefIdeal.Gen.facts,
  Cert.LossHead.Gen.facts, Cert.LossHeadIdeal.Gen.facts, Cert.LossHeadRefIdeal.Gen.facts,
  Cert.OdInBwd.Gen.facts, Cert.OdInBwdIdeal.Gen.facts, Cert.OdInBwdRefIdeal.Gen.facts,
  Cert.EvInBwd.Gen.facts, Cert.EvInBwdIdeal.Gen.facts, Cert.EvInBwdRefIdeal.Gen.facts,
  Cert.KvBwd.Gen.facts, Cert.KvBwdIdeal.Gen.facts, Cert.KvBwdRefIdeal.Gen.facts,
  Cert.ConvBwd.Gen.facts, Cert.ConvBwdIdeal.Gen.facts, Cert.ConvBwdRefIdeal.Gen.facts,
  Cert.S5DiscBwd.Gen.facts, Cert.S5DiscBwdIdeal.Gen.facts, Cert.S5DiscBwdRefIdeal.Gen.facts,
  Cert.EvOutBwd.Gen.facts, Cert.EvOutBwdIdeal.Gen.facts, Cert.EvOutBwdRefIdeal.Gen.facts,
  Cert.XaBwd.Gen.facts, Cert.XaBwdIdeal.Gen.facts, Cert.XaBwdRefIdeal.Gen.facts,
  Cert.GatedOutFwd.Gen.facts, Cert.GatedOutFwdIdeal.Gen.facts, Cert.GatedOutFwdRefIdeal.Gen.facts,
  Cert.OdInFwd.Gen.facts, Cert.OdInFwdIdeal.Gen.facts, Cert.OdInFwdRefIdeal.Gen.facts,
  Cert.EvInFwd.Gen.facts, Cert.EvInFwdIdeal.Gen.facts, Cert.EvInFwdRefIdeal.Gen.facts,
  Cert.XaFwd.Gen.facts, Cert.XaFwdIdeal.Gen.facts, Cert.XaFwdRefIdeal.Gen.facts,
  Cert.EvOutFwd.Gen.facts, Cert.EvOutFwdIdeal.Gen.facts, Cert.EvOutFwdRefIdeal.Gen.facts,
  Cert.S5DiscFwd.Gen.facts, Cert.S5DiscFwdIdeal.Gen.facts, Cert.S5DiscFwdRefIdeal.Gen.facts,
  Cert.AttnFwd.Gen.facts, Cert.AttnFwdIdeal.Gen.facts, Cert.AttnFwdRefIdeal.Gen.facts,
  Cert.ConvFwd.Gen.facts, Cert.ConvFwdIdeal.Gen.facts, Cert.ConvFwdRefIdeal.Gen.facts,
  AttnTie.pre_facts, AttnFwdTie.pre_facts,
  fun m ρ _ => Cert.AttnBwd.Gen.frame m ρ, fun m ρ _ => Cert.AttnBwdIdeal.Gen.frame m ρ, fun m ρ _ => Cert.AttnBwdIdeal.Gen.frame m ρ,
  frame_attn_ref, fun m ρ _ => frame_attn_ref m ρ trivial,
  fun m ρ _ => Cert.BiasGrad.Gen.frame m ρ, fun m ρ _ => Cert.BiasGradIdeal.Gen.frame m ρ, frame_bias_ref,
  fun m ρ _ => Cert.GatedOutBwd.Gen.frame m ρ, fun m ρ _ => Cert.GatedOutBwdIdeal.Gen.frame m ρ, frame_gated_ref,
  fun m ρ _ => Cert.LossHead.Gen.frame m ρ, fun m ρ _ => Cert.LossHeadIdeal.Gen.frame m ρ, frame_loss_ref,
  fun m ρ _ => Cert.OdInBwd.Gen.frame m ρ, fun m ρ _ => Cert.OdInBwdIdeal.Gen.frame m ρ, frame_odin_ref,
  fun m ρ _ => Cert.EvInBwd.Gen.frame m ρ, fun m ρ _ => Cert.EvInBwdIdeal.Gen.frame m ρ, frame_evin_ref,
  fun m ρ _ => Cert.KvBwd.Gen.frame m ρ, fun m ρ _ => Cert.KvBwdIdeal.Gen.frame m ρ, frame_kv_ref,
  fun m ρ _ => Cert.ConvBwd.Gen.frame m ρ, fun m ρ _ => Cert.ConvBwdIdeal.Gen.frame m ρ, frame_conv_ref,
  fun m ρ _ => Cert.S5DiscBwd.Gen.frame m ρ, fun m ρ _ => Cert.S5DiscBwdIdeal.Gen.frame m ρ, frame_disc_ref,
  fun m ρ _ => Cert.EvOutBwd.Gen.frame m ρ, fun m ρ _ => Cert.EvOutBwdIdeal.Gen.frame m ρ, frame_evout_ref,
  fun m ρ _ => Cert.XaBwd.Gen.frame m ρ, fun m ρ _ => Cert.XaBwdIdeal.Gen.frame m ρ, frame_xa_ref,
  fun m ρ _ => Cert.GatedOutFwd.Gen.frame m ρ, fun m ρ _ => Cert.GatedOutFwdIdeal.Gen.frame m ρ, frame_gof_ref,
  fun m ρ _ => Cert.OdInFwd.Gen.frame m ρ, fun m ρ _ => Cert.OdInFwdIdeal.Gen.frame m ρ, frame_odf_ref,
  fun m ρ _ => Cert.EvInFwd.Gen.frame m ρ, fun m ρ _ => Cert.EvInFwdIdeal.Gen.frame m ρ, frame_evf_ref,
  fun m ρ _ => Cert.XaFwd.Gen.frame m ρ, fun m ρ _ => Cert.XaFwdIdeal.Gen.frame m ρ, frame_xaf_ref,
  fun m ρ _ => Cert.EvOutFwd.Gen.frame m ρ, fun m ρ _ => Cert.EvOutFwdIdeal.Gen.frame m ρ, frame_eof_ref,
  fun m ρ _ => Cert.S5DiscFwd.Gen.frame m ρ, fun m ρ _ => Cert.S5DiscFwdIdeal.Gen.frame m ρ, frame_dif_ref,
  fun m ρ _ => Cert.AttnFwd.Gen.frame m ρ, fun m ρ _ => Cert.AttnFwdIdeal.Gen.frame m ρ, fun m ρ _ => Cert.AttnFwdIdeal.Gen.frame m ρ, frame_atf_ref, fun m ρ _ => frame_atf_ref m ρ trivial,
  fun m ρ _ => Cert.ConvFwd.Gen.frame m ρ, fun m ρ _ => Cert.ConvFwdIdeal.Gen.frame m ρ, frame_cof_ref,
  IdealRules.named_const.statement Cert.AttnBwdIdeal.κ "mask" _ _ _ rfl, AttnTie.value,
  trivial, BiasGradTie.value,
  trivial, GatedOutBwdTie.value,
  trivial, LossHeadTie.value,
  trivial, OdInBwdTie.value,
  trivial, EvInBwdTie.value,
  trivial, KvBwdTie.value,
  trivial, ConvBwdTie.value,
  trivial, S5DiscBwdTie.value,
  trivial, EvOutBwdTie.value,
  trivial, XaBwdTie.value,
  trivial, GatedOutFwdTie.value,
  trivial, OdInFwdTie.value,
  trivial, EvInFwdTie.value,
  trivial, XaFwdTie.value,
  trivial, EvOutFwdTie.value,
  trivial, S5DiscFwdTie.value,
  IdealRules.named_const.statement Cert.AttnFwdIdeal.κ "mask" _ _ _ rfl, AttnFwdTie.value,
  trivial, ConvFwdTie.value⟩

end Cert.Proof

end
